-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000 : Shape := ⟨1, ![100000]⟩
abbrev S85x32 : Shape := ⟨2, ![85, 32]⟩
abbrev S3x32 : Shape := ⟨2, ![3, 32]⟩
abbrev S8x32 : Shape := ⟨2, ![8, 32]⟩
abbrev S20x32 : Shape := ⟨2, ![20, 32]⟩
abbrev S86x14 : Shape := ⟨2, ![86, 14]⟩
abbrev S86 : Shape := ⟨1, ![86]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S86 : S_.BroadcastsInDim S86 (![] : Fin 0 → Fin S86.rank)
  reducesTo_S86_S_d0 : S86.ReducesTo [0] S_

variable [Facts]

def fn_part1 {F : FTy → Type} [FloatOps F] (main_arg7 : IVec S86 32) (main_arg8 : IVec S86 32) (main_v12 : IVec S_ 1) (main_v14 : IVec S86 1) (main_v15 : IVec S86 32) : IVec S_ 1 :=
  let main_v16 : IVec S86 1 := cmpi .slt main_arg7 main_v15
  let main_v17 : IVec S86 1 := andi main_v14 main_v16
  let main_c_7 : IVec S_ 1 := constantI S_ 1 1#1
  let main_v18 : IVec S_ 1 := (fun x v => Host.reduce IntOp.andi x v reducesTo_S86_S_d0 h_S_) main_v17 main_c_7
  let main_v19 : IVec S_ 1 := andi main_v12 main_v18
  let main_c_8 : IVec S_ 32 := constantI S_ 32 1#32
  let main_v20 : IVec S86 32 := broadcastInDim S86 ![] bcast_S_S86 main_c_8
  let main_v21 : IVec S86 1 := cmpi .sge main_arg8 main_v20
  let main_c_9 : IVec S_ 32 := constantI S_ 32 20#32
  let main_v22 : IVec S86 32 := broadcastInDim S86 ![] bcast_S_S86 main_c_9
  let main_v23 : IVec S86 1 := cmpi .slt main_arg8 main_v22
  let main_v24 : IVec S86 1 := andi main_v21 main_v23
  let main_c_10 : IVec S_ 1 := constantI S_ 1 1#1
  let main_v25 : IVec S_ 1 := (fun x v => Host.reduce IntOp.andi x v reducesTo_S86_S_d0 h_S_) main_v24 main_c_10
  let main_v26 : IVec S_ 1 := andi main_v19 main_v25
  main_v26

def fn {F : FTy → Type} [FloatOps F] (main_arg0 : IVec S100000 32) (main_arg1 : IVec S100000 32) (main_arg2 : FVec F S85x32 .f32) (main_arg3 : FVec F S3x32 .f32) (main_arg4 : FVec F S8x32 .f32) (main_arg5 : FVec F S20x32 .f32) (main_arg6 : FVec F S86x14 .f32) (main_arg7 : IVec S86 32) (main_arg8 : IVec S86 32) : IVec S_ 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 85#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_c_2 : IVec S_ 32 := constantI S_ 32 0#32
  let main_v6 : IVec S100000 32 := broadcastInDim S100000 ![] bcast_S_S100000 main_c_2
  let main_v7 : IVec S100000 1 := cmpi .sge main_arg1 main_v6
  let main_c_3 : IVec S_ 32 := constantI S_ 32 3#32
  let main_v8 : IVec S100000 32 := broadcastInDim S100000 ![] bcast_S_S100000 main_c_3
  let main_v9 : IVec S100000 1 := cmpi .slt main_arg1 main_v8
  let main_v10 : IVec S100000 1 := andi main_v7 main_v9
  let main_c_4 : IVec S_ 1 := constantI S_ 1 1#1
  let main_v11 : IVec S_ 1 := (fun x v => Host.reduce IntOp.andi x v reducesTo_S100000_S_d0 h_S_) main_v10 main_c_4
  let main_v12 : IVec S_ 1 := andi main_v5 main_v11
  let main_c_5 : IVec S_ 32 := constantI S_ 32 1#32
  let main_v13 : IVec S86 32 := broadcastInDim S86 ![] bcast_S_S86 main_c_5
  let main_v14 : IVec S86 1 := cmpi .sge main_arg7 main_v13
  let main_c_6 : IVec S_ 32 := constantI S_ 32 8#32
  let main_v15 : IVec S86 32 := broadcastInDim S86 ![] bcast_S_S86 main_c_6
  fn_part1 (F := F) main_arg7 main_arg8 main_v12 main_v14 main_v15
-- ==== Kernel.lean ====
abbrev S100000 : Shape := ⟨1, ![100000]⟩
abbrev S85x32 : Shape := ⟨2, ![85, 32]⟩
abbrev S3x32 : Shape := ⟨2, ![3, 32]⟩
abbrev S8x32 : Shape := ⟨2, ![8, 32]⟩
abbrev S20x32 : Shape := ⟨2, ![20, 32]⟩
abbrev S86x14 : Shape := ⟨2, ![86, 14]⟩
abbrev S86 : Shape := ⟨1, ![86]⟩
abbrev S100000x142 : Shape := ⟨2, ![100000, 142]⟩
abbrev S256x142 : Shape := ⟨2, ![256, 142]⟩
abbrev S160 : Shape := ⟨1, ![160]⟩
abbrev S160x142 : Shape := ⟨2, ![160, 142]⟩
abbrev S_ : Shape := ⟨0, ![]⟩
abbrev S16 : Shape := ⟨1, ![16]⟩

abbrev nBuf : Table → Nat
  | .hbm => 10
  | .local .scVector .vmem => 11
  | _ => 0

abbrev bufTy : (tb : Table) → Fin (nBuf tb) → BufTy
  | .hbm, ⟨0, _⟩ => ⟨S100000, .i32⟩
  | .hbm, ⟨1, _⟩ => ⟨S100000, .i32⟩
  | .hbm, ⟨2, _⟩ => ⟨S85x32, .f32⟩
  | .hbm, ⟨3, _⟩ => ⟨S3x32, .f32⟩
  | .hbm, ⟨4, _⟩ => ⟨S8x32, .f32⟩
  | .hbm, ⟨5, _⟩ => ⟨S20x32, .f32⟩
  | .hbm, ⟨6, _⟩ => ⟨S86x14, .f32⟩
  | .hbm, ⟨7, _⟩ => ⟨S86, .i32⟩
  | .hbm, ⟨8, _⟩ => ⟨S86, .i32⟩
  | .hbm, ⟨9, _⟩ => ⟨S100000x142, .f32⟩
  | .local .scVector .vmem, ⟨0, _⟩ => ⟨S85x32, .f32⟩
  | .local .scVector .vmem, ⟨1, _⟩ => ⟨S3x32, .f32⟩
  | .local .scVector .vmem, ⟨2, _⟩ => ⟨S8x32, .f32⟩
  | .local .scVector .vmem, ⟨3, _⟩ => ⟨S20x32, .f32⟩
  | .local .scVector .vmem, ⟨4, _⟩ => ⟨S86x14, .f32⟩
  | .local .scVector .vmem, ⟨5, _⟩ => ⟨S86, .i32⟩
  | .local .scVector .vmem, ⟨6, _⟩ => ⟨S86, .i32⟩
  | .local .scVector .vmem, ⟨7, _⟩ => ⟨S256x142, .f32⟩
  | .local .scVector .vmem, ⟨8, _⟩ => ⟨S160, .i32⟩
  | .local .scVector .vmem, ⟨9, _⟩ => ⟨S160, .i32⟩
  | .local .scVector .vmem, ⟨10, _⟩ => ⟨S160x142, .f32⟩
  | _, _ => ⟨S100000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_v0_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩

def k0_chk1 (v33 : IVec S16 32) : Prop :=
  (∀ a x, ((![v33] : Fin 1 → IVec S16 32) a x).toNat < S86.size a) ∧
  (∀ a x, ((![v33] : Fin 1 → IVec S16 32) a x).toNat < S86.size a)
theorem k0_idx1_inb : ∀ (v33 : IVec S16 32) (k0_hw1 : k0_chk1 v33), ∀ a x, ((![v33] : Fin 1 → IVec S16 32) a x).toNat < S86.size a := fun v33 k0_hw1 => k0_hw1.1
theorem k0_idx2_inb : ∀ (v33 : IVec S16 32) (k0_hw1 : k0_chk1 v33), ∀ a x, ((![v33] : Fin 1 → IVec S16 32) a x).toNat < S86.size a := fun v33 k0_hw1 => k0_hw1.2

def k0_chk2 (v7 : IVec S16 32) (v33 : IVec S16 32) (v63 : IVec S16 32) : Prop :=
  (∀ a x, ((![v33, v63] : Fin 2 → IVec S16 32) a x).toNat < S85x32.size a) ∧
  (∀ a x, ((![v7, v63] : Fin 2 → IVec S16 32) a x).toNat < S256x142.size a)
theorem k0_idx3_inb : ∀ (v7 : IVec S16 32) (v33 : IVec S16 32) (v63 : IVec S16 32) (k0_hw2 : k0_chk2 v7 v33 v63), ∀ a x, ((![v33, v63] : Fin 2 → IVec S16 32) a x).toNat < S85x32.size a := fun v7 v33 v63 k0_hw2 => k0_hw2.1
theorem k0_idx4_inb : ∀ (v7 : IVec S16 32) (v33 : IVec S16 32) (v63 : IVec S16 32) (k0_hw2 : k0_chk2 v7 v33 v63), ∀ a x, ((![v7, v63] : Fin 2 → IVec S16 32) a x).toNat < S256x142.size a := fun v7 v33 v63 k0_hw2 => k0_hw2.2

def k0_chk3 (v7 : IVec S16 32) (v33 : IVec S16 32) (v65 : IVec S16 32) : Prop :=
  (∀ a x, ((![v33, v65] : Fin 2 → IVec S16 32) a x).toNat < S85x32.size a) ∧
  (∀ a x, ((![v7, v65] : Fin 2 → IVec S16 32) a x).toNat < S256x142.size a)
theorem k0_idx5_inb : ∀ (v7 : IVec S16 32) (v33 : IVec S16 32) (v65 : IVec S16 32) (k0_hw3 : k0_chk3 v7 v33 v65), ∀ a x, ((![v33, v65] : Fin 2 → IVec S16 32) a x).toNat < S85x32.size a := fun v7 v33 v65 k0_hw3 => k0_hw3.1
theorem k0_idx6_inb : ∀ (v7 : IVec S16 32) (v33 : IVec S16 32) (v65 : IVec S16 32) (k0_hw3 : k0_chk3 v7 v33 v65), ∀ a x, ((![v7, v65] : Fin 2 → IVec S16 32) a x).toNat < S256x142.size a := fun v7 v33 v65 k0_hw3 => k0_hw3.2

def k0_chk4 (v7 : IVec S16 32) (v33 : IVec S16 32) (v67 : IVec S16 32) : Prop :=
  (∀ a x, ((![v33, v67] : Fin 2 → IVec S16 32) a x).toNat < S85x32.size a) ∧
  (∀ a x, ((![v7, v67] : Fin 2 → IVec S16 32) a x).toNat < S256x142.size a)
theorem k0_idx7_inb : ∀ (v7 : IVec S16 32) (v33 : IVec S16 32) (v67 : IVec S16 32) (k0_hw4 : k0_chk4 v7 v33 v67), ∀ a x, ((![v33, v67] : Fin 2 → IVec S16 32) a x).toNat < S85x32.size a := fun v7 v33 v67 k0_hw4 => k0_hw4.1
theorem k0_idx8_inb : ∀ (v7 : IVec S16 32) (v33 : IVec S16 32) (v67 : IVec S16 32) (k0_hw4 : k0_chk4 v7 v33 v67), ∀ a x, ((![v7, v67] : Fin 2 → IVec S16 32) a x).toNat < S256x142.size a := fun v7 v33 v67 k0_hw4 => k0_hw4.2

def k0_chk5 (v7 : IVec S16 32) (v33 : IVec S16 32) (v69 : IVec S16 32) : Prop :=
  (∀ a x, ((![v33, v69] : Fin 2 → IVec S16 32) a x).toNat < S85x32.size a) ∧
  (∀ a x, ((![v7, v69] : Fin 2 → IVec S16 32) a x).toNat < S256x142.size a)
theorem k0_idx9_inb : ∀ (v7 : IVec S16 32) (v33 : IVec S16 32) (v69 : IVec S16 32) (k0_hw5 : k0_chk5 v7 v33 v69), ∀ a x, ((![v33, v69] : Fin 2 → IVec S16 32) a x).toNat < S85x32.size a := fun v7 v33 v69 k0_hw5 => k0_hw5.1
theorem k0_idx10_inb : ∀ (v7 : IVec S16 32) (v33 : IVec S16 32) (v69 : IVec S16 32) (k0_hw5 : k0_chk5 v7 v33 v69), ∀ a x, ((![v7, v69] : Fin 2 → IVec S16 32) a x).toNat < S256x142.size a := fun v7 v33 v69 k0_hw5 => k0_hw5.2

def k0_chk6 (v7 : IVec S16 32) (v33 : IVec S16 32) (v71 : IVec S16 32) : Prop :=
  (∀ a x, ((![v33, v71] : Fin 2 → IVec S16 32) a x).toNat < S85x32.size a) ∧
  (∀ a x, ((![v7, v71] : Fin 2 → IVec S16 32) a x).toNat < S256x142.size a)
theorem k0_idx11_inb : ∀ (v7 : IVec S16 32) (v33 : IVec S16 32) (v71 : IVec S16 32) (k0_hw6 : k0_chk6 v7 v33 v71), ∀ a x, ((![v33, v71] : Fin 2 → IVec S16 32) a x).toNat < S85x32.size a := fun v7 v33 v71 k0_hw6 => k0_hw6.1
theorem k0_idx12_inb : ∀ (v7 : IVec S16 32) (v33 : IVec S16 32) (v71 : IVec S16 32) (k0_hw6 : k0_chk6 v7 v33 v71), ∀ a x, ((![v7, v71] : Fin 2 → IVec S16 32) a x).toNat < S256x142.size a := fun v7 v33 v71 k0_hw6 => k0_hw6.2

def k0_chk7 (v7 : IVec S16 32) (v33 : IVec S16 32) (v73 : IVec S16 32) : Prop :=
  (∀ a x, ((![v33, v73] : Fin 2 → IVec S16 32) a x).toNat < S85x32.size a) ∧
  (∀ a x, ((![v7, v73] : Fin 2 → IVec S16 32) a x).toNat < S256x142.size a)
theorem k0_idx13_inb : ∀ (v7 : IVec S16 32) (v33 : IVec S16 32) (v73 : IVec S16 32) (k0_hw7 : k0_chk7 v7 v33 v73), ∀ a x, ((![v33, v73] : Fin 2 → IVec S16 32) a x).toNat < S85x32.size a := fun v7 v33 v73 k0_hw7 => k0_hw7.1
theorem k0_idx14_inb : ∀ (v7 : IVec S16 32) (v33 : IVec S16 32) (v73 : IVec S16 32) (k0_hw7 : k0_chk7 v7 v33 v73), ∀ a x, ((![v7, v73] : Fin 2 → IVec S16 32) a x).toNat < S256x142.size a := fun v7 v33 v73 k0_hw7 => k0_hw7.2

def k0_chk8 (v7 : IVec S16 32) (v33 : IVec S16 32) (v75 : IVec S16 32) : Prop :=
  (∀ a x, ((![v33, v75] : Fin 2 → IVec S16 32) a x).toNat < S85x32.size a) ∧
  (∀ a x, ((![v7, v75] : Fin 2 → IVec S16 32) a x).toNat < S256x142.size a)
theorem k0_idx15_inb : ∀ (v7 : IVec S16 32) (v33 : IVec S16 32) (v75 : IVec S16 32) (k0_hw8 : k0_chk8 v7 v33 v75), ∀ a x, ((![v33, v75] : Fin 2 → IVec S16 32) a x).toNat < S85x32.size a := fun v7 v33 v75 k0_hw8 => k0_hw8.1
theorem k0_idx16_inb : ∀ (v7 : IVec S16 32) (v33 : IVec S16 32) (v75 : IVec S16 32) (k0_hw8 : k0_chk8 v7 v33 v75), ∀ a x, ((![v7, v75] : Fin 2 → IVec S16 32) a x).toNat < S256x142.size a := fun v7 v33 v75 k0_hw8 => k0_hw8.2

def k0_chk9 (v7 : IVec S16 32) (v33 : IVec S16 32) (v77 : IVec S16 32) : Prop :=
  (∀ a x, ((![v33, v77] : Fin 2 → IVec S16 32) a x).toNat < S85x32.size a) ∧
  (∀ a x, ((![v7, v77] : Fin 2 → IVec S16 32) a x).toNat < S256x142.size a)
theorem k0_idx17_inb : ∀ (v7 : IVec S16 32) (v33 : IVec S16 32) (v77 : IVec S16 32) (k0_hw9 : k0_chk9 v7 v33 v77), ∀ a x, ((![v33, v77] : Fin 2 → IVec S16 32) a x).toNat < S85x32.size a := fun v7 v33 v77 k0_hw9 => k0_hw9.1
theorem k0_idx18_inb : ∀ (v7 : IVec S16 32) (v33 : IVec S16 32) (v77 : IVec S16 32) (k0_hw9 : k0_chk9 v7 v33 v77), ∀ a x, ((![v7, v77] : Fin 2 → IVec S16 32) a x).toNat < S256x142.size a := fun v7 v33 v77 k0_hw9 => k0_hw9.2

def k0_chk10 (v7 : IVec S16 32) (v33 : IVec S16 32) (v79 : IVec S16 32) : Prop :=
  (∀ a x, ((![v33, v79] : Fin 2 → IVec S16 32) a x).toNat < S85x32.size a) ∧
  (∀ a x, ((![v7, v79] : Fin 2 → IVec S16 32) a x).toNat < S256x142.size a)
theorem k0_idx19_inb : ∀ (v7 : IVec S16 32) (v33 : IVec S16 32) (v79 : IVec S16 32) (k0_hw10 : k0_chk10 v7 v33 v79), ∀ a x, ((![v33, v79] : Fin 2 → IVec S16 32) a x).toNat < S85x32.size a := fun v7 v33 v79 k0_hw10 => k0_hw10.1
theorem k0_idx20_inb : ∀ (v7 : IVec S16 32) (v33 : IVec S16 32) (v79 : IVec S16 32) (k0_hw10 : k0_chk10 v7 v33 v79), ∀ a x, ((![v7, v79] : Fin 2 → IVec S16 32) a x).toNat < S256x142.size a := fun v7 v33 v79 k0_hw10 => k0_hw10.2

def k0_chk11 (v7 : IVec S16 32) (v33 : IVec S16 32) (v81 : IVec S16 32) : Prop :=
  (∀ a x, ((![v33, v81] : Fin 2 → IVec S16 32) a x).toNat < S85x32.size a) ∧
  (∀ a x, ((![v7, v81] : Fin 2 → IVec S16 32) a x).toNat < S256x142.size a)
theorem k0_idx21_inb : ∀ (v7 : IVec S16 32) (v33 : IVec S16 32) (v81 : IVec S16 32) (k0_hw11 : k0_chk11 v7 v33 v81), ∀ a x, ((![v33, v81] : Fin 2 → IVec S16 32) a x).toNat < S85x32.size a := fun v7 v33 v81 k0_hw11 => k0_hw11.1
theorem k0_idx22_inb : ∀ (v7 : IVec S16 32) (v33 : IVec S16 32) (v81 : IVec S16 32) (k0_hw11 : k0_chk11 v7 v33 v81), ∀ a x, ((![v7, v81] : Fin 2 → IVec S16 32) a x).toNat < S256x142.size a := fun v7 v33 v81 k0_hw11 => k0_hw11.2

def k0_chk12 (v7 : IVec S16 32) (v33 : IVec S16 32) (v83 : IVec S16 32) : Prop :=
  (∀ a x, ((![v33, v83] : Fin 2 → IVec S16 32) a x).toNat < S85x32.size a) ∧
  (∀ a x, ((![v7, v83] : Fin 2 → IVec S16 32) a x).toNat < S256x142.size a)
theorem k0_idx23_inb : ∀ (v7 : IVec S16 32) (v33 : IVec S16 32) (v83 : IVec S16 32) (k0_hw12 : k0_chk12 v7 v33 v83), ∀ a x, ((![v33, v83] : Fin 2 → IVec S16 32) a x).toNat < S85x32.size a := fun v7 v33 v83 k0_hw12 => k0_hw12.1
theorem k0_idx24_inb : ∀ (v7 : IVec S16 32) (v33 : IVec S16 32) (v83 : IVec S16 32) (k0_hw12 : k0_chk12 v7 v33 v83), ∀ a x, ((![v7, v83] : Fin 2 → IVec S16 32) a x).toNat < S256x142.size a := fun v7 v33 v83 k0_hw12 => k0_hw12.2

def k0_chk13 (v7 : IVec S16 32) (v33 : IVec S16 32) (v85 : IVec S16 32) : Prop :=
  (∀ a x, ((![v33, v85] : Fin 2 → IVec S16 32) a x).toNat < S85x32.size a) ∧
  (∀ a x, ((![v7, v85] : Fin 2 → IVec S16 32) a x).toNat < S256x142.size a)
theorem k0_idx25_inb : ∀ (v7 : IVec S16 32) (v33 : IVec S16 32) (v85 : IVec S16 32) (k0_hw13 : k0_chk13 v7 v33 v85), ∀ a x, ((![v33, v85] : Fin 2 → IVec S16 32) a x).toNat < S85x32.size a := fun v7 v33 v85 k0_hw13 => k0_hw13.1
theorem k0_idx26_inb : ∀ (v7 : IVec S16 32) (v33 : IVec S16 32) (v85 : IVec S16 32) (k0_hw13 : k0_chk13 v7 v33 v85), ∀ a x, ((![v7, v85] : Fin 2 → IVec S16 32) a x).toNat < S256x142.size a := fun v7 v33 v85 k0_hw13 => k0_hw13.2

def k0_chk14 (v7 : IVec S16 32) (v33 : IVec S16 32) (v87 : IVec S16 32) : Prop :=
  (∀ a x, ((![v33, v87] : Fin 2 → IVec S16 32) a x).toNat < S85x32.size a) ∧
  (∀ a x, ((![v7, v87] : Fin 2 → IVec S16 32) a x).toNat < S256x142.size a)
theorem k0_idx27_inb : ∀ (v7 : IVec S16 32) (v33 : IVec S16 32) (v87 : IVec S16 32) (k0_hw14 : k0_chk14 v7 v33 v87), ∀ a x, ((![v33, v87] : Fin 2 → IVec S16 32) a x).toNat < S85x32.size a := fun v7 v33 v87 k0_hw14 => k0_hw14.1
theorem k0_idx28_inb : ∀ (v7 : IVec S16 32) (v33 : IVec S16 32) (v87 : IVec S16 32) (k0_hw14 : k0_chk14 v7 v33 v87), ∀ a x, ((![v7, v87] : Fin 2 → IVec S16 32) a x).toNat < S256x142.size a := fun v7 v33 v87 k0_hw14 => k0_hw14.2

def k0_chk15 (v7 : IVec S16 32) (v33 : IVec S16 32) (v89 : IVec S16 32) : Prop :=
  (∀ a x, ((![v33, v89] : Fin 2 → IVec S16 32) a x).toNat < S85x32.size a) ∧
  (∀ a x, ((![v7, v89] : Fin 2 → IVec S16 32) a x).toNat < S256x142.size a)
theorem k0_idx29_inb : ∀ (v7 : IVec S16 32) (v33 : IVec S16 32) (v89 : IVec S16 32) (k0_hw15 : k0_chk15 v7 v33 v89), ∀ a x, ((![v33, v89] : Fin 2 → IVec S16 32) a x).toNat < S85x32.size a := fun v7 v33 v89 k0_hw15 => k0_hw15.1
theorem k0_idx30_inb : ∀ (v7 : IVec S16 32) (v33 : IVec S16 32) (v89 : IVec S16 32) (k0_hw15 : k0_chk15 v7 v33 v89), ∀ a x, ((![v7, v89] : Fin 2 → IVec S16 32) a x).toNat < S256x142.size a := fun v7 v33 v89 k0_hw15 => k0_hw15.2

def k0_chk16 (v7 : IVec S16 32) (v33 : IVec S16 32) (v91 : IVec S16 32) : Prop :=
  (∀ a x, ((![v33, v91] : Fin 2 → IVec S16 32) a x).toNat < S85x32.size a) ∧
  (∀ a x, ((![v7, v91] : Fin 2 → IVec S16 32) a x).toNat < S256x142.size a)
theorem k0_idx31_inb : ∀ (v7 : IVec S16 32) (v33 : IVec S16 32) (v91 : IVec S16 32) (k0_hw16 : k0_chk16 v7 v33 v91), ∀ a x, ((![v33, v91] : Fin 2 → IVec S16 32) a x).toNat < S85x32.size a := fun v7 v33 v91 k0_hw16 => k0_hw16.1
theorem k0_idx32_inb : ∀ (v7 : IVec S16 32) (v33 : IVec S16 32) (v91 : IVec S16 32) (k0_hw16 : k0_chk16 v7 v33 v91), ∀ a x, ((![v7, v91] : Fin 2 → IVec S16 32) a x).toNat < S256x142.size a := fun v7 v33 v91 k0_hw16 => k0_hw16.2

def k0_chk17 (v7 : IVec S16 32) (v33 : IVec S16 32) (v93 : IVec S16 32) : Prop :=
  (∀ a x, ((![v33, v93] : Fin 2 → IVec S16 32) a x).toNat < S85x32.size a) ∧
  (∀ a x, ((![v7, v93] : Fin 2 → IVec S16 32) a x).toNat < S256x142.size a)
theorem k0_idx33_inb : ∀ (v7 : IVec S16 32) (v33 : IVec S16 32) (v93 : IVec S16 32) (k0_hw17 : k0_chk17 v7 v33 v93), ∀ a x, ((![v33, v93] : Fin 2 → IVec S16 32) a x).toNat < S85x32.size a := fun v7 v33 v93 k0_hw17 => k0_hw17.1
theorem k0_idx34_inb : ∀ (v7 : IVec S16 32) (v33 : IVec S16 32) (v93 : IVec S16 32) (k0_hw17 : k0_chk17 v7 v33 v93), ∀ a x, ((![v7, v93] : Fin 2 → IVec S16 32) a x).toNat < S256x142.size a := fun v7 v33 v93 k0_hw17 => k0_hw17.2

def k0_chk18 (v7 : IVec S16 32) (v33 : IVec S16 32) (v95 : IVec S16 32) : Prop :=
  (∀ a x, ((![v33, v95] : Fin 2 → IVec S16 32) a x).toNat < S85x32.size a) ∧
  (∀ a x, ((![v7, v95] : Fin 2 → IVec S16 32) a x).toNat < S256x142.size a)
theorem k0_idx35_inb : ∀ (v7 : IVec S16 32) (v33 : IVec S16 32) (v95 : IVec S16 32) (k0_hw18 : k0_chk18 v7 v33 v95), ∀ a x, ((![v33, v95] : Fin 2 → IVec S16 32) a x).toNat < S85x32.size a := fun v7 v33 v95 k0_hw18 => k0_hw18.1
theorem k0_idx36_inb : ∀ (v7 : IVec S16 32) (v33 : IVec S16 32) (v95 : IVec S16 32) (k0_hw18 : k0_chk18 v7 v33 v95), ∀ a x, ((![v7, v95] : Fin 2 → IVec S16 32) a x).toNat < S256x142.size a := fun v7 v33 v95 k0_hw18 => k0_hw18.2

def k0_chk19 (v7 : IVec S16 32) (v33 : IVec S16 32) (v97 : IVec S16 32) : Prop :=
  (∀ a x, ((![v33, v97] : Fin 2 → IVec S16 32) a x).toNat < S85x32.size a) ∧
  (∀ a x, ((![v7, v97] : Fin 2 → IVec S16 32) a x).toNat < S256x142.size a)
theorem k0_idx37_inb : ∀ (v7 : IVec S16 32) (v33 : IVec S16 32) (v97 : IVec S16 32) (k0_hw19 : k0_chk19 v7 v33 v97), ∀ a x, ((![v33, v97] : Fin 2 → IVec S16 32) a x).toNat < S85x32.size a := fun v7 v33 v97 k0_hw19 => k0_hw19.1
theorem k0_idx38_inb : ∀ (v7 : IVec S16 32) (v33 : IVec S16 32) (v97 : IVec S16 32) (k0_hw19 : k0_chk19 v7 v33 v97), ∀ a x, ((![v7, v97] : Fin 2 → IVec S16 32) a x).toNat < S256x142.size a := fun v7 v33 v97 k0_hw19 => k0_hw19.2

def k0_chk20 (v7 : IVec S16 32) (v33 : IVec S16 32) (v99 : IVec S16 32) : Prop :=
  (∀ a x, ((![v33, v99] : Fin 2 → IVec S16 32) a x).toNat < S85x32.size a) ∧
  (∀ a x, ((![v7, v99] : Fin 2 → IVec S16 32) a x).toNat < S256x142.size a)
theorem k0_idx39_inb : ∀ (v7 : IVec S16 32) (v33 : IVec S16 32) (v99 : IVec S16 32) (k0_hw20 : k0_chk20 v7 v33 v99), ∀ a x, ((![v33, v99] : Fin 2 → IVec S16 32) a x).toNat < S85x32.size a := fun v7 v33 v99 k0_hw20 => k0_hw20.1
theorem k0_idx40_inb : ∀ (v7 : IVec S16 32) (v33 : IVec S16 32) (v99 : IVec S16 32) (k0_hw20 : k0_chk20 v7 v33 v99), ∀ a x, ((![v7, v99] : Fin 2 → IVec S16 32) a x).toNat < S256x142.size a := fun v7 v33 v99 k0_hw20 => k0_hw20.2

def k0_chk21 (v7 : IVec S16 32) (v33 : IVec S16 32) (v101 : IVec S16 32) : Prop :=
  (∀ a x, ((![v33, v101] : Fin 2 → IVec S16 32) a x).toNat < S85x32.size a) ∧
  (∀ a x, ((![v7, v101] : Fin 2 → IVec S16 32) a x).toNat < S256x142.size a)
theorem k0_idx41_inb : ∀ (v7 : IVec S16 32) (v33 : IVec S16 32) (v101 : IVec S16 32) (k0_hw21 : k0_chk21 v7 v33 v101), ∀ a x, ((![v33, v101] : Fin 2 → IVec S16 32) a x).toNat < S85x32.size a := fun v7 v33 v101 k0_hw21 => k0_hw21.1
theorem k0_idx42_inb : ∀ (v7 : IVec S16 32) (v33 : IVec S16 32) (v101 : IVec S16 32) (k0_hw21 : k0_chk21 v7 v33 v101), ∀ a x, ((![v7, v101] : Fin 2 → IVec S16 32) a x).toNat < S256x142.size a := fun v7 v33 v101 k0_hw21 => k0_hw21.2

def k0_chk22 (v7 : IVec S16 32) (v33 : IVec S16 32) (v103 : IVec S16 32) : Prop :=
  (∀ a x, ((![v33, v103] : Fin 2 → IVec S16 32) a x).toNat < S85x32.size a) ∧
  (∀ a x, ((![v7, v103] : Fin 2 → IVec S16 32) a x).toNat < S256x142.size a)
theorem k0_idx43_inb : ∀ (v7 : IVec S16 32) (v33 : IVec S16 32) (v103 : IVec S16 32) (k0_hw22 : k0_chk22 v7 v33 v103), ∀ a x, ((![v33, v103] : Fin 2 → IVec S16 32) a x).toNat < S85x32.size a := fun v7 v33 v103 k0_hw22 => k0_hw22.1
theorem k0_idx44_inb : ∀ (v7 : IVec S16 32) (v33 : IVec S16 32) (v103 : IVec S16 32) (k0_hw22 : k0_chk22 v7 v33 v103), ∀ a x, ((![v7, v103] : Fin 2 → IVec S16 32) a x).toNat < S256x142.size a := fun v7 v33 v103 k0_hw22 => k0_hw22.2

def k0_chk23 (v7 : IVec S16 32) (v33 : IVec S16 32) (v105 : IVec S16 32) : Prop :=
  (∀ a x, ((![v33, v105] : Fin 2 → IVec S16 32) a x).toNat < S85x32.size a) ∧
  (∀ a x, ((![v7, v105] : Fin 2 → IVec S16 32) a x).toNat < S256x142.size a)
theorem k0_idx45_inb : ∀ (v7 : IVec S16 32) (v33 : IVec S16 32) (v105 : IVec S16 32) (k0_hw23 : k0_chk23 v7 v33 v105), ∀ a x, ((![v33, v105] : Fin 2 → IVec S16 32) a x).toNat < S85x32.size a := fun v7 v33 v105 k0_hw23 => k0_hw23.1
theorem k0_idx46_inb : ∀ (v7 : IVec S16 32) (v33 : IVec S16 32) (v105 : IVec S16 32) (k0_hw23 : k0_chk23 v7 v33 v105), ∀ a x, ((![v7, v105] : Fin 2 → IVec S16 32) a x).toNat < S256x142.size a := fun v7 v33 v105 k0_hw23 => k0_hw23.2

def k0_chk24 (v7 : IVec S16 32) (v33 : IVec S16 32) (v107 : IVec S16 32) : Prop :=
  (∀ a x, ((![v33, v107] : Fin 2 → IVec S16 32) a x).toNat < S85x32.size a) ∧
  (∀ a x, ((![v7, v107] : Fin 2 → IVec S16 32) a x).toNat < S256x142.size a)
theorem k0_idx47_inb : ∀ (v7 : IVec S16 32) (v33 : IVec S16 32) (v107 : IVec S16 32) (k0_hw24 : k0_chk24 v7 v33 v107), ∀ a x, ((![v33, v107] : Fin 2 → IVec S16 32) a x).toNat < S85x32.size a := fun v7 v33 v107 k0_hw24 => k0_hw24.1
theorem k0_idx48_inb : ∀ (v7 : IVec S16 32) (v33 : IVec S16 32) (v107 : IVec S16 32) (k0_hw24 : k0_chk24 v7 v33 v107), ∀ a x, ((![v7, v107] : Fin 2 → IVec S16 32) a x).toNat < S256x142.size a := fun v7 v33 v107 k0_hw24 => k0_hw24.2

def k0_chk25 (v7 : IVec S16 32) (v33 : IVec S16 32) (v109 : IVec S16 32) : Prop :=
  (∀ a x, ((![v33, v109] : Fin 2 → IVec S16 32) a x).toNat < S85x32.size a) ∧
  (∀ a x, ((![v7, v109] : Fin 2 → IVec S16 32) a x).toNat < S256x142.size a)
theorem k0_idx49_inb : ∀ (v7 : IVec S16 32) (v33 : IVec S16 32) (v109 : IVec S16 32) (k0_hw25 : k0_chk25 v7 v33 v109), ∀ a x, ((![v33, v109] : Fin 2 → IVec S16 32) a x).toNat < S85x32.size a := fun v7 v33 v109 k0_hw25 => k0_hw25.1
theorem k0_idx50_inb : ∀ (v7 : IVec S16 32) (v33 : IVec S16 32) (v109 : IVec S16 32) (k0_hw25 : k0_chk25 v7 v33 v109), ∀ a x, ((![v7, v109] : Fin 2 → IVec S16 32) a x).toNat < S256x142.size a := fun v7 v33 v109 k0_hw25 => k0_hw25.2

def k0_chk26 (v7 : IVec S16 32) (v33 : IVec S16 32) (v111 : IVec S16 32) : Prop :=
  (∀ a x, ((![v33, v111] : Fin 2 → IVec S16 32) a x).toNat < S85x32.size a) ∧
  (∀ a x, ((![v7, v111] : Fin 2 → IVec S16 32) a x).toNat < S256x142.size a)
theorem k0_idx51_inb : ∀ (v7 : IVec S16 32) (v33 : IVec S16 32) (v111 : IVec S16 32) (k0_hw26 : k0_chk26 v7 v33 v111), ∀ a x, ((![v33, v111] : Fin 2 → IVec S16 32) a x).toNat < S85x32.size a := fun v7 v33 v111 k0_hw26 => k0_hw26.1
theorem k0_idx52_inb : ∀ (v7 : IVec S16 32) (v33 : IVec S16 32) (v111 : IVec S16 32) (k0_hw26 : k0_chk26 v7 v33 v111), ∀ a x, ((![v7, v111] : Fin 2 → IVec S16 32) a x).toNat < S256x142.size a := fun v7 v33 v111 k0_hw26 => k0_hw26.2

def k0_chk27 (v7 : IVec S16 32) (v33 : IVec S16 32) (v113 : IVec S16 32) : Prop :=
  (∀ a x, ((![v33, v113] : Fin 2 → IVec S16 32) a x).toNat < S85x32.size a) ∧
  (∀ a x, ((![v7, v113] : Fin 2 → IVec S16 32) a x).toNat < S256x142.size a)
theorem k0_idx53_inb : ∀ (v7 : IVec S16 32) (v33 : IVec S16 32) (v113 : IVec S16 32) (k0_hw27 : k0_chk27 v7 v33 v113), ∀ a x, ((![v33, v113] : Fin 2 → IVec S16 32) a x).toNat < S85x32.size a := fun v7 v33 v113 k0_hw27 => k0_hw27.1
theorem k0_idx54_inb : ∀ (v7 : IVec S16 32) (v33 : IVec S16 32) (v113 : IVec S16 32) (k0_hw27 : k0_chk27 v7 v33 v113), ∀ a x, ((![v7, v113] : Fin 2 → IVec S16 32) a x).toNat < S256x142.size a := fun v7 v33 v113 k0_hw27 => k0_hw27.2

def k0_chk28 (v7 : IVec S16 32) (v33 : IVec S16 32) (v115 : IVec S16 32) : Prop :=
  (∀ a x, ((![v33, v115] : Fin 2 → IVec S16 32) a x).toNat < S85x32.size a) ∧
  (∀ a x, ((![v7, v115] : Fin 2 → IVec S16 32) a x).toNat < S256x142.size a)
theorem k0_idx55_inb : ∀ (v7 : IVec S16 32) (v33 : IVec S16 32) (v115 : IVec S16 32) (k0_hw28 : k0_chk28 v7 v33 v115), ∀ a x, ((![v33, v115] : Fin 2 → IVec S16 32) a x).toNat < S85x32.size a := fun v7 v33 v115 k0_hw28 => k0_hw28.1
theorem k0_idx56_inb : ∀ (v7 : IVec S16 32) (v33 : IVec S16 32) (v115 : IVec S16 32) (k0_hw28 : k0_chk28 v7 v33 v115), ∀ a x, ((![v7, v115] : Fin 2 → IVec S16 32) a x).toNat < S256x142.size a := fun v7 v33 v115 k0_hw28 => k0_hw28.2

def k0_chk29 (v7 : IVec S16 32) (v33 : IVec S16 32) (v117 : IVec S16 32) : Prop :=
  (∀ a x, ((![v33, v117] : Fin 2 → IVec S16 32) a x).toNat < S85x32.size a) ∧
  (∀ a x, ((![v7, v117] : Fin 2 → IVec S16 32) a x).toNat < S256x142.size a)
theorem k0_idx57_inb : ∀ (v7 : IVec S16 32) (v33 : IVec S16 32) (v117 : IVec S16 32) (k0_hw29 : k0_chk29 v7 v33 v117), ∀ a x, ((![v33, v117] : Fin 2 → IVec S16 32) a x).toNat < S85x32.size a := fun v7 v33 v117 k0_hw29 => k0_hw29.1
theorem k0_idx58_inb : ∀ (v7 : IVec S16 32) (v33 : IVec S16 32) (v117 : IVec S16 32) (k0_hw29 : k0_chk29 v7 v33 v117), ∀ a x, ((![v7, v117] : Fin 2 → IVec S16 32) a x).toNat < S256x142.size a := fun v7 v33 v117 k0_hw29 => k0_hw29.2

def k0_chk30 (v7 : IVec S16 32) (v33 : IVec S16 32) (v119 : IVec S16 32) : Prop :=
  (∀ a x, ((![v33, v119] : Fin 2 → IVec S16 32) a x).toNat < S85x32.size a) ∧
  (∀ a x, ((![v7, v119] : Fin 2 → IVec S16 32) a x).toNat < S256x142.size a)
theorem k0_idx59_inb : ∀ (v7 : IVec S16 32) (v33 : IVec S16 32) (v119 : IVec S16 32) (k0_hw30 : k0_chk30 v7 v33 v119), ∀ a x, ((![v33, v119] : Fin 2 → IVec S16 32) a x).toNat < S85x32.size a := fun v7 v33 v119 k0_hw30 => k0_hw30.1
theorem k0_idx60_inb : ∀ (v7 : IVec S16 32) (v33 : IVec S16 32) (v119 : IVec S16 32) (k0_hw30 : k0_chk30 v7 v33 v119), ∀ a x, ((![v7, v119] : Fin 2 → IVec S16 32) a x).toNat < S256x142.size a := fun v7 v33 v119 k0_hw30 => k0_hw30.2

def k0_chk31 (v7 : IVec S16 32) (v33 : IVec S16 32) (v121 : IVec S16 32) : Prop :=
  (∀ a x, ((![v33, v121] : Fin 2 → IVec S16 32) a x).toNat < S85x32.size a) ∧
  (∀ a x, ((![v7, v121] : Fin 2 → IVec S16 32) a x).toNat < S256x142.size a)
theorem k0_idx61_inb : ∀ (v7 : IVec S16 32) (v33 : IVec S16 32) (v121 : IVec S16 32) (k0_hw31 : k0_chk31 v7 v33 v121), ∀ a x, ((![v33, v121] : Fin 2 → IVec S16 32) a x).toNat < S85x32.size a := fun v7 v33 v121 k0_hw31 => k0_hw31.1
theorem k0_idx62_inb : ∀ (v7 : IVec S16 32) (v33 : IVec S16 32) (v121 : IVec S16 32) (k0_hw31 : k0_chk31 v7 v33 v121), ∀ a x, ((![v7, v121] : Fin 2 → IVec S16 32) a x).toNat < S256x142.size a := fun v7 v33 v121 k0_hw31 => k0_hw31.2

def k0_chk32 (v7 : IVec S16 32) (v33 : IVec S16 32) (v123 : IVec S16 32) : Prop :=
  (∀ a x, ((![v33, v123] : Fin 2 → IVec S16 32) a x).toNat < S85x32.size a) ∧
  (∀ a x, ((![v7, v123] : Fin 2 → IVec S16 32) a x).toNat < S256x142.size a)
theorem k0_idx63_inb : ∀ (v7 : IVec S16 32) (v33 : IVec S16 32) (v123 : IVec S16 32) (k0_hw32 : k0_chk32 v7 v33 v123), ∀ a x, ((![v33, v123] : Fin 2 → IVec S16 32) a x).toNat < S85x32.size a := fun v7 v33 v123 k0_hw32 => k0_hw32.1
theorem k0_idx64_inb : ∀ (v7 : IVec S16 32) (v33 : IVec S16 32) (v123 : IVec S16 32) (k0_hw32 : k0_chk32 v7 v33 v123), ∀ a x, ((![v7, v123] : Fin 2 → IVec S16 32) a x).toNat < S256x142.size a := fun v7 v33 v123 k0_hw32 => k0_hw32.2

def k0_chk33 (v7 : IVec S16 32) (v33 : IVec S16 32) (v125 : IVec S16 32) : Prop :=
  (∀ a x, ((![v33, v125] : Fin 2 → IVec S16 32) a x).toNat < S85x32.size a) ∧
  (∀ a x, ((![v7, v125] : Fin 2 → IVec S16 32) a x).toNat < S256x142.size a)
theorem k0_idx65_inb : ∀ (v7 : IVec S16 32) (v33 : IVec S16 32) (v125 : IVec S16 32) (k0_hw33 : k0_chk33 v7 v33 v125), ∀ a x, ((![v33, v125] : Fin 2 → IVec S16 32) a x).toNat < S85x32.size a := fun v7 v33 v125 k0_hw33 => k0_hw33.1
theorem k0_idx66_inb : ∀ (v7 : IVec S16 32) (v33 : IVec S16 32) (v125 : IVec S16 32) (k0_hw33 : k0_chk33 v7 v33 v125), ∀ a x, ((![v7, v125] : Fin 2 → IVec S16 32) a x).toNat < S256x142.size a := fun v7 v33 v125 k0_hw33 => k0_hw33.2

def k0_chk34 (v33 : IVec S16 32) (v128 : IVec S16 32) : Prop :=
  (∀ a x, ((![v33, v128] : Fin 2 → IVec S16 32) a x).toNat < S86x14.size a)
theorem k0_idx67_inb : ∀ (v33 : IVec S16 32) (v128 : IVec S16 32) (k0_hw34 : k0_chk34 v33 v128), ∀ a x, ((![v33, v128] : Fin 2 → IVec S16 32) a x).toNat < S86x14.size a := fun v33 v128 k0_hw34 => k0_hw34

def k0_chk35 (v7 : IVec S16 32) (v127 : IVec S16 32) : Prop :=
  (∀ a x, ((![v7, v127] : Fin 2 → IVec S16 32) a x).toNat < S256x142.size a)
theorem k0_idx68_inb : ∀ (v7 : IVec S16 32) (v127 : IVec S16 32) (k0_hw35 : k0_chk35 v7 v127), ∀ a x, ((![v7, v127] : Fin 2 → IVec S16 32) a x).toNat < S256x142.size a := fun v7 v127 k0_hw35 => k0_hw35

def k0_chk36 (v33 : IVec S16 32) (v131 : IVec S16 32) : Prop :=
  (∀ a x, ((![v33, v131] : Fin 2 → IVec S16 32) a x).toNat < S86x14.size a)
theorem k0_idx69_inb : ∀ (v33 : IVec S16 32) (v131 : IVec S16 32) (k0_hw36 : k0_chk36 v33 v131), ∀ a x, ((![v33, v131] : Fin 2 → IVec S16 32) a x).toNat < S86x14.size a := fun v33 v131 k0_hw36 => k0_hw36

def k0_chk37 (v7 : IVec S16 32) (v130 : IVec S16 32) : Prop :=
  (∀ a x, ((![v7, v130] : Fin 2 → IVec S16 32) a x).toNat < S256x142.size a)
theorem k0_idx70_inb : ∀ (v7 : IVec S16 32) (v130 : IVec S16 32) (k0_hw37 : k0_chk37 v7 v130), ∀ a x, ((![v7, v130] : Fin 2 → IVec S16 32) a x).toNat < S256x142.size a := fun v7 v130 k0_hw37 => k0_hw37

def k0_chk38 (v33 : IVec S16 32) (v134 : IVec S16 32) : Prop :=
  (∀ a x, ((![v33, v134] : Fin 2 → IVec S16 32) a x).toNat < S86x14.size a)
theorem k0_idx71_inb : ∀ (v33 : IVec S16 32) (v134 : IVec S16 32) (k0_hw38 : k0_chk38 v33 v134), ∀ a x, ((![v33, v134] : Fin 2 → IVec S16 32) a x).toNat < S86x14.size a := fun v33 v134 k0_hw38 => k0_hw38

def k0_chk39 (v7 : IVec S16 32) (v133 : IVec S16 32) : Prop :=
  (∀ a x, ((![v7, v133] : Fin 2 → IVec S16 32) a x).toNat < S256x142.size a)
theorem k0_idx72_inb : ∀ (v7 : IVec S16 32) (v133 : IVec S16 32) (k0_hw39 : k0_chk39 v7 v133), ∀ a x, ((![v7, v133] : Fin 2 → IVec S16 32) a x).toNat < S256x142.size a := fun v7 v133 k0_hw39 => k0_hw39

def k0_chk40 (v33 : IVec S16 32) (v137 : IVec S16 32) : Prop :=
  (∀ a x, ((![v33, v137] : Fin 2 → IVec S16 32) a x).toNat < S86x14.size a)
theorem k0_idx73_inb : ∀ (v33 : IVec S16 32) (v137 : IVec S16 32) (k0_hw40 : k0_chk40 v33 v137), ∀ a x, ((![v33, v137] : Fin 2 → IVec S16 32) a x).toNat < S86x14.size a := fun v33 v137 k0_hw40 => k0_hw40

def k0_chk41 (v7 : IVec S16 32) (v136 : IVec S16 32) : Prop :=
  (∀ a x, ((![v7, v136] : Fin 2 → IVec S16 32) a x).toNat < S256x142.size a)
theorem k0_idx74_inb : ∀ (v7 : IVec S16 32) (v136 : IVec S16 32) (k0_hw41 : k0_chk41 v7 v136), ∀ a x, ((![v7, v136] : Fin 2 → IVec S16 32) a x).toNat < S256x142.size a := fun v7 v136 k0_hw41 => k0_hw41

def k0_chk42 (v33 : IVec S16 32) (v140 : IVec S16 32) : Prop :=
  (∀ a x, ((![v33, v140] : Fin 2 → IVec S16 32) a x).toNat < S86x14.size a)
theorem k0_idx75_inb : ∀ (v33 : IVec S16 32) (v140 : IVec S16 32) (k0_hw42 : k0_chk42 v33 v140), ∀ a x, ((![v33, v140] : Fin 2 → IVec S16 32) a x).toNat < S86x14.size a := fun v33 v140 k0_hw42 => k0_hw42

def k0_chk43 (v7 : IVec S16 32) (v139 : IVec S16 32) : Prop :=
  (∀ a x, ((![v7, v139] : Fin 2 → IVec S16 32) a x).toNat < S256x142.size a)
theorem k0_idx76_inb : ∀ (v7 : IVec S16 32) (v139 : IVec S16 32) (k0_hw43 : k0_chk43 v7 v139), ∀ a x, ((![v7, v139] : Fin 2 → IVec S16 32) a x).toNat < S256x142.size a := fun v7 v139 k0_hw43 => k0_hw43

def k0_chk44 (v33 : IVec S16 32) (v143 : IVec S16 32) : Prop :=
  (∀ a x, ((![v33, v143] : Fin 2 → IVec S16 32) a x).toNat < S86x14.size a)
theorem k0_idx77_inb : ∀ (v33 : IVec S16 32) (v143 : IVec S16 32) (k0_hw44 : k0_chk44 v33 v143), ∀ a x, ((![v33, v143] : Fin 2 → IVec S16 32) a x).toNat < S86x14.size a := fun v33 v143 k0_hw44 => k0_hw44

def k0_chk45 (v7 : IVec S16 32) (v142 : IVec S16 32) : Prop :=
  (∀ a x, ((![v7, v142] : Fin 2 → IVec S16 32) a x).toNat < S256x142.size a)
theorem k0_idx78_inb : ∀ (v7 : IVec S16 32) (v142 : IVec S16 32) (k0_hw45 : k0_chk45 v7 v142), ∀ a x, ((![v7, v142] : Fin 2 → IVec S16 32) a x).toNat < S256x142.size a := fun v7 v142 k0_hw45 => k0_hw45

def k0_chk46 (v33 : IVec S16 32) (v146 : IVec S16 32) : Prop :=
  (∀ a x, ((![v33, v146] : Fin 2 → IVec S16 32) a x).toNat < S86x14.size a)
theorem k0_idx79_inb : ∀ (v33 : IVec S16 32) (v146 : IVec S16 32) (k0_hw46 : k0_chk46 v33 v146), ∀ a x, ((![v33, v146] : Fin 2 → IVec S16 32) a x).toNat < S86x14.size a := fun v33 v146 k0_hw46 => k0_hw46

def k0_chk47 (v7 : IVec S16 32) (v145 : IVec S16 32) : Prop :=
  (∀ a x, ((![v7, v145] : Fin 2 → IVec S16 32) a x).toNat < S256x142.size a)
theorem k0_idx80_inb : ∀ (v7 : IVec S16 32) (v145 : IVec S16 32) (k0_hw47 : k0_chk47 v7 v145), ∀ a x, ((![v7, v145] : Fin 2 → IVec S16 32) a x).toNat < S256x142.size a := fun v7 v145 k0_hw47 => k0_hw47

def k0_chk48 (v33 : IVec S16 32) (v149 : IVec S16 32) : Prop :=
  (∀ a x, ((![v33, v149] : Fin 2 → IVec S16 32) a x).toNat < S86x14.size a)
theorem k0_idx81_inb : ∀ (v33 : IVec S16 32) (v149 : IVec S16 32) (k0_hw48 : k0_chk48 v33 v149), ∀ a x, ((![v33, v149] : Fin 2 → IVec S16 32) a x).toNat < S86x14.size a := fun v33 v149 k0_hw48 => k0_hw48

def k0_chk49 (v7 : IVec S16 32) (v148 : IVec S16 32) : Prop :=
  (∀ a x, ((![v7, v148] : Fin 2 → IVec S16 32) a x).toNat < S256x142.size a)
theorem k0_idx82_inb : ∀ (v7 : IVec S16 32) (v148 : IVec S16 32) (k0_hw49 : k0_chk49 v7 v148), ∀ a x, ((![v7, v148] : Fin 2 → IVec S16 32) a x).toNat < S256x142.size a := fun v7 v148 k0_hw49 => k0_hw49

def k0_chk50 (v33 : IVec S16 32) (v152 : IVec S16 32) : Prop :=
  (∀ a x, ((![v33, v152] : Fin 2 → IVec S16 32) a x).toNat < S86x14.size a)
theorem k0_idx83_inb : ∀ (v33 : IVec S16 32) (v152 : IVec S16 32) (k0_hw50 : k0_chk50 v33 v152), ∀ a x, ((![v33, v152] : Fin 2 → IVec S16 32) a x).toNat < S86x14.size a := fun v33 v152 k0_hw50 => k0_hw50

def k0_chk51 (v7 : IVec S16 32) (v151 : IVec S16 32) : Prop :=
  (∀ a x, ((![v7, v151] : Fin 2 → IVec S16 32) a x).toNat < S256x142.size a)
theorem k0_idx84_inb : ∀ (v7 : IVec S16 32) (v151 : IVec S16 32) (k0_hw51 : k0_chk51 v7 v151), ∀ a x, ((![v7, v151] : Fin 2 → IVec S16 32) a x).toNat < S256x142.size a := fun v7 v151 k0_hw51 => k0_hw51

def k0_chk52 (v33 : IVec S16 32) (v155 : IVec S16 32) : Prop :=
  (∀ a x, ((![v33, v155] : Fin 2 → IVec S16 32) a x).toNat < S86x14.size a)
theorem k0_idx85_inb : ∀ (v33 : IVec S16 32) (v155 : IVec S16 32) (k0_hw52 : k0_chk52 v33 v155), ∀ a x, ((![v33, v155] : Fin 2 → IVec S16 32) a x).toNat < S86x14.size a := fun v33 v155 k0_hw52 => k0_hw52

def k0_chk53 (v7 : IVec S16 32) (v154 : IVec S16 32) : Prop :=
  (∀ a x, ((![v7, v154] : Fin 2 → IVec S16 32) a x).toNat < S256x142.size a)
theorem k0_idx86_inb : ∀ (v7 : IVec S16 32) (v154 : IVec S16 32) (k0_hw53 : k0_chk53 v7 v154), ∀ a x, ((![v7, v154] : Fin 2 → IVec S16 32) a x).toNat < S256x142.size a := fun v7 v154 k0_hw53 => k0_hw53

def k0_chk54 (v33 : IVec S16 32) (v158 : IVec S16 32) : Prop :=
  (∀ a x, ((![v33, v158] : Fin 2 → IVec S16 32) a x).toNat < S86x14.size a)
theorem k0_idx87_inb : ∀ (v33 : IVec S16 32) (v158 : IVec S16 32) (k0_hw54 : k0_chk54 v33 v158), ∀ a x, ((![v33, v158] : Fin 2 → IVec S16 32) a x).toNat < S86x14.size a := fun v33 v158 k0_hw54 => k0_hw54

def k0_chk55 (v7 : IVec S16 32) (v157 : IVec S16 32) : Prop :=
  (∀ a x, ((![v7, v157] : Fin 2 → IVec S16 32) a x).toNat < S256x142.size a)
theorem k0_idx88_inb : ∀ (v7 : IVec S16 32) (v157 : IVec S16 32) (k0_hw55 : k0_chk55 v7 v157), ∀ a x, ((![v7, v157] : Fin 2 → IVec S16 32) a x).toNat < S256x142.size a := fun v7 v157 k0_hw55 => k0_hw55

def k0_chk56 (v33 : IVec S16 32) (v161 : IVec S16 32) : Prop :=
  (∀ a x, ((![v33, v161] : Fin 2 → IVec S16 32) a x).toNat < S86x14.size a)
theorem k0_idx89_inb : ∀ (v33 : IVec S16 32) (v161 : IVec S16 32) (k0_hw56 : k0_chk56 v33 v161), ∀ a x, ((![v33, v161] : Fin 2 → IVec S16 32) a x).toNat < S86x14.size a := fun v33 v161 k0_hw56 => k0_hw56

def k0_chk57 (v7 : IVec S16 32) (v160 : IVec S16 32) : Prop :=
  (∀ a x, ((![v7, v160] : Fin 2 → IVec S16 32) a x).toNat < S256x142.size a)
theorem k0_idx90_inb : ∀ (v7 : IVec S16 32) (v160 : IVec S16 32) (k0_hw57 : k0_chk57 v7 v160), ∀ a x, ((![v7, v160] : Fin 2 → IVec S16 32) a x).toNat < S256x142.size a := fun v7 v160 k0_hw57 => k0_hw57

def k0_chk58 (v33 : IVec S16 32) (v164 : IVec S16 32) : Prop :=
  (∀ a x, ((![v33, v164] : Fin 2 → IVec S16 32) a x).toNat < S86x14.size a)
theorem k0_idx91_inb : ∀ (v33 : IVec S16 32) (v164 : IVec S16 32) (k0_hw58 : k0_chk58 v33 v164), ∀ a x, ((![v33, v164] : Fin 2 → IVec S16 32) a x).toNat < S86x14.size a := fun v33 v164 k0_hw58 => k0_hw58

def k0_chk59 (v7 : IVec S16 32) (v163 : IVec S16 32) : Prop :=
  (∀ a x, ((![v7, v163] : Fin 2 → IVec S16 32) a x).toNat < S256x142.size a)
theorem k0_idx92_inb : ∀ (v7 : IVec S16 32) (v163 : IVec S16 32) (k0_hw59 : k0_chk59 v7 v163), ∀ a x, ((![v7, v163] : Fin 2 → IVec S16 32) a x).toNat < S256x142.size a := fun v7 v163 k0_hw59 => k0_hw59

def k0_chk60 (v33 : IVec S16 32) (v167 : IVec S16 32) : Prop :=
  (∀ a x, ((![v33, v167] : Fin 2 → IVec S16 32) a x).toNat < S86x14.size a)
theorem k0_idx93_inb : ∀ (v33 : IVec S16 32) (v167 : IVec S16 32) (k0_hw60 : k0_chk60 v33 v167), ∀ a x, ((![v33, v167] : Fin 2 → IVec S16 32) a x).toNat < S86x14.size a := fun v33 v167 k0_hw60 => k0_hw60

def k0_chk61 (v7 : IVec S16 32) (v166 : IVec S16 32) : Prop :=
  (∀ a x, ((![v7, v166] : Fin 2 → IVec S16 32) a x).toNat < S256x142.size a)
theorem k0_idx94_inb : ∀ (v7 : IVec S16 32) (v166 : IVec S16 32) (k0_hw61 : k0_chk61 v7 v166), ∀ a x, ((![v7, v166] : Fin 2 → IVec S16 32) a x).toNat < S256x142.size a := fun v7 v166 k0_hw61 => k0_hw61

def k0_chk62 (v61 : IVec S16 32) (v170 : IVec S16 32) : Prop :=
  (∀ a x, ((![v61, v170] : Fin 2 → IVec S16 32) a x).toNat < S8x32.size a)
theorem k0_idx95_inb : ∀ (v61 : IVec S16 32) (v170 : IVec S16 32) (k0_hw62 : k0_chk62 v61 v170), ∀ a x, ((![v61, v170] : Fin 2 → IVec S16 32) a x).toNat < S8x32.size a := fun v61 v170 k0_hw62 => k0_hw62

def k0_chk63 (v7 : IVec S16 32) (v169 : IVec S16 32) : Prop :=
  (∀ a x, ((![v7, v169] : Fin 2 → IVec S16 32) a x).toNat < S256x142.size a)
theorem k0_idx96_inb : ∀ (v7 : IVec S16 32) (v169 : IVec S16 32) (k0_hw63 : k0_chk63 v7 v169), ∀ a x, ((![v7, v169] : Fin 2 → IVec S16 32) a x).toNat < S256x142.size a := fun v7 v169 k0_hw63 => k0_hw63

def k0_chk64 (v61 : IVec S16 32) (v173 : IVec S16 32) : Prop :=
  (∀ a x, ((![v61, v173] : Fin 2 → IVec S16 32) a x).toNat < S8x32.size a)
theorem k0_idx97_inb : ∀ (v61 : IVec S16 32) (v173 : IVec S16 32) (k0_hw64 : k0_chk64 v61 v173), ∀ a x, ((![v61, v173] : Fin 2 → IVec S16 32) a x).toNat < S8x32.size a := fun v61 v173 k0_hw64 => k0_hw64

def k0_chk65 (v7 : IVec S16 32) (v172 : IVec S16 32) : Prop :=
  (∀ a x, ((![v7, v172] : Fin 2 → IVec S16 32) a x).toNat < S256x142.size a)
theorem k0_idx98_inb : ∀ (v7 : IVec S16 32) (v172 : IVec S16 32) (k0_hw65 : k0_chk65 v7 v172), ∀ a x, ((![v7, v172] : Fin 2 → IVec S16 32) a x).toNat < S256x142.size a := fun v7 v172 k0_hw65 => k0_hw65

def k0_chk66 (v61 : IVec S16 32) (v176 : IVec S16 32) : Prop :=
  (∀ a x, ((![v61, v176] : Fin 2 → IVec S16 32) a x).toNat < S8x32.size a)
theorem k0_idx99_inb : ∀ (v61 : IVec S16 32) (v176 : IVec S16 32) (k0_hw66 : k0_chk66 v61 v176), ∀ a x, ((![v61, v176] : Fin 2 → IVec S16 32) a x).toNat < S8x32.size a := fun v61 v176 k0_hw66 => k0_hw66

def k0_chk67 (v7 : IVec S16 32) (v175 : IVec S16 32) : Prop :=
  (∀ a x, ((![v7, v175] : Fin 2 → IVec S16 32) a x).toNat < S256x142.size a)
theorem k0_idx100_inb : ∀ (v7 : IVec S16 32) (v175 : IVec S16 32) (k0_hw67 : k0_chk67 v7 v175), ∀ a x, ((![v7, v175] : Fin 2 → IVec S16 32) a x).toNat < S256x142.size a := fun v7 v175 k0_hw67 => k0_hw67

def k0_chk68 (v61 : IVec S16 32) (v179 : IVec S16 32) : Prop :=
  (∀ a x, ((![v61, v179] : Fin 2 → IVec S16 32) a x).toNat < S8x32.size a)
theorem k0_idx101_inb : ∀ (v61 : IVec S16 32) (v179 : IVec S16 32) (k0_hw68 : k0_chk68 v61 v179), ∀ a x, ((![v61, v179] : Fin 2 → IVec S16 32) a x).toNat < S8x32.size a := fun v61 v179 k0_hw68 => k0_hw68

def k0_chk69 (v7 : IVec S16 32) (v178 : IVec S16 32) : Prop :=
  (∀ a x, ((![v7, v178] : Fin 2 → IVec S16 32) a x).toNat < S256x142.size a)
theorem k0_idx102_inb : ∀ (v7 : IVec S16 32) (v178 : IVec S16 32) (k0_hw69 : k0_chk69 v7 v178), ∀ a x, ((![v7, v178] : Fin 2 → IVec S16 32) a x).toNat < S256x142.size a := fun v7 v178 k0_hw69 => k0_hw69

def k0_chk70 (v61 : IVec S16 32) (v182 : IVec S16 32) : Prop :=
  (∀ a x, ((![v61, v182] : Fin 2 → IVec S16 32) a x).toNat < S8x32.size a)
theorem k0_idx103_inb : ∀ (v61 : IVec S16 32) (v182 : IVec S16 32) (k0_hw70 : k0_chk70 v61 v182), ∀ a x, ((![v61, v182] : Fin 2 → IVec S16 32) a x).toNat < S8x32.size a := fun v61 v182 k0_hw70 => k0_hw70

def k0_chk71 (v7 : IVec S16 32) (v181 : IVec S16 32) : Prop :=
  (∀ a x, ((![v7, v181] : Fin 2 → IVec S16 32) a x).toNat < S256x142.size a)
theorem k0_idx104_inb : ∀ (v7 : IVec S16 32) (v181 : IVec S16 32) (k0_hw71 : k0_chk71 v7 v181), ∀ a x, ((![v7, v181] : Fin 2 → IVec S16 32) a x).toNat < S256x142.size a := fun v7 v181 k0_hw71 => k0_hw71

def k0_chk72 (v61 : IVec S16 32) (v185 : IVec S16 32) : Prop :=
  (∀ a x, ((![v61, v185] : Fin 2 → IVec S16 32) a x).toNat < S8x32.size a)
theorem k0_idx105_inb : ∀ (v61 : IVec S16 32) (v185 : IVec S16 32) (k0_hw72 : k0_chk72 v61 v185), ∀ a x, ((![v61, v185] : Fin 2 → IVec S16 32) a x).toNat < S8x32.size a := fun v61 v185 k0_hw72 => k0_hw72

def k0_chk73 (v7 : IVec S16 32) (v184 : IVec S16 32) : Prop :=
  (∀ a x, ((![v7, v184] : Fin 2 → IVec S16 32) a x).toNat < S256x142.size a)
theorem k0_idx106_inb : ∀ (v7 : IVec S16 32) (v184 : IVec S16 32) (k0_hw73 : k0_chk73 v7 v184), ∀ a x, ((![v7, v184] : Fin 2 → IVec S16 32) a x).toNat < S256x142.size a := fun v7 v184 k0_hw73 => k0_hw73

def k0_chk74 (v61 : IVec S16 32) (v188 : IVec S16 32) : Prop :=
  (∀ a x, ((![v61, v188] : Fin 2 → IVec S16 32) a x).toNat < S8x32.size a)
theorem k0_idx107_inb : ∀ (v61 : IVec S16 32) (v188 : IVec S16 32) (k0_hw74 : k0_chk74 v61 v188), ∀ a x, ((![v61, v188] : Fin 2 → IVec S16 32) a x).toNat < S8x32.size a := fun v61 v188 k0_hw74 => k0_hw74

def k0_chk75 (v7 : IVec S16 32) (v187 : IVec S16 32) : Prop :=
  (∀ a x, ((![v7, v187] : Fin 2 → IVec S16 32) a x).toNat < S256x142.size a)
theorem k0_idx108_inb : ∀ (v7 : IVec S16 32) (v187 : IVec S16 32) (k0_hw75 : k0_chk75 v7 v187), ∀ a x, ((![v7, v187] : Fin 2 → IVec S16 32) a x).toNat < S256x142.size a := fun v7 v187 k0_hw75 => k0_hw75

def k0_chk76 (v61 : IVec S16 32) (v191 : IVec S16 32) : Prop :=
  (∀ a x, ((![v61, v191] : Fin 2 → IVec S16 32) a x).toNat < S8x32.size a)
theorem k0_idx109_inb : ∀ (v61 : IVec S16 32) (v191 : IVec S16 32) (k0_hw76 : k0_chk76 v61 v191), ∀ a x, ((![v61, v191] : Fin 2 → IVec S16 32) a x).toNat < S8x32.size a := fun v61 v191 k0_hw76 => k0_hw76

def k0_chk77 (v7 : IVec S16 32) (v190 : IVec S16 32) : Prop :=
  (∀ a x, ((![v7, v190] : Fin 2 → IVec S16 32) a x).toNat < S256x142.size a)
theorem k0_idx110_inb : ∀ (v7 : IVec S16 32) (v190 : IVec S16 32) (k0_hw77 : k0_chk77 v7 v190), ∀ a x, ((![v7, v190] : Fin 2 → IVec S16 32) a x).toNat < S256x142.size a := fun v7 v190 k0_hw77 => k0_hw77

def k0_chk78 (v61 : IVec S16 32) (v194 : IVec S16 32) : Prop :=
  (∀ a x, ((![v61, v194] : Fin 2 → IVec S16 32) a x).toNat < S8x32.size a)
theorem k0_idx111_inb : ∀ (v61 : IVec S16 32) (v194 : IVec S16 32) (k0_hw78 : k0_chk78 v61 v194), ∀ a x, ((![v61, v194] : Fin 2 → IVec S16 32) a x).toNat < S8x32.size a := fun v61 v194 k0_hw78 => k0_hw78

def k0_chk79 (v7 : IVec S16 32) (v193 : IVec S16 32) : Prop :=
  (∀ a x, ((![v7, v193] : Fin 2 → IVec S16 32) a x).toNat < S256x142.size a)
theorem k0_idx112_inb : ∀ (v7 : IVec S16 32) (v193 : IVec S16 32) (k0_hw79 : k0_chk79 v7 v193), ∀ a x, ((![v7, v193] : Fin 2 → IVec S16 32) a x).toNat < S256x142.size a := fun v7 v193 k0_hw79 => k0_hw79

def k0_chk80 (v61 : IVec S16 32) (v197 : IVec S16 32) : Prop :=
  (∀ a x, ((![v61, v197] : Fin 2 → IVec S16 32) a x).toNat < S8x32.size a)
theorem k0_idx113_inb : ∀ (v61 : IVec S16 32) (v197 : IVec S16 32) (k0_hw80 : k0_chk80 v61 v197), ∀ a x, ((![v61, v197] : Fin 2 → IVec S16 32) a x).toNat < S8x32.size a := fun v61 v197 k0_hw80 => k0_hw80

def k0_chk81 (v7 : IVec S16 32) (v196 : IVec S16 32) : Prop :=
  (∀ a x, ((![v7, v196] : Fin 2 → IVec S16 32) a x).toNat < S256x142.size a)
theorem k0_idx114_inb : ∀ (v7 : IVec S16 32) (v196 : IVec S16 32) (k0_hw81 : k0_chk81 v7 v196), ∀ a x, ((![v7, v196] : Fin 2 → IVec S16 32) a x).toNat < S256x142.size a := fun v7 v196 k0_hw81 => k0_hw81

def k0_chk82 (v61 : IVec S16 32) (v200 : IVec S16 32) : Prop :=
  (∀ a x, ((![v61, v200] : Fin 2 → IVec S16 32) a x).toNat < S8x32.size a)
theorem k0_idx115_inb : ∀ (v61 : IVec S16 32) (v200 : IVec S16 32) (k0_hw82 : k0_chk82 v61 v200), ∀ a x, ((![v61, v200] : Fin 2 → IVec S16 32) a x).toNat < S8x32.size a := fun v61 v200 k0_hw82 => k0_hw82

def k0_chk83 (v7 : IVec S16 32) (v199 : IVec S16 32) : Prop :=
  (∀ a x, ((![v7, v199] : Fin 2 → IVec S16 32) a x).toNat < S256x142.size a)
theorem k0_idx116_inb : ∀ (v7 : IVec S16 32) (v199 : IVec S16 32) (k0_hw83 : k0_chk83 v7 v199), ∀ a x, ((![v7, v199] : Fin 2 → IVec S16 32) a x).toNat < S256x142.size a := fun v7 v199 k0_hw83 => k0_hw83

def k0_chk84 (v61 : IVec S16 32) (v203 : IVec S16 32) : Prop :=
  (∀ a x, ((![v61, v203] : Fin 2 → IVec S16 32) a x).toNat < S8x32.size a)
theorem k0_idx117_inb : ∀ (v61 : IVec S16 32) (v203 : IVec S16 32) (k0_hw84 : k0_chk84 v61 v203), ∀ a x, ((![v61, v203] : Fin 2 → IVec S16 32) a x).toNat < S8x32.size a := fun v61 v203 k0_hw84 => k0_hw84

def k0_chk85 (v7 : IVec S16 32) (v202 : IVec S16 32) : Prop :=
  (∀ a x, ((![v7, v202] : Fin 2 → IVec S16 32) a x).toNat < S256x142.size a)
theorem k0_idx118_inb : ∀ (v7 : IVec S16 32) (v202 : IVec S16 32) (k0_hw85 : k0_chk85 v7 v202), ∀ a x, ((![v7, v202] : Fin 2 → IVec S16 32) a x).toNat < S256x142.size a := fun v7 v202 k0_hw85 => k0_hw85

def k0_chk86 (v61 : IVec S16 32) (v206 : IVec S16 32) : Prop :=
  (∀ a x, ((![v61, v206] : Fin 2 → IVec S16 32) a x).toNat < S8x32.size a)
theorem k0_idx119_inb : ∀ (v61 : IVec S16 32) (v206 : IVec S16 32) (k0_hw86 : k0_chk86 v61 v206), ∀ a x, ((![v61, v206] : Fin 2 → IVec S16 32) a x).toNat < S8x32.size a := fun v61 v206 k0_hw86 => k0_hw86

def k0_chk87 (v7 : IVec S16 32) (v205 : IVec S16 32) : Prop :=
  (∀ a x, ((![v7, v205] : Fin 2 → IVec S16 32) a x).toNat < S256x142.size a)
theorem k0_idx120_inb : ∀ (v7 : IVec S16 32) (v205 : IVec S16 32) (k0_hw87 : k0_chk87 v7 v205), ∀ a x, ((![v7, v205] : Fin 2 → IVec S16 32) a x).toNat < S256x142.size a := fun v7 v205 k0_hw87 => k0_hw87

def k0_chk88 (v61 : IVec S16 32) (v209 : IVec S16 32) : Prop :=
  (∀ a x, ((![v61, v209] : Fin 2 → IVec S16 32) a x).toNat < S8x32.size a)
theorem k0_idx121_inb : ∀ (v61 : IVec S16 32) (v209 : IVec S16 32) (k0_hw88 : k0_chk88 v61 v209), ∀ a x, ((![v61, v209] : Fin 2 → IVec S16 32) a x).toNat < S8x32.size a := fun v61 v209 k0_hw88 => k0_hw88

def k0_chk89 (v7 : IVec S16 32) (v208 : IVec S16 32) : Prop :=
  (∀ a x, ((![v7, v208] : Fin 2 → IVec S16 32) a x).toNat < S256x142.size a)
theorem k0_idx122_inb : ∀ (v7 : IVec S16 32) (v208 : IVec S16 32) (k0_hw89 : k0_chk89 v7 v208), ∀ a x, ((![v7, v208] : Fin 2 → IVec S16 32) a x).toNat < S256x142.size a := fun v7 v208 k0_hw89 => k0_hw89

def k0_chk90 (v61 : IVec S16 32) (v212 : IVec S16 32) : Prop :=
  (∀ a x, ((![v61, v212] : Fin 2 → IVec S16 32) a x).toNat < S8x32.size a)
theorem k0_idx123_inb : ∀ (v61 : IVec S16 32) (v212 : IVec S16 32) (k0_hw90 : k0_chk90 v61 v212), ∀ a x, ((![v61, v212] : Fin 2 → IVec S16 32) a x).toNat < S8x32.size a := fun v61 v212 k0_hw90 => k0_hw90

def k0_chk91 (v7 : IVec S16 32) (v211 : IVec S16 32) : Prop :=
  (∀ a x, ((![v7, v211] : Fin 2 → IVec S16 32) a x).toNat < S256x142.size a)
theorem k0_idx124_inb : ∀ (v7 : IVec S16 32) (v211 : IVec S16 32) (k0_hw91 : k0_chk91 v7 v211), ∀ a x, ((![v7, v211] : Fin 2 → IVec S16 32) a x).toNat < S256x142.size a := fun v7 v211 k0_hw91 => k0_hw91

def k0_chk92 (v61 : IVec S16 32) (v215 : IVec S16 32) : Prop :=
  (∀ a x, ((![v61, v215] : Fin 2 → IVec S16 32) a x).toNat < S8x32.size a)
theorem k0_idx125_inb : ∀ (v61 : IVec S16 32) (v215 : IVec S16 32) (k0_hw92 : k0_chk92 v61 v215), ∀ a x, ((![v61, v215] : Fin 2 → IVec S16 32) a x).toNat < S8x32.size a := fun v61 v215 k0_hw92 => k0_hw92

def k0_chk93 (v7 : IVec S16 32) (v214 : IVec S16 32) : Prop :=
  (∀ a x, ((![v7, v214] : Fin 2 → IVec S16 32) a x).toNat < S256x142.size a)
theorem k0_idx126_inb : ∀ (v7 : IVec S16 32) (v214 : IVec S16 32) (k0_hw93 : k0_chk93 v7 v214), ∀ a x, ((![v7, v214] : Fin 2 → IVec S16 32) a x).toNat < S256x142.size a := fun v7 v214 k0_hw93 => k0_hw93

def k0_chk94 (v61 : IVec S16 32) (v218 : IVec S16 32) : Prop :=
  (∀ a x, ((![v61, v218] : Fin 2 → IVec S16 32) a x).toNat < S8x32.size a)
theorem k0_idx127_inb : ∀ (v61 : IVec S16 32) (v218 : IVec S16 32) (k0_hw94 : k0_chk94 v61 v218), ∀ a x, ((![v61, v218] : Fin 2 → IVec S16 32) a x).toNat < S8x32.size a := fun v61 v218 k0_hw94 => k0_hw94

def k0_chk95 (v7 : IVec S16 32) (v217 : IVec S16 32) : Prop :=
  (∀ a x, ((![v7, v217] : Fin 2 → IVec S16 32) a x).toNat < S256x142.size a)
theorem k0_idx128_inb : ∀ (v7 : IVec S16 32) (v217 : IVec S16 32) (k0_hw95 : k0_chk95 v7 v217), ∀ a x, ((![v7, v217] : Fin 2 → IVec S16 32) a x).toNat < S256x142.size a := fun v7 v217 k0_hw95 => k0_hw95

def k0_chk96 (v61 : IVec S16 32) (v221 : IVec S16 32) : Prop :=
  (∀ a x, ((![v61, v221] : Fin 2 → IVec S16 32) a x).toNat < S8x32.size a)
theorem k0_idx129_inb : ∀ (v61 : IVec S16 32) (v221 : IVec S16 32) (k0_hw96 : k0_chk96 v61 v221), ∀ a x, ((![v61, v221] : Fin 2 → IVec S16 32) a x).toNat < S8x32.size a := fun v61 v221 k0_hw96 => k0_hw96

def k0_chk97 (v7 : IVec S16 32) (v220 : IVec S16 32) : Prop :=
  (∀ a x, ((![v7, v220] : Fin 2 → IVec S16 32) a x).toNat < S256x142.size a)
theorem k0_idx130_inb : ∀ (v7 : IVec S16 32) (v220 : IVec S16 32) (k0_hw97 : k0_chk97 v7 v220), ∀ a x, ((![v7, v220] : Fin 2 → IVec S16 32) a x).toNat < S256x142.size a := fun v7 v220 k0_hw97 => k0_hw97

def k0_chk98 (v61 : IVec S16 32) (v224 : IVec S16 32) : Prop :=
  (∀ a x, ((![v61, v224] : Fin 2 → IVec S16 32) a x).toNat < S8x32.size a)
theorem k0_idx131_inb : ∀ (v61 : IVec S16 32) (v224 : IVec S16 32) (k0_hw98 : k0_chk98 v61 v224), ∀ a x, ((![v61, v224] : Fin 2 → IVec S16 32) a x).toNat < S8x32.size a := fun v61 v224 k0_hw98 => k0_hw98

def k0_chk99 (v7 : IVec S16 32) (v223 : IVec S16 32) : Prop :=
  (∀ a x, ((![v7, v223] : Fin 2 → IVec S16 32) a x).toNat < S256x142.size a)
theorem k0_idx132_inb : ∀ (v7 : IVec S16 32) (v223 : IVec S16 32) (k0_hw99 : k0_chk99 v7 v223), ∀ a x, ((![v7, v223] : Fin 2 → IVec S16 32) a x).toNat < S256x142.size a := fun v7 v223 k0_hw99 => k0_hw99

def k0_chk100 (v61 : IVec S16 32) (v227 : IVec S16 32) : Prop :=
  (∀ a x, ((![v61, v227] : Fin 2 → IVec S16 32) a x).toNat < S8x32.size a)
theorem k0_idx133_inb : ∀ (v61 : IVec S16 32) (v227 : IVec S16 32) (k0_hw100 : k0_chk100 v61 v227), ∀ a x, ((![v61, v227] : Fin 2 → IVec S16 32) a x).toNat < S8x32.size a := fun v61 v227 k0_hw100 => k0_hw100

def k0_chk101 (v7 : IVec S16 32) (v226 : IVec S16 32) : Prop :=
  (∀ a x, ((![v7, v226] : Fin 2 → IVec S16 32) a x).toNat < S256x142.size a)
theorem k0_idx134_inb : ∀ (v7 : IVec S16 32) (v226 : IVec S16 32) (k0_hw101 : k0_chk101 v7 v226), ∀ a x, ((![v7, v226] : Fin 2 → IVec S16 32) a x).toNat < S256x142.size a := fun v7 v226 k0_hw101 => k0_hw101

def k0_chk102 (v61 : IVec S16 32) (v230 : IVec S16 32) : Prop :=
  (∀ a x, ((![v61, v230] : Fin 2 → IVec S16 32) a x).toNat < S8x32.size a)
theorem k0_idx135_inb : ∀ (v61 : IVec S16 32) (v230 : IVec S16 32) (k0_hw102 : k0_chk102 v61 v230), ∀ a x, ((![v61, v230] : Fin 2 → IVec S16 32) a x).toNat < S8x32.size a := fun v61 v230 k0_hw102 => k0_hw102

def k0_chk103 (v7 : IVec S16 32) (v229 : IVec S16 32) : Prop :=
  (∀ a x, ((![v7, v229] : Fin 2 → IVec S16 32) a x).toNat < S256x142.size a)
theorem k0_idx136_inb : ∀ (v7 : IVec S16 32) (v229 : IVec S16 32) (k0_hw103 : k0_chk103 v7 v229), ∀ a x, ((![v7, v229] : Fin 2 → IVec S16 32) a x).toNat < S256x142.size a := fun v7 v229 k0_hw103 => k0_hw103

def k0_chk104 (v61 : IVec S16 32) (v233 : IVec S16 32) : Prop :=
  (∀ a x, ((![v61, v233] : Fin 2 → IVec S16 32) a x).toNat < S8x32.size a)
theorem k0_idx137_inb : ∀ (v61 : IVec S16 32) (v233 : IVec S16 32) (k0_hw104 : k0_chk104 v61 v233), ∀ a x, ((![v61, v233] : Fin 2 → IVec S16 32) a x).toNat < S8x32.size a := fun v61 v233 k0_hw104 => k0_hw104

def k0_chk105 (v7 : IVec S16 32) (v232 : IVec S16 32) : Prop :=
  (∀ a x, ((![v7, v232] : Fin 2 → IVec S16 32) a x).toNat < S256x142.size a)
theorem k0_idx138_inb : ∀ (v7 : IVec S16 32) (v232 : IVec S16 32) (k0_hw105 : k0_chk105 v7 v232), ∀ a x, ((![v7, v232] : Fin 2 → IVec S16 32) a x).toNat < S256x142.size a := fun v7 v232 k0_hw105 => k0_hw105

def k0_chk106 (v61 : IVec S16 32) (v236 : IVec S16 32) : Prop :=
  (∀ a x, ((![v61, v236] : Fin 2 → IVec S16 32) a x).toNat < S8x32.size a)
theorem k0_idx139_inb : ∀ (v61 : IVec S16 32) (v236 : IVec S16 32) (k0_hw106 : k0_chk106 v61 v236), ∀ a x, ((![v61, v236] : Fin 2 → IVec S16 32) a x).toNat < S8x32.size a := fun v61 v236 k0_hw106 => k0_hw106

def k0_chk107 (v7 : IVec S16 32) (v235 : IVec S16 32) : Prop :=
  (∀ a x, ((![v7, v235] : Fin 2 → IVec S16 32) a x).toNat < S256x142.size a)
theorem k0_idx140_inb : ∀ (v7 : IVec S16 32) (v235 : IVec S16 32) (k0_hw107 : k0_chk107 v7 v235), ∀ a x, ((![v7, v235] : Fin 2 → IVec S16 32) a x).toNat < S256x142.size a := fun v7 v235 k0_hw107 => k0_hw107

def k0_chk108 (v61 : IVec S16 32) (v239 : IVec S16 32) : Prop :=
  (∀ a x, ((![v61, v239] : Fin 2 → IVec S16 32) a x).toNat < S8x32.size a)
theorem k0_idx141_inb : ∀ (v61 : IVec S16 32) (v239 : IVec S16 32) (k0_hw108 : k0_chk108 v61 v239), ∀ a x, ((![v61, v239] : Fin 2 → IVec S16 32) a x).toNat < S8x32.size a := fun v61 v239 k0_hw108 => k0_hw108

def k0_chk109 (v7 : IVec S16 32) (v238 : IVec S16 32) : Prop :=
  (∀ a x, ((![v7, v238] : Fin 2 → IVec S16 32) a x).toNat < S256x142.size a)
theorem k0_idx142_inb : ∀ (v7 : IVec S16 32) (v238 : IVec S16 32) (k0_hw109 : k0_chk109 v7 v238), ∀ a x, ((![v7, v238] : Fin 2 → IVec S16 32) a x).toNat < S256x142.size a := fun v7 v238 k0_hw109 => k0_hw109

def k0_chk110 (v61 : IVec S16 32) (v242 : IVec S16 32) : Prop :=
  (∀ a x, ((![v61, v242] : Fin 2 → IVec S16 32) a x).toNat < S8x32.size a)
theorem k0_idx143_inb : ∀ (v61 : IVec S16 32) (v242 : IVec S16 32) (k0_hw110 : k0_chk110 v61 v242), ∀ a x, ((![v61, v242] : Fin 2 → IVec S16 32) a x).toNat < S8x32.size a := fun v61 v242 k0_hw110 => k0_hw110

def k0_chk111 (v7 : IVec S16 32) (v241 : IVec S16 32) : Prop :=
  (∀ a x, ((![v7, v241] : Fin 2 → IVec S16 32) a x).toNat < S256x142.size a)
theorem k0_idx144_inb : ∀ (v7 : IVec S16 32) (v241 : IVec S16 32) (k0_hw111 : k0_chk111 v7 v241), ∀ a x, ((![v7, v241] : Fin 2 → IVec S16 32) a x).toNat < S256x142.size a := fun v7 v241 k0_hw111 => k0_hw111

def k0_chk112 (v61 : IVec S16 32) (v245 : IVec S16 32) : Prop :=
  (∀ a x, ((![v61, v245] : Fin 2 → IVec S16 32) a x).toNat < S8x32.size a)
theorem k0_idx145_inb : ∀ (v61 : IVec S16 32) (v245 : IVec S16 32) (k0_hw112 : k0_chk112 v61 v245), ∀ a x, ((![v61, v245] : Fin 2 → IVec S16 32) a x).toNat < S8x32.size a := fun v61 v245 k0_hw112 => k0_hw112

def k0_chk113 (v7 : IVec S16 32) (v244 : IVec S16 32) : Prop :=
  (∀ a x, ((![v7, v244] : Fin 2 → IVec S16 32) a x).toNat < S256x142.size a)
theorem k0_idx146_inb : ∀ (v7 : IVec S16 32) (v244 : IVec S16 32) (k0_hw113 : k0_chk113 v7 v244), ∀ a x, ((![v7, v244] : Fin 2 → IVec S16 32) a x).toNat < S256x142.size a := fun v7 v244 k0_hw113 => k0_hw113

def k0_chk114 (v61 : IVec S16 32) (v248 : IVec S16 32) : Prop :=
  (∀ a x, ((![v61, v248] : Fin 2 → IVec S16 32) a x).toNat < S8x32.size a)
theorem k0_idx147_inb : ∀ (v61 : IVec S16 32) (v248 : IVec S16 32) (k0_hw114 : k0_chk114 v61 v248), ∀ a x, ((![v61, v248] : Fin 2 → IVec S16 32) a x).toNat < S8x32.size a := fun v61 v248 k0_hw114 => k0_hw114

def k0_chk115 (v7 : IVec S16 32) (v247 : IVec S16 32) : Prop :=
  (∀ a x, ((![v7, v247] : Fin 2 → IVec S16 32) a x).toNat < S256x142.size a)
theorem k0_idx148_inb : ∀ (v7 : IVec S16 32) (v247 : IVec S16 32) (k0_hw115 : k0_chk115 v7 v247), ∀ a x, ((![v7, v247] : Fin 2 → IVec S16 32) a x).toNat < S256x142.size a := fun v7 v247 k0_hw115 => k0_hw115

def k0_chk116 (v61 : IVec S16 32) (v251 : IVec S16 32) : Prop :=
  (∀ a x, ((![v61, v251] : Fin 2 → IVec S16 32) a x).toNat < S8x32.size a)
theorem k0_idx149_inb : ∀ (v61 : IVec S16 32) (v251 : IVec S16 32) (k0_hw116 : k0_chk116 v61 v251), ∀ a x, ((![v61, v251] : Fin 2 → IVec S16 32) a x).toNat < S8x32.size a := fun v61 v251 k0_hw116 => k0_hw116

def k0_chk117 (v7 : IVec S16 32) (v250 : IVec S16 32) : Prop :=
  (∀ a x, ((![v7, v250] : Fin 2 → IVec S16 32) a x).toNat < S256x142.size a)
theorem k0_idx150_inb : ∀ (v7 : IVec S16 32) (v250 : IVec S16 32) (k0_hw117 : k0_chk117 v7 v250), ∀ a x, ((![v7, v250] : Fin 2 → IVec S16 32) a x).toNat < S256x142.size a := fun v7 v250 k0_hw117 => k0_hw117

def k0_chk118 (v61 : IVec S16 32) (v254 : IVec S16 32) : Prop :=
  (∀ a x, ((![v61, v254] : Fin 2 → IVec S16 32) a x).toNat < S8x32.size a)
theorem k0_idx151_inb : ∀ (v61 : IVec S16 32) (v254 : IVec S16 32) (k0_hw118 : k0_chk118 v61 v254), ∀ a x, ((![v61, v254] : Fin 2 → IVec S16 32) a x).toNat < S8x32.size a := fun v61 v254 k0_hw118 => k0_hw118

def k0_chk119 (v7 : IVec S16 32) (v253 : IVec S16 32) : Prop :=
  (∀ a x, ((![v7, v253] : Fin 2 → IVec S16 32) a x).toNat < S256x142.size a)
theorem k0_idx152_inb : ∀ (v7 : IVec S16 32) (v253 : IVec S16 32) (k0_hw119 : k0_chk119 v7 v253), ∀ a x, ((![v7, v253] : Fin 2 → IVec S16 32) a x).toNat < S256x142.size a := fun v7 v253 k0_hw119 => k0_hw119

def k0_chk120 (v61 : IVec S16 32) (v257 : IVec S16 32) : Prop :=
  (∀ a x, ((![v61, v257] : Fin 2 → IVec S16 32) a x).toNat < S8x32.size a)
theorem k0_idx153_inb : ∀ (v61 : IVec S16 32) (v257 : IVec S16 32) (k0_hw120 : k0_chk120 v61 v257), ∀ a x, ((![v61, v257] : Fin 2 → IVec S16 32) a x).toNat < S8x32.size a := fun v61 v257 k0_hw120 => k0_hw120

def k0_chk121 (v7 : IVec S16 32) (v256 : IVec S16 32) : Prop :=
  (∀ a x, ((![v7, v256] : Fin 2 → IVec S16 32) a x).toNat < S256x142.size a)
theorem k0_idx154_inb : ∀ (v7 : IVec S16 32) (v256 : IVec S16 32) (k0_hw121 : k0_chk121 v7 v256), ∀ a x, ((![v7, v256] : Fin 2 → IVec S16 32) a x).toNat < S256x142.size a := fun v7 v256 k0_hw121 => k0_hw121

def k0_chk122 (v61 : IVec S16 32) (v260 : IVec S16 32) : Prop :=
  (∀ a x, ((![v61, v260] : Fin 2 → IVec S16 32) a x).toNat < S8x32.size a)
theorem k0_idx155_inb : ∀ (v61 : IVec S16 32) (v260 : IVec S16 32) (k0_hw122 : k0_chk122 v61 v260), ∀ a x, ((![v61, v260] : Fin 2 → IVec S16 32) a x).toNat < S8x32.size a := fun v61 v260 k0_hw122 => k0_hw122

def k0_chk123 (v7 : IVec S16 32) (v259 : IVec S16 32) : Prop :=
  (∀ a x, ((![v7, v259] : Fin 2 → IVec S16 32) a x).toNat < S256x142.size a)
theorem k0_idx156_inb : ∀ (v7 : IVec S16 32) (v259 : IVec S16 32) (k0_hw123 : k0_chk123 v7 v259), ∀ a x, ((![v7, v259] : Fin 2 → IVec S16 32) a x).toNat < S256x142.size a := fun v7 v259 k0_hw123 => k0_hw123

def k0_chk124 (v61 : IVec S16 32) (v263 : IVec S16 32) : Prop :=
  (∀ a x, ((![v61, v263] : Fin 2 → IVec S16 32) a x).toNat < S8x32.size a)
theorem k0_idx157_inb : ∀ (v61 : IVec S16 32) (v263 : IVec S16 32) (k0_hw124 : k0_chk124 v61 v263), ∀ a x, ((![v61, v263] : Fin 2 → IVec S16 32) a x).toNat < S8x32.size a := fun v61 v263 k0_hw124 => k0_hw124

def k0_chk125 (v7 : IVec S16 32) (v262 : IVec S16 32) : Prop :=
  (∀ a x, ((![v7, v262] : Fin 2 → IVec S16 32) a x).toNat < S256x142.size a)
theorem k0_idx158_inb : ∀ (v7 : IVec S16 32) (v262 : IVec S16 32) (k0_hw125 : k0_chk125 v7 v262), ∀ a x, ((![v7, v262] : Fin 2 → IVec S16 32) a x).toNat < S256x142.size a := fun v7 v262 k0_hw125 => k0_hw125

def k0_chk126 (v62 : IVec S16 32) (v266 : IVec S16 32) : Prop :=
  (∀ a x, ((![v62, v266] : Fin 2 → IVec S16 32) a x).toNat < S20x32.size a)
theorem k0_idx159_inb : ∀ (v62 : IVec S16 32) (v266 : IVec S16 32) (k0_hw126 : k0_chk126 v62 v266), ∀ a x, ((![v62, v266] : Fin 2 → IVec S16 32) a x).toNat < S20x32.size a := fun v62 v266 k0_hw126 => k0_hw126

def k0_chk127 (v7 : IVec S16 32) (v265 : IVec S16 32) : Prop :=
  (∀ a x, ((![v7, v265] : Fin 2 → IVec S16 32) a x).toNat < S256x142.size a)
theorem k0_idx160_inb : ∀ (v7 : IVec S16 32) (v265 : IVec S16 32) (k0_hw127 : k0_chk127 v7 v265), ∀ a x, ((![v7, v265] : Fin 2 → IVec S16 32) a x).toNat < S256x142.size a := fun v7 v265 k0_hw127 => k0_hw127

def k0_chk128 (v62 : IVec S16 32) (v269 : IVec S16 32) : Prop :=
  (∀ a x, ((![v62, v269] : Fin 2 → IVec S16 32) a x).toNat < S20x32.size a)
theorem k0_idx161_inb : ∀ (v62 : IVec S16 32) (v269 : IVec S16 32) (k0_hw128 : k0_chk128 v62 v269), ∀ a x, ((![v62, v269] : Fin 2 → IVec S16 32) a x).toNat < S20x32.size a := fun v62 v269 k0_hw128 => k0_hw128

def k0_chk129 (v7 : IVec S16 32) (v268 : IVec S16 32) : Prop :=
  (∀ a x, ((![v7, v268] : Fin 2 → IVec S16 32) a x).toNat < S256x142.size a)
theorem k0_idx162_inb : ∀ (v7 : IVec S16 32) (v268 : IVec S16 32) (k0_hw129 : k0_chk129 v7 v268), ∀ a x, ((![v7, v268] : Fin 2 → IVec S16 32) a x).toNat < S256x142.size a := fun v7 v268 k0_hw129 => k0_hw129

def k0_chk130 (v62 : IVec S16 32) (v272 : IVec S16 32) : Prop :=
  (∀ a x, ((![v62, v272] : Fin 2 → IVec S16 32) a x).toNat < S20x32.size a)
theorem k0_idx163_inb : ∀ (v62 : IVec S16 32) (v272 : IVec S16 32) (k0_hw130 : k0_chk130 v62 v272), ∀ a x, ((![v62, v272] : Fin 2 → IVec S16 32) a x).toNat < S20x32.size a := fun v62 v272 k0_hw130 => k0_hw130

def k0_chk131 (v7 : IVec S16 32) (v271 : IVec S16 32) : Prop :=
  (∀ a x, ((![v7, v271] : Fin 2 → IVec S16 32) a x).toNat < S256x142.size a)
theorem k0_idx164_inb : ∀ (v7 : IVec S16 32) (v271 : IVec S16 32) (k0_hw131 : k0_chk131 v7 v271), ∀ a x, ((![v7, v271] : Fin 2 → IVec S16 32) a x).toNat < S256x142.size a := fun v7 v271 k0_hw131 => k0_hw131

def k0_chk132 (v62 : IVec S16 32) (v275 : IVec S16 32) : Prop :=
  (∀ a x, ((![v62, v275] : Fin 2 → IVec S16 32) a x).toNat < S20x32.size a)
theorem k0_idx165_inb : ∀ (v62 : IVec S16 32) (v275 : IVec S16 32) (k0_hw132 : k0_chk132 v62 v275), ∀ a x, ((![v62, v275] : Fin 2 → IVec S16 32) a x).toNat < S20x32.size a := fun v62 v275 k0_hw132 => k0_hw132

def k0_chk133 (v7 : IVec S16 32) (v274 : IVec S16 32) : Prop :=
  (∀ a x, ((![v7, v274] : Fin 2 → IVec S16 32) a x).toNat < S256x142.size a)
theorem k0_idx166_inb : ∀ (v7 : IVec S16 32) (v274 : IVec S16 32) (k0_hw133 : k0_chk133 v7 v274), ∀ a x, ((![v7, v274] : Fin 2 → IVec S16 32) a x).toNat < S256x142.size a := fun v7 v274 k0_hw133 => k0_hw133

def k0_chk134 (v62 : IVec S16 32) (v278 : IVec S16 32) : Prop :=
  (∀ a x, ((![v62, v278] : Fin 2 → IVec S16 32) a x).toNat < S20x32.size a)
theorem k0_idx167_inb : ∀ (v62 : IVec S16 32) (v278 : IVec S16 32) (k0_hw134 : k0_chk134 v62 v278), ∀ a x, ((![v62, v278] : Fin 2 → IVec S16 32) a x).toNat < S20x32.size a := fun v62 v278 k0_hw134 => k0_hw134

def k0_chk135 (v7 : IVec S16 32) (v277 : IVec S16 32) : Prop :=
  (∀ a x, ((![v7, v277] : Fin 2 → IVec S16 32) a x).toNat < S256x142.size a)
theorem k0_idx168_inb : ∀ (v7 : IVec S16 32) (v277 : IVec S16 32) (k0_hw135 : k0_chk135 v7 v277), ∀ a x, ((![v7, v277] : Fin 2 → IVec S16 32) a x).toNat < S256x142.size a := fun v7 v277 k0_hw135 => k0_hw135

def k0_chk136 (v62 : IVec S16 32) (v281 : IVec S16 32) : Prop :=
  (∀ a x, ((![v62, v281] : Fin 2 → IVec S16 32) a x).toNat < S20x32.size a)
theorem k0_idx169_inb : ∀ (v62 : IVec S16 32) (v281 : IVec S16 32) (k0_hw136 : k0_chk136 v62 v281), ∀ a x, ((![v62, v281] : Fin 2 → IVec S16 32) a x).toNat < S20x32.size a := fun v62 v281 k0_hw136 => k0_hw136

def k0_chk137 (v7 : IVec S16 32) (v280 : IVec S16 32) : Prop :=
  (∀ a x, ((![v7, v280] : Fin 2 → IVec S16 32) a x).toNat < S256x142.size a)
theorem k0_idx170_inb : ∀ (v7 : IVec S16 32) (v280 : IVec S16 32) (k0_hw137 : k0_chk137 v7 v280), ∀ a x, ((![v7, v280] : Fin 2 → IVec S16 32) a x).toNat < S256x142.size a := fun v7 v280 k0_hw137 => k0_hw137

def k0_chk138 (v62 : IVec S16 32) (v284 : IVec S16 32) : Prop :=
  (∀ a x, ((![v62, v284] : Fin 2 → IVec S16 32) a x).toNat < S20x32.size a)
theorem k0_idx171_inb : ∀ (v62 : IVec S16 32) (v284 : IVec S16 32) (k0_hw138 : k0_chk138 v62 v284), ∀ a x, ((![v62, v284] : Fin 2 → IVec S16 32) a x).toNat < S20x32.size a := fun v62 v284 k0_hw138 => k0_hw138

def k0_chk139 (v7 : IVec S16 32) (v283 : IVec S16 32) : Prop :=
  (∀ a x, ((![v7, v283] : Fin 2 → IVec S16 32) a x).toNat < S256x142.size a)
theorem k0_idx172_inb : ∀ (v7 : IVec S16 32) (v283 : IVec S16 32) (k0_hw139 : k0_chk139 v7 v283), ∀ a x, ((![v7, v283] : Fin 2 → IVec S16 32) a x).toNat < S256x142.size a := fun v7 v283 k0_hw139 => k0_hw139

def k0_chk140 (v62 : IVec S16 32) (v287 : IVec S16 32) : Prop :=
  (∀ a x, ((![v62, v287] : Fin 2 → IVec S16 32) a x).toNat < S20x32.size a)
theorem k0_idx173_inb : ∀ (v62 : IVec S16 32) (v287 : IVec S16 32) (k0_hw140 : k0_chk140 v62 v287), ∀ a x, ((![v62, v287] : Fin 2 → IVec S16 32) a x).toNat < S20x32.size a := fun v62 v287 k0_hw140 => k0_hw140

def k0_chk141 (v7 : IVec S16 32) (v286 : IVec S16 32) : Prop :=
  (∀ a x, ((![v7, v286] : Fin 2 → IVec S16 32) a x).toNat < S256x142.size a)
theorem k0_idx174_inb : ∀ (v7 : IVec S16 32) (v286 : IVec S16 32) (k0_hw141 : k0_chk141 v7 v286), ∀ a x, ((![v7, v286] : Fin 2 → IVec S16 32) a x).toNat < S256x142.size a := fun v7 v286 k0_hw141 => k0_hw141

def k0_chk142 (v62 : IVec S16 32) (v290 : IVec S16 32) : Prop :=
  (∀ a x, ((![v62, v290] : Fin 2 → IVec S16 32) a x).toNat < S20x32.size a)
theorem k0_idx175_inb : ∀ (v62 : IVec S16 32) (v290 : IVec S16 32) (k0_hw142 : k0_chk142 v62 v290), ∀ a x, ((![v62, v290] : Fin 2 → IVec S16 32) a x).toNat < S20x32.size a := fun v62 v290 k0_hw142 => k0_hw142

def k0_chk143 (v7 : IVec S16 32) (v289 : IVec S16 32) : Prop :=
  (∀ a x, ((![v7, v289] : Fin 2 → IVec S16 32) a x).toNat < S256x142.size a)
theorem k0_idx176_inb : ∀ (v7 : IVec S16 32) (v289 : IVec S16 32) (k0_hw143 : k0_chk143 v7 v289), ∀ a x, ((![v7, v289] : Fin 2 → IVec S16 32) a x).toNat < S256x142.size a := fun v7 v289 k0_hw143 => k0_hw143

def k0_chk144 (v62 : IVec S16 32) (v293 : IVec S16 32) : Prop :=
  (∀ a x, ((![v62, v293] : Fin 2 → IVec S16 32) a x).toNat < S20x32.size a)
theorem k0_idx177_inb : ∀ (v62 : IVec S16 32) (v293 : IVec S16 32) (k0_hw144 : k0_chk144 v62 v293), ∀ a x, ((![v62, v293] : Fin 2 → IVec S16 32) a x).toNat < S20x32.size a := fun v62 v293 k0_hw144 => k0_hw144

def k0_chk145 (v7 : IVec S16 32) (v292 : IVec S16 32) : Prop :=
  (∀ a x, ((![v7, v292] : Fin 2 → IVec S16 32) a x).toNat < S256x142.size a)
theorem k0_idx178_inb : ∀ (v7 : IVec S16 32) (v292 : IVec S16 32) (k0_hw145 : k0_chk145 v7 v292), ∀ a x, ((![v7, v292] : Fin 2 → IVec S16 32) a x).toNat < S256x142.size a := fun v7 v292 k0_hw145 => k0_hw145

def k0_chk146 (v62 : IVec S16 32) (v296 : IVec S16 32) : Prop :=
  (∀ a x, ((![v62, v296] : Fin 2 → IVec S16 32) a x).toNat < S20x32.size a)
theorem k0_idx179_inb : ∀ (v62 : IVec S16 32) (v296 : IVec S16 32) (k0_hw146 : k0_chk146 v62 v296), ∀ a x, ((![v62, v296] : Fin 2 → IVec S16 32) a x).toNat < S20x32.size a := fun v62 v296 k0_hw146 => k0_hw146

def k0_chk147 (v7 : IVec S16 32) (v295 : IVec S16 32) : Prop :=
  (∀ a x, ((![v7, v295] : Fin 2 → IVec S16 32) a x).toNat < S256x142.size a)
theorem k0_idx180_inb : ∀ (v7 : IVec S16 32) (v295 : IVec S16 32) (k0_hw147 : k0_chk147 v7 v295), ∀ a x, ((![v7, v295] : Fin 2 → IVec S16 32) a x).toNat < S256x142.size a := fun v7 v295 k0_hw147 => k0_hw147

def k0_chk148 (v62 : IVec S16 32) (v299 : IVec S16 32) : Prop :=
  (∀ a x, ((![v62, v299] : Fin 2 → IVec S16 32) a x).toNat < S20x32.size a)
theorem k0_idx181_inb : ∀ (v62 : IVec S16 32) (v299 : IVec S16 32) (k0_hw148 : k0_chk148 v62 v299), ∀ a x, ((![v62, v299] : Fin 2 → IVec S16 32) a x).toNat < S20x32.size a := fun v62 v299 k0_hw148 => k0_hw148

def k0_chk149 (v7 : IVec S16 32) (v298 : IVec S16 32) : Prop :=
  (∀ a x, ((![v7, v298] : Fin 2 → IVec S16 32) a x).toNat < S256x142.size a)
theorem k0_idx182_inb : ∀ (v7 : IVec S16 32) (v298 : IVec S16 32) (k0_hw149 : k0_chk149 v7 v298), ∀ a x, ((![v7, v298] : Fin 2 → IVec S16 32) a x).toNat < S256x142.size a := fun v7 v298 k0_hw149 => k0_hw149

def k0_chk150 (v62 : IVec S16 32) (v302 : IVec S16 32) : Prop :=
  (∀ a x, ((![v62, v302] : Fin 2 → IVec S16 32) a x).toNat < S20x32.size a)
theorem k0_idx183_inb : ∀ (v62 : IVec S16 32) (v302 : IVec S16 32) (k0_hw150 : k0_chk150 v62 v302), ∀ a x, ((![v62, v302] : Fin 2 → IVec S16 32) a x).toNat < S20x32.size a := fun v62 v302 k0_hw150 => k0_hw150

def k0_chk151 (v7 : IVec S16 32) (v301 : IVec S16 32) : Prop :=
  (∀ a x, ((![v7, v301] : Fin 2 → IVec S16 32) a x).toNat < S256x142.size a)
theorem k0_idx184_inb : ∀ (v7 : IVec S16 32) (v301 : IVec S16 32) (k0_hw151 : k0_chk151 v7 v301), ∀ a x, ((![v7, v301] : Fin 2 → IVec S16 32) a x).toNat < S256x142.size a := fun v7 v301 k0_hw151 => k0_hw151

def k0_chk152 (v62 : IVec S16 32) (v305 : IVec S16 32) : Prop :=
  (∀ a x, ((![v62, v305] : Fin 2 → IVec S16 32) a x).toNat < S20x32.size a)
theorem k0_idx185_inb : ∀ (v62 : IVec S16 32) (v305 : IVec S16 32) (k0_hw152 : k0_chk152 v62 v305), ∀ a x, ((![v62, v305] : Fin 2 → IVec S16 32) a x).toNat < S20x32.size a := fun v62 v305 k0_hw152 => k0_hw152

def k0_chk153 (v7 : IVec S16 32) (v304 : IVec S16 32) : Prop :=
  (∀ a x, ((![v7, v304] : Fin 2 → IVec S16 32) a x).toNat < S256x142.size a)
theorem k0_idx186_inb : ∀ (v7 : IVec S16 32) (v304 : IVec S16 32) (k0_hw153 : k0_chk153 v7 v304), ∀ a x, ((![v7, v304] : Fin 2 → IVec S16 32) a x).toNat < S256x142.size a := fun v7 v304 k0_hw153 => k0_hw153

def k0_chk154 (v62 : IVec S16 32) (v308 : IVec S16 32) : Prop :=
  (∀ a x, ((![v62, v308] : Fin 2 → IVec S16 32) a x).toNat < S20x32.size a)
theorem k0_idx187_inb : ∀ (v62 : IVec S16 32) (v308 : IVec S16 32) (k0_hw154 : k0_chk154 v62 v308), ∀ a x, ((![v62, v308] : Fin 2 → IVec S16 32) a x).toNat < S20x32.size a := fun v62 v308 k0_hw154 => k0_hw154

def k0_chk155 (v7 : IVec S16 32) (v307 : IVec S16 32) : Prop :=
  (∀ a x, ((![v7, v307] : Fin 2 → IVec S16 32) a x).toNat < S256x142.size a)
theorem k0_idx188_inb : ∀ (v7 : IVec S16 32) (v307 : IVec S16 32) (k0_hw155 : k0_chk155 v7 v307), ∀ a x, ((![v7, v307] : Fin 2 → IVec S16 32) a x).toNat < S256x142.size a := fun v7 v307 k0_hw155 => k0_hw155

def k0_chk156 (v62 : IVec S16 32) (v311 : IVec S16 32) : Prop :=
  (∀ a x, ((![v62, v311] : Fin 2 → IVec S16 32) a x).toNat < S20x32.size a)
theorem k0_idx189_inb : ∀ (v62 : IVec S16 32) (v311 : IVec S16 32) (k0_hw156 : k0_chk156 v62 v311), ∀ a x, ((![v62, v311] : Fin 2 → IVec S16 32) a x).toNat < S20x32.size a := fun v62 v311 k0_hw156 => k0_hw156

def k0_chk157 (v7 : IVec S16 32) (v310 : IVec S16 32) : Prop :=
  (∀ a x, ((![v7, v310] : Fin 2 → IVec S16 32) a x).toNat < S256x142.size a)
theorem k0_idx190_inb : ∀ (v7 : IVec S16 32) (v310 : IVec S16 32) (k0_hw157 : k0_chk157 v7 v310), ∀ a x, ((![v7, v310] : Fin 2 → IVec S16 32) a x).toNat < S256x142.size a := fun v7 v310 k0_hw157 => k0_hw157

def k0_chk158 (v62 : IVec S16 32) (v314 : IVec S16 32) : Prop :=
  (∀ a x, ((![v62, v314] : Fin 2 → IVec S16 32) a x).toNat < S20x32.size a)
theorem k0_idx191_inb : ∀ (v62 : IVec S16 32) (v314 : IVec S16 32) (k0_hw158 : k0_chk158 v62 v314), ∀ a x, ((![v62, v314] : Fin 2 → IVec S16 32) a x).toNat < S20x32.size a := fun v62 v314 k0_hw158 => k0_hw158

def k0_chk159 (v7 : IVec S16 32) (v313 : IVec S16 32) : Prop :=
  (∀ a x, ((![v7, v313] : Fin 2 → IVec S16 32) a x).toNat < S256x142.size a)
theorem k0_idx192_inb : ∀ (v7 : IVec S16 32) (v313 : IVec S16 32) (k0_hw159 : k0_chk159 v7 v313), ∀ a x, ((![v7, v313] : Fin 2 → IVec S16 32) a x).toNat < S256x142.size a := fun v7 v313 k0_hw159 => k0_hw159

def k0_chk160 (v62 : IVec S16 32) (v317 : IVec S16 32) : Prop :=
  (∀ a x, ((![v62, v317] : Fin 2 → IVec S16 32) a x).toNat < S20x32.size a)
theorem k0_idx193_inb : ∀ (v62 : IVec S16 32) (v317 : IVec S16 32) (k0_hw160 : k0_chk160 v62 v317), ∀ a x, ((![v62, v317] : Fin 2 → IVec S16 32) a x).toNat < S20x32.size a := fun v62 v317 k0_hw160 => k0_hw160

def k0_chk161 (v7 : IVec S16 32) (v316 : IVec S16 32) : Prop :=
  (∀ a x, ((![v7, v316] : Fin 2 → IVec S16 32) a x).toNat < S256x142.size a)
theorem k0_idx194_inb : ∀ (v7 : IVec S16 32) (v316 : IVec S16 32) (k0_hw161 : k0_chk161 v7 v316), ∀ a x, ((![v7, v316] : Fin 2 → IVec S16 32) a x).toNat < S256x142.size a := fun v7 v316 k0_hw161 => k0_hw161

def k0_chk162 (v62 : IVec S16 32) (v320 : IVec S16 32) : Prop :=
  (∀ a x, ((![v62, v320] : Fin 2 → IVec S16 32) a x).toNat < S20x32.size a)
theorem k0_idx195_inb : ∀ (v62 : IVec S16 32) (v320 : IVec S16 32) (k0_hw162 : k0_chk162 v62 v320), ∀ a x, ((![v62, v320] : Fin 2 → IVec S16 32) a x).toNat < S20x32.size a := fun v62 v320 k0_hw162 => k0_hw162

def k0_chk163 (v7 : IVec S16 32) (v319 : IVec S16 32) : Prop :=
  (∀ a x, ((![v7, v319] : Fin 2 → IVec S16 32) a x).toNat < S256x142.size a)
theorem k0_idx196_inb : ∀ (v7 : IVec S16 32) (v319 : IVec S16 32) (k0_hw163 : k0_chk163 v7 v319), ∀ a x, ((![v7, v319] : Fin 2 → IVec S16 32) a x).toNat < S256x142.size a := fun v7 v319 k0_hw163 => k0_hw163

def k0_chk164 (v62 : IVec S16 32) (v323 : IVec S16 32) : Prop :=
  (∀ a x, ((![v62, v323] : Fin 2 → IVec S16 32) a x).toNat < S20x32.size a)
theorem k0_idx197_inb : ∀ (v62 : IVec S16 32) (v323 : IVec S16 32) (k0_hw164 : k0_chk164 v62 v323), ∀ a x, ((![v62, v323] : Fin 2 → IVec S16 32) a x).toNat < S20x32.size a := fun v62 v323 k0_hw164 => k0_hw164

def k0_chk165 (v7 : IVec S16 32) (v322 : IVec S16 32) : Prop :=
  (∀ a x, ((![v7, v322] : Fin 2 → IVec S16 32) a x).toNat < S256x142.size a)
theorem k0_idx198_inb : ∀ (v7 : IVec S16 32) (v322 : IVec S16 32) (k0_hw165 : k0_chk165 v7 v322), ∀ a x, ((![v7, v322] : Fin 2 → IVec S16 32) a x).toNat < S256x142.size a := fun v7 v322 k0_hw165 => k0_hw165

def k0_chk166 (v62 : IVec S16 32) (v326 : IVec S16 32) : Prop :=
  (∀ a x, ((![v62, v326] : Fin 2 → IVec S16 32) a x).toNat < S20x32.size a)
theorem k0_idx199_inb : ∀ (v62 : IVec S16 32) (v326 : IVec S16 32) (k0_hw166 : k0_chk166 v62 v326), ∀ a x, ((![v62, v326] : Fin 2 → IVec S16 32) a x).toNat < S20x32.size a := fun v62 v326 k0_hw166 => k0_hw166

def k0_chk167 (v7 : IVec S16 32) (v325 : IVec S16 32) : Prop :=
  (∀ a x, ((![v7, v325] : Fin 2 → IVec S16 32) a x).toNat < S256x142.size a)
theorem k0_idx200_inb : ∀ (v7 : IVec S16 32) (v325 : IVec S16 32) (k0_hw167 : k0_chk167 v7 v325), ∀ a x, ((![v7, v325] : Fin 2 → IVec S16 32) a x).toNat < S256x142.size a := fun v7 v325 k0_hw167 => k0_hw167

def k0_chk168 (v62 : IVec S16 32) (v329 : IVec S16 32) : Prop :=
  (∀ a x, ((![v62, v329] : Fin 2 → IVec S16 32) a x).toNat < S20x32.size a)
theorem k0_idx201_inb : ∀ (v62 : IVec S16 32) (v329 : IVec S16 32) (k0_hw168 : k0_chk168 v62 v329), ∀ a x, ((![v62, v329] : Fin 2 → IVec S16 32) a x).toNat < S20x32.size a := fun v62 v329 k0_hw168 => k0_hw168

def k0_chk169 (v7 : IVec S16 32) (v328 : IVec S16 32) : Prop :=
  (∀ a x, ((![v7, v328] : Fin 2 → IVec S16 32) a x).toNat < S256x142.size a)
theorem k0_idx202_inb : ∀ (v7 : IVec S16 32) (v328 : IVec S16 32) (k0_hw169 : k0_chk169 v7 v328), ∀ a x, ((![v7, v328] : Fin 2 → IVec S16 32) a x).toNat < S256x142.size a := fun v7 v328 k0_hw169 => k0_hw169

def k0_chk170 (v62 : IVec S16 32) (v332 : IVec S16 32) : Prop :=
  (∀ a x, ((![v62, v332] : Fin 2 → IVec S16 32) a x).toNat < S20x32.size a)
theorem k0_idx203_inb : ∀ (v62 : IVec S16 32) (v332 : IVec S16 32) (k0_hw170 : k0_chk170 v62 v332), ∀ a x, ((![v62, v332] : Fin 2 → IVec S16 32) a x).toNat < S20x32.size a := fun v62 v332 k0_hw170 => k0_hw170

def k0_chk171 (v7 : IVec S16 32) (v331 : IVec S16 32) : Prop :=
  (∀ a x, ((![v7, v331] : Fin 2 → IVec S16 32) a x).toNat < S256x142.size a)
theorem k0_idx204_inb : ∀ (v7 : IVec S16 32) (v331 : IVec S16 32) (k0_hw171 : k0_chk171 v7 v331), ∀ a x, ((![v7, v331] : Fin 2 → IVec S16 32) a x).toNat < S256x142.size a := fun v7 v331 k0_hw171 => k0_hw171

def k0_chk172 (v62 : IVec S16 32) (v335 : IVec S16 32) : Prop :=
  (∀ a x, ((![v62, v335] : Fin 2 → IVec S16 32) a x).toNat < S20x32.size a)
theorem k0_idx205_inb : ∀ (v62 : IVec S16 32) (v335 : IVec S16 32) (k0_hw172 : k0_chk172 v62 v335), ∀ a x, ((![v62, v335] : Fin 2 → IVec S16 32) a x).toNat < S20x32.size a := fun v62 v335 k0_hw172 => k0_hw172

def k0_chk173 (v7 : IVec S16 32) (v334 : IVec S16 32) : Prop :=
  (∀ a x, ((![v7, v334] : Fin 2 → IVec S16 32) a x).toNat < S256x142.size a)
theorem k0_idx206_inb : ∀ (v7 : IVec S16 32) (v334 : IVec S16 32) (k0_hw173 : k0_chk173 v7 v334), ∀ a x, ((![v7, v334] : Fin 2 → IVec S16 32) a x).toNat < S256x142.size a := fun v7 v334 k0_hw173 => k0_hw173

def k0_chk174 (v62 : IVec S16 32) (v338 : IVec S16 32) : Prop :=
  (∀ a x, ((![v62, v338] : Fin 2 → IVec S16 32) a x).toNat < S20x32.size a)
theorem k0_idx207_inb : ∀ (v62 : IVec S16 32) (v338 : IVec S16 32) (k0_hw174 : k0_chk174 v62 v338), ∀ a x, ((![v62, v338] : Fin 2 → IVec S16 32) a x).toNat < S20x32.size a := fun v62 v338 k0_hw174 => k0_hw174

def k0_chk175 (v7 : IVec S16 32) (v337 : IVec S16 32) : Prop :=
  (∀ a x, ((![v7, v337] : Fin 2 → IVec S16 32) a x).toNat < S256x142.size a)
theorem k0_idx208_inb : ∀ (v7 : IVec S16 32) (v337 : IVec S16 32) (k0_hw175 : k0_chk175 v7 v337), ∀ a x, ((![v7, v337] : Fin 2 → IVec S16 32) a x).toNat < S256x142.size a := fun v7 v337 k0_hw175 => k0_hw175

def k0_chk176 (v62 : IVec S16 32) (v341 : IVec S16 32) : Prop :=
  (∀ a x, ((![v62, v341] : Fin 2 → IVec S16 32) a x).toNat < S20x32.size a)
theorem k0_idx209_inb : ∀ (v62 : IVec S16 32) (v341 : IVec S16 32) (k0_hw176 : k0_chk176 v62 v341), ∀ a x, ((![v62, v341] : Fin 2 → IVec S16 32) a x).toNat < S20x32.size a := fun v62 v341 k0_hw176 => k0_hw176

def k0_chk177 (v7 : IVec S16 32) (v340 : IVec S16 32) : Prop :=
  (∀ a x, ((![v7, v340] : Fin 2 → IVec S16 32) a x).toNat < S256x142.size a)
theorem k0_idx210_inb : ∀ (v7 : IVec S16 32) (v340 : IVec S16 32) (k0_hw177 : k0_chk177 v7 v340), ∀ a x, ((![v7, v340] : Fin 2 → IVec S16 32) a x).toNat < S256x142.size a := fun v7 v340 k0_hw177 => k0_hw177

def k0_chk178 (v62 : IVec S16 32) (v344 : IVec S16 32) : Prop :=
  (∀ a x, ((![v62, v344] : Fin 2 → IVec S16 32) a x).toNat < S20x32.size a)
theorem k0_idx211_inb : ∀ (v62 : IVec S16 32) (v344 : IVec S16 32) (k0_hw178 : k0_chk178 v62 v344), ∀ a x, ((![v62, v344] : Fin 2 → IVec S16 32) a x).toNat < S20x32.size a := fun v62 v344 k0_hw178 => k0_hw178

def k0_chk179 (v7 : IVec S16 32) (v343 : IVec S16 32) : Prop :=
  (∀ a x, ((![v7, v343] : Fin 2 → IVec S16 32) a x).toNat < S256x142.size a)
theorem k0_idx212_inb : ∀ (v7 : IVec S16 32) (v343 : IVec S16 32) (k0_hw179 : k0_chk179 v7 v343), ∀ a x, ((![v7, v343] : Fin 2 → IVec S16 32) a x).toNat < S256x142.size a := fun v7 v343 k0_hw179 => k0_hw179

def k0_chk180 (v62 : IVec S16 32) (v347 : IVec S16 32) : Prop :=
  (∀ a x, ((![v62, v347] : Fin 2 → IVec S16 32) a x).toNat < S20x32.size a)
theorem k0_idx213_inb : ∀ (v62 : IVec S16 32) (v347 : IVec S16 32) (k0_hw180 : k0_chk180 v62 v347), ∀ a x, ((![v62, v347] : Fin 2 → IVec S16 32) a x).toNat < S20x32.size a := fun v62 v347 k0_hw180 => k0_hw180

def k0_chk181 (v7 : IVec S16 32) (v346 : IVec S16 32) : Prop :=
  (∀ a x, ((![v7, v346] : Fin 2 → IVec S16 32) a x).toNat < S256x142.size a)
theorem k0_idx214_inb : ∀ (v7 : IVec S16 32) (v346 : IVec S16 32) (k0_hw181 : k0_chk181 v7 v346), ∀ a x, ((![v7, v346] : Fin 2 → IVec S16 32) a x).toNat < S256x142.size a := fun v7 v346 k0_hw181 => k0_hw181

def k0_chk182 (v62 : IVec S16 32) (v350 : IVec S16 32) : Prop :=
  (∀ a x, ((![v62, v350] : Fin 2 → IVec S16 32) a x).toNat < S20x32.size a)
theorem k0_idx215_inb : ∀ (v62 : IVec S16 32) (v350 : IVec S16 32) (k0_hw182 : k0_chk182 v62 v350), ∀ a x, ((![v62, v350] : Fin 2 → IVec S16 32) a x).toNat < S20x32.size a := fun v62 v350 k0_hw182 => k0_hw182

def k0_chk183 (v7 : IVec S16 32) (v349 : IVec S16 32) : Prop :=
  (∀ a x, ((![v7, v349] : Fin 2 → IVec S16 32) a x).toNat < S256x142.size a)
theorem k0_idx216_inb : ∀ (v7 : IVec S16 32) (v349 : IVec S16 32) (k0_hw183 : k0_chk183 v7 v349), ∀ a x, ((![v7, v349] : Fin 2 → IVec S16 32) a x).toNat < S256x142.size a := fun v7 v349 k0_hw183 => k0_hw183

def k0_chk184 (v62 : IVec S16 32) (v353 : IVec S16 32) : Prop :=
  (∀ a x, ((![v62, v353] : Fin 2 → IVec S16 32) a x).toNat < S20x32.size a)
theorem k0_idx217_inb : ∀ (v62 : IVec S16 32) (v353 : IVec S16 32) (k0_hw184 : k0_chk184 v62 v353), ∀ a x, ((![v62, v353] : Fin 2 → IVec S16 32) a x).toNat < S20x32.size a := fun v62 v353 k0_hw184 => k0_hw184

def k0_chk185 (v7 : IVec S16 32) (v352 : IVec S16 32) : Prop :=
  (∀ a x, ((![v7, v352] : Fin 2 → IVec S16 32) a x).toNat < S256x142.size a)
theorem k0_idx218_inb : ∀ (v7 : IVec S16 32) (v352 : IVec S16 32) (k0_hw185 : k0_chk185 v7 v352), ∀ a x, ((![v7, v352] : Fin 2 → IVec S16 32) a x).toNat < S256x142.size a := fun v7 v352 k0_hw185 => k0_hw185

def k0_chk186 (v62 : IVec S16 32) (v356 : IVec S16 32) : Prop :=
  (∀ a x, ((![v62, v356] : Fin 2 → IVec S16 32) a x).toNat < S20x32.size a)
theorem k0_idx219_inb : ∀ (v62 : IVec S16 32) (v356 : IVec S16 32) (k0_hw186 : k0_chk186 v62 v356), ∀ a x, ((![v62, v356] : Fin 2 → IVec S16 32) a x).toNat < S20x32.size a := fun v62 v356 k0_hw186 => k0_hw186

def k0_chk187 (v7 : IVec S16 32) (v355 : IVec S16 32) : Prop :=
  (∀ a x, ((![v7, v355] : Fin 2 → IVec S16 32) a x).toNat < S256x142.size a)
theorem k0_idx220_inb : ∀ (v7 : IVec S16 32) (v355 : IVec S16 32) (k0_hw187 : k0_chk187 v7 v355), ∀ a x, ((![v7, v355] : Fin 2 → IVec S16 32) a x).toNat < S256x142.size a := fun v7 v355 k0_hw187 => k0_hw187

def k0_chk188 (v62 : IVec S16 32) (v359 : IVec S16 32) : Prop :=
  (∀ a x, ((![v62, v359] : Fin 2 → IVec S16 32) a x).toNat < S20x32.size a)
theorem k0_idx221_inb : ∀ (v62 : IVec S16 32) (v359 : IVec S16 32) (k0_hw188 : k0_chk188 v62 v359), ∀ a x, ((![v62, v359] : Fin 2 → IVec S16 32) a x).toNat < S20x32.size a := fun v62 v359 k0_hw188 => k0_hw188

def k0_chk189 (v7 : IVec S16 32) (v358 : IVec S16 32) : Prop :=
  (∀ a x, ((![v7, v358] : Fin 2 → IVec S16 32) a x).toNat < S256x142.size a)
theorem k0_idx222_inb : ∀ (v7 : IVec S16 32) (v358 : IVec S16 32) (k0_hw189 : k0_chk189 v7 v358), ∀ a x, ((![v7, v358] : Fin 2 → IVec S16 32) a x).toNat < S256x142.size a := fun v7 v358 k0_hw189 => k0_hw189

def k0_chk190 (v60 : IVec S16 32) (v362 : IVec S16 32) : Prop :=
  (∀ a x, ((![v60, v362] : Fin 2 → IVec S16 32) a x).toNat < S3x32.size a)
theorem k0_idx223_inb : ∀ (v60 : IVec S16 32) (v362 : IVec S16 32) (k0_hw190 : k0_chk190 v60 v362), ∀ a x, ((![v60, v362] : Fin 2 → IVec S16 32) a x).toNat < S3x32.size a := fun v60 v362 k0_hw190 => k0_hw190

def k0_chk191 (v7 : IVec S16 32) (v361 : IVec S16 32) : Prop :=
  (∀ a x, ((![v7, v361] : Fin 2 → IVec S16 32) a x).toNat < S256x142.size a)
theorem k0_idx224_inb : ∀ (v7 : IVec S16 32) (v361 : IVec S16 32) (k0_hw191 : k0_chk191 v7 v361), ∀ a x, ((![v7, v361] : Fin 2 → IVec S16 32) a x).toNat < S256x142.size a := fun v7 v361 k0_hw191 => k0_hw191

def k0_chk192 (v60 : IVec S16 32) (v365 : IVec S16 32) : Prop :=
  (∀ a x, ((![v60, v365] : Fin 2 → IVec S16 32) a x).toNat < S3x32.size a)
theorem k0_idx225_inb : ∀ (v60 : IVec S16 32) (v365 : IVec S16 32) (k0_hw192 : k0_chk192 v60 v365), ∀ a x, ((![v60, v365] : Fin 2 → IVec S16 32) a x).toNat < S3x32.size a := fun v60 v365 k0_hw192 => k0_hw192

def k0_chk193 (v7 : IVec S16 32) (v364 : IVec S16 32) : Prop :=
  (∀ a x, ((![v7, v364] : Fin 2 → IVec S16 32) a x).toNat < S256x142.size a)
theorem k0_idx226_inb : ∀ (v7 : IVec S16 32) (v364 : IVec S16 32) (k0_hw193 : k0_chk193 v7 v364), ∀ a x, ((![v7, v364] : Fin 2 → IVec S16 32) a x).toNat < S256x142.size a := fun v7 v364 k0_hw193 => k0_hw193

def k0_chk194 (v60 : IVec S16 32) (v368 : IVec S16 32) : Prop :=
  (∀ a x, ((![v60, v368] : Fin 2 → IVec S16 32) a x).toNat < S3x32.size a)
theorem k0_idx227_inb : ∀ (v60 : IVec S16 32) (v368 : IVec S16 32) (k0_hw194 : k0_chk194 v60 v368), ∀ a x, ((![v60, v368] : Fin 2 → IVec S16 32) a x).toNat < S3x32.size a := fun v60 v368 k0_hw194 => k0_hw194

def k0_chk195 (v7 : IVec S16 32) (v367 : IVec S16 32) : Prop :=
  (∀ a x, ((![v7, v367] : Fin 2 → IVec S16 32) a x).toNat < S256x142.size a)
theorem k0_idx228_inb : ∀ (v7 : IVec S16 32) (v367 : IVec S16 32) (k0_hw195 : k0_chk195 v7 v367), ∀ a x, ((![v7, v367] : Fin 2 → IVec S16 32) a x).toNat < S256x142.size a := fun v7 v367 k0_hw195 => k0_hw195

def k0_chk196 (v60 : IVec S16 32) (v371 : IVec S16 32) : Prop :=
  (∀ a x, ((![v60, v371] : Fin 2 → IVec S16 32) a x).toNat < S3x32.size a)
theorem k0_idx229_inb : ∀ (v60 : IVec S16 32) (v371 : IVec S16 32) (k0_hw196 : k0_chk196 v60 v371), ∀ a x, ((![v60, v371] : Fin 2 → IVec S16 32) a x).toNat < S3x32.size a := fun v60 v371 k0_hw196 => k0_hw196

def k0_chk197 (v7 : IVec S16 32) (v370 : IVec S16 32) : Prop :=
  (∀ a x, ((![v7, v370] : Fin 2 → IVec S16 32) a x).toNat < S256x142.size a)
theorem k0_idx230_inb : ∀ (v7 : IVec S16 32) (v370 : IVec S16 32) (k0_hw197 : k0_chk197 v7 v370), ∀ a x, ((![v7, v370] : Fin 2 → IVec S16 32) a x).toNat < S256x142.size a := fun v7 v370 k0_hw197 => k0_hw197

def k0_chk198 (v60 : IVec S16 32) (v374 : IVec S16 32) : Prop :=
  (∀ a x, ((![v60, v374] : Fin 2 → IVec S16 32) a x).toNat < S3x32.size a)
theorem k0_idx231_inb : ∀ (v60 : IVec S16 32) (v374 : IVec S16 32) (k0_hw198 : k0_chk198 v60 v374), ∀ a x, ((![v60, v374] : Fin 2 → IVec S16 32) a x).toNat < S3x32.size a := fun v60 v374 k0_hw198 => k0_hw198

def k0_chk199 (v7 : IVec S16 32) (v373 : IVec S16 32) : Prop :=
  (∀ a x, ((![v7, v373] : Fin 2 → IVec S16 32) a x).toNat < S256x142.size a)
theorem k0_idx232_inb : ∀ (v7 : IVec S16 32) (v373 : IVec S16 32) (k0_hw199 : k0_chk199 v7 v373), ∀ a x, ((![v7, v373] : Fin 2 → IVec S16 32) a x).toNat < S256x142.size a := fun v7 v373 k0_hw199 => k0_hw199

def k0_chk200 (v60 : IVec S16 32) (v377 : IVec S16 32) : Prop :=
  (∀ a x, ((![v60, v377] : Fin 2 → IVec S16 32) a x).toNat < S3x32.size a)
theorem k0_idx233_inb : ∀ (v60 : IVec S16 32) (v377 : IVec S16 32) (k0_hw200 : k0_chk200 v60 v377), ∀ a x, ((![v60, v377] : Fin 2 → IVec S16 32) a x).toNat < S3x32.size a := fun v60 v377 k0_hw200 => k0_hw200

def k0_chk201 (v7 : IVec S16 32) (v376 : IVec S16 32) : Prop :=
  (∀ a x, ((![v7, v376] : Fin 2 → IVec S16 32) a x).toNat < S256x142.size a)
theorem k0_idx234_inb : ∀ (v7 : IVec S16 32) (v376 : IVec S16 32) (k0_hw201 : k0_chk201 v7 v376), ∀ a x, ((![v7, v376] : Fin 2 → IVec S16 32) a x).toNat < S256x142.size a := fun v7 v376 k0_hw201 => k0_hw201

def k0_chk202 (v60 : IVec S16 32) (v380 : IVec S16 32) : Prop :=
  (∀ a x, ((![v60, v380] : Fin 2 → IVec S16 32) a x).toNat < S3x32.size a)
theorem k0_idx235_inb : ∀ (v60 : IVec S16 32) (v380 : IVec S16 32) (k0_hw202 : k0_chk202 v60 v380), ∀ a x, ((![v60, v380] : Fin 2 → IVec S16 32) a x).toNat < S3x32.size a := fun v60 v380 k0_hw202 => k0_hw202

def k0_chk203 (v7 : IVec S16 32) (v379 : IVec S16 32) : Prop :=
  (∀ a x, ((![v7, v379] : Fin 2 → IVec S16 32) a x).toNat < S256x142.size a)
theorem k0_idx236_inb : ∀ (v7 : IVec S16 32) (v379 : IVec S16 32) (k0_hw203 : k0_chk203 v7 v379), ∀ a x, ((![v7, v379] : Fin 2 → IVec S16 32) a x).toNat < S256x142.size a := fun v7 v379 k0_hw203 => k0_hw203

def k0_chk204 (v60 : IVec S16 32) (v383 : IVec S16 32) : Prop :=
  (∀ a x, ((![v60, v383] : Fin 2 → IVec S16 32) a x).toNat < S3x32.size a)
theorem k0_idx237_inb : ∀ (v60 : IVec S16 32) (v383 : IVec S16 32) (k0_hw204 : k0_chk204 v60 v383), ∀ a x, ((![v60, v383] : Fin 2 → IVec S16 32) a x).toNat < S3x32.size a := fun v60 v383 k0_hw204 => k0_hw204

def k0_chk205 (v7 : IVec S16 32) (v382 : IVec S16 32) : Prop :=
  (∀ a x, ((![v7, v382] : Fin 2 → IVec S16 32) a x).toNat < S256x142.size a)
theorem k0_idx238_inb : ∀ (v7 : IVec S16 32) (v382 : IVec S16 32) (k0_hw205 : k0_chk205 v7 v382), ∀ a x, ((![v7, v382] : Fin 2 → IVec S16 32) a x).toNat < S256x142.size a := fun v7 v382 k0_hw205 => k0_hw205

def k0_chk206 (v60 : IVec S16 32) (v386 : IVec S16 32) : Prop :=
  (∀ a x, ((![v60, v386] : Fin 2 → IVec S16 32) a x).toNat < S3x32.size a)
theorem k0_idx239_inb : ∀ (v60 : IVec S16 32) (v386 : IVec S16 32) (k0_hw206 : k0_chk206 v60 v386), ∀ a x, ((![v60, v386] : Fin 2 → IVec S16 32) a x).toNat < S3x32.size a := fun v60 v386 k0_hw206 => k0_hw206

def k0_chk207 (v7 : IVec S16 32) (v385 : IVec S16 32) : Prop :=
  (∀ a x, ((![v7, v385] : Fin 2 → IVec S16 32) a x).toNat < S256x142.size a)
theorem k0_idx240_inb : ∀ (v7 : IVec S16 32) (v385 : IVec S16 32) (k0_hw207 : k0_chk207 v7 v385), ∀ a x, ((![v7, v385] : Fin 2 → IVec S16 32) a x).toNat < S256x142.size a := fun v7 v385 k0_hw207 => k0_hw207

def k0_chk208 (v60 : IVec S16 32) (v389 : IVec S16 32) : Prop :=
  (∀ a x, ((![v60, v389] : Fin 2 → IVec S16 32) a x).toNat < S3x32.size a)
theorem k0_idx241_inb : ∀ (v60 : IVec S16 32) (v389 : IVec S16 32) (k0_hw208 : k0_chk208 v60 v389), ∀ a x, ((![v60, v389] : Fin 2 → IVec S16 32) a x).toNat < S3x32.size a := fun v60 v389 k0_hw208 => k0_hw208

def k0_chk209 (v7 : IVec S16 32) (v388 : IVec S16 32) : Prop :=
  (∀ a x, ((![v7, v388] : Fin 2 → IVec S16 32) a x).toNat < S256x142.size a)
theorem k0_idx242_inb : ∀ (v7 : IVec S16 32) (v388 : IVec S16 32) (k0_hw209 : k0_chk209 v7 v388), ∀ a x, ((![v7, v388] : Fin 2 → IVec S16 32) a x).toNat < S256x142.size a := fun v7 v388 k0_hw209 => k0_hw209

def k0_chk210 (v60 : IVec S16 32) (v392 : IVec S16 32) : Prop :=
  (∀ a x, ((![v60, v392] : Fin 2 → IVec S16 32) a x).toNat < S3x32.size a)
theorem k0_idx243_inb : ∀ (v60 : IVec S16 32) (v392 : IVec S16 32) (k0_hw210 : k0_chk210 v60 v392), ∀ a x, ((![v60, v392] : Fin 2 → IVec S16 32) a x).toNat < S3x32.size a := fun v60 v392 k0_hw210 => k0_hw210

def k0_chk211 (v7 : IVec S16 32) (v391 : IVec S16 32) : Prop :=
  (∀ a x, ((![v7, v391] : Fin 2 → IVec S16 32) a x).toNat < S256x142.size a)
theorem k0_idx244_inb : ∀ (v7 : IVec S16 32) (v391 : IVec S16 32) (k0_hw211 : k0_chk211 v7 v391), ∀ a x, ((![v7, v391] : Fin 2 → IVec S16 32) a x).toNat < S256x142.size a := fun v7 v391 k0_hw211 => k0_hw211

def k0_chk212 (v60 : IVec S16 32) (v395 : IVec S16 32) : Prop :=
  (∀ a x, ((![v60, v395] : Fin 2 → IVec S16 32) a x).toNat < S3x32.size a)
theorem k0_idx245_inb : ∀ (v60 : IVec S16 32) (v395 : IVec S16 32) (k0_hw212 : k0_chk212 v60 v395), ∀ a x, ((![v60, v395] : Fin 2 → IVec S16 32) a x).toNat < S3x32.size a := fun v60 v395 k0_hw212 => k0_hw212

def k0_chk213 (v7 : IVec S16 32) (v394 : IVec S16 32) : Prop :=
  (∀ a x, ((![v7, v394] : Fin 2 → IVec S16 32) a x).toNat < S256x142.size a)
theorem k0_idx246_inb : ∀ (v7 : IVec S16 32) (v394 : IVec S16 32) (k0_hw213 : k0_chk213 v7 v394), ∀ a x, ((![v7, v394] : Fin 2 → IVec S16 32) a x).toNat < S256x142.size a := fun v7 v394 k0_hw213 => k0_hw213

def k0_chk214 (v60 : IVec S16 32) (v398 : IVec S16 32) : Prop :=
  (∀ a x, ((![v60, v398] : Fin 2 → IVec S16 32) a x).toNat < S3x32.size a)
theorem k0_idx247_inb : ∀ (v60 : IVec S16 32) (v398 : IVec S16 32) (k0_hw214 : k0_chk214 v60 v398), ∀ a x, ((![v60, v398] : Fin 2 → IVec S16 32) a x).toNat < S3x32.size a := fun v60 v398 k0_hw214 => k0_hw214

def k0_chk215 (v7 : IVec S16 32) (v397 : IVec S16 32) : Prop :=
  (∀ a x, ((![v7, v397] : Fin 2 → IVec S16 32) a x).toNat < S256x142.size a)
theorem k0_idx248_inb : ∀ (v7 : IVec S16 32) (v397 : IVec S16 32) (k0_hw215 : k0_chk215 v7 v397), ∀ a x, ((![v7, v397] : Fin 2 → IVec S16 32) a x).toNat < S256x142.size a := fun v7 v397 k0_hw215 => k0_hw215

def k0_chk216 (v60 : IVec S16 32) (v401 : IVec S16 32) : Prop :=
  (∀ a x, ((![v60, v401] : Fin 2 → IVec S16 32) a x).toNat < S3x32.size a)
theorem k0_idx249_inb : ∀ (v60 : IVec S16 32) (v401 : IVec S16 32) (k0_hw216 : k0_chk216 v60 v401), ∀ a x, ((![v60, v401] : Fin 2 → IVec S16 32) a x).toNat < S3x32.size a := fun v60 v401 k0_hw216 => k0_hw216

def k0_chk217 (v7 : IVec S16 32) (v400 : IVec S16 32) : Prop :=
  (∀ a x, ((![v7, v400] : Fin 2 → IVec S16 32) a x).toNat < S256x142.size a)
theorem k0_idx250_inb : ∀ (v7 : IVec S16 32) (v400 : IVec S16 32) (k0_hw217 : k0_chk217 v7 v400), ∀ a x, ((![v7, v400] : Fin 2 → IVec S16 32) a x).toNat < S256x142.size a := fun v7 v400 k0_hw217 => k0_hw217

def k0_chk218 (v60 : IVec S16 32) (v404 : IVec S16 32) : Prop :=
  (∀ a x, ((![v60, v404] : Fin 2 → IVec S16 32) a x).toNat < S3x32.size a)
theorem k0_idx251_inb : ∀ (v60 : IVec S16 32) (v404 : IVec S16 32) (k0_hw218 : k0_chk218 v60 v404), ∀ a x, ((![v60, v404] : Fin 2 → IVec S16 32) a x).toNat < S3x32.size a := fun v60 v404 k0_hw218 => k0_hw218

def k0_chk219 (v7 : IVec S16 32) (v403 : IVec S16 32) : Prop :=
  (∀ a x, ((![v7, v403] : Fin 2 → IVec S16 32) a x).toNat < S256x142.size a)
theorem k0_idx252_inb : ∀ (v7 : IVec S16 32) (v403 : IVec S16 32) (k0_hw219 : k0_chk219 v7 v403), ∀ a x, ((![v7, v403] : Fin 2 → IVec S16 32) a x).toNat < S256x142.size a := fun v7 v403 k0_hw219 => k0_hw219

def k0_chk220 (v60 : IVec S16 32) (v407 : IVec S16 32) : Prop :=
  (∀ a x, ((![v60, v407] : Fin 2 → IVec S16 32) a x).toNat < S3x32.size a)
theorem k0_idx253_inb : ∀ (v60 : IVec S16 32) (v407 : IVec S16 32) (k0_hw220 : k0_chk220 v60 v407), ∀ a x, ((![v60, v407] : Fin 2 → IVec S16 32) a x).toNat < S3x32.size a := fun v60 v407 k0_hw220 => k0_hw220

def k0_chk221 (v7 : IVec S16 32) (v406 : IVec S16 32) : Prop :=
  (∀ a x, ((![v7, v406] : Fin 2 → IVec S16 32) a x).toNat < S256x142.size a)
theorem k0_idx254_inb : ∀ (v7 : IVec S16 32) (v406 : IVec S16 32) (k0_hw221 : k0_chk221 v7 v406), ∀ a x, ((![v7, v406] : Fin 2 → IVec S16 32) a x).toNat < S256x142.size a := fun v7 v406 k0_hw221 => k0_hw221

def k0_chk222 (v60 : IVec S16 32) (v410 : IVec S16 32) : Prop :=
  (∀ a x, ((![v60, v410] : Fin 2 → IVec S16 32) a x).toNat < S3x32.size a)
theorem k0_idx255_inb : ∀ (v60 : IVec S16 32) (v410 : IVec S16 32) (k0_hw222 : k0_chk222 v60 v410), ∀ a x, ((![v60, v410] : Fin 2 → IVec S16 32) a x).toNat < S3x32.size a := fun v60 v410 k0_hw222 => k0_hw222

def k0_chk223 (v7 : IVec S16 32) (v409 : IVec S16 32) : Prop :=
  (∀ a x, ((![v7, v409] : Fin 2 → IVec S16 32) a x).toNat < S256x142.size a)
theorem k0_idx256_inb : ∀ (v7 : IVec S16 32) (v409 : IVec S16 32) (k0_hw223 : k0_chk223 v7 v409), ∀ a x, ((![v7, v409] : Fin 2 → IVec S16 32) a x).toNat < S256x142.size a := fun v7 v409 k0_hw223 => k0_hw223

def k0_chk224 (v60 : IVec S16 32) (v413 : IVec S16 32) : Prop :=
  (∀ a x, ((![v60, v413] : Fin 2 → IVec S16 32) a x).toNat < S3x32.size a)
theorem k0_idx257_inb : ∀ (v60 : IVec S16 32) (v413 : IVec S16 32) (k0_hw224 : k0_chk224 v60 v413), ∀ a x, ((![v60, v413] : Fin 2 → IVec S16 32) a x).toNat < S3x32.size a := fun v60 v413 k0_hw224 => k0_hw224

def k0_chk225 (v7 : IVec S16 32) (v412 : IVec S16 32) : Prop :=
  (∀ a x, ((![v7, v412] : Fin 2 → IVec S16 32) a x).toNat < S256x142.size a)
theorem k0_idx258_inb : ∀ (v7 : IVec S16 32) (v412 : IVec S16 32) (k0_hw225 : k0_chk225 v7 v412), ∀ a x, ((![v7, v412] : Fin 2 → IVec S16 32) a x).toNat < S256x142.size a := fun v7 v412 k0_hw225 => k0_hw225

def k0_chk226 (v60 : IVec S16 32) (v416 : IVec S16 32) : Prop :=
  (∀ a x, ((![v60, v416] : Fin 2 → IVec S16 32) a x).toNat < S3x32.size a)
theorem k0_idx259_inb : ∀ (v60 : IVec S16 32) (v416 : IVec S16 32) (k0_hw226 : k0_chk226 v60 v416), ∀ a x, ((![v60, v416] : Fin 2 → IVec S16 32) a x).toNat < S3x32.size a := fun v60 v416 k0_hw226 => k0_hw226

def k0_chk227 (v7 : IVec S16 32) (v415 : IVec S16 32) : Prop :=
  (∀ a x, ((![v7, v415] : Fin 2 → IVec S16 32) a x).toNat < S256x142.size a)
theorem k0_idx260_inb : ∀ (v7 : IVec S16 32) (v415 : IVec S16 32) (k0_hw227 : k0_chk227 v7 v415), ∀ a x, ((![v7, v415] : Fin 2 → IVec S16 32) a x).toNat < S256x142.size a := fun v7 v415 k0_hw227 => k0_hw227

def k0_chk228 (v60 : IVec S16 32) (v419 : IVec S16 32) : Prop :=
  (∀ a x, ((![v60, v419] : Fin 2 → IVec S16 32) a x).toNat < S3x32.size a)
theorem k0_idx261_inb : ∀ (v60 : IVec S16 32) (v419 : IVec S16 32) (k0_hw228 : k0_chk228 v60 v419), ∀ a x, ((![v60, v419] : Fin 2 → IVec S16 32) a x).toNat < S3x32.size a := fun v60 v419 k0_hw228 => k0_hw228

def k0_chk229 (v7 : IVec S16 32) (v418 : IVec S16 32) : Prop :=
  (∀ a x, ((![v7, v418] : Fin 2 → IVec S16 32) a x).toNat < S256x142.size a)
theorem k0_idx262_inb : ∀ (v7 : IVec S16 32) (v418 : IVec S16 32) (k0_hw229 : k0_chk229 v7 v418), ∀ a x, ((![v7, v418] : Fin 2 → IVec S16 32) a x).toNat < S256x142.size a := fun v7 v418 k0_hw229 => k0_hw229

def k0_chk230 (v60 : IVec S16 32) (v422 : IVec S16 32) : Prop :=
  (∀ a x, ((![v60, v422] : Fin 2 → IVec S16 32) a x).toNat < S3x32.size a)
theorem k0_idx263_inb : ∀ (v60 : IVec S16 32) (v422 : IVec S16 32) (k0_hw230 : k0_chk230 v60 v422), ∀ a x, ((![v60, v422] : Fin 2 → IVec S16 32) a x).toNat < S3x32.size a := fun v60 v422 k0_hw230 => k0_hw230

def k0_chk231 (v7 : IVec S16 32) (v421 : IVec S16 32) : Prop :=
  (∀ a x, ((![v7, v421] : Fin 2 → IVec S16 32) a x).toNat < S256x142.size a)
theorem k0_idx264_inb : ∀ (v7 : IVec S16 32) (v421 : IVec S16 32) (k0_hw231 : k0_chk231 v7 v421), ∀ a x, ((![v7, v421] : Fin 2 → IVec S16 32) a x).toNat < S256x142.size a := fun v7 v421 k0_hw231 => k0_hw231

def k0_chk232 (v60 : IVec S16 32) (v425 : IVec S16 32) : Prop :=
  (∀ a x, ((![v60, v425] : Fin 2 → IVec S16 32) a x).toNat < S3x32.size a)
theorem k0_idx265_inb : ∀ (v60 : IVec S16 32) (v425 : IVec S16 32) (k0_hw232 : k0_chk232 v60 v425), ∀ a x, ((![v60, v425] : Fin 2 → IVec S16 32) a x).toNat < S3x32.size a := fun v60 v425 k0_hw232 => k0_hw232

def k0_chk233 (v7 : IVec S16 32) (v424 : IVec S16 32) : Prop :=
  (∀ a x, ((![v7, v424] : Fin 2 → IVec S16 32) a x).toNat < S256x142.size a)
theorem k0_idx266_inb : ∀ (v7 : IVec S16 32) (v424 : IVec S16 32) (k0_hw233 : k0_chk233 v7 v424), ∀ a x, ((![v7, v424] : Fin 2 → IVec S16 32) a x).toNat < S256x142.size a := fun v7 v424 k0_hw233 => k0_hw233

def k0_chk234 (v60 : IVec S16 32) (v428 : IVec S16 32) : Prop :=
  (∀ a x, ((![v60, v428] : Fin 2 → IVec S16 32) a x).toNat < S3x32.size a)
theorem k0_idx267_inb : ∀ (v60 : IVec S16 32) (v428 : IVec S16 32) (k0_hw234 : k0_chk234 v60 v428), ∀ a x, ((![v60, v428] : Fin 2 → IVec S16 32) a x).toNat < S3x32.size a := fun v60 v428 k0_hw234 => k0_hw234

def k0_chk235 (v7 : IVec S16 32) (v427 : IVec S16 32) : Prop :=
  (∀ a x, ((![v7, v427] : Fin 2 → IVec S16 32) a x).toNat < S256x142.size a)
theorem k0_idx268_inb : ∀ (v7 : IVec S16 32) (v427 : IVec S16 32) (k0_hw235 : k0_chk235 v7 v427), ∀ a x, ((![v7, v427] : Fin 2 → IVec S16 32) a x).toNat < S256x142.size a := fun v7 v427 k0_hw235 => k0_hw235

def k0_chk236 (v60 : IVec S16 32) (v431 : IVec S16 32) : Prop :=
  (∀ a x, ((![v60, v431] : Fin 2 → IVec S16 32) a x).toNat < S3x32.size a)
theorem k0_idx269_inb : ∀ (v60 : IVec S16 32) (v431 : IVec S16 32) (k0_hw236 : k0_chk236 v60 v431), ∀ a x, ((![v60, v431] : Fin 2 → IVec S16 32) a x).toNat < S3x32.size a := fun v60 v431 k0_hw236 => k0_hw236

def k0_chk237 (v7 : IVec S16 32) (v430 : IVec S16 32) : Prop :=
  (∀ a x, ((![v7, v430] : Fin 2 → IVec S16 32) a x).toNat < S256x142.size a)
theorem k0_idx270_inb : ∀ (v7 : IVec S16 32) (v430 : IVec S16 32) (k0_hw237 : k0_chk237 v7 v430), ∀ a x, ((![v7, v430] : Fin 2 → IVec S16 32) a x).toNat < S256x142.size a := fun v7 v430 k0_hw237 => k0_hw237

def k0_chk238 (v60 : IVec S16 32) (v434 : IVec S16 32) : Prop :=
  (∀ a x, ((![v60, v434] : Fin 2 → IVec S16 32) a x).toNat < S3x32.size a)
theorem k0_idx271_inb : ∀ (v60 : IVec S16 32) (v434 : IVec S16 32) (k0_hw238 : k0_chk238 v60 v434), ∀ a x, ((![v60, v434] : Fin 2 → IVec S16 32) a x).toNat < S3x32.size a := fun v60 v434 k0_hw238 => k0_hw238

def k0_chk239 (v7 : IVec S16 32) (v433 : IVec S16 32) : Prop :=
  (∀ a x, ((![v7, v433] : Fin 2 → IVec S16 32) a x).toNat < S256x142.size a)
theorem k0_idx272_inb : ∀ (v7 : IVec S16 32) (v433 : IVec S16 32) (k0_hw239 : k0_chk239 v7 v433), ∀ a x, ((![v7, v433] : Fin 2 → IVec S16 32) a x).toNat < S256x142.size a := fun v7 v433 k0_hw239 => k0_hw239

def k0_chk240 (v60 : IVec S16 32) (v437 : IVec S16 32) : Prop :=
  (∀ a x, ((![v60, v437] : Fin 2 → IVec S16 32) a x).toNat < S3x32.size a)
theorem k0_idx273_inb : ∀ (v60 : IVec S16 32) (v437 : IVec S16 32) (k0_hw240 : k0_chk240 v60 v437), ∀ a x, ((![v60, v437] : Fin 2 → IVec S16 32) a x).toNat < S3x32.size a := fun v60 v437 k0_hw240 => k0_hw240

def k0_chk241 (v7 : IVec S16 32) (v436 : IVec S16 32) : Prop :=
  (∀ a x, ((![v7, v436] : Fin 2 → IVec S16 32) a x).toNat < S256x142.size a)
theorem k0_idx274_inb : ∀ (v7 : IVec S16 32) (v436 : IVec S16 32) (k0_hw241 : k0_chk241 v7 v436), ∀ a x, ((![v7, v436] : Fin 2 → IVec S16 32) a x).toNat < S256x142.size a := fun v7 v436 k0_hw241 => k0_hw241

def k0_chk242 (v60 : IVec S16 32) (v440 : IVec S16 32) : Prop :=
  (∀ a x, ((![v60, v440] : Fin 2 → IVec S16 32) a x).toNat < S3x32.size a)
theorem k0_idx275_inb : ∀ (v60 : IVec S16 32) (v440 : IVec S16 32) (k0_hw242 : k0_chk242 v60 v440), ∀ a x, ((![v60, v440] : Fin 2 → IVec S16 32) a x).toNat < S3x32.size a := fun v60 v440 k0_hw242 => k0_hw242

def k0_chk243 (v7 : IVec S16 32) (v439 : IVec S16 32) : Prop :=
  (∀ a x, ((![v7, v439] : Fin 2 → IVec S16 32) a x).toNat < S256x142.size a)
theorem k0_idx276_inb : ∀ (v7 : IVec S16 32) (v439 : IVec S16 32) (k0_hw243 : k0_chk243 v7 v439), ∀ a x, ((![v7, v439] : Fin 2 → IVec S16 32) a x).toNat < S256x142.size a := fun v7 v439 k0_hw243 => k0_hw243

def k0_chk244 (v60 : IVec S16 32) (v443 : IVec S16 32) : Prop :=
  (∀ a x, ((![v60, v443] : Fin 2 → IVec S16 32) a x).toNat < S3x32.size a)
theorem k0_idx277_inb : ∀ (v60 : IVec S16 32) (v443 : IVec S16 32) (k0_hw244 : k0_chk244 v60 v443), ∀ a x, ((![v60, v443] : Fin 2 → IVec S16 32) a x).toNat < S3x32.size a := fun v60 v443 k0_hw244 => k0_hw244

def k0_chk245 (v7 : IVec S16 32) (v442 : IVec S16 32) : Prop :=
  (∀ a x, ((![v7, v442] : Fin 2 → IVec S16 32) a x).toNat < S256x142.size a)
theorem k0_idx278_inb : ∀ (v7 : IVec S16 32) (v442 : IVec S16 32) (k0_hw245 : k0_chk245 v7 v442), ∀ a x, ((![v7, v442] : Fin 2 → IVec S16 32) a x).toNat < S256x142.size a := fun v7 v442 k0_hw245 => k0_hw245

def k0_chk246 (v60 : IVec S16 32) (v446 : IVec S16 32) : Prop :=
  (∀ a x, ((![v60, v446] : Fin 2 → IVec S16 32) a x).toNat < S3x32.size a)
theorem k0_idx279_inb : ∀ (v60 : IVec S16 32) (v446 : IVec S16 32) (k0_hw246 : k0_chk246 v60 v446), ∀ a x, ((![v60, v446] : Fin 2 → IVec S16 32) a x).toNat < S3x32.size a := fun v60 v446 k0_hw246 => k0_hw246

def k0_chk247 (v7 : IVec S16 32) (v445 : IVec S16 32) : Prop :=
  (∀ a x, ((![v7, v445] : Fin 2 → IVec S16 32) a x).toNat < S256x142.size a)
theorem k0_idx280_inb : ∀ (v7 : IVec S16 32) (v445 : IVec S16 32) (k0_hw247 : k0_chk247 v7 v445), ∀ a x, ((![v7, v445] : Fin 2 → IVec S16 32) a x).toNat < S256x142.size a := fun v7 v445 k0_hw247 => k0_hw247

def k0_chk248 (v60 : IVec S16 32) (v449 : IVec S16 32) : Prop :=
  (∀ a x, ((![v60, v449] : Fin 2 → IVec S16 32) a x).toNat < S3x32.size a)
theorem k0_idx281_inb : ∀ (v60 : IVec S16 32) (v449 : IVec S16 32) (k0_hw248 : k0_chk248 v60 v449), ∀ a x, ((![v60, v449] : Fin 2 → IVec S16 32) a x).toNat < S3x32.size a := fun v60 v449 k0_hw248 => k0_hw248

def k0_chk249 (v7 : IVec S16 32) (v448 : IVec S16 32) : Prop :=
  (∀ a x, ((![v7, v448] : Fin 2 → IVec S16 32) a x).toNat < S256x142.size a)
theorem k0_idx282_inb : ∀ (v7 : IVec S16 32) (v448 : IVec S16 32) (k0_hw249 : k0_chk249 v7 v448), ∀ a x, ((![v7, v448] : Fin 2 → IVec S16 32) a x).toNat < S256x142.size a := fun v7 v448 k0_hw249 => k0_hw249

def k0_chk250 (v60 : IVec S16 32) (v452 : IVec S16 32) : Prop :=
  (∀ a x, ((![v60, v452] : Fin 2 → IVec S16 32) a x).toNat < S3x32.size a)
theorem k0_idx283_inb : ∀ (v60 : IVec S16 32) (v452 : IVec S16 32) (k0_hw250 : k0_chk250 v60 v452), ∀ a x, ((![v60, v452] : Fin 2 → IVec S16 32) a x).toNat < S3x32.size a := fun v60 v452 k0_hw250 => k0_hw250

def k0_chk251 (v7 : IVec S16 32) (v451 : IVec S16 32) : Prop :=
  (∀ a x, ((![v7, v451] : Fin 2 → IVec S16 32) a x).toNat < S256x142.size a)
theorem k0_idx284_inb : ∀ (v7 : IVec S16 32) (v451 : IVec S16 32) (k0_hw251 : k0_chk251 v7 v451), ∀ a x, ((![v7, v451] : Fin 2 → IVec S16 32) a x).toNat < S256x142.size a := fun v7 v451 k0_hw251 => k0_hw251

def k0_chk252 (v60 : IVec S16 32) (v455 : IVec S16 32) : Prop :=
  (∀ a x, ((![v60, v455] : Fin 2 → IVec S16 32) a x).toNat < S3x32.size a)
theorem k0_idx285_inb : ∀ (v60 : IVec S16 32) (v455 : IVec S16 32) (k0_hw252 : k0_chk252 v60 v455), ∀ a x, ((![v60, v455] : Fin 2 → IVec S16 32) a x).toNat < S3x32.size a := fun v60 v455 k0_hw252 => k0_hw252

def k0_chk253 (v7 : IVec S16 32) (v454 : IVec S16 32) : Prop :=
  (∀ a x, ((![v7, v454] : Fin 2 → IVec S16 32) a x).toNat < S256x142.size a)
theorem k0_idx286_inb : ∀ (v7 : IVec S16 32) (v454 : IVec S16 32) (k0_hw253 : k0_chk253 v7 v454), ∀ a x, ((![v7, v454] : Fin 2 → IVec S16 32) a x).toNat < S256x142.size a := fun v7 v454 k0_hw253 => k0_hw253
@[reducible] def k0_t2_loop : Scf.Loop 32 :=
  let c0_i32_3 : BitVec 32 := 0#32
  let c20_i32 : BitVec 32 := 20#32
  let v4 : BitVec 32 := Scalar.addi c0_i32_3 c20_i32
  let c1_i32_4 : BitVec 32 := 1#32
  ⟨c0_i32_3, v4, c1_i32_4⟩
def k0_cond1 (i : grid0.Coords) (k0_t2 : Fin k0_t2_loop.trips) : BitVec 1 :=
  let c0_i32_3 : BitVec 32 := 0#32
  let c1_i32_4 : BitVec 32 := 1#32
  let arg23 : BitVec 32 := Scf.iv c0_i32_3 c1_i32_4 k0_t2
  let c32_i32 : BitVec 32 := 32#32
  let v5 : BitVec 32 := Scalar.muli arg23 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c625_i32 : BitVec 32 := 625#32
  let v7 : BitVec 1 := Scalar.cmpi .slt v6 c625_i32
  let v8 : BitVec 32 := Scalar.extui v7
  let c0_i32_6 : BitVec 32 := 0#32
  let v9 : BitVec 1 := Scalar.cmpi .ne v8 c0_i32_6
  v9

def k0_off1 (i : grid0.Coords) (k0_t2 : Fin k0_t2_loop.trips) : Fin 1 → Nat :=
  let c0_i32_3 : BitVec 32 := 0#32
  let c1_i32_4 : BitVec 32 := 1#32
  let arg23 : BitVec 32 := Scf.iv c0_i32_3 c1_i32_4 k0_t2
  let c32_i32 : BitVec 32 := 32#32
  let v5 : BitVec 32 := Scalar.muli arg23 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c160_i32 : BitVec 32 := 160#32
  let v10 : BitVec 32 := Scalar.muli v6 c160_i32
  ![v10.toNat]

def k0_chk255 (i : grid0.Coords) (k0_t2 : Fin k0_t2_loop.trips) (v61 : IVec S16 32) (v64 : IVec S16 32) : Prop :=
  (∀ (k0_h1 : k0_cond1 i k0_t2 = 1#1), ∀ a x, ((![v64, v61] : Fin 2 → IVec S16 32) a x).toNat < S160x142.size a)
theorem k0_idx288_inb : ∀ (i : grid0.Coords) (k0_t2 : Fin k0_t2_loop.trips) (v61 : IVec S16 32) (v64 : IVec S16 32) (k0_hw255 : k0_chk255 i k0_t2 v61 v64), ∀ (k0_h1 : k0_cond1 i k0_t2 = 1#1), ∀ a x, ((![v64, v61] : Fin 2 → IVec S16 32) a x).toNat < S160x142.size a := fun i k0_t2 v61 v64 k0_hw255 k0_h1 => k0_hw255 k0_h1

def k0_chk256 (i : grid0.Coords) (k0_t2 : Fin k0_t2_loop.trips) (v61 : IVec S16 32) (v67 : IVec S16 32) : Prop :=
  (∀ (k0_h1 : k0_cond1 i k0_t2 = 1#1), ∀ a x, ((![v67, v61] : Fin 2 → IVec S16 32) a x).toNat < S160x142.size a)
theorem k0_idx290_inb : ∀ (i : grid0.Coords) (k0_t2 : Fin k0_t2_loop.trips) (v61 : IVec S16 32) (v67 : IVec S16 32) (k0_hw256 : k0_chk256 i k0_t2 v61 v67), ∀ (k0_h1 : k0_cond1 i k0_t2 = 1#1), ∀ a x, ((![v67, v61] : Fin 2 → IVec S16 32) a x).toNat < S160x142.size a := fun i k0_t2 v61 v67 k0_hw256 k0_h1 => k0_hw256 k0_h1

def k0_chk257 (i : grid0.Coords) (k0_t2 : Fin k0_t2_loop.trips) (v61 : IVec S16 32) (v70 : IVec S16 32) : Prop :=
  (∀ (k0_h1 : k0_cond1 i k0_t2 = 1#1), ∀ a x, ((![v70, v61] : Fin 2 → IVec S16 32) a x).toNat < S160x142.size a)
theorem k0_idx292_inb : ∀ (i : grid0.Coords) (k0_t2 : Fin k0_t2_loop.trips) (v61 : IVec S16 32) (v70 : IVec S16 32) (k0_hw257 : k0_chk257 i k0_t2 v61 v70), ∀ (k0_h1 : k0_cond1 i k0_t2 = 1#1), ∀ a x, ((![v70, v61] : Fin 2 → IVec S16 32) a x).toNat < S160x142.size a := fun i k0_t2 v61 v70 k0_hw257 k0_h1 => k0_hw257 k0_h1

def k0_chk258 (i : grid0.Coords) (k0_t2 : Fin k0_t2_loop.trips) (v61 : IVec S16 32) (v73 : IVec S16 32) : Prop :=
  (∀ (k0_h1 : k0_cond1 i k0_t2 = 1#1), ∀ a x, ((![v73, v61] : Fin 2 → IVec S16 32) a x).toNat < S160x142.size a)
theorem k0_idx294_inb : ∀ (i : grid0.Coords) (k0_t2 : Fin k0_t2_loop.trips) (v61 : IVec S16 32) (v73 : IVec S16 32) (k0_hw258 : k0_chk258 i k0_t2 v61 v73), ∀ (k0_h1 : k0_cond1 i k0_t2 = 1#1), ∀ a x, ((![v73, v61] : Fin 2 → IVec S16 32) a x).toNat < S160x142.size a := fun i k0_t2 v61 v73 k0_hw258 k0_h1 => k0_hw258 k0_h1

def k0_chk259 (i : grid0.Coords) (k0_t2 : Fin k0_t2_loop.trips) (v61 : IVec S16 32) (v76 : IVec S16 32) : Prop :=
  (∀ (k0_h1 : k0_cond1 i k0_t2 = 1#1), ∀ a x, ((![v76, v61] : Fin 2 → IVec S16 32) a x).toNat < S160x142.size a)
theorem k0_idx296_inb : ∀ (i : grid0.Coords) (k0_t2 : Fin k0_t2_loop.trips) (v61 : IVec S16 32) (v76 : IVec S16 32) (k0_hw259 : k0_chk259 i k0_t2 v61 v76), ∀ (k0_h1 : k0_cond1 i k0_t2 = 1#1), ∀ a x, ((![v76, v61] : Fin 2 → IVec S16 32) a x).toNat < S160x142.size a := fun i k0_t2 v61 v76 k0_hw259 k0_h1 => k0_hw259 k0_h1

def k0_chk260 (i : grid0.Coords) (k0_t2 : Fin k0_t2_loop.trips) (v61 : IVec S16 32) (v79 : IVec S16 32) : Prop :=
  (∀ (k0_h1 : k0_cond1 i k0_t2 = 1#1), ∀ a x, ((![v79, v61] : Fin 2 → IVec S16 32) a x).toNat < S160x142.size a)
theorem k0_idx298_inb : ∀ (i : grid0.Coords) (k0_t2 : Fin k0_t2_loop.trips) (v61 : IVec S16 32) (v79 : IVec S16 32) (k0_hw260 : k0_chk260 i k0_t2 v61 v79), ∀ (k0_h1 : k0_cond1 i k0_t2 = 1#1), ∀ a x, ((![v79, v61] : Fin 2 → IVec S16 32) a x).toNat < S160x142.size a := fun i k0_t2 v61 v79 k0_hw260 k0_h1 => k0_hw260 k0_h1

def k0_chk261 (i : grid0.Coords) (k0_t2 : Fin k0_t2_loop.trips) (v61 : IVec S16 32) (v82 : IVec S16 32) : Prop :=
  (∀ (k0_h1 : k0_cond1 i k0_t2 = 1#1), ∀ a x, ((![v82, v61] : Fin 2 → IVec S16 32) a x).toNat < S160x142.size a)
theorem k0_idx300_inb : ∀ (i : grid0.Coords) (k0_t2 : Fin k0_t2_loop.trips) (v61 : IVec S16 32) (v82 : IVec S16 32) (k0_hw261 : k0_chk261 i k0_t2 v61 v82), ∀ (k0_h1 : k0_cond1 i k0_t2 = 1#1), ∀ a x, ((![v82, v61] : Fin 2 → IVec S16 32) a x).toNat < S160x142.size a := fun i k0_t2 v61 v82 k0_hw261 k0_h1 => k0_hw261 k0_h1

def k0_chk262 (i : grid0.Coords) (k0_t2 : Fin k0_t2_loop.trips) (v61 : IVec S16 32) (v85 : IVec S16 32) : Prop :=
  (∀ (k0_h1 : k0_cond1 i k0_t2 = 1#1), ∀ a x, ((![v85, v61] : Fin 2 → IVec S16 32) a x).toNat < S160x142.size a)
theorem k0_idx302_inb : ∀ (i : grid0.Coords) (k0_t2 : Fin k0_t2_loop.trips) (v61 : IVec S16 32) (v85 : IVec S16 32) (k0_hw262 : k0_chk262 i k0_t2 v61 v85), ∀ (k0_h1 : k0_cond1 i k0_t2 = 1#1), ∀ a x, ((![v85, v61] : Fin 2 → IVec S16 32) a x).toNat < S160x142.size a := fun i k0_t2 v61 v85 k0_hw262 k0_h1 => k0_hw262 k0_h1

def k0_chk263 (i : grid0.Coords) (k0_t2 : Fin k0_t2_loop.trips) (v61 : IVec S16 32) (v88 : IVec S16 32) : Prop :=
  (∀ (k0_h1 : k0_cond1 i k0_t2 = 1#1), ∀ a x, ((![v88, v61] : Fin 2 → IVec S16 32) a x).toNat < S160x142.size a)
theorem k0_idx304_inb : ∀ (i : grid0.Coords) (k0_t2 : Fin k0_t2_loop.trips) (v61 : IVec S16 32) (v88 : IVec S16 32) (k0_hw263 : k0_chk263 i k0_t2 v61 v88), ∀ (k0_h1 : k0_cond1 i k0_t2 = 1#1), ∀ a x, ((![v88, v61] : Fin 2 → IVec S16 32) a x).toNat < S160x142.size a := fun i k0_t2 v61 v88 k0_hw263 k0_h1 => k0_hw263 k0_h1

def k0_chk254 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) : Prop :=
  (∀ (k0_h1 : k0_cond1 i k0_t2 = 1#1), ∀ a x, ((![v15, v61] : Fin 2 → IVec S16 32) a x).toNat < S256x142.size a) ∧
  (∀ (k0_h1 : k0_cond1 i k0_t2 = 1#1), ∀ a x, ((![v20, v61] : Fin 2 → IVec S16 32) a x).toNat < S256x142.size a) ∧
  (∀ (k0_h1 : k0_cond1 i k0_t2 = 1#1), ∀ a x, ((![v25, v61] : Fin 2 → IVec S16 32) a x).toNat < S256x142.size a) ∧
  (∀ (k0_h1 : k0_cond1 i k0_t2 = 1#1), ∀ a x, ((![v30, v61] : Fin 2 → IVec S16 32) a x).toNat < S256x142.size a) ∧
  (∀ (k0_h1 : k0_cond1 i k0_t2 = 1#1), ∀ a x, ((![v35, v61] : Fin 2 → IVec S16 32) a x).toNat < S256x142.size a) ∧
  (∀ (k0_h1 : k0_cond1 i k0_t2 = 1#1), ∀ a x, ((![v40, v61] : Fin 2 → IVec S16 32) a x).toNat < S256x142.size a) ∧
  (∀ (k0_h1 : k0_cond1 i k0_t2 = 1#1), ∀ a x, ((![v45, v61] : Fin 2 → IVec S16 32) a x).toNat < S256x142.size a) ∧
  (∀ (k0_h1 : k0_cond1 i k0_t2 = 1#1), ∀ a x, ((![v50, v61] : Fin 2 → IVec S16 32) a x).toNat < S256x142.size a) ∧
  (∀ (k0_h1 : k0_cond1 i k0_t2 = 1#1), ∀ a x, ((![v55, v61] : Fin 2 → IVec S16 32) a x).toNat < S256x142.size a) ∧
  (∀ (k0_h1 : k0_cond1 i k0_t2 = 1#1), ∀ a x, ((![v60, v61] : Fin 2 → IVec S16 32) a x).toNat < S256x142.size a)
theorem k0_idx287_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v15, v61] : Fin 2 → IVec S16 32) a x).toNat < S256x142.size a := fun i k0_t2 v15 v20 v25 v30 v35 v40 v45 v50 v55 v60 v61 k0_hw254 k0_h1 => k0_hw254.1 k0_h1
theorem k0_idx289_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v20, v61] : Fin 2 → IVec S16 32) a x).toNat < S256x142.size a := fun i k0_t2 v15 v20 v25 v30 v35 v40 v45 v50 v55 v60 v61 k0_hw254 k0_h1 => k0_hw254.2.1 k0_h1
theorem k0_idx291_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v25, v61] : Fin 2 → IVec S16 32) a x).toNat < S256x142.size a := fun i k0_t2 v15 v20 v25 v30 v35 v40 v45 v50 v55 v60 v61 k0_hw254 k0_h1 => k0_hw254.2.2.1 k0_h1
theorem k0_idx293_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v30, v61] : Fin 2 → IVec S16 32) a x).toNat < S256x142.size a := fun i k0_t2 v15 v20 v25 v30 v35 v40 v45 v50 v55 v60 v61 k0_hw254 k0_h1 => k0_hw254.2.2.2.1 k0_h1
theorem k0_idx295_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v35, v61] : Fin 2 → IVec S16 32) a x).toNat < S256x142.size a := fun i k0_t2 v15 v20 v25 v30 v35 v40 v45 v50 v55 v60 v61 k0_hw254 k0_h1 => k0_hw254.2.2.2.2.1 k0_h1
theorem k0_idx297_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v40, v61] : Fin 2 → IVec S16 32) a x).toNat < S256x142.size a := fun i k0_t2 v15 v20 v25 v30 v35 v40 v45 v50 v55 v60 v61 k0_hw254 k0_h1 => k0_hw254.2.2.2.2.2.1 k0_h1
theorem k0_idx299_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v45, v61] : Fin 2 → IVec S16 32) a x).toNat < S256x142.size a := fun i k0_t2 v15 v20 v25 v30 v35 v40 v45 v50 v55 v60 v61 k0_hw254 k0_h1 => k0_hw254.2.2.2.2.2.2.1 k0_h1
theorem k0_idx301_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v50, v61] : Fin 2 → IVec S16 32) a x).toNat < S256x142.size a := fun i k0_t2 v15 v20 v25 v30 v35 v40 v45 v50 v55 v60 v61 k0_hw254 k0_h1 => k0_hw254.2.2.2.2.2.2.2.1 k0_h1
theorem k0_idx303_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v55, v61] : Fin 2 → IVec S16 32) a x).toNat < S256x142.size a := fun i k0_t2 v15 v20 v25 v30 v35 v40 v45 v50 v55 v60 v61 k0_hw254 k0_h1 => k0_hw254.2.2.2.2.2.2.2.2.1 k0_h1
theorem k0_idx305_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v61 : IVec S16 32) (k0_hw254 : k0_chk254 i k0_t2 v15 v20 v25 v30 v35 v40 v45 v50 v55 v60 v61), ∀ (k0_h1 : k0_cond1 i k0_t2 = 1#1), ∀ a x, ((![v60, v61] : Fin 2 → IVec S16 32) a x).toNat < S256x142.size a := fun i k0_t2 v15 v20 v25 v30 v35 v40 v45 v50 v55 v60 v61 k0_hw254 k0_h1 => k0_hw254.2.2.2.2.2.2.2.2.2 k0_h1

def k0_chk264 (i : grid0.Coords) (k0_t2 : Fin k0_t2_loop.trips) (v61 : IVec S16 32) (v91 : IVec S16 32) : Prop :=
  (∀ (k0_h1 : k0_cond1 i k0_t2 = 1#1), ∀ a x, ((![v91, v61] : Fin 2 → IVec S16 32) a x).toNat < S160x142.size a)
theorem k0_idx306_inb : ∀ (i : grid0.Coords) (k0_t2 : Fin k0_t2_loop.trips) (v61 : IVec S16 32) (v91 : IVec S16 32) (k0_hw264 : k0_chk264 i k0_t2 v61 v91), ∀ (k0_h1 : k0_cond1 i k0_t2 = 1#1), ∀ a x, ((![v91, v61] : Fin 2 → IVec S16 32) a x).toNat < S160x142.size a := fun i k0_t2 v61 v91 k0_hw264 k0_h1 => k0_hw264 k0_h1

def k0_chk266 (i : grid0.Coords) (k0_t2 : Fin k0_t2_loop.trips) (v92 : IVec S16 32) (v95 : IVec S16 32) : Prop :=
  (∀ (k0_h1 : k0_cond1 i k0_t2 = 1#1), ∀ a x, ((![v95, v92] : Fin 2 → IVec S16 32) a x).toNat < S160x142.size a)
theorem k0_idx308_inb : ∀ (i : grid0.Coords) (k0_t2 : Fin k0_t2_loop.trips) (v92 : IVec S16 32) (v95 : IVec S16 32) (k0_hw266 : k0_chk266 i k0_t2 v92 v95), ∀ (k0_h1 : k0_cond1 i k0_t2 = 1#1), ∀ a x, ((![v95, v92] : Fin 2 → IVec S16 32) a x).toNat < S160x142.size a := fun i k0_t2 v92 v95 k0_hw266 k0_h1 => k0_hw266 k0_h1

def k0_chk267 (i : grid0.Coords) (k0_t2 : Fin k0_t2_loop.trips) (v92 : IVec S16 32) (v98 : IVec S16 32) : Prop :=
  (∀ (k0_h1 : k0_cond1 i k0_t2 = 1#1), ∀ a x, ((![v98, v92] : Fin 2 → IVec S16 32) a x).toNat < S160x142.size a)
theorem k0_idx310_inb : ∀ (i : grid0.Coords) (k0_t2 : Fin k0_t2_loop.trips) (v92 : IVec S16 32) (v98 : IVec S16 32) (k0_hw267 : k0_chk267 i k0_t2 v92 v98), ∀ (k0_h1 : k0_cond1 i k0_t2 = 1#1), ∀ a x, ((![v98, v92] : Fin 2 → IVec S16 32) a x).toNat < S160x142.size a := fun i k0_t2 v92 v98 k0_hw267 k0_h1 => k0_hw267 k0_h1

def k0_chk268 (i : grid0.Coords) (k0_t2 : Fin k0_t2_loop.trips) (v92 : IVec S16 32) (v101 : IVec S16 32) : Prop :=
  (∀ (k0_h1 : k0_cond1 i k0_t2 = 1#1), ∀ a x, ((![v101, v92] : Fin 2 → IVec S16 32) a x).toNat < S160x142.size a)
theorem k0_idx312_inb : ∀ (i : grid0.Coords) (k0_t2 : Fin k0_t2_loop.trips) (v92 : IVec S16 32) (v101 : IVec S16 32) (k0_hw268 : k0_chk268 i k0_t2 v92 v101), ∀ (k0_h1 : k0_cond1 i k0_t2 = 1#1), ∀ a x, ((![v101, v92] : Fin 2 → IVec S16 32) a x).toNat < S160x142.size a := fun i k0_t2 v92 v101 k0_hw268 k0_h1 => k0_hw268 k0_h1

def k0_chk269 (i : grid0.Coords) (k0_t2 : Fin k0_t2_loop.trips) (v92 : IVec S16 32) (v104 : IVec S16 32) : Prop :=
  (∀ (k0_h1 : k0_cond1 i k0_t2 = 1#1), ∀ a x, ((![v104, v92] : Fin 2 → IVec S16 32) a x).toNat < S160x142.size a)
theorem k0_idx314_inb : ∀ (i : grid0.Coords) (k0_t2 : Fin k0_t2_loop.trips) (v92 : IVec S16 32) (v104 : IVec S16 32) (k0_hw269 : k0_chk269 i k0_t2 v92 v104), ∀ (k0_h1 : k0_cond1 i k0_t2 = 1#1), ∀ a x, ((![v104, v92] : Fin 2 → IVec S16 32) a x).toNat < S160x142.size a := fun i k0_t2 v92 v104 k0_hw269 k0_h1 => k0_hw269 k0_h1

def k0_chk270 (i : grid0.Coords) (k0_t2 : Fin k0_t2_loop.trips) (v92 : IVec S16 32) (v107 : IVec S16 32) : Prop :=
  (∀ (k0_h1 : k0_cond1 i k0_t2 = 1#1), ∀ a x, ((![v107, v92] : Fin 2 → IVec S16 32) a x).toNat < S160x142.size a)
theorem k0_idx316_inb : ∀ (i : grid0.Coords) (k0_t2 : Fin k0_t2_loop.trips) (v92 : IVec S16 32) (v107 : IVec S16 32) (k0_hw270 : k0_chk270 i k0_t2 v92 v107), ∀ (k0_h1 : k0_cond1 i k0_t2 = 1#1), ∀ a x, ((![v107, v92] : Fin 2 → IVec S16 32) a x).toNat < S160x142.size a := fun i k0_t2 v92 v107 k0_hw270 k0_h1 => k0_hw270 k0_h1

def k0_chk271 (i : grid0.Coords) (k0_t2 : Fin k0_t2_loop.trips) (v92 : IVec S16 32) (v110 : IVec S16 32) : Prop :=
  (∀ (k0_h1 : k0_cond1 i k0_t2 = 1#1), ∀ a x, ((![v110, v92] : Fin 2 → IVec S16 32) a x).toNat < S160x142.size a)
theorem k0_idx318_inb : ∀ (i : grid0.Coords) (k0_t2 : Fin k0_t2_loop.trips) (v92 : IVec S16 32) (v110 : IVec S16 32) (k0_hw271 : k0_chk271 i k0_t2 v92 v110), ∀ (k0_h1 : k0_cond1 i k0_t2 = 1#1), ∀ a x, ((![v110, v92] : Fin 2 → IVec S16 32) a x).toNat < S160x142.size a := fun i k0_t2 v92 v110 k0_hw271 k0_h1 => k0_hw271 k0_h1

def k0_chk272 (i : grid0.Coords) (k0_t2 : Fin k0_t2_loop.trips) (v92 : IVec S16 32) (v113 : IVec S16 32) : Prop :=
  (∀ (k0_h1 : k0_cond1 i k0_t2 = 1#1), ∀ a x, ((![v113, v92] : Fin 2 → IVec S16 32) a x).toNat < S160x142.size a)
theorem k0_idx320_inb : ∀ (i : grid0.Coords) (k0_t2 : Fin k0_t2_loop.trips) (v92 : IVec S16 32) (v113 : IVec S16 32) (k0_hw272 : k0_chk272 i k0_t2 v92 v113), ∀ (k0_h1 : k0_cond1 i k0_t2 = 1#1), ∀ a x, ((![v113, v92] : Fin 2 → IVec S16 32) a x).toNat < S160x142.size a := fun i k0_t2 v92 v113 k0_hw272 k0_h1 => k0_hw272 k0_h1

def k0_chk273 (i : grid0.Coords) (k0_t2 : Fin k0_t2_loop.trips) (v92 : IVec S16 32) (v116 : IVec S16 32) : Prop :=
  (∀ (k0_h1 : k0_cond1 i k0_t2 = 1#1), ∀ a x, ((![v116, v92] : Fin 2 → IVec S16 32) a x).toNat < S160x142.size a)
theorem k0_idx322_inb : ∀ (i : grid0.Coords) (k0_t2 : Fin k0_t2_loop.trips) (v92 : IVec S16 32) (v116 : IVec S16 32) (k0_hw273 : k0_chk273 i k0_t2 v92 v116), ∀ (k0_h1 : k0_cond1 i k0_t2 = 1#1), ∀ a x, ((![v116, v92] : Fin 2 → IVec S16 32) a x).toNat < S160x142.size a := fun i k0_t2 v92 v116 k0_hw273 k0_h1 => k0_hw273 k0_h1

def k0_chk274 (i : grid0.Coords) (k0_t2 : Fin k0_t2_loop.trips) (v92 : IVec S16 32) (v119 : IVec S16 32) : Prop :=
  (∀ (k0_h1 : k0_cond1 i k0_t2 = 1#1), ∀ a x, ((![v119, v92] : Fin 2 → IVec S16 32) a x).toNat < S160x142.size a)
theorem k0_idx324_inb : ∀ (i : grid0.Coords) (k0_t2 : Fin k0_t2_loop.trips) (v92 : IVec S16 32) (v119 : IVec S16 32) (k0_hw274 : k0_chk274 i k0_t2 v92 v119), ∀ (k0_h1 : k0_cond1 i k0_t2 = 1#1), ∀ a x, ((![v119, v92] : Fin 2 → IVec S16 32) a x).toNat < S160x142.size a := fun i k0_t2 v92 v119 k0_hw274 k0_h1 => k0_hw274 k0_h1

def k0_chk265 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) : Prop :=
  (∀ (k0_h1 : k0_cond1 i k0_t2 = 1#1), ∀ a x, ((![v15, v92] : Fin 2 → IVec S16 32) a x).toNat < S256x142.size a) ∧
  (∀ (k0_h1 : k0_cond1 i k0_t2 = 1#1), ∀ a x, ((![v20, v92] : Fin 2 → IVec S16 32) a x).toNat < S256x142.size a) ∧
  (∀ (k0_h1 : k0_cond1 i k0_t2 = 1#1), ∀ a x, ((![v25, v92] : Fin 2 → IVec S16 32) a x).toNat < S256x142.size a) ∧
  (∀ (k0_h1 : k0_cond1 i k0_t2 = 1#1), ∀ a x, ((![v30, v92] : Fin 2 → IVec S16 32) a x).toNat < S256x142.size a) ∧
  (∀ (k0_h1 : k0_cond1 i k0_t2 = 1#1), ∀ a x, ((![v35, v92] : Fin 2 → IVec S16 32) a x).toNat < S256x142.size a) ∧
  (∀ (k0_h1 : k0_cond1 i k0_t2 = 1#1), ∀ a x, ((![v40, v92] : Fin 2 → IVec S16 32) a x).toNat < S256x142.size a) ∧
  (∀ (k0_h1 : k0_cond1 i k0_t2 = 1#1), ∀ a x, ((![v45, v92] : Fin 2 → IVec S16 32) a x).toNat < S256x142.size a) ∧
  (∀ (k0_h1 : k0_cond1 i k0_t2 = 1#1), ∀ a x, ((![v50, v92] : Fin 2 → IVec S16 32) a x).toNat < S256x142.size a) ∧
  (∀ (k0_h1 : k0_cond1 i k0_t2 = 1#1), ∀ a x, ((![v55, v92] : Fin 2 → IVec S16 32) a x).toNat < S256x142.size a) ∧
  (∀ (k0_h1 : k0_cond1 i k0_t2 = 1#1), ∀ a x, ((![v60, v92] : Fin 2 → IVec S16 32) a x).toNat < S256x142.size a)
theorem k0_idx307_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v15, v92] : Fin 2 → IVec S16 32) a x).toNat < S256x142.size a := fun i k0_t2 v15 v20 v25 v30 v35 v40 v45 v50 v55 v60 v92 k0_hw265 k0_h1 => k0_hw265.1 k0_h1
theorem k0_idx309_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v20, v92] : Fin 2 → IVec S16 32) a x).toNat < S256x142.size a := fun i k0_t2 v15 v20 v25 v30 v35 v40 v45 v50 v55 v60 v92 k0_hw265 k0_h1 => k0_hw265.2.1 k0_h1
theorem k0_idx311_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v25, v92] : Fin 2 → IVec S16 32) a x).toNat < S256x142.size a := fun i k0_t2 v15 v20 v25 v30 v35 v40 v45 v50 v55 v60 v92 k0_hw265 k0_h1 => k0_hw265.2.2.1 k0_h1
theorem k0_idx313_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v30, v92] : Fin 2 → IVec S16 32) a x).toNat < S256x142.size a := fun i k0_t2 v15 v20 v25 v30 v35 v40 v45 v50 v55 v60 v92 k0_hw265 k0_h1 => k0_hw265.2.2.2.1 k0_h1
theorem k0_idx315_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v35, v92] : Fin 2 → IVec S16 32) a x).toNat < S256x142.size a := fun i k0_t2 v15 v20 v25 v30 v35 v40 v45 v50 v55 v60 v92 k0_hw265 k0_h1 => k0_hw265.2.2.2.2.1 k0_h1
theorem k0_idx317_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v40, v92] : Fin 2 → IVec S16 32) a x).toNat < S256x142.size a := fun i k0_t2 v15 v20 v25 v30 v35 v40 v45 v50 v55 v60 v92 k0_hw265 k0_h1 => k0_hw265.2.2.2.2.2.1 k0_h1
theorem k0_idx319_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v45, v92] : Fin 2 → IVec S16 32) a x).toNat < S256x142.size a := fun i k0_t2 v15 v20 v25 v30 v35 v40 v45 v50 v55 v60 v92 k0_hw265 k0_h1 => k0_hw265.2.2.2.2.2.2.1 k0_h1
theorem k0_idx321_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v50, v92] : Fin 2 → IVec S16 32) a x).toNat < S256x142.size a := fun i k0_t2 v15 v20 v25 v30 v35 v40 v45 v50 v55 v60 v92 k0_hw265 k0_h1 => k0_hw265.2.2.2.2.2.2.2.1 k0_h1
theorem k0_idx323_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v55, v92] : Fin 2 → IVec S16 32) a x).toNat < S256x142.size a := fun i k0_t2 v15 v20 v25 v30 v35 v40 v45 v50 v55 v60 v92 k0_hw265 k0_h1 => k0_hw265.2.2.2.2.2.2.2.2.1 k0_h1
theorem k0_idx325_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v92 : IVec S16 32) (k0_hw265 : k0_chk265 i k0_t2 v15 v20 v25 v30 v35 v40 v45 v50 v55 v60 v92), ∀ (k0_h1 : k0_cond1 i k0_t2 = 1#1), ∀ a x, ((![v60, v92] : Fin 2 → IVec S16 32) a x).toNat < S256x142.size a := fun i k0_t2 v15 v20 v25 v30 v35 v40 v45 v50 v55 v60 v92 k0_hw265 k0_h1 => k0_hw265.2.2.2.2.2.2.2.2.2 k0_h1

def k0_chk275 (i : grid0.Coords) (k0_t2 : Fin k0_t2_loop.trips) (v92 : IVec S16 32) (v122 : IVec S16 32) : Prop :=
  (∀ (k0_h1 : k0_cond1 i k0_t2 = 1#1), ∀ a x, ((![v122, v92] : Fin 2 → IVec S16 32) a x).toNat < S160x142.size a)
theorem k0_idx326_inb : ∀ (i : grid0.Coords) (k0_t2 : Fin k0_t2_loop.trips) (v92 : IVec S16 32) (v122 : IVec S16 32) (k0_hw275 : k0_chk275 i k0_t2 v92 v122), ∀ (k0_h1 : k0_cond1 i k0_t2 = 1#1), ∀ a x, ((![v122, v92] : Fin 2 → IVec S16 32) a x).toNat < S160x142.size a := fun i k0_t2 v92 v122 k0_hw275 k0_h1 => k0_hw275 k0_h1

def k0_chk277 (i : grid0.Coords) (k0_t2 : Fin k0_t2_loop.trips) (v123 : IVec S16 32) (v126 : IVec S16 32) : Prop :=
  (∀ (k0_h1 : k0_cond1 i k0_t2 = 1#1), ∀ a x, ((![v126, v123] : Fin 2 → IVec S16 32) a x).toNat < S160x142.size a)
theorem k0_idx328_inb : ∀ (i : grid0.Coords) (k0_t2 : Fin k0_t2_loop.trips) (v123 : IVec S16 32) (v126 : IVec S16 32) (k0_hw277 : k0_chk277 i k0_t2 v123 v126), ∀ (k0_h1 : k0_cond1 i k0_t2 = 1#1), ∀ a x, ((![v126, v123] : Fin 2 → IVec S16 32) a x).toNat < S160x142.size a := fun i k0_t2 v123 v126 k0_hw277 k0_h1 => k0_hw277 k0_h1

def k0_chk278 (i : grid0.Coords) (k0_t2 : Fin k0_t2_loop.trips) (v123 : IVec S16 32) (v129 : IVec S16 32) : Prop :=
  (∀ (k0_h1 : k0_cond1 i k0_t2 = 1#1), ∀ a x, ((![v129, v123] : Fin 2 → IVec S16 32) a x).toNat < S160x142.size a)
theorem k0_idx330_inb : ∀ (i : grid0.Coords) (k0_t2 : Fin k0_t2_loop.trips) (v123 : IVec S16 32) (v129 : IVec S16 32) (k0_hw278 : k0_chk278 i k0_t2 v123 v129), ∀ (k0_h1 : k0_cond1 i k0_t2 = 1#1), ∀ a x, ((![v129, v123] : Fin 2 → IVec S16 32) a x).toNat < S160x142.size a := fun i k0_t2 v123 v129 k0_hw278 k0_h1 => k0_hw278 k0_h1

def k0_chk279 (i : grid0.Coords) (k0_t2 : Fin k0_t2_loop.trips) (v123 : IVec S16 32) (v132 : IVec S16 32) : Prop :=
  (∀ (k0_h1 : k0_cond1 i k0_t2 = 1#1), ∀ a x, ((![v132, v123] : Fin 2 → IVec S16 32) a x).toNat < S160x142.size a)
theorem k0_idx332_inb : ∀ (i : grid0.Coords) (k0_t2 : Fin k0_t2_loop.trips) (v123 : IVec S16 32) (v132 : IVec S16 32) (k0_hw279 : k0_chk279 i k0_t2 v123 v132), ∀ (k0_h1 : k0_cond1 i k0_t2 = 1#1), ∀ a x, ((![v132, v123] : Fin 2 → IVec S16 32) a x).toNat < S160x142.size a := fun i k0_t2 v123 v132 k0_hw279 k0_h1 => k0_hw279 k0_h1

def k0_chk280 (i : grid0.Coords) (k0_t2 : Fin k0_t2_loop.trips) (v123 : IVec S16 32) (v135 : IVec S16 32) : Prop :=
  (∀ (k0_h1 : k0_cond1 i k0_t2 = 1#1), ∀ a x, ((![v135, v123] : Fin 2 → IVec S16 32) a x).toNat < S160x142.size a)
theorem k0_idx334_inb : ∀ (i : grid0.Coords) (k0_t2 : Fin k0_t2_loop.trips) (v123 : IVec S16 32) (v135 : IVec S16 32) (k0_hw280 : k0_chk280 i k0_t2 v123 v135), ∀ (k0_h1 : k0_cond1 i k0_t2 = 1#1), ∀ a x, ((![v135, v123] : Fin 2 → IVec S16 32) a x).toNat < S160x142.size a := fun i k0_t2 v123 v135 k0_hw280 k0_h1 => k0_hw280 k0_h1

def k0_chk281 (i : grid0.Coords) (k0_t2 : Fin k0_t2_loop.trips) (v123 : IVec S16 32) (v138 : IVec S16 32) : Prop :=
  (∀ (k0_h1 : k0_cond1 i k0_t2 = 1#1), ∀ a x, ((![v138, v123] : Fin 2 → IVec S16 32) a x).toNat < S160x142.size a)
theorem k0_idx336_inb : ∀ (i : grid0.Coords) (k0_t2 : Fin k0_t2_loop.trips) (v123 : IVec S16 32) (v138 : IVec S16 32) (k0_hw281 : k0_chk281 i k0_t2 v123 v138), ∀ (k0_h1 : k0_cond1 i k0_t2 = 1#1), ∀ a x, ((![v138, v123] : Fin 2 → IVec S16 32) a x).toNat < S160x142.size a := fun i k0_t2 v123 v138 k0_hw281 k0_h1 => k0_hw281 k0_h1

def k0_chk282 (i : grid0.Coords) (k0_t2 : Fin k0_t2_loop.trips) (v123 : IVec S16 32) (v141 : IVec S16 32) : Prop :=
  (∀ (k0_h1 : k0_cond1 i k0_t2 = 1#1), ∀ a x, ((![v141, v123] : Fin 2 → IVec S16 32) a x).toNat < S160x142.size a)
theorem k0_idx338_inb : ∀ (i : grid0.Coords) (k0_t2 : Fin k0_t2_loop.trips) (v123 : IVec S16 32) (v141 : IVec S16 32) (k0_hw282 : k0_chk282 i k0_t2 v123 v141), ∀ (k0_h1 : k0_cond1 i k0_t2 = 1#1), ∀ a x, ((![v141, v123] : Fin 2 → IVec S16 32) a x).toNat < S160x142.size a := fun i k0_t2 v123 v141 k0_hw282 k0_h1 => k0_hw282 k0_h1

def k0_chk283 (i : grid0.Coords) (k0_t2 : Fin k0_t2_loop.trips) (v123 : IVec S16 32) (v144 : IVec S16 32) : Prop :=
  (∀ (k0_h1 : k0_cond1 i k0_t2 = 1#1), ∀ a x, ((![v144, v123] : Fin 2 → IVec S16 32) a x).toNat < S160x142.size a)
theorem k0_idx340_inb : ∀ (i : grid0.Coords) (k0_t2 : Fin k0_t2_loop.trips) (v123 : IVec S16 32) (v144 : IVec S16 32) (k0_hw283 : k0_chk283 i k0_t2 v123 v144), ∀ (k0_h1 : k0_cond1 i k0_t2 = 1#1), ∀ a x, ((![v144, v123] : Fin 2 → IVec S16 32) a x).toNat < S160x142.size a := fun i k0_t2 v123 v144 k0_hw283 k0_h1 => k0_hw283 k0_h1

def k0_chk284 (i : grid0.Coords) (k0_t2 : Fin k0_t2_loop.trips) (v123 : IVec S16 32) (v147 : IVec S16 32) : Prop :=
  (∀ (k0_h1 : k0_cond1 i k0_t2 = 1#1), ∀ a x, ((![v147, v123] : Fin 2 → IVec S16 32) a x).toNat < S160x142.size a)
theorem k0_idx342_inb : ∀ (i : grid0.Coords) (k0_t2 : Fin k0_t2_loop.trips) (v123 : IVec S16 32) (v147 : IVec S16 32) (k0_hw284 : k0_chk284 i k0_t2 v123 v147), ∀ (k0_h1 : k0_cond1 i k0_t2 = 1#1), ∀ a x, ((![v147, v123] : Fin 2 → IVec S16 32) a x).toNat < S160x142.size a := fun i k0_t2 v123 v147 k0_hw284 k0_h1 => k0_hw284 k0_h1

def k0_chk285 (i : grid0.Coords) (k0_t2 : Fin k0_t2_loop.trips) (v123 : IVec S16 32) (v150 : IVec S16 32) : Prop :=
  (∀ (k0_h1 : k0_cond1 i k0_t2 = 1#1), ∀ a x, ((![v150, v123] : Fin 2 → IVec S16 32) a x).toNat < S160x142.size a)
theorem k0_idx344_inb : ∀ (i : grid0.Coords) (k0_t2 : Fin k0_t2_loop.trips) (v123 : IVec S16 32) (v150 : IVec S16 32) (k0_hw285 : k0_chk285 i k0_t2 v123 v150), ∀ (k0_h1 : k0_cond1 i k0_t2 = 1#1), ∀ a x, ((![v150, v123] : Fin 2 → IVec S16 32) a x).toNat < S160x142.size a := fun i k0_t2 v123 v150 k0_hw285 k0_h1 => k0_hw285 k0_h1

def k0_chk276 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) : Prop :=
  (∀ (k0_h1 : k0_cond1 i k0_t2 = 1#1), ∀ a x, ((![v15, v123] : Fin 2 → IVec S16 32) a x).toNat < S256x142.size a) ∧
  (∀ (k0_h1 : k0_cond1 i k0_t2 = 1#1), ∀ a x, ((![v20, v123] : Fin 2 → IVec S16 32) a x).toNat < S256x142.size a) ∧
  (∀ (k0_h1 : k0_cond1 i k0_t2 = 1#1), ∀ a x, ((![v25, v123] : Fin 2 → IVec S16 32) a x).toNat < S256x142.size a) ∧
  (∀ (k0_h1 : k0_cond1 i k0_t2 = 1#1), ∀ a x, ((![v30, v123] : Fin 2 → IVec S16 32) a x).toNat < S256x142.size a) ∧
  (∀ (k0_h1 : k0_cond1 i k0_t2 = 1#1), ∀ a x, ((![v35, v123] : Fin 2 → IVec S16 32) a x).toNat < S256x142.size a) ∧
  (∀ (k0_h1 : k0_cond1 i k0_t2 = 1#1), ∀ a x, ((![v40, v123] : Fin 2 → IVec S16 32) a x).toNat < S256x142.size a) ∧
  (∀ (k0_h1 : k0_cond1 i k0_t2 = 1#1), ∀ a x, ((![v45, v123] : Fin 2 → IVec S16 32) a x).toNat < S256x142.size a) ∧
  (∀ (k0_h1 : k0_cond1 i k0_t2 = 1#1), ∀ a x, ((![v50, v123] : Fin 2 → IVec S16 32) a x).toNat < S256x142.size a) ∧
  (∀ (k0_h1 : k0_cond1 i k0_t2 = 1#1), ∀ a x, ((![v55, v123] : Fin 2 → IVec S16 32) a x).toNat < S256x142.size a) ∧
  (∀ (k0_h1 : k0_cond1 i k0_t2 = 1#1), ∀ a x, ((![v60, v123] : Fin 2 → IVec S16 32) a x).toNat < S256x142.size a)
theorem k0_idx327_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v15, v123] : Fin 2 → IVec S16 32) a x).toNat < S256x142.size a := fun i k0_t2 v15 v20 v25 v30 v35 v40 v45 v50 v55 v60 v123 k0_hw276 k0_h1 => k0_hw276.1 k0_h1
theorem k0_idx329_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v20, v123] : Fin 2 → IVec S16 32) a x).toNat < S256x142.size a := fun i k0_t2 v15 v20 v25 v30 v35 v40 v45 v50 v55 v60 v123 k0_hw276 k0_h1 => k0_hw276.2.1 k0_h1
theorem k0_idx331_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v25, v123] : Fin 2 → IVec S16 32) a x).toNat < S256x142.size a := fun i k0_t2 v15 v20 v25 v30 v35 v40 v45 v50 v55 v60 v123 k0_hw276 k0_h1 => k0_hw276.2.2.1 k0_h1
theorem k0_idx333_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v30, v123] : Fin 2 → IVec S16 32) a x).toNat < S256x142.size a := fun i k0_t2 v15 v20 v25 v30 v35 v40 v45 v50 v55 v60 v123 k0_hw276 k0_h1 => k0_hw276.2.2.2.1 k0_h1
theorem k0_idx335_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v35, v123] : Fin 2 → IVec S16 32) a x).toNat < S256x142.size a := fun i k0_t2 v15 v20 v25 v30 v35 v40 v45 v50 v55 v60 v123 k0_hw276 k0_h1 => k0_hw276.2.2.2.2.1 k0_h1
theorem k0_idx337_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v40, v123] : Fin 2 → IVec S16 32) a x).toNat < S256x142.size a := fun i k0_t2 v15 v20 v25 v30 v35 v40 v45 v50 v55 v60 v123 k0_hw276 k0_h1 => k0_hw276.2.2.2.2.2.1 k0_h1
theorem k0_idx339_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v45, v123] : Fin 2 → IVec S16 32) a x).toNat < S256x142.size a := fun i k0_t2 v15 v20 v25 v30 v35 v40 v45 v50 v55 v60 v123 k0_hw276 k0_h1 => k0_hw276.2.2.2.2.2.2.1 k0_h1
theorem k0_idx341_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v50, v123] : Fin 2 → IVec S16 32) a x).toNat < S256x142.size a := fun i k0_t2 v15 v20 v25 v30 v35 v40 v45 v50 v55 v60 v123 k0_hw276 k0_h1 => k0_hw276.2.2.2.2.2.2.2.1 k0_h1
theorem k0_idx343_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v55, v123] : Fin 2 → IVec S16 32) a x).toNat < S256x142.size a := fun i k0_t2 v15 v20 v25 v30 v35 v40 v45 v50 v55 v60 v123 k0_hw276 k0_h1 => k0_hw276.2.2.2.2.2.2.2.2.1 k0_h1
theorem k0_idx345_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v123 : IVec S16 32) (k0_hw276 : k0_chk276 i k0_t2 v15 v20 v25 v30 v35 v40 v45 v50 v55 v60 v123), ∀ (k0_h1 : k0_cond1 i k0_t2 = 1#1), ∀ a x, ((![v60, v123] : Fin 2 → IVec S16 32) a x).toNat < S256x142.size a := fun i k0_t2 v15 v20 v25 v30 v35 v40 v45 v50 v55 v60 v123 k0_hw276 k0_h1 => k0_hw276.2.2.2.2.2.2.2.2.2 k0_h1

def k0_chk286 (i : grid0.Coords) (k0_t2 : Fin k0_t2_loop.trips) (v123 : IVec S16 32) (v153 : IVec S16 32) : Prop :=
  (∀ (k0_h1 : k0_cond1 i k0_t2 = 1#1), ∀ a x, ((![v153, v123] : Fin 2 → IVec S16 32) a x).toNat < S160x142.size a)
theorem k0_idx346_inb : ∀ (i : grid0.Coords) (k0_t2 : Fin k0_t2_loop.trips) (v123 : IVec S16 32) (v153 : IVec S16 32) (k0_hw286 : k0_chk286 i k0_t2 v123 v153), ∀ (k0_h1 : k0_cond1 i k0_t2 = 1#1), ∀ a x, ((![v153, v123] : Fin 2 → IVec S16 32) a x).toNat < S160x142.size a := fun i k0_t2 v123 v153 k0_hw286 k0_h1 => k0_hw286 k0_h1

def k0_chk288 (i : grid0.Coords) (k0_t2 : Fin k0_t2_loop.trips) (v154 : IVec S16 32) (v157 : IVec S16 32) : Prop :=
  (∀ (k0_h1 : k0_cond1 i k0_t2 = 1#1), ∀ a x, ((![v157, v154] : Fin 2 → IVec S16 32) a x).toNat < S160x142.size a)
theorem k0_idx348_inb : ∀ (i : grid0.Coords) (k0_t2 : Fin k0_t2_loop.trips) (v154 : IVec S16 32) (v157 : IVec S16 32) (k0_hw288 : k0_chk288 i k0_t2 v154 v157), ∀ (k0_h1 : k0_cond1 i k0_t2 = 1#1), ∀ a x, ((![v157, v154] : Fin 2 → IVec S16 32) a x).toNat < S160x142.size a := fun i k0_t2 v154 v157 k0_hw288 k0_h1 => k0_hw288 k0_h1

def k0_chk289 (i : grid0.Coords) (k0_t2 : Fin k0_t2_loop.trips) (v154 : IVec S16 32) (v160 : IVec S16 32) : Prop :=
  (∀ (k0_h1 : k0_cond1 i k0_t2 = 1#1), ∀ a x, ((![v160, v154] : Fin 2 → IVec S16 32) a x).toNat < S160x142.size a)
theorem k0_idx350_inb : ∀ (i : grid0.Coords) (k0_t2 : Fin k0_t2_loop.trips) (v154 : IVec S16 32) (v160 : IVec S16 32) (k0_hw289 : k0_chk289 i k0_t2 v154 v160), ∀ (k0_h1 : k0_cond1 i k0_t2 = 1#1), ∀ a x, ((![v160, v154] : Fin 2 → IVec S16 32) a x).toNat < S160x142.size a := fun i k0_t2 v154 v160 k0_hw289 k0_h1 => k0_hw289 k0_h1

def k0_chk290 (i : grid0.Coords) (k0_t2 : Fin k0_t2_loop.trips) (v154 : IVec S16 32) (v163 : IVec S16 32) : Prop :=
  (∀ (k0_h1 : k0_cond1 i k0_t2 = 1#1), ∀ a x, ((![v163, v154] : Fin 2 → IVec S16 32) a x).toNat < S160x142.size a)
theorem k0_idx352_inb : ∀ (i : grid0.Coords) (k0_t2 : Fin k0_t2_loop.trips) (v154 : IVec S16 32) (v163 : IVec S16 32) (k0_hw290 : k0_chk290 i k0_t2 v154 v163), ∀ (k0_h1 : k0_cond1 i k0_t2 = 1#1), ∀ a x, ((![v163, v154] : Fin 2 → IVec S16 32) a x).toNat < S160x142.size a := fun i k0_t2 v154 v163 k0_hw290 k0_h1 => k0_hw290 k0_h1

def k0_chk291 (i : grid0.Coords) (k0_t2 : Fin k0_t2_loop.trips) (v154 : IVec S16 32) (v166 : IVec S16 32) : Prop :=
  (∀ (k0_h1 : k0_cond1 i k0_t2 = 1#1), ∀ a x, ((![v166, v154] : Fin 2 → IVec S16 32) a x).toNat < S160x142.size a)
theorem k0_idx354_inb : ∀ (i : grid0.Coords) (k0_t2 : Fin k0_t2_loop.trips) (v154 : IVec S16 32) (v166 : IVec S16 32) (k0_hw291 : k0_chk291 i k0_t2 v154 v166), ∀ (k0_h1 : k0_cond1 i k0_t2 = 1#1), ∀ a x, ((![v166, v154] : Fin 2 → IVec S16 32) a x).toNat < S160x142.size a := fun i k0_t2 v154 v166 k0_hw291 k0_h1 => k0_hw291 k0_h1

def k0_chk292 (i : grid0.Coords) (k0_t2 : Fin k0_t2_loop.trips) (v154 : IVec S16 32) (v169 : IVec S16 32) : Prop :=
  (∀ (k0_h1 : k0_cond1 i k0_t2 = 1#1), ∀ a x, ((![v169, v154] : Fin 2 → IVec S16 32) a x).toNat < S160x142.size a)
theorem k0_idx356_inb : ∀ (i : grid0.Coords) (k0_t2 : Fin k0_t2_loop.trips) (v154 : IVec S16 32) (v169 : IVec S16 32) (k0_hw292 : k0_chk292 i k0_t2 v154 v169), ∀ (k0_h1 : k0_cond1 i k0_t2 = 1#1), ∀ a x, ((![v169, v154] : Fin 2 → IVec S16 32) a x).toNat < S160x142.size a := fun i k0_t2 v154 v169 k0_hw292 k0_h1 => k0_hw292 k0_h1

def k0_chk293 (i : grid0.Coords) (k0_t2 : Fin k0_t2_loop.trips) (v154 : IVec S16 32) (v172 : IVec S16 32) : Prop :=
  (∀ (k0_h1 : k0_cond1 i k0_t2 = 1#1), ∀ a x, ((![v172, v154] : Fin 2 → IVec S16 32) a x).toNat < S160x142.size a)
theorem k0_idx358_inb : ∀ (i : grid0.Coords) (k0_t2 : Fin k0_t2_loop.trips) (v154 : IVec S16 32) (v172 : IVec S16 32) (k0_hw293 : k0_chk293 i k0_t2 v154 v172), ∀ (k0_h1 : k0_cond1 i k0_t2 = 1#1), ∀ a x, ((![v172, v154] : Fin 2 → IVec S16 32) a x).toNat < S160x142.size a := fun i k0_t2 v154 v172 k0_hw293 k0_h1 => k0_hw293 k0_h1

def k0_chk294 (i : grid0.Coords) (k0_t2 : Fin k0_t2_loop.trips) (v154 : IVec S16 32) (v175 : IVec S16 32) : Prop :=
  (∀ (k0_h1 : k0_cond1 i k0_t2 = 1#1), ∀ a x, ((![v175, v154] : Fin 2 → IVec S16 32) a x).toNat < S160x142.size a)
theorem k0_idx360_inb : ∀ (i : grid0.Coords) (k0_t2 : Fin k0_t2_loop.trips) (v154 : IVec S16 32) (v175 : IVec S16 32) (k0_hw294 : k0_chk294 i k0_t2 v154 v175), ∀ (k0_h1 : k0_cond1 i k0_t2 = 1#1), ∀ a x, ((![v175, v154] : Fin 2 → IVec S16 32) a x).toNat < S160x142.size a := fun i k0_t2 v154 v175 k0_hw294 k0_h1 => k0_hw294 k0_h1

def k0_chk295 (i : grid0.Coords) (k0_t2 : Fin k0_t2_loop.trips) (v154 : IVec S16 32) (v178 : IVec S16 32) : Prop :=
  (∀ (k0_h1 : k0_cond1 i k0_t2 = 1#1), ∀ a x, ((![v178, v154] : Fin 2 → IVec S16 32) a x).toNat < S160x142.size a)
theorem k0_idx362_inb : ∀ (i : grid0.Coords) (k0_t2 : Fin k0_t2_loop.trips) (v154 : IVec S16 32) (v178 : IVec S16 32) (k0_hw295 : k0_chk295 i k0_t2 v154 v178), ∀ (k0_h1 : k0_cond1 i k0_t2 = 1#1), ∀ a x, ((![v178, v154] : Fin 2 → IVec S16 32) a x).toNat < S160x142.size a := fun i k0_t2 v154 v178 k0_hw295 k0_h1 => k0_hw295 k0_h1

def k0_chk296 (i : grid0.Coords) (k0_t2 : Fin k0_t2_loop.trips) (v154 : IVec S16 32) (v181 : IVec S16 32) : Prop :=
  (∀ (k0_h1 : k0_cond1 i k0_t2 = 1#1), ∀ a x, ((![v181, v154] : Fin 2 → IVec S16 32) a x).toNat < S160x142.size a)
theorem k0_idx364_inb : ∀ (i : grid0.Coords) (k0_t2 : Fin k0_t2_loop.trips) (v154 : IVec S16 32) (v181 : IVec S16 32) (k0_hw296 : k0_chk296 i k0_t2 v154 v181), ∀ (k0_h1 : k0_cond1 i k0_t2 = 1#1), ∀ a x, ((![v181, v154] : Fin 2 → IVec S16 32) a x).toNat < S160x142.size a := fun i k0_t2 v154 v181 k0_hw296 k0_h1 => k0_hw296 k0_h1

def k0_chk287 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) : Prop :=
  (∀ (k0_h1 : k0_cond1 i k0_t2 = 1#1), ∀ a x, ((![v15, v154] : Fin 2 → IVec S16 32) a x).toNat < S256x142.size a) ∧
  (∀ (k0_h1 : k0_cond1 i k0_t2 = 1#1), ∀ a x, ((![v20, v154] : Fin 2 → IVec S16 32) a x).toNat < S256x142.size a) ∧
  (∀ (k0_h1 : k0_cond1 i k0_t2 = 1#1), ∀ a x, ((![v25, v154] : Fin 2 → IVec S16 32) a x).toNat < S256x142.size a) ∧
  (∀ (k0_h1 : k0_cond1 i k0_t2 = 1#1), ∀ a x, ((![v30, v154] : Fin 2 → IVec S16 32) a x).toNat < S256x142.size a) ∧
  (∀ (k0_h1 : k0_cond1 i k0_t2 = 1#1), ∀ a x, ((![v35, v154] : Fin 2 → IVec S16 32) a x).toNat < S256x142.size a) ∧
  (∀ (k0_h1 : k0_cond1 i k0_t2 = 1#1), ∀ a x, ((![v40, v154] : Fin 2 → IVec S16 32) a x).toNat < S256x142.size a) ∧
  (∀ (k0_h1 : k0_cond1 i k0_t2 = 1#1), ∀ a x, ((![v45, v154] : Fin 2 → IVec S16 32) a x).toNat < S256x142.size a) ∧
  (∀ (k0_h1 : k0_cond1 i k0_t2 = 1#1), ∀ a x, ((![v50, v154] : Fin 2 → IVec S16 32) a x).toNat < S256x142.size a) ∧
  (∀ (k0_h1 : k0_cond1 i k0_t2 = 1#1), ∀ a x, ((![v55, v154] : Fin 2 → IVec S16 32) a x).toNat < S256x142.size a) ∧
  (∀ (k0_h1 : k0_cond1 i k0_t2 = 1#1), ∀ a x, ((![v60, v154] : Fin 2 → IVec S16 32) a x).toNat < S256x142.size a)
theorem k0_idx347_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v15, v154] : Fin 2 → IVec S16 32) a x).toNat < S256x142.size a := fun i k0_t2 v15 v20 v25 v30 v35 v40 v45 v50 v55 v60 v154 k0_hw287 k0_h1 => k0_hw287.1 k0_h1
theorem k0_idx349_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v20, v154] : Fin 2 → IVec S16 32) a x).toNat < S256x142.size a := fun i k0_t2 v15 v20 v25 v30 v35 v40 v45 v50 v55 v60 v154 k0_hw287 k0_h1 => k0_hw287.2.1 k0_h1
theorem k0_idx351_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v25, v154] : Fin 2 → IVec S16 32) a x).toNat < S256x142.size a := fun i k0_t2 v15 v20 v25 v30 v35 v40 v45 v50 v55 v60 v154 k0_hw287 k0_h1 => k0_hw287.2.2.1 k0_h1
theorem k0_idx353_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v30, v154] : Fin 2 → IVec S16 32) a x).toNat < S256x142.size a := fun i k0_t2 v15 v20 v25 v30 v35 v40 v45 v50 v55 v60 v154 k0_hw287 k0_h1 => k0_hw287.2.2.2.1 k0_h1
theorem k0_idx355_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v35, v154] : Fin 2 → IVec S16 32) a x).toNat < S256x142.size a := fun i k0_t2 v15 v20 v25 v30 v35 v40 v45 v50 v55 v60 v154 k0_hw287 k0_h1 => k0_hw287.2.2.2.2.1 k0_h1
theorem k0_idx357_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v40, v154] : Fin 2 → IVec S16 32) a x).toNat < S256x142.size a := fun i k0_t2 v15 v20 v25 v30 v35 v40 v45 v50 v55 v60 v154 k0_hw287 k0_h1 => k0_hw287.2.2.2.2.2.1 k0_h1
theorem k0_idx359_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v45, v154] : Fin 2 → IVec S16 32) a x).toNat < S256x142.size a := fun i k0_t2 v15 v20 v25 v30 v35 v40 v45 v50 v55 v60 v154 k0_hw287 k0_h1 => k0_hw287.2.2.2.2.2.2.1 k0_h1
theorem k0_idx361_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v50, v154] : Fin 2 → IVec S16 32) a x).toNat < S256x142.size a := fun i k0_t2 v15 v20 v25 v30 v35 v40 v45 v50 v55 v60 v154 k0_hw287 k0_h1 => k0_hw287.2.2.2.2.2.2.2.1 k0_h1
theorem k0_idx363_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v55, v154] : Fin 2 → IVec S16 32) a x).toNat < S256x142.size a := fun i k0_t2 v15 v20 v25 v30 v35 v40 v45 v50 v55 v60 v154 k0_hw287 k0_h1 => k0_hw287.2.2.2.2.2.2.2.2.1 k0_h1
theorem k0_idx365_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v154 : IVec S16 32) (k0_hw287 : k0_chk287 i k0_t2 v15 v20 v25 v30 v35 v40 v45 v50 v55 v60 v154), ∀ (k0_h1 : k0_cond1 i k0_t2 = 1#1), ∀ a x, ((![v60, v154] : Fin 2 → IVec S16 32) a x).toNat < S256x142.size a := fun i k0_t2 v15 v20 v25 v30 v35 v40 v45 v50 v55 v60 v154 k0_hw287 k0_h1 => k0_hw287.2.2.2.2.2.2.2.2.2 k0_h1

def k0_chk297 (i : grid0.Coords) (k0_t2 : Fin k0_t2_loop.trips) (v154 : IVec S16 32) (v184 : IVec S16 32) : Prop :=
  (∀ (k0_h1 : k0_cond1 i k0_t2 = 1#1), ∀ a x, ((![v184, v154] : Fin 2 → IVec S16 32) a x).toNat < S160x142.size a)
theorem k0_idx366_inb : ∀ (i : grid0.Coords) (k0_t2 : Fin k0_t2_loop.trips) (v154 : IVec S16 32) (v184 : IVec S16 32) (k0_hw297 : k0_chk297 i k0_t2 v154 v184), ∀ (k0_h1 : k0_cond1 i k0_t2 = 1#1), ∀ a x, ((![v184, v154] : Fin 2 → IVec S16 32) a x).toNat < S160x142.size a := fun i k0_t2 v154 v184 k0_hw297 k0_h1 => k0_hw297 k0_h1

def k0_chk299 (i : grid0.Coords) (k0_t2 : Fin k0_t2_loop.trips) (v185 : IVec S16 32) (v188 : IVec S16 32) : Prop :=
  (∀ (k0_h1 : k0_cond1 i k0_t2 = 1#1), ∀ a x, ((![v188, v185] : Fin 2 → IVec S16 32) a x).toNat < S160x142.size a)
theorem k0_idx368_inb : ∀ (i : grid0.Coords) (k0_t2 : Fin k0_t2_loop.trips) (v185 : IVec S16 32) (v188 : IVec S16 32) (k0_hw299 : k0_chk299 i k0_t2 v185 v188), ∀ (k0_h1 : k0_cond1 i k0_t2 = 1#1), ∀ a x, ((![v188, v185] : Fin 2 → IVec S16 32) a x).toNat < S160x142.size a := fun i k0_t2 v185 v188 k0_hw299 k0_h1 => k0_hw299 k0_h1

def k0_chk300 (i : grid0.Coords) (k0_t2 : Fin k0_t2_loop.trips) (v185 : IVec S16 32) (v191 : IVec S16 32) : Prop :=
  (∀ (k0_h1 : k0_cond1 i k0_t2 = 1#1), ∀ a x, ((![v191, v185] : Fin 2 → IVec S16 32) a x).toNat < S160x142.size a)
theorem k0_idx370_inb : ∀ (i : grid0.Coords) (k0_t2 : Fin k0_t2_loop.trips) (v185 : IVec S16 32) (v191 : IVec S16 32) (k0_hw300 : k0_chk300 i k0_t2 v185 v191), ∀ (k0_h1 : k0_cond1 i k0_t2 = 1#1), ∀ a x, ((![v191, v185] : Fin 2 → IVec S16 32) a x).toNat < S160x142.size a := fun i k0_t2 v185 v191 k0_hw300 k0_h1 => k0_hw300 k0_h1

def k0_chk301 (i : grid0.Coords) (k0_t2 : Fin k0_t2_loop.trips) (v185 : IVec S16 32) (v194 : IVec S16 32) : Prop :=
  (∀ (k0_h1 : k0_cond1 i k0_t2 = 1#1), ∀ a x, ((![v194, v185] : Fin 2 → IVec S16 32) a x).toNat < S160x142.size a)
theorem k0_idx372_inb : ∀ (i : grid0.Coords) (k0_t2 : Fin k0_t2_loop.trips) (v185 : IVec S16 32) (v194 : IVec S16 32) (k0_hw301 : k0_chk301 i k0_t2 v185 v194), ∀ (k0_h1 : k0_cond1 i k0_t2 = 1#1), ∀ a x, ((![v194, v185] : Fin 2 → IVec S16 32) a x).toNat < S160x142.size a := fun i k0_t2 v185 v194 k0_hw301 k0_h1 => k0_hw301 k0_h1

def k0_chk302 (i : grid0.Coords) (k0_t2 : Fin k0_t2_loop.trips) (v185 : IVec S16 32) (v197 : IVec S16 32) : Prop :=
  (∀ (k0_h1 : k0_cond1 i k0_t2 = 1#1), ∀ a x, ((![v197, v185] : Fin 2 → IVec S16 32) a x).toNat < S160x142.size a)
theorem k0_idx374_inb : ∀ (i : grid0.Coords) (k0_t2 : Fin k0_t2_loop.trips) (v185 : IVec S16 32) (v197 : IVec S16 32) (k0_hw302 : k0_chk302 i k0_t2 v185 v197), ∀ (k0_h1 : k0_cond1 i k0_t2 = 1#1), ∀ a x, ((![v197, v185] : Fin 2 → IVec S16 32) a x).toNat < S160x142.size a := fun i k0_t2 v185 v197 k0_hw302 k0_h1 => k0_hw302 k0_h1

def k0_chk303 (i : grid0.Coords) (k0_t2 : Fin k0_t2_loop.trips) (v185 : IVec S16 32) (v200 : IVec S16 32) : Prop :=
  (∀ (k0_h1 : k0_cond1 i k0_t2 = 1#1), ∀ a x, ((![v200, v185] : Fin 2 → IVec S16 32) a x).toNat < S160x142.size a)
theorem k0_idx376_inb : ∀ (i : grid0.Coords) (k0_t2 : Fin k0_t2_loop.trips) (v185 : IVec S16 32) (v200 : IVec S16 32) (k0_hw303 : k0_chk303 i k0_t2 v185 v200), ∀ (k0_h1 : k0_cond1 i k0_t2 = 1#1), ∀ a x, ((![v200, v185] : Fin 2 → IVec S16 32) a x).toNat < S160x142.size a := fun i k0_t2 v185 v200 k0_hw303 k0_h1 => k0_hw303 k0_h1

def k0_chk304 (i : grid0.Coords) (k0_t2 : Fin k0_t2_loop.trips) (v185 : IVec S16 32) (v203 : IVec S16 32) : Prop :=
  (∀ (k0_h1 : k0_cond1 i k0_t2 = 1#1), ∀ a x, ((![v203, v185] : Fin 2 → IVec S16 32) a x).toNat < S160x142.size a)
theorem k0_idx378_inb : ∀ (i : grid0.Coords) (k0_t2 : Fin k0_t2_loop.trips) (v185 : IVec S16 32) (v203 : IVec S16 32) (k0_hw304 : k0_chk304 i k0_t2 v185 v203), ∀ (k0_h1 : k0_cond1 i k0_t2 = 1#1), ∀ a x, ((![v203, v185] : Fin 2 → IVec S16 32) a x).toNat < S160x142.size a := fun i k0_t2 v185 v203 k0_hw304 k0_h1 => k0_hw304 k0_h1

def k0_chk305 (i : grid0.Coords) (k0_t2 : Fin k0_t2_loop.trips) (v185 : IVec S16 32) (v206 : IVec S16 32) : Prop :=
  (∀ (k0_h1 : k0_cond1 i k0_t2 = 1#1), ∀ a x, ((![v206, v185] : Fin 2 → IVec S16 32) a x).toNat < S160x142.size a)
theorem k0_idx380_inb : ∀ (i : grid0.Coords) (k0_t2 : Fin k0_t2_loop.trips) (v185 : IVec S16 32) (v206 : IVec S16 32) (k0_hw305 : k0_chk305 i k0_t2 v185 v206), ∀ (k0_h1 : k0_cond1 i k0_t2 = 1#1), ∀ a x, ((![v206, v185] : Fin 2 → IVec S16 32) a x).toNat < S160x142.size a := fun i k0_t2 v185 v206 k0_hw305 k0_h1 => k0_hw305 k0_h1

def k0_chk306 (i : grid0.Coords) (k0_t2 : Fin k0_t2_loop.trips) (v185 : IVec S16 32) (v209 : IVec S16 32) : Prop :=
  (∀ (k0_h1 : k0_cond1 i k0_t2 = 1#1), ∀ a x, ((![v209, v185] : Fin 2 → IVec S16 32) a x).toNat < S160x142.size a)
theorem k0_idx382_inb : ∀ (i : grid0.Coords) (k0_t2 : Fin k0_t2_loop.trips) (v185 : IVec S16 32) (v209 : IVec S16 32) (k0_hw306 : k0_chk306 i k0_t2 v185 v209), ∀ (k0_h1 : k0_cond1 i k0_t2 = 1#1), ∀ a x, ((![v209, v185] : Fin 2 → IVec S16 32) a x).toNat < S160x142.size a := fun i k0_t2 v185 v209 k0_hw306 k0_h1 => k0_hw306 k0_h1

def k0_chk307 (i : grid0.Coords) (k0_t2 : Fin k0_t2_loop.trips) (v185 : IVec S16 32) (v212 : IVec S16 32) : Prop :=
  (∀ (k0_h1 : k0_cond1 i k0_t2 = 1#1), ∀ a x, ((![v212, v185] : Fin 2 → IVec S16 32) a x).toNat < S160x142.size a)
theorem k0_idx384_inb : ∀ (i : grid0.Coords) (k0_t2 : Fin k0_t2_loop.trips) (v185 : IVec S16 32) (v212 : IVec S16 32) (k0_hw307 : k0_chk307 i k0_t2 v185 v212), ∀ (k0_h1 : k0_cond1 i k0_t2 = 1#1), ∀ a x, ((![v212, v185] : Fin 2 → IVec S16 32) a x).toNat < S160x142.size a := fun i k0_t2 v185 v212 k0_hw307 k0_h1 => k0_hw307 k0_h1

def k0_chk298 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) : Prop :=
  (∀ (k0_h1 : k0_cond1 i k0_t2 = 1#1), ∀ a x, ((![v15, v185] : Fin 2 → IVec S16 32) a x).toNat < S256x142.size a) ∧
  (∀ (k0_h1 : k0_cond1 i k0_t2 = 1#1), ∀ a x, ((![v20, v185] : Fin 2 → IVec S16 32) a x).toNat < S256x142.size a) ∧
  (∀ (k0_h1 : k0_cond1 i k0_t2 = 1#1), ∀ a x, ((![v25, v185] : Fin 2 → IVec S16 32) a x).toNat < S256x142.size a) ∧
  (∀ (k0_h1 : k0_cond1 i k0_t2 = 1#1), ∀ a x, ((![v30, v185] : Fin 2 → IVec S16 32) a x).toNat < S256x142.size a) ∧
  (∀ (k0_h1 : k0_cond1 i k0_t2 = 1#1), ∀ a x, ((![v35, v185] : Fin 2 → IVec S16 32) a x).toNat < S256x142.size a) ∧
  (∀ (k0_h1 : k0_cond1 i k0_t2 = 1#1), ∀ a x, ((![v40, v185] : Fin 2 → IVec S16 32) a x).toNat < S256x142.size a) ∧
  (∀ (k0_h1 : k0_cond1 i k0_t2 = 1#1), ∀ a x, ((![v45, v185] : Fin 2 → IVec S16 32) a x).toNat < S256x142.size a) ∧
  (∀ (k0_h1 : k0_cond1 i k0_t2 = 1#1), ∀ a x, ((![v50, v185] : Fin 2 → IVec S16 32) a x).toNat < S256x142.size a) ∧
  (∀ (k0_h1 : k0_cond1 i k0_t2 = 1#1), ∀ a x, ((![v55, v185] : Fin 2 → IVec S16 32) a x).toNat < S256x142.size a) ∧
  (∀ (k0_h1 : k0_cond1 i k0_t2 = 1#1), ∀ a x, ((![v60, v185] : Fin 2 → IVec S16 32) a x).toNat < S256x142.size a)
theorem k0_idx367_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v15, v185] : Fin 2 → IVec S16 32) a x).toNat < S256x142.size a := fun i k0_t2 v15 v20 v25 v30 v35 v40 v45 v50 v55 v60 v185 k0_hw298 k0_h1 => k0_hw298.1 k0_h1
theorem k0_idx369_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v20, v185] : Fin 2 → IVec S16 32) a x).toNat < S256x142.size a := fun i k0_t2 v15 v20 v25 v30 v35 v40 v45 v50 v55 v60 v185 k0_hw298 k0_h1 => k0_hw298.2.1 k0_h1
theorem k0_idx371_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v25, v185] : Fin 2 → IVec S16 32) a x).toNat < S256x142.size a := fun i k0_t2 v15 v20 v25 v30 v35 v40 v45 v50 v55 v60 v185 k0_hw298 k0_h1 => k0_hw298.2.2.1 k0_h1
theorem k0_idx373_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v30, v185] : Fin 2 → IVec S16 32) a x).toNat < S256x142.size a := fun i k0_t2 v15 v20 v25 v30 v35 v40 v45 v50 v55 v60 v185 k0_hw298 k0_h1 => k0_hw298.2.2.2.1 k0_h1
theorem k0_idx375_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v35, v185] : Fin 2 → IVec S16 32) a x).toNat < S256x142.size a := fun i k0_t2 v15 v20 v25 v30 v35 v40 v45 v50 v55 v60 v185 k0_hw298 k0_h1 => k0_hw298.2.2.2.2.1 k0_h1
theorem k0_idx377_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v40, v185] : Fin 2 → IVec S16 32) a x).toNat < S256x142.size a := fun i k0_t2 v15 v20 v25 v30 v35 v40 v45 v50 v55 v60 v185 k0_hw298 k0_h1 => k0_hw298.2.2.2.2.2.1 k0_h1
theorem k0_idx379_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v45, v185] : Fin 2 → IVec S16 32) a x).toNat < S256x142.size a := fun i k0_t2 v15 v20 v25 v30 v35 v40 v45 v50 v55 v60 v185 k0_hw298 k0_h1 => k0_hw298.2.2.2.2.2.2.1 k0_h1
theorem k0_idx381_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v50, v185] : Fin 2 → IVec S16 32) a x).toNat < S256x142.size a := fun i k0_t2 v15 v20 v25 v30 v35 v40 v45 v50 v55 v60 v185 k0_hw298 k0_h1 => k0_hw298.2.2.2.2.2.2.2.1 k0_h1
theorem k0_idx383_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v55, v185] : Fin 2 → IVec S16 32) a x).toNat < S256x142.size a := fun i k0_t2 v15 v20 v25 v30 v35 v40 v45 v50 v55 v60 v185 k0_hw298 k0_h1 => k0_hw298.2.2.2.2.2.2.2.2.1 k0_h1
theorem k0_idx385_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v185 : IVec S16 32) (k0_hw298 : k0_chk298 i k0_t2 v15 v20 v25 v30 v35 v40 v45 v50 v55 v60 v185), ∀ (k0_h1 : k0_cond1 i k0_t2 = 1#1), ∀ a x, ((![v60, v185] : Fin 2 → IVec S16 32) a x).toNat < S256x142.size a := fun i k0_t2 v15 v20 v25 v30 v35 v40 v45 v50 v55 v60 v185 k0_hw298 k0_h1 => k0_hw298.2.2.2.2.2.2.2.2.2 k0_h1

def k0_chk308 (i : grid0.Coords) (k0_t2 : Fin k0_t2_loop.trips) (v185 : IVec S16 32) (v215 : IVec S16 32) : Prop :=
  (∀ (k0_h1 : k0_cond1 i k0_t2 = 1#1), ∀ a x, ((![v215, v185] : Fin 2 → IVec S16 32) a x).toNat < S160x142.size a)
theorem k0_idx386_inb : ∀ (i : grid0.Coords) (k0_t2 : Fin k0_t2_loop.trips) (v185 : IVec S16 32) (v215 : IVec S16 32) (k0_hw308 : k0_chk308 i k0_t2 v185 v215), ∀ (k0_h1 : k0_cond1 i k0_t2 = 1#1), ∀ a x, ((![v215, v185] : Fin 2 → IVec S16 32) a x).toNat < S160x142.size a := fun i k0_t2 v185 v215 k0_hw308 k0_h1 => k0_hw308 k0_h1

def k0_chk310 (i : grid0.Coords) (k0_t2 : Fin k0_t2_loop.trips) (v216 : IVec S16 32) (v219 : IVec S16 32) : Prop :=
  (∀ (k0_h1 : k0_cond1 i k0_t2 = 1#1), ∀ a x, ((![v219, v216] : Fin 2 → IVec S16 32) a x).toNat < S160x142.size a)
theorem k0_idx388_inb : ∀ (i : grid0.Coords) (k0_t2 : Fin k0_t2_loop.trips) (v216 : IVec S16 32) (v219 : IVec S16 32) (k0_hw310 : k0_chk310 i k0_t2 v216 v219), ∀ (k0_h1 : k0_cond1 i k0_t2 = 1#1), ∀ a x, ((![v219, v216] : Fin 2 → IVec S16 32) a x).toNat < S160x142.size a := fun i k0_t2 v216 v219 k0_hw310 k0_h1 => k0_hw310 k0_h1

def k0_chk311 (i : grid0.Coords) (k0_t2 : Fin k0_t2_loop.trips) (v216 : IVec S16 32) (v222 : IVec S16 32) : Prop :=
  (∀ (k0_h1 : k0_cond1 i k0_t2 = 1#1), ∀ a x, ((![v222, v216] : Fin 2 → IVec S16 32) a x).toNat < S160x142.size a)
theorem k0_idx390_inb : ∀ (i : grid0.Coords) (k0_t2 : Fin k0_t2_loop.trips) (v216 : IVec S16 32) (v222 : IVec S16 32) (k0_hw311 : k0_chk311 i k0_t2 v216 v222), ∀ (k0_h1 : k0_cond1 i k0_t2 = 1#1), ∀ a x, ((![v222, v216] : Fin 2 → IVec S16 32) a x).toNat < S160x142.size a := fun i k0_t2 v216 v222 k0_hw311 k0_h1 => k0_hw311 k0_h1

def k0_chk312 (i : grid0.Coords) (k0_t2 : Fin k0_t2_loop.trips) (v216 : IVec S16 32) (v225 : IVec S16 32) : Prop :=
  (∀ (k0_h1 : k0_cond1 i k0_t2 = 1#1), ∀ a x, ((![v225, v216] : Fin 2 → IVec S16 32) a x).toNat < S160x142.size a)
theorem k0_idx392_inb : ∀ (i : grid0.Coords) (k0_t2 : Fin k0_t2_loop.trips) (v216 : IVec S16 32) (v225 : IVec S16 32) (k0_hw312 : k0_chk312 i k0_t2 v216 v225), ∀ (k0_h1 : k0_cond1 i k0_t2 = 1#1), ∀ a x, ((![v225, v216] : Fin 2 → IVec S16 32) a x).toNat < S160x142.size a := fun i k0_t2 v216 v225 k0_hw312 k0_h1 => k0_hw312 k0_h1

def k0_chk313 (i : grid0.Coords) (k0_t2 : Fin k0_t2_loop.trips) (v216 : IVec S16 32) (v228 : IVec S16 32) : Prop :=
  (∀ (k0_h1 : k0_cond1 i k0_t2 = 1#1), ∀ a x, ((![v228, v216] : Fin 2 → IVec S16 32) a x).toNat < S160x142.size a)
theorem k0_idx394_inb : ∀ (i : grid0.Coords) (k0_t2 : Fin k0_t2_loop.trips) (v216 : IVec S16 32) (v228 : IVec S16 32) (k0_hw313 : k0_chk313 i k0_t2 v216 v228), ∀ (k0_h1 : k0_cond1 i k0_t2 = 1#1), ∀ a x, ((![v228, v216] : Fin 2 → IVec S16 32) a x).toNat < S160x142.size a := fun i k0_t2 v216 v228 k0_hw313 k0_h1 => k0_hw313 k0_h1

def k0_chk314 (i : grid0.Coords) (k0_t2 : Fin k0_t2_loop.trips) (v216 : IVec S16 32) (v231 : IVec S16 32) : Prop :=
  (∀ (k0_h1 : k0_cond1 i k0_t2 = 1#1), ∀ a x, ((![v231, v216] : Fin 2 → IVec S16 32) a x).toNat < S160x142.size a)
theorem k0_idx396_inb : ∀ (i : grid0.Coords) (k0_t2 : Fin k0_t2_loop.trips) (v216 : IVec S16 32) (v231 : IVec S16 32) (k0_hw314 : k0_chk314 i k0_t2 v216 v231), ∀ (k0_h1 : k0_cond1 i k0_t2 = 1#1), ∀ a x, ((![v231, v216] : Fin 2 → IVec S16 32) a x).toNat < S160x142.size a := fun i k0_t2 v216 v231 k0_hw314 k0_h1 => k0_hw314 k0_h1

def k0_chk315 (i : grid0.Coords) (k0_t2 : Fin k0_t2_loop.trips) (v216 : IVec S16 32) (v234 : IVec S16 32) : Prop :=
  (∀ (k0_h1 : k0_cond1 i k0_t2 = 1#1), ∀ a x, ((![v234, v216] : Fin 2 → IVec S16 32) a x).toNat < S160x142.size a)
theorem k0_idx398_inb : ∀ (i : grid0.Coords) (k0_t2 : Fin k0_t2_loop.trips) (v216 : IVec S16 32) (v234 : IVec S16 32) (k0_hw315 : k0_chk315 i k0_t2 v216 v234), ∀ (k0_h1 : k0_cond1 i k0_t2 = 1#1), ∀ a x, ((![v234, v216] : Fin 2 → IVec S16 32) a x).toNat < S160x142.size a := fun i k0_t2 v216 v234 k0_hw315 k0_h1 => k0_hw315 k0_h1

def k0_chk316 (i : grid0.Coords) (k0_t2 : Fin k0_t2_loop.trips) (v216 : IVec S16 32) (v237 : IVec S16 32) : Prop :=
  (∀ (k0_h1 : k0_cond1 i k0_t2 = 1#1), ∀ a x, ((![v237, v216] : Fin 2 → IVec S16 32) a x).toNat < S160x142.size a)
theorem k0_idx400_inb : ∀ (i : grid0.Coords) (k0_t2 : Fin k0_t2_loop.trips) (v216 : IVec S16 32) (v237 : IVec S16 32) (k0_hw316 : k0_chk316 i k0_t2 v216 v237), ∀ (k0_h1 : k0_cond1 i k0_t2 = 1#1), ∀ a x, ((![v237, v216] : Fin 2 → IVec S16 32) a x).toNat < S160x142.size a := fun i k0_t2 v216 v237 k0_hw316 k0_h1 => k0_hw316 k0_h1

def k0_chk317 (i : grid0.Coords) (k0_t2 : Fin k0_t2_loop.trips) (v216 : IVec S16 32) (v240 : IVec S16 32) : Prop :=
  (∀ (k0_h1 : k0_cond1 i k0_t2 = 1#1), ∀ a x, ((![v240, v216] : Fin 2 → IVec S16 32) a x).toNat < S160x142.size a)
theorem k0_idx402_inb : ∀ (i : grid0.Coords) (k0_t2 : Fin k0_t2_loop.trips) (v216 : IVec S16 32) (v240 : IVec S16 32) (k0_hw317 : k0_chk317 i k0_t2 v216 v240), ∀ (k0_h1 : k0_cond1 i k0_t2 = 1#1), ∀ a x, ((![v240, v216] : Fin 2 → IVec S16 32) a x).toNat < S160x142.size a := fun i k0_t2 v216 v240 k0_hw317 k0_h1 => k0_hw317 k0_h1

def k0_chk318 (i : grid0.Coords) (k0_t2 : Fin k0_t2_loop.trips) (v216 : IVec S16 32) (v243 : IVec S16 32) : Prop :=
  (∀ (k0_h1 : k0_cond1 i k0_t2 = 1#1), ∀ a x, ((![v243, v216] : Fin 2 → IVec S16 32) a x).toNat < S160x142.size a)
theorem k0_idx404_inb : ∀ (i : grid0.Coords) (k0_t2 : Fin k0_t2_loop.trips) (v216 : IVec S16 32) (v243 : IVec S16 32) (k0_hw318 : k0_chk318 i k0_t2 v216 v243), ∀ (k0_h1 : k0_cond1 i k0_t2 = 1#1), ∀ a x, ((![v243, v216] : Fin 2 → IVec S16 32) a x).toNat < S160x142.size a := fun i k0_t2 v216 v243 k0_hw318 k0_h1 => k0_hw318 k0_h1

def k0_chk309 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) : Prop :=
  (∀ (k0_h1 : k0_cond1 i k0_t2 = 1#1), ∀ a x, ((![v15, v216] : Fin 2 → IVec S16 32) a x).toNat < S256x142.size a) ∧
  (∀ (k0_h1 : k0_cond1 i k0_t2 = 1#1), ∀ a x, ((![v20, v216] : Fin 2 → IVec S16 32) a x).toNat < S256x142.size a) ∧
  (∀ (k0_h1 : k0_cond1 i k0_t2 = 1#1), ∀ a x, ((![v25, v216] : Fin 2 → IVec S16 32) a x).toNat < S256x142.size a) ∧
  (∀ (k0_h1 : k0_cond1 i k0_t2 = 1#1), ∀ a x, ((![v30, v216] : Fin 2 → IVec S16 32) a x).toNat < S256x142.size a) ∧
  (∀ (k0_h1 : k0_cond1 i k0_t2 = 1#1), ∀ a x, ((![v35, v216] : Fin 2 → IVec S16 32) a x).toNat < S256x142.size a) ∧
  (∀ (k0_h1 : k0_cond1 i k0_t2 = 1#1), ∀ a x, ((![v40, v216] : Fin 2 → IVec S16 32) a x).toNat < S256x142.size a) ∧
  (∀ (k0_h1 : k0_cond1 i k0_t2 = 1#1), ∀ a x, ((![v45, v216] : Fin 2 → IVec S16 32) a x).toNat < S256x142.size a) ∧
  (∀ (k0_h1 : k0_cond1 i k0_t2 = 1#1), ∀ a x, ((![v50, v216] : Fin 2 → IVec S16 32) a x).toNat < S256x142.size a) ∧
  (∀ (k0_h1 : k0_cond1 i k0_t2 = 1#1), ∀ a x, ((![v55, v216] : Fin 2 → IVec S16 32) a x).toNat < S256x142.size a) ∧
  (∀ (k0_h1 : k0_cond1 i k0_t2 = 1#1), ∀ a x, ((![v60, v216] : Fin 2 → IVec S16 32) a x).toNat < S256x142.size a)
theorem k0_idx387_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v15, v216] : Fin 2 → IVec S16 32) a x).toNat < S256x142.size a := fun i k0_t2 v15 v20 v25 v30 v35 v40 v45 v50 v55 v60 v216 k0_hw309 k0_h1 => k0_hw309.1 k0_h1
theorem k0_idx389_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v20, v216] : Fin 2 → IVec S16 32) a x).toNat < S256x142.size a := fun i k0_t2 v15 v20 v25 v30 v35 v40 v45 v50 v55 v60 v216 k0_hw309 k0_h1 => k0_hw309.2.1 k0_h1
theorem k0_idx391_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v25, v216] : Fin 2 → IVec S16 32) a x).toNat < S256x142.size a := fun i k0_t2 v15 v20 v25 v30 v35 v40 v45 v50 v55 v60 v216 k0_hw309 k0_h1 => k0_hw309.2.2.1 k0_h1
theorem k0_idx393_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v30, v216] : Fin 2 → IVec S16 32) a x).toNat < S256x142.size a := fun i k0_t2 v15 v20 v25 v30 v35 v40 v45 v50 v55 v60 v216 k0_hw309 k0_h1 => k0_hw309.2.2.2.1 k0_h1
theorem k0_idx395_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v35, v216] : Fin 2 → IVec S16 32) a x).toNat < S256x142.size a := fun i k0_t2 v15 v20 v25 v30 v35 v40 v45 v50 v55 v60 v216 k0_hw309 k0_h1 => k0_hw309.2.2.2.2.1 k0_h1
theorem k0_idx397_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v40, v216] : Fin 2 → IVec S16 32) a x).toNat < S256x142.size a := fun i k0_t2 v15 v20 v25 v30 v35 v40 v45 v50 v55 v60 v216 k0_hw309 k0_h1 => k0_hw309.2.2.2.2.2.1 k0_h1
theorem k0_idx399_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v45, v216] : Fin 2 → IVec S16 32) a x).toNat < S256x142.size a := fun i k0_t2 v15 v20 v25 v30 v35 v40 v45 v50 v55 v60 v216 k0_hw309 k0_h1 => k0_hw309.2.2.2.2.2.2.1 k0_h1
theorem k0_idx401_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v50, v216] : Fin 2 → IVec S16 32) a x).toNat < S256x142.size a := fun i k0_t2 v15 v20 v25 v30 v35 v40 v45 v50 v55 v60 v216 k0_hw309 k0_h1 => k0_hw309.2.2.2.2.2.2.2.1 k0_h1
theorem k0_idx403_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v55, v216] : Fin 2 → IVec S16 32) a x).toNat < S256x142.size a := fun i k0_t2 v15 v20 v25 v30 v35 v40 v45 v50 v55 v60 v216 k0_hw309 k0_h1 => k0_hw309.2.2.2.2.2.2.2.2.1 k0_h1
theorem k0_idx405_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v216 : IVec S16 32) (k0_hw309 : k0_chk309 i k0_t2 v15 v20 v25 v30 v35 v40 v45 v50 v55 v60 v216), ∀ (k0_h1 : k0_cond1 i k0_t2 = 1#1), ∀ a x, ((![v60, v216] : Fin 2 → IVec S16 32) a x).toNat < S256x142.size a := fun i k0_t2 v15 v20 v25 v30 v35 v40 v45 v50 v55 v60 v216 k0_hw309 k0_h1 => k0_hw309.2.2.2.2.2.2.2.2.2 k0_h1

def k0_chk319 (i : grid0.Coords) (k0_t2 : Fin k0_t2_loop.trips) (v216 : IVec S16 32) (v246 : IVec S16 32) : Prop :=
  (∀ (k0_h1 : k0_cond1 i k0_t2 = 1#1), ∀ a x, ((![v246, v216] : Fin 2 → IVec S16 32) a x).toNat < S160x142.size a)
theorem k0_idx406_inb : ∀ (i : grid0.Coords) (k0_t2 : Fin k0_t2_loop.trips) (v216 : IVec S16 32) (v246 : IVec S16 32) (k0_hw319 : k0_chk319 i k0_t2 v216 v246), ∀ (k0_h1 : k0_cond1 i k0_t2 = 1#1), ∀ a x, ((![v246, v216] : Fin 2 → IVec S16 32) a x).toNat < S160x142.size a := fun i k0_t2 v216 v246 k0_hw319 k0_h1 => k0_hw319 k0_h1

def k0_chk321 (i : grid0.Coords) (k0_t2 : Fin k0_t2_loop.trips) (v247 : IVec S16 32) (v250 : IVec S16 32) : Prop :=
  (∀ (k0_h1 : k0_cond1 i k0_t2 = 1#1), ∀ a x, ((![v250, v247] : Fin 2 → IVec S16 32) a x).toNat < S160x142.size a)
theorem k0_idx408_inb : ∀ (i : grid0.Coords) (k0_t2 : Fin k0_t2_loop.trips) (v247 : IVec S16 32) (v250 : IVec S16 32) (k0_hw321 : k0_chk321 i k0_t2 v247 v250), ∀ (k0_h1 : k0_cond1 i k0_t2 = 1#1), ∀ a x, ((![v250, v247] : Fin 2 → IVec S16 32) a x).toNat < S160x142.size a := fun i k0_t2 v247 v250 k0_hw321 k0_h1 => k0_hw321 k0_h1

def k0_chk322 (i : grid0.Coords) (k0_t2 : Fin k0_t2_loop.trips) (v247 : IVec S16 32) (v253 : IVec S16 32) : Prop :=
  (∀ (k0_h1 : k0_cond1 i k0_t2 = 1#1), ∀ a x, ((![v253, v247] : Fin 2 → IVec S16 32) a x).toNat < S160x142.size a)
theorem k0_idx410_inb : ∀ (i : grid0.Coords) (k0_t2 : Fin k0_t2_loop.trips) (v247 : IVec S16 32) (v253 : IVec S16 32) (k0_hw322 : k0_chk322 i k0_t2 v247 v253), ∀ (k0_h1 : k0_cond1 i k0_t2 = 1#1), ∀ a x, ((![v253, v247] : Fin 2 → IVec S16 32) a x).toNat < S160x142.size a := fun i k0_t2 v247 v253 k0_hw322 k0_h1 => k0_hw322 k0_h1

def k0_chk323 (i : grid0.Coords) (k0_t2 : Fin k0_t2_loop.trips) (v247 : IVec S16 32) (v256 : IVec S16 32) : Prop :=
  (∀ (k0_h1 : k0_cond1 i k0_t2 = 1#1), ∀ a x, ((![v256, v247] : Fin 2 → IVec S16 32) a x).toNat < S160x142.size a)
theorem k0_idx412_inb : ∀ (i : grid0.Coords) (k0_t2 : Fin k0_t2_loop.trips) (v247 : IVec S16 32) (v256 : IVec S16 32) (k0_hw323 : k0_chk323 i k0_t2 v247 v256), ∀ (k0_h1 : k0_cond1 i k0_t2 = 1#1), ∀ a x, ((![v256, v247] : Fin 2 → IVec S16 32) a x).toNat < S160x142.size a := fun i k0_t2 v247 v256 k0_hw323 k0_h1 => k0_hw323 k0_h1

def k0_chk324 (i : grid0.Coords) (k0_t2 : Fin k0_t2_loop.trips) (v247 : IVec S16 32) (v259 : IVec S16 32) : Prop :=
  (∀ (k0_h1 : k0_cond1 i k0_t2 = 1#1), ∀ a x, ((![v259, v247] : Fin 2 → IVec S16 32) a x).toNat < S160x142.size a)
theorem k0_idx414_inb : ∀ (i : grid0.Coords) (k0_t2 : Fin k0_t2_loop.trips) (v247 : IVec S16 32) (v259 : IVec S16 32) (k0_hw324 : k0_chk324 i k0_t2 v247 v259), ∀ (k0_h1 : k0_cond1 i k0_t2 = 1#1), ∀ a x, ((![v259, v247] : Fin 2 → IVec S16 32) a x).toNat < S160x142.size a := fun i k0_t2 v247 v259 k0_hw324 k0_h1 => k0_hw324 k0_h1

def k0_chk325 (i : grid0.Coords) (k0_t2 : Fin k0_t2_loop.trips) (v247 : IVec S16 32) (v262 : IVec S16 32) : Prop :=
  (∀ (k0_h1 : k0_cond1 i k0_t2 = 1#1), ∀ a x, ((![v262, v247] : Fin 2 → IVec S16 32) a x).toNat < S160x142.size a)
theorem k0_idx416_inb : ∀ (i : grid0.Coords) (k0_t2 : Fin k0_t2_loop.trips) (v247 : IVec S16 32) (v262 : IVec S16 32) (k0_hw325 : k0_chk325 i k0_t2 v247 v262), ∀ (k0_h1 : k0_cond1 i k0_t2 = 1#1), ∀ a x, ((![v262, v247] : Fin 2 → IVec S16 32) a x).toNat < S160x142.size a := fun i k0_t2 v247 v262 k0_hw325 k0_h1 => k0_hw325 k0_h1

def k0_chk326 (i : grid0.Coords) (k0_t2 : Fin k0_t2_loop.trips) (v247 : IVec S16 32) (v265 : IVec S16 32) : Prop :=
  (∀ (k0_h1 : k0_cond1 i k0_t2 = 1#1), ∀ a x, ((![v265, v247] : Fin 2 → IVec S16 32) a x).toNat < S160x142.size a)
theorem k0_idx418_inb : ∀ (i : grid0.Coords) (k0_t2 : Fin k0_t2_loop.trips) (v247 : IVec S16 32) (v265 : IVec S16 32) (k0_hw326 : k0_chk326 i k0_t2 v247 v265), ∀ (k0_h1 : k0_cond1 i k0_t2 = 1#1), ∀ a x, ((![v265, v247] : Fin 2 → IVec S16 32) a x).toNat < S160x142.size a := fun i k0_t2 v247 v265 k0_hw326 k0_h1 => k0_hw326 k0_h1

def k0_chk327 (i : grid0.Coords) (k0_t2 : Fin k0_t2_loop.trips) (v247 : IVec S16 32) (v268 : IVec S16 32) : Prop :=
  (∀ (k0_h1 : k0_cond1 i k0_t2 = 1#1), ∀ a x, ((![v268, v247] : Fin 2 → IVec S16 32) a x).toNat < S160x142.size a)
theorem k0_idx420_inb : ∀ (i : grid0.Coords) (k0_t2 : Fin k0_t2_loop.trips) (v247 : IVec S16 32) (v268 : IVec S16 32) (k0_hw327 : k0_chk327 i k0_t2 v247 v268), ∀ (k0_h1 : k0_cond1 i k0_t2 = 1#1), ∀ a x, ((![v268, v247] : Fin 2 → IVec S16 32) a x).toNat < S160x142.size a := fun i k0_t2 v247 v268 k0_hw327 k0_h1 => k0_hw327 k0_h1

def k0_chk328 (i : grid0.Coords) (k0_t2 : Fin k0_t2_loop.trips) (v247 : IVec S16 32) (v271 : IVec S16 32) : Prop :=
  (∀ (k0_h1 : k0_cond1 i k0_t2 = 1#1), ∀ a x, ((![v271, v247] : Fin 2 → IVec S16 32) a x).toNat < S160x142.size a)
theorem k0_idx422_inb : ∀ (i : grid0.Coords) (k0_t2 : Fin k0_t2_loop.trips) (v247 : IVec S16 32) (v271 : IVec S16 32) (k0_hw328 : k0_chk328 i k0_t2 v247 v271), ∀ (k0_h1 : k0_cond1 i k0_t2 = 1#1), ∀ a x, ((![v271, v247] : Fin 2 → IVec S16 32) a x).toNat < S160x142.size a := fun i k0_t2 v247 v271 k0_hw328 k0_h1 => k0_hw328 k0_h1

def k0_chk329 (i : grid0.Coords) (k0_t2 : Fin k0_t2_loop.trips) (v247 : IVec S16 32) (v274 : IVec S16 32) : Prop :=
  (∀ (k0_h1 : k0_cond1 i k0_t2 = 1#1), ∀ a x, ((![v274, v247] : Fin 2 → IVec S16 32) a x).toNat < S160x142.size a)
theorem k0_idx424_inb : ∀ (i : grid0.Coords) (k0_t2 : Fin k0_t2_loop.trips) (v247 : IVec S16 32) (v274 : IVec S16 32) (k0_hw329 : k0_chk329 i k0_t2 v247 v274), ∀ (k0_h1 : k0_cond1 i k0_t2 = 1#1), ∀ a x, ((![v274, v247] : Fin 2 → IVec S16 32) a x).toNat < S160x142.size a := fun i k0_t2 v247 v274 k0_hw329 k0_h1 => k0_hw329 k0_h1

def k0_chk320 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) : Prop :=
  (∀ (k0_h1 : k0_cond1 i k0_t2 = 1#1), ∀ a x, ((![v15, v247] : Fin 2 → IVec S16 32) a x).toNat < S256x142.size a) ∧
  (∀ (k0_h1 : k0_cond1 i k0_t2 = 1#1), ∀ a x, ((![v20, v247] : Fin 2 → IVec S16 32) a x).toNat < S256x142.size a) ∧
  (∀ (k0_h1 : k0_cond1 i k0_t2 = 1#1), ∀ a x, ((![v25, v247] : Fin 2 → IVec S16 32) a x).toNat < S256x142.size a) ∧
  (∀ (k0_h1 : k0_cond1 i k0_t2 = 1#1), ∀ a x, ((![v30, v247] : Fin 2 → IVec S16 32) a x).toNat < S256x142.size a) ∧
  (∀ (k0_h1 : k0_cond1 i k0_t2 = 1#1), ∀ a x, ((![v35, v247] : Fin 2 → IVec S16 32) a x).toNat < S256x142.size a) ∧
  (∀ (k0_h1 : k0_cond1 i k0_t2 = 1#1), ∀ a x, ((![v40, v247] : Fin 2 → IVec S16 32) a x).toNat < S256x142.size a) ∧
  (∀ (k0_h1 : k0_cond1 i k0_t2 = 1#1), ∀ a x, ((![v45, v247] : Fin 2 → IVec S16 32) a x).toNat < S256x142.size a) ∧
  (∀ (k0_h1 : k0_cond1 i k0_t2 = 1#1), ∀ a x, ((![v50, v247] : Fin 2 → IVec S16 32) a x).toNat < S256x142.size a) ∧
  (∀ (k0_h1 : k0_cond1 i k0_t2 = 1#1), ∀ a x, ((![v55, v247] : Fin 2 → IVec S16 32) a x).toNat < S256x142.size a) ∧
  (∀ (k0_h1 : k0_cond1 i k0_t2 = 1#1), ∀ a x, ((![v60, v247] : Fin 2 → IVec S16 32) a x).toNat < S256x142.size a)
theorem k0_idx407_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v15, v247] : Fin 2 → IVec S16 32) a x).toNat < S256x142.size a := fun i k0_t2 v15 v20 v25 v30 v35 v40 v45 v50 v55 v60 v247 k0_hw320 k0_h1 => k0_hw320.1 k0_h1
theorem k0_idx409_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v20, v247] : Fin 2 → IVec S16 32) a x).toNat < S256x142.size a := fun i k0_t2 v15 v20 v25 v30 v35 v40 v45 v50 v55 v60 v247 k0_hw320 k0_h1 => k0_hw320.2.1 k0_h1
theorem k0_idx411_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v25, v247] : Fin 2 → IVec S16 32) a x).toNat < S256x142.size a := fun i k0_t2 v15 v20 v25 v30 v35 v40 v45 v50 v55 v60 v247 k0_hw320 k0_h1 => k0_hw320.2.2.1 k0_h1
theorem k0_idx413_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v30, v247] : Fin 2 → IVec S16 32) a x).toNat < S256x142.size a := fun i k0_t2 v15 v20 v25 v30 v35 v40 v45 v50 v55 v60 v247 k0_hw320 k0_h1 => k0_hw320.2.2.2.1 k0_h1
theorem k0_idx415_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v35, v247] : Fin 2 → IVec S16 32) a x).toNat < S256x142.size a := fun i k0_t2 v15 v20 v25 v30 v35 v40 v45 v50 v55 v60 v247 k0_hw320 k0_h1 => k0_hw320.2.2.2.2.1 k0_h1
theorem k0_idx417_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v40, v247] : Fin 2 → IVec S16 32) a x).toNat < S256x142.size a := fun i k0_t2 v15 v20 v25 v30 v35 v40 v45 v50 v55 v60 v247 k0_hw320 k0_h1 => k0_hw320.2.2.2.2.2.1 k0_h1
theorem k0_idx419_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v45, v247] : Fin 2 → IVec S16 32) a x).toNat < S256x142.size a := fun i k0_t2 v15 v20 v25 v30 v35 v40 v45 v50 v55 v60 v247 k0_hw320 k0_h1 => k0_hw320.2.2.2.2.2.2.1 k0_h1
theorem k0_idx421_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v50, v247] : Fin 2 → IVec S16 32) a x).toNat < S256x142.size a := fun i k0_t2 v15 v20 v25 v30 v35 v40 v45 v50 v55 v60 v247 k0_hw320 k0_h1 => k0_hw320.2.2.2.2.2.2.2.1 k0_h1
theorem k0_idx423_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v55, v247] : Fin 2 → IVec S16 32) a x).toNat < S256x142.size a := fun i k0_t2 v15 v20 v25 v30 v35 v40 v45 v50 v55 v60 v247 k0_hw320 k0_h1 => k0_hw320.2.2.2.2.2.2.2.2.1 k0_h1
theorem k0_idx425_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v247 : IVec S16 32) (k0_hw320 : k0_chk320 i k0_t2 v15 v20 v25 v30 v35 v40 v45 v50 v55 v60 v247), ∀ (k0_h1 : k0_cond1 i k0_t2 = 1#1), ∀ a x, ((![v60, v247] : Fin 2 → IVec S16 32) a x).toNat < S256x142.size a := fun i k0_t2 v15 v20 v25 v30 v35 v40 v45 v50 v55 v60 v247 k0_hw320 k0_h1 => k0_hw320.2.2.2.2.2.2.2.2.2 k0_h1

def k0_chk330 (i : grid0.Coords) (k0_t2 : Fin k0_t2_loop.trips) (v247 : IVec S16 32) (v277 : IVec S16 32) : Prop :=
  (∀ (k0_h1 : k0_cond1 i k0_t2 = 1#1), ∀ a x, ((![v277, v247] : Fin 2 → IVec S16 32) a x).toNat < S160x142.size a)
theorem k0_idx426_inb : ∀ (i : grid0.Coords) (k0_t2 : Fin k0_t2_loop.trips) (v247 : IVec S16 32) (v277 : IVec S16 32) (k0_hw330 : k0_chk330 i k0_t2 v247 v277), ∀ (k0_h1 : k0_cond1 i k0_t2 = 1#1), ∀ a x, ((![v277, v247] : Fin 2 → IVec S16 32) a x).toNat < S160x142.size a := fun i k0_t2 v247 v277 k0_hw330 k0_h1 => k0_hw330 k0_h1

def k0_chk332 (i : grid0.Coords) (k0_t2 : Fin k0_t2_loop.trips) (v278 : IVec S16 32) (v281 : IVec S16 32) : Prop :=
  (∀ (k0_h1 : k0_cond1 i k0_t2 = 1#1), ∀ a x, ((![v281, v278] : Fin 2 → IVec S16 32) a x).toNat < S160x142.size a)
theorem k0_idx428_inb : ∀ (i : grid0.Coords) (k0_t2 : Fin k0_t2_loop.trips) (v278 : IVec S16 32) (v281 : IVec S16 32) (k0_hw332 : k0_chk332 i k0_t2 v278 v281), ∀ (k0_h1 : k0_cond1 i k0_t2 = 1#1), ∀ a x, ((![v281, v278] : Fin 2 → IVec S16 32) a x).toNat < S160x142.size a := fun i k0_t2 v278 v281 k0_hw332 k0_h1 => k0_hw332 k0_h1

def k0_chk333 (i : grid0.Coords) (k0_t2 : Fin k0_t2_loop.trips) (v278 : IVec S16 32) (v284 : IVec S16 32) : Prop :=
  (∀ (k0_h1 : k0_cond1 i k0_t2 = 1#1), ∀ a x, ((![v284, v278] : Fin 2 → IVec S16 32) a x).toNat < S160x142.size a)
theorem k0_idx430_inb : ∀ (i : grid0.Coords) (k0_t2 : Fin k0_t2_loop.trips) (v278 : IVec S16 32) (v284 : IVec S16 32) (k0_hw333 : k0_chk333 i k0_t2 v278 v284), ∀ (k0_h1 : k0_cond1 i k0_t2 = 1#1), ∀ a x, ((![v284, v278] : Fin 2 → IVec S16 32) a x).toNat < S160x142.size a := fun i k0_t2 v278 v284 k0_hw333 k0_h1 => k0_hw333 k0_h1

def k0_chk334 (i : grid0.Coords) (k0_t2 : Fin k0_t2_loop.trips) (v278 : IVec S16 32) (v287 : IVec S16 32) : Prop :=
  (∀ (k0_h1 : k0_cond1 i k0_t2 = 1#1), ∀ a x, ((![v287, v278] : Fin 2 → IVec S16 32) a x).toNat < S160x142.size a)
theorem k0_idx432_inb : ∀ (i : grid0.Coords) (k0_t2 : Fin k0_t2_loop.trips) (v278 : IVec S16 32) (v287 : IVec S16 32) (k0_hw334 : k0_chk334 i k0_t2 v278 v287), ∀ (k0_h1 : k0_cond1 i k0_t2 = 1#1), ∀ a x, ((![v287, v278] : Fin 2 → IVec S16 32) a x).toNat < S160x142.size a := fun i k0_t2 v278 v287 k0_hw334 k0_h1 => k0_hw334 k0_h1

def k0_chk335 (i : grid0.Coords) (k0_t2 : Fin k0_t2_loop.trips) (v278 : IVec S16 32) (v290 : IVec S16 32) : Prop :=
  (∀ (k0_h1 : k0_cond1 i k0_t2 = 1#1), ∀ a x, ((![v290, v278] : Fin 2 → IVec S16 32) a x).toNat < S160x142.size a)
theorem k0_idx434_inb : ∀ (i : grid0.Coords) (k0_t2 : Fin k0_t2_loop.trips) (v278 : IVec S16 32) (v290 : IVec S16 32) (k0_hw335 : k0_chk335 i k0_t2 v278 v290), ∀ (k0_h1 : k0_cond1 i k0_t2 = 1#1), ∀ a x, ((![v290, v278] : Fin 2 → IVec S16 32) a x).toNat < S160x142.size a := fun i k0_t2 v278 v290 k0_hw335 k0_h1 => k0_hw335 k0_h1

def k0_chk336 (i : grid0.Coords) (k0_t2 : Fin k0_t2_loop.trips) (v278 : IVec S16 32) (v293 : IVec S16 32) : Prop :=
  (∀ (k0_h1 : k0_cond1 i k0_t2 = 1#1), ∀ a x, ((![v293, v278] : Fin 2 → IVec S16 32) a x).toNat < S160x142.size a)
theorem k0_idx436_inb : ∀ (i : grid0.Coords) (k0_t2 : Fin k0_t2_loop.trips) (v278 : IVec S16 32) (v293 : IVec S16 32) (k0_hw336 : k0_chk336 i k0_t2 v278 v293), ∀ (k0_h1 : k0_cond1 i k0_t2 = 1#1), ∀ a x, ((![v293, v278] : Fin 2 → IVec S16 32) a x).toNat < S160x142.size a := fun i k0_t2 v278 v293 k0_hw336 k0_h1 => k0_hw336 k0_h1

def k0_chk337 (i : grid0.Coords) (k0_t2 : Fin k0_t2_loop.trips) (v278 : IVec S16 32) (v296 : IVec S16 32) : Prop :=
  (∀ (k0_h1 : k0_cond1 i k0_t2 = 1#1), ∀ a x, ((![v296, v278] : Fin 2 → IVec S16 32) a x).toNat < S160x142.size a)
theorem k0_idx438_inb : ∀ (i : grid0.Coords) (k0_t2 : Fin k0_t2_loop.trips) (v278 : IVec S16 32) (v296 : IVec S16 32) (k0_hw337 : k0_chk337 i k0_t2 v278 v296), ∀ (k0_h1 : k0_cond1 i k0_t2 = 1#1), ∀ a x, ((![v296, v278] : Fin 2 → IVec S16 32) a x).toNat < S160x142.size a := fun i k0_t2 v278 v296 k0_hw337 k0_h1 => k0_hw337 k0_h1

def k0_chk338 (i : grid0.Coords) (k0_t2 : Fin k0_t2_loop.trips) (v278 : IVec S16 32) (v299 : IVec S16 32) : Prop :=
  (∀ (k0_h1 : k0_cond1 i k0_t2 = 1#1), ∀ a x, ((![v299, v278] : Fin 2 → IVec S16 32) a x).toNat < S160x142.size a)
theorem k0_idx440_inb : ∀ (i : grid0.Coords) (k0_t2 : Fin k0_t2_loop.trips) (v278 : IVec S16 32) (v299 : IVec S16 32) (k0_hw338 : k0_chk338 i k0_t2 v278 v299), ∀ (k0_h1 : k0_cond1 i k0_t2 = 1#1), ∀ a x, ((![v299, v278] : Fin 2 → IVec S16 32) a x).toNat < S160x142.size a := fun i k0_t2 v278 v299 k0_hw338 k0_h1 => k0_hw338 k0_h1

def k0_chk339 (i : grid0.Coords) (k0_t2 : Fin k0_t2_loop.trips) (v278 : IVec S16 32) (v302 : IVec S16 32) : Prop :=
  (∀ (k0_h1 : k0_cond1 i k0_t2 = 1#1), ∀ a x, ((![v302, v278] : Fin 2 → IVec S16 32) a x).toNat < S160x142.size a)
theorem k0_idx442_inb : ∀ (i : grid0.Coords) (k0_t2 : Fin k0_t2_loop.trips) (v278 : IVec S16 32) (v302 : IVec S16 32) (k0_hw339 : k0_chk339 i k0_t2 v278 v302), ∀ (k0_h1 : k0_cond1 i k0_t2 = 1#1), ∀ a x, ((![v302, v278] : Fin 2 → IVec S16 32) a x).toNat < S160x142.size a := fun i k0_t2 v278 v302 k0_hw339 k0_h1 => k0_hw339 k0_h1

def k0_chk340 (i : grid0.Coords) (k0_t2 : Fin k0_t2_loop.trips) (v278 : IVec S16 32) (v305 : IVec S16 32) : Prop :=
  (∀ (k0_h1 : k0_cond1 i k0_t2 = 1#1), ∀ a x, ((![v305, v278] : Fin 2 → IVec S16 32) a x).toNat < S160x142.size a)
theorem k0_idx444_inb : ∀ (i : grid0.Coords) (k0_t2 : Fin k0_t2_loop.trips) (v278 : IVec S16 32) (v305 : IVec S16 32) (k0_hw340 : k0_chk340 i k0_t2 v278 v305), ∀ (k0_h1 : k0_cond1 i k0_t2 = 1#1), ∀ a x, ((![v305, v278] : Fin 2 → IVec S16 32) a x).toNat < S160x142.size a := fun i k0_t2 v278 v305 k0_hw340 k0_h1 => k0_hw340 k0_h1

def k0_chk331 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) : Prop :=
  (∀ (k0_h1 : k0_cond1 i k0_t2 = 1#1), ∀ a x, ((![v15, v278] : Fin 2 → IVec S16 32) a x).toNat < S256x142.size a) ∧
  (∀ (k0_h1 : k0_cond1 i k0_t2 = 1#1), ∀ a x, ((![v20, v278] : Fin 2 → IVec S16 32) a x).toNat < S256x142.size a) ∧
  (∀ (k0_h1 : k0_cond1 i k0_t2 = 1#1), ∀ a x, ((![v25, v278] : Fin 2 → IVec S16 32) a x).toNat < S256x142.size a) ∧
  (∀ (k0_h1 : k0_cond1 i k0_t2 = 1#1), ∀ a x, ((![v30, v278] : Fin 2 → IVec S16 32) a x).toNat < S256x142.size a) ∧
  (∀ (k0_h1 : k0_cond1 i k0_t2 = 1#1), ∀ a x, ((![v35, v278] : Fin 2 → IVec S16 32) a x).toNat < S256x142.size a) ∧
  (∀ (k0_h1 : k0_cond1 i k0_t2 = 1#1), ∀ a x, ((![v40, v278] : Fin 2 → IVec S16 32) a x).toNat < S256x142.size a) ∧
  (∀ (k0_h1 : k0_cond1 i k0_t2 = 1#1), ∀ a x, ((![v45, v278] : Fin 2 → IVec S16 32) a x).toNat < S256x142.size a) ∧
  (∀ (k0_h1 : k0_cond1 i k0_t2 = 1#1), ∀ a x, ((![v50, v278] : Fin 2 → IVec S16 32) a x).toNat < S256x142.size a) ∧
  (∀ (k0_h1 : k0_cond1 i k0_t2 = 1#1), ∀ a x, ((![v55, v278] : Fin 2 → IVec S16 32) a x).toNat < S256x142.size a) ∧
  (∀ (k0_h1 : k0_cond1 i k0_t2 = 1#1), ∀ a x, ((![v60, v278] : Fin 2 → IVec S16 32) a x).toNat < S256x142.size a)
theorem k0_idx427_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v15, v278] : Fin 2 → IVec S16 32) a x).toNat < S256x142.size a := fun i k0_t2 v15 v20 v25 v30 v35 v40 v45 v50 v55 v60 v278 k0_hw331 k0_h1 => k0_hw331.1 k0_h1
theorem k0_idx429_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v20, v278] : Fin 2 → IVec S16 32) a x).toNat < S256x142.size a := fun i k0_t2 v15 v20 v25 v30 v35 v40 v45 v50 v55 v60 v278 k0_hw331 k0_h1 => k0_hw331.2.1 k0_h1
theorem k0_idx431_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v25, v278] : Fin 2 → IVec S16 32) a x).toNat < S256x142.size a := fun i k0_t2 v15 v20 v25 v30 v35 v40 v45 v50 v55 v60 v278 k0_hw331 k0_h1 => k0_hw331.2.2.1 k0_h1
theorem k0_idx433_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v30, v278] : Fin 2 → IVec S16 32) a x).toNat < S256x142.size a := fun i k0_t2 v15 v20 v25 v30 v35 v40 v45 v50 v55 v60 v278 k0_hw331 k0_h1 => k0_hw331.2.2.2.1 k0_h1
theorem k0_idx435_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v35, v278] : Fin 2 → IVec S16 32) a x).toNat < S256x142.size a := fun i k0_t2 v15 v20 v25 v30 v35 v40 v45 v50 v55 v60 v278 k0_hw331 k0_h1 => k0_hw331.2.2.2.2.1 k0_h1
theorem k0_idx437_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v40, v278] : Fin 2 → IVec S16 32) a x).toNat < S256x142.size a := fun i k0_t2 v15 v20 v25 v30 v35 v40 v45 v50 v55 v60 v278 k0_hw331 k0_h1 => k0_hw331.2.2.2.2.2.1 k0_h1
theorem k0_idx439_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v45, v278] : Fin 2 → IVec S16 32) a x).toNat < S256x142.size a := fun i k0_t2 v15 v20 v25 v30 v35 v40 v45 v50 v55 v60 v278 k0_hw331 k0_h1 => k0_hw331.2.2.2.2.2.2.1 k0_h1
theorem k0_idx441_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v50, v278] : Fin 2 → IVec S16 32) a x).toNat < S256x142.size a := fun i k0_t2 v15 v20 v25 v30 v35 v40 v45 v50 v55 v60 v278 k0_hw331 k0_h1 => k0_hw331.2.2.2.2.2.2.2.1 k0_h1
theorem k0_idx443_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v55, v278] : Fin 2 → IVec S16 32) a x).toNat < S256x142.size a := fun i k0_t2 v15 v20 v25 v30 v35 v40 v45 v50 v55 v60 v278 k0_hw331 k0_h1 => k0_hw331.2.2.2.2.2.2.2.2.1 k0_h1
theorem k0_idx445_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v278 : IVec S16 32) (k0_hw331 : k0_chk331 i k0_t2 v15 v20 v25 v30 v35 v40 v45 v50 v55 v60 v278), ∀ (k0_h1 : k0_cond1 i k0_t2 = 1#1), ∀ a x, ((![v60, v278] : Fin 2 → IVec S16 32) a x).toNat < S256x142.size a := fun i k0_t2 v15 v20 v25 v30 v35 v40 v45 v50 v55 v60 v278 k0_hw331 k0_h1 => k0_hw331.2.2.2.2.2.2.2.2.2 k0_h1

def k0_chk341 (i : grid0.Coords) (k0_t2 : Fin k0_t2_loop.trips) (v278 : IVec S16 32) (v308 : IVec S16 32) : Prop :=
  (∀ (k0_h1 : k0_cond1 i k0_t2 = 1#1), ∀ a x, ((![v308, v278] : Fin 2 → IVec S16 32) a x).toNat < S160x142.size a)
theorem k0_idx446_inb : ∀ (i : grid0.Coords) (k0_t2 : Fin k0_t2_loop.trips) (v278 : IVec S16 32) (v308 : IVec S16 32) (k0_hw341 : k0_chk341 i k0_t2 v278 v308), ∀ (k0_h1 : k0_cond1 i k0_t2 = 1#1), ∀ a x, ((![v308, v278] : Fin 2 → IVec S16 32) a x).toNat < S160x142.size a := fun i k0_t2 v278 v308 k0_hw341 k0_h1 => k0_hw341 k0_h1

def k0_chk343 (i : grid0.Coords) (k0_t2 : Fin k0_t2_loop.trips) (v309 : IVec S16 32) (v312 : IVec S16 32) : Prop :=
  (∀ (k0_h1 : k0_cond1 i k0_t2 = 1#1), ∀ a x, ((![v312, v309] : Fin 2 → IVec S16 32) a x).toNat < S160x142.size a)
theorem k0_idx448_inb : ∀ (i : grid0.Coords) (k0_t2 : Fin k0_t2_loop.trips) (v309 : IVec S16 32) (v312 : IVec S16 32) (k0_hw343 : k0_chk343 i k0_t2 v309 v312), ∀ (k0_h1 : k0_cond1 i k0_t2 = 1#1), ∀ a x, ((![v312, v309] : Fin 2 → IVec S16 32) a x).toNat < S160x142.size a := fun i k0_t2 v309 v312 k0_hw343 k0_h1 => k0_hw343 k0_h1

def k0_chk344 (i : grid0.Coords) (k0_t2 : Fin k0_t2_loop.trips) (v309 : IVec S16 32) (v315 : IVec S16 32) : Prop :=
  (∀ (k0_h1 : k0_cond1 i k0_t2 = 1#1), ∀ a x, ((![v315, v309] : Fin 2 → IVec S16 32) a x).toNat < S160x142.size a)
theorem k0_idx450_inb : ∀ (i : grid0.Coords) (k0_t2 : Fin k0_t2_loop.trips) (v309 : IVec S16 32) (v315 : IVec S16 32) (k0_hw344 : k0_chk344 i k0_t2 v309 v315), ∀ (k0_h1 : k0_cond1 i k0_t2 = 1#1), ∀ a x, ((![v315, v309] : Fin 2 → IVec S16 32) a x).toNat < S160x142.size a := fun i k0_t2 v309 v315 k0_hw344 k0_h1 => k0_hw344 k0_h1

def k0_chk345 (i : grid0.Coords) (k0_t2 : Fin k0_t2_loop.trips) (v309 : IVec S16 32) (v318 : IVec S16 32) : Prop :=
  (∀ (k0_h1 : k0_cond1 i k0_t2 = 1#1), ∀ a x, ((![v318, v309] : Fin 2 → IVec S16 32) a x).toNat < S160x142.size a)
theorem k0_idx452_inb : ∀ (i : grid0.Coords) (k0_t2 : Fin k0_t2_loop.trips) (v309 : IVec S16 32) (v318 : IVec S16 32) (k0_hw345 : k0_chk345 i k0_t2 v309 v318), ∀ (k0_h1 : k0_cond1 i k0_t2 = 1#1), ∀ a x, ((![v318, v309] : Fin 2 → IVec S16 32) a x).toNat < S160x142.size a := fun i k0_t2 v309 v318 k0_hw345 k0_h1 => k0_hw345 k0_h1

def k0_chk346 (i : grid0.Coords) (k0_t2 : Fin k0_t2_loop.trips) (v309 : IVec S16 32) (v321 : IVec S16 32) : Prop :=
  (∀ (k0_h1 : k0_cond1 i k0_t2 = 1#1), ∀ a x, ((![v321, v309] : Fin 2 → IVec S16 32) a x).toNat < S160x142.size a)
theorem k0_idx454_inb : ∀ (i : grid0.Coords) (k0_t2 : Fin k0_t2_loop.trips) (v309 : IVec S16 32) (v321 : IVec S16 32) (k0_hw346 : k0_chk346 i k0_t2 v309 v321), ∀ (k0_h1 : k0_cond1 i k0_t2 = 1#1), ∀ a x, ((![v321, v309] : Fin 2 → IVec S16 32) a x).toNat < S160x142.size a := fun i k0_t2 v309 v321 k0_hw346 k0_h1 => k0_hw346 k0_h1

def k0_chk347 (i : grid0.Coords) (k0_t2 : Fin k0_t2_loop.trips) (v309 : IVec S16 32) (v324 : IVec S16 32) : Prop :=
  (∀ (k0_h1 : k0_cond1 i k0_t2 = 1#1), ∀ a x, ((![v324, v309] : Fin 2 → IVec S16 32) a x).toNat < S160x142.size a)
theorem k0_idx456_inb : ∀ (i : grid0.Coords) (k0_t2 : Fin k0_t2_loop.trips) (v309 : IVec S16 32) (v324 : IVec S16 32) (k0_hw347 : k0_chk347 i k0_t2 v309 v324), ∀ (k0_h1 : k0_cond1 i k0_t2 = 1#1), ∀ a x, ((![v324, v309] : Fin 2 → IVec S16 32) a x).toNat < S160x142.size a := fun i k0_t2 v309 v324 k0_hw347 k0_h1 => k0_hw347 k0_h1

def k0_chk348 (i : grid0.Coords) (k0_t2 : Fin k0_t2_loop.trips) (v309 : IVec S16 32) (v327 : IVec S16 32) : Prop :=
  (∀ (k0_h1 : k0_cond1 i k0_t2 = 1#1), ∀ a x, ((![v327, v309] : Fin 2 → IVec S16 32) a x).toNat < S160x142.size a)
theorem k0_idx458_inb : ∀ (i : grid0.Coords) (k0_t2 : Fin k0_t2_loop.trips) (v309 : IVec S16 32) (v327 : IVec S16 32) (k0_hw348 : k0_chk348 i k0_t2 v309 v327), ∀ (k0_h1 : k0_cond1 i k0_t2 = 1#1), ∀ a x, ((![v327, v309] : Fin 2 → IVec S16 32) a x).toNat < S160x142.size a := fun i k0_t2 v309 v327 k0_hw348 k0_h1 => k0_hw348 k0_h1

def k0_chk349 (i : grid0.Coords) (k0_t2 : Fin k0_t2_loop.trips) (v309 : IVec S16 32) (v330 : IVec S16 32) : Prop :=
  (∀ (k0_h1 : k0_cond1 i k0_t2 = 1#1), ∀ a x, ((![v330, v309] : Fin 2 → IVec S16 32) a x).toNat < S160x142.size a)
theorem k0_idx460_inb : ∀ (i : grid0.Coords) (k0_t2 : Fin k0_t2_loop.trips) (v309 : IVec S16 32) (v330 : IVec S16 32) (k0_hw349 : k0_chk349 i k0_t2 v309 v330), ∀ (k0_h1 : k0_cond1 i k0_t2 = 1#1), ∀ a x, ((![v330, v309] : Fin 2 → IVec S16 32) a x).toNat < S160x142.size a := fun i k0_t2 v309 v330 k0_hw349 k0_h1 => k0_hw349 k0_h1

def k0_chk350 (i : grid0.Coords) (k0_t2 : Fin k0_t2_loop.trips) (v309 : IVec S16 32) (v333 : IVec S16 32) : Prop :=
  (∀ (k0_h1 : k0_cond1 i k0_t2 = 1#1), ∀ a x, ((![v333, v309] : Fin 2 → IVec S16 32) a x).toNat < S160x142.size a)
theorem k0_idx462_inb : ∀ (i : grid0.Coords) (k0_t2 : Fin k0_t2_loop.trips) (v309 : IVec S16 32) (v333 : IVec S16 32) (k0_hw350 : k0_chk350 i k0_t2 v309 v333), ∀ (k0_h1 : k0_cond1 i k0_t2 = 1#1), ∀ a x, ((![v333, v309] : Fin 2 → IVec S16 32) a x).toNat < S160x142.size a := fun i k0_t2 v309 v333 k0_hw350 k0_h1 => k0_hw350 k0_h1

def k0_chk351 (i : grid0.Coords) (k0_t2 : Fin k0_t2_loop.trips) (v309 : IVec S16 32) (v336 : IVec S16 32) : Prop :=
  (∀ (k0_h1 : k0_cond1 i k0_t2 = 1#1), ∀ a x, ((![v336, v309] : Fin 2 → IVec S16 32) a x).toNat < S160x142.size a)
theorem k0_idx464_inb : ∀ (i : grid0.Coords) (k0_t2 : Fin k0_t2_loop.trips) (v309 : IVec S16 32) (v336 : IVec S16 32) (k0_hw351 : k0_chk351 i k0_t2 v309 v336), ∀ (k0_h1 : k0_cond1 i k0_t2 = 1#1), ∀ a x, ((![v336, v309] : Fin 2 → IVec S16 32) a x).toNat < S160x142.size a := fun i k0_t2 v309 v336 k0_hw351 k0_h1 => k0_hw351 k0_h1

def k0_chk342 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) : Prop :=
  (∀ (k0_h1 : k0_cond1 i k0_t2 = 1#1), ∀ a x, ((![v15, v309] : Fin 2 → IVec S16 32) a x).toNat < S256x142.size a) ∧
  (∀ (k0_h1 : k0_cond1 i k0_t2 = 1#1), ∀ a x, ((![v20, v309] : Fin 2 → IVec S16 32) a x).toNat < S256x142.size a) ∧
  (∀ (k0_h1 : k0_cond1 i k0_t2 = 1#1), ∀ a x, ((![v25, v309] : Fin 2 → IVec S16 32) a x).toNat < S256x142.size a) ∧
  (∀ (k0_h1 : k0_cond1 i k0_t2 = 1#1), ∀ a x, ((![v30, v309] : Fin 2 → IVec S16 32) a x).toNat < S256x142.size a) ∧
  (∀ (k0_h1 : k0_cond1 i k0_t2 = 1#1), ∀ a x, ((![v35, v309] : Fin 2 → IVec S16 32) a x).toNat < S256x142.size a) ∧
  (∀ (k0_h1 : k0_cond1 i k0_t2 = 1#1), ∀ a x, ((![v40, v309] : Fin 2 → IVec S16 32) a x).toNat < S256x142.size a) ∧
  (∀ (k0_h1 : k0_cond1 i k0_t2 = 1#1), ∀ a x, ((![v45, v309] : Fin 2 → IVec S16 32) a x).toNat < S256x142.size a) ∧
  (∀ (k0_h1 : k0_cond1 i k0_t2 = 1#1), ∀ a x, ((![v50, v309] : Fin 2 → IVec S16 32) a x).toNat < S256x142.size a) ∧
  (∀ (k0_h1 : k0_cond1 i k0_t2 = 1#1), ∀ a x, ((![v55, v309] : Fin 2 → IVec S16 32) a x).toNat < S256x142.size a) ∧
  (∀ (k0_h1 : k0_cond1 i k0_t2 = 1#1), ∀ a x, ((![v60, v309] : Fin 2 → IVec S16 32) a x).toNat < S256x142.size a)
theorem k0_idx447_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v15, v309] : Fin 2 → IVec S16 32) a x).toNat < S256x142.size a := fun i k0_t2 v15 v20 v25 v30 v35 v40 v45 v50 v55 v60 v309 k0_hw342 k0_h1 => k0_hw342.1 k0_h1
theorem k0_idx449_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v20, v309] : Fin 2 → IVec S16 32) a x).toNat < S256x142.size a := fun i k0_t2 v15 v20 v25 v30 v35 v40 v45 v50 v55 v60 v309 k0_hw342 k0_h1 => k0_hw342.2.1 k0_h1
theorem k0_idx451_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v25, v309] : Fin 2 → IVec S16 32) a x).toNat < S256x142.size a := fun i k0_t2 v15 v20 v25 v30 v35 v40 v45 v50 v55 v60 v309 k0_hw342 k0_h1 => k0_hw342.2.2.1 k0_h1
theorem k0_idx453_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v30, v309] : Fin 2 → IVec S16 32) a x).toNat < S256x142.size a := fun i k0_t2 v15 v20 v25 v30 v35 v40 v45 v50 v55 v60 v309 k0_hw342 k0_h1 => k0_hw342.2.2.2.1 k0_h1
theorem k0_idx455_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v35, v309] : Fin 2 → IVec S16 32) a x).toNat < S256x142.size a := fun i k0_t2 v15 v20 v25 v30 v35 v40 v45 v50 v55 v60 v309 k0_hw342 k0_h1 => k0_hw342.2.2.2.2.1 k0_h1
theorem k0_idx457_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v40, v309] : Fin 2 → IVec S16 32) a x).toNat < S256x142.size a := fun i k0_t2 v15 v20 v25 v30 v35 v40 v45 v50 v55 v60 v309 k0_hw342 k0_h1 => k0_hw342.2.2.2.2.2.1 k0_h1
theorem k0_idx459_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v45, v309] : Fin 2 → IVec S16 32) a x).toNat < S256x142.size a := fun i k0_t2 v15 v20 v25 v30 v35 v40 v45 v50 v55 v60 v309 k0_hw342 k0_h1 => k0_hw342.2.2.2.2.2.2.1 k0_h1
theorem k0_idx461_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v50, v309] : Fin 2 → IVec S16 32) a x).toNat < S256x142.size a := fun i k0_t2 v15 v20 v25 v30 v35 v40 v45 v50 v55 v60 v309 k0_hw342 k0_h1 => k0_hw342.2.2.2.2.2.2.2.1 k0_h1
theorem k0_idx463_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v55, v309] : Fin 2 → IVec S16 32) a x).toNat < S256x142.size a := fun i k0_t2 v15 v20 v25 v30 v35 v40 v45 v50 v55 v60 v309 k0_hw342 k0_h1 => k0_hw342.2.2.2.2.2.2.2.2.1 k0_h1
theorem k0_idx465_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v309 : IVec S16 32) (k0_hw342 : k0_chk342 i k0_t2 v15 v20 v25 v30 v35 v40 v45 v50 v55 v60 v309), ∀ (k0_h1 : k0_cond1 i k0_t2 = 1#1), ∀ a x, ((![v60, v309] : Fin 2 → IVec S16 32) a x).toNat < S256x142.size a := fun i k0_t2 v15 v20 v25 v30 v35 v40 v45 v50 v55 v60 v309 k0_hw342 k0_h1 => k0_hw342.2.2.2.2.2.2.2.2.2 k0_h1

def k0_chk352 (i : grid0.Coords) (k0_t2 : Fin k0_t2_loop.trips) (v309 : IVec S16 32) (v339 : IVec S16 32) : Prop :=
  (∀ (k0_h1 : k0_cond1 i k0_t2 = 1#1), ∀ a x, ((![v339, v309] : Fin 2 → IVec S16 32) a x).toNat < S160x142.size a)
theorem k0_idx466_inb : ∀ (i : grid0.Coords) (k0_t2 : Fin k0_t2_loop.trips) (v309 : IVec S16 32) (v339 : IVec S16 32) (k0_hw352 : k0_chk352 i k0_t2 v309 v339), ∀ (k0_h1 : k0_cond1 i k0_t2 = 1#1), ∀ a x, ((![v339, v309] : Fin 2 → IVec S16 32) a x).toNat < S160x142.size a := fun i k0_t2 v309 v339 k0_hw352 k0_h1 => k0_hw352 k0_h1

def k0_chk354 (i : grid0.Coords) (k0_t2 : Fin k0_t2_loop.trips) (v340 : IVec S16 32) (v343 : IVec S16 32) : Prop :=
  (∀ (k0_h1 : k0_cond1 i k0_t2 = 1#1), ∀ a x, ((![v343, v340] : Fin 2 → IVec S16 32) a x).toNat < S160x142.size a)
theorem k0_idx468_inb : ∀ (i : grid0.Coords) (k0_t2 : Fin k0_t2_loop.trips) (v340 : IVec S16 32) (v343 : IVec S16 32) (k0_hw354 : k0_chk354 i k0_t2 v340 v343), ∀ (k0_h1 : k0_cond1 i k0_t2 = 1#1), ∀ a x, ((![v343, v340] : Fin 2 → IVec S16 32) a x).toNat < S160x142.size a := fun i k0_t2 v340 v343 k0_hw354 k0_h1 => k0_hw354 k0_h1

def k0_chk355 (i : grid0.Coords) (k0_t2 : Fin k0_t2_loop.trips) (v340 : IVec S16 32) (v346 : IVec S16 32) : Prop :=
  (∀ (k0_h1 : k0_cond1 i k0_t2 = 1#1), ∀ a x, ((![v346, v340] : Fin 2 → IVec S16 32) a x).toNat < S160x142.size a)
theorem k0_idx470_inb : ∀ (i : grid0.Coords) (k0_t2 : Fin k0_t2_loop.trips) (v340 : IVec S16 32) (v346 : IVec S16 32) (k0_hw355 : k0_chk355 i k0_t2 v340 v346), ∀ (k0_h1 : k0_cond1 i k0_t2 = 1#1), ∀ a x, ((![v346, v340] : Fin 2 → IVec S16 32) a x).toNat < S160x142.size a := fun i k0_t2 v340 v346 k0_hw355 k0_h1 => k0_hw355 k0_h1

def k0_chk356 (i : grid0.Coords) (k0_t2 : Fin k0_t2_loop.trips) (v340 : IVec S16 32) (v349 : IVec S16 32) : Prop :=
  (∀ (k0_h1 : k0_cond1 i k0_t2 = 1#1), ∀ a x, ((![v349, v340] : Fin 2 → IVec S16 32) a x).toNat < S160x142.size a)
theorem k0_idx472_inb : ∀ (i : grid0.Coords) (k0_t2 : Fin k0_t2_loop.trips) (v340 : IVec S16 32) (v349 : IVec S16 32) (k0_hw356 : k0_chk356 i k0_t2 v340 v349), ∀ (k0_h1 : k0_cond1 i k0_t2 = 1#1), ∀ a x, ((![v349, v340] : Fin 2 → IVec S16 32) a x).toNat < S160x142.size a := fun i k0_t2 v340 v349 k0_hw356 k0_h1 => k0_hw356 k0_h1

def k0_chk357 (i : grid0.Coords) (k0_t2 : Fin k0_t2_loop.trips) (v340 : IVec S16 32) (v352 : IVec S16 32) : Prop :=
  (∀ (k0_h1 : k0_cond1 i k0_t2 = 1#1), ∀ a x, ((![v352, v340] : Fin 2 → IVec S16 32) a x).toNat < S160x142.size a)
theorem k0_idx474_inb : ∀ (i : grid0.Coords) (k0_t2 : Fin k0_t2_loop.trips) (v340 : IVec S16 32) (v352 : IVec S16 32) (k0_hw357 : k0_chk357 i k0_t2 v340 v352), ∀ (k0_h1 : k0_cond1 i k0_t2 = 1#1), ∀ a x, ((![v352, v340] : Fin 2 → IVec S16 32) a x).toNat < S160x142.size a := fun i k0_t2 v340 v352 k0_hw357 k0_h1 => k0_hw357 k0_h1

def k0_chk358 (i : grid0.Coords) (k0_t2 : Fin k0_t2_loop.trips) (v340 : IVec S16 32) (v355 : IVec S16 32) : Prop :=
  (∀ (k0_h1 : k0_cond1 i k0_t2 = 1#1), ∀ a x, ((![v355, v340] : Fin 2 → IVec S16 32) a x).toNat < S160x142.size a)
theorem k0_idx476_inb : ∀ (i : grid0.Coords) (k0_t2 : Fin k0_t2_loop.trips) (v340 : IVec S16 32) (v355 : IVec S16 32) (k0_hw358 : k0_chk358 i k0_t2 v340 v355), ∀ (k0_h1 : k0_cond1 i k0_t2 = 1#1), ∀ a x, ((![v355, v340] : Fin 2 → IVec S16 32) a x).toNat < S160x142.size a := fun i k0_t2 v340 v355 k0_hw358 k0_h1 => k0_hw358 k0_h1

def k0_chk359 (i : grid0.Coords) (k0_t2 : Fin k0_t2_loop.trips) (v340 : IVec S16 32) (v358 : IVec S16 32) : Prop :=
  (∀ (k0_h1 : k0_cond1 i k0_t2 = 1#1), ∀ a x, ((![v358, v340] : Fin 2 → IVec S16 32) a x).toNat < S160x142.size a)
theorem k0_idx478_inb : ∀ (i : grid0.Coords) (k0_t2 : Fin k0_t2_loop.trips) (v340 : IVec S16 32) (v358 : IVec S16 32) (k0_hw359 : k0_chk359 i k0_t2 v340 v358), ∀ (k0_h1 : k0_cond1 i k0_t2 = 1#1), ∀ a x, ((![v358, v340] : Fin 2 → IVec S16 32) a x).toNat < S160x142.size a := fun i k0_t2 v340 v358 k0_hw359 k0_h1 => k0_hw359 k0_h1

def k0_chk360 (i : grid0.Coords) (k0_t2 : Fin k0_t2_loop.trips) (v340 : IVec S16 32) (v361 : IVec S16 32) : Prop :=
  (∀ (k0_h1 : k0_cond1 i k0_t2 = 1#1), ∀ a x, ((![v361, v340] : Fin 2 → IVec S16 32) a x).toNat < S160x142.size a)
theorem k0_idx480_inb : ∀ (i : grid0.Coords) (k0_t2 : Fin k0_t2_loop.trips) (v340 : IVec S16 32) (v361 : IVec S16 32) (k0_hw360 : k0_chk360 i k0_t2 v340 v361), ∀ (k0_h1 : k0_cond1 i k0_t2 = 1#1), ∀ a x, ((![v361, v340] : Fin 2 → IVec S16 32) a x).toNat < S160x142.size a := fun i k0_t2 v340 v361 k0_hw360 k0_h1 => k0_hw360 k0_h1

def k0_chk361 (i : grid0.Coords) (k0_t2 : Fin k0_t2_loop.trips) (v340 : IVec S16 32) (v364 : IVec S16 32) : Prop :=
  (∀ (k0_h1 : k0_cond1 i k0_t2 = 1#1), ∀ a x, ((![v364, v340] : Fin 2 → IVec S16 32) a x).toNat < S160x142.size a)
theorem k0_idx482_inb : ∀ (i : grid0.Coords) (k0_t2 : Fin k0_t2_loop.trips) (v340 : IVec S16 32) (v364 : IVec S16 32) (k0_hw361 : k0_chk361 i k0_t2 v340 v364), ∀ (k0_h1 : k0_cond1 i k0_t2 = 1#1), ∀ a x, ((![v364, v340] : Fin 2 → IVec S16 32) a x).toNat < S160x142.size a := fun i k0_t2 v340 v364 k0_hw361 k0_h1 => k0_hw361 k0_h1

def k0_chk362 (i : grid0.Coords) (k0_t2 : Fin k0_t2_loop.trips) (v340 : IVec S16 32) (v367 : IVec S16 32) : Prop :=
  (∀ (k0_h1 : k0_cond1 i k0_t2 = 1#1), ∀ a x, ((![v367, v340] : Fin 2 → IVec S16 32) a x).toNat < S160x142.size a)
theorem k0_idx484_inb : ∀ (i : grid0.Coords) (k0_t2 : Fin k0_t2_loop.trips) (v340 : IVec S16 32) (v367 : IVec S16 32) (k0_hw362 : k0_chk362 i k0_t2 v340 v367), ∀ (k0_h1 : k0_cond1 i k0_t2 = 1#1), ∀ a x, ((![v367, v340] : Fin 2 → IVec S16 32) a x).toNat < S160x142.size a := fun i k0_t2 v340 v367 k0_hw362 k0_h1 => k0_hw362 k0_h1

def k0_chk353 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) : Prop :=
  (∀ (k0_h1 : k0_cond1 i k0_t2 = 1#1), ∀ a x, ((![v15, v340] : Fin 2 → IVec S16 32) a x).toNat < S256x142.size a) ∧
  (∀ (k0_h1 : k0_cond1 i k0_t2 = 1#1), ∀ a x, ((![v20, v340] : Fin 2 → IVec S16 32) a x).toNat < S256x142.size a) ∧
  (∀ (k0_h1 : k0_cond1 i k0_t2 = 1#1), ∀ a x, ((![v25, v340] : Fin 2 → IVec S16 32) a x).toNat < S256x142.size a) ∧
  (∀ (k0_h1 : k0_cond1 i k0_t2 = 1#1), ∀ a x, ((![v30, v340] : Fin 2 → IVec S16 32) a x).toNat < S256x142.size a) ∧
  (∀ (k0_h1 : k0_cond1 i k0_t2 = 1#1), ∀ a x, ((![v35, v340] : Fin 2 → IVec S16 32) a x).toNat < S256x142.size a) ∧
  (∀ (k0_h1 : k0_cond1 i k0_t2 = 1#1), ∀ a x, ((![v40, v340] : Fin 2 → IVec S16 32) a x).toNat < S256x142.size a) ∧
  (∀ (k0_h1 : k0_cond1 i k0_t2 = 1#1), ∀ a x, ((![v45, v340] : Fin 2 → IVec S16 32) a x).toNat < S256x142.size a) ∧
  (∀ (k0_h1 : k0_cond1 i k0_t2 = 1#1), ∀ a x, ((![v50, v340] : Fin 2 → IVec S16 32) a x).toNat < S256x142.size a) ∧
  (∀ (k0_h1 : k0_cond1 i k0_t2 = 1#1), ∀ a x, ((![v55, v340] : Fin 2 → IVec S16 32) a x).toNat < S256x142.size a) ∧
  (∀ (k0_h1 : k0_cond1 i k0_t2 = 1#1), ∀ a x, ((![v60, v340] : Fin 2 → IVec S16 32) a x).toNat < S256x142.size a)
theorem k0_idx467_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v15, v340] : Fin 2 → IVec S16 32) a x).toNat < S256x142.size a := fun i k0_t2 v15 v20 v25 v30 v35 v40 v45 v50 v55 v60 v340 k0_hw353 k0_h1 => k0_hw353.1 k0_h1
theorem k0_idx469_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v20, v340] : Fin 2 → IVec S16 32) a x).toNat < S256x142.size a := fun i k0_t2 v15 v20 v25 v30 v35 v40 v45 v50 v55 v60 v340 k0_hw353 k0_h1 => k0_hw353.2.1 k0_h1
theorem k0_idx471_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v25, v340] : Fin 2 → IVec S16 32) a x).toNat < S256x142.size a := fun i k0_t2 v15 v20 v25 v30 v35 v40 v45 v50 v55 v60 v340 k0_hw353 k0_h1 => k0_hw353.2.2.1 k0_h1
theorem k0_idx473_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v30, v340] : Fin 2 → IVec S16 32) a x).toNat < S256x142.size a := fun i k0_t2 v15 v20 v25 v30 v35 v40 v45 v50 v55 v60 v340 k0_hw353 k0_h1 => k0_hw353.2.2.2.1 k0_h1
theorem k0_idx475_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v35, v340] : Fin 2 → IVec S16 32) a x).toNat < S256x142.size a := fun i k0_t2 v15 v20 v25 v30 v35 v40 v45 v50 v55 v60 v340 k0_hw353 k0_h1 => k0_hw353.2.2.2.2.1 k0_h1
theorem k0_idx477_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v40, v340] : Fin 2 → IVec S16 32) a x).toNat < S256x142.size a := fun i k0_t2 v15 v20 v25 v30 v35 v40 v45 v50 v55 v60 v340 k0_hw353 k0_h1 => k0_hw353.2.2.2.2.2.1 k0_h1
theorem k0_idx479_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v45, v340] : Fin 2 → IVec S16 32) a x).toNat < S256x142.size a := fun i k0_t2 v15 v20 v25 v30 v35 v40 v45 v50 v55 v60 v340 k0_hw353 k0_h1 => k0_hw353.2.2.2.2.2.2.1 k0_h1
theorem k0_idx481_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v50, v340] : Fin 2 → IVec S16 32) a x).toNat < S256x142.size a := fun i k0_t2 v15 v20 v25 v30 v35 v40 v45 v50 v55 v60 v340 k0_hw353 k0_h1 => k0_hw353.2.2.2.2.2.2.2.1 k0_h1
theorem k0_idx483_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v55, v340] : Fin 2 → IVec S16 32) a x).toNat < S256x142.size a := fun i k0_t2 v15 v20 v25 v30 v35 v40 v45 v50 v55 v60 v340 k0_hw353 k0_h1 => k0_hw353.2.2.2.2.2.2.2.2.1 k0_h1
theorem k0_idx485_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v340 : IVec S16 32) (k0_hw353 : k0_chk353 i k0_t2 v15 v20 v25 v30 v35 v40 v45 v50 v55 v60 v340), ∀ (k0_h1 : k0_cond1 i k0_t2 = 1#1), ∀ a x, ((![v60, v340] : Fin 2 → IVec S16 32) a x).toNat < S256x142.size a := fun i k0_t2 v15 v20 v25 v30 v35 v40 v45 v50 v55 v60 v340 k0_hw353 k0_h1 => k0_hw353.2.2.2.2.2.2.2.2.2 k0_h1

def k0_chk363 (i : grid0.Coords) (k0_t2 : Fin k0_t2_loop.trips) (v340 : IVec S16 32) (v370 : IVec S16 32) : Prop :=
  (∀ (k0_h1 : k0_cond1 i k0_t2 = 1#1), ∀ a x, ((![v370, v340] : Fin 2 → IVec S16 32) a x).toNat < S160x142.size a)
theorem k0_idx486_inb : ∀ (i : grid0.Coords) (k0_t2 : Fin k0_t2_loop.trips) (v340 : IVec S16 32) (v370 : IVec S16 32) (k0_hw363 : k0_chk363 i k0_t2 v340 v370), ∀ (k0_h1 : k0_cond1 i k0_t2 = 1#1), ∀ a x, ((![v370, v340] : Fin 2 → IVec S16 32) a x).toNat < S160x142.size a := fun i k0_t2 v340 v370 k0_hw363 k0_h1 => k0_hw363 k0_h1

def k0_chk365 (i : grid0.Coords) (k0_t2 : Fin k0_t2_loop.trips) (v371 : IVec S16 32) (v374 : IVec S16 32) : Prop :=
  (∀ (k0_h1 : k0_cond1 i k0_t2 = 1#1), ∀ a x, ((![v374, v371] : Fin 2 → IVec S16 32) a x).toNat < S160x142.size a)
theorem k0_idx488_inb : ∀ (i : grid0.Coords) (k0_t2 : Fin k0_t2_loop.trips) (v371 : IVec S16 32) (v374 : IVec S16 32) (k0_hw365 : k0_chk365 i k0_t2 v371 v374), ∀ (k0_h1 : k0_cond1 i k0_t2 = 1#1), ∀ a x, ((![v374, v371] : Fin 2 → IVec S16 32) a x).toNat < S160x142.size a := fun i k0_t2 v371 v374 k0_hw365 k0_h1 => k0_hw365 k0_h1

def k0_chk366 (i : grid0.Coords) (k0_t2 : Fin k0_t2_loop.trips) (v371 : IVec S16 32) (v377 : IVec S16 32) : Prop :=
  (∀ (k0_h1 : k0_cond1 i k0_t2 = 1#1), ∀ a x, ((![v377, v371] : Fin 2 → IVec S16 32) a x).toNat < S160x142.size a)
theorem k0_idx490_inb : ∀ (i : grid0.Coords) (k0_t2 : Fin k0_t2_loop.trips) (v371 : IVec S16 32) (v377 : IVec S16 32) (k0_hw366 : k0_chk366 i k0_t2 v371 v377), ∀ (k0_h1 : k0_cond1 i k0_t2 = 1#1), ∀ a x, ((![v377, v371] : Fin 2 → IVec S16 32) a x).toNat < S160x142.size a := fun i k0_t2 v371 v377 k0_hw366 k0_h1 => k0_hw366 k0_h1

def k0_chk367 (i : grid0.Coords) (k0_t2 : Fin k0_t2_loop.trips) (v371 : IVec S16 32) (v380 : IVec S16 32) : Prop :=
  (∀ (k0_h1 : k0_cond1 i k0_t2 = 1#1), ∀ a x, ((![v380, v371] : Fin 2 → IVec S16 32) a x).toNat < S160x142.size a)
theorem k0_idx492_inb : ∀ (i : grid0.Coords) (k0_t2 : Fin k0_t2_loop.trips) (v371 : IVec S16 32) (v380 : IVec S16 32) (k0_hw367 : k0_chk367 i k0_t2 v371 v380), ∀ (k0_h1 : k0_cond1 i k0_t2 = 1#1), ∀ a x, ((![v380, v371] : Fin 2 → IVec S16 32) a x).toNat < S160x142.size a := fun i k0_t2 v371 v380 k0_hw367 k0_h1 => k0_hw367 k0_h1

def k0_chk368 (i : grid0.Coords) (k0_t2 : Fin k0_t2_loop.trips) (v371 : IVec S16 32) (v383 : IVec S16 32) : Prop :=
  (∀ (k0_h1 : k0_cond1 i k0_t2 = 1#1), ∀ a x, ((![v383, v371] : Fin 2 → IVec S16 32) a x).toNat < S160x142.size a)
theorem k0_idx494_inb : ∀ (i : grid0.Coords) (k0_t2 : Fin k0_t2_loop.trips) (v371 : IVec S16 32) (v383 : IVec S16 32) (k0_hw368 : k0_chk368 i k0_t2 v371 v383), ∀ (k0_h1 : k0_cond1 i k0_t2 = 1#1), ∀ a x, ((![v383, v371] : Fin 2 → IVec S16 32) a x).toNat < S160x142.size a := fun i k0_t2 v371 v383 k0_hw368 k0_h1 => k0_hw368 k0_h1

def k0_chk369 (i : grid0.Coords) (k0_t2 : Fin k0_t2_loop.trips) (v371 : IVec S16 32) (v386 : IVec S16 32) : Prop :=
  (∀ (k0_h1 : k0_cond1 i k0_t2 = 1#1), ∀ a x, ((![v386, v371] : Fin 2 → IVec S16 32) a x).toNat < S160x142.size a)
theorem k0_idx496_inb : ∀ (i : grid0.Coords) (k0_t2 : Fin k0_t2_loop.trips) (v371 : IVec S16 32) (v386 : IVec S16 32) (k0_hw369 : k0_chk369 i k0_t2 v371 v386), ∀ (k0_h1 : k0_cond1 i k0_t2 = 1#1), ∀ a x, ((![v386, v371] : Fin 2 → IVec S16 32) a x).toNat < S160x142.size a := fun i k0_t2 v371 v386 k0_hw369 k0_h1 => k0_hw369 k0_h1

def k0_chk370 (i : grid0.Coords) (k0_t2 : Fin k0_t2_loop.trips) (v371 : IVec S16 32) (v389 : IVec S16 32) : Prop :=
  (∀ (k0_h1 : k0_cond1 i k0_t2 = 1#1), ∀ a x, ((![v389, v371] : Fin 2 → IVec S16 32) a x).toNat < S160x142.size a)
theorem k0_idx498_inb : ∀ (i : grid0.Coords) (k0_t2 : Fin k0_t2_loop.trips) (v371 : IVec S16 32) (v389 : IVec S16 32) (k0_hw370 : k0_chk370 i k0_t2 v371 v389), ∀ (k0_h1 : k0_cond1 i k0_t2 = 1#1), ∀ a x, ((![v389, v371] : Fin 2 → IVec S16 32) a x).toNat < S160x142.size a := fun i k0_t2 v371 v389 k0_hw370 k0_h1 => k0_hw370 k0_h1

def k0_chk371 (i : grid0.Coords) (k0_t2 : Fin k0_t2_loop.trips) (v371 : IVec S16 32) (v392 : IVec S16 32) : Prop :=
  (∀ (k0_h1 : k0_cond1 i k0_t2 = 1#1), ∀ a x, ((![v392, v371] : Fin 2 → IVec S16 32) a x).toNat < S160x142.size a)
theorem k0_idx500_inb : ∀ (i : grid0.Coords) (k0_t2 : Fin k0_t2_loop.trips) (v371 : IVec S16 32) (v392 : IVec S16 32) (k0_hw371 : k0_chk371 i k0_t2 v371 v392), ∀ (k0_h1 : k0_cond1 i k0_t2 = 1#1), ∀ a x, ((![v392, v371] : Fin 2 → IVec S16 32) a x).toNat < S160x142.size a := fun i k0_t2 v371 v392 k0_hw371 k0_h1 => k0_hw371 k0_h1

def k0_chk372 (i : grid0.Coords) (k0_t2 : Fin k0_t2_loop.trips) (v371 : IVec S16 32) (v395 : IVec S16 32) : Prop :=
  (∀ (k0_h1 : k0_cond1 i k0_t2 = 1#1), ∀ a x, ((![v395, v371] : Fin 2 → IVec S16 32) a x).toNat < S160x142.size a)
theorem k0_idx502_inb : ∀ (i : grid0.Coords) (k0_t2 : Fin k0_t2_loop.trips) (v371 : IVec S16 32) (v395 : IVec S16 32) (k0_hw372 : k0_chk372 i k0_t2 v371 v395), ∀ (k0_h1 : k0_cond1 i k0_t2 = 1#1), ∀ a x, ((![v395, v371] : Fin 2 → IVec S16 32) a x).toNat < S160x142.size a := fun i k0_t2 v371 v395 k0_hw372 k0_h1 => k0_hw372 k0_h1

def k0_chk373 (i : grid0.Coords) (k0_t2 : Fin k0_t2_loop.trips) (v371 : IVec S16 32) (v398 : IVec S16 32) : Prop :=
  (∀ (k0_h1 : k0_cond1 i k0_t2 = 1#1), ∀ a x, ((![v398, v371] : Fin 2 → IVec S16 32) a x).toNat < S160x142.size a)
theorem k0_idx504_inb : ∀ (i : grid0.Coords) (k0_t2 : Fin k0_t2_loop.trips) (v371 : IVec S16 32) (v398 : IVec S16 32) (k0_hw373 : k0_chk373 i k0_t2 v371 v398), ∀ (k0_h1 : k0_cond1 i k0_t2 = 1#1), ∀ a x, ((![v398, v371] : Fin 2 → IVec S16 32) a x).toNat < S160x142.size a := fun i k0_t2 v371 v398 k0_hw373 k0_h1 => k0_hw373 k0_h1

def k0_chk364 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) : Prop :=
  (∀ (k0_h1 : k0_cond1 i k0_t2 = 1#1), ∀ a x, ((![v15, v371] : Fin 2 → IVec S16 32) a x).toNat < S256x142.size a) ∧
  (∀ (k0_h1 : k0_cond1 i k0_t2 = 1#1), ∀ a x, ((![v20, v371] : Fin 2 → IVec S16 32) a x).toNat < S256x142.size a) ∧
  (∀ (k0_h1 : k0_cond1 i k0_t2 = 1#1), ∀ a x, ((![v25, v371] : Fin 2 → IVec S16 32) a x).toNat < S256x142.size a) ∧
  (∀ (k0_h1 : k0_cond1 i k0_t2 = 1#1), ∀ a x, ((![v30, v371] : Fin 2 → IVec S16 32) a x).toNat < S256x142.size a) ∧
  (∀ (k0_h1 : k0_cond1 i k0_t2 = 1#1), ∀ a x, ((![v35, v371] : Fin 2 → IVec S16 32) a x).toNat < S256x142.size a) ∧
  (∀ (k0_h1 : k0_cond1 i k0_t2 = 1#1), ∀ a x, ((![v40, v371] : Fin 2 → IVec S16 32) a x).toNat < S256x142.size a) ∧
  (∀ (k0_h1 : k0_cond1 i k0_t2 = 1#1), ∀ a x, ((![v45, v371] : Fin 2 → IVec S16 32) a x).toNat < S256x142.size a) ∧
  (∀ (k0_h1 : k0_cond1 i k0_t2 = 1#1), ∀ a x, ((![v50, v371] : Fin 2 → IVec S16 32) a x).toNat < S256x142.size a) ∧
  (∀ (k0_h1 : k0_cond1 i k0_t2 = 1#1), ∀ a x, ((![v55, v371] : Fin 2 → IVec S16 32) a x).toNat < S256x142.size a) ∧
  (∀ (k0_h1 : k0_cond1 i k0_t2 = 1#1), ∀ a x, ((![v60, v371] : Fin 2 → IVec S16 32) a x).toNat < S256x142.size a)
theorem k0_idx487_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v15, v371] : Fin 2 → IVec S16 32) a x).toNat < S256x142.size a := fun i k0_t2 v15 v20 v25 v30 v35 v40 v45 v50 v55 v60 v371 k0_hw364 k0_h1 => k0_hw364.1 k0_h1
theorem k0_idx489_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v20, v371] : Fin 2 → IVec S16 32) a x).toNat < S256x142.size a := fun i k0_t2 v15 v20 v25 v30 v35 v40 v45 v50 v55 v60 v371 k0_hw364 k0_h1 => k0_hw364.2.1 k0_h1
theorem k0_idx491_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v25, v371] : Fin 2 → IVec S16 32) a x).toNat < S256x142.size a := fun i k0_t2 v15 v20 v25 v30 v35 v40 v45 v50 v55 v60 v371 k0_hw364 k0_h1 => k0_hw364.2.2.1 k0_h1
theorem k0_idx493_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v30, v371] : Fin 2 → IVec S16 32) a x).toNat < S256x142.size a := fun i k0_t2 v15 v20 v25 v30 v35 v40 v45 v50 v55 v60 v371 k0_hw364 k0_h1 => k0_hw364.2.2.2.1 k0_h1
theorem k0_idx495_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v35, v371] : Fin 2 → IVec S16 32) a x).toNat < S256x142.size a := fun i k0_t2 v15 v20 v25 v30 v35 v40 v45 v50 v55 v60 v371 k0_hw364 k0_h1 => k0_hw364.2.2.2.2.1 k0_h1
theorem k0_idx497_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v40, v371] : Fin 2 → IVec S16 32) a x).toNat < S256x142.size a := fun i k0_t2 v15 v20 v25 v30 v35 v40 v45 v50 v55 v60 v371 k0_hw364 k0_h1 => k0_hw364.2.2.2.2.2.1 k0_h1
theorem k0_idx499_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v45, v371] : Fin 2 → IVec S16 32) a x).toNat < S256x142.size a := fun i k0_t2 v15 v20 v25 v30 v35 v40 v45 v50 v55 v60 v371 k0_hw364 k0_h1 => k0_hw364.2.2.2.2.2.2.1 k0_h1
theorem k0_idx501_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v50, v371] : Fin 2 → IVec S16 32) a x).toNat < S256x142.size a := fun i k0_t2 v15 v20 v25 v30 v35 v40 v45 v50 v55 v60 v371 k0_hw364 k0_h1 => k0_hw364.2.2.2.2.2.2.2.1 k0_h1
theorem k0_idx503_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v55, v371] : Fin 2 → IVec S16 32) a x).toNat < S256x142.size a := fun i k0_t2 v15 v20 v25 v30 v35 v40 v45 v50 v55 v60 v371 k0_hw364 k0_h1 => k0_hw364.2.2.2.2.2.2.2.2.1 k0_h1
theorem k0_idx505_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v371 : IVec S16 32) (k0_hw364 : k0_chk364 i k0_t2 v15 v20 v25 v30 v35 v40 v45 v50 v55 v60 v371), ∀ (k0_h1 : k0_cond1 i k0_t2 = 1#1), ∀ a x, ((![v60, v371] : Fin 2 → IVec S16 32) a x).toNat < S256x142.size a := fun i k0_t2 v15 v20 v25 v30 v35 v40 v45 v50 v55 v60 v371 k0_hw364 k0_h1 => k0_hw364.2.2.2.2.2.2.2.2.2 k0_h1

def k0_chk374 (i : grid0.Coords) (k0_t2 : Fin k0_t2_loop.trips) (v371 : IVec S16 32) (v401 : IVec S16 32) : Prop :=
  (∀ (k0_h1 : k0_cond1 i k0_t2 = 1#1), ∀ a x, ((![v401, v371] : Fin 2 → IVec S16 32) a x).toNat < S160x142.size a)
theorem k0_idx506_inb : ∀ (i : grid0.Coords) (k0_t2 : Fin k0_t2_loop.trips) (v371 : IVec S16 32) (v401 : IVec S16 32) (k0_hw374 : k0_chk374 i k0_t2 v371 v401), ∀ (k0_h1 : k0_cond1 i k0_t2 = 1#1), ∀ a x, ((![v401, v371] : Fin 2 → IVec S16 32) a x).toNat < S160x142.size a := fun i k0_t2 v371 v401 k0_hw374 k0_h1 => k0_hw374 k0_h1

def k0_chk376 (i : grid0.Coords) (k0_t2 : Fin k0_t2_loop.trips) (v402 : IVec S16 32) (v405 : IVec S16 32) : Prop :=
  (∀ (k0_h1 : k0_cond1 i k0_t2 = 1#1), ∀ a x, ((![v405, v402] : Fin 2 → IVec S16 32) a x).toNat < S160x142.size a)
theorem k0_idx508_inb : ∀ (i : grid0.Coords) (k0_t2 : Fin k0_t2_loop.trips) (v402 : IVec S16 32) (v405 : IVec S16 32) (k0_hw376 : k0_chk376 i k0_t2 v402 v405), ∀ (k0_h1 : k0_cond1 i k0_t2 = 1#1), ∀ a x, ((![v405, v402] : Fin 2 → IVec S16 32) a x).toNat < S160x142.size a := fun i k0_t2 v402 v405 k0_hw376 k0_h1 => k0_hw376 k0_h1

def k0_chk377 (i : grid0.Coords) (k0_t2 : Fin k0_t2_loop.trips) (v402 : IVec S16 32) (v408 : IVec S16 32) : Prop :=
  (∀ (k0_h1 : k0_cond1 i k0_t2 = 1#1), ∀ a x, ((![v408, v402] : Fin 2 → IVec S16 32) a x).toNat < S160x142.size a)
theorem k0_idx510_inb : ∀ (i : grid0.Coords) (k0_t2 : Fin k0_t2_loop.trips) (v402 : IVec S16 32) (v408 : IVec S16 32) (k0_hw377 : k0_chk377 i k0_t2 v402 v408), ∀ (k0_h1 : k0_cond1 i k0_t2 = 1#1), ∀ a x, ((![v408, v402] : Fin 2 → IVec S16 32) a x).toNat < S160x142.size a := fun i k0_t2 v402 v408 k0_hw377 k0_h1 => k0_hw377 k0_h1

def k0_chk378 (i : grid0.Coords) (k0_t2 : Fin k0_t2_loop.trips) (v402 : IVec S16 32) (v411 : IVec S16 32) : Prop :=
  (∀ (k0_h1 : k0_cond1 i k0_t2 = 1#1), ∀ a x, ((![v411, v402] : Fin 2 → IVec S16 32) a x).toNat < S160x142.size a)
theorem k0_idx512_inb : ∀ (i : grid0.Coords) (k0_t2 : Fin k0_t2_loop.trips) (v402 : IVec S16 32) (v411 : IVec S16 32) (k0_hw378 : k0_chk378 i k0_t2 v402 v411), ∀ (k0_h1 : k0_cond1 i k0_t2 = 1#1), ∀ a x, ((![v411, v402] : Fin 2 → IVec S16 32) a x).toNat < S160x142.size a := fun i k0_t2 v402 v411 k0_hw378 k0_h1 => k0_hw378 k0_h1

def k0_chk379 (i : grid0.Coords) (k0_t2 : Fin k0_t2_loop.trips) (v402 : IVec S16 32) (v414 : IVec S16 32) : Prop :=
  (∀ (k0_h1 : k0_cond1 i k0_t2 = 1#1), ∀ a x, ((![v414, v402] : Fin 2 → IVec S16 32) a x).toNat < S160x142.size a)
theorem k0_idx514_inb : ∀ (i : grid0.Coords) (k0_t2 : Fin k0_t2_loop.trips) (v402 : IVec S16 32) (v414 : IVec S16 32) (k0_hw379 : k0_chk379 i k0_t2 v402 v414), ∀ (k0_h1 : k0_cond1 i k0_t2 = 1#1), ∀ a x, ((![v414, v402] : Fin 2 → IVec S16 32) a x).toNat < S160x142.size a := fun i k0_t2 v402 v414 k0_hw379 k0_h1 => k0_hw379 k0_h1

def k0_chk380 (i : grid0.Coords) (k0_t2 : Fin k0_t2_loop.trips) (v402 : IVec S16 32) (v417 : IVec S16 32) : Prop :=
  (∀ (k0_h1 : k0_cond1 i k0_t2 = 1#1), ∀ a x, ((![v417, v402] : Fin 2 → IVec S16 32) a x).toNat < S160x142.size a)
theorem k0_idx516_inb : ∀ (i : grid0.Coords) (k0_t2 : Fin k0_t2_loop.trips) (v402 : IVec S16 32) (v417 : IVec S16 32) (k0_hw380 : k0_chk380 i k0_t2 v402 v417), ∀ (k0_h1 : k0_cond1 i k0_t2 = 1#1), ∀ a x, ((![v417, v402] : Fin 2 → IVec S16 32) a x).toNat < S160x142.size a := fun i k0_t2 v402 v417 k0_hw380 k0_h1 => k0_hw380 k0_h1

def k0_chk381 (i : grid0.Coords) (k0_t2 : Fin k0_t2_loop.trips) (v402 : IVec S16 32) (v420 : IVec S16 32) : Prop :=
  (∀ (k0_h1 : k0_cond1 i k0_t2 = 1#1), ∀ a x, ((![v420, v402] : Fin 2 → IVec S16 32) a x).toNat < S160x142.size a)
theorem k0_idx518_inb : ∀ (i : grid0.Coords) (k0_t2 : Fin k0_t2_loop.trips) (v402 : IVec S16 32) (v420 : IVec S16 32) (k0_hw381 : k0_chk381 i k0_t2 v402 v420), ∀ (k0_h1 : k0_cond1 i k0_t2 = 1#1), ∀ a x, ((![v420, v402] : Fin 2 → IVec S16 32) a x).toNat < S160x142.size a := fun i k0_t2 v402 v420 k0_hw381 k0_h1 => k0_hw381 k0_h1

def k0_chk382 (i : grid0.Coords) (k0_t2 : Fin k0_t2_loop.trips) (v402 : IVec S16 32) (v423 : IVec S16 32) : Prop :=
  (∀ (k0_h1 : k0_cond1 i k0_t2 = 1#1), ∀ a x, ((![v423, v402] : Fin 2 → IVec S16 32) a x).toNat < S160x142.size a)
theorem k0_idx520_inb : ∀ (i : grid0.Coords) (k0_t2 : Fin k0_t2_loop.trips) (v402 : IVec S16 32) (v423 : IVec S16 32) (k0_hw382 : k0_chk382 i k0_t2 v402 v423), ∀ (k0_h1 : k0_cond1 i k0_t2 = 1#1), ∀ a x, ((![v423, v402] : Fin 2 → IVec S16 32) a x).toNat < S160x142.size a := fun i k0_t2 v402 v423 k0_hw382 k0_h1 => k0_hw382 k0_h1

def k0_chk383 (i : grid0.Coords) (k0_t2 : Fin k0_t2_loop.trips) (v402 : IVec S16 32) (v426 : IVec S16 32) : Prop :=
  (∀ (k0_h1 : k0_cond1 i k0_t2 = 1#1), ∀ a x, ((![v426, v402] : Fin 2 → IVec S16 32) a x).toNat < S160x142.size a)
theorem k0_idx522_inb : ∀ (i : grid0.Coords) (k0_t2 : Fin k0_t2_loop.trips) (v402 : IVec S16 32) (v426 : IVec S16 32) (k0_hw383 : k0_chk383 i k0_t2 v402 v426), ∀ (k0_h1 : k0_cond1 i k0_t2 = 1#1), ∀ a x, ((![v426, v402] : Fin 2 → IVec S16 32) a x).toNat < S160x142.size a := fun i k0_t2 v402 v426 k0_hw383 k0_h1 => k0_hw383 k0_h1

def k0_chk384 (i : grid0.Coords) (k0_t2 : Fin k0_t2_loop.trips) (v402 : IVec S16 32) (v429 : IVec S16 32) : Prop :=
  (∀ (k0_h1 : k0_cond1 i k0_t2 = 1#1), ∀ a x, ((![v429, v402] : Fin 2 → IVec S16 32) a x).toNat < S160x142.size a)
theorem k0_idx524_inb : ∀ (i : grid0.Coords) (k0_t2 : Fin k0_t2_loop.trips) (v402 : IVec S16 32) (v429 : IVec S16 32) (k0_hw384 : k0_chk384 i k0_t2 v402 v429), ∀ (k0_h1 : k0_cond1 i k0_t2 = 1#1), ∀ a x, ((![v429, v402] : Fin 2 → IVec S16 32) a x).toNat < S160x142.size a := fun i k0_t2 v402 v429 k0_hw384 k0_h1 => k0_hw384 k0_h1

def k0_chk375 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) : Prop :=
  (∀ (k0_h1 : k0_cond1 i k0_t2 = 1#1), ∀ a x, ((![v15, v402] : Fin 2 → IVec S16 32) a x).toNat < S256x142.size a) ∧
  (∀ (k0_h1 : k0_cond1 i k0_t2 = 1#1), ∀ a x, ((![v20, v402] : Fin 2 → IVec S16 32) a x).toNat < S256x142.size a) ∧
  (∀ (k0_h1 : k0_cond1 i k0_t2 = 1#1), ∀ a x, ((![v25, v402] : Fin 2 → IVec S16 32) a x).toNat < S256x142.size a) ∧
  (∀ (k0_h1 : k0_cond1 i k0_t2 = 1#1), ∀ a x, ((![v30, v402] : Fin 2 → IVec S16 32) a x).toNat < S256x142.size a) ∧
  (∀ (k0_h1 : k0_cond1 i k0_t2 = 1#1), ∀ a x, ((![v35, v402] : Fin 2 → IVec S16 32) a x).toNat < S256x142.size a) ∧
  (∀ (k0_h1 : k0_cond1 i k0_t2 = 1#1), ∀ a x, ((![v40, v402] : Fin 2 → IVec S16 32) a x).toNat < S256x142.size a) ∧
  (∀ (k0_h1 : k0_cond1 i k0_t2 = 1#1), ∀ a x, ((![v45, v402] : Fin 2 → IVec S16 32) a x).toNat < S256x142.size a) ∧
  (∀ (k0_h1 : k0_cond1 i k0_t2 = 1#1), ∀ a x, ((![v50, v402] : Fin 2 → IVec S16 32) a x).toNat < S256x142.size a) ∧
  (∀ (k0_h1 : k0_cond1 i k0_t2 = 1#1), ∀ a x, ((![v55, v402] : Fin 2 → IVec S16 32) a x).toNat < S256x142.size a) ∧
  (∀ (k0_h1 : k0_cond1 i k0_t2 = 1#1), ∀ a x, ((![v60, v402] : Fin 2 → IVec S16 32) a x).toNat < S256x142.size a)
theorem k0_idx507_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v15, v402] : Fin 2 → IVec S16 32) a x).toNat < S256x142.size a := fun i k0_t2 v15 v20 v25 v30 v35 v40 v45 v50 v55 v60 v402 k0_hw375 k0_h1 => k0_hw375.1 k0_h1
theorem k0_idx509_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v20, v402] : Fin 2 → IVec S16 32) a x).toNat < S256x142.size a := fun i k0_t2 v15 v20 v25 v30 v35 v40 v45 v50 v55 v60 v402 k0_hw375 k0_h1 => k0_hw375.2.1 k0_h1
theorem k0_idx511_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v25, v402] : Fin 2 → IVec S16 32) a x).toNat < S256x142.size a := fun i k0_t2 v15 v20 v25 v30 v35 v40 v45 v50 v55 v60 v402 k0_hw375 k0_h1 => k0_hw375.2.2.1 k0_h1
theorem k0_idx513_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v30, v402] : Fin 2 → IVec S16 32) a x).toNat < S256x142.size a := fun i k0_t2 v15 v20 v25 v30 v35 v40 v45 v50 v55 v60 v402 k0_hw375 k0_h1 => k0_hw375.2.2.2.1 k0_h1
theorem k0_idx515_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v35, v402] : Fin 2 → IVec S16 32) a x).toNat < S256x142.size a := fun i k0_t2 v15 v20 v25 v30 v35 v40 v45 v50 v55 v60 v402 k0_hw375 k0_h1 => k0_hw375.2.2.2.2.1 k0_h1
theorem k0_idx517_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v40, v402] : Fin 2 → IVec S16 32) a x).toNat < S256x142.size a := fun i k0_t2 v15 v20 v25 v30 v35 v40 v45 v50 v55 v60 v402 k0_hw375 k0_h1 => k0_hw375.2.2.2.2.2.1 k0_h1
theorem k0_idx519_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v45, v402] : Fin 2 → IVec S16 32) a x).toNat < S256x142.size a := fun i k0_t2 v15 v20 v25 v30 v35 v40 v45 v50 v55 v60 v402 k0_hw375 k0_h1 => k0_hw375.2.2.2.2.2.2.1 k0_h1
theorem k0_idx521_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v50, v402] : Fin 2 → IVec S16 32) a x).toNat < S256x142.size a := fun i k0_t2 v15 v20 v25 v30 v35 v40 v45 v50 v55 v60 v402 k0_hw375 k0_h1 => k0_hw375.2.2.2.2.2.2.2.1 k0_h1
theorem k0_idx523_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v55, v402] : Fin 2 → IVec S16 32) a x).toNat < S256x142.size a := fun i k0_t2 v15 v20 v25 v30 v35 v40 v45 v50 v55 v60 v402 k0_hw375 k0_h1 => k0_hw375.2.2.2.2.2.2.2.2.1 k0_h1
theorem k0_idx525_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v402 : IVec S16 32) (k0_hw375 : k0_chk375 i k0_t2 v15 v20 v25 v30 v35 v40 v45 v50 v55 v60 v402), ∀ (k0_h1 : k0_cond1 i k0_t2 = 1#1), ∀ a x, ((![v60, v402] : Fin 2 → IVec S16 32) a x).toNat < S256x142.size a := fun i k0_t2 v15 v20 v25 v30 v35 v40 v45 v50 v55 v60 v402 k0_hw375 k0_h1 => k0_hw375.2.2.2.2.2.2.2.2.2 k0_h1

def k0_chk385 (i : grid0.Coords) (k0_t2 : Fin k0_t2_loop.trips) (v402 : IVec S16 32) (v432 : IVec S16 32) : Prop :=
  (∀ (k0_h1 : k0_cond1 i k0_t2 = 1#1), ∀ a x, ((![v432, v402] : Fin 2 → IVec S16 32) a x).toNat < S160x142.size a)
theorem k0_idx526_inb : ∀ (i : grid0.Coords) (k0_t2 : Fin k0_t2_loop.trips) (v402 : IVec S16 32) (v432 : IVec S16 32) (k0_hw385 : k0_chk385 i k0_t2 v402 v432), ∀ (k0_h1 : k0_cond1 i k0_t2 = 1#1), ∀ a x, ((![v432, v402] : Fin 2 → IVec S16 32) a x).toNat < S160x142.size a := fun i k0_t2 v402 v432 k0_hw385 k0_h1 => k0_hw385 k0_h1

def k0_chk387 (i : grid0.Coords) (k0_t2 : Fin k0_t2_loop.trips) (v433 : IVec S16 32) (v436 : IVec S16 32) : Prop :=
  (∀ (k0_h1 : k0_cond1 i k0_t2 = 1#1), ∀ a x, ((![v436, v433] : Fin 2 → IVec S16 32) a x).toNat < S160x142.size a)
theorem k0_idx528_inb : ∀ (i : grid0.Coords) (k0_t2 : Fin k0_t2_loop.trips) (v433 : IVec S16 32) (v436 : IVec S16 32) (k0_hw387 : k0_chk387 i k0_t2 v433 v436), ∀ (k0_h1 : k0_cond1 i k0_t2 = 1#1), ∀ a x, ((![v436, v433] : Fin 2 → IVec S16 32) a x).toNat < S160x142.size a := fun i k0_t2 v433 v436 k0_hw387 k0_h1 => k0_hw387 k0_h1

def k0_chk388 (i : grid0.Coords) (k0_t2 : Fin k0_t2_loop.trips) (v433 : IVec S16 32) (v439 : IVec S16 32) : Prop :=
  (∀ (k0_h1 : k0_cond1 i k0_t2 = 1#1), ∀ a x, ((![v439, v433] : Fin 2 → IVec S16 32) a x).toNat < S160x142.size a)
theorem k0_idx530_inb : ∀ (i : grid0.Coords) (k0_t2 : Fin k0_t2_loop.trips) (v433 : IVec S16 32) (v439 : IVec S16 32) (k0_hw388 : k0_chk388 i k0_t2 v433 v439), ∀ (k0_h1 : k0_cond1 i k0_t2 = 1#1), ∀ a x, ((![v439, v433] : Fin 2 → IVec S16 32) a x).toNat < S160x142.size a := fun i k0_t2 v433 v439 k0_hw388 k0_h1 => k0_hw388 k0_h1

def k0_chk389 (i : grid0.Coords) (k0_t2 : Fin k0_t2_loop.trips) (v433 : IVec S16 32) (v442 : IVec S16 32) : Prop :=
  (∀ (k0_h1 : k0_cond1 i k0_t2 = 1#1), ∀ a x, ((![v442, v433] : Fin 2 → IVec S16 32) a x).toNat < S160x142.size a)
theorem k0_idx532_inb : ∀ (i : grid0.Coords) (k0_t2 : Fin k0_t2_loop.trips) (v433 : IVec S16 32) (v442 : IVec S16 32) (k0_hw389 : k0_chk389 i k0_t2 v433 v442), ∀ (k0_h1 : k0_cond1 i k0_t2 = 1#1), ∀ a x, ((![v442, v433] : Fin 2 → IVec S16 32) a x).toNat < S160x142.size a := fun i k0_t2 v433 v442 k0_hw389 k0_h1 => k0_hw389 k0_h1

def k0_chk390 (i : grid0.Coords) (k0_t2 : Fin k0_t2_loop.trips) (v433 : IVec S16 32) (v445 : IVec S16 32) : Prop :=
  (∀ (k0_h1 : k0_cond1 i k0_t2 = 1#1), ∀ a x, ((![v445, v433] : Fin 2 → IVec S16 32) a x).toNat < S160x142.size a)
theorem k0_idx534_inb : ∀ (i : grid0.Coords) (k0_t2 : Fin k0_t2_loop.trips) (v433 : IVec S16 32) (v445 : IVec S16 32) (k0_hw390 : k0_chk390 i k0_t2 v433 v445), ∀ (k0_h1 : k0_cond1 i k0_t2 = 1#1), ∀ a x, ((![v445, v433] : Fin 2 → IVec S16 32) a x).toNat < S160x142.size a := fun i k0_t2 v433 v445 k0_hw390 k0_h1 => k0_hw390 k0_h1

def k0_chk391 (i : grid0.Coords) (k0_t2 : Fin k0_t2_loop.trips) (v433 : IVec S16 32) (v448 : IVec S16 32) : Prop :=
  (∀ (k0_h1 : k0_cond1 i k0_t2 = 1#1), ∀ a x, ((![v448, v433] : Fin 2 → IVec S16 32) a x).toNat < S160x142.size a)
theorem k0_idx536_inb : ∀ (i : grid0.Coords) (k0_t2 : Fin k0_t2_loop.trips) (v433 : IVec S16 32) (v448 : IVec S16 32) (k0_hw391 : k0_chk391 i k0_t2 v433 v448), ∀ (k0_h1 : k0_cond1 i k0_t2 = 1#1), ∀ a x, ((![v448, v433] : Fin 2 → IVec S16 32) a x).toNat < S160x142.size a := fun i k0_t2 v433 v448 k0_hw391 k0_h1 => k0_hw391 k0_h1

def k0_chk392 (i : grid0.Coords) (k0_t2 : Fin k0_t2_loop.trips) (v433 : IVec S16 32) (v451 : IVec S16 32) : Prop :=
  (∀ (k0_h1 : k0_cond1 i k0_t2 = 1#1), ∀ a x, ((![v451, v433] : Fin 2 → IVec S16 32) a x).toNat < S160x142.size a)
theorem k0_idx538_inb : ∀ (i : grid0.Coords) (k0_t2 : Fin k0_t2_loop.trips) (v433 : IVec S16 32) (v451 : IVec S16 32) (k0_hw392 : k0_chk392 i k0_t2 v433 v451), ∀ (k0_h1 : k0_cond1 i k0_t2 = 1#1), ∀ a x, ((![v451, v433] : Fin 2 → IVec S16 32) a x).toNat < S160x142.size a := fun i k0_t2 v433 v451 k0_hw392 k0_h1 => k0_hw392 k0_h1

def k0_chk393 (i : grid0.Coords) (k0_t2 : Fin k0_t2_loop.trips) (v433 : IVec S16 32) (v454 : IVec S16 32) : Prop :=
  (∀ (k0_h1 : k0_cond1 i k0_t2 = 1#1), ∀ a x, ((![v454, v433] : Fin 2 → IVec S16 32) a x).toNat < S160x142.size a)
theorem k0_idx540_inb : ∀ (i : grid0.Coords) (k0_t2 : Fin k0_t2_loop.trips) (v433 : IVec S16 32) (v454 : IVec S16 32) (k0_hw393 : k0_chk393 i k0_t2 v433 v454), ∀ (k0_h1 : k0_cond1 i k0_t2 = 1#1), ∀ a x, ((![v454, v433] : Fin 2 → IVec S16 32) a x).toNat < S160x142.size a := fun i k0_t2 v433 v454 k0_hw393 k0_h1 => k0_hw393 k0_h1

def k0_chk394 (i : grid0.Coords) (k0_t2 : Fin k0_t2_loop.trips) (v433 : IVec S16 32) (v457 : IVec S16 32) : Prop :=
  (∀ (k0_h1 : k0_cond1 i k0_t2 = 1#1), ∀ a x, ((![v457, v433] : Fin 2 → IVec S16 32) a x).toNat < S160x142.size a)
theorem k0_idx542_inb : ∀ (i : grid0.Coords) (k0_t2 : Fin k0_t2_loop.trips) (v433 : IVec S16 32) (v457 : IVec S16 32) (k0_hw394 : k0_chk394 i k0_t2 v433 v457), ∀ (k0_h1 : k0_cond1 i k0_t2 = 1#1), ∀ a x, ((![v457, v433] : Fin 2 → IVec S16 32) a x).toNat < S160x142.size a := fun i k0_t2 v433 v457 k0_hw394 k0_h1 => k0_hw394 k0_h1

def k0_chk395 (i : grid0.Coords) (k0_t2 : Fin k0_t2_loop.trips) (v433 : IVec S16 32) (v460 : IVec S16 32) : Prop :=
  (∀ (k0_h1 : k0_cond1 i k0_t2 = 1#1), ∀ a x, ((![v460, v433] : Fin 2 → IVec S16 32) a x).toNat < S160x142.size a)
theorem k0_idx544_inb : ∀ (i : grid0.Coords) (k0_t2 : Fin k0_t2_loop.trips) (v433 : IVec S16 32) (v460 : IVec S16 32) (k0_hw395 : k0_chk395 i k0_t2 v433 v460), ∀ (k0_h1 : k0_cond1 i k0_t2 = 1#1), ∀ a x, ((![v460, v433] : Fin 2 → IVec S16 32) a x).toNat < S160x142.size a := fun i k0_t2 v433 v460 k0_hw395 k0_h1 => k0_hw395 k0_h1

def k0_chk386 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) : Prop :=
  (∀ (k0_h1 : k0_cond1 i k0_t2 = 1#1), ∀ a x, ((![v15, v433] : Fin 2 → IVec S16 32) a x).toNat < S256x142.size a) ∧
  (∀ (k0_h1 : k0_cond1 i k0_t2 = 1#1), ∀ a x, ((![v20, v433] : Fin 2 → IVec S16 32) a x).toNat < S256x142.size a) ∧
  (∀ (k0_h1 : k0_cond1 i k0_t2 = 1#1), ∀ a x, ((![v25, v433] : Fin 2 → IVec S16 32) a x).toNat < S256x142.size a) ∧
  (∀ (k0_h1 : k0_cond1 i k0_t2 = 1#1), ∀ a x, ((![v30, v433] : Fin 2 → IVec S16 32) a x).toNat < S256x142.size a) ∧
  (∀ (k0_h1 : k0_cond1 i k0_t2 = 1#1), ∀ a x, ((![v35, v433] : Fin 2 → IVec S16 32) a x).toNat < S256x142.size a) ∧
  (∀ (k0_h1 : k0_cond1 i k0_t2 = 1#1), ∀ a x, ((![v40, v433] : Fin 2 → IVec S16 32) a x).toNat < S256x142.size a) ∧
  (∀ (k0_h1 : k0_cond1 i k0_t2 = 1#1), ∀ a x, ((![v45, v433] : Fin 2 → IVec S16 32) a x).toNat < S256x142.size a) ∧
  (∀ (k0_h1 : k0_cond1 i k0_t2 = 1#1), ∀ a x, ((![v50, v433] : Fin 2 → IVec S16 32) a x).toNat < S256x142.size a) ∧
  (∀ (k0_h1 : k0_cond1 i k0_t2 = 1#1), ∀ a x, ((![v55, v433] : Fin 2 → IVec S16 32) a x).toNat < S256x142.size a) ∧
  (∀ (k0_h1 : k0_cond1 i k0_t2 = 1#1), ∀ a x, ((![v60, v433] : Fin 2 → IVec S16 32) a x).toNat < S256x142.size a)
theorem k0_idx527_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v15, v433] : Fin 2 → IVec S16 32) a x).toNat < S256x142.size a := fun i k0_t2 v15 v20 v25 v30 v35 v40 v45 v50 v55 v60 v433 k0_hw386 k0_h1 => k0_hw386.1 k0_h1
theorem k0_idx529_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v20, v433] : Fin 2 → IVec S16 32) a x).toNat < S256x142.size a := fun i k0_t2 v15 v20 v25 v30 v35 v40 v45 v50 v55 v60 v433 k0_hw386 k0_h1 => k0_hw386.2.1 k0_h1
theorem k0_idx531_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v25, v433] : Fin 2 → IVec S16 32) a x).toNat < S256x142.size a := fun i k0_t2 v15 v20 v25 v30 v35 v40 v45 v50 v55 v60 v433 k0_hw386 k0_h1 => k0_hw386.2.2.1 k0_h1
theorem k0_idx533_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v30, v433] : Fin 2 → IVec S16 32) a x).toNat < S256x142.size a := fun i k0_t2 v15 v20 v25 v30 v35 v40 v45 v50 v55 v60 v433 k0_hw386 k0_h1 => k0_hw386.2.2.2.1 k0_h1
theorem k0_idx535_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v35, v433] : Fin 2 → IVec S16 32) a x).toNat < S256x142.size a := fun i k0_t2 v15 v20 v25 v30 v35 v40 v45 v50 v55 v60 v433 k0_hw386 k0_h1 => k0_hw386.2.2.2.2.1 k0_h1
theorem k0_idx537_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v40, v433] : Fin 2 → IVec S16 32) a x).toNat < S256x142.size a := fun i k0_t2 v15 v20 v25 v30 v35 v40 v45 v50 v55 v60 v433 k0_hw386 k0_h1 => k0_hw386.2.2.2.2.2.1 k0_h1
theorem k0_idx539_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v45, v433] : Fin 2 → IVec S16 32) a x).toNat < S256x142.size a := fun i k0_t2 v15 v20 v25 v30 v35 v40 v45 v50 v55 v60 v433 k0_hw386 k0_h1 => k0_hw386.2.2.2.2.2.2.1 k0_h1
theorem k0_idx541_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v50, v433] : Fin 2 → IVec S16 32) a x).toNat < S256x142.size a := fun i k0_t2 v15 v20 v25 v30 v35 v40 v45 v50 v55 v60 v433 k0_hw386 k0_h1 => k0_hw386.2.2.2.2.2.2.2.1 k0_h1
theorem k0_idx543_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v55, v433] : Fin 2 → IVec S16 32) a x).toNat < S256x142.size a := fun i k0_t2 v15 v20 v25 v30 v35 v40 v45 v50 v55 v60 v433 k0_hw386 k0_h1 => k0_hw386.2.2.2.2.2.2.2.2.1 k0_h1
theorem k0_idx545_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v433 : IVec S16 32) (k0_hw386 : k0_chk386 i k0_t2 v15 v20 v25 v30 v35 v40 v45 v50 v55 v60 v433), ∀ (k0_h1 : k0_cond1 i k0_t2 = 1#1), ∀ a x, ((![v60, v433] : Fin 2 → IVec S16 32) a x).toNat < S256x142.size a := fun i k0_t2 v15 v20 v25 v30 v35 v40 v45 v50 v55 v60 v433 k0_hw386 k0_h1 => k0_hw386.2.2.2.2.2.2.2.2.2 k0_h1

def k0_chk396 (i : grid0.Coords) (k0_t2 : Fin k0_t2_loop.trips) (v433 : IVec S16 32) (v463 : IVec S16 32) : Prop :=
  (∀ (k0_h1 : k0_cond1 i k0_t2 = 1#1), ∀ a x, ((![v463, v433] : Fin 2 → IVec S16 32) a x).toNat < S160x142.size a)
theorem k0_idx546_inb : ∀ (i : grid0.Coords) (k0_t2 : Fin k0_t2_loop.trips) (v433 : IVec S16 32) (v463 : IVec S16 32) (k0_hw396 : k0_chk396 i k0_t2 v433 v463), ∀ (k0_h1 : k0_cond1 i k0_t2 = 1#1), ∀ a x, ((![v463, v433] : Fin 2 → IVec S16 32) a x).toNat < S160x142.size a := fun i k0_t2 v433 v463 k0_hw396 k0_h1 => k0_hw396 k0_h1

def k0_chk398 (i : grid0.Coords) (k0_t2 : Fin k0_t2_loop.trips) (v464 : IVec S16 32) (v467 : IVec S16 32) : Prop :=
  (∀ (k0_h1 : k0_cond1 i k0_t2 = 1#1), ∀ a x, ((![v467, v464] : Fin 2 → IVec S16 32) a x).toNat < S160x142.size a)
theorem k0_idx548_inb : ∀ (i : grid0.Coords) (k0_t2 : Fin k0_t2_loop.trips) (v464 : IVec S16 32) (v467 : IVec S16 32) (k0_hw398 : k0_chk398 i k0_t2 v464 v467), ∀ (k0_h1 : k0_cond1 i k0_t2 = 1#1), ∀ a x, ((![v467, v464] : Fin 2 → IVec S16 32) a x).toNat < S160x142.size a := fun i k0_t2 v464 v467 k0_hw398 k0_h1 => k0_hw398 k0_h1

def k0_chk399 (i : grid0.Coords) (k0_t2 : Fin k0_t2_loop.trips) (v464 : IVec S16 32) (v470 : IVec S16 32) : Prop :=
  (∀ (k0_h1 : k0_cond1 i k0_t2 = 1#1), ∀ a x, ((![v470, v464] : Fin 2 → IVec S16 32) a x).toNat < S160x142.size a)
theorem k0_idx550_inb : ∀ (i : grid0.Coords) (k0_t2 : Fin k0_t2_loop.trips) (v464 : IVec S16 32) (v470 : IVec S16 32) (k0_hw399 : k0_chk399 i k0_t2 v464 v470), ∀ (k0_h1 : k0_cond1 i k0_t2 = 1#1), ∀ a x, ((![v470, v464] : Fin 2 → IVec S16 32) a x).toNat < S160x142.size a := fun i k0_t2 v464 v470 k0_hw399 k0_h1 => k0_hw399 k0_h1

def k0_chk400 (i : grid0.Coords) (k0_t2 : Fin k0_t2_loop.trips) (v464 : IVec S16 32) (v473 : IVec S16 32) : Prop :=
  (∀ (k0_h1 : k0_cond1 i k0_t2 = 1#1), ∀ a x, ((![v473, v464] : Fin 2 → IVec S16 32) a x).toNat < S160x142.size a)
theorem k0_idx552_inb : ∀ (i : grid0.Coords) (k0_t2 : Fin k0_t2_loop.trips) (v464 : IVec S16 32) (v473 : IVec S16 32) (k0_hw400 : k0_chk400 i k0_t2 v464 v473), ∀ (k0_h1 : k0_cond1 i k0_t2 = 1#1), ∀ a x, ((![v473, v464] : Fin 2 → IVec S16 32) a x).toNat < S160x142.size a := fun i k0_t2 v464 v473 k0_hw400 k0_h1 => k0_hw400 k0_h1

def k0_chk401 (i : grid0.Coords) (k0_t2 : Fin k0_t2_loop.trips) (v464 : IVec S16 32) (v476 : IVec S16 32) : Prop :=
  (∀ (k0_h1 : k0_cond1 i k0_t2 = 1#1), ∀ a x, ((![v476, v464] : Fin 2 → IVec S16 32) a x).toNat < S160x142.size a)
theorem k0_idx554_inb : ∀ (i : grid0.Coords) (k0_t2 : Fin k0_t2_loop.trips) (v464 : IVec S16 32) (v476 : IVec S16 32) (k0_hw401 : k0_chk401 i k0_t2 v464 v476), ∀ (k0_h1 : k0_cond1 i k0_t2 = 1#1), ∀ a x, ((![v476, v464] : Fin 2 → IVec S16 32) a x).toNat < S160x142.size a := fun i k0_t2 v464 v476 k0_hw401 k0_h1 => k0_hw401 k0_h1

def k0_chk402 (i : grid0.Coords) (k0_t2 : Fin k0_t2_loop.trips) (v464 : IVec S16 32) (v479 : IVec S16 32) : Prop :=
  (∀ (k0_h1 : k0_cond1 i k0_t2 = 1#1), ∀ a x, ((![v479, v464] : Fin 2 → IVec S16 32) a x).toNat < S160x142.size a)
theorem k0_idx556_inb : ∀ (i : grid0.Coords) (k0_t2 : Fin k0_t2_loop.trips) (v464 : IVec S16 32) (v479 : IVec S16 32) (k0_hw402 : k0_chk402 i k0_t2 v464 v479), ∀ (k0_h1 : k0_cond1 i k0_t2 = 1#1), ∀ a x, ((![v479, v464] : Fin 2 → IVec S16 32) a x).toNat < S160x142.size a := fun i k0_t2 v464 v479 k0_hw402 k0_h1 => k0_hw402 k0_h1

def k0_chk403 (i : grid0.Coords) (k0_t2 : Fin k0_t2_loop.trips) (v464 : IVec S16 32) (v482 : IVec S16 32) : Prop :=
  (∀ (k0_h1 : k0_cond1 i k0_t2 = 1#1), ∀ a x, ((![v482, v464] : Fin 2 → IVec S16 32) a x).toNat < S160x142.size a)
theorem k0_idx558_inb : ∀ (i : grid0.Coords) (k0_t2 : Fin k0_t2_loop.trips) (v464 : IVec S16 32) (v482 : IVec S16 32) (k0_hw403 : k0_chk403 i k0_t2 v464 v482), ∀ (k0_h1 : k0_cond1 i k0_t2 = 1#1), ∀ a x, ((![v482, v464] : Fin 2 → IVec S16 32) a x).toNat < S160x142.size a := fun i k0_t2 v464 v482 k0_hw403 k0_h1 => k0_hw403 k0_h1

def k0_chk404 (i : grid0.Coords) (k0_t2 : Fin k0_t2_loop.trips) (v464 : IVec S16 32) (v485 : IVec S16 32) : Prop :=
  (∀ (k0_h1 : k0_cond1 i k0_t2 = 1#1), ∀ a x, ((![v485, v464] : Fin 2 → IVec S16 32) a x).toNat < S160x142.size a)
theorem k0_idx560_inb : ∀ (i : grid0.Coords) (k0_t2 : Fin k0_t2_loop.trips) (v464 : IVec S16 32) (v485 : IVec S16 32) (k0_hw404 : k0_chk404 i k0_t2 v464 v485), ∀ (k0_h1 : k0_cond1 i k0_t2 = 1#1), ∀ a x, ((![v485, v464] : Fin 2 → IVec S16 32) a x).toNat < S160x142.size a := fun i k0_t2 v464 v485 k0_hw404 k0_h1 => k0_hw404 k0_h1

def k0_chk405 (i : grid0.Coords) (k0_t2 : Fin k0_t2_loop.trips) (v464 : IVec S16 32) (v488 : IVec S16 32) : Prop :=
  (∀ (k0_h1 : k0_cond1 i k0_t2 = 1#1), ∀ a x, ((![v488, v464] : Fin 2 → IVec S16 32) a x).toNat < S160x142.size a)
theorem k0_idx562_inb : ∀ (i : grid0.Coords) (k0_t2 : Fin k0_t2_loop.trips) (v464 : IVec S16 32) (v488 : IVec S16 32) (k0_hw405 : k0_chk405 i k0_t2 v464 v488), ∀ (k0_h1 : k0_cond1 i k0_t2 = 1#1), ∀ a x, ((![v488, v464] : Fin 2 → IVec S16 32) a x).toNat < S160x142.size a := fun i k0_t2 v464 v488 k0_hw405 k0_h1 => k0_hw405 k0_h1

def k0_chk406 (i : grid0.Coords) (k0_t2 : Fin k0_t2_loop.trips) (v464 : IVec S16 32) (v491 : IVec S16 32) : Prop :=
  (∀ (k0_h1 : k0_cond1 i k0_t2 = 1#1), ∀ a x, ((![v491, v464] : Fin 2 → IVec S16 32) a x).toNat < S160x142.size a)
theorem k0_idx564_inb : ∀ (i : grid0.Coords) (k0_t2 : Fin k0_t2_loop.trips) (v464 : IVec S16 32) (v491 : IVec S16 32) (k0_hw406 : k0_chk406 i k0_t2 v464 v491), ∀ (k0_h1 : k0_cond1 i k0_t2 = 1#1), ∀ a x, ((![v491, v464] : Fin 2 → IVec S16 32) a x).toNat < S160x142.size a := fun i k0_t2 v464 v491 k0_hw406 k0_h1 => k0_hw406 k0_h1

def k0_chk397 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) : Prop :=
  (∀ (k0_h1 : k0_cond1 i k0_t2 = 1#1), ∀ a x, ((![v15, v464] : Fin 2 → IVec S16 32) a x).toNat < S256x142.size a) ∧
  (∀ (k0_h1 : k0_cond1 i k0_t2 = 1#1), ∀ a x, ((![v20, v464] : Fin 2 → IVec S16 32) a x).toNat < S256x142.size a) ∧
  (∀ (k0_h1 : k0_cond1 i k0_t2 = 1#1), ∀ a x, ((![v25, v464] : Fin 2 → IVec S16 32) a x).toNat < S256x142.size a) ∧
  (∀ (k0_h1 : k0_cond1 i k0_t2 = 1#1), ∀ a x, ((![v30, v464] : Fin 2 → IVec S16 32) a x).toNat < S256x142.size a) ∧
  (∀ (k0_h1 : k0_cond1 i k0_t2 = 1#1), ∀ a x, ((![v35, v464] : Fin 2 → IVec S16 32) a x).toNat < S256x142.size a) ∧
  (∀ (k0_h1 : k0_cond1 i k0_t2 = 1#1), ∀ a x, ((![v40, v464] : Fin 2 → IVec S16 32) a x).toNat < S256x142.size a) ∧
  (∀ (k0_h1 : k0_cond1 i k0_t2 = 1#1), ∀ a x, ((![v45, v464] : Fin 2 → IVec S16 32) a x).toNat < S256x142.size a) ∧
  (∀ (k0_h1 : k0_cond1 i k0_t2 = 1#1), ∀ a x, ((![v50, v464] : Fin 2 → IVec S16 32) a x).toNat < S256x142.size a) ∧
  (∀ (k0_h1 : k0_cond1 i k0_t2 = 1#1), ∀ a x, ((![v55, v464] : Fin 2 → IVec S16 32) a x).toNat < S256x142.size a) ∧
  (∀ (k0_h1 : k0_cond1 i k0_t2 = 1#1), ∀ a x, ((![v60, v464] : Fin 2 → IVec S16 32) a x).toNat < S256x142.size a)
theorem k0_idx547_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v15, v464] : Fin 2 → IVec S16 32) a x).toNat < S256x142.size a := fun i k0_t2 v15 v20 v25 v30 v35 v40 v45 v50 v55 v60 v464 k0_hw397 k0_h1 => k0_hw397.1 k0_h1
theorem k0_idx549_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v20, v464] : Fin 2 → IVec S16 32) a x).toNat < S256x142.size a := fun i k0_t2 v15 v20 v25 v30 v35 v40 v45 v50 v55 v60 v464 k0_hw397 k0_h1 => k0_hw397.2.1 k0_h1
theorem k0_idx551_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v25, v464] : Fin 2 → IVec S16 32) a x).toNat < S256x142.size a := fun i k0_t2 v15 v20 v25 v30 v35 v40 v45 v50 v55 v60 v464 k0_hw397 k0_h1 => k0_hw397.2.2.1 k0_h1
theorem k0_idx553_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v30, v464] : Fin 2 → IVec S16 32) a x).toNat < S256x142.size a := fun i k0_t2 v15 v20 v25 v30 v35 v40 v45 v50 v55 v60 v464 k0_hw397 k0_h1 => k0_hw397.2.2.2.1 k0_h1
theorem k0_idx555_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v35, v464] : Fin 2 → IVec S16 32) a x).toNat < S256x142.size a := fun i k0_t2 v15 v20 v25 v30 v35 v40 v45 v50 v55 v60 v464 k0_hw397 k0_h1 => k0_hw397.2.2.2.2.1 k0_h1
theorem k0_idx557_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v40, v464] : Fin 2 → IVec S16 32) a x).toNat < S256x142.size a := fun i k0_t2 v15 v20 v25 v30 v35 v40 v45 v50 v55 v60 v464 k0_hw397 k0_h1 => k0_hw397.2.2.2.2.2.1 k0_h1
theorem k0_idx559_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v45, v464] : Fin 2 → IVec S16 32) a x).toNat < S256x142.size a := fun i k0_t2 v15 v20 v25 v30 v35 v40 v45 v50 v55 v60 v464 k0_hw397 k0_h1 => k0_hw397.2.2.2.2.2.2.1 k0_h1
theorem k0_idx561_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v50, v464] : Fin 2 → IVec S16 32) a x).toNat < S256x142.size a := fun i k0_t2 v15 v20 v25 v30 v35 v40 v45 v50 v55 v60 v464 k0_hw397 k0_h1 => k0_hw397.2.2.2.2.2.2.2.1 k0_h1
theorem k0_idx563_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v55, v464] : Fin 2 → IVec S16 32) a x).toNat < S256x142.size a := fun i k0_t2 v15 v20 v25 v30 v35 v40 v45 v50 v55 v60 v464 k0_hw397 k0_h1 => k0_hw397.2.2.2.2.2.2.2.2.1 k0_h1
theorem k0_idx565_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v464 : IVec S16 32) (k0_hw397 : k0_chk397 i k0_t2 v15 v20 v25 v30 v35 v40 v45 v50 v55 v60 v464), ∀ (k0_h1 : k0_cond1 i k0_t2 = 1#1), ∀ a x, ((![v60, v464] : Fin 2 → IVec S16 32) a x).toNat < S256x142.size a := fun i k0_t2 v15 v20 v25 v30 v35 v40 v45 v50 v55 v60 v464 k0_hw397 k0_h1 => k0_hw397.2.2.2.2.2.2.2.2.2 k0_h1

def k0_chk407 (i : grid0.Coords) (k0_t2 : Fin k0_t2_loop.trips) (v464 : IVec S16 32) (v494 : IVec S16 32) : Prop :=
  (∀ (k0_h1 : k0_cond1 i k0_t2 = 1#1), ∀ a x, ((![v494, v464] : Fin 2 → IVec S16 32) a x).toNat < S160x142.size a)
theorem k0_idx566_inb : ∀ (i : grid0.Coords) (k0_t2 : Fin k0_t2_loop.trips) (v464 : IVec S16 32) (v494 : IVec S16 32) (k0_hw407 : k0_chk407 i k0_t2 v464 v494), ∀ (k0_h1 : k0_cond1 i k0_t2 = 1#1), ∀ a x, ((![v494, v464] : Fin 2 → IVec S16 32) a x).toNat < S160x142.size a := fun i k0_t2 v464 v494 k0_hw407 k0_h1 => k0_hw407 k0_h1

def k0_chk409 (i : grid0.Coords) (k0_t2 : Fin k0_t2_loop.trips) (v495 : IVec S16 32) (v498 : IVec S16 32) : Prop :=
  (∀ (k0_h1 : k0_cond1 i k0_t2 = 1#1), ∀ a x, ((![v498, v495] : Fin 2 → IVec S16 32) a x).toNat < S160x142.size a)
theorem k0_idx568_inb : ∀ (i : grid0.Coords) (k0_t2 : Fin k0_t2_loop.trips) (v495 : IVec S16 32) (v498 : IVec S16 32) (k0_hw409 : k0_chk409 i k0_t2 v495 v498), ∀ (k0_h1 : k0_cond1 i k0_t2 = 1#1), ∀ a x, ((![v498, v495] : Fin 2 → IVec S16 32) a x).toNat < S160x142.size a := fun i k0_t2 v495 v498 k0_hw409 k0_h1 => k0_hw409 k0_h1

def k0_chk410 (i : grid0.Coords) (k0_t2 : Fin k0_t2_loop.trips) (v495 : IVec S16 32) (v501 : IVec S16 32) : Prop :=
  (∀ (k0_h1 : k0_cond1 i k0_t2 = 1#1), ∀ a x, ((![v501, v495] : Fin 2 → IVec S16 32) a x).toNat < S160x142.size a)
theorem k0_idx570_inb : ∀ (i : grid0.Coords) (k0_t2 : Fin k0_t2_loop.trips) (v495 : IVec S16 32) (v501 : IVec S16 32) (k0_hw410 : k0_chk410 i k0_t2 v495 v501), ∀ (k0_h1 : k0_cond1 i k0_t2 = 1#1), ∀ a x, ((![v501, v495] : Fin 2 → IVec S16 32) a x).toNat < S160x142.size a := fun i k0_t2 v495 v501 k0_hw410 k0_h1 => k0_hw410 k0_h1

def k0_chk411 (i : grid0.Coords) (k0_t2 : Fin k0_t2_loop.trips) (v495 : IVec S16 32) (v504 : IVec S16 32) : Prop :=
  (∀ (k0_h1 : k0_cond1 i k0_t2 = 1#1), ∀ a x, ((![v504, v495] : Fin 2 → IVec S16 32) a x).toNat < S160x142.size a)
theorem k0_idx572_inb : ∀ (i : grid0.Coords) (k0_t2 : Fin k0_t2_loop.trips) (v495 : IVec S16 32) (v504 : IVec S16 32) (k0_hw411 : k0_chk411 i k0_t2 v495 v504), ∀ (k0_h1 : k0_cond1 i k0_t2 = 1#1), ∀ a x, ((![v504, v495] : Fin 2 → IVec S16 32) a x).toNat < S160x142.size a := fun i k0_t2 v495 v504 k0_hw411 k0_h1 => k0_hw411 k0_h1

def k0_chk412 (i : grid0.Coords) (k0_t2 : Fin k0_t2_loop.trips) (v495 : IVec S16 32) (v507 : IVec S16 32) : Prop :=
  (∀ (k0_h1 : k0_cond1 i k0_t2 = 1#1), ∀ a x, ((![v507, v495] : Fin 2 → IVec S16 32) a x).toNat < S160x142.size a)
theorem k0_idx574_inb : ∀ (i : grid0.Coords) (k0_t2 : Fin k0_t2_loop.trips) (v495 : IVec S16 32) (v507 : IVec S16 32) (k0_hw412 : k0_chk412 i k0_t2 v495 v507), ∀ (k0_h1 : k0_cond1 i k0_t2 = 1#1), ∀ a x, ((![v507, v495] : Fin 2 → IVec S16 32) a x).toNat < S160x142.size a := fun i k0_t2 v495 v507 k0_hw412 k0_h1 => k0_hw412 k0_h1

def k0_chk413 (i : grid0.Coords) (k0_t2 : Fin k0_t2_loop.trips) (v495 : IVec S16 32) (v510 : IVec S16 32) : Prop :=
  (∀ (k0_h1 : k0_cond1 i k0_t2 = 1#1), ∀ a x, ((![v510, v495] : Fin 2 → IVec S16 32) a x).toNat < S160x142.size a)
theorem k0_idx576_inb : ∀ (i : grid0.Coords) (k0_t2 : Fin k0_t2_loop.trips) (v495 : IVec S16 32) (v510 : IVec S16 32) (k0_hw413 : k0_chk413 i k0_t2 v495 v510), ∀ (k0_h1 : k0_cond1 i k0_t2 = 1#1), ∀ a x, ((![v510, v495] : Fin 2 → IVec S16 32) a x).toNat < S160x142.size a := fun i k0_t2 v495 v510 k0_hw413 k0_h1 => k0_hw413 k0_h1

def k0_chk414 (i : grid0.Coords) (k0_t2 : Fin k0_t2_loop.trips) (v495 : IVec S16 32) (v513 : IVec S16 32) : Prop :=
  (∀ (k0_h1 : k0_cond1 i k0_t2 = 1#1), ∀ a x, ((![v513, v495] : Fin 2 → IVec S16 32) a x).toNat < S160x142.size a)
theorem k0_idx578_inb : ∀ (i : grid0.Coords) (k0_t2 : Fin k0_t2_loop.trips) (v495 : IVec S16 32) (v513 : IVec S16 32) (k0_hw414 : k0_chk414 i k0_t2 v495 v513), ∀ (k0_h1 : k0_cond1 i k0_t2 = 1#1), ∀ a x, ((![v513, v495] : Fin 2 → IVec S16 32) a x).toNat < S160x142.size a := fun i k0_t2 v495 v513 k0_hw414 k0_h1 => k0_hw414 k0_h1

def k0_chk415 (i : grid0.Coords) (k0_t2 : Fin k0_t2_loop.trips) (v495 : IVec S16 32) (v516 : IVec S16 32) : Prop :=
  (∀ (k0_h1 : k0_cond1 i k0_t2 = 1#1), ∀ a x, ((![v516, v495] : Fin 2 → IVec S16 32) a x).toNat < S160x142.size a)
theorem k0_idx580_inb : ∀ (i : grid0.Coords) (k0_t2 : Fin k0_t2_loop.trips) (v495 : IVec S16 32) (v516 : IVec S16 32) (k0_hw415 : k0_chk415 i k0_t2 v495 v516), ∀ (k0_h1 : k0_cond1 i k0_t2 = 1#1), ∀ a x, ((![v516, v495] : Fin 2 → IVec S16 32) a x).toNat < S160x142.size a := fun i k0_t2 v495 v516 k0_hw415 k0_h1 => k0_hw415 k0_h1

def k0_chk416 (i : grid0.Coords) (k0_t2 : Fin k0_t2_loop.trips) (v495 : IVec S16 32) (v519 : IVec S16 32) : Prop :=
  (∀ (k0_h1 : k0_cond1 i k0_t2 = 1#1), ∀ a x, ((![v519, v495] : Fin 2 → IVec S16 32) a x).toNat < S160x142.size a)
theorem k0_idx582_inb : ∀ (i : grid0.Coords) (k0_t2 : Fin k0_t2_loop.trips) (v495 : IVec S16 32) (v519 : IVec S16 32) (k0_hw416 : k0_chk416 i k0_t2 v495 v519), ∀ (k0_h1 : k0_cond1 i k0_t2 = 1#1), ∀ a x, ((![v519, v495] : Fin 2 → IVec S16 32) a x).toNat < S160x142.size a := fun i k0_t2 v495 v519 k0_hw416 k0_h1 => k0_hw416 k0_h1

def k0_chk417 (i : grid0.Coords) (k0_t2 : Fin k0_t2_loop.trips) (v495 : IVec S16 32) (v522 : IVec S16 32) : Prop :=
  (∀ (k0_h1 : k0_cond1 i k0_t2 = 1#1), ∀ a x, ((![v522, v495] : Fin 2 → IVec S16 32) a x).toNat < S160x142.size a)
theorem k0_idx584_inb : ∀ (i : grid0.Coords) (k0_t2 : Fin k0_t2_loop.trips) (v495 : IVec S16 32) (v522 : IVec S16 32) (k0_hw417 : k0_chk417 i k0_t2 v495 v522), ∀ (k0_h1 : k0_cond1 i k0_t2 = 1#1), ∀ a x, ((![v522, v495] : Fin 2 → IVec S16 32) a x).toNat < S160x142.size a := fun i k0_t2 v495 v522 k0_hw417 k0_h1 => k0_hw417 k0_h1

def k0_chk408 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) : Prop :=
  (∀ (k0_h1 : k0_cond1 i k0_t2 = 1#1), ∀ a x, ((![v15, v495] : Fin 2 → IVec S16 32) a x).toNat < S256x142.size a) ∧
  (∀ (k0_h1 : k0_cond1 i k0_t2 = 1#1), ∀ a x, ((![v20, v495] : Fin 2 → IVec S16 32) a x).toNat < S256x142.size a) ∧
  (∀ (k0_h1 : k0_cond1 i k0_t2 = 1#1), ∀ a x, ((![v25, v495] : Fin 2 → IVec S16 32) a x).toNat < S256x142.size a) ∧
  (∀ (k0_h1 : k0_cond1 i k0_t2 = 1#1), ∀ a x, ((![v30, v495] : Fin 2 → IVec S16 32) a x).toNat < S256x142.size a) ∧
  (∀ (k0_h1 : k0_cond1 i k0_t2 = 1#1), ∀ a x, ((![v35, v495] : Fin 2 → IVec S16 32) a x).toNat < S256x142.size a) ∧
  (∀ (k0_h1 : k0_cond1 i k0_t2 = 1#1), ∀ a x, ((![v40, v495] : Fin 2 → IVec S16 32) a x).toNat < S256x142.size a) ∧
  (∀ (k0_h1 : k0_cond1 i k0_t2 = 1#1), ∀ a x, ((![v45, v495] : Fin 2 → IVec S16 32) a x).toNat < S256x142.size a) ∧
  (∀ (k0_h1 : k0_cond1 i k0_t2 = 1#1), ∀ a x, ((![v50, v495] : Fin 2 → IVec S16 32) a x).toNat < S256x142.size a) ∧
  (∀ (k0_h1 : k0_cond1 i k0_t2 = 1#1), ∀ a x, ((![v55, v495] : Fin 2 → IVec S16 32) a x).toNat < S256x142.size a) ∧
  (∀ (k0_h1 : k0_cond1 i k0_t2 = 1#1), ∀ a x, ((![v60, v495] : Fin 2 → IVec S16 32) a x).toNat < S256x142.size a)
theorem k0_idx567_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v15, v495] : Fin 2 → IVec S16 32) a x).toNat < S256x142.size a := fun i k0_t2 v15 v20 v25 v30 v35 v40 v45 v50 v55 v60 v495 k0_hw408 k0_h1 => k0_hw408.1 k0_h1
theorem k0_idx569_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v20, v495] : Fin 2 → IVec S16 32) a x).toNat < S256x142.size a := fun i k0_t2 v15 v20 v25 v30 v35 v40 v45 v50 v55 v60 v495 k0_hw408 k0_h1 => k0_hw408.2.1 k0_h1
theorem k0_idx571_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v25, v495] : Fin 2 → IVec S16 32) a x).toNat < S256x142.size a := fun i k0_t2 v15 v20 v25 v30 v35 v40 v45 v50 v55 v60 v495 k0_hw408 k0_h1 => k0_hw408.2.2.1 k0_h1
theorem k0_idx573_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v30, v495] : Fin 2 → IVec S16 32) a x).toNat < S256x142.size a := fun i k0_t2 v15 v20 v25 v30 v35 v40 v45 v50 v55 v60 v495 k0_hw408 k0_h1 => k0_hw408.2.2.2.1 k0_h1
theorem k0_idx575_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v35, v495] : Fin 2 → IVec S16 32) a x).toNat < S256x142.size a := fun i k0_t2 v15 v20 v25 v30 v35 v40 v45 v50 v55 v60 v495 k0_hw408 k0_h1 => k0_hw408.2.2.2.2.1 k0_h1
theorem k0_idx577_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v40, v495] : Fin 2 → IVec S16 32) a x).toNat < S256x142.size a := fun i k0_t2 v15 v20 v25 v30 v35 v40 v45 v50 v55 v60 v495 k0_hw408 k0_h1 => k0_hw408.2.2.2.2.2.1 k0_h1
theorem k0_idx579_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v45, v495] : Fin 2 → IVec S16 32) a x).toNat < S256x142.size a := fun i k0_t2 v15 v20 v25 v30 v35 v40 v45 v50 v55 v60 v495 k0_hw408 k0_h1 => k0_hw408.2.2.2.2.2.2.1 k0_h1
theorem k0_idx581_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v50, v495] : Fin 2 → IVec S16 32) a x).toNat < S256x142.size a := fun i k0_t2 v15 v20 v25 v30 v35 v40 v45 v50 v55 v60 v495 k0_hw408 k0_h1 => k0_hw408.2.2.2.2.2.2.2.1 k0_h1
theorem k0_idx583_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v55, v495] : Fin 2 → IVec S16 32) a x).toNat < S256x142.size a := fun i k0_t2 v15 v20 v25 v30 v35 v40 v45 v50 v55 v60 v495 k0_hw408 k0_h1 => k0_hw408.2.2.2.2.2.2.2.2.1 k0_h1
theorem k0_idx585_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v495 : IVec S16 32) (k0_hw408 : k0_chk408 i k0_t2 v15 v20 v25 v30 v35 v40 v45 v50 v55 v60 v495), ∀ (k0_h1 : k0_cond1 i k0_t2 = 1#1), ∀ a x, ((![v60, v495] : Fin 2 → IVec S16 32) a x).toNat < S256x142.size a := fun i k0_t2 v15 v20 v25 v30 v35 v40 v45 v50 v55 v60 v495 k0_hw408 k0_h1 => k0_hw408.2.2.2.2.2.2.2.2.2 k0_h1

def k0_chk418 (i : grid0.Coords) (k0_t2 : Fin k0_t2_loop.trips) (v495 : IVec S16 32) (v525 : IVec S16 32) : Prop :=
  (∀ (k0_h1 : k0_cond1 i k0_t2 = 1#1), ∀ a x, ((![v525, v495] : Fin 2 → IVec S16 32) a x).toNat < S160x142.size a)
theorem k0_idx586_inb : ∀ (i : grid0.Coords) (k0_t2 : Fin k0_t2_loop.trips) (v495 : IVec S16 32) (v525 : IVec S16 32) (k0_hw418 : k0_chk418 i k0_t2 v495 v525), ∀ (k0_h1 : k0_cond1 i k0_t2 = 1#1), ∀ a x, ((![v525, v495] : Fin 2 → IVec S16 32) a x).toNat < S160x142.size a := fun i k0_t2 v495 v525 k0_hw418 k0_h1 => k0_hw418 k0_h1

def k0_chk420 (i : grid0.Coords) (k0_t2 : Fin k0_t2_loop.trips) (v526 : IVec S16 32) (v529 : IVec S16 32) : Prop :=
  (∀ (k0_h1 : k0_cond1 i k0_t2 = 1#1), ∀ a x, ((![v529, v526] : Fin 2 → IVec S16 32) a x).toNat < S160x142.size a)
theorem k0_idx588_inb : ∀ (i : grid0.Coords) (k0_t2 : Fin k0_t2_loop.trips) (v526 : IVec S16 32) (v529 : IVec S16 32) (k0_hw420 : k0_chk420 i k0_t2 v526 v529), ∀ (k0_h1 : k0_cond1 i k0_t2 = 1#1), ∀ a x, ((![v529, v526] : Fin 2 → IVec S16 32) a x).toNat < S160x142.size a := fun i k0_t2 v526 v529 k0_hw420 k0_h1 => k0_hw420 k0_h1

def k0_chk421 (i : grid0.Coords) (k0_t2 : Fin k0_t2_loop.trips) (v526 : IVec S16 32) (v532 : IVec S16 32) : Prop :=
  (∀ (k0_h1 : k0_cond1 i k0_t2 = 1#1), ∀ a x, ((![v532, v526] : Fin 2 → IVec S16 32) a x).toNat < S160x142.size a)
theorem k0_idx590_inb : ∀ (i : grid0.Coords) (k0_t2 : Fin k0_t2_loop.trips) (v526 : IVec S16 32) (v532 : IVec S16 32) (k0_hw421 : k0_chk421 i k0_t2 v526 v532), ∀ (k0_h1 : k0_cond1 i k0_t2 = 1#1), ∀ a x, ((![v532, v526] : Fin 2 → IVec S16 32) a x).toNat < S160x142.size a := fun i k0_t2 v526 v532 k0_hw421 k0_h1 => k0_hw421 k0_h1

def k0_chk422 (i : grid0.Coords) (k0_t2 : Fin k0_t2_loop.trips) (v526 : IVec S16 32) (v535 : IVec S16 32) : Prop :=
  (∀ (k0_h1 : k0_cond1 i k0_t2 = 1#1), ∀ a x, ((![v535, v526] : Fin 2 → IVec S16 32) a x).toNat < S160x142.size a)
theorem k0_idx592_inb : ∀ (i : grid0.Coords) (k0_t2 : Fin k0_t2_loop.trips) (v526 : IVec S16 32) (v535 : IVec S16 32) (k0_hw422 : k0_chk422 i k0_t2 v526 v535), ∀ (k0_h1 : k0_cond1 i k0_t2 = 1#1), ∀ a x, ((![v535, v526] : Fin 2 → IVec S16 32) a x).toNat < S160x142.size a := fun i k0_t2 v526 v535 k0_hw422 k0_h1 => k0_hw422 k0_h1

def k0_chk423 (i : grid0.Coords) (k0_t2 : Fin k0_t2_loop.trips) (v526 : IVec S16 32) (v538 : IVec S16 32) : Prop :=
  (∀ (k0_h1 : k0_cond1 i k0_t2 = 1#1), ∀ a x, ((![v538, v526] : Fin 2 → IVec S16 32) a x).toNat < S160x142.size a)
theorem k0_idx594_inb : ∀ (i : grid0.Coords) (k0_t2 : Fin k0_t2_loop.trips) (v526 : IVec S16 32) (v538 : IVec S16 32) (k0_hw423 : k0_chk423 i k0_t2 v526 v538), ∀ (k0_h1 : k0_cond1 i k0_t2 = 1#1), ∀ a x, ((![v538, v526] : Fin 2 → IVec S16 32) a x).toNat < S160x142.size a := fun i k0_t2 v526 v538 k0_hw423 k0_h1 => k0_hw423 k0_h1

def k0_chk424 (i : grid0.Coords) (k0_t2 : Fin k0_t2_loop.trips) (v526 : IVec S16 32) (v541 : IVec S16 32) : Prop :=
  (∀ (k0_h1 : k0_cond1 i k0_t2 = 1#1), ∀ a x, ((![v541, v526] : Fin 2 → IVec S16 32) a x).toNat < S160x142.size a)
theorem k0_idx596_inb : ∀ (i : grid0.Coords) (k0_t2 : Fin k0_t2_loop.trips) (v526 : IVec S16 32) (v541 : IVec S16 32) (k0_hw424 : k0_chk424 i k0_t2 v526 v541), ∀ (k0_h1 : k0_cond1 i k0_t2 = 1#1), ∀ a x, ((![v541, v526] : Fin 2 → IVec S16 32) a x).toNat < S160x142.size a := fun i k0_t2 v526 v541 k0_hw424 k0_h1 => k0_hw424 k0_h1

def k0_chk425 (i : grid0.Coords) (k0_t2 : Fin k0_t2_loop.trips) (v526 : IVec S16 32) (v544 : IVec S16 32) : Prop :=
  (∀ (k0_h1 : k0_cond1 i k0_t2 = 1#1), ∀ a x, ((![v544, v526] : Fin 2 → IVec S16 32) a x).toNat < S160x142.size a)
theorem k0_idx598_inb : ∀ (i : grid0.Coords) (k0_t2 : Fin k0_t2_loop.trips) (v526 : IVec S16 32) (v544 : IVec S16 32) (k0_hw425 : k0_chk425 i k0_t2 v526 v544), ∀ (k0_h1 : k0_cond1 i k0_t2 = 1#1), ∀ a x, ((![v544, v526] : Fin 2 → IVec S16 32) a x).toNat < S160x142.size a := fun i k0_t2 v526 v544 k0_hw425 k0_h1 => k0_hw425 k0_h1

def k0_chk426 (i : grid0.Coords) (k0_t2 : Fin k0_t2_loop.trips) (v526 : IVec S16 32) (v547 : IVec S16 32) : Prop :=
  (∀ (k0_h1 : k0_cond1 i k0_t2 = 1#1), ∀ a x, ((![v547, v526] : Fin 2 → IVec S16 32) a x).toNat < S160x142.size a)
theorem k0_idx600_inb : ∀ (i : grid0.Coords) (k0_t2 : Fin k0_t2_loop.trips) (v526 : IVec S16 32) (v547 : IVec S16 32) (k0_hw426 : k0_chk426 i k0_t2 v526 v547), ∀ (k0_h1 : k0_cond1 i k0_t2 = 1#1), ∀ a x, ((![v547, v526] : Fin 2 → IVec S16 32) a x).toNat < S160x142.size a := fun i k0_t2 v526 v547 k0_hw426 k0_h1 => k0_hw426 k0_h1

def k0_chk427 (i : grid0.Coords) (k0_t2 : Fin k0_t2_loop.trips) (v526 : IVec S16 32) (v550 : IVec S16 32) : Prop :=
  (∀ (k0_h1 : k0_cond1 i k0_t2 = 1#1), ∀ a x, ((![v550, v526] : Fin 2 → IVec S16 32) a x).toNat < S160x142.size a)
theorem k0_idx602_inb : ∀ (i : grid0.Coords) (k0_t2 : Fin k0_t2_loop.trips) (v526 : IVec S16 32) (v550 : IVec S16 32) (k0_hw427 : k0_chk427 i k0_t2 v526 v550), ∀ (k0_h1 : k0_cond1 i k0_t2 = 1#1), ∀ a x, ((![v550, v526] : Fin 2 → IVec S16 32) a x).toNat < S160x142.size a := fun i k0_t2 v526 v550 k0_hw427 k0_h1 => k0_hw427 k0_h1

def k0_chk428 (i : grid0.Coords) (k0_t2 : Fin k0_t2_loop.trips) (v526 : IVec S16 32) (v553 : IVec S16 32) : Prop :=
  (∀ (k0_h1 : k0_cond1 i k0_t2 = 1#1), ∀ a x, ((![v553, v526] : Fin 2 → IVec S16 32) a x).toNat < S160x142.size a)
theorem k0_idx604_inb : ∀ (i : grid0.Coords) (k0_t2 : Fin k0_t2_loop.trips) (v526 : IVec S16 32) (v553 : IVec S16 32) (k0_hw428 : k0_chk428 i k0_t2 v526 v553), ∀ (k0_h1 : k0_cond1 i k0_t2 = 1#1), ∀ a x, ((![v553, v526] : Fin 2 → IVec S16 32) a x).toNat < S160x142.size a := fun i k0_t2 v526 v553 k0_hw428 k0_h1 => k0_hw428 k0_h1

def k0_chk419 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) : Prop :=
  (∀ (k0_h1 : k0_cond1 i k0_t2 = 1#1), ∀ a x, ((![v15, v526] : Fin 2 → IVec S16 32) a x).toNat < S256x142.size a) ∧
  (∀ (k0_h1 : k0_cond1 i k0_t2 = 1#1), ∀ a x, ((![v20, v526] : Fin 2 → IVec S16 32) a x).toNat < S256x142.size a) ∧
  (∀ (k0_h1 : k0_cond1 i k0_t2 = 1#1), ∀ a x, ((![v25, v526] : Fin 2 → IVec S16 32) a x).toNat < S256x142.size a) ∧
  (∀ (k0_h1 : k0_cond1 i k0_t2 = 1#1), ∀ a x, ((![v30, v526] : Fin 2 → IVec S16 32) a x).toNat < S256x142.size a) ∧
  (∀ (k0_h1 : k0_cond1 i k0_t2 = 1#1), ∀ a x, ((![v35, v526] : Fin 2 → IVec S16 32) a x).toNat < S256x142.size a) ∧
  (∀ (k0_h1 : k0_cond1 i k0_t2 = 1#1), ∀ a x, ((![v40, v526] : Fin 2 → IVec S16 32) a x).toNat < S256x142.size a) ∧
  (∀ (k0_h1 : k0_cond1 i k0_t2 = 1#1), ∀ a x, ((![v45, v526] : Fin 2 → IVec S16 32) a x).toNat < S256x142.size a) ∧
  (∀ (k0_h1 : k0_cond1 i k0_t2 = 1#1), ∀ a x, ((![v50, v526] : Fin 2 → IVec S16 32) a x).toNat < S256x142.size a) ∧
  (∀ (k0_h1 : k0_cond1 i k0_t2 = 1#1), ∀ a x, ((![v55, v526] : Fin 2 → IVec S16 32) a x).toNat < S256x142.size a) ∧
  (∀ (k0_h1 : k0_cond1 i k0_t2 = 1#1), ∀ a x, ((![v60, v526] : Fin 2 → IVec S16 32) a x).toNat < S256x142.size a)
theorem k0_idx587_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v15, v526] : Fin 2 → IVec S16 32) a x).toNat < S256x142.size a := fun i k0_t2 v15 v20 v25 v30 v35 v40 v45 v50 v55 v60 v526 k0_hw419 k0_h1 => k0_hw419.1 k0_h1
theorem k0_idx589_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v20, v526] : Fin 2 → IVec S16 32) a x).toNat < S256x142.size a := fun i k0_t2 v15 v20 v25 v30 v35 v40 v45 v50 v55 v60 v526 k0_hw419 k0_h1 => k0_hw419.2.1 k0_h1
theorem k0_idx591_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v25, v526] : Fin 2 → IVec S16 32) a x).toNat < S256x142.size a := fun i k0_t2 v15 v20 v25 v30 v35 v40 v45 v50 v55 v60 v526 k0_hw419 k0_h1 => k0_hw419.2.2.1 k0_h1
theorem k0_idx593_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v30, v526] : Fin 2 → IVec S16 32) a x).toNat < S256x142.size a := fun i k0_t2 v15 v20 v25 v30 v35 v40 v45 v50 v55 v60 v526 k0_hw419 k0_h1 => k0_hw419.2.2.2.1 k0_h1
theorem k0_idx595_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v35, v526] : Fin 2 → IVec S16 32) a x).toNat < S256x142.size a := fun i k0_t2 v15 v20 v25 v30 v35 v40 v45 v50 v55 v60 v526 k0_hw419 k0_h1 => k0_hw419.2.2.2.2.1 k0_h1
theorem k0_idx597_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v40, v526] : Fin 2 → IVec S16 32) a x).toNat < S256x142.size a := fun i k0_t2 v15 v20 v25 v30 v35 v40 v45 v50 v55 v60 v526 k0_hw419 k0_h1 => k0_hw419.2.2.2.2.2.1 k0_h1
theorem k0_idx599_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v45, v526] : Fin 2 → IVec S16 32) a x).toNat < S256x142.size a := fun i k0_t2 v15 v20 v25 v30 v35 v40 v45 v50 v55 v60 v526 k0_hw419 k0_h1 => k0_hw419.2.2.2.2.2.2.1 k0_h1
theorem k0_idx601_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v50, v526] : Fin 2 → IVec S16 32) a x).toNat < S256x142.size a := fun i k0_t2 v15 v20 v25 v30 v35 v40 v45 v50 v55 v60 v526 k0_hw419 k0_h1 => k0_hw419.2.2.2.2.2.2.2.1 k0_h1
theorem k0_idx603_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v55, v526] : Fin 2 → IVec S16 32) a x).toNat < S256x142.size a := fun i k0_t2 v15 v20 v25 v30 v35 v40 v45 v50 v55 v60 v526 k0_hw419 k0_h1 => k0_hw419.2.2.2.2.2.2.2.2.1 k0_h1
theorem k0_idx605_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v526 : IVec S16 32) (k0_hw419 : k0_chk419 i k0_t2 v15 v20 v25 v30 v35 v40 v45 v50 v55 v60 v526), ∀ (k0_h1 : k0_cond1 i k0_t2 = 1#1), ∀ a x, ((![v60, v526] : Fin 2 → IVec S16 32) a x).toNat < S256x142.size a := fun i k0_t2 v15 v20 v25 v30 v35 v40 v45 v50 v55 v60 v526 k0_hw419 k0_h1 => k0_hw419.2.2.2.2.2.2.2.2.2 k0_h1

def k0_chk429 (i : grid0.Coords) (k0_t2 : Fin k0_t2_loop.trips) (v526 : IVec S16 32) (v556 : IVec S16 32) : Prop :=
  (∀ (k0_h1 : k0_cond1 i k0_t2 = 1#1), ∀ a x, ((![v556, v526] : Fin 2 → IVec S16 32) a x).toNat < S160x142.size a)
theorem k0_idx606_inb : ∀ (i : grid0.Coords) (k0_t2 : Fin k0_t2_loop.trips) (v526 : IVec S16 32) (v556 : IVec S16 32) (k0_hw429 : k0_chk429 i k0_t2 v526 v556), ∀ (k0_h1 : k0_cond1 i k0_t2 = 1#1), ∀ a x, ((![v556, v526] : Fin 2 → IVec S16 32) a x).toNat < S160x142.size a := fun i k0_t2 v526 v556 k0_hw429 k0_h1 => k0_hw429 k0_h1

def k0_chk431 (i : grid0.Coords) (k0_t2 : Fin k0_t2_loop.trips) (v557 : IVec S16 32) (v560 : IVec S16 32) : Prop :=
  (∀ (k0_h1 : k0_cond1 i k0_t2 = 1#1), ∀ a x, ((![v560, v557] : Fin 2 → IVec S16 32) a x).toNat < S160x142.size a)
theorem k0_idx608_inb : ∀ (i : grid0.Coords) (k0_t2 : Fin k0_t2_loop.trips) (v557 : IVec S16 32) (v560 : IVec S16 32) (k0_hw431 : k0_chk431 i k0_t2 v557 v560), ∀ (k0_h1 : k0_cond1 i k0_t2 = 1#1), ∀ a x, ((![v560, v557] : Fin 2 → IVec S16 32) a x).toNat < S160x142.size a := fun i k0_t2 v557 v560 k0_hw431 k0_h1 => k0_hw431 k0_h1

def k0_chk432 (i : grid0.Coords) (k0_t2 : Fin k0_t2_loop.trips) (v557 : IVec S16 32) (v563 : IVec S16 32) : Prop :=
  (∀ (k0_h1 : k0_cond1 i k0_t2 = 1#1), ∀ a x, ((![v563, v557] : Fin 2 → IVec S16 32) a x).toNat < S160x142.size a)
theorem k0_idx610_inb : ∀ (i : grid0.Coords) (k0_t2 : Fin k0_t2_loop.trips) (v557 : IVec S16 32) (v563 : IVec S16 32) (k0_hw432 : k0_chk432 i k0_t2 v557 v563), ∀ (k0_h1 : k0_cond1 i k0_t2 = 1#1), ∀ a x, ((![v563, v557] : Fin 2 → IVec S16 32) a x).toNat < S160x142.size a := fun i k0_t2 v557 v563 k0_hw432 k0_h1 => k0_hw432 k0_h1

def k0_chk433 (i : grid0.Coords) (k0_t2 : Fin k0_t2_loop.trips) (v557 : IVec S16 32) (v566 : IVec S16 32) : Prop :=
  (∀ (k0_h1 : k0_cond1 i k0_t2 = 1#1), ∀ a x, ((![v566, v557] : Fin 2 → IVec S16 32) a x).toNat < S160x142.size a)
theorem k0_idx612_inb : ∀ (i : grid0.Coords) (k0_t2 : Fin k0_t2_loop.trips) (v557 : IVec S16 32) (v566 : IVec S16 32) (k0_hw433 : k0_chk433 i k0_t2 v557 v566), ∀ (k0_h1 : k0_cond1 i k0_t2 = 1#1), ∀ a x, ((![v566, v557] : Fin 2 → IVec S16 32) a x).toNat < S160x142.size a := fun i k0_t2 v557 v566 k0_hw433 k0_h1 => k0_hw433 k0_h1

def k0_chk434 (i : grid0.Coords) (k0_t2 : Fin k0_t2_loop.trips) (v557 : IVec S16 32) (v569 : IVec S16 32) : Prop :=
  (∀ (k0_h1 : k0_cond1 i k0_t2 = 1#1), ∀ a x, ((![v569, v557] : Fin 2 → IVec S16 32) a x).toNat < S160x142.size a)
theorem k0_idx614_inb : ∀ (i : grid0.Coords) (k0_t2 : Fin k0_t2_loop.trips) (v557 : IVec S16 32) (v569 : IVec S16 32) (k0_hw434 : k0_chk434 i k0_t2 v557 v569), ∀ (k0_h1 : k0_cond1 i k0_t2 = 1#1), ∀ a x, ((![v569, v557] : Fin 2 → IVec S16 32) a x).toNat < S160x142.size a := fun i k0_t2 v557 v569 k0_hw434 k0_h1 => k0_hw434 k0_h1

def k0_chk435 (i : grid0.Coords) (k0_t2 : Fin k0_t2_loop.trips) (v557 : IVec S16 32) (v572 : IVec S16 32) : Prop :=
  (∀ (k0_h1 : k0_cond1 i k0_t2 = 1#1), ∀ a x, ((![v572, v557] : Fin 2 → IVec S16 32) a x).toNat < S160x142.size a)
theorem k0_idx616_inb : ∀ (i : grid0.Coords) (k0_t2 : Fin k0_t2_loop.trips) (v557 : IVec S16 32) (v572 : IVec S16 32) (k0_hw435 : k0_chk435 i k0_t2 v557 v572), ∀ (k0_h1 : k0_cond1 i k0_t2 = 1#1), ∀ a x, ((![v572, v557] : Fin 2 → IVec S16 32) a x).toNat < S160x142.size a := fun i k0_t2 v557 v572 k0_hw435 k0_h1 => k0_hw435 k0_h1

def k0_chk436 (i : grid0.Coords) (k0_t2 : Fin k0_t2_loop.trips) (v557 : IVec S16 32) (v575 : IVec S16 32) : Prop :=
  (∀ (k0_h1 : k0_cond1 i k0_t2 = 1#1), ∀ a x, ((![v575, v557] : Fin 2 → IVec S16 32) a x).toNat < S160x142.size a)
theorem k0_idx618_inb : ∀ (i : grid0.Coords) (k0_t2 : Fin k0_t2_loop.trips) (v557 : IVec S16 32) (v575 : IVec S16 32) (k0_hw436 : k0_chk436 i k0_t2 v557 v575), ∀ (k0_h1 : k0_cond1 i k0_t2 = 1#1), ∀ a x, ((![v575, v557] : Fin 2 → IVec S16 32) a x).toNat < S160x142.size a := fun i k0_t2 v557 v575 k0_hw436 k0_h1 => k0_hw436 k0_h1

def k0_chk437 (i : grid0.Coords) (k0_t2 : Fin k0_t2_loop.trips) (v557 : IVec S16 32) (v578 : IVec S16 32) : Prop :=
  (∀ (k0_h1 : k0_cond1 i k0_t2 = 1#1), ∀ a x, ((![v578, v557] : Fin 2 → IVec S16 32) a x).toNat < S160x142.size a)
theorem k0_idx620_inb : ∀ (i : grid0.Coords) (k0_t2 : Fin k0_t2_loop.trips) (v557 : IVec S16 32) (v578 : IVec S16 32) (k0_hw437 : k0_chk437 i k0_t2 v557 v578), ∀ (k0_h1 : k0_cond1 i k0_t2 = 1#1), ∀ a x, ((![v578, v557] : Fin 2 → IVec S16 32) a x).toNat < S160x142.size a := fun i k0_t2 v557 v578 k0_hw437 k0_h1 => k0_hw437 k0_h1

def k0_chk438 (i : grid0.Coords) (k0_t2 : Fin k0_t2_loop.trips) (v557 : IVec S16 32) (v581 : IVec S16 32) : Prop :=
  (∀ (k0_h1 : k0_cond1 i k0_t2 = 1#1), ∀ a x, ((![v581, v557] : Fin 2 → IVec S16 32) a x).toNat < S160x142.size a)
theorem k0_idx622_inb : ∀ (i : grid0.Coords) (k0_t2 : Fin k0_t2_loop.trips) (v557 : IVec S16 32) (v581 : IVec S16 32) (k0_hw438 : k0_chk438 i k0_t2 v557 v581), ∀ (k0_h1 : k0_cond1 i k0_t2 = 1#1), ∀ a x, ((![v581, v557] : Fin 2 → IVec S16 32) a x).toNat < S160x142.size a := fun i k0_t2 v557 v581 k0_hw438 k0_h1 => k0_hw438 k0_h1

def k0_chk439 (i : grid0.Coords) (k0_t2 : Fin k0_t2_loop.trips) (v557 : IVec S16 32) (v584 : IVec S16 32) : Prop :=
  (∀ (k0_h1 : k0_cond1 i k0_t2 = 1#1), ∀ a x, ((![v584, v557] : Fin 2 → IVec S16 32) a x).toNat < S160x142.size a)
theorem k0_idx624_inb : ∀ (i : grid0.Coords) (k0_t2 : Fin k0_t2_loop.trips) (v557 : IVec S16 32) (v584 : IVec S16 32) (k0_hw439 : k0_chk439 i k0_t2 v557 v584), ∀ (k0_h1 : k0_cond1 i k0_t2 = 1#1), ∀ a x, ((![v584, v557] : Fin 2 → IVec S16 32) a x).toNat < S160x142.size a := fun i k0_t2 v557 v584 k0_hw439 k0_h1 => k0_hw439 k0_h1

def k0_chk430 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) : Prop :=
  (∀ (k0_h1 : k0_cond1 i k0_t2 = 1#1), ∀ a x, ((![v15, v557] : Fin 2 → IVec S16 32) a x).toNat < S256x142.size a) ∧
  (∀ (k0_h1 : k0_cond1 i k0_t2 = 1#1), ∀ a x, ((![v20, v557] : Fin 2 → IVec S16 32) a x).toNat < S256x142.size a) ∧
  (∀ (k0_h1 : k0_cond1 i k0_t2 = 1#1), ∀ a x, ((![v25, v557] : Fin 2 → IVec S16 32) a x).toNat < S256x142.size a) ∧
  (∀ (k0_h1 : k0_cond1 i k0_t2 = 1#1), ∀ a x, ((![v30, v557] : Fin 2 → IVec S16 32) a x).toNat < S256x142.size a) ∧
  (∀ (k0_h1 : k0_cond1 i k0_t2 = 1#1), ∀ a x, ((![v35, v557] : Fin 2 → IVec S16 32) a x).toNat < S256x142.size a) ∧
  (∀ (k0_h1 : k0_cond1 i k0_t2 = 1#1), ∀ a x, ((![v40, v557] : Fin 2 → IVec S16 32) a x).toNat < S256x142.size a) ∧
  (∀ (k0_h1 : k0_cond1 i k0_t2 = 1#1), ∀ a x, ((![v45, v557] : Fin 2 → IVec S16 32) a x).toNat < S256x142.size a) ∧
  (∀ (k0_h1 : k0_cond1 i k0_t2 = 1#1), ∀ a x, ((![v50, v557] : Fin 2 → IVec S16 32) a x).toNat < S256x142.size a) ∧
  (∀ (k0_h1 : k0_cond1 i k0_t2 = 1#1), ∀ a x, ((![v55, v557] : Fin 2 → IVec S16 32) a x).toNat < S256x142.size a) ∧
  (∀ (k0_h1 : k0_cond1 i k0_t2 = 1#1), ∀ a x, ((![v60, v557] : Fin 2 → IVec S16 32) a x).toNat < S256x142.size a)
theorem k0_idx607_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v15, v557] : Fin 2 → IVec S16 32) a x).toNat < S256x142.size a := fun i k0_t2 v15 v20 v25 v30 v35 v40 v45 v50 v55 v60 v557 k0_hw430 k0_h1 => k0_hw430.1 k0_h1
theorem k0_idx609_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v20, v557] : Fin 2 → IVec S16 32) a x).toNat < S256x142.size a := fun i k0_t2 v15 v20 v25 v30 v35 v40 v45 v50 v55 v60 v557 k0_hw430 k0_h1 => k0_hw430.2.1 k0_h1
theorem k0_idx611_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v25, v557] : Fin 2 → IVec S16 32) a x).toNat < S256x142.size a := fun i k0_t2 v15 v20 v25 v30 v35 v40 v45 v50 v55 v60 v557 k0_hw430 k0_h1 => k0_hw430.2.2.1 k0_h1
theorem k0_idx613_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v30, v557] : Fin 2 → IVec S16 32) a x).toNat < S256x142.size a := fun i k0_t2 v15 v20 v25 v30 v35 v40 v45 v50 v55 v60 v557 k0_hw430 k0_h1 => k0_hw430.2.2.2.1 k0_h1
theorem k0_idx615_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v35, v557] : Fin 2 → IVec S16 32) a x).toNat < S256x142.size a := fun i k0_t2 v15 v20 v25 v30 v35 v40 v45 v50 v55 v60 v557 k0_hw430 k0_h1 => k0_hw430.2.2.2.2.1 k0_h1
theorem k0_idx617_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v40, v557] : Fin 2 → IVec S16 32) a x).toNat < S256x142.size a := fun i k0_t2 v15 v20 v25 v30 v35 v40 v45 v50 v55 v60 v557 k0_hw430 k0_h1 => k0_hw430.2.2.2.2.2.1 k0_h1
theorem k0_idx619_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v45, v557] : Fin 2 → IVec S16 32) a x).toNat < S256x142.size a := fun i k0_t2 v15 v20 v25 v30 v35 v40 v45 v50 v55 v60 v557 k0_hw430 k0_h1 => k0_hw430.2.2.2.2.2.2.1 k0_h1
theorem k0_idx621_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v50, v557] : Fin 2 → IVec S16 32) a x).toNat < S256x142.size a := fun i k0_t2 v15 v20 v25 v30 v35 v40 v45 v50 v55 v60 v557 k0_hw430 k0_h1 => k0_hw430.2.2.2.2.2.2.2.1 k0_h1
theorem k0_idx623_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v55, v557] : Fin 2 → IVec S16 32) a x).toNat < S256x142.size a := fun i k0_t2 v15 v20 v25 v30 v35 v40 v45 v50 v55 v60 v557 k0_hw430 k0_h1 => k0_hw430.2.2.2.2.2.2.2.2.1 k0_h1
theorem k0_idx625_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v557 : IVec S16 32) (k0_hw430 : k0_chk430 i k0_t2 v15 v20 v25 v30 v35 v40 v45 v50 v55 v60 v557), ∀ (k0_h1 : k0_cond1 i k0_t2 = 1#1), ∀ a x, ((![v60, v557] : Fin 2 → IVec S16 32) a x).toNat < S256x142.size a := fun i k0_t2 v15 v20 v25 v30 v35 v40 v45 v50 v55 v60 v557 k0_hw430 k0_h1 => k0_hw430.2.2.2.2.2.2.2.2.2 k0_h1

def k0_chk440 (i : grid0.Coords) (k0_t2 : Fin k0_t2_loop.trips) (v557 : IVec S16 32) (v587 : IVec S16 32) : Prop :=
  (∀ (k0_h1 : k0_cond1 i k0_t2 = 1#1), ∀ a x, ((![v587, v557] : Fin 2 → IVec S16 32) a x).toNat < S160x142.size a)
theorem k0_idx626_inb : ∀ (i : grid0.Coords) (k0_t2 : Fin k0_t2_loop.trips) (v557 : IVec S16 32) (v587 : IVec S16 32) (k0_hw440 : k0_chk440 i k0_t2 v557 v587), ∀ (k0_h1 : k0_cond1 i k0_t2 = 1#1), ∀ a x, ((![v587, v557] : Fin 2 → IVec S16 32) a x).toNat < S160x142.size a := fun i k0_t2 v557 v587 k0_hw440 k0_h1 => k0_hw440 k0_h1

def k0_chk442 (i : grid0.Coords) (k0_t2 : Fin k0_t2_loop.trips) (v588 : IVec S16 32) (v591 : IVec S16 32) : Prop :=
  (∀ (k0_h1 : k0_cond1 i k0_t2 = 1#1), ∀ a x, ((![v591, v588] : Fin 2 → IVec S16 32) a x).toNat < S160x142.size a)
theorem k0_idx628_inb : ∀ (i : grid0.Coords) (k0_t2 : Fin k0_t2_loop.trips) (v588 : IVec S16 32) (v591 : IVec S16 32) (k0_hw442 : k0_chk442 i k0_t2 v588 v591), ∀ (k0_h1 : k0_cond1 i k0_t2 = 1#1), ∀ a x, ((![v591, v588] : Fin 2 → IVec S16 32) a x).toNat < S160x142.size a := fun i k0_t2 v588 v591 k0_hw442 k0_h1 => k0_hw442 k0_h1

def k0_chk443 (i : grid0.Coords) (k0_t2 : Fin k0_t2_loop.trips) (v588 : IVec S16 32) (v594 : IVec S16 32) : Prop :=
  (∀ (k0_h1 : k0_cond1 i k0_t2 = 1#1), ∀ a x, ((![v594, v588] : Fin 2 → IVec S16 32) a x).toNat < S160x142.size a)
theorem k0_idx630_inb : ∀ (i : grid0.Coords) (k0_t2 : Fin k0_t2_loop.trips) (v588 : IVec S16 32) (v594 : IVec S16 32) (k0_hw443 : k0_chk443 i k0_t2 v588 v594), ∀ (k0_h1 : k0_cond1 i k0_t2 = 1#1), ∀ a x, ((![v594, v588] : Fin 2 → IVec S16 32) a x).toNat < S160x142.size a := fun i k0_t2 v588 v594 k0_hw443 k0_h1 => k0_hw443 k0_h1

def k0_chk444 (i : grid0.Coords) (k0_t2 : Fin k0_t2_loop.trips) (v588 : IVec S16 32) (v597 : IVec S16 32) : Prop :=
  (∀ (k0_h1 : k0_cond1 i k0_t2 = 1#1), ∀ a x, ((![v597, v588] : Fin 2 → IVec S16 32) a x).toNat < S160x142.size a)
theorem k0_idx632_inb : ∀ (i : grid0.Coords) (k0_t2 : Fin k0_t2_loop.trips) (v588 : IVec S16 32) (v597 : IVec S16 32) (k0_hw444 : k0_chk444 i k0_t2 v588 v597), ∀ (k0_h1 : k0_cond1 i k0_t2 = 1#1), ∀ a x, ((![v597, v588] : Fin 2 → IVec S16 32) a x).toNat < S160x142.size a := fun i k0_t2 v588 v597 k0_hw444 k0_h1 => k0_hw444 k0_h1

def k0_chk445 (i : grid0.Coords) (k0_t2 : Fin k0_t2_loop.trips) (v588 : IVec S16 32) (v600 : IVec S16 32) : Prop :=
  (∀ (k0_h1 : k0_cond1 i k0_t2 = 1#1), ∀ a x, ((![v600, v588] : Fin 2 → IVec S16 32) a x).toNat < S160x142.size a)
theorem k0_idx634_inb : ∀ (i : grid0.Coords) (k0_t2 : Fin k0_t2_loop.trips) (v588 : IVec S16 32) (v600 : IVec S16 32) (k0_hw445 : k0_chk445 i k0_t2 v588 v600), ∀ (k0_h1 : k0_cond1 i k0_t2 = 1#1), ∀ a x, ((![v600, v588] : Fin 2 → IVec S16 32) a x).toNat < S160x142.size a := fun i k0_t2 v588 v600 k0_hw445 k0_h1 => k0_hw445 k0_h1

def k0_chk446 (i : grid0.Coords) (k0_t2 : Fin k0_t2_loop.trips) (v588 : IVec S16 32) (v603 : IVec S16 32) : Prop :=
  (∀ (k0_h1 : k0_cond1 i k0_t2 = 1#1), ∀ a x, ((![v603, v588] : Fin 2 → IVec S16 32) a x).toNat < S160x142.size a)
theorem k0_idx636_inb : ∀ (i : grid0.Coords) (k0_t2 : Fin k0_t2_loop.trips) (v588 : IVec S16 32) (v603 : IVec S16 32) (k0_hw446 : k0_chk446 i k0_t2 v588 v603), ∀ (k0_h1 : k0_cond1 i k0_t2 = 1#1), ∀ a x, ((![v603, v588] : Fin 2 → IVec S16 32) a x).toNat < S160x142.size a := fun i k0_t2 v588 v603 k0_hw446 k0_h1 => k0_hw446 k0_h1

def k0_chk447 (i : grid0.Coords) (k0_t2 : Fin k0_t2_loop.trips) (v588 : IVec S16 32) (v606 : IVec S16 32) : Prop :=
  (∀ (k0_h1 : k0_cond1 i k0_t2 = 1#1), ∀ a x, ((![v606, v588] : Fin 2 → IVec S16 32) a x).toNat < S160x142.size a)
theorem k0_idx638_inb : ∀ (i : grid0.Coords) (k0_t2 : Fin k0_t2_loop.trips) (v588 : IVec S16 32) (v606 : IVec S16 32) (k0_hw447 : k0_chk447 i k0_t2 v588 v606), ∀ (k0_h1 : k0_cond1 i k0_t2 = 1#1), ∀ a x, ((![v606, v588] : Fin 2 → IVec S16 32) a x).toNat < S160x142.size a := fun i k0_t2 v588 v606 k0_hw447 k0_h1 => k0_hw447 k0_h1

def k0_chk448 (i : grid0.Coords) (k0_t2 : Fin k0_t2_loop.trips) (v588 : IVec S16 32) (v609 : IVec S16 32) : Prop :=
  (∀ (k0_h1 : k0_cond1 i k0_t2 = 1#1), ∀ a x, ((![v609, v588] : Fin 2 → IVec S16 32) a x).toNat < S160x142.size a)
theorem k0_idx640_inb : ∀ (i : grid0.Coords) (k0_t2 : Fin k0_t2_loop.trips) (v588 : IVec S16 32) (v609 : IVec S16 32) (k0_hw448 : k0_chk448 i k0_t2 v588 v609), ∀ (k0_h1 : k0_cond1 i k0_t2 = 1#1), ∀ a x, ((![v609, v588] : Fin 2 → IVec S16 32) a x).toNat < S160x142.size a := fun i k0_t2 v588 v609 k0_hw448 k0_h1 => k0_hw448 k0_h1

def k0_chk449 (i : grid0.Coords) (k0_t2 : Fin k0_t2_loop.trips) (v588 : IVec S16 32) (v612 : IVec S16 32) : Prop :=
  (∀ (k0_h1 : k0_cond1 i k0_t2 = 1#1), ∀ a x, ((![v612, v588] : Fin 2 → IVec S16 32) a x).toNat < S160x142.size a)
theorem k0_idx642_inb : ∀ (i : grid0.Coords) (k0_t2 : Fin k0_t2_loop.trips) (v588 : IVec S16 32) (v612 : IVec S16 32) (k0_hw449 : k0_chk449 i k0_t2 v588 v612), ∀ (k0_h1 : k0_cond1 i k0_t2 = 1#1), ∀ a x, ((![v612, v588] : Fin 2 → IVec S16 32) a x).toNat < S160x142.size a := fun i k0_t2 v588 v612 k0_hw449 k0_h1 => k0_hw449 k0_h1

def k0_chk450 (i : grid0.Coords) (k0_t2 : Fin k0_t2_loop.trips) (v588 : IVec S16 32) (v615 : IVec S16 32) : Prop :=
  (∀ (k0_h1 : k0_cond1 i k0_t2 = 1#1), ∀ a x, ((![v615, v588] : Fin 2 → IVec S16 32) a x).toNat < S160x142.size a)
theorem k0_idx644_inb : ∀ (i : grid0.Coords) (k0_t2 : Fin k0_t2_loop.trips) (v588 : IVec S16 32) (v615 : IVec S16 32) (k0_hw450 : k0_chk450 i k0_t2 v588 v615), ∀ (k0_h1 : k0_cond1 i k0_t2 = 1#1), ∀ a x, ((![v615, v588] : Fin 2 → IVec S16 32) a x).toNat < S160x142.size a := fun i k0_t2 v588 v615 k0_hw450 k0_h1 => k0_hw450 k0_h1

def k0_chk441 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) : Prop :=
  (∀ (k0_h1 : k0_cond1 i k0_t2 = 1#1), ∀ a x, ((![v15, v588] : Fin 2 → IVec S16 32) a x).toNat < S256x142.size a) ∧
  (∀ (k0_h1 : k0_cond1 i k0_t2 = 1#1), ∀ a x, ((![v20, v588] : Fin 2 → IVec S16 32) a x).toNat < S256x142.size a) ∧
  (∀ (k0_h1 : k0_cond1 i k0_t2 = 1#1), ∀ a x, ((![v25, v588] : Fin 2 → IVec S16 32) a x).toNat < S256x142.size a) ∧
  (∀ (k0_h1 : k0_cond1 i k0_t2 = 1#1), ∀ a x, ((![v30, v588] : Fin 2 → IVec S16 32) a x).toNat < S256x142.size a) ∧
  (∀ (k0_h1 : k0_cond1 i k0_t2 = 1#1), ∀ a x, ((![v35, v588] : Fin 2 → IVec S16 32) a x).toNat < S256x142.size a) ∧
  (∀ (k0_h1 : k0_cond1 i k0_t2 = 1#1), ∀ a x, ((![v40, v588] : Fin 2 → IVec S16 32) a x).toNat < S256x142.size a) ∧
  (∀ (k0_h1 : k0_cond1 i k0_t2 = 1#1), ∀ a x, ((![v45, v588] : Fin 2 → IVec S16 32) a x).toNat < S256x142.size a) ∧
  (∀ (k0_h1 : k0_cond1 i k0_t2 = 1#1), ∀ a x, ((![v50, v588] : Fin 2 → IVec S16 32) a x).toNat < S256x142.size a) ∧
  (∀ (k0_h1 : k0_cond1 i k0_t2 = 1#1), ∀ a x, ((![v55, v588] : Fin 2 → IVec S16 32) a x).toNat < S256x142.size a) ∧
  (∀ (k0_h1 : k0_cond1 i k0_t2 = 1#1), ∀ a x, ((![v60, v588] : Fin 2 → IVec S16 32) a x).toNat < S256x142.size a)
theorem k0_idx627_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v15, v588] : Fin 2 → IVec S16 32) a x).toNat < S256x142.size a := fun i k0_t2 v15 v20 v25 v30 v35 v40 v45 v50 v55 v60 v588 k0_hw441 k0_h1 => k0_hw441.1 k0_h1
theorem k0_idx629_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v20, v588] : Fin 2 → IVec S16 32) a x).toNat < S256x142.size a := fun i k0_t2 v15 v20 v25 v30 v35 v40 v45 v50 v55 v60 v588 k0_hw441 k0_h1 => k0_hw441.2.1 k0_h1
theorem k0_idx631_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v25, v588] : Fin 2 → IVec S16 32) a x).toNat < S256x142.size a := fun i k0_t2 v15 v20 v25 v30 v35 v40 v45 v50 v55 v60 v588 k0_hw441 k0_h1 => k0_hw441.2.2.1 k0_h1
theorem k0_idx633_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v30, v588] : Fin 2 → IVec S16 32) a x).toNat < S256x142.size a := fun i k0_t2 v15 v20 v25 v30 v35 v40 v45 v50 v55 v60 v588 k0_hw441 k0_h1 => k0_hw441.2.2.2.1 k0_h1
theorem k0_idx635_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v35, v588] : Fin 2 → IVec S16 32) a x).toNat < S256x142.size a := fun i k0_t2 v15 v20 v25 v30 v35 v40 v45 v50 v55 v60 v588 k0_hw441 k0_h1 => k0_hw441.2.2.2.2.1 k0_h1
theorem k0_idx637_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v40, v588] : Fin 2 → IVec S16 32) a x).toNat < S256x142.size a := fun i k0_t2 v15 v20 v25 v30 v35 v40 v45 v50 v55 v60 v588 k0_hw441 k0_h1 => k0_hw441.2.2.2.2.2.1 k0_h1
theorem k0_idx639_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v45, v588] : Fin 2 → IVec S16 32) a x).toNat < S256x142.size a := fun i k0_t2 v15 v20 v25 v30 v35 v40 v45 v50 v55 v60 v588 k0_hw441 k0_h1 => k0_hw441.2.2.2.2.2.2.1 k0_h1
theorem k0_idx641_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v50, v588] : Fin 2 → IVec S16 32) a x).toNat < S256x142.size a := fun i k0_t2 v15 v20 v25 v30 v35 v40 v45 v50 v55 v60 v588 k0_hw441 k0_h1 => k0_hw441.2.2.2.2.2.2.2.1 k0_h1
theorem k0_idx643_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v55, v588] : Fin 2 → IVec S16 32) a x).toNat < S256x142.size a := fun i k0_t2 v15 v20 v25 v30 v35 v40 v45 v50 v55 v60 v588 k0_hw441 k0_h1 => k0_hw441.2.2.2.2.2.2.2.2.1 k0_h1
theorem k0_idx645_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v588 : IVec S16 32) (k0_hw441 : k0_chk441 i k0_t2 v15 v20 v25 v30 v35 v40 v45 v50 v55 v60 v588), ∀ (k0_h1 : k0_cond1 i k0_t2 = 1#1), ∀ a x, ((![v60, v588] : Fin 2 → IVec S16 32) a x).toNat < S256x142.size a := fun i k0_t2 v15 v20 v25 v30 v35 v40 v45 v50 v55 v60 v588 k0_hw441 k0_h1 => k0_hw441.2.2.2.2.2.2.2.2.2 k0_h1

def k0_chk451 (i : grid0.Coords) (k0_t2 : Fin k0_t2_loop.trips) (v588 : IVec S16 32) (v618 : IVec S16 32) : Prop :=
  (∀ (k0_h1 : k0_cond1 i k0_t2 = 1#1), ∀ a x, ((![v618, v588] : Fin 2 → IVec S16 32) a x).toNat < S160x142.size a)
theorem k0_idx646_inb : ∀ (i : grid0.Coords) (k0_t2 : Fin k0_t2_loop.trips) (v588 : IVec S16 32) (v618 : IVec S16 32) (k0_hw451 : k0_chk451 i k0_t2 v588 v618), ∀ (k0_h1 : k0_cond1 i k0_t2 = 1#1), ∀ a x, ((![v618, v588] : Fin 2 → IVec S16 32) a x).toNat < S160x142.size a := fun i k0_t2 v588 v618 k0_hw451 k0_h1 => k0_hw451 k0_h1

def k0_chk453 (i : grid0.Coords) (k0_t2 : Fin k0_t2_loop.trips) (v619 : IVec S16 32) (v622 : IVec S16 32) : Prop :=
  (∀ (k0_h1 : k0_cond1 i k0_t2 = 1#1), ∀ a x, ((![v622, v619] : Fin 2 → IVec S16 32) a x).toNat < S160x142.size a)
theorem k0_idx648_inb : ∀ (i : grid0.Coords) (k0_t2 : Fin k0_t2_loop.trips) (v619 : IVec S16 32) (v622 : IVec S16 32) (k0_hw453 : k0_chk453 i k0_t2 v619 v622), ∀ (k0_h1 : k0_cond1 i k0_t2 = 1#1), ∀ a x, ((![v622, v619] : Fin 2 → IVec S16 32) a x).toNat < S160x142.size a := fun i k0_t2 v619 v622 k0_hw453 k0_h1 => k0_hw453 k0_h1

def k0_chk454 (i : grid0.Coords) (k0_t2 : Fin k0_t2_loop.trips) (v619 : IVec S16 32) (v625 : IVec S16 32) : Prop :=
  (∀ (k0_h1 : k0_cond1 i k0_t2 = 1#1), ∀ a x, ((![v625, v619] : Fin 2 → IVec S16 32) a x).toNat < S160x142.size a)
theorem k0_idx650_inb : ∀ (i : grid0.Coords) (k0_t2 : Fin k0_t2_loop.trips) (v619 : IVec S16 32) (v625 : IVec S16 32) (k0_hw454 : k0_chk454 i k0_t2 v619 v625), ∀ (k0_h1 : k0_cond1 i k0_t2 = 1#1), ∀ a x, ((![v625, v619] : Fin 2 → IVec S16 32) a x).toNat < S160x142.size a := fun i k0_t2 v619 v625 k0_hw454 k0_h1 => k0_hw454 k0_h1

def k0_chk455 (i : grid0.Coords) (k0_t2 : Fin k0_t2_loop.trips) (v619 : IVec S16 32) (v628 : IVec S16 32) : Prop :=
  (∀ (k0_h1 : k0_cond1 i k0_t2 = 1#1), ∀ a x, ((![v628, v619] : Fin 2 → IVec S16 32) a x).toNat < S160x142.size a)
theorem k0_idx652_inb : ∀ (i : grid0.Coords) (k0_t2 : Fin k0_t2_loop.trips) (v619 : IVec S16 32) (v628 : IVec S16 32) (k0_hw455 : k0_chk455 i k0_t2 v619 v628), ∀ (k0_h1 : k0_cond1 i k0_t2 = 1#1), ∀ a x, ((![v628, v619] : Fin 2 → IVec S16 32) a x).toNat < S160x142.size a := fun i k0_t2 v619 v628 k0_hw455 k0_h1 => k0_hw455 k0_h1

def k0_chk456 (i : grid0.Coords) (k0_t2 : Fin k0_t2_loop.trips) (v619 : IVec S16 32) (v631 : IVec S16 32) : Prop :=
  (∀ (k0_h1 : k0_cond1 i k0_t2 = 1#1), ∀ a x, ((![v631, v619] : Fin 2 → IVec S16 32) a x).toNat < S160x142.size a)
theorem k0_idx654_inb : ∀ (i : grid0.Coords) (k0_t2 : Fin k0_t2_loop.trips) (v619 : IVec S16 32) (v631 : IVec S16 32) (k0_hw456 : k0_chk456 i k0_t2 v619 v631), ∀ (k0_h1 : k0_cond1 i k0_t2 = 1#1), ∀ a x, ((![v631, v619] : Fin 2 → IVec S16 32) a x).toNat < S160x142.size a := fun i k0_t2 v619 v631 k0_hw456 k0_h1 => k0_hw456 k0_h1

def k0_chk457 (i : grid0.Coords) (k0_t2 : Fin k0_t2_loop.trips) (v619 : IVec S16 32) (v634 : IVec S16 32) : Prop :=
  (∀ (k0_h1 : k0_cond1 i k0_t2 = 1#1), ∀ a x, ((![v634, v619] : Fin 2 → IVec S16 32) a x).toNat < S160x142.size a)
theorem k0_idx656_inb : ∀ (i : grid0.Coords) (k0_t2 : Fin k0_t2_loop.trips) (v619 : IVec S16 32) (v634 : IVec S16 32) (k0_hw457 : k0_chk457 i k0_t2 v619 v634), ∀ (k0_h1 : k0_cond1 i k0_t2 = 1#1), ∀ a x, ((![v634, v619] : Fin 2 → IVec S16 32) a x).toNat < S160x142.size a := fun i k0_t2 v619 v634 k0_hw457 k0_h1 => k0_hw457 k0_h1

def k0_chk458 (i : grid0.Coords) (k0_t2 : Fin k0_t2_loop.trips) (v619 : IVec S16 32) (v637 : IVec S16 32) : Prop :=
  (∀ (k0_h1 : k0_cond1 i k0_t2 = 1#1), ∀ a x, ((![v637, v619] : Fin 2 → IVec S16 32) a x).toNat < S160x142.size a)
theorem k0_idx658_inb : ∀ (i : grid0.Coords) (k0_t2 : Fin k0_t2_loop.trips) (v619 : IVec S16 32) (v637 : IVec S16 32) (k0_hw458 : k0_chk458 i k0_t2 v619 v637), ∀ (k0_h1 : k0_cond1 i k0_t2 = 1#1), ∀ a x, ((![v637, v619] : Fin 2 → IVec S16 32) a x).toNat < S160x142.size a := fun i k0_t2 v619 v637 k0_hw458 k0_h1 => k0_hw458 k0_h1

def k0_chk459 (i : grid0.Coords) (k0_t2 : Fin k0_t2_loop.trips) (v619 : IVec S16 32) (v640 : IVec S16 32) : Prop :=
  (∀ (k0_h1 : k0_cond1 i k0_t2 = 1#1), ∀ a x, ((![v640, v619] : Fin 2 → IVec S16 32) a x).toNat < S160x142.size a)
theorem k0_idx660_inb : ∀ (i : grid0.Coords) (k0_t2 : Fin k0_t2_loop.trips) (v619 : IVec S16 32) (v640 : IVec S16 32) (k0_hw459 : k0_chk459 i k0_t2 v619 v640), ∀ (k0_h1 : k0_cond1 i k0_t2 = 1#1), ∀ a x, ((![v640, v619] : Fin 2 → IVec S16 32) a x).toNat < S160x142.size a := fun i k0_t2 v619 v640 k0_hw459 k0_h1 => k0_hw459 k0_h1

def k0_chk460 (i : grid0.Coords) (k0_t2 : Fin k0_t2_loop.trips) (v619 : IVec S16 32) (v643 : IVec S16 32) : Prop :=
  (∀ (k0_h1 : k0_cond1 i k0_t2 = 1#1), ∀ a x, ((![v643, v619] : Fin 2 → IVec S16 32) a x).toNat < S160x142.size a)
theorem k0_idx662_inb : ∀ (i : grid0.Coords) (k0_t2 : Fin k0_t2_loop.trips) (v619 : IVec S16 32) (v643 : IVec S16 32) (k0_hw460 : k0_chk460 i k0_t2 v619 v643), ∀ (k0_h1 : k0_cond1 i k0_t2 = 1#1), ∀ a x, ((![v643, v619] : Fin 2 → IVec S16 32) a x).toNat < S160x142.size a := fun i k0_t2 v619 v643 k0_hw460 k0_h1 => k0_hw460 k0_h1

def k0_chk461 (i : grid0.Coords) (k0_t2 : Fin k0_t2_loop.trips) (v619 : IVec S16 32) (v646 : IVec S16 32) : Prop :=
  (∀ (k0_h1 : k0_cond1 i k0_t2 = 1#1), ∀ a x, ((![v646, v619] : Fin 2 → IVec S16 32) a x).toNat < S160x142.size a)
theorem k0_idx664_inb : ∀ (i : grid0.Coords) (k0_t2 : Fin k0_t2_loop.trips) (v619 : IVec S16 32) (v646 : IVec S16 32) (k0_hw461 : k0_chk461 i k0_t2 v619 v646), ∀ (k0_h1 : k0_cond1 i k0_t2 = 1#1), ∀ a x, ((![v646, v619] : Fin 2 → IVec S16 32) a x).toNat < S160x142.size a := fun i k0_t2 v619 v646 k0_hw461 k0_h1 => k0_hw461 k0_h1

def k0_chk452 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) : Prop :=
  (∀ (k0_h1 : k0_cond1 i k0_t2 = 1#1), ∀ a x, ((![v15, v619] : Fin 2 → IVec S16 32) a x).toNat < S256x142.size a) ∧
  (∀ (k0_h1 : k0_cond1 i k0_t2 = 1#1), ∀ a x, ((![v20, v619] : Fin 2 → IVec S16 32) a x).toNat < S256x142.size a) ∧
  (∀ (k0_h1 : k0_cond1 i k0_t2 = 1#1), ∀ a x, ((![v25, v619] : Fin 2 → IVec S16 32) a x).toNat < S256x142.size a) ∧
  (∀ (k0_h1 : k0_cond1 i k0_t2 = 1#1), ∀ a x, ((![v30, v619] : Fin 2 → IVec S16 32) a x).toNat < S256x142.size a) ∧
  (∀ (k0_h1 : k0_cond1 i k0_t2 = 1#1), ∀ a x, ((![v35, v619] : Fin 2 → IVec S16 32) a x).toNat < S256x142.size a) ∧
  (∀ (k0_h1 : k0_cond1 i k0_t2 = 1#1), ∀ a x, ((![v40, v619] : Fin 2 → IVec S16 32) a x).toNat < S256x142.size a) ∧
  (∀ (k0_h1 : k0_cond1 i k0_t2 = 1#1), ∀ a x, ((![v45, v619] : Fin 2 → IVec S16 32) a x).toNat < S256x142.size a) ∧
  (∀ (k0_h1 : k0_cond1 i k0_t2 = 1#1), ∀ a x, ((![v50, v619] : Fin 2 → IVec S16 32) a x).toNat < S256x142.size a) ∧
  (∀ (k0_h1 : k0_cond1 i k0_t2 = 1#1), ∀ a x, ((![v55, v619] : Fin 2 → IVec S16 32) a x).toNat < S256x142.size a) ∧
  (∀ (k0_h1 : k0_cond1 i k0_t2 = 1#1), ∀ a x, ((![v60, v619] : Fin 2 → IVec S16 32) a x).toNat < S256x142.size a)
theorem k0_idx647_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v15, v619] : Fin 2 → IVec S16 32) a x).toNat < S256x142.size a := fun i k0_t2 v15 v20 v25 v30 v35 v40 v45 v50 v55 v60 v619 k0_hw452 k0_h1 => k0_hw452.1 k0_h1
theorem k0_idx649_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v20, v619] : Fin 2 → IVec S16 32) a x).toNat < S256x142.size a := fun i k0_t2 v15 v20 v25 v30 v35 v40 v45 v50 v55 v60 v619 k0_hw452 k0_h1 => k0_hw452.2.1 k0_h1
theorem k0_idx651_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v25, v619] : Fin 2 → IVec S16 32) a x).toNat < S256x142.size a := fun i k0_t2 v15 v20 v25 v30 v35 v40 v45 v50 v55 v60 v619 k0_hw452 k0_h1 => k0_hw452.2.2.1 k0_h1
theorem k0_idx653_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v30, v619] : Fin 2 → IVec S16 32) a x).toNat < S256x142.size a := fun i k0_t2 v15 v20 v25 v30 v35 v40 v45 v50 v55 v60 v619 k0_hw452 k0_h1 => k0_hw452.2.2.2.1 k0_h1
theorem k0_idx655_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v35, v619] : Fin 2 → IVec S16 32) a x).toNat < S256x142.size a := fun i k0_t2 v15 v20 v25 v30 v35 v40 v45 v50 v55 v60 v619 k0_hw452 k0_h1 => k0_hw452.2.2.2.2.1 k0_h1
theorem k0_idx657_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v40, v619] : Fin 2 → IVec S16 32) a x).toNat < S256x142.size a := fun i k0_t2 v15 v20 v25 v30 v35 v40 v45 v50 v55 v60 v619 k0_hw452 k0_h1 => k0_hw452.2.2.2.2.2.1 k0_h1
theorem k0_idx659_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v45, v619] : Fin 2 → IVec S16 32) a x).toNat < S256x142.size a := fun i k0_t2 v15 v20 v25 v30 v35 v40 v45 v50 v55 v60 v619 k0_hw452 k0_h1 => k0_hw452.2.2.2.2.2.2.1 k0_h1
theorem k0_idx661_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v50, v619] : Fin 2 → IVec S16 32) a x).toNat < S256x142.size a := fun i k0_t2 v15 v20 v25 v30 v35 v40 v45 v50 v55 v60 v619 k0_hw452 k0_h1 => k0_hw452.2.2.2.2.2.2.2.1 k0_h1
theorem k0_idx663_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v55, v619] : Fin 2 → IVec S16 32) a x).toNat < S256x142.size a := fun i k0_t2 v15 v20 v25 v30 v35 v40 v45 v50 v55 v60 v619 k0_hw452 k0_h1 => k0_hw452.2.2.2.2.2.2.2.2.1 k0_h1
theorem k0_idx665_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v619 : IVec S16 32) (k0_hw452 : k0_chk452 i k0_t2 v15 v20 v25 v30 v35 v40 v45 v50 v55 v60 v619), ∀ (k0_h1 : k0_cond1 i k0_t2 = 1#1), ∀ a x, ((![v60, v619] : Fin 2 → IVec S16 32) a x).toNat < S256x142.size a := fun i k0_t2 v15 v20 v25 v30 v35 v40 v45 v50 v55 v60 v619 k0_hw452 k0_h1 => k0_hw452.2.2.2.2.2.2.2.2.2 k0_h1

def k0_chk462 (i : grid0.Coords) (k0_t2 : Fin k0_t2_loop.trips) (v619 : IVec S16 32) (v649 : IVec S16 32) : Prop :=
  (∀ (k0_h1 : k0_cond1 i k0_t2 = 1#1), ∀ a x, ((![v649, v619] : Fin 2 → IVec S16 32) a x).toNat < S160x142.size a)
theorem k0_idx666_inb : ∀ (i : grid0.Coords) (k0_t2 : Fin k0_t2_loop.trips) (v619 : IVec S16 32) (v649 : IVec S16 32) (k0_hw462 : k0_chk462 i k0_t2 v619 v649), ∀ (k0_h1 : k0_cond1 i k0_t2 = 1#1), ∀ a x, ((![v649, v619] : Fin 2 → IVec S16 32) a x).toNat < S160x142.size a := fun i k0_t2 v619 v649 k0_hw462 k0_h1 => k0_hw462 k0_h1

def k0_chk464 (i : grid0.Coords) (k0_t2 : Fin k0_t2_loop.trips) (v650 : IVec S16 32) (v653 : IVec S16 32) : Prop :=
  (∀ (k0_h1 : k0_cond1 i k0_t2 = 1#1), ∀ a x, ((![v653, v650] : Fin 2 → IVec S16 32) a x).toNat < S160x142.size a)
theorem k0_idx668_inb : ∀ (i : grid0.Coords) (k0_t2 : Fin k0_t2_loop.trips) (v650 : IVec S16 32) (v653 : IVec S16 32) (k0_hw464 : k0_chk464 i k0_t2 v650 v653), ∀ (k0_h1 : k0_cond1 i k0_t2 = 1#1), ∀ a x, ((![v653, v650] : Fin 2 → IVec S16 32) a x).toNat < S160x142.size a := fun i k0_t2 v650 v653 k0_hw464 k0_h1 => k0_hw464 k0_h1

def k0_chk465 (i : grid0.Coords) (k0_t2 : Fin k0_t2_loop.trips) (v650 : IVec S16 32) (v656 : IVec S16 32) : Prop :=
  (∀ (k0_h1 : k0_cond1 i k0_t2 = 1#1), ∀ a x, ((![v656, v650] : Fin 2 → IVec S16 32) a x).toNat < S160x142.size a)
theorem k0_idx670_inb : ∀ (i : grid0.Coords) (k0_t2 : Fin k0_t2_loop.trips) (v650 : IVec S16 32) (v656 : IVec S16 32) (k0_hw465 : k0_chk465 i k0_t2 v650 v656), ∀ (k0_h1 : k0_cond1 i k0_t2 = 1#1), ∀ a x, ((![v656, v650] : Fin 2 → IVec S16 32) a x).toNat < S160x142.size a := fun i k0_t2 v650 v656 k0_hw465 k0_h1 => k0_hw465 k0_h1

def k0_chk466 (i : grid0.Coords) (k0_t2 : Fin k0_t2_loop.trips) (v650 : IVec S16 32) (v659 : IVec S16 32) : Prop :=
  (∀ (k0_h1 : k0_cond1 i k0_t2 = 1#1), ∀ a x, ((![v659, v650] : Fin 2 → IVec S16 32) a x).toNat < S160x142.size a)
theorem k0_idx672_inb : ∀ (i : grid0.Coords) (k0_t2 : Fin k0_t2_loop.trips) (v650 : IVec S16 32) (v659 : IVec S16 32) (k0_hw466 : k0_chk466 i k0_t2 v650 v659), ∀ (k0_h1 : k0_cond1 i k0_t2 = 1#1), ∀ a x, ((![v659, v650] : Fin 2 → IVec S16 32) a x).toNat < S160x142.size a := fun i k0_t2 v650 v659 k0_hw466 k0_h1 => k0_hw466 k0_h1

def k0_chk467 (i : grid0.Coords) (k0_t2 : Fin k0_t2_loop.trips) (v650 : IVec S16 32) (v662 : IVec S16 32) : Prop :=
  (∀ (k0_h1 : k0_cond1 i k0_t2 = 1#1), ∀ a x, ((![v662, v650] : Fin 2 → IVec S16 32) a x).toNat < S160x142.size a)
theorem k0_idx674_inb : ∀ (i : grid0.Coords) (k0_t2 : Fin k0_t2_loop.trips) (v650 : IVec S16 32) (v662 : IVec S16 32) (k0_hw467 : k0_chk467 i k0_t2 v650 v662), ∀ (k0_h1 : k0_cond1 i k0_t2 = 1#1), ∀ a x, ((![v662, v650] : Fin 2 → IVec S16 32) a x).toNat < S160x142.size a := fun i k0_t2 v650 v662 k0_hw467 k0_h1 => k0_hw467 k0_h1

def k0_chk468 (i : grid0.Coords) (k0_t2 : Fin k0_t2_loop.trips) (v650 : IVec S16 32) (v665 : IVec S16 32) : Prop :=
  (∀ (k0_h1 : k0_cond1 i k0_t2 = 1#1), ∀ a x, ((![v665, v650] : Fin 2 → IVec S16 32) a x).toNat < S160x142.size a)
theorem k0_idx676_inb : ∀ (i : grid0.Coords) (k0_t2 : Fin k0_t2_loop.trips) (v650 : IVec S16 32) (v665 : IVec S16 32) (k0_hw468 : k0_chk468 i k0_t2 v650 v665), ∀ (k0_h1 : k0_cond1 i k0_t2 = 1#1), ∀ a x, ((![v665, v650] : Fin 2 → IVec S16 32) a x).toNat < S160x142.size a := fun i k0_t2 v650 v665 k0_hw468 k0_h1 => k0_hw468 k0_h1

def k0_chk469 (i : grid0.Coords) (k0_t2 : Fin k0_t2_loop.trips) (v650 : IVec S16 32) (v668 : IVec S16 32) : Prop :=
  (∀ (k0_h1 : k0_cond1 i k0_t2 = 1#1), ∀ a x, ((![v668, v650] : Fin 2 → IVec S16 32) a x).toNat < S160x142.size a)
theorem k0_idx678_inb : ∀ (i : grid0.Coords) (k0_t2 : Fin k0_t2_loop.trips) (v650 : IVec S16 32) (v668 : IVec S16 32) (k0_hw469 : k0_chk469 i k0_t2 v650 v668), ∀ (k0_h1 : k0_cond1 i k0_t2 = 1#1), ∀ a x, ((![v668, v650] : Fin 2 → IVec S16 32) a x).toNat < S160x142.size a := fun i k0_t2 v650 v668 k0_hw469 k0_h1 => k0_hw469 k0_h1

def k0_chk470 (i : grid0.Coords) (k0_t2 : Fin k0_t2_loop.trips) (v650 : IVec S16 32) (v671 : IVec S16 32) : Prop :=
  (∀ (k0_h1 : k0_cond1 i k0_t2 = 1#1), ∀ a x, ((![v671, v650] : Fin 2 → IVec S16 32) a x).toNat < S160x142.size a)
theorem k0_idx680_inb : ∀ (i : grid0.Coords) (k0_t2 : Fin k0_t2_loop.trips) (v650 : IVec S16 32) (v671 : IVec S16 32) (k0_hw470 : k0_chk470 i k0_t2 v650 v671), ∀ (k0_h1 : k0_cond1 i k0_t2 = 1#1), ∀ a x, ((![v671, v650] : Fin 2 → IVec S16 32) a x).toNat < S160x142.size a := fun i k0_t2 v650 v671 k0_hw470 k0_h1 => k0_hw470 k0_h1

def k0_chk471 (i : grid0.Coords) (k0_t2 : Fin k0_t2_loop.trips) (v650 : IVec S16 32) (v674 : IVec S16 32) : Prop :=
  (∀ (k0_h1 : k0_cond1 i k0_t2 = 1#1), ∀ a x, ((![v674, v650] : Fin 2 → IVec S16 32) a x).toNat < S160x142.size a)
theorem k0_idx682_inb : ∀ (i : grid0.Coords) (k0_t2 : Fin k0_t2_loop.trips) (v650 : IVec S16 32) (v674 : IVec S16 32) (k0_hw471 : k0_chk471 i k0_t2 v650 v674), ∀ (k0_h1 : k0_cond1 i k0_t2 = 1#1), ∀ a x, ((![v674, v650] : Fin 2 → IVec S16 32) a x).toNat < S160x142.size a := fun i k0_t2 v650 v674 k0_hw471 k0_h1 => k0_hw471 k0_h1

def k0_chk472 (i : grid0.Coords) (k0_t2 : Fin k0_t2_loop.trips) (v650 : IVec S16 32) (v677 : IVec S16 32) : Prop :=
  (∀ (k0_h1 : k0_cond1 i k0_t2 = 1#1), ∀ a x, ((![v677, v650] : Fin 2 → IVec S16 32) a x).toNat < S160x142.size a)
theorem k0_idx684_inb : ∀ (i : grid0.Coords) (k0_t2 : Fin k0_t2_loop.trips) (v650 : IVec S16 32) (v677 : IVec S16 32) (k0_hw472 : k0_chk472 i k0_t2 v650 v677), ∀ (k0_h1 : k0_cond1 i k0_t2 = 1#1), ∀ a x, ((![v677, v650] : Fin 2 → IVec S16 32) a x).toNat < S160x142.size a := fun i k0_t2 v650 v677 k0_hw472 k0_h1 => k0_hw472 k0_h1

def k0_chk463 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) : Prop :=
  (∀ (k0_h1 : k0_cond1 i k0_t2 = 1#1), ∀ a x, ((![v15, v650] : Fin 2 → IVec S16 32) a x).toNat < S256x142.size a) ∧
  (∀ (k0_h1 : k0_cond1 i k0_t2 = 1#1), ∀ a x, ((![v20, v650] : Fin 2 → IVec S16 32) a x).toNat < S256x142.size a) ∧
  (∀ (k0_h1 : k0_cond1 i k0_t2 = 1#1), ∀ a x, ((![v25, v650] : Fin 2 → IVec S16 32) a x).toNat < S256x142.size a) ∧
  (∀ (k0_h1 : k0_cond1 i k0_t2 = 1#1), ∀ a x, ((![v30, v650] : Fin 2 → IVec S16 32) a x).toNat < S256x142.size a) ∧
  (∀ (k0_h1 : k0_cond1 i k0_t2 = 1#1), ∀ a x, ((![v35, v650] : Fin 2 → IVec S16 32) a x).toNat < S256x142.size a) ∧
  (∀ (k0_h1 : k0_cond1 i k0_t2 = 1#1), ∀ a x, ((![v40, v650] : Fin 2 → IVec S16 32) a x).toNat < S256x142.size a) ∧
  (∀ (k0_h1 : k0_cond1 i k0_t2 = 1#1), ∀ a x, ((![v45, v650] : Fin 2 → IVec S16 32) a x).toNat < S256x142.size a) ∧
  (∀ (k0_h1 : k0_cond1 i k0_t2 = 1#1), ∀ a x, ((![v50, v650] : Fin 2 → IVec S16 32) a x).toNat < S256x142.size a) ∧
  (∀ (k0_h1 : k0_cond1 i k0_t2 = 1#1), ∀ a x, ((![v55, v650] : Fin 2 → IVec S16 32) a x).toNat < S256x142.size a) ∧
  (∀ (k0_h1 : k0_cond1 i k0_t2 = 1#1), ∀ a x, ((![v60, v650] : Fin 2 → IVec S16 32) a x).toNat < S256x142.size a)
theorem k0_idx667_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v15, v650] : Fin 2 → IVec S16 32) a x).toNat < S256x142.size a := fun i k0_t2 v15 v20 v25 v30 v35 v40 v45 v50 v55 v60 v650 k0_hw463 k0_h1 => k0_hw463.1 k0_h1
theorem k0_idx669_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v20, v650] : Fin 2 → IVec S16 32) a x).toNat < S256x142.size a := fun i k0_t2 v15 v20 v25 v30 v35 v40 v45 v50 v55 v60 v650 k0_hw463 k0_h1 => k0_hw463.2.1 k0_h1
theorem k0_idx671_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v25, v650] : Fin 2 → IVec S16 32) a x).toNat < S256x142.size a := fun i k0_t2 v15 v20 v25 v30 v35 v40 v45 v50 v55 v60 v650 k0_hw463 k0_h1 => k0_hw463.2.2.1 k0_h1
theorem k0_idx673_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v30, v650] : Fin 2 → IVec S16 32) a x).toNat < S256x142.size a := fun i k0_t2 v15 v20 v25 v30 v35 v40 v45 v50 v55 v60 v650 k0_hw463 k0_h1 => k0_hw463.2.2.2.1 k0_h1
theorem k0_idx675_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v35, v650] : Fin 2 → IVec S16 32) a x).toNat < S256x142.size a := fun i k0_t2 v15 v20 v25 v30 v35 v40 v45 v50 v55 v60 v650 k0_hw463 k0_h1 => k0_hw463.2.2.2.2.1 k0_h1
theorem k0_idx677_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v40, v650] : Fin 2 → IVec S16 32) a x).toNat < S256x142.size a := fun i k0_t2 v15 v20 v25 v30 v35 v40 v45 v50 v55 v60 v650 k0_hw463 k0_h1 => k0_hw463.2.2.2.2.2.1 k0_h1
theorem k0_idx679_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v45, v650] : Fin 2 → IVec S16 32) a x).toNat < S256x142.size a := fun i k0_t2 v15 v20 v25 v30 v35 v40 v45 v50 v55 v60 v650 k0_hw463 k0_h1 => k0_hw463.2.2.2.2.2.2.1 k0_h1
theorem k0_idx681_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v50, v650] : Fin 2 → IVec S16 32) a x).toNat < S256x142.size a := fun i k0_t2 v15 v20 v25 v30 v35 v40 v45 v50 v55 v60 v650 k0_hw463 k0_h1 => k0_hw463.2.2.2.2.2.2.2.1 k0_h1
theorem k0_idx683_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v55, v650] : Fin 2 → IVec S16 32) a x).toNat < S256x142.size a := fun i k0_t2 v15 v20 v25 v30 v35 v40 v45 v50 v55 v60 v650 k0_hw463 k0_h1 => k0_hw463.2.2.2.2.2.2.2.2.1 k0_h1
theorem k0_idx685_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v650 : IVec S16 32) (k0_hw463 : k0_chk463 i k0_t2 v15 v20 v25 v30 v35 v40 v45 v50 v55 v60 v650), ∀ (k0_h1 : k0_cond1 i k0_t2 = 1#1), ∀ a x, ((![v60, v650] : Fin 2 → IVec S16 32) a x).toNat < S256x142.size a := fun i k0_t2 v15 v20 v25 v30 v35 v40 v45 v50 v55 v60 v650 k0_hw463 k0_h1 => k0_hw463.2.2.2.2.2.2.2.2.2 k0_h1

def k0_chk473 (i : grid0.Coords) (k0_t2 : Fin k0_t2_loop.trips) (v650 : IVec S16 32) (v680 : IVec S16 32) : Prop :=
  (∀ (k0_h1 : k0_cond1 i k0_t2 = 1#1), ∀ a x, ((![v680, v650] : Fin 2 → IVec S16 32) a x).toNat < S160x142.size a)
theorem k0_idx686_inb : ∀ (i : grid0.Coords) (k0_t2 : Fin k0_t2_loop.trips) (v650 : IVec S16 32) (v680 : IVec S16 32) (k0_hw473 : k0_chk473 i k0_t2 v650 v680), ∀ (k0_h1 : k0_cond1 i k0_t2 = 1#1), ∀ a x, ((![v680, v650] : Fin 2 → IVec S16 32) a x).toNat < S160x142.size a := fun i k0_t2 v650 v680 k0_hw473 k0_h1 => k0_hw473 k0_h1

def k0_chk475 (i : grid0.Coords) (k0_t2 : Fin k0_t2_loop.trips) (v681 : IVec S16 32) (v684 : IVec S16 32) : Prop :=
  (∀ (k0_h1 : k0_cond1 i k0_t2 = 1#1), ∀ a x, ((![v684, v681] : Fin 2 → IVec S16 32) a x).toNat < S160x142.size a)
theorem k0_idx688_inb : ∀ (i : grid0.Coords) (k0_t2 : Fin k0_t2_loop.trips) (v681 : IVec S16 32) (v684 : IVec S16 32) (k0_hw475 : k0_chk475 i k0_t2 v681 v684), ∀ (k0_h1 : k0_cond1 i k0_t2 = 1#1), ∀ a x, ((![v684, v681] : Fin 2 → IVec S16 32) a x).toNat < S160x142.size a := fun i k0_t2 v681 v684 k0_hw475 k0_h1 => k0_hw475 k0_h1

def k0_chk476 (i : grid0.Coords) (k0_t2 : Fin k0_t2_loop.trips) (v681 : IVec S16 32) (v687 : IVec S16 32) : Prop :=
  (∀ (k0_h1 : k0_cond1 i k0_t2 = 1#1), ∀ a x, ((![v687, v681] : Fin 2 → IVec S16 32) a x).toNat < S160x142.size a)
theorem k0_idx690_inb : ∀ (i : grid0.Coords) (k0_t2 : Fin k0_t2_loop.trips) (v681 : IVec S16 32) (v687 : IVec S16 32) (k0_hw476 : k0_chk476 i k0_t2 v681 v687), ∀ (k0_h1 : k0_cond1 i k0_t2 = 1#1), ∀ a x, ((![v687, v681] : Fin 2 → IVec S16 32) a x).toNat < S160x142.size a := fun i k0_t2 v681 v687 k0_hw476 k0_h1 => k0_hw476 k0_h1

def k0_chk477 (i : grid0.Coords) (k0_t2 : Fin k0_t2_loop.trips) (v681 : IVec S16 32) (v690 : IVec S16 32) : Prop :=
  (∀ (k0_h1 : k0_cond1 i k0_t2 = 1#1), ∀ a x, ((![v690, v681] : Fin 2 → IVec S16 32) a x).toNat < S160x142.size a)
theorem k0_idx692_inb : ∀ (i : grid0.Coords) (k0_t2 : Fin k0_t2_loop.trips) (v681 : IVec S16 32) (v690 : IVec S16 32) (k0_hw477 : k0_chk477 i k0_t2 v681 v690), ∀ (k0_h1 : k0_cond1 i k0_t2 = 1#1), ∀ a x, ((![v690, v681] : Fin 2 → IVec S16 32) a x).toNat < S160x142.size a := fun i k0_t2 v681 v690 k0_hw477 k0_h1 => k0_hw477 k0_h1

def k0_chk478 (i : grid0.Coords) (k0_t2 : Fin k0_t2_loop.trips) (v681 : IVec S16 32) (v693 : IVec S16 32) : Prop :=
  (∀ (k0_h1 : k0_cond1 i k0_t2 = 1#1), ∀ a x, ((![v693, v681] : Fin 2 → IVec S16 32) a x).toNat < S160x142.size a)
theorem k0_idx694_inb : ∀ (i : grid0.Coords) (k0_t2 : Fin k0_t2_loop.trips) (v681 : IVec S16 32) (v693 : IVec S16 32) (k0_hw478 : k0_chk478 i k0_t2 v681 v693), ∀ (k0_h1 : k0_cond1 i k0_t2 = 1#1), ∀ a x, ((![v693, v681] : Fin 2 → IVec S16 32) a x).toNat < S160x142.size a := fun i k0_t2 v681 v693 k0_hw478 k0_h1 => k0_hw478 k0_h1

def k0_chk479 (i : grid0.Coords) (k0_t2 : Fin k0_t2_loop.trips) (v681 : IVec S16 32) (v696 : IVec S16 32) : Prop :=
  (∀ (k0_h1 : k0_cond1 i k0_t2 = 1#1), ∀ a x, ((![v696, v681] : Fin 2 → IVec S16 32) a x).toNat < S160x142.size a)
theorem k0_idx696_inb : ∀ (i : grid0.Coords) (k0_t2 : Fin k0_t2_loop.trips) (v681 : IVec S16 32) (v696 : IVec S16 32) (k0_hw479 : k0_chk479 i k0_t2 v681 v696), ∀ (k0_h1 : k0_cond1 i k0_t2 = 1#1), ∀ a x, ((![v696, v681] : Fin 2 → IVec S16 32) a x).toNat < S160x142.size a := fun i k0_t2 v681 v696 k0_hw479 k0_h1 => k0_hw479 k0_h1

def k0_chk480 (i : grid0.Coords) (k0_t2 : Fin k0_t2_loop.trips) (v681 : IVec S16 32) (v699 : IVec S16 32) : Prop :=
  (∀ (k0_h1 : k0_cond1 i k0_t2 = 1#1), ∀ a x, ((![v699, v681] : Fin 2 → IVec S16 32) a x).toNat < S160x142.size a)
theorem k0_idx698_inb : ∀ (i : grid0.Coords) (k0_t2 : Fin k0_t2_loop.trips) (v681 : IVec S16 32) (v699 : IVec S16 32) (k0_hw480 : k0_chk480 i k0_t2 v681 v699), ∀ (k0_h1 : k0_cond1 i k0_t2 = 1#1), ∀ a x, ((![v699, v681] : Fin 2 → IVec S16 32) a x).toNat < S160x142.size a := fun i k0_t2 v681 v699 k0_hw480 k0_h1 => k0_hw480 k0_h1

def k0_chk481 (i : grid0.Coords) (k0_t2 : Fin k0_t2_loop.trips) (v681 : IVec S16 32) (v702 : IVec S16 32) : Prop :=
  (∀ (k0_h1 : k0_cond1 i k0_t2 = 1#1), ∀ a x, ((![v702, v681] : Fin 2 → IVec S16 32) a x).toNat < S160x142.size a)
theorem k0_idx700_inb : ∀ (i : grid0.Coords) (k0_t2 : Fin k0_t2_loop.trips) (v681 : IVec S16 32) (v702 : IVec S16 32) (k0_hw481 : k0_chk481 i k0_t2 v681 v702), ∀ (k0_h1 : k0_cond1 i k0_t2 = 1#1), ∀ a x, ((![v702, v681] : Fin 2 → IVec S16 32) a x).toNat < S160x142.size a := fun i k0_t2 v681 v702 k0_hw481 k0_h1 => k0_hw481 k0_h1

def k0_chk482 (i : grid0.Coords) (k0_t2 : Fin k0_t2_loop.trips) (v681 : IVec S16 32) (v705 : IVec S16 32) : Prop :=
  (∀ (k0_h1 : k0_cond1 i k0_t2 = 1#1), ∀ a x, ((![v705, v681] : Fin 2 → IVec S16 32) a x).toNat < S160x142.size a)
theorem k0_idx702_inb : ∀ (i : grid0.Coords) (k0_t2 : Fin k0_t2_loop.trips) (v681 : IVec S16 32) (v705 : IVec S16 32) (k0_hw482 : k0_chk482 i k0_t2 v681 v705), ∀ (k0_h1 : k0_cond1 i k0_t2 = 1#1), ∀ a x, ((![v705, v681] : Fin 2 → IVec S16 32) a x).toNat < S160x142.size a := fun i k0_t2 v681 v705 k0_hw482 k0_h1 => k0_hw482 k0_h1

def k0_chk483 (i : grid0.Coords) (k0_t2 : Fin k0_t2_loop.trips) (v681 : IVec S16 32) (v708 : IVec S16 32) : Prop :=
  (∀ (k0_h1 : k0_cond1 i k0_t2 = 1#1), ∀ a x, ((![v708, v681] : Fin 2 → IVec S16 32) a x).toNat < S160x142.size a)
theorem k0_idx704_inb : ∀ (i : grid0.Coords) (k0_t2 : Fin k0_t2_loop.trips) (v681 : IVec S16 32) (v708 : IVec S16 32) (k0_hw483 : k0_chk483 i k0_t2 v681 v708), ∀ (k0_h1 : k0_cond1 i k0_t2 = 1#1), ∀ a x, ((![v708, v681] : Fin 2 → IVec S16 32) a x).toNat < S160x142.size a := fun i k0_t2 v681 v708 k0_hw483 k0_h1 => k0_hw483 k0_h1

def k0_chk474 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) : Prop :=
  (∀ (k0_h1 : k0_cond1 i k0_t2 = 1#1), ∀ a x, ((![v15, v681] : Fin 2 → IVec S16 32) a x).toNat < S256x142.size a) ∧
  (∀ (k0_h1 : k0_cond1 i k0_t2 = 1#1), ∀ a x, ((![v20, v681] : Fin 2 → IVec S16 32) a x).toNat < S256x142.size a) ∧
  (∀ (k0_h1 : k0_cond1 i k0_t2 = 1#1), ∀ a x, ((![v25, v681] : Fin 2 → IVec S16 32) a x).toNat < S256x142.size a) ∧
  (∀ (k0_h1 : k0_cond1 i k0_t2 = 1#1), ∀ a x, ((![v30, v681] : Fin 2 → IVec S16 32) a x).toNat < S256x142.size a) ∧
  (∀ (k0_h1 : k0_cond1 i k0_t2 = 1#1), ∀ a x, ((![v35, v681] : Fin 2 → IVec S16 32) a x).toNat < S256x142.size a) ∧
  (∀ (k0_h1 : k0_cond1 i k0_t2 = 1#1), ∀ a x, ((![v40, v681] : Fin 2 → IVec S16 32) a x).toNat < S256x142.size a) ∧
  (∀ (k0_h1 : k0_cond1 i k0_t2 = 1#1), ∀ a x, ((![v45, v681] : Fin 2 → IVec S16 32) a x).toNat < S256x142.size a) ∧
  (∀ (k0_h1 : k0_cond1 i k0_t2 = 1#1), ∀ a x, ((![v50, v681] : Fin 2 → IVec S16 32) a x).toNat < S256x142.size a) ∧
  (∀ (k0_h1 : k0_cond1 i k0_t2 = 1#1), ∀ a x, ((![v55, v681] : Fin 2 → IVec S16 32) a x).toNat < S256x142.size a) ∧
  (∀ (k0_h1 : k0_cond1 i k0_t2 = 1#1), ∀ a x, ((![v60, v681] : Fin 2 → IVec S16 32) a x).toNat < S256x142.size a)
theorem k0_idx687_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v15, v681] : Fin 2 → IVec S16 32) a x).toNat < S256x142.size a := fun i k0_t2 v15 v20 v25 v30 v35 v40 v45 v50 v55 v60 v681 k0_hw474 k0_h1 => k0_hw474.1 k0_h1
theorem k0_idx689_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v20, v681] : Fin 2 → IVec S16 32) a x).toNat < S256x142.size a := fun i k0_t2 v15 v20 v25 v30 v35 v40 v45 v50 v55 v60 v681 k0_hw474 k0_h1 => k0_hw474.2.1 k0_h1
theorem k0_idx691_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v25, v681] : Fin 2 → IVec S16 32) a x).toNat < S256x142.size a := fun i k0_t2 v15 v20 v25 v30 v35 v40 v45 v50 v55 v60 v681 k0_hw474 k0_h1 => k0_hw474.2.2.1 k0_h1
theorem k0_idx693_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v30, v681] : Fin 2 → IVec S16 32) a x).toNat < S256x142.size a := fun i k0_t2 v15 v20 v25 v30 v35 v40 v45 v50 v55 v60 v681 k0_hw474 k0_h1 => k0_hw474.2.2.2.1 k0_h1
theorem k0_idx695_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v35, v681] : Fin 2 → IVec S16 32) a x).toNat < S256x142.size a := fun i k0_t2 v15 v20 v25 v30 v35 v40 v45 v50 v55 v60 v681 k0_hw474 k0_h1 => k0_hw474.2.2.2.2.1 k0_h1
theorem k0_idx697_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v40, v681] : Fin 2 → IVec S16 32) a x).toNat < S256x142.size a := fun i k0_t2 v15 v20 v25 v30 v35 v40 v45 v50 v55 v60 v681 k0_hw474 k0_h1 => k0_hw474.2.2.2.2.2.1 k0_h1
theorem k0_idx699_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v45, v681] : Fin 2 → IVec S16 32) a x).toNat < S256x142.size a := fun i k0_t2 v15 v20 v25 v30 v35 v40 v45 v50 v55 v60 v681 k0_hw474 k0_h1 => k0_hw474.2.2.2.2.2.2.1 k0_h1
theorem k0_idx701_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v50, v681] : Fin 2 → IVec S16 32) a x).toNat < S256x142.size a := fun i k0_t2 v15 v20 v25 v30 v35 v40 v45 v50 v55 v60 v681 k0_hw474 k0_h1 => k0_hw474.2.2.2.2.2.2.2.1 k0_h1
theorem k0_idx703_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v55, v681] : Fin 2 → IVec S16 32) a x).toNat < S256x142.size a := fun i k0_t2 v15 v20 v25 v30 v35 v40 v45 v50 v55 v60 v681 k0_hw474 k0_h1 => k0_hw474.2.2.2.2.2.2.2.2.1 k0_h1
theorem k0_idx705_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v681 : IVec S16 32) (k0_hw474 : k0_chk474 i k0_t2 v15 v20 v25 v30 v35 v40 v45 v50 v55 v60 v681), ∀ (k0_h1 : k0_cond1 i k0_t2 = 1#1), ∀ a x, ((![v60, v681] : Fin 2 → IVec S16 32) a x).toNat < S256x142.size a := fun i k0_t2 v15 v20 v25 v30 v35 v40 v45 v50 v55 v60 v681 k0_hw474 k0_h1 => k0_hw474.2.2.2.2.2.2.2.2.2 k0_h1

def k0_chk484 (i : grid0.Coords) (k0_t2 : Fin k0_t2_loop.trips) (v681 : IVec S16 32) (v711 : IVec S16 32) : Prop :=
  (∀ (k0_h1 : k0_cond1 i k0_t2 = 1#1), ∀ a x, ((![v711, v681] : Fin 2 → IVec S16 32) a x).toNat < S160x142.size a)
theorem k0_idx706_inb : ∀ (i : grid0.Coords) (k0_t2 : Fin k0_t2_loop.trips) (v681 : IVec S16 32) (v711 : IVec S16 32) (k0_hw484 : k0_chk484 i k0_t2 v681 v711), ∀ (k0_h1 : k0_cond1 i k0_t2 = 1#1), ∀ a x, ((![v711, v681] : Fin 2 → IVec S16 32) a x).toNat < S160x142.size a := fun i k0_t2 v681 v711 k0_hw484 k0_h1 => k0_hw484 k0_h1

def k0_chk486 (i : grid0.Coords) (k0_t2 : Fin k0_t2_loop.trips) (v712 : IVec S16 32) (v715 : IVec S16 32) : Prop :=
  (∀ (k0_h1 : k0_cond1 i k0_t2 = 1#1), ∀ a x, ((![v715, v712] : Fin 2 → IVec S16 32) a x).toNat < S160x142.size a)
theorem k0_idx708_inb : ∀ (i : grid0.Coords) (k0_t2 : Fin k0_t2_loop.trips) (v712 : IVec S16 32) (v715 : IVec S16 32) (k0_hw486 : k0_chk486 i k0_t2 v712 v715), ∀ (k0_h1 : k0_cond1 i k0_t2 = 1#1), ∀ a x, ((![v715, v712] : Fin 2 → IVec S16 32) a x).toNat < S160x142.size a := fun i k0_t2 v712 v715 k0_hw486 k0_h1 => k0_hw486 k0_h1

def k0_chk487 (i : grid0.Coords) (k0_t2 : Fin k0_t2_loop.trips) (v712 : IVec S16 32) (v718 : IVec S16 32) : Prop :=
  (∀ (k0_h1 : k0_cond1 i k0_t2 = 1#1), ∀ a x, ((![v718, v712] : Fin 2 → IVec S16 32) a x).toNat < S160x142.size a)
theorem k0_idx710_inb : ∀ (i : grid0.Coords) (k0_t2 : Fin k0_t2_loop.trips) (v712 : IVec S16 32) (v718 : IVec S16 32) (k0_hw487 : k0_chk487 i k0_t2 v712 v718), ∀ (k0_h1 : k0_cond1 i k0_t2 = 1#1), ∀ a x, ((![v718, v712] : Fin 2 → IVec S16 32) a x).toNat < S160x142.size a := fun i k0_t2 v712 v718 k0_hw487 k0_h1 => k0_hw487 k0_h1

def k0_chk488 (i : grid0.Coords) (k0_t2 : Fin k0_t2_loop.trips) (v712 : IVec S16 32) (v721 : IVec S16 32) : Prop :=
  (∀ (k0_h1 : k0_cond1 i k0_t2 = 1#1), ∀ a x, ((![v721, v712] : Fin 2 → IVec S16 32) a x).toNat < S160x142.size a)
theorem k0_idx712_inb : ∀ (i : grid0.Coords) (k0_t2 : Fin k0_t2_loop.trips) (v712 : IVec S16 32) (v721 : IVec S16 32) (k0_hw488 : k0_chk488 i k0_t2 v712 v721), ∀ (k0_h1 : k0_cond1 i k0_t2 = 1#1), ∀ a x, ((![v721, v712] : Fin 2 → IVec S16 32) a x).toNat < S160x142.size a := fun i k0_t2 v712 v721 k0_hw488 k0_h1 => k0_hw488 k0_h1

def k0_chk489 (i : grid0.Coords) (k0_t2 : Fin k0_t2_loop.trips) (v712 : IVec S16 32) (v724 : IVec S16 32) : Prop :=
  (∀ (k0_h1 : k0_cond1 i k0_t2 = 1#1), ∀ a x, ((![v724, v712] : Fin 2 → IVec S16 32) a x).toNat < S160x142.size a)
theorem k0_idx714_inb : ∀ (i : grid0.Coords) (k0_t2 : Fin k0_t2_loop.trips) (v712 : IVec S16 32) (v724 : IVec S16 32) (k0_hw489 : k0_chk489 i k0_t2 v712 v724), ∀ (k0_h1 : k0_cond1 i k0_t2 = 1#1), ∀ a x, ((![v724, v712] : Fin 2 → IVec S16 32) a x).toNat < S160x142.size a := fun i k0_t2 v712 v724 k0_hw489 k0_h1 => k0_hw489 k0_h1

def k0_chk490 (i : grid0.Coords) (k0_t2 : Fin k0_t2_loop.trips) (v712 : IVec S16 32) (v727 : IVec S16 32) : Prop :=
  (∀ (k0_h1 : k0_cond1 i k0_t2 = 1#1), ∀ a x, ((![v727, v712] : Fin 2 → IVec S16 32) a x).toNat < S160x142.size a)
theorem k0_idx716_inb : ∀ (i : grid0.Coords) (k0_t2 : Fin k0_t2_loop.trips) (v712 : IVec S16 32) (v727 : IVec S16 32) (k0_hw490 : k0_chk490 i k0_t2 v712 v727), ∀ (k0_h1 : k0_cond1 i k0_t2 = 1#1), ∀ a x, ((![v727, v712] : Fin 2 → IVec S16 32) a x).toNat < S160x142.size a := fun i k0_t2 v712 v727 k0_hw490 k0_h1 => k0_hw490 k0_h1

def k0_chk491 (i : grid0.Coords) (k0_t2 : Fin k0_t2_loop.trips) (v712 : IVec S16 32) (v730 : IVec S16 32) : Prop :=
  (∀ (k0_h1 : k0_cond1 i k0_t2 = 1#1), ∀ a x, ((![v730, v712] : Fin 2 → IVec S16 32) a x).toNat < S160x142.size a)
theorem k0_idx718_inb : ∀ (i : grid0.Coords) (k0_t2 : Fin k0_t2_loop.trips) (v712 : IVec S16 32) (v730 : IVec S16 32) (k0_hw491 : k0_chk491 i k0_t2 v712 v730), ∀ (k0_h1 : k0_cond1 i k0_t2 = 1#1), ∀ a x, ((![v730, v712] : Fin 2 → IVec S16 32) a x).toNat < S160x142.size a := fun i k0_t2 v712 v730 k0_hw491 k0_h1 => k0_hw491 k0_h1

def k0_chk492 (i : grid0.Coords) (k0_t2 : Fin k0_t2_loop.trips) (v712 : IVec S16 32) (v733 : IVec S16 32) : Prop :=
  (∀ (k0_h1 : k0_cond1 i k0_t2 = 1#1), ∀ a x, ((![v733, v712] : Fin 2 → IVec S16 32) a x).toNat < S160x142.size a)
theorem k0_idx720_inb : ∀ (i : grid0.Coords) (k0_t2 : Fin k0_t2_loop.trips) (v712 : IVec S16 32) (v733 : IVec S16 32) (k0_hw492 : k0_chk492 i k0_t2 v712 v733), ∀ (k0_h1 : k0_cond1 i k0_t2 = 1#1), ∀ a x, ((![v733, v712] : Fin 2 → IVec S16 32) a x).toNat < S160x142.size a := fun i k0_t2 v712 v733 k0_hw492 k0_h1 => k0_hw492 k0_h1

def k0_chk493 (i : grid0.Coords) (k0_t2 : Fin k0_t2_loop.trips) (v712 : IVec S16 32) (v736 : IVec S16 32) : Prop :=
  (∀ (k0_h1 : k0_cond1 i k0_t2 = 1#1), ∀ a x, ((![v736, v712] : Fin 2 → IVec S16 32) a x).toNat < S160x142.size a)
theorem k0_idx722_inb : ∀ (i : grid0.Coords) (k0_t2 : Fin k0_t2_loop.trips) (v712 : IVec S16 32) (v736 : IVec S16 32) (k0_hw493 : k0_chk493 i k0_t2 v712 v736), ∀ (k0_h1 : k0_cond1 i k0_t2 = 1#1), ∀ a x, ((![v736, v712] : Fin 2 → IVec S16 32) a x).toNat < S160x142.size a := fun i k0_t2 v712 v736 k0_hw493 k0_h1 => k0_hw493 k0_h1

def k0_chk494 (i : grid0.Coords) (k0_t2 : Fin k0_t2_loop.trips) (v712 : IVec S16 32) (v739 : IVec S16 32) : Prop :=
  (∀ (k0_h1 : k0_cond1 i k0_t2 = 1#1), ∀ a x, ((![v739, v712] : Fin 2 → IVec S16 32) a x).toNat < S160x142.size a)
theorem k0_idx724_inb : ∀ (i : grid0.Coords) (k0_t2 : Fin k0_t2_loop.trips) (v712 : IVec S16 32) (v739 : IVec S16 32) (k0_hw494 : k0_chk494 i k0_t2 v712 v739), ∀ (k0_h1 : k0_cond1 i k0_t2 = 1#1), ∀ a x, ((![v739, v712] : Fin 2 → IVec S16 32) a x).toNat < S160x142.size a := fun i k0_t2 v712 v739 k0_hw494 k0_h1 => k0_hw494 k0_h1

def k0_chk485 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) : Prop :=
  (∀ (k0_h1 : k0_cond1 i k0_t2 = 1#1), ∀ a x, ((![v15, v712] : Fin 2 → IVec S16 32) a x).toNat < S256x142.size a) ∧
  (∀ (k0_h1 : k0_cond1 i k0_t2 = 1#1), ∀ a x, ((![v20, v712] : Fin 2 → IVec S16 32) a x).toNat < S256x142.size a) ∧
  (∀ (k0_h1 : k0_cond1 i k0_t2 = 1#1), ∀ a x, ((![v25, v712] : Fin 2 → IVec S16 32) a x).toNat < S256x142.size a) ∧
  (∀ (k0_h1 : k0_cond1 i k0_t2 = 1#1), ∀ a x, ((![v30, v712] : Fin 2 → IVec S16 32) a x).toNat < S256x142.size a) ∧
  (∀ (k0_h1 : k0_cond1 i k0_t2 = 1#1), ∀ a x, ((![v35, v712] : Fin 2 → IVec S16 32) a x).toNat < S256x142.size a) ∧
  (∀ (k0_h1 : k0_cond1 i k0_t2 = 1#1), ∀ a x, ((![v40, v712] : Fin 2 → IVec S16 32) a x).toNat < S256x142.size a) ∧
  (∀ (k0_h1 : k0_cond1 i k0_t2 = 1#1), ∀ a x, ((![v45, v712] : Fin 2 → IVec S16 32) a x).toNat < S256x142.size a) ∧
  (∀ (k0_h1 : k0_cond1 i k0_t2 = 1#1), ∀ a x, ((![v50, v712] : Fin 2 → IVec S16 32) a x).toNat < S256x142.size a) ∧
  (∀ (k0_h1 : k0_cond1 i k0_t2 = 1#1), ∀ a x, ((![v55, v712] : Fin 2 → IVec S16 32) a x).toNat < S256x142.size a) ∧
  (∀ (k0_h1 : k0_cond1 i k0_t2 = 1#1), ∀ a x, ((![v60, v712] : Fin 2 → IVec S16 32) a x).toNat < S256x142.size a)
theorem k0_idx707_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v15, v712] : Fin 2 → IVec S16 32) a x).toNat < S256x142.size a := fun i k0_t2 v15 v20 v25 v30 v35 v40 v45 v50 v55 v60 v712 k0_hw485 k0_h1 => k0_hw485.1 k0_h1
theorem k0_idx709_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v20, v712] : Fin 2 → IVec S16 32) a x).toNat < S256x142.size a := fun i k0_t2 v15 v20 v25 v30 v35 v40 v45 v50 v55 v60 v712 k0_hw485 k0_h1 => k0_hw485.2.1 k0_h1
theorem k0_idx711_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v25, v712] : Fin 2 → IVec S16 32) a x).toNat < S256x142.size a := fun i k0_t2 v15 v20 v25 v30 v35 v40 v45 v50 v55 v60 v712 k0_hw485 k0_h1 => k0_hw485.2.2.1 k0_h1
theorem k0_idx713_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v30, v712] : Fin 2 → IVec S16 32) a x).toNat < S256x142.size a := fun i k0_t2 v15 v20 v25 v30 v35 v40 v45 v50 v55 v60 v712 k0_hw485 k0_h1 => k0_hw485.2.2.2.1 k0_h1
theorem k0_idx715_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v35, v712] : Fin 2 → IVec S16 32) a x).toNat < S256x142.size a := fun i k0_t2 v15 v20 v25 v30 v35 v40 v45 v50 v55 v60 v712 k0_hw485 k0_h1 => k0_hw485.2.2.2.2.1 k0_h1
theorem k0_idx717_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v40, v712] : Fin 2 → IVec S16 32) a x).toNat < S256x142.size a := fun i k0_t2 v15 v20 v25 v30 v35 v40 v45 v50 v55 v60 v712 k0_hw485 k0_h1 => k0_hw485.2.2.2.2.2.1 k0_h1
theorem k0_idx719_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v45, v712] : Fin 2 → IVec S16 32) a x).toNat < S256x142.size a := fun i k0_t2 v15 v20 v25 v30 v35 v40 v45 v50 v55 v60 v712 k0_hw485 k0_h1 => k0_hw485.2.2.2.2.2.2.1 k0_h1
theorem k0_idx721_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v50, v712] : Fin 2 → IVec S16 32) a x).toNat < S256x142.size a := fun i k0_t2 v15 v20 v25 v30 v35 v40 v45 v50 v55 v60 v712 k0_hw485 k0_h1 => k0_hw485.2.2.2.2.2.2.2.1 k0_h1
theorem k0_idx723_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v55, v712] : Fin 2 → IVec S16 32) a x).toNat < S256x142.size a := fun i k0_t2 v15 v20 v25 v30 v35 v40 v45 v50 v55 v60 v712 k0_hw485 k0_h1 => k0_hw485.2.2.2.2.2.2.2.2.1 k0_h1
theorem k0_idx725_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v712 : IVec S16 32) (k0_hw485 : k0_chk485 i k0_t2 v15 v20 v25 v30 v35 v40 v45 v50 v55 v60 v712), ∀ (k0_h1 : k0_cond1 i k0_t2 = 1#1), ∀ a x, ((![v60, v712] : Fin 2 → IVec S16 32) a x).toNat < S256x142.size a := fun i k0_t2 v15 v20 v25 v30 v35 v40 v45 v50 v55 v60 v712 k0_hw485 k0_h1 => k0_hw485.2.2.2.2.2.2.2.2.2 k0_h1

def k0_chk495 (i : grid0.Coords) (k0_t2 : Fin k0_t2_loop.trips) (v712 : IVec S16 32) (v742 : IVec S16 32) : Prop :=
  (∀ (k0_h1 : k0_cond1 i k0_t2 = 1#1), ∀ a x, ((![v742, v712] : Fin 2 → IVec S16 32) a x).toNat < S160x142.size a)
theorem k0_idx726_inb : ∀ (i : grid0.Coords) (k0_t2 : Fin k0_t2_loop.trips) (v712 : IVec S16 32) (v742 : IVec S16 32) (k0_hw495 : k0_chk495 i k0_t2 v712 v742), ∀ (k0_h1 : k0_cond1 i k0_t2 = 1#1), ∀ a x, ((![v742, v712] : Fin 2 → IVec S16 32) a x).toNat < S160x142.size a := fun i k0_t2 v712 v742 k0_hw495 k0_h1 => k0_hw495 k0_h1

def k0_chk497 (i : grid0.Coords) (k0_t2 : Fin k0_t2_loop.trips) (v743 : IVec S16 32) (v746 : IVec S16 32) : Prop :=
  (∀ (k0_h1 : k0_cond1 i k0_t2 = 1#1), ∀ a x, ((![v746, v743] : Fin 2 → IVec S16 32) a x).toNat < S160x142.size a)
theorem k0_idx728_inb : ∀ (i : grid0.Coords) (k0_t2 : Fin k0_t2_loop.trips) (v743 : IVec S16 32) (v746 : IVec S16 32) (k0_hw497 : k0_chk497 i k0_t2 v743 v746), ∀ (k0_h1 : k0_cond1 i k0_t2 = 1#1), ∀ a x, ((![v746, v743] : Fin 2 → IVec S16 32) a x).toNat < S160x142.size a := fun i k0_t2 v743 v746 k0_hw497 k0_h1 => k0_hw497 k0_h1

def k0_chk498 (i : grid0.Coords) (k0_t2 : Fin k0_t2_loop.trips) (v743 : IVec S16 32) (v749 : IVec S16 32) : Prop :=
  (∀ (k0_h1 : k0_cond1 i k0_t2 = 1#1), ∀ a x, ((![v749, v743] : Fin 2 → IVec S16 32) a x).toNat < S160x142.size a)
theorem k0_idx730_inb : ∀ (i : grid0.Coords) (k0_t2 : Fin k0_t2_loop.trips) (v743 : IVec S16 32) (v749 : IVec S16 32) (k0_hw498 : k0_chk498 i k0_t2 v743 v749), ∀ (k0_h1 : k0_cond1 i k0_t2 = 1#1), ∀ a x, ((![v749, v743] : Fin 2 → IVec S16 32) a x).toNat < S160x142.size a := fun i k0_t2 v743 v749 k0_hw498 k0_h1 => k0_hw498 k0_h1

def k0_chk499 (i : grid0.Coords) (k0_t2 : Fin k0_t2_loop.trips) (v743 : IVec S16 32) (v752 : IVec S16 32) : Prop :=
  (∀ (k0_h1 : k0_cond1 i k0_t2 = 1#1), ∀ a x, ((![v752, v743] : Fin 2 → IVec S16 32) a x).toNat < S160x142.size a)
theorem k0_idx732_inb : ∀ (i : grid0.Coords) (k0_t2 : Fin k0_t2_loop.trips) (v743 : IVec S16 32) (v752 : IVec S16 32) (k0_hw499 : k0_chk499 i k0_t2 v743 v752), ∀ (k0_h1 : k0_cond1 i k0_t2 = 1#1), ∀ a x, ((![v752, v743] : Fin 2 → IVec S16 32) a x).toNat < S160x142.size a := fun i k0_t2 v743 v752 k0_hw499 k0_h1 => k0_hw499 k0_h1

def k0_chk500 (i : grid0.Coords) (k0_t2 : Fin k0_t2_loop.trips) (v743 : IVec S16 32) (v755 : IVec S16 32) : Prop :=
  (∀ (k0_h1 : k0_cond1 i k0_t2 = 1#1), ∀ a x, ((![v755, v743] : Fin 2 → IVec S16 32) a x).toNat < S160x142.size a)
theorem k0_idx734_inb : ∀ (i : grid0.Coords) (k0_t2 : Fin k0_t2_loop.trips) (v743 : IVec S16 32) (v755 : IVec S16 32) (k0_hw500 : k0_chk500 i k0_t2 v743 v755), ∀ (k0_h1 : k0_cond1 i k0_t2 = 1#1), ∀ a x, ((![v755, v743] : Fin 2 → IVec S16 32) a x).toNat < S160x142.size a := fun i k0_t2 v743 v755 k0_hw500 k0_h1 => k0_hw500 k0_h1

def k0_chk501 (i : grid0.Coords) (k0_t2 : Fin k0_t2_loop.trips) (v743 : IVec S16 32) (v758 : IVec S16 32) : Prop :=
  (∀ (k0_h1 : k0_cond1 i k0_t2 = 1#1), ∀ a x, ((![v758, v743] : Fin 2 → IVec S16 32) a x).toNat < S160x142.size a)
theorem k0_idx736_inb : ∀ (i : grid0.Coords) (k0_t2 : Fin k0_t2_loop.trips) (v743 : IVec S16 32) (v758 : IVec S16 32) (k0_hw501 : k0_chk501 i k0_t2 v743 v758), ∀ (k0_h1 : k0_cond1 i k0_t2 = 1#1), ∀ a x, ((![v758, v743] : Fin 2 → IVec S16 32) a x).toNat < S160x142.size a := fun i k0_t2 v743 v758 k0_hw501 k0_h1 => k0_hw501 k0_h1

def k0_chk502 (i : grid0.Coords) (k0_t2 : Fin k0_t2_loop.trips) (v743 : IVec S16 32) (v761 : IVec S16 32) : Prop :=
  (∀ (k0_h1 : k0_cond1 i k0_t2 = 1#1), ∀ a x, ((![v761, v743] : Fin 2 → IVec S16 32) a x).toNat < S160x142.size a)
theorem k0_idx738_inb : ∀ (i : grid0.Coords) (k0_t2 : Fin k0_t2_loop.trips) (v743 : IVec S16 32) (v761 : IVec S16 32) (k0_hw502 : k0_chk502 i k0_t2 v743 v761), ∀ (k0_h1 : k0_cond1 i k0_t2 = 1#1), ∀ a x, ((![v761, v743] : Fin 2 → IVec S16 32) a x).toNat < S160x142.size a := fun i k0_t2 v743 v761 k0_hw502 k0_h1 => k0_hw502 k0_h1

def k0_chk503 (i : grid0.Coords) (k0_t2 : Fin k0_t2_loop.trips) (v743 : IVec S16 32) (v764 : IVec S16 32) : Prop :=
  (∀ (k0_h1 : k0_cond1 i k0_t2 = 1#1), ∀ a x, ((![v764, v743] : Fin 2 → IVec S16 32) a x).toNat < S160x142.size a)
theorem k0_idx740_inb : ∀ (i : grid0.Coords) (k0_t2 : Fin k0_t2_loop.trips) (v743 : IVec S16 32) (v764 : IVec S16 32) (k0_hw503 : k0_chk503 i k0_t2 v743 v764), ∀ (k0_h1 : k0_cond1 i k0_t2 = 1#1), ∀ a x, ((![v764, v743] : Fin 2 → IVec S16 32) a x).toNat < S160x142.size a := fun i k0_t2 v743 v764 k0_hw503 k0_h1 => k0_hw503 k0_h1

def k0_chk504 (i : grid0.Coords) (k0_t2 : Fin k0_t2_loop.trips) (v743 : IVec S16 32) (v767 : IVec S16 32) : Prop :=
  (∀ (k0_h1 : k0_cond1 i k0_t2 = 1#1), ∀ a x, ((![v767, v743] : Fin 2 → IVec S16 32) a x).toNat < S160x142.size a)
theorem k0_idx742_inb : ∀ (i : grid0.Coords) (k0_t2 : Fin k0_t2_loop.trips) (v743 : IVec S16 32) (v767 : IVec S16 32) (k0_hw504 : k0_chk504 i k0_t2 v743 v767), ∀ (k0_h1 : k0_cond1 i k0_t2 = 1#1), ∀ a x, ((![v767, v743] : Fin 2 → IVec S16 32) a x).toNat < S160x142.size a := fun i k0_t2 v743 v767 k0_hw504 k0_h1 => k0_hw504 k0_h1

def k0_chk505 (i : grid0.Coords) (k0_t2 : Fin k0_t2_loop.trips) (v743 : IVec S16 32) (v770 : IVec S16 32) : Prop :=
  (∀ (k0_h1 : k0_cond1 i k0_t2 = 1#1), ∀ a x, ((![v770, v743] : Fin 2 → IVec S16 32) a x).toNat < S160x142.size a)
theorem k0_idx744_inb : ∀ (i : grid0.Coords) (k0_t2 : Fin k0_t2_loop.trips) (v743 : IVec S16 32) (v770 : IVec S16 32) (k0_hw505 : k0_chk505 i k0_t2 v743 v770), ∀ (k0_h1 : k0_cond1 i k0_t2 = 1#1), ∀ a x, ((![v770, v743] : Fin 2 → IVec S16 32) a x).toNat < S160x142.size a := fun i k0_t2 v743 v770 k0_hw505 k0_h1 => k0_hw505 k0_h1

def k0_chk496 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) : Prop :=
  (∀ (k0_h1 : k0_cond1 i k0_t2 = 1#1), ∀ a x, ((![v15, v743] : Fin 2 → IVec S16 32) a x).toNat < S256x142.size a) ∧
  (∀ (k0_h1 : k0_cond1 i k0_t2 = 1#1), ∀ a x, ((![v20, v743] : Fin 2 → IVec S16 32) a x).toNat < S256x142.size a) ∧
  (∀ (k0_h1 : k0_cond1 i k0_t2 = 1#1), ∀ a x, ((![v25, v743] : Fin 2 → IVec S16 32) a x).toNat < S256x142.size a) ∧
  (∀ (k0_h1 : k0_cond1 i k0_t2 = 1#1), ∀ a x, ((![v30, v743] : Fin 2 → IVec S16 32) a x).toNat < S256x142.size a) ∧
  (∀ (k0_h1 : k0_cond1 i k0_t2 = 1#1), ∀ a x, ((![v35, v743] : Fin 2 → IVec S16 32) a x).toNat < S256x142.size a) ∧
  (∀ (k0_h1 : k0_cond1 i k0_t2 = 1#1), ∀ a x, ((![v40, v743] : Fin 2 → IVec S16 32) a x).toNat < S256x142.size a) ∧
  (∀ (k0_h1 : k0_cond1 i k0_t2 = 1#1), ∀ a x, ((![v45, v743] : Fin 2 → IVec S16 32) a x).toNat < S256x142.size a) ∧
  (∀ (k0_h1 : k0_cond1 i k0_t2 = 1#1), ∀ a x, ((![v50, v743] : Fin 2 → IVec S16 32) a x).toNat < S256x142.size a) ∧
  (∀ (k0_h1 : k0_cond1 i k0_t2 = 1#1), ∀ a x, ((![v55, v743] : Fin 2 → IVec S16 32) a x).toNat < S256x142.size a) ∧
  (∀ (k0_h1 : k0_cond1 i k0_t2 = 1#1), ∀ a x, ((![v60, v743] : Fin 2 → IVec S16 32) a x).toNat < S256x142.size a)
theorem k0_idx727_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v15, v743] : Fin 2 → IVec S16 32) a x).toNat < S256x142.size a := fun i k0_t2 v15 v20 v25 v30 v35 v40 v45 v50 v55 v60 v743 k0_hw496 k0_h1 => k0_hw496.1 k0_h1
theorem k0_idx729_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v20, v743] : Fin 2 → IVec S16 32) a x).toNat < S256x142.size a := fun i k0_t2 v15 v20 v25 v30 v35 v40 v45 v50 v55 v60 v743 k0_hw496 k0_h1 => k0_hw496.2.1 k0_h1
theorem k0_idx731_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v25, v743] : Fin 2 → IVec S16 32) a x).toNat < S256x142.size a := fun i k0_t2 v15 v20 v25 v30 v35 v40 v45 v50 v55 v60 v743 k0_hw496 k0_h1 => k0_hw496.2.2.1 k0_h1
theorem k0_idx733_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v30, v743] : Fin 2 → IVec S16 32) a x).toNat < S256x142.size a := fun i k0_t2 v15 v20 v25 v30 v35 v40 v45 v50 v55 v60 v743 k0_hw496 k0_h1 => k0_hw496.2.2.2.1 k0_h1
theorem k0_idx735_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v35, v743] : Fin 2 → IVec S16 32) a x).toNat < S256x142.size a := fun i k0_t2 v15 v20 v25 v30 v35 v40 v45 v50 v55 v60 v743 k0_hw496 k0_h1 => k0_hw496.2.2.2.2.1 k0_h1
theorem k0_idx737_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v40, v743] : Fin 2 → IVec S16 32) a x).toNat < S256x142.size a := fun i k0_t2 v15 v20 v25 v30 v35 v40 v45 v50 v55 v60 v743 k0_hw496 k0_h1 => k0_hw496.2.2.2.2.2.1 k0_h1
theorem k0_idx739_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v45, v743] : Fin 2 → IVec S16 32) a x).toNat < S256x142.size a := fun i k0_t2 v15 v20 v25 v30 v35 v40 v45 v50 v55 v60 v743 k0_hw496 k0_h1 => k0_hw496.2.2.2.2.2.2.1 k0_h1
theorem k0_idx741_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v50, v743] : Fin 2 → IVec S16 32) a x).toNat < S256x142.size a := fun i k0_t2 v15 v20 v25 v30 v35 v40 v45 v50 v55 v60 v743 k0_hw496 k0_h1 => k0_hw496.2.2.2.2.2.2.2.1 k0_h1
theorem k0_idx743_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v55, v743] : Fin 2 → IVec S16 32) a x).toNat < S256x142.size a := fun i k0_t2 v15 v20 v25 v30 v35 v40 v45 v50 v55 v60 v743 k0_hw496 k0_h1 => k0_hw496.2.2.2.2.2.2.2.2.1 k0_h1
theorem k0_idx745_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v743 : IVec S16 32) (k0_hw496 : k0_chk496 i k0_t2 v15 v20 v25 v30 v35 v40 v45 v50 v55 v60 v743), ∀ (k0_h1 : k0_cond1 i k0_t2 = 1#1), ∀ a x, ((![v60, v743] : Fin 2 → IVec S16 32) a x).toNat < S256x142.size a := fun i k0_t2 v15 v20 v25 v30 v35 v40 v45 v50 v55 v60 v743 k0_hw496 k0_h1 => k0_hw496.2.2.2.2.2.2.2.2.2 k0_h1

def k0_chk506 (i : grid0.Coords) (k0_t2 : Fin k0_t2_loop.trips) (v743 : IVec S16 32) (v773 : IVec S16 32) : Prop :=
  (∀ (k0_h1 : k0_cond1 i k0_t2 = 1#1), ∀ a x, ((![v773, v743] : Fin 2 → IVec S16 32) a x).toNat < S160x142.size a)
theorem k0_idx746_inb : ∀ (i : grid0.Coords) (k0_t2 : Fin k0_t2_loop.trips) (v743 : IVec S16 32) (v773 : IVec S16 32) (k0_hw506 : k0_chk506 i k0_t2 v743 v773), ∀ (k0_h1 : k0_cond1 i k0_t2 = 1#1), ∀ a x, ((![v773, v743] : Fin 2 → IVec S16 32) a x).toNat < S160x142.size a := fun i k0_t2 v743 v773 k0_hw506 k0_h1 => k0_hw506 k0_h1

def k0_chk508 (i : grid0.Coords) (k0_t2 : Fin k0_t2_loop.trips) (v774 : IVec S16 32) (v777 : IVec S16 32) : Prop :=
  (∀ (k0_h1 : k0_cond1 i k0_t2 = 1#1), ∀ a x, ((![v777, v774] : Fin 2 → IVec S16 32) a x).toNat < S160x142.size a)
theorem k0_idx748_inb : ∀ (i : grid0.Coords) (k0_t2 : Fin k0_t2_loop.trips) (v774 : IVec S16 32) (v777 : IVec S16 32) (k0_hw508 : k0_chk508 i k0_t2 v774 v777), ∀ (k0_h1 : k0_cond1 i k0_t2 = 1#1), ∀ a x, ((![v777, v774] : Fin 2 → IVec S16 32) a x).toNat < S160x142.size a := fun i k0_t2 v774 v777 k0_hw508 k0_h1 => k0_hw508 k0_h1

def k0_chk509 (i : grid0.Coords) (k0_t2 : Fin k0_t2_loop.trips) (v774 : IVec S16 32) (v780 : IVec S16 32) : Prop :=
  (∀ (k0_h1 : k0_cond1 i k0_t2 = 1#1), ∀ a x, ((![v780, v774] : Fin 2 → IVec S16 32) a x).toNat < S160x142.size a)
theorem k0_idx750_inb : ∀ (i : grid0.Coords) (k0_t2 : Fin k0_t2_loop.trips) (v774 : IVec S16 32) (v780 : IVec S16 32) (k0_hw509 : k0_chk509 i k0_t2 v774 v780), ∀ (k0_h1 : k0_cond1 i k0_t2 = 1#1), ∀ a x, ((![v780, v774] : Fin 2 → IVec S16 32) a x).toNat < S160x142.size a := fun i k0_t2 v774 v780 k0_hw509 k0_h1 => k0_hw509 k0_h1

def k0_chk510 (i : grid0.Coords) (k0_t2 : Fin k0_t2_loop.trips) (v774 : IVec S16 32) (v783 : IVec S16 32) : Prop :=
  (∀ (k0_h1 : k0_cond1 i k0_t2 = 1#1), ∀ a x, ((![v783, v774] : Fin 2 → IVec S16 32) a x).toNat < S160x142.size a)
theorem k0_idx752_inb : ∀ (i : grid0.Coords) (k0_t2 : Fin k0_t2_loop.trips) (v774 : IVec S16 32) (v783 : IVec S16 32) (k0_hw510 : k0_chk510 i k0_t2 v774 v783), ∀ (k0_h1 : k0_cond1 i k0_t2 = 1#1), ∀ a x, ((![v783, v774] : Fin 2 → IVec S16 32) a x).toNat < S160x142.size a := fun i k0_t2 v774 v783 k0_hw510 k0_h1 => k0_hw510 k0_h1

def k0_chk511 (i : grid0.Coords) (k0_t2 : Fin k0_t2_loop.trips) (v774 : IVec S16 32) (v786 : IVec S16 32) : Prop :=
  (∀ (k0_h1 : k0_cond1 i k0_t2 = 1#1), ∀ a x, ((![v786, v774] : Fin 2 → IVec S16 32) a x).toNat < S160x142.size a)
theorem k0_idx754_inb : ∀ (i : grid0.Coords) (k0_t2 : Fin k0_t2_loop.trips) (v774 : IVec S16 32) (v786 : IVec S16 32) (k0_hw511 : k0_chk511 i k0_t2 v774 v786), ∀ (k0_h1 : k0_cond1 i k0_t2 = 1#1), ∀ a x, ((![v786, v774] : Fin 2 → IVec S16 32) a x).toNat < S160x142.size a := fun i k0_t2 v774 v786 k0_hw511 k0_h1 => k0_hw511 k0_h1

def k0_chk512 (i : grid0.Coords) (k0_t2 : Fin k0_t2_loop.trips) (v774 : IVec S16 32) (v789 : IVec S16 32) : Prop :=
  (∀ (k0_h1 : k0_cond1 i k0_t2 = 1#1), ∀ a x, ((![v789, v774] : Fin 2 → IVec S16 32) a x).toNat < S160x142.size a)
theorem k0_idx756_inb : ∀ (i : grid0.Coords) (k0_t2 : Fin k0_t2_loop.trips) (v774 : IVec S16 32) (v789 : IVec S16 32) (k0_hw512 : k0_chk512 i k0_t2 v774 v789), ∀ (k0_h1 : k0_cond1 i k0_t2 = 1#1), ∀ a x, ((![v789, v774] : Fin 2 → IVec S16 32) a x).toNat < S160x142.size a := fun i k0_t2 v774 v789 k0_hw512 k0_h1 => k0_hw512 k0_h1

def k0_chk513 (i : grid0.Coords) (k0_t2 : Fin k0_t2_loop.trips) (v774 : IVec S16 32) (v792 : IVec S16 32) : Prop :=
  (∀ (k0_h1 : k0_cond1 i k0_t2 = 1#1), ∀ a x, ((![v792, v774] : Fin 2 → IVec S16 32) a x).toNat < S160x142.size a)
theorem k0_idx758_inb : ∀ (i : grid0.Coords) (k0_t2 : Fin k0_t2_loop.trips) (v774 : IVec S16 32) (v792 : IVec S16 32) (k0_hw513 : k0_chk513 i k0_t2 v774 v792), ∀ (k0_h1 : k0_cond1 i k0_t2 = 1#1), ∀ a x, ((![v792, v774] : Fin 2 → IVec S16 32) a x).toNat < S160x142.size a := fun i k0_t2 v774 v792 k0_hw513 k0_h1 => k0_hw513 k0_h1

def k0_chk514 (i : grid0.Coords) (k0_t2 : Fin k0_t2_loop.trips) (v774 : IVec S16 32) (v795 : IVec S16 32) : Prop :=
  (∀ (k0_h1 : k0_cond1 i k0_t2 = 1#1), ∀ a x, ((![v795, v774] : Fin 2 → IVec S16 32) a x).toNat < S160x142.size a)
theorem k0_idx760_inb : ∀ (i : grid0.Coords) (k0_t2 : Fin k0_t2_loop.trips) (v774 : IVec S16 32) (v795 : IVec S16 32) (k0_hw514 : k0_chk514 i k0_t2 v774 v795), ∀ (k0_h1 : k0_cond1 i k0_t2 = 1#1), ∀ a x, ((![v795, v774] : Fin 2 → IVec S16 32) a x).toNat < S160x142.size a := fun i k0_t2 v774 v795 k0_hw514 k0_h1 => k0_hw514 k0_h1

def k0_chk515 (i : grid0.Coords) (k0_t2 : Fin k0_t2_loop.trips) (v774 : IVec S16 32) (v798 : IVec S16 32) : Prop :=
  (∀ (k0_h1 : k0_cond1 i k0_t2 = 1#1), ∀ a x, ((![v798, v774] : Fin 2 → IVec S16 32) a x).toNat < S160x142.size a)
theorem k0_idx762_inb : ∀ (i : grid0.Coords) (k0_t2 : Fin k0_t2_loop.trips) (v774 : IVec S16 32) (v798 : IVec S16 32) (k0_hw515 : k0_chk515 i k0_t2 v774 v798), ∀ (k0_h1 : k0_cond1 i k0_t2 = 1#1), ∀ a x, ((![v798, v774] : Fin 2 → IVec S16 32) a x).toNat < S160x142.size a := fun i k0_t2 v774 v798 k0_hw515 k0_h1 => k0_hw515 k0_h1

def k0_chk516 (i : grid0.Coords) (k0_t2 : Fin k0_t2_loop.trips) (v774 : IVec S16 32) (v801 : IVec S16 32) : Prop :=
  (∀ (k0_h1 : k0_cond1 i k0_t2 = 1#1), ∀ a x, ((![v801, v774] : Fin 2 → IVec S16 32) a x).toNat < S160x142.size a)
theorem k0_idx764_inb : ∀ (i : grid0.Coords) (k0_t2 : Fin k0_t2_loop.trips) (v774 : IVec S16 32) (v801 : IVec S16 32) (k0_hw516 : k0_chk516 i k0_t2 v774 v801), ∀ (k0_h1 : k0_cond1 i k0_t2 = 1#1), ∀ a x, ((![v801, v774] : Fin 2 → IVec S16 32) a x).toNat < S160x142.size a := fun i k0_t2 v774 v801 k0_hw516 k0_h1 => k0_hw516 k0_h1

def k0_chk507 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) : Prop :=
  (∀ (k0_h1 : k0_cond1 i k0_t2 = 1#1), ∀ a x, ((![v15, v774] : Fin 2 → IVec S16 32) a x).toNat < S256x142.size a) ∧
  (∀ (k0_h1 : k0_cond1 i k0_t2 = 1#1), ∀ a x, ((![v20, v774] : Fin 2 → IVec S16 32) a x).toNat < S256x142.size a) ∧
  (∀ (k0_h1 : k0_cond1 i k0_t2 = 1#1), ∀ a x, ((![v25, v774] : Fin 2 → IVec S16 32) a x).toNat < S256x142.size a) ∧
  (∀ (k0_h1 : k0_cond1 i k0_t2 = 1#1), ∀ a x, ((![v30, v774] : Fin 2 → IVec S16 32) a x).toNat < S256x142.size a) ∧
  (∀ (k0_h1 : k0_cond1 i k0_t2 = 1#1), ∀ a x, ((![v35, v774] : Fin 2 → IVec S16 32) a x).toNat < S256x142.size a) ∧
  (∀ (k0_h1 : k0_cond1 i k0_t2 = 1#1), ∀ a x, ((![v40, v774] : Fin 2 → IVec S16 32) a x).toNat < S256x142.size a) ∧
  (∀ (k0_h1 : k0_cond1 i k0_t2 = 1#1), ∀ a x, ((![v45, v774] : Fin 2 → IVec S16 32) a x).toNat < S256x142.size a) ∧
  (∀ (k0_h1 : k0_cond1 i k0_t2 = 1#1), ∀ a x, ((![v50, v774] : Fin 2 → IVec S16 32) a x).toNat < S256x142.size a) ∧
  (∀ (k0_h1 : k0_cond1 i k0_t2 = 1#1), ∀ a x, ((![v55, v774] : Fin 2 → IVec S16 32) a x).toNat < S256x142.size a) ∧
  (∀ (k0_h1 : k0_cond1 i k0_t2 = 1#1), ∀ a x, ((![v60, v774] : Fin 2 → IVec S16 32) a x).toNat < S256x142.size a)
theorem k0_idx747_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v15, v774] : Fin 2 → IVec S16 32) a x).toNat < S256x142.size a := fun i k0_t2 v15 v20 v25 v30 v35 v40 v45 v50 v55 v60 v774 k0_hw507 k0_h1 => k0_hw507.1 k0_h1
theorem k0_idx749_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v20, v774] : Fin 2 → IVec S16 32) a x).toNat < S256x142.size a := fun i k0_t2 v15 v20 v25 v30 v35 v40 v45 v50 v55 v60 v774 k0_hw507 k0_h1 => k0_hw507.2.1 k0_h1
theorem k0_idx751_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v25, v774] : Fin 2 → IVec S16 32) a x).toNat < S256x142.size a := fun i k0_t2 v15 v20 v25 v30 v35 v40 v45 v50 v55 v60 v774 k0_hw507 k0_h1 => k0_hw507.2.2.1 k0_h1
theorem k0_idx753_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v30, v774] : Fin 2 → IVec S16 32) a x).toNat < S256x142.size a := fun i k0_t2 v15 v20 v25 v30 v35 v40 v45 v50 v55 v60 v774 k0_hw507 k0_h1 => k0_hw507.2.2.2.1 k0_h1
theorem k0_idx755_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v35, v774] : Fin 2 → IVec S16 32) a x).toNat < S256x142.size a := fun i k0_t2 v15 v20 v25 v30 v35 v40 v45 v50 v55 v60 v774 k0_hw507 k0_h1 => k0_hw507.2.2.2.2.1 k0_h1
theorem k0_idx757_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v40, v774] : Fin 2 → IVec S16 32) a x).toNat < S256x142.size a := fun i k0_t2 v15 v20 v25 v30 v35 v40 v45 v50 v55 v60 v774 k0_hw507 k0_h1 => k0_hw507.2.2.2.2.2.1 k0_h1
theorem k0_idx759_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v45, v774] : Fin 2 → IVec S16 32) a x).toNat < S256x142.size a := fun i k0_t2 v15 v20 v25 v30 v35 v40 v45 v50 v55 v60 v774 k0_hw507 k0_h1 => k0_hw507.2.2.2.2.2.2.1 k0_h1
theorem k0_idx761_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v50, v774] : Fin 2 → IVec S16 32) a x).toNat < S256x142.size a := fun i k0_t2 v15 v20 v25 v30 v35 v40 v45 v50 v55 v60 v774 k0_hw507 k0_h1 => k0_hw507.2.2.2.2.2.2.2.1 k0_h1
theorem k0_idx763_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v55, v774] : Fin 2 → IVec S16 32) a x).toNat < S256x142.size a := fun i k0_t2 v15 v20 v25 v30 v35 v40 v45 v50 v55 v60 v774 k0_hw507 k0_h1 => k0_hw507.2.2.2.2.2.2.2.2.1 k0_h1
theorem k0_idx765_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v774 : IVec S16 32) (k0_hw507 : k0_chk507 i k0_t2 v15 v20 v25 v30 v35 v40 v45 v50 v55 v60 v774), ∀ (k0_h1 : k0_cond1 i k0_t2 = 1#1), ∀ a x, ((![v60, v774] : Fin 2 → IVec S16 32) a x).toNat < S256x142.size a := fun i k0_t2 v15 v20 v25 v30 v35 v40 v45 v50 v55 v60 v774 k0_hw507 k0_h1 => k0_hw507.2.2.2.2.2.2.2.2.2 k0_h1

def k0_chk517 (i : grid0.Coords) (k0_t2 : Fin k0_t2_loop.trips) (v774 : IVec S16 32) (v804 : IVec S16 32) : Prop :=
  (∀ (k0_h1 : k0_cond1 i k0_t2 = 1#1), ∀ a x, ((![v804, v774] : Fin 2 → IVec S16 32) a x).toNat < S160x142.size a)
theorem k0_idx766_inb : ∀ (i : grid0.Coords) (k0_t2 : Fin k0_t2_loop.trips) (v774 : IVec S16 32) (v804 : IVec S16 32) (k0_hw517 : k0_chk517 i k0_t2 v774 v804), ∀ (k0_h1 : k0_cond1 i k0_t2 = 1#1), ∀ a x, ((![v804, v774] : Fin 2 → IVec S16 32) a x).toNat < S160x142.size a := fun i k0_t2 v774 v804 k0_hw517 k0_h1 => k0_hw517 k0_h1

def k0_chk519 (i : grid0.Coords) (k0_t2 : Fin k0_t2_loop.trips) (v805 : IVec S16 32) (v808 : IVec S16 32) : Prop :=
  (∀ (k0_h1 : k0_cond1 i k0_t2 = 1#1), ∀ a x, ((![v808, v805] : Fin 2 → IVec S16 32) a x).toNat < S160x142.size a)
theorem k0_idx768_inb : ∀ (i : grid0.Coords) (k0_t2 : Fin k0_t2_loop.trips) (v805 : IVec S16 32) (v808 : IVec S16 32) (k0_hw519 : k0_chk519 i k0_t2 v805 v808), ∀ (k0_h1 : k0_cond1 i k0_t2 = 1#1), ∀ a x, ((![v808, v805] : Fin 2 → IVec S16 32) a x).toNat < S160x142.size a := fun i k0_t2 v805 v808 k0_hw519 k0_h1 => k0_hw519 k0_h1

def k0_chk520 (i : grid0.Coords) (k0_t2 : Fin k0_t2_loop.trips) (v805 : IVec S16 32) (v811 : IVec S16 32) : Prop :=
  (∀ (k0_h1 : k0_cond1 i k0_t2 = 1#1), ∀ a x, ((![v811, v805] : Fin 2 → IVec S16 32) a x).toNat < S160x142.size a)
theorem k0_idx770_inb : ∀ (i : grid0.Coords) (k0_t2 : Fin k0_t2_loop.trips) (v805 : IVec S16 32) (v811 : IVec S16 32) (k0_hw520 : k0_chk520 i k0_t2 v805 v811), ∀ (k0_h1 : k0_cond1 i k0_t2 = 1#1), ∀ a x, ((![v811, v805] : Fin 2 → IVec S16 32) a x).toNat < S160x142.size a := fun i k0_t2 v805 v811 k0_hw520 k0_h1 => k0_hw520 k0_h1

def k0_chk521 (i : grid0.Coords) (k0_t2 : Fin k0_t2_loop.trips) (v805 : IVec S16 32) (v814 : IVec S16 32) : Prop :=
  (∀ (k0_h1 : k0_cond1 i k0_t2 = 1#1), ∀ a x, ((![v814, v805] : Fin 2 → IVec S16 32) a x).toNat < S160x142.size a)
theorem k0_idx772_inb : ∀ (i : grid0.Coords) (k0_t2 : Fin k0_t2_loop.trips) (v805 : IVec S16 32) (v814 : IVec S16 32) (k0_hw521 : k0_chk521 i k0_t2 v805 v814), ∀ (k0_h1 : k0_cond1 i k0_t2 = 1#1), ∀ a x, ((![v814, v805] : Fin 2 → IVec S16 32) a x).toNat < S160x142.size a := fun i k0_t2 v805 v814 k0_hw521 k0_h1 => k0_hw521 k0_h1

def k0_chk522 (i : grid0.Coords) (k0_t2 : Fin k0_t2_loop.trips) (v805 : IVec S16 32) (v817 : IVec S16 32) : Prop :=
  (∀ (k0_h1 : k0_cond1 i k0_t2 = 1#1), ∀ a x, ((![v817, v805] : Fin 2 → IVec S16 32) a x).toNat < S160x142.size a)
theorem k0_idx774_inb : ∀ (i : grid0.Coords) (k0_t2 : Fin k0_t2_loop.trips) (v805 : IVec S16 32) (v817 : IVec S16 32) (k0_hw522 : k0_chk522 i k0_t2 v805 v817), ∀ (k0_h1 : k0_cond1 i k0_t2 = 1#1), ∀ a x, ((![v817, v805] : Fin 2 → IVec S16 32) a x).toNat < S160x142.size a := fun i k0_t2 v805 v817 k0_hw522 k0_h1 => k0_hw522 k0_h1

def k0_chk523 (i : grid0.Coords) (k0_t2 : Fin k0_t2_loop.trips) (v805 : IVec S16 32) (v820 : IVec S16 32) : Prop :=
  (∀ (k0_h1 : k0_cond1 i k0_t2 = 1#1), ∀ a x, ((![v820, v805] : Fin 2 → IVec S16 32) a x).toNat < S160x142.size a)
theorem k0_idx776_inb : ∀ (i : grid0.Coords) (k0_t2 : Fin k0_t2_loop.trips) (v805 : IVec S16 32) (v820 : IVec S16 32) (k0_hw523 : k0_chk523 i k0_t2 v805 v820), ∀ (k0_h1 : k0_cond1 i k0_t2 = 1#1), ∀ a x, ((![v820, v805] : Fin 2 → IVec S16 32) a x).toNat < S160x142.size a := fun i k0_t2 v805 v820 k0_hw523 k0_h1 => k0_hw523 k0_h1

def k0_chk524 (i : grid0.Coords) (k0_t2 : Fin k0_t2_loop.trips) (v805 : IVec S16 32) (v823 : IVec S16 32) : Prop :=
  (∀ (k0_h1 : k0_cond1 i k0_t2 = 1#1), ∀ a x, ((![v823, v805] : Fin 2 → IVec S16 32) a x).toNat < S160x142.size a)
theorem k0_idx778_inb : ∀ (i : grid0.Coords) (k0_t2 : Fin k0_t2_loop.trips) (v805 : IVec S16 32) (v823 : IVec S16 32) (k0_hw524 : k0_chk524 i k0_t2 v805 v823), ∀ (k0_h1 : k0_cond1 i k0_t2 = 1#1), ∀ a x, ((![v823, v805] : Fin 2 → IVec S16 32) a x).toNat < S160x142.size a := fun i k0_t2 v805 v823 k0_hw524 k0_h1 => k0_hw524 k0_h1

def k0_chk525 (i : grid0.Coords) (k0_t2 : Fin k0_t2_loop.trips) (v805 : IVec S16 32) (v826 : IVec S16 32) : Prop :=
  (∀ (k0_h1 : k0_cond1 i k0_t2 = 1#1), ∀ a x, ((![v826, v805] : Fin 2 → IVec S16 32) a x).toNat < S160x142.size a)
theorem k0_idx780_inb : ∀ (i : grid0.Coords) (k0_t2 : Fin k0_t2_loop.trips) (v805 : IVec S16 32) (v826 : IVec S16 32) (k0_hw525 : k0_chk525 i k0_t2 v805 v826), ∀ (k0_h1 : k0_cond1 i k0_t2 = 1#1), ∀ a x, ((![v826, v805] : Fin 2 → IVec S16 32) a x).toNat < S160x142.size a := fun i k0_t2 v805 v826 k0_hw525 k0_h1 => k0_hw525 k0_h1

def k0_chk526 (i : grid0.Coords) (k0_t2 : Fin k0_t2_loop.trips) (v805 : IVec S16 32) (v829 : IVec S16 32) : Prop :=
  (∀ (k0_h1 : k0_cond1 i k0_t2 = 1#1), ∀ a x, ((![v829, v805] : Fin 2 → IVec S16 32) a x).toNat < S160x142.size a)
theorem k0_idx782_inb : ∀ (i : grid0.Coords) (k0_t2 : Fin k0_t2_loop.trips) (v805 : IVec S16 32) (v829 : IVec S16 32) (k0_hw526 : k0_chk526 i k0_t2 v805 v829), ∀ (k0_h1 : k0_cond1 i k0_t2 = 1#1), ∀ a x, ((![v829, v805] : Fin 2 → IVec S16 32) a x).toNat < S160x142.size a := fun i k0_t2 v805 v829 k0_hw526 k0_h1 => k0_hw526 k0_h1

def k0_chk527 (i : grid0.Coords) (k0_t2 : Fin k0_t2_loop.trips) (v805 : IVec S16 32) (v832 : IVec S16 32) : Prop :=
  (∀ (k0_h1 : k0_cond1 i k0_t2 = 1#1), ∀ a x, ((![v832, v805] : Fin 2 → IVec S16 32) a x).toNat < S160x142.size a)
theorem k0_idx784_inb : ∀ (i : grid0.Coords) (k0_t2 : Fin k0_t2_loop.trips) (v805 : IVec S16 32) (v832 : IVec S16 32) (k0_hw527 : k0_chk527 i k0_t2 v805 v832), ∀ (k0_h1 : k0_cond1 i k0_t2 = 1#1), ∀ a x, ((![v832, v805] : Fin 2 → IVec S16 32) a x).toNat < S160x142.size a := fun i k0_t2 v805 v832 k0_hw527 k0_h1 => k0_hw527 k0_h1

def k0_chk518 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) : Prop :=
  (∀ (k0_h1 : k0_cond1 i k0_t2 = 1#1), ∀ a x, ((![v15, v805] : Fin 2 → IVec S16 32) a x).toNat < S256x142.size a) ∧
  (∀ (k0_h1 : k0_cond1 i k0_t2 = 1#1), ∀ a x, ((![v20, v805] : Fin 2 → IVec S16 32) a x).toNat < S256x142.size a) ∧
  (∀ (k0_h1 : k0_cond1 i k0_t2 = 1#1), ∀ a x, ((![v25, v805] : Fin 2 → IVec S16 32) a x).toNat < S256x142.size a) ∧
  (∀ (k0_h1 : k0_cond1 i k0_t2 = 1#1), ∀ a x, ((![v30, v805] : Fin 2 → IVec S16 32) a x).toNat < S256x142.size a) ∧
  (∀ (k0_h1 : k0_cond1 i k0_t2 = 1#1), ∀ a x, ((![v35, v805] : Fin 2 → IVec S16 32) a x).toNat < S256x142.size a) ∧
  (∀ (k0_h1 : k0_cond1 i k0_t2 = 1#1), ∀ a x, ((![v40, v805] : Fin 2 → IVec S16 32) a x).toNat < S256x142.size a) ∧
  (∀ (k0_h1 : k0_cond1 i k0_t2 = 1#1), ∀ a x, ((![v45, v805] : Fin 2 → IVec S16 32) a x).toNat < S256x142.size a) ∧
  (∀ (k0_h1 : k0_cond1 i k0_t2 = 1#1), ∀ a x, ((![v50, v805] : Fin 2 → IVec S16 32) a x).toNat < S256x142.size a) ∧
  (∀ (k0_h1 : k0_cond1 i k0_t2 = 1#1), ∀ a x, ((![v55, v805] : Fin 2 → IVec S16 32) a x).toNat < S256x142.size a) ∧
  (∀ (k0_h1 : k0_cond1 i k0_t2 = 1#1), ∀ a x, ((![v60, v805] : Fin 2 → IVec S16 32) a x).toNat < S256x142.size a)
theorem k0_idx767_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v15, v805] : Fin 2 → IVec S16 32) a x).toNat < S256x142.size a := fun i k0_t2 v15 v20 v25 v30 v35 v40 v45 v50 v55 v60 v805 k0_hw518 k0_h1 => k0_hw518.1 k0_h1
theorem k0_idx769_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v20, v805] : Fin 2 → IVec S16 32) a x).toNat < S256x142.size a := fun i k0_t2 v15 v20 v25 v30 v35 v40 v45 v50 v55 v60 v805 k0_hw518 k0_h1 => k0_hw518.2.1 k0_h1
theorem k0_idx771_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v25, v805] : Fin 2 → IVec S16 32) a x).toNat < S256x142.size a := fun i k0_t2 v15 v20 v25 v30 v35 v40 v45 v50 v55 v60 v805 k0_hw518 k0_h1 => k0_hw518.2.2.1 k0_h1
theorem k0_idx773_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v30, v805] : Fin 2 → IVec S16 32) a x).toNat < S256x142.size a := fun i k0_t2 v15 v20 v25 v30 v35 v40 v45 v50 v55 v60 v805 k0_hw518 k0_h1 => k0_hw518.2.2.2.1 k0_h1
theorem k0_idx775_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v35, v805] : Fin 2 → IVec S16 32) a x).toNat < S256x142.size a := fun i k0_t2 v15 v20 v25 v30 v35 v40 v45 v50 v55 v60 v805 k0_hw518 k0_h1 => k0_hw518.2.2.2.2.1 k0_h1
theorem k0_idx777_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v40, v805] : Fin 2 → IVec S16 32) a x).toNat < S256x142.size a := fun i k0_t2 v15 v20 v25 v30 v35 v40 v45 v50 v55 v60 v805 k0_hw518 k0_h1 => k0_hw518.2.2.2.2.2.1 k0_h1
theorem k0_idx779_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v45, v805] : Fin 2 → IVec S16 32) a x).toNat < S256x142.size a := fun i k0_t2 v15 v20 v25 v30 v35 v40 v45 v50 v55 v60 v805 k0_hw518 k0_h1 => k0_hw518.2.2.2.2.2.2.1 k0_h1
theorem k0_idx781_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v50, v805] : Fin 2 → IVec S16 32) a x).toNat < S256x142.size a := fun i k0_t2 v15 v20 v25 v30 v35 v40 v45 v50 v55 v60 v805 k0_hw518 k0_h1 => k0_hw518.2.2.2.2.2.2.2.1 k0_h1
theorem k0_idx783_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v55, v805] : Fin 2 → IVec S16 32) a x).toNat < S256x142.size a := fun i k0_t2 v15 v20 v25 v30 v35 v40 v45 v50 v55 v60 v805 k0_hw518 k0_h1 => k0_hw518.2.2.2.2.2.2.2.2.1 k0_h1
theorem k0_idx785_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v805 : IVec S16 32) (k0_hw518 : k0_chk518 i k0_t2 v15 v20 v25 v30 v35 v40 v45 v50 v55 v60 v805), ∀ (k0_h1 : k0_cond1 i k0_t2 = 1#1), ∀ a x, ((![v60, v805] : Fin 2 → IVec S16 32) a x).toNat < S256x142.size a := fun i k0_t2 v15 v20 v25 v30 v35 v40 v45 v50 v55 v60 v805 k0_hw518 k0_h1 => k0_hw518.2.2.2.2.2.2.2.2.2 k0_h1

def k0_chk528 (i : grid0.Coords) (k0_t2 : Fin k0_t2_loop.trips) (v805 : IVec S16 32) (v835 : IVec S16 32) : Prop :=
  (∀ (k0_h1 : k0_cond1 i k0_t2 = 1#1), ∀ a x, ((![v835, v805] : Fin 2 → IVec S16 32) a x).toNat < S160x142.size a)
theorem k0_idx786_inb : ∀ (i : grid0.Coords) (k0_t2 : Fin k0_t2_loop.trips) (v805 : IVec S16 32) (v835 : IVec S16 32) (k0_hw528 : k0_chk528 i k0_t2 v805 v835), ∀ (k0_h1 : k0_cond1 i k0_t2 = 1#1), ∀ a x, ((![v835, v805] : Fin 2 → IVec S16 32) a x).toNat < S160x142.size a := fun i k0_t2 v805 v835 k0_hw528 k0_h1 => k0_hw528 k0_h1

def k0_chk530 (i : grid0.Coords) (k0_t2 : Fin k0_t2_loop.trips) (v836 : IVec S16 32) (v839 : IVec S16 32) : Prop :=
  (∀ (k0_h1 : k0_cond1 i k0_t2 = 1#1), ∀ a x, ((![v839, v836] : Fin 2 → IVec S16 32) a x).toNat < S160x142.size a)
theorem k0_idx788_inb : ∀ (i : grid0.Coords) (k0_t2 : Fin k0_t2_loop.trips) (v836 : IVec S16 32) (v839 : IVec S16 32) (k0_hw530 : k0_chk530 i k0_t2 v836 v839), ∀ (k0_h1 : k0_cond1 i k0_t2 = 1#1), ∀ a x, ((![v839, v836] : Fin 2 → IVec S16 32) a x).toNat < S160x142.size a := fun i k0_t2 v836 v839 k0_hw530 k0_h1 => k0_hw530 k0_h1

def k0_chk531 (i : grid0.Coords) (k0_t2 : Fin k0_t2_loop.trips) (v836 : IVec S16 32) (v842 : IVec S16 32) : Prop :=
  (∀ (k0_h1 : k0_cond1 i k0_t2 = 1#1), ∀ a x, ((![v842, v836] : Fin 2 → IVec S16 32) a x).toNat < S160x142.size a)
theorem k0_idx790_inb : ∀ (i : grid0.Coords) (k0_t2 : Fin k0_t2_loop.trips) (v836 : IVec S16 32) (v842 : IVec S16 32) (k0_hw531 : k0_chk531 i k0_t2 v836 v842), ∀ (k0_h1 : k0_cond1 i k0_t2 = 1#1), ∀ a x, ((![v842, v836] : Fin 2 → IVec S16 32) a x).toNat < S160x142.size a := fun i k0_t2 v836 v842 k0_hw531 k0_h1 => k0_hw531 k0_h1

def k0_chk532 (i : grid0.Coords) (k0_t2 : Fin k0_t2_loop.trips) (v836 : IVec S16 32) (v845 : IVec S16 32) : Prop :=
  (∀ (k0_h1 : k0_cond1 i k0_t2 = 1#1), ∀ a x, ((![v845, v836] : Fin 2 → IVec S16 32) a x).toNat < S160x142.size a)
theorem k0_idx792_inb : ∀ (i : grid0.Coords) (k0_t2 : Fin k0_t2_loop.trips) (v836 : IVec S16 32) (v845 : IVec S16 32) (k0_hw532 : k0_chk532 i k0_t2 v836 v845), ∀ (k0_h1 : k0_cond1 i k0_t2 = 1#1), ∀ a x, ((![v845, v836] : Fin 2 → IVec S16 32) a x).toNat < S160x142.size a := fun i k0_t2 v836 v845 k0_hw532 k0_h1 => k0_hw532 k0_h1

def k0_chk533 (i : grid0.Coords) (k0_t2 : Fin k0_t2_loop.trips) (v836 : IVec S16 32) (v848 : IVec S16 32) : Prop :=
  (∀ (k0_h1 : k0_cond1 i k0_t2 = 1#1), ∀ a x, ((![v848, v836] : Fin 2 → IVec S16 32) a x).toNat < S160x142.size a)
theorem k0_idx794_inb : ∀ (i : grid0.Coords) (k0_t2 : Fin k0_t2_loop.trips) (v836 : IVec S16 32) (v848 : IVec S16 32) (k0_hw533 : k0_chk533 i k0_t2 v836 v848), ∀ (k0_h1 : k0_cond1 i k0_t2 = 1#1), ∀ a x, ((![v848, v836] : Fin 2 → IVec S16 32) a x).toNat < S160x142.size a := fun i k0_t2 v836 v848 k0_hw533 k0_h1 => k0_hw533 k0_h1

def k0_chk534 (i : grid0.Coords) (k0_t2 : Fin k0_t2_loop.trips) (v836 : IVec S16 32) (v851 : IVec S16 32) : Prop :=
  (∀ (k0_h1 : k0_cond1 i k0_t2 = 1#1), ∀ a x, ((![v851, v836] : Fin 2 → IVec S16 32) a x).toNat < S160x142.size a)
theorem k0_idx796_inb : ∀ (i : grid0.Coords) (k0_t2 : Fin k0_t2_loop.trips) (v836 : IVec S16 32) (v851 : IVec S16 32) (k0_hw534 : k0_chk534 i k0_t2 v836 v851), ∀ (k0_h1 : k0_cond1 i k0_t2 = 1#1), ∀ a x, ((![v851, v836] : Fin 2 → IVec S16 32) a x).toNat < S160x142.size a := fun i k0_t2 v836 v851 k0_hw534 k0_h1 => k0_hw534 k0_h1

def k0_chk535 (i : grid0.Coords) (k0_t2 : Fin k0_t2_loop.trips) (v836 : IVec S16 32) (v854 : IVec S16 32) : Prop :=
  (∀ (k0_h1 : k0_cond1 i k0_t2 = 1#1), ∀ a x, ((![v854, v836] : Fin 2 → IVec S16 32) a x).toNat < S160x142.size a)
theorem k0_idx798_inb : ∀ (i : grid0.Coords) (k0_t2 : Fin k0_t2_loop.trips) (v836 : IVec S16 32) (v854 : IVec S16 32) (k0_hw535 : k0_chk535 i k0_t2 v836 v854), ∀ (k0_h1 : k0_cond1 i k0_t2 = 1#1), ∀ a x, ((![v854, v836] : Fin 2 → IVec S16 32) a x).toNat < S160x142.size a := fun i k0_t2 v836 v854 k0_hw535 k0_h1 => k0_hw535 k0_h1

def k0_chk536 (i : grid0.Coords) (k0_t2 : Fin k0_t2_loop.trips) (v836 : IVec S16 32) (v857 : IVec S16 32) : Prop :=
  (∀ (k0_h1 : k0_cond1 i k0_t2 = 1#1), ∀ a x, ((![v857, v836] : Fin 2 → IVec S16 32) a x).toNat < S160x142.size a)
theorem k0_idx800_inb : ∀ (i : grid0.Coords) (k0_t2 : Fin k0_t2_loop.trips) (v836 : IVec S16 32) (v857 : IVec S16 32) (k0_hw536 : k0_chk536 i k0_t2 v836 v857), ∀ (k0_h1 : k0_cond1 i k0_t2 = 1#1), ∀ a x, ((![v857, v836] : Fin 2 → IVec S16 32) a x).toNat < S160x142.size a := fun i k0_t2 v836 v857 k0_hw536 k0_h1 => k0_hw536 k0_h1

def k0_chk537 (i : grid0.Coords) (k0_t2 : Fin k0_t2_loop.trips) (v836 : IVec S16 32) (v860 : IVec S16 32) : Prop :=
  (∀ (k0_h1 : k0_cond1 i k0_t2 = 1#1), ∀ a x, ((![v860, v836] : Fin 2 → IVec S16 32) a x).toNat < S160x142.size a)
theorem k0_idx802_inb : ∀ (i : grid0.Coords) (k0_t2 : Fin k0_t2_loop.trips) (v836 : IVec S16 32) (v860 : IVec S16 32) (k0_hw537 : k0_chk537 i k0_t2 v836 v860), ∀ (k0_h1 : k0_cond1 i k0_t2 = 1#1), ∀ a x, ((![v860, v836] : Fin 2 → IVec S16 32) a x).toNat < S160x142.size a := fun i k0_t2 v836 v860 k0_hw537 k0_h1 => k0_hw537 k0_h1

def k0_chk538 (i : grid0.Coords) (k0_t2 : Fin k0_t2_loop.trips) (v836 : IVec S16 32) (v863 : IVec S16 32) : Prop :=
  (∀ (k0_h1 : k0_cond1 i k0_t2 = 1#1), ∀ a x, ((![v863, v836] : Fin 2 → IVec S16 32) a x).toNat < S160x142.size a)
theorem k0_idx804_inb : ∀ (i : grid0.Coords) (k0_t2 : Fin k0_t2_loop.trips) (v836 : IVec S16 32) (v863 : IVec S16 32) (k0_hw538 : k0_chk538 i k0_t2 v836 v863), ∀ (k0_h1 : k0_cond1 i k0_t2 = 1#1), ∀ a x, ((![v863, v836] : Fin 2 → IVec S16 32) a x).toNat < S160x142.size a := fun i k0_t2 v836 v863 k0_hw538 k0_h1 => k0_hw538 k0_h1

def k0_chk529 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) : Prop :=
  (∀ (k0_h1 : k0_cond1 i k0_t2 = 1#1), ∀ a x, ((![v15, v836] : Fin 2 → IVec S16 32) a x).toNat < S256x142.size a) ∧
  (∀ (k0_h1 : k0_cond1 i k0_t2 = 1#1), ∀ a x, ((![v20, v836] : Fin 2 → IVec S16 32) a x).toNat < S256x142.size a) ∧
  (∀ (k0_h1 : k0_cond1 i k0_t2 = 1#1), ∀ a x, ((![v25, v836] : Fin 2 → IVec S16 32) a x).toNat < S256x142.size a) ∧
  (∀ (k0_h1 : k0_cond1 i k0_t2 = 1#1), ∀ a x, ((![v30, v836] : Fin 2 → IVec S16 32) a x).toNat < S256x142.size a) ∧
  (∀ (k0_h1 : k0_cond1 i k0_t2 = 1#1), ∀ a x, ((![v35, v836] : Fin 2 → IVec S16 32) a x).toNat < S256x142.size a) ∧
  (∀ (k0_h1 : k0_cond1 i k0_t2 = 1#1), ∀ a x, ((![v40, v836] : Fin 2 → IVec S16 32) a x).toNat < S256x142.size a) ∧
  (∀ (k0_h1 : k0_cond1 i k0_t2 = 1#1), ∀ a x, ((![v45, v836] : Fin 2 → IVec S16 32) a x).toNat < S256x142.size a) ∧
  (∀ (k0_h1 : k0_cond1 i k0_t2 = 1#1), ∀ a x, ((![v50, v836] : Fin 2 → IVec S16 32) a x).toNat < S256x142.size a) ∧
  (∀ (k0_h1 : k0_cond1 i k0_t2 = 1#1), ∀ a x, ((![v55, v836] : Fin 2 → IVec S16 32) a x).toNat < S256x142.size a) ∧
  (∀ (k0_h1 : k0_cond1 i k0_t2 = 1#1), ∀ a x, ((![v60, v836] : Fin 2 → IVec S16 32) a x).toNat < S256x142.size a)
theorem k0_idx787_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v15, v836] : Fin 2 → IVec S16 32) a x).toNat < S256x142.size a := fun i k0_t2 v15 v20 v25 v30 v35 v40 v45 v50 v55 v60 v836 k0_hw529 k0_h1 => k0_hw529.1 k0_h1
theorem k0_idx789_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v20, v836] : Fin 2 → IVec S16 32) a x).toNat < S256x142.size a := fun i k0_t2 v15 v20 v25 v30 v35 v40 v45 v50 v55 v60 v836 k0_hw529 k0_h1 => k0_hw529.2.1 k0_h1
theorem k0_idx791_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v25, v836] : Fin 2 → IVec S16 32) a x).toNat < S256x142.size a := fun i k0_t2 v15 v20 v25 v30 v35 v40 v45 v50 v55 v60 v836 k0_hw529 k0_h1 => k0_hw529.2.2.1 k0_h1
theorem k0_idx793_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v30, v836] : Fin 2 → IVec S16 32) a x).toNat < S256x142.size a := fun i k0_t2 v15 v20 v25 v30 v35 v40 v45 v50 v55 v60 v836 k0_hw529 k0_h1 => k0_hw529.2.2.2.1 k0_h1
theorem k0_idx795_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v35, v836] : Fin 2 → IVec S16 32) a x).toNat < S256x142.size a := fun i k0_t2 v15 v20 v25 v30 v35 v40 v45 v50 v55 v60 v836 k0_hw529 k0_h1 => k0_hw529.2.2.2.2.1 k0_h1
theorem k0_idx797_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v40, v836] : Fin 2 → IVec S16 32) a x).toNat < S256x142.size a := fun i k0_t2 v15 v20 v25 v30 v35 v40 v45 v50 v55 v60 v836 k0_hw529 k0_h1 => k0_hw529.2.2.2.2.2.1 k0_h1
theorem k0_idx799_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v45, v836] : Fin 2 → IVec S16 32) a x).toNat < S256x142.size a := fun i k0_t2 v15 v20 v25 v30 v35 v40 v45 v50 v55 v60 v836 k0_hw529 k0_h1 => k0_hw529.2.2.2.2.2.2.1 k0_h1
theorem k0_idx801_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v50, v836] : Fin 2 → IVec S16 32) a x).toNat < S256x142.size a := fun i k0_t2 v15 v20 v25 v30 v35 v40 v45 v50 v55 v60 v836 k0_hw529 k0_h1 => k0_hw529.2.2.2.2.2.2.2.1 k0_h1
theorem k0_idx803_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v55, v836] : Fin 2 → IVec S16 32) a x).toNat < S256x142.size a := fun i k0_t2 v15 v20 v25 v30 v35 v40 v45 v50 v55 v60 v836 k0_hw529 k0_h1 => k0_hw529.2.2.2.2.2.2.2.2.1 k0_h1
theorem k0_idx805_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v836 : IVec S16 32) (k0_hw529 : k0_chk529 i k0_t2 v15 v20 v25 v30 v35 v40 v45 v50 v55 v60 v836), ∀ (k0_h1 : k0_cond1 i k0_t2 = 1#1), ∀ a x, ((![v60, v836] : Fin 2 → IVec S16 32) a x).toNat < S256x142.size a := fun i k0_t2 v15 v20 v25 v30 v35 v40 v45 v50 v55 v60 v836 k0_hw529 k0_h1 => k0_hw529.2.2.2.2.2.2.2.2.2 k0_h1

def k0_chk539 (i : grid0.Coords) (k0_t2 : Fin k0_t2_loop.trips) (v836 : IVec S16 32) (v866 : IVec S16 32) : Prop :=
  (∀ (k0_h1 : k0_cond1 i k0_t2 = 1#1), ∀ a x, ((![v866, v836] : Fin 2 → IVec S16 32) a x).toNat < S160x142.size a)
theorem k0_idx806_inb : ∀ (i : grid0.Coords) (k0_t2 : Fin k0_t2_loop.trips) (v836 : IVec S16 32) (v866 : IVec S16 32) (k0_hw539 : k0_chk539 i k0_t2 v836 v866), ∀ (k0_h1 : k0_cond1 i k0_t2 = 1#1), ∀ a x, ((![v866, v836] : Fin 2 → IVec S16 32) a x).toNat < S160x142.size a := fun i k0_t2 v836 v866 k0_hw539 k0_h1 => k0_hw539 k0_h1

def k0_chk541 (i : grid0.Coords) (k0_t2 : Fin k0_t2_loop.trips) (v867 : IVec S16 32) (v870 : IVec S16 32) : Prop :=
  (∀ (k0_h1 : k0_cond1 i k0_t2 = 1#1), ∀ a x, ((![v870, v867] : Fin 2 → IVec S16 32) a x).toNat < S160x142.size a)
theorem k0_idx808_inb : ∀ (i : grid0.Coords) (k0_t2 : Fin k0_t2_loop.trips) (v867 : IVec S16 32) (v870 : IVec S16 32) (k0_hw541 : k0_chk541 i k0_t2 v867 v870), ∀ (k0_h1 : k0_cond1 i k0_t2 = 1#1), ∀ a x, ((![v870, v867] : Fin 2 → IVec S16 32) a x).toNat < S160x142.size a := fun i k0_t2 v867 v870 k0_hw541 k0_h1 => k0_hw541 k0_h1

def k0_chk542 (i : grid0.Coords) (k0_t2 : Fin k0_t2_loop.trips) (v867 : IVec S16 32) (v873 : IVec S16 32) : Prop :=
  (∀ (k0_h1 : k0_cond1 i k0_t2 = 1#1), ∀ a x, ((![v873, v867] : Fin 2 → IVec S16 32) a x).toNat < S160x142.size a)
theorem k0_idx810_inb : ∀ (i : grid0.Coords) (k0_t2 : Fin k0_t2_loop.trips) (v867 : IVec S16 32) (v873 : IVec S16 32) (k0_hw542 : k0_chk542 i k0_t2 v867 v873), ∀ (k0_h1 : k0_cond1 i k0_t2 = 1#1), ∀ a x, ((![v873, v867] : Fin 2 → IVec S16 32) a x).toNat < S160x142.size a := fun i k0_t2 v867 v873 k0_hw542 k0_h1 => k0_hw542 k0_h1

def k0_chk543 (i : grid0.Coords) (k0_t2 : Fin k0_t2_loop.trips) (v867 : IVec S16 32) (v876 : IVec S16 32) : Prop :=
  (∀ (k0_h1 : k0_cond1 i k0_t2 = 1#1), ∀ a x, ((![v876, v867] : Fin 2 → IVec S16 32) a x).toNat < S160x142.size a)
theorem k0_idx812_inb : ∀ (i : grid0.Coords) (k0_t2 : Fin k0_t2_loop.trips) (v867 : IVec S16 32) (v876 : IVec S16 32) (k0_hw543 : k0_chk543 i k0_t2 v867 v876), ∀ (k0_h1 : k0_cond1 i k0_t2 = 1#1), ∀ a x, ((![v876, v867] : Fin 2 → IVec S16 32) a x).toNat < S160x142.size a := fun i k0_t2 v867 v876 k0_hw543 k0_h1 => k0_hw543 k0_h1

def k0_chk544 (i : grid0.Coords) (k0_t2 : Fin k0_t2_loop.trips) (v867 : IVec S16 32) (v879 : IVec S16 32) : Prop :=
  (∀ (k0_h1 : k0_cond1 i k0_t2 = 1#1), ∀ a x, ((![v879, v867] : Fin 2 → IVec S16 32) a x).toNat < S160x142.size a)
theorem k0_idx814_inb : ∀ (i : grid0.Coords) (k0_t2 : Fin k0_t2_loop.trips) (v867 : IVec S16 32) (v879 : IVec S16 32) (k0_hw544 : k0_chk544 i k0_t2 v867 v879), ∀ (k0_h1 : k0_cond1 i k0_t2 = 1#1), ∀ a x, ((![v879, v867] : Fin 2 → IVec S16 32) a x).toNat < S160x142.size a := fun i k0_t2 v867 v879 k0_hw544 k0_h1 => k0_hw544 k0_h1

def k0_chk545 (i : grid0.Coords) (k0_t2 : Fin k0_t2_loop.trips) (v867 : IVec S16 32) (v882 : IVec S16 32) : Prop :=
  (∀ (k0_h1 : k0_cond1 i k0_t2 = 1#1), ∀ a x, ((![v882, v867] : Fin 2 → IVec S16 32) a x).toNat < S160x142.size a)
theorem k0_idx816_inb : ∀ (i : grid0.Coords) (k0_t2 : Fin k0_t2_loop.trips) (v867 : IVec S16 32) (v882 : IVec S16 32) (k0_hw545 : k0_chk545 i k0_t2 v867 v882), ∀ (k0_h1 : k0_cond1 i k0_t2 = 1#1), ∀ a x, ((![v882, v867] : Fin 2 → IVec S16 32) a x).toNat < S160x142.size a := fun i k0_t2 v867 v882 k0_hw545 k0_h1 => k0_hw545 k0_h1

def k0_chk546 (i : grid0.Coords) (k0_t2 : Fin k0_t2_loop.trips) (v867 : IVec S16 32) (v885 : IVec S16 32) : Prop :=
  (∀ (k0_h1 : k0_cond1 i k0_t2 = 1#1), ∀ a x, ((![v885, v867] : Fin 2 → IVec S16 32) a x).toNat < S160x142.size a)
theorem k0_idx818_inb : ∀ (i : grid0.Coords) (k0_t2 : Fin k0_t2_loop.trips) (v867 : IVec S16 32) (v885 : IVec S16 32) (k0_hw546 : k0_chk546 i k0_t2 v867 v885), ∀ (k0_h1 : k0_cond1 i k0_t2 = 1#1), ∀ a x, ((![v885, v867] : Fin 2 → IVec S16 32) a x).toNat < S160x142.size a := fun i k0_t2 v867 v885 k0_hw546 k0_h1 => k0_hw546 k0_h1

def k0_chk547 (i : grid0.Coords) (k0_t2 : Fin k0_t2_loop.trips) (v867 : IVec S16 32) (v888 : IVec S16 32) : Prop :=
  (∀ (k0_h1 : k0_cond1 i k0_t2 = 1#1), ∀ a x, ((![v888, v867] : Fin 2 → IVec S16 32) a x).toNat < S160x142.size a)
theorem k0_idx820_inb : ∀ (i : grid0.Coords) (k0_t2 : Fin k0_t2_loop.trips) (v867 : IVec S16 32) (v888 : IVec S16 32) (k0_hw547 : k0_chk547 i k0_t2 v867 v888), ∀ (k0_h1 : k0_cond1 i k0_t2 = 1#1), ∀ a x, ((![v888, v867] : Fin 2 → IVec S16 32) a x).toNat < S160x142.size a := fun i k0_t2 v867 v888 k0_hw547 k0_h1 => k0_hw547 k0_h1

def k0_chk548 (i : grid0.Coords) (k0_t2 : Fin k0_t2_loop.trips) (v867 : IVec S16 32) (v891 : IVec S16 32) : Prop :=
  (∀ (k0_h1 : k0_cond1 i k0_t2 = 1#1), ∀ a x, ((![v891, v867] : Fin 2 → IVec S16 32) a x).toNat < S160x142.size a)
theorem k0_idx822_inb : ∀ (i : grid0.Coords) (k0_t2 : Fin k0_t2_loop.trips) (v867 : IVec S16 32) (v891 : IVec S16 32) (k0_hw548 : k0_chk548 i k0_t2 v867 v891), ∀ (k0_h1 : k0_cond1 i k0_t2 = 1#1), ∀ a x, ((![v891, v867] : Fin 2 → IVec S16 32) a x).toNat < S160x142.size a := fun i k0_t2 v867 v891 k0_hw548 k0_h1 => k0_hw548 k0_h1

def k0_chk549 (i : grid0.Coords) (k0_t2 : Fin k0_t2_loop.trips) (v867 : IVec S16 32) (v894 : IVec S16 32) : Prop :=
  (∀ (k0_h1 : k0_cond1 i k0_t2 = 1#1), ∀ a x, ((![v894, v867] : Fin 2 → IVec S16 32) a x).toNat < S160x142.size a)
theorem k0_idx824_inb : ∀ (i : grid0.Coords) (k0_t2 : Fin k0_t2_loop.trips) (v867 : IVec S16 32) (v894 : IVec S16 32) (k0_hw549 : k0_chk549 i k0_t2 v867 v894), ∀ (k0_h1 : k0_cond1 i k0_t2 = 1#1), ∀ a x, ((![v894, v867] : Fin 2 → IVec S16 32) a x).toNat < S160x142.size a := fun i k0_t2 v867 v894 k0_hw549 k0_h1 => k0_hw549 k0_h1

def k0_chk540 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) : Prop :=
  (∀ (k0_h1 : k0_cond1 i k0_t2 = 1#1), ∀ a x, ((![v15, v867] : Fin 2 → IVec S16 32) a x).toNat < S256x142.size a) ∧
  (∀ (k0_h1 : k0_cond1 i k0_t2 = 1#1), ∀ a x, ((![v20, v867] : Fin 2 → IVec S16 32) a x).toNat < S256x142.size a) ∧
  (∀ (k0_h1 : k0_cond1 i k0_t2 = 1#1), ∀ a x, ((![v25, v867] : Fin 2 → IVec S16 32) a x).toNat < S256x142.size a) ∧
  (∀ (k0_h1 : k0_cond1 i k0_t2 = 1#1), ∀ a x, ((![v30, v867] : Fin 2 → IVec S16 32) a x).toNat < S256x142.size a) ∧
  (∀ (k0_h1 : k0_cond1 i k0_t2 = 1#1), ∀ a x, ((![v35, v867] : Fin 2 → IVec S16 32) a x).toNat < S256x142.size a) ∧
  (∀ (k0_h1 : k0_cond1 i k0_t2 = 1#1), ∀ a x, ((![v40, v867] : Fin 2 → IVec S16 32) a x).toNat < S256x142.size a) ∧
  (∀ (k0_h1 : k0_cond1 i k0_t2 = 1#1), ∀ a x, ((![v45, v867] : Fin 2 → IVec S16 32) a x).toNat < S256x142.size a) ∧
  (∀ (k0_h1 : k0_cond1 i k0_t2 = 1#1), ∀ a x, ((![v50, v867] : Fin 2 → IVec S16 32) a x).toNat < S256x142.size a) ∧
  (∀ (k0_h1 : k0_cond1 i k0_t2 = 1#1), ∀ a x, ((![v55, v867] : Fin 2 → IVec S16 32) a x).toNat < S256x142.size a) ∧
  (∀ (k0_h1 : k0_cond1 i k0_t2 = 1#1), ∀ a x, ((![v60, v867] : Fin 2 → IVec S16 32) a x).toNat < S256x142.size a)
theorem k0_idx807_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v15, v867] : Fin 2 → IVec S16 32) a x).toNat < S256x142.size a := fun i k0_t2 v15 v20 v25 v30 v35 v40 v45 v50 v55 v60 v867 k0_hw540 k0_h1 => k0_hw540.1 k0_h1
theorem k0_idx809_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v20, v867] : Fin 2 → IVec S16 32) a x).toNat < S256x142.size a := fun i k0_t2 v15 v20 v25 v30 v35 v40 v45 v50 v55 v60 v867 k0_hw540 k0_h1 => k0_hw540.2.1 k0_h1
theorem k0_idx811_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v25, v867] : Fin 2 → IVec S16 32) a x).toNat < S256x142.size a := fun i k0_t2 v15 v20 v25 v30 v35 v40 v45 v50 v55 v60 v867 k0_hw540 k0_h1 => k0_hw540.2.2.1 k0_h1
theorem k0_idx813_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v30, v867] : Fin 2 → IVec S16 32) a x).toNat < S256x142.size a := fun i k0_t2 v15 v20 v25 v30 v35 v40 v45 v50 v55 v60 v867 k0_hw540 k0_h1 => k0_hw540.2.2.2.1 k0_h1
theorem k0_idx815_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v35, v867] : Fin 2 → IVec S16 32) a x).toNat < S256x142.size a := fun i k0_t2 v15 v20 v25 v30 v35 v40 v45 v50 v55 v60 v867 k0_hw540 k0_h1 => k0_hw540.2.2.2.2.1 k0_h1
theorem k0_idx817_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v40, v867] : Fin 2 → IVec S16 32) a x).toNat < S256x142.size a := fun i k0_t2 v15 v20 v25 v30 v35 v40 v45 v50 v55 v60 v867 k0_hw540 k0_h1 => k0_hw540.2.2.2.2.2.1 k0_h1
theorem k0_idx819_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v45, v867] : Fin 2 → IVec S16 32) a x).toNat < S256x142.size a := fun i k0_t2 v15 v20 v25 v30 v35 v40 v45 v50 v55 v60 v867 k0_hw540 k0_h1 => k0_hw540.2.2.2.2.2.2.1 k0_h1
theorem k0_idx821_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v50, v867] : Fin 2 → IVec S16 32) a x).toNat < S256x142.size a := fun i k0_t2 v15 v20 v25 v30 v35 v40 v45 v50 v55 v60 v867 k0_hw540 k0_h1 => k0_hw540.2.2.2.2.2.2.2.1 k0_h1
theorem k0_idx823_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v55, v867] : Fin 2 → IVec S16 32) a x).toNat < S256x142.size a := fun i k0_t2 v15 v20 v25 v30 v35 v40 v45 v50 v55 v60 v867 k0_hw540 k0_h1 => k0_hw540.2.2.2.2.2.2.2.2.1 k0_h1
theorem k0_idx825_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v867 : IVec S16 32) (k0_hw540 : k0_chk540 i k0_t2 v15 v20 v25 v30 v35 v40 v45 v50 v55 v60 v867), ∀ (k0_h1 : k0_cond1 i k0_t2 = 1#1), ∀ a x, ((![v60, v867] : Fin 2 → IVec S16 32) a x).toNat < S256x142.size a := fun i k0_t2 v15 v20 v25 v30 v35 v40 v45 v50 v55 v60 v867 k0_hw540 k0_h1 => k0_hw540.2.2.2.2.2.2.2.2.2 k0_h1

def k0_chk550 (i : grid0.Coords) (k0_t2 : Fin k0_t2_loop.trips) (v867 : IVec S16 32) (v897 : IVec S16 32) : Prop :=
  (∀ (k0_h1 : k0_cond1 i k0_t2 = 1#1), ∀ a x, ((![v897, v867] : Fin 2 → IVec S16 32) a x).toNat < S160x142.size a)
theorem k0_idx826_inb : ∀ (i : grid0.Coords) (k0_t2 : Fin k0_t2_loop.trips) (v867 : IVec S16 32) (v897 : IVec S16 32) (k0_hw550 : k0_chk550 i k0_t2 v867 v897), ∀ (k0_h1 : k0_cond1 i k0_t2 = 1#1), ∀ a x, ((![v897, v867] : Fin 2 → IVec S16 32) a x).toNat < S160x142.size a := fun i k0_t2 v867 v897 k0_hw550 k0_h1 => k0_hw550 k0_h1

def k0_chk552 (i : grid0.Coords) (k0_t2 : Fin k0_t2_loop.trips) (v898 : IVec S16 32) (v901 : IVec S16 32) : Prop :=
  (∀ (k0_h1 : k0_cond1 i k0_t2 = 1#1), ∀ a x, ((![v901, v898] : Fin 2 → IVec S16 32) a x).toNat < S160x142.size a)
theorem k0_idx828_inb : ∀ (i : grid0.Coords) (k0_t2 : Fin k0_t2_loop.trips) (v898 : IVec S16 32) (v901 : IVec S16 32) (k0_hw552 : k0_chk552 i k0_t2 v898 v901), ∀ (k0_h1 : k0_cond1 i k0_t2 = 1#1), ∀ a x, ((![v901, v898] : Fin 2 → IVec S16 32) a x).toNat < S160x142.size a := fun i k0_t2 v898 v901 k0_hw552 k0_h1 => k0_hw552 k0_h1

def k0_chk553 (i : grid0.Coords) (k0_t2 : Fin k0_t2_loop.trips) (v898 : IVec S16 32) (v904 : IVec S16 32) : Prop :=
  (∀ (k0_h1 : k0_cond1 i k0_t2 = 1#1), ∀ a x, ((![v904, v898] : Fin 2 → IVec S16 32) a x).toNat < S160x142.size a)
theorem k0_idx830_inb : ∀ (i : grid0.Coords) (k0_t2 : Fin k0_t2_loop.trips) (v898 : IVec S16 32) (v904 : IVec S16 32) (k0_hw553 : k0_chk553 i k0_t2 v898 v904), ∀ (k0_h1 : k0_cond1 i k0_t2 = 1#1), ∀ a x, ((![v904, v898] : Fin 2 → IVec S16 32) a x).toNat < S160x142.size a := fun i k0_t2 v898 v904 k0_hw553 k0_h1 => k0_hw553 k0_h1

def k0_chk554 (i : grid0.Coords) (k0_t2 : Fin k0_t2_loop.trips) (v898 : IVec S16 32) (v907 : IVec S16 32) : Prop :=
  (∀ (k0_h1 : k0_cond1 i k0_t2 = 1#1), ∀ a x, ((![v907, v898] : Fin 2 → IVec S16 32) a x).toNat < S160x142.size a)
theorem k0_idx832_inb : ∀ (i : grid0.Coords) (k0_t2 : Fin k0_t2_loop.trips) (v898 : IVec S16 32) (v907 : IVec S16 32) (k0_hw554 : k0_chk554 i k0_t2 v898 v907), ∀ (k0_h1 : k0_cond1 i k0_t2 = 1#1), ∀ a x, ((![v907, v898] : Fin 2 → IVec S16 32) a x).toNat < S160x142.size a := fun i k0_t2 v898 v907 k0_hw554 k0_h1 => k0_hw554 k0_h1

def k0_chk555 (i : grid0.Coords) (k0_t2 : Fin k0_t2_loop.trips) (v898 : IVec S16 32) (v910 : IVec S16 32) : Prop :=
  (∀ (k0_h1 : k0_cond1 i k0_t2 = 1#1), ∀ a x, ((![v910, v898] : Fin 2 → IVec S16 32) a x).toNat < S160x142.size a)
theorem k0_idx834_inb : ∀ (i : grid0.Coords) (k0_t2 : Fin k0_t2_loop.trips) (v898 : IVec S16 32) (v910 : IVec S16 32) (k0_hw555 : k0_chk555 i k0_t2 v898 v910), ∀ (k0_h1 : k0_cond1 i k0_t2 = 1#1), ∀ a x, ((![v910, v898] : Fin 2 → IVec S16 32) a x).toNat < S160x142.size a := fun i k0_t2 v898 v910 k0_hw555 k0_h1 => k0_hw555 k0_h1

def k0_chk556 (i : grid0.Coords) (k0_t2 : Fin k0_t2_loop.trips) (v898 : IVec S16 32) (v913 : IVec S16 32) : Prop :=
  (∀ (k0_h1 : k0_cond1 i k0_t2 = 1#1), ∀ a x, ((![v913, v898] : Fin 2 → IVec S16 32) a x).toNat < S160x142.size a)
theorem k0_idx836_inb : ∀ (i : grid0.Coords) (k0_t2 : Fin k0_t2_loop.trips) (v898 : IVec S16 32) (v913 : IVec S16 32) (k0_hw556 : k0_chk556 i k0_t2 v898 v913), ∀ (k0_h1 : k0_cond1 i k0_t2 = 1#1), ∀ a x, ((![v913, v898] : Fin 2 → IVec S16 32) a x).toNat < S160x142.size a := fun i k0_t2 v898 v913 k0_hw556 k0_h1 => k0_hw556 k0_h1

def k0_chk557 (i : grid0.Coords) (k0_t2 : Fin k0_t2_loop.trips) (v898 : IVec S16 32) (v916 : IVec S16 32) : Prop :=
  (∀ (k0_h1 : k0_cond1 i k0_t2 = 1#1), ∀ a x, ((![v916, v898] : Fin 2 → IVec S16 32) a x).toNat < S160x142.size a)
theorem k0_idx838_inb : ∀ (i : grid0.Coords) (k0_t2 : Fin k0_t2_loop.trips) (v898 : IVec S16 32) (v916 : IVec S16 32) (k0_hw557 : k0_chk557 i k0_t2 v898 v916), ∀ (k0_h1 : k0_cond1 i k0_t2 = 1#1), ∀ a x, ((![v916, v898] : Fin 2 → IVec S16 32) a x).toNat < S160x142.size a := fun i k0_t2 v898 v916 k0_hw557 k0_h1 => k0_hw557 k0_h1

def k0_chk558 (i : grid0.Coords) (k0_t2 : Fin k0_t2_loop.trips) (v898 : IVec S16 32) (v919 : IVec S16 32) : Prop :=
  (∀ (k0_h1 : k0_cond1 i k0_t2 = 1#1), ∀ a x, ((![v919, v898] : Fin 2 → IVec S16 32) a x).toNat < S160x142.size a)
theorem k0_idx840_inb : ∀ (i : grid0.Coords) (k0_t2 : Fin k0_t2_loop.trips) (v898 : IVec S16 32) (v919 : IVec S16 32) (k0_hw558 : k0_chk558 i k0_t2 v898 v919), ∀ (k0_h1 : k0_cond1 i k0_t2 = 1#1), ∀ a x, ((![v919, v898] : Fin 2 → IVec S16 32) a x).toNat < S160x142.size a := fun i k0_t2 v898 v919 k0_hw558 k0_h1 => k0_hw558 k0_h1

def k0_chk559 (i : grid0.Coords) (k0_t2 : Fin k0_t2_loop.trips) (v898 : IVec S16 32) (v922 : IVec S16 32) : Prop :=
  (∀ (k0_h1 : k0_cond1 i k0_t2 = 1#1), ∀ a x, ((![v922, v898] : Fin 2 → IVec S16 32) a x).toNat < S160x142.size a)
theorem k0_idx842_inb : ∀ (i : grid0.Coords) (k0_t2 : Fin k0_t2_loop.trips) (v898 : IVec S16 32) (v922 : IVec S16 32) (k0_hw559 : k0_chk559 i k0_t2 v898 v922), ∀ (k0_h1 : k0_cond1 i k0_t2 = 1#1), ∀ a x, ((![v922, v898] : Fin 2 → IVec S16 32) a x).toNat < S160x142.size a := fun i k0_t2 v898 v922 k0_hw559 k0_h1 => k0_hw559 k0_h1

def k0_chk560 (i : grid0.Coords) (k0_t2 : Fin k0_t2_loop.trips) (v898 : IVec S16 32) (v925 : IVec S16 32) : Prop :=
  (∀ (k0_h1 : k0_cond1 i k0_t2 = 1#1), ∀ a x, ((![v925, v898] : Fin 2 → IVec S16 32) a x).toNat < S160x142.size a)
theorem k0_idx844_inb : ∀ (i : grid0.Coords) (k0_t2 : Fin k0_t2_loop.trips) (v898 : IVec S16 32) (v925 : IVec S16 32) (k0_hw560 : k0_chk560 i k0_t2 v898 v925), ∀ (k0_h1 : k0_cond1 i k0_t2 = 1#1), ∀ a x, ((![v925, v898] : Fin 2 → IVec S16 32) a x).toNat < S160x142.size a := fun i k0_t2 v898 v925 k0_hw560 k0_h1 => k0_hw560 k0_h1

def k0_chk551 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) : Prop :=
  (∀ (k0_h1 : k0_cond1 i k0_t2 = 1#1), ∀ a x, ((![v15, v898] : Fin 2 → IVec S16 32) a x).toNat < S256x142.size a) ∧
  (∀ (k0_h1 : k0_cond1 i k0_t2 = 1#1), ∀ a x, ((![v20, v898] : Fin 2 → IVec S16 32) a x).toNat < S256x142.size a) ∧
  (∀ (k0_h1 : k0_cond1 i k0_t2 = 1#1), ∀ a x, ((![v25, v898] : Fin 2 → IVec S16 32) a x).toNat < S256x142.size a) ∧
  (∀ (k0_h1 : k0_cond1 i k0_t2 = 1#1), ∀ a x, ((![v30, v898] : Fin 2 → IVec S16 32) a x).toNat < S256x142.size a) ∧
  (∀ (k0_h1 : k0_cond1 i k0_t2 = 1#1), ∀ a x, ((![v35, v898] : Fin 2 → IVec S16 32) a x).toNat < S256x142.size a) ∧
  (∀ (k0_h1 : k0_cond1 i k0_t2 = 1#1), ∀ a x, ((![v40, v898] : Fin 2 → IVec S16 32) a x).toNat < S256x142.size a) ∧
  (∀ (k0_h1 : k0_cond1 i k0_t2 = 1#1), ∀ a x, ((![v45, v898] : Fin 2 → IVec S16 32) a x).toNat < S256x142.size a) ∧
  (∀ (k0_h1 : k0_cond1 i k0_t2 = 1#1), ∀ a x, ((![v50, v898] : Fin 2 → IVec S16 32) a x).toNat < S256x142.size a) ∧
  (∀ (k0_h1 : k0_cond1 i k0_t2 = 1#1), ∀ a x, ((![v55, v898] : Fin 2 → IVec S16 32) a x).toNat < S256x142.size a) ∧
  (∀ (k0_h1 : k0_cond1 i k0_t2 = 1#1), ∀ a x, ((![v60, v898] : Fin 2 → IVec S16 32) a x).toNat < S256x142.size a)
theorem k0_idx827_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v15, v898] : Fin 2 → IVec S16 32) a x).toNat < S256x142.size a := fun i k0_t2 v15 v20 v25 v30 v35 v40 v45 v50 v55 v60 v898 k0_hw551 k0_h1 => k0_hw551.1 k0_h1
theorem k0_idx829_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v20, v898] : Fin 2 → IVec S16 32) a x).toNat < S256x142.size a := fun i k0_t2 v15 v20 v25 v30 v35 v40 v45 v50 v55 v60 v898 k0_hw551 k0_h1 => k0_hw551.2.1 k0_h1
theorem k0_idx831_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v25, v898] : Fin 2 → IVec S16 32) a x).toNat < S256x142.size a := fun i k0_t2 v15 v20 v25 v30 v35 v40 v45 v50 v55 v60 v898 k0_hw551 k0_h1 => k0_hw551.2.2.1 k0_h1
theorem k0_idx833_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v30, v898] : Fin 2 → IVec S16 32) a x).toNat < S256x142.size a := fun i k0_t2 v15 v20 v25 v30 v35 v40 v45 v50 v55 v60 v898 k0_hw551 k0_h1 => k0_hw551.2.2.2.1 k0_h1
theorem k0_idx835_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v35, v898] : Fin 2 → IVec S16 32) a x).toNat < S256x142.size a := fun i k0_t2 v15 v20 v25 v30 v35 v40 v45 v50 v55 v60 v898 k0_hw551 k0_h1 => k0_hw551.2.2.2.2.1 k0_h1
theorem k0_idx837_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v40, v898] : Fin 2 → IVec S16 32) a x).toNat < S256x142.size a := fun i k0_t2 v15 v20 v25 v30 v35 v40 v45 v50 v55 v60 v898 k0_hw551 k0_h1 => k0_hw551.2.2.2.2.2.1 k0_h1
theorem k0_idx839_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v45, v898] : Fin 2 → IVec S16 32) a x).toNat < S256x142.size a := fun i k0_t2 v15 v20 v25 v30 v35 v40 v45 v50 v55 v60 v898 k0_hw551 k0_h1 => k0_hw551.2.2.2.2.2.2.1 k0_h1
theorem k0_idx841_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v50, v898] : Fin 2 → IVec S16 32) a x).toNat < S256x142.size a := fun i k0_t2 v15 v20 v25 v30 v35 v40 v45 v50 v55 v60 v898 k0_hw551 k0_h1 => k0_hw551.2.2.2.2.2.2.2.1 k0_h1
theorem k0_idx843_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v55, v898] : Fin 2 → IVec S16 32) a x).toNat < S256x142.size a := fun i k0_t2 v15 v20 v25 v30 v35 v40 v45 v50 v55 v60 v898 k0_hw551 k0_h1 => k0_hw551.2.2.2.2.2.2.2.2.1 k0_h1
theorem k0_idx845_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v898 : IVec S16 32) (k0_hw551 : k0_chk551 i k0_t2 v15 v20 v25 v30 v35 v40 v45 v50 v55 v60 v898), ∀ (k0_h1 : k0_cond1 i k0_t2 = 1#1), ∀ a x, ((![v60, v898] : Fin 2 → IVec S16 32) a x).toNat < S256x142.size a := fun i k0_t2 v15 v20 v25 v30 v35 v40 v45 v50 v55 v60 v898 k0_hw551 k0_h1 => k0_hw551.2.2.2.2.2.2.2.2.2 k0_h1

def k0_chk561 (i : grid0.Coords) (k0_t2 : Fin k0_t2_loop.trips) (v898 : IVec S16 32) (v928 : IVec S16 32) : Prop :=
  (∀ (k0_h1 : k0_cond1 i k0_t2 = 1#1), ∀ a x, ((![v928, v898] : Fin 2 → IVec S16 32) a x).toNat < S160x142.size a)
theorem k0_idx846_inb : ∀ (i : grid0.Coords) (k0_t2 : Fin k0_t2_loop.trips) (v898 : IVec S16 32) (v928 : IVec S16 32) (k0_hw561 : k0_chk561 i k0_t2 v898 v928), ∀ (k0_h1 : k0_cond1 i k0_t2 = 1#1), ∀ a x, ((![v928, v898] : Fin 2 → IVec S16 32) a x).toNat < S160x142.size a := fun i k0_t2 v898 v928 k0_hw561 k0_h1 => k0_hw561 k0_h1

def k0_chk563 (i : grid0.Coords) (k0_t2 : Fin k0_t2_loop.trips) (v929 : IVec S16 32) (v932 : IVec S16 32) : Prop :=
  (∀ (k0_h1 : k0_cond1 i k0_t2 = 1#1), ∀ a x, ((![v932, v929] : Fin 2 → IVec S16 32) a x).toNat < S160x142.size a)
theorem k0_idx848_inb : ∀ (i : grid0.Coords) (k0_t2 : Fin k0_t2_loop.trips) (v929 : IVec S16 32) (v932 : IVec S16 32) (k0_hw563 : k0_chk563 i k0_t2 v929 v932), ∀ (k0_h1 : k0_cond1 i k0_t2 = 1#1), ∀ a x, ((![v932, v929] : Fin 2 → IVec S16 32) a x).toNat < S160x142.size a := fun i k0_t2 v929 v932 k0_hw563 k0_h1 => k0_hw563 k0_h1

def k0_chk564 (i : grid0.Coords) (k0_t2 : Fin k0_t2_loop.trips) (v929 : IVec S16 32) (v935 : IVec S16 32) : Prop :=
  (∀ (k0_h1 : k0_cond1 i k0_t2 = 1#1), ∀ a x, ((![v935, v929] : Fin 2 → IVec S16 32) a x).toNat < S160x142.size a)
theorem k0_idx850_inb : ∀ (i : grid0.Coords) (k0_t2 : Fin k0_t2_loop.trips) (v929 : IVec S16 32) (v935 : IVec S16 32) (k0_hw564 : k0_chk564 i k0_t2 v929 v935), ∀ (k0_h1 : k0_cond1 i k0_t2 = 1#1), ∀ a x, ((![v935, v929] : Fin 2 → IVec S16 32) a x).toNat < S160x142.size a := fun i k0_t2 v929 v935 k0_hw564 k0_h1 => k0_hw564 k0_h1

def k0_chk565 (i : grid0.Coords) (k0_t2 : Fin k0_t2_loop.trips) (v929 : IVec S16 32) (v938 : IVec S16 32) : Prop :=
  (∀ (k0_h1 : k0_cond1 i k0_t2 = 1#1), ∀ a x, ((![v938, v929] : Fin 2 → IVec S16 32) a x).toNat < S160x142.size a)
theorem k0_idx852_inb : ∀ (i : grid0.Coords) (k0_t2 : Fin k0_t2_loop.trips) (v929 : IVec S16 32) (v938 : IVec S16 32) (k0_hw565 : k0_chk565 i k0_t2 v929 v938), ∀ (k0_h1 : k0_cond1 i k0_t2 = 1#1), ∀ a x, ((![v938, v929] : Fin 2 → IVec S16 32) a x).toNat < S160x142.size a := fun i k0_t2 v929 v938 k0_hw565 k0_h1 => k0_hw565 k0_h1

def k0_chk566 (i : grid0.Coords) (k0_t2 : Fin k0_t2_loop.trips) (v929 : IVec S16 32) (v941 : IVec S16 32) : Prop :=
  (∀ (k0_h1 : k0_cond1 i k0_t2 = 1#1), ∀ a x, ((![v941, v929] : Fin 2 → IVec S16 32) a x).toNat < S160x142.size a)
theorem k0_idx854_inb : ∀ (i : grid0.Coords) (k0_t2 : Fin k0_t2_loop.trips) (v929 : IVec S16 32) (v941 : IVec S16 32) (k0_hw566 : k0_chk566 i k0_t2 v929 v941), ∀ (k0_h1 : k0_cond1 i k0_t2 = 1#1), ∀ a x, ((![v941, v929] : Fin 2 → IVec S16 32) a x).toNat < S160x142.size a := fun i k0_t2 v929 v941 k0_hw566 k0_h1 => k0_hw566 k0_h1

def k0_chk567 (i : grid0.Coords) (k0_t2 : Fin k0_t2_loop.trips) (v929 : IVec S16 32) (v944 : IVec S16 32) : Prop :=
  (∀ (k0_h1 : k0_cond1 i k0_t2 = 1#1), ∀ a x, ((![v944, v929] : Fin 2 → IVec S16 32) a x).toNat < S160x142.size a)
theorem k0_idx856_inb : ∀ (i : grid0.Coords) (k0_t2 : Fin k0_t2_loop.trips) (v929 : IVec S16 32) (v944 : IVec S16 32) (k0_hw567 : k0_chk567 i k0_t2 v929 v944), ∀ (k0_h1 : k0_cond1 i k0_t2 = 1#1), ∀ a x, ((![v944, v929] : Fin 2 → IVec S16 32) a x).toNat < S160x142.size a := fun i k0_t2 v929 v944 k0_hw567 k0_h1 => k0_hw567 k0_h1

def k0_chk568 (i : grid0.Coords) (k0_t2 : Fin k0_t2_loop.trips) (v929 : IVec S16 32) (v947 : IVec S16 32) : Prop :=
  (∀ (k0_h1 : k0_cond1 i k0_t2 = 1#1), ∀ a x, ((![v947, v929] : Fin 2 → IVec S16 32) a x).toNat < S160x142.size a)
theorem k0_idx858_inb : ∀ (i : grid0.Coords) (k0_t2 : Fin k0_t2_loop.trips) (v929 : IVec S16 32) (v947 : IVec S16 32) (k0_hw568 : k0_chk568 i k0_t2 v929 v947), ∀ (k0_h1 : k0_cond1 i k0_t2 = 1#1), ∀ a x, ((![v947, v929] : Fin 2 → IVec S16 32) a x).toNat < S160x142.size a := fun i k0_t2 v929 v947 k0_hw568 k0_h1 => k0_hw568 k0_h1

def k0_chk569 (i : grid0.Coords) (k0_t2 : Fin k0_t2_loop.trips) (v929 : IVec S16 32) (v950 : IVec S16 32) : Prop :=
  (∀ (k0_h1 : k0_cond1 i k0_t2 = 1#1), ∀ a x, ((![v950, v929] : Fin 2 → IVec S16 32) a x).toNat < S160x142.size a)
theorem k0_idx860_inb : ∀ (i : grid0.Coords) (k0_t2 : Fin k0_t2_loop.trips) (v929 : IVec S16 32) (v950 : IVec S16 32) (k0_hw569 : k0_chk569 i k0_t2 v929 v950), ∀ (k0_h1 : k0_cond1 i k0_t2 = 1#1), ∀ a x, ((![v950, v929] : Fin 2 → IVec S16 32) a x).toNat < S160x142.size a := fun i k0_t2 v929 v950 k0_hw569 k0_h1 => k0_hw569 k0_h1

def k0_chk570 (i : grid0.Coords) (k0_t2 : Fin k0_t2_loop.trips) (v929 : IVec S16 32) (v953 : IVec S16 32) : Prop :=
  (∀ (k0_h1 : k0_cond1 i k0_t2 = 1#1), ∀ a x, ((![v953, v929] : Fin 2 → IVec S16 32) a x).toNat < S160x142.size a)
theorem k0_idx862_inb : ∀ (i : grid0.Coords) (k0_t2 : Fin k0_t2_loop.trips) (v929 : IVec S16 32) (v953 : IVec S16 32) (k0_hw570 : k0_chk570 i k0_t2 v929 v953), ∀ (k0_h1 : k0_cond1 i k0_t2 = 1#1), ∀ a x, ((![v953, v929] : Fin 2 → IVec S16 32) a x).toNat < S160x142.size a := fun i k0_t2 v929 v953 k0_hw570 k0_h1 => k0_hw570 k0_h1

def k0_chk571 (i : grid0.Coords) (k0_t2 : Fin k0_t2_loop.trips) (v929 : IVec S16 32) (v956 : IVec S16 32) : Prop :=
  (∀ (k0_h1 : k0_cond1 i k0_t2 = 1#1), ∀ a x, ((![v956, v929] : Fin 2 → IVec S16 32) a x).toNat < S160x142.size a)
theorem k0_idx864_inb : ∀ (i : grid0.Coords) (k0_t2 : Fin k0_t2_loop.trips) (v929 : IVec S16 32) (v956 : IVec S16 32) (k0_hw571 : k0_chk571 i k0_t2 v929 v956), ∀ (k0_h1 : k0_cond1 i k0_t2 = 1#1), ∀ a x, ((![v956, v929] : Fin 2 → IVec S16 32) a x).toNat < S160x142.size a := fun i k0_t2 v929 v956 k0_hw571 k0_h1 => k0_hw571 k0_h1

def k0_chk562 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) : Prop :=
  (∀ (k0_h1 : k0_cond1 i k0_t2 = 1#1), ∀ a x, ((![v15, v929] : Fin 2 → IVec S16 32) a x).toNat < S256x142.size a) ∧
  (∀ (k0_h1 : k0_cond1 i k0_t2 = 1#1), ∀ a x, ((![v20, v929] : Fin 2 → IVec S16 32) a x).toNat < S256x142.size a) ∧
  (∀ (k0_h1 : k0_cond1 i k0_t2 = 1#1), ∀ a x, ((![v25, v929] : Fin 2 → IVec S16 32) a x).toNat < S256x142.size a) ∧
  (∀ (k0_h1 : k0_cond1 i k0_t2 = 1#1), ∀ a x, ((![v30, v929] : Fin 2 → IVec S16 32) a x).toNat < S256x142.size a) ∧
  (∀ (k0_h1 : k0_cond1 i k0_t2 = 1#1), ∀ a x, ((![v35, v929] : Fin 2 → IVec S16 32) a x).toNat < S256x142.size a) ∧
  (∀ (k0_h1 : k0_cond1 i k0_t2 = 1#1), ∀ a x, ((![v40, v929] : Fin 2 → IVec S16 32) a x).toNat < S256x142.size a) ∧
  (∀ (k0_h1 : k0_cond1 i k0_t2 = 1#1), ∀ a x, ((![v45, v929] : Fin 2 → IVec S16 32) a x).toNat < S256x142.size a) ∧
  (∀ (k0_h1 : k0_cond1 i k0_t2 = 1#1), ∀ a x, ((![v50, v929] : Fin 2 → IVec S16 32) a x).toNat < S256x142.size a) ∧
  (∀ (k0_h1 : k0_cond1 i k0_t2 = 1#1), ∀ a x, ((![v55, v929] : Fin 2 → IVec S16 32) a x).toNat < S256x142.size a) ∧
  (∀ (k0_h1 : k0_cond1 i k0_t2 = 1#1), ∀ a x, ((![v60, v929] : Fin 2 → IVec S16 32) a x).toNat < S256x142.size a)
theorem k0_idx847_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v15, v929] : Fin 2 → IVec S16 32) a x).toNat < S256x142.size a := fun i k0_t2 v15 v20 v25 v30 v35 v40 v45 v50 v55 v60 v929 k0_hw562 k0_h1 => k0_hw562.1 k0_h1
theorem k0_idx849_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v20, v929] : Fin 2 → IVec S16 32) a x).toNat < S256x142.size a := fun i k0_t2 v15 v20 v25 v30 v35 v40 v45 v50 v55 v60 v929 k0_hw562 k0_h1 => k0_hw562.2.1 k0_h1
theorem k0_idx851_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v25, v929] : Fin 2 → IVec S16 32) a x).toNat < S256x142.size a := fun i k0_t2 v15 v20 v25 v30 v35 v40 v45 v50 v55 v60 v929 k0_hw562 k0_h1 => k0_hw562.2.2.1 k0_h1
theorem k0_idx853_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v30, v929] : Fin 2 → IVec S16 32) a x).toNat < S256x142.size a := fun i k0_t2 v15 v20 v25 v30 v35 v40 v45 v50 v55 v60 v929 k0_hw562 k0_h1 => k0_hw562.2.2.2.1 k0_h1
theorem k0_idx855_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v35, v929] : Fin 2 → IVec S16 32) a x).toNat < S256x142.size a := fun i k0_t2 v15 v20 v25 v30 v35 v40 v45 v50 v55 v60 v929 k0_hw562 k0_h1 => k0_hw562.2.2.2.2.1 k0_h1
theorem k0_idx857_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v40, v929] : Fin 2 → IVec S16 32) a x).toNat < S256x142.size a := fun i k0_t2 v15 v20 v25 v30 v35 v40 v45 v50 v55 v60 v929 k0_hw562 k0_h1 => k0_hw562.2.2.2.2.2.1 k0_h1
theorem k0_idx859_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v45, v929] : Fin 2 → IVec S16 32) a x).toNat < S256x142.size a := fun i k0_t2 v15 v20 v25 v30 v35 v40 v45 v50 v55 v60 v929 k0_hw562 k0_h1 => k0_hw562.2.2.2.2.2.2.1 k0_h1
theorem k0_idx861_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v50, v929] : Fin 2 → IVec S16 32) a x).toNat < S256x142.size a := fun i k0_t2 v15 v20 v25 v30 v35 v40 v45 v50 v55 v60 v929 k0_hw562 k0_h1 => k0_hw562.2.2.2.2.2.2.2.1 k0_h1
theorem k0_idx863_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v55, v929] : Fin 2 → IVec S16 32) a x).toNat < S256x142.size a := fun i k0_t2 v15 v20 v25 v30 v35 v40 v45 v50 v55 v60 v929 k0_hw562 k0_h1 => k0_hw562.2.2.2.2.2.2.2.2.1 k0_h1
theorem k0_idx865_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v929 : IVec S16 32) (k0_hw562 : k0_chk562 i k0_t2 v15 v20 v25 v30 v35 v40 v45 v50 v55 v60 v929), ∀ (k0_h1 : k0_cond1 i k0_t2 = 1#1), ∀ a x, ((![v60, v929] : Fin 2 → IVec S16 32) a x).toNat < S256x142.size a := fun i k0_t2 v15 v20 v25 v30 v35 v40 v45 v50 v55 v60 v929 k0_hw562 k0_h1 => k0_hw562.2.2.2.2.2.2.2.2.2 k0_h1

def k0_chk572 (i : grid0.Coords) (k0_t2 : Fin k0_t2_loop.trips) (v929 : IVec S16 32) (v959 : IVec S16 32) : Prop :=
  (∀ (k0_h1 : k0_cond1 i k0_t2 = 1#1), ∀ a x, ((![v959, v929] : Fin 2 → IVec S16 32) a x).toNat < S160x142.size a)
theorem k0_idx866_inb : ∀ (i : grid0.Coords) (k0_t2 : Fin k0_t2_loop.trips) (v929 : IVec S16 32) (v959 : IVec S16 32) (k0_hw572 : k0_chk572 i k0_t2 v929 v959), ∀ (k0_h1 : k0_cond1 i k0_t2 = 1#1), ∀ a x, ((![v959, v929] : Fin 2 → IVec S16 32) a x).toNat < S160x142.size a := fun i k0_t2 v929 v959 k0_hw572 k0_h1 => k0_hw572 k0_h1

def k0_chk574 (i : grid0.Coords) (k0_t2 : Fin k0_t2_loop.trips) (v960 : IVec S16 32) (v963 : IVec S16 32) : Prop :=
  (∀ (k0_h1 : k0_cond1 i k0_t2 = 1#1), ∀ a x, ((![v963, v960] : Fin 2 → IVec S16 32) a x).toNat < S160x142.size a)
theorem k0_idx868_inb : ∀ (i : grid0.Coords) (k0_t2 : Fin k0_t2_loop.trips) (v960 : IVec S16 32) (v963 : IVec S16 32) (k0_hw574 : k0_chk574 i k0_t2 v960 v963), ∀ (k0_h1 : k0_cond1 i k0_t2 = 1#1), ∀ a x, ((![v963, v960] : Fin 2 → IVec S16 32) a x).toNat < S160x142.size a := fun i k0_t2 v960 v963 k0_hw574 k0_h1 => k0_hw574 k0_h1

def k0_chk575 (i : grid0.Coords) (k0_t2 : Fin k0_t2_loop.trips) (v960 : IVec S16 32) (v966 : IVec S16 32) : Prop :=
  (∀ (k0_h1 : k0_cond1 i k0_t2 = 1#1), ∀ a x, ((![v966, v960] : Fin 2 → IVec S16 32) a x).toNat < S160x142.size a)
theorem k0_idx870_inb : ∀ (i : grid0.Coords) (k0_t2 : Fin k0_t2_loop.trips) (v960 : IVec S16 32) (v966 : IVec S16 32) (k0_hw575 : k0_chk575 i k0_t2 v960 v966), ∀ (k0_h1 : k0_cond1 i k0_t2 = 1#1), ∀ a x, ((![v966, v960] : Fin 2 → IVec S16 32) a x).toNat < S160x142.size a := fun i k0_t2 v960 v966 k0_hw575 k0_h1 => k0_hw575 k0_h1

def k0_chk576 (i : grid0.Coords) (k0_t2 : Fin k0_t2_loop.trips) (v960 : IVec S16 32) (v969 : IVec S16 32) : Prop :=
  (∀ (k0_h1 : k0_cond1 i k0_t2 = 1#1), ∀ a x, ((![v969, v960] : Fin 2 → IVec S16 32) a x).toNat < S160x142.size a)
theorem k0_idx872_inb : ∀ (i : grid0.Coords) (k0_t2 : Fin k0_t2_loop.trips) (v960 : IVec S16 32) (v969 : IVec S16 32) (k0_hw576 : k0_chk576 i k0_t2 v960 v969), ∀ (k0_h1 : k0_cond1 i k0_t2 = 1#1), ∀ a x, ((![v969, v960] : Fin 2 → IVec S16 32) a x).toNat < S160x142.size a := fun i k0_t2 v960 v969 k0_hw576 k0_h1 => k0_hw576 k0_h1

def k0_chk577 (i : grid0.Coords) (k0_t2 : Fin k0_t2_loop.trips) (v960 : IVec S16 32) (v972 : IVec S16 32) : Prop :=
  (∀ (k0_h1 : k0_cond1 i k0_t2 = 1#1), ∀ a x, ((![v972, v960] : Fin 2 → IVec S16 32) a x).toNat < S160x142.size a)
theorem k0_idx874_inb : ∀ (i : grid0.Coords) (k0_t2 : Fin k0_t2_loop.trips) (v960 : IVec S16 32) (v972 : IVec S16 32) (k0_hw577 : k0_chk577 i k0_t2 v960 v972), ∀ (k0_h1 : k0_cond1 i k0_t2 = 1#1), ∀ a x, ((![v972, v960] : Fin 2 → IVec S16 32) a x).toNat < S160x142.size a := fun i k0_t2 v960 v972 k0_hw577 k0_h1 => k0_hw577 k0_h1

def k0_chk578 (i : grid0.Coords) (k0_t2 : Fin k0_t2_loop.trips) (v960 : IVec S16 32) (v975 : IVec S16 32) : Prop :=
  (∀ (k0_h1 : k0_cond1 i k0_t2 = 1#1), ∀ a x, ((![v975, v960] : Fin 2 → IVec S16 32) a x).toNat < S160x142.size a)
theorem k0_idx876_inb : ∀ (i : grid0.Coords) (k0_t2 : Fin k0_t2_loop.trips) (v960 : IVec S16 32) (v975 : IVec S16 32) (k0_hw578 : k0_chk578 i k0_t2 v960 v975), ∀ (k0_h1 : k0_cond1 i k0_t2 = 1#1), ∀ a x, ((![v975, v960] : Fin 2 → IVec S16 32) a x).toNat < S160x142.size a := fun i k0_t2 v960 v975 k0_hw578 k0_h1 => k0_hw578 k0_h1

def k0_chk579 (i : grid0.Coords) (k0_t2 : Fin k0_t2_loop.trips) (v960 : IVec S16 32) (v978 : IVec S16 32) : Prop :=
  (∀ (k0_h1 : k0_cond1 i k0_t2 = 1#1), ∀ a x, ((![v978, v960] : Fin 2 → IVec S16 32) a x).toNat < S160x142.size a)
theorem k0_idx878_inb : ∀ (i : grid0.Coords) (k0_t2 : Fin k0_t2_loop.trips) (v960 : IVec S16 32) (v978 : IVec S16 32) (k0_hw579 : k0_chk579 i k0_t2 v960 v978), ∀ (k0_h1 : k0_cond1 i k0_t2 = 1#1), ∀ a x, ((![v978, v960] : Fin 2 → IVec S16 32) a x).toNat < S160x142.size a := fun i k0_t2 v960 v978 k0_hw579 k0_h1 => k0_hw579 k0_h1

def k0_chk580 (i : grid0.Coords) (k0_t2 : Fin k0_t2_loop.trips) (v960 : IVec S16 32) (v981 : IVec S16 32) : Prop :=
  (∀ (k0_h1 : k0_cond1 i k0_t2 = 1#1), ∀ a x, ((![v981, v960] : Fin 2 → IVec S16 32) a x).toNat < S160x142.size a)
theorem k0_idx880_inb : ∀ (i : grid0.Coords) (k0_t2 : Fin k0_t2_loop.trips) (v960 : IVec S16 32) (v981 : IVec S16 32) (k0_hw580 : k0_chk580 i k0_t2 v960 v981), ∀ (k0_h1 : k0_cond1 i k0_t2 = 1#1), ∀ a x, ((![v981, v960] : Fin 2 → IVec S16 32) a x).toNat < S160x142.size a := fun i k0_t2 v960 v981 k0_hw580 k0_h1 => k0_hw580 k0_h1

def k0_chk581 (i : grid0.Coords) (k0_t2 : Fin k0_t2_loop.trips) (v960 : IVec S16 32) (v984 : IVec S16 32) : Prop :=
  (∀ (k0_h1 : k0_cond1 i k0_t2 = 1#1), ∀ a x, ((![v984, v960] : Fin 2 → IVec S16 32) a x).toNat < S160x142.size a)
theorem k0_idx882_inb : ∀ (i : grid0.Coords) (k0_t2 : Fin k0_t2_loop.trips) (v960 : IVec S16 32) (v984 : IVec S16 32) (k0_hw581 : k0_chk581 i k0_t2 v960 v984), ∀ (k0_h1 : k0_cond1 i k0_t2 = 1#1), ∀ a x, ((![v984, v960] : Fin 2 → IVec S16 32) a x).toNat < S160x142.size a := fun i k0_t2 v960 v984 k0_hw581 k0_h1 => k0_hw581 k0_h1

def k0_chk582 (i : grid0.Coords) (k0_t2 : Fin k0_t2_loop.trips) (v960 : IVec S16 32) (v987 : IVec S16 32) : Prop :=
  (∀ (k0_h1 : k0_cond1 i k0_t2 = 1#1), ∀ a x, ((![v987, v960] : Fin 2 → IVec S16 32) a x).toNat < S160x142.size a)
theorem k0_idx884_inb : ∀ (i : grid0.Coords) (k0_t2 : Fin k0_t2_loop.trips) (v960 : IVec S16 32) (v987 : IVec S16 32) (k0_hw582 : k0_chk582 i k0_t2 v960 v987), ∀ (k0_h1 : k0_cond1 i k0_t2 = 1#1), ∀ a x, ((![v987, v960] : Fin 2 → IVec S16 32) a x).toNat < S160x142.size a := fun i k0_t2 v960 v987 k0_hw582 k0_h1 => k0_hw582 k0_h1

def k0_chk573 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) : Prop :=
  (∀ (k0_h1 : k0_cond1 i k0_t2 = 1#1), ∀ a x, ((![v15, v960] : Fin 2 → IVec S16 32) a x).toNat < S256x142.size a) ∧
  (∀ (k0_h1 : k0_cond1 i k0_t2 = 1#1), ∀ a x, ((![v20, v960] : Fin 2 → IVec S16 32) a x).toNat < S256x142.size a) ∧
  (∀ (k0_h1 : k0_cond1 i k0_t2 = 1#1), ∀ a x, ((![v25, v960] : Fin 2 → IVec S16 32) a x).toNat < S256x142.size a) ∧
  (∀ (k0_h1 : k0_cond1 i k0_t2 = 1#1), ∀ a x, ((![v30, v960] : Fin 2 → IVec S16 32) a x).toNat < S256x142.size a) ∧
  (∀ (k0_h1 : k0_cond1 i k0_t2 = 1#1), ∀ a x, ((![v35, v960] : Fin 2 → IVec S16 32) a x).toNat < S256x142.size a) ∧
  (∀ (k0_h1 : k0_cond1 i k0_t2 = 1#1), ∀ a x, ((![v40, v960] : Fin 2 → IVec S16 32) a x).toNat < S256x142.size a) ∧
  (∀ (k0_h1 : k0_cond1 i k0_t2 = 1#1), ∀ a x, ((![v45, v960] : Fin 2 → IVec S16 32) a x).toNat < S256x142.size a) ∧
  (∀ (k0_h1 : k0_cond1 i k0_t2 = 1#1), ∀ a x, ((![v50, v960] : Fin 2 → IVec S16 32) a x).toNat < S256x142.size a) ∧
  (∀ (k0_h1 : k0_cond1 i k0_t2 = 1#1), ∀ a x, ((![v55, v960] : Fin 2 → IVec S16 32) a x).toNat < S256x142.size a) ∧
  (∀ (k0_h1 : k0_cond1 i k0_t2 = 1#1), ∀ a x, ((![v60, v960] : Fin 2 → IVec S16 32) a x).toNat < S256x142.size a)
theorem k0_idx867_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v15, v960] : Fin 2 → IVec S16 32) a x).toNat < S256x142.size a := fun i k0_t2 v15 v20 v25 v30 v35 v40 v45 v50 v55 v60 v960 k0_hw573 k0_h1 => k0_hw573.1 k0_h1
theorem k0_idx869_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v20, v960] : Fin 2 → IVec S16 32) a x).toNat < S256x142.size a := fun i k0_t2 v15 v20 v25 v30 v35 v40 v45 v50 v55 v60 v960 k0_hw573 k0_h1 => k0_hw573.2.1 k0_h1
theorem k0_idx871_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v25, v960] : Fin 2 → IVec S16 32) a x).toNat < S256x142.size a := fun i k0_t2 v15 v20 v25 v30 v35 v40 v45 v50 v55 v60 v960 k0_hw573 k0_h1 => k0_hw573.2.2.1 k0_h1
theorem k0_idx873_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v30, v960] : Fin 2 → IVec S16 32) a x).toNat < S256x142.size a := fun i k0_t2 v15 v20 v25 v30 v35 v40 v45 v50 v55 v60 v960 k0_hw573 k0_h1 => k0_hw573.2.2.2.1 k0_h1
theorem k0_idx875_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v35, v960] : Fin 2 → IVec S16 32) a x).toNat < S256x142.size a := fun i k0_t2 v15 v20 v25 v30 v35 v40 v45 v50 v55 v60 v960 k0_hw573 k0_h1 => k0_hw573.2.2.2.2.1 k0_h1
theorem k0_idx877_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v40, v960] : Fin 2 → IVec S16 32) a x).toNat < S256x142.size a := fun i k0_t2 v15 v20 v25 v30 v35 v40 v45 v50 v55 v60 v960 k0_hw573 k0_h1 => k0_hw573.2.2.2.2.2.1 k0_h1
theorem k0_idx879_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v45, v960] : Fin 2 → IVec S16 32) a x).toNat < S256x142.size a := fun i k0_t2 v15 v20 v25 v30 v35 v40 v45 v50 v55 v60 v960 k0_hw573 k0_h1 => k0_hw573.2.2.2.2.2.2.1 k0_h1
theorem k0_idx881_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v50, v960] : Fin 2 → IVec S16 32) a x).toNat < S256x142.size a := fun i k0_t2 v15 v20 v25 v30 v35 v40 v45 v50 v55 v60 v960 k0_hw573 k0_h1 => k0_hw573.2.2.2.2.2.2.2.1 k0_h1
theorem k0_idx883_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v55, v960] : Fin 2 → IVec S16 32) a x).toNat < S256x142.size a := fun i k0_t2 v15 v20 v25 v30 v35 v40 v45 v50 v55 v60 v960 k0_hw573 k0_h1 => k0_hw573.2.2.2.2.2.2.2.2.1 k0_h1
theorem k0_idx885_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v960 : IVec S16 32) (k0_hw573 : k0_chk573 i k0_t2 v15 v20 v25 v30 v35 v40 v45 v50 v55 v60 v960), ∀ (k0_h1 : k0_cond1 i k0_t2 = 1#1), ∀ a x, ((![v60, v960] : Fin 2 → IVec S16 32) a x).toNat < S256x142.size a := fun i k0_t2 v15 v20 v25 v30 v35 v40 v45 v50 v55 v60 v960 k0_hw573 k0_h1 => k0_hw573.2.2.2.2.2.2.2.2.2 k0_h1

def k0_chk583 (i : grid0.Coords) (k0_t2 : Fin k0_t2_loop.trips) (v960 : IVec S16 32) (v990 : IVec S16 32) : Prop :=
  (∀ (k0_h1 : k0_cond1 i k0_t2 = 1#1), ∀ a x, ((![v990, v960] : Fin 2 → IVec S16 32) a x).toNat < S160x142.size a)
theorem k0_idx886_inb : ∀ (i : grid0.Coords) (k0_t2 : Fin k0_t2_loop.trips) (v960 : IVec S16 32) (v990 : IVec S16 32) (k0_hw583 : k0_chk583 i k0_t2 v960 v990), ∀ (k0_h1 : k0_cond1 i k0_t2 = 1#1), ∀ a x, ((![v990, v960] : Fin 2 → IVec S16 32) a x).toNat < S160x142.size a := fun i k0_t2 v960 v990 k0_hw583 k0_h1 => k0_hw583 k0_h1

def k0_chk585 (i : grid0.Coords) (k0_t2 : Fin k0_t2_loop.trips) (v991 : IVec S16 32) (v994 : IVec S16 32) : Prop :=
  (∀ (k0_h1 : k0_cond1 i k0_t2 = 1#1), ∀ a x, ((![v994, v991] : Fin 2 → IVec S16 32) a x).toNat < S160x142.size a)
theorem k0_idx888_inb : ∀ (i : grid0.Coords) (k0_t2 : Fin k0_t2_loop.trips) (v991 : IVec S16 32) (v994 : IVec S16 32) (k0_hw585 : k0_chk585 i k0_t2 v991 v994), ∀ (k0_h1 : k0_cond1 i k0_t2 = 1#1), ∀ a x, ((![v994, v991] : Fin 2 → IVec S16 32) a x).toNat < S160x142.size a := fun i k0_t2 v991 v994 k0_hw585 k0_h1 => k0_hw585 k0_h1

def k0_chk586 (i : grid0.Coords) (k0_t2 : Fin k0_t2_loop.trips) (v991 : IVec S16 32) (v997 : IVec S16 32) : Prop :=
  (∀ (k0_h1 : k0_cond1 i k0_t2 = 1#1), ∀ a x, ((![v997, v991] : Fin 2 → IVec S16 32) a x).toNat < S160x142.size a)
theorem k0_idx890_inb : ∀ (i : grid0.Coords) (k0_t2 : Fin k0_t2_loop.trips) (v991 : IVec S16 32) (v997 : IVec S16 32) (k0_hw586 : k0_chk586 i k0_t2 v991 v997), ∀ (k0_h1 : k0_cond1 i k0_t2 = 1#1), ∀ a x, ((![v997, v991] : Fin 2 → IVec S16 32) a x).toNat < S160x142.size a := fun i k0_t2 v991 v997 k0_hw586 k0_h1 => k0_hw586 k0_h1

def k0_chk587 (i : grid0.Coords) (k0_t2 : Fin k0_t2_loop.trips) (v991 : IVec S16 32) (v1000 : IVec S16 32) : Prop :=
  (∀ (k0_h1 : k0_cond1 i k0_t2 = 1#1), ∀ a x, ((![v1000, v991] : Fin 2 → IVec S16 32) a x).toNat < S160x142.size a)
theorem k0_idx892_inb : ∀ (i : grid0.Coords) (k0_t2 : Fin k0_t2_loop.trips) (v991 : IVec S16 32) (v1000 : IVec S16 32) (k0_hw587 : k0_chk587 i k0_t2 v991 v1000), ∀ (k0_h1 : k0_cond1 i k0_t2 = 1#1), ∀ a x, ((![v1000, v991] : Fin 2 → IVec S16 32) a x).toNat < S160x142.size a := fun i k0_t2 v991 v1000 k0_hw587 k0_h1 => k0_hw587 k0_h1

def k0_chk588 (i : grid0.Coords) (k0_t2 : Fin k0_t2_loop.trips) (v991 : IVec S16 32) (v1003 : IVec S16 32) : Prop :=
  (∀ (k0_h1 : k0_cond1 i k0_t2 = 1#1), ∀ a x, ((![v1003, v991] : Fin 2 → IVec S16 32) a x).toNat < S160x142.size a)
theorem k0_idx894_inb : ∀ (i : grid0.Coords) (k0_t2 : Fin k0_t2_loop.trips) (v991 : IVec S16 32) (v1003 : IVec S16 32) (k0_hw588 : k0_chk588 i k0_t2 v991 v1003), ∀ (k0_h1 : k0_cond1 i k0_t2 = 1#1), ∀ a x, ((![v1003, v991] : Fin 2 → IVec S16 32) a x).toNat < S160x142.size a := fun i k0_t2 v991 v1003 k0_hw588 k0_h1 => k0_hw588 k0_h1

def k0_chk589 (i : grid0.Coords) (k0_t2 : Fin k0_t2_loop.trips) (v991 : IVec S16 32) (v1006 : IVec S16 32) : Prop :=
  (∀ (k0_h1 : k0_cond1 i k0_t2 = 1#1), ∀ a x, ((![v1006, v991] : Fin 2 → IVec S16 32) a x).toNat < S160x142.size a)
theorem k0_idx896_inb : ∀ (i : grid0.Coords) (k0_t2 : Fin k0_t2_loop.trips) (v991 : IVec S16 32) (v1006 : IVec S16 32) (k0_hw589 : k0_chk589 i k0_t2 v991 v1006), ∀ (k0_h1 : k0_cond1 i k0_t2 = 1#1), ∀ a x, ((![v1006, v991] : Fin 2 → IVec S16 32) a x).toNat < S160x142.size a := fun i k0_t2 v991 v1006 k0_hw589 k0_h1 => k0_hw589 k0_h1

def k0_chk590 (i : grid0.Coords) (k0_t2 : Fin k0_t2_loop.trips) (v991 : IVec S16 32) (v1009 : IVec S16 32) : Prop :=
  (∀ (k0_h1 : k0_cond1 i k0_t2 = 1#1), ∀ a x, ((![v1009, v991] : Fin 2 → IVec S16 32) a x).toNat < S160x142.size a)
theorem k0_idx898_inb : ∀ (i : grid0.Coords) (k0_t2 : Fin k0_t2_loop.trips) (v991 : IVec S16 32) (v1009 : IVec S16 32) (k0_hw590 : k0_chk590 i k0_t2 v991 v1009), ∀ (k0_h1 : k0_cond1 i k0_t2 = 1#1), ∀ a x, ((![v1009, v991] : Fin 2 → IVec S16 32) a x).toNat < S160x142.size a := fun i k0_t2 v991 v1009 k0_hw590 k0_h1 => k0_hw590 k0_h1

def k0_chk591 (i : grid0.Coords) (k0_t2 : Fin k0_t2_loop.trips) (v991 : IVec S16 32) (v1012 : IVec S16 32) : Prop :=
  (∀ (k0_h1 : k0_cond1 i k0_t2 = 1#1), ∀ a x, ((![v1012, v991] : Fin 2 → IVec S16 32) a x).toNat < S160x142.size a)
theorem k0_idx900_inb : ∀ (i : grid0.Coords) (k0_t2 : Fin k0_t2_loop.trips) (v991 : IVec S16 32) (v1012 : IVec S16 32) (k0_hw591 : k0_chk591 i k0_t2 v991 v1012), ∀ (k0_h1 : k0_cond1 i k0_t2 = 1#1), ∀ a x, ((![v1012, v991] : Fin 2 → IVec S16 32) a x).toNat < S160x142.size a := fun i k0_t2 v991 v1012 k0_hw591 k0_h1 => k0_hw591 k0_h1

def k0_chk592 (i : grid0.Coords) (k0_t2 : Fin k0_t2_loop.trips) (v991 : IVec S16 32) (v1015 : IVec S16 32) : Prop :=
  (∀ (k0_h1 : k0_cond1 i k0_t2 = 1#1), ∀ a x, ((![v1015, v991] : Fin 2 → IVec S16 32) a x).toNat < S160x142.size a)
theorem k0_idx902_inb : ∀ (i : grid0.Coords) (k0_t2 : Fin k0_t2_loop.trips) (v991 : IVec S16 32) (v1015 : IVec S16 32) (k0_hw592 : k0_chk592 i k0_t2 v991 v1015), ∀ (k0_h1 : k0_cond1 i k0_t2 = 1#1), ∀ a x, ((![v1015, v991] : Fin 2 → IVec S16 32) a x).toNat < S160x142.size a := fun i k0_t2 v991 v1015 k0_hw592 k0_h1 => k0_hw592 k0_h1

def k0_chk593 (i : grid0.Coords) (k0_t2 : Fin k0_t2_loop.trips) (v991 : IVec S16 32) (v1018 : IVec S16 32) : Prop :=
  (∀ (k0_h1 : k0_cond1 i k0_t2 = 1#1), ∀ a x, ((![v1018, v991] : Fin 2 → IVec S16 32) a x).toNat < S160x142.size a)
theorem k0_idx904_inb : ∀ (i : grid0.Coords) (k0_t2 : Fin k0_t2_loop.trips) (v991 : IVec S16 32) (v1018 : IVec S16 32) (k0_hw593 : k0_chk593 i k0_t2 v991 v1018), ∀ (k0_h1 : k0_cond1 i k0_t2 = 1#1), ∀ a x, ((![v1018, v991] : Fin 2 → IVec S16 32) a x).toNat < S160x142.size a := fun i k0_t2 v991 v1018 k0_hw593 k0_h1 => k0_hw593 k0_h1

def k0_chk584 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) : Prop :=
  (∀ (k0_h1 : k0_cond1 i k0_t2 = 1#1), ∀ a x, ((![v15, v991] : Fin 2 → IVec S16 32) a x).toNat < S256x142.size a) ∧
  (∀ (k0_h1 : k0_cond1 i k0_t2 = 1#1), ∀ a x, ((![v20, v991] : Fin 2 → IVec S16 32) a x).toNat < S256x142.size a) ∧
  (∀ (k0_h1 : k0_cond1 i k0_t2 = 1#1), ∀ a x, ((![v25, v991] : Fin 2 → IVec S16 32) a x).toNat < S256x142.size a) ∧
  (∀ (k0_h1 : k0_cond1 i k0_t2 = 1#1), ∀ a x, ((![v30, v991] : Fin 2 → IVec S16 32) a x).toNat < S256x142.size a) ∧
  (∀ (k0_h1 : k0_cond1 i k0_t2 = 1#1), ∀ a x, ((![v35, v991] : Fin 2 → IVec S16 32) a x).toNat < S256x142.size a) ∧
  (∀ (k0_h1 : k0_cond1 i k0_t2 = 1#1), ∀ a x, ((![v40, v991] : Fin 2 → IVec S16 32) a x).toNat < S256x142.size a) ∧
  (∀ (k0_h1 : k0_cond1 i k0_t2 = 1#1), ∀ a x, ((![v45, v991] : Fin 2 → IVec S16 32) a x).toNat < S256x142.size a) ∧
  (∀ (k0_h1 : k0_cond1 i k0_t2 = 1#1), ∀ a x, ((![v50, v991] : Fin 2 → IVec S16 32) a x).toNat < S256x142.size a) ∧
  (∀ (k0_h1 : k0_cond1 i k0_t2 = 1#1), ∀ a x, ((![v55, v991] : Fin 2 → IVec S16 32) a x).toNat < S256x142.size a) ∧
  (∀ (k0_h1 : k0_cond1 i k0_t2 = 1#1), ∀ a x, ((![v60, v991] : Fin 2 → IVec S16 32) a x).toNat < S256x142.size a)
theorem k0_idx887_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v15, v991] : Fin 2 → IVec S16 32) a x).toNat < S256x142.size a := fun i k0_t2 v15 v20 v25 v30 v35 v40 v45 v50 v55 v60 v991 k0_hw584 k0_h1 => k0_hw584.1 k0_h1
theorem k0_idx889_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v20, v991] : Fin 2 → IVec S16 32) a x).toNat < S256x142.size a := fun i k0_t2 v15 v20 v25 v30 v35 v40 v45 v50 v55 v60 v991 k0_hw584 k0_h1 => k0_hw584.2.1 k0_h1
theorem k0_idx891_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v25, v991] : Fin 2 → IVec S16 32) a x).toNat < S256x142.size a := fun i k0_t2 v15 v20 v25 v30 v35 v40 v45 v50 v55 v60 v991 k0_hw584 k0_h1 => k0_hw584.2.2.1 k0_h1
theorem k0_idx893_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v30, v991] : Fin 2 → IVec S16 32) a x).toNat < S256x142.size a := fun i k0_t2 v15 v20 v25 v30 v35 v40 v45 v50 v55 v60 v991 k0_hw584 k0_h1 => k0_hw584.2.2.2.1 k0_h1
theorem k0_idx895_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v35, v991] : Fin 2 → IVec S16 32) a x).toNat < S256x142.size a := fun i k0_t2 v15 v20 v25 v30 v35 v40 v45 v50 v55 v60 v991 k0_hw584 k0_h1 => k0_hw584.2.2.2.2.1 k0_h1
theorem k0_idx897_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v40, v991] : Fin 2 → IVec S16 32) a x).toNat < S256x142.size a := fun i k0_t2 v15 v20 v25 v30 v35 v40 v45 v50 v55 v60 v991 k0_hw584 k0_h1 => k0_hw584.2.2.2.2.2.1 k0_h1
theorem k0_idx899_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v45, v991] : Fin 2 → IVec S16 32) a x).toNat < S256x142.size a := fun i k0_t2 v15 v20 v25 v30 v35 v40 v45 v50 v55 v60 v991 k0_hw584 k0_h1 => k0_hw584.2.2.2.2.2.2.1 k0_h1
theorem k0_idx901_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v50, v991] : Fin 2 → IVec S16 32) a x).toNat < S256x142.size a := fun i k0_t2 v15 v20 v25 v30 v35 v40 v45 v50 v55 v60 v991 k0_hw584 k0_h1 => k0_hw584.2.2.2.2.2.2.2.1 k0_h1
theorem k0_idx903_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v55, v991] : Fin 2 → IVec S16 32) a x).toNat < S256x142.size a := fun i k0_t2 v15 v20 v25 v30 v35 v40 v45 v50 v55 v60 v991 k0_hw584 k0_h1 => k0_hw584.2.2.2.2.2.2.2.2.1 k0_h1
theorem k0_idx905_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v991 : IVec S16 32) (k0_hw584 : k0_chk584 i k0_t2 v15 v20 v25 v30 v35 v40 v45 v50 v55 v60 v991), ∀ (k0_h1 : k0_cond1 i k0_t2 = 1#1), ∀ a x, ((![v60, v991] : Fin 2 → IVec S16 32) a x).toNat < S256x142.size a := fun i k0_t2 v15 v20 v25 v30 v35 v40 v45 v50 v55 v60 v991 k0_hw584 k0_h1 => k0_hw584.2.2.2.2.2.2.2.2.2 k0_h1

def k0_chk594 (i : grid0.Coords) (k0_t2 : Fin k0_t2_loop.trips) (v991 : IVec S16 32) (v1021 : IVec S16 32) : Prop :=
  (∀ (k0_h1 : k0_cond1 i k0_t2 = 1#1), ∀ a x, ((![v1021, v991] : Fin 2 → IVec S16 32) a x).toNat < S160x142.size a)
theorem k0_idx906_inb : ∀ (i : grid0.Coords) (k0_t2 : Fin k0_t2_loop.trips) (v991 : IVec S16 32) (v1021 : IVec S16 32) (k0_hw594 : k0_chk594 i k0_t2 v991 v1021), ∀ (k0_h1 : k0_cond1 i k0_t2 = 1#1), ∀ a x, ((![v1021, v991] : Fin 2 → IVec S16 32) a x).toNat < S160x142.size a := fun i k0_t2 v991 v1021 k0_hw594 k0_h1 => k0_hw594 k0_h1

def k0_chk596 (i : grid0.Coords) (k0_t2 : Fin k0_t2_loop.trips) (v1022 : IVec S16 32) (v1025 : IVec S16 32) : Prop :=
  (∀ (k0_h1 : k0_cond1 i k0_t2 = 1#1), ∀ a x, ((![v1025, v1022] : Fin 2 → IVec S16 32) a x).toNat < S160x142.size a)
theorem k0_idx908_inb : ∀ (i : grid0.Coords) (k0_t2 : Fin k0_t2_loop.trips) (v1022 : IVec S16 32) (v1025 : IVec S16 32) (k0_hw596 : k0_chk596 i k0_t2 v1022 v1025), ∀ (k0_h1 : k0_cond1 i k0_t2 = 1#1), ∀ a x, ((![v1025, v1022] : Fin 2 → IVec S16 32) a x).toNat < S160x142.size a := fun i k0_t2 v1022 v1025 k0_hw596 k0_h1 => k0_hw596 k0_h1

def k0_chk597 (i : grid0.Coords) (k0_t2 : Fin k0_t2_loop.trips) (v1022 : IVec S16 32) (v1028 : IVec S16 32) : Prop :=
  (∀ (k0_h1 : k0_cond1 i k0_t2 = 1#1), ∀ a x, ((![v1028, v1022] : Fin 2 → IVec S16 32) a x).toNat < S160x142.size a)
theorem k0_idx910_inb : ∀ (i : grid0.Coords) (k0_t2 : Fin k0_t2_loop.trips) (v1022 : IVec S16 32) (v1028 : IVec S16 32) (k0_hw597 : k0_chk597 i k0_t2 v1022 v1028), ∀ (k0_h1 : k0_cond1 i k0_t2 = 1#1), ∀ a x, ((![v1028, v1022] : Fin 2 → IVec S16 32) a x).toNat < S160x142.size a := fun i k0_t2 v1022 v1028 k0_hw597 k0_h1 => k0_hw597 k0_h1

def k0_chk598 (i : grid0.Coords) (k0_t2 : Fin k0_t2_loop.trips) (v1022 : IVec S16 32) (v1031 : IVec S16 32) : Prop :=
  (∀ (k0_h1 : k0_cond1 i k0_t2 = 1#1), ∀ a x, ((![v1031, v1022] : Fin 2 → IVec S16 32) a x).toNat < S160x142.size a)
theorem k0_idx912_inb : ∀ (i : grid0.Coords) (k0_t2 : Fin k0_t2_loop.trips) (v1022 : IVec S16 32) (v1031 : IVec S16 32) (k0_hw598 : k0_chk598 i k0_t2 v1022 v1031), ∀ (k0_h1 : k0_cond1 i k0_t2 = 1#1), ∀ a x, ((![v1031, v1022] : Fin 2 → IVec S16 32) a x).toNat < S160x142.size a := fun i k0_t2 v1022 v1031 k0_hw598 k0_h1 => k0_hw598 k0_h1

def k0_chk599 (i : grid0.Coords) (k0_t2 : Fin k0_t2_loop.trips) (v1022 : IVec S16 32) (v1034 : IVec S16 32) : Prop :=
  (∀ (k0_h1 : k0_cond1 i k0_t2 = 1#1), ∀ a x, ((![v1034, v1022] : Fin 2 → IVec S16 32) a x).toNat < S160x142.size a)
theorem k0_idx914_inb : ∀ (i : grid0.Coords) (k0_t2 : Fin k0_t2_loop.trips) (v1022 : IVec S16 32) (v1034 : IVec S16 32) (k0_hw599 : k0_chk599 i k0_t2 v1022 v1034), ∀ (k0_h1 : k0_cond1 i k0_t2 = 1#1), ∀ a x, ((![v1034, v1022] : Fin 2 → IVec S16 32) a x).toNat < S160x142.size a := fun i k0_t2 v1022 v1034 k0_hw599 k0_h1 => k0_hw599 k0_h1

def k0_chk600 (i : grid0.Coords) (k0_t2 : Fin k0_t2_loop.trips) (v1022 : IVec S16 32) (v1037 : IVec S16 32) : Prop :=
  (∀ (k0_h1 : k0_cond1 i k0_t2 = 1#1), ∀ a x, ((![v1037, v1022] : Fin 2 → IVec S16 32) a x).toNat < S160x142.size a)
theorem k0_idx916_inb : ∀ (i : grid0.Coords) (k0_t2 : Fin k0_t2_loop.trips) (v1022 : IVec S16 32) (v1037 : IVec S16 32) (k0_hw600 : k0_chk600 i k0_t2 v1022 v1037), ∀ (k0_h1 : k0_cond1 i k0_t2 = 1#1), ∀ a x, ((![v1037, v1022] : Fin 2 → IVec S16 32) a x).toNat < S160x142.size a := fun i k0_t2 v1022 v1037 k0_hw600 k0_h1 => k0_hw600 k0_h1

def k0_chk601 (i : grid0.Coords) (k0_t2 : Fin k0_t2_loop.trips) (v1022 : IVec S16 32) (v1040 : IVec S16 32) : Prop :=
  (∀ (k0_h1 : k0_cond1 i k0_t2 = 1#1), ∀ a x, ((![v1040, v1022] : Fin 2 → IVec S16 32) a x).toNat < S160x142.size a)
theorem k0_idx918_inb : ∀ (i : grid0.Coords) (k0_t2 : Fin k0_t2_loop.trips) (v1022 : IVec S16 32) (v1040 : IVec S16 32) (k0_hw601 : k0_chk601 i k0_t2 v1022 v1040), ∀ (k0_h1 : k0_cond1 i k0_t2 = 1#1), ∀ a x, ((![v1040, v1022] : Fin 2 → IVec S16 32) a x).toNat < S160x142.size a := fun i k0_t2 v1022 v1040 k0_hw601 k0_h1 => k0_hw601 k0_h1

def k0_chk602 (i : grid0.Coords) (k0_t2 : Fin k0_t2_loop.trips) (v1022 : IVec S16 32) (v1043 : IVec S16 32) : Prop :=
  (∀ (k0_h1 : k0_cond1 i k0_t2 = 1#1), ∀ a x, ((![v1043, v1022] : Fin 2 → IVec S16 32) a x).toNat < S160x142.size a)
theorem k0_idx920_inb : ∀ (i : grid0.Coords) (k0_t2 : Fin k0_t2_loop.trips) (v1022 : IVec S16 32) (v1043 : IVec S16 32) (k0_hw602 : k0_chk602 i k0_t2 v1022 v1043), ∀ (k0_h1 : k0_cond1 i k0_t2 = 1#1), ∀ a x, ((![v1043, v1022] : Fin 2 → IVec S16 32) a x).toNat < S160x142.size a := fun i k0_t2 v1022 v1043 k0_hw602 k0_h1 => k0_hw602 k0_h1

def k0_chk603 (i : grid0.Coords) (k0_t2 : Fin k0_t2_loop.trips) (v1022 : IVec S16 32) (v1046 : IVec S16 32) : Prop :=
  (∀ (k0_h1 : k0_cond1 i k0_t2 = 1#1), ∀ a x, ((![v1046, v1022] : Fin 2 → IVec S16 32) a x).toNat < S160x142.size a)
theorem k0_idx922_inb : ∀ (i : grid0.Coords) (k0_t2 : Fin k0_t2_loop.trips) (v1022 : IVec S16 32) (v1046 : IVec S16 32) (k0_hw603 : k0_chk603 i k0_t2 v1022 v1046), ∀ (k0_h1 : k0_cond1 i k0_t2 = 1#1), ∀ a x, ((![v1046, v1022] : Fin 2 → IVec S16 32) a x).toNat < S160x142.size a := fun i k0_t2 v1022 v1046 k0_hw603 k0_h1 => k0_hw603 k0_h1

def k0_chk604 (i : grid0.Coords) (k0_t2 : Fin k0_t2_loop.trips) (v1022 : IVec S16 32) (v1049 : IVec S16 32) : Prop :=
  (∀ (k0_h1 : k0_cond1 i k0_t2 = 1#1), ∀ a x, ((![v1049, v1022] : Fin 2 → IVec S16 32) a x).toNat < S160x142.size a)
theorem k0_idx924_inb : ∀ (i : grid0.Coords) (k0_t2 : Fin k0_t2_loop.trips) (v1022 : IVec S16 32) (v1049 : IVec S16 32) (k0_hw604 : k0_chk604 i k0_t2 v1022 v1049), ∀ (k0_h1 : k0_cond1 i k0_t2 = 1#1), ∀ a x, ((![v1049, v1022] : Fin 2 → IVec S16 32) a x).toNat < S160x142.size a := fun i k0_t2 v1022 v1049 k0_hw604 k0_h1 => k0_hw604 k0_h1

def k0_chk595 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) : Prop :=
  (∀ (k0_h1 : k0_cond1 i k0_t2 = 1#1), ∀ a x, ((![v15, v1022] : Fin 2 → IVec S16 32) a x).toNat < S256x142.size a) ∧
  (∀ (k0_h1 : k0_cond1 i k0_t2 = 1#1), ∀ a x, ((![v20, v1022] : Fin 2 → IVec S16 32) a x).toNat < S256x142.size a) ∧
  (∀ (k0_h1 : k0_cond1 i k0_t2 = 1#1), ∀ a x, ((![v25, v1022] : Fin 2 → IVec S16 32) a x).toNat < S256x142.size a) ∧
  (∀ (k0_h1 : k0_cond1 i k0_t2 = 1#1), ∀ a x, ((![v30, v1022] : Fin 2 → IVec S16 32) a x).toNat < S256x142.size a) ∧
  (∀ (k0_h1 : k0_cond1 i k0_t2 = 1#1), ∀ a x, ((![v35, v1022] : Fin 2 → IVec S16 32) a x).toNat < S256x142.size a) ∧
  (∀ (k0_h1 : k0_cond1 i k0_t2 = 1#1), ∀ a x, ((![v40, v1022] : Fin 2 → IVec S16 32) a x).toNat < S256x142.size a) ∧
  (∀ (k0_h1 : k0_cond1 i k0_t2 = 1#1), ∀ a x, ((![v45, v1022] : Fin 2 → IVec S16 32) a x).toNat < S256x142.size a) ∧
  (∀ (k0_h1 : k0_cond1 i k0_t2 = 1#1), ∀ a x, ((![v50, v1022] : Fin 2 → IVec S16 32) a x).toNat < S256x142.size a) ∧
  (∀ (k0_h1 : k0_cond1 i k0_t2 = 1#1), ∀ a x, ((![v55, v1022] : Fin 2 → IVec S16 32) a x).toNat < S256x142.size a) ∧
  (∀ (k0_h1 : k0_cond1 i k0_t2 = 1#1), ∀ a x, ((![v60, v1022] : Fin 2 → IVec S16 32) a x).toNat < S256x142.size a)
theorem k0_idx907_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v15, v1022] : Fin 2 → IVec S16 32) a x).toNat < S256x142.size a := fun i k0_t2 v15 v20 v25 v30 v35 v40 v45 v50 v55 v60 v1022 k0_hw595 k0_h1 => k0_hw595.1 k0_h1
theorem k0_idx909_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v20, v1022] : Fin 2 → IVec S16 32) a x).toNat < S256x142.size a := fun i k0_t2 v15 v20 v25 v30 v35 v40 v45 v50 v55 v60 v1022 k0_hw595 k0_h1 => k0_hw595.2.1 k0_h1
theorem k0_idx911_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v25, v1022] : Fin 2 → IVec S16 32) a x).toNat < S256x142.size a := fun i k0_t2 v15 v20 v25 v30 v35 v40 v45 v50 v55 v60 v1022 k0_hw595 k0_h1 => k0_hw595.2.2.1 k0_h1
theorem k0_idx913_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v30, v1022] : Fin 2 → IVec S16 32) a x).toNat < S256x142.size a := fun i k0_t2 v15 v20 v25 v30 v35 v40 v45 v50 v55 v60 v1022 k0_hw595 k0_h1 => k0_hw595.2.2.2.1 k0_h1
theorem k0_idx915_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v35, v1022] : Fin 2 → IVec S16 32) a x).toNat < S256x142.size a := fun i k0_t2 v15 v20 v25 v30 v35 v40 v45 v50 v55 v60 v1022 k0_hw595 k0_h1 => k0_hw595.2.2.2.2.1 k0_h1
theorem k0_idx917_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v40, v1022] : Fin 2 → IVec S16 32) a x).toNat < S256x142.size a := fun i k0_t2 v15 v20 v25 v30 v35 v40 v45 v50 v55 v60 v1022 k0_hw595 k0_h1 => k0_hw595.2.2.2.2.2.1 k0_h1
theorem k0_idx919_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v45, v1022] : Fin 2 → IVec S16 32) a x).toNat < S256x142.size a := fun i k0_t2 v15 v20 v25 v30 v35 v40 v45 v50 v55 v60 v1022 k0_hw595 k0_h1 => k0_hw595.2.2.2.2.2.2.1 k0_h1
theorem k0_idx921_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v50, v1022] : Fin 2 → IVec S16 32) a x).toNat < S256x142.size a := fun i k0_t2 v15 v20 v25 v30 v35 v40 v45 v50 v55 v60 v1022 k0_hw595 k0_h1 => k0_hw595.2.2.2.2.2.2.2.1 k0_h1
theorem k0_idx923_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v55, v1022] : Fin 2 → IVec S16 32) a x).toNat < S256x142.size a := fun i k0_t2 v15 v20 v25 v30 v35 v40 v45 v50 v55 v60 v1022 k0_hw595 k0_h1 => k0_hw595.2.2.2.2.2.2.2.2.1 k0_h1
theorem k0_idx925_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1022 : IVec S16 32) (k0_hw595 : k0_chk595 i k0_t2 v15 v20 v25 v30 v35 v40 v45 v50 v55 v60 v1022), ∀ (k0_h1 : k0_cond1 i k0_t2 = 1#1), ∀ a x, ((![v60, v1022] : Fin 2 → IVec S16 32) a x).toNat < S256x142.size a := fun i k0_t2 v15 v20 v25 v30 v35 v40 v45 v50 v55 v60 v1022 k0_hw595 k0_h1 => k0_hw595.2.2.2.2.2.2.2.2.2 k0_h1

def k0_chk605 (i : grid0.Coords) (k0_t2 : Fin k0_t2_loop.trips) (v1022 : IVec S16 32) (v1052 : IVec S16 32) : Prop :=
  (∀ (k0_h1 : k0_cond1 i k0_t2 = 1#1), ∀ a x, ((![v1052, v1022] : Fin 2 → IVec S16 32) a x).toNat < S160x142.size a)
theorem k0_idx926_inb : ∀ (i : grid0.Coords) (k0_t2 : Fin k0_t2_loop.trips) (v1022 : IVec S16 32) (v1052 : IVec S16 32) (k0_hw605 : k0_chk605 i k0_t2 v1022 v1052), ∀ (k0_h1 : k0_cond1 i k0_t2 = 1#1), ∀ a x, ((![v1052, v1022] : Fin 2 → IVec S16 32) a x).toNat < S160x142.size a := fun i k0_t2 v1022 v1052 k0_hw605 k0_h1 => k0_hw605 k0_h1

def k0_chk607 (i : grid0.Coords) (k0_t2 : Fin k0_t2_loop.trips) (v1053 : IVec S16 32) (v1056 : IVec S16 32) : Prop :=
  (∀ (k0_h1 : k0_cond1 i k0_t2 = 1#1), ∀ a x, ((![v1056, v1053] : Fin 2 → IVec S16 32) a x).toNat < S160x142.size a)
theorem k0_idx928_inb : ∀ (i : grid0.Coords) (k0_t2 : Fin k0_t2_loop.trips) (v1053 : IVec S16 32) (v1056 : IVec S16 32) (k0_hw607 : k0_chk607 i k0_t2 v1053 v1056), ∀ (k0_h1 : k0_cond1 i k0_t2 = 1#1), ∀ a x, ((![v1056, v1053] : Fin 2 → IVec S16 32) a x).toNat < S160x142.size a := fun i k0_t2 v1053 v1056 k0_hw607 k0_h1 => k0_hw607 k0_h1

def k0_chk608 (i : grid0.Coords) (k0_t2 : Fin k0_t2_loop.trips) (v1053 : IVec S16 32) (v1059 : IVec S16 32) : Prop :=
  (∀ (k0_h1 : k0_cond1 i k0_t2 = 1#1), ∀ a x, ((![v1059, v1053] : Fin 2 → IVec S16 32) a x).toNat < S160x142.size a)
theorem k0_idx930_inb : ∀ (i : grid0.Coords) (k0_t2 : Fin k0_t2_loop.trips) (v1053 : IVec S16 32) (v1059 : IVec S16 32) (k0_hw608 : k0_chk608 i k0_t2 v1053 v1059), ∀ (k0_h1 : k0_cond1 i k0_t2 = 1#1), ∀ a x, ((![v1059, v1053] : Fin 2 → IVec S16 32) a x).toNat < S160x142.size a := fun i k0_t2 v1053 v1059 k0_hw608 k0_h1 => k0_hw608 k0_h1

def k0_chk609 (i : grid0.Coords) (k0_t2 : Fin k0_t2_loop.trips) (v1053 : IVec S16 32) (v1062 : IVec S16 32) : Prop :=
  (∀ (k0_h1 : k0_cond1 i k0_t2 = 1#1), ∀ a x, ((![v1062, v1053] : Fin 2 → IVec S16 32) a x).toNat < S160x142.size a)
theorem k0_idx932_inb : ∀ (i : grid0.Coords) (k0_t2 : Fin k0_t2_loop.trips) (v1053 : IVec S16 32) (v1062 : IVec S16 32) (k0_hw609 : k0_chk609 i k0_t2 v1053 v1062), ∀ (k0_h1 : k0_cond1 i k0_t2 = 1#1), ∀ a x, ((![v1062, v1053] : Fin 2 → IVec S16 32) a x).toNat < S160x142.size a := fun i k0_t2 v1053 v1062 k0_hw609 k0_h1 => k0_hw609 k0_h1

def k0_chk610 (i : grid0.Coords) (k0_t2 : Fin k0_t2_loop.trips) (v1053 : IVec S16 32) (v1065 : IVec S16 32) : Prop :=
  (∀ (k0_h1 : k0_cond1 i k0_t2 = 1#1), ∀ a x, ((![v1065, v1053] : Fin 2 → IVec S16 32) a x).toNat < S160x142.size a)
theorem k0_idx934_inb : ∀ (i : grid0.Coords) (k0_t2 : Fin k0_t2_loop.trips) (v1053 : IVec S16 32) (v1065 : IVec S16 32) (k0_hw610 : k0_chk610 i k0_t2 v1053 v1065), ∀ (k0_h1 : k0_cond1 i k0_t2 = 1#1), ∀ a x, ((![v1065, v1053] : Fin 2 → IVec S16 32) a x).toNat < S160x142.size a := fun i k0_t2 v1053 v1065 k0_hw610 k0_h1 => k0_hw610 k0_h1

def k0_chk611 (i : grid0.Coords) (k0_t2 : Fin k0_t2_loop.trips) (v1053 : IVec S16 32) (v1068 : IVec S16 32) : Prop :=
  (∀ (k0_h1 : k0_cond1 i k0_t2 = 1#1), ∀ a x, ((![v1068, v1053] : Fin 2 → IVec S16 32) a x).toNat < S160x142.size a)
theorem k0_idx936_inb : ∀ (i : grid0.Coords) (k0_t2 : Fin k0_t2_loop.trips) (v1053 : IVec S16 32) (v1068 : IVec S16 32) (k0_hw611 : k0_chk611 i k0_t2 v1053 v1068), ∀ (k0_h1 : k0_cond1 i k0_t2 = 1#1), ∀ a x, ((![v1068, v1053] : Fin 2 → IVec S16 32) a x).toNat < S160x142.size a := fun i k0_t2 v1053 v1068 k0_hw611 k0_h1 => k0_hw611 k0_h1

def k0_chk612 (i : grid0.Coords) (k0_t2 : Fin k0_t2_loop.trips) (v1053 : IVec S16 32) (v1071 : IVec S16 32) : Prop :=
  (∀ (k0_h1 : k0_cond1 i k0_t2 = 1#1), ∀ a x, ((![v1071, v1053] : Fin 2 → IVec S16 32) a x).toNat < S160x142.size a)
theorem k0_idx938_inb : ∀ (i : grid0.Coords) (k0_t2 : Fin k0_t2_loop.trips) (v1053 : IVec S16 32) (v1071 : IVec S16 32) (k0_hw612 : k0_chk612 i k0_t2 v1053 v1071), ∀ (k0_h1 : k0_cond1 i k0_t2 = 1#1), ∀ a x, ((![v1071, v1053] : Fin 2 → IVec S16 32) a x).toNat < S160x142.size a := fun i k0_t2 v1053 v1071 k0_hw612 k0_h1 => k0_hw612 k0_h1

def k0_chk613 (i : grid0.Coords) (k0_t2 : Fin k0_t2_loop.trips) (v1053 : IVec S16 32) (v1074 : IVec S16 32) : Prop :=
  (∀ (k0_h1 : k0_cond1 i k0_t2 = 1#1), ∀ a x, ((![v1074, v1053] : Fin 2 → IVec S16 32) a x).toNat < S160x142.size a)
theorem k0_idx940_inb : ∀ (i : grid0.Coords) (k0_t2 : Fin k0_t2_loop.trips) (v1053 : IVec S16 32) (v1074 : IVec S16 32) (k0_hw613 : k0_chk613 i k0_t2 v1053 v1074), ∀ (k0_h1 : k0_cond1 i k0_t2 = 1#1), ∀ a x, ((![v1074, v1053] : Fin 2 → IVec S16 32) a x).toNat < S160x142.size a := fun i k0_t2 v1053 v1074 k0_hw613 k0_h1 => k0_hw613 k0_h1

def k0_chk614 (i : grid0.Coords) (k0_t2 : Fin k0_t2_loop.trips) (v1053 : IVec S16 32) (v1077 : IVec S16 32) : Prop :=
  (∀ (k0_h1 : k0_cond1 i k0_t2 = 1#1), ∀ a x, ((![v1077, v1053] : Fin 2 → IVec S16 32) a x).toNat < S160x142.size a)
theorem k0_idx942_inb : ∀ (i : grid0.Coords) (k0_t2 : Fin k0_t2_loop.trips) (v1053 : IVec S16 32) (v1077 : IVec S16 32) (k0_hw614 : k0_chk614 i k0_t2 v1053 v1077), ∀ (k0_h1 : k0_cond1 i k0_t2 = 1#1), ∀ a x, ((![v1077, v1053] : Fin 2 → IVec S16 32) a x).toNat < S160x142.size a := fun i k0_t2 v1053 v1077 k0_hw614 k0_h1 => k0_hw614 k0_h1

def k0_chk615 (i : grid0.Coords) (k0_t2 : Fin k0_t2_loop.trips) (v1053 : IVec S16 32) (v1080 : IVec S16 32) : Prop :=
  (∀ (k0_h1 : k0_cond1 i k0_t2 = 1#1), ∀ a x, ((![v1080, v1053] : Fin 2 → IVec S16 32) a x).toNat < S160x142.size a)
theorem k0_idx944_inb : ∀ (i : grid0.Coords) (k0_t2 : Fin k0_t2_loop.trips) (v1053 : IVec S16 32) (v1080 : IVec S16 32) (k0_hw615 : k0_chk615 i k0_t2 v1053 v1080), ∀ (k0_h1 : k0_cond1 i k0_t2 = 1#1), ∀ a x, ((![v1080, v1053] : Fin 2 → IVec S16 32) a x).toNat < S160x142.size a := fun i k0_t2 v1053 v1080 k0_hw615 k0_h1 => k0_hw615 k0_h1

def k0_chk606 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) : Prop :=
  (∀ (k0_h1 : k0_cond1 i k0_t2 = 1#1), ∀ a x, ((![v15, v1053] : Fin 2 → IVec S16 32) a x).toNat < S256x142.size a) ∧
  (∀ (k0_h1 : k0_cond1 i k0_t2 = 1#1), ∀ a x, ((![v20, v1053] : Fin 2 → IVec S16 32) a x).toNat < S256x142.size a) ∧
  (∀ (k0_h1 : k0_cond1 i k0_t2 = 1#1), ∀ a x, ((![v25, v1053] : Fin 2 → IVec S16 32) a x).toNat < S256x142.size a) ∧
  (∀ (k0_h1 : k0_cond1 i k0_t2 = 1#1), ∀ a x, ((![v30, v1053] : Fin 2 → IVec S16 32) a x).toNat < S256x142.size a) ∧
  (∀ (k0_h1 : k0_cond1 i k0_t2 = 1#1), ∀ a x, ((![v35, v1053] : Fin 2 → IVec S16 32) a x).toNat < S256x142.size a) ∧
  (∀ (k0_h1 : k0_cond1 i k0_t2 = 1#1), ∀ a x, ((![v40, v1053] : Fin 2 → IVec S16 32) a x).toNat < S256x142.size a) ∧
  (∀ (k0_h1 : k0_cond1 i k0_t2 = 1#1), ∀ a x, ((![v45, v1053] : Fin 2 → IVec S16 32) a x).toNat < S256x142.size a) ∧
  (∀ (k0_h1 : k0_cond1 i k0_t2 = 1#1), ∀ a x, ((![v50, v1053] : Fin 2 → IVec S16 32) a x).toNat < S256x142.size a) ∧
  (∀ (k0_h1 : k0_cond1 i k0_t2 = 1#1), ∀ a x, ((![v55, v1053] : Fin 2 → IVec S16 32) a x).toNat < S256x142.size a) ∧
  (∀ (k0_h1 : k0_cond1 i k0_t2 = 1#1), ∀ a x, ((![v60, v1053] : Fin 2 → IVec S16 32) a x).toNat < S256x142.size a)
theorem k0_idx927_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v15, v1053] : Fin 2 → IVec S16 32) a x).toNat < S256x142.size a := fun i k0_t2 v15 v20 v25 v30 v35 v40 v45 v50 v55 v60 v1053 k0_hw606 k0_h1 => k0_hw606.1 k0_h1
theorem k0_idx929_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v20, v1053] : Fin 2 → IVec S16 32) a x).toNat < S256x142.size a := fun i k0_t2 v15 v20 v25 v30 v35 v40 v45 v50 v55 v60 v1053 k0_hw606 k0_h1 => k0_hw606.2.1 k0_h1
theorem k0_idx931_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v25, v1053] : Fin 2 → IVec S16 32) a x).toNat < S256x142.size a := fun i k0_t2 v15 v20 v25 v30 v35 v40 v45 v50 v55 v60 v1053 k0_hw606 k0_h1 => k0_hw606.2.2.1 k0_h1
theorem k0_idx933_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v30, v1053] : Fin 2 → IVec S16 32) a x).toNat < S256x142.size a := fun i k0_t2 v15 v20 v25 v30 v35 v40 v45 v50 v55 v60 v1053 k0_hw606 k0_h1 => k0_hw606.2.2.2.1 k0_h1
theorem k0_idx935_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v35, v1053] : Fin 2 → IVec S16 32) a x).toNat < S256x142.size a := fun i k0_t2 v15 v20 v25 v30 v35 v40 v45 v50 v55 v60 v1053 k0_hw606 k0_h1 => k0_hw606.2.2.2.2.1 k0_h1
theorem k0_idx937_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v40, v1053] : Fin 2 → IVec S16 32) a x).toNat < S256x142.size a := fun i k0_t2 v15 v20 v25 v30 v35 v40 v45 v50 v55 v60 v1053 k0_hw606 k0_h1 => k0_hw606.2.2.2.2.2.1 k0_h1
theorem k0_idx939_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v45, v1053] : Fin 2 → IVec S16 32) a x).toNat < S256x142.size a := fun i k0_t2 v15 v20 v25 v30 v35 v40 v45 v50 v55 v60 v1053 k0_hw606 k0_h1 => k0_hw606.2.2.2.2.2.2.1 k0_h1
theorem k0_idx941_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v50, v1053] : Fin 2 → IVec S16 32) a x).toNat < S256x142.size a := fun i k0_t2 v15 v20 v25 v30 v35 v40 v45 v50 v55 v60 v1053 k0_hw606 k0_h1 => k0_hw606.2.2.2.2.2.2.2.1 k0_h1
theorem k0_idx943_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v55, v1053] : Fin 2 → IVec S16 32) a x).toNat < S256x142.size a := fun i k0_t2 v15 v20 v25 v30 v35 v40 v45 v50 v55 v60 v1053 k0_hw606 k0_h1 => k0_hw606.2.2.2.2.2.2.2.2.1 k0_h1
theorem k0_idx945_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1053 : IVec S16 32) (k0_hw606 : k0_chk606 i k0_t2 v15 v20 v25 v30 v35 v40 v45 v50 v55 v60 v1053), ∀ (k0_h1 : k0_cond1 i k0_t2 = 1#1), ∀ a x, ((![v60, v1053] : Fin 2 → IVec S16 32) a x).toNat < S256x142.size a := fun i k0_t2 v15 v20 v25 v30 v35 v40 v45 v50 v55 v60 v1053 k0_hw606 k0_h1 => k0_hw606.2.2.2.2.2.2.2.2.2 k0_h1

def k0_chk616 (i : grid0.Coords) (k0_t2 : Fin k0_t2_loop.trips) (v1053 : IVec S16 32) (v1083 : IVec S16 32) : Prop :=
  (∀ (k0_h1 : k0_cond1 i k0_t2 = 1#1), ∀ a x, ((![v1083, v1053] : Fin 2 → IVec S16 32) a x).toNat < S160x142.size a)
theorem k0_idx946_inb : ∀ (i : grid0.Coords) (k0_t2 : Fin k0_t2_loop.trips) (v1053 : IVec S16 32) (v1083 : IVec S16 32) (k0_hw616 : k0_chk616 i k0_t2 v1053 v1083), ∀ (k0_h1 : k0_cond1 i k0_t2 = 1#1), ∀ a x, ((![v1083, v1053] : Fin 2 → IVec S16 32) a x).toNat < S160x142.size a := fun i k0_t2 v1053 v1083 k0_hw616 k0_h1 => k0_hw616 k0_h1

def k0_chk618 (i : grid0.Coords) (k0_t2 : Fin k0_t2_loop.trips) (v1084 : IVec S16 32) (v1087 : IVec S16 32) : Prop :=
  (∀ (k0_h1 : k0_cond1 i k0_t2 = 1#1), ∀ a x, ((![v1087, v1084] : Fin 2 → IVec S16 32) a x).toNat < S160x142.size a)
theorem k0_idx948_inb : ∀ (i : grid0.Coords) (k0_t2 : Fin k0_t2_loop.trips) (v1084 : IVec S16 32) (v1087 : IVec S16 32) (k0_hw618 : k0_chk618 i k0_t2 v1084 v1087), ∀ (k0_h1 : k0_cond1 i k0_t2 = 1#1), ∀ a x, ((![v1087, v1084] : Fin 2 → IVec S16 32) a x).toNat < S160x142.size a := fun i k0_t2 v1084 v1087 k0_hw618 k0_h1 => k0_hw618 k0_h1

def k0_chk619 (i : grid0.Coords) (k0_t2 : Fin k0_t2_loop.trips) (v1084 : IVec S16 32) (v1090 : IVec S16 32) : Prop :=
  (∀ (k0_h1 : k0_cond1 i k0_t2 = 1#1), ∀ a x, ((![v1090, v1084] : Fin 2 → IVec S16 32) a x).toNat < S160x142.size a)
theorem k0_idx950_inb : ∀ (i : grid0.Coords) (k0_t2 : Fin k0_t2_loop.trips) (v1084 : IVec S16 32) (v1090 : IVec S16 32) (k0_hw619 : k0_chk619 i k0_t2 v1084 v1090), ∀ (k0_h1 : k0_cond1 i k0_t2 = 1#1), ∀ a x, ((![v1090, v1084] : Fin 2 → IVec S16 32) a x).toNat < S160x142.size a := fun i k0_t2 v1084 v1090 k0_hw619 k0_h1 => k0_hw619 k0_h1

def k0_chk620 (i : grid0.Coords) (k0_t2 : Fin k0_t2_loop.trips) (v1084 : IVec S16 32) (v1093 : IVec S16 32) : Prop :=
  (∀ (k0_h1 : k0_cond1 i k0_t2 = 1#1), ∀ a x, ((![v1093, v1084] : Fin 2 → IVec S16 32) a x).toNat < S160x142.size a)
theorem k0_idx952_inb : ∀ (i : grid0.Coords) (k0_t2 : Fin k0_t2_loop.trips) (v1084 : IVec S16 32) (v1093 : IVec S16 32) (k0_hw620 : k0_chk620 i k0_t2 v1084 v1093), ∀ (k0_h1 : k0_cond1 i k0_t2 = 1#1), ∀ a x, ((![v1093, v1084] : Fin 2 → IVec S16 32) a x).toNat < S160x142.size a := fun i k0_t2 v1084 v1093 k0_hw620 k0_h1 => k0_hw620 k0_h1

def k0_chk621 (i : grid0.Coords) (k0_t2 : Fin k0_t2_loop.trips) (v1084 : IVec S16 32) (v1096 : IVec S16 32) : Prop :=
  (∀ (k0_h1 : k0_cond1 i k0_t2 = 1#1), ∀ a x, ((![v1096, v1084] : Fin 2 → IVec S16 32) a x).toNat < S160x142.size a)
theorem k0_idx954_inb : ∀ (i : grid0.Coords) (k0_t2 : Fin k0_t2_loop.trips) (v1084 : IVec S16 32) (v1096 : IVec S16 32) (k0_hw621 : k0_chk621 i k0_t2 v1084 v1096), ∀ (k0_h1 : k0_cond1 i k0_t2 = 1#1), ∀ a x, ((![v1096, v1084] : Fin 2 → IVec S16 32) a x).toNat < S160x142.size a := fun i k0_t2 v1084 v1096 k0_hw621 k0_h1 => k0_hw621 k0_h1

def k0_chk622 (i : grid0.Coords) (k0_t2 : Fin k0_t2_loop.trips) (v1084 : IVec S16 32) (v1099 : IVec S16 32) : Prop :=
  (∀ (k0_h1 : k0_cond1 i k0_t2 = 1#1), ∀ a x, ((![v1099, v1084] : Fin 2 → IVec S16 32) a x).toNat < S160x142.size a)
theorem k0_idx956_inb : ∀ (i : grid0.Coords) (k0_t2 : Fin k0_t2_loop.trips) (v1084 : IVec S16 32) (v1099 : IVec S16 32) (k0_hw622 : k0_chk622 i k0_t2 v1084 v1099), ∀ (k0_h1 : k0_cond1 i k0_t2 = 1#1), ∀ a x, ((![v1099, v1084] : Fin 2 → IVec S16 32) a x).toNat < S160x142.size a := fun i k0_t2 v1084 v1099 k0_hw622 k0_h1 => k0_hw622 k0_h1

def k0_chk623 (i : grid0.Coords) (k0_t2 : Fin k0_t2_loop.trips) (v1084 : IVec S16 32) (v1102 : IVec S16 32) : Prop :=
  (∀ (k0_h1 : k0_cond1 i k0_t2 = 1#1), ∀ a x, ((![v1102, v1084] : Fin 2 → IVec S16 32) a x).toNat < S160x142.size a)
theorem k0_idx958_inb : ∀ (i : grid0.Coords) (k0_t2 : Fin k0_t2_loop.trips) (v1084 : IVec S16 32) (v1102 : IVec S16 32) (k0_hw623 : k0_chk623 i k0_t2 v1084 v1102), ∀ (k0_h1 : k0_cond1 i k0_t2 = 1#1), ∀ a x, ((![v1102, v1084] : Fin 2 → IVec S16 32) a x).toNat < S160x142.size a := fun i k0_t2 v1084 v1102 k0_hw623 k0_h1 => k0_hw623 k0_h1

def k0_chk624 (i : grid0.Coords) (k0_t2 : Fin k0_t2_loop.trips) (v1084 : IVec S16 32) (v1105 : IVec S16 32) : Prop :=
  (∀ (k0_h1 : k0_cond1 i k0_t2 = 1#1), ∀ a x, ((![v1105, v1084] : Fin 2 → IVec S16 32) a x).toNat < S160x142.size a)
theorem k0_idx960_inb : ∀ (i : grid0.Coords) (k0_t2 : Fin k0_t2_loop.trips) (v1084 : IVec S16 32) (v1105 : IVec S16 32) (k0_hw624 : k0_chk624 i k0_t2 v1084 v1105), ∀ (k0_h1 : k0_cond1 i k0_t2 = 1#1), ∀ a x, ((![v1105, v1084] : Fin 2 → IVec S16 32) a x).toNat < S160x142.size a := fun i k0_t2 v1084 v1105 k0_hw624 k0_h1 => k0_hw624 k0_h1

def k0_chk625 (i : grid0.Coords) (k0_t2 : Fin k0_t2_loop.trips) (v1084 : IVec S16 32) (v1108 : IVec S16 32) : Prop :=
  (∀ (k0_h1 : k0_cond1 i k0_t2 = 1#1), ∀ a x, ((![v1108, v1084] : Fin 2 → IVec S16 32) a x).toNat < S160x142.size a)
theorem k0_idx962_inb : ∀ (i : grid0.Coords) (k0_t2 : Fin k0_t2_loop.trips) (v1084 : IVec S16 32) (v1108 : IVec S16 32) (k0_hw625 : k0_chk625 i k0_t2 v1084 v1108), ∀ (k0_h1 : k0_cond1 i k0_t2 = 1#1), ∀ a x, ((![v1108, v1084] : Fin 2 → IVec S16 32) a x).toNat < S160x142.size a := fun i k0_t2 v1084 v1108 k0_hw625 k0_h1 => k0_hw625 k0_h1

def k0_chk626 (i : grid0.Coords) (k0_t2 : Fin k0_t2_loop.trips) (v1084 : IVec S16 32) (v1111 : IVec S16 32) : Prop :=
  (∀ (k0_h1 : k0_cond1 i k0_t2 = 1#1), ∀ a x, ((![v1111, v1084] : Fin 2 → IVec S16 32) a x).toNat < S160x142.size a)
theorem k0_idx964_inb : ∀ (i : grid0.Coords) (k0_t2 : Fin k0_t2_loop.trips) (v1084 : IVec S16 32) (v1111 : IVec S16 32) (k0_hw626 : k0_chk626 i k0_t2 v1084 v1111), ∀ (k0_h1 : k0_cond1 i k0_t2 = 1#1), ∀ a x, ((![v1111, v1084] : Fin 2 → IVec S16 32) a x).toNat < S160x142.size a := fun i k0_t2 v1084 v1111 k0_hw626 k0_h1 => k0_hw626 k0_h1

def k0_chk617 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) : Prop :=
  (∀ (k0_h1 : k0_cond1 i k0_t2 = 1#1), ∀ a x, ((![v15, v1084] : Fin 2 → IVec S16 32) a x).toNat < S256x142.size a) ∧
  (∀ (k0_h1 : k0_cond1 i k0_t2 = 1#1), ∀ a x, ((![v20, v1084] : Fin 2 → IVec S16 32) a x).toNat < S256x142.size a) ∧
  (∀ (k0_h1 : k0_cond1 i k0_t2 = 1#1), ∀ a x, ((![v25, v1084] : Fin 2 → IVec S16 32) a x).toNat < S256x142.size a) ∧
  (∀ (k0_h1 : k0_cond1 i k0_t2 = 1#1), ∀ a x, ((![v30, v1084] : Fin 2 → IVec S16 32) a x).toNat < S256x142.size a) ∧
  (∀ (k0_h1 : k0_cond1 i k0_t2 = 1#1), ∀ a x, ((![v35, v1084] : Fin 2 → IVec S16 32) a x).toNat < S256x142.size a) ∧
  (∀ (k0_h1 : k0_cond1 i k0_t2 = 1#1), ∀ a x, ((![v40, v1084] : Fin 2 → IVec S16 32) a x).toNat < S256x142.size a) ∧
  (∀ (k0_h1 : k0_cond1 i k0_t2 = 1#1), ∀ a x, ((![v45, v1084] : Fin 2 → IVec S16 32) a x).toNat < S256x142.size a) ∧
  (∀ (k0_h1 : k0_cond1 i k0_t2 = 1#1), ∀ a x, ((![v50, v1084] : Fin 2 → IVec S16 32) a x).toNat < S256x142.size a) ∧
  (∀ (k0_h1 : k0_cond1 i k0_t2 = 1#1), ∀ a x, ((![v55, v1084] : Fin 2 → IVec S16 32) a x).toNat < S256x142.size a) ∧
  (∀ (k0_h1 : k0_cond1 i k0_t2 = 1#1), ∀ a x, ((![v60, v1084] : Fin 2 → IVec S16 32) a x).toNat < S256x142.size a)
theorem k0_idx947_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v15, v1084] : Fin 2 → IVec S16 32) a x).toNat < S256x142.size a := fun i k0_t2 v15 v20 v25 v30 v35 v40 v45 v50 v55 v60 v1084 k0_hw617 k0_h1 => k0_hw617.1 k0_h1
theorem k0_idx949_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v20, v1084] : Fin 2 → IVec S16 32) a x).toNat < S256x142.size a := fun i k0_t2 v15 v20 v25 v30 v35 v40 v45 v50 v55 v60 v1084 k0_hw617 k0_h1 => k0_hw617.2.1 k0_h1
theorem k0_idx951_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v25, v1084] : Fin 2 → IVec S16 32) a x).toNat < S256x142.size a := fun i k0_t2 v15 v20 v25 v30 v35 v40 v45 v50 v55 v60 v1084 k0_hw617 k0_h1 => k0_hw617.2.2.1 k0_h1
theorem k0_idx953_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v30, v1084] : Fin 2 → IVec S16 32) a x).toNat < S256x142.size a := fun i k0_t2 v15 v20 v25 v30 v35 v40 v45 v50 v55 v60 v1084 k0_hw617 k0_h1 => k0_hw617.2.2.2.1 k0_h1
theorem k0_idx955_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v35, v1084] : Fin 2 → IVec S16 32) a x).toNat < S256x142.size a := fun i k0_t2 v15 v20 v25 v30 v35 v40 v45 v50 v55 v60 v1084 k0_hw617 k0_h1 => k0_hw617.2.2.2.2.1 k0_h1
theorem k0_idx957_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v40, v1084] : Fin 2 → IVec S16 32) a x).toNat < S256x142.size a := fun i k0_t2 v15 v20 v25 v30 v35 v40 v45 v50 v55 v60 v1084 k0_hw617 k0_h1 => k0_hw617.2.2.2.2.2.1 k0_h1
theorem k0_idx959_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v45, v1084] : Fin 2 → IVec S16 32) a x).toNat < S256x142.size a := fun i k0_t2 v15 v20 v25 v30 v35 v40 v45 v50 v55 v60 v1084 k0_hw617 k0_h1 => k0_hw617.2.2.2.2.2.2.1 k0_h1
theorem k0_idx961_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v50, v1084] : Fin 2 → IVec S16 32) a x).toNat < S256x142.size a := fun i k0_t2 v15 v20 v25 v30 v35 v40 v45 v50 v55 v60 v1084 k0_hw617 k0_h1 => k0_hw617.2.2.2.2.2.2.2.1 k0_h1
theorem k0_idx963_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v55, v1084] : Fin 2 → IVec S16 32) a x).toNat < S256x142.size a := fun i k0_t2 v15 v20 v25 v30 v35 v40 v45 v50 v55 v60 v1084 k0_hw617 k0_h1 => k0_hw617.2.2.2.2.2.2.2.2.1 k0_h1
theorem k0_idx965_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1084 : IVec S16 32) (k0_hw617 : k0_chk617 i k0_t2 v15 v20 v25 v30 v35 v40 v45 v50 v55 v60 v1084), ∀ (k0_h1 : k0_cond1 i k0_t2 = 1#1), ∀ a x, ((![v60, v1084] : Fin 2 → IVec S16 32) a x).toNat < S256x142.size a := fun i k0_t2 v15 v20 v25 v30 v35 v40 v45 v50 v55 v60 v1084 k0_hw617 k0_h1 => k0_hw617.2.2.2.2.2.2.2.2.2 k0_h1

def k0_chk627 (i : grid0.Coords) (k0_t2 : Fin k0_t2_loop.trips) (v1084 : IVec S16 32) (v1114 : IVec S16 32) : Prop :=
  (∀ (k0_h1 : k0_cond1 i k0_t2 = 1#1), ∀ a x, ((![v1114, v1084] : Fin 2 → IVec S16 32) a x).toNat < S160x142.size a)
theorem k0_idx966_inb : ∀ (i : grid0.Coords) (k0_t2 : Fin k0_t2_loop.trips) (v1084 : IVec S16 32) (v1114 : IVec S16 32) (k0_hw627 : k0_chk627 i k0_t2 v1084 v1114), ∀ (k0_h1 : k0_cond1 i k0_t2 = 1#1), ∀ a x, ((![v1114, v1084] : Fin 2 → IVec S16 32) a x).toNat < S160x142.size a := fun i k0_t2 v1084 v1114 k0_hw627 k0_h1 => k0_hw627 k0_h1

def k0_chk629 (i : grid0.Coords) (k0_t2 : Fin k0_t2_loop.trips) (v1115 : IVec S16 32) (v1118 : IVec S16 32) : Prop :=
  (∀ (k0_h1 : k0_cond1 i k0_t2 = 1#1), ∀ a x, ((![v1118, v1115] : Fin 2 → IVec S16 32) a x).toNat < S160x142.size a)
theorem k0_idx968_inb : ∀ (i : grid0.Coords) (k0_t2 : Fin k0_t2_loop.trips) (v1115 : IVec S16 32) (v1118 : IVec S16 32) (k0_hw629 : k0_chk629 i k0_t2 v1115 v1118), ∀ (k0_h1 : k0_cond1 i k0_t2 = 1#1), ∀ a x, ((![v1118, v1115] : Fin 2 → IVec S16 32) a x).toNat < S160x142.size a := fun i k0_t2 v1115 v1118 k0_hw629 k0_h1 => k0_hw629 k0_h1

def k0_chk630 (i : grid0.Coords) (k0_t2 : Fin k0_t2_loop.trips) (v1115 : IVec S16 32) (v1121 : IVec S16 32) : Prop :=
  (∀ (k0_h1 : k0_cond1 i k0_t2 = 1#1), ∀ a x, ((![v1121, v1115] : Fin 2 → IVec S16 32) a x).toNat < S160x142.size a)
theorem k0_idx970_inb : ∀ (i : grid0.Coords) (k0_t2 : Fin k0_t2_loop.trips) (v1115 : IVec S16 32) (v1121 : IVec S16 32) (k0_hw630 : k0_chk630 i k0_t2 v1115 v1121), ∀ (k0_h1 : k0_cond1 i k0_t2 = 1#1), ∀ a x, ((![v1121, v1115] : Fin 2 → IVec S16 32) a x).toNat < S160x142.size a := fun i k0_t2 v1115 v1121 k0_hw630 k0_h1 => k0_hw630 k0_h1

def k0_chk631 (i : grid0.Coords) (k0_t2 : Fin k0_t2_loop.trips) (v1115 : IVec S16 32) (v1124 : IVec S16 32) : Prop :=
  (∀ (k0_h1 : k0_cond1 i k0_t2 = 1#1), ∀ a x, ((![v1124, v1115] : Fin 2 → IVec S16 32) a x).toNat < S160x142.size a)
theorem k0_idx972_inb : ∀ (i : grid0.Coords) (k0_t2 : Fin k0_t2_loop.trips) (v1115 : IVec S16 32) (v1124 : IVec S16 32) (k0_hw631 : k0_chk631 i k0_t2 v1115 v1124), ∀ (k0_h1 : k0_cond1 i k0_t2 = 1#1), ∀ a x, ((![v1124, v1115] : Fin 2 → IVec S16 32) a x).toNat < S160x142.size a := fun i k0_t2 v1115 v1124 k0_hw631 k0_h1 => k0_hw631 k0_h1

def k0_chk632 (i : grid0.Coords) (k0_t2 : Fin k0_t2_loop.trips) (v1115 : IVec S16 32) (v1127 : IVec S16 32) : Prop :=
  (∀ (k0_h1 : k0_cond1 i k0_t2 = 1#1), ∀ a x, ((![v1127, v1115] : Fin 2 → IVec S16 32) a x).toNat < S160x142.size a)
theorem k0_idx974_inb : ∀ (i : grid0.Coords) (k0_t2 : Fin k0_t2_loop.trips) (v1115 : IVec S16 32) (v1127 : IVec S16 32) (k0_hw632 : k0_chk632 i k0_t2 v1115 v1127), ∀ (k0_h1 : k0_cond1 i k0_t2 = 1#1), ∀ a x, ((![v1127, v1115] : Fin 2 → IVec S16 32) a x).toNat < S160x142.size a := fun i k0_t2 v1115 v1127 k0_hw632 k0_h1 => k0_hw632 k0_h1

def k0_chk633 (i : grid0.Coords) (k0_t2 : Fin k0_t2_loop.trips) (v1115 : IVec S16 32) (v1130 : IVec S16 32) : Prop :=
  (∀ (k0_h1 : k0_cond1 i k0_t2 = 1#1), ∀ a x, ((![v1130, v1115] : Fin 2 → IVec S16 32) a x).toNat < S160x142.size a)
theorem k0_idx976_inb : ∀ (i : grid0.Coords) (k0_t2 : Fin k0_t2_loop.trips) (v1115 : IVec S16 32) (v1130 : IVec S16 32) (k0_hw633 : k0_chk633 i k0_t2 v1115 v1130), ∀ (k0_h1 : k0_cond1 i k0_t2 = 1#1), ∀ a x, ((![v1130, v1115] : Fin 2 → IVec S16 32) a x).toNat < S160x142.size a := fun i k0_t2 v1115 v1130 k0_hw633 k0_h1 => k0_hw633 k0_h1

def k0_chk634 (i : grid0.Coords) (k0_t2 : Fin k0_t2_loop.trips) (v1115 : IVec S16 32) (v1133 : IVec S16 32) : Prop :=
  (∀ (k0_h1 : k0_cond1 i k0_t2 = 1#1), ∀ a x, ((![v1133, v1115] : Fin 2 → IVec S16 32) a x).toNat < S160x142.size a)
theorem k0_idx978_inb : ∀ (i : grid0.Coords) (k0_t2 : Fin k0_t2_loop.trips) (v1115 : IVec S16 32) (v1133 : IVec S16 32) (k0_hw634 : k0_chk634 i k0_t2 v1115 v1133), ∀ (k0_h1 : k0_cond1 i k0_t2 = 1#1), ∀ a x, ((![v1133, v1115] : Fin 2 → IVec S16 32) a x).toNat < S160x142.size a := fun i k0_t2 v1115 v1133 k0_hw634 k0_h1 => k0_hw634 k0_h1

def k0_chk635 (i : grid0.Coords) (k0_t2 : Fin k0_t2_loop.trips) (v1115 : IVec S16 32) (v1136 : IVec S16 32) : Prop :=
  (∀ (k0_h1 : k0_cond1 i k0_t2 = 1#1), ∀ a x, ((![v1136, v1115] : Fin 2 → IVec S16 32) a x).toNat < S160x142.size a)
theorem k0_idx980_inb : ∀ (i : grid0.Coords) (k0_t2 : Fin k0_t2_loop.trips) (v1115 : IVec S16 32) (v1136 : IVec S16 32) (k0_hw635 : k0_chk635 i k0_t2 v1115 v1136), ∀ (k0_h1 : k0_cond1 i k0_t2 = 1#1), ∀ a x, ((![v1136, v1115] : Fin 2 → IVec S16 32) a x).toNat < S160x142.size a := fun i k0_t2 v1115 v1136 k0_hw635 k0_h1 => k0_hw635 k0_h1

def k0_chk636 (i : grid0.Coords) (k0_t2 : Fin k0_t2_loop.trips) (v1115 : IVec S16 32) (v1139 : IVec S16 32) : Prop :=
  (∀ (k0_h1 : k0_cond1 i k0_t2 = 1#1), ∀ a x, ((![v1139, v1115] : Fin 2 → IVec S16 32) a x).toNat < S160x142.size a)
theorem k0_idx982_inb : ∀ (i : grid0.Coords) (k0_t2 : Fin k0_t2_loop.trips) (v1115 : IVec S16 32) (v1139 : IVec S16 32) (k0_hw636 : k0_chk636 i k0_t2 v1115 v1139), ∀ (k0_h1 : k0_cond1 i k0_t2 = 1#1), ∀ a x, ((![v1139, v1115] : Fin 2 → IVec S16 32) a x).toNat < S160x142.size a := fun i k0_t2 v1115 v1139 k0_hw636 k0_h1 => k0_hw636 k0_h1

def k0_chk637 (i : grid0.Coords) (k0_t2 : Fin k0_t2_loop.trips) (v1115 : IVec S16 32) (v1142 : IVec S16 32) : Prop :=
  (∀ (k0_h1 : k0_cond1 i k0_t2 = 1#1), ∀ a x, ((![v1142, v1115] : Fin 2 → IVec S16 32) a x).toNat < S160x142.size a)
theorem k0_idx984_inb : ∀ (i : grid0.Coords) (k0_t2 : Fin k0_t2_loop.trips) (v1115 : IVec S16 32) (v1142 : IVec S16 32) (k0_hw637 : k0_chk637 i k0_t2 v1115 v1142), ∀ (k0_h1 : k0_cond1 i k0_t2 = 1#1), ∀ a x, ((![v1142, v1115] : Fin 2 → IVec S16 32) a x).toNat < S160x142.size a := fun i k0_t2 v1115 v1142 k0_hw637 k0_h1 => k0_hw637 k0_h1

def k0_chk628 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) : Prop :=
  (∀ (k0_h1 : k0_cond1 i k0_t2 = 1#1), ∀ a x, ((![v15, v1115] : Fin 2 → IVec S16 32) a x).toNat < S256x142.size a) ∧
  (∀ (k0_h1 : k0_cond1 i k0_t2 = 1#1), ∀ a x, ((![v20, v1115] : Fin 2 → IVec S16 32) a x).toNat < S256x142.size a) ∧
  (∀ (k0_h1 : k0_cond1 i k0_t2 = 1#1), ∀ a x, ((![v25, v1115] : Fin 2 → IVec S16 32) a x).toNat < S256x142.size a) ∧
  (∀ (k0_h1 : k0_cond1 i k0_t2 = 1#1), ∀ a x, ((![v30, v1115] : Fin 2 → IVec S16 32) a x).toNat < S256x142.size a) ∧
  (∀ (k0_h1 : k0_cond1 i k0_t2 = 1#1), ∀ a x, ((![v35, v1115] : Fin 2 → IVec S16 32) a x).toNat < S256x142.size a) ∧
  (∀ (k0_h1 : k0_cond1 i k0_t2 = 1#1), ∀ a x, ((![v40, v1115] : Fin 2 → IVec S16 32) a x).toNat < S256x142.size a) ∧
  (∀ (k0_h1 : k0_cond1 i k0_t2 = 1#1), ∀ a x, ((![v45, v1115] : Fin 2 → IVec S16 32) a x).toNat < S256x142.size a) ∧
  (∀ (k0_h1 : k0_cond1 i k0_t2 = 1#1), ∀ a x, ((![v50, v1115] : Fin 2 → IVec S16 32) a x).toNat < S256x142.size a) ∧
  (∀ (k0_h1 : k0_cond1 i k0_t2 = 1#1), ∀ a x, ((![v55, v1115] : Fin 2 → IVec S16 32) a x).toNat < S256x142.size a) ∧
  (∀ (k0_h1 : k0_cond1 i k0_t2 = 1#1), ∀ a x, ((![v60, v1115] : Fin 2 → IVec S16 32) a x).toNat < S256x142.size a)
theorem k0_idx967_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v15, v1115] : Fin 2 → IVec S16 32) a x).toNat < S256x142.size a := fun i k0_t2 v15 v20 v25 v30 v35 v40 v45 v50 v55 v60 v1115 k0_hw628 k0_h1 => k0_hw628.1 k0_h1
theorem k0_idx969_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v20, v1115] : Fin 2 → IVec S16 32) a x).toNat < S256x142.size a := fun i k0_t2 v15 v20 v25 v30 v35 v40 v45 v50 v55 v60 v1115 k0_hw628 k0_h1 => k0_hw628.2.1 k0_h1
theorem k0_idx971_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v25, v1115] : Fin 2 → IVec S16 32) a x).toNat < S256x142.size a := fun i k0_t2 v15 v20 v25 v30 v35 v40 v45 v50 v55 v60 v1115 k0_hw628 k0_h1 => k0_hw628.2.2.1 k0_h1
theorem k0_idx973_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v30, v1115] : Fin 2 → IVec S16 32) a x).toNat < S256x142.size a := fun i k0_t2 v15 v20 v25 v30 v35 v40 v45 v50 v55 v60 v1115 k0_hw628 k0_h1 => k0_hw628.2.2.2.1 k0_h1
theorem k0_idx975_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v35, v1115] : Fin 2 → IVec S16 32) a x).toNat < S256x142.size a := fun i k0_t2 v15 v20 v25 v30 v35 v40 v45 v50 v55 v60 v1115 k0_hw628 k0_h1 => k0_hw628.2.2.2.2.1 k0_h1
theorem k0_idx977_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v40, v1115] : Fin 2 → IVec S16 32) a x).toNat < S256x142.size a := fun i k0_t2 v15 v20 v25 v30 v35 v40 v45 v50 v55 v60 v1115 k0_hw628 k0_h1 => k0_hw628.2.2.2.2.2.1 k0_h1
theorem k0_idx979_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v45, v1115] : Fin 2 → IVec S16 32) a x).toNat < S256x142.size a := fun i k0_t2 v15 v20 v25 v30 v35 v40 v45 v50 v55 v60 v1115 k0_hw628 k0_h1 => k0_hw628.2.2.2.2.2.2.1 k0_h1
theorem k0_idx981_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v50, v1115] : Fin 2 → IVec S16 32) a x).toNat < S256x142.size a := fun i k0_t2 v15 v20 v25 v30 v35 v40 v45 v50 v55 v60 v1115 k0_hw628 k0_h1 => k0_hw628.2.2.2.2.2.2.2.1 k0_h1
theorem k0_idx983_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v55, v1115] : Fin 2 → IVec S16 32) a x).toNat < S256x142.size a := fun i k0_t2 v15 v20 v25 v30 v35 v40 v45 v50 v55 v60 v1115 k0_hw628 k0_h1 => k0_hw628.2.2.2.2.2.2.2.2.1 k0_h1
theorem k0_idx985_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1115 : IVec S16 32) (k0_hw628 : k0_chk628 i k0_t2 v15 v20 v25 v30 v35 v40 v45 v50 v55 v60 v1115), ∀ (k0_h1 : k0_cond1 i k0_t2 = 1#1), ∀ a x, ((![v60, v1115] : Fin 2 → IVec S16 32) a x).toNat < S256x142.size a := fun i k0_t2 v15 v20 v25 v30 v35 v40 v45 v50 v55 v60 v1115 k0_hw628 k0_h1 => k0_hw628.2.2.2.2.2.2.2.2.2 k0_h1

def k0_chk638 (i : grid0.Coords) (k0_t2 : Fin k0_t2_loop.trips) (v1115 : IVec S16 32) (v1145 : IVec S16 32) : Prop :=
  (∀ (k0_h1 : k0_cond1 i k0_t2 = 1#1), ∀ a x, ((![v1145, v1115] : Fin 2 → IVec S16 32) a x).toNat < S160x142.size a)
theorem k0_idx986_inb : ∀ (i : grid0.Coords) (k0_t2 : Fin k0_t2_loop.trips) (v1115 : IVec S16 32) (v1145 : IVec S16 32) (k0_hw638 : k0_chk638 i k0_t2 v1115 v1145), ∀ (k0_h1 : k0_cond1 i k0_t2 = 1#1), ∀ a x, ((![v1145, v1115] : Fin 2 → IVec S16 32) a x).toNat < S160x142.size a := fun i k0_t2 v1115 v1145 k0_hw638 k0_h1 => k0_hw638 k0_h1

def k0_chk640 (i : grid0.Coords) (k0_t2 : Fin k0_t2_loop.trips) (v1146 : IVec S16 32) (v1149 : IVec S16 32) : Prop :=
  (∀ (k0_h1 : k0_cond1 i k0_t2 = 1#1), ∀ a x, ((![v1149, v1146] : Fin 2 → IVec S16 32) a x).toNat < S160x142.size a)
theorem k0_idx988_inb : ∀ (i : grid0.Coords) (k0_t2 : Fin k0_t2_loop.trips) (v1146 : IVec S16 32) (v1149 : IVec S16 32) (k0_hw640 : k0_chk640 i k0_t2 v1146 v1149), ∀ (k0_h1 : k0_cond1 i k0_t2 = 1#1), ∀ a x, ((![v1149, v1146] : Fin 2 → IVec S16 32) a x).toNat < S160x142.size a := fun i k0_t2 v1146 v1149 k0_hw640 k0_h1 => k0_hw640 k0_h1

def k0_chk641 (i : grid0.Coords) (k0_t2 : Fin k0_t2_loop.trips) (v1146 : IVec S16 32) (v1152 : IVec S16 32) : Prop :=
  (∀ (k0_h1 : k0_cond1 i k0_t2 = 1#1), ∀ a x, ((![v1152, v1146] : Fin 2 → IVec S16 32) a x).toNat < S160x142.size a)
theorem k0_idx990_inb : ∀ (i : grid0.Coords) (k0_t2 : Fin k0_t2_loop.trips) (v1146 : IVec S16 32) (v1152 : IVec S16 32) (k0_hw641 : k0_chk641 i k0_t2 v1146 v1152), ∀ (k0_h1 : k0_cond1 i k0_t2 = 1#1), ∀ a x, ((![v1152, v1146] : Fin 2 → IVec S16 32) a x).toNat < S160x142.size a := fun i k0_t2 v1146 v1152 k0_hw641 k0_h1 => k0_hw641 k0_h1

def k0_chk642 (i : grid0.Coords) (k0_t2 : Fin k0_t2_loop.trips) (v1146 : IVec S16 32) (v1155 : IVec S16 32) : Prop :=
  (∀ (k0_h1 : k0_cond1 i k0_t2 = 1#1), ∀ a x, ((![v1155, v1146] : Fin 2 → IVec S16 32) a x).toNat < S160x142.size a)
theorem k0_idx992_inb : ∀ (i : grid0.Coords) (k0_t2 : Fin k0_t2_loop.trips) (v1146 : IVec S16 32) (v1155 : IVec S16 32) (k0_hw642 : k0_chk642 i k0_t2 v1146 v1155), ∀ (k0_h1 : k0_cond1 i k0_t2 = 1#1), ∀ a x, ((![v1155, v1146] : Fin 2 → IVec S16 32) a x).toNat < S160x142.size a := fun i k0_t2 v1146 v1155 k0_hw642 k0_h1 => k0_hw642 k0_h1

def k0_chk643 (i : grid0.Coords) (k0_t2 : Fin k0_t2_loop.trips) (v1146 : IVec S16 32) (v1158 : IVec S16 32) : Prop :=
  (∀ (k0_h1 : k0_cond1 i k0_t2 = 1#1), ∀ a x, ((![v1158, v1146] : Fin 2 → IVec S16 32) a x).toNat < S160x142.size a)
theorem k0_idx994_inb : ∀ (i : grid0.Coords) (k0_t2 : Fin k0_t2_loop.trips) (v1146 : IVec S16 32) (v1158 : IVec S16 32) (k0_hw643 : k0_chk643 i k0_t2 v1146 v1158), ∀ (k0_h1 : k0_cond1 i k0_t2 = 1#1), ∀ a x, ((![v1158, v1146] : Fin 2 → IVec S16 32) a x).toNat < S160x142.size a := fun i k0_t2 v1146 v1158 k0_hw643 k0_h1 => k0_hw643 k0_h1

def k0_chk644 (i : grid0.Coords) (k0_t2 : Fin k0_t2_loop.trips) (v1146 : IVec S16 32) (v1161 : IVec S16 32) : Prop :=
  (∀ (k0_h1 : k0_cond1 i k0_t2 = 1#1), ∀ a x, ((![v1161, v1146] : Fin 2 → IVec S16 32) a x).toNat < S160x142.size a)
theorem k0_idx996_inb : ∀ (i : grid0.Coords) (k0_t2 : Fin k0_t2_loop.trips) (v1146 : IVec S16 32) (v1161 : IVec S16 32) (k0_hw644 : k0_chk644 i k0_t2 v1146 v1161), ∀ (k0_h1 : k0_cond1 i k0_t2 = 1#1), ∀ a x, ((![v1161, v1146] : Fin 2 → IVec S16 32) a x).toNat < S160x142.size a := fun i k0_t2 v1146 v1161 k0_hw644 k0_h1 => k0_hw644 k0_h1

def k0_chk645 (i : grid0.Coords) (k0_t2 : Fin k0_t2_loop.trips) (v1146 : IVec S16 32) (v1164 : IVec S16 32) : Prop :=
  (∀ (k0_h1 : k0_cond1 i k0_t2 = 1#1), ∀ a x, ((![v1164, v1146] : Fin 2 → IVec S16 32) a x).toNat < S160x142.size a)
theorem k0_idx998_inb : ∀ (i : grid0.Coords) (k0_t2 : Fin k0_t2_loop.trips) (v1146 : IVec S16 32) (v1164 : IVec S16 32) (k0_hw645 : k0_chk645 i k0_t2 v1146 v1164), ∀ (k0_h1 : k0_cond1 i k0_t2 = 1#1), ∀ a x, ((![v1164, v1146] : Fin 2 → IVec S16 32) a x).toNat < S160x142.size a := fun i k0_t2 v1146 v1164 k0_hw645 k0_h1 => k0_hw645 k0_h1

def k0_chk646 (i : grid0.Coords) (k0_t2 : Fin k0_t2_loop.trips) (v1146 : IVec S16 32) (v1167 : IVec S16 32) : Prop :=
  (∀ (k0_h1 : k0_cond1 i k0_t2 = 1#1), ∀ a x, ((![v1167, v1146] : Fin 2 → IVec S16 32) a x).toNat < S160x142.size a)
theorem k0_idx1000_inb : ∀ (i : grid0.Coords) (k0_t2 : Fin k0_t2_loop.trips) (v1146 : IVec S16 32) (v1167 : IVec S16 32) (k0_hw646 : k0_chk646 i k0_t2 v1146 v1167), ∀ (k0_h1 : k0_cond1 i k0_t2 = 1#1), ∀ a x, ((![v1167, v1146] : Fin 2 → IVec S16 32) a x).toNat < S160x142.size a := fun i k0_t2 v1146 v1167 k0_hw646 k0_h1 => k0_hw646 k0_h1

def k0_chk647 (i : grid0.Coords) (k0_t2 : Fin k0_t2_loop.trips) (v1146 : IVec S16 32) (v1170 : IVec S16 32) : Prop :=
  (∀ (k0_h1 : k0_cond1 i k0_t2 = 1#1), ∀ a x, ((![v1170, v1146] : Fin 2 → IVec S16 32) a x).toNat < S160x142.size a)
theorem k0_idx1002_inb : ∀ (i : grid0.Coords) (k0_t2 : Fin k0_t2_loop.trips) (v1146 : IVec S16 32) (v1170 : IVec S16 32) (k0_hw647 : k0_chk647 i k0_t2 v1146 v1170), ∀ (k0_h1 : k0_cond1 i k0_t2 = 1#1), ∀ a x, ((![v1170, v1146] : Fin 2 → IVec S16 32) a x).toNat < S160x142.size a := fun i k0_t2 v1146 v1170 k0_hw647 k0_h1 => k0_hw647 k0_h1

def k0_chk648 (i : grid0.Coords) (k0_t2 : Fin k0_t2_loop.trips) (v1146 : IVec S16 32) (v1173 : IVec S16 32) : Prop :=
  (∀ (k0_h1 : k0_cond1 i k0_t2 = 1#1), ∀ a x, ((![v1173, v1146] : Fin 2 → IVec S16 32) a x).toNat < S160x142.size a)
theorem k0_idx1004_inb : ∀ (i : grid0.Coords) (k0_t2 : Fin k0_t2_loop.trips) (v1146 : IVec S16 32) (v1173 : IVec S16 32) (k0_hw648 : k0_chk648 i k0_t2 v1146 v1173), ∀ (k0_h1 : k0_cond1 i k0_t2 = 1#1), ∀ a x, ((![v1173, v1146] : Fin 2 → IVec S16 32) a x).toNat < S160x142.size a := fun i k0_t2 v1146 v1173 k0_hw648 k0_h1 => k0_hw648 k0_h1

def k0_chk639 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) : Prop :=
  (∀ (k0_h1 : k0_cond1 i k0_t2 = 1#1), ∀ a x, ((![v15, v1146] : Fin 2 → IVec S16 32) a x).toNat < S256x142.size a) ∧
  (∀ (k0_h1 : k0_cond1 i k0_t2 = 1#1), ∀ a x, ((![v20, v1146] : Fin 2 → IVec S16 32) a x).toNat < S256x142.size a) ∧
  (∀ (k0_h1 : k0_cond1 i k0_t2 = 1#1), ∀ a x, ((![v25, v1146] : Fin 2 → IVec S16 32) a x).toNat < S256x142.size a) ∧
  (∀ (k0_h1 : k0_cond1 i k0_t2 = 1#1), ∀ a x, ((![v30, v1146] : Fin 2 → IVec S16 32) a x).toNat < S256x142.size a) ∧
  (∀ (k0_h1 : k0_cond1 i k0_t2 = 1#1), ∀ a x, ((![v35, v1146] : Fin 2 → IVec S16 32) a x).toNat < S256x142.size a) ∧
  (∀ (k0_h1 : k0_cond1 i k0_t2 = 1#1), ∀ a x, ((![v40, v1146] : Fin 2 → IVec S16 32) a x).toNat < S256x142.size a) ∧
  (∀ (k0_h1 : k0_cond1 i k0_t2 = 1#1), ∀ a x, ((![v45, v1146] : Fin 2 → IVec S16 32) a x).toNat < S256x142.size a) ∧
  (∀ (k0_h1 : k0_cond1 i k0_t2 = 1#1), ∀ a x, ((![v50, v1146] : Fin 2 → IVec S16 32) a x).toNat < S256x142.size a) ∧
  (∀ (k0_h1 : k0_cond1 i k0_t2 = 1#1), ∀ a x, ((![v55, v1146] : Fin 2 → IVec S16 32) a x).toNat < S256x142.size a) ∧
  (∀ (k0_h1 : k0_cond1 i k0_t2 = 1#1), ∀ a x, ((![v60, v1146] : Fin 2 → IVec S16 32) a x).toNat < S256x142.size a)
theorem k0_idx987_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v15, v1146] : Fin 2 → IVec S16 32) a x).toNat < S256x142.size a := fun i k0_t2 v15 v20 v25 v30 v35 v40 v45 v50 v55 v60 v1146 k0_hw639 k0_h1 => k0_hw639.1 k0_h1
theorem k0_idx989_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v20, v1146] : Fin 2 → IVec S16 32) a x).toNat < S256x142.size a := fun i k0_t2 v15 v20 v25 v30 v35 v40 v45 v50 v55 v60 v1146 k0_hw639 k0_h1 => k0_hw639.2.1 k0_h1
theorem k0_idx991_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v25, v1146] : Fin 2 → IVec S16 32) a x).toNat < S256x142.size a := fun i k0_t2 v15 v20 v25 v30 v35 v40 v45 v50 v55 v60 v1146 k0_hw639 k0_h1 => k0_hw639.2.2.1 k0_h1
theorem k0_idx993_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v30, v1146] : Fin 2 → IVec S16 32) a x).toNat < S256x142.size a := fun i k0_t2 v15 v20 v25 v30 v35 v40 v45 v50 v55 v60 v1146 k0_hw639 k0_h1 => k0_hw639.2.2.2.1 k0_h1
theorem k0_idx995_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v35, v1146] : Fin 2 → IVec S16 32) a x).toNat < S256x142.size a := fun i k0_t2 v15 v20 v25 v30 v35 v40 v45 v50 v55 v60 v1146 k0_hw639 k0_h1 => k0_hw639.2.2.2.2.1 k0_h1
theorem k0_idx997_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v40, v1146] : Fin 2 → IVec S16 32) a x).toNat < S256x142.size a := fun i k0_t2 v15 v20 v25 v30 v35 v40 v45 v50 v55 v60 v1146 k0_hw639 k0_h1 => k0_hw639.2.2.2.2.2.1 k0_h1
theorem k0_idx999_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v45, v1146] : Fin 2 → IVec S16 32) a x).toNat < S256x142.size a := fun i k0_t2 v15 v20 v25 v30 v35 v40 v45 v50 v55 v60 v1146 k0_hw639 k0_h1 => k0_hw639.2.2.2.2.2.2.1 k0_h1
theorem k0_idx1001_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v50, v1146] : Fin 2 → IVec S16 32) a x).toNat < S256x142.size a := fun i k0_t2 v15 v20 v25 v30 v35 v40 v45 v50 v55 v60 v1146 k0_hw639 k0_h1 => k0_hw639.2.2.2.2.2.2.2.1 k0_h1
theorem k0_idx1003_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v55, v1146] : Fin 2 → IVec S16 32) a x).toNat < S256x142.size a := fun i k0_t2 v15 v20 v25 v30 v35 v40 v45 v50 v55 v60 v1146 k0_hw639 k0_h1 => k0_hw639.2.2.2.2.2.2.2.2.1 k0_h1
theorem k0_idx1005_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1146 : IVec S16 32) (k0_hw639 : k0_chk639 i k0_t2 v15 v20 v25 v30 v35 v40 v45 v50 v55 v60 v1146), ∀ (k0_h1 : k0_cond1 i k0_t2 = 1#1), ∀ a x, ((![v60, v1146] : Fin 2 → IVec S16 32) a x).toNat < S256x142.size a := fun i k0_t2 v15 v20 v25 v30 v35 v40 v45 v50 v55 v60 v1146 k0_hw639 k0_h1 => k0_hw639.2.2.2.2.2.2.2.2.2 k0_h1

def k0_chk649 (i : grid0.Coords) (k0_t2 : Fin k0_t2_loop.trips) (v1146 : IVec S16 32) (v1176 : IVec S16 32) : Prop :=
  (∀ (k0_h1 : k0_cond1 i k0_t2 = 1#1), ∀ a x, ((![v1176, v1146] : Fin 2 → IVec S16 32) a x).toNat < S160x142.size a)
theorem k0_idx1006_inb : ∀ (i : grid0.Coords) (k0_t2 : Fin k0_t2_loop.trips) (v1146 : IVec S16 32) (v1176 : IVec S16 32) (k0_hw649 : k0_chk649 i k0_t2 v1146 v1176), ∀ (k0_h1 : k0_cond1 i k0_t2 = 1#1), ∀ a x, ((![v1176, v1146] : Fin 2 → IVec S16 32) a x).toNat < S160x142.size a := fun i k0_t2 v1146 v1176 k0_hw649 k0_h1 => k0_hw649 k0_h1

def k0_chk651 (i : grid0.Coords) (k0_t2 : Fin k0_t2_loop.trips) (v1177 : IVec S16 32) (v1180 : IVec S16 32) : Prop :=
  (∀ (k0_h1 : k0_cond1 i k0_t2 = 1#1), ∀ a x, ((![v1180, v1177] : Fin 2 → IVec S16 32) a x).toNat < S160x142.size a)
theorem k0_idx1008_inb : ∀ (i : grid0.Coords) (k0_t2 : Fin k0_t2_loop.trips) (v1177 : IVec S16 32) (v1180 : IVec S16 32) (k0_hw651 : k0_chk651 i k0_t2 v1177 v1180), ∀ (k0_h1 : k0_cond1 i k0_t2 = 1#1), ∀ a x, ((![v1180, v1177] : Fin 2 → IVec S16 32) a x).toNat < S160x142.size a := fun i k0_t2 v1177 v1180 k0_hw651 k0_h1 => k0_hw651 k0_h1

def k0_chk652 (i : grid0.Coords) (k0_t2 : Fin k0_t2_loop.trips) (v1177 : IVec S16 32) (v1183 : IVec S16 32) : Prop :=
  (∀ (k0_h1 : k0_cond1 i k0_t2 = 1#1), ∀ a x, ((![v1183, v1177] : Fin 2 → IVec S16 32) a x).toNat < S160x142.size a)
theorem k0_idx1010_inb : ∀ (i : grid0.Coords) (k0_t2 : Fin k0_t2_loop.trips) (v1177 : IVec S16 32) (v1183 : IVec S16 32) (k0_hw652 : k0_chk652 i k0_t2 v1177 v1183), ∀ (k0_h1 : k0_cond1 i k0_t2 = 1#1), ∀ a x, ((![v1183, v1177] : Fin 2 → IVec S16 32) a x).toNat < S160x142.size a := fun i k0_t2 v1177 v1183 k0_hw652 k0_h1 => k0_hw652 k0_h1

def k0_chk653 (i : grid0.Coords) (k0_t2 : Fin k0_t2_loop.trips) (v1177 : IVec S16 32) (v1186 : IVec S16 32) : Prop :=
  (∀ (k0_h1 : k0_cond1 i k0_t2 = 1#1), ∀ a x, ((![v1186, v1177] : Fin 2 → IVec S16 32) a x).toNat < S160x142.size a)
theorem k0_idx1012_inb : ∀ (i : grid0.Coords) (k0_t2 : Fin k0_t2_loop.trips) (v1177 : IVec S16 32) (v1186 : IVec S16 32) (k0_hw653 : k0_chk653 i k0_t2 v1177 v1186), ∀ (k0_h1 : k0_cond1 i k0_t2 = 1#1), ∀ a x, ((![v1186, v1177] : Fin 2 → IVec S16 32) a x).toNat < S160x142.size a := fun i k0_t2 v1177 v1186 k0_hw653 k0_h1 => k0_hw653 k0_h1

def k0_chk654 (i : grid0.Coords) (k0_t2 : Fin k0_t2_loop.trips) (v1177 : IVec S16 32) (v1189 : IVec S16 32) : Prop :=
  (∀ (k0_h1 : k0_cond1 i k0_t2 = 1#1), ∀ a x, ((![v1189, v1177] : Fin 2 → IVec S16 32) a x).toNat < S160x142.size a)
theorem k0_idx1014_inb : ∀ (i : grid0.Coords) (k0_t2 : Fin k0_t2_loop.trips) (v1177 : IVec S16 32) (v1189 : IVec S16 32) (k0_hw654 : k0_chk654 i k0_t2 v1177 v1189), ∀ (k0_h1 : k0_cond1 i k0_t2 = 1#1), ∀ a x, ((![v1189, v1177] : Fin 2 → IVec S16 32) a x).toNat < S160x142.size a := fun i k0_t2 v1177 v1189 k0_hw654 k0_h1 => k0_hw654 k0_h1

def k0_chk655 (i : grid0.Coords) (k0_t2 : Fin k0_t2_loop.trips) (v1177 : IVec S16 32) (v1192 : IVec S16 32) : Prop :=
  (∀ (k0_h1 : k0_cond1 i k0_t2 = 1#1), ∀ a x, ((![v1192, v1177] : Fin 2 → IVec S16 32) a x).toNat < S160x142.size a)
theorem k0_idx1016_inb : ∀ (i : grid0.Coords) (k0_t2 : Fin k0_t2_loop.trips) (v1177 : IVec S16 32) (v1192 : IVec S16 32) (k0_hw655 : k0_chk655 i k0_t2 v1177 v1192), ∀ (k0_h1 : k0_cond1 i k0_t2 = 1#1), ∀ a x, ((![v1192, v1177] : Fin 2 → IVec S16 32) a x).toNat < S160x142.size a := fun i k0_t2 v1177 v1192 k0_hw655 k0_h1 => k0_hw655 k0_h1

def k0_chk656 (i : grid0.Coords) (k0_t2 : Fin k0_t2_loop.trips) (v1177 : IVec S16 32) (v1195 : IVec S16 32) : Prop :=
  (∀ (k0_h1 : k0_cond1 i k0_t2 = 1#1), ∀ a x, ((![v1195, v1177] : Fin 2 → IVec S16 32) a x).toNat < S160x142.size a)
theorem k0_idx1018_inb : ∀ (i : grid0.Coords) (k0_t2 : Fin k0_t2_loop.trips) (v1177 : IVec S16 32) (v1195 : IVec S16 32) (k0_hw656 : k0_chk656 i k0_t2 v1177 v1195), ∀ (k0_h1 : k0_cond1 i k0_t2 = 1#1), ∀ a x, ((![v1195, v1177] : Fin 2 → IVec S16 32) a x).toNat < S160x142.size a := fun i k0_t2 v1177 v1195 k0_hw656 k0_h1 => k0_hw656 k0_h1

def k0_chk657 (i : grid0.Coords) (k0_t2 : Fin k0_t2_loop.trips) (v1177 : IVec S16 32) (v1198 : IVec S16 32) : Prop :=
  (∀ (k0_h1 : k0_cond1 i k0_t2 = 1#1), ∀ a x, ((![v1198, v1177] : Fin 2 → IVec S16 32) a x).toNat < S160x142.size a)
theorem k0_idx1020_inb : ∀ (i : grid0.Coords) (k0_t2 : Fin k0_t2_loop.trips) (v1177 : IVec S16 32) (v1198 : IVec S16 32) (k0_hw657 : k0_chk657 i k0_t2 v1177 v1198), ∀ (k0_h1 : k0_cond1 i k0_t2 = 1#1), ∀ a x, ((![v1198, v1177] : Fin 2 → IVec S16 32) a x).toNat < S160x142.size a := fun i k0_t2 v1177 v1198 k0_hw657 k0_h1 => k0_hw657 k0_h1

def k0_chk658 (i : grid0.Coords) (k0_t2 : Fin k0_t2_loop.trips) (v1177 : IVec S16 32) (v1201 : IVec S16 32) : Prop :=
  (∀ (k0_h1 : k0_cond1 i k0_t2 = 1#1), ∀ a x, ((![v1201, v1177] : Fin 2 → IVec S16 32) a x).toNat < S160x142.size a)
theorem k0_idx1022_inb : ∀ (i : grid0.Coords) (k0_t2 : Fin k0_t2_loop.trips) (v1177 : IVec S16 32) (v1201 : IVec S16 32) (k0_hw658 : k0_chk658 i k0_t2 v1177 v1201), ∀ (k0_h1 : k0_cond1 i k0_t2 = 1#1), ∀ a x, ((![v1201, v1177] : Fin 2 → IVec S16 32) a x).toNat < S160x142.size a := fun i k0_t2 v1177 v1201 k0_hw658 k0_h1 => k0_hw658 k0_h1

def k0_chk659 (i : grid0.Coords) (k0_t2 : Fin k0_t2_loop.trips) (v1177 : IVec S16 32) (v1204 : IVec S16 32) : Prop :=
  (∀ (k0_h1 : k0_cond1 i k0_t2 = 1#1), ∀ a x, ((![v1204, v1177] : Fin 2 → IVec S16 32) a x).toNat < S160x142.size a)
theorem k0_idx1024_inb : ∀ (i : grid0.Coords) (k0_t2 : Fin k0_t2_loop.trips) (v1177 : IVec S16 32) (v1204 : IVec S16 32) (k0_hw659 : k0_chk659 i k0_t2 v1177 v1204), ∀ (k0_h1 : k0_cond1 i k0_t2 = 1#1), ∀ a x, ((![v1204, v1177] : Fin 2 → IVec S16 32) a x).toNat < S160x142.size a := fun i k0_t2 v1177 v1204 k0_hw659 k0_h1 => k0_hw659 k0_h1

def k0_chk650 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) : Prop :=
  (∀ (k0_h1 : k0_cond1 i k0_t2 = 1#1), ∀ a x, ((![v15, v1177] : Fin 2 → IVec S16 32) a x).toNat < S256x142.size a) ∧
  (∀ (k0_h1 : k0_cond1 i k0_t2 = 1#1), ∀ a x, ((![v20, v1177] : Fin 2 → IVec S16 32) a x).toNat < S256x142.size a) ∧
  (∀ (k0_h1 : k0_cond1 i k0_t2 = 1#1), ∀ a x, ((![v25, v1177] : Fin 2 → IVec S16 32) a x).toNat < S256x142.size a) ∧
  (∀ (k0_h1 : k0_cond1 i k0_t2 = 1#1), ∀ a x, ((![v30, v1177] : Fin 2 → IVec S16 32) a x).toNat < S256x142.size a) ∧
  (∀ (k0_h1 : k0_cond1 i k0_t2 = 1#1), ∀ a x, ((![v35, v1177] : Fin 2 → IVec S16 32) a x).toNat < S256x142.size a) ∧
  (∀ (k0_h1 : k0_cond1 i k0_t2 = 1#1), ∀ a x, ((![v40, v1177] : Fin 2 → IVec S16 32) a x).toNat < S256x142.size a) ∧
  (∀ (k0_h1 : k0_cond1 i k0_t2 = 1#1), ∀ a x, ((![v45, v1177] : Fin 2 → IVec S16 32) a x).toNat < S256x142.size a) ∧
  (∀ (k0_h1 : k0_cond1 i k0_t2 = 1#1), ∀ a x, ((![v50, v1177] : Fin 2 → IVec S16 32) a x).toNat < S256x142.size a) ∧
  (∀ (k0_h1 : k0_cond1 i k0_t2 = 1#1), ∀ a x, ((![v55, v1177] : Fin 2 → IVec S16 32) a x).toNat < S256x142.size a) ∧
  (∀ (k0_h1 : k0_cond1 i k0_t2 = 1#1), ∀ a x, ((![v60, v1177] : Fin 2 → IVec S16 32) a x).toNat < S256x142.size a)
theorem k0_idx1007_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v15, v1177] : Fin 2 → IVec S16 32) a x).toNat < S256x142.size a := fun i k0_t2 v15 v20 v25 v30 v35 v40 v45 v50 v55 v60 v1177 k0_hw650 k0_h1 => k0_hw650.1 k0_h1
theorem k0_idx1009_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v20, v1177] : Fin 2 → IVec S16 32) a x).toNat < S256x142.size a := fun i k0_t2 v15 v20 v25 v30 v35 v40 v45 v50 v55 v60 v1177 k0_hw650 k0_h1 => k0_hw650.2.1 k0_h1
theorem k0_idx1011_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v25, v1177] : Fin 2 → IVec S16 32) a x).toNat < S256x142.size a := fun i k0_t2 v15 v20 v25 v30 v35 v40 v45 v50 v55 v60 v1177 k0_hw650 k0_h1 => k0_hw650.2.2.1 k0_h1
theorem k0_idx1013_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v30, v1177] : Fin 2 → IVec S16 32) a x).toNat < S256x142.size a := fun i k0_t2 v15 v20 v25 v30 v35 v40 v45 v50 v55 v60 v1177 k0_hw650 k0_h1 => k0_hw650.2.2.2.1 k0_h1
theorem k0_idx1015_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v35, v1177] : Fin 2 → IVec S16 32) a x).toNat < S256x142.size a := fun i k0_t2 v15 v20 v25 v30 v35 v40 v45 v50 v55 v60 v1177 k0_hw650 k0_h1 => k0_hw650.2.2.2.2.1 k0_h1
theorem k0_idx1017_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v40, v1177] : Fin 2 → IVec S16 32) a x).toNat < S256x142.size a := fun i k0_t2 v15 v20 v25 v30 v35 v40 v45 v50 v55 v60 v1177 k0_hw650 k0_h1 => k0_hw650.2.2.2.2.2.1 k0_h1
theorem k0_idx1019_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v45, v1177] : Fin 2 → IVec S16 32) a x).toNat < S256x142.size a := fun i k0_t2 v15 v20 v25 v30 v35 v40 v45 v50 v55 v60 v1177 k0_hw650 k0_h1 => k0_hw650.2.2.2.2.2.2.1 k0_h1
theorem k0_idx1021_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v50, v1177] : Fin 2 → IVec S16 32) a x).toNat < S256x142.size a := fun i k0_t2 v15 v20 v25 v30 v35 v40 v45 v50 v55 v60 v1177 k0_hw650 k0_h1 => k0_hw650.2.2.2.2.2.2.2.1 k0_h1
theorem k0_idx1023_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v55, v1177] : Fin 2 → IVec S16 32) a x).toNat < S256x142.size a := fun i k0_t2 v15 v20 v25 v30 v35 v40 v45 v50 v55 v60 v1177 k0_hw650 k0_h1 => k0_hw650.2.2.2.2.2.2.2.2.1 k0_h1
theorem k0_idx1025_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1177 : IVec S16 32) (k0_hw650 : k0_chk650 i k0_t2 v15 v20 v25 v30 v35 v40 v45 v50 v55 v60 v1177), ∀ (k0_h1 : k0_cond1 i k0_t2 = 1#1), ∀ a x, ((![v60, v1177] : Fin 2 → IVec S16 32) a x).toNat < S256x142.size a := fun i k0_t2 v15 v20 v25 v30 v35 v40 v45 v50 v55 v60 v1177 k0_hw650 k0_h1 => k0_hw650.2.2.2.2.2.2.2.2.2 k0_h1

def k0_chk660 (i : grid0.Coords) (k0_t2 : Fin k0_t2_loop.trips) (v1177 : IVec S16 32) (v1207 : IVec S16 32) : Prop :=
  (∀ (k0_h1 : k0_cond1 i k0_t2 = 1#1), ∀ a x, ((![v1207, v1177] : Fin 2 → IVec S16 32) a x).toNat < S160x142.size a)
theorem k0_idx1026_inb : ∀ (i : grid0.Coords) (k0_t2 : Fin k0_t2_loop.trips) (v1177 : IVec S16 32) (v1207 : IVec S16 32) (k0_hw660 : k0_chk660 i k0_t2 v1177 v1207), ∀ (k0_h1 : k0_cond1 i k0_t2 = 1#1), ∀ a x, ((![v1207, v1177] : Fin 2 → IVec S16 32) a x).toNat < S160x142.size a := fun i k0_t2 v1177 v1207 k0_hw660 k0_h1 => k0_hw660 k0_h1

def k0_chk662 (i : grid0.Coords) (k0_t2 : Fin k0_t2_loop.trips) (v1208 : IVec S16 32) (v1211 : IVec S16 32) : Prop :=
  (∀ (k0_h1 : k0_cond1 i k0_t2 = 1#1), ∀ a x, ((![v1211, v1208] : Fin 2 → IVec S16 32) a x).toNat < S160x142.size a)
theorem k0_idx1028_inb : ∀ (i : grid0.Coords) (k0_t2 : Fin k0_t2_loop.trips) (v1208 : IVec S16 32) (v1211 : IVec S16 32) (k0_hw662 : k0_chk662 i k0_t2 v1208 v1211), ∀ (k0_h1 : k0_cond1 i k0_t2 = 1#1), ∀ a x, ((![v1211, v1208] : Fin 2 → IVec S16 32) a x).toNat < S160x142.size a := fun i k0_t2 v1208 v1211 k0_hw662 k0_h1 => k0_hw662 k0_h1

def k0_chk663 (i : grid0.Coords) (k0_t2 : Fin k0_t2_loop.trips) (v1208 : IVec S16 32) (v1214 : IVec S16 32) : Prop :=
  (∀ (k0_h1 : k0_cond1 i k0_t2 = 1#1), ∀ a x, ((![v1214, v1208] : Fin 2 → IVec S16 32) a x).toNat < S160x142.size a)
theorem k0_idx1030_inb : ∀ (i : grid0.Coords) (k0_t2 : Fin k0_t2_loop.trips) (v1208 : IVec S16 32) (v1214 : IVec S16 32) (k0_hw663 : k0_chk663 i k0_t2 v1208 v1214), ∀ (k0_h1 : k0_cond1 i k0_t2 = 1#1), ∀ a x, ((![v1214, v1208] : Fin 2 → IVec S16 32) a x).toNat < S160x142.size a := fun i k0_t2 v1208 v1214 k0_hw663 k0_h1 => k0_hw663 k0_h1

def k0_chk664 (i : grid0.Coords) (k0_t2 : Fin k0_t2_loop.trips) (v1208 : IVec S16 32) (v1217 : IVec S16 32) : Prop :=
  (∀ (k0_h1 : k0_cond1 i k0_t2 = 1#1), ∀ a x, ((![v1217, v1208] : Fin 2 → IVec S16 32) a x).toNat < S160x142.size a)
theorem k0_idx1032_inb : ∀ (i : grid0.Coords) (k0_t2 : Fin k0_t2_loop.trips) (v1208 : IVec S16 32) (v1217 : IVec S16 32) (k0_hw664 : k0_chk664 i k0_t2 v1208 v1217), ∀ (k0_h1 : k0_cond1 i k0_t2 = 1#1), ∀ a x, ((![v1217, v1208] : Fin 2 → IVec S16 32) a x).toNat < S160x142.size a := fun i k0_t2 v1208 v1217 k0_hw664 k0_h1 => k0_hw664 k0_h1

def k0_chk665 (i : grid0.Coords) (k0_t2 : Fin k0_t2_loop.trips) (v1208 : IVec S16 32) (v1220 : IVec S16 32) : Prop :=
  (∀ (k0_h1 : k0_cond1 i k0_t2 = 1#1), ∀ a x, ((![v1220, v1208] : Fin 2 → IVec S16 32) a x).toNat < S160x142.size a)
theorem k0_idx1034_inb : ∀ (i : grid0.Coords) (k0_t2 : Fin k0_t2_loop.trips) (v1208 : IVec S16 32) (v1220 : IVec S16 32) (k0_hw665 : k0_chk665 i k0_t2 v1208 v1220), ∀ (k0_h1 : k0_cond1 i k0_t2 = 1#1), ∀ a x, ((![v1220, v1208] : Fin 2 → IVec S16 32) a x).toNat < S160x142.size a := fun i k0_t2 v1208 v1220 k0_hw665 k0_h1 => k0_hw665 k0_h1

def k0_chk666 (i : grid0.Coords) (k0_t2 : Fin k0_t2_loop.trips) (v1208 : IVec S16 32) (v1223 : IVec S16 32) : Prop :=
  (∀ (k0_h1 : k0_cond1 i k0_t2 = 1#1), ∀ a x, ((![v1223, v1208] : Fin 2 → IVec S16 32) a x).toNat < S160x142.size a)
theorem k0_idx1036_inb : ∀ (i : grid0.Coords) (k0_t2 : Fin k0_t2_loop.trips) (v1208 : IVec S16 32) (v1223 : IVec S16 32) (k0_hw666 : k0_chk666 i k0_t2 v1208 v1223), ∀ (k0_h1 : k0_cond1 i k0_t2 = 1#1), ∀ a x, ((![v1223, v1208] : Fin 2 → IVec S16 32) a x).toNat < S160x142.size a := fun i k0_t2 v1208 v1223 k0_hw666 k0_h1 => k0_hw666 k0_h1

def k0_chk667 (i : grid0.Coords) (k0_t2 : Fin k0_t2_loop.trips) (v1208 : IVec S16 32) (v1226 : IVec S16 32) : Prop :=
  (∀ (k0_h1 : k0_cond1 i k0_t2 = 1#1), ∀ a x, ((![v1226, v1208] : Fin 2 → IVec S16 32) a x).toNat < S160x142.size a)
theorem k0_idx1038_inb : ∀ (i : grid0.Coords) (k0_t2 : Fin k0_t2_loop.trips) (v1208 : IVec S16 32) (v1226 : IVec S16 32) (k0_hw667 : k0_chk667 i k0_t2 v1208 v1226), ∀ (k0_h1 : k0_cond1 i k0_t2 = 1#1), ∀ a x, ((![v1226, v1208] : Fin 2 → IVec S16 32) a x).toNat < S160x142.size a := fun i k0_t2 v1208 v1226 k0_hw667 k0_h1 => k0_hw667 k0_h1

def k0_chk668 (i : grid0.Coords) (k0_t2 : Fin k0_t2_loop.trips) (v1208 : IVec S16 32) (v1229 : IVec S16 32) : Prop :=
  (∀ (k0_h1 : k0_cond1 i k0_t2 = 1#1), ∀ a x, ((![v1229, v1208] : Fin 2 → IVec S16 32) a x).toNat < S160x142.size a)
theorem k0_idx1040_inb : ∀ (i : grid0.Coords) (k0_t2 : Fin k0_t2_loop.trips) (v1208 : IVec S16 32) (v1229 : IVec S16 32) (k0_hw668 : k0_chk668 i k0_t2 v1208 v1229), ∀ (k0_h1 : k0_cond1 i k0_t2 = 1#1), ∀ a x, ((![v1229, v1208] : Fin 2 → IVec S16 32) a x).toNat < S160x142.size a := fun i k0_t2 v1208 v1229 k0_hw668 k0_h1 => k0_hw668 k0_h1

def k0_chk669 (i : grid0.Coords) (k0_t2 : Fin k0_t2_loop.trips) (v1208 : IVec S16 32) (v1232 : IVec S16 32) : Prop :=
  (∀ (k0_h1 : k0_cond1 i k0_t2 = 1#1), ∀ a x, ((![v1232, v1208] : Fin 2 → IVec S16 32) a x).toNat < S160x142.size a)
theorem k0_idx1042_inb : ∀ (i : grid0.Coords) (k0_t2 : Fin k0_t2_loop.trips) (v1208 : IVec S16 32) (v1232 : IVec S16 32) (k0_hw669 : k0_chk669 i k0_t2 v1208 v1232), ∀ (k0_h1 : k0_cond1 i k0_t2 = 1#1), ∀ a x, ((![v1232, v1208] : Fin 2 → IVec S16 32) a x).toNat < S160x142.size a := fun i k0_t2 v1208 v1232 k0_hw669 k0_h1 => k0_hw669 k0_h1

def k0_chk670 (i : grid0.Coords) (k0_t2 : Fin k0_t2_loop.trips) (v1208 : IVec S16 32) (v1235 : IVec S16 32) : Prop :=
  (∀ (k0_h1 : k0_cond1 i k0_t2 = 1#1), ∀ a x, ((![v1235, v1208] : Fin 2 → IVec S16 32) a x).toNat < S160x142.size a)
theorem k0_idx1044_inb : ∀ (i : grid0.Coords) (k0_t2 : Fin k0_t2_loop.trips) (v1208 : IVec S16 32) (v1235 : IVec S16 32) (k0_hw670 : k0_chk670 i k0_t2 v1208 v1235), ∀ (k0_h1 : k0_cond1 i k0_t2 = 1#1), ∀ a x, ((![v1235, v1208] : Fin 2 → IVec S16 32) a x).toNat < S160x142.size a := fun i k0_t2 v1208 v1235 k0_hw670 k0_h1 => k0_hw670 k0_h1

def k0_chk661 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) : Prop :=
  (∀ (k0_h1 : k0_cond1 i k0_t2 = 1#1), ∀ a x, ((![v15, v1208] : Fin 2 → IVec S16 32) a x).toNat < S256x142.size a) ∧
  (∀ (k0_h1 : k0_cond1 i k0_t2 = 1#1), ∀ a x, ((![v20, v1208] : Fin 2 → IVec S16 32) a x).toNat < S256x142.size a) ∧
  (∀ (k0_h1 : k0_cond1 i k0_t2 = 1#1), ∀ a x, ((![v25, v1208] : Fin 2 → IVec S16 32) a x).toNat < S256x142.size a) ∧
  (∀ (k0_h1 : k0_cond1 i k0_t2 = 1#1), ∀ a x, ((![v30, v1208] : Fin 2 → IVec S16 32) a x).toNat < S256x142.size a) ∧
  (∀ (k0_h1 : k0_cond1 i k0_t2 = 1#1), ∀ a x, ((![v35, v1208] : Fin 2 → IVec S16 32) a x).toNat < S256x142.size a) ∧
  (∀ (k0_h1 : k0_cond1 i k0_t2 = 1#1), ∀ a x, ((![v40, v1208] : Fin 2 → IVec S16 32) a x).toNat < S256x142.size a) ∧
  (∀ (k0_h1 : k0_cond1 i k0_t2 = 1#1), ∀ a x, ((![v45, v1208] : Fin 2 → IVec S16 32) a x).toNat < S256x142.size a) ∧
  (∀ (k0_h1 : k0_cond1 i k0_t2 = 1#1), ∀ a x, ((![v50, v1208] : Fin 2 → IVec S16 32) a x).toNat < S256x142.size a) ∧
  (∀ (k0_h1 : k0_cond1 i k0_t2 = 1#1), ∀ a x, ((![v55, v1208] : Fin 2 → IVec S16 32) a x).toNat < S256x142.size a) ∧
  (∀ (k0_h1 : k0_cond1 i k0_t2 = 1#1), ∀ a x, ((![v60, v1208] : Fin 2 → IVec S16 32) a x).toNat < S256x142.size a)
theorem k0_idx1027_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v15, v1208] : Fin 2 → IVec S16 32) a x).toNat < S256x142.size a := fun i k0_t2 v15 v20 v25 v30 v35 v40 v45 v50 v55 v60 v1208 k0_hw661 k0_h1 => k0_hw661.1 k0_h1
theorem k0_idx1029_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v20, v1208] : Fin 2 → IVec S16 32) a x).toNat < S256x142.size a := fun i k0_t2 v15 v20 v25 v30 v35 v40 v45 v50 v55 v60 v1208 k0_hw661 k0_h1 => k0_hw661.2.1 k0_h1
theorem k0_idx1031_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v25, v1208] : Fin 2 → IVec S16 32) a x).toNat < S256x142.size a := fun i k0_t2 v15 v20 v25 v30 v35 v40 v45 v50 v55 v60 v1208 k0_hw661 k0_h1 => k0_hw661.2.2.1 k0_h1
theorem k0_idx1033_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v30, v1208] : Fin 2 → IVec S16 32) a x).toNat < S256x142.size a := fun i k0_t2 v15 v20 v25 v30 v35 v40 v45 v50 v55 v60 v1208 k0_hw661 k0_h1 => k0_hw661.2.2.2.1 k0_h1
theorem k0_idx1035_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v35, v1208] : Fin 2 → IVec S16 32) a x).toNat < S256x142.size a := fun i k0_t2 v15 v20 v25 v30 v35 v40 v45 v50 v55 v60 v1208 k0_hw661 k0_h1 => k0_hw661.2.2.2.2.1 k0_h1
theorem k0_idx1037_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v40, v1208] : Fin 2 → IVec S16 32) a x).toNat < S256x142.size a := fun i k0_t2 v15 v20 v25 v30 v35 v40 v45 v50 v55 v60 v1208 k0_hw661 k0_h1 => k0_hw661.2.2.2.2.2.1 k0_h1
theorem k0_idx1039_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v45, v1208] : Fin 2 → IVec S16 32) a x).toNat < S256x142.size a := fun i k0_t2 v15 v20 v25 v30 v35 v40 v45 v50 v55 v60 v1208 k0_hw661 k0_h1 => k0_hw661.2.2.2.2.2.2.1 k0_h1
theorem k0_idx1041_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v50, v1208] : Fin 2 → IVec S16 32) a x).toNat < S256x142.size a := fun i k0_t2 v15 v20 v25 v30 v35 v40 v45 v50 v55 v60 v1208 k0_hw661 k0_h1 => k0_hw661.2.2.2.2.2.2.2.1 k0_h1
theorem k0_idx1043_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v55, v1208] : Fin 2 → IVec S16 32) a x).toNat < S256x142.size a := fun i k0_t2 v15 v20 v25 v30 v35 v40 v45 v50 v55 v60 v1208 k0_hw661 k0_h1 => k0_hw661.2.2.2.2.2.2.2.2.1 k0_h1
theorem k0_idx1045_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1208 : IVec S16 32) (k0_hw661 : k0_chk661 i k0_t2 v15 v20 v25 v30 v35 v40 v45 v50 v55 v60 v1208), ∀ (k0_h1 : k0_cond1 i k0_t2 = 1#1), ∀ a x, ((![v60, v1208] : Fin 2 → IVec S16 32) a x).toNat < S256x142.size a := fun i k0_t2 v15 v20 v25 v30 v35 v40 v45 v50 v55 v60 v1208 k0_hw661 k0_h1 => k0_hw661.2.2.2.2.2.2.2.2.2 k0_h1

def k0_chk671 (i : grid0.Coords) (k0_t2 : Fin k0_t2_loop.trips) (v1208 : IVec S16 32) (v1238 : IVec S16 32) : Prop :=
  (∀ (k0_h1 : k0_cond1 i k0_t2 = 1#1), ∀ a x, ((![v1238, v1208] : Fin 2 → IVec S16 32) a x).toNat < S160x142.size a)
theorem k0_idx1046_inb : ∀ (i : grid0.Coords) (k0_t2 : Fin k0_t2_loop.trips) (v1208 : IVec S16 32) (v1238 : IVec S16 32) (k0_hw671 : k0_chk671 i k0_t2 v1208 v1238), ∀ (k0_h1 : k0_cond1 i k0_t2 = 1#1), ∀ a x, ((![v1238, v1208] : Fin 2 → IVec S16 32) a x).toNat < S160x142.size a := fun i k0_t2 v1208 v1238 k0_hw671 k0_h1 => k0_hw671 k0_h1

def k0_chk673 (i : grid0.Coords) (k0_t2 : Fin k0_t2_loop.trips) (v1239 : IVec S16 32) (v1242 : IVec S16 32) : Prop :=
  (∀ (k0_h1 : k0_cond1 i k0_t2 = 1#1), ∀ a x, ((![v1242, v1239] : Fin 2 → IVec S16 32) a x).toNat < S160x142.size a)
theorem k0_idx1048_inb : ∀ (i : grid0.Coords) (k0_t2 : Fin k0_t2_loop.trips) (v1239 : IVec S16 32) (v1242 : IVec S16 32) (k0_hw673 : k0_chk673 i k0_t2 v1239 v1242), ∀ (k0_h1 : k0_cond1 i k0_t2 = 1#1), ∀ a x, ((![v1242, v1239] : Fin 2 → IVec S16 32) a x).toNat < S160x142.size a := fun i k0_t2 v1239 v1242 k0_hw673 k0_h1 => k0_hw673 k0_h1

def k0_chk674 (i : grid0.Coords) (k0_t2 : Fin k0_t2_loop.trips) (v1239 : IVec S16 32) (v1245 : IVec S16 32) : Prop :=
  (∀ (k0_h1 : k0_cond1 i k0_t2 = 1#1), ∀ a x, ((![v1245, v1239] : Fin 2 → IVec S16 32) a x).toNat < S160x142.size a)
theorem k0_idx1050_inb : ∀ (i : grid0.Coords) (k0_t2 : Fin k0_t2_loop.trips) (v1239 : IVec S16 32) (v1245 : IVec S16 32) (k0_hw674 : k0_chk674 i k0_t2 v1239 v1245), ∀ (k0_h1 : k0_cond1 i k0_t2 = 1#1), ∀ a x, ((![v1245, v1239] : Fin 2 → IVec S16 32) a x).toNat < S160x142.size a := fun i k0_t2 v1239 v1245 k0_hw674 k0_h1 => k0_hw674 k0_h1

def k0_chk675 (i : grid0.Coords) (k0_t2 : Fin k0_t2_loop.trips) (v1239 : IVec S16 32) (v1248 : IVec S16 32) : Prop :=
  (∀ (k0_h1 : k0_cond1 i k0_t2 = 1#1), ∀ a x, ((![v1248, v1239] : Fin 2 → IVec S16 32) a x).toNat < S160x142.size a)
theorem k0_idx1052_inb : ∀ (i : grid0.Coords) (k0_t2 : Fin k0_t2_loop.trips) (v1239 : IVec S16 32) (v1248 : IVec S16 32) (k0_hw675 : k0_chk675 i k0_t2 v1239 v1248), ∀ (k0_h1 : k0_cond1 i k0_t2 = 1#1), ∀ a x, ((![v1248, v1239] : Fin 2 → IVec S16 32) a x).toNat < S160x142.size a := fun i k0_t2 v1239 v1248 k0_hw675 k0_h1 => k0_hw675 k0_h1

def k0_chk676 (i : grid0.Coords) (k0_t2 : Fin k0_t2_loop.trips) (v1239 : IVec S16 32) (v1251 : IVec S16 32) : Prop :=
  (∀ (k0_h1 : k0_cond1 i k0_t2 = 1#1), ∀ a x, ((![v1251, v1239] : Fin 2 → IVec S16 32) a x).toNat < S160x142.size a)
theorem k0_idx1054_inb : ∀ (i : grid0.Coords) (k0_t2 : Fin k0_t2_loop.trips) (v1239 : IVec S16 32) (v1251 : IVec S16 32) (k0_hw676 : k0_chk676 i k0_t2 v1239 v1251), ∀ (k0_h1 : k0_cond1 i k0_t2 = 1#1), ∀ a x, ((![v1251, v1239] : Fin 2 → IVec S16 32) a x).toNat < S160x142.size a := fun i k0_t2 v1239 v1251 k0_hw676 k0_h1 => k0_hw676 k0_h1

def k0_chk677 (i : grid0.Coords) (k0_t2 : Fin k0_t2_loop.trips) (v1239 : IVec S16 32) (v1254 : IVec S16 32) : Prop :=
  (∀ (k0_h1 : k0_cond1 i k0_t2 = 1#1), ∀ a x, ((![v1254, v1239] : Fin 2 → IVec S16 32) a x).toNat < S160x142.size a)
theorem k0_idx1056_inb : ∀ (i : grid0.Coords) (k0_t2 : Fin k0_t2_loop.trips) (v1239 : IVec S16 32) (v1254 : IVec S16 32) (k0_hw677 : k0_chk677 i k0_t2 v1239 v1254), ∀ (k0_h1 : k0_cond1 i k0_t2 = 1#1), ∀ a x, ((![v1254, v1239] : Fin 2 → IVec S16 32) a x).toNat < S160x142.size a := fun i k0_t2 v1239 v1254 k0_hw677 k0_h1 => k0_hw677 k0_h1

def k0_chk678 (i : grid0.Coords) (k0_t2 : Fin k0_t2_loop.trips) (v1239 : IVec S16 32) (v1257 : IVec S16 32) : Prop :=
  (∀ (k0_h1 : k0_cond1 i k0_t2 = 1#1), ∀ a x, ((![v1257, v1239] : Fin 2 → IVec S16 32) a x).toNat < S160x142.size a)
theorem k0_idx1058_inb : ∀ (i : grid0.Coords) (k0_t2 : Fin k0_t2_loop.trips) (v1239 : IVec S16 32) (v1257 : IVec S16 32) (k0_hw678 : k0_chk678 i k0_t2 v1239 v1257), ∀ (k0_h1 : k0_cond1 i k0_t2 = 1#1), ∀ a x, ((![v1257, v1239] : Fin 2 → IVec S16 32) a x).toNat < S160x142.size a := fun i k0_t2 v1239 v1257 k0_hw678 k0_h1 => k0_hw678 k0_h1

def k0_chk679 (i : grid0.Coords) (k0_t2 : Fin k0_t2_loop.trips) (v1239 : IVec S16 32) (v1260 : IVec S16 32) : Prop :=
  (∀ (k0_h1 : k0_cond1 i k0_t2 = 1#1), ∀ a x, ((![v1260, v1239] : Fin 2 → IVec S16 32) a x).toNat < S160x142.size a)
theorem k0_idx1060_inb : ∀ (i : grid0.Coords) (k0_t2 : Fin k0_t2_loop.trips) (v1239 : IVec S16 32) (v1260 : IVec S16 32) (k0_hw679 : k0_chk679 i k0_t2 v1239 v1260), ∀ (k0_h1 : k0_cond1 i k0_t2 = 1#1), ∀ a x, ((![v1260, v1239] : Fin 2 → IVec S16 32) a x).toNat < S160x142.size a := fun i k0_t2 v1239 v1260 k0_hw679 k0_h1 => k0_hw679 k0_h1

def k0_chk680 (i : grid0.Coords) (k0_t2 : Fin k0_t2_loop.trips) (v1239 : IVec S16 32) (v1263 : IVec S16 32) : Prop :=
  (∀ (k0_h1 : k0_cond1 i k0_t2 = 1#1), ∀ a x, ((![v1263, v1239] : Fin 2 → IVec S16 32) a x).toNat < S160x142.size a)
theorem k0_idx1062_inb : ∀ (i : grid0.Coords) (k0_t2 : Fin k0_t2_loop.trips) (v1239 : IVec S16 32) (v1263 : IVec S16 32) (k0_hw680 : k0_chk680 i k0_t2 v1239 v1263), ∀ (k0_h1 : k0_cond1 i k0_t2 = 1#1), ∀ a x, ((![v1263, v1239] : Fin 2 → IVec S16 32) a x).toNat < S160x142.size a := fun i k0_t2 v1239 v1263 k0_hw680 k0_h1 => k0_hw680 k0_h1

def k0_chk681 (i : grid0.Coords) (k0_t2 : Fin k0_t2_loop.trips) (v1239 : IVec S16 32) (v1266 : IVec S16 32) : Prop :=
  (∀ (k0_h1 : k0_cond1 i k0_t2 = 1#1), ∀ a x, ((![v1266, v1239] : Fin 2 → IVec S16 32) a x).toNat < S160x142.size a)
theorem k0_idx1064_inb : ∀ (i : grid0.Coords) (k0_t2 : Fin k0_t2_loop.trips) (v1239 : IVec S16 32) (v1266 : IVec S16 32) (k0_hw681 : k0_chk681 i k0_t2 v1239 v1266), ∀ (k0_h1 : k0_cond1 i k0_t2 = 1#1), ∀ a x, ((![v1266, v1239] : Fin 2 → IVec S16 32) a x).toNat < S160x142.size a := fun i k0_t2 v1239 v1266 k0_hw681 k0_h1 => k0_hw681 k0_h1

def k0_chk672 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) : Prop :=
  (∀ (k0_h1 : k0_cond1 i k0_t2 = 1#1), ∀ a x, ((![v15, v1239] : Fin 2 → IVec S16 32) a x).toNat < S256x142.size a) ∧
  (∀ (k0_h1 : k0_cond1 i k0_t2 = 1#1), ∀ a x, ((![v20, v1239] : Fin 2 → IVec S16 32) a x).toNat < S256x142.size a) ∧
  (∀ (k0_h1 : k0_cond1 i k0_t2 = 1#1), ∀ a x, ((![v25, v1239] : Fin 2 → IVec S16 32) a x).toNat < S256x142.size a) ∧
  (∀ (k0_h1 : k0_cond1 i k0_t2 = 1#1), ∀ a x, ((![v30, v1239] : Fin 2 → IVec S16 32) a x).toNat < S256x142.size a) ∧
  (∀ (k0_h1 : k0_cond1 i k0_t2 = 1#1), ∀ a x, ((![v35, v1239] : Fin 2 → IVec S16 32) a x).toNat < S256x142.size a) ∧
  (∀ (k0_h1 : k0_cond1 i k0_t2 = 1#1), ∀ a x, ((![v40, v1239] : Fin 2 → IVec S16 32) a x).toNat < S256x142.size a) ∧
  (∀ (k0_h1 : k0_cond1 i k0_t2 = 1#1), ∀ a x, ((![v45, v1239] : Fin 2 → IVec S16 32) a x).toNat < S256x142.size a) ∧
  (∀ (k0_h1 : k0_cond1 i k0_t2 = 1#1), ∀ a x, ((![v50, v1239] : Fin 2 → IVec S16 32) a x).toNat < S256x142.size a) ∧
  (∀ (k0_h1 : k0_cond1 i k0_t2 = 1#1), ∀ a x, ((![v55, v1239] : Fin 2 → IVec S16 32) a x).toNat < S256x142.size a) ∧
  (∀ (k0_h1 : k0_cond1 i k0_t2 = 1#1), ∀ a x, ((![v60, v1239] : Fin 2 → IVec S16 32) a x).toNat < S256x142.size a)
theorem k0_idx1047_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v15, v1239] : Fin 2 → IVec S16 32) a x).toNat < S256x142.size a := fun i k0_t2 v15 v20 v25 v30 v35 v40 v45 v50 v55 v60 v1239 k0_hw672 k0_h1 => k0_hw672.1 k0_h1
theorem k0_idx1049_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v20, v1239] : Fin 2 → IVec S16 32) a x).toNat < S256x142.size a := fun i k0_t2 v15 v20 v25 v30 v35 v40 v45 v50 v55 v60 v1239 k0_hw672 k0_h1 => k0_hw672.2.1 k0_h1
theorem k0_idx1051_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v25, v1239] : Fin 2 → IVec S16 32) a x).toNat < S256x142.size a := fun i k0_t2 v15 v20 v25 v30 v35 v40 v45 v50 v55 v60 v1239 k0_hw672 k0_h1 => k0_hw672.2.2.1 k0_h1
theorem k0_idx1053_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v30, v1239] : Fin 2 → IVec S16 32) a x).toNat < S256x142.size a := fun i k0_t2 v15 v20 v25 v30 v35 v40 v45 v50 v55 v60 v1239 k0_hw672 k0_h1 => k0_hw672.2.2.2.1 k0_h1
theorem k0_idx1055_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v35, v1239] : Fin 2 → IVec S16 32) a x).toNat < S256x142.size a := fun i k0_t2 v15 v20 v25 v30 v35 v40 v45 v50 v55 v60 v1239 k0_hw672 k0_h1 => k0_hw672.2.2.2.2.1 k0_h1
theorem k0_idx1057_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v40, v1239] : Fin 2 → IVec S16 32) a x).toNat < S256x142.size a := fun i k0_t2 v15 v20 v25 v30 v35 v40 v45 v50 v55 v60 v1239 k0_hw672 k0_h1 => k0_hw672.2.2.2.2.2.1 k0_h1
theorem k0_idx1059_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v45, v1239] : Fin 2 → IVec S16 32) a x).toNat < S256x142.size a := fun i k0_t2 v15 v20 v25 v30 v35 v40 v45 v50 v55 v60 v1239 k0_hw672 k0_h1 => k0_hw672.2.2.2.2.2.2.1 k0_h1
theorem k0_idx1061_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v50, v1239] : Fin 2 → IVec S16 32) a x).toNat < S256x142.size a := fun i k0_t2 v15 v20 v25 v30 v35 v40 v45 v50 v55 v60 v1239 k0_hw672 k0_h1 => k0_hw672.2.2.2.2.2.2.2.1 k0_h1
theorem k0_idx1063_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v55, v1239] : Fin 2 → IVec S16 32) a x).toNat < S256x142.size a := fun i k0_t2 v15 v20 v25 v30 v35 v40 v45 v50 v55 v60 v1239 k0_hw672 k0_h1 => k0_hw672.2.2.2.2.2.2.2.2.1 k0_h1
theorem k0_idx1065_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1239 : IVec S16 32) (k0_hw672 : k0_chk672 i k0_t2 v15 v20 v25 v30 v35 v40 v45 v50 v55 v60 v1239), ∀ (k0_h1 : k0_cond1 i k0_t2 = 1#1), ∀ a x, ((![v60, v1239] : Fin 2 → IVec S16 32) a x).toNat < S256x142.size a := fun i k0_t2 v15 v20 v25 v30 v35 v40 v45 v50 v55 v60 v1239 k0_hw672 k0_h1 => k0_hw672.2.2.2.2.2.2.2.2.2 k0_h1

def k0_chk682 (i : grid0.Coords) (k0_t2 : Fin k0_t2_loop.trips) (v1239 : IVec S16 32) (v1269 : IVec S16 32) : Prop :=
  (∀ (k0_h1 : k0_cond1 i k0_t2 = 1#1), ∀ a x, ((![v1269, v1239] : Fin 2 → IVec S16 32) a x).toNat < S160x142.size a)
theorem k0_idx1066_inb : ∀ (i : grid0.Coords) (k0_t2 : Fin k0_t2_loop.trips) (v1239 : IVec S16 32) (v1269 : IVec S16 32) (k0_hw682 : k0_chk682 i k0_t2 v1239 v1269), ∀ (k0_h1 : k0_cond1 i k0_t2 = 1#1), ∀ a x, ((![v1269, v1239] : Fin 2 → IVec S16 32) a x).toNat < S160x142.size a := fun i k0_t2 v1239 v1269 k0_hw682 k0_h1 => k0_hw682 k0_h1

def k0_chk684 (i : grid0.Coords) (k0_t2 : Fin k0_t2_loop.trips) (v1270 : IVec S16 32) (v1273 : IVec S16 32) : Prop :=
  (∀ (k0_h1 : k0_cond1 i k0_t2 = 1#1), ∀ a x, ((![v1273, v1270] : Fin 2 → IVec S16 32) a x).toNat < S160x142.size a)
theorem k0_idx1068_inb : ∀ (i : grid0.Coords) (k0_t2 : Fin k0_t2_loop.trips) (v1270 : IVec S16 32) (v1273 : IVec S16 32) (k0_hw684 : k0_chk684 i k0_t2 v1270 v1273), ∀ (k0_h1 : k0_cond1 i k0_t2 = 1#1), ∀ a x, ((![v1273, v1270] : Fin 2 → IVec S16 32) a x).toNat < S160x142.size a := fun i k0_t2 v1270 v1273 k0_hw684 k0_h1 => k0_hw684 k0_h1

def k0_chk685 (i : grid0.Coords) (k0_t2 : Fin k0_t2_loop.trips) (v1270 : IVec S16 32) (v1276 : IVec S16 32) : Prop :=
  (∀ (k0_h1 : k0_cond1 i k0_t2 = 1#1), ∀ a x, ((![v1276, v1270] : Fin 2 → IVec S16 32) a x).toNat < S160x142.size a)
theorem k0_idx1070_inb : ∀ (i : grid0.Coords) (k0_t2 : Fin k0_t2_loop.trips) (v1270 : IVec S16 32) (v1276 : IVec S16 32) (k0_hw685 : k0_chk685 i k0_t2 v1270 v1276), ∀ (k0_h1 : k0_cond1 i k0_t2 = 1#1), ∀ a x, ((![v1276, v1270] : Fin 2 → IVec S16 32) a x).toNat < S160x142.size a := fun i k0_t2 v1270 v1276 k0_hw685 k0_h1 => k0_hw685 k0_h1

def k0_chk686 (i : grid0.Coords) (k0_t2 : Fin k0_t2_loop.trips) (v1270 : IVec S16 32) (v1279 : IVec S16 32) : Prop :=
  (∀ (k0_h1 : k0_cond1 i k0_t2 = 1#1), ∀ a x, ((![v1279, v1270] : Fin 2 → IVec S16 32) a x).toNat < S160x142.size a)
theorem k0_idx1072_inb : ∀ (i : grid0.Coords) (k0_t2 : Fin k0_t2_loop.trips) (v1270 : IVec S16 32) (v1279 : IVec S16 32) (k0_hw686 : k0_chk686 i k0_t2 v1270 v1279), ∀ (k0_h1 : k0_cond1 i k0_t2 = 1#1), ∀ a x, ((![v1279, v1270] : Fin 2 → IVec S16 32) a x).toNat < S160x142.size a := fun i k0_t2 v1270 v1279 k0_hw686 k0_h1 => k0_hw686 k0_h1

def k0_chk687 (i : grid0.Coords) (k0_t2 : Fin k0_t2_loop.trips) (v1270 : IVec S16 32) (v1282 : IVec S16 32) : Prop :=
  (∀ (k0_h1 : k0_cond1 i k0_t2 = 1#1), ∀ a x, ((![v1282, v1270] : Fin 2 → IVec S16 32) a x).toNat < S160x142.size a)
theorem k0_idx1074_inb : ∀ (i : grid0.Coords) (k0_t2 : Fin k0_t2_loop.trips) (v1270 : IVec S16 32) (v1282 : IVec S16 32) (k0_hw687 : k0_chk687 i k0_t2 v1270 v1282), ∀ (k0_h1 : k0_cond1 i k0_t2 = 1#1), ∀ a x, ((![v1282, v1270] : Fin 2 → IVec S16 32) a x).toNat < S160x142.size a := fun i k0_t2 v1270 v1282 k0_hw687 k0_h1 => k0_hw687 k0_h1

def k0_chk688 (i : grid0.Coords) (k0_t2 : Fin k0_t2_loop.trips) (v1270 : IVec S16 32) (v1285 : IVec S16 32) : Prop :=
  (∀ (k0_h1 : k0_cond1 i k0_t2 = 1#1), ∀ a x, ((![v1285, v1270] : Fin 2 → IVec S16 32) a x).toNat < S160x142.size a)
theorem k0_idx1076_inb : ∀ (i : grid0.Coords) (k0_t2 : Fin k0_t2_loop.trips) (v1270 : IVec S16 32) (v1285 : IVec S16 32) (k0_hw688 : k0_chk688 i k0_t2 v1270 v1285), ∀ (k0_h1 : k0_cond1 i k0_t2 = 1#1), ∀ a x, ((![v1285, v1270] : Fin 2 → IVec S16 32) a x).toNat < S160x142.size a := fun i k0_t2 v1270 v1285 k0_hw688 k0_h1 => k0_hw688 k0_h1

def k0_chk689 (i : grid0.Coords) (k0_t2 : Fin k0_t2_loop.trips) (v1270 : IVec S16 32) (v1288 : IVec S16 32) : Prop :=
  (∀ (k0_h1 : k0_cond1 i k0_t2 = 1#1), ∀ a x, ((![v1288, v1270] : Fin 2 → IVec S16 32) a x).toNat < S160x142.size a)
theorem k0_idx1078_inb : ∀ (i : grid0.Coords) (k0_t2 : Fin k0_t2_loop.trips) (v1270 : IVec S16 32) (v1288 : IVec S16 32) (k0_hw689 : k0_chk689 i k0_t2 v1270 v1288), ∀ (k0_h1 : k0_cond1 i k0_t2 = 1#1), ∀ a x, ((![v1288, v1270] : Fin 2 → IVec S16 32) a x).toNat < S160x142.size a := fun i k0_t2 v1270 v1288 k0_hw689 k0_h1 => k0_hw689 k0_h1

def k0_chk690 (i : grid0.Coords) (k0_t2 : Fin k0_t2_loop.trips) (v1270 : IVec S16 32) (v1291 : IVec S16 32) : Prop :=
  (∀ (k0_h1 : k0_cond1 i k0_t2 = 1#1), ∀ a x, ((![v1291, v1270] : Fin 2 → IVec S16 32) a x).toNat < S160x142.size a)
theorem k0_idx1080_inb : ∀ (i : grid0.Coords) (k0_t2 : Fin k0_t2_loop.trips) (v1270 : IVec S16 32) (v1291 : IVec S16 32) (k0_hw690 : k0_chk690 i k0_t2 v1270 v1291), ∀ (k0_h1 : k0_cond1 i k0_t2 = 1#1), ∀ a x, ((![v1291, v1270] : Fin 2 → IVec S16 32) a x).toNat < S160x142.size a := fun i k0_t2 v1270 v1291 k0_hw690 k0_h1 => k0_hw690 k0_h1

def k0_chk691 (i : grid0.Coords) (k0_t2 : Fin k0_t2_loop.trips) (v1270 : IVec S16 32) (v1294 : IVec S16 32) : Prop :=
  (∀ (k0_h1 : k0_cond1 i k0_t2 = 1#1), ∀ a x, ((![v1294, v1270] : Fin 2 → IVec S16 32) a x).toNat < S160x142.size a)
theorem k0_idx1082_inb : ∀ (i : grid0.Coords) (k0_t2 : Fin k0_t2_loop.trips) (v1270 : IVec S16 32) (v1294 : IVec S16 32) (k0_hw691 : k0_chk691 i k0_t2 v1270 v1294), ∀ (k0_h1 : k0_cond1 i k0_t2 = 1#1), ∀ a x, ((![v1294, v1270] : Fin 2 → IVec S16 32) a x).toNat < S160x142.size a := fun i k0_t2 v1270 v1294 k0_hw691 k0_h1 => k0_hw691 k0_h1

def k0_chk692 (i : grid0.Coords) (k0_t2 : Fin k0_t2_loop.trips) (v1270 : IVec S16 32) (v1297 : IVec S16 32) : Prop :=
  (∀ (k0_h1 : k0_cond1 i k0_t2 = 1#1), ∀ a x, ((![v1297, v1270] : Fin 2 → IVec S16 32) a x).toNat < S160x142.size a)
theorem k0_idx1084_inb : ∀ (i : grid0.Coords) (k0_t2 : Fin k0_t2_loop.trips) (v1270 : IVec S16 32) (v1297 : IVec S16 32) (k0_hw692 : k0_chk692 i k0_t2 v1270 v1297), ∀ (k0_h1 : k0_cond1 i k0_t2 = 1#1), ∀ a x, ((![v1297, v1270] : Fin 2 → IVec S16 32) a x).toNat < S160x142.size a := fun i k0_t2 v1270 v1297 k0_hw692 k0_h1 => k0_hw692 k0_h1

def k0_chk683 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) : Prop :=
  (∀ (k0_h1 : k0_cond1 i k0_t2 = 1#1), ∀ a x, ((![v15, v1270] : Fin 2 → IVec S16 32) a x).toNat < S256x142.size a) ∧
  (∀ (k0_h1 : k0_cond1 i k0_t2 = 1#1), ∀ a x, ((![v20, v1270] : Fin 2 → IVec S16 32) a x).toNat < S256x142.size a) ∧
  (∀ (k0_h1 : k0_cond1 i k0_t2 = 1#1), ∀ a x, ((![v25, v1270] : Fin 2 → IVec S16 32) a x).toNat < S256x142.size a) ∧
  (∀ (k0_h1 : k0_cond1 i k0_t2 = 1#1), ∀ a x, ((![v30, v1270] : Fin 2 → IVec S16 32) a x).toNat < S256x142.size a) ∧
  (∀ (k0_h1 : k0_cond1 i k0_t2 = 1#1), ∀ a x, ((![v35, v1270] : Fin 2 → IVec S16 32) a x).toNat < S256x142.size a) ∧
  (∀ (k0_h1 : k0_cond1 i k0_t2 = 1#1), ∀ a x, ((![v40, v1270] : Fin 2 → IVec S16 32) a x).toNat < S256x142.size a) ∧
  (∀ (k0_h1 : k0_cond1 i k0_t2 = 1#1), ∀ a x, ((![v45, v1270] : Fin 2 → IVec S16 32) a x).toNat < S256x142.size a) ∧
  (∀ (k0_h1 : k0_cond1 i k0_t2 = 1#1), ∀ a x, ((![v50, v1270] : Fin 2 → IVec S16 32) a x).toNat < S256x142.size a) ∧
  (∀ (k0_h1 : k0_cond1 i k0_t2 = 1#1), ∀ a x, ((![v55, v1270] : Fin 2 → IVec S16 32) a x).toNat < S256x142.size a) ∧
  (∀ (k0_h1 : k0_cond1 i k0_t2 = 1#1), ∀ a x, ((![v60, v1270] : Fin 2 → IVec S16 32) a x).toNat < S256x142.size a)
theorem k0_idx1067_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v15, v1270] : Fin 2 → IVec S16 32) a x).toNat < S256x142.size a := fun i k0_t2 v15 v20 v25 v30 v35 v40 v45 v50 v55 v60 v1270 k0_hw683 k0_h1 => k0_hw683.1 k0_h1
theorem k0_idx1069_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v20, v1270] : Fin 2 → IVec S16 32) a x).toNat < S256x142.size a := fun i k0_t2 v15 v20 v25 v30 v35 v40 v45 v50 v55 v60 v1270 k0_hw683 k0_h1 => k0_hw683.2.1 k0_h1
theorem k0_idx1071_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v25, v1270] : Fin 2 → IVec S16 32) a x).toNat < S256x142.size a := fun i k0_t2 v15 v20 v25 v30 v35 v40 v45 v50 v55 v60 v1270 k0_hw683 k0_h1 => k0_hw683.2.2.1 k0_h1
theorem k0_idx1073_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v30, v1270] : Fin 2 → IVec S16 32) a x).toNat < S256x142.size a := fun i k0_t2 v15 v20 v25 v30 v35 v40 v45 v50 v55 v60 v1270 k0_hw683 k0_h1 => k0_hw683.2.2.2.1 k0_h1
theorem k0_idx1075_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v35, v1270] : Fin 2 → IVec S16 32) a x).toNat < S256x142.size a := fun i k0_t2 v15 v20 v25 v30 v35 v40 v45 v50 v55 v60 v1270 k0_hw683 k0_h1 => k0_hw683.2.2.2.2.1 k0_h1
theorem k0_idx1077_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v40, v1270] : Fin 2 → IVec S16 32) a x).toNat < S256x142.size a := fun i k0_t2 v15 v20 v25 v30 v35 v40 v45 v50 v55 v60 v1270 k0_hw683 k0_h1 => k0_hw683.2.2.2.2.2.1 k0_h1
theorem k0_idx1079_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v45, v1270] : Fin 2 → IVec S16 32) a x).toNat < S256x142.size a := fun i k0_t2 v15 v20 v25 v30 v35 v40 v45 v50 v55 v60 v1270 k0_hw683 k0_h1 => k0_hw683.2.2.2.2.2.2.1 k0_h1
theorem k0_idx1081_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v50, v1270] : Fin 2 → IVec S16 32) a x).toNat < S256x142.size a := fun i k0_t2 v15 v20 v25 v30 v35 v40 v45 v50 v55 v60 v1270 k0_hw683 k0_h1 => k0_hw683.2.2.2.2.2.2.2.1 k0_h1
theorem k0_idx1083_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v55, v1270] : Fin 2 → IVec S16 32) a x).toNat < S256x142.size a := fun i k0_t2 v15 v20 v25 v30 v35 v40 v45 v50 v55 v60 v1270 k0_hw683 k0_h1 => k0_hw683.2.2.2.2.2.2.2.2.1 k0_h1
theorem k0_idx1085_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1270 : IVec S16 32) (k0_hw683 : k0_chk683 i k0_t2 v15 v20 v25 v30 v35 v40 v45 v50 v55 v60 v1270), ∀ (k0_h1 : k0_cond1 i k0_t2 = 1#1), ∀ a x, ((![v60, v1270] : Fin 2 → IVec S16 32) a x).toNat < S256x142.size a := fun i k0_t2 v15 v20 v25 v30 v35 v40 v45 v50 v55 v60 v1270 k0_hw683 k0_h1 => k0_hw683.2.2.2.2.2.2.2.2.2 k0_h1

def k0_chk693 (i : grid0.Coords) (k0_t2 : Fin k0_t2_loop.trips) (v1270 : IVec S16 32) (v1300 : IVec S16 32) : Prop :=
  (∀ (k0_h1 : k0_cond1 i k0_t2 = 1#1), ∀ a x, ((![v1300, v1270] : Fin 2 → IVec S16 32) a x).toNat < S160x142.size a)
theorem k0_idx1086_inb : ∀ (i : grid0.Coords) (k0_t2 : Fin k0_t2_loop.trips) (v1270 : IVec S16 32) (v1300 : IVec S16 32) (k0_hw693 : k0_chk693 i k0_t2 v1270 v1300), ∀ (k0_h1 : k0_cond1 i k0_t2 = 1#1), ∀ a x, ((![v1300, v1270] : Fin 2 → IVec S16 32) a x).toNat < S160x142.size a := fun i k0_t2 v1270 v1300 k0_hw693 k0_h1 => k0_hw693 k0_h1

def k0_chk695 (i : grid0.Coords) (k0_t2 : Fin k0_t2_loop.trips) (v1301 : IVec S16 32) (v1304 : IVec S16 32) : Prop :=
  (∀ (k0_h1 : k0_cond1 i k0_t2 = 1#1), ∀ a x, ((![v1304, v1301] : Fin 2 → IVec S16 32) a x).toNat < S160x142.size a)
theorem k0_idx1088_inb : ∀ (i : grid0.Coords) (k0_t2 : Fin k0_t2_loop.trips) (v1301 : IVec S16 32) (v1304 : IVec S16 32) (k0_hw695 : k0_chk695 i k0_t2 v1301 v1304), ∀ (k0_h1 : k0_cond1 i k0_t2 = 1#1), ∀ a x, ((![v1304, v1301] : Fin 2 → IVec S16 32) a x).toNat < S160x142.size a := fun i k0_t2 v1301 v1304 k0_hw695 k0_h1 => k0_hw695 k0_h1

def k0_chk696 (i : grid0.Coords) (k0_t2 : Fin k0_t2_loop.trips) (v1301 : IVec S16 32) (v1307 : IVec S16 32) : Prop :=
  (∀ (k0_h1 : k0_cond1 i k0_t2 = 1#1), ∀ a x, ((![v1307, v1301] : Fin 2 → IVec S16 32) a x).toNat < S160x142.size a)
theorem k0_idx1090_inb : ∀ (i : grid0.Coords) (k0_t2 : Fin k0_t2_loop.trips) (v1301 : IVec S16 32) (v1307 : IVec S16 32) (k0_hw696 : k0_chk696 i k0_t2 v1301 v1307), ∀ (k0_h1 : k0_cond1 i k0_t2 = 1#1), ∀ a x, ((![v1307, v1301] : Fin 2 → IVec S16 32) a x).toNat < S160x142.size a := fun i k0_t2 v1301 v1307 k0_hw696 k0_h1 => k0_hw696 k0_h1

def k0_chk697 (i : grid0.Coords) (k0_t2 : Fin k0_t2_loop.trips) (v1301 : IVec S16 32) (v1310 : IVec S16 32) : Prop :=
  (∀ (k0_h1 : k0_cond1 i k0_t2 = 1#1), ∀ a x, ((![v1310, v1301] : Fin 2 → IVec S16 32) a x).toNat < S160x142.size a)
theorem k0_idx1092_inb : ∀ (i : grid0.Coords) (k0_t2 : Fin k0_t2_loop.trips) (v1301 : IVec S16 32) (v1310 : IVec S16 32) (k0_hw697 : k0_chk697 i k0_t2 v1301 v1310), ∀ (k0_h1 : k0_cond1 i k0_t2 = 1#1), ∀ a x, ((![v1310, v1301] : Fin 2 → IVec S16 32) a x).toNat < S160x142.size a := fun i k0_t2 v1301 v1310 k0_hw697 k0_h1 => k0_hw697 k0_h1

def k0_chk698 (i : grid0.Coords) (k0_t2 : Fin k0_t2_loop.trips) (v1301 : IVec S16 32) (v1313 : IVec S16 32) : Prop :=
  (∀ (k0_h1 : k0_cond1 i k0_t2 = 1#1), ∀ a x, ((![v1313, v1301] : Fin 2 → IVec S16 32) a x).toNat < S160x142.size a)
theorem k0_idx1094_inb : ∀ (i : grid0.Coords) (k0_t2 : Fin k0_t2_loop.trips) (v1301 : IVec S16 32) (v1313 : IVec S16 32) (k0_hw698 : k0_chk698 i k0_t2 v1301 v1313), ∀ (k0_h1 : k0_cond1 i k0_t2 = 1#1), ∀ a x, ((![v1313, v1301] : Fin 2 → IVec S16 32) a x).toNat < S160x142.size a := fun i k0_t2 v1301 v1313 k0_hw698 k0_h1 => k0_hw698 k0_h1

def k0_chk699 (i : grid0.Coords) (k0_t2 : Fin k0_t2_loop.trips) (v1301 : IVec S16 32) (v1316 : IVec S16 32) : Prop :=
  (∀ (k0_h1 : k0_cond1 i k0_t2 = 1#1), ∀ a x, ((![v1316, v1301] : Fin 2 → IVec S16 32) a x).toNat < S160x142.size a)
theorem k0_idx1096_inb : ∀ (i : grid0.Coords) (k0_t2 : Fin k0_t2_loop.trips) (v1301 : IVec S16 32) (v1316 : IVec S16 32) (k0_hw699 : k0_chk699 i k0_t2 v1301 v1316), ∀ (k0_h1 : k0_cond1 i k0_t2 = 1#1), ∀ a x, ((![v1316, v1301] : Fin 2 → IVec S16 32) a x).toNat < S160x142.size a := fun i k0_t2 v1301 v1316 k0_hw699 k0_h1 => k0_hw699 k0_h1

def k0_chk700 (i : grid0.Coords) (k0_t2 : Fin k0_t2_loop.trips) (v1301 : IVec S16 32) (v1319 : IVec S16 32) : Prop :=
  (∀ (k0_h1 : k0_cond1 i k0_t2 = 1#1), ∀ a x, ((![v1319, v1301] : Fin 2 → IVec S16 32) a x).toNat < S160x142.size a)
theorem k0_idx1098_inb : ∀ (i : grid0.Coords) (k0_t2 : Fin k0_t2_loop.trips) (v1301 : IVec S16 32) (v1319 : IVec S16 32) (k0_hw700 : k0_chk700 i k0_t2 v1301 v1319), ∀ (k0_h1 : k0_cond1 i k0_t2 = 1#1), ∀ a x, ((![v1319, v1301] : Fin 2 → IVec S16 32) a x).toNat < S160x142.size a := fun i k0_t2 v1301 v1319 k0_hw700 k0_h1 => k0_hw700 k0_h1

def k0_chk701 (i : grid0.Coords) (k0_t2 : Fin k0_t2_loop.trips) (v1301 : IVec S16 32) (v1322 : IVec S16 32) : Prop :=
  (∀ (k0_h1 : k0_cond1 i k0_t2 = 1#1), ∀ a x, ((![v1322, v1301] : Fin 2 → IVec S16 32) a x).toNat < S160x142.size a)
theorem k0_idx1100_inb : ∀ (i : grid0.Coords) (k0_t2 : Fin k0_t2_loop.trips) (v1301 : IVec S16 32) (v1322 : IVec S16 32) (k0_hw701 : k0_chk701 i k0_t2 v1301 v1322), ∀ (k0_h1 : k0_cond1 i k0_t2 = 1#1), ∀ a x, ((![v1322, v1301] : Fin 2 → IVec S16 32) a x).toNat < S160x142.size a := fun i k0_t2 v1301 v1322 k0_hw701 k0_h1 => k0_hw701 k0_h1

def k0_chk702 (i : grid0.Coords) (k0_t2 : Fin k0_t2_loop.trips) (v1301 : IVec S16 32) (v1325 : IVec S16 32) : Prop :=
  (∀ (k0_h1 : k0_cond1 i k0_t2 = 1#1), ∀ a x, ((![v1325, v1301] : Fin 2 → IVec S16 32) a x).toNat < S160x142.size a)
theorem k0_idx1102_inb : ∀ (i : grid0.Coords) (k0_t2 : Fin k0_t2_loop.trips) (v1301 : IVec S16 32) (v1325 : IVec S16 32) (k0_hw702 : k0_chk702 i k0_t2 v1301 v1325), ∀ (k0_h1 : k0_cond1 i k0_t2 = 1#1), ∀ a x, ((![v1325, v1301] : Fin 2 → IVec S16 32) a x).toNat < S160x142.size a := fun i k0_t2 v1301 v1325 k0_hw702 k0_h1 => k0_hw702 k0_h1

def k0_chk703 (i : grid0.Coords) (k0_t2 : Fin k0_t2_loop.trips) (v1301 : IVec S16 32) (v1328 : IVec S16 32) : Prop :=
  (∀ (k0_h1 : k0_cond1 i k0_t2 = 1#1), ∀ a x, ((![v1328, v1301] : Fin 2 → IVec S16 32) a x).toNat < S160x142.size a)
theorem k0_idx1104_inb : ∀ (i : grid0.Coords) (k0_t2 : Fin k0_t2_loop.trips) (v1301 : IVec S16 32) (v1328 : IVec S16 32) (k0_hw703 : k0_chk703 i k0_t2 v1301 v1328), ∀ (k0_h1 : k0_cond1 i k0_t2 = 1#1), ∀ a x, ((![v1328, v1301] : Fin 2 → IVec S16 32) a x).toNat < S160x142.size a := fun i k0_t2 v1301 v1328 k0_hw703 k0_h1 => k0_hw703 k0_h1

def k0_chk694 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) : Prop :=
  (∀ (k0_h1 : k0_cond1 i k0_t2 = 1#1), ∀ a x, ((![v15, v1301] : Fin 2 → IVec S16 32) a x).toNat < S256x142.size a) ∧
  (∀ (k0_h1 : k0_cond1 i k0_t2 = 1#1), ∀ a x, ((![v20, v1301] : Fin 2 → IVec S16 32) a x).toNat < S256x142.size a) ∧
  (∀ (k0_h1 : k0_cond1 i k0_t2 = 1#1), ∀ a x, ((![v25, v1301] : Fin 2 → IVec S16 32) a x).toNat < S256x142.size a) ∧
  (∀ (k0_h1 : k0_cond1 i k0_t2 = 1#1), ∀ a x, ((![v30, v1301] : Fin 2 → IVec S16 32) a x).toNat < S256x142.size a) ∧
  (∀ (k0_h1 : k0_cond1 i k0_t2 = 1#1), ∀ a x, ((![v35, v1301] : Fin 2 → IVec S16 32) a x).toNat < S256x142.size a) ∧
  (∀ (k0_h1 : k0_cond1 i k0_t2 = 1#1), ∀ a x, ((![v40, v1301] : Fin 2 → IVec S16 32) a x).toNat < S256x142.size a) ∧
  (∀ (k0_h1 : k0_cond1 i k0_t2 = 1#1), ∀ a x, ((![v45, v1301] : Fin 2 → IVec S16 32) a x).toNat < S256x142.size a) ∧
  (∀ (k0_h1 : k0_cond1 i k0_t2 = 1#1), ∀ a x, ((![v50, v1301] : Fin 2 → IVec S16 32) a x).toNat < S256x142.size a) ∧
  (∀ (k0_h1 : k0_cond1 i k0_t2 = 1#1), ∀ a x, ((![v55, v1301] : Fin 2 → IVec S16 32) a x).toNat < S256x142.size a) ∧
  (∀ (k0_h1 : k0_cond1 i k0_t2 = 1#1), ∀ a x, ((![v60, v1301] : Fin 2 → IVec S16 32) a x).toNat < S256x142.size a)
theorem k0_idx1087_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v15, v1301] : Fin 2 → IVec S16 32) a x).toNat < S256x142.size a := fun i k0_t2 v15 v20 v25 v30 v35 v40 v45 v50 v55 v60 v1301 k0_hw694 k0_h1 => k0_hw694.1 k0_h1
theorem k0_idx1089_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v20, v1301] : Fin 2 → IVec S16 32) a x).toNat < S256x142.size a := fun i k0_t2 v15 v20 v25 v30 v35 v40 v45 v50 v55 v60 v1301 k0_hw694 k0_h1 => k0_hw694.2.1 k0_h1
theorem k0_idx1091_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v25, v1301] : Fin 2 → IVec S16 32) a x).toNat < S256x142.size a := fun i k0_t2 v15 v20 v25 v30 v35 v40 v45 v50 v55 v60 v1301 k0_hw694 k0_h1 => k0_hw694.2.2.1 k0_h1
theorem k0_idx1093_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v30, v1301] : Fin 2 → IVec S16 32) a x).toNat < S256x142.size a := fun i k0_t2 v15 v20 v25 v30 v35 v40 v45 v50 v55 v60 v1301 k0_hw694 k0_h1 => k0_hw694.2.2.2.1 k0_h1
theorem k0_idx1095_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v35, v1301] : Fin 2 → IVec S16 32) a x).toNat < S256x142.size a := fun i k0_t2 v15 v20 v25 v30 v35 v40 v45 v50 v55 v60 v1301 k0_hw694 k0_h1 => k0_hw694.2.2.2.2.1 k0_h1
theorem k0_idx1097_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v40, v1301] : Fin 2 → IVec S16 32) a x).toNat < S256x142.size a := fun i k0_t2 v15 v20 v25 v30 v35 v40 v45 v50 v55 v60 v1301 k0_hw694 k0_h1 => k0_hw694.2.2.2.2.2.1 k0_h1
theorem k0_idx1099_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v45, v1301] : Fin 2 → IVec S16 32) a x).toNat < S256x142.size a := fun i k0_t2 v15 v20 v25 v30 v35 v40 v45 v50 v55 v60 v1301 k0_hw694 k0_h1 => k0_hw694.2.2.2.2.2.2.1 k0_h1
theorem k0_idx1101_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v50, v1301] : Fin 2 → IVec S16 32) a x).toNat < S256x142.size a := fun i k0_t2 v15 v20 v25 v30 v35 v40 v45 v50 v55 v60 v1301 k0_hw694 k0_h1 => k0_hw694.2.2.2.2.2.2.2.1 k0_h1
theorem k0_idx1103_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v55, v1301] : Fin 2 → IVec S16 32) a x).toNat < S256x142.size a := fun i k0_t2 v15 v20 v25 v30 v35 v40 v45 v50 v55 v60 v1301 k0_hw694 k0_h1 => k0_hw694.2.2.2.2.2.2.2.2.1 k0_h1
theorem k0_idx1105_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1301 : IVec S16 32) (k0_hw694 : k0_chk694 i k0_t2 v15 v20 v25 v30 v35 v40 v45 v50 v55 v60 v1301), ∀ (k0_h1 : k0_cond1 i k0_t2 = 1#1), ∀ a x, ((![v60, v1301] : Fin 2 → IVec S16 32) a x).toNat < S256x142.size a := fun i k0_t2 v15 v20 v25 v30 v35 v40 v45 v50 v55 v60 v1301 k0_hw694 k0_h1 => k0_hw694.2.2.2.2.2.2.2.2.2 k0_h1

def k0_chk704 (i : grid0.Coords) (k0_t2 : Fin k0_t2_loop.trips) (v1301 : IVec S16 32) (v1331 : IVec S16 32) : Prop :=
  (∀ (k0_h1 : k0_cond1 i k0_t2 = 1#1), ∀ a x, ((![v1331, v1301] : Fin 2 → IVec S16 32) a x).toNat < S160x142.size a)
theorem k0_idx1106_inb : ∀ (i : grid0.Coords) (k0_t2 : Fin k0_t2_loop.trips) (v1301 : IVec S16 32) (v1331 : IVec S16 32) (k0_hw704 : k0_chk704 i k0_t2 v1301 v1331), ∀ (k0_h1 : k0_cond1 i k0_t2 = 1#1), ∀ a x, ((![v1331, v1301] : Fin 2 → IVec S16 32) a x).toNat < S160x142.size a := fun i k0_t2 v1301 v1331 k0_hw704 k0_h1 => k0_hw704 k0_h1

def k0_chk706 (i : grid0.Coords) (k0_t2 : Fin k0_t2_loop.trips) (v1332 : IVec S16 32) (v1335 : IVec S16 32) : Prop :=
  (∀ (k0_h1 : k0_cond1 i k0_t2 = 1#1), ∀ a x, ((![v1335, v1332] : Fin 2 → IVec S16 32) a x).toNat < S160x142.size a)
theorem k0_idx1108_inb : ∀ (i : grid0.Coords) (k0_t2 : Fin k0_t2_loop.trips) (v1332 : IVec S16 32) (v1335 : IVec S16 32) (k0_hw706 : k0_chk706 i k0_t2 v1332 v1335), ∀ (k0_h1 : k0_cond1 i k0_t2 = 1#1), ∀ a x, ((![v1335, v1332] : Fin 2 → IVec S16 32) a x).toNat < S160x142.size a := fun i k0_t2 v1332 v1335 k0_hw706 k0_h1 => k0_hw706 k0_h1

def k0_chk707 (i : grid0.Coords) (k0_t2 : Fin k0_t2_loop.trips) (v1332 : IVec S16 32) (v1338 : IVec S16 32) : Prop :=
  (∀ (k0_h1 : k0_cond1 i k0_t2 = 1#1), ∀ a x, ((![v1338, v1332] : Fin 2 → IVec S16 32) a x).toNat < S160x142.size a)
theorem k0_idx1110_inb : ∀ (i : grid0.Coords) (k0_t2 : Fin k0_t2_loop.trips) (v1332 : IVec S16 32) (v1338 : IVec S16 32) (k0_hw707 : k0_chk707 i k0_t2 v1332 v1338), ∀ (k0_h1 : k0_cond1 i k0_t2 = 1#1), ∀ a x, ((![v1338, v1332] : Fin 2 → IVec S16 32) a x).toNat < S160x142.size a := fun i k0_t2 v1332 v1338 k0_hw707 k0_h1 => k0_hw707 k0_h1

def k0_chk708 (i : grid0.Coords) (k0_t2 : Fin k0_t2_loop.trips) (v1332 : IVec S16 32) (v1341 : IVec S16 32) : Prop :=
  (∀ (k0_h1 : k0_cond1 i k0_t2 = 1#1), ∀ a x, ((![v1341, v1332] : Fin 2 → IVec S16 32) a x).toNat < S160x142.size a)
theorem k0_idx1112_inb : ∀ (i : grid0.Coords) (k0_t2 : Fin k0_t2_loop.trips) (v1332 : IVec S16 32) (v1341 : IVec S16 32) (k0_hw708 : k0_chk708 i k0_t2 v1332 v1341), ∀ (k0_h1 : k0_cond1 i k0_t2 = 1#1), ∀ a x, ((![v1341, v1332] : Fin 2 → IVec S16 32) a x).toNat < S160x142.size a := fun i k0_t2 v1332 v1341 k0_hw708 k0_h1 => k0_hw708 k0_h1

def k0_chk709 (i : grid0.Coords) (k0_t2 : Fin k0_t2_loop.trips) (v1332 : IVec S16 32) (v1344 : IVec S16 32) : Prop :=
  (∀ (k0_h1 : k0_cond1 i k0_t2 = 1#1), ∀ a x, ((![v1344, v1332] : Fin 2 → IVec S16 32) a x).toNat < S160x142.size a)
theorem k0_idx1114_inb : ∀ (i : grid0.Coords) (k0_t2 : Fin k0_t2_loop.trips) (v1332 : IVec S16 32) (v1344 : IVec S16 32) (k0_hw709 : k0_chk709 i k0_t2 v1332 v1344), ∀ (k0_h1 : k0_cond1 i k0_t2 = 1#1), ∀ a x, ((![v1344, v1332] : Fin 2 → IVec S16 32) a x).toNat < S160x142.size a := fun i k0_t2 v1332 v1344 k0_hw709 k0_h1 => k0_hw709 k0_h1

def k0_chk710 (i : grid0.Coords) (k0_t2 : Fin k0_t2_loop.trips) (v1332 : IVec S16 32) (v1347 : IVec S16 32) : Prop :=
  (∀ (k0_h1 : k0_cond1 i k0_t2 = 1#1), ∀ a x, ((![v1347, v1332] : Fin 2 → IVec S16 32) a x).toNat < S160x142.size a)
theorem k0_idx1116_inb : ∀ (i : grid0.Coords) (k0_t2 : Fin k0_t2_loop.trips) (v1332 : IVec S16 32) (v1347 : IVec S16 32) (k0_hw710 : k0_chk710 i k0_t2 v1332 v1347), ∀ (k0_h1 : k0_cond1 i k0_t2 = 1#1), ∀ a x, ((![v1347, v1332] : Fin 2 → IVec S16 32) a x).toNat < S160x142.size a := fun i k0_t2 v1332 v1347 k0_hw710 k0_h1 => k0_hw710 k0_h1

def k0_chk711 (i : grid0.Coords) (k0_t2 : Fin k0_t2_loop.trips) (v1332 : IVec S16 32) (v1350 : IVec S16 32) : Prop :=
  (∀ (k0_h1 : k0_cond1 i k0_t2 = 1#1), ∀ a x, ((![v1350, v1332] : Fin 2 → IVec S16 32) a x).toNat < S160x142.size a)
theorem k0_idx1118_inb : ∀ (i : grid0.Coords) (k0_t2 : Fin k0_t2_loop.trips) (v1332 : IVec S16 32) (v1350 : IVec S16 32) (k0_hw711 : k0_chk711 i k0_t2 v1332 v1350), ∀ (k0_h1 : k0_cond1 i k0_t2 = 1#1), ∀ a x, ((![v1350, v1332] : Fin 2 → IVec S16 32) a x).toNat < S160x142.size a := fun i k0_t2 v1332 v1350 k0_hw711 k0_h1 => k0_hw711 k0_h1

def k0_chk712 (i : grid0.Coords) (k0_t2 : Fin k0_t2_loop.trips) (v1332 : IVec S16 32) (v1353 : IVec S16 32) : Prop :=
  (∀ (k0_h1 : k0_cond1 i k0_t2 = 1#1), ∀ a x, ((![v1353, v1332] : Fin 2 → IVec S16 32) a x).toNat < S160x142.size a)
theorem k0_idx1120_inb : ∀ (i : grid0.Coords) (k0_t2 : Fin k0_t2_loop.trips) (v1332 : IVec S16 32) (v1353 : IVec S16 32) (k0_hw712 : k0_chk712 i k0_t2 v1332 v1353), ∀ (k0_h1 : k0_cond1 i k0_t2 = 1#1), ∀ a x, ((![v1353, v1332] : Fin 2 → IVec S16 32) a x).toNat < S160x142.size a := fun i k0_t2 v1332 v1353 k0_hw712 k0_h1 => k0_hw712 k0_h1

def k0_chk713 (i : grid0.Coords) (k0_t2 : Fin k0_t2_loop.trips) (v1332 : IVec S16 32) (v1356 : IVec S16 32) : Prop :=
  (∀ (k0_h1 : k0_cond1 i k0_t2 = 1#1), ∀ a x, ((![v1356, v1332] : Fin 2 → IVec S16 32) a x).toNat < S160x142.size a)
theorem k0_idx1122_inb : ∀ (i : grid0.Coords) (k0_t2 : Fin k0_t2_loop.trips) (v1332 : IVec S16 32) (v1356 : IVec S16 32) (k0_hw713 : k0_chk713 i k0_t2 v1332 v1356), ∀ (k0_h1 : k0_cond1 i k0_t2 = 1#1), ∀ a x, ((![v1356, v1332] : Fin 2 → IVec S16 32) a x).toNat < S160x142.size a := fun i k0_t2 v1332 v1356 k0_hw713 k0_h1 => k0_hw713 k0_h1

def k0_chk714 (i : grid0.Coords) (k0_t2 : Fin k0_t2_loop.trips) (v1332 : IVec S16 32) (v1359 : IVec S16 32) : Prop :=
  (∀ (k0_h1 : k0_cond1 i k0_t2 = 1#1), ∀ a x, ((![v1359, v1332] : Fin 2 → IVec S16 32) a x).toNat < S160x142.size a)
theorem k0_idx1124_inb : ∀ (i : grid0.Coords) (k0_t2 : Fin k0_t2_loop.trips) (v1332 : IVec S16 32) (v1359 : IVec S16 32) (k0_hw714 : k0_chk714 i k0_t2 v1332 v1359), ∀ (k0_h1 : k0_cond1 i k0_t2 = 1#1), ∀ a x, ((![v1359, v1332] : Fin 2 → IVec S16 32) a x).toNat < S160x142.size a := fun i k0_t2 v1332 v1359 k0_hw714 k0_h1 => k0_hw714 k0_h1

def k0_chk705 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) : Prop :=
  (∀ (k0_h1 : k0_cond1 i k0_t2 = 1#1), ∀ a x, ((![v15, v1332] : Fin 2 → IVec S16 32) a x).toNat < S256x142.size a) ∧
  (∀ (k0_h1 : k0_cond1 i k0_t2 = 1#1), ∀ a x, ((![v20, v1332] : Fin 2 → IVec S16 32) a x).toNat < S256x142.size a) ∧
  (∀ (k0_h1 : k0_cond1 i k0_t2 = 1#1), ∀ a x, ((![v25, v1332] : Fin 2 → IVec S16 32) a x).toNat < S256x142.size a) ∧
  (∀ (k0_h1 : k0_cond1 i k0_t2 = 1#1), ∀ a x, ((![v30, v1332] : Fin 2 → IVec S16 32) a x).toNat < S256x142.size a) ∧
  (∀ (k0_h1 : k0_cond1 i k0_t2 = 1#1), ∀ a x, ((![v35, v1332] : Fin 2 → IVec S16 32) a x).toNat < S256x142.size a) ∧
  (∀ (k0_h1 : k0_cond1 i k0_t2 = 1#1), ∀ a x, ((![v40, v1332] : Fin 2 → IVec S16 32) a x).toNat < S256x142.size a) ∧
  (∀ (k0_h1 : k0_cond1 i k0_t2 = 1#1), ∀ a x, ((![v45, v1332] : Fin 2 → IVec S16 32) a x).toNat < S256x142.size a) ∧
  (∀ (k0_h1 : k0_cond1 i k0_t2 = 1#1), ∀ a x, ((![v50, v1332] : Fin 2 → IVec S16 32) a x).toNat < S256x142.size a) ∧
  (∀ (k0_h1 : k0_cond1 i k0_t2 = 1#1), ∀ a x, ((![v55, v1332] : Fin 2 → IVec S16 32) a x).toNat < S256x142.size a) ∧
  (∀ (k0_h1 : k0_cond1 i k0_t2 = 1#1), ∀ a x, ((![v60, v1332] : Fin 2 → IVec S16 32) a x).toNat < S256x142.size a)
theorem k0_idx1107_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v15, v1332] : Fin 2 → IVec S16 32) a x).toNat < S256x142.size a := fun i k0_t2 v15 v20 v25 v30 v35 v40 v45 v50 v55 v60 v1332 k0_hw705 k0_h1 => k0_hw705.1 k0_h1
theorem k0_idx1109_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v20, v1332] : Fin 2 → IVec S16 32) a x).toNat < S256x142.size a := fun i k0_t2 v15 v20 v25 v30 v35 v40 v45 v50 v55 v60 v1332 k0_hw705 k0_h1 => k0_hw705.2.1 k0_h1
theorem k0_idx1111_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v25, v1332] : Fin 2 → IVec S16 32) a x).toNat < S256x142.size a := fun i k0_t2 v15 v20 v25 v30 v35 v40 v45 v50 v55 v60 v1332 k0_hw705 k0_h1 => k0_hw705.2.2.1 k0_h1
theorem k0_idx1113_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v30, v1332] : Fin 2 → IVec S16 32) a x).toNat < S256x142.size a := fun i k0_t2 v15 v20 v25 v30 v35 v40 v45 v50 v55 v60 v1332 k0_hw705 k0_h1 => k0_hw705.2.2.2.1 k0_h1
theorem k0_idx1115_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v35, v1332] : Fin 2 → IVec S16 32) a x).toNat < S256x142.size a := fun i k0_t2 v15 v20 v25 v30 v35 v40 v45 v50 v55 v60 v1332 k0_hw705 k0_h1 => k0_hw705.2.2.2.2.1 k0_h1
theorem k0_idx1117_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v40, v1332] : Fin 2 → IVec S16 32) a x).toNat < S256x142.size a := fun i k0_t2 v15 v20 v25 v30 v35 v40 v45 v50 v55 v60 v1332 k0_hw705 k0_h1 => k0_hw705.2.2.2.2.2.1 k0_h1
theorem k0_idx1119_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v45, v1332] : Fin 2 → IVec S16 32) a x).toNat < S256x142.size a := fun i k0_t2 v15 v20 v25 v30 v35 v40 v45 v50 v55 v60 v1332 k0_hw705 k0_h1 => k0_hw705.2.2.2.2.2.2.1 k0_h1
theorem k0_idx1121_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v50, v1332] : Fin 2 → IVec S16 32) a x).toNat < S256x142.size a := fun i k0_t2 v15 v20 v25 v30 v35 v40 v45 v50 v55 v60 v1332 k0_hw705 k0_h1 => k0_hw705.2.2.2.2.2.2.2.1 k0_h1
theorem k0_idx1123_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v55, v1332] : Fin 2 → IVec S16 32) a x).toNat < S256x142.size a := fun i k0_t2 v15 v20 v25 v30 v35 v40 v45 v50 v55 v60 v1332 k0_hw705 k0_h1 => k0_hw705.2.2.2.2.2.2.2.2.1 k0_h1
theorem k0_idx1125_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1332 : IVec S16 32) (k0_hw705 : k0_chk705 i k0_t2 v15 v20 v25 v30 v35 v40 v45 v50 v55 v60 v1332), ∀ (k0_h1 : k0_cond1 i k0_t2 = 1#1), ∀ a x, ((![v60, v1332] : Fin 2 → IVec S16 32) a x).toNat < S256x142.size a := fun i k0_t2 v15 v20 v25 v30 v35 v40 v45 v50 v55 v60 v1332 k0_hw705 k0_h1 => k0_hw705.2.2.2.2.2.2.2.2.2 k0_h1

def k0_chk715 (i : grid0.Coords) (k0_t2 : Fin k0_t2_loop.trips) (v1332 : IVec S16 32) (v1362 : IVec S16 32) : Prop :=
  (∀ (k0_h1 : k0_cond1 i k0_t2 = 1#1), ∀ a x, ((![v1362, v1332] : Fin 2 → IVec S16 32) a x).toNat < S160x142.size a)
theorem k0_idx1126_inb : ∀ (i : grid0.Coords) (k0_t2 : Fin k0_t2_loop.trips) (v1332 : IVec S16 32) (v1362 : IVec S16 32) (k0_hw715 : k0_chk715 i k0_t2 v1332 v1362), ∀ (k0_h1 : k0_cond1 i k0_t2 = 1#1), ∀ a x, ((![v1362, v1332] : Fin 2 → IVec S16 32) a x).toNat < S160x142.size a := fun i k0_t2 v1332 v1362 k0_hw715 k0_h1 => k0_hw715 k0_h1

def k0_chk717 (i : grid0.Coords) (k0_t2 : Fin k0_t2_loop.trips) (v1363 : IVec S16 32) (v1366 : IVec S16 32) : Prop :=
  (∀ (k0_h1 : k0_cond1 i k0_t2 = 1#1), ∀ a x, ((![v1366, v1363] : Fin 2 → IVec S16 32) a x).toNat < S160x142.size a)
theorem k0_idx1128_inb : ∀ (i : grid0.Coords) (k0_t2 : Fin k0_t2_loop.trips) (v1363 : IVec S16 32) (v1366 : IVec S16 32) (k0_hw717 : k0_chk717 i k0_t2 v1363 v1366), ∀ (k0_h1 : k0_cond1 i k0_t2 = 1#1), ∀ a x, ((![v1366, v1363] : Fin 2 → IVec S16 32) a x).toNat < S160x142.size a := fun i k0_t2 v1363 v1366 k0_hw717 k0_h1 => k0_hw717 k0_h1

def k0_chk718 (i : grid0.Coords) (k0_t2 : Fin k0_t2_loop.trips) (v1363 : IVec S16 32) (v1369 : IVec S16 32) : Prop :=
  (∀ (k0_h1 : k0_cond1 i k0_t2 = 1#1), ∀ a x, ((![v1369, v1363] : Fin 2 → IVec S16 32) a x).toNat < S160x142.size a)
theorem k0_idx1130_inb : ∀ (i : grid0.Coords) (k0_t2 : Fin k0_t2_loop.trips) (v1363 : IVec S16 32) (v1369 : IVec S16 32) (k0_hw718 : k0_chk718 i k0_t2 v1363 v1369), ∀ (k0_h1 : k0_cond1 i k0_t2 = 1#1), ∀ a x, ((![v1369, v1363] : Fin 2 → IVec S16 32) a x).toNat < S160x142.size a := fun i k0_t2 v1363 v1369 k0_hw718 k0_h1 => k0_hw718 k0_h1

def k0_chk719 (i : grid0.Coords) (k0_t2 : Fin k0_t2_loop.trips) (v1363 : IVec S16 32) (v1372 : IVec S16 32) : Prop :=
  (∀ (k0_h1 : k0_cond1 i k0_t2 = 1#1), ∀ a x, ((![v1372, v1363] : Fin 2 → IVec S16 32) a x).toNat < S160x142.size a)
theorem k0_idx1132_inb : ∀ (i : grid0.Coords) (k0_t2 : Fin k0_t2_loop.trips) (v1363 : IVec S16 32) (v1372 : IVec S16 32) (k0_hw719 : k0_chk719 i k0_t2 v1363 v1372), ∀ (k0_h1 : k0_cond1 i k0_t2 = 1#1), ∀ a x, ((![v1372, v1363] : Fin 2 → IVec S16 32) a x).toNat < S160x142.size a := fun i k0_t2 v1363 v1372 k0_hw719 k0_h1 => k0_hw719 k0_h1

def k0_chk720 (i : grid0.Coords) (k0_t2 : Fin k0_t2_loop.trips) (v1363 : IVec S16 32) (v1375 : IVec S16 32) : Prop :=
  (∀ (k0_h1 : k0_cond1 i k0_t2 = 1#1), ∀ a x, ((![v1375, v1363] : Fin 2 → IVec S16 32) a x).toNat < S160x142.size a)
theorem k0_idx1134_inb : ∀ (i : grid0.Coords) (k0_t2 : Fin k0_t2_loop.trips) (v1363 : IVec S16 32) (v1375 : IVec S16 32) (k0_hw720 : k0_chk720 i k0_t2 v1363 v1375), ∀ (k0_h1 : k0_cond1 i k0_t2 = 1#1), ∀ a x, ((![v1375, v1363] : Fin 2 → IVec S16 32) a x).toNat < S160x142.size a := fun i k0_t2 v1363 v1375 k0_hw720 k0_h1 => k0_hw720 k0_h1

def k0_chk721 (i : grid0.Coords) (k0_t2 : Fin k0_t2_loop.trips) (v1363 : IVec S16 32) (v1378 : IVec S16 32) : Prop :=
  (∀ (k0_h1 : k0_cond1 i k0_t2 = 1#1), ∀ a x, ((![v1378, v1363] : Fin 2 → IVec S16 32) a x).toNat < S160x142.size a)
theorem k0_idx1136_inb : ∀ (i : grid0.Coords) (k0_t2 : Fin k0_t2_loop.trips) (v1363 : IVec S16 32) (v1378 : IVec S16 32) (k0_hw721 : k0_chk721 i k0_t2 v1363 v1378), ∀ (k0_h1 : k0_cond1 i k0_t2 = 1#1), ∀ a x, ((![v1378, v1363] : Fin 2 → IVec S16 32) a x).toNat < S160x142.size a := fun i k0_t2 v1363 v1378 k0_hw721 k0_h1 => k0_hw721 k0_h1

def k0_chk722 (i : grid0.Coords) (k0_t2 : Fin k0_t2_loop.trips) (v1363 : IVec S16 32) (v1381 : IVec S16 32) : Prop :=
  (∀ (k0_h1 : k0_cond1 i k0_t2 = 1#1), ∀ a x, ((![v1381, v1363] : Fin 2 → IVec S16 32) a x).toNat < S160x142.size a)
theorem k0_idx1138_inb : ∀ (i : grid0.Coords) (k0_t2 : Fin k0_t2_loop.trips) (v1363 : IVec S16 32) (v1381 : IVec S16 32) (k0_hw722 : k0_chk722 i k0_t2 v1363 v1381), ∀ (k0_h1 : k0_cond1 i k0_t2 = 1#1), ∀ a x, ((![v1381, v1363] : Fin 2 → IVec S16 32) a x).toNat < S160x142.size a := fun i k0_t2 v1363 v1381 k0_hw722 k0_h1 => k0_hw722 k0_h1

def k0_chk723 (i : grid0.Coords) (k0_t2 : Fin k0_t2_loop.trips) (v1363 : IVec S16 32) (v1384 : IVec S16 32) : Prop :=
  (∀ (k0_h1 : k0_cond1 i k0_t2 = 1#1), ∀ a x, ((![v1384, v1363] : Fin 2 → IVec S16 32) a x).toNat < S160x142.size a)
theorem k0_idx1140_inb : ∀ (i : grid0.Coords) (k0_t2 : Fin k0_t2_loop.trips) (v1363 : IVec S16 32) (v1384 : IVec S16 32) (k0_hw723 : k0_chk723 i k0_t2 v1363 v1384), ∀ (k0_h1 : k0_cond1 i k0_t2 = 1#1), ∀ a x, ((![v1384, v1363] : Fin 2 → IVec S16 32) a x).toNat < S160x142.size a := fun i k0_t2 v1363 v1384 k0_hw723 k0_h1 => k0_hw723 k0_h1

def k0_chk724 (i : grid0.Coords) (k0_t2 : Fin k0_t2_loop.trips) (v1363 : IVec S16 32) (v1387 : IVec S16 32) : Prop :=
  (∀ (k0_h1 : k0_cond1 i k0_t2 = 1#1), ∀ a x, ((![v1387, v1363] : Fin 2 → IVec S16 32) a x).toNat < S160x142.size a)
theorem k0_idx1142_inb : ∀ (i : grid0.Coords) (k0_t2 : Fin k0_t2_loop.trips) (v1363 : IVec S16 32) (v1387 : IVec S16 32) (k0_hw724 : k0_chk724 i k0_t2 v1363 v1387), ∀ (k0_h1 : k0_cond1 i k0_t2 = 1#1), ∀ a x, ((![v1387, v1363] : Fin 2 → IVec S16 32) a x).toNat < S160x142.size a := fun i k0_t2 v1363 v1387 k0_hw724 k0_h1 => k0_hw724 k0_h1

def k0_chk725 (i : grid0.Coords) (k0_t2 : Fin k0_t2_loop.trips) (v1363 : IVec S16 32) (v1390 : IVec S16 32) : Prop :=
  (∀ (k0_h1 : k0_cond1 i k0_t2 = 1#1), ∀ a x, ((![v1390, v1363] : Fin 2 → IVec S16 32) a x).toNat < S160x142.size a)
theorem k0_idx1144_inb : ∀ (i : grid0.Coords) (k0_t2 : Fin k0_t2_loop.trips) (v1363 : IVec S16 32) (v1390 : IVec S16 32) (k0_hw725 : k0_chk725 i k0_t2 v1363 v1390), ∀ (k0_h1 : k0_cond1 i k0_t2 = 1#1), ∀ a x, ((![v1390, v1363] : Fin 2 → IVec S16 32) a x).toNat < S160x142.size a := fun i k0_t2 v1363 v1390 k0_hw725 k0_h1 => k0_hw725 k0_h1

def k0_chk716 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) : Prop :=
  (∀ (k0_h1 : k0_cond1 i k0_t2 = 1#1), ∀ a x, ((![v15, v1363] : Fin 2 → IVec S16 32) a x).toNat < S256x142.size a) ∧
  (∀ (k0_h1 : k0_cond1 i k0_t2 = 1#1), ∀ a x, ((![v20, v1363] : Fin 2 → IVec S16 32) a x).toNat < S256x142.size a) ∧
  (∀ (k0_h1 : k0_cond1 i k0_t2 = 1#1), ∀ a x, ((![v25, v1363] : Fin 2 → IVec S16 32) a x).toNat < S256x142.size a) ∧
  (∀ (k0_h1 : k0_cond1 i k0_t2 = 1#1), ∀ a x, ((![v30, v1363] : Fin 2 → IVec S16 32) a x).toNat < S256x142.size a) ∧
  (∀ (k0_h1 : k0_cond1 i k0_t2 = 1#1), ∀ a x, ((![v35, v1363] : Fin 2 → IVec S16 32) a x).toNat < S256x142.size a) ∧
  (∀ (k0_h1 : k0_cond1 i k0_t2 = 1#1), ∀ a x, ((![v40, v1363] : Fin 2 → IVec S16 32) a x).toNat < S256x142.size a) ∧
  (∀ (k0_h1 : k0_cond1 i k0_t2 = 1#1), ∀ a x, ((![v45, v1363] : Fin 2 → IVec S16 32) a x).toNat < S256x142.size a) ∧
  (∀ (k0_h1 : k0_cond1 i k0_t2 = 1#1), ∀ a x, ((![v50, v1363] : Fin 2 → IVec S16 32) a x).toNat < S256x142.size a) ∧
  (∀ (k0_h1 : k0_cond1 i k0_t2 = 1#1), ∀ a x, ((![v55, v1363] : Fin 2 → IVec S16 32) a x).toNat < S256x142.size a) ∧
  (∀ (k0_h1 : k0_cond1 i k0_t2 = 1#1), ∀ a x, ((![v60, v1363] : Fin 2 → IVec S16 32) a x).toNat < S256x142.size a)
theorem k0_idx1127_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v15, v1363] : Fin 2 → IVec S16 32) a x).toNat < S256x142.size a := fun i k0_t2 v15 v20 v25 v30 v35 v40 v45 v50 v55 v60 v1363 k0_hw716 k0_h1 => k0_hw716.1 k0_h1
theorem k0_idx1129_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v20, v1363] : Fin 2 → IVec S16 32) a x).toNat < S256x142.size a := fun i k0_t2 v15 v20 v25 v30 v35 v40 v45 v50 v55 v60 v1363 k0_hw716 k0_h1 => k0_hw716.2.1 k0_h1
theorem k0_idx1131_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v25, v1363] : Fin 2 → IVec S16 32) a x).toNat < S256x142.size a := fun i k0_t2 v15 v20 v25 v30 v35 v40 v45 v50 v55 v60 v1363 k0_hw716 k0_h1 => k0_hw716.2.2.1 k0_h1
theorem k0_idx1133_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v30, v1363] : Fin 2 → IVec S16 32) a x).toNat < S256x142.size a := fun i k0_t2 v15 v20 v25 v30 v35 v40 v45 v50 v55 v60 v1363 k0_hw716 k0_h1 => k0_hw716.2.2.2.1 k0_h1
theorem k0_idx1135_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v35, v1363] : Fin 2 → IVec S16 32) a x).toNat < S256x142.size a := fun i k0_t2 v15 v20 v25 v30 v35 v40 v45 v50 v55 v60 v1363 k0_hw716 k0_h1 => k0_hw716.2.2.2.2.1 k0_h1
theorem k0_idx1137_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v40, v1363] : Fin 2 → IVec S16 32) a x).toNat < S256x142.size a := fun i k0_t2 v15 v20 v25 v30 v35 v40 v45 v50 v55 v60 v1363 k0_hw716 k0_h1 => k0_hw716.2.2.2.2.2.1 k0_h1
theorem k0_idx1139_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v45, v1363] : Fin 2 → IVec S16 32) a x).toNat < S256x142.size a := fun i k0_t2 v15 v20 v25 v30 v35 v40 v45 v50 v55 v60 v1363 k0_hw716 k0_h1 => k0_hw716.2.2.2.2.2.2.1 k0_h1
theorem k0_idx1141_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v50, v1363] : Fin 2 → IVec S16 32) a x).toNat < S256x142.size a := fun i k0_t2 v15 v20 v25 v30 v35 v40 v45 v50 v55 v60 v1363 k0_hw716 k0_h1 => k0_hw716.2.2.2.2.2.2.2.1 k0_h1
theorem k0_idx1143_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v55, v1363] : Fin 2 → IVec S16 32) a x).toNat < S256x142.size a := fun i k0_t2 v15 v20 v25 v30 v35 v40 v45 v50 v55 v60 v1363 k0_hw716 k0_h1 => k0_hw716.2.2.2.2.2.2.2.2.1 k0_h1
theorem k0_idx1145_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1363 : IVec S16 32) (k0_hw716 : k0_chk716 i k0_t2 v15 v20 v25 v30 v35 v40 v45 v50 v55 v60 v1363), ∀ (k0_h1 : k0_cond1 i k0_t2 = 1#1), ∀ a x, ((![v60, v1363] : Fin 2 → IVec S16 32) a x).toNat < S256x142.size a := fun i k0_t2 v15 v20 v25 v30 v35 v40 v45 v50 v55 v60 v1363 k0_hw716 k0_h1 => k0_hw716.2.2.2.2.2.2.2.2.2 k0_h1

def k0_chk726 (i : grid0.Coords) (k0_t2 : Fin k0_t2_loop.trips) (v1363 : IVec S16 32) (v1393 : IVec S16 32) : Prop :=
  (∀ (k0_h1 : k0_cond1 i k0_t2 = 1#1), ∀ a x, ((![v1393, v1363] : Fin 2 → IVec S16 32) a x).toNat < S160x142.size a)
theorem k0_idx1146_inb : ∀ (i : grid0.Coords) (k0_t2 : Fin k0_t2_loop.trips) (v1363 : IVec S16 32) (v1393 : IVec S16 32) (k0_hw726 : k0_chk726 i k0_t2 v1363 v1393), ∀ (k0_h1 : k0_cond1 i k0_t2 = 1#1), ∀ a x, ((![v1393, v1363] : Fin 2 → IVec S16 32) a x).toNat < S160x142.size a := fun i k0_t2 v1363 v1393 k0_hw726 k0_h1 => k0_hw726 k0_h1

def k0_chk728 (i : grid0.Coords) (k0_t2 : Fin k0_t2_loop.trips) (v1394 : IVec S16 32) (v1397 : IVec S16 32) : Prop :=
  (∀ (k0_h1 : k0_cond1 i k0_t2 = 1#1), ∀ a x, ((![v1397, v1394] : Fin 2 → IVec S16 32) a x).toNat < S160x142.size a)
theorem k0_idx1148_inb : ∀ (i : grid0.Coords) (k0_t2 : Fin k0_t2_loop.trips) (v1394 : IVec S16 32) (v1397 : IVec S16 32) (k0_hw728 : k0_chk728 i k0_t2 v1394 v1397), ∀ (k0_h1 : k0_cond1 i k0_t2 = 1#1), ∀ a x, ((![v1397, v1394] : Fin 2 → IVec S16 32) a x).toNat < S160x142.size a := fun i k0_t2 v1394 v1397 k0_hw728 k0_h1 => k0_hw728 k0_h1

def k0_chk729 (i : grid0.Coords) (k0_t2 : Fin k0_t2_loop.trips) (v1394 : IVec S16 32) (v1400 : IVec S16 32) : Prop :=
  (∀ (k0_h1 : k0_cond1 i k0_t2 = 1#1), ∀ a x, ((![v1400, v1394] : Fin 2 → IVec S16 32) a x).toNat < S160x142.size a)
theorem k0_idx1150_inb : ∀ (i : grid0.Coords) (k0_t2 : Fin k0_t2_loop.trips) (v1394 : IVec S16 32) (v1400 : IVec S16 32) (k0_hw729 : k0_chk729 i k0_t2 v1394 v1400), ∀ (k0_h1 : k0_cond1 i k0_t2 = 1#1), ∀ a x, ((![v1400, v1394] : Fin 2 → IVec S16 32) a x).toNat < S160x142.size a := fun i k0_t2 v1394 v1400 k0_hw729 k0_h1 => k0_hw729 k0_h1

def k0_chk730 (i : grid0.Coords) (k0_t2 : Fin k0_t2_loop.trips) (v1394 : IVec S16 32) (v1403 : IVec S16 32) : Prop :=
  (∀ (k0_h1 : k0_cond1 i k0_t2 = 1#1), ∀ a x, ((![v1403, v1394] : Fin 2 → IVec S16 32) a x).toNat < S160x142.size a)
theorem k0_idx1152_inb : ∀ (i : grid0.Coords) (k0_t2 : Fin k0_t2_loop.trips) (v1394 : IVec S16 32) (v1403 : IVec S16 32) (k0_hw730 : k0_chk730 i k0_t2 v1394 v1403), ∀ (k0_h1 : k0_cond1 i k0_t2 = 1#1), ∀ a x, ((![v1403, v1394] : Fin 2 → IVec S16 32) a x).toNat < S160x142.size a := fun i k0_t2 v1394 v1403 k0_hw730 k0_h1 => k0_hw730 k0_h1

def k0_chk731 (i : grid0.Coords) (k0_t2 : Fin k0_t2_loop.trips) (v1394 : IVec S16 32) (v1406 : IVec S16 32) : Prop :=
  (∀ (k0_h1 : k0_cond1 i k0_t2 = 1#1), ∀ a x, ((![v1406, v1394] : Fin 2 → IVec S16 32) a x).toNat < S160x142.size a)
theorem k0_idx1154_inb : ∀ (i : grid0.Coords) (k0_t2 : Fin k0_t2_loop.trips) (v1394 : IVec S16 32) (v1406 : IVec S16 32) (k0_hw731 : k0_chk731 i k0_t2 v1394 v1406), ∀ (k0_h1 : k0_cond1 i k0_t2 = 1#1), ∀ a x, ((![v1406, v1394] : Fin 2 → IVec S16 32) a x).toNat < S160x142.size a := fun i k0_t2 v1394 v1406 k0_hw731 k0_h1 => k0_hw731 k0_h1

def k0_chk732 (i : grid0.Coords) (k0_t2 : Fin k0_t2_loop.trips) (v1394 : IVec S16 32) (v1409 : IVec S16 32) : Prop :=
  (∀ (k0_h1 : k0_cond1 i k0_t2 = 1#1), ∀ a x, ((![v1409, v1394] : Fin 2 → IVec S16 32) a x).toNat < S160x142.size a)
theorem k0_idx1156_inb : ∀ (i : grid0.Coords) (k0_t2 : Fin k0_t2_loop.trips) (v1394 : IVec S16 32) (v1409 : IVec S16 32) (k0_hw732 : k0_chk732 i k0_t2 v1394 v1409), ∀ (k0_h1 : k0_cond1 i k0_t2 = 1#1), ∀ a x, ((![v1409, v1394] : Fin 2 → IVec S16 32) a x).toNat < S160x142.size a := fun i k0_t2 v1394 v1409 k0_hw732 k0_h1 => k0_hw732 k0_h1

def k0_chk733 (i : grid0.Coords) (k0_t2 : Fin k0_t2_loop.trips) (v1394 : IVec S16 32) (v1412 : IVec S16 32) : Prop :=
  (∀ (k0_h1 : k0_cond1 i k0_t2 = 1#1), ∀ a x, ((![v1412, v1394] : Fin 2 → IVec S16 32) a x).toNat < S160x142.size a)
theorem k0_idx1158_inb : ∀ (i : grid0.Coords) (k0_t2 : Fin k0_t2_loop.trips) (v1394 : IVec S16 32) (v1412 : IVec S16 32) (k0_hw733 : k0_chk733 i k0_t2 v1394 v1412), ∀ (k0_h1 : k0_cond1 i k0_t2 = 1#1), ∀ a x, ((![v1412, v1394] : Fin 2 → IVec S16 32) a x).toNat < S160x142.size a := fun i k0_t2 v1394 v1412 k0_hw733 k0_h1 => k0_hw733 k0_h1

def k0_chk734 (i : grid0.Coords) (k0_t2 : Fin k0_t2_loop.trips) (v1394 : IVec S16 32) (v1415 : IVec S16 32) : Prop :=
  (∀ (k0_h1 : k0_cond1 i k0_t2 = 1#1), ∀ a x, ((![v1415, v1394] : Fin 2 → IVec S16 32) a x).toNat < S160x142.size a)
theorem k0_idx1160_inb : ∀ (i : grid0.Coords) (k0_t2 : Fin k0_t2_loop.trips) (v1394 : IVec S16 32) (v1415 : IVec S16 32) (k0_hw734 : k0_chk734 i k0_t2 v1394 v1415), ∀ (k0_h1 : k0_cond1 i k0_t2 = 1#1), ∀ a x, ((![v1415, v1394] : Fin 2 → IVec S16 32) a x).toNat < S160x142.size a := fun i k0_t2 v1394 v1415 k0_hw734 k0_h1 => k0_hw734 k0_h1

def k0_chk735 (i : grid0.Coords) (k0_t2 : Fin k0_t2_loop.trips) (v1394 : IVec S16 32) (v1418 : IVec S16 32) : Prop :=
  (∀ (k0_h1 : k0_cond1 i k0_t2 = 1#1), ∀ a x, ((![v1418, v1394] : Fin 2 → IVec S16 32) a x).toNat < S160x142.size a)
theorem k0_idx1162_inb : ∀ (i : grid0.Coords) (k0_t2 : Fin k0_t2_loop.trips) (v1394 : IVec S16 32) (v1418 : IVec S16 32) (k0_hw735 : k0_chk735 i k0_t2 v1394 v1418), ∀ (k0_h1 : k0_cond1 i k0_t2 = 1#1), ∀ a x, ((![v1418, v1394] : Fin 2 → IVec S16 32) a x).toNat < S160x142.size a := fun i k0_t2 v1394 v1418 k0_hw735 k0_h1 => k0_hw735 k0_h1

def k0_chk736 (i : grid0.Coords) (k0_t2 : Fin k0_t2_loop.trips) (v1394 : IVec S16 32) (v1421 : IVec S16 32) : Prop :=
  (∀ (k0_h1 : k0_cond1 i k0_t2 = 1#1), ∀ a x, ((![v1421, v1394] : Fin 2 → IVec S16 32) a x).toNat < S160x142.size a)
theorem k0_idx1164_inb : ∀ (i : grid0.Coords) (k0_t2 : Fin k0_t2_loop.trips) (v1394 : IVec S16 32) (v1421 : IVec S16 32) (k0_hw736 : k0_chk736 i k0_t2 v1394 v1421), ∀ (k0_h1 : k0_cond1 i k0_t2 = 1#1), ∀ a x, ((![v1421, v1394] : Fin 2 → IVec S16 32) a x).toNat < S160x142.size a := fun i k0_t2 v1394 v1421 k0_hw736 k0_h1 => k0_hw736 k0_h1

def k0_chk727 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) : Prop :=
  (∀ (k0_h1 : k0_cond1 i k0_t2 = 1#1), ∀ a x, ((![v15, v1394] : Fin 2 → IVec S16 32) a x).toNat < S256x142.size a) ∧
  (∀ (k0_h1 : k0_cond1 i k0_t2 = 1#1), ∀ a x, ((![v20, v1394] : Fin 2 → IVec S16 32) a x).toNat < S256x142.size a) ∧
  (∀ (k0_h1 : k0_cond1 i k0_t2 = 1#1), ∀ a x, ((![v25, v1394] : Fin 2 → IVec S16 32) a x).toNat < S256x142.size a) ∧
  (∀ (k0_h1 : k0_cond1 i k0_t2 = 1#1), ∀ a x, ((![v30, v1394] : Fin 2 → IVec S16 32) a x).toNat < S256x142.size a) ∧
  (∀ (k0_h1 : k0_cond1 i k0_t2 = 1#1), ∀ a x, ((![v35, v1394] : Fin 2 → IVec S16 32) a x).toNat < S256x142.size a) ∧
  (∀ (k0_h1 : k0_cond1 i k0_t2 = 1#1), ∀ a x, ((![v40, v1394] : Fin 2 → IVec S16 32) a x).toNat < S256x142.size a) ∧
  (∀ (k0_h1 : k0_cond1 i k0_t2 = 1#1), ∀ a x, ((![v45, v1394] : Fin 2 → IVec S16 32) a x).toNat < S256x142.size a) ∧
  (∀ (k0_h1 : k0_cond1 i k0_t2 = 1#1), ∀ a x, ((![v50, v1394] : Fin 2 → IVec S16 32) a x).toNat < S256x142.size a) ∧
  (∀ (k0_h1 : k0_cond1 i k0_t2 = 1#1), ∀ a x, ((![v55, v1394] : Fin 2 → IVec S16 32) a x).toNat < S256x142.size a) ∧
  (∀ (k0_h1 : k0_cond1 i k0_t2 = 1#1), ∀ a x, ((![v60, v1394] : Fin 2 → IVec S16 32) a x).toNat < S256x142.size a)
theorem k0_idx1147_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v15, v1394] : Fin 2 → IVec S16 32) a x).toNat < S256x142.size a := fun i k0_t2 v15 v20 v25 v30 v35 v40 v45 v50 v55 v60 v1394 k0_hw727 k0_h1 => k0_hw727.1 k0_h1
theorem k0_idx1149_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v20, v1394] : Fin 2 → IVec S16 32) a x).toNat < S256x142.size a := fun i k0_t2 v15 v20 v25 v30 v35 v40 v45 v50 v55 v60 v1394 k0_hw727 k0_h1 => k0_hw727.2.1 k0_h1
theorem k0_idx1151_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v25, v1394] : Fin 2 → IVec S16 32) a x).toNat < S256x142.size a := fun i k0_t2 v15 v20 v25 v30 v35 v40 v45 v50 v55 v60 v1394 k0_hw727 k0_h1 => k0_hw727.2.2.1 k0_h1
theorem k0_idx1153_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v30, v1394] : Fin 2 → IVec S16 32) a x).toNat < S256x142.size a := fun i k0_t2 v15 v20 v25 v30 v35 v40 v45 v50 v55 v60 v1394 k0_hw727 k0_h1 => k0_hw727.2.2.2.1 k0_h1
theorem k0_idx1155_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v35, v1394] : Fin 2 → IVec S16 32) a x).toNat < S256x142.size a := fun i k0_t2 v15 v20 v25 v30 v35 v40 v45 v50 v55 v60 v1394 k0_hw727 k0_h1 => k0_hw727.2.2.2.2.1 k0_h1
theorem k0_idx1157_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v40, v1394] : Fin 2 → IVec S16 32) a x).toNat < S256x142.size a := fun i k0_t2 v15 v20 v25 v30 v35 v40 v45 v50 v55 v60 v1394 k0_hw727 k0_h1 => k0_hw727.2.2.2.2.2.1 k0_h1
theorem k0_idx1159_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v45, v1394] : Fin 2 → IVec S16 32) a x).toNat < S256x142.size a := fun i k0_t2 v15 v20 v25 v30 v35 v40 v45 v50 v55 v60 v1394 k0_hw727 k0_h1 => k0_hw727.2.2.2.2.2.2.1 k0_h1
theorem k0_idx1161_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v50, v1394] : Fin 2 → IVec S16 32) a x).toNat < S256x142.size a := fun i k0_t2 v15 v20 v25 v30 v35 v40 v45 v50 v55 v60 v1394 k0_hw727 k0_h1 => k0_hw727.2.2.2.2.2.2.2.1 k0_h1
theorem k0_idx1163_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v55, v1394] : Fin 2 → IVec S16 32) a x).toNat < S256x142.size a := fun i k0_t2 v15 v20 v25 v30 v35 v40 v45 v50 v55 v60 v1394 k0_hw727 k0_h1 => k0_hw727.2.2.2.2.2.2.2.2.1 k0_h1
theorem k0_idx1165_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1394 : IVec S16 32) (k0_hw727 : k0_chk727 i k0_t2 v15 v20 v25 v30 v35 v40 v45 v50 v55 v60 v1394), ∀ (k0_h1 : k0_cond1 i k0_t2 = 1#1), ∀ a x, ((![v60, v1394] : Fin 2 → IVec S16 32) a x).toNat < S256x142.size a := fun i k0_t2 v15 v20 v25 v30 v35 v40 v45 v50 v55 v60 v1394 k0_hw727 k0_h1 => k0_hw727.2.2.2.2.2.2.2.2.2 k0_h1

def k0_chk737 (i : grid0.Coords) (k0_t2 : Fin k0_t2_loop.trips) (v1394 : IVec S16 32) (v1424 : IVec S16 32) : Prop :=
  (∀ (k0_h1 : k0_cond1 i k0_t2 = 1#1), ∀ a x, ((![v1424, v1394] : Fin 2 → IVec S16 32) a x).toNat < S160x142.size a)
theorem k0_idx1166_inb : ∀ (i : grid0.Coords) (k0_t2 : Fin k0_t2_loop.trips) (v1394 : IVec S16 32) (v1424 : IVec S16 32) (k0_hw737 : k0_chk737 i k0_t2 v1394 v1424), ∀ (k0_h1 : k0_cond1 i k0_t2 = 1#1), ∀ a x, ((![v1424, v1394] : Fin 2 → IVec S16 32) a x).toNat < S160x142.size a := fun i k0_t2 v1394 v1424 k0_hw737 k0_h1 => k0_hw737 k0_h1

def k0_chk739 (i : grid0.Coords) (k0_t2 : Fin k0_t2_loop.trips) (v1425 : IVec S16 32) (v1428 : IVec S16 32) : Prop :=
  (∀ (k0_h1 : k0_cond1 i k0_t2 = 1#1), ∀ a x, ((![v1428, v1425] : Fin 2 → IVec S16 32) a x).toNat < S160x142.size a)
theorem k0_idx1168_inb : ∀ (i : grid0.Coords) (k0_t2 : Fin k0_t2_loop.trips) (v1425 : IVec S16 32) (v1428 : IVec S16 32) (k0_hw739 : k0_chk739 i k0_t2 v1425 v1428), ∀ (k0_h1 : k0_cond1 i k0_t2 = 1#1), ∀ a x, ((![v1428, v1425] : Fin 2 → IVec S16 32) a x).toNat < S160x142.size a := fun i k0_t2 v1425 v1428 k0_hw739 k0_h1 => k0_hw739 k0_h1

def k0_chk740 (i : grid0.Coords) (k0_t2 : Fin k0_t2_loop.trips) (v1425 : IVec S16 32) (v1431 : IVec S16 32) : Prop :=
  (∀ (k0_h1 : k0_cond1 i k0_t2 = 1#1), ∀ a x, ((![v1431, v1425] : Fin 2 → IVec S16 32) a x).toNat < S160x142.size a)
theorem k0_idx1170_inb : ∀ (i : grid0.Coords) (k0_t2 : Fin k0_t2_loop.trips) (v1425 : IVec S16 32) (v1431 : IVec S16 32) (k0_hw740 : k0_chk740 i k0_t2 v1425 v1431), ∀ (k0_h1 : k0_cond1 i k0_t2 = 1#1), ∀ a x, ((![v1431, v1425] : Fin 2 → IVec S16 32) a x).toNat < S160x142.size a := fun i k0_t2 v1425 v1431 k0_hw740 k0_h1 => k0_hw740 k0_h1

def k0_chk741 (i : grid0.Coords) (k0_t2 : Fin k0_t2_loop.trips) (v1425 : IVec S16 32) (v1434 : IVec S16 32) : Prop :=
  (∀ (k0_h1 : k0_cond1 i k0_t2 = 1#1), ∀ a x, ((![v1434, v1425] : Fin 2 → IVec S16 32) a x).toNat < S160x142.size a)
theorem k0_idx1172_inb : ∀ (i : grid0.Coords) (k0_t2 : Fin k0_t2_loop.trips) (v1425 : IVec S16 32) (v1434 : IVec S16 32) (k0_hw741 : k0_chk741 i k0_t2 v1425 v1434), ∀ (k0_h1 : k0_cond1 i k0_t2 = 1#1), ∀ a x, ((![v1434, v1425] : Fin 2 → IVec S16 32) a x).toNat < S160x142.size a := fun i k0_t2 v1425 v1434 k0_hw741 k0_h1 => k0_hw741 k0_h1

def k0_chk742 (i : grid0.Coords) (k0_t2 : Fin k0_t2_loop.trips) (v1425 : IVec S16 32) (v1437 : IVec S16 32) : Prop :=
  (∀ (k0_h1 : k0_cond1 i k0_t2 = 1#1), ∀ a x, ((![v1437, v1425] : Fin 2 → IVec S16 32) a x).toNat < S160x142.size a)
theorem k0_idx1174_inb : ∀ (i : grid0.Coords) (k0_t2 : Fin k0_t2_loop.trips) (v1425 : IVec S16 32) (v1437 : IVec S16 32) (k0_hw742 : k0_chk742 i k0_t2 v1425 v1437), ∀ (k0_h1 : k0_cond1 i k0_t2 = 1#1), ∀ a x, ((![v1437, v1425] : Fin 2 → IVec S16 32) a x).toNat < S160x142.size a := fun i k0_t2 v1425 v1437 k0_hw742 k0_h1 => k0_hw742 k0_h1

def k0_chk743 (i : grid0.Coords) (k0_t2 : Fin k0_t2_loop.trips) (v1425 : IVec S16 32) (v1440 : IVec S16 32) : Prop :=
  (∀ (k0_h1 : k0_cond1 i k0_t2 = 1#1), ∀ a x, ((![v1440, v1425] : Fin 2 → IVec S16 32) a x).toNat < S160x142.size a)
theorem k0_idx1176_inb : ∀ (i : grid0.Coords) (k0_t2 : Fin k0_t2_loop.trips) (v1425 : IVec S16 32) (v1440 : IVec S16 32) (k0_hw743 : k0_chk743 i k0_t2 v1425 v1440), ∀ (k0_h1 : k0_cond1 i k0_t2 = 1#1), ∀ a x, ((![v1440, v1425] : Fin 2 → IVec S16 32) a x).toNat < S160x142.size a := fun i k0_t2 v1425 v1440 k0_hw743 k0_h1 => k0_hw743 k0_h1

def k0_chk744 (i : grid0.Coords) (k0_t2 : Fin k0_t2_loop.trips) (v1425 : IVec S16 32) (v1443 : IVec S16 32) : Prop :=
  (∀ (k0_h1 : k0_cond1 i k0_t2 = 1#1), ∀ a x, ((![v1443, v1425] : Fin 2 → IVec S16 32) a x).toNat < S160x142.size a)
theorem k0_idx1178_inb : ∀ (i : grid0.Coords) (k0_t2 : Fin k0_t2_loop.trips) (v1425 : IVec S16 32) (v1443 : IVec S16 32) (k0_hw744 : k0_chk744 i k0_t2 v1425 v1443), ∀ (k0_h1 : k0_cond1 i k0_t2 = 1#1), ∀ a x, ((![v1443, v1425] : Fin 2 → IVec S16 32) a x).toNat < S160x142.size a := fun i k0_t2 v1425 v1443 k0_hw744 k0_h1 => k0_hw744 k0_h1

def k0_chk745 (i : grid0.Coords) (k0_t2 : Fin k0_t2_loop.trips) (v1425 : IVec S16 32) (v1446 : IVec S16 32) : Prop :=
  (∀ (k0_h1 : k0_cond1 i k0_t2 = 1#1), ∀ a x, ((![v1446, v1425] : Fin 2 → IVec S16 32) a x).toNat < S160x142.size a)
theorem k0_idx1180_inb : ∀ (i : grid0.Coords) (k0_t2 : Fin k0_t2_loop.trips) (v1425 : IVec S16 32) (v1446 : IVec S16 32) (k0_hw745 : k0_chk745 i k0_t2 v1425 v1446), ∀ (k0_h1 : k0_cond1 i k0_t2 = 1#1), ∀ a x, ((![v1446, v1425] : Fin 2 → IVec S16 32) a x).toNat < S160x142.size a := fun i k0_t2 v1425 v1446 k0_hw745 k0_h1 => k0_hw745 k0_h1

def k0_chk746 (i : grid0.Coords) (k0_t2 : Fin k0_t2_loop.trips) (v1425 : IVec S16 32) (v1449 : IVec S16 32) : Prop :=
  (∀ (k0_h1 : k0_cond1 i k0_t2 = 1#1), ∀ a x, ((![v1449, v1425] : Fin 2 → IVec S16 32) a x).toNat < S160x142.size a)
theorem k0_idx1182_inb : ∀ (i : grid0.Coords) (k0_t2 : Fin k0_t2_loop.trips) (v1425 : IVec S16 32) (v1449 : IVec S16 32) (k0_hw746 : k0_chk746 i k0_t2 v1425 v1449), ∀ (k0_h1 : k0_cond1 i k0_t2 = 1#1), ∀ a x, ((![v1449, v1425] : Fin 2 → IVec S16 32) a x).toNat < S160x142.size a := fun i k0_t2 v1425 v1449 k0_hw746 k0_h1 => k0_hw746 k0_h1

def k0_chk747 (i : grid0.Coords) (k0_t2 : Fin k0_t2_loop.trips) (v1425 : IVec S16 32) (v1452 : IVec S16 32) : Prop :=
  (∀ (k0_h1 : k0_cond1 i k0_t2 = 1#1), ∀ a x, ((![v1452, v1425] : Fin 2 → IVec S16 32) a x).toNat < S160x142.size a)
theorem k0_idx1184_inb : ∀ (i : grid0.Coords) (k0_t2 : Fin k0_t2_loop.trips) (v1425 : IVec S16 32) (v1452 : IVec S16 32) (k0_hw747 : k0_chk747 i k0_t2 v1425 v1452), ∀ (k0_h1 : k0_cond1 i k0_t2 = 1#1), ∀ a x, ((![v1452, v1425] : Fin 2 → IVec S16 32) a x).toNat < S160x142.size a := fun i k0_t2 v1425 v1452 k0_hw747 k0_h1 => k0_hw747 k0_h1

def k0_chk738 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) : Prop :=
  (∀ (k0_h1 : k0_cond1 i k0_t2 = 1#1), ∀ a x, ((![v15, v1425] : Fin 2 → IVec S16 32) a x).toNat < S256x142.size a) ∧
  (∀ (k0_h1 : k0_cond1 i k0_t2 = 1#1), ∀ a x, ((![v20, v1425] : Fin 2 → IVec S16 32) a x).toNat < S256x142.size a) ∧
  (∀ (k0_h1 : k0_cond1 i k0_t2 = 1#1), ∀ a x, ((![v25, v1425] : Fin 2 → IVec S16 32) a x).toNat < S256x142.size a) ∧
  (∀ (k0_h1 : k0_cond1 i k0_t2 = 1#1), ∀ a x, ((![v30, v1425] : Fin 2 → IVec S16 32) a x).toNat < S256x142.size a) ∧
  (∀ (k0_h1 : k0_cond1 i k0_t2 = 1#1), ∀ a x, ((![v35, v1425] : Fin 2 → IVec S16 32) a x).toNat < S256x142.size a) ∧
  (∀ (k0_h1 : k0_cond1 i k0_t2 = 1#1), ∀ a x, ((![v40, v1425] : Fin 2 → IVec S16 32) a x).toNat < S256x142.size a) ∧
  (∀ (k0_h1 : k0_cond1 i k0_t2 = 1#1), ∀ a x, ((![v45, v1425] : Fin 2 → IVec S16 32) a x).toNat < S256x142.size a) ∧
  (∀ (k0_h1 : k0_cond1 i k0_t2 = 1#1), ∀ a x, ((![v50, v1425] : Fin 2 → IVec S16 32) a x).toNat < S256x142.size a) ∧
  (∀ (k0_h1 : k0_cond1 i k0_t2 = 1#1), ∀ a x, ((![v55, v1425] : Fin 2 → IVec S16 32) a x).toNat < S256x142.size a) ∧
  (∀ (k0_h1 : k0_cond1 i k0_t2 = 1#1), ∀ a x, ((![v60, v1425] : Fin 2 → IVec S16 32) a x).toNat < S256x142.size a)
theorem k0_idx1167_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v15, v1425] : Fin 2 → IVec S16 32) a x).toNat < S256x142.size a := fun i k0_t2 v15 v20 v25 v30 v35 v40 v45 v50 v55 v60 v1425 k0_hw738 k0_h1 => k0_hw738.1 k0_h1
theorem k0_idx1169_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v20, v1425] : Fin 2 → IVec S16 32) a x).toNat < S256x142.size a := fun i k0_t2 v15 v20 v25 v30 v35 v40 v45 v50 v55 v60 v1425 k0_hw738 k0_h1 => k0_hw738.2.1 k0_h1
theorem k0_idx1171_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v25, v1425] : Fin 2 → IVec S16 32) a x).toNat < S256x142.size a := fun i k0_t2 v15 v20 v25 v30 v35 v40 v45 v50 v55 v60 v1425 k0_hw738 k0_h1 => k0_hw738.2.2.1 k0_h1
theorem k0_idx1173_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v30, v1425] : Fin 2 → IVec S16 32) a x).toNat < S256x142.size a := fun i k0_t2 v15 v20 v25 v30 v35 v40 v45 v50 v55 v60 v1425 k0_hw738 k0_h1 => k0_hw738.2.2.2.1 k0_h1
theorem k0_idx1175_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v35, v1425] : Fin 2 → IVec S16 32) a x).toNat < S256x142.size a := fun i k0_t2 v15 v20 v25 v30 v35 v40 v45 v50 v55 v60 v1425 k0_hw738 k0_h1 => k0_hw738.2.2.2.2.1 k0_h1
theorem k0_idx1177_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v40, v1425] : Fin 2 → IVec S16 32) a x).toNat < S256x142.size a := fun i k0_t2 v15 v20 v25 v30 v35 v40 v45 v50 v55 v60 v1425 k0_hw738 k0_h1 => k0_hw738.2.2.2.2.2.1 k0_h1
theorem k0_idx1179_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v45, v1425] : Fin 2 → IVec S16 32) a x).toNat < S256x142.size a := fun i k0_t2 v15 v20 v25 v30 v35 v40 v45 v50 v55 v60 v1425 k0_hw738 k0_h1 => k0_hw738.2.2.2.2.2.2.1 k0_h1
theorem k0_idx1181_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v50, v1425] : Fin 2 → IVec S16 32) a x).toNat < S256x142.size a := fun i k0_t2 v15 v20 v25 v30 v35 v40 v45 v50 v55 v60 v1425 k0_hw738 k0_h1 => k0_hw738.2.2.2.2.2.2.2.1 k0_h1
theorem k0_idx1183_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v55, v1425] : Fin 2 → IVec S16 32) a x).toNat < S256x142.size a := fun i k0_t2 v15 v20 v25 v30 v35 v40 v45 v50 v55 v60 v1425 k0_hw738 k0_h1 => k0_hw738.2.2.2.2.2.2.2.2.1 k0_h1
theorem k0_idx1185_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1425 : IVec S16 32) (k0_hw738 : k0_chk738 i k0_t2 v15 v20 v25 v30 v35 v40 v45 v50 v55 v60 v1425), ∀ (k0_h1 : k0_cond1 i k0_t2 = 1#1), ∀ a x, ((![v60, v1425] : Fin 2 → IVec S16 32) a x).toNat < S256x142.size a := fun i k0_t2 v15 v20 v25 v30 v35 v40 v45 v50 v55 v60 v1425 k0_hw738 k0_h1 => k0_hw738.2.2.2.2.2.2.2.2.2 k0_h1

def k0_chk748 (i : grid0.Coords) (k0_t2 : Fin k0_t2_loop.trips) (v1425 : IVec S16 32) (v1455 : IVec S16 32) : Prop :=
  (∀ (k0_h1 : k0_cond1 i k0_t2 = 1#1), ∀ a x, ((![v1455, v1425] : Fin 2 → IVec S16 32) a x).toNat < S160x142.size a)
theorem k0_idx1186_inb : ∀ (i : grid0.Coords) (k0_t2 : Fin k0_t2_loop.trips) (v1425 : IVec S16 32) (v1455 : IVec S16 32) (k0_hw748 : k0_chk748 i k0_t2 v1425 v1455), ∀ (k0_h1 : k0_cond1 i k0_t2 = 1#1), ∀ a x, ((![v1455, v1425] : Fin 2 → IVec S16 32) a x).toNat < S160x142.size a := fun i k0_t2 v1425 v1455 k0_hw748 k0_h1 => k0_hw748 k0_h1

def k0_chk750 (i : grid0.Coords) (k0_t2 : Fin k0_t2_loop.trips) (v1456 : IVec S16 32) (v1459 : IVec S16 32) : Prop :=
  (∀ (k0_h1 : k0_cond1 i k0_t2 = 1#1), ∀ a x, ((![v1459, v1456] : Fin 2 → IVec S16 32) a x).toNat < S160x142.size a)
theorem k0_idx1188_inb : ∀ (i : grid0.Coords) (k0_t2 : Fin k0_t2_loop.trips) (v1456 : IVec S16 32) (v1459 : IVec S16 32) (k0_hw750 : k0_chk750 i k0_t2 v1456 v1459), ∀ (k0_h1 : k0_cond1 i k0_t2 = 1#1), ∀ a x, ((![v1459, v1456] : Fin 2 → IVec S16 32) a x).toNat < S160x142.size a := fun i k0_t2 v1456 v1459 k0_hw750 k0_h1 => k0_hw750 k0_h1

def k0_chk751 (i : grid0.Coords) (k0_t2 : Fin k0_t2_loop.trips) (v1456 : IVec S16 32) (v1462 : IVec S16 32) : Prop :=
  (∀ (k0_h1 : k0_cond1 i k0_t2 = 1#1), ∀ a x, ((![v1462, v1456] : Fin 2 → IVec S16 32) a x).toNat < S160x142.size a)
theorem k0_idx1190_inb : ∀ (i : grid0.Coords) (k0_t2 : Fin k0_t2_loop.trips) (v1456 : IVec S16 32) (v1462 : IVec S16 32) (k0_hw751 : k0_chk751 i k0_t2 v1456 v1462), ∀ (k0_h1 : k0_cond1 i k0_t2 = 1#1), ∀ a x, ((![v1462, v1456] : Fin 2 → IVec S16 32) a x).toNat < S160x142.size a := fun i k0_t2 v1456 v1462 k0_hw751 k0_h1 => k0_hw751 k0_h1

def k0_chk752 (i : grid0.Coords) (k0_t2 : Fin k0_t2_loop.trips) (v1456 : IVec S16 32) (v1465 : IVec S16 32) : Prop :=
  (∀ (k0_h1 : k0_cond1 i k0_t2 = 1#1), ∀ a x, ((![v1465, v1456] : Fin 2 → IVec S16 32) a x).toNat < S160x142.size a)
theorem k0_idx1192_inb : ∀ (i : grid0.Coords) (k0_t2 : Fin k0_t2_loop.trips) (v1456 : IVec S16 32) (v1465 : IVec S16 32) (k0_hw752 : k0_chk752 i k0_t2 v1456 v1465), ∀ (k0_h1 : k0_cond1 i k0_t2 = 1#1), ∀ a x, ((![v1465, v1456] : Fin 2 → IVec S16 32) a x).toNat < S160x142.size a := fun i k0_t2 v1456 v1465 k0_hw752 k0_h1 => k0_hw752 k0_h1

def k0_chk753 (i : grid0.Coords) (k0_t2 : Fin k0_t2_loop.trips) (v1456 : IVec S16 32) (v1468 : IVec S16 32) : Prop :=
  (∀ (k0_h1 : k0_cond1 i k0_t2 = 1#1), ∀ a x, ((![v1468, v1456] : Fin 2 → IVec S16 32) a x).toNat < S160x142.size a)
theorem k0_idx1194_inb : ∀ (i : grid0.Coords) (k0_t2 : Fin k0_t2_loop.trips) (v1456 : IVec S16 32) (v1468 : IVec S16 32) (k0_hw753 : k0_chk753 i k0_t2 v1456 v1468), ∀ (k0_h1 : k0_cond1 i k0_t2 = 1#1), ∀ a x, ((![v1468, v1456] : Fin 2 → IVec S16 32) a x).toNat < S160x142.size a := fun i k0_t2 v1456 v1468 k0_hw753 k0_h1 => k0_hw753 k0_h1

def k0_chk754 (i : grid0.Coords) (k0_t2 : Fin k0_t2_loop.trips) (v1456 : IVec S16 32) (v1471 : IVec S16 32) : Prop :=
  (∀ (k0_h1 : k0_cond1 i k0_t2 = 1#1), ∀ a x, ((![v1471, v1456] : Fin 2 → IVec S16 32) a x).toNat < S160x142.size a)
theorem k0_idx1196_inb : ∀ (i : grid0.Coords) (k0_t2 : Fin k0_t2_loop.trips) (v1456 : IVec S16 32) (v1471 : IVec S16 32) (k0_hw754 : k0_chk754 i k0_t2 v1456 v1471), ∀ (k0_h1 : k0_cond1 i k0_t2 = 1#1), ∀ a x, ((![v1471, v1456] : Fin 2 → IVec S16 32) a x).toNat < S160x142.size a := fun i k0_t2 v1456 v1471 k0_hw754 k0_h1 => k0_hw754 k0_h1

def k0_chk755 (i : grid0.Coords) (k0_t2 : Fin k0_t2_loop.trips) (v1456 : IVec S16 32) (v1474 : IVec S16 32) : Prop :=
  (∀ (k0_h1 : k0_cond1 i k0_t2 = 1#1), ∀ a x, ((![v1474, v1456] : Fin 2 → IVec S16 32) a x).toNat < S160x142.size a)
theorem k0_idx1198_inb : ∀ (i : grid0.Coords) (k0_t2 : Fin k0_t2_loop.trips) (v1456 : IVec S16 32) (v1474 : IVec S16 32) (k0_hw755 : k0_chk755 i k0_t2 v1456 v1474), ∀ (k0_h1 : k0_cond1 i k0_t2 = 1#1), ∀ a x, ((![v1474, v1456] : Fin 2 → IVec S16 32) a x).toNat < S160x142.size a := fun i k0_t2 v1456 v1474 k0_hw755 k0_h1 => k0_hw755 k0_h1

def k0_chk756 (i : grid0.Coords) (k0_t2 : Fin k0_t2_loop.trips) (v1456 : IVec S16 32) (v1477 : IVec S16 32) : Prop :=
  (∀ (k0_h1 : k0_cond1 i k0_t2 = 1#1), ∀ a x, ((![v1477, v1456] : Fin 2 → IVec S16 32) a x).toNat < S160x142.size a)
theorem k0_idx1200_inb : ∀ (i : grid0.Coords) (k0_t2 : Fin k0_t2_loop.trips) (v1456 : IVec S16 32) (v1477 : IVec S16 32) (k0_hw756 : k0_chk756 i k0_t2 v1456 v1477), ∀ (k0_h1 : k0_cond1 i k0_t2 = 1#1), ∀ a x, ((![v1477, v1456] : Fin 2 → IVec S16 32) a x).toNat < S160x142.size a := fun i k0_t2 v1456 v1477 k0_hw756 k0_h1 => k0_hw756 k0_h1

def k0_chk757 (i : grid0.Coords) (k0_t2 : Fin k0_t2_loop.trips) (v1456 : IVec S16 32) (v1480 : IVec S16 32) : Prop :=
  (∀ (k0_h1 : k0_cond1 i k0_t2 = 1#1), ∀ a x, ((![v1480, v1456] : Fin 2 → IVec S16 32) a x).toNat < S160x142.size a)
theorem k0_idx1202_inb : ∀ (i : grid0.Coords) (k0_t2 : Fin k0_t2_loop.trips) (v1456 : IVec S16 32) (v1480 : IVec S16 32) (k0_hw757 : k0_chk757 i k0_t2 v1456 v1480), ∀ (k0_h1 : k0_cond1 i k0_t2 = 1#1), ∀ a x, ((![v1480, v1456] : Fin 2 → IVec S16 32) a x).toNat < S160x142.size a := fun i k0_t2 v1456 v1480 k0_hw757 k0_h1 => k0_hw757 k0_h1

def k0_chk758 (i : grid0.Coords) (k0_t2 : Fin k0_t2_loop.trips) (v1456 : IVec S16 32) (v1483 : IVec S16 32) : Prop :=
  (∀ (k0_h1 : k0_cond1 i k0_t2 = 1#1), ∀ a x, ((![v1483, v1456] : Fin 2 → IVec S16 32) a x).toNat < S160x142.size a)
theorem k0_idx1204_inb : ∀ (i : grid0.Coords) (k0_t2 : Fin k0_t2_loop.trips) (v1456 : IVec S16 32) (v1483 : IVec S16 32) (k0_hw758 : k0_chk758 i k0_t2 v1456 v1483), ∀ (k0_h1 : k0_cond1 i k0_t2 = 1#1), ∀ a x, ((![v1483, v1456] : Fin 2 → IVec S16 32) a x).toNat < S160x142.size a := fun i k0_t2 v1456 v1483 k0_hw758 k0_h1 => k0_hw758 k0_h1

def k0_chk749 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) : Prop :=
  (∀ (k0_h1 : k0_cond1 i k0_t2 = 1#1), ∀ a x, ((![v15, v1456] : Fin 2 → IVec S16 32) a x).toNat < S256x142.size a) ∧
  (∀ (k0_h1 : k0_cond1 i k0_t2 = 1#1), ∀ a x, ((![v20, v1456] : Fin 2 → IVec S16 32) a x).toNat < S256x142.size a) ∧
  (∀ (k0_h1 : k0_cond1 i k0_t2 = 1#1), ∀ a x, ((![v25, v1456] : Fin 2 → IVec S16 32) a x).toNat < S256x142.size a) ∧
  (∀ (k0_h1 : k0_cond1 i k0_t2 = 1#1), ∀ a x, ((![v30, v1456] : Fin 2 → IVec S16 32) a x).toNat < S256x142.size a) ∧
  (∀ (k0_h1 : k0_cond1 i k0_t2 = 1#1), ∀ a x, ((![v35, v1456] : Fin 2 → IVec S16 32) a x).toNat < S256x142.size a) ∧
  (∀ (k0_h1 : k0_cond1 i k0_t2 = 1#1), ∀ a x, ((![v40, v1456] : Fin 2 → IVec S16 32) a x).toNat < S256x142.size a) ∧
  (∀ (k0_h1 : k0_cond1 i k0_t2 = 1#1), ∀ a x, ((![v45, v1456] : Fin 2 → IVec S16 32) a x).toNat < S256x142.size a) ∧
  (∀ (k0_h1 : k0_cond1 i k0_t2 = 1#1), ∀ a x, ((![v50, v1456] : Fin 2 → IVec S16 32) a x).toNat < S256x142.size a) ∧
  (∀ (k0_h1 : k0_cond1 i k0_t2 = 1#1), ∀ a x, ((![v55, v1456] : Fin 2 → IVec S16 32) a x).toNat < S256x142.size a) ∧
  (∀ (k0_h1 : k0_cond1 i k0_t2 = 1#1), ∀ a x, ((![v60, v1456] : Fin 2 → IVec S16 32) a x).toNat < S256x142.size a)
theorem k0_idx1187_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v15, v1456] : Fin 2 → IVec S16 32) a x).toNat < S256x142.size a := fun i k0_t2 v15 v20 v25 v30 v35 v40 v45 v50 v55 v60 v1456 k0_hw749 k0_h1 => k0_hw749.1 k0_h1
theorem k0_idx1189_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v20, v1456] : Fin 2 → IVec S16 32) a x).toNat < S256x142.size a := fun i k0_t2 v15 v20 v25 v30 v35 v40 v45 v50 v55 v60 v1456 k0_hw749 k0_h1 => k0_hw749.2.1 k0_h1
theorem k0_idx1191_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v25, v1456] : Fin 2 → IVec S16 32) a x).toNat < S256x142.size a := fun i k0_t2 v15 v20 v25 v30 v35 v40 v45 v50 v55 v60 v1456 k0_hw749 k0_h1 => k0_hw749.2.2.1 k0_h1
theorem k0_idx1193_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v30, v1456] : Fin 2 → IVec S16 32) a x).toNat < S256x142.size a := fun i k0_t2 v15 v20 v25 v30 v35 v40 v45 v50 v55 v60 v1456 k0_hw749 k0_h1 => k0_hw749.2.2.2.1 k0_h1
theorem k0_idx1195_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v35, v1456] : Fin 2 → IVec S16 32) a x).toNat < S256x142.size a := fun i k0_t2 v15 v20 v25 v30 v35 v40 v45 v50 v55 v60 v1456 k0_hw749 k0_h1 => k0_hw749.2.2.2.2.1 k0_h1
theorem k0_idx1197_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v40, v1456] : Fin 2 → IVec S16 32) a x).toNat < S256x142.size a := fun i k0_t2 v15 v20 v25 v30 v35 v40 v45 v50 v55 v60 v1456 k0_hw749 k0_h1 => k0_hw749.2.2.2.2.2.1 k0_h1
theorem k0_idx1199_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v45, v1456] : Fin 2 → IVec S16 32) a x).toNat < S256x142.size a := fun i k0_t2 v15 v20 v25 v30 v35 v40 v45 v50 v55 v60 v1456 k0_hw749 k0_h1 => k0_hw749.2.2.2.2.2.2.1 k0_h1
theorem k0_idx1201_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v50, v1456] : Fin 2 → IVec S16 32) a x).toNat < S256x142.size a := fun i k0_t2 v15 v20 v25 v30 v35 v40 v45 v50 v55 v60 v1456 k0_hw749 k0_h1 => k0_hw749.2.2.2.2.2.2.2.1 k0_h1
theorem k0_idx1203_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v55, v1456] : Fin 2 → IVec S16 32) a x).toNat < S256x142.size a := fun i k0_t2 v15 v20 v25 v30 v35 v40 v45 v50 v55 v60 v1456 k0_hw749 k0_h1 => k0_hw749.2.2.2.2.2.2.2.2.1 k0_h1
theorem k0_idx1205_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1456 : IVec S16 32) (k0_hw749 : k0_chk749 i k0_t2 v15 v20 v25 v30 v35 v40 v45 v50 v55 v60 v1456), ∀ (k0_h1 : k0_cond1 i k0_t2 = 1#1), ∀ a x, ((![v60, v1456] : Fin 2 → IVec S16 32) a x).toNat < S256x142.size a := fun i k0_t2 v15 v20 v25 v30 v35 v40 v45 v50 v55 v60 v1456 k0_hw749 k0_h1 => k0_hw749.2.2.2.2.2.2.2.2.2 k0_h1

def k0_chk759 (i : grid0.Coords) (k0_t2 : Fin k0_t2_loop.trips) (v1456 : IVec S16 32) (v1486 : IVec S16 32) : Prop :=
  (∀ (k0_h1 : k0_cond1 i k0_t2 = 1#1), ∀ a x, ((![v1486, v1456] : Fin 2 → IVec S16 32) a x).toNat < S160x142.size a)
theorem k0_idx1206_inb : ∀ (i : grid0.Coords) (k0_t2 : Fin k0_t2_loop.trips) (v1456 : IVec S16 32) (v1486 : IVec S16 32) (k0_hw759 : k0_chk759 i k0_t2 v1456 v1486), ∀ (k0_h1 : k0_cond1 i k0_t2 = 1#1), ∀ a x, ((![v1486, v1456] : Fin 2 → IVec S16 32) a x).toNat < S160x142.size a := fun i k0_t2 v1456 v1486 k0_hw759 k0_h1 => k0_hw759 k0_h1

def k0_chk761 (i : grid0.Coords) (k0_t2 : Fin k0_t2_loop.trips) (v1487 : IVec S16 32) (v1490 : IVec S16 32) : Prop :=
  (∀ (k0_h1 : k0_cond1 i k0_t2 = 1#1), ∀ a x, ((![v1490, v1487] : Fin 2 → IVec S16 32) a x).toNat < S160x142.size a)
theorem k0_idx1208_inb : ∀ (i : grid0.Coords) (k0_t2 : Fin k0_t2_loop.trips) (v1487 : IVec S16 32) (v1490 : IVec S16 32) (k0_hw761 : k0_chk761 i k0_t2 v1487 v1490), ∀ (k0_h1 : k0_cond1 i k0_t2 = 1#1), ∀ a x, ((![v1490, v1487] : Fin 2 → IVec S16 32) a x).toNat < S160x142.size a := fun i k0_t2 v1487 v1490 k0_hw761 k0_h1 => k0_hw761 k0_h1

def k0_chk762 (i : grid0.Coords) (k0_t2 : Fin k0_t2_loop.trips) (v1487 : IVec S16 32) (v1493 : IVec S16 32) : Prop :=
  (∀ (k0_h1 : k0_cond1 i k0_t2 = 1#1), ∀ a x, ((![v1493, v1487] : Fin 2 → IVec S16 32) a x).toNat < S160x142.size a)
theorem k0_idx1210_inb : ∀ (i : grid0.Coords) (k0_t2 : Fin k0_t2_loop.trips) (v1487 : IVec S16 32) (v1493 : IVec S16 32) (k0_hw762 : k0_chk762 i k0_t2 v1487 v1493), ∀ (k0_h1 : k0_cond1 i k0_t2 = 1#1), ∀ a x, ((![v1493, v1487] : Fin 2 → IVec S16 32) a x).toNat < S160x142.size a := fun i k0_t2 v1487 v1493 k0_hw762 k0_h1 => k0_hw762 k0_h1

def k0_chk763 (i : grid0.Coords) (k0_t2 : Fin k0_t2_loop.trips) (v1487 : IVec S16 32) (v1496 : IVec S16 32) : Prop :=
  (∀ (k0_h1 : k0_cond1 i k0_t2 = 1#1), ∀ a x, ((![v1496, v1487] : Fin 2 → IVec S16 32) a x).toNat < S160x142.size a)
theorem k0_idx1212_inb : ∀ (i : grid0.Coords) (k0_t2 : Fin k0_t2_loop.trips) (v1487 : IVec S16 32) (v1496 : IVec S16 32) (k0_hw763 : k0_chk763 i k0_t2 v1487 v1496), ∀ (k0_h1 : k0_cond1 i k0_t2 = 1#1), ∀ a x, ((![v1496, v1487] : Fin 2 → IVec S16 32) a x).toNat < S160x142.size a := fun i k0_t2 v1487 v1496 k0_hw763 k0_h1 => k0_hw763 k0_h1

def k0_chk764 (i : grid0.Coords) (k0_t2 : Fin k0_t2_loop.trips) (v1487 : IVec S16 32) (v1499 : IVec S16 32) : Prop :=
  (∀ (k0_h1 : k0_cond1 i k0_t2 = 1#1), ∀ a x, ((![v1499, v1487] : Fin 2 → IVec S16 32) a x).toNat < S160x142.size a)
theorem k0_idx1214_inb : ∀ (i : grid0.Coords) (k0_t2 : Fin k0_t2_loop.trips) (v1487 : IVec S16 32) (v1499 : IVec S16 32) (k0_hw764 : k0_chk764 i k0_t2 v1487 v1499), ∀ (k0_h1 : k0_cond1 i k0_t2 = 1#1), ∀ a x, ((![v1499, v1487] : Fin 2 → IVec S16 32) a x).toNat < S160x142.size a := fun i k0_t2 v1487 v1499 k0_hw764 k0_h1 => k0_hw764 k0_h1

def k0_chk765 (i : grid0.Coords) (k0_t2 : Fin k0_t2_loop.trips) (v1487 : IVec S16 32) (v1502 : IVec S16 32) : Prop :=
  (∀ (k0_h1 : k0_cond1 i k0_t2 = 1#1), ∀ a x, ((![v1502, v1487] : Fin 2 → IVec S16 32) a x).toNat < S160x142.size a)
theorem k0_idx1216_inb : ∀ (i : grid0.Coords) (k0_t2 : Fin k0_t2_loop.trips) (v1487 : IVec S16 32) (v1502 : IVec S16 32) (k0_hw765 : k0_chk765 i k0_t2 v1487 v1502), ∀ (k0_h1 : k0_cond1 i k0_t2 = 1#1), ∀ a x, ((![v1502, v1487] : Fin 2 → IVec S16 32) a x).toNat < S160x142.size a := fun i k0_t2 v1487 v1502 k0_hw765 k0_h1 => k0_hw765 k0_h1

def k0_chk766 (i : grid0.Coords) (k0_t2 : Fin k0_t2_loop.trips) (v1487 : IVec S16 32) (v1505 : IVec S16 32) : Prop :=
  (∀ (k0_h1 : k0_cond1 i k0_t2 = 1#1), ∀ a x, ((![v1505, v1487] : Fin 2 → IVec S16 32) a x).toNat < S160x142.size a)
theorem k0_idx1218_inb : ∀ (i : grid0.Coords) (k0_t2 : Fin k0_t2_loop.trips) (v1487 : IVec S16 32) (v1505 : IVec S16 32) (k0_hw766 : k0_chk766 i k0_t2 v1487 v1505), ∀ (k0_h1 : k0_cond1 i k0_t2 = 1#1), ∀ a x, ((![v1505, v1487] : Fin 2 → IVec S16 32) a x).toNat < S160x142.size a := fun i k0_t2 v1487 v1505 k0_hw766 k0_h1 => k0_hw766 k0_h1

def k0_chk767 (i : grid0.Coords) (k0_t2 : Fin k0_t2_loop.trips) (v1487 : IVec S16 32) (v1508 : IVec S16 32) : Prop :=
  (∀ (k0_h1 : k0_cond1 i k0_t2 = 1#1), ∀ a x, ((![v1508, v1487] : Fin 2 → IVec S16 32) a x).toNat < S160x142.size a)
theorem k0_idx1220_inb : ∀ (i : grid0.Coords) (k0_t2 : Fin k0_t2_loop.trips) (v1487 : IVec S16 32) (v1508 : IVec S16 32) (k0_hw767 : k0_chk767 i k0_t2 v1487 v1508), ∀ (k0_h1 : k0_cond1 i k0_t2 = 1#1), ∀ a x, ((![v1508, v1487] : Fin 2 → IVec S16 32) a x).toNat < S160x142.size a := fun i k0_t2 v1487 v1508 k0_hw767 k0_h1 => k0_hw767 k0_h1

def k0_chk768 (i : grid0.Coords) (k0_t2 : Fin k0_t2_loop.trips) (v1487 : IVec S16 32) (v1511 : IVec S16 32) : Prop :=
  (∀ (k0_h1 : k0_cond1 i k0_t2 = 1#1), ∀ a x, ((![v1511, v1487] : Fin 2 → IVec S16 32) a x).toNat < S160x142.size a)
theorem k0_idx1222_inb : ∀ (i : grid0.Coords) (k0_t2 : Fin k0_t2_loop.trips) (v1487 : IVec S16 32) (v1511 : IVec S16 32) (k0_hw768 : k0_chk768 i k0_t2 v1487 v1511), ∀ (k0_h1 : k0_cond1 i k0_t2 = 1#1), ∀ a x, ((![v1511, v1487] : Fin 2 → IVec S16 32) a x).toNat < S160x142.size a := fun i k0_t2 v1487 v1511 k0_hw768 k0_h1 => k0_hw768 k0_h1

def k0_chk769 (i : grid0.Coords) (k0_t2 : Fin k0_t2_loop.trips) (v1487 : IVec S16 32) (v1514 : IVec S16 32) : Prop :=
  (∀ (k0_h1 : k0_cond1 i k0_t2 = 1#1), ∀ a x, ((![v1514, v1487] : Fin 2 → IVec S16 32) a x).toNat < S160x142.size a)
theorem k0_idx1224_inb : ∀ (i : grid0.Coords) (k0_t2 : Fin k0_t2_loop.trips) (v1487 : IVec S16 32) (v1514 : IVec S16 32) (k0_hw769 : k0_chk769 i k0_t2 v1487 v1514), ∀ (k0_h1 : k0_cond1 i k0_t2 = 1#1), ∀ a x, ((![v1514, v1487] : Fin 2 → IVec S16 32) a x).toNat < S160x142.size a := fun i k0_t2 v1487 v1514 k0_hw769 k0_h1 => k0_hw769 k0_h1

def k0_chk760 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) : Prop :=
  (∀ (k0_h1 : k0_cond1 i k0_t2 = 1#1), ∀ a x, ((![v15, v1487] : Fin 2 → IVec S16 32) a x).toNat < S256x142.size a) ∧
  (∀ (k0_h1 : k0_cond1 i k0_t2 = 1#1), ∀ a x, ((![v20, v1487] : Fin 2 → IVec S16 32) a x).toNat < S256x142.size a) ∧
  (∀ (k0_h1 : k0_cond1 i k0_t2 = 1#1), ∀ a x, ((![v25, v1487] : Fin 2 → IVec S16 32) a x).toNat < S256x142.size a) ∧
  (∀ (k0_h1 : k0_cond1 i k0_t2 = 1#1), ∀ a x, ((![v30, v1487] : Fin 2 → IVec S16 32) a x).toNat < S256x142.size a) ∧
  (∀ (k0_h1 : k0_cond1 i k0_t2 = 1#1), ∀ a x, ((![v35, v1487] : Fin 2 → IVec S16 32) a x).toNat < S256x142.size a) ∧
  (∀ (k0_h1 : k0_cond1 i k0_t2 = 1#1), ∀ a x, ((![v40, v1487] : Fin 2 → IVec S16 32) a x).toNat < S256x142.size a) ∧
  (∀ (k0_h1 : k0_cond1 i k0_t2 = 1#1), ∀ a x, ((![v45, v1487] : Fin 2 → IVec S16 32) a x).toNat < S256x142.size a) ∧
  (∀ (k0_h1 : k0_cond1 i k0_t2 = 1#1), ∀ a x, ((![v50, v1487] : Fin 2 → IVec S16 32) a x).toNat < S256x142.size a) ∧
  (∀ (k0_h1 : k0_cond1 i k0_t2 = 1#1), ∀ a x, ((![v55, v1487] : Fin 2 → IVec S16 32) a x).toNat < S256x142.size a) ∧
  (∀ (k0_h1 : k0_cond1 i k0_t2 = 1#1), ∀ a x, ((![v60, v1487] : Fin 2 → IVec S16 32) a x).toNat < S256x142.size a)
theorem k0_idx1207_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v15, v1487] : Fin 2 → IVec S16 32) a x).toNat < S256x142.size a := fun i k0_t2 v15 v20 v25 v30 v35 v40 v45 v50 v55 v60 v1487 k0_hw760 k0_h1 => k0_hw760.1 k0_h1
theorem k0_idx1209_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v20, v1487] : Fin 2 → IVec S16 32) a x).toNat < S256x142.size a := fun i k0_t2 v15 v20 v25 v30 v35 v40 v45 v50 v55 v60 v1487 k0_hw760 k0_h1 => k0_hw760.2.1 k0_h1
theorem k0_idx1211_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v25, v1487] : Fin 2 → IVec S16 32) a x).toNat < S256x142.size a := fun i k0_t2 v15 v20 v25 v30 v35 v40 v45 v50 v55 v60 v1487 k0_hw760 k0_h1 => k0_hw760.2.2.1 k0_h1
theorem k0_idx1213_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v30, v1487] : Fin 2 → IVec S16 32) a x).toNat < S256x142.size a := fun i k0_t2 v15 v20 v25 v30 v35 v40 v45 v50 v55 v60 v1487 k0_hw760 k0_h1 => k0_hw760.2.2.2.1 k0_h1
theorem k0_idx1215_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v35, v1487] : Fin 2 → IVec S16 32) a x).toNat < S256x142.size a := fun i k0_t2 v15 v20 v25 v30 v35 v40 v45 v50 v55 v60 v1487 k0_hw760 k0_h1 => k0_hw760.2.2.2.2.1 k0_h1
theorem k0_idx1217_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v40, v1487] : Fin 2 → IVec S16 32) a x).toNat < S256x142.size a := fun i k0_t2 v15 v20 v25 v30 v35 v40 v45 v50 v55 v60 v1487 k0_hw760 k0_h1 => k0_hw760.2.2.2.2.2.1 k0_h1
theorem k0_idx1219_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v45, v1487] : Fin 2 → IVec S16 32) a x).toNat < S256x142.size a := fun i k0_t2 v15 v20 v25 v30 v35 v40 v45 v50 v55 v60 v1487 k0_hw760 k0_h1 => k0_hw760.2.2.2.2.2.2.1 k0_h1
theorem k0_idx1221_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v50, v1487] : Fin 2 → IVec S16 32) a x).toNat < S256x142.size a := fun i k0_t2 v15 v20 v25 v30 v35 v40 v45 v50 v55 v60 v1487 k0_hw760 k0_h1 => k0_hw760.2.2.2.2.2.2.2.1 k0_h1
theorem k0_idx1223_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v55, v1487] : Fin 2 → IVec S16 32) a x).toNat < S256x142.size a := fun i k0_t2 v15 v20 v25 v30 v35 v40 v45 v50 v55 v60 v1487 k0_hw760 k0_h1 => k0_hw760.2.2.2.2.2.2.2.2.1 k0_h1
theorem k0_idx1225_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1487 : IVec S16 32) (k0_hw760 : k0_chk760 i k0_t2 v15 v20 v25 v30 v35 v40 v45 v50 v55 v60 v1487), ∀ (k0_h1 : k0_cond1 i k0_t2 = 1#1), ∀ a x, ((![v60, v1487] : Fin 2 → IVec S16 32) a x).toNat < S256x142.size a := fun i k0_t2 v15 v20 v25 v30 v35 v40 v45 v50 v55 v60 v1487 k0_hw760 k0_h1 => k0_hw760.2.2.2.2.2.2.2.2.2 k0_h1

def k0_chk770 (i : grid0.Coords) (k0_t2 : Fin k0_t2_loop.trips) (v1487 : IVec S16 32) (v1517 : IVec S16 32) : Prop :=
  (∀ (k0_h1 : k0_cond1 i k0_t2 = 1#1), ∀ a x, ((![v1517, v1487] : Fin 2 → IVec S16 32) a x).toNat < S160x142.size a)
theorem k0_idx1226_inb : ∀ (i : grid0.Coords) (k0_t2 : Fin k0_t2_loop.trips) (v1487 : IVec S16 32) (v1517 : IVec S16 32) (k0_hw770 : k0_chk770 i k0_t2 v1487 v1517), ∀ (k0_h1 : k0_cond1 i k0_t2 = 1#1), ∀ a x, ((![v1517, v1487] : Fin 2 → IVec S16 32) a x).toNat < S160x142.size a := fun i k0_t2 v1487 v1517 k0_hw770 k0_h1 => k0_hw770 k0_h1

def k0_chk772 (i : grid0.Coords) (k0_t2 : Fin k0_t2_loop.trips) (v1518 : IVec S16 32) (v1521 : IVec S16 32) : Prop :=
  (∀ (k0_h1 : k0_cond1 i k0_t2 = 1#1), ∀ a x, ((![v1521, v1518] : Fin 2 → IVec S16 32) a x).toNat < S160x142.size a)
theorem k0_idx1228_inb : ∀ (i : grid0.Coords) (k0_t2 : Fin k0_t2_loop.trips) (v1518 : IVec S16 32) (v1521 : IVec S16 32) (k0_hw772 : k0_chk772 i k0_t2 v1518 v1521), ∀ (k0_h1 : k0_cond1 i k0_t2 = 1#1), ∀ a x, ((![v1521, v1518] : Fin 2 → IVec S16 32) a x).toNat < S160x142.size a := fun i k0_t2 v1518 v1521 k0_hw772 k0_h1 => k0_hw772 k0_h1

def k0_chk773 (i : grid0.Coords) (k0_t2 : Fin k0_t2_loop.trips) (v1518 : IVec S16 32) (v1524 : IVec S16 32) : Prop :=
  (∀ (k0_h1 : k0_cond1 i k0_t2 = 1#1), ∀ a x, ((![v1524, v1518] : Fin 2 → IVec S16 32) a x).toNat < S160x142.size a)
theorem k0_idx1230_inb : ∀ (i : grid0.Coords) (k0_t2 : Fin k0_t2_loop.trips) (v1518 : IVec S16 32) (v1524 : IVec S16 32) (k0_hw773 : k0_chk773 i k0_t2 v1518 v1524), ∀ (k0_h1 : k0_cond1 i k0_t2 = 1#1), ∀ a x, ((![v1524, v1518] : Fin 2 → IVec S16 32) a x).toNat < S160x142.size a := fun i k0_t2 v1518 v1524 k0_hw773 k0_h1 => k0_hw773 k0_h1

def k0_chk774 (i : grid0.Coords) (k0_t2 : Fin k0_t2_loop.trips) (v1518 : IVec S16 32) (v1527 : IVec S16 32) : Prop :=
  (∀ (k0_h1 : k0_cond1 i k0_t2 = 1#1), ∀ a x, ((![v1527, v1518] : Fin 2 → IVec S16 32) a x).toNat < S160x142.size a)
theorem k0_idx1232_inb : ∀ (i : grid0.Coords) (k0_t2 : Fin k0_t2_loop.trips) (v1518 : IVec S16 32) (v1527 : IVec S16 32) (k0_hw774 : k0_chk774 i k0_t2 v1518 v1527), ∀ (k0_h1 : k0_cond1 i k0_t2 = 1#1), ∀ a x, ((![v1527, v1518] : Fin 2 → IVec S16 32) a x).toNat < S160x142.size a := fun i k0_t2 v1518 v1527 k0_hw774 k0_h1 => k0_hw774 k0_h1

def k0_chk775 (i : grid0.Coords) (k0_t2 : Fin k0_t2_loop.trips) (v1518 : IVec S16 32) (v1530 : IVec S16 32) : Prop :=
  (∀ (k0_h1 : k0_cond1 i k0_t2 = 1#1), ∀ a x, ((![v1530, v1518] : Fin 2 → IVec S16 32) a x).toNat < S160x142.size a)
theorem k0_idx1234_inb : ∀ (i : grid0.Coords) (k0_t2 : Fin k0_t2_loop.trips) (v1518 : IVec S16 32) (v1530 : IVec S16 32) (k0_hw775 : k0_chk775 i k0_t2 v1518 v1530), ∀ (k0_h1 : k0_cond1 i k0_t2 = 1#1), ∀ a x, ((![v1530, v1518] : Fin 2 → IVec S16 32) a x).toNat < S160x142.size a := fun i k0_t2 v1518 v1530 k0_hw775 k0_h1 => k0_hw775 k0_h1

def k0_chk776 (i : grid0.Coords) (k0_t2 : Fin k0_t2_loop.trips) (v1518 : IVec S16 32) (v1533 : IVec S16 32) : Prop :=
  (∀ (k0_h1 : k0_cond1 i k0_t2 = 1#1), ∀ a x, ((![v1533, v1518] : Fin 2 → IVec S16 32) a x).toNat < S160x142.size a)
theorem k0_idx1236_inb : ∀ (i : grid0.Coords) (k0_t2 : Fin k0_t2_loop.trips) (v1518 : IVec S16 32) (v1533 : IVec S16 32) (k0_hw776 : k0_chk776 i k0_t2 v1518 v1533), ∀ (k0_h1 : k0_cond1 i k0_t2 = 1#1), ∀ a x, ((![v1533, v1518] : Fin 2 → IVec S16 32) a x).toNat < S160x142.size a := fun i k0_t2 v1518 v1533 k0_hw776 k0_h1 => k0_hw776 k0_h1

def k0_chk777 (i : grid0.Coords) (k0_t2 : Fin k0_t2_loop.trips) (v1518 : IVec S16 32) (v1536 : IVec S16 32) : Prop :=
  (∀ (k0_h1 : k0_cond1 i k0_t2 = 1#1), ∀ a x, ((![v1536, v1518] : Fin 2 → IVec S16 32) a x).toNat < S160x142.size a)
theorem k0_idx1238_inb : ∀ (i : grid0.Coords) (k0_t2 : Fin k0_t2_loop.trips) (v1518 : IVec S16 32) (v1536 : IVec S16 32) (k0_hw777 : k0_chk777 i k0_t2 v1518 v1536), ∀ (k0_h1 : k0_cond1 i k0_t2 = 1#1), ∀ a x, ((![v1536, v1518] : Fin 2 → IVec S16 32) a x).toNat < S160x142.size a := fun i k0_t2 v1518 v1536 k0_hw777 k0_h1 => k0_hw777 k0_h1

def k0_chk778 (i : grid0.Coords) (k0_t2 : Fin k0_t2_loop.trips) (v1518 : IVec S16 32) (v1539 : IVec S16 32) : Prop :=
  (∀ (k0_h1 : k0_cond1 i k0_t2 = 1#1), ∀ a x, ((![v1539, v1518] : Fin 2 → IVec S16 32) a x).toNat < S160x142.size a)
theorem k0_idx1240_inb : ∀ (i : grid0.Coords) (k0_t2 : Fin k0_t2_loop.trips) (v1518 : IVec S16 32) (v1539 : IVec S16 32) (k0_hw778 : k0_chk778 i k0_t2 v1518 v1539), ∀ (k0_h1 : k0_cond1 i k0_t2 = 1#1), ∀ a x, ((![v1539, v1518] : Fin 2 → IVec S16 32) a x).toNat < S160x142.size a := fun i k0_t2 v1518 v1539 k0_hw778 k0_h1 => k0_hw778 k0_h1

def k0_chk779 (i : grid0.Coords) (k0_t2 : Fin k0_t2_loop.trips) (v1518 : IVec S16 32) (v1542 : IVec S16 32) : Prop :=
  (∀ (k0_h1 : k0_cond1 i k0_t2 = 1#1), ∀ a x, ((![v1542, v1518] : Fin 2 → IVec S16 32) a x).toNat < S160x142.size a)
theorem k0_idx1242_inb : ∀ (i : grid0.Coords) (k0_t2 : Fin k0_t2_loop.trips) (v1518 : IVec S16 32) (v1542 : IVec S16 32) (k0_hw779 : k0_chk779 i k0_t2 v1518 v1542), ∀ (k0_h1 : k0_cond1 i k0_t2 = 1#1), ∀ a x, ((![v1542, v1518] : Fin 2 → IVec S16 32) a x).toNat < S160x142.size a := fun i k0_t2 v1518 v1542 k0_hw779 k0_h1 => k0_hw779 k0_h1

def k0_chk780 (i : grid0.Coords) (k0_t2 : Fin k0_t2_loop.trips) (v1518 : IVec S16 32) (v1545 : IVec S16 32) : Prop :=
  (∀ (k0_h1 : k0_cond1 i k0_t2 = 1#1), ∀ a x, ((![v1545, v1518] : Fin 2 → IVec S16 32) a x).toNat < S160x142.size a)
theorem k0_idx1244_inb : ∀ (i : grid0.Coords) (k0_t2 : Fin k0_t2_loop.trips) (v1518 : IVec S16 32) (v1545 : IVec S16 32) (k0_hw780 : k0_chk780 i k0_t2 v1518 v1545), ∀ (k0_h1 : k0_cond1 i k0_t2 = 1#1), ∀ a x, ((![v1545, v1518] : Fin 2 → IVec S16 32) a x).toNat < S160x142.size a := fun i k0_t2 v1518 v1545 k0_hw780 k0_h1 => k0_hw780 k0_h1

def k0_chk771 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) : Prop :=
  (∀ (k0_h1 : k0_cond1 i k0_t2 = 1#1), ∀ a x, ((![v15, v1518] : Fin 2 → IVec S16 32) a x).toNat < S256x142.size a) ∧
  (∀ (k0_h1 : k0_cond1 i k0_t2 = 1#1), ∀ a x, ((![v20, v1518] : Fin 2 → IVec S16 32) a x).toNat < S256x142.size a) ∧
  (∀ (k0_h1 : k0_cond1 i k0_t2 = 1#1), ∀ a x, ((![v25, v1518] : Fin 2 → IVec S16 32) a x).toNat < S256x142.size a) ∧
  (∀ (k0_h1 : k0_cond1 i k0_t2 = 1#1), ∀ a x, ((![v30, v1518] : Fin 2 → IVec S16 32) a x).toNat < S256x142.size a) ∧
  (∀ (k0_h1 : k0_cond1 i k0_t2 = 1#1), ∀ a x, ((![v35, v1518] : Fin 2 → IVec S16 32) a x).toNat < S256x142.size a) ∧
  (∀ (k0_h1 : k0_cond1 i k0_t2 = 1#1), ∀ a x, ((![v40, v1518] : Fin 2 → IVec S16 32) a x).toNat < S256x142.size a) ∧
  (∀ (k0_h1 : k0_cond1 i k0_t2 = 1#1), ∀ a x, ((![v45, v1518] : Fin 2 → IVec S16 32) a x).toNat < S256x142.size a) ∧
  (∀ (k0_h1 : k0_cond1 i k0_t2 = 1#1), ∀ a x, ((![v50, v1518] : Fin 2 → IVec S16 32) a x).toNat < S256x142.size a) ∧
  (∀ (k0_h1 : k0_cond1 i k0_t2 = 1#1), ∀ a x, ((![v55, v1518] : Fin 2 → IVec S16 32) a x).toNat < S256x142.size a) ∧
  (∀ (k0_h1 : k0_cond1 i k0_t2 = 1#1), ∀ a x, ((![v60, v1518] : Fin 2 → IVec S16 32) a x).toNat < S256x142.size a)
theorem k0_idx1227_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v15, v1518] : Fin 2 → IVec S16 32) a x).toNat < S256x142.size a := fun i k0_t2 v15 v20 v25 v30 v35 v40 v45 v50 v55 v60 v1518 k0_hw771 k0_h1 => k0_hw771.1 k0_h1
theorem k0_idx1229_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v20, v1518] : Fin 2 → IVec S16 32) a x).toNat < S256x142.size a := fun i k0_t2 v15 v20 v25 v30 v35 v40 v45 v50 v55 v60 v1518 k0_hw771 k0_h1 => k0_hw771.2.1 k0_h1
theorem k0_idx1231_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v25, v1518] : Fin 2 → IVec S16 32) a x).toNat < S256x142.size a := fun i k0_t2 v15 v20 v25 v30 v35 v40 v45 v50 v55 v60 v1518 k0_hw771 k0_h1 => k0_hw771.2.2.1 k0_h1
theorem k0_idx1233_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v30, v1518] : Fin 2 → IVec S16 32) a x).toNat < S256x142.size a := fun i k0_t2 v15 v20 v25 v30 v35 v40 v45 v50 v55 v60 v1518 k0_hw771 k0_h1 => k0_hw771.2.2.2.1 k0_h1
theorem k0_idx1235_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v35, v1518] : Fin 2 → IVec S16 32) a x).toNat < S256x142.size a := fun i k0_t2 v15 v20 v25 v30 v35 v40 v45 v50 v55 v60 v1518 k0_hw771 k0_h1 => k0_hw771.2.2.2.2.1 k0_h1
theorem k0_idx1237_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v40, v1518] : Fin 2 → IVec S16 32) a x).toNat < S256x142.size a := fun i k0_t2 v15 v20 v25 v30 v35 v40 v45 v50 v55 v60 v1518 k0_hw771 k0_h1 => k0_hw771.2.2.2.2.2.1 k0_h1
theorem k0_idx1239_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v45, v1518] : Fin 2 → IVec S16 32) a x).toNat < S256x142.size a := fun i k0_t2 v15 v20 v25 v30 v35 v40 v45 v50 v55 v60 v1518 k0_hw771 k0_h1 => k0_hw771.2.2.2.2.2.2.1 k0_h1
theorem k0_idx1241_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v50, v1518] : Fin 2 → IVec S16 32) a x).toNat < S256x142.size a := fun i k0_t2 v15 v20 v25 v30 v35 v40 v45 v50 v55 v60 v1518 k0_hw771 k0_h1 => k0_hw771.2.2.2.2.2.2.2.1 k0_h1
theorem k0_idx1243_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v55, v1518] : Fin 2 → IVec S16 32) a x).toNat < S256x142.size a := fun i k0_t2 v15 v20 v25 v30 v35 v40 v45 v50 v55 v60 v1518 k0_hw771 k0_h1 => k0_hw771.2.2.2.2.2.2.2.2.1 k0_h1
theorem k0_idx1245_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1518 : IVec S16 32) (k0_hw771 : k0_chk771 i k0_t2 v15 v20 v25 v30 v35 v40 v45 v50 v55 v60 v1518), ∀ (k0_h1 : k0_cond1 i k0_t2 = 1#1), ∀ a x, ((![v60, v1518] : Fin 2 → IVec S16 32) a x).toNat < S256x142.size a := fun i k0_t2 v15 v20 v25 v30 v35 v40 v45 v50 v55 v60 v1518 k0_hw771 k0_h1 => k0_hw771.2.2.2.2.2.2.2.2.2 k0_h1

def k0_chk781 (i : grid0.Coords) (k0_t2 : Fin k0_t2_loop.trips) (v1518 : IVec S16 32) (v1548 : IVec S16 32) : Prop :=
  (∀ (k0_h1 : k0_cond1 i k0_t2 = 1#1), ∀ a x, ((![v1548, v1518] : Fin 2 → IVec S16 32) a x).toNat < S160x142.size a)
theorem k0_idx1246_inb : ∀ (i : grid0.Coords) (k0_t2 : Fin k0_t2_loop.trips) (v1518 : IVec S16 32) (v1548 : IVec S16 32) (k0_hw781 : k0_chk781 i k0_t2 v1518 v1548), ∀ (k0_h1 : k0_cond1 i k0_t2 = 1#1), ∀ a x, ((![v1548, v1518] : Fin 2 → IVec S16 32) a x).toNat < S160x142.size a := fun i k0_t2 v1518 v1548 k0_hw781 k0_h1 => k0_hw781 k0_h1

def k0_chk783 (i : grid0.Coords) (k0_t2 : Fin k0_t2_loop.trips) (v1549 : IVec S16 32) (v1552 : IVec S16 32) : Prop :=
  (∀ (k0_h1 : k0_cond1 i k0_t2 = 1#1), ∀ a x, ((![v1552, v1549] : Fin 2 → IVec S16 32) a x).toNat < S160x142.size a)
theorem k0_idx1248_inb : ∀ (i : grid0.Coords) (k0_t2 : Fin k0_t2_loop.trips) (v1549 : IVec S16 32) (v1552 : IVec S16 32) (k0_hw783 : k0_chk783 i k0_t2 v1549 v1552), ∀ (k0_h1 : k0_cond1 i k0_t2 = 1#1), ∀ a x, ((![v1552, v1549] : Fin 2 → IVec S16 32) a x).toNat < S160x142.size a := fun i k0_t2 v1549 v1552 k0_hw783 k0_h1 => k0_hw783 k0_h1

def k0_chk784 (i : grid0.Coords) (k0_t2 : Fin k0_t2_loop.trips) (v1549 : IVec S16 32) (v1555 : IVec S16 32) : Prop :=
  (∀ (k0_h1 : k0_cond1 i k0_t2 = 1#1), ∀ a x, ((![v1555, v1549] : Fin 2 → IVec S16 32) a x).toNat < S160x142.size a)
theorem k0_idx1250_inb : ∀ (i : grid0.Coords) (k0_t2 : Fin k0_t2_loop.trips) (v1549 : IVec S16 32) (v1555 : IVec S16 32) (k0_hw784 : k0_chk784 i k0_t2 v1549 v1555), ∀ (k0_h1 : k0_cond1 i k0_t2 = 1#1), ∀ a x, ((![v1555, v1549] : Fin 2 → IVec S16 32) a x).toNat < S160x142.size a := fun i k0_t2 v1549 v1555 k0_hw784 k0_h1 => k0_hw784 k0_h1

def k0_chk785 (i : grid0.Coords) (k0_t2 : Fin k0_t2_loop.trips) (v1549 : IVec S16 32) (v1558 : IVec S16 32) : Prop :=
  (∀ (k0_h1 : k0_cond1 i k0_t2 = 1#1), ∀ a x, ((![v1558, v1549] : Fin 2 → IVec S16 32) a x).toNat < S160x142.size a)
theorem k0_idx1252_inb : ∀ (i : grid0.Coords) (k0_t2 : Fin k0_t2_loop.trips) (v1549 : IVec S16 32) (v1558 : IVec S16 32) (k0_hw785 : k0_chk785 i k0_t2 v1549 v1558), ∀ (k0_h1 : k0_cond1 i k0_t2 = 1#1), ∀ a x, ((![v1558, v1549] : Fin 2 → IVec S16 32) a x).toNat < S160x142.size a := fun i k0_t2 v1549 v1558 k0_hw785 k0_h1 => k0_hw785 k0_h1

def k0_chk786 (i : grid0.Coords) (k0_t2 : Fin k0_t2_loop.trips) (v1549 : IVec S16 32) (v1561 : IVec S16 32) : Prop :=
  (∀ (k0_h1 : k0_cond1 i k0_t2 = 1#1), ∀ a x, ((![v1561, v1549] : Fin 2 → IVec S16 32) a x).toNat < S160x142.size a)
theorem k0_idx1254_inb : ∀ (i : grid0.Coords) (k0_t2 : Fin k0_t2_loop.trips) (v1549 : IVec S16 32) (v1561 : IVec S16 32) (k0_hw786 : k0_chk786 i k0_t2 v1549 v1561), ∀ (k0_h1 : k0_cond1 i k0_t2 = 1#1), ∀ a x, ((![v1561, v1549] : Fin 2 → IVec S16 32) a x).toNat < S160x142.size a := fun i k0_t2 v1549 v1561 k0_hw786 k0_h1 => k0_hw786 k0_h1

def k0_chk787 (i : grid0.Coords) (k0_t2 : Fin k0_t2_loop.trips) (v1549 : IVec S16 32) (v1564 : IVec S16 32) : Prop :=
  (∀ (k0_h1 : k0_cond1 i k0_t2 = 1#1), ∀ a x, ((![v1564, v1549] : Fin 2 → IVec S16 32) a x).toNat < S160x142.size a)
theorem k0_idx1256_inb : ∀ (i : grid0.Coords) (k0_t2 : Fin k0_t2_loop.trips) (v1549 : IVec S16 32) (v1564 : IVec S16 32) (k0_hw787 : k0_chk787 i k0_t2 v1549 v1564), ∀ (k0_h1 : k0_cond1 i k0_t2 = 1#1), ∀ a x, ((![v1564, v1549] : Fin 2 → IVec S16 32) a x).toNat < S160x142.size a := fun i k0_t2 v1549 v1564 k0_hw787 k0_h1 => k0_hw787 k0_h1

def k0_chk788 (i : grid0.Coords) (k0_t2 : Fin k0_t2_loop.trips) (v1549 : IVec S16 32) (v1567 : IVec S16 32) : Prop :=
  (∀ (k0_h1 : k0_cond1 i k0_t2 = 1#1), ∀ a x, ((![v1567, v1549] : Fin 2 → IVec S16 32) a x).toNat < S160x142.size a)
theorem k0_idx1258_inb : ∀ (i : grid0.Coords) (k0_t2 : Fin k0_t2_loop.trips) (v1549 : IVec S16 32) (v1567 : IVec S16 32) (k0_hw788 : k0_chk788 i k0_t2 v1549 v1567), ∀ (k0_h1 : k0_cond1 i k0_t2 = 1#1), ∀ a x, ((![v1567, v1549] : Fin 2 → IVec S16 32) a x).toNat < S160x142.size a := fun i k0_t2 v1549 v1567 k0_hw788 k0_h1 => k0_hw788 k0_h1

def k0_chk789 (i : grid0.Coords) (k0_t2 : Fin k0_t2_loop.trips) (v1549 : IVec S16 32) (v1570 : IVec S16 32) : Prop :=
  (∀ (k0_h1 : k0_cond1 i k0_t2 = 1#1), ∀ a x, ((![v1570, v1549] : Fin 2 → IVec S16 32) a x).toNat < S160x142.size a)
theorem k0_idx1260_inb : ∀ (i : grid0.Coords) (k0_t2 : Fin k0_t2_loop.trips) (v1549 : IVec S16 32) (v1570 : IVec S16 32) (k0_hw789 : k0_chk789 i k0_t2 v1549 v1570), ∀ (k0_h1 : k0_cond1 i k0_t2 = 1#1), ∀ a x, ((![v1570, v1549] : Fin 2 → IVec S16 32) a x).toNat < S160x142.size a := fun i k0_t2 v1549 v1570 k0_hw789 k0_h1 => k0_hw789 k0_h1

def k0_chk790 (i : grid0.Coords) (k0_t2 : Fin k0_t2_loop.trips) (v1549 : IVec S16 32) (v1573 : IVec S16 32) : Prop :=
  (∀ (k0_h1 : k0_cond1 i k0_t2 = 1#1), ∀ a x, ((![v1573, v1549] : Fin 2 → IVec S16 32) a x).toNat < S160x142.size a)
theorem k0_idx1262_inb : ∀ (i : grid0.Coords) (k0_t2 : Fin k0_t2_loop.trips) (v1549 : IVec S16 32) (v1573 : IVec S16 32) (k0_hw790 : k0_chk790 i k0_t2 v1549 v1573), ∀ (k0_h1 : k0_cond1 i k0_t2 = 1#1), ∀ a x, ((![v1573, v1549] : Fin 2 → IVec S16 32) a x).toNat < S160x142.size a := fun i k0_t2 v1549 v1573 k0_hw790 k0_h1 => k0_hw790 k0_h1

def k0_chk791 (i : grid0.Coords) (k0_t2 : Fin k0_t2_loop.trips) (v1549 : IVec S16 32) (v1576 : IVec S16 32) : Prop :=
  (∀ (k0_h1 : k0_cond1 i k0_t2 = 1#1), ∀ a x, ((![v1576, v1549] : Fin 2 → IVec S16 32) a x).toNat < S160x142.size a)
theorem k0_idx1264_inb : ∀ (i : grid0.Coords) (k0_t2 : Fin k0_t2_loop.trips) (v1549 : IVec S16 32) (v1576 : IVec S16 32) (k0_hw791 : k0_chk791 i k0_t2 v1549 v1576), ∀ (k0_h1 : k0_cond1 i k0_t2 = 1#1), ∀ a x, ((![v1576, v1549] : Fin 2 → IVec S16 32) a x).toNat < S160x142.size a := fun i k0_t2 v1549 v1576 k0_hw791 k0_h1 => k0_hw791 k0_h1

def k0_chk782 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) : Prop :=
  (∀ (k0_h1 : k0_cond1 i k0_t2 = 1#1), ∀ a x, ((![v15, v1549] : Fin 2 → IVec S16 32) a x).toNat < S256x142.size a) ∧
  (∀ (k0_h1 : k0_cond1 i k0_t2 = 1#1), ∀ a x, ((![v20, v1549] : Fin 2 → IVec S16 32) a x).toNat < S256x142.size a) ∧
  (∀ (k0_h1 : k0_cond1 i k0_t2 = 1#1), ∀ a x, ((![v25, v1549] : Fin 2 → IVec S16 32) a x).toNat < S256x142.size a) ∧
  (∀ (k0_h1 : k0_cond1 i k0_t2 = 1#1), ∀ a x, ((![v30, v1549] : Fin 2 → IVec S16 32) a x).toNat < S256x142.size a) ∧
  (∀ (k0_h1 : k0_cond1 i k0_t2 = 1#1), ∀ a x, ((![v35, v1549] : Fin 2 → IVec S16 32) a x).toNat < S256x142.size a) ∧
  (∀ (k0_h1 : k0_cond1 i k0_t2 = 1#1), ∀ a x, ((![v40, v1549] : Fin 2 → IVec S16 32) a x).toNat < S256x142.size a) ∧
  (∀ (k0_h1 : k0_cond1 i k0_t2 = 1#1), ∀ a x, ((![v45, v1549] : Fin 2 → IVec S16 32) a x).toNat < S256x142.size a) ∧
  (∀ (k0_h1 : k0_cond1 i k0_t2 = 1#1), ∀ a x, ((![v50, v1549] : Fin 2 → IVec S16 32) a x).toNat < S256x142.size a) ∧
  (∀ (k0_h1 : k0_cond1 i k0_t2 = 1#1), ∀ a x, ((![v55, v1549] : Fin 2 → IVec S16 32) a x).toNat < S256x142.size a) ∧
  (∀ (k0_h1 : k0_cond1 i k0_t2 = 1#1), ∀ a x, ((![v60, v1549] : Fin 2 → IVec S16 32) a x).toNat < S256x142.size a)
theorem k0_idx1247_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v15, v1549] : Fin 2 → IVec S16 32) a x).toNat < S256x142.size a := fun i k0_t2 v15 v20 v25 v30 v35 v40 v45 v50 v55 v60 v1549 k0_hw782 k0_h1 => k0_hw782.1 k0_h1
theorem k0_idx1249_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v20, v1549] : Fin 2 → IVec S16 32) a x).toNat < S256x142.size a := fun i k0_t2 v15 v20 v25 v30 v35 v40 v45 v50 v55 v60 v1549 k0_hw782 k0_h1 => k0_hw782.2.1 k0_h1
theorem k0_idx1251_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v25, v1549] : Fin 2 → IVec S16 32) a x).toNat < S256x142.size a := fun i k0_t2 v15 v20 v25 v30 v35 v40 v45 v50 v55 v60 v1549 k0_hw782 k0_h1 => k0_hw782.2.2.1 k0_h1
theorem k0_idx1253_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v30, v1549] : Fin 2 → IVec S16 32) a x).toNat < S256x142.size a := fun i k0_t2 v15 v20 v25 v30 v35 v40 v45 v50 v55 v60 v1549 k0_hw782 k0_h1 => k0_hw782.2.2.2.1 k0_h1
theorem k0_idx1255_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v35, v1549] : Fin 2 → IVec S16 32) a x).toNat < S256x142.size a := fun i k0_t2 v15 v20 v25 v30 v35 v40 v45 v50 v55 v60 v1549 k0_hw782 k0_h1 => k0_hw782.2.2.2.2.1 k0_h1
theorem k0_idx1257_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v40, v1549] : Fin 2 → IVec S16 32) a x).toNat < S256x142.size a := fun i k0_t2 v15 v20 v25 v30 v35 v40 v45 v50 v55 v60 v1549 k0_hw782 k0_h1 => k0_hw782.2.2.2.2.2.1 k0_h1
theorem k0_idx1259_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v45, v1549] : Fin 2 → IVec S16 32) a x).toNat < S256x142.size a := fun i k0_t2 v15 v20 v25 v30 v35 v40 v45 v50 v55 v60 v1549 k0_hw782 k0_h1 => k0_hw782.2.2.2.2.2.2.1 k0_h1
theorem k0_idx1261_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v50, v1549] : Fin 2 → IVec S16 32) a x).toNat < S256x142.size a := fun i k0_t2 v15 v20 v25 v30 v35 v40 v45 v50 v55 v60 v1549 k0_hw782 k0_h1 => k0_hw782.2.2.2.2.2.2.2.1 k0_h1
theorem k0_idx1263_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v55, v1549] : Fin 2 → IVec S16 32) a x).toNat < S256x142.size a := fun i k0_t2 v15 v20 v25 v30 v35 v40 v45 v50 v55 v60 v1549 k0_hw782 k0_h1 => k0_hw782.2.2.2.2.2.2.2.2.1 k0_h1
theorem k0_idx1265_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1549 : IVec S16 32) (k0_hw782 : k0_chk782 i k0_t2 v15 v20 v25 v30 v35 v40 v45 v50 v55 v60 v1549), ∀ (k0_h1 : k0_cond1 i k0_t2 = 1#1), ∀ a x, ((![v60, v1549] : Fin 2 → IVec S16 32) a x).toNat < S256x142.size a := fun i k0_t2 v15 v20 v25 v30 v35 v40 v45 v50 v55 v60 v1549 k0_hw782 k0_h1 => k0_hw782.2.2.2.2.2.2.2.2.2 k0_h1

def k0_chk792 (i : grid0.Coords) (k0_t2 : Fin k0_t2_loop.trips) (v1549 : IVec S16 32) (v1579 : IVec S16 32) : Prop :=
  (∀ (k0_h1 : k0_cond1 i k0_t2 = 1#1), ∀ a x, ((![v1579, v1549] : Fin 2 → IVec S16 32) a x).toNat < S160x142.size a)
theorem k0_idx1266_inb : ∀ (i : grid0.Coords) (k0_t2 : Fin k0_t2_loop.trips) (v1549 : IVec S16 32) (v1579 : IVec S16 32) (k0_hw792 : k0_chk792 i k0_t2 v1549 v1579), ∀ (k0_h1 : k0_cond1 i k0_t2 = 1#1), ∀ a x, ((![v1579, v1549] : Fin 2 → IVec S16 32) a x).toNat < S160x142.size a := fun i k0_t2 v1549 v1579 k0_hw792 k0_h1 => k0_hw792 k0_h1

def k0_chk794 (i : grid0.Coords) (k0_t2 : Fin k0_t2_loop.trips) (v1580 : IVec S16 32) (v1583 : IVec S16 32) : Prop :=
  (∀ (k0_h1 : k0_cond1 i k0_t2 = 1#1), ∀ a x, ((![v1583, v1580] : Fin 2 → IVec S16 32) a x).toNat < S160x142.size a)
theorem k0_idx1268_inb : ∀ (i : grid0.Coords) (k0_t2 : Fin k0_t2_loop.trips) (v1580 : IVec S16 32) (v1583 : IVec S16 32) (k0_hw794 : k0_chk794 i k0_t2 v1580 v1583), ∀ (k0_h1 : k0_cond1 i k0_t2 = 1#1), ∀ a x, ((![v1583, v1580] : Fin 2 → IVec S16 32) a x).toNat < S160x142.size a := fun i k0_t2 v1580 v1583 k0_hw794 k0_h1 => k0_hw794 k0_h1

def k0_chk795 (i : grid0.Coords) (k0_t2 : Fin k0_t2_loop.trips) (v1580 : IVec S16 32) (v1586 : IVec S16 32) : Prop :=
  (∀ (k0_h1 : k0_cond1 i k0_t2 = 1#1), ∀ a x, ((![v1586, v1580] : Fin 2 → IVec S16 32) a x).toNat < S160x142.size a)
theorem k0_idx1270_inb : ∀ (i : grid0.Coords) (k0_t2 : Fin k0_t2_loop.trips) (v1580 : IVec S16 32) (v1586 : IVec S16 32) (k0_hw795 : k0_chk795 i k0_t2 v1580 v1586), ∀ (k0_h1 : k0_cond1 i k0_t2 = 1#1), ∀ a x, ((![v1586, v1580] : Fin 2 → IVec S16 32) a x).toNat < S160x142.size a := fun i k0_t2 v1580 v1586 k0_hw795 k0_h1 => k0_hw795 k0_h1

def k0_chk796 (i : grid0.Coords) (k0_t2 : Fin k0_t2_loop.trips) (v1580 : IVec S16 32) (v1589 : IVec S16 32) : Prop :=
  (∀ (k0_h1 : k0_cond1 i k0_t2 = 1#1), ∀ a x, ((![v1589, v1580] : Fin 2 → IVec S16 32) a x).toNat < S160x142.size a)
theorem k0_idx1272_inb : ∀ (i : grid0.Coords) (k0_t2 : Fin k0_t2_loop.trips) (v1580 : IVec S16 32) (v1589 : IVec S16 32) (k0_hw796 : k0_chk796 i k0_t2 v1580 v1589), ∀ (k0_h1 : k0_cond1 i k0_t2 = 1#1), ∀ a x, ((![v1589, v1580] : Fin 2 → IVec S16 32) a x).toNat < S160x142.size a := fun i k0_t2 v1580 v1589 k0_hw796 k0_h1 => k0_hw796 k0_h1

def k0_chk797 (i : grid0.Coords) (k0_t2 : Fin k0_t2_loop.trips) (v1580 : IVec S16 32) (v1592 : IVec S16 32) : Prop :=
  (∀ (k0_h1 : k0_cond1 i k0_t2 = 1#1), ∀ a x, ((![v1592, v1580] : Fin 2 → IVec S16 32) a x).toNat < S160x142.size a)
theorem k0_idx1274_inb : ∀ (i : grid0.Coords) (k0_t2 : Fin k0_t2_loop.trips) (v1580 : IVec S16 32) (v1592 : IVec S16 32) (k0_hw797 : k0_chk797 i k0_t2 v1580 v1592), ∀ (k0_h1 : k0_cond1 i k0_t2 = 1#1), ∀ a x, ((![v1592, v1580] : Fin 2 → IVec S16 32) a x).toNat < S160x142.size a := fun i k0_t2 v1580 v1592 k0_hw797 k0_h1 => k0_hw797 k0_h1

def k0_chk798 (i : grid0.Coords) (k0_t2 : Fin k0_t2_loop.trips) (v1580 : IVec S16 32) (v1595 : IVec S16 32) : Prop :=
  (∀ (k0_h1 : k0_cond1 i k0_t2 = 1#1), ∀ a x, ((![v1595, v1580] : Fin 2 → IVec S16 32) a x).toNat < S160x142.size a)
theorem k0_idx1276_inb : ∀ (i : grid0.Coords) (k0_t2 : Fin k0_t2_loop.trips) (v1580 : IVec S16 32) (v1595 : IVec S16 32) (k0_hw798 : k0_chk798 i k0_t2 v1580 v1595), ∀ (k0_h1 : k0_cond1 i k0_t2 = 1#1), ∀ a x, ((![v1595, v1580] : Fin 2 → IVec S16 32) a x).toNat < S160x142.size a := fun i k0_t2 v1580 v1595 k0_hw798 k0_h1 => k0_hw798 k0_h1

def k0_chk799 (i : grid0.Coords) (k0_t2 : Fin k0_t2_loop.trips) (v1580 : IVec S16 32) (v1598 : IVec S16 32) : Prop :=
  (∀ (k0_h1 : k0_cond1 i k0_t2 = 1#1), ∀ a x, ((![v1598, v1580] : Fin 2 → IVec S16 32) a x).toNat < S160x142.size a)
theorem k0_idx1278_inb : ∀ (i : grid0.Coords) (k0_t2 : Fin k0_t2_loop.trips) (v1580 : IVec S16 32) (v1598 : IVec S16 32) (k0_hw799 : k0_chk799 i k0_t2 v1580 v1598), ∀ (k0_h1 : k0_cond1 i k0_t2 = 1#1), ∀ a x, ((![v1598, v1580] : Fin 2 → IVec S16 32) a x).toNat < S160x142.size a := fun i k0_t2 v1580 v1598 k0_hw799 k0_h1 => k0_hw799 k0_h1

def k0_chk800 (i : grid0.Coords) (k0_t2 : Fin k0_t2_loop.trips) (v1580 : IVec S16 32) (v1601 : IVec S16 32) : Prop :=
  (∀ (k0_h1 : k0_cond1 i k0_t2 = 1#1), ∀ a x, ((![v1601, v1580] : Fin 2 → IVec S16 32) a x).toNat < S160x142.size a)
theorem k0_idx1280_inb : ∀ (i : grid0.Coords) (k0_t2 : Fin k0_t2_loop.trips) (v1580 : IVec S16 32) (v1601 : IVec S16 32) (k0_hw800 : k0_chk800 i k0_t2 v1580 v1601), ∀ (k0_h1 : k0_cond1 i k0_t2 = 1#1), ∀ a x, ((![v1601, v1580] : Fin 2 → IVec S16 32) a x).toNat < S160x142.size a := fun i k0_t2 v1580 v1601 k0_hw800 k0_h1 => k0_hw800 k0_h1

def k0_chk801 (i : grid0.Coords) (k0_t2 : Fin k0_t2_loop.trips) (v1580 : IVec S16 32) (v1604 : IVec S16 32) : Prop :=
  (∀ (k0_h1 : k0_cond1 i k0_t2 = 1#1), ∀ a x, ((![v1604, v1580] : Fin 2 → IVec S16 32) a x).toNat < S160x142.size a)
theorem k0_idx1282_inb : ∀ (i : grid0.Coords) (k0_t2 : Fin k0_t2_loop.trips) (v1580 : IVec S16 32) (v1604 : IVec S16 32) (k0_hw801 : k0_chk801 i k0_t2 v1580 v1604), ∀ (k0_h1 : k0_cond1 i k0_t2 = 1#1), ∀ a x, ((![v1604, v1580] : Fin 2 → IVec S16 32) a x).toNat < S160x142.size a := fun i k0_t2 v1580 v1604 k0_hw801 k0_h1 => k0_hw801 k0_h1

def k0_chk802 (i : grid0.Coords) (k0_t2 : Fin k0_t2_loop.trips) (v1580 : IVec S16 32) (v1607 : IVec S16 32) : Prop :=
  (∀ (k0_h1 : k0_cond1 i k0_t2 = 1#1), ∀ a x, ((![v1607, v1580] : Fin 2 → IVec S16 32) a x).toNat < S160x142.size a)
theorem k0_idx1284_inb : ∀ (i : grid0.Coords) (k0_t2 : Fin k0_t2_loop.trips) (v1580 : IVec S16 32) (v1607 : IVec S16 32) (k0_hw802 : k0_chk802 i k0_t2 v1580 v1607), ∀ (k0_h1 : k0_cond1 i k0_t2 = 1#1), ∀ a x, ((![v1607, v1580] : Fin 2 → IVec S16 32) a x).toNat < S160x142.size a := fun i k0_t2 v1580 v1607 k0_hw802 k0_h1 => k0_hw802 k0_h1

def k0_chk793 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) : Prop :=
  (∀ (k0_h1 : k0_cond1 i k0_t2 = 1#1), ∀ a x, ((![v15, v1580] : Fin 2 → IVec S16 32) a x).toNat < S256x142.size a) ∧
  (∀ (k0_h1 : k0_cond1 i k0_t2 = 1#1), ∀ a x, ((![v20, v1580] : Fin 2 → IVec S16 32) a x).toNat < S256x142.size a) ∧
  (∀ (k0_h1 : k0_cond1 i k0_t2 = 1#1), ∀ a x, ((![v25, v1580] : Fin 2 → IVec S16 32) a x).toNat < S256x142.size a) ∧
  (∀ (k0_h1 : k0_cond1 i k0_t2 = 1#1), ∀ a x, ((![v30, v1580] : Fin 2 → IVec S16 32) a x).toNat < S256x142.size a) ∧
  (∀ (k0_h1 : k0_cond1 i k0_t2 = 1#1), ∀ a x, ((![v35, v1580] : Fin 2 → IVec S16 32) a x).toNat < S256x142.size a) ∧
  (∀ (k0_h1 : k0_cond1 i k0_t2 = 1#1), ∀ a x, ((![v40, v1580] : Fin 2 → IVec S16 32) a x).toNat < S256x142.size a) ∧
  (∀ (k0_h1 : k0_cond1 i k0_t2 = 1#1), ∀ a x, ((![v45, v1580] : Fin 2 → IVec S16 32) a x).toNat < S256x142.size a) ∧
  (∀ (k0_h1 : k0_cond1 i k0_t2 = 1#1), ∀ a x, ((![v50, v1580] : Fin 2 → IVec S16 32) a x).toNat < S256x142.size a) ∧
  (∀ (k0_h1 : k0_cond1 i k0_t2 = 1#1), ∀ a x, ((![v55, v1580] : Fin 2 → IVec S16 32) a x).toNat < S256x142.size a) ∧
  (∀ (k0_h1 : k0_cond1 i k0_t2 = 1#1), ∀ a x, ((![v60, v1580] : Fin 2 → IVec S16 32) a x).toNat < S256x142.size a)
theorem k0_idx1267_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v15, v1580] : Fin 2 → IVec S16 32) a x).toNat < S256x142.size a := fun i k0_t2 v15 v20 v25 v30 v35 v40 v45 v50 v55 v60 v1580 k0_hw793 k0_h1 => k0_hw793.1 k0_h1
theorem k0_idx1269_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v20, v1580] : Fin 2 → IVec S16 32) a x).toNat < S256x142.size a := fun i k0_t2 v15 v20 v25 v30 v35 v40 v45 v50 v55 v60 v1580 k0_hw793 k0_h1 => k0_hw793.2.1 k0_h1
theorem k0_idx1271_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v25, v1580] : Fin 2 → IVec S16 32) a x).toNat < S256x142.size a := fun i k0_t2 v15 v20 v25 v30 v35 v40 v45 v50 v55 v60 v1580 k0_hw793 k0_h1 => k0_hw793.2.2.1 k0_h1
theorem k0_idx1273_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v30, v1580] : Fin 2 → IVec S16 32) a x).toNat < S256x142.size a := fun i k0_t2 v15 v20 v25 v30 v35 v40 v45 v50 v55 v60 v1580 k0_hw793 k0_h1 => k0_hw793.2.2.2.1 k0_h1
theorem k0_idx1275_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v35, v1580] : Fin 2 → IVec S16 32) a x).toNat < S256x142.size a := fun i k0_t2 v15 v20 v25 v30 v35 v40 v45 v50 v55 v60 v1580 k0_hw793 k0_h1 => k0_hw793.2.2.2.2.1 k0_h1
theorem k0_idx1277_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v40, v1580] : Fin 2 → IVec S16 32) a x).toNat < S256x142.size a := fun i k0_t2 v15 v20 v25 v30 v35 v40 v45 v50 v55 v60 v1580 k0_hw793 k0_h1 => k0_hw793.2.2.2.2.2.1 k0_h1
theorem k0_idx1279_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v45, v1580] : Fin 2 → IVec S16 32) a x).toNat < S256x142.size a := fun i k0_t2 v15 v20 v25 v30 v35 v40 v45 v50 v55 v60 v1580 k0_hw793 k0_h1 => k0_hw793.2.2.2.2.2.2.1 k0_h1
theorem k0_idx1281_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v50, v1580] : Fin 2 → IVec S16 32) a x).toNat < S256x142.size a := fun i k0_t2 v15 v20 v25 v30 v35 v40 v45 v50 v55 v60 v1580 k0_hw793 k0_h1 => k0_hw793.2.2.2.2.2.2.2.1 k0_h1
theorem k0_idx1283_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v55, v1580] : Fin 2 → IVec S16 32) a x).toNat < S256x142.size a := fun i k0_t2 v15 v20 v25 v30 v35 v40 v45 v50 v55 v60 v1580 k0_hw793 k0_h1 => k0_hw793.2.2.2.2.2.2.2.2.1 k0_h1
theorem k0_idx1285_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1580 : IVec S16 32) (k0_hw793 : k0_chk793 i k0_t2 v15 v20 v25 v30 v35 v40 v45 v50 v55 v60 v1580), ∀ (k0_h1 : k0_cond1 i k0_t2 = 1#1), ∀ a x, ((![v60, v1580] : Fin 2 → IVec S16 32) a x).toNat < S256x142.size a := fun i k0_t2 v15 v20 v25 v30 v35 v40 v45 v50 v55 v60 v1580 k0_hw793 k0_h1 => k0_hw793.2.2.2.2.2.2.2.2.2 k0_h1

def k0_chk803 (i : grid0.Coords) (k0_t2 : Fin k0_t2_loop.trips) (v1580 : IVec S16 32) (v1610 : IVec S16 32) : Prop :=
  (∀ (k0_h1 : k0_cond1 i k0_t2 = 1#1), ∀ a x, ((![v1610, v1580] : Fin 2 → IVec S16 32) a x).toNat < S160x142.size a)
theorem k0_idx1286_inb : ∀ (i : grid0.Coords) (k0_t2 : Fin k0_t2_loop.trips) (v1580 : IVec S16 32) (v1610 : IVec S16 32) (k0_hw803 : k0_chk803 i k0_t2 v1580 v1610), ∀ (k0_h1 : k0_cond1 i k0_t2 = 1#1), ∀ a x, ((![v1610, v1580] : Fin 2 → IVec S16 32) a x).toNat < S160x142.size a := fun i k0_t2 v1580 v1610 k0_hw803 k0_h1 => k0_hw803 k0_h1

def k0_chk805 (i : grid0.Coords) (k0_t2 : Fin k0_t2_loop.trips) (v1611 : IVec S16 32) (v1614 : IVec S16 32) : Prop :=
  (∀ (k0_h1 : k0_cond1 i k0_t2 = 1#1), ∀ a x, ((![v1614, v1611] : Fin 2 → IVec S16 32) a x).toNat < S160x142.size a)
theorem k0_idx1288_inb : ∀ (i : grid0.Coords) (k0_t2 : Fin k0_t2_loop.trips) (v1611 : IVec S16 32) (v1614 : IVec S16 32) (k0_hw805 : k0_chk805 i k0_t2 v1611 v1614), ∀ (k0_h1 : k0_cond1 i k0_t2 = 1#1), ∀ a x, ((![v1614, v1611] : Fin 2 → IVec S16 32) a x).toNat < S160x142.size a := fun i k0_t2 v1611 v1614 k0_hw805 k0_h1 => k0_hw805 k0_h1

def k0_chk806 (i : grid0.Coords) (k0_t2 : Fin k0_t2_loop.trips) (v1611 : IVec S16 32) (v1617 : IVec S16 32) : Prop :=
  (∀ (k0_h1 : k0_cond1 i k0_t2 = 1#1), ∀ a x, ((![v1617, v1611] : Fin 2 → IVec S16 32) a x).toNat < S160x142.size a)
theorem k0_idx1290_inb : ∀ (i : grid0.Coords) (k0_t2 : Fin k0_t2_loop.trips) (v1611 : IVec S16 32) (v1617 : IVec S16 32) (k0_hw806 : k0_chk806 i k0_t2 v1611 v1617), ∀ (k0_h1 : k0_cond1 i k0_t2 = 1#1), ∀ a x, ((![v1617, v1611] : Fin 2 → IVec S16 32) a x).toNat < S160x142.size a := fun i k0_t2 v1611 v1617 k0_hw806 k0_h1 => k0_hw806 k0_h1

def k0_chk807 (i : grid0.Coords) (k0_t2 : Fin k0_t2_loop.trips) (v1611 : IVec S16 32) (v1620 : IVec S16 32) : Prop :=
  (∀ (k0_h1 : k0_cond1 i k0_t2 = 1#1), ∀ a x, ((![v1620, v1611] : Fin 2 → IVec S16 32) a x).toNat < S160x142.size a)
theorem k0_idx1292_inb : ∀ (i : grid0.Coords) (k0_t2 : Fin k0_t2_loop.trips) (v1611 : IVec S16 32) (v1620 : IVec S16 32) (k0_hw807 : k0_chk807 i k0_t2 v1611 v1620), ∀ (k0_h1 : k0_cond1 i k0_t2 = 1#1), ∀ a x, ((![v1620, v1611] : Fin 2 → IVec S16 32) a x).toNat < S160x142.size a := fun i k0_t2 v1611 v1620 k0_hw807 k0_h1 => k0_hw807 k0_h1

def k0_chk808 (i : grid0.Coords) (k0_t2 : Fin k0_t2_loop.trips) (v1611 : IVec S16 32) (v1623 : IVec S16 32) : Prop :=
  (∀ (k0_h1 : k0_cond1 i k0_t2 = 1#1), ∀ a x, ((![v1623, v1611] : Fin 2 → IVec S16 32) a x).toNat < S160x142.size a)
theorem k0_idx1294_inb : ∀ (i : grid0.Coords) (k0_t2 : Fin k0_t2_loop.trips) (v1611 : IVec S16 32) (v1623 : IVec S16 32) (k0_hw808 : k0_chk808 i k0_t2 v1611 v1623), ∀ (k0_h1 : k0_cond1 i k0_t2 = 1#1), ∀ a x, ((![v1623, v1611] : Fin 2 → IVec S16 32) a x).toNat < S160x142.size a := fun i k0_t2 v1611 v1623 k0_hw808 k0_h1 => k0_hw808 k0_h1

def k0_chk809 (i : grid0.Coords) (k0_t2 : Fin k0_t2_loop.trips) (v1611 : IVec S16 32) (v1626 : IVec S16 32) : Prop :=
  (∀ (k0_h1 : k0_cond1 i k0_t2 = 1#1), ∀ a x, ((![v1626, v1611] : Fin 2 → IVec S16 32) a x).toNat < S160x142.size a)
theorem k0_idx1296_inb : ∀ (i : grid0.Coords) (k0_t2 : Fin k0_t2_loop.trips) (v1611 : IVec S16 32) (v1626 : IVec S16 32) (k0_hw809 : k0_chk809 i k0_t2 v1611 v1626), ∀ (k0_h1 : k0_cond1 i k0_t2 = 1#1), ∀ a x, ((![v1626, v1611] : Fin 2 → IVec S16 32) a x).toNat < S160x142.size a := fun i k0_t2 v1611 v1626 k0_hw809 k0_h1 => k0_hw809 k0_h1

def k0_chk810 (i : grid0.Coords) (k0_t2 : Fin k0_t2_loop.trips) (v1611 : IVec S16 32) (v1629 : IVec S16 32) : Prop :=
  (∀ (k0_h1 : k0_cond1 i k0_t2 = 1#1), ∀ a x, ((![v1629, v1611] : Fin 2 → IVec S16 32) a x).toNat < S160x142.size a)
theorem k0_idx1298_inb : ∀ (i : grid0.Coords) (k0_t2 : Fin k0_t2_loop.trips) (v1611 : IVec S16 32) (v1629 : IVec S16 32) (k0_hw810 : k0_chk810 i k0_t2 v1611 v1629), ∀ (k0_h1 : k0_cond1 i k0_t2 = 1#1), ∀ a x, ((![v1629, v1611] : Fin 2 → IVec S16 32) a x).toNat < S160x142.size a := fun i k0_t2 v1611 v1629 k0_hw810 k0_h1 => k0_hw810 k0_h1

def k0_chk811 (i : grid0.Coords) (k0_t2 : Fin k0_t2_loop.trips) (v1611 : IVec S16 32) (v1632 : IVec S16 32) : Prop :=
  (∀ (k0_h1 : k0_cond1 i k0_t2 = 1#1), ∀ a x, ((![v1632, v1611] : Fin 2 → IVec S16 32) a x).toNat < S160x142.size a)
theorem k0_idx1300_inb : ∀ (i : grid0.Coords) (k0_t2 : Fin k0_t2_loop.trips) (v1611 : IVec S16 32) (v1632 : IVec S16 32) (k0_hw811 : k0_chk811 i k0_t2 v1611 v1632), ∀ (k0_h1 : k0_cond1 i k0_t2 = 1#1), ∀ a x, ((![v1632, v1611] : Fin 2 → IVec S16 32) a x).toNat < S160x142.size a := fun i k0_t2 v1611 v1632 k0_hw811 k0_h1 => k0_hw811 k0_h1

def k0_chk812 (i : grid0.Coords) (k0_t2 : Fin k0_t2_loop.trips) (v1611 : IVec S16 32) (v1635 : IVec S16 32) : Prop :=
  (∀ (k0_h1 : k0_cond1 i k0_t2 = 1#1), ∀ a x, ((![v1635, v1611] : Fin 2 → IVec S16 32) a x).toNat < S160x142.size a)
theorem k0_idx1302_inb : ∀ (i : grid0.Coords) (k0_t2 : Fin k0_t2_loop.trips) (v1611 : IVec S16 32) (v1635 : IVec S16 32) (k0_hw812 : k0_chk812 i k0_t2 v1611 v1635), ∀ (k0_h1 : k0_cond1 i k0_t2 = 1#1), ∀ a x, ((![v1635, v1611] : Fin 2 → IVec S16 32) a x).toNat < S160x142.size a := fun i k0_t2 v1611 v1635 k0_hw812 k0_h1 => k0_hw812 k0_h1

def k0_chk813 (i : grid0.Coords) (k0_t2 : Fin k0_t2_loop.trips) (v1611 : IVec S16 32) (v1638 : IVec S16 32) : Prop :=
  (∀ (k0_h1 : k0_cond1 i k0_t2 = 1#1), ∀ a x, ((![v1638, v1611] : Fin 2 → IVec S16 32) a x).toNat < S160x142.size a)
theorem k0_idx1304_inb : ∀ (i : grid0.Coords) (k0_t2 : Fin k0_t2_loop.trips) (v1611 : IVec S16 32) (v1638 : IVec S16 32) (k0_hw813 : k0_chk813 i k0_t2 v1611 v1638), ∀ (k0_h1 : k0_cond1 i k0_t2 = 1#1), ∀ a x, ((![v1638, v1611] : Fin 2 → IVec S16 32) a x).toNat < S160x142.size a := fun i k0_t2 v1611 v1638 k0_hw813 k0_h1 => k0_hw813 k0_h1

def k0_chk804 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) : Prop :=
  (∀ (k0_h1 : k0_cond1 i k0_t2 = 1#1), ∀ a x, ((![v15, v1611] : Fin 2 → IVec S16 32) a x).toNat < S256x142.size a) ∧
  (∀ (k0_h1 : k0_cond1 i k0_t2 = 1#1), ∀ a x, ((![v20, v1611] : Fin 2 → IVec S16 32) a x).toNat < S256x142.size a) ∧
  (∀ (k0_h1 : k0_cond1 i k0_t2 = 1#1), ∀ a x, ((![v25, v1611] : Fin 2 → IVec S16 32) a x).toNat < S256x142.size a) ∧
  (∀ (k0_h1 : k0_cond1 i k0_t2 = 1#1), ∀ a x, ((![v30, v1611] : Fin 2 → IVec S16 32) a x).toNat < S256x142.size a) ∧
  (∀ (k0_h1 : k0_cond1 i k0_t2 = 1#1), ∀ a x, ((![v35, v1611] : Fin 2 → IVec S16 32) a x).toNat < S256x142.size a) ∧
  (∀ (k0_h1 : k0_cond1 i k0_t2 = 1#1), ∀ a x, ((![v40, v1611] : Fin 2 → IVec S16 32) a x).toNat < S256x142.size a) ∧
  (∀ (k0_h1 : k0_cond1 i k0_t2 = 1#1), ∀ a x, ((![v45, v1611] : Fin 2 → IVec S16 32) a x).toNat < S256x142.size a) ∧
  (∀ (k0_h1 : k0_cond1 i k0_t2 = 1#1), ∀ a x, ((![v50, v1611] : Fin 2 → IVec S16 32) a x).toNat < S256x142.size a) ∧
  (∀ (k0_h1 : k0_cond1 i k0_t2 = 1#1), ∀ a x, ((![v55, v1611] : Fin 2 → IVec S16 32) a x).toNat < S256x142.size a) ∧
  (∀ (k0_h1 : k0_cond1 i k0_t2 = 1#1), ∀ a x, ((![v60, v1611] : Fin 2 → IVec S16 32) a x).toNat < S256x142.size a)
theorem k0_idx1287_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v15, v1611] : Fin 2 → IVec S16 32) a x).toNat < S256x142.size a := fun i k0_t2 v15 v20 v25 v30 v35 v40 v45 v50 v55 v60 v1611 k0_hw804 k0_h1 => k0_hw804.1 k0_h1
theorem k0_idx1289_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v20, v1611] : Fin 2 → IVec S16 32) a x).toNat < S256x142.size a := fun i k0_t2 v15 v20 v25 v30 v35 v40 v45 v50 v55 v60 v1611 k0_hw804 k0_h1 => k0_hw804.2.1 k0_h1
theorem k0_idx1291_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v25, v1611] : Fin 2 → IVec S16 32) a x).toNat < S256x142.size a := fun i k0_t2 v15 v20 v25 v30 v35 v40 v45 v50 v55 v60 v1611 k0_hw804 k0_h1 => k0_hw804.2.2.1 k0_h1
theorem k0_idx1293_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v30, v1611] : Fin 2 → IVec S16 32) a x).toNat < S256x142.size a := fun i k0_t2 v15 v20 v25 v30 v35 v40 v45 v50 v55 v60 v1611 k0_hw804 k0_h1 => k0_hw804.2.2.2.1 k0_h1
theorem k0_idx1295_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v35, v1611] : Fin 2 → IVec S16 32) a x).toNat < S256x142.size a := fun i k0_t2 v15 v20 v25 v30 v35 v40 v45 v50 v55 v60 v1611 k0_hw804 k0_h1 => k0_hw804.2.2.2.2.1 k0_h1
theorem k0_idx1297_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v40, v1611] : Fin 2 → IVec S16 32) a x).toNat < S256x142.size a := fun i k0_t2 v15 v20 v25 v30 v35 v40 v45 v50 v55 v60 v1611 k0_hw804 k0_h1 => k0_hw804.2.2.2.2.2.1 k0_h1
theorem k0_idx1299_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v45, v1611] : Fin 2 → IVec S16 32) a x).toNat < S256x142.size a := fun i k0_t2 v15 v20 v25 v30 v35 v40 v45 v50 v55 v60 v1611 k0_hw804 k0_h1 => k0_hw804.2.2.2.2.2.2.1 k0_h1
theorem k0_idx1301_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v50, v1611] : Fin 2 → IVec S16 32) a x).toNat < S256x142.size a := fun i k0_t2 v15 v20 v25 v30 v35 v40 v45 v50 v55 v60 v1611 k0_hw804 k0_h1 => k0_hw804.2.2.2.2.2.2.2.1 k0_h1
theorem k0_idx1303_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v55, v1611] : Fin 2 → IVec S16 32) a x).toNat < S256x142.size a := fun i k0_t2 v15 v20 v25 v30 v35 v40 v45 v50 v55 v60 v1611 k0_hw804 k0_h1 => k0_hw804.2.2.2.2.2.2.2.2.1 k0_h1
theorem k0_idx1305_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1611 : IVec S16 32) (k0_hw804 : k0_chk804 i k0_t2 v15 v20 v25 v30 v35 v40 v45 v50 v55 v60 v1611), ∀ (k0_h1 : k0_cond1 i k0_t2 = 1#1), ∀ a x, ((![v60, v1611] : Fin 2 → IVec S16 32) a x).toNat < S256x142.size a := fun i k0_t2 v15 v20 v25 v30 v35 v40 v45 v50 v55 v60 v1611 k0_hw804 k0_h1 => k0_hw804.2.2.2.2.2.2.2.2.2 k0_h1

def k0_chk814 (i : grid0.Coords) (k0_t2 : Fin k0_t2_loop.trips) (v1611 : IVec S16 32) (v1641 : IVec S16 32) : Prop :=
  (∀ (k0_h1 : k0_cond1 i k0_t2 = 1#1), ∀ a x, ((![v1641, v1611] : Fin 2 → IVec S16 32) a x).toNat < S160x142.size a)
theorem k0_idx1306_inb : ∀ (i : grid0.Coords) (k0_t2 : Fin k0_t2_loop.trips) (v1611 : IVec S16 32) (v1641 : IVec S16 32) (k0_hw814 : k0_chk814 i k0_t2 v1611 v1641), ∀ (k0_h1 : k0_cond1 i k0_t2 = 1#1), ∀ a x, ((![v1641, v1611] : Fin 2 → IVec S16 32) a x).toNat < S160x142.size a := fun i k0_t2 v1611 v1641 k0_hw814 k0_h1 => k0_hw814 k0_h1

def k0_chk816 (i : grid0.Coords) (k0_t2 : Fin k0_t2_loop.trips) (v1642 : IVec S16 32) (v1645 : IVec S16 32) : Prop :=
  (∀ (k0_h1 : k0_cond1 i k0_t2 = 1#1), ∀ a x, ((![v1645, v1642] : Fin 2 → IVec S16 32) a x).toNat < S160x142.size a)
theorem k0_idx1308_inb : ∀ (i : grid0.Coords) (k0_t2 : Fin k0_t2_loop.trips) (v1642 : IVec S16 32) (v1645 : IVec S16 32) (k0_hw816 : k0_chk816 i k0_t2 v1642 v1645), ∀ (k0_h1 : k0_cond1 i k0_t2 = 1#1), ∀ a x, ((![v1645, v1642] : Fin 2 → IVec S16 32) a x).toNat < S160x142.size a := fun i k0_t2 v1642 v1645 k0_hw816 k0_h1 => k0_hw816 k0_h1

def k0_chk817 (i : grid0.Coords) (k0_t2 : Fin k0_t2_loop.trips) (v1642 : IVec S16 32) (v1648 : IVec S16 32) : Prop :=
  (∀ (k0_h1 : k0_cond1 i k0_t2 = 1#1), ∀ a x, ((![v1648, v1642] : Fin 2 → IVec S16 32) a x).toNat < S160x142.size a)
theorem k0_idx1310_inb : ∀ (i : grid0.Coords) (k0_t2 : Fin k0_t2_loop.trips) (v1642 : IVec S16 32) (v1648 : IVec S16 32) (k0_hw817 : k0_chk817 i k0_t2 v1642 v1648), ∀ (k0_h1 : k0_cond1 i k0_t2 = 1#1), ∀ a x, ((![v1648, v1642] : Fin 2 → IVec S16 32) a x).toNat < S160x142.size a := fun i k0_t2 v1642 v1648 k0_hw817 k0_h1 => k0_hw817 k0_h1

def k0_chk818 (i : grid0.Coords) (k0_t2 : Fin k0_t2_loop.trips) (v1642 : IVec S16 32) (v1651 : IVec S16 32) : Prop :=
  (∀ (k0_h1 : k0_cond1 i k0_t2 = 1#1), ∀ a x, ((![v1651, v1642] : Fin 2 → IVec S16 32) a x).toNat < S160x142.size a)
theorem k0_idx1312_inb : ∀ (i : grid0.Coords) (k0_t2 : Fin k0_t2_loop.trips) (v1642 : IVec S16 32) (v1651 : IVec S16 32) (k0_hw818 : k0_chk818 i k0_t2 v1642 v1651), ∀ (k0_h1 : k0_cond1 i k0_t2 = 1#1), ∀ a x, ((![v1651, v1642] : Fin 2 → IVec S16 32) a x).toNat < S160x142.size a := fun i k0_t2 v1642 v1651 k0_hw818 k0_h1 => k0_hw818 k0_h1

def k0_chk819 (i : grid0.Coords) (k0_t2 : Fin k0_t2_loop.trips) (v1642 : IVec S16 32) (v1654 : IVec S16 32) : Prop :=
  (∀ (k0_h1 : k0_cond1 i k0_t2 = 1#1), ∀ a x, ((![v1654, v1642] : Fin 2 → IVec S16 32) a x).toNat < S160x142.size a)
theorem k0_idx1314_inb : ∀ (i : grid0.Coords) (k0_t2 : Fin k0_t2_loop.trips) (v1642 : IVec S16 32) (v1654 : IVec S16 32) (k0_hw819 : k0_chk819 i k0_t2 v1642 v1654), ∀ (k0_h1 : k0_cond1 i k0_t2 = 1#1), ∀ a x, ((![v1654, v1642] : Fin 2 → IVec S16 32) a x).toNat < S160x142.size a := fun i k0_t2 v1642 v1654 k0_hw819 k0_h1 => k0_hw819 k0_h1

def k0_chk820 (i : grid0.Coords) (k0_t2 : Fin k0_t2_loop.trips) (v1642 : IVec S16 32) (v1657 : IVec S16 32) : Prop :=
  (∀ (k0_h1 : k0_cond1 i k0_t2 = 1#1), ∀ a x, ((![v1657, v1642] : Fin 2 → IVec S16 32) a x).toNat < S160x142.size a)
theorem k0_idx1316_inb : ∀ (i : grid0.Coords) (k0_t2 : Fin k0_t2_loop.trips) (v1642 : IVec S16 32) (v1657 : IVec S16 32) (k0_hw820 : k0_chk820 i k0_t2 v1642 v1657), ∀ (k0_h1 : k0_cond1 i k0_t2 = 1#1), ∀ a x, ((![v1657, v1642] : Fin 2 → IVec S16 32) a x).toNat < S160x142.size a := fun i k0_t2 v1642 v1657 k0_hw820 k0_h1 => k0_hw820 k0_h1

def k0_chk821 (i : grid0.Coords) (k0_t2 : Fin k0_t2_loop.trips) (v1642 : IVec S16 32) (v1660 : IVec S16 32) : Prop :=
  (∀ (k0_h1 : k0_cond1 i k0_t2 = 1#1), ∀ a x, ((![v1660, v1642] : Fin 2 → IVec S16 32) a x).toNat < S160x142.size a)
theorem k0_idx1318_inb : ∀ (i : grid0.Coords) (k0_t2 : Fin k0_t2_loop.trips) (v1642 : IVec S16 32) (v1660 : IVec S16 32) (k0_hw821 : k0_chk821 i k0_t2 v1642 v1660), ∀ (k0_h1 : k0_cond1 i k0_t2 = 1#1), ∀ a x, ((![v1660, v1642] : Fin 2 → IVec S16 32) a x).toNat < S160x142.size a := fun i k0_t2 v1642 v1660 k0_hw821 k0_h1 => k0_hw821 k0_h1

def k0_chk822 (i : grid0.Coords) (k0_t2 : Fin k0_t2_loop.trips) (v1642 : IVec S16 32) (v1663 : IVec S16 32) : Prop :=
  (∀ (k0_h1 : k0_cond1 i k0_t2 = 1#1), ∀ a x, ((![v1663, v1642] : Fin 2 → IVec S16 32) a x).toNat < S160x142.size a)
theorem k0_idx1320_inb : ∀ (i : grid0.Coords) (k0_t2 : Fin k0_t2_loop.trips) (v1642 : IVec S16 32) (v1663 : IVec S16 32) (k0_hw822 : k0_chk822 i k0_t2 v1642 v1663), ∀ (k0_h1 : k0_cond1 i k0_t2 = 1#1), ∀ a x, ((![v1663, v1642] : Fin 2 → IVec S16 32) a x).toNat < S160x142.size a := fun i k0_t2 v1642 v1663 k0_hw822 k0_h1 => k0_hw822 k0_h1

def k0_chk823 (i : grid0.Coords) (k0_t2 : Fin k0_t2_loop.trips) (v1642 : IVec S16 32) (v1666 : IVec S16 32) : Prop :=
  (∀ (k0_h1 : k0_cond1 i k0_t2 = 1#1), ∀ a x, ((![v1666, v1642] : Fin 2 → IVec S16 32) a x).toNat < S160x142.size a)
theorem k0_idx1322_inb : ∀ (i : grid0.Coords) (k0_t2 : Fin k0_t2_loop.trips) (v1642 : IVec S16 32) (v1666 : IVec S16 32) (k0_hw823 : k0_chk823 i k0_t2 v1642 v1666), ∀ (k0_h1 : k0_cond1 i k0_t2 = 1#1), ∀ a x, ((![v1666, v1642] : Fin 2 → IVec S16 32) a x).toNat < S160x142.size a := fun i k0_t2 v1642 v1666 k0_hw823 k0_h1 => k0_hw823 k0_h1

def k0_chk824 (i : grid0.Coords) (k0_t2 : Fin k0_t2_loop.trips) (v1642 : IVec S16 32) (v1669 : IVec S16 32) : Prop :=
  (∀ (k0_h1 : k0_cond1 i k0_t2 = 1#1), ∀ a x, ((![v1669, v1642] : Fin 2 → IVec S16 32) a x).toNat < S160x142.size a)
theorem k0_idx1324_inb : ∀ (i : grid0.Coords) (k0_t2 : Fin k0_t2_loop.trips) (v1642 : IVec S16 32) (v1669 : IVec S16 32) (k0_hw824 : k0_chk824 i k0_t2 v1642 v1669), ∀ (k0_h1 : k0_cond1 i k0_t2 = 1#1), ∀ a x, ((![v1669, v1642] : Fin 2 → IVec S16 32) a x).toNat < S160x142.size a := fun i k0_t2 v1642 v1669 k0_hw824 k0_h1 => k0_hw824 k0_h1

def k0_chk815 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) : Prop :=
  (∀ (k0_h1 : k0_cond1 i k0_t2 = 1#1), ∀ a x, ((![v15, v1642] : Fin 2 → IVec S16 32) a x).toNat < S256x142.size a) ∧
  (∀ (k0_h1 : k0_cond1 i k0_t2 = 1#1), ∀ a x, ((![v20, v1642] : Fin 2 → IVec S16 32) a x).toNat < S256x142.size a) ∧
  (∀ (k0_h1 : k0_cond1 i k0_t2 = 1#1), ∀ a x, ((![v25, v1642] : Fin 2 → IVec S16 32) a x).toNat < S256x142.size a) ∧
  (∀ (k0_h1 : k0_cond1 i k0_t2 = 1#1), ∀ a x, ((![v30, v1642] : Fin 2 → IVec S16 32) a x).toNat < S256x142.size a) ∧
  (∀ (k0_h1 : k0_cond1 i k0_t2 = 1#1), ∀ a x, ((![v35, v1642] : Fin 2 → IVec S16 32) a x).toNat < S256x142.size a) ∧
  (∀ (k0_h1 : k0_cond1 i k0_t2 = 1#1), ∀ a x, ((![v40, v1642] : Fin 2 → IVec S16 32) a x).toNat < S256x142.size a) ∧
  (∀ (k0_h1 : k0_cond1 i k0_t2 = 1#1), ∀ a x, ((![v45, v1642] : Fin 2 → IVec S16 32) a x).toNat < S256x142.size a) ∧
  (∀ (k0_h1 : k0_cond1 i k0_t2 = 1#1), ∀ a x, ((![v50, v1642] : Fin 2 → IVec S16 32) a x).toNat < S256x142.size a) ∧
  (∀ (k0_h1 : k0_cond1 i k0_t2 = 1#1), ∀ a x, ((![v55, v1642] : Fin 2 → IVec S16 32) a x).toNat < S256x142.size a) ∧
  (∀ (k0_h1 : k0_cond1 i k0_t2 = 1#1), ∀ a x, ((![v60, v1642] : Fin 2 → IVec S16 32) a x).toNat < S256x142.size a)
theorem k0_idx1307_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v15, v1642] : Fin 2 → IVec S16 32) a x).toNat < S256x142.size a := fun i k0_t2 v15 v20 v25 v30 v35 v40 v45 v50 v55 v60 v1642 k0_hw815 k0_h1 => k0_hw815.1 k0_h1
theorem k0_idx1309_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v20, v1642] : Fin 2 → IVec S16 32) a x).toNat < S256x142.size a := fun i k0_t2 v15 v20 v25 v30 v35 v40 v45 v50 v55 v60 v1642 k0_hw815 k0_h1 => k0_hw815.2.1 k0_h1
theorem k0_idx1311_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v25, v1642] : Fin 2 → IVec S16 32) a x).toNat < S256x142.size a := fun i k0_t2 v15 v20 v25 v30 v35 v40 v45 v50 v55 v60 v1642 k0_hw815 k0_h1 => k0_hw815.2.2.1 k0_h1
theorem k0_idx1313_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v30, v1642] : Fin 2 → IVec S16 32) a x).toNat < S256x142.size a := fun i k0_t2 v15 v20 v25 v30 v35 v40 v45 v50 v55 v60 v1642 k0_hw815 k0_h1 => k0_hw815.2.2.2.1 k0_h1
theorem k0_idx1315_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v35, v1642] : Fin 2 → IVec S16 32) a x).toNat < S256x142.size a := fun i k0_t2 v15 v20 v25 v30 v35 v40 v45 v50 v55 v60 v1642 k0_hw815 k0_h1 => k0_hw815.2.2.2.2.1 k0_h1
theorem k0_idx1317_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v40, v1642] : Fin 2 → IVec S16 32) a x).toNat < S256x142.size a := fun i k0_t2 v15 v20 v25 v30 v35 v40 v45 v50 v55 v60 v1642 k0_hw815 k0_h1 => k0_hw815.2.2.2.2.2.1 k0_h1
theorem k0_idx1319_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v45, v1642] : Fin 2 → IVec S16 32) a x).toNat < S256x142.size a := fun i k0_t2 v15 v20 v25 v30 v35 v40 v45 v50 v55 v60 v1642 k0_hw815 k0_h1 => k0_hw815.2.2.2.2.2.2.1 k0_h1
theorem k0_idx1321_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v50, v1642] : Fin 2 → IVec S16 32) a x).toNat < S256x142.size a := fun i k0_t2 v15 v20 v25 v30 v35 v40 v45 v50 v55 v60 v1642 k0_hw815 k0_h1 => k0_hw815.2.2.2.2.2.2.2.1 k0_h1
theorem k0_idx1323_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v55, v1642] : Fin 2 → IVec S16 32) a x).toNat < S256x142.size a := fun i k0_t2 v15 v20 v25 v30 v35 v40 v45 v50 v55 v60 v1642 k0_hw815 k0_h1 => k0_hw815.2.2.2.2.2.2.2.2.1 k0_h1
theorem k0_idx1325_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1642 : IVec S16 32) (k0_hw815 : k0_chk815 i k0_t2 v15 v20 v25 v30 v35 v40 v45 v50 v55 v60 v1642), ∀ (k0_h1 : k0_cond1 i k0_t2 = 1#1), ∀ a x, ((![v60, v1642] : Fin 2 → IVec S16 32) a x).toNat < S256x142.size a := fun i k0_t2 v15 v20 v25 v30 v35 v40 v45 v50 v55 v60 v1642 k0_hw815 k0_h1 => k0_hw815.2.2.2.2.2.2.2.2.2 k0_h1

def k0_chk825 (i : grid0.Coords) (k0_t2 : Fin k0_t2_loop.trips) (v1642 : IVec S16 32) (v1672 : IVec S16 32) : Prop :=
  (∀ (k0_h1 : k0_cond1 i k0_t2 = 1#1), ∀ a x, ((![v1672, v1642] : Fin 2 → IVec S16 32) a x).toNat < S160x142.size a)
theorem k0_idx1326_inb : ∀ (i : grid0.Coords) (k0_t2 : Fin k0_t2_loop.trips) (v1642 : IVec S16 32) (v1672 : IVec S16 32) (k0_hw825 : k0_chk825 i k0_t2 v1642 v1672), ∀ (k0_h1 : k0_cond1 i k0_t2 = 1#1), ∀ a x, ((![v1672, v1642] : Fin 2 → IVec S16 32) a x).toNat < S160x142.size a := fun i k0_t2 v1642 v1672 k0_hw825 k0_h1 => k0_hw825 k0_h1

def k0_chk827 (i : grid0.Coords) (k0_t2 : Fin k0_t2_loop.trips) (v1673 : IVec S16 32) (v1676 : IVec S16 32) : Prop :=
  (∀ (k0_h1 : k0_cond1 i k0_t2 = 1#1), ∀ a x, ((![v1676, v1673] : Fin 2 → IVec S16 32) a x).toNat < S160x142.size a)
theorem k0_idx1328_inb : ∀ (i : grid0.Coords) (k0_t2 : Fin k0_t2_loop.trips) (v1673 : IVec S16 32) (v1676 : IVec S16 32) (k0_hw827 : k0_chk827 i k0_t2 v1673 v1676), ∀ (k0_h1 : k0_cond1 i k0_t2 = 1#1), ∀ a x, ((![v1676, v1673] : Fin 2 → IVec S16 32) a x).toNat < S160x142.size a := fun i k0_t2 v1673 v1676 k0_hw827 k0_h1 => k0_hw827 k0_h1

def k0_chk828 (i : grid0.Coords) (k0_t2 : Fin k0_t2_loop.trips) (v1673 : IVec S16 32) (v1679 : IVec S16 32) : Prop :=
  (∀ (k0_h1 : k0_cond1 i k0_t2 = 1#1), ∀ a x, ((![v1679, v1673] : Fin 2 → IVec S16 32) a x).toNat < S160x142.size a)
theorem k0_idx1330_inb : ∀ (i : grid0.Coords) (k0_t2 : Fin k0_t2_loop.trips) (v1673 : IVec S16 32) (v1679 : IVec S16 32) (k0_hw828 : k0_chk828 i k0_t2 v1673 v1679), ∀ (k0_h1 : k0_cond1 i k0_t2 = 1#1), ∀ a x, ((![v1679, v1673] : Fin 2 → IVec S16 32) a x).toNat < S160x142.size a := fun i k0_t2 v1673 v1679 k0_hw828 k0_h1 => k0_hw828 k0_h1

def k0_chk829 (i : grid0.Coords) (k0_t2 : Fin k0_t2_loop.trips) (v1673 : IVec S16 32) (v1682 : IVec S16 32) : Prop :=
  (∀ (k0_h1 : k0_cond1 i k0_t2 = 1#1), ∀ a x, ((![v1682, v1673] : Fin 2 → IVec S16 32) a x).toNat < S160x142.size a)
theorem k0_idx1332_inb : ∀ (i : grid0.Coords) (k0_t2 : Fin k0_t2_loop.trips) (v1673 : IVec S16 32) (v1682 : IVec S16 32) (k0_hw829 : k0_chk829 i k0_t2 v1673 v1682), ∀ (k0_h1 : k0_cond1 i k0_t2 = 1#1), ∀ a x, ((![v1682, v1673] : Fin 2 → IVec S16 32) a x).toNat < S160x142.size a := fun i k0_t2 v1673 v1682 k0_hw829 k0_h1 => k0_hw829 k0_h1

def k0_chk830 (i : grid0.Coords) (k0_t2 : Fin k0_t2_loop.trips) (v1673 : IVec S16 32) (v1685 : IVec S16 32) : Prop :=
  (∀ (k0_h1 : k0_cond1 i k0_t2 = 1#1), ∀ a x, ((![v1685, v1673] : Fin 2 → IVec S16 32) a x).toNat < S160x142.size a)
theorem k0_idx1334_inb : ∀ (i : grid0.Coords) (k0_t2 : Fin k0_t2_loop.trips) (v1673 : IVec S16 32) (v1685 : IVec S16 32) (k0_hw830 : k0_chk830 i k0_t2 v1673 v1685), ∀ (k0_h1 : k0_cond1 i k0_t2 = 1#1), ∀ a x, ((![v1685, v1673] : Fin 2 → IVec S16 32) a x).toNat < S160x142.size a := fun i k0_t2 v1673 v1685 k0_hw830 k0_h1 => k0_hw830 k0_h1

def k0_chk831 (i : grid0.Coords) (k0_t2 : Fin k0_t2_loop.trips) (v1673 : IVec S16 32) (v1688 : IVec S16 32) : Prop :=
  (∀ (k0_h1 : k0_cond1 i k0_t2 = 1#1), ∀ a x, ((![v1688, v1673] : Fin 2 → IVec S16 32) a x).toNat < S160x142.size a)
theorem k0_idx1336_inb : ∀ (i : grid0.Coords) (k0_t2 : Fin k0_t2_loop.trips) (v1673 : IVec S16 32) (v1688 : IVec S16 32) (k0_hw831 : k0_chk831 i k0_t2 v1673 v1688), ∀ (k0_h1 : k0_cond1 i k0_t2 = 1#1), ∀ a x, ((![v1688, v1673] : Fin 2 → IVec S16 32) a x).toNat < S160x142.size a := fun i k0_t2 v1673 v1688 k0_hw831 k0_h1 => k0_hw831 k0_h1

def k0_chk832 (i : grid0.Coords) (k0_t2 : Fin k0_t2_loop.trips) (v1673 : IVec S16 32) (v1691 : IVec S16 32) : Prop :=
  (∀ (k0_h1 : k0_cond1 i k0_t2 = 1#1), ∀ a x, ((![v1691, v1673] : Fin 2 → IVec S16 32) a x).toNat < S160x142.size a)
theorem k0_idx1338_inb : ∀ (i : grid0.Coords) (k0_t2 : Fin k0_t2_loop.trips) (v1673 : IVec S16 32) (v1691 : IVec S16 32) (k0_hw832 : k0_chk832 i k0_t2 v1673 v1691), ∀ (k0_h1 : k0_cond1 i k0_t2 = 1#1), ∀ a x, ((![v1691, v1673] : Fin 2 → IVec S16 32) a x).toNat < S160x142.size a := fun i k0_t2 v1673 v1691 k0_hw832 k0_h1 => k0_hw832 k0_h1

def k0_chk833 (i : grid0.Coords) (k0_t2 : Fin k0_t2_loop.trips) (v1673 : IVec S16 32) (v1694 : IVec S16 32) : Prop :=
  (∀ (k0_h1 : k0_cond1 i k0_t2 = 1#1), ∀ a x, ((![v1694, v1673] : Fin 2 → IVec S16 32) a x).toNat < S160x142.size a)
theorem k0_idx1340_inb : ∀ (i : grid0.Coords) (k0_t2 : Fin k0_t2_loop.trips) (v1673 : IVec S16 32) (v1694 : IVec S16 32) (k0_hw833 : k0_chk833 i k0_t2 v1673 v1694), ∀ (k0_h1 : k0_cond1 i k0_t2 = 1#1), ∀ a x, ((![v1694, v1673] : Fin 2 → IVec S16 32) a x).toNat < S160x142.size a := fun i k0_t2 v1673 v1694 k0_hw833 k0_h1 => k0_hw833 k0_h1

def k0_chk834 (i : grid0.Coords) (k0_t2 : Fin k0_t2_loop.trips) (v1673 : IVec S16 32) (v1697 : IVec S16 32) : Prop :=
  (∀ (k0_h1 : k0_cond1 i k0_t2 = 1#1), ∀ a x, ((![v1697, v1673] : Fin 2 → IVec S16 32) a x).toNat < S160x142.size a)
theorem k0_idx1342_inb : ∀ (i : grid0.Coords) (k0_t2 : Fin k0_t2_loop.trips) (v1673 : IVec S16 32) (v1697 : IVec S16 32) (k0_hw834 : k0_chk834 i k0_t2 v1673 v1697), ∀ (k0_h1 : k0_cond1 i k0_t2 = 1#1), ∀ a x, ((![v1697, v1673] : Fin 2 → IVec S16 32) a x).toNat < S160x142.size a := fun i k0_t2 v1673 v1697 k0_hw834 k0_h1 => k0_hw834 k0_h1

def k0_chk835 (i : grid0.Coords) (k0_t2 : Fin k0_t2_loop.trips) (v1673 : IVec S16 32) (v1700 : IVec S16 32) : Prop :=
  (∀ (k0_h1 : k0_cond1 i k0_t2 = 1#1), ∀ a x, ((![v1700, v1673] : Fin 2 → IVec S16 32) a x).toNat < S160x142.size a)
theorem k0_idx1344_inb : ∀ (i : grid0.Coords) (k0_t2 : Fin k0_t2_loop.trips) (v1673 : IVec S16 32) (v1700 : IVec S16 32) (k0_hw835 : k0_chk835 i k0_t2 v1673 v1700), ∀ (k0_h1 : k0_cond1 i k0_t2 = 1#1), ∀ a x, ((![v1700, v1673] : Fin 2 → IVec S16 32) a x).toNat < S160x142.size a := fun i k0_t2 v1673 v1700 k0_hw835 k0_h1 => k0_hw835 k0_h1

def k0_chk826 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) : Prop :=
  (∀ (k0_h1 : k0_cond1 i k0_t2 = 1#1), ∀ a x, ((![v15, v1673] : Fin 2 → IVec S16 32) a x).toNat < S256x142.size a) ∧
  (∀ (k0_h1 : k0_cond1 i k0_t2 = 1#1), ∀ a x, ((![v20, v1673] : Fin 2 → IVec S16 32) a x).toNat < S256x142.size a) ∧
  (∀ (k0_h1 : k0_cond1 i k0_t2 = 1#1), ∀ a x, ((![v25, v1673] : Fin 2 → IVec S16 32) a x).toNat < S256x142.size a) ∧
  (∀ (k0_h1 : k0_cond1 i k0_t2 = 1#1), ∀ a x, ((![v30, v1673] : Fin 2 → IVec S16 32) a x).toNat < S256x142.size a) ∧
  (∀ (k0_h1 : k0_cond1 i k0_t2 = 1#1), ∀ a x, ((![v35, v1673] : Fin 2 → IVec S16 32) a x).toNat < S256x142.size a) ∧
  (∀ (k0_h1 : k0_cond1 i k0_t2 = 1#1), ∀ a x, ((![v40, v1673] : Fin 2 → IVec S16 32) a x).toNat < S256x142.size a) ∧
  (∀ (k0_h1 : k0_cond1 i k0_t2 = 1#1), ∀ a x, ((![v45, v1673] : Fin 2 → IVec S16 32) a x).toNat < S256x142.size a) ∧
  (∀ (k0_h1 : k0_cond1 i k0_t2 = 1#1), ∀ a x, ((![v50, v1673] : Fin 2 → IVec S16 32) a x).toNat < S256x142.size a) ∧
  (∀ (k0_h1 : k0_cond1 i k0_t2 = 1#1), ∀ a x, ((![v55, v1673] : Fin 2 → IVec S16 32) a x).toNat < S256x142.size a) ∧
  (∀ (k0_h1 : k0_cond1 i k0_t2 = 1#1), ∀ a x, ((![v60, v1673] : Fin 2 → IVec S16 32) a x).toNat < S256x142.size a)
theorem k0_idx1327_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v15, v1673] : Fin 2 → IVec S16 32) a x).toNat < S256x142.size a := fun i k0_t2 v15 v20 v25 v30 v35 v40 v45 v50 v55 v60 v1673 k0_hw826 k0_h1 => k0_hw826.1 k0_h1
theorem k0_idx1329_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v20, v1673] : Fin 2 → IVec S16 32) a x).toNat < S256x142.size a := fun i k0_t2 v15 v20 v25 v30 v35 v40 v45 v50 v55 v60 v1673 k0_hw826 k0_h1 => k0_hw826.2.1 k0_h1
theorem k0_idx1331_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v25, v1673] : Fin 2 → IVec S16 32) a x).toNat < S256x142.size a := fun i k0_t2 v15 v20 v25 v30 v35 v40 v45 v50 v55 v60 v1673 k0_hw826 k0_h1 => k0_hw826.2.2.1 k0_h1
theorem k0_idx1333_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v30, v1673] : Fin 2 → IVec S16 32) a x).toNat < S256x142.size a := fun i k0_t2 v15 v20 v25 v30 v35 v40 v45 v50 v55 v60 v1673 k0_hw826 k0_h1 => k0_hw826.2.2.2.1 k0_h1
theorem k0_idx1335_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v35, v1673] : Fin 2 → IVec S16 32) a x).toNat < S256x142.size a := fun i k0_t2 v15 v20 v25 v30 v35 v40 v45 v50 v55 v60 v1673 k0_hw826 k0_h1 => k0_hw826.2.2.2.2.1 k0_h1
theorem k0_idx1337_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v40, v1673] : Fin 2 → IVec S16 32) a x).toNat < S256x142.size a := fun i k0_t2 v15 v20 v25 v30 v35 v40 v45 v50 v55 v60 v1673 k0_hw826 k0_h1 => k0_hw826.2.2.2.2.2.1 k0_h1
theorem k0_idx1339_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v45, v1673] : Fin 2 → IVec S16 32) a x).toNat < S256x142.size a := fun i k0_t2 v15 v20 v25 v30 v35 v40 v45 v50 v55 v60 v1673 k0_hw826 k0_h1 => k0_hw826.2.2.2.2.2.2.1 k0_h1
theorem k0_idx1341_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v50, v1673] : Fin 2 → IVec S16 32) a x).toNat < S256x142.size a := fun i k0_t2 v15 v20 v25 v30 v35 v40 v45 v50 v55 v60 v1673 k0_hw826 k0_h1 => k0_hw826.2.2.2.2.2.2.2.1 k0_h1
theorem k0_idx1343_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v55, v1673] : Fin 2 → IVec S16 32) a x).toNat < S256x142.size a := fun i k0_t2 v15 v20 v25 v30 v35 v40 v45 v50 v55 v60 v1673 k0_hw826 k0_h1 => k0_hw826.2.2.2.2.2.2.2.2.1 k0_h1
theorem k0_idx1345_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1673 : IVec S16 32) (k0_hw826 : k0_chk826 i k0_t2 v15 v20 v25 v30 v35 v40 v45 v50 v55 v60 v1673), ∀ (k0_h1 : k0_cond1 i k0_t2 = 1#1), ∀ a x, ((![v60, v1673] : Fin 2 → IVec S16 32) a x).toNat < S256x142.size a := fun i k0_t2 v15 v20 v25 v30 v35 v40 v45 v50 v55 v60 v1673 k0_hw826 k0_h1 => k0_hw826.2.2.2.2.2.2.2.2.2 k0_h1

def k0_chk836 (i : grid0.Coords) (k0_t2 : Fin k0_t2_loop.trips) (v1673 : IVec S16 32) (v1703 : IVec S16 32) : Prop :=
  (∀ (k0_h1 : k0_cond1 i k0_t2 = 1#1), ∀ a x, ((![v1703, v1673] : Fin 2 → IVec S16 32) a x).toNat < S160x142.size a)
theorem k0_idx1346_inb : ∀ (i : grid0.Coords) (k0_t2 : Fin k0_t2_loop.trips) (v1673 : IVec S16 32) (v1703 : IVec S16 32) (k0_hw836 : k0_chk836 i k0_t2 v1673 v1703), ∀ (k0_h1 : k0_cond1 i k0_t2 = 1#1), ∀ a x, ((![v1703, v1673] : Fin 2 → IVec S16 32) a x).toNat < S160x142.size a := fun i k0_t2 v1673 v1703 k0_hw836 k0_h1 => k0_hw836 k0_h1

def k0_chk838 (i : grid0.Coords) (k0_t2 : Fin k0_t2_loop.trips) (v1704 : IVec S16 32) (v1707 : IVec S16 32) : Prop :=
  (∀ (k0_h1 : k0_cond1 i k0_t2 = 1#1), ∀ a x, ((![v1707, v1704] : Fin 2 → IVec S16 32) a x).toNat < S160x142.size a)
theorem k0_idx1348_inb : ∀ (i : grid0.Coords) (k0_t2 : Fin k0_t2_loop.trips) (v1704 : IVec S16 32) (v1707 : IVec S16 32) (k0_hw838 : k0_chk838 i k0_t2 v1704 v1707), ∀ (k0_h1 : k0_cond1 i k0_t2 = 1#1), ∀ a x, ((![v1707, v1704] : Fin 2 → IVec S16 32) a x).toNat < S160x142.size a := fun i k0_t2 v1704 v1707 k0_hw838 k0_h1 => k0_hw838 k0_h1

def k0_chk839 (i : grid0.Coords) (k0_t2 : Fin k0_t2_loop.trips) (v1704 : IVec S16 32) (v1710 : IVec S16 32) : Prop :=
  (∀ (k0_h1 : k0_cond1 i k0_t2 = 1#1), ∀ a x, ((![v1710, v1704] : Fin 2 → IVec S16 32) a x).toNat < S160x142.size a)
theorem k0_idx1350_inb : ∀ (i : grid0.Coords) (k0_t2 : Fin k0_t2_loop.trips) (v1704 : IVec S16 32) (v1710 : IVec S16 32) (k0_hw839 : k0_chk839 i k0_t2 v1704 v1710), ∀ (k0_h1 : k0_cond1 i k0_t2 = 1#1), ∀ a x, ((![v1710, v1704] : Fin 2 → IVec S16 32) a x).toNat < S160x142.size a := fun i k0_t2 v1704 v1710 k0_hw839 k0_h1 => k0_hw839 k0_h1

def k0_chk840 (i : grid0.Coords) (k0_t2 : Fin k0_t2_loop.trips) (v1704 : IVec S16 32) (v1713 : IVec S16 32) : Prop :=
  (∀ (k0_h1 : k0_cond1 i k0_t2 = 1#1), ∀ a x, ((![v1713, v1704] : Fin 2 → IVec S16 32) a x).toNat < S160x142.size a)
theorem k0_idx1352_inb : ∀ (i : grid0.Coords) (k0_t2 : Fin k0_t2_loop.trips) (v1704 : IVec S16 32) (v1713 : IVec S16 32) (k0_hw840 : k0_chk840 i k0_t2 v1704 v1713), ∀ (k0_h1 : k0_cond1 i k0_t2 = 1#1), ∀ a x, ((![v1713, v1704] : Fin 2 → IVec S16 32) a x).toNat < S160x142.size a := fun i k0_t2 v1704 v1713 k0_hw840 k0_h1 => k0_hw840 k0_h1

def k0_chk841 (i : grid0.Coords) (k0_t2 : Fin k0_t2_loop.trips) (v1704 : IVec S16 32) (v1716 : IVec S16 32) : Prop :=
  (∀ (k0_h1 : k0_cond1 i k0_t2 = 1#1), ∀ a x, ((![v1716, v1704] : Fin 2 → IVec S16 32) a x).toNat < S160x142.size a)
theorem k0_idx1354_inb : ∀ (i : grid0.Coords) (k0_t2 : Fin k0_t2_loop.trips) (v1704 : IVec S16 32) (v1716 : IVec S16 32) (k0_hw841 : k0_chk841 i k0_t2 v1704 v1716), ∀ (k0_h1 : k0_cond1 i k0_t2 = 1#1), ∀ a x, ((![v1716, v1704] : Fin 2 → IVec S16 32) a x).toNat < S160x142.size a := fun i k0_t2 v1704 v1716 k0_hw841 k0_h1 => k0_hw841 k0_h1

def k0_chk842 (i : grid0.Coords) (k0_t2 : Fin k0_t2_loop.trips) (v1704 : IVec S16 32) (v1719 : IVec S16 32) : Prop :=
  (∀ (k0_h1 : k0_cond1 i k0_t2 = 1#1), ∀ a x, ((![v1719, v1704] : Fin 2 → IVec S16 32) a x).toNat < S160x142.size a)
theorem k0_idx1356_inb : ∀ (i : grid0.Coords) (k0_t2 : Fin k0_t2_loop.trips) (v1704 : IVec S16 32) (v1719 : IVec S16 32) (k0_hw842 : k0_chk842 i k0_t2 v1704 v1719), ∀ (k0_h1 : k0_cond1 i k0_t2 = 1#1), ∀ a x, ((![v1719, v1704] : Fin 2 → IVec S16 32) a x).toNat < S160x142.size a := fun i k0_t2 v1704 v1719 k0_hw842 k0_h1 => k0_hw842 k0_h1

def k0_chk843 (i : grid0.Coords) (k0_t2 : Fin k0_t2_loop.trips) (v1704 : IVec S16 32) (v1722 : IVec S16 32) : Prop :=
  (∀ (k0_h1 : k0_cond1 i k0_t2 = 1#1), ∀ a x, ((![v1722, v1704] : Fin 2 → IVec S16 32) a x).toNat < S160x142.size a)
theorem k0_idx1358_inb : ∀ (i : grid0.Coords) (k0_t2 : Fin k0_t2_loop.trips) (v1704 : IVec S16 32) (v1722 : IVec S16 32) (k0_hw843 : k0_chk843 i k0_t2 v1704 v1722), ∀ (k0_h1 : k0_cond1 i k0_t2 = 1#1), ∀ a x, ((![v1722, v1704] : Fin 2 → IVec S16 32) a x).toNat < S160x142.size a := fun i k0_t2 v1704 v1722 k0_hw843 k0_h1 => k0_hw843 k0_h1

def k0_chk844 (i : grid0.Coords) (k0_t2 : Fin k0_t2_loop.trips) (v1704 : IVec S16 32) (v1725 : IVec S16 32) : Prop :=
  (∀ (k0_h1 : k0_cond1 i k0_t2 = 1#1), ∀ a x, ((![v1725, v1704] : Fin 2 → IVec S16 32) a x).toNat < S160x142.size a)
theorem k0_idx1360_inb : ∀ (i : grid0.Coords) (k0_t2 : Fin k0_t2_loop.trips) (v1704 : IVec S16 32) (v1725 : IVec S16 32) (k0_hw844 : k0_chk844 i k0_t2 v1704 v1725), ∀ (k0_h1 : k0_cond1 i k0_t2 = 1#1), ∀ a x, ((![v1725, v1704] : Fin 2 → IVec S16 32) a x).toNat < S160x142.size a := fun i k0_t2 v1704 v1725 k0_hw844 k0_h1 => k0_hw844 k0_h1

def k0_chk845 (i : grid0.Coords) (k0_t2 : Fin k0_t2_loop.trips) (v1704 : IVec S16 32) (v1728 : IVec S16 32) : Prop :=
  (∀ (k0_h1 : k0_cond1 i k0_t2 = 1#1), ∀ a x, ((![v1728, v1704] : Fin 2 → IVec S16 32) a x).toNat < S160x142.size a)
theorem k0_idx1362_inb : ∀ (i : grid0.Coords) (k0_t2 : Fin k0_t2_loop.trips) (v1704 : IVec S16 32) (v1728 : IVec S16 32) (k0_hw845 : k0_chk845 i k0_t2 v1704 v1728), ∀ (k0_h1 : k0_cond1 i k0_t2 = 1#1), ∀ a x, ((![v1728, v1704] : Fin 2 → IVec S16 32) a x).toNat < S160x142.size a := fun i k0_t2 v1704 v1728 k0_hw845 k0_h1 => k0_hw845 k0_h1

def k0_chk846 (i : grid0.Coords) (k0_t2 : Fin k0_t2_loop.trips) (v1704 : IVec S16 32) (v1731 : IVec S16 32) : Prop :=
  (∀ (k0_h1 : k0_cond1 i k0_t2 = 1#1), ∀ a x, ((![v1731, v1704] : Fin 2 → IVec S16 32) a x).toNat < S160x142.size a)
theorem k0_idx1364_inb : ∀ (i : grid0.Coords) (k0_t2 : Fin k0_t2_loop.trips) (v1704 : IVec S16 32) (v1731 : IVec S16 32) (k0_hw846 : k0_chk846 i k0_t2 v1704 v1731), ∀ (k0_h1 : k0_cond1 i k0_t2 = 1#1), ∀ a x, ((![v1731, v1704] : Fin 2 → IVec S16 32) a x).toNat < S160x142.size a := fun i k0_t2 v1704 v1731 k0_hw846 k0_h1 => k0_hw846 k0_h1

def k0_chk837 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) : Prop :=
  (∀ (k0_h1 : k0_cond1 i k0_t2 = 1#1), ∀ a x, ((![v15, v1704] : Fin 2 → IVec S16 32) a x).toNat < S256x142.size a) ∧
  (∀ (k0_h1 : k0_cond1 i k0_t2 = 1#1), ∀ a x, ((![v20, v1704] : Fin 2 → IVec S16 32) a x).toNat < S256x142.size a) ∧
  (∀ (k0_h1 : k0_cond1 i k0_t2 = 1#1), ∀ a x, ((![v25, v1704] : Fin 2 → IVec S16 32) a x).toNat < S256x142.size a) ∧
  (∀ (k0_h1 : k0_cond1 i k0_t2 = 1#1), ∀ a x, ((![v30, v1704] : Fin 2 → IVec S16 32) a x).toNat < S256x142.size a) ∧
  (∀ (k0_h1 : k0_cond1 i k0_t2 = 1#1), ∀ a x, ((![v35, v1704] : Fin 2 → IVec S16 32) a x).toNat < S256x142.size a) ∧
  (∀ (k0_h1 : k0_cond1 i k0_t2 = 1#1), ∀ a x, ((![v40, v1704] : Fin 2 → IVec S16 32) a x).toNat < S256x142.size a) ∧
  (∀ (k0_h1 : k0_cond1 i k0_t2 = 1#1), ∀ a x, ((![v45, v1704] : Fin 2 → IVec S16 32) a x).toNat < S256x142.size a) ∧
  (∀ (k0_h1 : k0_cond1 i k0_t2 = 1#1), ∀ a x, ((![v50, v1704] : Fin 2 → IVec S16 32) a x).toNat < S256x142.size a) ∧
  (∀ (k0_h1 : k0_cond1 i k0_t2 = 1#1), ∀ a x, ((![v55, v1704] : Fin 2 → IVec S16 32) a x).toNat < S256x142.size a) ∧
  (∀ (k0_h1 : k0_cond1 i k0_t2 = 1#1), ∀ a x, ((![v60, v1704] : Fin 2 → IVec S16 32) a x).toNat < S256x142.size a)
theorem k0_idx1347_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v15, v1704] : Fin 2 → IVec S16 32) a x).toNat < S256x142.size a := fun i k0_t2 v15 v20 v25 v30 v35 v40 v45 v50 v55 v60 v1704 k0_hw837 k0_h1 => k0_hw837.1 k0_h1
theorem k0_idx1349_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v20, v1704] : Fin 2 → IVec S16 32) a x).toNat < S256x142.size a := fun i k0_t2 v15 v20 v25 v30 v35 v40 v45 v50 v55 v60 v1704 k0_hw837 k0_h1 => k0_hw837.2.1 k0_h1
theorem k0_idx1351_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v25, v1704] : Fin 2 → IVec S16 32) a x).toNat < S256x142.size a := fun i k0_t2 v15 v20 v25 v30 v35 v40 v45 v50 v55 v60 v1704 k0_hw837 k0_h1 => k0_hw837.2.2.1 k0_h1
theorem k0_idx1353_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v30, v1704] : Fin 2 → IVec S16 32) a x).toNat < S256x142.size a := fun i k0_t2 v15 v20 v25 v30 v35 v40 v45 v50 v55 v60 v1704 k0_hw837 k0_h1 => k0_hw837.2.2.2.1 k0_h1
theorem k0_idx1355_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v35, v1704] : Fin 2 → IVec S16 32) a x).toNat < S256x142.size a := fun i k0_t2 v15 v20 v25 v30 v35 v40 v45 v50 v55 v60 v1704 k0_hw837 k0_h1 => k0_hw837.2.2.2.2.1 k0_h1
theorem k0_idx1357_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v40, v1704] : Fin 2 → IVec S16 32) a x).toNat < S256x142.size a := fun i k0_t2 v15 v20 v25 v30 v35 v40 v45 v50 v55 v60 v1704 k0_hw837 k0_h1 => k0_hw837.2.2.2.2.2.1 k0_h1
theorem k0_idx1359_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v45, v1704] : Fin 2 → IVec S16 32) a x).toNat < S256x142.size a := fun i k0_t2 v15 v20 v25 v30 v35 v40 v45 v50 v55 v60 v1704 k0_hw837 k0_h1 => k0_hw837.2.2.2.2.2.2.1 k0_h1
theorem k0_idx1361_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v50, v1704] : Fin 2 → IVec S16 32) a x).toNat < S256x142.size a := fun i k0_t2 v15 v20 v25 v30 v35 v40 v45 v50 v55 v60 v1704 k0_hw837 k0_h1 => k0_hw837.2.2.2.2.2.2.2.1 k0_h1
theorem k0_idx1363_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v55, v1704] : Fin 2 → IVec S16 32) a x).toNat < S256x142.size a := fun i k0_t2 v15 v20 v25 v30 v35 v40 v45 v50 v55 v60 v1704 k0_hw837 k0_h1 => k0_hw837.2.2.2.2.2.2.2.2.1 k0_h1
theorem k0_idx1365_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1704 : IVec S16 32) (k0_hw837 : k0_chk837 i k0_t2 v15 v20 v25 v30 v35 v40 v45 v50 v55 v60 v1704), ∀ (k0_h1 : k0_cond1 i k0_t2 = 1#1), ∀ a x, ((![v60, v1704] : Fin 2 → IVec S16 32) a x).toNat < S256x142.size a := fun i k0_t2 v15 v20 v25 v30 v35 v40 v45 v50 v55 v60 v1704 k0_hw837 k0_h1 => k0_hw837.2.2.2.2.2.2.2.2.2 k0_h1

def k0_chk847 (i : grid0.Coords) (k0_t2 : Fin k0_t2_loop.trips) (v1704 : IVec S16 32) (v1734 : IVec S16 32) : Prop :=
  (∀ (k0_h1 : k0_cond1 i k0_t2 = 1#1), ∀ a x, ((![v1734, v1704] : Fin 2 → IVec S16 32) a x).toNat < S160x142.size a)
theorem k0_idx1366_inb : ∀ (i : grid0.Coords) (k0_t2 : Fin k0_t2_loop.trips) (v1704 : IVec S16 32) (v1734 : IVec S16 32) (k0_hw847 : k0_chk847 i k0_t2 v1704 v1734), ∀ (k0_h1 : k0_cond1 i k0_t2 = 1#1), ∀ a x, ((![v1734, v1704] : Fin 2 → IVec S16 32) a x).toNat < S160x142.size a := fun i k0_t2 v1704 v1734 k0_hw847 k0_h1 => k0_hw847 k0_h1

def k0_chk849 (i : grid0.Coords) (k0_t2 : Fin k0_t2_loop.trips) (v1735 : IVec S16 32) (v1738 : IVec S16 32) : Prop :=
  (∀ (k0_h1 : k0_cond1 i k0_t2 = 1#1), ∀ a x, ((![v1738, v1735] : Fin 2 → IVec S16 32) a x).toNat < S160x142.size a)
theorem k0_idx1368_inb : ∀ (i : grid0.Coords) (k0_t2 : Fin k0_t2_loop.trips) (v1735 : IVec S16 32) (v1738 : IVec S16 32) (k0_hw849 : k0_chk849 i k0_t2 v1735 v1738), ∀ (k0_h1 : k0_cond1 i k0_t2 = 1#1), ∀ a x, ((![v1738, v1735] : Fin 2 → IVec S16 32) a x).toNat < S160x142.size a := fun i k0_t2 v1735 v1738 k0_hw849 k0_h1 => k0_hw849 k0_h1

def k0_chk850 (i : grid0.Coords) (k0_t2 : Fin k0_t2_loop.trips) (v1735 : IVec S16 32) (v1741 : IVec S16 32) : Prop :=
  (∀ (k0_h1 : k0_cond1 i k0_t2 = 1#1), ∀ a x, ((![v1741, v1735] : Fin 2 → IVec S16 32) a x).toNat < S160x142.size a)
theorem k0_idx1370_inb : ∀ (i : grid0.Coords) (k0_t2 : Fin k0_t2_loop.trips) (v1735 : IVec S16 32) (v1741 : IVec S16 32) (k0_hw850 : k0_chk850 i k0_t2 v1735 v1741), ∀ (k0_h1 : k0_cond1 i k0_t2 = 1#1), ∀ a x, ((![v1741, v1735] : Fin 2 → IVec S16 32) a x).toNat < S160x142.size a := fun i k0_t2 v1735 v1741 k0_hw850 k0_h1 => k0_hw850 k0_h1

def k0_chk851 (i : grid0.Coords) (k0_t2 : Fin k0_t2_loop.trips) (v1735 : IVec S16 32) (v1744 : IVec S16 32) : Prop :=
  (∀ (k0_h1 : k0_cond1 i k0_t2 = 1#1), ∀ a x, ((![v1744, v1735] : Fin 2 → IVec S16 32) a x).toNat < S160x142.size a)
theorem k0_idx1372_inb : ∀ (i : grid0.Coords) (k0_t2 : Fin k0_t2_loop.trips) (v1735 : IVec S16 32) (v1744 : IVec S16 32) (k0_hw851 : k0_chk851 i k0_t2 v1735 v1744), ∀ (k0_h1 : k0_cond1 i k0_t2 = 1#1), ∀ a x, ((![v1744, v1735] : Fin 2 → IVec S16 32) a x).toNat < S160x142.size a := fun i k0_t2 v1735 v1744 k0_hw851 k0_h1 => k0_hw851 k0_h1

def k0_chk852 (i : grid0.Coords) (k0_t2 : Fin k0_t2_loop.trips) (v1735 : IVec S16 32) (v1747 : IVec S16 32) : Prop :=
  (∀ (k0_h1 : k0_cond1 i k0_t2 = 1#1), ∀ a x, ((![v1747, v1735] : Fin 2 → IVec S16 32) a x).toNat < S160x142.size a)
theorem k0_idx1374_inb : ∀ (i : grid0.Coords) (k0_t2 : Fin k0_t2_loop.trips) (v1735 : IVec S16 32) (v1747 : IVec S16 32) (k0_hw852 : k0_chk852 i k0_t2 v1735 v1747), ∀ (k0_h1 : k0_cond1 i k0_t2 = 1#1), ∀ a x, ((![v1747, v1735] : Fin 2 → IVec S16 32) a x).toNat < S160x142.size a := fun i k0_t2 v1735 v1747 k0_hw852 k0_h1 => k0_hw852 k0_h1

def k0_chk853 (i : grid0.Coords) (k0_t2 : Fin k0_t2_loop.trips) (v1735 : IVec S16 32) (v1750 : IVec S16 32) : Prop :=
  (∀ (k0_h1 : k0_cond1 i k0_t2 = 1#1), ∀ a x, ((![v1750, v1735] : Fin 2 → IVec S16 32) a x).toNat < S160x142.size a)
theorem k0_idx1376_inb : ∀ (i : grid0.Coords) (k0_t2 : Fin k0_t2_loop.trips) (v1735 : IVec S16 32) (v1750 : IVec S16 32) (k0_hw853 : k0_chk853 i k0_t2 v1735 v1750), ∀ (k0_h1 : k0_cond1 i k0_t2 = 1#1), ∀ a x, ((![v1750, v1735] : Fin 2 → IVec S16 32) a x).toNat < S160x142.size a := fun i k0_t2 v1735 v1750 k0_hw853 k0_h1 => k0_hw853 k0_h1

def k0_chk854 (i : grid0.Coords) (k0_t2 : Fin k0_t2_loop.trips) (v1735 : IVec S16 32) (v1753 : IVec S16 32) : Prop :=
  (∀ (k0_h1 : k0_cond1 i k0_t2 = 1#1), ∀ a x, ((![v1753, v1735] : Fin 2 → IVec S16 32) a x).toNat < S160x142.size a)
theorem k0_idx1378_inb : ∀ (i : grid0.Coords) (k0_t2 : Fin k0_t2_loop.trips) (v1735 : IVec S16 32) (v1753 : IVec S16 32) (k0_hw854 : k0_chk854 i k0_t2 v1735 v1753), ∀ (k0_h1 : k0_cond1 i k0_t2 = 1#1), ∀ a x, ((![v1753, v1735] : Fin 2 → IVec S16 32) a x).toNat < S160x142.size a := fun i k0_t2 v1735 v1753 k0_hw854 k0_h1 => k0_hw854 k0_h1

def k0_chk855 (i : grid0.Coords) (k0_t2 : Fin k0_t2_loop.trips) (v1735 : IVec S16 32) (v1756 : IVec S16 32) : Prop :=
  (∀ (k0_h1 : k0_cond1 i k0_t2 = 1#1), ∀ a x, ((![v1756, v1735] : Fin 2 → IVec S16 32) a x).toNat < S160x142.size a)
theorem k0_idx1380_inb : ∀ (i : grid0.Coords) (k0_t2 : Fin k0_t2_loop.trips) (v1735 : IVec S16 32) (v1756 : IVec S16 32) (k0_hw855 : k0_chk855 i k0_t2 v1735 v1756), ∀ (k0_h1 : k0_cond1 i k0_t2 = 1#1), ∀ a x, ((![v1756, v1735] : Fin 2 → IVec S16 32) a x).toNat < S160x142.size a := fun i k0_t2 v1735 v1756 k0_hw855 k0_h1 => k0_hw855 k0_h1

def k0_chk856 (i : grid0.Coords) (k0_t2 : Fin k0_t2_loop.trips) (v1735 : IVec S16 32) (v1759 : IVec S16 32) : Prop :=
  (∀ (k0_h1 : k0_cond1 i k0_t2 = 1#1), ∀ a x, ((![v1759, v1735] : Fin 2 → IVec S16 32) a x).toNat < S160x142.size a)
theorem k0_idx1382_inb : ∀ (i : grid0.Coords) (k0_t2 : Fin k0_t2_loop.trips) (v1735 : IVec S16 32) (v1759 : IVec S16 32) (k0_hw856 : k0_chk856 i k0_t2 v1735 v1759), ∀ (k0_h1 : k0_cond1 i k0_t2 = 1#1), ∀ a x, ((![v1759, v1735] : Fin 2 → IVec S16 32) a x).toNat < S160x142.size a := fun i k0_t2 v1735 v1759 k0_hw856 k0_h1 => k0_hw856 k0_h1

def k0_chk857 (i : grid0.Coords) (k0_t2 : Fin k0_t2_loop.trips) (v1735 : IVec S16 32) (v1762 : IVec S16 32) : Prop :=
  (∀ (k0_h1 : k0_cond1 i k0_t2 = 1#1), ∀ a x, ((![v1762, v1735] : Fin 2 → IVec S16 32) a x).toNat < S160x142.size a)
theorem k0_idx1384_inb : ∀ (i : grid0.Coords) (k0_t2 : Fin k0_t2_loop.trips) (v1735 : IVec S16 32) (v1762 : IVec S16 32) (k0_hw857 : k0_chk857 i k0_t2 v1735 v1762), ∀ (k0_h1 : k0_cond1 i k0_t2 = 1#1), ∀ a x, ((![v1762, v1735] : Fin 2 → IVec S16 32) a x).toNat < S160x142.size a := fun i k0_t2 v1735 v1762 k0_hw857 k0_h1 => k0_hw857 k0_h1

def k0_chk848 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) : Prop :=
  (∀ (k0_h1 : k0_cond1 i k0_t2 = 1#1), ∀ a x, ((![v15, v1735] : Fin 2 → IVec S16 32) a x).toNat < S256x142.size a) ∧
  (∀ (k0_h1 : k0_cond1 i k0_t2 = 1#1), ∀ a x, ((![v20, v1735] : Fin 2 → IVec S16 32) a x).toNat < S256x142.size a) ∧
  (∀ (k0_h1 : k0_cond1 i k0_t2 = 1#1), ∀ a x, ((![v25, v1735] : Fin 2 → IVec S16 32) a x).toNat < S256x142.size a) ∧
  (∀ (k0_h1 : k0_cond1 i k0_t2 = 1#1), ∀ a x, ((![v30, v1735] : Fin 2 → IVec S16 32) a x).toNat < S256x142.size a) ∧
  (∀ (k0_h1 : k0_cond1 i k0_t2 = 1#1), ∀ a x, ((![v35, v1735] : Fin 2 → IVec S16 32) a x).toNat < S256x142.size a) ∧
  (∀ (k0_h1 : k0_cond1 i k0_t2 = 1#1), ∀ a x, ((![v40, v1735] : Fin 2 → IVec S16 32) a x).toNat < S256x142.size a) ∧
  (∀ (k0_h1 : k0_cond1 i k0_t2 = 1#1), ∀ a x, ((![v45, v1735] : Fin 2 → IVec S16 32) a x).toNat < S256x142.size a) ∧
  (∀ (k0_h1 : k0_cond1 i k0_t2 = 1#1), ∀ a x, ((![v50, v1735] : Fin 2 → IVec S16 32) a x).toNat < S256x142.size a) ∧
  (∀ (k0_h1 : k0_cond1 i k0_t2 = 1#1), ∀ a x, ((![v55, v1735] : Fin 2 → IVec S16 32) a x).toNat < S256x142.size a) ∧
  (∀ (k0_h1 : k0_cond1 i k0_t2 = 1#1), ∀ a x, ((![v60, v1735] : Fin 2 → IVec S16 32) a x).toNat < S256x142.size a)
theorem k0_idx1367_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v15, v1735] : Fin 2 → IVec S16 32) a x).toNat < S256x142.size a := fun i k0_t2 v15 v20 v25 v30 v35 v40 v45 v50 v55 v60 v1735 k0_hw848 k0_h1 => k0_hw848.1 k0_h1
theorem k0_idx1369_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v20, v1735] : Fin 2 → IVec S16 32) a x).toNat < S256x142.size a := fun i k0_t2 v15 v20 v25 v30 v35 v40 v45 v50 v55 v60 v1735 k0_hw848 k0_h1 => k0_hw848.2.1 k0_h1
theorem k0_idx1371_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v25, v1735] : Fin 2 → IVec S16 32) a x).toNat < S256x142.size a := fun i k0_t2 v15 v20 v25 v30 v35 v40 v45 v50 v55 v60 v1735 k0_hw848 k0_h1 => k0_hw848.2.2.1 k0_h1
theorem k0_idx1373_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v30, v1735] : Fin 2 → IVec S16 32) a x).toNat < S256x142.size a := fun i k0_t2 v15 v20 v25 v30 v35 v40 v45 v50 v55 v60 v1735 k0_hw848 k0_h1 => k0_hw848.2.2.2.1 k0_h1
theorem k0_idx1375_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v35, v1735] : Fin 2 → IVec S16 32) a x).toNat < S256x142.size a := fun i k0_t2 v15 v20 v25 v30 v35 v40 v45 v50 v55 v60 v1735 k0_hw848 k0_h1 => k0_hw848.2.2.2.2.1 k0_h1
theorem k0_idx1377_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v40, v1735] : Fin 2 → IVec S16 32) a x).toNat < S256x142.size a := fun i k0_t2 v15 v20 v25 v30 v35 v40 v45 v50 v55 v60 v1735 k0_hw848 k0_h1 => k0_hw848.2.2.2.2.2.1 k0_h1
theorem k0_idx1379_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v45, v1735] : Fin 2 → IVec S16 32) a x).toNat < S256x142.size a := fun i k0_t2 v15 v20 v25 v30 v35 v40 v45 v50 v55 v60 v1735 k0_hw848 k0_h1 => k0_hw848.2.2.2.2.2.2.1 k0_h1
theorem k0_idx1381_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v50, v1735] : Fin 2 → IVec S16 32) a x).toNat < S256x142.size a := fun i k0_t2 v15 v20 v25 v30 v35 v40 v45 v50 v55 v60 v1735 k0_hw848 k0_h1 => k0_hw848.2.2.2.2.2.2.2.1 k0_h1
theorem k0_idx1383_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v55, v1735] : Fin 2 → IVec S16 32) a x).toNat < S256x142.size a := fun i k0_t2 v15 v20 v25 v30 v35 v40 v45 v50 v55 v60 v1735 k0_hw848 k0_h1 => k0_hw848.2.2.2.2.2.2.2.2.1 k0_h1
theorem k0_idx1385_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1735 : IVec S16 32) (k0_hw848 : k0_chk848 i k0_t2 v15 v20 v25 v30 v35 v40 v45 v50 v55 v60 v1735), ∀ (k0_h1 : k0_cond1 i k0_t2 = 1#1), ∀ a x, ((![v60, v1735] : Fin 2 → IVec S16 32) a x).toNat < S256x142.size a := fun i k0_t2 v15 v20 v25 v30 v35 v40 v45 v50 v55 v60 v1735 k0_hw848 k0_h1 => k0_hw848.2.2.2.2.2.2.2.2.2 k0_h1

def k0_chk858 (i : grid0.Coords) (k0_t2 : Fin k0_t2_loop.trips) (v1735 : IVec S16 32) (v1765 : IVec S16 32) : Prop :=
  (∀ (k0_h1 : k0_cond1 i k0_t2 = 1#1), ∀ a x, ((![v1765, v1735] : Fin 2 → IVec S16 32) a x).toNat < S160x142.size a)
theorem k0_idx1386_inb : ∀ (i : grid0.Coords) (k0_t2 : Fin k0_t2_loop.trips) (v1735 : IVec S16 32) (v1765 : IVec S16 32) (k0_hw858 : k0_chk858 i k0_t2 v1735 v1765), ∀ (k0_h1 : k0_cond1 i k0_t2 = 1#1), ∀ a x, ((![v1765, v1735] : Fin 2 → IVec S16 32) a x).toNat < S160x142.size a := fun i k0_t2 v1735 v1765 k0_hw858 k0_h1 => k0_hw858 k0_h1

def k0_chk860 (i : grid0.Coords) (k0_t2 : Fin k0_t2_loop.trips) (v1766 : IVec S16 32) (v1769 : IVec S16 32) : Prop :=
  (∀ (k0_h1 : k0_cond1 i k0_t2 = 1#1), ∀ a x, ((![v1769, v1766] : Fin 2 → IVec S16 32) a x).toNat < S160x142.size a)
theorem k0_idx1388_inb : ∀ (i : grid0.Coords) (k0_t2 : Fin k0_t2_loop.trips) (v1766 : IVec S16 32) (v1769 : IVec S16 32) (k0_hw860 : k0_chk860 i k0_t2 v1766 v1769), ∀ (k0_h1 : k0_cond1 i k0_t2 = 1#1), ∀ a x, ((![v1769, v1766] : Fin 2 → IVec S16 32) a x).toNat < S160x142.size a := fun i k0_t2 v1766 v1769 k0_hw860 k0_h1 => k0_hw860 k0_h1

def k0_chk861 (i : grid0.Coords) (k0_t2 : Fin k0_t2_loop.trips) (v1766 : IVec S16 32) (v1772 : IVec S16 32) : Prop :=
  (∀ (k0_h1 : k0_cond1 i k0_t2 = 1#1), ∀ a x, ((![v1772, v1766] : Fin 2 → IVec S16 32) a x).toNat < S160x142.size a)
theorem k0_idx1390_inb : ∀ (i : grid0.Coords) (k0_t2 : Fin k0_t2_loop.trips) (v1766 : IVec S16 32) (v1772 : IVec S16 32) (k0_hw861 : k0_chk861 i k0_t2 v1766 v1772), ∀ (k0_h1 : k0_cond1 i k0_t2 = 1#1), ∀ a x, ((![v1772, v1766] : Fin 2 → IVec S16 32) a x).toNat < S160x142.size a := fun i k0_t2 v1766 v1772 k0_hw861 k0_h1 => k0_hw861 k0_h1

def k0_chk862 (i : grid0.Coords) (k0_t2 : Fin k0_t2_loop.trips) (v1766 : IVec S16 32) (v1775 : IVec S16 32) : Prop :=
  (∀ (k0_h1 : k0_cond1 i k0_t2 = 1#1), ∀ a x, ((![v1775, v1766] : Fin 2 → IVec S16 32) a x).toNat < S160x142.size a)
theorem k0_idx1392_inb : ∀ (i : grid0.Coords) (k0_t2 : Fin k0_t2_loop.trips) (v1766 : IVec S16 32) (v1775 : IVec S16 32) (k0_hw862 : k0_chk862 i k0_t2 v1766 v1775), ∀ (k0_h1 : k0_cond1 i k0_t2 = 1#1), ∀ a x, ((![v1775, v1766] : Fin 2 → IVec S16 32) a x).toNat < S160x142.size a := fun i k0_t2 v1766 v1775 k0_hw862 k0_h1 => k0_hw862 k0_h1

def k0_chk863 (i : grid0.Coords) (k0_t2 : Fin k0_t2_loop.trips) (v1766 : IVec S16 32) (v1778 : IVec S16 32) : Prop :=
  (∀ (k0_h1 : k0_cond1 i k0_t2 = 1#1), ∀ a x, ((![v1778, v1766] : Fin 2 → IVec S16 32) a x).toNat < S160x142.size a)
theorem k0_idx1394_inb : ∀ (i : grid0.Coords) (k0_t2 : Fin k0_t2_loop.trips) (v1766 : IVec S16 32) (v1778 : IVec S16 32) (k0_hw863 : k0_chk863 i k0_t2 v1766 v1778), ∀ (k0_h1 : k0_cond1 i k0_t2 = 1#1), ∀ a x, ((![v1778, v1766] : Fin 2 → IVec S16 32) a x).toNat < S160x142.size a := fun i k0_t2 v1766 v1778 k0_hw863 k0_h1 => k0_hw863 k0_h1

def k0_chk864 (i : grid0.Coords) (k0_t2 : Fin k0_t2_loop.trips) (v1766 : IVec S16 32) (v1781 : IVec S16 32) : Prop :=
  (∀ (k0_h1 : k0_cond1 i k0_t2 = 1#1), ∀ a x, ((![v1781, v1766] : Fin 2 → IVec S16 32) a x).toNat < S160x142.size a)
theorem k0_idx1396_inb : ∀ (i : grid0.Coords) (k0_t2 : Fin k0_t2_loop.trips) (v1766 : IVec S16 32) (v1781 : IVec S16 32) (k0_hw864 : k0_chk864 i k0_t2 v1766 v1781), ∀ (k0_h1 : k0_cond1 i k0_t2 = 1#1), ∀ a x, ((![v1781, v1766] : Fin 2 → IVec S16 32) a x).toNat < S160x142.size a := fun i k0_t2 v1766 v1781 k0_hw864 k0_h1 => k0_hw864 k0_h1

def k0_chk865 (i : grid0.Coords) (k0_t2 : Fin k0_t2_loop.trips) (v1766 : IVec S16 32) (v1784 : IVec S16 32) : Prop :=
  (∀ (k0_h1 : k0_cond1 i k0_t2 = 1#1), ∀ a x, ((![v1784, v1766] : Fin 2 → IVec S16 32) a x).toNat < S160x142.size a)
theorem k0_idx1398_inb : ∀ (i : grid0.Coords) (k0_t2 : Fin k0_t2_loop.trips) (v1766 : IVec S16 32) (v1784 : IVec S16 32) (k0_hw865 : k0_chk865 i k0_t2 v1766 v1784), ∀ (k0_h1 : k0_cond1 i k0_t2 = 1#1), ∀ a x, ((![v1784, v1766] : Fin 2 → IVec S16 32) a x).toNat < S160x142.size a := fun i k0_t2 v1766 v1784 k0_hw865 k0_h1 => k0_hw865 k0_h1

def k0_chk866 (i : grid0.Coords) (k0_t2 : Fin k0_t2_loop.trips) (v1766 : IVec S16 32) (v1787 : IVec S16 32) : Prop :=
  (∀ (k0_h1 : k0_cond1 i k0_t2 = 1#1), ∀ a x, ((![v1787, v1766] : Fin 2 → IVec S16 32) a x).toNat < S160x142.size a)
theorem k0_idx1400_inb : ∀ (i : grid0.Coords) (k0_t2 : Fin k0_t2_loop.trips) (v1766 : IVec S16 32) (v1787 : IVec S16 32) (k0_hw866 : k0_chk866 i k0_t2 v1766 v1787), ∀ (k0_h1 : k0_cond1 i k0_t2 = 1#1), ∀ a x, ((![v1787, v1766] : Fin 2 → IVec S16 32) a x).toNat < S160x142.size a := fun i k0_t2 v1766 v1787 k0_hw866 k0_h1 => k0_hw866 k0_h1

def k0_chk867 (i : grid0.Coords) (k0_t2 : Fin k0_t2_loop.trips) (v1766 : IVec S16 32) (v1790 : IVec S16 32) : Prop :=
  (∀ (k0_h1 : k0_cond1 i k0_t2 = 1#1), ∀ a x, ((![v1790, v1766] : Fin 2 → IVec S16 32) a x).toNat < S160x142.size a)
theorem k0_idx1402_inb : ∀ (i : grid0.Coords) (k0_t2 : Fin k0_t2_loop.trips) (v1766 : IVec S16 32) (v1790 : IVec S16 32) (k0_hw867 : k0_chk867 i k0_t2 v1766 v1790), ∀ (k0_h1 : k0_cond1 i k0_t2 = 1#1), ∀ a x, ((![v1790, v1766] : Fin 2 → IVec S16 32) a x).toNat < S160x142.size a := fun i k0_t2 v1766 v1790 k0_hw867 k0_h1 => k0_hw867 k0_h1

def k0_chk868 (i : grid0.Coords) (k0_t2 : Fin k0_t2_loop.trips) (v1766 : IVec S16 32) (v1793 : IVec S16 32) : Prop :=
  (∀ (k0_h1 : k0_cond1 i k0_t2 = 1#1), ∀ a x, ((![v1793, v1766] : Fin 2 → IVec S16 32) a x).toNat < S160x142.size a)
theorem k0_idx1404_inb : ∀ (i : grid0.Coords) (k0_t2 : Fin k0_t2_loop.trips) (v1766 : IVec S16 32) (v1793 : IVec S16 32) (k0_hw868 : k0_chk868 i k0_t2 v1766 v1793), ∀ (k0_h1 : k0_cond1 i k0_t2 = 1#1), ∀ a x, ((![v1793, v1766] : Fin 2 → IVec S16 32) a x).toNat < S160x142.size a := fun i k0_t2 v1766 v1793 k0_hw868 k0_h1 => k0_hw868 k0_h1

def k0_chk859 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) : Prop :=
  (∀ (k0_h1 : k0_cond1 i k0_t2 = 1#1), ∀ a x, ((![v15, v1766] : Fin 2 → IVec S16 32) a x).toNat < S256x142.size a) ∧
  (∀ (k0_h1 : k0_cond1 i k0_t2 = 1#1), ∀ a x, ((![v20, v1766] : Fin 2 → IVec S16 32) a x).toNat < S256x142.size a) ∧
  (∀ (k0_h1 : k0_cond1 i k0_t2 = 1#1), ∀ a x, ((![v25, v1766] : Fin 2 → IVec S16 32) a x).toNat < S256x142.size a) ∧
  (∀ (k0_h1 : k0_cond1 i k0_t2 = 1#1), ∀ a x, ((![v30, v1766] : Fin 2 → IVec S16 32) a x).toNat < S256x142.size a) ∧
  (∀ (k0_h1 : k0_cond1 i k0_t2 = 1#1), ∀ a x, ((![v35, v1766] : Fin 2 → IVec S16 32) a x).toNat < S256x142.size a) ∧
  (∀ (k0_h1 : k0_cond1 i k0_t2 = 1#1), ∀ a x, ((![v40, v1766] : Fin 2 → IVec S16 32) a x).toNat < S256x142.size a) ∧
  (∀ (k0_h1 : k0_cond1 i k0_t2 = 1#1), ∀ a x, ((![v45, v1766] : Fin 2 → IVec S16 32) a x).toNat < S256x142.size a) ∧
  (∀ (k0_h1 : k0_cond1 i k0_t2 = 1#1), ∀ a x, ((![v50, v1766] : Fin 2 → IVec S16 32) a x).toNat < S256x142.size a) ∧
  (∀ (k0_h1 : k0_cond1 i k0_t2 = 1#1), ∀ a x, ((![v55, v1766] : Fin 2 → IVec S16 32) a x).toNat < S256x142.size a) ∧
  (∀ (k0_h1 : k0_cond1 i k0_t2 = 1#1), ∀ a x, ((![v60, v1766] : Fin 2 → IVec S16 32) a x).toNat < S256x142.size a)
theorem k0_idx1387_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v15, v1766] : Fin 2 → IVec S16 32) a x).toNat < S256x142.size a := fun i k0_t2 v15 v20 v25 v30 v35 v40 v45 v50 v55 v60 v1766 k0_hw859 k0_h1 => k0_hw859.1 k0_h1
theorem k0_idx1389_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v20, v1766] : Fin 2 → IVec S16 32) a x).toNat < S256x142.size a := fun i k0_t2 v15 v20 v25 v30 v35 v40 v45 v50 v55 v60 v1766 k0_hw859 k0_h1 => k0_hw859.2.1 k0_h1
theorem k0_idx1391_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v25, v1766] : Fin 2 → IVec S16 32) a x).toNat < S256x142.size a := fun i k0_t2 v15 v20 v25 v30 v35 v40 v45 v50 v55 v60 v1766 k0_hw859 k0_h1 => k0_hw859.2.2.1 k0_h1
theorem k0_idx1393_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v30, v1766] : Fin 2 → IVec S16 32) a x).toNat < S256x142.size a := fun i k0_t2 v15 v20 v25 v30 v35 v40 v45 v50 v55 v60 v1766 k0_hw859 k0_h1 => k0_hw859.2.2.2.1 k0_h1
theorem k0_idx1395_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v35, v1766] : Fin 2 → IVec S16 32) a x).toNat < S256x142.size a := fun i k0_t2 v15 v20 v25 v30 v35 v40 v45 v50 v55 v60 v1766 k0_hw859 k0_h1 => k0_hw859.2.2.2.2.1 k0_h1
theorem k0_idx1397_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v40, v1766] : Fin 2 → IVec S16 32) a x).toNat < S256x142.size a := fun i k0_t2 v15 v20 v25 v30 v35 v40 v45 v50 v55 v60 v1766 k0_hw859 k0_h1 => k0_hw859.2.2.2.2.2.1 k0_h1
theorem k0_idx1399_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v45, v1766] : Fin 2 → IVec S16 32) a x).toNat < S256x142.size a := fun i k0_t2 v15 v20 v25 v30 v35 v40 v45 v50 v55 v60 v1766 k0_hw859 k0_h1 => k0_hw859.2.2.2.2.2.2.1 k0_h1
theorem k0_idx1401_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v50, v1766] : Fin 2 → IVec S16 32) a x).toNat < S256x142.size a := fun i k0_t2 v15 v20 v25 v30 v35 v40 v45 v50 v55 v60 v1766 k0_hw859 k0_h1 => k0_hw859.2.2.2.2.2.2.2.1 k0_h1
theorem k0_idx1403_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v55, v1766] : Fin 2 → IVec S16 32) a x).toNat < S256x142.size a := fun i k0_t2 v15 v20 v25 v30 v35 v40 v45 v50 v55 v60 v1766 k0_hw859 k0_h1 => k0_hw859.2.2.2.2.2.2.2.2.1 k0_h1
theorem k0_idx1405_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1766 : IVec S16 32) (k0_hw859 : k0_chk859 i k0_t2 v15 v20 v25 v30 v35 v40 v45 v50 v55 v60 v1766), ∀ (k0_h1 : k0_cond1 i k0_t2 = 1#1), ∀ a x, ((![v60, v1766] : Fin 2 → IVec S16 32) a x).toNat < S256x142.size a := fun i k0_t2 v15 v20 v25 v30 v35 v40 v45 v50 v55 v60 v1766 k0_hw859 k0_h1 => k0_hw859.2.2.2.2.2.2.2.2.2 k0_h1

def k0_chk869 (i : grid0.Coords) (k0_t2 : Fin k0_t2_loop.trips) (v1766 : IVec S16 32) (v1796 : IVec S16 32) : Prop :=
  (∀ (k0_h1 : k0_cond1 i k0_t2 = 1#1), ∀ a x, ((![v1796, v1766] : Fin 2 → IVec S16 32) a x).toNat < S160x142.size a)
theorem k0_idx1406_inb : ∀ (i : grid0.Coords) (k0_t2 : Fin k0_t2_loop.trips) (v1766 : IVec S16 32) (v1796 : IVec S16 32) (k0_hw869 : k0_chk869 i k0_t2 v1766 v1796), ∀ (k0_h1 : k0_cond1 i k0_t2 = 1#1), ∀ a x, ((![v1796, v1766] : Fin 2 → IVec S16 32) a x).toNat < S160x142.size a := fun i k0_t2 v1766 v1796 k0_hw869 k0_h1 => k0_hw869 k0_h1

def k0_chk871 (i : grid0.Coords) (k0_t2 : Fin k0_t2_loop.trips) (v1797 : IVec S16 32) (v1800 : IVec S16 32) : Prop :=
  (∀ (k0_h1 : k0_cond1 i k0_t2 = 1#1), ∀ a x, ((![v1800, v1797] : Fin 2 → IVec S16 32) a x).toNat < S160x142.size a)
theorem k0_idx1408_inb : ∀ (i : grid0.Coords) (k0_t2 : Fin k0_t2_loop.trips) (v1797 : IVec S16 32) (v1800 : IVec S16 32) (k0_hw871 : k0_chk871 i k0_t2 v1797 v1800), ∀ (k0_h1 : k0_cond1 i k0_t2 = 1#1), ∀ a x, ((![v1800, v1797] : Fin 2 → IVec S16 32) a x).toNat < S160x142.size a := fun i k0_t2 v1797 v1800 k0_hw871 k0_h1 => k0_hw871 k0_h1

def k0_chk872 (i : grid0.Coords) (k0_t2 : Fin k0_t2_loop.trips) (v1797 : IVec S16 32) (v1803 : IVec S16 32) : Prop :=
  (∀ (k0_h1 : k0_cond1 i k0_t2 = 1#1), ∀ a x, ((![v1803, v1797] : Fin 2 → IVec S16 32) a x).toNat < S160x142.size a)
theorem k0_idx1410_inb : ∀ (i : grid0.Coords) (k0_t2 : Fin k0_t2_loop.trips) (v1797 : IVec S16 32) (v1803 : IVec S16 32) (k0_hw872 : k0_chk872 i k0_t2 v1797 v1803), ∀ (k0_h1 : k0_cond1 i k0_t2 = 1#1), ∀ a x, ((![v1803, v1797] : Fin 2 → IVec S16 32) a x).toNat < S160x142.size a := fun i k0_t2 v1797 v1803 k0_hw872 k0_h1 => k0_hw872 k0_h1

def k0_chk873 (i : grid0.Coords) (k0_t2 : Fin k0_t2_loop.trips) (v1797 : IVec S16 32) (v1806 : IVec S16 32) : Prop :=
  (∀ (k0_h1 : k0_cond1 i k0_t2 = 1#1), ∀ a x, ((![v1806, v1797] : Fin 2 → IVec S16 32) a x).toNat < S160x142.size a)
theorem k0_idx1412_inb : ∀ (i : grid0.Coords) (k0_t2 : Fin k0_t2_loop.trips) (v1797 : IVec S16 32) (v1806 : IVec S16 32) (k0_hw873 : k0_chk873 i k0_t2 v1797 v1806), ∀ (k0_h1 : k0_cond1 i k0_t2 = 1#1), ∀ a x, ((![v1806, v1797] : Fin 2 → IVec S16 32) a x).toNat < S160x142.size a := fun i k0_t2 v1797 v1806 k0_hw873 k0_h1 => k0_hw873 k0_h1

def k0_chk874 (i : grid0.Coords) (k0_t2 : Fin k0_t2_loop.trips) (v1797 : IVec S16 32) (v1809 : IVec S16 32) : Prop :=
  (∀ (k0_h1 : k0_cond1 i k0_t2 = 1#1), ∀ a x, ((![v1809, v1797] : Fin 2 → IVec S16 32) a x).toNat < S160x142.size a)
theorem k0_idx1414_inb : ∀ (i : grid0.Coords) (k0_t2 : Fin k0_t2_loop.trips) (v1797 : IVec S16 32) (v1809 : IVec S16 32) (k0_hw874 : k0_chk874 i k0_t2 v1797 v1809), ∀ (k0_h1 : k0_cond1 i k0_t2 = 1#1), ∀ a x, ((![v1809, v1797] : Fin 2 → IVec S16 32) a x).toNat < S160x142.size a := fun i k0_t2 v1797 v1809 k0_hw874 k0_h1 => k0_hw874 k0_h1

def k0_chk875 (i : grid0.Coords) (k0_t2 : Fin k0_t2_loop.trips) (v1797 : IVec S16 32) (v1812 : IVec S16 32) : Prop :=
  (∀ (k0_h1 : k0_cond1 i k0_t2 = 1#1), ∀ a x, ((![v1812, v1797] : Fin 2 → IVec S16 32) a x).toNat < S160x142.size a)
theorem k0_idx1416_inb : ∀ (i : grid0.Coords) (k0_t2 : Fin k0_t2_loop.trips) (v1797 : IVec S16 32) (v1812 : IVec S16 32) (k0_hw875 : k0_chk875 i k0_t2 v1797 v1812), ∀ (k0_h1 : k0_cond1 i k0_t2 = 1#1), ∀ a x, ((![v1812, v1797] : Fin 2 → IVec S16 32) a x).toNat < S160x142.size a := fun i k0_t2 v1797 v1812 k0_hw875 k0_h1 => k0_hw875 k0_h1

def k0_chk876 (i : grid0.Coords) (k0_t2 : Fin k0_t2_loop.trips) (v1797 : IVec S16 32) (v1815 : IVec S16 32) : Prop :=
  (∀ (k0_h1 : k0_cond1 i k0_t2 = 1#1), ∀ a x, ((![v1815, v1797] : Fin 2 → IVec S16 32) a x).toNat < S160x142.size a)
theorem k0_idx1418_inb : ∀ (i : grid0.Coords) (k0_t2 : Fin k0_t2_loop.trips) (v1797 : IVec S16 32) (v1815 : IVec S16 32) (k0_hw876 : k0_chk876 i k0_t2 v1797 v1815), ∀ (k0_h1 : k0_cond1 i k0_t2 = 1#1), ∀ a x, ((![v1815, v1797] : Fin 2 → IVec S16 32) a x).toNat < S160x142.size a := fun i k0_t2 v1797 v1815 k0_hw876 k0_h1 => k0_hw876 k0_h1

def k0_chk877 (i : grid0.Coords) (k0_t2 : Fin k0_t2_loop.trips) (v1797 : IVec S16 32) (v1818 : IVec S16 32) : Prop :=
  (∀ (k0_h1 : k0_cond1 i k0_t2 = 1#1), ∀ a x, ((![v1818, v1797] : Fin 2 → IVec S16 32) a x).toNat < S160x142.size a)
theorem k0_idx1420_inb : ∀ (i : grid0.Coords) (k0_t2 : Fin k0_t2_loop.trips) (v1797 : IVec S16 32) (v1818 : IVec S16 32) (k0_hw877 : k0_chk877 i k0_t2 v1797 v1818), ∀ (k0_h1 : k0_cond1 i k0_t2 = 1#1), ∀ a x, ((![v1818, v1797] : Fin 2 → IVec S16 32) a x).toNat < S160x142.size a := fun i k0_t2 v1797 v1818 k0_hw877 k0_h1 => k0_hw877 k0_h1

def k0_chk878 (i : grid0.Coords) (k0_t2 : Fin k0_t2_loop.trips) (v1797 : IVec S16 32) (v1821 : IVec S16 32) : Prop :=
  (∀ (k0_h1 : k0_cond1 i k0_t2 = 1#1), ∀ a x, ((![v1821, v1797] : Fin 2 → IVec S16 32) a x).toNat < S160x142.size a)
theorem k0_idx1422_inb : ∀ (i : grid0.Coords) (k0_t2 : Fin k0_t2_loop.trips) (v1797 : IVec S16 32) (v1821 : IVec S16 32) (k0_hw878 : k0_chk878 i k0_t2 v1797 v1821), ∀ (k0_h1 : k0_cond1 i k0_t2 = 1#1), ∀ a x, ((![v1821, v1797] : Fin 2 → IVec S16 32) a x).toNat < S160x142.size a := fun i k0_t2 v1797 v1821 k0_hw878 k0_h1 => k0_hw878 k0_h1

def k0_chk879 (i : grid0.Coords) (k0_t2 : Fin k0_t2_loop.trips) (v1797 : IVec S16 32) (v1824 : IVec S16 32) : Prop :=
  (∀ (k0_h1 : k0_cond1 i k0_t2 = 1#1), ∀ a x, ((![v1824, v1797] : Fin 2 → IVec S16 32) a x).toNat < S160x142.size a)
theorem k0_idx1424_inb : ∀ (i : grid0.Coords) (k0_t2 : Fin k0_t2_loop.trips) (v1797 : IVec S16 32) (v1824 : IVec S16 32) (k0_hw879 : k0_chk879 i k0_t2 v1797 v1824), ∀ (k0_h1 : k0_cond1 i k0_t2 = 1#1), ∀ a x, ((![v1824, v1797] : Fin 2 → IVec S16 32) a x).toNat < S160x142.size a := fun i k0_t2 v1797 v1824 k0_hw879 k0_h1 => k0_hw879 k0_h1

def k0_chk870 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) : Prop :=
  (∀ (k0_h1 : k0_cond1 i k0_t2 = 1#1), ∀ a x, ((![v15, v1797] : Fin 2 → IVec S16 32) a x).toNat < S256x142.size a) ∧
  (∀ (k0_h1 : k0_cond1 i k0_t2 = 1#1), ∀ a x, ((![v20, v1797] : Fin 2 → IVec S16 32) a x).toNat < S256x142.size a) ∧
  (∀ (k0_h1 : k0_cond1 i k0_t2 = 1#1), ∀ a x, ((![v25, v1797] : Fin 2 → IVec S16 32) a x).toNat < S256x142.size a) ∧
  (∀ (k0_h1 : k0_cond1 i k0_t2 = 1#1), ∀ a x, ((![v30, v1797] : Fin 2 → IVec S16 32) a x).toNat < S256x142.size a) ∧
  (∀ (k0_h1 : k0_cond1 i k0_t2 = 1#1), ∀ a x, ((![v35, v1797] : Fin 2 → IVec S16 32) a x).toNat < S256x142.size a) ∧
  (∀ (k0_h1 : k0_cond1 i k0_t2 = 1#1), ∀ a x, ((![v40, v1797] : Fin 2 → IVec S16 32) a x).toNat < S256x142.size a) ∧
  (∀ (k0_h1 : k0_cond1 i k0_t2 = 1#1), ∀ a x, ((![v45, v1797] : Fin 2 → IVec S16 32) a x).toNat < S256x142.size a) ∧
  (∀ (k0_h1 : k0_cond1 i k0_t2 = 1#1), ∀ a x, ((![v50, v1797] : Fin 2 → IVec S16 32) a x).toNat < S256x142.size a) ∧
  (∀ (k0_h1 : k0_cond1 i k0_t2 = 1#1), ∀ a x, ((![v55, v1797] : Fin 2 → IVec S16 32) a x).toNat < S256x142.size a) ∧
  (∀ (k0_h1 : k0_cond1 i k0_t2 = 1#1), ∀ a x, ((![v60, v1797] : Fin 2 → IVec S16 32) a x).toNat < S256x142.size a)
theorem k0_idx1407_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v15, v1797] : Fin 2 → IVec S16 32) a x).toNat < S256x142.size a := fun i k0_t2 v15 v20 v25 v30 v35 v40 v45 v50 v55 v60 v1797 k0_hw870 k0_h1 => k0_hw870.1 k0_h1
theorem k0_idx1409_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v20, v1797] : Fin 2 → IVec S16 32) a x).toNat < S256x142.size a := fun i k0_t2 v15 v20 v25 v30 v35 v40 v45 v50 v55 v60 v1797 k0_hw870 k0_h1 => k0_hw870.2.1 k0_h1
theorem k0_idx1411_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v25, v1797] : Fin 2 → IVec S16 32) a x).toNat < S256x142.size a := fun i k0_t2 v15 v20 v25 v30 v35 v40 v45 v50 v55 v60 v1797 k0_hw870 k0_h1 => k0_hw870.2.2.1 k0_h1
theorem k0_idx1413_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v30, v1797] : Fin 2 → IVec S16 32) a x).toNat < S256x142.size a := fun i k0_t2 v15 v20 v25 v30 v35 v40 v45 v50 v55 v60 v1797 k0_hw870 k0_h1 => k0_hw870.2.2.2.1 k0_h1
theorem k0_idx1415_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v35, v1797] : Fin 2 → IVec S16 32) a x).toNat < S256x142.size a := fun i k0_t2 v15 v20 v25 v30 v35 v40 v45 v50 v55 v60 v1797 k0_hw870 k0_h1 => k0_hw870.2.2.2.2.1 k0_h1
theorem k0_idx1417_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v40, v1797] : Fin 2 → IVec S16 32) a x).toNat < S256x142.size a := fun i k0_t2 v15 v20 v25 v30 v35 v40 v45 v50 v55 v60 v1797 k0_hw870 k0_h1 => k0_hw870.2.2.2.2.2.1 k0_h1
theorem k0_idx1419_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v45, v1797] : Fin 2 → IVec S16 32) a x).toNat < S256x142.size a := fun i k0_t2 v15 v20 v25 v30 v35 v40 v45 v50 v55 v60 v1797 k0_hw870 k0_h1 => k0_hw870.2.2.2.2.2.2.1 k0_h1
theorem k0_idx1421_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v50, v1797] : Fin 2 → IVec S16 32) a x).toNat < S256x142.size a := fun i k0_t2 v15 v20 v25 v30 v35 v40 v45 v50 v55 v60 v1797 k0_hw870 k0_h1 => k0_hw870.2.2.2.2.2.2.2.1 k0_h1
theorem k0_idx1423_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v55, v1797] : Fin 2 → IVec S16 32) a x).toNat < S256x142.size a := fun i k0_t2 v15 v20 v25 v30 v35 v40 v45 v50 v55 v60 v1797 k0_hw870 k0_h1 => k0_hw870.2.2.2.2.2.2.2.2.1 k0_h1
theorem k0_idx1425_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1797 : IVec S16 32) (k0_hw870 : k0_chk870 i k0_t2 v15 v20 v25 v30 v35 v40 v45 v50 v55 v60 v1797), ∀ (k0_h1 : k0_cond1 i k0_t2 = 1#1), ∀ a x, ((![v60, v1797] : Fin 2 → IVec S16 32) a x).toNat < S256x142.size a := fun i k0_t2 v15 v20 v25 v30 v35 v40 v45 v50 v55 v60 v1797 k0_hw870 k0_h1 => k0_hw870.2.2.2.2.2.2.2.2.2 k0_h1

def k0_chk880 (i : grid0.Coords) (k0_t2 : Fin k0_t2_loop.trips) (v1797 : IVec S16 32) (v1827 : IVec S16 32) : Prop :=
  (∀ (k0_h1 : k0_cond1 i k0_t2 = 1#1), ∀ a x, ((![v1827, v1797] : Fin 2 → IVec S16 32) a x).toNat < S160x142.size a)
theorem k0_idx1426_inb : ∀ (i : grid0.Coords) (k0_t2 : Fin k0_t2_loop.trips) (v1797 : IVec S16 32) (v1827 : IVec S16 32) (k0_hw880 : k0_chk880 i k0_t2 v1797 v1827), ∀ (k0_h1 : k0_cond1 i k0_t2 = 1#1), ∀ a x, ((![v1827, v1797] : Fin 2 → IVec S16 32) a x).toNat < S160x142.size a := fun i k0_t2 v1797 v1827 k0_hw880 k0_h1 => k0_hw880 k0_h1

def k0_chk882 (i : grid0.Coords) (k0_t2 : Fin k0_t2_loop.trips) (v1828 : IVec S16 32) (v1831 : IVec S16 32) : Prop :=
  (∀ (k0_h1 : k0_cond1 i k0_t2 = 1#1), ∀ a x, ((![v1831, v1828] : Fin 2 → IVec S16 32) a x).toNat < S160x142.size a)
theorem k0_idx1428_inb : ∀ (i : grid0.Coords) (k0_t2 : Fin k0_t2_loop.trips) (v1828 : IVec S16 32) (v1831 : IVec S16 32) (k0_hw882 : k0_chk882 i k0_t2 v1828 v1831), ∀ (k0_h1 : k0_cond1 i k0_t2 = 1#1), ∀ a x, ((![v1831, v1828] : Fin 2 → IVec S16 32) a x).toNat < S160x142.size a := fun i k0_t2 v1828 v1831 k0_hw882 k0_h1 => k0_hw882 k0_h1

def k0_chk883 (i : grid0.Coords) (k0_t2 : Fin k0_t2_loop.trips) (v1828 : IVec S16 32) (v1834 : IVec S16 32) : Prop :=
  (∀ (k0_h1 : k0_cond1 i k0_t2 = 1#1), ∀ a x, ((![v1834, v1828] : Fin 2 → IVec S16 32) a x).toNat < S160x142.size a)
theorem k0_idx1430_inb : ∀ (i : grid0.Coords) (k0_t2 : Fin k0_t2_loop.trips) (v1828 : IVec S16 32) (v1834 : IVec S16 32) (k0_hw883 : k0_chk883 i k0_t2 v1828 v1834), ∀ (k0_h1 : k0_cond1 i k0_t2 = 1#1), ∀ a x, ((![v1834, v1828] : Fin 2 → IVec S16 32) a x).toNat < S160x142.size a := fun i k0_t2 v1828 v1834 k0_hw883 k0_h1 => k0_hw883 k0_h1

def k0_chk884 (i : grid0.Coords) (k0_t2 : Fin k0_t2_loop.trips) (v1828 : IVec S16 32) (v1837 : IVec S16 32) : Prop :=
  (∀ (k0_h1 : k0_cond1 i k0_t2 = 1#1), ∀ a x, ((![v1837, v1828] : Fin 2 → IVec S16 32) a x).toNat < S160x142.size a)
theorem k0_idx1432_inb : ∀ (i : grid0.Coords) (k0_t2 : Fin k0_t2_loop.trips) (v1828 : IVec S16 32) (v1837 : IVec S16 32) (k0_hw884 : k0_chk884 i k0_t2 v1828 v1837), ∀ (k0_h1 : k0_cond1 i k0_t2 = 1#1), ∀ a x, ((![v1837, v1828] : Fin 2 → IVec S16 32) a x).toNat < S160x142.size a := fun i k0_t2 v1828 v1837 k0_hw884 k0_h1 => k0_hw884 k0_h1

def k0_chk885 (i : grid0.Coords) (k0_t2 : Fin k0_t2_loop.trips) (v1828 : IVec S16 32) (v1840 : IVec S16 32) : Prop :=
  (∀ (k0_h1 : k0_cond1 i k0_t2 = 1#1), ∀ a x, ((![v1840, v1828] : Fin 2 → IVec S16 32) a x).toNat < S160x142.size a)
theorem k0_idx1434_inb : ∀ (i : grid0.Coords) (k0_t2 : Fin k0_t2_loop.trips) (v1828 : IVec S16 32) (v1840 : IVec S16 32) (k0_hw885 : k0_chk885 i k0_t2 v1828 v1840), ∀ (k0_h1 : k0_cond1 i k0_t2 = 1#1), ∀ a x, ((![v1840, v1828] : Fin 2 → IVec S16 32) a x).toNat < S160x142.size a := fun i k0_t2 v1828 v1840 k0_hw885 k0_h1 => k0_hw885 k0_h1

def k0_chk886 (i : grid0.Coords) (k0_t2 : Fin k0_t2_loop.trips) (v1828 : IVec S16 32) (v1843 : IVec S16 32) : Prop :=
  (∀ (k0_h1 : k0_cond1 i k0_t2 = 1#1), ∀ a x, ((![v1843, v1828] : Fin 2 → IVec S16 32) a x).toNat < S160x142.size a)
theorem k0_idx1436_inb : ∀ (i : grid0.Coords) (k0_t2 : Fin k0_t2_loop.trips) (v1828 : IVec S16 32) (v1843 : IVec S16 32) (k0_hw886 : k0_chk886 i k0_t2 v1828 v1843), ∀ (k0_h1 : k0_cond1 i k0_t2 = 1#1), ∀ a x, ((![v1843, v1828] : Fin 2 → IVec S16 32) a x).toNat < S160x142.size a := fun i k0_t2 v1828 v1843 k0_hw886 k0_h1 => k0_hw886 k0_h1

def k0_chk887 (i : grid0.Coords) (k0_t2 : Fin k0_t2_loop.trips) (v1828 : IVec S16 32) (v1846 : IVec S16 32) : Prop :=
  (∀ (k0_h1 : k0_cond1 i k0_t2 = 1#1), ∀ a x, ((![v1846, v1828] : Fin 2 → IVec S16 32) a x).toNat < S160x142.size a)
theorem k0_idx1438_inb : ∀ (i : grid0.Coords) (k0_t2 : Fin k0_t2_loop.trips) (v1828 : IVec S16 32) (v1846 : IVec S16 32) (k0_hw887 : k0_chk887 i k0_t2 v1828 v1846), ∀ (k0_h1 : k0_cond1 i k0_t2 = 1#1), ∀ a x, ((![v1846, v1828] : Fin 2 → IVec S16 32) a x).toNat < S160x142.size a := fun i k0_t2 v1828 v1846 k0_hw887 k0_h1 => k0_hw887 k0_h1

def k0_chk888 (i : grid0.Coords) (k0_t2 : Fin k0_t2_loop.trips) (v1828 : IVec S16 32) (v1849 : IVec S16 32) : Prop :=
  (∀ (k0_h1 : k0_cond1 i k0_t2 = 1#1), ∀ a x, ((![v1849, v1828] : Fin 2 → IVec S16 32) a x).toNat < S160x142.size a)
theorem k0_idx1440_inb : ∀ (i : grid0.Coords) (k0_t2 : Fin k0_t2_loop.trips) (v1828 : IVec S16 32) (v1849 : IVec S16 32) (k0_hw888 : k0_chk888 i k0_t2 v1828 v1849), ∀ (k0_h1 : k0_cond1 i k0_t2 = 1#1), ∀ a x, ((![v1849, v1828] : Fin 2 → IVec S16 32) a x).toNat < S160x142.size a := fun i k0_t2 v1828 v1849 k0_hw888 k0_h1 => k0_hw888 k0_h1

def k0_chk889 (i : grid0.Coords) (k0_t2 : Fin k0_t2_loop.trips) (v1828 : IVec S16 32) (v1852 : IVec S16 32) : Prop :=
  (∀ (k0_h1 : k0_cond1 i k0_t2 = 1#1), ∀ a x, ((![v1852, v1828] : Fin 2 → IVec S16 32) a x).toNat < S160x142.size a)
theorem k0_idx1442_inb : ∀ (i : grid0.Coords) (k0_t2 : Fin k0_t2_loop.trips) (v1828 : IVec S16 32) (v1852 : IVec S16 32) (k0_hw889 : k0_chk889 i k0_t2 v1828 v1852), ∀ (k0_h1 : k0_cond1 i k0_t2 = 1#1), ∀ a x, ((![v1852, v1828] : Fin 2 → IVec S16 32) a x).toNat < S160x142.size a := fun i k0_t2 v1828 v1852 k0_hw889 k0_h1 => k0_hw889 k0_h1

def k0_chk890 (i : grid0.Coords) (k0_t2 : Fin k0_t2_loop.trips) (v1828 : IVec S16 32) (v1855 : IVec S16 32) : Prop :=
  (∀ (k0_h1 : k0_cond1 i k0_t2 = 1#1), ∀ a x, ((![v1855, v1828] : Fin 2 → IVec S16 32) a x).toNat < S160x142.size a)
theorem k0_idx1444_inb : ∀ (i : grid0.Coords) (k0_t2 : Fin k0_t2_loop.trips) (v1828 : IVec S16 32) (v1855 : IVec S16 32) (k0_hw890 : k0_chk890 i k0_t2 v1828 v1855), ∀ (k0_h1 : k0_cond1 i k0_t2 = 1#1), ∀ a x, ((![v1855, v1828] : Fin 2 → IVec S16 32) a x).toNat < S160x142.size a := fun i k0_t2 v1828 v1855 k0_hw890 k0_h1 => k0_hw890 k0_h1

def k0_chk881 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) : Prop :=
  (∀ (k0_h1 : k0_cond1 i k0_t2 = 1#1), ∀ a x, ((![v15, v1828] : Fin 2 → IVec S16 32) a x).toNat < S256x142.size a) ∧
  (∀ (k0_h1 : k0_cond1 i k0_t2 = 1#1), ∀ a x, ((![v20, v1828] : Fin 2 → IVec S16 32) a x).toNat < S256x142.size a) ∧
  (∀ (k0_h1 : k0_cond1 i k0_t2 = 1#1), ∀ a x, ((![v25, v1828] : Fin 2 → IVec S16 32) a x).toNat < S256x142.size a) ∧
  (∀ (k0_h1 : k0_cond1 i k0_t2 = 1#1), ∀ a x, ((![v30, v1828] : Fin 2 → IVec S16 32) a x).toNat < S256x142.size a) ∧
  (∀ (k0_h1 : k0_cond1 i k0_t2 = 1#1), ∀ a x, ((![v35, v1828] : Fin 2 → IVec S16 32) a x).toNat < S256x142.size a) ∧
  (∀ (k0_h1 : k0_cond1 i k0_t2 = 1#1), ∀ a x, ((![v40, v1828] : Fin 2 → IVec S16 32) a x).toNat < S256x142.size a) ∧
  (∀ (k0_h1 : k0_cond1 i k0_t2 = 1#1), ∀ a x, ((![v45, v1828] : Fin 2 → IVec S16 32) a x).toNat < S256x142.size a) ∧
  (∀ (k0_h1 : k0_cond1 i k0_t2 = 1#1), ∀ a x, ((![v50, v1828] : Fin 2 → IVec S16 32) a x).toNat < S256x142.size a) ∧
  (∀ (k0_h1 : k0_cond1 i k0_t2 = 1#1), ∀ a x, ((![v55, v1828] : Fin 2 → IVec S16 32) a x).toNat < S256x142.size a) ∧
  (∀ (k0_h1 : k0_cond1 i k0_t2 = 1#1), ∀ a x, ((![v60, v1828] : Fin 2 → IVec S16 32) a x).toNat < S256x142.size a)
theorem k0_idx1427_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v15, v1828] : Fin 2 → IVec S16 32) a x).toNat < S256x142.size a := fun i k0_t2 v15 v20 v25 v30 v35 v40 v45 v50 v55 v60 v1828 k0_hw881 k0_h1 => k0_hw881.1 k0_h1
theorem k0_idx1429_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v20, v1828] : Fin 2 → IVec S16 32) a x).toNat < S256x142.size a := fun i k0_t2 v15 v20 v25 v30 v35 v40 v45 v50 v55 v60 v1828 k0_hw881 k0_h1 => k0_hw881.2.1 k0_h1
theorem k0_idx1431_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v25, v1828] : Fin 2 → IVec S16 32) a x).toNat < S256x142.size a := fun i k0_t2 v15 v20 v25 v30 v35 v40 v45 v50 v55 v60 v1828 k0_hw881 k0_h1 => k0_hw881.2.2.1 k0_h1
theorem k0_idx1433_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v30, v1828] : Fin 2 → IVec S16 32) a x).toNat < S256x142.size a := fun i k0_t2 v15 v20 v25 v30 v35 v40 v45 v50 v55 v60 v1828 k0_hw881 k0_h1 => k0_hw881.2.2.2.1 k0_h1
theorem k0_idx1435_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v35, v1828] : Fin 2 → IVec S16 32) a x).toNat < S256x142.size a := fun i k0_t2 v15 v20 v25 v30 v35 v40 v45 v50 v55 v60 v1828 k0_hw881 k0_h1 => k0_hw881.2.2.2.2.1 k0_h1
theorem k0_idx1437_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v40, v1828] : Fin 2 → IVec S16 32) a x).toNat < S256x142.size a := fun i k0_t2 v15 v20 v25 v30 v35 v40 v45 v50 v55 v60 v1828 k0_hw881 k0_h1 => k0_hw881.2.2.2.2.2.1 k0_h1
theorem k0_idx1439_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v45, v1828] : Fin 2 → IVec S16 32) a x).toNat < S256x142.size a := fun i k0_t2 v15 v20 v25 v30 v35 v40 v45 v50 v55 v60 v1828 k0_hw881 k0_h1 => k0_hw881.2.2.2.2.2.2.1 k0_h1
theorem k0_idx1441_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v50, v1828] : Fin 2 → IVec S16 32) a x).toNat < S256x142.size a := fun i k0_t2 v15 v20 v25 v30 v35 v40 v45 v50 v55 v60 v1828 k0_hw881 k0_h1 => k0_hw881.2.2.2.2.2.2.2.1 k0_h1
theorem k0_idx1443_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v55, v1828] : Fin 2 → IVec S16 32) a x).toNat < S256x142.size a := fun i k0_t2 v15 v20 v25 v30 v35 v40 v45 v50 v55 v60 v1828 k0_hw881 k0_h1 => k0_hw881.2.2.2.2.2.2.2.2.1 k0_h1
theorem k0_idx1445_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1828 : IVec S16 32) (k0_hw881 : k0_chk881 i k0_t2 v15 v20 v25 v30 v35 v40 v45 v50 v55 v60 v1828), ∀ (k0_h1 : k0_cond1 i k0_t2 = 1#1), ∀ a x, ((![v60, v1828] : Fin 2 → IVec S16 32) a x).toNat < S256x142.size a := fun i k0_t2 v15 v20 v25 v30 v35 v40 v45 v50 v55 v60 v1828 k0_hw881 k0_h1 => k0_hw881.2.2.2.2.2.2.2.2.2 k0_h1

def k0_chk891 (i : grid0.Coords) (k0_t2 : Fin k0_t2_loop.trips) (v1828 : IVec S16 32) (v1858 : IVec S16 32) : Prop :=
  (∀ (k0_h1 : k0_cond1 i k0_t2 = 1#1), ∀ a x, ((![v1858, v1828] : Fin 2 → IVec S16 32) a x).toNat < S160x142.size a)
theorem k0_idx1446_inb : ∀ (i : grid0.Coords) (k0_t2 : Fin k0_t2_loop.trips) (v1828 : IVec S16 32) (v1858 : IVec S16 32) (k0_hw891 : k0_chk891 i k0_t2 v1828 v1858), ∀ (k0_h1 : k0_cond1 i k0_t2 = 1#1), ∀ a x, ((![v1858, v1828] : Fin 2 → IVec S16 32) a x).toNat < S160x142.size a := fun i k0_t2 v1828 v1858 k0_hw891 k0_h1 => k0_hw891 k0_h1

def k0_chk893 (i : grid0.Coords) (k0_t2 : Fin k0_t2_loop.trips) (v1859 : IVec S16 32) (v1862 : IVec S16 32) : Prop :=
  (∀ (k0_h1 : k0_cond1 i k0_t2 = 1#1), ∀ a x, ((![v1862, v1859] : Fin 2 → IVec S16 32) a x).toNat < S160x142.size a)
theorem k0_idx1448_inb : ∀ (i : grid0.Coords) (k0_t2 : Fin k0_t2_loop.trips) (v1859 : IVec S16 32) (v1862 : IVec S16 32) (k0_hw893 : k0_chk893 i k0_t2 v1859 v1862), ∀ (k0_h1 : k0_cond1 i k0_t2 = 1#1), ∀ a x, ((![v1862, v1859] : Fin 2 → IVec S16 32) a x).toNat < S160x142.size a := fun i k0_t2 v1859 v1862 k0_hw893 k0_h1 => k0_hw893 k0_h1

def k0_chk894 (i : grid0.Coords) (k0_t2 : Fin k0_t2_loop.trips) (v1859 : IVec S16 32) (v1865 : IVec S16 32) : Prop :=
  (∀ (k0_h1 : k0_cond1 i k0_t2 = 1#1), ∀ a x, ((![v1865, v1859] : Fin 2 → IVec S16 32) a x).toNat < S160x142.size a)
theorem k0_idx1450_inb : ∀ (i : grid0.Coords) (k0_t2 : Fin k0_t2_loop.trips) (v1859 : IVec S16 32) (v1865 : IVec S16 32) (k0_hw894 : k0_chk894 i k0_t2 v1859 v1865), ∀ (k0_h1 : k0_cond1 i k0_t2 = 1#1), ∀ a x, ((![v1865, v1859] : Fin 2 → IVec S16 32) a x).toNat < S160x142.size a := fun i k0_t2 v1859 v1865 k0_hw894 k0_h1 => k0_hw894 k0_h1

def k0_chk895 (i : grid0.Coords) (k0_t2 : Fin k0_t2_loop.trips) (v1859 : IVec S16 32) (v1868 : IVec S16 32) : Prop :=
  (∀ (k0_h1 : k0_cond1 i k0_t2 = 1#1), ∀ a x, ((![v1868, v1859] : Fin 2 → IVec S16 32) a x).toNat < S160x142.size a)
theorem k0_idx1452_inb : ∀ (i : grid0.Coords) (k0_t2 : Fin k0_t2_loop.trips) (v1859 : IVec S16 32) (v1868 : IVec S16 32) (k0_hw895 : k0_chk895 i k0_t2 v1859 v1868), ∀ (k0_h1 : k0_cond1 i k0_t2 = 1#1), ∀ a x, ((![v1868, v1859] : Fin 2 → IVec S16 32) a x).toNat < S160x142.size a := fun i k0_t2 v1859 v1868 k0_hw895 k0_h1 => k0_hw895 k0_h1

def k0_chk896 (i : grid0.Coords) (k0_t2 : Fin k0_t2_loop.trips) (v1859 : IVec S16 32) (v1871 : IVec S16 32) : Prop :=
  (∀ (k0_h1 : k0_cond1 i k0_t2 = 1#1), ∀ a x, ((![v1871, v1859] : Fin 2 → IVec S16 32) a x).toNat < S160x142.size a)
theorem k0_idx1454_inb : ∀ (i : grid0.Coords) (k0_t2 : Fin k0_t2_loop.trips) (v1859 : IVec S16 32) (v1871 : IVec S16 32) (k0_hw896 : k0_chk896 i k0_t2 v1859 v1871), ∀ (k0_h1 : k0_cond1 i k0_t2 = 1#1), ∀ a x, ((![v1871, v1859] : Fin 2 → IVec S16 32) a x).toNat < S160x142.size a := fun i k0_t2 v1859 v1871 k0_hw896 k0_h1 => k0_hw896 k0_h1

def k0_chk897 (i : grid0.Coords) (k0_t2 : Fin k0_t2_loop.trips) (v1859 : IVec S16 32) (v1874 : IVec S16 32) : Prop :=
  (∀ (k0_h1 : k0_cond1 i k0_t2 = 1#1), ∀ a x, ((![v1874, v1859] : Fin 2 → IVec S16 32) a x).toNat < S160x142.size a)
theorem k0_idx1456_inb : ∀ (i : grid0.Coords) (k0_t2 : Fin k0_t2_loop.trips) (v1859 : IVec S16 32) (v1874 : IVec S16 32) (k0_hw897 : k0_chk897 i k0_t2 v1859 v1874), ∀ (k0_h1 : k0_cond1 i k0_t2 = 1#1), ∀ a x, ((![v1874, v1859] : Fin 2 → IVec S16 32) a x).toNat < S160x142.size a := fun i k0_t2 v1859 v1874 k0_hw897 k0_h1 => k0_hw897 k0_h1

def k0_chk898 (i : grid0.Coords) (k0_t2 : Fin k0_t2_loop.trips) (v1859 : IVec S16 32) (v1877 : IVec S16 32) : Prop :=
  (∀ (k0_h1 : k0_cond1 i k0_t2 = 1#1), ∀ a x, ((![v1877, v1859] : Fin 2 → IVec S16 32) a x).toNat < S160x142.size a)
theorem k0_idx1458_inb : ∀ (i : grid0.Coords) (k0_t2 : Fin k0_t2_loop.trips) (v1859 : IVec S16 32) (v1877 : IVec S16 32) (k0_hw898 : k0_chk898 i k0_t2 v1859 v1877), ∀ (k0_h1 : k0_cond1 i k0_t2 = 1#1), ∀ a x, ((![v1877, v1859] : Fin 2 → IVec S16 32) a x).toNat < S160x142.size a := fun i k0_t2 v1859 v1877 k0_hw898 k0_h1 => k0_hw898 k0_h1

def k0_chk899 (i : grid0.Coords) (k0_t2 : Fin k0_t2_loop.trips) (v1859 : IVec S16 32) (v1880 : IVec S16 32) : Prop :=
  (∀ (k0_h1 : k0_cond1 i k0_t2 = 1#1), ∀ a x, ((![v1880, v1859] : Fin 2 → IVec S16 32) a x).toNat < S160x142.size a)
theorem k0_idx1460_inb : ∀ (i : grid0.Coords) (k0_t2 : Fin k0_t2_loop.trips) (v1859 : IVec S16 32) (v1880 : IVec S16 32) (k0_hw899 : k0_chk899 i k0_t2 v1859 v1880), ∀ (k0_h1 : k0_cond1 i k0_t2 = 1#1), ∀ a x, ((![v1880, v1859] : Fin 2 → IVec S16 32) a x).toNat < S160x142.size a := fun i k0_t2 v1859 v1880 k0_hw899 k0_h1 => k0_hw899 k0_h1

def k0_chk900 (i : grid0.Coords) (k0_t2 : Fin k0_t2_loop.trips) (v1859 : IVec S16 32) (v1883 : IVec S16 32) : Prop :=
  (∀ (k0_h1 : k0_cond1 i k0_t2 = 1#1), ∀ a x, ((![v1883, v1859] : Fin 2 → IVec S16 32) a x).toNat < S160x142.size a)
theorem k0_idx1462_inb : ∀ (i : grid0.Coords) (k0_t2 : Fin k0_t2_loop.trips) (v1859 : IVec S16 32) (v1883 : IVec S16 32) (k0_hw900 : k0_chk900 i k0_t2 v1859 v1883), ∀ (k0_h1 : k0_cond1 i k0_t2 = 1#1), ∀ a x, ((![v1883, v1859] : Fin 2 → IVec S16 32) a x).toNat < S160x142.size a := fun i k0_t2 v1859 v1883 k0_hw900 k0_h1 => k0_hw900 k0_h1

def k0_chk901 (i : grid0.Coords) (k0_t2 : Fin k0_t2_loop.trips) (v1859 : IVec S16 32) (v1886 : IVec S16 32) : Prop :=
  (∀ (k0_h1 : k0_cond1 i k0_t2 = 1#1), ∀ a x, ((![v1886, v1859] : Fin 2 → IVec S16 32) a x).toNat < S160x142.size a)
theorem k0_idx1464_inb : ∀ (i : grid0.Coords) (k0_t2 : Fin k0_t2_loop.trips) (v1859 : IVec S16 32) (v1886 : IVec S16 32) (k0_hw901 : k0_chk901 i k0_t2 v1859 v1886), ∀ (k0_h1 : k0_cond1 i k0_t2 = 1#1), ∀ a x, ((![v1886, v1859] : Fin 2 → IVec S16 32) a x).toNat < S160x142.size a := fun i k0_t2 v1859 v1886 k0_hw901 k0_h1 => k0_hw901 k0_h1

def k0_chk892 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) : Prop :=
  (∀ (k0_h1 : k0_cond1 i k0_t2 = 1#1), ∀ a x, ((![v15, v1859] : Fin 2 → IVec S16 32) a x).toNat < S256x142.size a) ∧
  (∀ (k0_h1 : k0_cond1 i k0_t2 = 1#1), ∀ a x, ((![v20, v1859] : Fin 2 → IVec S16 32) a x).toNat < S256x142.size a) ∧
  (∀ (k0_h1 : k0_cond1 i k0_t2 = 1#1), ∀ a x, ((![v25, v1859] : Fin 2 → IVec S16 32) a x).toNat < S256x142.size a) ∧
  (∀ (k0_h1 : k0_cond1 i k0_t2 = 1#1), ∀ a x, ((![v30, v1859] : Fin 2 → IVec S16 32) a x).toNat < S256x142.size a) ∧
  (∀ (k0_h1 : k0_cond1 i k0_t2 = 1#1), ∀ a x, ((![v35, v1859] : Fin 2 → IVec S16 32) a x).toNat < S256x142.size a) ∧
  (∀ (k0_h1 : k0_cond1 i k0_t2 = 1#1), ∀ a x, ((![v40, v1859] : Fin 2 → IVec S16 32) a x).toNat < S256x142.size a) ∧
  (∀ (k0_h1 : k0_cond1 i k0_t2 = 1#1), ∀ a x, ((![v45, v1859] : Fin 2 → IVec S16 32) a x).toNat < S256x142.size a) ∧
  (∀ (k0_h1 : k0_cond1 i k0_t2 = 1#1), ∀ a x, ((![v50, v1859] : Fin 2 → IVec S16 32) a x).toNat < S256x142.size a) ∧
  (∀ (k0_h1 : k0_cond1 i k0_t2 = 1#1), ∀ a x, ((![v55, v1859] : Fin 2 → IVec S16 32) a x).toNat < S256x142.size a) ∧
  (∀ (k0_h1 : k0_cond1 i k0_t2 = 1#1), ∀ a x, ((![v60, v1859] : Fin 2 → IVec S16 32) a x).toNat < S256x142.size a)
theorem k0_idx1447_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v15, v1859] : Fin 2 → IVec S16 32) a x).toNat < S256x142.size a := fun i k0_t2 v15 v20 v25 v30 v35 v40 v45 v50 v55 v60 v1859 k0_hw892 k0_h1 => k0_hw892.1 k0_h1
theorem k0_idx1449_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v20, v1859] : Fin 2 → IVec S16 32) a x).toNat < S256x142.size a := fun i k0_t2 v15 v20 v25 v30 v35 v40 v45 v50 v55 v60 v1859 k0_hw892 k0_h1 => k0_hw892.2.1 k0_h1
theorem k0_idx1451_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v25, v1859] : Fin 2 → IVec S16 32) a x).toNat < S256x142.size a := fun i k0_t2 v15 v20 v25 v30 v35 v40 v45 v50 v55 v60 v1859 k0_hw892 k0_h1 => k0_hw892.2.2.1 k0_h1
theorem k0_idx1453_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v30, v1859] : Fin 2 → IVec S16 32) a x).toNat < S256x142.size a := fun i k0_t2 v15 v20 v25 v30 v35 v40 v45 v50 v55 v60 v1859 k0_hw892 k0_h1 => k0_hw892.2.2.2.1 k0_h1
theorem k0_idx1455_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v35, v1859] : Fin 2 → IVec S16 32) a x).toNat < S256x142.size a := fun i k0_t2 v15 v20 v25 v30 v35 v40 v45 v50 v55 v60 v1859 k0_hw892 k0_h1 => k0_hw892.2.2.2.2.1 k0_h1
theorem k0_idx1457_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v40, v1859] : Fin 2 → IVec S16 32) a x).toNat < S256x142.size a := fun i k0_t2 v15 v20 v25 v30 v35 v40 v45 v50 v55 v60 v1859 k0_hw892 k0_h1 => k0_hw892.2.2.2.2.2.1 k0_h1
theorem k0_idx1459_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v45, v1859] : Fin 2 → IVec S16 32) a x).toNat < S256x142.size a := fun i k0_t2 v15 v20 v25 v30 v35 v40 v45 v50 v55 v60 v1859 k0_hw892 k0_h1 => k0_hw892.2.2.2.2.2.2.1 k0_h1
theorem k0_idx1461_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v50, v1859] : Fin 2 → IVec S16 32) a x).toNat < S256x142.size a := fun i k0_t2 v15 v20 v25 v30 v35 v40 v45 v50 v55 v60 v1859 k0_hw892 k0_h1 => k0_hw892.2.2.2.2.2.2.2.1 k0_h1
theorem k0_idx1463_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v55, v1859] : Fin 2 → IVec S16 32) a x).toNat < S256x142.size a := fun i k0_t2 v15 v20 v25 v30 v35 v40 v45 v50 v55 v60 v1859 k0_hw892 k0_h1 => k0_hw892.2.2.2.2.2.2.2.2.1 k0_h1
theorem k0_idx1465_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1859 : IVec S16 32) (k0_hw892 : k0_chk892 i k0_t2 v15 v20 v25 v30 v35 v40 v45 v50 v55 v60 v1859), ∀ (k0_h1 : k0_cond1 i k0_t2 = 1#1), ∀ a x, ((![v60, v1859] : Fin 2 → IVec S16 32) a x).toNat < S256x142.size a := fun i k0_t2 v15 v20 v25 v30 v35 v40 v45 v50 v55 v60 v1859 k0_hw892 k0_h1 => k0_hw892.2.2.2.2.2.2.2.2.2 k0_h1

def k0_chk902 (i : grid0.Coords) (k0_t2 : Fin k0_t2_loop.trips) (v1859 : IVec S16 32) (v1889 : IVec S16 32) : Prop :=
  (∀ (k0_h1 : k0_cond1 i k0_t2 = 1#1), ∀ a x, ((![v1889, v1859] : Fin 2 → IVec S16 32) a x).toNat < S160x142.size a)
theorem k0_idx1466_inb : ∀ (i : grid0.Coords) (k0_t2 : Fin k0_t2_loop.trips) (v1859 : IVec S16 32) (v1889 : IVec S16 32) (k0_hw902 : k0_chk902 i k0_t2 v1859 v1889), ∀ (k0_h1 : k0_cond1 i k0_t2 = 1#1), ∀ a x, ((![v1889, v1859] : Fin 2 → IVec S16 32) a x).toNat < S160x142.size a := fun i k0_t2 v1859 v1889 k0_hw902 k0_h1 => k0_hw902 k0_h1

def k0_chk904 (i : grid0.Coords) (k0_t2 : Fin k0_t2_loop.trips) (v1890 : IVec S16 32) (v1893 : IVec S16 32) : Prop :=
  (∀ (k0_h1 : k0_cond1 i k0_t2 = 1#1), ∀ a x, ((![v1893, v1890] : Fin 2 → IVec S16 32) a x).toNat < S160x142.size a)
theorem k0_idx1468_inb : ∀ (i : grid0.Coords) (k0_t2 : Fin k0_t2_loop.trips) (v1890 : IVec S16 32) (v1893 : IVec S16 32) (k0_hw904 : k0_chk904 i k0_t2 v1890 v1893), ∀ (k0_h1 : k0_cond1 i k0_t2 = 1#1), ∀ a x, ((![v1893, v1890] : Fin 2 → IVec S16 32) a x).toNat < S160x142.size a := fun i k0_t2 v1890 v1893 k0_hw904 k0_h1 => k0_hw904 k0_h1

def k0_chk905 (i : grid0.Coords) (k0_t2 : Fin k0_t2_loop.trips) (v1890 : IVec S16 32) (v1896 : IVec S16 32) : Prop :=
  (∀ (k0_h1 : k0_cond1 i k0_t2 = 1#1), ∀ a x, ((![v1896, v1890] : Fin 2 → IVec S16 32) a x).toNat < S160x142.size a)
theorem k0_idx1470_inb : ∀ (i : grid0.Coords) (k0_t2 : Fin k0_t2_loop.trips) (v1890 : IVec S16 32) (v1896 : IVec S16 32) (k0_hw905 : k0_chk905 i k0_t2 v1890 v1896), ∀ (k0_h1 : k0_cond1 i k0_t2 = 1#1), ∀ a x, ((![v1896, v1890] : Fin 2 → IVec S16 32) a x).toNat < S160x142.size a := fun i k0_t2 v1890 v1896 k0_hw905 k0_h1 => k0_hw905 k0_h1

def k0_chk906 (i : grid0.Coords) (k0_t2 : Fin k0_t2_loop.trips) (v1890 : IVec S16 32) (v1899 : IVec S16 32) : Prop :=
  (∀ (k0_h1 : k0_cond1 i k0_t2 = 1#1), ∀ a x, ((![v1899, v1890] : Fin 2 → IVec S16 32) a x).toNat < S160x142.size a)
theorem k0_idx1472_inb : ∀ (i : grid0.Coords) (k0_t2 : Fin k0_t2_loop.trips) (v1890 : IVec S16 32) (v1899 : IVec S16 32) (k0_hw906 : k0_chk906 i k0_t2 v1890 v1899), ∀ (k0_h1 : k0_cond1 i k0_t2 = 1#1), ∀ a x, ((![v1899, v1890] : Fin 2 → IVec S16 32) a x).toNat < S160x142.size a := fun i k0_t2 v1890 v1899 k0_hw906 k0_h1 => k0_hw906 k0_h1

def k0_chk907 (i : grid0.Coords) (k0_t2 : Fin k0_t2_loop.trips) (v1890 : IVec S16 32) (v1902 : IVec S16 32) : Prop :=
  (∀ (k0_h1 : k0_cond1 i k0_t2 = 1#1), ∀ a x, ((![v1902, v1890] : Fin 2 → IVec S16 32) a x).toNat < S160x142.size a)
theorem k0_idx1474_inb : ∀ (i : grid0.Coords) (k0_t2 : Fin k0_t2_loop.trips) (v1890 : IVec S16 32) (v1902 : IVec S16 32) (k0_hw907 : k0_chk907 i k0_t2 v1890 v1902), ∀ (k0_h1 : k0_cond1 i k0_t2 = 1#1), ∀ a x, ((![v1902, v1890] : Fin 2 → IVec S16 32) a x).toNat < S160x142.size a := fun i k0_t2 v1890 v1902 k0_hw907 k0_h1 => k0_hw907 k0_h1

def k0_chk908 (i : grid0.Coords) (k0_t2 : Fin k0_t2_loop.trips) (v1890 : IVec S16 32) (v1905 : IVec S16 32) : Prop :=
  (∀ (k0_h1 : k0_cond1 i k0_t2 = 1#1), ∀ a x, ((![v1905, v1890] : Fin 2 → IVec S16 32) a x).toNat < S160x142.size a)
theorem k0_idx1476_inb : ∀ (i : grid0.Coords) (k0_t2 : Fin k0_t2_loop.trips) (v1890 : IVec S16 32) (v1905 : IVec S16 32) (k0_hw908 : k0_chk908 i k0_t2 v1890 v1905), ∀ (k0_h1 : k0_cond1 i k0_t2 = 1#1), ∀ a x, ((![v1905, v1890] : Fin 2 → IVec S16 32) a x).toNat < S160x142.size a := fun i k0_t2 v1890 v1905 k0_hw908 k0_h1 => k0_hw908 k0_h1

def k0_chk909 (i : grid0.Coords) (k0_t2 : Fin k0_t2_loop.trips) (v1890 : IVec S16 32) (v1908 : IVec S16 32) : Prop :=
  (∀ (k0_h1 : k0_cond1 i k0_t2 = 1#1), ∀ a x, ((![v1908, v1890] : Fin 2 → IVec S16 32) a x).toNat < S160x142.size a)
theorem k0_idx1478_inb : ∀ (i : grid0.Coords) (k0_t2 : Fin k0_t2_loop.trips) (v1890 : IVec S16 32) (v1908 : IVec S16 32) (k0_hw909 : k0_chk909 i k0_t2 v1890 v1908), ∀ (k0_h1 : k0_cond1 i k0_t2 = 1#1), ∀ a x, ((![v1908, v1890] : Fin 2 → IVec S16 32) a x).toNat < S160x142.size a := fun i k0_t2 v1890 v1908 k0_hw909 k0_h1 => k0_hw909 k0_h1

def k0_chk910 (i : grid0.Coords) (k0_t2 : Fin k0_t2_loop.trips) (v1890 : IVec S16 32) (v1911 : IVec S16 32) : Prop :=
  (∀ (k0_h1 : k0_cond1 i k0_t2 = 1#1), ∀ a x, ((![v1911, v1890] : Fin 2 → IVec S16 32) a x).toNat < S160x142.size a)
theorem k0_idx1480_inb : ∀ (i : grid0.Coords) (k0_t2 : Fin k0_t2_loop.trips) (v1890 : IVec S16 32) (v1911 : IVec S16 32) (k0_hw910 : k0_chk910 i k0_t2 v1890 v1911), ∀ (k0_h1 : k0_cond1 i k0_t2 = 1#1), ∀ a x, ((![v1911, v1890] : Fin 2 → IVec S16 32) a x).toNat < S160x142.size a := fun i k0_t2 v1890 v1911 k0_hw910 k0_h1 => k0_hw910 k0_h1

def k0_chk911 (i : grid0.Coords) (k0_t2 : Fin k0_t2_loop.trips) (v1890 : IVec S16 32) (v1914 : IVec S16 32) : Prop :=
  (∀ (k0_h1 : k0_cond1 i k0_t2 = 1#1), ∀ a x, ((![v1914, v1890] : Fin 2 → IVec S16 32) a x).toNat < S160x142.size a)
theorem k0_idx1482_inb : ∀ (i : grid0.Coords) (k0_t2 : Fin k0_t2_loop.trips) (v1890 : IVec S16 32) (v1914 : IVec S16 32) (k0_hw911 : k0_chk911 i k0_t2 v1890 v1914), ∀ (k0_h1 : k0_cond1 i k0_t2 = 1#1), ∀ a x, ((![v1914, v1890] : Fin 2 → IVec S16 32) a x).toNat < S160x142.size a := fun i k0_t2 v1890 v1914 k0_hw911 k0_h1 => k0_hw911 k0_h1

def k0_chk912 (i : grid0.Coords) (k0_t2 : Fin k0_t2_loop.trips) (v1890 : IVec S16 32) (v1917 : IVec S16 32) : Prop :=
  (∀ (k0_h1 : k0_cond1 i k0_t2 = 1#1), ∀ a x, ((![v1917, v1890] : Fin 2 → IVec S16 32) a x).toNat < S160x142.size a)
theorem k0_idx1484_inb : ∀ (i : grid0.Coords) (k0_t2 : Fin k0_t2_loop.trips) (v1890 : IVec S16 32) (v1917 : IVec S16 32) (k0_hw912 : k0_chk912 i k0_t2 v1890 v1917), ∀ (k0_h1 : k0_cond1 i k0_t2 = 1#1), ∀ a x, ((![v1917, v1890] : Fin 2 → IVec S16 32) a x).toNat < S160x142.size a := fun i k0_t2 v1890 v1917 k0_hw912 k0_h1 => k0_hw912 k0_h1

def k0_chk903 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) : Prop :=
  (∀ (k0_h1 : k0_cond1 i k0_t2 = 1#1), ∀ a x, ((![v15, v1890] : Fin 2 → IVec S16 32) a x).toNat < S256x142.size a) ∧
  (∀ (k0_h1 : k0_cond1 i k0_t2 = 1#1), ∀ a x, ((![v20, v1890] : Fin 2 → IVec S16 32) a x).toNat < S256x142.size a) ∧
  (∀ (k0_h1 : k0_cond1 i k0_t2 = 1#1), ∀ a x, ((![v25, v1890] : Fin 2 → IVec S16 32) a x).toNat < S256x142.size a) ∧
  (∀ (k0_h1 : k0_cond1 i k0_t2 = 1#1), ∀ a x, ((![v30, v1890] : Fin 2 → IVec S16 32) a x).toNat < S256x142.size a) ∧
  (∀ (k0_h1 : k0_cond1 i k0_t2 = 1#1), ∀ a x, ((![v35, v1890] : Fin 2 → IVec S16 32) a x).toNat < S256x142.size a) ∧
  (∀ (k0_h1 : k0_cond1 i k0_t2 = 1#1), ∀ a x, ((![v40, v1890] : Fin 2 → IVec S16 32) a x).toNat < S256x142.size a) ∧
  (∀ (k0_h1 : k0_cond1 i k0_t2 = 1#1), ∀ a x, ((![v45, v1890] : Fin 2 → IVec S16 32) a x).toNat < S256x142.size a) ∧
  (∀ (k0_h1 : k0_cond1 i k0_t2 = 1#1), ∀ a x, ((![v50, v1890] : Fin 2 → IVec S16 32) a x).toNat < S256x142.size a) ∧
  (∀ (k0_h1 : k0_cond1 i k0_t2 = 1#1), ∀ a x, ((![v55, v1890] : Fin 2 → IVec S16 32) a x).toNat < S256x142.size a) ∧
  (∀ (k0_h1 : k0_cond1 i k0_t2 = 1#1), ∀ a x, ((![v60, v1890] : Fin 2 → IVec S16 32) a x).toNat < S256x142.size a)
theorem k0_idx1467_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v15, v1890] : Fin 2 → IVec S16 32) a x).toNat < S256x142.size a := fun i k0_t2 v15 v20 v25 v30 v35 v40 v45 v50 v55 v60 v1890 k0_hw903 k0_h1 => k0_hw903.1 k0_h1
theorem k0_idx1469_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v20, v1890] : Fin 2 → IVec S16 32) a x).toNat < S256x142.size a := fun i k0_t2 v15 v20 v25 v30 v35 v40 v45 v50 v55 v60 v1890 k0_hw903 k0_h1 => k0_hw903.2.1 k0_h1
theorem k0_idx1471_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v25, v1890] : Fin 2 → IVec S16 32) a x).toNat < S256x142.size a := fun i k0_t2 v15 v20 v25 v30 v35 v40 v45 v50 v55 v60 v1890 k0_hw903 k0_h1 => k0_hw903.2.2.1 k0_h1
theorem k0_idx1473_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v30, v1890] : Fin 2 → IVec S16 32) a x).toNat < S256x142.size a := fun i k0_t2 v15 v20 v25 v30 v35 v40 v45 v50 v55 v60 v1890 k0_hw903 k0_h1 => k0_hw903.2.2.2.1 k0_h1
theorem k0_idx1475_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v35, v1890] : Fin 2 → IVec S16 32) a x).toNat < S256x142.size a := fun i k0_t2 v15 v20 v25 v30 v35 v40 v45 v50 v55 v60 v1890 k0_hw903 k0_h1 => k0_hw903.2.2.2.2.1 k0_h1
theorem k0_idx1477_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v40, v1890] : Fin 2 → IVec S16 32) a x).toNat < S256x142.size a := fun i k0_t2 v15 v20 v25 v30 v35 v40 v45 v50 v55 v60 v1890 k0_hw903 k0_h1 => k0_hw903.2.2.2.2.2.1 k0_h1
theorem k0_idx1479_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v45, v1890] : Fin 2 → IVec S16 32) a x).toNat < S256x142.size a := fun i k0_t2 v15 v20 v25 v30 v35 v40 v45 v50 v55 v60 v1890 k0_hw903 k0_h1 => k0_hw903.2.2.2.2.2.2.1 k0_h1
theorem k0_idx1481_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v50, v1890] : Fin 2 → IVec S16 32) a x).toNat < S256x142.size a := fun i k0_t2 v15 v20 v25 v30 v35 v40 v45 v50 v55 v60 v1890 k0_hw903 k0_h1 => k0_hw903.2.2.2.2.2.2.2.1 k0_h1
theorem k0_idx1483_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v55, v1890] : Fin 2 → IVec S16 32) a x).toNat < S256x142.size a := fun i k0_t2 v15 v20 v25 v30 v35 v40 v45 v50 v55 v60 v1890 k0_hw903 k0_h1 => k0_hw903.2.2.2.2.2.2.2.2.1 k0_h1
theorem k0_idx1485_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1890 : IVec S16 32) (k0_hw903 : k0_chk903 i k0_t2 v15 v20 v25 v30 v35 v40 v45 v50 v55 v60 v1890), ∀ (k0_h1 : k0_cond1 i k0_t2 = 1#1), ∀ a x, ((![v60, v1890] : Fin 2 → IVec S16 32) a x).toNat < S256x142.size a := fun i k0_t2 v15 v20 v25 v30 v35 v40 v45 v50 v55 v60 v1890 k0_hw903 k0_h1 => k0_hw903.2.2.2.2.2.2.2.2.2 k0_h1

def k0_chk913 (i : grid0.Coords) (k0_t2 : Fin k0_t2_loop.trips) (v1890 : IVec S16 32) (v1920 : IVec S16 32) : Prop :=
  (∀ (k0_h1 : k0_cond1 i k0_t2 = 1#1), ∀ a x, ((![v1920, v1890] : Fin 2 → IVec S16 32) a x).toNat < S160x142.size a)
theorem k0_idx1486_inb : ∀ (i : grid0.Coords) (k0_t2 : Fin k0_t2_loop.trips) (v1890 : IVec S16 32) (v1920 : IVec S16 32) (k0_hw913 : k0_chk913 i k0_t2 v1890 v1920), ∀ (k0_h1 : k0_cond1 i k0_t2 = 1#1), ∀ a x, ((![v1920, v1890] : Fin 2 → IVec S16 32) a x).toNat < S160x142.size a := fun i k0_t2 v1890 v1920 k0_hw913 k0_h1 => k0_hw913 k0_h1

def k0_chk915 (i : grid0.Coords) (k0_t2 : Fin k0_t2_loop.trips) (v1921 : IVec S16 32) (v1924 : IVec S16 32) : Prop :=
  (∀ (k0_h1 : k0_cond1 i k0_t2 = 1#1), ∀ a x, ((![v1924, v1921] : Fin 2 → IVec S16 32) a x).toNat < S160x142.size a)
theorem k0_idx1488_inb : ∀ (i : grid0.Coords) (k0_t2 : Fin k0_t2_loop.trips) (v1921 : IVec S16 32) (v1924 : IVec S16 32) (k0_hw915 : k0_chk915 i k0_t2 v1921 v1924), ∀ (k0_h1 : k0_cond1 i k0_t2 = 1#1), ∀ a x, ((![v1924, v1921] : Fin 2 → IVec S16 32) a x).toNat < S160x142.size a := fun i k0_t2 v1921 v1924 k0_hw915 k0_h1 => k0_hw915 k0_h1

def k0_chk916 (i : grid0.Coords) (k0_t2 : Fin k0_t2_loop.trips) (v1921 : IVec S16 32) (v1927 : IVec S16 32) : Prop :=
  (∀ (k0_h1 : k0_cond1 i k0_t2 = 1#1), ∀ a x, ((![v1927, v1921] : Fin 2 → IVec S16 32) a x).toNat < S160x142.size a)
theorem k0_idx1490_inb : ∀ (i : grid0.Coords) (k0_t2 : Fin k0_t2_loop.trips) (v1921 : IVec S16 32) (v1927 : IVec S16 32) (k0_hw916 : k0_chk916 i k0_t2 v1921 v1927), ∀ (k0_h1 : k0_cond1 i k0_t2 = 1#1), ∀ a x, ((![v1927, v1921] : Fin 2 → IVec S16 32) a x).toNat < S160x142.size a := fun i k0_t2 v1921 v1927 k0_hw916 k0_h1 => k0_hw916 k0_h1

def k0_chk917 (i : grid0.Coords) (k0_t2 : Fin k0_t2_loop.trips) (v1921 : IVec S16 32) (v1930 : IVec S16 32) : Prop :=
  (∀ (k0_h1 : k0_cond1 i k0_t2 = 1#1), ∀ a x, ((![v1930, v1921] : Fin 2 → IVec S16 32) a x).toNat < S160x142.size a)
theorem k0_idx1492_inb : ∀ (i : grid0.Coords) (k0_t2 : Fin k0_t2_loop.trips) (v1921 : IVec S16 32) (v1930 : IVec S16 32) (k0_hw917 : k0_chk917 i k0_t2 v1921 v1930), ∀ (k0_h1 : k0_cond1 i k0_t2 = 1#1), ∀ a x, ((![v1930, v1921] : Fin 2 → IVec S16 32) a x).toNat < S160x142.size a := fun i k0_t2 v1921 v1930 k0_hw917 k0_h1 => k0_hw917 k0_h1

def k0_chk918 (i : grid0.Coords) (k0_t2 : Fin k0_t2_loop.trips) (v1921 : IVec S16 32) (v1933 : IVec S16 32) : Prop :=
  (∀ (k0_h1 : k0_cond1 i k0_t2 = 1#1), ∀ a x, ((![v1933, v1921] : Fin 2 → IVec S16 32) a x).toNat < S160x142.size a)
theorem k0_idx1494_inb : ∀ (i : grid0.Coords) (k0_t2 : Fin k0_t2_loop.trips) (v1921 : IVec S16 32) (v1933 : IVec S16 32) (k0_hw918 : k0_chk918 i k0_t2 v1921 v1933), ∀ (k0_h1 : k0_cond1 i k0_t2 = 1#1), ∀ a x, ((![v1933, v1921] : Fin 2 → IVec S16 32) a x).toNat < S160x142.size a := fun i k0_t2 v1921 v1933 k0_hw918 k0_h1 => k0_hw918 k0_h1

def k0_chk919 (i : grid0.Coords) (k0_t2 : Fin k0_t2_loop.trips) (v1921 : IVec S16 32) (v1936 : IVec S16 32) : Prop :=
  (∀ (k0_h1 : k0_cond1 i k0_t2 = 1#1), ∀ a x, ((![v1936, v1921] : Fin 2 → IVec S16 32) a x).toNat < S160x142.size a)
theorem k0_idx1496_inb : ∀ (i : grid0.Coords) (k0_t2 : Fin k0_t2_loop.trips) (v1921 : IVec S16 32) (v1936 : IVec S16 32) (k0_hw919 : k0_chk919 i k0_t2 v1921 v1936), ∀ (k0_h1 : k0_cond1 i k0_t2 = 1#1), ∀ a x, ((![v1936, v1921] : Fin 2 → IVec S16 32) a x).toNat < S160x142.size a := fun i k0_t2 v1921 v1936 k0_hw919 k0_h1 => k0_hw919 k0_h1

def k0_chk920 (i : grid0.Coords) (k0_t2 : Fin k0_t2_loop.trips) (v1921 : IVec S16 32) (v1939 : IVec S16 32) : Prop :=
  (∀ (k0_h1 : k0_cond1 i k0_t2 = 1#1), ∀ a x, ((![v1939, v1921] : Fin 2 → IVec S16 32) a x).toNat < S160x142.size a)
theorem k0_idx1498_inb : ∀ (i : grid0.Coords) (k0_t2 : Fin k0_t2_loop.trips) (v1921 : IVec S16 32) (v1939 : IVec S16 32) (k0_hw920 : k0_chk920 i k0_t2 v1921 v1939), ∀ (k0_h1 : k0_cond1 i k0_t2 = 1#1), ∀ a x, ((![v1939, v1921] : Fin 2 → IVec S16 32) a x).toNat < S160x142.size a := fun i k0_t2 v1921 v1939 k0_hw920 k0_h1 => k0_hw920 k0_h1

def k0_chk921 (i : grid0.Coords) (k0_t2 : Fin k0_t2_loop.trips) (v1921 : IVec S16 32) (v1942 : IVec S16 32) : Prop :=
  (∀ (k0_h1 : k0_cond1 i k0_t2 = 1#1), ∀ a x, ((![v1942, v1921] : Fin 2 → IVec S16 32) a x).toNat < S160x142.size a)
theorem k0_idx1500_inb : ∀ (i : grid0.Coords) (k0_t2 : Fin k0_t2_loop.trips) (v1921 : IVec S16 32) (v1942 : IVec S16 32) (k0_hw921 : k0_chk921 i k0_t2 v1921 v1942), ∀ (k0_h1 : k0_cond1 i k0_t2 = 1#1), ∀ a x, ((![v1942, v1921] : Fin 2 → IVec S16 32) a x).toNat < S160x142.size a := fun i k0_t2 v1921 v1942 k0_hw921 k0_h1 => k0_hw921 k0_h1

def k0_chk922 (i : grid0.Coords) (k0_t2 : Fin k0_t2_loop.trips) (v1921 : IVec S16 32) (v1945 : IVec S16 32) : Prop :=
  (∀ (k0_h1 : k0_cond1 i k0_t2 = 1#1), ∀ a x, ((![v1945, v1921] : Fin 2 → IVec S16 32) a x).toNat < S160x142.size a)
theorem k0_idx1502_inb : ∀ (i : grid0.Coords) (k0_t2 : Fin k0_t2_loop.trips) (v1921 : IVec S16 32) (v1945 : IVec S16 32) (k0_hw922 : k0_chk922 i k0_t2 v1921 v1945), ∀ (k0_h1 : k0_cond1 i k0_t2 = 1#1), ∀ a x, ((![v1945, v1921] : Fin 2 → IVec S16 32) a x).toNat < S160x142.size a := fun i k0_t2 v1921 v1945 k0_hw922 k0_h1 => k0_hw922 k0_h1

def k0_chk923 (i : grid0.Coords) (k0_t2 : Fin k0_t2_loop.trips) (v1921 : IVec S16 32) (v1948 : IVec S16 32) : Prop :=
  (∀ (k0_h1 : k0_cond1 i k0_t2 = 1#1), ∀ a x, ((![v1948, v1921] : Fin 2 → IVec S16 32) a x).toNat < S160x142.size a)
theorem k0_idx1504_inb : ∀ (i : grid0.Coords) (k0_t2 : Fin k0_t2_loop.trips) (v1921 : IVec S16 32) (v1948 : IVec S16 32) (k0_hw923 : k0_chk923 i k0_t2 v1921 v1948), ∀ (k0_h1 : k0_cond1 i k0_t2 = 1#1), ∀ a x, ((![v1948, v1921] : Fin 2 → IVec S16 32) a x).toNat < S160x142.size a := fun i k0_t2 v1921 v1948 k0_hw923 k0_h1 => k0_hw923 k0_h1

def k0_chk914 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) : Prop :=
  (∀ (k0_h1 : k0_cond1 i k0_t2 = 1#1), ∀ a x, ((![v15, v1921] : Fin 2 → IVec S16 32) a x).toNat < S256x142.size a) ∧
  (∀ (k0_h1 : k0_cond1 i k0_t2 = 1#1), ∀ a x, ((![v20, v1921] : Fin 2 → IVec S16 32) a x).toNat < S256x142.size a) ∧
  (∀ (k0_h1 : k0_cond1 i k0_t2 = 1#1), ∀ a x, ((![v25, v1921] : Fin 2 → IVec S16 32) a x).toNat < S256x142.size a) ∧
  (∀ (k0_h1 : k0_cond1 i k0_t2 = 1#1), ∀ a x, ((![v30, v1921] : Fin 2 → IVec S16 32) a x).toNat < S256x142.size a) ∧
  (∀ (k0_h1 : k0_cond1 i k0_t2 = 1#1), ∀ a x, ((![v35, v1921] : Fin 2 → IVec S16 32) a x).toNat < S256x142.size a) ∧
  (∀ (k0_h1 : k0_cond1 i k0_t2 = 1#1), ∀ a x, ((![v40, v1921] : Fin 2 → IVec S16 32) a x).toNat < S256x142.size a) ∧
  (∀ (k0_h1 : k0_cond1 i k0_t2 = 1#1), ∀ a x, ((![v45, v1921] : Fin 2 → IVec S16 32) a x).toNat < S256x142.size a) ∧
  (∀ (k0_h1 : k0_cond1 i k0_t2 = 1#1), ∀ a x, ((![v50, v1921] : Fin 2 → IVec S16 32) a x).toNat < S256x142.size a) ∧
  (∀ (k0_h1 : k0_cond1 i k0_t2 = 1#1), ∀ a x, ((![v55, v1921] : Fin 2 → IVec S16 32) a x).toNat < S256x142.size a) ∧
  (∀ (k0_h1 : k0_cond1 i k0_t2 = 1#1), ∀ a x, ((![v60, v1921] : Fin 2 → IVec S16 32) a x).toNat < S256x142.size a)
theorem k0_idx1487_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v15, v1921] : Fin 2 → IVec S16 32) a x).toNat < S256x142.size a := fun i k0_t2 v15 v20 v25 v30 v35 v40 v45 v50 v55 v60 v1921 k0_hw914 k0_h1 => k0_hw914.1 k0_h1
theorem k0_idx1489_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v20, v1921] : Fin 2 → IVec S16 32) a x).toNat < S256x142.size a := fun i k0_t2 v15 v20 v25 v30 v35 v40 v45 v50 v55 v60 v1921 k0_hw914 k0_h1 => k0_hw914.2.1 k0_h1
theorem k0_idx1491_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v25, v1921] : Fin 2 → IVec S16 32) a x).toNat < S256x142.size a := fun i k0_t2 v15 v20 v25 v30 v35 v40 v45 v50 v55 v60 v1921 k0_hw914 k0_h1 => k0_hw914.2.2.1 k0_h1
theorem k0_idx1493_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v30, v1921] : Fin 2 → IVec S16 32) a x).toNat < S256x142.size a := fun i k0_t2 v15 v20 v25 v30 v35 v40 v45 v50 v55 v60 v1921 k0_hw914 k0_h1 => k0_hw914.2.2.2.1 k0_h1
theorem k0_idx1495_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v35, v1921] : Fin 2 → IVec S16 32) a x).toNat < S256x142.size a := fun i k0_t2 v15 v20 v25 v30 v35 v40 v45 v50 v55 v60 v1921 k0_hw914 k0_h1 => k0_hw914.2.2.2.2.1 k0_h1
theorem k0_idx1497_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v40, v1921] : Fin 2 → IVec S16 32) a x).toNat < S256x142.size a := fun i k0_t2 v15 v20 v25 v30 v35 v40 v45 v50 v55 v60 v1921 k0_hw914 k0_h1 => k0_hw914.2.2.2.2.2.1 k0_h1
theorem k0_idx1499_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v45, v1921] : Fin 2 → IVec S16 32) a x).toNat < S256x142.size a := fun i k0_t2 v15 v20 v25 v30 v35 v40 v45 v50 v55 v60 v1921 k0_hw914 k0_h1 => k0_hw914.2.2.2.2.2.2.1 k0_h1
theorem k0_idx1501_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v50, v1921] : Fin 2 → IVec S16 32) a x).toNat < S256x142.size a := fun i k0_t2 v15 v20 v25 v30 v35 v40 v45 v50 v55 v60 v1921 k0_hw914 k0_h1 => k0_hw914.2.2.2.2.2.2.2.1 k0_h1
theorem k0_idx1503_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v55, v1921] : Fin 2 → IVec S16 32) a x).toNat < S256x142.size a := fun i k0_t2 v15 v20 v25 v30 v35 v40 v45 v50 v55 v60 v1921 k0_hw914 k0_h1 => k0_hw914.2.2.2.2.2.2.2.2.1 k0_h1
theorem k0_idx1505_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1921 : IVec S16 32) (k0_hw914 : k0_chk914 i k0_t2 v15 v20 v25 v30 v35 v40 v45 v50 v55 v60 v1921), ∀ (k0_h1 : k0_cond1 i k0_t2 = 1#1), ∀ a x, ((![v60, v1921] : Fin 2 → IVec S16 32) a x).toNat < S256x142.size a := fun i k0_t2 v15 v20 v25 v30 v35 v40 v45 v50 v55 v60 v1921 k0_hw914 k0_h1 => k0_hw914.2.2.2.2.2.2.2.2.2 k0_h1

def k0_chk924 (i : grid0.Coords) (k0_t2 : Fin k0_t2_loop.trips) (v1921 : IVec S16 32) (v1951 : IVec S16 32) : Prop :=
  (∀ (k0_h1 : k0_cond1 i k0_t2 = 1#1), ∀ a x, ((![v1951, v1921] : Fin 2 → IVec S16 32) a x).toNat < S160x142.size a)
theorem k0_idx1506_inb : ∀ (i : grid0.Coords) (k0_t2 : Fin k0_t2_loop.trips) (v1921 : IVec S16 32) (v1951 : IVec S16 32) (k0_hw924 : k0_chk924 i k0_t2 v1921 v1951), ∀ (k0_h1 : k0_cond1 i k0_t2 = 1#1), ∀ a x, ((![v1951, v1921] : Fin 2 → IVec S16 32) a x).toNat < S160x142.size a := fun i k0_t2 v1921 v1951 k0_hw924 k0_h1 => k0_hw924 k0_h1

def k0_chk926 (i : grid0.Coords) (k0_t2 : Fin k0_t2_loop.trips) (v1952 : IVec S16 32) (v1955 : IVec S16 32) : Prop :=
  (∀ (k0_h1 : k0_cond1 i k0_t2 = 1#1), ∀ a x, ((![v1955, v1952] : Fin 2 → IVec S16 32) a x).toNat < S160x142.size a)
theorem k0_idx1508_inb : ∀ (i : grid0.Coords) (k0_t2 : Fin k0_t2_loop.trips) (v1952 : IVec S16 32) (v1955 : IVec S16 32) (k0_hw926 : k0_chk926 i k0_t2 v1952 v1955), ∀ (k0_h1 : k0_cond1 i k0_t2 = 1#1), ∀ a x, ((![v1955, v1952] : Fin 2 → IVec S16 32) a x).toNat < S160x142.size a := fun i k0_t2 v1952 v1955 k0_hw926 k0_h1 => k0_hw926 k0_h1

def k0_chk927 (i : grid0.Coords) (k0_t2 : Fin k0_t2_loop.trips) (v1952 : IVec S16 32) (v1958 : IVec S16 32) : Prop :=
  (∀ (k0_h1 : k0_cond1 i k0_t2 = 1#1), ∀ a x, ((![v1958, v1952] : Fin 2 → IVec S16 32) a x).toNat < S160x142.size a)
theorem k0_idx1510_inb : ∀ (i : grid0.Coords) (k0_t2 : Fin k0_t2_loop.trips) (v1952 : IVec S16 32) (v1958 : IVec S16 32) (k0_hw927 : k0_chk927 i k0_t2 v1952 v1958), ∀ (k0_h1 : k0_cond1 i k0_t2 = 1#1), ∀ a x, ((![v1958, v1952] : Fin 2 → IVec S16 32) a x).toNat < S160x142.size a := fun i k0_t2 v1952 v1958 k0_hw927 k0_h1 => k0_hw927 k0_h1

def k0_chk928 (i : grid0.Coords) (k0_t2 : Fin k0_t2_loop.trips) (v1952 : IVec S16 32) (v1961 : IVec S16 32) : Prop :=
  (∀ (k0_h1 : k0_cond1 i k0_t2 = 1#1), ∀ a x, ((![v1961, v1952] : Fin 2 → IVec S16 32) a x).toNat < S160x142.size a)
theorem k0_idx1512_inb : ∀ (i : grid0.Coords) (k0_t2 : Fin k0_t2_loop.trips) (v1952 : IVec S16 32) (v1961 : IVec S16 32) (k0_hw928 : k0_chk928 i k0_t2 v1952 v1961), ∀ (k0_h1 : k0_cond1 i k0_t2 = 1#1), ∀ a x, ((![v1961, v1952] : Fin 2 → IVec S16 32) a x).toNat < S160x142.size a := fun i k0_t2 v1952 v1961 k0_hw928 k0_h1 => k0_hw928 k0_h1

def k0_chk929 (i : grid0.Coords) (k0_t2 : Fin k0_t2_loop.trips) (v1952 : IVec S16 32) (v1964 : IVec S16 32) : Prop :=
  (∀ (k0_h1 : k0_cond1 i k0_t2 = 1#1), ∀ a x, ((![v1964, v1952] : Fin 2 → IVec S16 32) a x).toNat < S160x142.size a)
theorem k0_idx1514_inb : ∀ (i : grid0.Coords) (k0_t2 : Fin k0_t2_loop.trips) (v1952 : IVec S16 32) (v1964 : IVec S16 32) (k0_hw929 : k0_chk929 i k0_t2 v1952 v1964), ∀ (k0_h1 : k0_cond1 i k0_t2 = 1#1), ∀ a x, ((![v1964, v1952] : Fin 2 → IVec S16 32) a x).toNat < S160x142.size a := fun i k0_t2 v1952 v1964 k0_hw929 k0_h1 => k0_hw929 k0_h1

def k0_chk930 (i : grid0.Coords) (k0_t2 : Fin k0_t2_loop.trips) (v1952 : IVec S16 32) (v1967 : IVec S16 32) : Prop :=
  (∀ (k0_h1 : k0_cond1 i k0_t2 = 1#1), ∀ a x, ((![v1967, v1952] : Fin 2 → IVec S16 32) a x).toNat < S160x142.size a)
theorem k0_idx1516_inb : ∀ (i : grid0.Coords) (k0_t2 : Fin k0_t2_loop.trips) (v1952 : IVec S16 32) (v1967 : IVec S16 32) (k0_hw930 : k0_chk930 i k0_t2 v1952 v1967), ∀ (k0_h1 : k0_cond1 i k0_t2 = 1#1), ∀ a x, ((![v1967, v1952] : Fin 2 → IVec S16 32) a x).toNat < S160x142.size a := fun i k0_t2 v1952 v1967 k0_hw930 k0_h1 => k0_hw930 k0_h1

def k0_chk931 (i : grid0.Coords) (k0_t2 : Fin k0_t2_loop.trips) (v1952 : IVec S16 32) (v1970 : IVec S16 32) : Prop :=
  (∀ (k0_h1 : k0_cond1 i k0_t2 = 1#1), ∀ a x, ((![v1970, v1952] : Fin 2 → IVec S16 32) a x).toNat < S160x142.size a)
theorem k0_idx1518_inb : ∀ (i : grid0.Coords) (k0_t2 : Fin k0_t2_loop.trips) (v1952 : IVec S16 32) (v1970 : IVec S16 32) (k0_hw931 : k0_chk931 i k0_t2 v1952 v1970), ∀ (k0_h1 : k0_cond1 i k0_t2 = 1#1), ∀ a x, ((![v1970, v1952] : Fin 2 → IVec S16 32) a x).toNat < S160x142.size a := fun i k0_t2 v1952 v1970 k0_hw931 k0_h1 => k0_hw931 k0_h1

def k0_chk932 (i : grid0.Coords) (k0_t2 : Fin k0_t2_loop.trips) (v1952 : IVec S16 32) (v1973 : IVec S16 32) : Prop :=
  (∀ (k0_h1 : k0_cond1 i k0_t2 = 1#1), ∀ a x, ((![v1973, v1952] : Fin 2 → IVec S16 32) a x).toNat < S160x142.size a)
theorem k0_idx1520_inb : ∀ (i : grid0.Coords) (k0_t2 : Fin k0_t2_loop.trips) (v1952 : IVec S16 32) (v1973 : IVec S16 32) (k0_hw932 : k0_chk932 i k0_t2 v1952 v1973), ∀ (k0_h1 : k0_cond1 i k0_t2 = 1#1), ∀ a x, ((![v1973, v1952] : Fin 2 → IVec S16 32) a x).toNat < S160x142.size a := fun i k0_t2 v1952 v1973 k0_hw932 k0_h1 => k0_hw932 k0_h1

def k0_chk933 (i : grid0.Coords) (k0_t2 : Fin k0_t2_loop.trips) (v1952 : IVec S16 32) (v1976 : IVec S16 32) : Prop :=
  (∀ (k0_h1 : k0_cond1 i k0_t2 = 1#1), ∀ a x, ((![v1976, v1952] : Fin 2 → IVec S16 32) a x).toNat < S160x142.size a)
theorem k0_idx1522_inb : ∀ (i : grid0.Coords) (k0_t2 : Fin k0_t2_loop.trips) (v1952 : IVec S16 32) (v1976 : IVec S16 32) (k0_hw933 : k0_chk933 i k0_t2 v1952 v1976), ∀ (k0_h1 : k0_cond1 i k0_t2 = 1#1), ∀ a x, ((![v1976, v1952] : Fin 2 → IVec S16 32) a x).toNat < S160x142.size a := fun i k0_t2 v1952 v1976 k0_hw933 k0_h1 => k0_hw933 k0_h1

def k0_chk934 (i : grid0.Coords) (k0_t2 : Fin k0_t2_loop.trips) (v1952 : IVec S16 32) (v1979 : IVec S16 32) : Prop :=
  (∀ (k0_h1 : k0_cond1 i k0_t2 = 1#1), ∀ a x, ((![v1979, v1952] : Fin 2 → IVec S16 32) a x).toNat < S160x142.size a)
theorem k0_idx1524_inb : ∀ (i : grid0.Coords) (k0_t2 : Fin k0_t2_loop.trips) (v1952 : IVec S16 32) (v1979 : IVec S16 32) (k0_hw934 : k0_chk934 i k0_t2 v1952 v1979), ∀ (k0_h1 : k0_cond1 i k0_t2 = 1#1), ∀ a x, ((![v1979, v1952] : Fin 2 → IVec S16 32) a x).toNat < S160x142.size a := fun i k0_t2 v1952 v1979 k0_hw934 k0_h1 => k0_hw934 k0_h1

def k0_chk925 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) : Prop :=
  (∀ (k0_h1 : k0_cond1 i k0_t2 = 1#1), ∀ a x, ((![v15, v1952] : Fin 2 → IVec S16 32) a x).toNat < S256x142.size a) ∧
  (∀ (k0_h1 : k0_cond1 i k0_t2 = 1#1), ∀ a x, ((![v20, v1952] : Fin 2 → IVec S16 32) a x).toNat < S256x142.size a) ∧
  (∀ (k0_h1 : k0_cond1 i k0_t2 = 1#1), ∀ a x, ((![v25, v1952] : Fin 2 → IVec S16 32) a x).toNat < S256x142.size a) ∧
  (∀ (k0_h1 : k0_cond1 i k0_t2 = 1#1), ∀ a x, ((![v30, v1952] : Fin 2 → IVec S16 32) a x).toNat < S256x142.size a) ∧
  (∀ (k0_h1 : k0_cond1 i k0_t2 = 1#1), ∀ a x, ((![v35, v1952] : Fin 2 → IVec S16 32) a x).toNat < S256x142.size a) ∧
  (∀ (k0_h1 : k0_cond1 i k0_t2 = 1#1), ∀ a x, ((![v40, v1952] : Fin 2 → IVec S16 32) a x).toNat < S256x142.size a) ∧
  (∀ (k0_h1 : k0_cond1 i k0_t2 = 1#1), ∀ a x, ((![v45, v1952] : Fin 2 → IVec S16 32) a x).toNat < S256x142.size a) ∧
  (∀ (k0_h1 : k0_cond1 i k0_t2 = 1#1), ∀ a x, ((![v50, v1952] : Fin 2 → IVec S16 32) a x).toNat < S256x142.size a) ∧
  (∀ (k0_h1 : k0_cond1 i k0_t2 = 1#1), ∀ a x, ((![v55, v1952] : Fin 2 → IVec S16 32) a x).toNat < S256x142.size a) ∧
  (∀ (k0_h1 : k0_cond1 i k0_t2 = 1#1), ∀ a x, ((![v60, v1952] : Fin 2 → IVec S16 32) a x).toNat < S256x142.size a)
theorem k0_idx1507_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v15, v1952] : Fin 2 → IVec S16 32) a x).toNat < S256x142.size a := fun i k0_t2 v15 v20 v25 v30 v35 v40 v45 v50 v55 v60 v1952 k0_hw925 k0_h1 => k0_hw925.1 k0_h1
theorem k0_idx1509_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v20, v1952] : Fin 2 → IVec S16 32) a x).toNat < S256x142.size a := fun i k0_t2 v15 v20 v25 v30 v35 v40 v45 v50 v55 v60 v1952 k0_hw925 k0_h1 => k0_hw925.2.1 k0_h1
theorem k0_idx1511_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v25, v1952] : Fin 2 → IVec S16 32) a x).toNat < S256x142.size a := fun i k0_t2 v15 v20 v25 v30 v35 v40 v45 v50 v55 v60 v1952 k0_hw925 k0_h1 => k0_hw925.2.2.1 k0_h1
theorem k0_idx1513_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v30, v1952] : Fin 2 → IVec S16 32) a x).toNat < S256x142.size a := fun i k0_t2 v15 v20 v25 v30 v35 v40 v45 v50 v55 v60 v1952 k0_hw925 k0_h1 => k0_hw925.2.2.2.1 k0_h1
theorem k0_idx1515_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v35, v1952] : Fin 2 → IVec S16 32) a x).toNat < S256x142.size a := fun i k0_t2 v15 v20 v25 v30 v35 v40 v45 v50 v55 v60 v1952 k0_hw925 k0_h1 => k0_hw925.2.2.2.2.1 k0_h1
theorem k0_idx1517_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v40, v1952] : Fin 2 → IVec S16 32) a x).toNat < S256x142.size a := fun i k0_t2 v15 v20 v25 v30 v35 v40 v45 v50 v55 v60 v1952 k0_hw925 k0_h1 => k0_hw925.2.2.2.2.2.1 k0_h1
theorem k0_idx1519_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v45, v1952] : Fin 2 → IVec S16 32) a x).toNat < S256x142.size a := fun i k0_t2 v15 v20 v25 v30 v35 v40 v45 v50 v55 v60 v1952 k0_hw925 k0_h1 => k0_hw925.2.2.2.2.2.2.1 k0_h1
theorem k0_idx1521_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v50, v1952] : Fin 2 → IVec S16 32) a x).toNat < S256x142.size a := fun i k0_t2 v15 v20 v25 v30 v35 v40 v45 v50 v55 v60 v1952 k0_hw925 k0_h1 => k0_hw925.2.2.2.2.2.2.2.1 k0_h1
theorem k0_idx1523_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v55, v1952] : Fin 2 → IVec S16 32) a x).toNat < S256x142.size a := fun i k0_t2 v15 v20 v25 v30 v35 v40 v45 v50 v55 v60 v1952 k0_hw925 k0_h1 => k0_hw925.2.2.2.2.2.2.2.2.1 k0_h1
theorem k0_idx1525_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1952 : IVec S16 32) (k0_hw925 : k0_chk925 i k0_t2 v15 v20 v25 v30 v35 v40 v45 v50 v55 v60 v1952), ∀ (k0_h1 : k0_cond1 i k0_t2 = 1#1), ∀ a x, ((![v60, v1952] : Fin 2 → IVec S16 32) a x).toNat < S256x142.size a := fun i k0_t2 v15 v20 v25 v30 v35 v40 v45 v50 v55 v60 v1952 k0_hw925 k0_h1 => k0_hw925.2.2.2.2.2.2.2.2.2 k0_h1

def k0_chk935 (i : grid0.Coords) (k0_t2 : Fin k0_t2_loop.trips) (v1952 : IVec S16 32) (v1982 : IVec S16 32) : Prop :=
  (∀ (k0_h1 : k0_cond1 i k0_t2 = 1#1), ∀ a x, ((![v1982, v1952] : Fin 2 → IVec S16 32) a x).toNat < S160x142.size a)
theorem k0_idx1526_inb : ∀ (i : grid0.Coords) (k0_t2 : Fin k0_t2_loop.trips) (v1952 : IVec S16 32) (v1982 : IVec S16 32) (k0_hw935 : k0_chk935 i k0_t2 v1952 v1982), ∀ (k0_h1 : k0_cond1 i k0_t2 = 1#1), ∀ a x, ((![v1982, v1952] : Fin 2 → IVec S16 32) a x).toNat < S160x142.size a := fun i k0_t2 v1952 v1982 k0_hw935 k0_h1 => k0_hw935 k0_h1

def k0_chk937 (i : grid0.Coords) (k0_t2 : Fin k0_t2_loop.trips) (v1983 : IVec S16 32) (v1986 : IVec S16 32) : Prop :=
  (∀ (k0_h1 : k0_cond1 i k0_t2 = 1#1), ∀ a x, ((![v1986, v1983] : Fin 2 → IVec S16 32) a x).toNat < S160x142.size a)
theorem k0_idx1528_inb : ∀ (i : grid0.Coords) (k0_t2 : Fin k0_t2_loop.trips) (v1983 : IVec S16 32) (v1986 : IVec S16 32) (k0_hw937 : k0_chk937 i k0_t2 v1983 v1986), ∀ (k0_h1 : k0_cond1 i k0_t2 = 1#1), ∀ a x, ((![v1986, v1983] : Fin 2 → IVec S16 32) a x).toNat < S160x142.size a := fun i k0_t2 v1983 v1986 k0_hw937 k0_h1 => k0_hw937 k0_h1

def k0_chk938 (i : grid0.Coords) (k0_t2 : Fin k0_t2_loop.trips) (v1983 : IVec S16 32) (v1989 : IVec S16 32) : Prop :=
  (∀ (k0_h1 : k0_cond1 i k0_t2 = 1#1), ∀ a x, ((![v1989, v1983] : Fin 2 → IVec S16 32) a x).toNat < S160x142.size a)
theorem k0_idx1530_inb : ∀ (i : grid0.Coords) (k0_t2 : Fin k0_t2_loop.trips) (v1983 : IVec S16 32) (v1989 : IVec S16 32) (k0_hw938 : k0_chk938 i k0_t2 v1983 v1989), ∀ (k0_h1 : k0_cond1 i k0_t2 = 1#1), ∀ a x, ((![v1989, v1983] : Fin 2 → IVec S16 32) a x).toNat < S160x142.size a := fun i k0_t2 v1983 v1989 k0_hw938 k0_h1 => k0_hw938 k0_h1

def k0_chk939 (i : grid0.Coords) (k0_t2 : Fin k0_t2_loop.trips) (v1983 : IVec S16 32) (v1992 : IVec S16 32) : Prop :=
  (∀ (k0_h1 : k0_cond1 i k0_t2 = 1#1), ∀ a x, ((![v1992, v1983] : Fin 2 → IVec S16 32) a x).toNat < S160x142.size a)
theorem k0_idx1532_inb : ∀ (i : grid0.Coords) (k0_t2 : Fin k0_t2_loop.trips) (v1983 : IVec S16 32) (v1992 : IVec S16 32) (k0_hw939 : k0_chk939 i k0_t2 v1983 v1992), ∀ (k0_h1 : k0_cond1 i k0_t2 = 1#1), ∀ a x, ((![v1992, v1983] : Fin 2 → IVec S16 32) a x).toNat < S160x142.size a := fun i k0_t2 v1983 v1992 k0_hw939 k0_h1 => k0_hw939 k0_h1

def k0_chk940 (i : grid0.Coords) (k0_t2 : Fin k0_t2_loop.trips) (v1983 : IVec S16 32) (v1995 : IVec S16 32) : Prop :=
  (∀ (k0_h1 : k0_cond1 i k0_t2 = 1#1), ∀ a x, ((![v1995, v1983] : Fin 2 → IVec S16 32) a x).toNat < S160x142.size a)
theorem k0_idx1534_inb : ∀ (i : grid0.Coords) (k0_t2 : Fin k0_t2_loop.trips) (v1983 : IVec S16 32) (v1995 : IVec S16 32) (k0_hw940 : k0_chk940 i k0_t2 v1983 v1995), ∀ (k0_h1 : k0_cond1 i k0_t2 = 1#1), ∀ a x, ((![v1995, v1983] : Fin 2 → IVec S16 32) a x).toNat < S160x142.size a := fun i k0_t2 v1983 v1995 k0_hw940 k0_h1 => k0_hw940 k0_h1

def k0_chk941 (i : grid0.Coords) (k0_t2 : Fin k0_t2_loop.trips) (v1983 : IVec S16 32) (v1998 : IVec S16 32) : Prop :=
  (∀ (k0_h1 : k0_cond1 i k0_t2 = 1#1), ∀ a x, ((![v1998, v1983] : Fin 2 → IVec S16 32) a x).toNat < S160x142.size a)
theorem k0_idx1536_inb : ∀ (i : grid0.Coords) (k0_t2 : Fin k0_t2_loop.trips) (v1983 : IVec S16 32) (v1998 : IVec S16 32) (k0_hw941 : k0_chk941 i k0_t2 v1983 v1998), ∀ (k0_h1 : k0_cond1 i k0_t2 = 1#1), ∀ a x, ((![v1998, v1983] : Fin 2 → IVec S16 32) a x).toNat < S160x142.size a := fun i k0_t2 v1983 v1998 k0_hw941 k0_h1 => k0_hw941 k0_h1

def k0_chk942 (i : grid0.Coords) (k0_t2 : Fin k0_t2_loop.trips) (v1983 : IVec S16 32) (v2001 : IVec S16 32) : Prop :=
  (∀ (k0_h1 : k0_cond1 i k0_t2 = 1#1), ∀ a x, ((![v2001, v1983] : Fin 2 → IVec S16 32) a x).toNat < S160x142.size a)
theorem k0_idx1538_inb : ∀ (i : grid0.Coords) (k0_t2 : Fin k0_t2_loop.trips) (v1983 : IVec S16 32) (v2001 : IVec S16 32) (k0_hw942 : k0_chk942 i k0_t2 v1983 v2001), ∀ (k0_h1 : k0_cond1 i k0_t2 = 1#1), ∀ a x, ((![v2001, v1983] : Fin 2 → IVec S16 32) a x).toNat < S160x142.size a := fun i k0_t2 v1983 v2001 k0_hw942 k0_h1 => k0_hw942 k0_h1

def k0_chk943 (i : grid0.Coords) (k0_t2 : Fin k0_t2_loop.trips) (v1983 : IVec S16 32) (v2004 : IVec S16 32) : Prop :=
  (∀ (k0_h1 : k0_cond1 i k0_t2 = 1#1), ∀ a x, ((![v2004, v1983] : Fin 2 → IVec S16 32) a x).toNat < S160x142.size a)
theorem k0_idx1540_inb : ∀ (i : grid0.Coords) (k0_t2 : Fin k0_t2_loop.trips) (v1983 : IVec S16 32) (v2004 : IVec S16 32) (k0_hw943 : k0_chk943 i k0_t2 v1983 v2004), ∀ (k0_h1 : k0_cond1 i k0_t2 = 1#1), ∀ a x, ((![v2004, v1983] : Fin 2 → IVec S16 32) a x).toNat < S160x142.size a := fun i k0_t2 v1983 v2004 k0_hw943 k0_h1 => k0_hw943 k0_h1

def k0_chk944 (i : grid0.Coords) (k0_t2 : Fin k0_t2_loop.trips) (v1983 : IVec S16 32) (v2007 : IVec S16 32) : Prop :=
  (∀ (k0_h1 : k0_cond1 i k0_t2 = 1#1), ∀ a x, ((![v2007, v1983] : Fin 2 → IVec S16 32) a x).toNat < S160x142.size a)
theorem k0_idx1542_inb : ∀ (i : grid0.Coords) (k0_t2 : Fin k0_t2_loop.trips) (v1983 : IVec S16 32) (v2007 : IVec S16 32) (k0_hw944 : k0_chk944 i k0_t2 v1983 v2007), ∀ (k0_h1 : k0_cond1 i k0_t2 = 1#1), ∀ a x, ((![v2007, v1983] : Fin 2 → IVec S16 32) a x).toNat < S160x142.size a := fun i k0_t2 v1983 v2007 k0_hw944 k0_h1 => k0_hw944 k0_h1

def k0_chk945 (i : grid0.Coords) (k0_t2 : Fin k0_t2_loop.trips) (v1983 : IVec S16 32) (v2010 : IVec S16 32) : Prop :=
  (∀ (k0_h1 : k0_cond1 i k0_t2 = 1#1), ∀ a x, ((![v2010, v1983] : Fin 2 → IVec S16 32) a x).toNat < S160x142.size a)
theorem k0_idx1544_inb : ∀ (i : grid0.Coords) (k0_t2 : Fin k0_t2_loop.trips) (v1983 : IVec S16 32) (v2010 : IVec S16 32) (k0_hw945 : k0_chk945 i k0_t2 v1983 v2010), ∀ (k0_h1 : k0_cond1 i k0_t2 = 1#1), ∀ a x, ((![v2010, v1983] : Fin 2 → IVec S16 32) a x).toNat < S160x142.size a := fun i k0_t2 v1983 v2010 k0_hw945 k0_h1 => k0_hw945 k0_h1

def k0_chk936 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) : Prop :=
  (∀ (k0_h1 : k0_cond1 i k0_t2 = 1#1), ∀ a x, ((![v15, v1983] : Fin 2 → IVec S16 32) a x).toNat < S256x142.size a) ∧
  (∀ (k0_h1 : k0_cond1 i k0_t2 = 1#1), ∀ a x, ((![v20, v1983] : Fin 2 → IVec S16 32) a x).toNat < S256x142.size a) ∧
  (∀ (k0_h1 : k0_cond1 i k0_t2 = 1#1), ∀ a x, ((![v25, v1983] : Fin 2 → IVec S16 32) a x).toNat < S256x142.size a) ∧
  (∀ (k0_h1 : k0_cond1 i k0_t2 = 1#1), ∀ a x, ((![v30, v1983] : Fin 2 → IVec S16 32) a x).toNat < S256x142.size a) ∧
  (∀ (k0_h1 : k0_cond1 i k0_t2 = 1#1), ∀ a x, ((![v35, v1983] : Fin 2 → IVec S16 32) a x).toNat < S256x142.size a) ∧
  (∀ (k0_h1 : k0_cond1 i k0_t2 = 1#1), ∀ a x, ((![v40, v1983] : Fin 2 → IVec S16 32) a x).toNat < S256x142.size a) ∧
  (∀ (k0_h1 : k0_cond1 i k0_t2 = 1#1), ∀ a x, ((![v45, v1983] : Fin 2 → IVec S16 32) a x).toNat < S256x142.size a) ∧
  (∀ (k0_h1 : k0_cond1 i k0_t2 = 1#1), ∀ a x, ((![v50, v1983] : Fin 2 → IVec S16 32) a x).toNat < S256x142.size a) ∧
  (∀ (k0_h1 : k0_cond1 i k0_t2 = 1#1), ∀ a x, ((![v55, v1983] : Fin 2 → IVec S16 32) a x).toNat < S256x142.size a) ∧
  (∀ (k0_h1 : k0_cond1 i k0_t2 = 1#1), ∀ a x, ((![v60, v1983] : Fin 2 → IVec S16 32) a x).toNat < S256x142.size a)
theorem k0_idx1527_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v15, v1983] : Fin 2 → IVec S16 32) a x).toNat < S256x142.size a := fun i k0_t2 v15 v20 v25 v30 v35 v40 v45 v50 v55 v60 v1983 k0_hw936 k0_h1 => k0_hw936.1 k0_h1
theorem k0_idx1529_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v20, v1983] : Fin 2 → IVec S16 32) a x).toNat < S256x142.size a := fun i k0_t2 v15 v20 v25 v30 v35 v40 v45 v50 v55 v60 v1983 k0_hw936 k0_h1 => k0_hw936.2.1 k0_h1
theorem k0_idx1531_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v25, v1983] : Fin 2 → IVec S16 32) a x).toNat < S256x142.size a := fun i k0_t2 v15 v20 v25 v30 v35 v40 v45 v50 v55 v60 v1983 k0_hw936 k0_h1 => k0_hw936.2.2.1 k0_h1
theorem k0_idx1533_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v30, v1983] : Fin 2 → IVec S16 32) a x).toNat < S256x142.size a := fun i k0_t2 v15 v20 v25 v30 v35 v40 v45 v50 v55 v60 v1983 k0_hw936 k0_h1 => k0_hw936.2.2.2.1 k0_h1
theorem k0_idx1535_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v35, v1983] : Fin 2 → IVec S16 32) a x).toNat < S256x142.size a := fun i k0_t2 v15 v20 v25 v30 v35 v40 v45 v50 v55 v60 v1983 k0_hw936 k0_h1 => k0_hw936.2.2.2.2.1 k0_h1
theorem k0_idx1537_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v40, v1983] : Fin 2 → IVec S16 32) a x).toNat < S256x142.size a := fun i k0_t2 v15 v20 v25 v30 v35 v40 v45 v50 v55 v60 v1983 k0_hw936 k0_h1 => k0_hw936.2.2.2.2.2.1 k0_h1
theorem k0_idx1539_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v45, v1983] : Fin 2 → IVec S16 32) a x).toNat < S256x142.size a := fun i k0_t2 v15 v20 v25 v30 v35 v40 v45 v50 v55 v60 v1983 k0_hw936 k0_h1 => k0_hw936.2.2.2.2.2.2.1 k0_h1
theorem k0_idx1541_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v50, v1983] : Fin 2 → IVec S16 32) a x).toNat < S256x142.size a := fun i k0_t2 v15 v20 v25 v30 v35 v40 v45 v50 v55 v60 v1983 k0_hw936 k0_h1 => k0_hw936.2.2.2.2.2.2.2.1 k0_h1
theorem k0_idx1543_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v55, v1983] : Fin 2 → IVec S16 32) a x).toNat < S256x142.size a := fun i k0_t2 v15 v20 v25 v30 v35 v40 v45 v50 v55 v60 v1983 k0_hw936 k0_h1 => k0_hw936.2.2.2.2.2.2.2.2.1 k0_h1
theorem k0_idx1545_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v1983 : IVec S16 32) (k0_hw936 : k0_chk936 i k0_t2 v15 v20 v25 v30 v35 v40 v45 v50 v55 v60 v1983), ∀ (k0_h1 : k0_cond1 i k0_t2 = 1#1), ∀ a x, ((![v60, v1983] : Fin 2 → IVec S16 32) a x).toNat < S256x142.size a := fun i k0_t2 v15 v20 v25 v30 v35 v40 v45 v50 v55 v60 v1983 k0_hw936 k0_h1 => k0_hw936.2.2.2.2.2.2.2.2.2 k0_h1

def k0_chk946 (i : grid0.Coords) (k0_t2 : Fin k0_t2_loop.trips) (v1983 : IVec S16 32) (v2013 : IVec S16 32) : Prop :=
  (∀ (k0_h1 : k0_cond1 i k0_t2 = 1#1), ∀ a x, ((![v2013, v1983] : Fin 2 → IVec S16 32) a x).toNat < S160x142.size a)
theorem k0_idx1546_inb : ∀ (i : grid0.Coords) (k0_t2 : Fin k0_t2_loop.trips) (v1983 : IVec S16 32) (v2013 : IVec S16 32) (k0_hw946 : k0_chk946 i k0_t2 v1983 v2013), ∀ (k0_h1 : k0_cond1 i k0_t2 = 1#1), ∀ a x, ((![v2013, v1983] : Fin 2 → IVec S16 32) a x).toNat < S160x142.size a := fun i k0_t2 v1983 v2013 k0_hw946 k0_h1 => k0_hw946 k0_h1

def k0_chk948 (i : grid0.Coords) (k0_t2 : Fin k0_t2_loop.trips) (v2014 : IVec S16 32) (v2017 : IVec S16 32) : Prop :=
  (∀ (k0_h1 : k0_cond1 i k0_t2 = 1#1), ∀ a x, ((![v2017, v2014] : Fin 2 → IVec S16 32) a x).toNat < S160x142.size a)
theorem k0_idx1548_inb : ∀ (i : grid0.Coords) (k0_t2 : Fin k0_t2_loop.trips) (v2014 : IVec S16 32) (v2017 : IVec S16 32) (k0_hw948 : k0_chk948 i k0_t2 v2014 v2017), ∀ (k0_h1 : k0_cond1 i k0_t2 = 1#1), ∀ a x, ((![v2017, v2014] : Fin 2 → IVec S16 32) a x).toNat < S160x142.size a := fun i k0_t2 v2014 v2017 k0_hw948 k0_h1 => k0_hw948 k0_h1

def k0_chk949 (i : grid0.Coords) (k0_t2 : Fin k0_t2_loop.trips) (v2014 : IVec S16 32) (v2020 : IVec S16 32) : Prop :=
  (∀ (k0_h1 : k0_cond1 i k0_t2 = 1#1), ∀ a x, ((![v2020, v2014] : Fin 2 → IVec S16 32) a x).toNat < S160x142.size a)
theorem k0_idx1550_inb : ∀ (i : grid0.Coords) (k0_t2 : Fin k0_t2_loop.trips) (v2014 : IVec S16 32) (v2020 : IVec S16 32) (k0_hw949 : k0_chk949 i k0_t2 v2014 v2020), ∀ (k0_h1 : k0_cond1 i k0_t2 = 1#1), ∀ a x, ((![v2020, v2014] : Fin 2 → IVec S16 32) a x).toNat < S160x142.size a := fun i k0_t2 v2014 v2020 k0_hw949 k0_h1 => k0_hw949 k0_h1

def k0_chk950 (i : grid0.Coords) (k0_t2 : Fin k0_t2_loop.trips) (v2014 : IVec S16 32) (v2023 : IVec S16 32) : Prop :=
  (∀ (k0_h1 : k0_cond1 i k0_t2 = 1#1), ∀ a x, ((![v2023, v2014] : Fin 2 → IVec S16 32) a x).toNat < S160x142.size a)
theorem k0_idx1552_inb : ∀ (i : grid0.Coords) (k0_t2 : Fin k0_t2_loop.trips) (v2014 : IVec S16 32) (v2023 : IVec S16 32) (k0_hw950 : k0_chk950 i k0_t2 v2014 v2023), ∀ (k0_h1 : k0_cond1 i k0_t2 = 1#1), ∀ a x, ((![v2023, v2014] : Fin 2 → IVec S16 32) a x).toNat < S160x142.size a := fun i k0_t2 v2014 v2023 k0_hw950 k0_h1 => k0_hw950 k0_h1

def k0_chk951 (i : grid0.Coords) (k0_t2 : Fin k0_t2_loop.trips) (v2014 : IVec S16 32) (v2026 : IVec S16 32) : Prop :=
  (∀ (k0_h1 : k0_cond1 i k0_t2 = 1#1), ∀ a x, ((![v2026, v2014] : Fin 2 → IVec S16 32) a x).toNat < S160x142.size a)
theorem k0_idx1554_inb : ∀ (i : grid0.Coords) (k0_t2 : Fin k0_t2_loop.trips) (v2014 : IVec S16 32) (v2026 : IVec S16 32) (k0_hw951 : k0_chk951 i k0_t2 v2014 v2026), ∀ (k0_h1 : k0_cond1 i k0_t2 = 1#1), ∀ a x, ((![v2026, v2014] : Fin 2 → IVec S16 32) a x).toNat < S160x142.size a := fun i k0_t2 v2014 v2026 k0_hw951 k0_h1 => k0_hw951 k0_h1

def k0_chk952 (i : grid0.Coords) (k0_t2 : Fin k0_t2_loop.trips) (v2014 : IVec S16 32) (v2029 : IVec S16 32) : Prop :=
  (∀ (k0_h1 : k0_cond1 i k0_t2 = 1#1), ∀ a x, ((![v2029, v2014] : Fin 2 → IVec S16 32) a x).toNat < S160x142.size a)
theorem k0_idx1556_inb : ∀ (i : grid0.Coords) (k0_t2 : Fin k0_t2_loop.trips) (v2014 : IVec S16 32) (v2029 : IVec S16 32) (k0_hw952 : k0_chk952 i k0_t2 v2014 v2029), ∀ (k0_h1 : k0_cond1 i k0_t2 = 1#1), ∀ a x, ((![v2029, v2014] : Fin 2 → IVec S16 32) a x).toNat < S160x142.size a := fun i k0_t2 v2014 v2029 k0_hw952 k0_h1 => k0_hw952 k0_h1

def k0_chk953 (i : grid0.Coords) (k0_t2 : Fin k0_t2_loop.trips) (v2014 : IVec S16 32) (v2032 : IVec S16 32) : Prop :=
  (∀ (k0_h1 : k0_cond1 i k0_t2 = 1#1), ∀ a x, ((![v2032, v2014] : Fin 2 → IVec S16 32) a x).toNat < S160x142.size a)
theorem k0_idx1558_inb : ∀ (i : grid0.Coords) (k0_t2 : Fin k0_t2_loop.trips) (v2014 : IVec S16 32) (v2032 : IVec S16 32) (k0_hw953 : k0_chk953 i k0_t2 v2014 v2032), ∀ (k0_h1 : k0_cond1 i k0_t2 = 1#1), ∀ a x, ((![v2032, v2014] : Fin 2 → IVec S16 32) a x).toNat < S160x142.size a := fun i k0_t2 v2014 v2032 k0_hw953 k0_h1 => k0_hw953 k0_h1

def k0_chk954 (i : grid0.Coords) (k0_t2 : Fin k0_t2_loop.trips) (v2014 : IVec S16 32) (v2035 : IVec S16 32) : Prop :=
  (∀ (k0_h1 : k0_cond1 i k0_t2 = 1#1), ∀ a x, ((![v2035, v2014] : Fin 2 → IVec S16 32) a x).toNat < S160x142.size a)
theorem k0_idx1560_inb : ∀ (i : grid0.Coords) (k0_t2 : Fin k0_t2_loop.trips) (v2014 : IVec S16 32) (v2035 : IVec S16 32) (k0_hw954 : k0_chk954 i k0_t2 v2014 v2035), ∀ (k0_h1 : k0_cond1 i k0_t2 = 1#1), ∀ a x, ((![v2035, v2014] : Fin 2 → IVec S16 32) a x).toNat < S160x142.size a := fun i k0_t2 v2014 v2035 k0_hw954 k0_h1 => k0_hw954 k0_h1

def k0_chk955 (i : grid0.Coords) (k0_t2 : Fin k0_t2_loop.trips) (v2014 : IVec S16 32) (v2038 : IVec S16 32) : Prop :=
  (∀ (k0_h1 : k0_cond1 i k0_t2 = 1#1), ∀ a x, ((![v2038, v2014] : Fin 2 → IVec S16 32) a x).toNat < S160x142.size a)
theorem k0_idx1562_inb : ∀ (i : grid0.Coords) (k0_t2 : Fin k0_t2_loop.trips) (v2014 : IVec S16 32) (v2038 : IVec S16 32) (k0_hw955 : k0_chk955 i k0_t2 v2014 v2038), ∀ (k0_h1 : k0_cond1 i k0_t2 = 1#1), ∀ a x, ((![v2038, v2014] : Fin 2 → IVec S16 32) a x).toNat < S160x142.size a := fun i k0_t2 v2014 v2038 k0_hw955 k0_h1 => k0_hw955 k0_h1

def k0_chk956 (i : grid0.Coords) (k0_t2 : Fin k0_t2_loop.trips) (v2014 : IVec S16 32) (v2041 : IVec S16 32) : Prop :=
  (∀ (k0_h1 : k0_cond1 i k0_t2 = 1#1), ∀ a x, ((![v2041, v2014] : Fin 2 → IVec S16 32) a x).toNat < S160x142.size a)
theorem k0_idx1564_inb : ∀ (i : grid0.Coords) (k0_t2 : Fin k0_t2_loop.trips) (v2014 : IVec S16 32) (v2041 : IVec S16 32) (k0_hw956 : k0_chk956 i k0_t2 v2014 v2041), ∀ (k0_h1 : k0_cond1 i k0_t2 = 1#1), ∀ a x, ((![v2041, v2014] : Fin 2 → IVec S16 32) a x).toNat < S160x142.size a := fun i k0_t2 v2014 v2041 k0_hw956 k0_h1 => k0_hw956 k0_h1

def k0_chk947 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) : Prop :=
  (∀ (k0_h1 : k0_cond1 i k0_t2 = 1#1), ∀ a x, ((![v15, v2014] : Fin 2 → IVec S16 32) a x).toNat < S256x142.size a) ∧
  (∀ (k0_h1 : k0_cond1 i k0_t2 = 1#1), ∀ a x, ((![v20, v2014] : Fin 2 → IVec S16 32) a x).toNat < S256x142.size a) ∧
  (∀ (k0_h1 : k0_cond1 i k0_t2 = 1#1), ∀ a x, ((![v25, v2014] : Fin 2 → IVec S16 32) a x).toNat < S256x142.size a) ∧
  (∀ (k0_h1 : k0_cond1 i k0_t2 = 1#1), ∀ a x, ((![v30, v2014] : Fin 2 → IVec S16 32) a x).toNat < S256x142.size a) ∧
  (∀ (k0_h1 : k0_cond1 i k0_t2 = 1#1), ∀ a x, ((![v35, v2014] : Fin 2 → IVec S16 32) a x).toNat < S256x142.size a) ∧
  (∀ (k0_h1 : k0_cond1 i k0_t2 = 1#1), ∀ a x, ((![v40, v2014] : Fin 2 → IVec S16 32) a x).toNat < S256x142.size a) ∧
  (∀ (k0_h1 : k0_cond1 i k0_t2 = 1#1), ∀ a x, ((![v45, v2014] : Fin 2 → IVec S16 32) a x).toNat < S256x142.size a) ∧
  (∀ (k0_h1 : k0_cond1 i k0_t2 = 1#1), ∀ a x, ((![v50, v2014] : Fin 2 → IVec S16 32) a x).toNat < S256x142.size a) ∧
  (∀ (k0_h1 : k0_cond1 i k0_t2 = 1#1), ∀ a x, ((![v55, v2014] : Fin 2 → IVec S16 32) a x).toNat < S256x142.size a) ∧
  (∀ (k0_h1 : k0_cond1 i k0_t2 = 1#1), ∀ a x, ((![v60, v2014] : Fin 2 → IVec S16 32) a x).toNat < S256x142.size a)
theorem k0_idx1547_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v15, v2014] : Fin 2 → IVec S16 32) a x).toNat < S256x142.size a := fun i k0_t2 v15 v20 v25 v30 v35 v40 v45 v50 v55 v60 v2014 k0_hw947 k0_h1 => k0_hw947.1 k0_h1
theorem k0_idx1549_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v20, v2014] : Fin 2 → IVec S16 32) a x).toNat < S256x142.size a := fun i k0_t2 v15 v20 v25 v30 v35 v40 v45 v50 v55 v60 v2014 k0_hw947 k0_h1 => k0_hw947.2.1 k0_h1
theorem k0_idx1551_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v25, v2014] : Fin 2 → IVec S16 32) a x).toNat < S256x142.size a := fun i k0_t2 v15 v20 v25 v30 v35 v40 v45 v50 v55 v60 v2014 k0_hw947 k0_h1 => k0_hw947.2.2.1 k0_h1
theorem k0_idx1553_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v30, v2014] : Fin 2 → IVec S16 32) a x).toNat < S256x142.size a := fun i k0_t2 v15 v20 v25 v30 v35 v40 v45 v50 v55 v60 v2014 k0_hw947 k0_h1 => k0_hw947.2.2.2.1 k0_h1
theorem k0_idx1555_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v35, v2014] : Fin 2 → IVec S16 32) a x).toNat < S256x142.size a := fun i k0_t2 v15 v20 v25 v30 v35 v40 v45 v50 v55 v60 v2014 k0_hw947 k0_h1 => k0_hw947.2.2.2.2.1 k0_h1
theorem k0_idx1557_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v40, v2014] : Fin 2 → IVec S16 32) a x).toNat < S256x142.size a := fun i k0_t2 v15 v20 v25 v30 v35 v40 v45 v50 v55 v60 v2014 k0_hw947 k0_h1 => k0_hw947.2.2.2.2.2.1 k0_h1
theorem k0_idx1559_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v45, v2014] : Fin 2 → IVec S16 32) a x).toNat < S256x142.size a := fun i k0_t2 v15 v20 v25 v30 v35 v40 v45 v50 v55 v60 v2014 k0_hw947 k0_h1 => k0_hw947.2.2.2.2.2.2.1 k0_h1
theorem k0_idx1561_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v50, v2014] : Fin 2 → IVec S16 32) a x).toNat < S256x142.size a := fun i k0_t2 v15 v20 v25 v30 v35 v40 v45 v50 v55 v60 v2014 k0_hw947 k0_h1 => k0_hw947.2.2.2.2.2.2.2.1 k0_h1
theorem k0_idx1563_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v55, v2014] : Fin 2 → IVec S16 32) a x).toNat < S256x142.size a := fun i k0_t2 v15 v20 v25 v30 v35 v40 v45 v50 v55 v60 v2014 k0_hw947 k0_h1 => k0_hw947.2.2.2.2.2.2.2.2.1 k0_h1
theorem k0_idx1565_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2014 : IVec S16 32) (k0_hw947 : k0_chk947 i k0_t2 v15 v20 v25 v30 v35 v40 v45 v50 v55 v60 v2014), ∀ (k0_h1 : k0_cond1 i k0_t2 = 1#1), ∀ a x, ((![v60, v2014] : Fin 2 → IVec S16 32) a x).toNat < S256x142.size a := fun i k0_t2 v15 v20 v25 v30 v35 v40 v45 v50 v55 v60 v2014 k0_hw947 k0_h1 => k0_hw947.2.2.2.2.2.2.2.2.2 k0_h1

def k0_chk957 (i : grid0.Coords) (k0_t2 : Fin k0_t2_loop.trips) (v2014 : IVec S16 32) (v2044 : IVec S16 32) : Prop :=
  (∀ (k0_h1 : k0_cond1 i k0_t2 = 1#1), ∀ a x, ((![v2044, v2014] : Fin 2 → IVec S16 32) a x).toNat < S160x142.size a)
theorem k0_idx1566_inb : ∀ (i : grid0.Coords) (k0_t2 : Fin k0_t2_loop.trips) (v2014 : IVec S16 32) (v2044 : IVec S16 32) (k0_hw957 : k0_chk957 i k0_t2 v2014 v2044), ∀ (k0_h1 : k0_cond1 i k0_t2 = 1#1), ∀ a x, ((![v2044, v2014] : Fin 2 → IVec S16 32) a x).toNat < S160x142.size a := fun i k0_t2 v2014 v2044 k0_hw957 k0_h1 => k0_hw957 k0_h1

def k0_chk959 (i : grid0.Coords) (k0_t2 : Fin k0_t2_loop.trips) (v2045 : IVec S16 32) (v2048 : IVec S16 32) : Prop :=
  (∀ (k0_h1 : k0_cond1 i k0_t2 = 1#1), ∀ a x, ((![v2048, v2045] : Fin 2 → IVec S16 32) a x).toNat < S160x142.size a)
theorem k0_idx1568_inb : ∀ (i : grid0.Coords) (k0_t2 : Fin k0_t2_loop.trips) (v2045 : IVec S16 32) (v2048 : IVec S16 32) (k0_hw959 : k0_chk959 i k0_t2 v2045 v2048), ∀ (k0_h1 : k0_cond1 i k0_t2 = 1#1), ∀ a x, ((![v2048, v2045] : Fin 2 → IVec S16 32) a x).toNat < S160x142.size a := fun i k0_t2 v2045 v2048 k0_hw959 k0_h1 => k0_hw959 k0_h1

def k0_chk960 (i : grid0.Coords) (k0_t2 : Fin k0_t2_loop.trips) (v2045 : IVec S16 32) (v2051 : IVec S16 32) : Prop :=
  (∀ (k0_h1 : k0_cond1 i k0_t2 = 1#1), ∀ a x, ((![v2051, v2045] : Fin 2 → IVec S16 32) a x).toNat < S160x142.size a)
theorem k0_idx1570_inb : ∀ (i : grid0.Coords) (k0_t2 : Fin k0_t2_loop.trips) (v2045 : IVec S16 32) (v2051 : IVec S16 32) (k0_hw960 : k0_chk960 i k0_t2 v2045 v2051), ∀ (k0_h1 : k0_cond1 i k0_t2 = 1#1), ∀ a x, ((![v2051, v2045] : Fin 2 → IVec S16 32) a x).toNat < S160x142.size a := fun i k0_t2 v2045 v2051 k0_hw960 k0_h1 => k0_hw960 k0_h1

def k0_chk961 (i : grid0.Coords) (k0_t2 : Fin k0_t2_loop.trips) (v2045 : IVec S16 32) (v2054 : IVec S16 32) : Prop :=
  (∀ (k0_h1 : k0_cond1 i k0_t2 = 1#1), ∀ a x, ((![v2054, v2045] : Fin 2 → IVec S16 32) a x).toNat < S160x142.size a)
theorem k0_idx1572_inb : ∀ (i : grid0.Coords) (k0_t2 : Fin k0_t2_loop.trips) (v2045 : IVec S16 32) (v2054 : IVec S16 32) (k0_hw961 : k0_chk961 i k0_t2 v2045 v2054), ∀ (k0_h1 : k0_cond1 i k0_t2 = 1#1), ∀ a x, ((![v2054, v2045] : Fin 2 → IVec S16 32) a x).toNat < S160x142.size a := fun i k0_t2 v2045 v2054 k0_hw961 k0_h1 => k0_hw961 k0_h1

def k0_chk962 (i : grid0.Coords) (k0_t2 : Fin k0_t2_loop.trips) (v2045 : IVec S16 32) (v2057 : IVec S16 32) : Prop :=
  (∀ (k0_h1 : k0_cond1 i k0_t2 = 1#1), ∀ a x, ((![v2057, v2045] : Fin 2 → IVec S16 32) a x).toNat < S160x142.size a)
theorem k0_idx1574_inb : ∀ (i : grid0.Coords) (k0_t2 : Fin k0_t2_loop.trips) (v2045 : IVec S16 32) (v2057 : IVec S16 32) (k0_hw962 : k0_chk962 i k0_t2 v2045 v2057), ∀ (k0_h1 : k0_cond1 i k0_t2 = 1#1), ∀ a x, ((![v2057, v2045] : Fin 2 → IVec S16 32) a x).toNat < S160x142.size a := fun i k0_t2 v2045 v2057 k0_hw962 k0_h1 => k0_hw962 k0_h1

def k0_chk963 (i : grid0.Coords) (k0_t2 : Fin k0_t2_loop.trips) (v2045 : IVec S16 32) (v2060 : IVec S16 32) : Prop :=
  (∀ (k0_h1 : k0_cond1 i k0_t2 = 1#1), ∀ a x, ((![v2060, v2045] : Fin 2 → IVec S16 32) a x).toNat < S160x142.size a)
theorem k0_idx1576_inb : ∀ (i : grid0.Coords) (k0_t2 : Fin k0_t2_loop.trips) (v2045 : IVec S16 32) (v2060 : IVec S16 32) (k0_hw963 : k0_chk963 i k0_t2 v2045 v2060), ∀ (k0_h1 : k0_cond1 i k0_t2 = 1#1), ∀ a x, ((![v2060, v2045] : Fin 2 → IVec S16 32) a x).toNat < S160x142.size a := fun i k0_t2 v2045 v2060 k0_hw963 k0_h1 => k0_hw963 k0_h1

def k0_chk964 (i : grid0.Coords) (k0_t2 : Fin k0_t2_loop.trips) (v2045 : IVec S16 32) (v2063 : IVec S16 32) : Prop :=
  (∀ (k0_h1 : k0_cond1 i k0_t2 = 1#1), ∀ a x, ((![v2063, v2045] : Fin 2 → IVec S16 32) a x).toNat < S160x142.size a)
theorem k0_idx1578_inb : ∀ (i : grid0.Coords) (k0_t2 : Fin k0_t2_loop.trips) (v2045 : IVec S16 32) (v2063 : IVec S16 32) (k0_hw964 : k0_chk964 i k0_t2 v2045 v2063), ∀ (k0_h1 : k0_cond1 i k0_t2 = 1#1), ∀ a x, ((![v2063, v2045] : Fin 2 → IVec S16 32) a x).toNat < S160x142.size a := fun i k0_t2 v2045 v2063 k0_hw964 k0_h1 => k0_hw964 k0_h1

def k0_chk965 (i : grid0.Coords) (k0_t2 : Fin k0_t2_loop.trips) (v2045 : IVec S16 32) (v2066 : IVec S16 32) : Prop :=
  (∀ (k0_h1 : k0_cond1 i k0_t2 = 1#1), ∀ a x, ((![v2066, v2045] : Fin 2 → IVec S16 32) a x).toNat < S160x142.size a)
theorem k0_idx1580_inb : ∀ (i : grid0.Coords) (k0_t2 : Fin k0_t2_loop.trips) (v2045 : IVec S16 32) (v2066 : IVec S16 32) (k0_hw965 : k0_chk965 i k0_t2 v2045 v2066), ∀ (k0_h1 : k0_cond1 i k0_t2 = 1#1), ∀ a x, ((![v2066, v2045] : Fin 2 → IVec S16 32) a x).toNat < S160x142.size a := fun i k0_t2 v2045 v2066 k0_hw965 k0_h1 => k0_hw965 k0_h1

def k0_chk966 (i : grid0.Coords) (k0_t2 : Fin k0_t2_loop.trips) (v2045 : IVec S16 32) (v2069 : IVec S16 32) : Prop :=
  (∀ (k0_h1 : k0_cond1 i k0_t2 = 1#1), ∀ a x, ((![v2069, v2045] : Fin 2 → IVec S16 32) a x).toNat < S160x142.size a)
theorem k0_idx1582_inb : ∀ (i : grid0.Coords) (k0_t2 : Fin k0_t2_loop.trips) (v2045 : IVec S16 32) (v2069 : IVec S16 32) (k0_hw966 : k0_chk966 i k0_t2 v2045 v2069), ∀ (k0_h1 : k0_cond1 i k0_t2 = 1#1), ∀ a x, ((![v2069, v2045] : Fin 2 → IVec S16 32) a x).toNat < S160x142.size a := fun i k0_t2 v2045 v2069 k0_hw966 k0_h1 => k0_hw966 k0_h1

def k0_chk967 (i : grid0.Coords) (k0_t2 : Fin k0_t2_loop.trips) (v2045 : IVec S16 32) (v2072 : IVec S16 32) : Prop :=
  (∀ (k0_h1 : k0_cond1 i k0_t2 = 1#1), ∀ a x, ((![v2072, v2045] : Fin 2 → IVec S16 32) a x).toNat < S160x142.size a)
theorem k0_idx1584_inb : ∀ (i : grid0.Coords) (k0_t2 : Fin k0_t2_loop.trips) (v2045 : IVec S16 32) (v2072 : IVec S16 32) (k0_hw967 : k0_chk967 i k0_t2 v2045 v2072), ∀ (k0_h1 : k0_cond1 i k0_t2 = 1#1), ∀ a x, ((![v2072, v2045] : Fin 2 → IVec S16 32) a x).toNat < S160x142.size a := fun i k0_t2 v2045 v2072 k0_hw967 k0_h1 => k0_hw967 k0_h1

def k0_chk958 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) : Prop :=
  (∀ (k0_h1 : k0_cond1 i k0_t2 = 1#1), ∀ a x, ((![v15, v2045] : Fin 2 → IVec S16 32) a x).toNat < S256x142.size a) ∧
  (∀ (k0_h1 : k0_cond1 i k0_t2 = 1#1), ∀ a x, ((![v20, v2045] : Fin 2 → IVec S16 32) a x).toNat < S256x142.size a) ∧
  (∀ (k0_h1 : k0_cond1 i k0_t2 = 1#1), ∀ a x, ((![v25, v2045] : Fin 2 → IVec S16 32) a x).toNat < S256x142.size a) ∧
  (∀ (k0_h1 : k0_cond1 i k0_t2 = 1#1), ∀ a x, ((![v30, v2045] : Fin 2 → IVec S16 32) a x).toNat < S256x142.size a) ∧
  (∀ (k0_h1 : k0_cond1 i k0_t2 = 1#1), ∀ a x, ((![v35, v2045] : Fin 2 → IVec S16 32) a x).toNat < S256x142.size a) ∧
  (∀ (k0_h1 : k0_cond1 i k0_t2 = 1#1), ∀ a x, ((![v40, v2045] : Fin 2 → IVec S16 32) a x).toNat < S256x142.size a) ∧
  (∀ (k0_h1 : k0_cond1 i k0_t2 = 1#1), ∀ a x, ((![v45, v2045] : Fin 2 → IVec S16 32) a x).toNat < S256x142.size a) ∧
  (∀ (k0_h1 : k0_cond1 i k0_t2 = 1#1), ∀ a x, ((![v50, v2045] : Fin 2 → IVec S16 32) a x).toNat < S256x142.size a) ∧
  (∀ (k0_h1 : k0_cond1 i k0_t2 = 1#1), ∀ a x, ((![v55, v2045] : Fin 2 → IVec S16 32) a x).toNat < S256x142.size a) ∧
  (∀ (k0_h1 : k0_cond1 i k0_t2 = 1#1), ∀ a x, ((![v60, v2045] : Fin 2 → IVec S16 32) a x).toNat < S256x142.size a)
theorem k0_idx1567_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v15, v2045] : Fin 2 → IVec S16 32) a x).toNat < S256x142.size a := fun i k0_t2 v15 v20 v25 v30 v35 v40 v45 v50 v55 v60 v2045 k0_hw958 k0_h1 => k0_hw958.1 k0_h1
theorem k0_idx1569_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v20, v2045] : Fin 2 → IVec S16 32) a x).toNat < S256x142.size a := fun i k0_t2 v15 v20 v25 v30 v35 v40 v45 v50 v55 v60 v2045 k0_hw958 k0_h1 => k0_hw958.2.1 k0_h1
theorem k0_idx1571_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v25, v2045] : Fin 2 → IVec S16 32) a x).toNat < S256x142.size a := fun i k0_t2 v15 v20 v25 v30 v35 v40 v45 v50 v55 v60 v2045 k0_hw958 k0_h1 => k0_hw958.2.2.1 k0_h1
theorem k0_idx1573_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v30, v2045] : Fin 2 → IVec S16 32) a x).toNat < S256x142.size a := fun i k0_t2 v15 v20 v25 v30 v35 v40 v45 v50 v55 v60 v2045 k0_hw958 k0_h1 => k0_hw958.2.2.2.1 k0_h1
theorem k0_idx1575_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v35, v2045] : Fin 2 → IVec S16 32) a x).toNat < S256x142.size a := fun i k0_t2 v15 v20 v25 v30 v35 v40 v45 v50 v55 v60 v2045 k0_hw958 k0_h1 => k0_hw958.2.2.2.2.1 k0_h1
theorem k0_idx1577_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v40, v2045] : Fin 2 → IVec S16 32) a x).toNat < S256x142.size a := fun i k0_t2 v15 v20 v25 v30 v35 v40 v45 v50 v55 v60 v2045 k0_hw958 k0_h1 => k0_hw958.2.2.2.2.2.1 k0_h1
theorem k0_idx1579_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v45, v2045] : Fin 2 → IVec S16 32) a x).toNat < S256x142.size a := fun i k0_t2 v15 v20 v25 v30 v35 v40 v45 v50 v55 v60 v2045 k0_hw958 k0_h1 => k0_hw958.2.2.2.2.2.2.1 k0_h1
theorem k0_idx1581_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v50, v2045] : Fin 2 → IVec S16 32) a x).toNat < S256x142.size a := fun i k0_t2 v15 v20 v25 v30 v35 v40 v45 v50 v55 v60 v2045 k0_hw958 k0_h1 => k0_hw958.2.2.2.2.2.2.2.1 k0_h1
theorem k0_idx1583_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v55, v2045] : Fin 2 → IVec S16 32) a x).toNat < S256x142.size a := fun i k0_t2 v15 v20 v25 v30 v35 v40 v45 v50 v55 v60 v2045 k0_hw958 k0_h1 => k0_hw958.2.2.2.2.2.2.2.2.1 k0_h1
theorem k0_idx1585_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2045 : IVec S16 32) (k0_hw958 : k0_chk958 i k0_t2 v15 v20 v25 v30 v35 v40 v45 v50 v55 v60 v2045), ∀ (k0_h1 : k0_cond1 i k0_t2 = 1#1), ∀ a x, ((![v60, v2045] : Fin 2 → IVec S16 32) a x).toNat < S256x142.size a := fun i k0_t2 v15 v20 v25 v30 v35 v40 v45 v50 v55 v60 v2045 k0_hw958 k0_h1 => k0_hw958.2.2.2.2.2.2.2.2.2 k0_h1

def k0_chk968 (i : grid0.Coords) (k0_t2 : Fin k0_t2_loop.trips) (v2045 : IVec S16 32) (v2075 : IVec S16 32) : Prop :=
  (∀ (k0_h1 : k0_cond1 i k0_t2 = 1#1), ∀ a x, ((![v2075, v2045] : Fin 2 → IVec S16 32) a x).toNat < S160x142.size a)
theorem k0_idx1586_inb : ∀ (i : grid0.Coords) (k0_t2 : Fin k0_t2_loop.trips) (v2045 : IVec S16 32) (v2075 : IVec S16 32) (k0_hw968 : k0_chk968 i k0_t2 v2045 v2075), ∀ (k0_h1 : k0_cond1 i k0_t2 = 1#1), ∀ a x, ((![v2075, v2045] : Fin 2 → IVec S16 32) a x).toNat < S160x142.size a := fun i k0_t2 v2045 v2075 k0_hw968 k0_h1 => k0_hw968 k0_h1

def k0_chk970 (i : grid0.Coords) (k0_t2 : Fin k0_t2_loop.trips) (v2076 : IVec S16 32) (v2079 : IVec S16 32) : Prop :=
  (∀ (k0_h1 : k0_cond1 i k0_t2 = 1#1), ∀ a x, ((![v2079, v2076] : Fin 2 → IVec S16 32) a x).toNat < S160x142.size a)
theorem k0_idx1588_inb : ∀ (i : grid0.Coords) (k0_t2 : Fin k0_t2_loop.trips) (v2076 : IVec S16 32) (v2079 : IVec S16 32) (k0_hw970 : k0_chk970 i k0_t2 v2076 v2079), ∀ (k0_h1 : k0_cond1 i k0_t2 = 1#1), ∀ a x, ((![v2079, v2076] : Fin 2 → IVec S16 32) a x).toNat < S160x142.size a := fun i k0_t2 v2076 v2079 k0_hw970 k0_h1 => k0_hw970 k0_h1

def k0_chk971 (i : grid0.Coords) (k0_t2 : Fin k0_t2_loop.trips) (v2076 : IVec S16 32) (v2082 : IVec S16 32) : Prop :=
  (∀ (k0_h1 : k0_cond1 i k0_t2 = 1#1), ∀ a x, ((![v2082, v2076] : Fin 2 → IVec S16 32) a x).toNat < S160x142.size a)
theorem k0_idx1590_inb : ∀ (i : grid0.Coords) (k0_t2 : Fin k0_t2_loop.trips) (v2076 : IVec S16 32) (v2082 : IVec S16 32) (k0_hw971 : k0_chk971 i k0_t2 v2076 v2082), ∀ (k0_h1 : k0_cond1 i k0_t2 = 1#1), ∀ a x, ((![v2082, v2076] : Fin 2 → IVec S16 32) a x).toNat < S160x142.size a := fun i k0_t2 v2076 v2082 k0_hw971 k0_h1 => k0_hw971 k0_h1

def k0_chk972 (i : grid0.Coords) (k0_t2 : Fin k0_t2_loop.trips) (v2076 : IVec S16 32) (v2085 : IVec S16 32) : Prop :=
  (∀ (k0_h1 : k0_cond1 i k0_t2 = 1#1), ∀ a x, ((![v2085, v2076] : Fin 2 → IVec S16 32) a x).toNat < S160x142.size a)
theorem k0_idx1592_inb : ∀ (i : grid0.Coords) (k0_t2 : Fin k0_t2_loop.trips) (v2076 : IVec S16 32) (v2085 : IVec S16 32) (k0_hw972 : k0_chk972 i k0_t2 v2076 v2085), ∀ (k0_h1 : k0_cond1 i k0_t2 = 1#1), ∀ a x, ((![v2085, v2076] : Fin 2 → IVec S16 32) a x).toNat < S160x142.size a := fun i k0_t2 v2076 v2085 k0_hw972 k0_h1 => k0_hw972 k0_h1

def k0_chk973 (i : grid0.Coords) (k0_t2 : Fin k0_t2_loop.trips) (v2076 : IVec S16 32) (v2088 : IVec S16 32) : Prop :=
  (∀ (k0_h1 : k0_cond1 i k0_t2 = 1#1), ∀ a x, ((![v2088, v2076] : Fin 2 → IVec S16 32) a x).toNat < S160x142.size a)
theorem k0_idx1594_inb : ∀ (i : grid0.Coords) (k0_t2 : Fin k0_t2_loop.trips) (v2076 : IVec S16 32) (v2088 : IVec S16 32) (k0_hw973 : k0_chk973 i k0_t2 v2076 v2088), ∀ (k0_h1 : k0_cond1 i k0_t2 = 1#1), ∀ a x, ((![v2088, v2076] : Fin 2 → IVec S16 32) a x).toNat < S160x142.size a := fun i k0_t2 v2076 v2088 k0_hw973 k0_h1 => k0_hw973 k0_h1

def k0_chk974 (i : grid0.Coords) (k0_t2 : Fin k0_t2_loop.trips) (v2076 : IVec S16 32) (v2091 : IVec S16 32) : Prop :=
  (∀ (k0_h1 : k0_cond1 i k0_t2 = 1#1), ∀ a x, ((![v2091, v2076] : Fin 2 → IVec S16 32) a x).toNat < S160x142.size a)
theorem k0_idx1596_inb : ∀ (i : grid0.Coords) (k0_t2 : Fin k0_t2_loop.trips) (v2076 : IVec S16 32) (v2091 : IVec S16 32) (k0_hw974 : k0_chk974 i k0_t2 v2076 v2091), ∀ (k0_h1 : k0_cond1 i k0_t2 = 1#1), ∀ a x, ((![v2091, v2076] : Fin 2 → IVec S16 32) a x).toNat < S160x142.size a := fun i k0_t2 v2076 v2091 k0_hw974 k0_h1 => k0_hw974 k0_h1

def k0_chk975 (i : grid0.Coords) (k0_t2 : Fin k0_t2_loop.trips) (v2076 : IVec S16 32) (v2094 : IVec S16 32) : Prop :=
  (∀ (k0_h1 : k0_cond1 i k0_t2 = 1#1), ∀ a x, ((![v2094, v2076] : Fin 2 → IVec S16 32) a x).toNat < S160x142.size a)
theorem k0_idx1598_inb : ∀ (i : grid0.Coords) (k0_t2 : Fin k0_t2_loop.trips) (v2076 : IVec S16 32) (v2094 : IVec S16 32) (k0_hw975 : k0_chk975 i k0_t2 v2076 v2094), ∀ (k0_h1 : k0_cond1 i k0_t2 = 1#1), ∀ a x, ((![v2094, v2076] : Fin 2 → IVec S16 32) a x).toNat < S160x142.size a := fun i k0_t2 v2076 v2094 k0_hw975 k0_h1 => k0_hw975 k0_h1

def k0_chk976 (i : grid0.Coords) (k0_t2 : Fin k0_t2_loop.trips) (v2076 : IVec S16 32) (v2097 : IVec S16 32) : Prop :=
  (∀ (k0_h1 : k0_cond1 i k0_t2 = 1#1), ∀ a x, ((![v2097, v2076] : Fin 2 → IVec S16 32) a x).toNat < S160x142.size a)
theorem k0_idx1600_inb : ∀ (i : grid0.Coords) (k0_t2 : Fin k0_t2_loop.trips) (v2076 : IVec S16 32) (v2097 : IVec S16 32) (k0_hw976 : k0_chk976 i k0_t2 v2076 v2097), ∀ (k0_h1 : k0_cond1 i k0_t2 = 1#1), ∀ a x, ((![v2097, v2076] : Fin 2 → IVec S16 32) a x).toNat < S160x142.size a := fun i k0_t2 v2076 v2097 k0_hw976 k0_h1 => k0_hw976 k0_h1

def k0_chk977 (i : grid0.Coords) (k0_t2 : Fin k0_t2_loop.trips) (v2076 : IVec S16 32) (v2100 : IVec S16 32) : Prop :=
  (∀ (k0_h1 : k0_cond1 i k0_t2 = 1#1), ∀ a x, ((![v2100, v2076] : Fin 2 → IVec S16 32) a x).toNat < S160x142.size a)
theorem k0_idx1602_inb : ∀ (i : grid0.Coords) (k0_t2 : Fin k0_t2_loop.trips) (v2076 : IVec S16 32) (v2100 : IVec S16 32) (k0_hw977 : k0_chk977 i k0_t2 v2076 v2100), ∀ (k0_h1 : k0_cond1 i k0_t2 = 1#1), ∀ a x, ((![v2100, v2076] : Fin 2 → IVec S16 32) a x).toNat < S160x142.size a := fun i k0_t2 v2076 v2100 k0_hw977 k0_h1 => k0_hw977 k0_h1

def k0_chk978 (i : grid0.Coords) (k0_t2 : Fin k0_t2_loop.trips) (v2076 : IVec S16 32) (v2103 : IVec S16 32) : Prop :=
  (∀ (k0_h1 : k0_cond1 i k0_t2 = 1#1), ∀ a x, ((![v2103, v2076] : Fin 2 → IVec S16 32) a x).toNat < S160x142.size a)
theorem k0_idx1604_inb : ∀ (i : grid0.Coords) (k0_t2 : Fin k0_t2_loop.trips) (v2076 : IVec S16 32) (v2103 : IVec S16 32) (k0_hw978 : k0_chk978 i k0_t2 v2076 v2103), ∀ (k0_h1 : k0_cond1 i k0_t2 = 1#1), ∀ a x, ((![v2103, v2076] : Fin 2 → IVec S16 32) a x).toNat < S160x142.size a := fun i k0_t2 v2076 v2103 k0_hw978 k0_h1 => k0_hw978 k0_h1

def k0_chk969 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) : Prop :=
  (∀ (k0_h1 : k0_cond1 i k0_t2 = 1#1), ∀ a x, ((![v15, v2076] : Fin 2 → IVec S16 32) a x).toNat < S256x142.size a) ∧
  (∀ (k0_h1 : k0_cond1 i k0_t2 = 1#1), ∀ a x, ((![v20, v2076] : Fin 2 → IVec S16 32) a x).toNat < S256x142.size a) ∧
  (∀ (k0_h1 : k0_cond1 i k0_t2 = 1#1), ∀ a x, ((![v25, v2076] : Fin 2 → IVec S16 32) a x).toNat < S256x142.size a) ∧
  (∀ (k0_h1 : k0_cond1 i k0_t2 = 1#1), ∀ a x, ((![v30, v2076] : Fin 2 → IVec S16 32) a x).toNat < S256x142.size a) ∧
  (∀ (k0_h1 : k0_cond1 i k0_t2 = 1#1), ∀ a x, ((![v35, v2076] : Fin 2 → IVec S16 32) a x).toNat < S256x142.size a) ∧
  (∀ (k0_h1 : k0_cond1 i k0_t2 = 1#1), ∀ a x, ((![v40, v2076] : Fin 2 → IVec S16 32) a x).toNat < S256x142.size a) ∧
  (∀ (k0_h1 : k0_cond1 i k0_t2 = 1#1), ∀ a x, ((![v45, v2076] : Fin 2 → IVec S16 32) a x).toNat < S256x142.size a) ∧
  (∀ (k0_h1 : k0_cond1 i k0_t2 = 1#1), ∀ a x, ((![v50, v2076] : Fin 2 → IVec S16 32) a x).toNat < S256x142.size a) ∧
  (∀ (k0_h1 : k0_cond1 i k0_t2 = 1#1), ∀ a x, ((![v55, v2076] : Fin 2 → IVec S16 32) a x).toNat < S256x142.size a) ∧
  (∀ (k0_h1 : k0_cond1 i k0_t2 = 1#1), ∀ a x, ((![v60, v2076] : Fin 2 → IVec S16 32) a x).toNat < S256x142.size a)
theorem k0_idx1587_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v15, v2076] : Fin 2 → IVec S16 32) a x).toNat < S256x142.size a := fun i k0_t2 v15 v20 v25 v30 v35 v40 v45 v50 v55 v60 v2076 k0_hw969 k0_h1 => k0_hw969.1 k0_h1
theorem k0_idx1589_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v20, v2076] : Fin 2 → IVec S16 32) a x).toNat < S256x142.size a := fun i k0_t2 v15 v20 v25 v30 v35 v40 v45 v50 v55 v60 v2076 k0_hw969 k0_h1 => k0_hw969.2.1 k0_h1
theorem k0_idx1591_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v25, v2076] : Fin 2 → IVec S16 32) a x).toNat < S256x142.size a := fun i k0_t2 v15 v20 v25 v30 v35 v40 v45 v50 v55 v60 v2076 k0_hw969 k0_h1 => k0_hw969.2.2.1 k0_h1
theorem k0_idx1593_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v30, v2076] : Fin 2 → IVec S16 32) a x).toNat < S256x142.size a := fun i k0_t2 v15 v20 v25 v30 v35 v40 v45 v50 v55 v60 v2076 k0_hw969 k0_h1 => k0_hw969.2.2.2.1 k0_h1
theorem k0_idx1595_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v35, v2076] : Fin 2 → IVec S16 32) a x).toNat < S256x142.size a := fun i k0_t2 v15 v20 v25 v30 v35 v40 v45 v50 v55 v60 v2076 k0_hw969 k0_h1 => k0_hw969.2.2.2.2.1 k0_h1
theorem k0_idx1597_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v40, v2076] : Fin 2 → IVec S16 32) a x).toNat < S256x142.size a := fun i k0_t2 v15 v20 v25 v30 v35 v40 v45 v50 v55 v60 v2076 k0_hw969 k0_h1 => k0_hw969.2.2.2.2.2.1 k0_h1
theorem k0_idx1599_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v45, v2076] : Fin 2 → IVec S16 32) a x).toNat < S256x142.size a := fun i k0_t2 v15 v20 v25 v30 v35 v40 v45 v50 v55 v60 v2076 k0_hw969 k0_h1 => k0_hw969.2.2.2.2.2.2.1 k0_h1
theorem k0_idx1601_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v50, v2076] : Fin 2 → IVec S16 32) a x).toNat < S256x142.size a := fun i k0_t2 v15 v20 v25 v30 v35 v40 v45 v50 v55 v60 v2076 k0_hw969 k0_h1 => k0_hw969.2.2.2.2.2.2.2.1 k0_h1
theorem k0_idx1603_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v55, v2076] : Fin 2 → IVec S16 32) a x).toNat < S256x142.size a := fun i k0_t2 v15 v20 v25 v30 v35 v40 v45 v50 v55 v60 v2076 k0_hw969 k0_h1 => k0_hw969.2.2.2.2.2.2.2.2.1 k0_h1
theorem k0_idx1605_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2076 : IVec S16 32) (k0_hw969 : k0_chk969 i k0_t2 v15 v20 v25 v30 v35 v40 v45 v50 v55 v60 v2076), ∀ (k0_h1 : k0_cond1 i k0_t2 = 1#1), ∀ a x, ((![v60, v2076] : Fin 2 → IVec S16 32) a x).toNat < S256x142.size a := fun i k0_t2 v15 v20 v25 v30 v35 v40 v45 v50 v55 v60 v2076 k0_hw969 k0_h1 => k0_hw969.2.2.2.2.2.2.2.2.2 k0_h1

def k0_chk979 (i : grid0.Coords) (k0_t2 : Fin k0_t2_loop.trips) (v2076 : IVec S16 32) (v2106 : IVec S16 32) : Prop :=
  (∀ (k0_h1 : k0_cond1 i k0_t2 = 1#1), ∀ a x, ((![v2106, v2076] : Fin 2 → IVec S16 32) a x).toNat < S160x142.size a)
theorem k0_idx1606_inb : ∀ (i : grid0.Coords) (k0_t2 : Fin k0_t2_loop.trips) (v2076 : IVec S16 32) (v2106 : IVec S16 32) (k0_hw979 : k0_chk979 i k0_t2 v2076 v2106), ∀ (k0_h1 : k0_cond1 i k0_t2 = 1#1), ∀ a x, ((![v2106, v2076] : Fin 2 → IVec S16 32) a x).toNat < S160x142.size a := fun i k0_t2 v2076 v2106 k0_hw979 k0_h1 => k0_hw979 k0_h1

def k0_chk981 (i : grid0.Coords) (k0_t2 : Fin k0_t2_loop.trips) (v2107 : IVec S16 32) (v2110 : IVec S16 32) : Prop :=
  (∀ (k0_h1 : k0_cond1 i k0_t2 = 1#1), ∀ a x, ((![v2110, v2107] : Fin 2 → IVec S16 32) a x).toNat < S160x142.size a)
theorem k0_idx1608_inb : ∀ (i : grid0.Coords) (k0_t2 : Fin k0_t2_loop.trips) (v2107 : IVec S16 32) (v2110 : IVec S16 32) (k0_hw981 : k0_chk981 i k0_t2 v2107 v2110), ∀ (k0_h1 : k0_cond1 i k0_t2 = 1#1), ∀ a x, ((![v2110, v2107] : Fin 2 → IVec S16 32) a x).toNat < S160x142.size a := fun i k0_t2 v2107 v2110 k0_hw981 k0_h1 => k0_hw981 k0_h1

def k0_chk982 (i : grid0.Coords) (k0_t2 : Fin k0_t2_loop.trips) (v2107 : IVec S16 32) (v2113 : IVec S16 32) : Prop :=
  (∀ (k0_h1 : k0_cond1 i k0_t2 = 1#1), ∀ a x, ((![v2113, v2107] : Fin 2 → IVec S16 32) a x).toNat < S160x142.size a)
theorem k0_idx1610_inb : ∀ (i : grid0.Coords) (k0_t2 : Fin k0_t2_loop.trips) (v2107 : IVec S16 32) (v2113 : IVec S16 32) (k0_hw982 : k0_chk982 i k0_t2 v2107 v2113), ∀ (k0_h1 : k0_cond1 i k0_t2 = 1#1), ∀ a x, ((![v2113, v2107] : Fin 2 → IVec S16 32) a x).toNat < S160x142.size a := fun i k0_t2 v2107 v2113 k0_hw982 k0_h1 => k0_hw982 k0_h1

def k0_chk983 (i : grid0.Coords) (k0_t2 : Fin k0_t2_loop.trips) (v2107 : IVec S16 32) (v2116 : IVec S16 32) : Prop :=
  (∀ (k0_h1 : k0_cond1 i k0_t2 = 1#1), ∀ a x, ((![v2116, v2107] : Fin 2 → IVec S16 32) a x).toNat < S160x142.size a)
theorem k0_idx1612_inb : ∀ (i : grid0.Coords) (k0_t2 : Fin k0_t2_loop.trips) (v2107 : IVec S16 32) (v2116 : IVec S16 32) (k0_hw983 : k0_chk983 i k0_t2 v2107 v2116), ∀ (k0_h1 : k0_cond1 i k0_t2 = 1#1), ∀ a x, ((![v2116, v2107] : Fin 2 → IVec S16 32) a x).toNat < S160x142.size a := fun i k0_t2 v2107 v2116 k0_hw983 k0_h1 => k0_hw983 k0_h1

def k0_chk984 (i : grid0.Coords) (k0_t2 : Fin k0_t2_loop.trips) (v2107 : IVec S16 32) (v2119 : IVec S16 32) : Prop :=
  (∀ (k0_h1 : k0_cond1 i k0_t2 = 1#1), ∀ a x, ((![v2119, v2107] : Fin 2 → IVec S16 32) a x).toNat < S160x142.size a)
theorem k0_idx1614_inb : ∀ (i : grid0.Coords) (k0_t2 : Fin k0_t2_loop.trips) (v2107 : IVec S16 32) (v2119 : IVec S16 32) (k0_hw984 : k0_chk984 i k0_t2 v2107 v2119), ∀ (k0_h1 : k0_cond1 i k0_t2 = 1#1), ∀ a x, ((![v2119, v2107] : Fin 2 → IVec S16 32) a x).toNat < S160x142.size a := fun i k0_t2 v2107 v2119 k0_hw984 k0_h1 => k0_hw984 k0_h1

def k0_chk985 (i : grid0.Coords) (k0_t2 : Fin k0_t2_loop.trips) (v2107 : IVec S16 32) (v2122 : IVec S16 32) : Prop :=
  (∀ (k0_h1 : k0_cond1 i k0_t2 = 1#1), ∀ a x, ((![v2122, v2107] : Fin 2 → IVec S16 32) a x).toNat < S160x142.size a)
theorem k0_idx1616_inb : ∀ (i : grid0.Coords) (k0_t2 : Fin k0_t2_loop.trips) (v2107 : IVec S16 32) (v2122 : IVec S16 32) (k0_hw985 : k0_chk985 i k0_t2 v2107 v2122), ∀ (k0_h1 : k0_cond1 i k0_t2 = 1#1), ∀ a x, ((![v2122, v2107] : Fin 2 → IVec S16 32) a x).toNat < S160x142.size a := fun i k0_t2 v2107 v2122 k0_hw985 k0_h1 => k0_hw985 k0_h1

def k0_chk986 (i : grid0.Coords) (k0_t2 : Fin k0_t2_loop.trips) (v2107 : IVec S16 32) (v2125 : IVec S16 32) : Prop :=
  (∀ (k0_h1 : k0_cond1 i k0_t2 = 1#1), ∀ a x, ((![v2125, v2107] : Fin 2 → IVec S16 32) a x).toNat < S160x142.size a)
theorem k0_idx1618_inb : ∀ (i : grid0.Coords) (k0_t2 : Fin k0_t2_loop.trips) (v2107 : IVec S16 32) (v2125 : IVec S16 32) (k0_hw986 : k0_chk986 i k0_t2 v2107 v2125), ∀ (k0_h1 : k0_cond1 i k0_t2 = 1#1), ∀ a x, ((![v2125, v2107] : Fin 2 → IVec S16 32) a x).toNat < S160x142.size a := fun i k0_t2 v2107 v2125 k0_hw986 k0_h1 => k0_hw986 k0_h1

def k0_chk987 (i : grid0.Coords) (k0_t2 : Fin k0_t2_loop.trips) (v2107 : IVec S16 32) (v2128 : IVec S16 32) : Prop :=
  (∀ (k0_h1 : k0_cond1 i k0_t2 = 1#1), ∀ a x, ((![v2128, v2107] : Fin 2 → IVec S16 32) a x).toNat < S160x142.size a)
theorem k0_idx1620_inb : ∀ (i : grid0.Coords) (k0_t2 : Fin k0_t2_loop.trips) (v2107 : IVec S16 32) (v2128 : IVec S16 32) (k0_hw987 : k0_chk987 i k0_t2 v2107 v2128), ∀ (k0_h1 : k0_cond1 i k0_t2 = 1#1), ∀ a x, ((![v2128, v2107] : Fin 2 → IVec S16 32) a x).toNat < S160x142.size a := fun i k0_t2 v2107 v2128 k0_hw987 k0_h1 => k0_hw987 k0_h1

def k0_chk988 (i : grid0.Coords) (k0_t2 : Fin k0_t2_loop.trips) (v2107 : IVec S16 32) (v2131 : IVec S16 32) : Prop :=
  (∀ (k0_h1 : k0_cond1 i k0_t2 = 1#1), ∀ a x, ((![v2131, v2107] : Fin 2 → IVec S16 32) a x).toNat < S160x142.size a)
theorem k0_idx1622_inb : ∀ (i : grid0.Coords) (k0_t2 : Fin k0_t2_loop.trips) (v2107 : IVec S16 32) (v2131 : IVec S16 32) (k0_hw988 : k0_chk988 i k0_t2 v2107 v2131), ∀ (k0_h1 : k0_cond1 i k0_t2 = 1#1), ∀ a x, ((![v2131, v2107] : Fin 2 → IVec S16 32) a x).toNat < S160x142.size a := fun i k0_t2 v2107 v2131 k0_hw988 k0_h1 => k0_hw988 k0_h1

def k0_chk989 (i : grid0.Coords) (k0_t2 : Fin k0_t2_loop.trips) (v2107 : IVec S16 32) (v2134 : IVec S16 32) : Prop :=
  (∀ (k0_h1 : k0_cond1 i k0_t2 = 1#1), ∀ a x, ((![v2134, v2107] : Fin 2 → IVec S16 32) a x).toNat < S160x142.size a)
theorem k0_idx1624_inb : ∀ (i : grid0.Coords) (k0_t2 : Fin k0_t2_loop.trips) (v2107 : IVec S16 32) (v2134 : IVec S16 32) (k0_hw989 : k0_chk989 i k0_t2 v2107 v2134), ∀ (k0_h1 : k0_cond1 i k0_t2 = 1#1), ∀ a x, ((![v2134, v2107] : Fin 2 → IVec S16 32) a x).toNat < S160x142.size a := fun i k0_t2 v2107 v2134 k0_hw989 k0_h1 => k0_hw989 k0_h1

def k0_chk980 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) : Prop :=
  (∀ (k0_h1 : k0_cond1 i k0_t2 = 1#1), ∀ a x, ((![v15, v2107] : Fin 2 → IVec S16 32) a x).toNat < S256x142.size a) ∧
  (∀ (k0_h1 : k0_cond1 i k0_t2 = 1#1), ∀ a x, ((![v20, v2107] : Fin 2 → IVec S16 32) a x).toNat < S256x142.size a) ∧
  (∀ (k0_h1 : k0_cond1 i k0_t2 = 1#1), ∀ a x, ((![v25, v2107] : Fin 2 → IVec S16 32) a x).toNat < S256x142.size a) ∧
  (∀ (k0_h1 : k0_cond1 i k0_t2 = 1#1), ∀ a x, ((![v30, v2107] : Fin 2 → IVec S16 32) a x).toNat < S256x142.size a) ∧
  (∀ (k0_h1 : k0_cond1 i k0_t2 = 1#1), ∀ a x, ((![v35, v2107] : Fin 2 → IVec S16 32) a x).toNat < S256x142.size a) ∧
  (∀ (k0_h1 : k0_cond1 i k0_t2 = 1#1), ∀ a x, ((![v40, v2107] : Fin 2 → IVec S16 32) a x).toNat < S256x142.size a) ∧
  (∀ (k0_h1 : k0_cond1 i k0_t2 = 1#1), ∀ a x, ((![v45, v2107] : Fin 2 → IVec S16 32) a x).toNat < S256x142.size a) ∧
  (∀ (k0_h1 : k0_cond1 i k0_t2 = 1#1), ∀ a x, ((![v50, v2107] : Fin 2 → IVec S16 32) a x).toNat < S256x142.size a) ∧
  (∀ (k0_h1 : k0_cond1 i k0_t2 = 1#1), ∀ a x, ((![v55, v2107] : Fin 2 → IVec S16 32) a x).toNat < S256x142.size a) ∧
  (∀ (k0_h1 : k0_cond1 i k0_t2 = 1#1), ∀ a x, ((![v60, v2107] : Fin 2 → IVec S16 32) a x).toNat < S256x142.size a)
theorem k0_idx1607_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v15, v2107] : Fin 2 → IVec S16 32) a x).toNat < S256x142.size a := fun i k0_t2 v15 v20 v25 v30 v35 v40 v45 v50 v55 v60 v2107 k0_hw980 k0_h1 => k0_hw980.1 k0_h1
theorem k0_idx1609_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v20, v2107] : Fin 2 → IVec S16 32) a x).toNat < S256x142.size a := fun i k0_t2 v15 v20 v25 v30 v35 v40 v45 v50 v55 v60 v2107 k0_hw980 k0_h1 => k0_hw980.2.1 k0_h1
theorem k0_idx1611_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v25, v2107] : Fin 2 → IVec S16 32) a x).toNat < S256x142.size a := fun i k0_t2 v15 v20 v25 v30 v35 v40 v45 v50 v55 v60 v2107 k0_hw980 k0_h1 => k0_hw980.2.2.1 k0_h1
theorem k0_idx1613_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v30, v2107] : Fin 2 → IVec S16 32) a x).toNat < S256x142.size a := fun i k0_t2 v15 v20 v25 v30 v35 v40 v45 v50 v55 v60 v2107 k0_hw980 k0_h1 => k0_hw980.2.2.2.1 k0_h1
theorem k0_idx1615_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v35, v2107] : Fin 2 → IVec S16 32) a x).toNat < S256x142.size a := fun i k0_t2 v15 v20 v25 v30 v35 v40 v45 v50 v55 v60 v2107 k0_hw980 k0_h1 => k0_hw980.2.2.2.2.1 k0_h1
theorem k0_idx1617_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v40, v2107] : Fin 2 → IVec S16 32) a x).toNat < S256x142.size a := fun i k0_t2 v15 v20 v25 v30 v35 v40 v45 v50 v55 v60 v2107 k0_hw980 k0_h1 => k0_hw980.2.2.2.2.2.1 k0_h1
theorem k0_idx1619_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v45, v2107] : Fin 2 → IVec S16 32) a x).toNat < S256x142.size a := fun i k0_t2 v15 v20 v25 v30 v35 v40 v45 v50 v55 v60 v2107 k0_hw980 k0_h1 => k0_hw980.2.2.2.2.2.2.1 k0_h1
theorem k0_idx1621_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v50, v2107] : Fin 2 → IVec S16 32) a x).toNat < S256x142.size a := fun i k0_t2 v15 v20 v25 v30 v35 v40 v45 v50 v55 v60 v2107 k0_hw980 k0_h1 => k0_hw980.2.2.2.2.2.2.2.1 k0_h1
theorem k0_idx1623_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v55, v2107] : Fin 2 → IVec S16 32) a x).toNat < S256x142.size a := fun i k0_t2 v15 v20 v25 v30 v35 v40 v45 v50 v55 v60 v2107 k0_hw980 k0_h1 => k0_hw980.2.2.2.2.2.2.2.2.1 k0_h1
theorem k0_idx1625_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2107 : IVec S16 32) (k0_hw980 : k0_chk980 i k0_t2 v15 v20 v25 v30 v35 v40 v45 v50 v55 v60 v2107), ∀ (k0_h1 : k0_cond1 i k0_t2 = 1#1), ∀ a x, ((![v60, v2107] : Fin 2 → IVec S16 32) a x).toNat < S256x142.size a := fun i k0_t2 v15 v20 v25 v30 v35 v40 v45 v50 v55 v60 v2107 k0_hw980 k0_h1 => k0_hw980.2.2.2.2.2.2.2.2.2 k0_h1

def k0_chk990 (i : grid0.Coords) (k0_t2 : Fin k0_t2_loop.trips) (v2107 : IVec S16 32) (v2137 : IVec S16 32) : Prop :=
  (∀ (k0_h1 : k0_cond1 i k0_t2 = 1#1), ∀ a x, ((![v2137, v2107] : Fin 2 → IVec S16 32) a x).toNat < S160x142.size a)
theorem k0_idx1626_inb : ∀ (i : grid0.Coords) (k0_t2 : Fin k0_t2_loop.trips) (v2107 : IVec S16 32) (v2137 : IVec S16 32) (k0_hw990 : k0_chk990 i k0_t2 v2107 v2137), ∀ (k0_h1 : k0_cond1 i k0_t2 = 1#1), ∀ a x, ((![v2137, v2107] : Fin 2 → IVec S16 32) a x).toNat < S160x142.size a := fun i k0_t2 v2107 v2137 k0_hw990 k0_h1 => k0_hw990 k0_h1

def k0_chk992 (i : grid0.Coords) (k0_t2 : Fin k0_t2_loop.trips) (v2138 : IVec S16 32) (v2141 : IVec S16 32) : Prop :=
  (∀ (k0_h1 : k0_cond1 i k0_t2 = 1#1), ∀ a x, ((![v2141, v2138] : Fin 2 → IVec S16 32) a x).toNat < S160x142.size a)
theorem k0_idx1628_inb : ∀ (i : grid0.Coords) (k0_t2 : Fin k0_t2_loop.trips) (v2138 : IVec S16 32) (v2141 : IVec S16 32) (k0_hw992 : k0_chk992 i k0_t2 v2138 v2141), ∀ (k0_h1 : k0_cond1 i k0_t2 = 1#1), ∀ a x, ((![v2141, v2138] : Fin 2 → IVec S16 32) a x).toNat < S160x142.size a := fun i k0_t2 v2138 v2141 k0_hw992 k0_h1 => k0_hw992 k0_h1

def k0_chk993 (i : grid0.Coords) (k0_t2 : Fin k0_t2_loop.trips) (v2138 : IVec S16 32) (v2144 : IVec S16 32) : Prop :=
  (∀ (k0_h1 : k0_cond1 i k0_t2 = 1#1), ∀ a x, ((![v2144, v2138] : Fin 2 → IVec S16 32) a x).toNat < S160x142.size a)
theorem k0_idx1630_inb : ∀ (i : grid0.Coords) (k0_t2 : Fin k0_t2_loop.trips) (v2138 : IVec S16 32) (v2144 : IVec S16 32) (k0_hw993 : k0_chk993 i k0_t2 v2138 v2144), ∀ (k0_h1 : k0_cond1 i k0_t2 = 1#1), ∀ a x, ((![v2144, v2138] : Fin 2 → IVec S16 32) a x).toNat < S160x142.size a := fun i k0_t2 v2138 v2144 k0_hw993 k0_h1 => k0_hw993 k0_h1

def k0_chk994 (i : grid0.Coords) (k0_t2 : Fin k0_t2_loop.trips) (v2138 : IVec S16 32) (v2147 : IVec S16 32) : Prop :=
  (∀ (k0_h1 : k0_cond1 i k0_t2 = 1#1), ∀ a x, ((![v2147, v2138] : Fin 2 → IVec S16 32) a x).toNat < S160x142.size a)
theorem k0_idx1632_inb : ∀ (i : grid0.Coords) (k0_t2 : Fin k0_t2_loop.trips) (v2138 : IVec S16 32) (v2147 : IVec S16 32) (k0_hw994 : k0_chk994 i k0_t2 v2138 v2147), ∀ (k0_h1 : k0_cond1 i k0_t2 = 1#1), ∀ a x, ((![v2147, v2138] : Fin 2 → IVec S16 32) a x).toNat < S160x142.size a := fun i k0_t2 v2138 v2147 k0_hw994 k0_h1 => k0_hw994 k0_h1

def k0_chk995 (i : grid0.Coords) (k0_t2 : Fin k0_t2_loop.trips) (v2138 : IVec S16 32) (v2150 : IVec S16 32) : Prop :=
  (∀ (k0_h1 : k0_cond1 i k0_t2 = 1#1), ∀ a x, ((![v2150, v2138] : Fin 2 → IVec S16 32) a x).toNat < S160x142.size a)
theorem k0_idx1634_inb : ∀ (i : grid0.Coords) (k0_t2 : Fin k0_t2_loop.trips) (v2138 : IVec S16 32) (v2150 : IVec S16 32) (k0_hw995 : k0_chk995 i k0_t2 v2138 v2150), ∀ (k0_h1 : k0_cond1 i k0_t2 = 1#1), ∀ a x, ((![v2150, v2138] : Fin 2 → IVec S16 32) a x).toNat < S160x142.size a := fun i k0_t2 v2138 v2150 k0_hw995 k0_h1 => k0_hw995 k0_h1

def k0_chk996 (i : grid0.Coords) (k0_t2 : Fin k0_t2_loop.trips) (v2138 : IVec S16 32) (v2153 : IVec S16 32) : Prop :=
  (∀ (k0_h1 : k0_cond1 i k0_t2 = 1#1), ∀ a x, ((![v2153, v2138] : Fin 2 → IVec S16 32) a x).toNat < S160x142.size a)
theorem k0_idx1636_inb : ∀ (i : grid0.Coords) (k0_t2 : Fin k0_t2_loop.trips) (v2138 : IVec S16 32) (v2153 : IVec S16 32) (k0_hw996 : k0_chk996 i k0_t2 v2138 v2153), ∀ (k0_h1 : k0_cond1 i k0_t2 = 1#1), ∀ a x, ((![v2153, v2138] : Fin 2 → IVec S16 32) a x).toNat < S160x142.size a := fun i k0_t2 v2138 v2153 k0_hw996 k0_h1 => k0_hw996 k0_h1

def k0_chk997 (i : grid0.Coords) (k0_t2 : Fin k0_t2_loop.trips) (v2138 : IVec S16 32) (v2156 : IVec S16 32) : Prop :=
  (∀ (k0_h1 : k0_cond1 i k0_t2 = 1#1), ∀ a x, ((![v2156, v2138] : Fin 2 → IVec S16 32) a x).toNat < S160x142.size a)
theorem k0_idx1638_inb : ∀ (i : grid0.Coords) (k0_t2 : Fin k0_t2_loop.trips) (v2138 : IVec S16 32) (v2156 : IVec S16 32) (k0_hw997 : k0_chk997 i k0_t2 v2138 v2156), ∀ (k0_h1 : k0_cond1 i k0_t2 = 1#1), ∀ a x, ((![v2156, v2138] : Fin 2 → IVec S16 32) a x).toNat < S160x142.size a := fun i k0_t2 v2138 v2156 k0_hw997 k0_h1 => k0_hw997 k0_h1

def k0_chk998 (i : grid0.Coords) (k0_t2 : Fin k0_t2_loop.trips) (v2138 : IVec S16 32) (v2159 : IVec S16 32) : Prop :=
  (∀ (k0_h1 : k0_cond1 i k0_t2 = 1#1), ∀ a x, ((![v2159, v2138] : Fin 2 → IVec S16 32) a x).toNat < S160x142.size a)
theorem k0_idx1640_inb : ∀ (i : grid0.Coords) (k0_t2 : Fin k0_t2_loop.trips) (v2138 : IVec S16 32) (v2159 : IVec S16 32) (k0_hw998 : k0_chk998 i k0_t2 v2138 v2159), ∀ (k0_h1 : k0_cond1 i k0_t2 = 1#1), ∀ a x, ((![v2159, v2138] : Fin 2 → IVec S16 32) a x).toNat < S160x142.size a := fun i k0_t2 v2138 v2159 k0_hw998 k0_h1 => k0_hw998 k0_h1

def k0_chk999 (i : grid0.Coords) (k0_t2 : Fin k0_t2_loop.trips) (v2138 : IVec S16 32) (v2162 : IVec S16 32) : Prop :=
  (∀ (k0_h1 : k0_cond1 i k0_t2 = 1#1), ∀ a x, ((![v2162, v2138] : Fin 2 → IVec S16 32) a x).toNat < S160x142.size a)
theorem k0_idx1642_inb : ∀ (i : grid0.Coords) (k0_t2 : Fin k0_t2_loop.trips) (v2138 : IVec S16 32) (v2162 : IVec S16 32) (k0_hw999 : k0_chk999 i k0_t2 v2138 v2162), ∀ (k0_h1 : k0_cond1 i k0_t2 = 1#1), ∀ a x, ((![v2162, v2138] : Fin 2 → IVec S16 32) a x).toNat < S160x142.size a := fun i k0_t2 v2138 v2162 k0_hw999 k0_h1 => k0_hw999 k0_h1

def k0_chk1000 (i : grid0.Coords) (k0_t2 : Fin k0_t2_loop.trips) (v2138 : IVec S16 32) (v2165 : IVec S16 32) : Prop :=
  (∀ (k0_h1 : k0_cond1 i k0_t2 = 1#1), ∀ a x, ((![v2165, v2138] : Fin 2 → IVec S16 32) a x).toNat < S160x142.size a)
theorem k0_idx1644_inb : ∀ (i : grid0.Coords) (k0_t2 : Fin k0_t2_loop.trips) (v2138 : IVec S16 32) (v2165 : IVec S16 32) (k0_hw1000 : k0_chk1000 i k0_t2 v2138 v2165), ∀ (k0_h1 : k0_cond1 i k0_t2 = 1#1), ∀ a x, ((![v2165, v2138] : Fin 2 → IVec S16 32) a x).toNat < S160x142.size a := fun i k0_t2 v2138 v2165 k0_hw1000 k0_h1 => k0_hw1000 k0_h1

def k0_chk991 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) : Prop :=
  (∀ (k0_h1 : k0_cond1 i k0_t2 = 1#1), ∀ a x, ((![v15, v2138] : Fin 2 → IVec S16 32) a x).toNat < S256x142.size a) ∧
  (∀ (k0_h1 : k0_cond1 i k0_t2 = 1#1), ∀ a x, ((![v20, v2138] : Fin 2 → IVec S16 32) a x).toNat < S256x142.size a) ∧
  (∀ (k0_h1 : k0_cond1 i k0_t2 = 1#1), ∀ a x, ((![v25, v2138] : Fin 2 → IVec S16 32) a x).toNat < S256x142.size a) ∧
  (∀ (k0_h1 : k0_cond1 i k0_t2 = 1#1), ∀ a x, ((![v30, v2138] : Fin 2 → IVec S16 32) a x).toNat < S256x142.size a) ∧
  (∀ (k0_h1 : k0_cond1 i k0_t2 = 1#1), ∀ a x, ((![v35, v2138] : Fin 2 → IVec S16 32) a x).toNat < S256x142.size a) ∧
  (∀ (k0_h1 : k0_cond1 i k0_t2 = 1#1), ∀ a x, ((![v40, v2138] : Fin 2 → IVec S16 32) a x).toNat < S256x142.size a) ∧
  (∀ (k0_h1 : k0_cond1 i k0_t2 = 1#1), ∀ a x, ((![v45, v2138] : Fin 2 → IVec S16 32) a x).toNat < S256x142.size a) ∧
  (∀ (k0_h1 : k0_cond1 i k0_t2 = 1#1), ∀ a x, ((![v50, v2138] : Fin 2 → IVec S16 32) a x).toNat < S256x142.size a) ∧
  (∀ (k0_h1 : k0_cond1 i k0_t2 = 1#1), ∀ a x, ((![v55, v2138] : Fin 2 → IVec S16 32) a x).toNat < S256x142.size a) ∧
  (∀ (k0_h1 : k0_cond1 i k0_t2 = 1#1), ∀ a x, ((![v60, v2138] : Fin 2 → IVec S16 32) a x).toNat < S256x142.size a)
theorem k0_idx1627_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v15, v2138] : Fin 2 → IVec S16 32) a x).toNat < S256x142.size a := fun i k0_t2 v15 v20 v25 v30 v35 v40 v45 v50 v55 v60 v2138 k0_hw991 k0_h1 => k0_hw991.1 k0_h1
theorem k0_idx1629_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v20, v2138] : Fin 2 → IVec S16 32) a x).toNat < S256x142.size a := fun i k0_t2 v15 v20 v25 v30 v35 v40 v45 v50 v55 v60 v2138 k0_hw991 k0_h1 => k0_hw991.2.1 k0_h1
theorem k0_idx1631_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v25, v2138] : Fin 2 → IVec S16 32) a x).toNat < S256x142.size a := fun i k0_t2 v15 v20 v25 v30 v35 v40 v45 v50 v55 v60 v2138 k0_hw991 k0_h1 => k0_hw991.2.2.1 k0_h1
theorem k0_idx1633_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v30, v2138] : Fin 2 → IVec S16 32) a x).toNat < S256x142.size a := fun i k0_t2 v15 v20 v25 v30 v35 v40 v45 v50 v55 v60 v2138 k0_hw991 k0_h1 => k0_hw991.2.2.2.1 k0_h1
theorem k0_idx1635_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v35, v2138] : Fin 2 → IVec S16 32) a x).toNat < S256x142.size a := fun i k0_t2 v15 v20 v25 v30 v35 v40 v45 v50 v55 v60 v2138 k0_hw991 k0_h1 => k0_hw991.2.2.2.2.1 k0_h1
theorem k0_idx1637_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v40, v2138] : Fin 2 → IVec S16 32) a x).toNat < S256x142.size a := fun i k0_t2 v15 v20 v25 v30 v35 v40 v45 v50 v55 v60 v2138 k0_hw991 k0_h1 => k0_hw991.2.2.2.2.2.1 k0_h1
theorem k0_idx1639_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v45, v2138] : Fin 2 → IVec S16 32) a x).toNat < S256x142.size a := fun i k0_t2 v15 v20 v25 v30 v35 v40 v45 v50 v55 v60 v2138 k0_hw991 k0_h1 => k0_hw991.2.2.2.2.2.2.1 k0_h1
theorem k0_idx1641_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v50, v2138] : Fin 2 → IVec S16 32) a x).toNat < S256x142.size a := fun i k0_t2 v15 v20 v25 v30 v35 v40 v45 v50 v55 v60 v2138 k0_hw991 k0_h1 => k0_hw991.2.2.2.2.2.2.2.1 k0_h1
theorem k0_idx1643_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v55, v2138] : Fin 2 → IVec S16 32) a x).toNat < S256x142.size a := fun i k0_t2 v15 v20 v25 v30 v35 v40 v45 v50 v55 v60 v2138 k0_hw991 k0_h1 => k0_hw991.2.2.2.2.2.2.2.2.1 k0_h1
theorem k0_idx1645_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2138 : IVec S16 32) (k0_hw991 : k0_chk991 i k0_t2 v15 v20 v25 v30 v35 v40 v45 v50 v55 v60 v2138), ∀ (k0_h1 : k0_cond1 i k0_t2 = 1#1), ∀ a x, ((![v60, v2138] : Fin 2 → IVec S16 32) a x).toNat < S256x142.size a := fun i k0_t2 v15 v20 v25 v30 v35 v40 v45 v50 v55 v60 v2138 k0_hw991 k0_h1 => k0_hw991.2.2.2.2.2.2.2.2.2 k0_h1

def k0_chk1001 (i : grid0.Coords) (k0_t2 : Fin k0_t2_loop.trips) (v2138 : IVec S16 32) (v2168 : IVec S16 32) : Prop :=
  (∀ (k0_h1 : k0_cond1 i k0_t2 = 1#1), ∀ a x, ((![v2168, v2138] : Fin 2 → IVec S16 32) a x).toNat < S160x142.size a)
theorem k0_idx1646_inb : ∀ (i : grid0.Coords) (k0_t2 : Fin k0_t2_loop.trips) (v2138 : IVec S16 32) (v2168 : IVec S16 32) (k0_hw1001 : k0_chk1001 i k0_t2 v2138 v2168), ∀ (k0_h1 : k0_cond1 i k0_t2 = 1#1), ∀ a x, ((![v2168, v2138] : Fin 2 → IVec S16 32) a x).toNat < S160x142.size a := fun i k0_t2 v2138 v2168 k0_hw1001 k0_h1 => k0_hw1001 k0_h1

def k0_chk1003 (i : grid0.Coords) (k0_t2 : Fin k0_t2_loop.trips) (v2169 : IVec S16 32) (v2172 : IVec S16 32) : Prop :=
  (∀ (k0_h1 : k0_cond1 i k0_t2 = 1#1), ∀ a x, ((![v2172, v2169] : Fin 2 → IVec S16 32) a x).toNat < S160x142.size a)
theorem k0_idx1648_inb : ∀ (i : grid0.Coords) (k0_t2 : Fin k0_t2_loop.trips) (v2169 : IVec S16 32) (v2172 : IVec S16 32) (k0_hw1003 : k0_chk1003 i k0_t2 v2169 v2172), ∀ (k0_h1 : k0_cond1 i k0_t2 = 1#1), ∀ a x, ((![v2172, v2169] : Fin 2 → IVec S16 32) a x).toNat < S160x142.size a := fun i k0_t2 v2169 v2172 k0_hw1003 k0_h1 => k0_hw1003 k0_h1

def k0_chk1004 (i : grid0.Coords) (k0_t2 : Fin k0_t2_loop.trips) (v2169 : IVec S16 32) (v2175 : IVec S16 32) : Prop :=
  (∀ (k0_h1 : k0_cond1 i k0_t2 = 1#1), ∀ a x, ((![v2175, v2169] : Fin 2 → IVec S16 32) a x).toNat < S160x142.size a)
theorem k0_idx1650_inb : ∀ (i : grid0.Coords) (k0_t2 : Fin k0_t2_loop.trips) (v2169 : IVec S16 32) (v2175 : IVec S16 32) (k0_hw1004 : k0_chk1004 i k0_t2 v2169 v2175), ∀ (k0_h1 : k0_cond1 i k0_t2 = 1#1), ∀ a x, ((![v2175, v2169] : Fin 2 → IVec S16 32) a x).toNat < S160x142.size a := fun i k0_t2 v2169 v2175 k0_hw1004 k0_h1 => k0_hw1004 k0_h1

def k0_chk1005 (i : grid0.Coords) (k0_t2 : Fin k0_t2_loop.trips) (v2169 : IVec S16 32) (v2178 : IVec S16 32) : Prop :=
  (∀ (k0_h1 : k0_cond1 i k0_t2 = 1#1), ∀ a x, ((![v2178, v2169] : Fin 2 → IVec S16 32) a x).toNat < S160x142.size a)
theorem k0_idx1652_inb : ∀ (i : grid0.Coords) (k0_t2 : Fin k0_t2_loop.trips) (v2169 : IVec S16 32) (v2178 : IVec S16 32) (k0_hw1005 : k0_chk1005 i k0_t2 v2169 v2178), ∀ (k0_h1 : k0_cond1 i k0_t2 = 1#1), ∀ a x, ((![v2178, v2169] : Fin 2 → IVec S16 32) a x).toNat < S160x142.size a := fun i k0_t2 v2169 v2178 k0_hw1005 k0_h1 => k0_hw1005 k0_h1

def k0_chk1006 (i : grid0.Coords) (k0_t2 : Fin k0_t2_loop.trips) (v2169 : IVec S16 32) (v2181 : IVec S16 32) : Prop :=
  (∀ (k0_h1 : k0_cond1 i k0_t2 = 1#1), ∀ a x, ((![v2181, v2169] : Fin 2 → IVec S16 32) a x).toNat < S160x142.size a)
theorem k0_idx1654_inb : ∀ (i : grid0.Coords) (k0_t2 : Fin k0_t2_loop.trips) (v2169 : IVec S16 32) (v2181 : IVec S16 32) (k0_hw1006 : k0_chk1006 i k0_t2 v2169 v2181), ∀ (k0_h1 : k0_cond1 i k0_t2 = 1#1), ∀ a x, ((![v2181, v2169] : Fin 2 → IVec S16 32) a x).toNat < S160x142.size a := fun i k0_t2 v2169 v2181 k0_hw1006 k0_h1 => k0_hw1006 k0_h1

def k0_chk1007 (i : grid0.Coords) (k0_t2 : Fin k0_t2_loop.trips) (v2169 : IVec S16 32) (v2184 : IVec S16 32) : Prop :=
  (∀ (k0_h1 : k0_cond1 i k0_t2 = 1#1), ∀ a x, ((![v2184, v2169] : Fin 2 → IVec S16 32) a x).toNat < S160x142.size a)
theorem k0_idx1656_inb : ∀ (i : grid0.Coords) (k0_t2 : Fin k0_t2_loop.trips) (v2169 : IVec S16 32) (v2184 : IVec S16 32) (k0_hw1007 : k0_chk1007 i k0_t2 v2169 v2184), ∀ (k0_h1 : k0_cond1 i k0_t2 = 1#1), ∀ a x, ((![v2184, v2169] : Fin 2 → IVec S16 32) a x).toNat < S160x142.size a := fun i k0_t2 v2169 v2184 k0_hw1007 k0_h1 => k0_hw1007 k0_h1

def k0_chk1008 (i : grid0.Coords) (k0_t2 : Fin k0_t2_loop.trips) (v2169 : IVec S16 32) (v2187 : IVec S16 32) : Prop :=
  (∀ (k0_h1 : k0_cond1 i k0_t2 = 1#1), ∀ a x, ((![v2187, v2169] : Fin 2 → IVec S16 32) a x).toNat < S160x142.size a)
theorem k0_idx1658_inb : ∀ (i : grid0.Coords) (k0_t2 : Fin k0_t2_loop.trips) (v2169 : IVec S16 32) (v2187 : IVec S16 32) (k0_hw1008 : k0_chk1008 i k0_t2 v2169 v2187), ∀ (k0_h1 : k0_cond1 i k0_t2 = 1#1), ∀ a x, ((![v2187, v2169] : Fin 2 → IVec S16 32) a x).toNat < S160x142.size a := fun i k0_t2 v2169 v2187 k0_hw1008 k0_h1 => k0_hw1008 k0_h1

def k0_chk1009 (i : grid0.Coords) (k0_t2 : Fin k0_t2_loop.trips) (v2169 : IVec S16 32) (v2190 : IVec S16 32) : Prop :=
  (∀ (k0_h1 : k0_cond1 i k0_t2 = 1#1), ∀ a x, ((![v2190, v2169] : Fin 2 → IVec S16 32) a x).toNat < S160x142.size a)
theorem k0_idx1660_inb : ∀ (i : grid0.Coords) (k0_t2 : Fin k0_t2_loop.trips) (v2169 : IVec S16 32) (v2190 : IVec S16 32) (k0_hw1009 : k0_chk1009 i k0_t2 v2169 v2190), ∀ (k0_h1 : k0_cond1 i k0_t2 = 1#1), ∀ a x, ((![v2190, v2169] : Fin 2 → IVec S16 32) a x).toNat < S160x142.size a := fun i k0_t2 v2169 v2190 k0_hw1009 k0_h1 => k0_hw1009 k0_h1

variable {F : FTy → Type} [FloatOps F]

def k0_chk1010 (i : grid0.Coords) (k0_t2 : Fin k0_t2_loop.trips) (v2169 : IVec S16 32) (v2193 : IVec S16 32) : Prop :=
  (∀ (k0_h1 : k0_cond1 i k0_t2 = 1#1), ∀ a x, ((![v2193, v2169] : Fin 2 → IVec S16 32) a x).toNat < S160x142.size a)
theorem k0_idx1662_inb : ∀ (i : grid0.Coords) (k0_t2 : Fin k0_t2_loop.trips) (v2169 : IVec S16 32) (v2193 : IVec S16 32) (k0_hw1010 : k0_chk1010 i k0_t2 v2169 v2193), ∀ (k0_h1 : k0_cond1 i k0_t2 = 1#1), ∀ a x, ((![v2193, v2169] : Fin 2 → IVec S16 32) a x).toNat < S160x142.size a := fun i k0_t2 v2169 v2193 k0_hw1010 k0_h1 => k0_hw1010 k0_h1

def k0_chk1011 (i : grid0.Coords) (k0_t2 : Fin k0_t2_loop.trips) (v2169 : IVec S16 32) (v2196 : IVec S16 32) : Prop :=
  (∀ (k0_h1 : k0_cond1 i k0_t2 = 1#1), ∀ a x, ((![v2196, v2169] : Fin 2 → IVec S16 32) a x).toNat < S160x142.size a)
theorem k0_idx1664_inb : ∀ (i : grid0.Coords) (k0_t2 : Fin k0_t2_loop.trips) (v2169 : IVec S16 32) (v2196 : IVec S16 32) (k0_hw1011 : k0_chk1011 i k0_t2 v2169 v2196), ∀ (k0_h1 : k0_cond1 i k0_t2 = 1#1), ∀ a x, ((![v2196, v2169] : Fin 2 → IVec S16 32) a x).toNat < S160x142.size a := fun i k0_t2 v2169 v2196 k0_hw1011 k0_h1 => k0_hw1011 k0_h1

def k0_chk1002 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) : Prop :=
  (∀ (k0_h1 : k0_cond1 i k0_t2 = 1#1), ∀ a x, ((![v15, v2169] : Fin 2 → IVec S16 32) a x).toNat < S256x142.size a) ∧
  (∀ (k0_h1 : k0_cond1 i k0_t2 = 1#1), ∀ a x, ((![v20, v2169] : Fin 2 → IVec S16 32) a x).toNat < S256x142.size a) ∧
  (∀ (k0_h1 : k0_cond1 i k0_t2 = 1#1), ∀ a x, ((![v25, v2169] : Fin 2 → IVec S16 32) a x).toNat < S256x142.size a) ∧
  (∀ (k0_h1 : k0_cond1 i k0_t2 = 1#1), ∀ a x, ((![v30, v2169] : Fin 2 → IVec S16 32) a x).toNat < S256x142.size a) ∧
  (∀ (k0_h1 : k0_cond1 i k0_t2 = 1#1), ∀ a x, ((![v35, v2169] : Fin 2 → IVec S16 32) a x).toNat < S256x142.size a) ∧
  (∀ (k0_h1 : k0_cond1 i k0_t2 = 1#1), ∀ a x, ((![v40, v2169] : Fin 2 → IVec S16 32) a x).toNat < S256x142.size a) ∧
  (∀ (k0_h1 : k0_cond1 i k0_t2 = 1#1), ∀ a x, ((![v45, v2169] : Fin 2 → IVec S16 32) a x).toNat < S256x142.size a) ∧
  (∀ (k0_h1 : k0_cond1 i k0_t2 = 1#1), ∀ a x, ((![v50, v2169] : Fin 2 → IVec S16 32) a x).toNat < S256x142.size a) ∧
  (∀ (k0_h1 : k0_cond1 i k0_t2 = 1#1), ∀ a x, ((![v55, v2169] : Fin 2 → IVec S16 32) a x).toNat < S256x142.size a) ∧
  (∀ (k0_h1 : k0_cond1 i k0_t2 = 1#1), ∀ a x, ((![v60, v2169] : Fin 2 → IVec S16 32) a x).toNat < S256x142.size a)
theorem k0_idx1647_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v15, v2169] : Fin 2 → IVec S16 32) a x).toNat < S256x142.size a := fun i k0_t2 v15 v20 v25 v30 v35 v40 v45 v50 v55 v60 v2169 k0_hw1002 k0_h1 => k0_hw1002.1 k0_h1
theorem k0_idx1649_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v20, v2169] : Fin 2 → IVec S16 32) a x).toNat < S256x142.size a := fun i k0_t2 v15 v20 v25 v30 v35 v40 v45 v50 v55 v60 v2169 k0_hw1002 k0_h1 => k0_hw1002.2.1 k0_h1
theorem k0_idx1651_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v25, v2169] : Fin 2 → IVec S16 32) a x).toNat < S256x142.size a := fun i k0_t2 v15 v20 v25 v30 v35 v40 v45 v50 v55 v60 v2169 k0_hw1002 k0_h1 => k0_hw1002.2.2.1 k0_h1
theorem k0_idx1653_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v30, v2169] : Fin 2 → IVec S16 32) a x).toNat < S256x142.size a := fun i k0_t2 v15 v20 v25 v30 v35 v40 v45 v50 v55 v60 v2169 k0_hw1002 k0_h1 => k0_hw1002.2.2.2.1 k0_h1
theorem k0_idx1655_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v35, v2169] : Fin 2 → IVec S16 32) a x).toNat < S256x142.size a := fun i k0_t2 v15 v20 v25 v30 v35 v40 v45 v50 v55 v60 v2169 k0_hw1002 k0_h1 => k0_hw1002.2.2.2.2.1 k0_h1
theorem k0_idx1657_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v40, v2169] : Fin 2 → IVec S16 32) a x).toNat < S256x142.size a := fun i k0_t2 v15 v20 v25 v30 v35 v40 v45 v50 v55 v60 v2169 k0_hw1002 k0_h1 => k0_hw1002.2.2.2.2.2.1 k0_h1
theorem k0_idx1659_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v45, v2169] : Fin 2 → IVec S16 32) a x).toNat < S256x142.size a := fun i k0_t2 v15 v20 v25 v30 v35 v40 v45 v50 v55 v60 v2169 k0_hw1002 k0_h1 => k0_hw1002.2.2.2.2.2.2.1 k0_h1
theorem k0_idx1661_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v50, v2169] : Fin 2 → IVec S16 32) a x).toNat < S256x142.size a := fun i k0_t2 v15 v20 v25 v30 v35 v40 v45 v50 v55 v60 v2169 k0_hw1002 k0_h1 => k0_hw1002.2.2.2.2.2.2.2.1 k0_h1
theorem k0_idx1663_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v55, v2169] : Fin 2 → IVec S16 32) a x).toNat < S256x142.size a := fun i k0_t2 v15 v20 v25 v30 v35 v40 v45 v50 v55 v60 v2169 k0_hw1002 k0_h1 => k0_hw1002.2.2.2.2.2.2.2.2.1 k0_h1
theorem k0_idx1665_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2169 : IVec S16 32) (k0_hw1002 : k0_chk1002 i k0_t2 v15 v20 v25 v30 v35 v40 v45 v50 v55 v60 v2169), ∀ (k0_h1 : k0_cond1 i k0_t2 = 1#1), ∀ a x, ((![v60, v2169] : Fin 2 → IVec S16 32) a x).toNat < S256x142.size a := fun i k0_t2 v15 v20 v25 v30 v35 v40 v45 v50 v55 v60 v2169 k0_hw1002 k0_h1 => k0_hw1002.2.2.2.2.2.2.2.2.2 k0_h1

def k0_chk1012 (i : grid0.Coords) (k0_t2 : Fin k0_t2_loop.trips) (v2169 : IVec S16 32) (v2199 : IVec S16 32) : Prop :=
  (∀ (k0_h1 : k0_cond1 i k0_t2 = 1#1), ∀ a x, ((![v2199, v2169] : Fin 2 → IVec S16 32) a x).toNat < S160x142.size a)
theorem k0_idx1666_inb : ∀ (i : grid0.Coords) (k0_t2 : Fin k0_t2_loop.trips) (v2169 : IVec S16 32) (v2199 : IVec S16 32) (k0_hw1012 : k0_chk1012 i k0_t2 v2169 v2199), ∀ (k0_h1 : k0_cond1 i k0_t2 = 1#1), ∀ a x, ((![v2199, v2169] : Fin 2 → IVec S16 32) a x).toNat < S160x142.size a := fun i k0_t2 v2169 v2199 k0_hw1012 k0_h1 => k0_hw1012 k0_h1

def k0_chk1014 (i : grid0.Coords) (k0_t2 : Fin k0_t2_loop.trips) (v2200 : IVec S16 32) (v2203 : IVec S16 32) : Prop :=
  (∀ (k0_h1 : k0_cond1 i k0_t2 = 1#1), ∀ a x, ((![v2203, v2200] : Fin 2 → IVec S16 32) a x).toNat < S160x142.size a)
theorem k0_idx1668_inb : ∀ (i : grid0.Coords) (k0_t2 : Fin k0_t2_loop.trips) (v2200 : IVec S16 32) (v2203 : IVec S16 32) (k0_hw1014 : k0_chk1014 i k0_t2 v2200 v2203), ∀ (k0_h1 : k0_cond1 i k0_t2 = 1#1), ∀ a x, ((![v2203, v2200] : Fin 2 → IVec S16 32) a x).toNat < S160x142.size a := fun i k0_t2 v2200 v2203 k0_hw1014 k0_h1 => k0_hw1014 k0_h1

def k0_chk1015 (i : grid0.Coords) (k0_t2 : Fin k0_t2_loop.trips) (v2200 : IVec S16 32) (v2206 : IVec S16 32) : Prop :=
  (∀ (k0_h1 : k0_cond1 i k0_t2 = 1#1), ∀ a x, ((![v2206, v2200] : Fin 2 → IVec S16 32) a x).toNat < S160x142.size a)
theorem k0_idx1670_inb : ∀ (i : grid0.Coords) (k0_t2 : Fin k0_t2_loop.trips) (v2200 : IVec S16 32) (v2206 : IVec S16 32) (k0_hw1015 : k0_chk1015 i k0_t2 v2200 v2206), ∀ (k0_h1 : k0_cond1 i k0_t2 = 1#1), ∀ a x, ((![v2206, v2200] : Fin 2 → IVec S16 32) a x).toNat < S160x142.size a := fun i k0_t2 v2200 v2206 k0_hw1015 k0_h1 => k0_hw1015 k0_h1

def k0_chk1016 (i : grid0.Coords) (k0_t2 : Fin k0_t2_loop.trips) (v2200 : IVec S16 32) (v2209 : IVec S16 32) : Prop :=
  (∀ (k0_h1 : k0_cond1 i k0_t2 = 1#1), ∀ a x, ((![v2209, v2200] : Fin 2 → IVec S16 32) a x).toNat < S160x142.size a)
theorem k0_idx1672_inb : ∀ (i : grid0.Coords) (k0_t2 : Fin k0_t2_loop.trips) (v2200 : IVec S16 32) (v2209 : IVec S16 32) (k0_hw1016 : k0_chk1016 i k0_t2 v2200 v2209), ∀ (k0_h1 : k0_cond1 i k0_t2 = 1#1), ∀ a x, ((![v2209, v2200] : Fin 2 → IVec S16 32) a x).toNat < S160x142.size a := fun i k0_t2 v2200 v2209 k0_hw1016 k0_h1 => k0_hw1016 k0_h1

def k0_chk1017 (i : grid0.Coords) (k0_t2 : Fin k0_t2_loop.trips) (v2200 : IVec S16 32) (v2212 : IVec S16 32) : Prop :=
  (∀ (k0_h1 : k0_cond1 i k0_t2 = 1#1), ∀ a x, ((![v2212, v2200] : Fin 2 → IVec S16 32) a x).toNat < S160x142.size a)
theorem k0_idx1674_inb : ∀ (i : grid0.Coords) (k0_t2 : Fin k0_t2_loop.trips) (v2200 : IVec S16 32) (v2212 : IVec S16 32) (k0_hw1017 : k0_chk1017 i k0_t2 v2200 v2212), ∀ (k0_h1 : k0_cond1 i k0_t2 = 1#1), ∀ a x, ((![v2212, v2200] : Fin 2 → IVec S16 32) a x).toNat < S160x142.size a := fun i k0_t2 v2200 v2212 k0_hw1017 k0_h1 => k0_hw1017 k0_h1

def k0_chk1018 (i : grid0.Coords) (k0_t2 : Fin k0_t2_loop.trips) (v2200 : IVec S16 32) (v2215 : IVec S16 32) : Prop :=
  (∀ (k0_h1 : k0_cond1 i k0_t2 = 1#1), ∀ a x, ((![v2215, v2200] : Fin 2 → IVec S16 32) a x).toNat < S160x142.size a)
theorem k0_idx1676_inb : ∀ (i : grid0.Coords) (k0_t2 : Fin k0_t2_loop.trips) (v2200 : IVec S16 32) (v2215 : IVec S16 32) (k0_hw1018 : k0_chk1018 i k0_t2 v2200 v2215), ∀ (k0_h1 : k0_cond1 i k0_t2 = 1#1), ∀ a x, ((![v2215, v2200] : Fin 2 → IVec S16 32) a x).toNat < S160x142.size a := fun i k0_t2 v2200 v2215 k0_hw1018 k0_h1 => k0_hw1018 k0_h1

def k0_chk1019 (i : grid0.Coords) (k0_t2 : Fin k0_t2_loop.trips) (v2200 : IVec S16 32) (v2218 : IVec S16 32) : Prop :=
  (∀ (k0_h1 : k0_cond1 i k0_t2 = 1#1), ∀ a x, ((![v2218, v2200] : Fin 2 → IVec S16 32) a x).toNat < S160x142.size a)
theorem k0_idx1678_inb : ∀ (i : grid0.Coords) (k0_t2 : Fin k0_t2_loop.trips) (v2200 : IVec S16 32) (v2218 : IVec S16 32) (k0_hw1019 : k0_chk1019 i k0_t2 v2200 v2218), ∀ (k0_h1 : k0_cond1 i k0_t2 = 1#1), ∀ a x, ((![v2218, v2200] : Fin 2 → IVec S16 32) a x).toNat < S160x142.size a := fun i k0_t2 v2200 v2218 k0_hw1019 k0_h1 => k0_hw1019 k0_h1

def k0_chk1020 (i : grid0.Coords) (k0_t2 : Fin k0_t2_loop.trips) (v2200 : IVec S16 32) (v2221 : IVec S16 32) : Prop :=
  (∀ (k0_h1 : k0_cond1 i k0_t2 = 1#1), ∀ a x, ((![v2221, v2200] : Fin 2 → IVec S16 32) a x).toNat < S160x142.size a)
theorem k0_idx1680_inb : ∀ (i : grid0.Coords) (k0_t2 : Fin k0_t2_loop.trips) (v2200 : IVec S16 32) (v2221 : IVec S16 32) (k0_hw1020 : k0_chk1020 i k0_t2 v2200 v2221), ∀ (k0_h1 : k0_cond1 i k0_t2 = 1#1), ∀ a x, ((![v2221, v2200] : Fin 2 → IVec S16 32) a x).toNat < S160x142.size a := fun i k0_t2 v2200 v2221 k0_hw1020 k0_h1 => k0_hw1020 k0_h1

def k0_chk1021 (i : grid0.Coords) (k0_t2 : Fin k0_t2_loop.trips) (v2200 : IVec S16 32) (v2224 : IVec S16 32) : Prop :=
  (∀ (k0_h1 : k0_cond1 i k0_t2 = 1#1), ∀ a x, ((![v2224, v2200] : Fin 2 → IVec S16 32) a x).toNat < S160x142.size a)
theorem k0_idx1682_inb : ∀ (i : grid0.Coords) (k0_t2 : Fin k0_t2_loop.trips) (v2200 : IVec S16 32) (v2224 : IVec S16 32) (k0_hw1021 : k0_chk1021 i k0_t2 v2200 v2224), ∀ (k0_h1 : k0_cond1 i k0_t2 = 1#1), ∀ a x, ((![v2224, v2200] : Fin 2 → IVec S16 32) a x).toNat < S160x142.size a := fun i k0_t2 v2200 v2224 k0_hw1021 k0_h1 => k0_hw1021 k0_h1

def k0_chk1022 (i : grid0.Coords) (k0_t2 : Fin k0_t2_loop.trips) (v2200 : IVec S16 32) (v2227 : IVec S16 32) : Prop :=
  (∀ (k0_h1 : k0_cond1 i k0_t2 = 1#1), ∀ a x, ((![v2227, v2200] : Fin 2 → IVec S16 32) a x).toNat < S160x142.size a)
theorem k0_idx1684_inb : ∀ (i : grid0.Coords) (k0_t2 : Fin k0_t2_loop.trips) (v2200 : IVec S16 32) (v2227 : IVec S16 32) (k0_hw1022 : k0_chk1022 i k0_t2 v2200 v2227), ∀ (k0_h1 : k0_cond1 i k0_t2 = 1#1), ∀ a x, ((![v2227, v2200] : Fin 2 → IVec S16 32) a x).toNat < S160x142.size a := fun i k0_t2 v2200 v2227 k0_hw1022 k0_h1 => k0_hw1022 k0_h1

def k0_chk1013 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) : Prop :=
  (∀ (k0_h1 : k0_cond1 i k0_t2 = 1#1), ∀ a x, ((![v15, v2200] : Fin 2 → IVec S16 32) a x).toNat < S256x142.size a) ∧
  (∀ (k0_h1 : k0_cond1 i k0_t2 = 1#1), ∀ a x, ((![v20, v2200] : Fin 2 → IVec S16 32) a x).toNat < S256x142.size a) ∧
  (∀ (k0_h1 : k0_cond1 i k0_t2 = 1#1), ∀ a x, ((![v25, v2200] : Fin 2 → IVec S16 32) a x).toNat < S256x142.size a) ∧
  (∀ (k0_h1 : k0_cond1 i k0_t2 = 1#1), ∀ a x, ((![v30, v2200] : Fin 2 → IVec S16 32) a x).toNat < S256x142.size a) ∧
  (∀ (k0_h1 : k0_cond1 i k0_t2 = 1#1), ∀ a x, ((![v35, v2200] : Fin 2 → IVec S16 32) a x).toNat < S256x142.size a) ∧
  (∀ (k0_h1 : k0_cond1 i k0_t2 = 1#1), ∀ a x, ((![v40, v2200] : Fin 2 → IVec S16 32) a x).toNat < S256x142.size a) ∧
  (∀ (k0_h1 : k0_cond1 i k0_t2 = 1#1), ∀ a x, ((![v45, v2200] : Fin 2 → IVec S16 32) a x).toNat < S256x142.size a) ∧
  (∀ (k0_h1 : k0_cond1 i k0_t2 = 1#1), ∀ a x, ((![v50, v2200] : Fin 2 → IVec S16 32) a x).toNat < S256x142.size a) ∧
  (∀ (k0_h1 : k0_cond1 i k0_t2 = 1#1), ∀ a x, ((![v55, v2200] : Fin 2 → IVec S16 32) a x).toNat < S256x142.size a) ∧
  (∀ (k0_h1 : k0_cond1 i k0_t2 = 1#1), ∀ a x, ((![v60, v2200] : Fin 2 → IVec S16 32) a x).toNat < S256x142.size a)
theorem k0_idx1667_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v15, v2200] : Fin 2 → IVec S16 32) a x).toNat < S256x142.size a := fun i k0_t2 v15 v20 v25 v30 v35 v40 v45 v50 v55 v60 v2200 k0_hw1013 k0_h1 => k0_hw1013.1 k0_h1
theorem k0_idx1669_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v20, v2200] : Fin 2 → IVec S16 32) a x).toNat < S256x142.size a := fun i k0_t2 v15 v20 v25 v30 v35 v40 v45 v50 v55 v60 v2200 k0_hw1013 k0_h1 => k0_hw1013.2.1 k0_h1
theorem k0_idx1671_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v25, v2200] : Fin 2 → IVec S16 32) a x).toNat < S256x142.size a := fun i k0_t2 v15 v20 v25 v30 v35 v40 v45 v50 v55 v60 v2200 k0_hw1013 k0_h1 => k0_hw1013.2.2.1 k0_h1
theorem k0_idx1673_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v30, v2200] : Fin 2 → IVec S16 32) a x).toNat < S256x142.size a := fun i k0_t2 v15 v20 v25 v30 v35 v40 v45 v50 v55 v60 v2200 k0_hw1013 k0_h1 => k0_hw1013.2.2.2.1 k0_h1
theorem k0_idx1675_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v35, v2200] : Fin 2 → IVec S16 32) a x).toNat < S256x142.size a := fun i k0_t2 v15 v20 v25 v30 v35 v40 v45 v50 v55 v60 v2200 k0_hw1013 k0_h1 => k0_hw1013.2.2.2.2.1 k0_h1
theorem k0_idx1677_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v40, v2200] : Fin 2 → IVec S16 32) a x).toNat < S256x142.size a := fun i k0_t2 v15 v20 v25 v30 v35 v40 v45 v50 v55 v60 v2200 k0_hw1013 k0_h1 => k0_hw1013.2.2.2.2.2.1 k0_h1
theorem k0_idx1679_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v45, v2200] : Fin 2 → IVec S16 32) a x).toNat < S256x142.size a := fun i k0_t2 v15 v20 v25 v30 v35 v40 v45 v50 v55 v60 v2200 k0_hw1013 k0_h1 => k0_hw1013.2.2.2.2.2.2.1 k0_h1
theorem k0_idx1681_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v50, v2200] : Fin 2 → IVec S16 32) a x).toNat < S256x142.size a := fun i k0_t2 v15 v20 v25 v30 v35 v40 v45 v50 v55 v60 v2200 k0_hw1013 k0_h1 => k0_hw1013.2.2.2.2.2.2.2.1 k0_h1
theorem k0_idx1683_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v55, v2200] : Fin 2 → IVec S16 32) a x).toNat < S256x142.size a := fun i k0_t2 v15 v20 v25 v30 v35 v40 v45 v50 v55 v60 v2200 k0_hw1013 k0_h1 => k0_hw1013.2.2.2.2.2.2.2.2.1 k0_h1
theorem k0_idx1685_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2200 : IVec S16 32) (k0_hw1013 : k0_chk1013 i k0_t2 v15 v20 v25 v30 v35 v40 v45 v50 v55 v60 v2200), ∀ (k0_h1 : k0_cond1 i k0_t2 = 1#1), ∀ a x, ((![v60, v2200] : Fin 2 → IVec S16 32) a x).toNat < S256x142.size a := fun i k0_t2 v15 v20 v25 v30 v35 v40 v45 v50 v55 v60 v2200 k0_hw1013 k0_h1 => k0_hw1013.2.2.2.2.2.2.2.2.2 k0_h1

def k0_chk1023 (i : grid0.Coords) (k0_t2 : Fin k0_t2_loop.trips) (v2200 : IVec S16 32) (v2230 : IVec S16 32) : Prop :=
  (∀ (k0_h1 : k0_cond1 i k0_t2 = 1#1), ∀ a x, ((![v2230, v2200] : Fin 2 → IVec S16 32) a x).toNat < S160x142.size a)
theorem k0_idx1686_inb : ∀ (i : grid0.Coords) (k0_t2 : Fin k0_t2_loop.trips) (v2200 : IVec S16 32) (v2230 : IVec S16 32) (k0_hw1023 : k0_chk1023 i k0_t2 v2200 v2230), ∀ (k0_h1 : k0_cond1 i k0_t2 = 1#1), ∀ a x, ((![v2230, v2200] : Fin 2 → IVec S16 32) a x).toNat < S160x142.size a := fun i k0_t2 v2200 v2230 k0_hw1023 k0_h1 => k0_hw1023 k0_h1

def k0_chk1025 (i : grid0.Coords) (k0_t2 : Fin k0_t2_loop.trips) (v2231 : IVec S16 32) (v2234 : IVec S16 32) : Prop :=
  (∀ (k0_h1 : k0_cond1 i k0_t2 = 1#1), ∀ a x, ((![v2234, v2231] : Fin 2 → IVec S16 32) a x).toNat < S160x142.size a)
theorem k0_idx1688_inb : ∀ (i : grid0.Coords) (k0_t2 : Fin k0_t2_loop.trips) (v2231 : IVec S16 32) (v2234 : IVec S16 32) (k0_hw1025 : k0_chk1025 i k0_t2 v2231 v2234), ∀ (k0_h1 : k0_cond1 i k0_t2 = 1#1), ∀ a x, ((![v2234, v2231] : Fin 2 → IVec S16 32) a x).toNat < S160x142.size a := fun i k0_t2 v2231 v2234 k0_hw1025 k0_h1 => k0_hw1025 k0_h1

def k0_chk1026 (i : grid0.Coords) (k0_t2 : Fin k0_t2_loop.trips) (v2231 : IVec S16 32) (v2237 : IVec S16 32) : Prop :=
  (∀ (k0_h1 : k0_cond1 i k0_t2 = 1#1), ∀ a x, ((![v2237, v2231] : Fin 2 → IVec S16 32) a x).toNat < S160x142.size a)
theorem k0_idx1690_inb : ∀ (i : grid0.Coords) (k0_t2 : Fin k0_t2_loop.trips) (v2231 : IVec S16 32) (v2237 : IVec S16 32) (k0_hw1026 : k0_chk1026 i k0_t2 v2231 v2237), ∀ (k0_h1 : k0_cond1 i k0_t2 = 1#1), ∀ a x, ((![v2237, v2231] : Fin 2 → IVec S16 32) a x).toNat < S160x142.size a := fun i k0_t2 v2231 v2237 k0_hw1026 k0_h1 => k0_hw1026 k0_h1

def k0_chk1027 (i : grid0.Coords) (k0_t2 : Fin k0_t2_loop.trips) (v2231 : IVec S16 32) (v2240 : IVec S16 32) : Prop :=
  (∀ (k0_h1 : k0_cond1 i k0_t2 = 1#1), ∀ a x, ((![v2240, v2231] : Fin 2 → IVec S16 32) a x).toNat < S160x142.size a)
theorem k0_idx1692_inb : ∀ (i : grid0.Coords) (k0_t2 : Fin k0_t2_loop.trips) (v2231 : IVec S16 32) (v2240 : IVec S16 32) (k0_hw1027 : k0_chk1027 i k0_t2 v2231 v2240), ∀ (k0_h1 : k0_cond1 i k0_t2 = 1#1), ∀ a x, ((![v2240, v2231] : Fin 2 → IVec S16 32) a x).toNat < S160x142.size a := fun i k0_t2 v2231 v2240 k0_hw1027 k0_h1 => k0_hw1027 k0_h1

def k0_chk1028 (i : grid0.Coords) (k0_t2 : Fin k0_t2_loop.trips) (v2231 : IVec S16 32) (v2243 : IVec S16 32) : Prop :=
  (∀ (k0_h1 : k0_cond1 i k0_t2 = 1#1), ∀ a x, ((![v2243, v2231] : Fin 2 → IVec S16 32) a x).toNat < S160x142.size a)
theorem k0_idx1694_inb : ∀ (i : grid0.Coords) (k0_t2 : Fin k0_t2_loop.trips) (v2231 : IVec S16 32) (v2243 : IVec S16 32) (k0_hw1028 : k0_chk1028 i k0_t2 v2231 v2243), ∀ (k0_h1 : k0_cond1 i k0_t2 = 1#1), ∀ a x, ((![v2243, v2231] : Fin 2 → IVec S16 32) a x).toNat < S160x142.size a := fun i k0_t2 v2231 v2243 k0_hw1028 k0_h1 => k0_hw1028 k0_h1

def k0_chk1029 (i : grid0.Coords) (k0_t2 : Fin k0_t2_loop.trips) (v2231 : IVec S16 32) (v2246 : IVec S16 32) : Prop :=
  (∀ (k0_h1 : k0_cond1 i k0_t2 = 1#1), ∀ a x, ((![v2246, v2231] : Fin 2 → IVec S16 32) a x).toNat < S160x142.size a)
theorem k0_idx1696_inb : ∀ (i : grid0.Coords) (k0_t2 : Fin k0_t2_loop.trips) (v2231 : IVec S16 32) (v2246 : IVec S16 32) (k0_hw1029 : k0_chk1029 i k0_t2 v2231 v2246), ∀ (k0_h1 : k0_cond1 i k0_t2 = 1#1), ∀ a x, ((![v2246, v2231] : Fin 2 → IVec S16 32) a x).toNat < S160x142.size a := fun i k0_t2 v2231 v2246 k0_hw1029 k0_h1 => k0_hw1029 k0_h1

def k0_chk1030 (i : grid0.Coords) (k0_t2 : Fin k0_t2_loop.trips) (v2231 : IVec S16 32) (v2249 : IVec S16 32) : Prop :=
  (∀ (k0_h1 : k0_cond1 i k0_t2 = 1#1), ∀ a x, ((![v2249, v2231] : Fin 2 → IVec S16 32) a x).toNat < S160x142.size a)
theorem k0_idx1698_inb : ∀ (i : grid0.Coords) (k0_t2 : Fin k0_t2_loop.trips) (v2231 : IVec S16 32) (v2249 : IVec S16 32) (k0_hw1030 : k0_chk1030 i k0_t2 v2231 v2249), ∀ (k0_h1 : k0_cond1 i k0_t2 = 1#1), ∀ a x, ((![v2249, v2231] : Fin 2 → IVec S16 32) a x).toNat < S160x142.size a := fun i k0_t2 v2231 v2249 k0_hw1030 k0_h1 => k0_hw1030 k0_h1

def k0_chk1031 (i : grid0.Coords) (k0_t2 : Fin k0_t2_loop.trips) (v2231 : IVec S16 32) (v2252 : IVec S16 32) : Prop :=
  (∀ (k0_h1 : k0_cond1 i k0_t2 = 1#1), ∀ a x, ((![v2252, v2231] : Fin 2 → IVec S16 32) a x).toNat < S160x142.size a)
theorem k0_idx1700_inb : ∀ (i : grid0.Coords) (k0_t2 : Fin k0_t2_loop.trips) (v2231 : IVec S16 32) (v2252 : IVec S16 32) (k0_hw1031 : k0_chk1031 i k0_t2 v2231 v2252), ∀ (k0_h1 : k0_cond1 i k0_t2 = 1#1), ∀ a x, ((![v2252, v2231] : Fin 2 → IVec S16 32) a x).toNat < S160x142.size a := fun i k0_t2 v2231 v2252 k0_hw1031 k0_h1 => k0_hw1031 k0_h1

def k0_chk1032 (i : grid0.Coords) (k0_t2 : Fin k0_t2_loop.trips) (v2231 : IVec S16 32) (v2255 : IVec S16 32) : Prop :=
  (∀ (k0_h1 : k0_cond1 i k0_t2 = 1#1), ∀ a x, ((![v2255, v2231] : Fin 2 → IVec S16 32) a x).toNat < S160x142.size a)
theorem k0_idx1702_inb : ∀ (i : grid0.Coords) (k0_t2 : Fin k0_t2_loop.trips) (v2231 : IVec S16 32) (v2255 : IVec S16 32) (k0_hw1032 : k0_chk1032 i k0_t2 v2231 v2255), ∀ (k0_h1 : k0_cond1 i k0_t2 = 1#1), ∀ a x, ((![v2255, v2231] : Fin 2 → IVec S16 32) a x).toNat < S160x142.size a := fun i k0_t2 v2231 v2255 k0_hw1032 k0_h1 => k0_hw1032 k0_h1

def k0_chk1033 (i : grid0.Coords) (k0_t2 : Fin k0_t2_loop.trips) (v2231 : IVec S16 32) (v2258 : IVec S16 32) : Prop :=
  (∀ (k0_h1 : k0_cond1 i k0_t2 = 1#1), ∀ a x, ((![v2258, v2231] : Fin 2 → IVec S16 32) a x).toNat < S160x142.size a)
theorem k0_idx1704_inb : ∀ (i : grid0.Coords) (k0_t2 : Fin k0_t2_loop.trips) (v2231 : IVec S16 32) (v2258 : IVec S16 32) (k0_hw1033 : k0_chk1033 i k0_t2 v2231 v2258), ∀ (k0_h1 : k0_cond1 i k0_t2 = 1#1), ∀ a x, ((![v2258, v2231] : Fin 2 → IVec S16 32) a x).toNat < S160x142.size a := fun i k0_t2 v2231 v2258 k0_hw1033 k0_h1 => k0_hw1033 k0_h1

def k0_chk1024 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) : Prop :=
  (∀ (k0_h1 : k0_cond1 i k0_t2 = 1#1), ∀ a x, ((![v15, v2231] : Fin 2 → IVec S16 32) a x).toNat < S256x142.size a) ∧
  (∀ (k0_h1 : k0_cond1 i k0_t2 = 1#1), ∀ a x, ((![v20, v2231] : Fin 2 → IVec S16 32) a x).toNat < S256x142.size a) ∧
  (∀ (k0_h1 : k0_cond1 i k0_t2 = 1#1), ∀ a x, ((![v25, v2231] : Fin 2 → IVec S16 32) a x).toNat < S256x142.size a) ∧
  (∀ (k0_h1 : k0_cond1 i k0_t2 = 1#1), ∀ a x, ((![v30, v2231] : Fin 2 → IVec S16 32) a x).toNat < S256x142.size a) ∧
  (∀ (k0_h1 : k0_cond1 i k0_t2 = 1#1), ∀ a x, ((![v35, v2231] : Fin 2 → IVec S16 32) a x).toNat < S256x142.size a) ∧
  (∀ (k0_h1 : k0_cond1 i k0_t2 = 1#1), ∀ a x, ((![v40, v2231] : Fin 2 → IVec S16 32) a x).toNat < S256x142.size a) ∧
  (∀ (k0_h1 : k0_cond1 i k0_t2 = 1#1), ∀ a x, ((![v45, v2231] : Fin 2 → IVec S16 32) a x).toNat < S256x142.size a) ∧
  (∀ (k0_h1 : k0_cond1 i k0_t2 = 1#1), ∀ a x, ((![v50, v2231] : Fin 2 → IVec S16 32) a x).toNat < S256x142.size a) ∧
  (∀ (k0_h1 : k0_cond1 i k0_t2 = 1#1), ∀ a x, ((![v55, v2231] : Fin 2 → IVec S16 32) a x).toNat < S256x142.size a) ∧
  (∀ (k0_h1 : k0_cond1 i k0_t2 = 1#1), ∀ a x, ((![v60, v2231] : Fin 2 → IVec S16 32) a x).toNat < S256x142.size a)
theorem k0_idx1687_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v15, v2231] : Fin 2 → IVec S16 32) a x).toNat < S256x142.size a := fun i k0_t2 v15 v20 v25 v30 v35 v40 v45 v50 v55 v60 v2231 k0_hw1024 k0_h1 => k0_hw1024.1 k0_h1
theorem k0_idx1689_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v20, v2231] : Fin 2 → IVec S16 32) a x).toNat < S256x142.size a := fun i k0_t2 v15 v20 v25 v30 v35 v40 v45 v50 v55 v60 v2231 k0_hw1024 k0_h1 => k0_hw1024.2.1 k0_h1
theorem k0_idx1691_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v25, v2231] : Fin 2 → IVec S16 32) a x).toNat < S256x142.size a := fun i k0_t2 v15 v20 v25 v30 v35 v40 v45 v50 v55 v60 v2231 k0_hw1024 k0_h1 => k0_hw1024.2.2.1 k0_h1
theorem k0_idx1693_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v30, v2231] : Fin 2 → IVec S16 32) a x).toNat < S256x142.size a := fun i k0_t2 v15 v20 v25 v30 v35 v40 v45 v50 v55 v60 v2231 k0_hw1024 k0_h1 => k0_hw1024.2.2.2.1 k0_h1
theorem k0_idx1695_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v35, v2231] : Fin 2 → IVec S16 32) a x).toNat < S256x142.size a := fun i k0_t2 v15 v20 v25 v30 v35 v40 v45 v50 v55 v60 v2231 k0_hw1024 k0_h1 => k0_hw1024.2.2.2.2.1 k0_h1
theorem k0_idx1697_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v40, v2231] : Fin 2 → IVec S16 32) a x).toNat < S256x142.size a := fun i k0_t2 v15 v20 v25 v30 v35 v40 v45 v50 v55 v60 v2231 k0_hw1024 k0_h1 => k0_hw1024.2.2.2.2.2.1 k0_h1
theorem k0_idx1699_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v45, v2231] : Fin 2 → IVec S16 32) a x).toNat < S256x142.size a := fun i k0_t2 v15 v20 v25 v30 v35 v40 v45 v50 v55 v60 v2231 k0_hw1024 k0_h1 => k0_hw1024.2.2.2.2.2.2.1 k0_h1
theorem k0_idx1701_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v50, v2231] : Fin 2 → IVec S16 32) a x).toNat < S256x142.size a := fun i k0_t2 v15 v20 v25 v30 v35 v40 v45 v50 v55 v60 v2231 k0_hw1024 k0_h1 => k0_hw1024.2.2.2.2.2.2.2.1 k0_h1
theorem k0_idx1703_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v55, v2231] : Fin 2 → IVec S16 32) a x).toNat < S256x142.size a := fun i k0_t2 v15 v20 v25 v30 v35 v40 v45 v50 v55 v60 v2231 k0_hw1024 k0_h1 => k0_hw1024.2.2.2.2.2.2.2.2.1 k0_h1
theorem k0_idx1705_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2231 : IVec S16 32) (k0_hw1024 : k0_chk1024 i k0_t2 v15 v20 v25 v30 v35 v40 v45 v50 v55 v60 v2231), ∀ (k0_h1 : k0_cond1 i k0_t2 = 1#1), ∀ a x, ((![v60, v2231] : Fin 2 → IVec S16 32) a x).toNat < S256x142.size a := fun i k0_t2 v15 v20 v25 v30 v35 v40 v45 v50 v55 v60 v2231 k0_hw1024 k0_h1 => k0_hw1024.2.2.2.2.2.2.2.2.2 k0_h1

def k0_chk1034 (i : grid0.Coords) (k0_t2 : Fin k0_t2_loop.trips) (v2231 : IVec S16 32) (v2261 : IVec S16 32) : Prop :=
  (∀ (k0_h1 : k0_cond1 i k0_t2 = 1#1), ∀ a x, ((![v2261, v2231] : Fin 2 → IVec S16 32) a x).toNat < S160x142.size a)
theorem k0_idx1706_inb : ∀ (i : grid0.Coords) (k0_t2 : Fin k0_t2_loop.trips) (v2231 : IVec S16 32) (v2261 : IVec S16 32) (k0_hw1034 : k0_chk1034 i k0_t2 v2231 v2261), ∀ (k0_h1 : k0_cond1 i k0_t2 = 1#1), ∀ a x, ((![v2261, v2231] : Fin 2 → IVec S16 32) a x).toNat < S160x142.size a := fun i k0_t2 v2231 v2261 k0_hw1034 k0_h1 => k0_hw1034 k0_h1

def k0_chk1036 (i : grid0.Coords) (k0_t2 : Fin k0_t2_loop.trips) (v2262 : IVec S16 32) (v2265 : IVec S16 32) : Prop :=
  (∀ (k0_h1 : k0_cond1 i k0_t2 = 1#1), ∀ a x, ((![v2265, v2262] : Fin 2 → IVec S16 32) a x).toNat < S160x142.size a)
theorem k0_idx1708_inb : ∀ (i : grid0.Coords) (k0_t2 : Fin k0_t2_loop.trips) (v2262 : IVec S16 32) (v2265 : IVec S16 32) (k0_hw1036 : k0_chk1036 i k0_t2 v2262 v2265), ∀ (k0_h1 : k0_cond1 i k0_t2 = 1#1), ∀ a x, ((![v2265, v2262] : Fin 2 → IVec S16 32) a x).toNat < S160x142.size a := fun i k0_t2 v2262 v2265 k0_hw1036 k0_h1 => k0_hw1036 k0_h1

def k0_chk1037 (i : grid0.Coords) (k0_t2 : Fin k0_t2_loop.trips) (v2262 : IVec S16 32) (v2268 : IVec S16 32) : Prop :=
  (∀ (k0_h1 : k0_cond1 i k0_t2 = 1#1), ∀ a x, ((![v2268, v2262] : Fin 2 → IVec S16 32) a x).toNat < S160x142.size a)
theorem k0_idx1710_inb : ∀ (i : grid0.Coords) (k0_t2 : Fin k0_t2_loop.trips) (v2262 : IVec S16 32) (v2268 : IVec S16 32) (k0_hw1037 : k0_chk1037 i k0_t2 v2262 v2268), ∀ (k0_h1 : k0_cond1 i k0_t2 = 1#1), ∀ a x, ((![v2268, v2262] : Fin 2 → IVec S16 32) a x).toNat < S160x142.size a := fun i k0_t2 v2262 v2268 k0_hw1037 k0_h1 => k0_hw1037 k0_h1

def k0_chk1038 (i : grid0.Coords) (k0_t2 : Fin k0_t2_loop.trips) (v2262 : IVec S16 32) (v2271 : IVec S16 32) : Prop :=
  (∀ (k0_h1 : k0_cond1 i k0_t2 = 1#1), ∀ a x, ((![v2271, v2262] : Fin 2 → IVec S16 32) a x).toNat < S160x142.size a)
theorem k0_idx1712_inb : ∀ (i : grid0.Coords) (k0_t2 : Fin k0_t2_loop.trips) (v2262 : IVec S16 32) (v2271 : IVec S16 32) (k0_hw1038 : k0_chk1038 i k0_t2 v2262 v2271), ∀ (k0_h1 : k0_cond1 i k0_t2 = 1#1), ∀ a x, ((![v2271, v2262] : Fin 2 → IVec S16 32) a x).toNat < S160x142.size a := fun i k0_t2 v2262 v2271 k0_hw1038 k0_h1 => k0_hw1038 k0_h1

def k0_chk1039 (i : grid0.Coords) (k0_t2 : Fin k0_t2_loop.trips) (v2262 : IVec S16 32) (v2274 : IVec S16 32) : Prop :=
  (∀ (k0_h1 : k0_cond1 i k0_t2 = 1#1), ∀ a x, ((![v2274, v2262] : Fin 2 → IVec S16 32) a x).toNat < S160x142.size a)
theorem k0_idx1714_inb : ∀ (i : grid0.Coords) (k0_t2 : Fin k0_t2_loop.trips) (v2262 : IVec S16 32) (v2274 : IVec S16 32) (k0_hw1039 : k0_chk1039 i k0_t2 v2262 v2274), ∀ (k0_h1 : k0_cond1 i k0_t2 = 1#1), ∀ a x, ((![v2274, v2262] : Fin 2 → IVec S16 32) a x).toNat < S160x142.size a := fun i k0_t2 v2262 v2274 k0_hw1039 k0_h1 => k0_hw1039 k0_h1

def k0_chk1040 (i : grid0.Coords) (k0_t2 : Fin k0_t2_loop.trips) (v2262 : IVec S16 32) (v2277 : IVec S16 32) : Prop :=
  (∀ (k0_h1 : k0_cond1 i k0_t2 = 1#1), ∀ a x, ((![v2277, v2262] : Fin 2 → IVec S16 32) a x).toNat < S160x142.size a)
theorem k0_idx1716_inb : ∀ (i : grid0.Coords) (k0_t2 : Fin k0_t2_loop.trips) (v2262 : IVec S16 32) (v2277 : IVec S16 32) (k0_hw1040 : k0_chk1040 i k0_t2 v2262 v2277), ∀ (k0_h1 : k0_cond1 i k0_t2 = 1#1), ∀ a x, ((![v2277, v2262] : Fin 2 → IVec S16 32) a x).toNat < S160x142.size a := fun i k0_t2 v2262 v2277 k0_hw1040 k0_h1 => k0_hw1040 k0_h1

def k0_chk1041 (i : grid0.Coords) (k0_t2 : Fin k0_t2_loop.trips) (v2262 : IVec S16 32) (v2280 : IVec S16 32) : Prop :=
  (∀ (k0_h1 : k0_cond1 i k0_t2 = 1#1), ∀ a x, ((![v2280, v2262] : Fin 2 → IVec S16 32) a x).toNat < S160x142.size a)
theorem k0_idx1718_inb : ∀ (i : grid0.Coords) (k0_t2 : Fin k0_t2_loop.trips) (v2262 : IVec S16 32) (v2280 : IVec S16 32) (k0_hw1041 : k0_chk1041 i k0_t2 v2262 v2280), ∀ (k0_h1 : k0_cond1 i k0_t2 = 1#1), ∀ a x, ((![v2280, v2262] : Fin 2 → IVec S16 32) a x).toNat < S160x142.size a := fun i k0_t2 v2262 v2280 k0_hw1041 k0_h1 => k0_hw1041 k0_h1

def k0_chk1042 (i : grid0.Coords) (k0_t2 : Fin k0_t2_loop.trips) (v2262 : IVec S16 32) (v2283 : IVec S16 32) : Prop :=
  (∀ (k0_h1 : k0_cond1 i k0_t2 = 1#1), ∀ a x, ((![v2283, v2262] : Fin 2 → IVec S16 32) a x).toNat < S160x142.size a)
theorem k0_idx1720_inb : ∀ (i : grid0.Coords) (k0_t2 : Fin k0_t2_loop.trips) (v2262 : IVec S16 32) (v2283 : IVec S16 32) (k0_hw1042 : k0_chk1042 i k0_t2 v2262 v2283), ∀ (k0_h1 : k0_cond1 i k0_t2 = 1#1), ∀ a x, ((![v2283, v2262] : Fin 2 → IVec S16 32) a x).toNat < S160x142.size a := fun i k0_t2 v2262 v2283 k0_hw1042 k0_h1 => k0_hw1042 k0_h1

def k0_chk1043 (i : grid0.Coords) (k0_t2 : Fin k0_t2_loop.trips) (v2262 : IVec S16 32) (v2286 : IVec S16 32) : Prop :=
  (∀ (k0_h1 : k0_cond1 i k0_t2 = 1#1), ∀ a x, ((![v2286, v2262] : Fin 2 → IVec S16 32) a x).toNat < S160x142.size a)
theorem k0_idx1722_inb : ∀ (i : grid0.Coords) (k0_t2 : Fin k0_t2_loop.trips) (v2262 : IVec S16 32) (v2286 : IVec S16 32) (k0_hw1043 : k0_chk1043 i k0_t2 v2262 v2286), ∀ (k0_h1 : k0_cond1 i k0_t2 = 1#1), ∀ a x, ((![v2286, v2262] : Fin 2 → IVec S16 32) a x).toNat < S160x142.size a := fun i k0_t2 v2262 v2286 k0_hw1043 k0_h1 => k0_hw1043 k0_h1

def k0_chk1044 (i : grid0.Coords) (k0_t2 : Fin k0_t2_loop.trips) (v2262 : IVec S16 32) (v2289 : IVec S16 32) : Prop :=
  (∀ (k0_h1 : k0_cond1 i k0_t2 = 1#1), ∀ a x, ((![v2289, v2262] : Fin 2 → IVec S16 32) a x).toNat < S160x142.size a)
theorem k0_idx1724_inb : ∀ (i : grid0.Coords) (k0_t2 : Fin k0_t2_loop.trips) (v2262 : IVec S16 32) (v2289 : IVec S16 32) (k0_hw1044 : k0_chk1044 i k0_t2 v2262 v2289), ∀ (k0_h1 : k0_cond1 i k0_t2 = 1#1), ∀ a x, ((![v2289, v2262] : Fin 2 → IVec S16 32) a x).toNat < S160x142.size a := fun i k0_t2 v2262 v2289 k0_hw1044 k0_h1 => k0_hw1044 k0_h1

def k0_chk1035 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) : Prop :=
  (∀ (k0_h1 : k0_cond1 i k0_t2 = 1#1), ∀ a x, ((![v15, v2262] : Fin 2 → IVec S16 32) a x).toNat < S256x142.size a) ∧
  (∀ (k0_h1 : k0_cond1 i k0_t2 = 1#1), ∀ a x, ((![v20, v2262] : Fin 2 → IVec S16 32) a x).toNat < S256x142.size a) ∧
  (∀ (k0_h1 : k0_cond1 i k0_t2 = 1#1), ∀ a x, ((![v25, v2262] : Fin 2 → IVec S16 32) a x).toNat < S256x142.size a) ∧
  (∀ (k0_h1 : k0_cond1 i k0_t2 = 1#1), ∀ a x, ((![v30, v2262] : Fin 2 → IVec S16 32) a x).toNat < S256x142.size a) ∧
  (∀ (k0_h1 : k0_cond1 i k0_t2 = 1#1), ∀ a x, ((![v35, v2262] : Fin 2 → IVec S16 32) a x).toNat < S256x142.size a) ∧
  (∀ (k0_h1 : k0_cond1 i k0_t2 = 1#1), ∀ a x, ((![v40, v2262] : Fin 2 → IVec S16 32) a x).toNat < S256x142.size a) ∧
  (∀ (k0_h1 : k0_cond1 i k0_t2 = 1#1), ∀ a x, ((![v45, v2262] : Fin 2 → IVec S16 32) a x).toNat < S256x142.size a) ∧
  (∀ (k0_h1 : k0_cond1 i k0_t2 = 1#1), ∀ a x, ((![v50, v2262] : Fin 2 → IVec S16 32) a x).toNat < S256x142.size a) ∧
  (∀ (k0_h1 : k0_cond1 i k0_t2 = 1#1), ∀ a x, ((![v55, v2262] : Fin 2 → IVec S16 32) a x).toNat < S256x142.size a) ∧
  (∀ (k0_h1 : k0_cond1 i k0_t2 = 1#1), ∀ a x, ((![v60, v2262] : Fin 2 → IVec S16 32) a x).toNat < S256x142.size a)
theorem k0_idx1707_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v15, v2262] : Fin 2 → IVec S16 32) a x).toNat < S256x142.size a := fun i k0_t2 v15 v20 v25 v30 v35 v40 v45 v50 v55 v60 v2262 k0_hw1035 k0_h1 => k0_hw1035.1 k0_h1
theorem k0_idx1709_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v20, v2262] : Fin 2 → IVec S16 32) a x).toNat < S256x142.size a := fun i k0_t2 v15 v20 v25 v30 v35 v40 v45 v50 v55 v60 v2262 k0_hw1035 k0_h1 => k0_hw1035.2.1 k0_h1
theorem k0_idx1711_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v25, v2262] : Fin 2 → IVec S16 32) a x).toNat < S256x142.size a := fun i k0_t2 v15 v20 v25 v30 v35 v40 v45 v50 v55 v60 v2262 k0_hw1035 k0_h1 => k0_hw1035.2.2.1 k0_h1
theorem k0_idx1713_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v30, v2262] : Fin 2 → IVec S16 32) a x).toNat < S256x142.size a := fun i k0_t2 v15 v20 v25 v30 v35 v40 v45 v50 v55 v60 v2262 k0_hw1035 k0_h1 => k0_hw1035.2.2.2.1 k0_h1
theorem k0_idx1715_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v35, v2262] : Fin 2 → IVec S16 32) a x).toNat < S256x142.size a := fun i k0_t2 v15 v20 v25 v30 v35 v40 v45 v50 v55 v60 v2262 k0_hw1035 k0_h1 => k0_hw1035.2.2.2.2.1 k0_h1
theorem k0_idx1717_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v40, v2262] : Fin 2 → IVec S16 32) a x).toNat < S256x142.size a := fun i k0_t2 v15 v20 v25 v30 v35 v40 v45 v50 v55 v60 v2262 k0_hw1035 k0_h1 => k0_hw1035.2.2.2.2.2.1 k0_h1
theorem k0_idx1719_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v45, v2262] : Fin 2 → IVec S16 32) a x).toNat < S256x142.size a := fun i k0_t2 v15 v20 v25 v30 v35 v40 v45 v50 v55 v60 v2262 k0_hw1035 k0_h1 => k0_hw1035.2.2.2.2.2.2.1 k0_h1
theorem k0_idx1721_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v50, v2262] : Fin 2 → IVec S16 32) a x).toNat < S256x142.size a := fun i k0_t2 v15 v20 v25 v30 v35 v40 v45 v50 v55 v60 v2262 k0_hw1035 k0_h1 => k0_hw1035.2.2.2.2.2.2.2.1 k0_h1
theorem k0_idx1723_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v55, v2262] : Fin 2 → IVec S16 32) a x).toNat < S256x142.size a := fun i k0_t2 v15 v20 v25 v30 v35 v40 v45 v50 v55 v60 v2262 k0_hw1035 k0_h1 => k0_hw1035.2.2.2.2.2.2.2.2.1 k0_h1
theorem k0_idx1725_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2262 : IVec S16 32) (k0_hw1035 : k0_chk1035 i k0_t2 v15 v20 v25 v30 v35 v40 v45 v50 v55 v60 v2262), ∀ (k0_h1 : k0_cond1 i k0_t2 = 1#1), ∀ a x, ((![v60, v2262] : Fin 2 → IVec S16 32) a x).toNat < S256x142.size a := fun i k0_t2 v15 v20 v25 v30 v35 v40 v45 v50 v55 v60 v2262 k0_hw1035 k0_h1 => k0_hw1035.2.2.2.2.2.2.2.2.2 k0_h1

def k0_chk1045 (i : grid0.Coords) (k0_t2 : Fin k0_t2_loop.trips) (v2262 : IVec S16 32) (v2292 : IVec S16 32) : Prop :=
  (∀ (k0_h1 : k0_cond1 i k0_t2 = 1#1), ∀ a x, ((![v2292, v2262] : Fin 2 → IVec S16 32) a x).toNat < S160x142.size a)
theorem k0_idx1726_inb : ∀ (i : grid0.Coords) (k0_t2 : Fin k0_t2_loop.trips) (v2262 : IVec S16 32) (v2292 : IVec S16 32) (k0_hw1045 : k0_chk1045 i k0_t2 v2262 v2292), ∀ (k0_h1 : k0_cond1 i k0_t2 = 1#1), ∀ a x, ((![v2292, v2262] : Fin 2 → IVec S16 32) a x).toNat < S160x142.size a := fun i k0_t2 v2262 v2292 k0_hw1045 k0_h1 => k0_hw1045 k0_h1

def k0_chk1047 (i : grid0.Coords) (k0_t2 : Fin k0_t2_loop.trips) (v2293 : IVec S16 32) (v2296 : IVec S16 32) : Prop :=
  (∀ (k0_h1 : k0_cond1 i k0_t2 = 1#1), ∀ a x, ((![v2296, v2293] : Fin 2 → IVec S16 32) a x).toNat < S160x142.size a)
theorem k0_idx1728_inb : ∀ (i : grid0.Coords) (k0_t2 : Fin k0_t2_loop.trips) (v2293 : IVec S16 32) (v2296 : IVec S16 32) (k0_hw1047 : k0_chk1047 i k0_t2 v2293 v2296), ∀ (k0_h1 : k0_cond1 i k0_t2 = 1#1), ∀ a x, ((![v2296, v2293] : Fin 2 → IVec S16 32) a x).toNat < S160x142.size a := fun i k0_t2 v2293 v2296 k0_hw1047 k0_h1 => k0_hw1047 k0_h1

def k0_chk1048 (i : grid0.Coords) (k0_t2 : Fin k0_t2_loop.trips) (v2293 : IVec S16 32) (v2299 : IVec S16 32) : Prop :=
  (∀ (k0_h1 : k0_cond1 i k0_t2 = 1#1), ∀ a x, ((![v2299, v2293] : Fin 2 → IVec S16 32) a x).toNat < S160x142.size a)
theorem k0_idx1730_inb : ∀ (i : grid0.Coords) (k0_t2 : Fin k0_t2_loop.trips) (v2293 : IVec S16 32) (v2299 : IVec S16 32) (k0_hw1048 : k0_chk1048 i k0_t2 v2293 v2299), ∀ (k0_h1 : k0_cond1 i k0_t2 = 1#1), ∀ a x, ((![v2299, v2293] : Fin 2 → IVec S16 32) a x).toNat < S160x142.size a := fun i k0_t2 v2293 v2299 k0_hw1048 k0_h1 => k0_hw1048 k0_h1

def k0_chk1049 (i : grid0.Coords) (k0_t2 : Fin k0_t2_loop.trips) (v2293 : IVec S16 32) (v2302 : IVec S16 32) : Prop :=
  (∀ (k0_h1 : k0_cond1 i k0_t2 = 1#1), ∀ a x, ((![v2302, v2293] : Fin 2 → IVec S16 32) a x).toNat < S160x142.size a)
theorem k0_idx1732_inb : ∀ (i : grid0.Coords) (k0_t2 : Fin k0_t2_loop.trips) (v2293 : IVec S16 32) (v2302 : IVec S16 32) (k0_hw1049 : k0_chk1049 i k0_t2 v2293 v2302), ∀ (k0_h1 : k0_cond1 i k0_t2 = 1#1), ∀ a x, ((![v2302, v2293] : Fin 2 → IVec S16 32) a x).toNat < S160x142.size a := fun i k0_t2 v2293 v2302 k0_hw1049 k0_h1 => k0_hw1049 k0_h1

def k0_chk1050 (i : grid0.Coords) (k0_t2 : Fin k0_t2_loop.trips) (v2293 : IVec S16 32) (v2305 : IVec S16 32) : Prop :=
  (∀ (k0_h1 : k0_cond1 i k0_t2 = 1#1), ∀ a x, ((![v2305, v2293] : Fin 2 → IVec S16 32) a x).toNat < S160x142.size a)
theorem k0_idx1734_inb : ∀ (i : grid0.Coords) (k0_t2 : Fin k0_t2_loop.trips) (v2293 : IVec S16 32) (v2305 : IVec S16 32) (k0_hw1050 : k0_chk1050 i k0_t2 v2293 v2305), ∀ (k0_h1 : k0_cond1 i k0_t2 = 1#1), ∀ a x, ((![v2305, v2293] : Fin 2 → IVec S16 32) a x).toNat < S160x142.size a := fun i k0_t2 v2293 v2305 k0_hw1050 k0_h1 => k0_hw1050 k0_h1

def k0_chk1051 (i : grid0.Coords) (k0_t2 : Fin k0_t2_loop.trips) (v2293 : IVec S16 32) (v2308 : IVec S16 32) : Prop :=
  (∀ (k0_h1 : k0_cond1 i k0_t2 = 1#1), ∀ a x, ((![v2308, v2293] : Fin 2 → IVec S16 32) a x).toNat < S160x142.size a)
theorem k0_idx1736_inb : ∀ (i : grid0.Coords) (k0_t2 : Fin k0_t2_loop.trips) (v2293 : IVec S16 32) (v2308 : IVec S16 32) (k0_hw1051 : k0_chk1051 i k0_t2 v2293 v2308), ∀ (k0_h1 : k0_cond1 i k0_t2 = 1#1), ∀ a x, ((![v2308, v2293] : Fin 2 → IVec S16 32) a x).toNat < S160x142.size a := fun i k0_t2 v2293 v2308 k0_hw1051 k0_h1 => k0_hw1051 k0_h1

def k0_chk1052 (i : grid0.Coords) (k0_t2 : Fin k0_t2_loop.trips) (v2293 : IVec S16 32) (v2311 : IVec S16 32) : Prop :=
  (∀ (k0_h1 : k0_cond1 i k0_t2 = 1#1), ∀ a x, ((![v2311, v2293] : Fin 2 → IVec S16 32) a x).toNat < S160x142.size a)
theorem k0_idx1738_inb : ∀ (i : grid0.Coords) (k0_t2 : Fin k0_t2_loop.trips) (v2293 : IVec S16 32) (v2311 : IVec S16 32) (k0_hw1052 : k0_chk1052 i k0_t2 v2293 v2311), ∀ (k0_h1 : k0_cond1 i k0_t2 = 1#1), ∀ a x, ((![v2311, v2293] : Fin 2 → IVec S16 32) a x).toNat < S160x142.size a := fun i k0_t2 v2293 v2311 k0_hw1052 k0_h1 => k0_hw1052 k0_h1

def k0_chk1053 (i : grid0.Coords) (k0_t2 : Fin k0_t2_loop.trips) (v2293 : IVec S16 32) (v2314 : IVec S16 32) : Prop :=
  (∀ (k0_h1 : k0_cond1 i k0_t2 = 1#1), ∀ a x, ((![v2314, v2293] : Fin 2 → IVec S16 32) a x).toNat < S160x142.size a)
theorem k0_idx1740_inb : ∀ (i : grid0.Coords) (k0_t2 : Fin k0_t2_loop.trips) (v2293 : IVec S16 32) (v2314 : IVec S16 32) (k0_hw1053 : k0_chk1053 i k0_t2 v2293 v2314), ∀ (k0_h1 : k0_cond1 i k0_t2 = 1#1), ∀ a x, ((![v2314, v2293] : Fin 2 → IVec S16 32) a x).toNat < S160x142.size a := fun i k0_t2 v2293 v2314 k0_hw1053 k0_h1 => k0_hw1053 k0_h1

def k0_chk1054 (i : grid0.Coords) (k0_t2 : Fin k0_t2_loop.trips) (v2293 : IVec S16 32) (v2317 : IVec S16 32) : Prop :=
  (∀ (k0_h1 : k0_cond1 i k0_t2 = 1#1), ∀ a x, ((![v2317, v2293] : Fin 2 → IVec S16 32) a x).toNat < S160x142.size a)
theorem k0_idx1742_inb : ∀ (i : grid0.Coords) (k0_t2 : Fin k0_t2_loop.trips) (v2293 : IVec S16 32) (v2317 : IVec S16 32) (k0_hw1054 : k0_chk1054 i k0_t2 v2293 v2317), ∀ (k0_h1 : k0_cond1 i k0_t2 = 1#1), ∀ a x, ((![v2317, v2293] : Fin 2 → IVec S16 32) a x).toNat < S160x142.size a := fun i k0_t2 v2293 v2317 k0_hw1054 k0_h1 => k0_hw1054 k0_h1

def k0_chk1055 (i : grid0.Coords) (k0_t2 : Fin k0_t2_loop.trips) (v2293 : IVec S16 32) (v2320 : IVec S16 32) : Prop :=
  (∀ (k0_h1 : k0_cond1 i k0_t2 = 1#1), ∀ a x, ((![v2320, v2293] : Fin 2 → IVec S16 32) a x).toNat < S160x142.size a)
theorem k0_idx1744_inb : ∀ (i : grid0.Coords) (k0_t2 : Fin k0_t2_loop.trips) (v2293 : IVec S16 32) (v2320 : IVec S16 32) (k0_hw1055 : k0_chk1055 i k0_t2 v2293 v2320), ∀ (k0_h1 : k0_cond1 i k0_t2 = 1#1), ∀ a x, ((![v2320, v2293] : Fin 2 → IVec S16 32) a x).toNat < S160x142.size a := fun i k0_t2 v2293 v2320 k0_hw1055 k0_h1 => k0_hw1055 k0_h1

def k0_chk1046 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) : Prop :=
  (∀ (k0_h1 : k0_cond1 i k0_t2 = 1#1), ∀ a x, ((![v15, v2293] : Fin 2 → IVec S16 32) a x).toNat < S256x142.size a) ∧
  (∀ (k0_h1 : k0_cond1 i k0_t2 = 1#1), ∀ a x, ((![v20, v2293] : Fin 2 → IVec S16 32) a x).toNat < S256x142.size a) ∧
  (∀ (k0_h1 : k0_cond1 i k0_t2 = 1#1), ∀ a x, ((![v25, v2293] : Fin 2 → IVec S16 32) a x).toNat < S256x142.size a) ∧
  (∀ (k0_h1 : k0_cond1 i k0_t2 = 1#1), ∀ a x, ((![v30, v2293] : Fin 2 → IVec S16 32) a x).toNat < S256x142.size a) ∧
  (∀ (k0_h1 : k0_cond1 i k0_t2 = 1#1), ∀ a x, ((![v35, v2293] : Fin 2 → IVec S16 32) a x).toNat < S256x142.size a) ∧
  (∀ (k0_h1 : k0_cond1 i k0_t2 = 1#1), ∀ a x, ((![v40, v2293] : Fin 2 → IVec S16 32) a x).toNat < S256x142.size a) ∧
  (∀ (k0_h1 : k0_cond1 i k0_t2 = 1#1), ∀ a x, ((![v45, v2293] : Fin 2 → IVec S16 32) a x).toNat < S256x142.size a) ∧
  (∀ (k0_h1 : k0_cond1 i k0_t2 = 1#1), ∀ a x, ((![v50, v2293] : Fin 2 → IVec S16 32) a x).toNat < S256x142.size a) ∧
  (∀ (k0_h1 : k0_cond1 i k0_t2 = 1#1), ∀ a x, ((![v55, v2293] : Fin 2 → IVec S16 32) a x).toNat < S256x142.size a) ∧
  (∀ (k0_h1 : k0_cond1 i k0_t2 = 1#1), ∀ a x, ((![v60, v2293] : Fin 2 → IVec S16 32) a x).toNat < S256x142.size a)
theorem k0_idx1727_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v15, v2293] : Fin 2 → IVec S16 32) a x).toNat < S256x142.size a := fun i k0_t2 v15 v20 v25 v30 v35 v40 v45 v50 v55 v60 v2293 k0_hw1046 k0_h1 => k0_hw1046.1 k0_h1
theorem k0_idx1729_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v20, v2293] : Fin 2 → IVec S16 32) a x).toNat < S256x142.size a := fun i k0_t2 v15 v20 v25 v30 v35 v40 v45 v50 v55 v60 v2293 k0_hw1046 k0_h1 => k0_hw1046.2.1 k0_h1
theorem k0_idx1731_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v25, v2293] : Fin 2 → IVec S16 32) a x).toNat < S256x142.size a := fun i k0_t2 v15 v20 v25 v30 v35 v40 v45 v50 v55 v60 v2293 k0_hw1046 k0_h1 => k0_hw1046.2.2.1 k0_h1
theorem k0_idx1733_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v30, v2293] : Fin 2 → IVec S16 32) a x).toNat < S256x142.size a := fun i k0_t2 v15 v20 v25 v30 v35 v40 v45 v50 v55 v60 v2293 k0_hw1046 k0_h1 => k0_hw1046.2.2.2.1 k0_h1
theorem k0_idx1735_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v35, v2293] : Fin 2 → IVec S16 32) a x).toNat < S256x142.size a := fun i k0_t2 v15 v20 v25 v30 v35 v40 v45 v50 v55 v60 v2293 k0_hw1046 k0_h1 => k0_hw1046.2.2.2.2.1 k0_h1
theorem k0_idx1737_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v40, v2293] : Fin 2 → IVec S16 32) a x).toNat < S256x142.size a := fun i k0_t2 v15 v20 v25 v30 v35 v40 v45 v50 v55 v60 v2293 k0_hw1046 k0_h1 => k0_hw1046.2.2.2.2.2.1 k0_h1
theorem k0_idx1739_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v45, v2293] : Fin 2 → IVec S16 32) a x).toNat < S256x142.size a := fun i k0_t2 v15 v20 v25 v30 v35 v40 v45 v50 v55 v60 v2293 k0_hw1046 k0_h1 => k0_hw1046.2.2.2.2.2.2.1 k0_h1
theorem k0_idx1741_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v50, v2293] : Fin 2 → IVec S16 32) a x).toNat < S256x142.size a := fun i k0_t2 v15 v20 v25 v30 v35 v40 v45 v50 v55 v60 v2293 k0_hw1046 k0_h1 => k0_hw1046.2.2.2.2.2.2.2.1 k0_h1
theorem k0_idx1743_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v55, v2293] : Fin 2 → IVec S16 32) a x).toNat < S256x142.size a := fun i k0_t2 v15 v20 v25 v30 v35 v40 v45 v50 v55 v60 v2293 k0_hw1046 k0_h1 => k0_hw1046.2.2.2.2.2.2.2.2.1 k0_h1
theorem k0_idx1745_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2293 : IVec S16 32) (k0_hw1046 : k0_chk1046 i k0_t2 v15 v20 v25 v30 v35 v40 v45 v50 v55 v60 v2293), ∀ (k0_h1 : k0_cond1 i k0_t2 = 1#1), ∀ a x, ((![v60, v2293] : Fin 2 → IVec S16 32) a x).toNat < S256x142.size a := fun i k0_t2 v15 v20 v25 v30 v35 v40 v45 v50 v55 v60 v2293 k0_hw1046 k0_h1 => k0_hw1046.2.2.2.2.2.2.2.2.2 k0_h1

def k0_chk1056 (i : grid0.Coords) (k0_t2 : Fin k0_t2_loop.trips) (v2293 : IVec S16 32) (v2323 : IVec S16 32) : Prop :=
  (∀ (k0_h1 : k0_cond1 i k0_t2 = 1#1), ∀ a x, ((![v2323, v2293] : Fin 2 → IVec S16 32) a x).toNat < S160x142.size a)
theorem k0_idx1746_inb : ∀ (i : grid0.Coords) (k0_t2 : Fin k0_t2_loop.trips) (v2293 : IVec S16 32) (v2323 : IVec S16 32) (k0_hw1056 : k0_chk1056 i k0_t2 v2293 v2323), ∀ (k0_h1 : k0_cond1 i k0_t2 = 1#1), ∀ a x, ((![v2323, v2293] : Fin 2 → IVec S16 32) a x).toNat < S160x142.size a := fun i k0_t2 v2293 v2323 k0_hw1056 k0_h1 => k0_hw1056 k0_h1

def k0_chk1058 (i : grid0.Coords) (k0_t2 : Fin k0_t2_loop.trips) (v2324 : IVec S16 32) (v2327 : IVec S16 32) : Prop :=
  (∀ (k0_h1 : k0_cond1 i k0_t2 = 1#1), ∀ a x, ((![v2327, v2324] : Fin 2 → IVec S16 32) a x).toNat < S160x142.size a)
theorem k0_idx1748_inb : ∀ (i : grid0.Coords) (k0_t2 : Fin k0_t2_loop.trips) (v2324 : IVec S16 32) (v2327 : IVec S16 32) (k0_hw1058 : k0_chk1058 i k0_t2 v2324 v2327), ∀ (k0_h1 : k0_cond1 i k0_t2 = 1#1), ∀ a x, ((![v2327, v2324] : Fin 2 → IVec S16 32) a x).toNat < S160x142.size a := fun i k0_t2 v2324 v2327 k0_hw1058 k0_h1 => k0_hw1058 k0_h1

def k0_chk1059 (i : grid0.Coords) (k0_t2 : Fin k0_t2_loop.trips) (v2324 : IVec S16 32) (v2330 : IVec S16 32) : Prop :=
  (∀ (k0_h1 : k0_cond1 i k0_t2 = 1#1), ∀ a x, ((![v2330, v2324] : Fin 2 → IVec S16 32) a x).toNat < S160x142.size a)
theorem k0_idx1750_inb : ∀ (i : grid0.Coords) (k0_t2 : Fin k0_t2_loop.trips) (v2324 : IVec S16 32) (v2330 : IVec S16 32) (k0_hw1059 : k0_chk1059 i k0_t2 v2324 v2330), ∀ (k0_h1 : k0_cond1 i k0_t2 = 1#1), ∀ a x, ((![v2330, v2324] : Fin 2 → IVec S16 32) a x).toNat < S160x142.size a := fun i k0_t2 v2324 v2330 k0_hw1059 k0_h1 => k0_hw1059 k0_h1

def k0_chk1060 (i : grid0.Coords) (k0_t2 : Fin k0_t2_loop.trips) (v2324 : IVec S16 32) (v2333 : IVec S16 32) : Prop :=
  (∀ (k0_h1 : k0_cond1 i k0_t2 = 1#1), ∀ a x, ((![v2333, v2324] : Fin 2 → IVec S16 32) a x).toNat < S160x142.size a)
theorem k0_idx1752_inb : ∀ (i : grid0.Coords) (k0_t2 : Fin k0_t2_loop.trips) (v2324 : IVec S16 32) (v2333 : IVec S16 32) (k0_hw1060 : k0_chk1060 i k0_t2 v2324 v2333), ∀ (k0_h1 : k0_cond1 i k0_t2 = 1#1), ∀ a x, ((![v2333, v2324] : Fin 2 → IVec S16 32) a x).toNat < S160x142.size a := fun i k0_t2 v2324 v2333 k0_hw1060 k0_h1 => k0_hw1060 k0_h1

def k0_chk1061 (i : grid0.Coords) (k0_t2 : Fin k0_t2_loop.trips) (v2324 : IVec S16 32) (v2336 : IVec S16 32) : Prop :=
  (∀ (k0_h1 : k0_cond1 i k0_t2 = 1#1), ∀ a x, ((![v2336, v2324] : Fin 2 → IVec S16 32) a x).toNat < S160x142.size a)
theorem k0_idx1754_inb : ∀ (i : grid0.Coords) (k0_t2 : Fin k0_t2_loop.trips) (v2324 : IVec S16 32) (v2336 : IVec S16 32) (k0_hw1061 : k0_chk1061 i k0_t2 v2324 v2336), ∀ (k0_h1 : k0_cond1 i k0_t2 = 1#1), ∀ a x, ((![v2336, v2324] : Fin 2 → IVec S16 32) a x).toNat < S160x142.size a := fun i k0_t2 v2324 v2336 k0_hw1061 k0_h1 => k0_hw1061 k0_h1

def k0_chk1062 (i : grid0.Coords) (k0_t2 : Fin k0_t2_loop.trips) (v2324 : IVec S16 32) (v2339 : IVec S16 32) : Prop :=
  (∀ (k0_h1 : k0_cond1 i k0_t2 = 1#1), ∀ a x, ((![v2339, v2324] : Fin 2 → IVec S16 32) a x).toNat < S160x142.size a)
theorem k0_idx1756_inb : ∀ (i : grid0.Coords) (k0_t2 : Fin k0_t2_loop.trips) (v2324 : IVec S16 32) (v2339 : IVec S16 32) (k0_hw1062 : k0_chk1062 i k0_t2 v2324 v2339), ∀ (k0_h1 : k0_cond1 i k0_t2 = 1#1), ∀ a x, ((![v2339, v2324] : Fin 2 → IVec S16 32) a x).toNat < S160x142.size a := fun i k0_t2 v2324 v2339 k0_hw1062 k0_h1 => k0_hw1062 k0_h1

def k0_chk1063 (i : grid0.Coords) (k0_t2 : Fin k0_t2_loop.trips) (v2324 : IVec S16 32) (v2342 : IVec S16 32) : Prop :=
  (∀ (k0_h1 : k0_cond1 i k0_t2 = 1#1), ∀ a x, ((![v2342, v2324] : Fin 2 → IVec S16 32) a x).toNat < S160x142.size a)
theorem k0_idx1758_inb : ∀ (i : grid0.Coords) (k0_t2 : Fin k0_t2_loop.trips) (v2324 : IVec S16 32) (v2342 : IVec S16 32) (k0_hw1063 : k0_chk1063 i k0_t2 v2324 v2342), ∀ (k0_h1 : k0_cond1 i k0_t2 = 1#1), ∀ a x, ((![v2342, v2324] : Fin 2 → IVec S16 32) a x).toNat < S160x142.size a := fun i k0_t2 v2324 v2342 k0_hw1063 k0_h1 => k0_hw1063 k0_h1

def k0_chk1064 (i : grid0.Coords) (k0_t2 : Fin k0_t2_loop.trips) (v2324 : IVec S16 32) (v2345 : IVec S16 32) : Prop :=
  (∀ (k0_h1 : k0_cond1 i k0_t2 = 1#1), ∀ a x, ((![v2345, v2324] : Fin 2 → IVec S16 32) a x).toNat < S160x142.size a)
theorem k0_idx1760_inb : ∀ (i : grid0.Coords) (k0_t2 : Fin k0_t2_loop.trips) (v2324 : IVec S16 32) (v2345 : IVec S16 32) (k0_hw1064 : k0_chk1064 i k0_t2 v2324 v2345), ∀ (k0_h1 : k0_cond1 i k0_t2 = 1#1), ∀ a x, ((![v2345, v2324] : Fin 2 → IVec S16 32) a x).toNat < S160x142.size a := fun i k0_t2 v2324 v2345 k0_hw1064 k0_h1 => k0_hw1064 k0_h1

def k0_chk1065 (i : grid0.Coords) (k0_t2 : Fin k0_t2_loop.trips) (v2324 : IVec S16 32) (v2348 : IVec S16 32) : Prop :=
  (∀ (k0_h1 : k0_cond1 i k0_t2 = 1#1), ∀ a x, ((![v2348, v2324] : Fin 2 → IVec S16 32) a x).toNat < S160x142.size a)
theorem k0_idx1762_inb : ∀ (i : grid0.Coords) (k0_t2 : Fin k0_t2_loop.trips) (v2324 : IVec S16 32) (v2348 : IVec S16 32) (k0_hw1065 : k0_chk1065 i k0_t2 v2324 v2348), ∀ (k0_h1 : k0_cond1 i k0_t2 = 1#1), ∀ a x, ((![v2348, v2324] : Fin 2 → IVec S16 32) a x).toNat < S160x142.size a := fun i k0_t2 v2324 v2348 k0_hw1065 k0_h1 => k0_hw1065 k0_h1

def k0_chk1066 (i : grid0.Coords) (k0_t2 : Fin k0_t2_loop.trips) (v2324 : IVec S16 32) (v2351 : IVec S16 32) : Prop :=
  (∀ (k0_h1 : k0_cond1 i k0_t2 = 1#1), ∀ a x, ((![v2351, v2324] : Fin 2 → IVec S16 32) a x).toNat < S160x142.size a)
theorem k0_idx1764_inb : ∀ (i : grid0.Coords) (k0_t2 : Fin k0_t2_loop.trips) (v2324 : IVec S16 32) (v2351 : IVec S16 32) (k0_hw1066 : k0_chk1066 i k0_t2 v2324 v2351), ∀ (k0_h1 : k0_cond1 i k0_t2 = 1#1), ∀ a x, ((![v2351, v2324] : Fin 2 → IVec S16 32) a x).toNat < S160x142.size a := fun i k0_t2 v2324 v2351 k0_hw1066 k0_h1 => k0_hw1066 k0_h1

def k0_chk1057 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) : Prop :=
  (∀ (k0_h1 : k0_cond1 i k0_t2 = 1#1), ∀ a x, ((![v15, v2324] : Fin 2 → IVec S16 32) a x).toNat < S256x142.size a) ∧
  (∀ (k0_h1 : k0_cond1 i k0_t2 = 1#1), ∀ a x, ((![v20, v2324] : Fin 2 → IVec S16 32) a x).toNat < S256x142.size a) ∧
  (∀ (k0_h1 : k0_cond1 i k0_t2 = 1#1), ∀ a x, ((![v25, v2324] : Fin 2 → IVec S16 32) a x).toNat < S256x142.size a) ∧
  (∀ (k0_h1 : k0_cond1 i k0_t2 = 1#1), ∀ a x, ((![v30, v2324] : Fin 2 → IVec S16 32) a x).toNat < S256x142.size a) ∧
  (∀ (k0_h1 : k0_cond1 i k0_t2 = 1#1), ∀ a x, ((![v35, v2324] : Fin 2 → IVec S16 32) a x).toNat < S256x142.size a) ∧
  (∀ (k0_h1 : k0_cond1 i k0_t2 = 1#1), ∀ a x, ((![v40, v2324] : Fin 2 → IVec S16 32) a x).toNat < S256x142.size a) ∧
  (∀ (k0_h1 : k0_cond1 i k0_t2 = 1#1), ∀ a x, ((![v45, v2324] : Fin 2 → IVec S16 32) a x).toNat < S256x142.size a) ∧
  (∀ (k0_h1 : k0_cond1 i k0_t2 = 1#1), ∀ a x, ((![v50, v2324] : Fin 2 → IVec S16 32) a x).toNat < S256x142.size a) ∧
  (∀ (k0_h1 : k0_cond1 i k0_t2 = 1#1), ∀ a x, ((![v55, v2324] : Fin 2 → IVec S16 32) a x).toNat < S256x142.size a) ∧
  (∀ (k0_h1 : k0_cond1 i k0_t2 = 1#1), ∀ a x, ((![v60, v2324] : Fin 2 → IVec S16 32) a x).toNat < S256x142.size a)
theorem k0_idx1747_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v15, v2324] : Fin 2 → IVec S16 32) a x).toNat < S256x142.size a := fun i k0_t2 v15 v20 v25 v30 v35 v40 v45 v50 v55 v60 v2324 k0_hw1057 k0_h1 => k0_hw1057.1 k0_h1
theorem k0_idx1749_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v20, v2324] : Fin 2 → IVec S16 32) a x).toNat < S256x142.size a := fun i k0_t2 v15 v20 v25 v30 v35 v40 v45 v50 v55 v60 v2324 k0_hw1057 k0_h1 => k0_hw1057.2.1 k0_h1
theorem k0_idx1751_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v25, v2324] : Fin 2 → IVec S16 32) a x).toNat < S256x142.size a := fun i k0_t2 v15 v20 v25 v30 v35 v40 v45 v50 v55 v60 v2324 k0_hw1057 k0_h1 => k0_hw1057.2.2.1 k0_h1
theorem k0_idx1753_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v30, v2324] : Fin 2 → IVec S16 32) a x).toNat < S256x142.size a := fun i k0_t2 v15 v20 v25 v30 v35 v40 v45 v50 v55 v60 v2324 k0_hw1057 k0_h1 => k0_hw1057.2.2.2.1 k0_h1
theorem k0_idx1755_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v35, v2324] : Fin 2 → IVec S16 32) a x).toNat < S256x142.size a := fun i k0_t2 v15 v20 v25 v30 v35 v40 v45 v50 v55 v60 v2324 k0_hw1057 k0_h1 => k0_hw1057.2.2.2.2.1 k0_h1
theorem k0_idx1757_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v40, v2324] : Fin 2 → IVec S16 32) a x).toNat < S256x142.size a := fun i k0_t2 v15 v20 v25 v30 v35 v40 v45 v50 v55 v60 v2324 k0_hw1057 k0_h1 => k0_hw1057.2.2.2.2.2.1 k0_h1
theorem k0_idx1759_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v45, v2324] : Fin 2 → IVec S16 32) a x).toNat < S256x142.size a := fun i k0_t2 v15 v20 v25 v30 v35 v40 v45 v50 v55 v60 v2324 k0_hw1057 k0_h1 => k0_hw1057.2.2.2.2.2.2.1 k0_h1
theorem k0_idx1761_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v50, v2324] : Fin 2 → IVec S16 32) a x).toNat < S256x142.size a := fun i k0_t2 v15 v20 v25 v30 v35 v40 v45 v50 v55 v60 v2324 k0_hw1057 k0_h1 => k0_hw1057.2.2.2.2.2.2.2.1 k0_h1
theorem k0_idx1763_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v55, v2324] : Fin 2 → IVec S16 32) a x).toNat < S256x142.size a := fun i k0_t2 v15 v20 v25 v30 v35 v40 v45 v50 v55 v60 v2324 k0_hw1057 k0_h1 => k0_hw1057.2.2.2.2.2.2.2.2.1 k0_h1
theorem k0_idx1765_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2324 : IVec S16 32) (k0_hw1057 : k0_chk1057 i k0_t2 v15 v20 v25 v30 v35 v40 v45 v50 v55 v60 v2324), ∀ (k0_h1 : k0_cond1 i k0_t2 = 1#1), ∀ a x, ((![v60, v2324] : Fin 2 → IVec S16 32) a x).toNat < S256x142.size a := fun i k0_t2 v15 v20 v25 v30 v35 v40 v45 v50 v55 v60 v2324 k0_hw1057 k0_h1 => k0_hw1057.2.2.2.2.2.2.2.2.2 k0_h1

def k0_chk1067 (i : grid0.Coords) (k0_t2 : Fin k0_t2_loop.trips) (v2324 : IVec S16 32) (v2354 : IVec S16 32) : Prop :=
  (∀ (k0_h1 : k0_cond1 i k0_t2 = 1#1), ∀ a x, ((![v2354, v2324] : Fin 2 → IVec S16 32) a x).toNat < S160x142.size a)
theorem k0_idx1766_inb : ∀ (i : grid0.Coords) (k0_t2 : Fin k0_t2_loop.trips) (v2324 : IVec S16 32) (v2354 : IVec S16 32) (k0_hw1067 : k0_chk1067 i k0_t2 v2324 v2354), ∀ (k0_h1 : k0_cond1 i k0_t2 = 1#1), ∀ a x, ((![v2354, v2324] : Fin 2 → IVec S16 32) a x).toNat < S160x142.size a := fun i k0_t2 v2324 v2354 k0_hw1067 k0_h1 => k0_hw1067 k0_h1

def k0_chk1069 (i : grid0.Coords) (k0_t2 : Fin k0_t2_loop.trips) (v2355 : IVec S16 32) (v2358 : IVec S16 32) : Prop :=
  (∀ (k0_h1 : k0_cond1 i k0_t2 = 1#1), ∀ a x, ((![v2358, v2355] : Fin 2 → IVec S16 32) a x).toNat < S160x142.size a)
theorem k0_idx1768_inb : ∀ (i : grid0.Coords) (k0_t2 : Fin k0_t2_loop.trips) (v2355 : IVec S16 32) (v2358 : IVec S16 32) (k0_hw1069 : k0_chk1069 i k0_t2 v2355 v2358), ∀ (k0_h1 : k0_cond1 i k0_t2 = 1#1), ∀ a x, ((![v2358, v2355] : Fin 2 → IVec S16 32) a x).toNat < S160x142.size a := fun i k0_t2 v2355 v2358 k0_hw1069 k0_h1 => k0_hw1069 k0_h1

def k0_chk1070 (i : grid0.Coords) (k0_t2 : Fin k0_t2_loop.trips) (v2355 : IVec S16 32) (v2361 : IVec S16 32) : Prop :=
  (∀ (k0_h1 : k0_cond1 i k0_t2 = 1#1), ∀ a x, ((![v2361, v2355] : Fin 2 → IVec S16 32) a x).toNat < S160x142.size a)
theorem k0_idx1770_inb : ∀ (i : grid0.Coords) (k0_t2 : Fin k0_t2_loop.trips) (v2355 : IVec S16 32) (v2361 : IVec S16 32) (k0_hw1070 : k0_chk1070 i k0_t2 v2355 v2361), ∀ (k0_h1 : k0_cond1 i k0_t2 = 1#1), ∀ a x, ((![v2361, v2355] : Fin 2 → IVec S16 32) a x).toNat < S160x142.size a := fun i k0_t2 v2355 v2361 k0_hw1070 k0_h1 => k0_hw1070 k0_h1

def k0_chk1071 (i : grid0.Coords) (k0_t2 : Fin k0_t2_loop.trips) (v2355 : IVec S16 32) (v2364 : IVec S16 32) : Prop :=
  (∀ (k0_h1 : k0_cond1 i k0_t2 = 1#1), ∀ a x, ((![v2364, v2355] : Fin 2 → IVec S16 32) a x).toNat < S160x142.size a)
theorem k0_idx1772_inb : ∀ (i : grid0.Coords) (k0_t2 : Fin k0_t2_loop.trips) (v2355 : IVec S16 32) (v2364 : IVec S16 32) (k0_hw1071 : k0_chk1071 i k0_t2 v2355 v2364), ∀ (k0_h1 : k0_cond1 i k0_t2 = 1#1), ∀ a x, ((![v2364, v2355] : Fin 2 → IVec S16 32) a x).toNat < S160x142.size a := fun i k0_t2 v2355 v2364 k0_hw1071 k0_h1 => k0_hw1071 k0_h1

def k0_chk1072 (i : grid0.Coords) (k0_t2 : Fin k0_t2_loop.trips) (v2355 : IVec S16 32) (v2367 : IVec S16 32) : Prop :=
  (∀ (k0_h1 : k0_cond1 i k0_t2 = 1#1), ∀ a x, ((![v2367, v2355] : Fin 2 → IVec S16 32) a x).toNat < S160x142.size a)
theorem k0_idx1774_inb : ∀ (i : grid0.Coords) (k0_t2 : Fin k0_t2_loop.trips) (v2355 : IVec S16 32) (v2367 : IVec S16 32) (k0_hw1072 : k0_chk1072 i k0_t2 v2355 v2367), ∀ (k0_h1 : k0_cond1 i k0_t2 = 1#1), ∀ a x, ((![v2367, v2355] : Fin 2 → IVec S16 32) a x).toNat < S160x142.size a := fun i k0_t2 v2355 v2367 k0_hw1072 k0_h1 => k0_hw1072 k0_h1

def k0_chk1073 (i : grid0.Coords) (k0_t2 : Fin k0_t2_loop.trips) (v2355 : IVec S16 32) (v2370 : IVec S16 32) : Prop :=
  (∀ (k0_h1 : k0_cond1 i k0_t2 = 1#1), ∀ a x, ((![v2370, v2355] : Fin 2 → IVec S16 32) a x).toNat < S160x142.size a)
theorem k0_idx1776_inb : ∀ (i : grid0.Coords) (k0_t2 : Fin k0_t2_loop.trips) (v2355 : IVec S16 32) (v2370 : IVec S16 32) (k0_hw1073 : k0_chk1073 i k0_t2 v2355 v2370), ∀ (k0_h1 : k0_cond1 i k0_t2 = 1#1), ∀ a x, ((![v2370, v2355] : Fin 2 → IVec S16 32) a x).toNat < S160x142.size a := fun i k0_t2 v2355 v2370 k0_hw1073 k0_h1 => k0_hw1073 k0_h1

def k0_chk1074 (i : grid0.Coords) (k0_t2 : Fin k0_t2_loop.trips) (v2355 : IVec S16 32) (v2373 : IVec S16 32) : Prop :=
  (∀ (k0_h1 : k0_cond1 i k0_t2 = 1#1), ∀ a x, ((![v2373, v2355] : Fin 2 → IVec S16 32) a x).toNat < S160x142.size a)
theorem k0_idx1778_inb : ∀ (i : grid0.Coords) (k0_t2 : Fin k0_t2_loop.trips) (v2355 : IVec S16 32) (v2373 : IVec S16 32) (k0_hw1074 : k0_chk1074 i k0_t2 v2355 v2373), ∀ (k0_h1 : k0_cond1 i k0_t2 = 1#1), ∀ a x, ((![v2373, v2355] : Fin 2 → IVec S16 32) a x).toNat < S160x142.size a := fun i k0_t2 v2355 v2373 k0_hw1074 k0_h1 => k0_hw1074 k0_h1

def k0_chk1075 (i : grid0.Coords) (k0_t2 : Fin k0_t2_loop.trips) (v2355 : IVec S16 32) (v2376 : IVec S16 32) : Prop :=
  (∀ (k0_h1 : k0_cond1 i k0_t2 = 1#1), ∀ a x, ((![v2376, v2355] : Fin 2 → IVec S16 32) a x).toNat < S160x142.size a)
theorem k0_idx1780_inb : ∀ (i : grid0.Coords) (k0_t2 : Fin k0_t2_loop.trips) (v2355 : IVec S16 32) (v2376 : IVec S16 32) (k0_hw1075 : k0_chk1075 i k0_t2 v2355 v2376), ∀ (k0_h1 : k0_cond1 i k0_t2 = 1#1), ∀ a x, ((![v2376, v2355] : Fin 2 → IVec S16 32) a x).toNat < S160x142.size a := fun i k0_t2 v2355 v2376 k0_hw1075 k0_h1 => k0_hw1075 k0_h1

def k0_chk1076 (i : grid0.Coords) (k0_t2 : Fin k0_t2_loop.trips) (v2355 : IVec S16 32) (v2379 : IVec S16 32) : Prop :=
  (∀ (k0_h1 : k0_cond1 i k0_t2 = 1#1), ∀ a x, ((![v2379, v2355] : Fin 2 → IVec S16 32) a x).toNat < S160x142.size a)
theorem k0_idx1782_inb : ∀ (i : grid0.Coords) (k0_t2 : Fin k0_t2_loop.trips) (v2355 : IVec S16 32) (v2379 : IVec S16 32) (k0_hw1076 : k0_chk1076 i k0_t2 v2355 v2379), ∀ (k0_h1 : k0_cond1 i k0_t2 = 1#1), ∀ a x, ((![v2379, v2355] : Fin 2 → IVec S16 32) a x).toNat < S160x142.size a := fun i k0_t2 v2355 v2379 k0_hw1076 k0_h1 => k0_hw1076 k0_h1

def k0_chk1077 (i : grid0.Coords) (k0_t2 : Fin k0_t2_loop.trips) (v2355 : IVec S16 32) (v2382 : IVec S16 32) : Prop :=
  (∀ (k0_h1 : k0_cond1 i k0_t2 = 1#1), ∀ a x, ((![v2382, v2355] : Fin 2 → IVec S16 32) a x).toNat < S160x142.size a)
theorem k0_idx1784_inb : ∀ (i : grid0.Coords) (k0_t2 : Fin k0_t2_loop.trips) (v2355 : IVec S16 32) (v2382 : IVec S16 32) (k0_hw1077 : k0_chk1077 i k0_t2 v2355 v2382), ∀ (k0_h1 : k0_cond1 i k0_t2 = 1#1), ∀ a x, ((![v2382, v2355] : Fin 2 → IVec S16 32) a x).toNat < S160x142.size a := fun i k0_t2 v2355 v2382 k0_hw1077 k0_h1 => k0_hw1077 k0_h1

def k0_chk1068 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) : Prop :=
  (∀ (k0_h1 : k0_cond1 i k0_t2 = 1#1), ∀ a x, ((![v15, v2355] : Fin 2 → IVec S16 32) a x).toNat < S256x142.size a) ∧
  (∀ (k0_h1 : k0_cond1 i k0_t2 = 1#1), ∀ a x, ((![v20, v2355] : Fin 2 → IVec S16 32) a x).toNat < S256x142.size a) ∧
  (∀ (k0_h1 : k0_cond1 i k0_t2 = 1#1), ∀ a x, ((![v25, v2355] : Fin 2 → IVec S16 32) a x).toNat < S256x142.size a) ∧
  (∀ (k0_h1 : k0_cond1 i k0_t2 = 1#1), ∀ a x, ((![v30, v2355] : Fin 2 → IVec S16 32) a x).toNat < S256x142.size a) ∧
  (∀ (k0_h1 : k0_cond1 i k0_t2 = 1#1), ∀ a x, ((![v35, v2355] : Fin 2 → IVec S16 32) a x).toNat < S256x142.size a) ∧
  (∀ (k0_h1 : k0_cond1 i k0_t2 = 1#1), ∀ a x, ((![v40, v2355] : Fin 2 → IVec S16 32) a x).toNat < S256x142.size a) ∧
  (∀ (k0_h1 : k0_cond1 i k0_t2 = 1#1), ∀ a x, ((![v45, v2355] : Fin 2 → IVec S16 32) a x).toNat < S256x142.size a) ∧
  (∀ (k0_h1 : k0_cond1 i k0_t2 = 1#1), ∀ a x, ((![v50, v2355] : Fin 2 → IVec S16 32) a x).toNat < S256x142.size a) ∧
  (∀ (k0_h1 : k0_cond1 i k0_t2 = 1#1), ∀ a x, ((![v55, v2355] : Fin 2 → IVec S16 32) a x).toNat < S256x142.size a) ∧
  (∀ (k0_h1 : k0_cond1 i k0_t2 = 1#1), ∀ a x, ((![v60, v2355] : Fin 2 → IVec S16 32) a x).toNat < S256x142.size a)
theorem k0_idx1767_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v15, v2355] : Fin 2 → IVec S16 32) a x).toNat < S256x142.size a := fun i k0_t2 v15 v20 v25 v30 v35 v40 v45 v50 v55 v60 v2355 k0_hw1068 k0_h1 => k0_hw1068.1 k0_h1
theorem k0_idx1769_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v20, v2355] : Fin 2 → IVec S16 32) a x).toNat < S256x142.size a := fun i k0_t2 v15 v20 v25 v30 v35 v40 v45 v50 v55 v60 v2355 k0_hw1068 k0_h1 => k0_hw1068.2.1 k0_h1
theorem k0_idx1771_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v25, v2355] : Fin 2 → IVec S16 32) a x).toNat < S256x142.size a := fun i k0_t2 v15 v20 v25 v30 v35 v40 v45 v50 v55 v60 v2355 k0_hw1068 k0_h1 => k0_hw1068.2.2.1 k0_h1
theorem k0_idx1773_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v30, v2355] : Fin 2 → IVec S16 32) a x).toNat < S256x142.size a := fun i k0_t2 v15 v20 v25 v30 v35 v40 v45 v50 v55 v60 v2355 k0_hw1068 k0_h1 => k0_hw1068.2.2.2.1 k0_h1
theorem k0_idx1775_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v35, v2355] : Fin 2 → IVec S16 32) a x).toNat < S256x142.size a := fun i k0_t2 v15 v20 v25 v30 v35 v40 v45 v50 v55 v60 v2355 k0_hw1068 k0_h1 => k0_hw1068.2.2.2.2.1 k0_h1
theorem k0_idx1777_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v40, v2355] : Fin 2 → IVec S16 32) a x).toNat < S256x142.size a := fun i k0_t2 v15 v20 v25 v30 v35 v40 v45 v50 v55 v60 v2355 k0_hw1068 k0_h1 => k0_hw1068.2.2.2.2.2.1 k0_h1
theorem k0_idx1779_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v45, v2355] : Fin 2 → IVec S16 32) a x).toNat < S256x142.size a := fun i k0_t2 v15 v20 v25 v30 v35 v40 v45 v50 v55 v60 v2355 k0_hw1068 k0_h1 => k0_hw1068.2.2.2.2.2.2.1 k0_h1
theorem k0_idx1781_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v50, v2355] : Fin 2 → IVec S16 32) a x).toNat < S256x142.size a := fun i k0_t2 v15 v20 v25 v30 v35 v40 v45 v50 v55 v60 v2355 k0_hw1068 k0_h1 => k0_hw1068.2.2.2.2.2.2.2.1 k0_h1
theorem k0_idx1783_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v55, v2355] : Fin 2 → IVec S16 32) a x).toNat < S256x142.size a := fun i k0_t2 v15 v20 v25 v30 v35 v40 v45 v50 v55 v60 v2355 k0_hw1068 k0_h1 => k0_hw1068.2.2.2.2.2.2.2.2.1 k0_h1
theorem k0_idx1785_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2355 : IVec S16 32) (k0_hw1068 : k0_chk1068 i k0_t2 v15 v20 v25 v30 v35 v40 v45 v50 v55 v60 v2355), ∀ (k0_h1 : k0_cond1 i k0_t2 = 1#1), ∀ a x, ((![v60, v2355] : Fin 2 → IVec S16 32) a x).toNat < S256x142.size a := fun i k0_t2 v15 v20 v25 v30 v35 v40 v45 v50 v55 v60 v2355 k0_hw1068 k0_h1 => k0_hw1068.2.2.2.2.2.2.2.2.2 k0_h1

def k0_chk1078 (i : grid0.Coords) (k0_t2 : Fin k0_t2_loop.trips) (v2355 : IVec S16 32) (v2385 : IVec S16 32) : Prop :=
  (∀ (k0_h1 : k0_cond1 i k0_t2 = 1#1), ∀ a x, ((![v2385, v2355] : Fin 2 → IVec S16 32) a x).toNat < S160x142.size a)
theorem k0_idx1786_inb : ∀ (i : grid0.Coords) (k0_t2 : Fin k0_t2_loop.trips) (v2355 : IVec S16 32) (v2385 : IVec S16 32) (k0_hw1078 : k0_chk1078 i k0_t2 v2355 v2385), ∀ (k0_h1 : k0_cond1 i k0_t2 = 1#1), ∀ a x, ((![v2385, v2355] : Fin 2 → IVec S16 32) a x).toNat < S160x142.size a := fun i k0_t2 v2355 v2385 k0_hw1078 k0_h1 => k0_hw1078 k0_h1

def k0_chk1080 (i : grid0.Coords) (k0_t2 : Fin k0_t2_loop.trips) (v2386 : IVec S16 32) (v2389 : IVec S16 32) : Prop :=
  (∀ (k0_h1 : k0_cond1 i k0_t2 = 1#1), ∀ a x, ((![v2389, v2386] : Fin 2 → IVec S16 32) a x).toNat < S160x142.size a)
theorem k0_idx1788_inb : ∀ (i : grid0.Coords) (k0_t2 : Fin k0_t2_loop.trips) (v2386 : IVec S16 32) (v2389 : IVec S16 32) (k0_hw1080 : k0_chk1080 i k0_t2 v2386 v2389), ∀ (k0_h1 : k0_cond1 i k0_t2 = 1#1), ∀ a x, ((![v2389, v2386] : Fin 2 → IVec S16 32) a x).toNat < S160x142.size a := fun i k0_t2 v2386 v2389 k0_hw1080 k0_h1 => k0_hw1080 k0_h1

def k0_chk1081 (i : grid0.Coords) (k0_t2 : Fin k0_t2_loop.trips) (v2386 : IVec S16 32) (v2392 : IVec S16 32) : Prop :=
  (∀ (k0_h1 : k0_cond1 i k0_t2 = 1#1), ∀ a x, ((![v2392, v2386] : Fin 2 → IVec S16 32) a x).toNat < S160x142.size a)
theorem k0_idx1790_inb : ∀ (i : grid0.Coords) (k0_t2 : Fin k0_t2_loop.trips) (v2386 : IVec S16 32) (v2392 : IVec S16 32) (k0_hw1081 : k0_chk1081 i k0_t2 v2386 v2392), ∀ (k0_h1 : k0_cond1 i k0_t2 = 1#1), ∀ a x, ((![v2392, v2386] : Fin 2 → IVec S16 32) a x).toNat < S160x142.size a := fun i k0_t2 v2386 v2392 k0_hw1081 k0_h1 => k0_hw1081 k0_h1

def k0_chk1082 (i : grid0.Coords) (k0_t2 : Fin k0_t2_loop.trips) (v2386 : IVec S16 32) (v2395 : IVec S16 32) : Prop :=
  (∀ (k0_h1 : k0_cond1 i k0_t2 = 1#1), ∀ a x, ((![v2395, v2386] : Fin 2 → IVec S16 32) a x).toNat < S160x142.size a)
theorem k0_idx1792_inb : ∀ (i : grid0.Coords) (k0_t2 : Fin k0_t2_loop.trips) (v2386 : IVec S16 32) (v2395 : IVec S16 32) (k0_hw1082 : k0_chk1082 i k0_t2 v2386 v2395), ∀ (k0_h1 : k0_cond1 i k0_t2 = 1#1), ∀ a x, ((![v2395, v2386] : Fin 2 → IVec S16 32) a x).toNat < S160x142.size a := fun i k0_t2 v2386 v2395 k0_hw1082 k0_h1 => k0_hw1082 k0_h1

def k0_chk1083 (i : grid0.Coords) (k0_t2 : Fin k0_t2_loop.trips) (v2386 : IVec S16 32) (v2398 : IVec S16 32) : Prop :=
  (∀ (k0_h1 : k0_cond1 i k0_t2 = 1#1), ∀ a x, ((![v2398, v2386] : Fin 2 → IVec S16 32) a x).toNat < S160x142.size a)
theorem k0_idx1794_inb : ∀ (i : grid0.Coords) (k0_t2 : Fin k0_t2_loop.trips) (v2386 : IVec S16 32) (v2398 : IVec S16 32) (k0_hw1083 : k0_chk1083 i k0_t2 v2386 v2398), ∀ (k0_h1 : k0_cond1 i k0_t2 = 1#1), ∀ a x, ((![v2398, v2386] : Fin 2 → IVec S16 32) a x).toNat < S160x142.size a := fun i k0_t2 v2386 v2398 k0_hw1083 k0_h1 => k0_hw1083 k0_h1

def k0_chk1084 (i : grid0.Coords) (k0_t2 : Fin k0_t2_loop.trips) (v2386 : IVec S16 32) (v2401 : IVec S16 32) : Prop :=
  (∀ (k0_h1 : k0_cond1 i k0_t2 = 1#1), ∀ a x, ((![v2401, v2386] : Fin 2 → IVec S16 32) a x).toNat < S160x142.size a)
theorem k0_idx1796_inb : ∀ (i : grid0.Coords) (k0_t2 : Fin k0_t2_loop.trips) (v2386 : IVec S16 32) (v2401 : IVec S16 32) (k0_hw1084 : k0_chk1084 i k0_t2 v2386 v2401), ∀ (k0_h1 : k0_cond1 i k0_t2 = 1#1), ∀ a x, ((![v2401, v2386] : Fin 2 → IVec S16 32) a x).toNat < S160x142.size a := fun i k0_t2 v2386 v2401 k0_hw1084 k0_h1 => k0_hw1084 k0_h1

def k0_chk1085 (i : grid0.Coords) (k0_t2 : Fin k0_t2_loop.trips) (v2386 : IVec S16 32) (v2404 : IVec S16 32) : Prop :=
  (∀ (k0_h1 : k0_cond1 i k0_t2 = 1#1), ∀ a x, ((![v2404, v2386] : Fin 2 → IVec S16 32) a x).toNat < S160x142.size a)
theorem k0_idx1798_inb : ∀ (i : grid0.Coords) (k0_t2 : Fin k0_t2_loop.trips) (v2386 : IVec S16 32) (v2404 : IVec S16 32) (k0_hw1085 : k0_chk1085 i k0_t2 v2386 v2404), ∀ (k0_h1 : k0_cond1 i k0_t2 = 1#1), ∀ a x, ((![v2404, v2386] : Fin 2 → IVec S16 32) a x).toNat < S160x142.size a := fun i k0_t2 v2386 v2404 k0_hw1085 k0_h1 => k0_hw1085 k0_h1

def k0_chk1086 (i : grid0.Coords) (k0_t2 : Fin k0_t2_loop.trips) (v2386 : IVec S16 32) (v2407 : IVec S16 32) : Prop :=
  (∀ (k0_h1 : k0_cond1 i k0_t2 = 1#1), ∀ a x, ((![v2407, v2386] : Fin 2 → IVec S16 32) a x).toNat < S160x142.size a)
theorem k0_idx1800_inb : ∀ (i : grid0.Coords) (k0_t2 : Fin k0_t2_loop.trips) (v2386 : IVec S16 32) (v2407 : IVec S16 32) (k0_hw1086 : k0_chk1086 i k0_t2 v2386 v2407), ∀ (k0_h1 : k0_cond1 i k0_t2 = 1#1), ∀ a x, ((![v2407, v2386] : Fin 2 → IVec S16 32) a x).toNat < S160x142.size a := fun i k0_t2 v2386 v2407 k0_hw1086 k0_h1 => k0_hw1086 k0_h1

def k0_chk1087 (i : grid0.Coords) (k0_t2 : Fin k0_t2_loop.trips) (v2386 : IVec S16 32) (v2410 : IVec S16 32) : Prop :=
  (∀ (k0_h1 : k0_cond1 i k0_t2 = 1#1), ∀ a x, ((![v2410, v2386] : Fin 2 → IVec S16 32) a x).toNat < S160x142.size a)
theorem k0_idx1802_inb : ∀ (i : grid0.Coords) (k0_t2 : Fin k0_t2_loop.trips) (v2386 : IVec S16 32) (v2410 : IVec S16 32) (k0_hw1087 : k0_chk1087 i k0_t2 v2386 v2410), ∀ (k0_h1 : k0_cond1 i k0_t2 = 1#1), ∀ a x, ((![v2410, v2386] : Fin 2 → IVec S16 32) a x).toNat < S160x142.size a := fun i k0_t2 v2386 v2410 k0_hw1087 k0_h1 => k0_hw1087 k0_h1

def k0_chk1088 (i : grid0.Coords) (k0_t2 : Fin k0_t2_loop.trips) (v2386 : IVec S16 32) (v2413 : IVec S16 32) : Prop :=
  (∀ (k0_h1 : k0_cond1 i k0_t2 = 1#1), ∀ a x, ((![v2413, v2386] : Fin 2 → IVec S16 32) a x).toNat < S160x142.size a)
theorem k0_idx1804_inb : ∀ (i : grid0.Coords) (k0_t2 : Fin k0_t2_loop.trips) (v2386 : IVec S16 32) (v2413 : IVec S16 32) (k0_hw1088 : k0_chk1088 i k0_t2 v2386 v2413), ∀ (k0_h1 : k0_cond1 i k0_t2 = 1#1), ∀ a x, ((![v2413, v2386] : Fin 2 → IVec S16 32) a x).toNat < S160x142.size a := fun i k0_t2 v2386 v2413 k0_hw1088 k0_h1 => k0_hw1088 k0_h1

def k0_chk1079 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) : Prop :=
  (∀ (k0_h1 : k0_cond1 i k0_t2 = 1#1), ∀ a x, ((![v15, v2386] : Fin 2 → IVec S16 32) a x).toNat < S256x142.size a) ∧
  (∀ (k0_h1 : k0_cond1 i k0_t2 = 1#1), ∀ a x, ((![v20, v2386] : Fin 2 → IVec S16 32) a x).toNat < S256x142.size a) ∧
  (∀ (k0_h1 : k0_cond1 i k0_t2 = 1#1), ∀ a x, ((![v25, v2386] : Fin 2 → IVec S16 32) a x).toNat < S256x142.size a) ∧
  (∀ (k0_h1 : k0_cond1 i k0_t2 = 1#1), ∀ a x, ((![v30, v2386] : Fin 2 → IVec S16 32) a x).toNat < S256x142.size a) ∧
  (∀ (k0_h1 : k0_cond1 i k0_t2 = 1#1), ∀ a x, ((![v35, v2386] : Fin 2 → IVec S16 32) a x).toNat < S256x142.size a) ∧
  (∀ (k0_h1 : k0_cond1 i k0_t2 = 1#1), ∀ a x, ((![v40, v2386] : Fin 2 → IVec S16 32) a x).toNat < S256x142.size a) ∧
  (∀ (k0_h1 : k0_cond1 i k0_t2 = 1#1), ∀ a x, ((![v45, v2386] : Fin 2 → IVec S16 32) a x).toNat < S256x142.size a) ∧
  (∀ (k0_h1 : k0_cond1 i k0_t2 = 1#1), ∀ a x, ((![v50, v2386] : Fin 2 → IVec S16 32) a x).toNat < S256x142.size a) ∧
  (∀ (k0_h1 : k0_cond1 i k0_t2 = 1#1), ∀ a x, ((![v55, v2386] : Fin 2 → IVec S16 32) a x).toNat < S256x142.size a) ∧
  (∀ (k0_h1 : k0_cond1 i k0_t2 = 1#1), ∀ a x, ((![v60, v2386] : Fin 2 → IVec S16 32) a x).toNat < S256x142.size a)
theorem k0_idx1787_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v15, v2386] : Fin 2 → IVec S16 32) a x).toNat < S256x142.size a := fun i k0_t2 v15 v20 v25 v30 v35 v40 v45 v50 v55 v60 v2386 k0_hw1079 k0_h1 => k0_hw1079.1 k0_h1
theorem k0_idx1789_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v20, v2386] : Fin 2 → IVec S16 32) a x).toNat < S256x142.size a := fun i k0_t2 v15 v20 v25 v30 v35 v40 v45 v50 v55 v60 v2386 k0_hw1079 k0_h1 => k0_hw1079.2.1 k0_h1
theorem k0_idx1791_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v25, v2386] : Fin 2 → IVec S16 32) a x).toNat < S256x142.size a := fun i k0_t2 v15 v20 v25 v30 v35 v40 v45 v50 v55 v60 v2386 k0_hw1079 k0_h1 => k0_hw1079.2.2.1 k0_h1
theorem k0_idx1793_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v30, v2386] : Fin 2 → IVec S16 32) a x).toNat < S256x142.size a := fun i k0_t2 v15 v20 v25 v30 v35 v40 v45 v50 v55 v60 v2386 k0_hw1079 k0_h1 => k0_hw1079.2.2.2.1 k0_h1
theorem k0_idx1795_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v35, v2386] : Fin 2 → IVec S16 32) a x).toNat < S256x142.size a := fun i k0_t2 v15 v20 v25 v30 v35 v40 v45 v50 v55 v60 v2386 k0_hw1079 k0_h1 => k0_hw1079.2.2.2.2.1 k0_h1
theorem k0_idx1797_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v40, v2386] : Fin 2 → IVec S16 32) a x).toNat < S256x142.size a := fun i k0_t2 v15 v20 v25 v30 v35 v40 v45 v50 v55 v60 v2386 k0_hw1079 k0_h1 => k0_hw1079.2.2.2.2.2.1 k0_h1
theorem k0_idx1799_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v45, v2386] : Fin 2 → IVec S16 32) a x).toNat < S256x142.size a := fun i k0_t2 v15 v20 v25 v30 v35 v40 v45 v50 v55 v60 v2386 k0_hw1079 k0_h1 => k0_hw1079.2.2.2.2.2.2.1 k0_h1
theorem k0_idx1801_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v50, v2386] : Fin 2 → IVec S16 32) a x).toNat < S256x142.size a := fun i k0_t2 v15 v20 v25 v30 v35 v40 v45 v50 v55 v60 v2386 k0_hw1079 k0_h1 => k0_hw1079.2.2.2.2.2.2.2.1 k0_h1
theorem k0_idx1803_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v55, v2386] : Fin 2 → IVec S16 32) a x).toNat < S256x142.size a := fun i k0_t2 v15 v20 v25 v30 v35 v40 v45 v50 v55 v60 v2386 k0_hw1079 k0_h1 => k0_hw1079.2.2.2.2.2.2.2.2.1 k0_h1
theorem k0_idx1805_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2386 : IVec S16 32) (k0_hw1079 : k0_chk1079 i k0_t2 v15 v20 v25 v30 v35 v40 v45 v50 v55 v60 v2386), ∀ (k0_h1 : k0_cond1 i k0_t2 = 1#1), ∀ a x, ((![v60, v2386] : Fin 2 → IVec S16 32) a x).toNat < S256x142.size a := fun i k0_t2 v15 v20 v25 v30 v35 v40 v45 v50 v55 v60 v2386 k0_hw1079 k0_h1 => k0_hw1079.2.2.2.2.2.2.2.2.2 k0_h1

def k0_chk1089 (i : grid0.Coords) (k0_t2 : Fin k0_t2_loop.trips) (v2386 : IVec S16 32) (v2416 : IVec S16 32) : Prop :=
  (∀ (k0_h1 : k0_cond1 i k0_t2 = 1#1), ∀ a x, ((![v2416, v2386] : Fin 2 → IVec S16 32) a x).toNat < S160x142.size a)
theorem k0_idx1806_inb : ∀ (i : grid0.Coords) (k0_t2 : Fin k0_t2_loop.trips) (v2386 : IVec S16 32) (v2416 : IVec S16 32) (k0_hw1089 : k0_chk1089 i k0_t2 v2386 v2416), ∀ (k0_h1 : k0_cond1 i k0_t2 = 1#1), ∀ a x, ((![v2416, v2386] : Fin 2 → IVec S16 32) a x).toNat < S160x142.size a := fun i k0_t2 v2386 v2416 k0_hw1089 k0_h1 => k0_hw1089 k0_h1

def k0_chk1091 (i : grid0.Coords) (k0_t2 : Fin k0_t2_loop.trips) (v2417 : IVec S16 32) (v2420 : IVec S16 32) : Prop :=
  (∀ (k0_h1 : k0_cond1 i k0_t2 = 1#1), ∀ a x, ((![v2420, v2417] : Fin 2 → IVec S16 32) a x).toNat < S160x142.size a)
theorem k0_idx1808_inb : ∀ (i : grid0.Coords) (k0_t2 : Fin k0_t2_loop.trips) (v2417 : IVec S16 32) (v2420 : IVec S16 32) (k0_hw1091 : k0_chk1091 i k0_t2 v2417 v2420), ∀ (k0_h1 : k0_cond1 i k0_t2 = 1#1), ∀ a x, ((![v2420, v2417] : Fin 2 → IVec S16 32) a x).toNat < S160x142.size a := fun i k0_t2 v2417 v2420 k0_hw1091 k0_h1 => k0_hw1091 k0_h1

def k0_chk1092 (i : grid0.Coords) (k0_t2 : Fin k0_t2_loop.trips) (v2417 : IVec S16 32) (v2423 : IVec S16 32) : Prop :=
  (∀ (k0_h1 : k0_cond1 i k0_t2 = 1#1), ∀ a x, ((![v2423, v2417] : Fin 2 → IVec S16 32) a x).toNat < S160x142.size a)
theorem k0_idx1810_inb : ∀ (i : grid0.Coords) (k0_t2 : Fin k0_t2_loop.trips) (v2417 : IVec S16 32) (v2423 : IVec S16 32) (k0_hw1092 : k0_chk1092 i k0_t2 v2417 v2423), ∀ (k0_h1 : k0_cond1 i k0_t2 = 1#1), ∀ a x, ((![v2423, v2417] : Fin 2 → IVec S16 32) a x).toNat < S160x142.size a := fun i k0_t2 v2417 v2423 k0_hw1092 k0_h1 => k0_hw1092 k0_h1

def k0_chk1093 (i : grid0.Coords) (k0_t2 : Fin k0_t2_loop.trips) (v2417 : IVec S16 32) (v2426 : IVec S16 32) : Prop :=
  (∀ (k0_h1 : k0_cond1 i k0_t2 = 1#1), ∀ a x, ((![v2426, v2417] : Fin 2 → IVec S16 32) a x).toNat < S160x142.size a)
theorem k0_idx1812_inb : ∀ (i : grid0.Coords) (k0_t2 : Fin k0_t2_loop.trips) (v2417 : IVec S16 32) (v2426 : IVec S16 32) (k0_hw1093 : k0_chk1093 i k0_t2 v2417 v2426), ∀ (k0_h1 : k0_cond1 i k0_t2 = 1#1), ∀ a x, ((![v2426, v2417] : Fin 2 → IVec S16 32) a x).toNat < S160x142.size a := fun i k0_t2 v2417 v2426 k0_hw1093 k0_h1 => k0_hw1093 k0_h1

def k0_chk1094 (i : grid0.Coords) (k0_t2 : Fin k0_t2_loop.trips) (v2417 : IVec S16 32) (v2429 : IVec S16 32) : Prop :=
  (∀ (k0_h1 : k0_cond1 i k0_t2 = 1#1), ∀ a x, ((![v2429, v2417] : Fin 2 → IVec S16 32) a x).toNat < S160x142.size a)
theorem k0_idx1814_inb : ∀ (i : grid0.Coords) (k0_t2 : Fin k0_t2_loop.trips) (v2417 : IVec S16 32) (v2429 : IVec S16 32) (k0_hw1094 : k0_chk1094 i k0_t2 v2417 v2429), ∀ (k0_h1 : k0_cond1 i k0_t2 = 1#1), ∀ a x, ((![v2429, v2417] : Fin 2 → IVec S16 32) a x).toNat < S160x142.size a := fun i k0_t2 v2417 v2429 k0_hw1094 k0_h1 => k0_hw1094 k0_h1

def k0_chk1095 (i : grid0.Coords) (k0_t2 : Fin k0_t2_loop.trips) (v2417 : IVec S16 32) (v2432 : IVec S16 32) : Prop :=
  (∀ (k0_h1 : k0_cond1 i k0_t2 = 1#1), ∀ a x, ((![v2432, v2417] : Fin 2 → IVec S16 32) a x).toNat < S160x142.size a)
theorem k0_idx1816_inb : ∀ (i : grid0.Coords) (k0_t2 : Fin k0_t2_loop.trips) (v2417 : IVec S16 32) (v2432 : IVec S16 32) (k0_hw1095 : k0_chk1095 i k0_t2 v2417 v2432), ∀ (k0_h1 : k0_cond1 i k0_t2 = 1#1), ∀ a x, ((![v2432, v2417] : Fin 2 → IVec S16 32) a x).toNat < S160x142.size a := fun i k0_t2 v2417 v2432 k0_hw1095 k0_h1 => k0_hw1095 k0_h1

def k0_chk1096 (i : grid0.Coords) (k0_t2 : Fin k0_t2_loop.trips) (v2417 : IVec S16 32) (v2435 : IVec S16 32) : Prop :=
  (∀ (k0_h1 : k0_cond1 i k0_t2 = 1#1), ∀ a x, ((![v2435, v2417] : Fin 2 → IVec S16 32) a x).toNat < S160x142.size a)
theorem k0_idx1818_inb : ∀ (i : grid0.Coords) (k0_t2 : Fin k0_t2_loop.trips) (v2417 : IVec S16 32) (v2435 : IVec S16 32) (k0_hw1096 : k0_chk1096 i k0_t2 v2417 v2435), ∀ (k0_h1 : k0_cond1 i k0_t2 = 1#1), ∀ a x, ((![v2435, v2417] : Fin 2 → IVec S16 32) a x).toNat < S160x142.size a := fun i k0_t2 v2417 v2435 k0_hw1096 k0_h1 => k0_hw1096 k0_h1

def k0_chk1097 (i : grid0.Coords) (k0_t2 : Fin k0_t2_loop.trips) (v2417 : IVec S16 32) (v2438 : IVec S16 32) : Prop :=
  (∀ (k0_h1 : k0_cond1 i k0_t2 = 1#1), ∀ a x, ((![v2438, v2417] : Fin 2 → IVec S16 32) a x).toNat < S160x142.size a)
theorem k0_idx1820_inb : ∀ (i : grid0.Coords) (k0_t2 : Fin k0_t2_loop.trips) (v2417 : IVec S16 32) (v2438 : IVec S16 32) (k0_hw1097 : k0_chk1097 i k0_t2 v2417 v2438), ∀ (k0_h1 : k0_cond1 i k0_t2 = 1#1), ∀ a x, ((![v2438, v2417] : Fin 2 → IVec S16 32) a x).toNat < S160x142.size a := fun i k0_t2 v2417 v2438 k0_hw1097 k0_h1 => k0_hw1097 k0_h1

def k0_chk1098 (i : grid0.Coords) (k0_t2 : Fin k0_t2_loop.trips) (v2417 : IVec S16 32) (v2441 : IVec S16 32) : Prop :=
  (∀ (k0_h1 : k0_cond1 i k0_t2 = 1#1), ∀ a x, ((![v2441, v2417] : Fin 2 → IVec S16 32) a x).toNat < S160x142.size a)
theorem k0_idx1822_inb : ∀ (i : grid0.Coords) (k0_t2 : Fin k0_t2_loop.trips) (v2417 : IVec S16 32) (v2441 : IVec S16 32) (k0_hw1098 : k0_chk1098 i k0_t2 v2417 v2441), ∀ (k0_h1 : k0_cond1 i k0_t2 = 1#1), ∀ a x, ((![v2441, v2417] : Fin 2 → IVec S16 32) a x).toNat < S160x142.size a := fun i k0_t2 v2417 v2441 k0_hw1098 k0_h1 => k0_hw1098 k0_h1

def k0_chk1099 (i : grid0.Coords) (k0_t2 : Fin k0_t2_loop.trips) (v2417 : IVec S16 32) (v2444 : IVec S16 32) : Prop :=
  (∀ (k0_h1 : k0_cond1 i k0_t2 = 1#1), ∀ a x, ((![v2444, v2417] : Fin 2 → IVec S16 32) a x).toNat < S160x142.size a)
theorem k0_idx1824_inb : ∀ (i : grid0.Coords) (k0_t2 : Fin k0_t2_loop.trips) (v2417 : IVec S16 32) (v2444 : IVec S16 32) (k0_hw1099 : k0_chk1099 i k0_t2 v2417 v2444), ∀ (k0_h1 : k0_cond1 i k0_t2 = 1#1), ∀ a x, ((![v2444, v2417] : Fin 2 → IVec S16 32) a x).toNat < S160x142.size a := fun i k0_t2 v2417 v2444 k0_hw1099 k0_h1 => k0_hw1099 k0_h1

def k0_chk1090 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) : Prop :=
  (∀ (k0_h1 : k0_cond1 i k0_t2 = 1#1), ∀ a x, ((![v15, v2417] : Fin 2 → IVec S16 32) a x).toNat < S256x142.size a) ∧
  (∀ (k0_h1 : k0_cond1 i k0_t2 = 1#1), ∀ a x, ((![v20, v2417] : Fin 2 → IVec S16 32) a x).toNat < S256x142.size a) ∧
  (∀ (k0_h1 : k0_cond1 i k0_t2 = 1#1), ∀ a x, ((![v25, v2417] : Fin 2 → IVec S16 32) a x).toNat < S256x142.size a) ∧
  (∀ (k0_h1 : k0_cond1 i k0_t2 = 1#1), ∀ a x, ((![v30, v2417] : Fin 2 → IVec S16 32) a x).toNat < S256x142.size a) ∧
  (∀ (k0_h1 : k0_cond1 i k0_t2 = 1#1), ∀ a x, ((![v35, v2417] : Fin 2 → IVec S16 32) a x).toNat < S256x142.size a) ∧
  (∀ (k0_h1 : k0_cond1 i k0_t2 = 1#1), ∀ a x, ((![v40, v2417] : Fin 2 → IVec S16 32) a x).toNat < S256x142.size a) ∧
  (∀ (k0_h1 : k0_cond1 i k0_t2 = 1#1), ∀ a x, ((![v45, v2417] : Fin 2 → IVec S16 32) a x).toNat < S256x142.size a) ∧
  (∀ (k0_h1 : k0_cond1 i k0_t2 = 1#1), ∀ a x, ((![v50, v2417] : Fin 2 → IVec S16 32) a x).toNat < S256x142.size a) ∧
  (∀ (k0_h1 : k0_cond1 i k0_t2 = 1#1), ∀ a x, ((![v55, v2417] : Fin 2 → IVec S16 32) a x).toNat < S256x142.size a) ∧
  (∀ (k0_h1 : k0_cond1 i k0_t2 = 1#1), ∀ a x, ((![v60, v2417] : Fin 2 → IVec S16 32) a x).toNat < S256x142.size a)
theorem k0_idx1807_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v15, v2417] : Fin 2 → IVec S16 32) a x).toNat < S256x142.size a := fun i k0_t2 v15 v20 v25 v30 v35 v40 v45 v50 v55 v60 v2417 k0_hw1090 k0_h1 => k0_hw1090.1 k0_h1
theorem k0_idx1809_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v20, v2417] : Fin 2 → IVec S16 32) a x).toNat < S256x142.size a := fun i k0_t2 v15 v20 v25 v30 v35 v40 v45 v50 v55 v60 v2417 k0_hw1090 k0_h1 => k0_hw1090.2.1 k0_h1
theorem k0_idx1811_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v25, v2417] : Fin 2 → IVec S16 32) a x).toNat < S256x142.size a := fun i k0_t2 v15 v20 v25 v30 v35 v40 v45 v50 v55 v60 v2417 k0_hw1090 k0_h1 => k0_hw1090.2.2.1 k0_h1
theorem k0_idx1813_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v30, v2417] : Fin 2 → IVec S16 32) a x).toNat < S256x142.size a := fun i k0_t2 v15 v20 v25 v30 v35 v40 v45 v50 v55 v60 v2417 k0_hw1090 k0_h1 => k0_hw1090.2.2.2.1 k0_h1
theorem k0_idx1815_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v35, v2417] : Fin 2 → IVec S16 32) a x).toNat < S256x142.size a := fun i k0_t2 v15 v20 v25 v30 v35 v40 v45 v50 v55 v60 v2417 k0_hw1090 k0_h1 => k0_hw1090.2.2.2.2.1 k0_h1
theorem k0_idx1817_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v40, v2417] : Fin 2 → IVec S16 32) a x).toNat < S256x142.size a := fun i k0_t2 v15 v20 v25 v30 v35 v40 v45 v50 v55 v60 v2417 k0_hw1090 k0_h1 => k0_hw1090.2.2.2.2.2.1 k0_h1
theorem k0_idx1819_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v45, v2417] : Fin 2 → IVec S16 32) a x).toNat < S256x142.size a := fun i k0_t2 v15 v20 v25 v30 v35 v40 v45 v50 v55 v60 v2417 k0_hw1090 k0_h1 => k0_hw1090.2.2.2.2.2.2.1 k0_h1
theorem k0_idx1821_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v50, v2417] : Fin 2 → IVec S16 32) a x).toNat < S256x142.size a := fun i k0_t2 v15 v20 v25 v30 v35 v40 v45 v50 v55 v60 v2417 k0_hw1090 k0_h1 => k0_hw1090.2.2.2.2.2.2.2.1 k0_h1
theorem k0_idx1823_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v55, v2417] : Fin 2 → IVec S16 32) a x).toNat < S256x142.size a := fun i k0_t2 v15 v20 v25 v30 v35 v40 v45 v50 v55 v60 v2417 k0_hw1090 k0_h1 => k0_hw1090.2.2.2.2.2.2.2.2.1 k0_h1
theorem k0_idx1825_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2417 : IVec S16 32) (k0_hw1090 : k0_chk1090 i k0_t2 v15 v20 v25 v30 v35 v40 v45 v50 v55 v60 v2417), ∀ (k0_h1 : k0_cond1 i k0_t2 = 1#1), ∀ a x, ((![v60, v2417] : Fin 2 → IVec S16 32) a x).toNat < S256x142.size a := fun i k0_t2 v15 v20 v25 v30 v35 v40 v45 v50 v55 v60 v2417 k0_hw1090 k0_h1 => k0_hw1090.2.2.2.2.2.2.2.2.2 k0_h1

def k0_chk1100 (i : grid0.Coords) (k0_t2 : Fin k0_t2_loop.trips) (v2417 : IVec S16 32) (v2447 : IVec S16 32) : Prop :=
  (∀ (k0_h1 : k0_cond1 i k0_t2 = 1#1), ∀ a x, ((![v2447, v2417] : Fin 2 → IVec S16 32) a x).toNat < S160x142.size a)
theorem k0_idx1826_inb : ∀ (i : grid0.Coords) (k0_t2 : Fin k0_t2_loop.trips) (v2417 : IVec S16 32) (v2447 : IVec S16 32) (k0_hw1100 : k0_chk1100 i k0_t2 v2417 v2447), ∀ (k0_h1 : k0_cond1 i k0_t2 = 1#1), ∀ a x, ((![v2447, v2417] : Fin 2 → IVec S16 32) a x).toNat < S160x142.size a := fun i k0_t2 v2417 v2447 k0_hw1100 k0_h1 => k0_hw1100 k0_h1

def k0_chk1102 (i : grid0.Coords) (k0_t2 : Fin k0_t2_loop.trips) (v2448 : IVec S16 32) (v2451 : IVec S16 32) : Prop :=
  (∀ (k0_h1 : k0_cond1 i k0_t2 = 1#1), ∀ a x, ((![v2451, v2448] : Fin 2 → IVec S16 32) a x).toNat < S160x142.size a)
theorem k0_idx1828_inb : ∀ (i : grid0.Coords) (k0_t2 : Fin k0_t2_loop.trips) (v2448 : IVec S16 32) (v2451 : IVec S16 32) (k0_hw1102 : k0_chk1102 i k0_t2 v2448 v2451), ∀ (k0_h1 : k0_cond1 i k0_t2 = 1#1), ∀ a x, ((![v2451, v2448] : Fin 2 → IVec S16 32) a x).toNat < S160x142.size a := fun i k0_t2 v2448 v2451 k0_hw1102 k0_h1 => k0_hw1102 k0_h1

def k0_chk1103 (i : grid0.Coords) (k0_t2 : Fin k0_t2_loop.trips) (v2448 : IVec S16 32) (v2454 : IVec S16 32) : Prop :=
  (∀ (k0_h1 : k0_cond1 i k0_t2 = 1#1), ∀ a x, ((![v2454, v2448] : Fin 2 → IVec S16 32) a x).toNat < S160x142.size a)
theorem k0_idx1830_inb : ∀ (i : grid0.Coords) (k0_t2 : Fin k0_t2_loop.trips) (v2448 : IVec S16 32) (v2454 : IVec S16 32) (k0_hw1103 : k0_chk1103 i k0_t2 v2448 v2454), ∀ (k0_h1 : k0_cond1 i k0_t2 = 1#1), ∀ a x, ((![v2454, v2448] : Fin 2 → IVec S16 32) a x).toNat < S160x142.size a := fun i k0_t2 v2448 v2454 k0_hw1103 k0_h1 => k0_hw1103 k0_h1

def k0_chk1104 (i : grid0.Coords) (k0_t2 : Fin k0_t2_loop.trips) (v2448 : IVec S16 32) (v2457 : IVec S16 32) : Prop :=
  (∀ (k0_h1 : k0_cond1 i k0_t2 = 1#1), ∀ a x, ((![v2457, v2448] : Fin 2 → IVec S16 32) a x).toNat < S160x142.size a)
theorem k0_idx1832_inb : ∀ (i : grid0.Coords) (k0_t2 : Fin k0_t2_loop.trips) (v2448 : IVec S16 32) (v2457 : IVec S16 32) (k0_hw1104 : k0_chk1104 i k0_t2 v2448 v2457), ∀ (k0_h1 : k0_cond1 i k0_t2 = 1#1), ∀ a x, ((![v2457, v2448] : Fin 2 → IVec S16 32) a x).toNat < S160x142.size a := fun i k0_t2 v2448 v2457 k0_hw1104 k0_h1 => k0_hw1104 k0_h1

def k0_chk1105 (i : grid0.Coords) (k0_t2 : Fin k0_t2_loop.trips) (v2448 : IVec S16 32) (v2460 : IVec S16 32) : Prop :=
  (∀ (k0_h1 : k0_cond1 i k0_t2 = 1#1), ∀ a x, ((![v2460, v2448] : Fin 2 → IVec S16 32) a x).toNat < S160x142.size a)
theorem k0_idx1834_inb : ∀ (i : grid0.Coords) (k0_t2 : Fin k0_t2_loop.trips) (v2448 : IVec S16 32) (v2460 : IVec S16 32) (k0_hw1105 : k0_chk1105 i k0_t2 v2448 v2460), ∀ (k0_h1 : k0_cond1 i k0_t2 = 1#1), ∀ a x, ((![v2460, v2448] : Fin 2 → IVec S16 32) a x).toNat < S160x142.size a := fun i k0_t2 v2448 v2460 k0_hw1105 k0_h1 => k0_hw1105 k0_h1

def k0_chk1106 (i : grid0.Coords) (k0_t2 : Fin k0_t2_loop.trips) (v2448 : IVec S16 32) (v2463 : IVec S16 32) : Prop :=
  (∀ (k0_h1 : k0_cond1 i k0_t2 = 1#1), ∀ a x, ((![v2463, v2448] : Fin 2 → IVec S16 32) a x).toNat < S160x142.size a)
theorem k0_idx1836_inb : ∀ (i : grid0.Coords) (k0_t2 : Fin k0_t2_loop.trips) (v2448 : IVec S16 32) (v2463 : IVec S16 32) (k0_hw1106 : k0_chk1106 i k0_t2 v2448 v2463), ∀ (k0_h1 : k0_cond1 i k0_t2 = 1#1), ∀ a x, ((![v2463, v2448] : Fin 2 → IVec S16 32) a x).toNat < S160x142.size a := fun i k0_t2 v2448 v2463 k0_hw1106 k0_h1 => k0_hw1106 k0_h1

def k0_chk1107 (i : grid0.Coords) (k0_t2 : Fin k0_t2_loop.trips) (v2448 : IVec S16 32) (v2466 : IVec S16 32) : Prop :=
  (∀ (k0_h1 : k0_cond1 i k0_t2 = 1#1), ∀ a x, ((![v2466, v2448] : Fin 2 → IVec S16 32) a x).toNat < S160x142.size a)
theorem k0_idx1838_inb : ∀ (i : grid0.Coords) (k0_t2 : Fin k0_t2_loop.trips) (v2448 : IVec S16 32) (v2466 : IVec S16 32) (k0_hw1107 : k0_chk1107 i k0_t2 v2448 v2466), ∀ (k0_h1 : k0_cond1 i k0_t2 = 1#1), ∀ a x, ((![v2466, v2448] : Fin 2 → IVec S16 32) a x).toNat < S160x142.size a := fun i k0_t2 v2448 v2466 k0_hw1107 k0_h1 => k0_hw1107 k0_h1

def k0_chk1108 (i : grid0.Coords) (k0_t2 : Fin k0_t2_loop.trips) (v2448 : IVec S16 32) (v2469 : IVec S16 32) : Prop :=
  (∀ (k0_h1 : k0_cond1 i k0_t2 = 1#1), ∀ a x, ((![v2469, v2448] : Fin 2 → IVec S16 32) a x).toNat < S160x142.size a)
theorem k0_idx1840_inb : ∀ (i : grid0.Coords) (k0_t2 : Fin k0_t2_loop.trips) (v2448 : IVec S16 32) (v2469 : IVec S16 32) (k0_hw1108 : k0_chk1108 i k0_t2 v2448 v2469), ∀ (k0_h1 : k0_cond1 i k0_t2 = 1#1), ∀ a x, ((![v2469, v2448] : Fin 2 → IVec S16 32) a x).toNat < S160x142.size a := fun i k0_t2 v2448 v2469 k0_hw1108 k0_h1 => k0_hw1108 k0_h1

def k0_chk1109 (i : grid0.Coords) (k0_t2 : Fin k0_t2_loop.trips) (v2448 : IVec S16 32) (v2472 : IVec S16 32) : Prop :=
  (∀ (k0_h1 : k0_cond1 i k0_t2 = 1#1), ∀ a x, ((![v2472, v2448] : Fin 2 → IVec S16 32) a x).toNat < S160x142.size a)
theorem k0_idx1842_inb : ∀ (i : grid0.Coords) (k0_t2 : Fin k0_t2_loop.trips) (v2448 : IVec S16 32) (v2472 : IVec S16 32) (k0_hw1109 : k0_chk1109 i k0_t2 v2448 v2472), ∀ (k0_h1 : k0_cond1 i k0_t2 = 1#1), ∀ a x, ((![v2472, v2448] : Fin 2 → IVec S16 32) a x).toNat < S160x142.size a := fun i k0_t2 v2448 v2472 k0_hw1109 k0_h1 => k0_hw1109 k0_h1

def k0_chk1110 (i : grid0.Coords) (k0_t2 : Fin k0_t2_loop.trips) (v2448 : IVec S16 32) (v2475 : IVec S16 32) : Prop :=
  (∀ (k0_h1 : k0_cond1 i k0_t2 = 1#1), ∀ a x, ((![v2475, v2448] : Fin 2 → IVec S16 32) a x).toNat < S160x142.size a)
theorem k0_idx1844_inb : ∀ (i : grid0.Coords) (k0_t2 : Fin k0_t2_loop.trips) (v2448 : IVec S16 32) (v2475 : IVec S16 32) (k0_hw1110 : k0_chk1110 i k0_t2 v2448 v2475), ∀ (k0_h1 : k0_cond1 i k0_t2 = 1#1), ∀ a x, ((![v2475, v2448] : Fin 2 → IVec S16 32) a x).toNat < S160x142.size a := fun i k0_t2 v2448 v2475 k0_hw1110 k0_h1 => k0_hw1110 k0_h1

def k0_chk1101 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) : Prop :=
  (∀ (k0_h1 : k0_cond1 i k0_t2 = 1#1), ∀ a x, ((![v15, v2448] : Fin 2 → IVec S16 32) a x).toNat < S256x142.size a) ∧
  (∀ (k0_h1 : k0_cond1 i k0_t2 = 1#1), ∀ a x, ((![v20, v2448] : Fin 2 → IVec S16 32) a x).toNat < S256x142.size a) ∧
  (∀ (k0_h1 : k0_cond1 i k0_t2 = 1#1), ∀ a x, ((![v25, v2448] : Fin 2 → IVec S16 32) a x).toNat < S256x142.size a) ∧
  (∀ (k0_h1 : k0_cond1 i k0_t2 = 1#1), ∀ a x, ((![v30, v2448] : Fin 2 → IVec S16 32) a x).toNat < S256x142.size a) ∧
  (∀ (k0_h1 : k0_cond1 i k0_t2 = 1#1), ∀ a x, ((![v35, v2448] : Fin 2 → IVec S16 32) a x).toNat < S256x142.size a) ∧
  (∀ (k0_h1 : k0_cond1 i k0_t2 = 1#1), ∀ a x, ((![v40, v2448] : Fin 2 → IVec S16 32) a x).toNat < S256x142.size a) ∧
  (∀ (k0_h1 : k0_cond1 i k0_t2 = 1#1), ∀ a x, ((![v45, v2448] : Fin 2 → IVec S16 32) a x).toNat < S256x142.size a) ∧
  (∀ (k0_h1 : k0_cond1 i k0_t2 = 1#1), ∀ a x, ((![v50, v2448] : Fin 2 → IVec S16 32) a x).toNat < S256x142.size a) ∧
  (∀ (k0_h1 : k0_cond1 i k0_t2 = 1#1), ∀ a x, ((![v55, v2448] : Fin 2 → IVec S16 32) a x).toNat < S256x142.size a) ∧
  (∀ (k0_h1 : k0_cond1 i k0_t2 = 1#1), ∀ a x, ((![v60, v2448] : Fin 2 → IVec S16 32) a x).toNat < S256x142.size a)
theorem k0_idx1827_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v15, v2448] : Fin 2 → IVec S16 32) a x).toNat < S256x142.size a := fun i k0_t2 v15 v20 v25 v30 v35 v40 v45 v50 v55 v60 v2448 k0_hw1101 k0_h1 => k0_hw1101.1 k0_h1
theorem k0_idx1829_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v20, v2448] : Fin 2 → IVec S16 32) a x).toNat < S256x142.size a := fun i k0_t2 v15 v20 v25 v30 v35 v40 v45 v50 v55 v60 v2448 k0_hw1101 k0_h1 => k0_hw1101.2.1 k0_h1
theorem k0_idx1831_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v25, v2448] : Fin 2 → IVec S16 32) a x).toNat < S256x142.size a := fun i k0_t2 v15 v20 v25 v30 v35 v40 v45 v50 v55 v60 v2448 k0_hw1101 k0_h1 => k0_hw1101.2.2.1 k0_h1
theorem k0_idx1833_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v30, v2448] : Fin 2 → IVec S16 32) a x).toNat < S256x142.size a := fun i k0_t2 v15 v20 v25 v30 v35 v40 v45 v50 v55 v60 v2448 k0_hw1101 k0_h1 => k0_hw1101.2.2.2.1 k0_h1
theorem k0_idx1835_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v35, v2448] : Fin 2 → IVec S16 32) a x).toNat < S256x142.size a := fun i k0_t2 v15 v20 v25 v30 v35 v40 v45 v50 v55 v60 v2448 k0_hw1101 k0_h1 => k0_hw1101.2.2.2.2.1 k0_h1
theorem k0_idx1837_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v40, v2448] : Fin 2 → IVec S16 32) a x).toNat < S256x142.size a := fun i k0_t2 v15 v20 v25 v30 v35 v40 v45 v50 v55 v60 v2448 k0_hw1101 k0_h1 => k0_hw1101.2.2.2.2.2.1 k0_h1
theorem k0_idx1839_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v45, v2448] : Fin 2 → IVec S16 32) a x).toNat < S256x142.size a := fun i k0_t2 v15 v20 v25 v30 v35 v40 v45 v50 v55 v60 v2448 k0_hw1101 k0_h1 => k0_hw1101.2.2.2.2.2.2.1 k0_h1
theorem k0_idx1841_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v50, v2448] : Fin 2 → IVec S16 32) a x).toNat < S256x142.size a := fun i k0_t2 v15 v20 v25 v30 v35 v40 v45 v50 v55 v60 v2448 k0_hw1101 k0_h1 => k0_hw1101.2.2.2.2.2.2.2.1 k0_h1
theorem k0_idx1843_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v55, v2448] : Fin 2 → IVec S16 32) a x).toNat < S256x142.size a := fun i k0_t2 v15 v20 v25 v30 v35 v40 v45 v50 v55 v60 v2448 k0_hw1101 k0_h1 => k0_hw1101.2.2.2.2.2.2.2.2.1 k0_h1
theorem k0_idx1845_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2448 : IVec S16 32) (k0_hw1101 : k0_chk1101 i k0_t2 v15 v20 v25 v30 v35 v40 v45 v50 v55 v60 v2448), ∀ (k0_h1 : k0_cond1 i k0_t2 = 1#1), ∀ a x, ((![v60, v2448] : Fin 2 → IVec S16 32) a x).toNat < S256x142.size a := fun i k0_t2 v15 v20 v25 v30 v35 v40 v45 v50 v55 v60 v2448 k0_hw1101 k0_h1 => k0_hw1101.2.2.2.2.2.2.2.2.2 k0_h1

def k0_chk1111 (i : grid0.Coords) (k0_t2 : Fin k0_t2_loop.trips) (v2448 : IVec S16 32) (v2478 : IVec S16 32) : Prop :=
  (∀ (k0_h1 : k0_cond1 i k0_t2 = 1#1), ∀ a x, ((![v2478, v2448] : Fin 2 → IVec S16 32) a x).toNat < S160x142.size a)
theorem k0_idx1846_inb : ∀ (i : grid0.Coords) (k0_t2 : Fin k0_t2_loop.trips) (v2448 : IVec S16 32) (v2478 : IVec S16 32) (k0_hw1111 : k0_chk1111 i k0_t2 v2448 v2478), ∀ (k0_h1 : k0_cond1 i k0_t2 = 1#1), ∀ a x, ((![v2478, v2448] : Fin 2 → IVec S16 32) a x).toNat < S160x142.size a := fun i k0_t2 v2448 v2478 k0_hw1111 k0_h1 => k0_hw1111 k0_h1

def k0_chk1113 (i : grid0.Coords) (k0_t2 : Fin k0_t2_loop.trips) (v2479 : IVec S16 32) (v2482 : IVec S16 32) : Prop :=
  (∀ (k0_h1 : k0_cond1 i k0_t2 = 1#1), ∀ a x, ((![v2482, v2479] : Fin 2 → IVec S16 32) a x).toNat < S160x142.size a)
theorem k0_idx1848_inb : ∀ (i : grid0.Coords) (k0_t2 : Fin k0_t2_loop.trips) (v2479 : IVec S16 32) (v2482 : IVec S16 32) (k0_hw1113 : k0_chk1113 i k0_t2 v2479 v2482), ∀ (k0_h1 : k0_cond1 i k0_t2 = 1#1), ∀ a x, ((![v2482, v2479] : Fin 2 → IVec S16 32) a x).toNat < S160x142.size a := fun i k0_t2 v2479 v2482 k0_hw1113 k0_h1 => k0_hw1113 k0_h1

def k0_chk1114 (i : grid0.Coords) (k0_t2 : Fin k0_t2_loop.trips) (v2479 : IVec S16 32) (v2485 : IVec S16 32) : Prop :=
  (∀ (k0_h1 : k0_cond1 i k0_t2 = 1#1), ∀ a x, ((![v2485, v2479] : Fin 2 → IVec S16 32) a x).toNat < S160x142.size a)
theorem k0_idx1850_inb : ∀ (i : grid0.Coords) (k0_t2 : Fin k0_t2_loop.trips) (v2479 : IVec S16 32) (v2485 : IVec S16 32) (k0_hw1114 : k0_chk1114 i k0_t2 v2479 v2485), ∀ (k0_h1 : k0_cond1 i k0_t2 = 1#1), ∀ a x, ((![v2485, v2479] : Fin 2 → IVec S16 32) a x).toNat < S160x142.size a := fun i k0_t2 v2479 v2485 k0_hw1114 k0_h1 => k0_hw1114 k0_h1

def k0_chk1115 (i : grid0.Coords) (k0_t2 : Fin k0_t2_loop.trips) (v2479 : IVec S16 32) (v2488 : IVec S16 32) : Prop :=
  (∀ (k0_h1 : k0_cond1 i k0_t2 = 1#1), ∀ a x, ((![v2488, v2479] : Fin 2 → IVec S16 32) a x).toNat < S160x142.size a)
theorem k0_idx1852_inb : ∀ (i : grid0.Coords) (k0_t2 : Fin k0_t2_loop.trips) (v2479 : IVec S16 32) (v2488 : IVec S16 32) (k0_hw1115 : k0_chk1115 i k0_t2 v2479 v2488), ∀ (k0_h1 : k0_cond1 i k0_t2 = 1#1), ∀ a x, ((![v2488, v2479] : Fin 2 → IVec S16 32) a x).toNat < S160x142.size a := fun i k0_t2 v2479 v2488 k0_hw1115 k0_h1 => k0_hw1115 k0_h1

def k0_chk1116 (i : grid0.Coords) (k0_t2 : Fin k0_t2_loop.trips) (v2479 : IVec S16 32) (v2491 : IVec S16 32) : Prop :=
  (∀ (k0_h1 : k0_cond1 i k0_t2 = 1#1), ∀ a x, ((![v2491, v2479] : Fin 2 → IVec S16 32) a x).toNat < S160x142.size a)
theorem k0_idx1854_inb : ∀ (i : grid0.Coords) (k0_t2 : Fin k0_t2_loop.trips) (v2479 : IVec S16 32) (v2491 : IVec S16 32) (k0_hw1116 : k0_chk1116 i k0_t2 v2479 v2491), ∀ (k0_h1 : k0_cond1 i k0_t2 = 1#1), ∀ a x, ((![v2491, v2479] : Fin 2 → IVec S16 32) a x).toNat < S160x142.size a := fun i k0_t2 v2479 v2491 k0_hw1116 k0_h1 => k0_hw1116 k0_h1

def k0_chk1117 (i : grid0.Coords) (k0_t2 : Fin k0_t2_loop.trips) (v2479 : IVec S16 32) (v2494 : IVec S16 32) : Prop :=
  (∀ (k0_h1 : k0_cond1 i k0_t2 = 1#1), ∀ a x, ((![v2494, v2479] : Fin 2 → IVec S16 32) a x).toNat < S160x142.size a)
theorem k0_idx1856_inb : ∀ (i : grid0.Coords) (k0_t2 : Fin k0_t2_loop.trips) (v2479 : IVec S16 32) (v2494 : IVec S16 32) (k0_hw1117 : k0_chk1117 i k0_t2 v2479 v2494), ∀ (k0_h1 : k0_cond1 i k0_t2 = 1#1), ∀ a x, ((![v2494, v2479] : Fin 2 → IVec S16 32) a x).toNat < S160x142.size a := fun i k0_t2 v2479 v2494 k0_hw1117 k0_h1 => k0_hw1117 k0_h1

def k0_chk1118 (i : grid0.Coords) (k0_t2 : Fin k0_t2_loop.trips) (v2479 : IVec S16 32) (v2497 : IVec S16 32) : Prop :=
  (∀ (k0_h1 : k0_cond1 i k0_t2 = 1#1), ∀ a x, ((![v2497, v2479] : Fin 2 → IVec S16 32) a x).toNat < S160x142.size a)
theorem k0_idx1858_inb : ∀ (i : grid0.Coords) (k0_t2 : Fin k0_t2_loop.trips) (v2479 : IVec S16 32) (v2497 : IVec S16 32) (k0_hw1118 : k0_chk1118 i k0_t2 v2479 v2497), ∀ (k0_h1 : k0_cond1 i k0_t2 = 1#1), ∀ a x, ((![v2497, v2479] : Fin 2 → IVec S16 32) a x).toNat < S160x142.size a := fun i k0_t2 v2479 v2497 k0_hw1118 k0_h1 => k0_hw1118 k0_h1

def k0_chk1119 (i : grid0.Coords) (k0_t2 : Fin k0_t2_loop.trips) (v2479 : IVec S16 32) (v2500 : IVec S16 32) : Prop :=
  (∀ (k0_h1 : k0_cond1 i k0_t2 = 1#1), ∀ a x, ((![v2500, v2479] : Fin 2 → IVec S16 32) a x).toNat < S160x142.size a)
theorem k0_idx1860_inb : ∀ (i : grid0.Coords) (k0_t2 : Fin k0_t2_loop.trips) (v2479 : IVec S16 32) (v2500 : IVec S16 32) (k0_hw1119 : k0_chk1119 i k0_t2 v2479 v2500), ∀ (k0_h1 : k0_cond1 i k0_t2 = 1#1), ∀ a x, ((![v2500, v2479] : Fin 2 → IVec S16 32) a x).toNat < S160x142.size a := fun i k0_t2 v2479 v2500 k0_hw1119 k0_h1 => k0_hw1119 k0_h1

def k0_chk1120 (i : grid0.Coords) (k0_t2 : Fin k0_t2_loop.trips) (v2479 : IVec S16 32) (v2503 : IVec S16 32) : Prop :=
  (∀ (k0_h1 : k0_cond1 i k0_t2 = 1#1), ∀ a x, ((![v2503, v2479] : Fin 2 → IVec S16 32) a x).toNat < S160x142.size a)
theorem k0_idx1862_inb : ∀ (i : grid0.Coords) (k0_t2 : Fin k0_t2_loop.trips) (v2479 : IVec S16 32) (v2503 : IVec S16 32) (k0_hw1120 : k0_chk1120 i k0_t2 v2479 v2503), ∀ (k0_h1 : k0_cond1 i k0_t2 = 1#1), ∀ a x, ((![v2503, v2479] : Fin 2 → IVec S16 32) a x).toNat < S160x142.size a := fun i k0_t2 v2479 v2503 k0_hw1120 k0_h1 => k0_hw1120 k0_h1

def k0_chk1121 (i : grid0.Coords) (k0_t2 : Fin k0_t2_loop.trips) (v2479 : IVec S16 32) (v2506 : IVec S16 32) : Prop :=
  (∀ (k0_h1 : k0_cond1 i k0_t2 = 1#1), ∀ a x, ((![v2506, v2479] : Fin 2 → IVec S16 32) a x).toNat < S160x142.size a)
theorem k0_idx1864_inb : ∀ (i : grid0.Coords) (k0_t2 : Fin k0_t2_loop.trips) (v2479 : IVec S16 32) (v2506 : IVec S16 32) (k0_hw1121 : k0_chk1121 i k0_t2 v2479 v2506), ∀ (k0_h1 : k0_cond1 i k0_t2 = 1#1), ∀ a x, ((![v2506, v2479] : Fin 2 → IVec S16 32) a x).toNat < S160x142.size a := fun i k0_t2 v2479 v2506 k0_hw1121 k0_h1 => k0_hw1121 k0_h1

def k0_chk1112 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) : Prop :=
  (∀ (k0_h1 : k0_cond1 i k0_t2 = 1#1), ∀ a x, ((![v15, v2479] : Fin 2 → IVec S16 32) a x).toNat < S256x142.size a) ∧
  (∀ (k0_h1 : k0_cond1 i k0_t2 = 1#1), ∀ a x, ((![v20, v2479] : Fin 2 → IVec S16 32) a x).toNat < S256x142.size a) ∧
  (∀ (k0_h1 : k0_cond1 i k0_t2 = 1#1), ∀ a x, ((![v25, v2479] : Fin 2 → IVec S16 32) a x).toNat < S256x142.size a) ∧
  (∀ (k0_h1 : k0_cond1 i k0_t2 = 1#1), ∀ a x, ((![v30, v2479] : Fin 2 → IVec S16 32) a x).toNat < S256x142.size a) ∧
  (∀ (k0_h1 : k0_cond1 i k0_t2 = 1#1), ∀ a x, ((![v35, v2479] : Fin 2 → IVec S16 32) a x).toNat < S256x142.size a) ∧
  (∀ (k0_h1 : k0_cond1 i k0_t2 = 1#1), ∀ a x, ((![v40, v2479] : Fin 2 → IVec S16 32) a x).toNat < S256x142.size a) ∧
  (∀ (k0_h1 : k0_cond1 i k0_t2 = 1#1), ∀ a x, ((![v45, v2479] : Fin 2 → IVec S16 32) a x).toNat < S256x142.size a) ∧
  (∀ (k0_h1 : k0_cond1 i k0_t2 = 1#1), ∀ a x, ((![v50, v2479] : Fin 2 → IVec S16 32) a x).toNat < S256x142.size a) ∧
  (∀ (k0_h1 : k0_cond1 i k0_t2 = 1#1), ∀ a x, ((![v55, v2479] : Fin 2 → IVec S16 32) a x).toNat < S256x142.size a) ∧
  (∀ (k0_h1 : k0_cond1 i k0_t2 = 1#1), ∀ a x, ((![v60, v2479] : Fin 2 → IVec S16 32) a x).toNat < S256x142.size a)
theorem k0_idx1847_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v15, v2479] : Fin 2 → IVec S16 32) a x).toNat < S256x142.size a := fun i k0_t2 v15 v20 v25 v30 v35 v40 v45 v50 v55 v60 v2479 k0_hw1112 k0_h1 => k0_hw1112.1 k0_h1
theorem k0_idx1849_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v20, v2479] : Fin 2 → IVec S16 32) a x).toNat < S256x142.size a := fun i k0_t2 v15 v20 v25 v30 v35 v40 v45 v50 v55 v60 v2479 k0_hw1112 k0_h1 => k0_hw1112.2.1 k0_h1
theorem k0_idx1851_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v25, v2479] : Fin 2 → IVec S16 32) a x).toNat < S256x142.size a := fun i k0_t2 v15 v20 v25 v30 v35 v40 v45 v50 v55 v60 v2479 k0_hw1112 k0_h1 => k0_hw1112.2.2.1 k0_h1
theorem k0_idx1853_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v30, v2479] : Fin 2 → IVec S16 32) a x).toNat < S256x142.size a := fun i k0_t2 v15 v20 v25 v30 v35 v40 v45 v50 v55 v60 v2479 k0_hw1112 k0_h1 => k0_hw1112.2.2.2.1 k0_h1
theorem k0_idx1855_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v35, v2479] : Fin 2 → IVec S16 32) a x).toNat < S256x142.size a := fun i k0_t2 v15 v20 v25 v30 v35 v40 v45 v50 v55 v60 v2479 k0_hw1112 k0_h1 => k0_hw1112.2.2.2.2.1 k0_h1
theorem k0_idx1857_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v40, v2479] : Fin 2 → IVec S16 32) a x).toNat < S256x142.size a := fun i k0_t2 v15 v20 v25 v30 v35 v40 v45 v50 v55 v60 v2479 k0_hw1112 k0_h1 => k0_hw1112.2.2.2.2.2.1 k0_h1
theorem k0_idx1859_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v45, v2479] : Fin 2 → IVec S16 32) a x).toNat < S256x142.size a := fun i k0_t2 v15 v20 v25 v30 v35 v40 v45 v50 v55 v60 v2479 k0_hw1112 k0_h1 => k0_hw1112.2.2.2.2.2.2.1 k0_h1
theorem k0_idx1861_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v50, v2479] : Fin 2 → IVec S16 32) a x).toNat < S256x142.size a := fun i k0_t2 v15 v20 v25 v30 v35 v40 v45 v50 v55 v60 v2479 k0_hw1112 k0_h1 => k0_hw1112.2.2.2.2.2.2.2.1 k0_h1
theorem k0_idx1863_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v55, v2479] : Fin 2 → IVec S16 32) a x).toNat < S256x142.size a := fun i k0_t2 v15 v20 v25 v30 v35 v40 v45 v50 v55 v60 v2479 k0_hw1112 k0_h1 => k0_hw1112.2.2.2.2.2.2.2.2.1 k0_h1
theorem k0_idx1865_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2479 : IVec S16 32) (k0_hw1112 : k0_chk1112 i k0_t2 v15 v20 v25 v30 v35 v40 v45 v50 v55 v60 v2479), ∀ (k0_h1 : k0_cond1 i k0_t2 = 1#1), ∀ a x, ((![v60, v2479] : Fin 2 → IVec S16 32) a x).toNat < S256x142.size a := fun i k0_t2 v15 v20 v25 v30 v35 v40 v45 v50 v55 v60 v2479 k0_hw1112 k0_h1 => k0_hw1112.2.2.2.2.2.2.2.2.2 k0_h1

def k0_chk1122 (i : grid0.Coords) (k0_t2 : Fin k0_t2_loop.trips) (v2479 : IVec S16 32) (v2509 : IVec S16 32) : Prop :=
  (∀ (k0_h1 : k0_cond1 i k0_t2 = 1#1), ∀ a x, ((![v2509, v2479] : Fin 2 → IVec S16 32) a x).toNat < S160x142.size a)
theorem k0_idx1866_inb : ∀ (i : grid0.Coords) (k0_t2 : Fin k0_t2_loop.trips) (v2479 : IVec S16 32) (v2509 : IVec S16 32) (k0_hw1122 : k0_chk1122 i k0_t2 v2479 v2509), ∀ (k0_h1 : k0_cond1 i k0_t2 = 1#1), ∀ a x, ((![v2509, v2479] : Fin 2 → IVec S16 32) a x).toNat < S160x142.size a := fun i k0_t2 v2479 v2509 k0_hw1122 k0_h1 => k0_hw1122 k0_h1

def k0_chk1124 (i : grid0.Coords) (k0_t2 : Fin k0_t2_loop.trips) (v2510 : IVec S16 32) (v2513 : IVec S16 32) : Prop :=
  (∀ (k0_h1 : k0_cond1 i k0_t2 = 1#1), ∀ a x, ((![v2513, v2510] : Fin 2 → IVec S16 32) a x).toNat < S160x142.size a)
theorem k0_idx1868_inb : ∀ (i : grid0.Coords) (k0_t2 : Fin k0_t2_loop.trips) (v2510 : IVec S16 32) (v2513 : IVec S16 32) (k0_hw1124 : k0_chk1124 i k0_t2 v2510 v2513), ∀ (k0_h1 : k0_cond1 i k0_t2 = 1#1), ∀ a x, ((![v2513, v2510] : Fin 2 → IVec S16 32) a x).toNat < S160x142.size a := fun i k0_t2 v2510 v2513 k0_hw1124 k0_h1 => k0_hw1124 k0_h1

def k0_chk1125 (i : grid0.Coords) (k0_t2 : Fin k0_t2_loop.trips) (v2510 : IVec S16 32) (v2516 : IVec S16 32) : Prop :=
  (∀ (k0_h1 : k0_cond1 i k0_t2 = 1#1), ∀ a x, ((![v2516, v2510] : Fin 2 → IVec S16 32) a x).toNat < S160x142.size a)
theorem k0_idx1870_inb : ∀ (i : grid0.Coords) (k0_t2 : Fin k0_t2_loop.trips) (v2510 : IVec S16 32) (v2516 : IVec S16 32) (k0_hw1125 : k0_chk1125 i k0_t2 v2510 v2516), ∀ (k0_h1 : k0_cond1 i k0_t2 = 1#1), ∀ a x, ((![v2516, v2510] : Fin 2 → IVec S16 32) a x).toNat < S160x142.size a := fun i k0_t2 v2510 v2516 k0_hw1125 k0_h1 => k0_hw1125 k0_h1

def k0_chk1126 (i : grid0.Coords) (k0_t2 : Fin k0_t2_loop.trips) (v2510 : IVec S16 32) (v2519 : IVec S16 32) : Prop :=
  (∀ (k0_h1 : k0_cond1 i k0_t2 = 1#1), ∀ a x, ((![v2519, v2510] : Fin 2 → IVec S16 32) a x).toNat < S160x142.size a)
theorem k0_idx1872_inb : ∀ (i : grid0.Coords) (k0_t2 : Fin k0_t2_loop.trips) (v2510 : IVec S16 32) (v2519 : IVec S16 32) (k0_hw1126 : k0_chk1126 i k0_t2 v2510 v2519), ∀ (k0_h1 : k0_cond1 i k0_t2 = 1#1), ∀ a x, ((![v2519, v2510] : Fin 2 → IVec S16 32) a x).toNat < S160x142.size a := fun i k0_t2 v2510 v2519 k0_hw1126 k0_h1 => k0_hw1126 k0_h1

def k0_chk1127 (i : grid0.Coords) (k0_t2 : Fin k0_t2_loop.trips) (v2510 : IVec S16 32) (v2522 : IVec S16 32) : Prop :=
  (∀ (k0_h1 : k0_cond1 i k0_t2 = 1#1), ∀ a x, ((![v2522, v2510] : Fin 2 → IVec S16 32) a x).toNat < S160x142.size a)
theorem k0_idx1874_inb : ∀ (i : grid0.Coords) (k0_t2 : Fin k0_t2_loop.trips) (v2510 : IVec S16 32) (v2522 : IVec S16 32) (k0_hw1127 : k0_chk1127 i k0_t2 v2510 v2522), ∀ (k0_h1 : k0_cond1 i k0_t2 = 1#1), ∀ a x, ((![v2522, v2510] : Fin 2 → IVec S16 32) a x).toNat < S160x142.size a := fun i k0_t2 v2510 v2522 k0_hw1127 k0_h1 => k0_hw1127 k0_h1

def k0_chk1128 (i : grid0.Coords) (k0_t2 : Fin k0_t2_loop.trips) (v2510 : IVec S16 32) (v2525 : IVec S16 32) : Prop :=
  (∀ (k0_h1 : k0_cond1 i k0_t2 = 1#1), ∀ a x, ((![v2525, v2510] : Fin 2 → IVec S16 32) a x).toNat < S160x142.size a)
theorem k0_idx1876_inb : ∀ (i : grid0.Coords) (k0_t2 : Fin k0_t2_loop.trips) (v2510 : IVec S16 32) (v2525 : IVec S16 32) (k0_hw1128 : k0_chk1128 i k0_t2 v2510 v2525), ∀ (k0_h1 : k0_cond1 i k0_t2 = 1#1), ∀ a x, ((![v2525, v2510] : Fin 2 → IVec S16 32) a x).toNat < S160x142.size a := fun i k0_t2 v2510 v2525 k0_hw1128 k0_h1 => k0_hw1128 k0_h1

def k0_chk1129 (i : grid0.Coords) (k0_t2 : Fin k0_t2_loop.trips) (v2510 : IVec S16 32) (v2528 : IVec S16 32) : Prop :=
  (∀ (k0_h1 : k0_cond1 i k0_t2 = 1#1), ∀ a x, ((![v2528, v2510] : Fin 2 → IVec S16 32) a x).toNat < S160x142.size a)
theorem k0_idx1878_inb : ∀ (i : grid0.Coords) (k0_t2 : Fin k0_t2_loop.trips) (v2510 : IVec S16 32) (v2528 : IVec S16 32) (k0_hw1129 : k0_chk1129 i k0_t2 v2510 v2528), ∀ (k0_h1 : k0_cond1 i k0_t2 = 1#1), ∀ a x, ((![v2528, v2510] : Fin 2 → IVec S16 32) a x).toNat < S160x142.size a := fun i k0_t2 v2510 v2528 k0_hw1129 k0_h1 => k0_hw1129 k0_h1

def k0_chk1130 (i : grid0.Coords) (k0_t2 : Fin k0_t2_loop.trips) (v2510 : IVec S16 32) (v2531 : IVec S16 32) : Prop :=
  (∀ (k0_h1 : k0_cond1 i k0_t2 = 1#1), ∀ a x, ((![v2531, v2510] : Fin 2 → IVec S16 32) a x).toNat < S160x142.size a)
theorem k0_idx1880_inb : ∀ (i : grid0.Coords) (k0_t2 : Fin k0_t2_loop.trips) (v2510 : IVec S16 32) (v2531 : IVec S16 32) (k0_hw1130 : k0_chk1130 i k0_t2 v2510 v2531), ∀ (k0_h1 : k0_cond1 i k0_t2 = 1#1), ∀ a x, ((![v2531, v2510] : Fin 2 → IVec S16 32) a x).toNat < S160x142.size a := fun i k0_t2 v2510 v2531 k0_hw1130 k0_h1 => k0_hw1130 k0_h1

def k0_chk1131 (i : grid0.Coords) (k0_t2 : Fin k0_t2_loop.trips) (v2510 : IVec S16 32) (v2534 : IVec S16 32) : Prop :=
  (∀ (k0_h1 : k0_cond1 i k0_t2 = 1#1), ∀ a x, ((![v2534, v2510] : Fin 2 → IVec S16 32) a x).toNat < S160x142.size a)
theorem k0_idx1882_inb : ∀ (i : grid0.Coords) (k0_t2 : Fin k0_t2_loop.trips) (v2510 : IVec S16 32) (v2534 : IVec S16 32) (k0_hw1131 : k0_chk1131 i k0_t2 v2510 v2534), ∀ (k0_h1 : k0_cond1 i k0_t2 = 1#1), ∀ a x, ((![v2534, v2510] : Fin 2 → IVec S16 32) a x).toNat < S160x142.size a := fun i k0_t2 v2510 v2534 k0_hw1131 k0_h1 => k0_hw1131 k0_h1

def k0_chk1132 (i : grid0.Coords) (k0_t2 : Fin k0_t2_loop.trips) (v2510 : IVec S16 32) (v2537 : IVec S16 32) : Prop :=
  (∀ (k0_h1 : k0_cond1 i k0_t2 = 1#1), ∀ a x, ((![v2537, v2510] : Fin 2 → IVec S16 32) a x).toNat < S160x142.size a)
theorem k0_idx1884_inb : ∀ (i : grid0.Coords) (k0_t2 : Fin k0_t2_loop.trips) (v2510 : IVec S16 32) (v2537 : IVec S16 32) (k0_hw1132 : k0_chk1132 i k0_t2 v2510 v2537), ∀ (k0_h1 : k0_cond1 i k0_t2 = 1#1), ∀ a x, ((![v2537, v2510] : Fin 2 → IVec S16 32) a x).toNat < S160x142.size a := fun i k0_t2 v2510 v2537 k0_hw1132 k0_h1 => k0_hw1132 k0_h1

def k0_chk1123 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) : Prop :=
  (∀ (k0_h1 : k0_cond1 i k0_t2 = 1#1), ∀ a x, ((![v15, v2510] : Fin 2 → IVec S16 32) a x).toNat < S256x142.size a) ∧
  (∀ (k0_h1 : k0_cond1 i k0_t2 = 1#1), ∀ a x, ((![v20, v2510] : Fin 2 → IVec S16 32) a x).toNat < S256x142.size a) ∧
  (∀ (k0_h1 : k0_cond1 i k0_t2 = 1#1), ∀ a x, ((![v25, v2510] : Fin 2 → IVec S16 32) a x).toNat < S256x142.size a) ∧
  (∀ (k0_h1 : k0_cond1 i k0_t2 = 1#1), ∀ a x, ((![v30, v2510] : Fin 2 → IVec S16 32) a x).toNat < S256x142.size a) ∧
  (∀ (k0_h1 : k0_cond1 i k0_t2 = 1#1), ∀ a x, ((![v35, v2510] : Fin 2 → IVec S16 32) a x).toNat < S256x142.size a) ∧
  (∀ (k0_h1 : k0_cond1 i k0_t2 = 1#1), ∀ a x, ((![v40, v2510] : Fin 2 → IVec S16 32) a x).toNat < S256x142.size a) ∧
  (∀ (k0_h1 : k0_cond1 i k0_t2 = 1#1), ∀ a x, ((![v45, v2510] : Fin 2 → IVec S16 32) a x).toNat < S256x142.size a) ∧
  (∀ (k0_h1 : k0_cond1 i k0_t2 = 1#1), ∀ a x, ((![v50, v2510] : Fin 2 → IVec S16 32) a x).toNat < S256x142.size a) ∧
  (∀ (k0_h1 : k0_cond1 i k0_t2 = 1#1), ∀ a x, ((![v55, v2510] : Fin 2 → IVec S16 32) a x).toNat < S256x142.size a) ∧
  (∀ (k0_h1 : k0_cond1 i k0_t2 = 1#1), ∀ a x, ((![v60, v2510] : Fin 2 → IVec S16 32) a x).toNat < S256x142.size a)
theorem k0_idx1867_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v15, v2510] : Fin 2 → IVec S16 32) a x).toNat < S256x142.size a := fun i k0_t2 v15 v20 v25 v30 v35 v40 v45 v50 v55 v60 v2510 k0_hw1123 k0_h1 => k0_hw1123.1 k0_h1
theorem k0_idx1869_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v20, v2510] : Fin 2 → IVec S16 32) a x).toNat < S256x142.size a := fun i k0_t2 v15 v20 v25 v30 v35 v40 v45 v50 v55 v60 v2510 k0_hw1123 k0_h1 => k0_hw1123.2.1 k0_h1
theorem k0_idx1871_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v25, v2510] : Fin 2 → IVec S16 32) a x).toNat < S256x142.size a := fun i k0_t2 v15 v20 v25 v30 v35 v40 v45 v50 v55 v60 v2510 k0_hw1123 k0_h1 => k0_hw1123.2.2.1 k0_h1
theorem k0_idx1873_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v30, v2510] : Fin 2 → IVec S16 32) a x).toNat < S256x142.size a := fun i k0_t2 v15 v20 v25 v30 v35 v40 v45 v50 v55 v60 v2510 k0_hw1123 k0_h1 => k0_hw1123.2.2.2.1 k0_h1
theorem k0_idx1875_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v35, v2510] : Fin 2 → IVec S16 32) a x).toNat < S256x142.size a := fun i k0_t2 v15 v20 v25 v30 v35 v40 v45 v50 v55 v60 v2510 k0_hw1123 k0_h1 => k0_hw1123.2.2.2.2.1 k0_h1
theorem k0_idx1877_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v40, v2510] : Fin 2 → IVec S16 32) a x).toNat < S256x142.size a := fun i k0_t2 v15 v20 v25 v30 v35 v40 v45 v50 v55 v60 v2510 k0_hw1123 k0_h1 => k0_hw1123.2.2.2.2.2.1 k0_h1
theorem k0_idx1879_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v45, v2510] : Fin 2 → IVec S16 32) a x).toNat < S256x142.size a := fun i k0_t2 v15 v20 v25 v30 v35 v40 v45 v50 v55 v60 v2510 k0_hw1123 k0_h1 => k0_hw1123.2.2.2.2.2.2.1 k0_h1
theorem k0_idx1881_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v50, v2510] : Fin 2 → IVec S16 32) a x).toNat < S256x142.size a := fun i k0_t2 v15 v20 v25 v30 v35 v40 v45 v50 v55 v60 v2510 k0_hw1123 k0_h1 => k0_hw1123.2.2.2.2.2.2.2.1 k0_h1
theorem k0_idx1883_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v55, v2510] : Fin 2 → IVec S16 32) a x).toNat < S256x142.size a := fun i k0_t2 v15 v20 v25 v30 v35 v40 v45 v50 v55 v60 v2510 k0_hw1123 k0_h1 => k0_hw1123.2.2.2.2.2.2.2.2.1 k0_h1
theorem k0_idx1885_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2510 : IVec S16 32) (k0_hw1123 : k0_chk1123 i k0_t2 v15 v20 v25 v30 v35 v40 v45 v50 v55 v60 v2510), ∀ (k0_h1 : k0_cond1 i k0_t2 = 1#1), ∀ a x, ((![v60, v2510] : Fin 2 → IVec S16 32) a x).toNat < S256x142.size a := fun i k0_t2 v15 v20 v25 v30 v35 v40 v45 v50 v55 v60 v2510 k0_hw1123 k0_h1 => k0_hw1123.2.2.2.2.2.2.2.2.2 k0_h1

def k0_chk1133 (i : grid0.Coords) (k0_t2 : Fin k0_t2_loop.trips) (v2510 : IVec S16 32) (v2540 : IVec S16 32) : Prop :=
  (∀ (k0_h1 : k0_cond1 i k0_t2 = 1#1), ∀ a x, ((![v2540, v2510] : Fin 2 → IVec S16 32) a x).toNat < S160x142.size a)
theorem k0_idx1886_inb : ∀ (i : grid0.Coords) (k0_t2 : Fin k0_t2_loop.trips) (v2510 : IVec S16 32) (v2540 : IVec S16 32) (k0_hw1133 : k0_chk1133 i k0_t2 v2510 v2540), ∀ (k0_h1 : k0_cond1 i k0_t2 = 1#1), ∀ a x, ((![v2540, v2510] : Fin 2 → IVec S16 32) a x).toNat < S160x142.size a := fun i k0_t2 v2510 v2540 k0_hw1133 k0_h1 => k0_hw1133 k0_h1

def k0_chk1135 (i : grid0.Coords) (k0_t2 : Fin k0_t2_loop.trips) (v2541 : IVec S16 32) (v2544 : IVec S16 32) : Prop :=
  (∀ (k0_h1 : k0_cond1 i k0_t2 = 1#1), ∀ a x, ((![v2544, v2541] : Fin 2 → IVec S16 32) a x).toNat < S160x142.size a)
theorem k0_idx1888_inb : ∀ (i : grid0.Coords) (k0_t2 : Fin k0_t2_loop.trips) (v2541 : IVec S16 32) (v2544 : IVec S16 32) (k0_hw1135 : k0_chk1135 i k0_t2 v2541 v2544), ∀ (k0_h1 : k0_cond1 i k0_t2 = 1#1), ∀ a x, ((![v2544, v2541] : Fin 2 → IVec S16 32) a x).toNat < S160x142.size a := fun i k0_t2 v2541 v2544 k0_hw1135 k0_h1 => k0_hw1135 k0_h1

def k0_chk1136 (i : grid0.Coords) (k0_t2 : Fin k0_t2_loop.trips) (v2541 : IVec S16 32) (v2547 : IVec S16 32) : Prop :=
  (∀ (k0_h1 : k0_cond1 i k0_t2 = 1#1), ∀ a x, ((![v2547, v2541] : Fin 2 → IVec S16 32) a x).toNat < S160x142.size a)
theorem k0_idx1890_inb : ∀ (i : grid0.Coords) (k0_t2 : Fin k0_t2_loop.trips) (v2541 : IVec S16 32) (v2547 : IVec S16 32) (k0_hw1136 : k0_chk1136 i k0_t2 v2541 v2547), ∀ (k0_h1 : k0_cond1 i k0_t2 = 1#1), ∀ a x, ((![v2547, v2541] : Fin 2 → IVec S16 32) a x).toNat < S160x142.size a := fun i k0_t2 v2541 v2547 k0_hw1136 k0_h1 => k0_hw1136 k0_h1

def k0_chk1137 (i : grid0.Coords) (k0_t2 : Fin k0_t2_loop.trips) (v2541 : IVec S16 32) (v2550 : IVec S16 32) : Prop :=
  (∀ (k0_h1 : k0_cond1 i k0_t2 = 1#1), ∀ a x, ((![v2550, v2541] : Fin 2 → IVec S16 32) a x).toNat < S160x142.size a)
theorem k0_idx1892_inb : ∀ (i : grid0.Coords) (k0_t2 : Fin k0_t2_loop.trips) (v2541 : IVec S16 32) (v2550 : IVec S16 32) (k0_hw1137 : k0_chk1137 i k0_t2 v2541 v2550), ∀ (k0_h1 : k0_cond1 i k0_t2 = 1#1), ∀ a x, ((![v2550, v2541] : Fin 2 → IVec S16 32) a x).toNat < S160x142.size a := fun i k0_t2 v2541 v2550 k0_hw1137 k0_h1 => k0_hw1137 k0_h1

def k0_chk1138 (i : grid0.Coords) (k0_t2 : Fin k0_t2_loop.trips) (v2541 : IVec S16 32) (v2553 : IVec S16 32) : Prop :=
  (∀ (k0_h1 : k0_cond1 i k0_t2 = 1#1), ∀ a x, ((![v2553, v2541] : Fin 2 → IVec S16 32) a x).toNat < S160x142.size a)
theorem k0_idx1894_inb : ∀ (i : grid0.Coords) (k0_t2 : Fin k0_t2_loop.trips) (v2541 : IVec S16 32) (v2553 : IVec S16 32) (k0_hw1138 : k0_chk1138 i k0_t2 v2541 v2553), ∀ (k0_h1 : k0_cond1 i k0_t2 = 1#1), ∀ a x, ((![v2553, v2541] : Fin 2 → IVec S16 32) a x).toNat < S160x142.size a := fun i k0_t2 v2541 v2553 k0_hw1138 k0_h1 => k0_hw1138 k0_h1

def k0_chk1139 (i : grid0.Coords) (k0_t2 : Fin k0_t2_loop.trips) (v2541 : IVec S16 32) (v2556 : IVec S16 32) : Prop :=
  (∀ (k0_h1 : k0_cond1 i k0_t2 = 1#1), ∀ a x, ((![v2556, v2541] : Fin 2 → IVec S16 32) a x).toNat < S160x142.size a)
theorem k0_idx1896_inb : ∀ (i : grid0.Coords) (k0_t2 : Fin k0_t2_loop.trips) (v2541 : IVec S16 32) (v2556 : IVec S16 32) (k0_hw1139 : k0_chk1139 i k0_t2 v2541 v2556), ∀ (k0_h1 : k0_cond1 i k0_t2 = 1#1), ∀ a x, ((![v2556, v2541] : Fin 2 → IVec S16 32) a x).toNat < S160x142.size a := fun i k0_t2 v2541 v2556 k0_hw1139 k0_h1 => k0_hw1139 k0_h1

def k0_chk1140 (i : grid0.Coords) (k0_t2 : Fin k0_t2_loop.trips) (v2541 : IVec S16 32) (v2559 : IVec S16 32) : Prop :=
  (∀ (k0_h1 : k0_cond1 i k0_t2 = 1#1), ∀ a x, ((![v2559, v2541] : Fin 2 → IVec S16 32) a x).toNat < S160x142.size a)
theorem k0_idx1898_inb : ∀ (i : grid0.Coords) (k0_t2 : Fin k0_t2_loop.trips) (v2541 : IVec S16 32) (v2559 : IVec S16 32) (k0_hw1140 : k0_chk1140 i k0_t2 v2541 v2559), ∀ (k0_h1 : k0_cond1 i k0_t2 = 1#1), ∀ a x, ((![v2559, v2541] : Fin 2 → IVec S16 32) a x).toNat < S160x142.size a := fun i k0_t2 v2541 v2559 k0_hw1140 k0_h1 => k0_hw1140 k0_h1

def k0_chk1141 (i : grid0.Coords) (k0_t2 : Fin k0_t2_loop.trips) (v2541 : IVec S16 32) (v2562 : IVec S16 32) : Prop :=
  (∀ (k0_h1 : k0_cond1 i k0_t2 = 1#1), ∀ a x, ((![v2562, v2541] : Fin 2 → IVec S16 32) a x).toNat < S160x142.size a)
theorem k0_idx1900_inb : ∀ (i : grid0.Coords) (k0_t2 : Fin k0_t2_loop.trips) (v2541 : IVec S16 32) (v2562 : IVec S16 32) (k0_hw1141 : k0_chk1141 i k0_t2 v2541 v2562), ∀ (k0_h1 : k0_cond1 i k0_t2 = 1#1), ∀ a x, ((![v2562, v2541] : Fin 2 → IVec S16 32) a x).toNat < S160x142.size a := fun i k0_t2 v2541 v2562 k0_hw1141 k0_h1 => k0_hw1141 k0_h1

def k0_chk1142 (i : grid0.Coords) (k0_t2 : Fin k0_t2_loop.trips) (v2541 : IVec S16 32) (v2565 : IVec S16 32) : Prop :=
  (∀ (k0_h1 : k0_cond1 i k0_t2 = 1#1), ∀ a x, ((![v2565, v2541] : Fin 2 → IVec S16 32) a x).toNat < S160x142.size a)
theorem k0_idx1902_inb : ∀ (i : grid0.Coords) (k0_t2 : Fin k0_t2_loop.trips) (v2541 : IVec S16 32) (v2565 : IVec S16 32) (k0_hw1142 : k0_chk1142 i k0_t2 v2541 v2565), ∀ (k0_h1 : k0_cond1 i k0_t2 = 1#1), ∀ a x, ((![v2565, v2541] : Fin 2 → IVec S16 32) a x).toNat < S160x142.size a := fun i k0_t2 v2541 v2565 k0_hw1142 k0_h1 => k0_hw1142 k0_h1

def k0_chk1143 (i : grid0.Coords) (k0_t2 : Fin k0_t2_loop.trips) (v2541 : IVec S16 32) (v2568 : IVec S16 32) : Prop :=
  (∀ (k0_h1 : k0_cond1 i k0_t2 = 1#1), ∀ a x, ((![v2568, v2541] : Fin 2 → IVec S16 32) a x).toNat < S160x142.size a)
theorem k0_idx1904_inb : ∀ (i : grid0.Coords) (k0_t2 : Fin k0_t2_loop.trips) (v2541 : IVec S16 32) (v2568 : IVec S16 32) (k0_hw1143 : k0_chk1143 i k0_t2 v2541 v2568), ∀ (k0_h1 : k0_cond1 i k0_t2 = 1#1), ∀ a x, ((![v2568, v2541] : Fin 2 → IVec S16 32) a x).toNat < S160x142.size a := fun i k0_t2 v2541 v2568 k0_hw1143 k0_h1 => k0_hw1143 k0_h1

def k0_chk1134 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) : Prop :=
  (∀ (k0_h1 : k0_cond1 i k0_t2 = 1#1), ∀ a x, ((![v15, v2541] : Fin 2 → IVec S16 32) a x).toNat < S256x142.size a) ∧
  (∀ (k0_h1 : k0_cond1 i k0_t2 = 1#1), ∀ a x, ((![v20, v2541] : Fin 2 → IVec S16 32) a x).toNat < S256x142.size a) ∧
  (∀ (k0_h1 : k0_cond1 i k0_t2 = 1#1), ∀ a x, ((![v25, v2541] : Fin 2 → IVec S16 32) a x).toNat < S256x142.size a) ∧
  (∀ (k0_h1 : k0_cond1 i k0_t2 = 1#1), ∀ a x, ((![v30, v2541] : Fin 2 → IVec S16 32) a x).toNat < S256x142.size a) ∧
  (∀ (k0_h1 : k0_cond1 i k0_t2 = 1#1), ∀ a x, ((![v35, v2541] : Fin 2 → IVec S16 32) a x).toNat < S256x142.size a) ∧
  (∀ (k0_h1 : k0_cond1 i k0_t2 = 1#1), ∀ a x, ((![v40, v2541] : Fin 2 → IVec S16 32) a x).toNat < S256x142.size a) ∧
  (∀ (k0_h1 : k0_cond1 i k0_t2 = 1#1), ∀ a x, ((![v45, v2541] : Fin 2 → IVec S16 32) a x).toNat < S256x142.size a) ∧
  (∀ (k0_h1 : k0_cond1 i k0_t2 = 1#1), ∀ a x, ((![v50, v2541] : Fin 2 → IVec S16 32) a x).toNat < S256x142.size a) ∧
  (∀ (k0_h1 : k0_cond1 i k0_t2 = 1#1), ∀ a x, ((![v55, v2541] : Fin 2 → IVec S16 32) a x).toNat < S256x142.size a) ∧
  (∀ (k0_h1 : k0_cond1 i k0_t2 = 1#1), ∀ a x, ((![v60, v2541] : Fin 2 → IVec S16 32) a x).toNat < S256x142.size a)
theorem k0_idx1887_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v15, v2541] : Fin 2 → IVec S16 32) a x).toNat < S256x142.size a := fun i k0_t2 v15 v20 v25 v30 v35 v40 v45 v50 v55 v60 v2541 k0_hw1134 k0_h1 => k0_hw1134.1 k0_h1
theorem k0_idx1889_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v20, v2541] : Fin 2 → IVec S16 32) a x).toNat < S256x142.size a := fun i k0_t2 v15 v20 v25 v30 v35 v40 v45 v50 v55 v60 v2541 k0_hw1134 k0_h1 => k0_hw1134.2.1 k0_h1
theorem k0_idx1891_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v25, v2541] : Fin 2 → IVec S16 32) a x).toNat < S256x142.size a := fun i k0_t2 v15 v20 v25 v30 v35 v40 v45 v50 v55 v60 v2541 k0_hw1134 k0_h1 => k0_hw1134.2.2.1 k0_h1
theorem k0_idx1893_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v30, v2541] : Fin 2 → IVec S16 32) a x).toNat < S256x142.size a := fun i k0_t2 v15 v20 v25 v30 v35 v40 v45 v50 v55 v60 v2541 k0_hw1134 k0_h1 => k0_hw1134.2.2.2.1 k0_h1
theorem k0_idx1895_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v35, v2541] : Fin 2 → IVec S16 32) a x).toNat < S256x142.size a := fun i k0_t2 v15 v20 v25 v30 v35 v40 v45 v50 v55 v60 v2541 k0_hw1134 k0_h1 => k0_hw1134.2.2.2.2.1 k0_h1
theorem k0_idx1897_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v40, v2541] : Fin 2 → IVec S16 32) a x).toNat < S256x142.size a := fun i k0_t2 v15 v20 v25 v30 v35 v40 v45 v50 v55 v60 v2541 k0_hw1134 k0_h1 => k0_hw1134.2.2.2.2.2.1 k0_h1
theorem k0_idx1899_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v45, v2541] : Fin 2 → IVec S16 32) a x).toNat < S256x142.size a := fun i k0_t2 v15 v20 v25 v30 v35 v40 v45 v50 v55 v60 v2541 k0_hw1134 k0_h1 => k0_hw1134.2.2.2.2.2.2.1 k0_h1
theorem k0_idx1901_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v50, v2541] : Fin 2 → IVec S16 32) a x).toNat < S256x142.size a := fun i k0_t2 v15 v20 v25 v30 v35 v40 v45 v50 v55 v60 v2541 k0_hw1134 k0_h1 => k0_hw1134.2.2.2.2.2.2.2.1 k0_h1
theorem k0_idx1903_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v55, v2541] : Fin 2 → IVec S16 32) a x).toNat < S256x142.size a := fun i k0_t2 v15 v20 v25 v30 v35 v40 v45 v50 v55 v60 v2541 k0_hw1134 k0_h1 => k0_hw1134.2.2.2.2.2.2.2.2.1 k0_h1
theorem k0_idx1905_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2541 : IVec S16 32) (k0_hw1134 : k0_chk1134 i k0_t2 v15 v20 v25 v30 v35 v40 v45 v50 v55 v60 v2541), ∀ (k0_h1 : k0_cond1 i k0_t2 = 1#1), ∀ a x, ((![v60, v2541] : Fin 2 → IVec S16 32) a x).toNat < S256x142.size a := fun i k0_t2 v15 v20 v25 v30 v35 v40 v45 v50 v55 v60 v2541 k0_hw1134 k0_h1 => k0_hw1134.2.2.2.2.2.2.2.2.2 k0_h1

def k0_chk1144 (i : grid0.Coords) (k0_t2 : Fin k0_t2_loop.trips) (v2541 : IVec S16 32) (v2571 : IVec S16 32) : Prop :=
  (∀ (k0_h1 : k0_cond1 i k0_t2 = 1#1), ∀ a x, ((![v2571, v2541] : Fin 2 → IVec S16 32) a x).toNat < S160x142.size a)
theorem k0_idx1906_inb : ∀ (i : grid0.Coords) (k0_t2 : Fin k0_t2_loop.trips) (v2541 : IVec S16 32) (v2571 : IVec S16 32) (k0_hw1144 : k0_chk1144 i k0_t2 v2541 v2571), ∀ (k0_h1 : k0_cond1 i k0_t2 = 1#1), ∀ a x, ((![v2571, v2541] : Fin 2 → IVec S16 32) a x).toNat < S160x142.size a := fun i k0_t2 v2541 v2571 k0_hw1144 k0_h1 => k0_hw1144 k0_h1

def k0_chk1146 (i : grid0.Coords) (k0_t2 : Fin k0_t2_loop.trips) (v2572 : IVec S16 32) (v2575 : IVec S16 32) : Prop :=
  (∀ (k0_h1 : k0_cond1 i k0_t2 = 1#1), ∀ a x, ((![v2575, v2572] : Fin 2 → IVec S16 32) a x).toNat < S160x142.size a)
theorem k0_idx1908_inb : ∀ (i : grid0.Coords) (k0_t2 : Fin k0_t2_loop.trips) (v2572 : IVec S16 32) (v2575 : IVec S16 32) (k0_hw1146 : k0_chk1146 i k0_t2 v2572 v2575), ∀ (k0_h1 : k0_cond1 i k0_t2 = 1#1), ∀ a x, ((![v2575, v2572] : Fin 2 → IVec S16 32) a x).toNat < S160x142.size a := fun i k0_t2 v2572 v2575 k0_hw1146 k0_h1 => k0_hw1146 k0_h1

def k0_chk1147 (i : grid0.Coords) (k0_t2 : Fin k0_t2_loop.trips) (v2572 : IVec S16 32) (v2578 : IVec S16 32) : Prop :=
  (∀ (k0_h1 : k0_cond1 i k0_t2 = 1#1), ∀ a x, ((![v2578, v2572] : Fin 2 → IVec S16 32) a x).toNat < S160x142.size a)
theorem k0_idx1910_inb : ∀ (i : grid0.Coords) (k0_t2 : Fin k0_t2_loop.trips) (v2572 : IVec S16 32) (v2578 : IVec S16 32) (k0_hw1147 : k0_chk1147 i k0_t2 v2572 v2578), ∀ (k0_h1 : k0_cond1 i k0_t2 = 1#1), ∀ a x, ((![v2578, v2572] : Fin 2 → IVec S16 32) a x).toNat < S160x142.size a := fun i k0_t2 v2572 v2578 k0_hw1147 k0_h1 => k0_hw1147 k0_h1

def k0_chk1148 (i : grid0.Coords) (k0_t2 : Fin k0_t2_loop.trips) (v2572 : IVec S16 32) (v2581 : IVec S16 32) : Prop :=
  (∀ (k0_h1 : k0_cond1 i k0_t2 = 1#1), ∀ a x, ((![v2581, v2572] : Fin 2 → IVec S16 32) a x).toNat < S160x142.size a)
theorem k0_idx1912_inb : ∀ (i : grid0.Coords) (k0_t2 : Fin k0_t2_loop.trips) (v2572 : IVec S16 32) (v2581 : IVec S16 32) (k0_hw1148 : k0_chk1148 i k0_t2 v2572 v2581), ∀ (k0_h1 : k0_cond1 i k0_t2 = 1#1), ∀ a x, ((![v2581, v2572] : Fin 2 → IVec S16 32) a x).toNat < S160x142.size a := fun i k0_t2 v2572 v2581 k0_hw1148 k0_h1 => k0_hw1148 k0_h1

def k0_chk1149 (i : grid0.Coords) (k0_t2 : Fin k0_t2_loop.trips) (v2572 : IVec S16 32) (v2584 : IVec S16 32) : Prop :=
  (∀ (k0_h1 : k0_cond1 i k0_t2 = 1#1), ∀ a x, ((![v2584, v2572] : Fin 2 → IVec S16 32) a x).toNat < S160x142.size a)
theorem k0_idx1914_inb : ∀ (i : grid0.Coords) (k0_t2 : Fin k0_t2_loop.trips) (v2572 : IVec S16 32) (v2584 : IVec S16 32) (k0_hw1149 : k0_chk1149 i k0_t2 v2572 v2584), ∀ (k0_h1 : k0_cond1 i k0_t2 = 1#1), ∀ a x, ((![v2584, v2572] : Fin 2 → IVec S16 32) a x).toNat < S160x142.size a := fun i k0_t2 v2572 v2584 k0_hw1149 k0_h1 => k0_hw1149 k0_h1

def k0_chk1150 (i : grid0.Coords) (k0_t2 : Fin k0_t2_loop.trips) (v2572 : IVec S16 32) (v2587 : IVec S16 32) : Prop :=
  (∀ (k0_h1 : k0_cond1 i k0_t2 = 1#1), ∀ a x, ((![v2587, v2572] : Fin 2 → IVec S16 32) a x).toNat < S160x142.size a)
theorem k0_idx1916_inb : ∀ (i : grid0.Coords) (k0_t2 : Fin k0_t2_loop.trips) (v2572 : IVec S16 32) (v2587 : IVec S16 32) (k0_hw1150 : k0_chk1150 i k0_t2 v2572 v2587), ∀ (k0_h1 : k0_cond1 i k0_t2 = 1#1), ∀ a x, ((![v2587, v2572] : Fin 2 → IVec S16 32) a x).toNat < S160x142.size a := fun i k0_t2 v2572 v2587 k0_hw1150 k0_h1 => k0_hw1150 k0_h1

def k0_chk1151 (i : grid0.Coords) (k0_t2 : Fin k0_t2_loop.trips) (v2572 : IVec S16 32) (v2590 : IVec S16 32) : Prop :=
  (∀ (k0_h1 : k0_cond1 i k0_t2 = 1#1), ∀ a x, ((![v2590, v2572] : Fin 2 → IVec S16 32) a x).toNat < S160x142.size a)
theorem k0_idx1918_inb : ∀ (i : grid0.Coords) (k0_t2 : Fin k0_t2_loop.trips) (v2572 : IVec S16 32) (v2590 : IVec S16 32) (k0_hw1151 : k0_chk1151 i k0_t2 v2572 v2590), ∀ (k0_h1 : k0_cond1 i k0_t2 = 1#1), ∀ a x, ((![v2590, v2572] : Fin 2 → IVec S16 32) a x).toNat < S160x142.size a := fun i k0_t2 v2572 v2590 k0_hw1151 k0_h1 => k0_hw1151 k0_h1

def k0_chk1152 (i : grid0.Coords) (k0_t2 : Fin k0_t2_loop.trips) (v2572 : IVec S16 32) (v2593 : IVec S16 32) : Prop :=
  (∀ (k0_h1 : k0_cond1 i k0_t2 = 1#1), ∀ a x, ((![v2593, v2572] : Fin 2 → IVec S16 32) a x).toNat < S160x142.size a)
theorem k0_idx1920_inb : ∀ (i : grid0.Coords) (k0_t2 : Fin k0_t2_loop.trips) (v2572 : IVec S16 32) (v2593 : IVec S16 32) (k0_hw1152 : k0_chk1152 i k0_t2 v2572 v2593), ∀ (k0_h1 : k0_cond1 i k0_t2 = 1#1), ∀ a x, ((![v2593, v2572] : Fin 2 → IVec S16 32) a x).toNat < S160x142.size a := fun i k0_t2 v2572 v2593 k0_hw1152 k0_h1 => k0_hw1152 k0_h1

def k0_chk1153 (i : grid0.Coords) (k0_t2 : Fin k0_t2_loop.trips) (v2572 : IVec S16 32) (v2596 : IVec S16 32) : Prop :=
  (∀ (k0_h1 : k0_cond1 i k0_t2 = 1#1), ∀ a x, ((![v2596, v2572] : Fin 2 → IVec S16 32) a x).toNat < S160x142.size a)
theorem k0_idx1922_inb : ∀ (i : grid0.Coords) (k0_t2 : Fin k0_t2_loop.trips) (v2572 : IVec S16 32) (v2596 : IVec S16 32) (k0_hw1153 : k0_chk1153 i k0_t2 v2572 v2596), ∀ (k0_h1 : k0_cond1 i k0_t2 = 1#1), ∀ a x, ((![v2596, v2572] : Fin 2 → IVec S16 32) a x).toNat < S160x142.size a := fun i k0_t2 v2572 v2596 k0_hw1153 k0_h1 => k0_hw1153 k0_h1

def k0_chk1154 (i : grid0.Coords) (k0_t2 : Fin k0_t2_loop.trips) (v2572 : IVec S16 32) (v2599 : IVec S16 32) : Prop :=
  (∀ (k0_h1 : k0_cond1 i k0_t2 = 1#1), ∀ a x, ((![v2599, v2572] : Fin 2 → IVec S16 32) a x).toNat < S160x142.size a)
theorem k0_idx1924_inb : ∀ (i : grid0.Coords) (k0_t2 : Fin k0_t2_loop.trips) (v2572 : IVec S16 32) (v2599 : IVec S16 32) (k0_hw1154 : k0_chk1154 i k0_t2 v2572 v2599), ∀ (k0_h1 : k0_cond1 i k0_t2 = 1#1), ∀ a x, ((![v2599, v2572] : Fin 2 → IVec S16 32) a x).toNat < S160x142.size a := fun i k0_t2 v2572 v2599 k0_hw1154 k0_h1 => k0_hw1154 k0_h1

def k0_chk1145 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) : Prop :=
  (∀ (k0_h1 : k0_cond1 i k0_t2 = 1#1), ∀ a x, ((![v15, v2572] : Fin 2 → IVec S16 32) a x).toNat < S256x142.size a) ∧
  (∀ (k0_h1 : k0_cond1 i k0_t2 = 1#1), ∀ a x, ((![v20, v2572] : Fin 2 → IVec S16 32) a x).toNat < S256x142.size a) ∧
  (∀ (k0_h1 : k0_cond1 i k0_t2 = 1#1), ∀ a x, ((![v25, v2572] : Fin 2 → IVec S16 32) a x).toNat < S256x142.size a) ∧
  (∀ (k0_h1 : k0_cond1 i k0_t2 = 1#1), ∀ a x, ((![v30, v2572] : Fin 2 → IVec S16 32) a x).toNat < S256x142.size a) ∧
  (∀ (k0_h1 : k0_cond1 i k0_t2 = 1#1), ∀ a x, ((![v35, v2572] : Fin 2 → IVec S16 32) a x).toNat < S256x142.size a) ∧
  (∀ (k0_h1 : k0_cond1 i k0_t2 = 1#1), ∀ a x, ((![v40, v2572] : Fin 2 → IVec S16 32) a x).toNat < S256x142.size a) ∧
  (∀ (k0_h1 : k0_cond1 i k0_t2 = 1#1), ∀ a x, ((![v45, v2572] : Fin 2 → IVec S16 32) a x).toNat < S256x142.size a) ∧
  (∀ (k0_h1 : k0_cond1 i k0_t2 = 1#1), ∀ a x, ((![v50, v2572] : Fin 2 → IVec S16 32) a x).toNat < S256x142.size a) ∧
  (∀ (k0_h1 : k0_cond1 i k0_t2 = 1#1), ∀ a x, ((![v55, v2572] : Fin 2 → IVec S16 32) a x).toNat < S256x142.size a) ∧
  (∀ (k0_h1 : k0_cond1 i k0_t2 = 1#1), ∀ a x, ((![v60, v2572] : Fin 2 → IVec S16 32) a x).toNat < S256x142.size a)
theorem k0_idx1907_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v15, v2572] : Fin 2 → IVec S16 32) a x).toNat < S256x142.size a := fun i k0_t2 v15 v20 v25 v30 v35 v40 v45 v50 v55 v60 v2572 k0_hw1145 k0_h1 => k0_hw1145.1 k0_h1
theorem k0_idx1909_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v20, v2572] : Fin 2 → IVec S16 32) a x).toNat < S256x142.size a := fun i k0_t2 v15 v20 v25 v30 v35 v40 v45 v50 v55 v60 v2572 k0_hw1145 k0_h1 => k0_hw1145.2.1 k0_h1
theorem k0_idx1911_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v25, v2572] : Fin 2 → IVec S16 32) a x).toNat < S256x142.size a := fun i k0_t2 v15 v20 v25 v30 v35 v40 v45 v50 v55 v60 v2572 k0_hw1145 k0_h1 => k0_hw1145.2.2.1 k0_h1
theorem k0_idx1913_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v30, v2572] : Fin 2 → IVec S16 32) a x).toNat < S256x142.size a := fun i k0_t2 v15 v20 v25 v30 v35 v40 v45 v50 v55 v60 v2572 k0_hw1145 k0_h1 => k0_hw1145.2.2.2.1 k0_h1
theorem k0_idx1915_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v35, v2572] : Fin 2 → IVec S16 32) a x).toNat < S256x142.size a := fun i k0_t2 v15 v20 v25 v30 v35 v40 v45 v50 v55 v60 v2572 k0_hw1145 k0_h1 => k0_hw1145.2.2.2.2.1 k0_h1
theorem k0_idx1917_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v40, v2572] : Fin 2 → IVec S16 32) a x).toNat < S256x142.size a := fun i k0_t2 v15 v20 v25 v30 v35 v40 v45 v50 v55 v60 v2572 k0_hw1145 k0_h1 => k0_hw1145.2.2.2.2.2.1 k0_h1
theorem k0_idx1919_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v45, v2572] : Fin 2 → IVec S16 32) a x).toNat < S256x142.size a := fun i k0_t2 v15 v20 v25 v30 v35 v40 v45 v50 v55 v60 v2572 k0_hw1145 k0_h1 => k0_hw1145.2.2.2.2.2.2.1 k0_h1
theorem k0_idx1921_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v50, v2572] : Fin 2 → IVec S16 32) a x).toNat < S256x142.size a := fun i k0_t2 v15 v20 v25 v30 v35 v40 v45 v50 v55 v60 v2572 k0_hw1145 k0_h1 => k0_hw1145.2.2.2.2.2.2.2.1 k0_h1
theorem k0_idx1923_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v55, v2572] : Fin 2 → IVec S16 32) a x).toNat < S256x142.size a := fun i k0_t2 v15 v20 v25 v30 v35 v40 v45 v50 v55 v60 v2572 k0_hw1145 k0_h1 => k0_hw1145.2.2.2.2.2.2.2.2.1 k0_h1
theorem k0_idx1925_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2572 : IVec S16 32) (k0_hw1145 : k0_chk1145 i k0_t2 v15 v20 v25 v30 v35 v40 v45 v50 v55 v60 v2572), ∀ (k0_h1 : k0_cond1 i k0_t2 = 1#1), ∀ a x, ((![v60, v2572] : Fin 2 → IVec S16 32) a x).toNat < S256x142.size a := fun i k0_t2 v15 v20 v25 v30 v35 v40 v45 v50 v55 v60 v2572 k0_hw1145 k0_h1 => k0_hw1145.2.2.2.2.2.2.2.2.2 k0_h1

def k0_chk1155 (i : grid0.Coords) (k0_t2 : Fin k0_t2_loop.trips) (v2572 : IVec S16 32) (v2602 : IVec S16 32) : Prop :=
  (∀ (k0_h1 : k0_cond1 i k0_t2 = 1#1), ∀ a x, ((![v2602, v2572] : Fin 2 → IVec S16 32) a x).toNat < S160x142.size a)
theorem k0_idx1926_inb : ∀ (i : grid0.Coords) (k0_t2 : Fin k0_t2_loop.trips) (v2572 : IVec S16 32) (v2602 : IVec S16 32) (k0_hw1155 : k0_chk1155 i k0_t2 v2572 v2602), ∀ (k0_h1 : k0_cond1 i k0_t2 = 1#1), ∀ a x, ((![v2602, v2572] : Fin 2 → IVec S16 32) a x).toNat < S160x142.size a := fun i k0_t2 v2572 v2602 k0_hw1155 k0_h1 => k0_hw1155 k0_h1

def k0_chk1157 (i : grid0.Coords) (k0_t2 : Fin k0_t2_loop.trips) (v2603 : IVec S16 32) (v2606 : IVec S16 32) : Prop :=
  (∀ (k0_h1 : k0_cond1 i k0_t2 = 1#1), ∀ a x, ((![v2606, v2603] : Fin 2 → IVec S16 32) a x).toNat < S160x142.size a)
theorem k0_idx1928_inb : ∀ (i : grid0.Coords) (k0_t2 : Fin k0_t2_loop.trips) (v2603 : IVec S16 32) (v2606 : IVec S16 32) (k0_hw1157 : k0_chk1157 i k0_t2 v2603 v2606), ∀ (k0_h1 : k0_cond1 i k0_t2 = 1#1), ∀ a x, ((![v2606, v2603] : Fin 2 → IVec S16 32) a x).toNat < S160x142.size a := fun i k0_t2 v2603 v2606 k0_hw1157 k0_h1 => k0_hw1157 k0_h1

def k0_chk1158 (i : grid0.Coords) (k0_t2 : Fin k0_t2_loop.trips) (v2603 : IVec S16 32) (v2609 : IVec S16 32) : Prop :=
  (∀ (k0_h1 : k0_cond1 i k0_t2 = 1#1), ∀ a x, ((![v2609, v2603] : Fin 2 → IVec S16 32) a x).toNat < S160x142.size a)
theorem k0_idx1930_inb : ∀ (i : grid0.Coords) (k0_t2 : Fin k0_t2_loop.trips) (v2603 : IVec S16 32) (v2609 : IVec S16 32) (k0_hw1158 : k0_chk1158 i k0_t2 v2603 v2609), ∀ (k0_h1 : k0_cond1 i k0_t2 = 1#1), ∀ a x, ((![v2609, v2603] : Fin 2 → IVec S16 32) a x).toNat < S160x142.size a := fun i k0_t2 v2603 v2609 k0_hw1158 k0_h1 => k0_hw1158 k0_h1

def k0_chk1159 (i : grid0.Coords) (k0_t2 : Fin k0_t2_loop.trips) (v2603 : IVec S16 32) (v2612 : IVec S16 32) : Prop :=
  (∀ (k0_h1 : k0_cond1 i k0_t2 = 1#1), ∀ a x, ((![v2612, v2603] : Fin 2 → IVec S16 32) a x).toNat < S160x142.size a)
theorem k0_idx1932_inb : ∀ (i : grid0.Coords) (k0_t2 : Fin k0_t2_loop.trips) (v2603 : IVec S16 32) (v2612 : IVec S16 32) (k0_hw1159 : k0_chk1159 i k0_t2 v2603 v2612), ∀ (k0_h1 : k0_cond1 i k0_t2 = 1#1), ∀ a x, ((![v2612, v2603] : Fin 2 → IVec S16 32) a x).toNat < S160x142.size a := fun i k0_t2 v2603 v2612 k0_hw1159 k0_h1 => k0_hw1159 k0_h1

def k0_chk1160 (i : grid0.Coords) (k0_t2 : Fin k0_t2_loop.trips) (v2603 : IVec S16 32) (v2615 : IVec S16 32) : Prop :=
  (∀ (k0_h1 : k0_cond1 i k0_t2 = 1#1), ∀ a x, ((![v2615, v2603] : Fin 2 → IVec S16 32) a x).toNat < S160x142.size a)
theorem k0_idx1934_inb : ∀ (i : grid0.Coords) (k0_t2 : Fin k0_t2_loop.trips) (v2603 : IVec S16 32) (v2615 : IVec S16 32) (k0_hw1160 : k0_chk1160 i k0_t2 v2603 v2615), ∀ (k0_h1 : k0_cond1 i k0_t2 = 1#1), ∀ a x, ((![v2615, v2603] : Fin 2 → IVec S16 32) a x).toNat < S160x142.size a := fun i k0_t2 v2603 v2615 k0_hw1160 k0_h1 => k0_hw1160 k0_h1

def k0_chk1161 (i : grid0.Coords) (k0_t2 : Fin k0_t2_loop.trips) (v2603 : IVec S16 32) (v2618 : IVec S16 32) : Prop :=
  (∀ (k0_h1 : k0_cond1 i k0_t2 = 1#1), ∀ a x, ((![v2618, v2603] : Fin 2 → IVec S16 32) a x).toNat < S160x142.size a)
theorem k0_idx1936_inb : ∀ (i : grid0.Coords) (k0_t2 : Fin k0_t2_loop.trips) (v2603 : IVec S16 32) (v2618 : IVec S16 32) (k0_hw1161 : k0_chk1161 i k0_t2 v2603 v2618), ∀ (k0_h1 : k0_cond1 i k0_t2 = 1#1), ∀ a x, ((![v2618, v2603] : Fin 2 → IVec S16 32) a x).toNat < S160x142.size a := fun i k0_t2 v2603 v2618 k0_hw1161 k0_h1 => k0_hw1161 k0_h1

def k0_chk1162 (i : grid0.Coords) (k0_t2 : Fin k0_t2_loop.trips) (v2603 : IVec S16 32) (v2621 : IVec S16 32) : Prop :=
  (∀ (k0_h1 : k0_cond1 i k0_t2 = 1#1), ∀ a x, ((![v2621, v2603] : Fin 2 → IVec S16 32) a x).toNat < S160x142.size a)
theorem k0_idx1938_inb : ∀ (i : grid0.Coords) (k0_t2 : Fin k0_t2_loop.trips) (v2603 : IVec S16 32) (v2621 : IVec S16 32) (k0_hw1162 : k0_chk1162 i k0_t2 v2603 v2621), ∀ (k0_h1 : k0_cond1 i k0_t2 = 1#1), ∀ a x, ((![v2621, v2603] : Fin 2 → IVec S16 32) a x).toNat < S160x142.size a := fun i k0_t2 v2603 v2621 k0_hw1162 k0_h1 => k0_hw1162 k0_h1

def k0_chk1163 (i : grid0.Coords) (k0_t2 : Fin k0_t2_loop.trips) (v2603 : IVec S16 32) (v2624 : IVec S16 32) : Prop :=
  (∀ (k0_h1 : k0_cond1 i k0_t2 = 1#1), ∀ a x, ((![v2624, v2603] : Fin 2 → IVec S16 32) a x).toNat < S160x142.size a)
theorem k0_idx1940_inb : ∀ (i : grid0.Coords) (k0_t2 : Fin k0_t2_loop.trips) (v2603 : IVec S16 32) (v2624 : IVec S16 32) (k0_hw1163 : k0_chk1163 i k0_t2 v2603 v2624), ∀ (k0_h1 : k0_cond1 i k0_t2 = 1#1), ∀ a x, ((![v2624, v2603] : Fin 2 → IVec S16 32) a x).toNat < S160x142.size a := fun i k0_t2 v2603 v2624 k0_hw1163 k0_h1 => k0_hw1163 k0_h1

def k0_chk1164 (i : grid0.Coords) (k0_t2 : Fin k0_t2_loop.trips) (v2603 : IVec S16 32) (v2627 : IVec S16 32) : Prop :=
  (∀ (k0_h1 : k0_cond1 i k0_t2 = 1#1), ∀ a x, ((![v2627, v2603] : Fin 2 → IVec S16 32) a x).toNat < S160x142.size a)
theorem k0_idx1942_inb : ∀ (i : grid0.Coords) (k0_t2 : Fin k0_t2_loop.trips) (v2603 : IVec S16 32) (v2627 : IVec S16 32) (k0_hw1164 : k0_chk1164 i k0_t2 v2603 v2627), ∀ (k0_h1 : k0_cond1 i k0_t2 = 1#1), ∀ a x, ((![v2627, v2603] : Fin 2 → IVec S16 32) a x).toNat < S160x142.size a := fun i k0_t2 v2603 v2627 k0_hw1164 k0_h1 => k0_hw1164 k0_h1

def k0_chk1165 (i : grid0.Coords) (k0_t2 : Fin k0_t2_loop.trips) (v2603 : IVec S16 32) (v2630 : IVec S16 32) : Prop :=
  (∀ (k0_h1 : k0_cond1 i k0_t2 = 1#1), ∀ a x, ((![v2630, v2603] : Fin 2 → IVec S16 32) a x).toNat < S160x142.size a)
theorem k0_idx1944_inb : ∀ (i : grid0.Coords) (k0_t2 : Fin k0_t2_loop.trips) (v2603 : IVec S16 32) (v2630 : IVec S16 32) (k0_hw1165 : k0_chk1165 i k0_t2 v2603 v2630), ∀ (k0_h1 : k0_cond1 i k0_t2 = 1#1), ∀ a x, ((![v2630, v2603] : Fin 2 → IVec S16 32) a x).toNat < S160x142.size a := fun i k0_t2 v2603 v2630 k0_hw1165 k0_h1 => k0_hw1165 k0_h1

def k0_chk1156 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) : Prop :=
  (∀ (k0_h1 : k0_cond1 i k0_t2 = 1#1), ∀ a x, ((![v15, v2603] : Fin 2 → IVec S16 32) a x).toNat < S256x142.size a) ∧
  (∀ (k0_h1 : k0_cond1 i k0_t2 = 1#1), ∀ a x, ((![v20, v2603] : Fin 2 → IVec S16 32) a x).toNat < S256x142.size a) ∧
  (∀ (k0_h1 : k0_cond1 i k0_t2 = 1#1), ∀ a x, ((![v25, v2603] : Fin 2 → IVec S16 32) a x).toNat < S256x142.size a) ∧
  (∀ (k0_h1 : k0_cond1 i k0_t2 = 1#1), ∀ a x, ((![v30, v2603] : Fin 2 → IVec S16 32) a x).toNat < S256x142.size a) ∧
  (∀ (k0_h1 : k0_cond1 i k0_t2 = 1#1), ∀ a x, ((![v35, v2603] : Fin 2 → IVec S16 32) a x).toNat < S256x142.size a) ∧
  (∀ (k0_h1 : k0_cond1 i k0_t2 = 1#1), ∀ a x, ((![v40, v2603] : Fin 2 → IVec S16 32) a x).toNat < S256x142.size a) ∧
  (∀ (k0_h1 : k0_cond1 i k0_t2 = 1#1), ∀ a x, ((![v45, v2603] : Fin 2 → IVec S16 32) a x).toNat < S256x142.size a) ∧
  (∀ (k0_h1 : k0_cond1 i k0_t2 = 1#1), ∀ a x, ((![v50, v2603] : Fin 2 → IVec S16 32) a x).toNat < S256x142.size a) ∧
  (∀ (k0_h1 : k0_cond1 i k0_t2 = 1#1), ∀ a x, ((![v55, v2603] : Fin 2 → IVec S16 32) a x).toNat < S256x142.size a) ∧
  (∀ (k0_h1 : k0_cond1 i k0_t2 = 1#1), ∀ a x, ((![v60, v2603] : Fin 2 → IVec S16 32) a x).toNat < S256x142.size a)
theorem k0_idx1927_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v15, v2603] : Fin 2 → IVec S16 32) a x).toNat < S256x142.size a := fun i k0_t2 v15 v20 v25 v30 v35 v40 v45 v50 v55 v60 v2603 k0_hw1156 k0_h1 => k0_hw1156.1 k0_h1
theorem k0_idx1929_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v20, v2603] : Fin 2 → IVec S16 32) a x).toNat < S256x142.size a := fun i k0_t2 v15 v20 v25 v30 v35 v40 v45 v50 v55 v60 v2603 k0_hw1156 k0_h1 => k0_hw1156.2.1 k0_h1
theorem k0_idx1931_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v25, v2603] : Fin 2 → IVec S16 32) a x).toNat < S256x142.size a := fun i k0_t2 v15 v20 v25 v30 v35 v40 v45 v50 v55 v60 v2603 k0_hw1156 k0_h1 => k0_hw1156.2.2.1 k0_h1
theorem k0_idx1933_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v30, v2603] : Fin 2 → IVec S16 32) a x).toNat < S256x142.size a := fun i k0_t2 v15 v20 v25 v30 v35 v40 v45 v50 v55 v60 v2603 k0_hw1156 k0_h1 => k0_hw1156.2.2.2.1 k0_h1
theorem k0_idx1935_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v35, v2603] : Fin 2 → IVec S16 32) a x).toNat < S256x142.size a := fun i k0_t2 v15 v20 v25 v30 v35 v40 v45 v50 v55 v60 v2603 k0_hw1156 k0_h1 => k0_hw1156.2.2.2.2.1 k0_h1
theorem k0_idx1937_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v40, v2603] : Fin 2 → IVec S16 32) a x).toNat < S256x142.size a := fun i k0_t2 v15 v20 v25 v30 v35 v40 v45 v50 v55 v60 v2603 k0_hw1156 k0_h1 => k0_hw1156.2.2.2.2.2.1 k0_h1
theorem k0_idx1939_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v45, v2603] : Fin 2 → IVec S16 32) a x).toNat < S256x142.size a := fun i k0_t2 v15 v20 v25 v30 v35 v40 v45 v50 v55 v60 v2603 k0_hw1156 k0_h1 => k0_hw1156.2.2.2.2.2.2.1 k0_h1
theorem k0_idx1941_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v50, v2603] : Fin 2 → IVec S16 32) a x).toNat < S256x142.size a := fun i k0_t2 v15 v20 v25 v30 v35 v40 v45 v50 v55 v60 v2603 k0_hw1156 k0_h1 => k0_hw1156.2.2.2.2.2.2.2.1 k0_h1
theorem k0_idx1943_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v55, v2603] : Fin 2 → IVec S16 32) a x).toNat < S256x142.size a := fun i k0_t2 v15 v20 v25 v30 v35 v40 v45 v50 v55 v60 v2603 k0_hw1156 k0_h1 => k0_hw1156.2.2.2.2.2.2.2.2.1 k0_h1
theorem k0_idx1945_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2603 : IVec S16 32) (k0_hw1156 : k0_chk1156 i k0_t2 v15 v20 v25 v30 v35 v40 v45 v50 v55 v60 v2603), ∀ (k0_h1 : k0_cond1 i k0_t2 = 1#1), ∀ a x, ((![v60, v2603] : Fin 2 → IVec S16 32) a x).toNat < S256x142.size a := fun i k0_t2 v15 v20 v25 v30 v35 v40 v45 v50 v55 v60 v2603 k0_hw1156 k0_h1 => k0_hw1156.2.2.2.2.2.2.2.2.2 k0_h1

def k0_chk1166 (i : grid0.Coords) (k0_t2 : Fin k0_t2_loop.trips) (v2603 : IVec S16 32) (v2633 : IVec S16 32) : Prop :=
  (∀ (k0_h1 : k0_cond1 i k0_t2 = 1#1), ∀ a x, ((![v2633, v2603] : Fin 2 → IVec S16 32) a x).toNat < S160x142.size a)
theorem k0_idx1946_inb : ∀ (i : grid0.Coords) (k0_t2 : Fin k0_t2_loop.trips) (v2603 : IVec S16 32) (v2633 : IVec S16 32) (k0_hw1166 : k0_chk1166 i k0_t2 v2603 v2633), ∀ (k0_h1 : k0_cond1 i k0_t2 = 1#1), ∀ a x, ((![v2633, v2603] : Fin 2 → IVec S16 32) a x).toNat < S160x142.size a := fun i k0_t2 v2603 v2633 k0_hw1166 k0_h1 => k0_hw1166 k0_h1

def k0_chk1168 (i : grid0.Coords) (k0_t2 : Fin k0_t2_loop.trips) (v2634 : IVec S16 32) (v2637 : IVec S16 32) : Prop :=
  (∀ (k0_h1 : k0_cond1 i k0_t2 = 1#1), ∀ a x, ((![v2637, v2634] : Fin 2 → IVec S16 32) a x).toNat < S160x142.size a)
theorem k0_idx1948_inb : ∀ (i : grid0.Coords) (k0_t2 : Fin k0_t2_loop.trips) (v2634 : IVec S16 32) (v2637 : IVec S16 32) (k0_hw1168 : k0_chk1168 i k0_t2 v2634 v2637), ∀ (k0_h1 : k0_cond1 i k0_t2 = 1#1), ∀ a x, ((![v2637, v2634] : Fin 2 → IVec S16 32) a x).toNat < S160x142.size a := fun i k0_t2 v2634 v2637 k0_hw1168 k0_h1 => k0_hw1168 k0_h1

def k0_chk1169 (i : grid0.Coords) (k0_t2 : Fin k0_t2_loop.trips) (v2634 : IVec S16 32) (v2640 : IVec S16 32) : Prop :=
  (∀ (k0_h1 : k0_cond1 i k0_t2 = 1#1), ∀ a x, ((![v2640, v2634] : Fin 2 → IVec S16 32) a x).toNat < S160x142.size a)
theorem k0_idx1950_inb : ∀ (i : grid0.Coords) (k0_t2 : Fin k0_t2_loop.trips) (v2634 : IVec S16 32) (v2640 : IVec S16 32) (k0_hw1169 : k0_chk1169 i k0_t2 v2634 v2640), ∀ (k0_h1 : k0_cond1 i k0_t2 = 1#1), ∀ a x, ((![v2640, v2634] : Fin 2 → IVec S16 32) a x).toNat < S160x142.size a := fun i k0_t2 v2634 v2640 k0_hw1169 k0_h1 => k0_hw1169 k0_h1

def k0_chk1170 (i : grid0.Coords) (k0_t2 : Fin k0_t2_loop.trips) (v2634 : IVec S16 32) (v2643 : IVec S16 32) : Prop :=
  (∀ (k0_h1 : k0_cond1 i k0_t2 = 1#1), ∀ a x, ((![v2643, v2634] : Fin 2 → IVec S16 32) a x).toNat < S160x142.size a)
theorem k0_idx1952_inb : ∀ (i : grid0.Coords) (k0_t2 : Fin k0_t2_loop.trips) (v2634 : IVec S16 32) (v2643 : IVec S16 32) (k0_hw1170 : k0_chk1170 i k0_t2 v2634 v2643), ∀ (k0_h1 : k0_cond1 i k0_t2 = 1#1), ∀ a x, ((![v2643, v2634] : Fin 2 → IVec S16 32) a x).toNat < S160x142.size a := fun i k0_t2 v2634 v2643 k0_hw1170 k0_h1 => k0_hw1170 k0_h1

def k0_chk1171 (i : grid0.Coords) (k0_t2 : Fin k0_t2_loop.trips) (v2634 : IVec S16 32) (v2646 : IVec S16 32) : Prop :=
  (∀ (k0_h1 : k0_cond1 i k0_t2 = 1#1), ∀ a x, ((![v2646, v2634] : Fin 2 → IVec S16 32) a x).toNat < S160x142.size a)
theorem k0_idx1954_inb : ∀ (i : grid0.Coords) (k0_t2 : Fin k0_t2_loop.trips) (v2634 : IVec S16 32) (v2646 : IVec S16 32) (k0_hw1171 : k0_chk1171 i k0_t2 v2634 v2646), ∀ (k0_h1 : k0_cond1 i k0_t2 = 1#1), ∀ a x, ((![v2646, v2634] : Fin 2 → IVec S16 32) a x).toNat < S160x142.size a := fun i k0_t2 v2634 v2646 k0_hw1171 k0_h1 => k0_hw1171 k0_h1

def k0_chk1172 (i : grid0.Coords) (k0_t2 : Fin k0_t2_loop.trips) (v2634 : IVec S16 32) (v2649 : IVec S16 32) : Prop :=
  (∀ (k0_h1 : k0_cond1 i k0_t2 = 1#1), ∀ a x, ((![v2649, v2634] : Fin 2 → IVec S16 32) a x).toNat < S160x142.size a)
theorem k0_idx1956_inb : ∀ (i : grid0.Coords) (k0_t2 : Fin k0_t2_loop.trips) (v2634 : IVec S16 32) (v2649 : IVec S16 32) (k0_hw1172 : k0_chk1172 i k0_t2 v2634 v2649), ∀ (k0_h1 : k0_cond1 i k0_t2 = 1#1), ∀ a x, ((![v2649, v2634] : Fin 2 → IVec S16 32) a x).toNat < S160x142.size a := fun i k0_t2 v2634 v2649 k0_hw1172 k0_h1 => k0_hw1172 k0_h1

def k0_chk1173 (i : grid0.Coords) (k0_t2 : Fin k0_t2_loop.trips) (v2634 : IVec S16 32) (v2652 : IVec S16 32) : Prop :=
  (∀ (k0_h1 : k0_cond1 i k0_t2 = 1#1), ∀ a x, ((![v2652, v2634] : Fin 2 → IVec S16 32) a x).toNat < S160x142.size a)
theorem k0_idx1958_inb : ∀ (i : grid0.Coords) (k0_t2 : Fin k0_t2_loop.trips) (v2634 : IVec S16 32) (v2652 : IVec S16 32) (k0_hw1173 : k0_chk1173 i k0_t2 v2634 v2652), ∀ (k0_h1 : k0_cond1 i k0_t2 = 1#1), ∀ a x, ((![v2652, v2634] : Fin 2 → IVec S16 32) a x).toNat < S160x142.size a := fun i k0_t2 v2634 v2652 k0_hw1173 k0_h1 => k0_hw1173 k0_h1

def k0_chk1174 (i : grid0.Coords) (k0_t2 : Fin k0_t2_loop.trips) (v2634 : IVec S16 32) (v2655 : IVec S16 32) : Prop :=
  (∀ (k0_h1 : k0_cond1 i k0_t2 = 1#1), ∀ a x, ((![v2655, v2634] : Fin 2 → IVec S16 32) a x).toNat < S160x142.size a)
theorem k0_idx1960_inb : ∀ (i : grid0.Coords) (k0_t2 : Fin k0_t2_loop.trips) (v2634 : IVec S16 32) (v2655 : IVec S16 32) (k0_hw1174 : k0_chk1174 i k0_t2 v2634 v2655), ∀ (k0_h1 : k0_cond1 i k0_t2 = 1#1), ∀ a x, ((![v2655, v2634] : Fin 2 → IVec S16 32) a x).toNat < S160x142.size a := fun i k0_t2 v2634 v2655 k0_hw1174 k0_h1 => k0_hw1174 k0_h1

def k0_chk1175 (i : grid0.Coords) (k0_t2 : Fin k0_t2_loop.trips) (v2634 : IVec S16 32) (v2658 : IVec S16 32) : Prop :=
  (∀ (k0_h1 : k0_cond1 i k0_t2 = 1#1), ∀ a x, ((![v2658, v2634] : Fin 2 → IVec S16 32) a x).toNat < S160x142.size a)
theorem k0_idx1962_inb : ∀ (i : grid0.Coords) (k0_t2 : Fin k0_t2_loop.trips) (v2634 : IVec S16 32) (v2658 : IVec S16 32) (k0_hw1175 : k0_chk1175 i k0_t2 v2634 v2658), ∀ (k0_h1 : k0_cond1 i k0_t2 = 1#1), ∀ a x, ((![v2658, v2634] : Fin 2 → IVec S16 32) a x).toNat < S160x142.size a := fun i k0_t2 v2634 v2658 k0_hw1175 k0_h1 => k0_hw1175 k0_h1

def k0_chk1176 (i : grid0.Coords) (k0_t2 : Fin k0_t2_loop.trips) (v2634 : IVec S16 32) (v2661 : IVec S16 32) : Prop :=
  (∀ (k0_h1 : k0_cond1 i k0_t2 = 1#1), ∀ a x, ((![v2661, v2634] : Fin 2 → IVec S16 32) a x).toNat < S160x142.size a)
theorem k0_idx1964_inb : ∀ (i : grid0.Coords) (k0_t2 : Fin k0_t2_loop.trips) (v2634 : IVec S16 32) (v2661 : IVec S16 32) (k0_hw1176 : k0_chk1176 i k0_t2 v2634 v2661), ∀ (k0_h1 : k0_cond1 i k0_t2 = 1#1), ∀ a x, ((![v2661, v2634] : Fin 2 → IVec S16 32) a x).toNat < S160x142.size a := fun i k0_t2 v2634 v2661 k0_hw1176 k0_h1 => k0_hw1176 k0_h1

def k0_chk1167 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) : Prop :=
  (∀ (k0_h1 : k0_cond1 i k0_t2 = 1#1), ∀ a x, ((![v15, v2634] : Fin 2 → IVec S16 32) a x).toNat < S256x142.size a) ∧
  (∀ (k0_h1 : k0_cond1 i k0_t2 = 1#1), ∀ a x, ((![v20, v2634] : Fin 2 → IVec S16 32) a x).toNat < S256x142.size a) ∧
  (∀ (k0_h1 : k0_cond1 i k0_t2 = 1#1), ∀ a x, ((![v25, v2634] : Fin 2 → IVec S16 32) a x).toNat < S256x142.size a) ∧
  (∀ (k0_h1 : k0_cond1 i k0_t2 = 1#1), ∀ a x, ((![v30, v2634] : Fin 2 → IVec S16 32) a x).toNat < S256x142.size a) ∧
  (∀ (k0_h1 : k0_cond1 i k0_t2 = 1#1), ∀ a x, ((![v35, v2634] : Fin 2 → IVec S16 32) a x).toNat < S256x142.size a) ∧
  (∀ (k0_h1 : k0_cond1 i k0_t2 = 1#1), ∀ a x, ((![v40, v2634] : Fin 2 → IVec S16 32) a x).toNat < S256x142.size a) ∧
  (∀ (k0_h1 : k0_cond1 i k0_t2 = 1#1), ∀ a x, ((![v45, v2634] : Fin 2 → IVec S16 32) a x).toNat < S256x142.size a) ∧
  (∀ (k0_h1 : k0_cond1 i k0_t2 = 1#1), ∀ a x, ((![v50, v2634] : Fin 2 → IVec S16 32) a x).toNat < S256x142.size a) ∧
  (∀ (k0_h1 : k0_cond1 i k0_t2 = 1#1), ∀ a x, ((![v55, v2634] : Fin 2 → IVec S16 32) a x).toNat < S256x142.size a) ∧
  (∀ (k0_h1 : k0_cond1 i k0_t2 = 1#1), ∀ a x, ((![v60, v2634] : Fin 2 → IVec S16 32) a x).toNat < S256x142.size a)
theorem k0_idx1947_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v15, v2634] : Fin 2 → IVec S16 32) a x).toNat < S256x142.size a := fun i k0_t2 v15 v20 v25 v30 v35 v40 v45 v50 v55 v60 v2634 k0_hw1167 k0_h1 => k0_hw1167.1 k0_h1
theorem k0_idx1949_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v20, v2634] : Fin 2 → IVec S16 32) a x).toNat < S256x142.size a := fun i k0_t2 v15 v20 v25 v30 v35 v40 v45 v50 v55 v60 v2634 k0_hw1167 k0_h1 => k0_hw1167.2.1 k0_h1
theorem k0_idx1951_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v25, v2634] : Fin 2 → IVec S16 32) a x).toNat < S256x142.size a := fun i k0_t2 v15 v20 v25 v30 v35 v40 v45 v50 v55 v60 v2634 k0_hw1167 k0_h1 => k0_hw1167.2.2.1 k0_h1
theorem k0_idx1953_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v30, v2634] : Fin 2 → IVec S16 32) a x).toNat < S256x142.size a := fun i k0_t2 v15 v20 v25 v30 v35 v40 v45 v50 v55 v60 v2634 k0_hw1167 k0_h1 => k0_hw1167.2.2.2.1 k0_h1
theorem k0_idx1955_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v35, v2634] : Fin 2 → IVec S16 32) a x).toNat < S256x142.size a := fun i k0_t2 v15 v20 v25 v30 v35 v40 v45 v50 v55 v60 v2634 k0_hw1167 k0_h1 => k0_hw1167.2.2.2.2.1 k0_h1
theorem k0_idx1957_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v40, v2634] : Fin 2 → IVec S16 32) a x).toNat < S256x142.size a := fun i k0_t2 v15 v20 v25 v30 v35 v40 v45 v50 v55 v60 v2634 k0_hw1167 k0_h1 => k0_hw1167.2.2.2.2.2.1 k0_h1
theorem k0_idx1959_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v45, v2634] : Fin 2 → IVec S16 32) a x).toNat < S256x142.size a := fun i k0_t2 v15 v20 v25 v30 v35 v40 v45 v50 v55 v60 v2634 k0_hw1167 k0_h1 => k0_hw1167.2.2.2.2.2.2.1 k0_h1
theorem k0_idx1961_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v50, v2634] : Fin 2 → IVec S16 32) a x).toNat < S256x142.size a := fun i k0_t2 v15 v20 v25 v30 v35 v40 v45 v50 v55 v60 v2634 k0_hw1167 k0_h1 => k0_hw1167.2.2.2.2.2.2.2.1 k0_h1
theorem k0_idx1963_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v55, v2634] : Fin 2 → IVec S16 32) a x).toNat < S256x142.size a := fun i k0_t2 v15 v20 v25 v30 v35 v40 v45 v50 v55 v60 v2634 k0_hw1167 k0_h1 => k0_hw1167.2.2.2.2.2.2.2.2.1 k0_h1
theorem k0_idx1965_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2634 : IVec S16 32) (k0_hw1167 : k0_chk1167 i k0_t2 v15 v20 v25 v30 v35 v40 v45 v50 v55 v60 v2634), ∀ (k0_h1 : k0_cond1 i k0_t2 = 1#1), ∀ a x, ((![v60, v2634] : Fin 2 → IVec S16 32) a x).toNat < S256x142.size a := fun i k0_t2 v15 v20 v25 v30 v35 v40 v45 v50 v55 v60 v2634 k0_hw1167 k0_h1 => k0_hw1167.2.2.2.2.2.2.2.2.2 k0_h1

def k0_chk1177 (i : grid0.Coords) (k0_t2 : Fin k0_t2_loop.trips) (v2634 : IVec S16 32) (v2664 : IVec S16 32) : Prop :=
  (∀ (k0_h1 : k0_cond1 i k0_t2 = 1#1), ∀ a x, ((![v2664, v2634] : Fin 2 → IVec S16 32) a x).toNat < S160x142.size a)
theorem k0_idx1966_inb : ∀ (i : grid0.Coords) (k0_t2 : Fin k0_t2_loop.trips) (v2634 : IVec S16 32) (v2664 : IVec S16 32) (k0_hw1177 : k0_chk1177 i k0_t2 v2634 v2664), ∀ (k0_h1 : k0_cond1 i k0_t2 = 1#1), ∀ a x, ((![v2664, v2634] : Fin 2 → IVec S16 32) a x).toNat < S160x142.size a := fun i k0_t2 v2634 v2664 k0_hw1177 k0_h1 => k0_hw1177 k0_h1

def k0_chk1179 (i : grid0.Coords) (k0_t2 : Fin k0_t2_loop.trips) (v2665 : IVec S16 32) (v2668 : IVec S16 32) : Prop :=
  (∀ (k0_h1 : k0_cond1 i k0_t2 = 1#1), ∀ a x, ((![v2668, v2665] : Fin 2 → IVec S16 32) a x).toNat < S160x142.size a)
theorem k0_idx1968_inb : ∀ (i : grid0.Coords) (k0_t2 : Fin k0_t2_loop.trips) (v2665 : IVec S16 32) (v2668 : IVec S16 32) (k0_hw1179 : k0_chk1179 i k0_t2 v2665 v2668), ∀ (k0_h1 : k0_cond1 i k0_t2 = 1#1), ∀ a x, ((![v2668, v2665] : Fin 2 → IVec S16 32) a x).toNat < S160x142.size a := fun i k0_t2 v2665 v2668 k0_hw1179 k0_h1 => k0_hw1179 k0_h1

def k0_chk1180 (i : grid0.Coords) (k0_t2 : Fin k0_t2_loop.trips) (v2665 : IVec S16 32) (v2671 : IVec S16 32) : Prop :=
  (∀ (k0_h1 : k0_cond1 i k0_t2 = 1#1), ∀ a x, ((![v2671, v2665] : Fin 2 → IVec S16 32) a x).toNat < S160x142.size a)
theorem k0_idx1970_inb : ∀ (i : grid0.Coords) (k0_t2 : Fin k0_t2_loop.trips) (v2665 : IVec S16 32) (v2671 : IVec S16 32) (k0_hw1180 : k0_chk1180 i k0_t2 v2665 v2671), ∀ (k0_h1 : k0_cond1 i k0_t2 = 1#1), ∀ a x, ((![v2671, v2665] : Fin 2 → IVec S16 32) a x).toNat < S160x142.size a := fun i k0_t2 v2665 v2671 k0_hw1180 k0_h1 => k0_hw1180 k0_h1

def k0_chk1181 (i : grid0.Coords) (k0_t2 : Fin k0_t2_loop.trips) (v2665 : IVec S16 32) (v2674 : IVec S16 32) : Prop :=
  (∀ (k0_h1 : k0_cond1 i k0_t2 = 1#1), ∀ a x, ((![v2674, v2665] : Fin 2 → IVec S16 32) a x).toNat < S160x142.size a)
theorem k0_idx1972_inb : ∀ (i : grid0.Coords) (k0_t2 : Fin k0_t2_loop.trips) (v2665 : IVec S16 32) (v2674 : IVec S16 32) (k0_hw1181 : k0_chk1181 i k0_t2 v2665 v2674), ∀ (k0_h1 : k0_cond1 i k0_t2 = 1#1), ∀ a x, ((![v2674, v2665] : Fin 2 → IVec S16 32) a x).toNat < S160x142.size a := fun i k0_t2 v2665 v2674 k0_hw1181 k0_h1 => k0_hw1181 k0_h1

def k0_chk1182 (i : grid0.Coords) (k0_t2 : Fin k0_t2_loop.trips) (v2665 : IVec S16 32) (v2677 : IVec S16 32) : Prop :=
  (∀ (k0_h1 : k0_cond1 i k0_t2 = 1#1), ∀ a x, ((![v2677, v2665] : Fin 2 → IVec S16 32) a x).toNat < S160x142.size a)
theorem k0_idx1974_inb : ∀ (i : grid0.Coords) (k0_t2 : Fin k0_t2_loop.trips) (v2665 : IVec S16 32) (v2677 : IVec S16 32) (k0_hw1182 : k0_chk1182 i k0_t2 v2665 v2677), ∀ (k0_h1 : k0_cond1 i k0_t2 = 1#1), ∀ a x, ((![v2677, v2665] : Fin 2 → IVec S16 32) a x).toNat < S160x142.size a := fun i k0_t2 v2665 v2677 k0_hw1182 k0_h1 => k0_hw1182 k0_h1

def k0_chk1183 (i : grid0.Coords) (k0_t2 : Fin k0_t2_loop.trips) (v2665 : IVec S16 32) (v2680 : IVec S16 32) : Prop :=
  (∀ (k0_h1 : k0_cond1 i k0_t2 = 1#1), ∀ a x, ((![v2680, v2665] : Fin 2 → IVec S16 32) a x).toNat < S160x142.size a)
theorem k0_idx1976_inb : ∀ (i : grid0.Coords) (k0_t2 : Fin k0_t2_loop.trips) (v2665 : IVec S16 32) (v2680 : IVec S16 32) (k0_hw1183 : k0_chk1183 i k0_t2 v2665 v2680), ∀ (k0_h1 : k0_cond1 i k0_t2 = 1#1), ∀ a x, ((![v2680, v2665] : Fin 2 → IVec S16 32) a x).toNat < S160x142.size a := fun i k0_t2 v2665 v2680 k0_hw1183 k0_h1 => k0_hw1183 k0_h1

def k0_chk1184 (i : grid0.Coords) (k0_t2 : Fin k0_t2_loop.trips) (v2665 : IVec S16 32) (v2683 : IVec S16 32) : Prop :=
  (∀ (k0_h1 : k0_cond1 i k0_t2 = 1#1), ∀ a x, ((![v2683, v2665] : Fin 2 → IVec S16 32) a x).toNat < S160x142.size a)
theorem k0_idx1978_inb : ∀ (i : grid0.Coords) (k0_t2 : Fin k0_t2_loop.trips) (v2665 : IVec S16 32) (v2683 : IVec S16 32) (k0_hw1184 : k0_chk1184 i k0_t2 v2665 v2683), ∀ (k0_h1 : k0_cond1 i k0_t2 = 1#1), ∀ a x, ((![v2683, v2665] : Fin 2 → IVec S16 32) a x).toNat < S160x142.size a := fun i k0_t2 v2665 v2683 k0_hw1184 k0_h1 => k0_hw1184 k0_h1

def k0_chk1185 (i : grid0.Coords) (k0_t2 : Fin k0_t2_loop.trips) (v2665 : IVec S16 32) (v2686 : IVec S16 32) : Prop :=
  (∀ (k0_h1 : k0_cond1 i k0_t2 = 1#1), ∀ a x, ((![v2686, v2665] : Fin 2 → IVec S16 32) a x).toNat < S160x142.size a)
theorem k0_idx1980_inb : ∀ (i : grid0.Coords) (k0_t2 : Fin k0_t2_loop.trips) (v2665 : IVec S16 32) (v2686 : IVec S16 32) (k0_hw1185 : k0_chk1185 i k0_t2 v2665 v2686), ∀ (k0_h1 : k0_cond1 i k0_t2 = 1#1), ∀ a x, ((![v2686, v2665] : Fin 2 → IVec S16 32) a x).toNat < S160x142.size a := fun i k0_t2 v2665 v2686 k0_hw1185 k0_h1 => k0_hw1185 k0_h1

def k0_chk1186 (i : grid0.Coords) (k0_t2 : Fin k0_t2_loop.trips) (v2665 : IVec S16 32) (v2689 : IVec S16 32) : Prop :=
  (∀ (k0_h1 : k0_cond1 i k0_t2 = 1#1), ∀ a x, ((![v2689, v2665] : Fin 2 → IVec S16 32) a x).toNat < S160x142.size a)
theorem k0_idx1982_inb : ∀ (i : grid0.Coords) (k0_t2 : Fin k0_t2_loop.trips) (v2665 : IVec S16 32) (v2689 : IVec S16 32) (k0_hw1186 : k0_chk1186 i k0_t2 v2665 v2689), ∀ (k0_h1 : k0_cond1 i k0_t2 = 1#1), ∀ a x, ((![v2689, v2665] : Fin 2 → IVec S16 32) a x).toNat < S160x142.size a := fun i k0_t2 v2665 v2689 k0_hw1186 k0_h1 => k0_hw1186 k0_h1

def k0_chk1187 (i : grid0.Coords) (k0_t2 : Fin k0_t2_loop.trips) (v2665 : IVec S16 32) (v2692 : IVec S16 32) : Prop :=
  (∀ (k0_h1 : k0_cond1 i k0_t2 = 1#1), ∀ a x, ((![v2692, v2665] : Fin 2 → IVec S16 32) a x).toNat < S160x142.size a)
theorem k0_idx1984_inb : ∀ (i : grid0.Coords) (k0_t2 : Fin k0_t2_loop.trips) (v2665 : IVec S16 32) (v2692 : IVec S16 32) (k0_hw1187 : k0_chk1187 i k0_t2 v2665 v2692), ∀ (k0_h1 : k0_cond1 i k0_t2 = 1#1), ∀ a x, ((![v2692, v2665] : Fin 2 → IVec S16 32) a x).toNat < S160x142.size a := fun i k0_t2 v2665 v2692 k0_hw1187 k0_h1 => k0_hw1187 k0_h1

def k0_chk1178 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) : Prop :=
  (∀ (k0_h1 : k0_cond1 i k0_t2 = 1#1), ∀ a x, ((![v15, v2665] : Fin 2 → IVec S16 32) a x).toNat < S256x142.size a) ∧
  (∀ (k0_h1 : k0_cond1 i k0_t2 = 1#1), ∀ a x, ((![v20, v2665] : Fin 2 → IVec S16 32) a x).toNat < S256x142.size a) ∧
  (∀ (k0_h1 : k0_cond1 i k0_t2 = 1#1), ∀ a x, ((![v25, v2665] : Fin 2 → IVec S16 32) a x).toNat < S256x142.size a) ∧
  (∀ (k0_h1 : k0_cond1 i k0_t2 = 1#1), ∀ a x, ((![v30, v2665] : Fin 2 → IVec S16 32) a x).toNat < S256x142.size a) ∧
  (∀ (k0_h1 : k0_cond1 i k0_t2 = 1#1), ∀ a x, ((![v35, v2665] : Fin 2 → IVec S16 32) a x).toNat < S256x142.size a) ∧
  (∀ (k0_h1 : k0_cond1 i k0_t2 = 1#1), ∀ a x, ((![v40, v2665] : Fin 2 → IVec S16 32) a x).toNat < S256x142.size a) ∧
  (∀ (k0_h1 : k0_cond1 i k0_t2 = 1#1), ∀ a x, ((![v45, v2665] : Fin 2 → IVec S16 32) a x).toNat < S256x142.size a) ∧
  (∀ (k0_h1 : k0_cond1 i k0_t2 = 1#1), ∀ a x, ((![v50, v2665] : Fin 2 → IVec S16 32) a x).toNat < S256x142.size a) ∧
  (∀ (k0_h1 : k0_cond1 i k0_t2 = 1#1), ∀ a x, ((![v55, v2665] : Fin 2 → IVec S16 32) a x).toNat < S256x142.size a) ∧
  (∀ (k0_h1 : k0_cond1 i k0_t2 = 1#1), ∀ a x, ((![v60, v2665] : Fin 2 → IVec S16 32) a x).toNat < S256x142.size a)
theorem k0_idx1967_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v15, v2665] : Fin 2 → IVec S16 32) a x).toNat < S256x142.size a := fun i k0_t2 v15 v20 v25 v30 v35 v40 v45 v50 v55 v60 v2665 k0_hw1178 k0_h1 => k0_hw1178.1 k0_h1
theorem k0_idx1969_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v20, v2665] : Fin 2 → IVec S16 32) a x).toNat < S256x142.size a := fun i k0_t2 v15 v20 v25 v30 v35 v40 v45 v50 v55 v60 v2665 k0_hw1178 k0_h1 => k0_hw1178.2.1 k0_h1
theorem k0_idx1971_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v25, v2665] : Fin 2 → IVec S16 32) a x).toNat < S256x142.size a := fun i k0_t2 v15 v20 v25 v30 v35 v40 v45 v50 v55 v60 v2665 k0_hw1178 k0_h1 => k0_hw1178.2.2.1 k0_h1
theorem k0_idx1973_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v30, v2665] : Fin 2 → IVec S16 32) a x).toNat < S256x142.size a := fun i k0_t2 v15 v20 v25 v30 v35 v40 v45 v50 v55 v60 v2665 k0_hw1178 k0_h1 => k0_hw1178.2.2.2.1 k0_h1
theorem k0_idx1975_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v35, v2665] : Fin 2 → IVec S16 32) a x).toNat < S256x142.size a := fun i k0_t2 v15 v20 v25 v30 v35 v40 v45 v50 v55 v60 v2665 k0_hw1178 k0_h1 => k0_hw1178.2.2.2.2.1 k0_h1
theorem k0_idx1977_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v40, v2665] : Fin 2 → IVec S16 32) a x).toNat < S256x142.size a := fun i k0_t2 v15 v20 v25 v30 v35 v40 v45 v50 v55 v60 v2665 k0_hw1178 k0_h1 => k0_hw1178.2.2.2.2.2.1 k0_h1
theorem k0_idx1979_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v45, v2665] : Fin 2 → IVec S16 32) a x).toNat < S256x142.size a := fun i k0_t2 v15 v20 v25 v30 v35 v40 v45 v50 v55 v60 v2665 k0_hw1178 k0_h1 => k0_hw1178.2.2.2.2.2.2.1 k0_h1
theorem k0_idx1981_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v50, v2665] : Fin 2 → IVec S16 32) a x).toNat < S256x142.size a := fun i k0_t2 v15 v20 v25 v30 v35 v40 v45 v50 v55 v60 v2665 k0_hw1178 k0_h1 => k0_hw1178.2.2.2.2.2.2.2.1 k0_h1
theorem k0_idx1983_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v55, v2665] : Fin 2 → IVec S16 32) a x).toNat < S256x142.size a := fun i k0_t2 v15 v20 v25 v30 v35 v40 v45 v50 v55 v60 v2665 k0_hw1178 k0_h1 => k0_hw1178.2.2.2.2.2.2.2.2.1 k0_h1
theorem k0_idx1985_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2665 : IVec S16 32) (k0_hw1178 : k0_chk1178 i k0_t2 v15 v20 v25 v30 v35 v40 v45 v50 v55 v60 v2665), ∀ (k0_h1 : k0_cond1 i k0_t2 = 1#1), ∀ a x, ((![v60, v2665] : Fin 2 → IVec S16 32) a x).toNat < S256x142.size a := fun i k0_t2 v15 v20 v25 v30 v35 v40 v45 v50 v55 v60 v2665 k0_hw1178 k0_h1 => k0_hw1178.2.2.2.2.2.2.2.2.2 k0_h1

def k0_chk1188 (i : grid0.Coords) (k0_t2 : Fin k0_t2_loop.trips) (v2665 : IVec S16 32) (v2695 : IVec S16 32) : Prop :=
  (∀ (k0_h1 : k0_cond1 i k0_t2 = 1#1), ∀ a x, ((![v2695, v2665] : Fin 2 → IVec S16 32) a x).toNat < S160x142.size a)
theorem k0_idx1986_inb : ∀ (i : grid0.Coords) (k0_t2 : Fin k0_t2_loop.trips) (v2665 : IVec S16 32) (v2695 : IVec S16 32) (k0_hw1188 : k0_chk1188 i k0_t2 v2665 v2695), ∀ (k0_h1 : k0_cond1 i k0_t2 = 1#1), ∀ a x, ((![v2695, v2665] : Fin 2 → IVec S16 32) a x).toNat < S160x142.size a := fun i k0_t2 v2665 v2695 k0_hw1188 k0_h1 => k0_hw1188 k0_h1

def k0_chk1190 (i : grid0.Coords) (k0_t2 : Fin k0_t2_loop.trips) (v2696 : IVec S16 32) (v2699 : IVec S16 32) : Prop :=
  (∀ (k0_h1 : k0_cond1 i k0_t2 = 1#1), ∀ a x, ((![v2699, v2696] : Fin 2 → IVec S16 32) a x).toNat < S160x142.size a)
theorem k0_idx1988_inb : ∀ (i : grid0.Coords) (k0_t2 : Fin k0_t2_loop.trips) (v2696 : IVec S16 32) (v2699 : IVec S16 32) (k0_hw1190 : k0_chk1190 i k0_t2 v2696 v2699), ∀ (k0_h1 : k0_cond1 i k0_t2 = 1#1), ∀ a x, ((![v2699, v2696] : Fin 2 → IVec S16 32) a x).toNat < S160x142.size a := fun i k0_t2 v2696 v2699 k0_hw1190 k0_h1 => k0_hw1190 k0_h1

def k0_chk1191 (i : grid0.Coords) (k0_t2 : Fin k0_t2_loop.trips) (v2696 : IVec S16 32) (v2702 : IVec S16 32) : Prop :=
  (∀ (k0_h1 : k0_cond1 i k0_t2 = 1#1), ∀ a x, ((![v2702, v2696] : Fin 2 → IVec S16 32) a x).toNat < S160x142.size a)
theorem k0_idx1990_inb : ∀ (i : grid0.Coords) (k0_t2 : Fin k0_t2_loop.trips) (v2696 : IVec S16 32) (v2702 : IVec S16 32) (k0_hw1191 : k0_chk1191 i k0_t2 v2696 v2702), ∀ (k0_h1 : k0_cond1 i k0_t2 = 1#1), ∀ a x, ((![v2702, v2696] : Fin 2 → IVec S16 32) a x).toNat < S160x142.size a := fun i k0_t2 v2696 v2702 k0_hw1191 k0_h1 => k0_hw1191 k0_h1

def k0_chk1192 (i : grid0.Coords) (k0_t2 : Fin k0_t2_loop.trips) (v2696 : IVec S16 32) (v2705 : IVec S16 32) : Prop :=
  (∀ (k0_h1 : k0_cond1 i k0_t2 = 1#1), ∀ a x, ((![v2705, v2696] : Fin 2 → IVec S16 32) a x).toNat < S160x142.size a)
theorem k0_idx1992_inb : ∀ (i : grid0.Coords) (k0_t2 : Fin k0_t2_loop.trips) (v2696 : IVec S16 32) (v2705 : IVec S16 32) (k0_hw1192 : k0_chk1192 i k0_t2 v2696 v2705), ∀ (k0_h1 : k0_cond1 i k0_t2 = 1#1), ∀ a x, ((![v2705, v2696] : Fin 2 → IVec S16 32) a x).toNat < S160x142.size a := fun i k0_t2 v2696 v2705 k0_hw1192 k0_h1 => k0_hw1192 k0_h1

def k0_chk1193 (i : grid0.Coords) (k0_t2 : Fin k0_t2_loop.trips) (v2696 : IVec S16 32) (v2708 : IVec S16 32) : Prop :=
  (∀ (k0_h1 : k0_cond1 i k0_t2 = 1#1), ∀ a x, ((![v2708, v2696] : Fin 2 → IVec S16 32) a x).toNat < S160x142.size a)
theorem k0_idx1994_inb : ∀ (i : grid0.Coords) (k0_t2 : Fin k0_t2_loop.trips) (v2696 : IVec S16 32) (v2708 : IVec S16 32) (k0_hw1193 : k0_chk1193 i k0_t2 v2696 v2708), ∀ (k0_h1 : k0_cond1 i k0_t2 = 1#1), ∀ a x, ((![v2708, v2696] : Fin 2 → IVec S16 32) a x).toNat < S160x142.size a := fun i k0_t2 v2696 v2708 k0_hw1193 k0_h1 => k0_hw1193 k0_h1

def k0_chk1194 (i : grid0.Coords) (k0_t2 : Fin k0_t2_loop.trips) (v2696 : IVec S16 32) (v2711 : IVec S16 32) : Prop :=
  (∀ (k0_h1 : k0_cond1 i k0_t2 = 1#1), ∀ a x, ((![v2711, v2696] : Fin 2 → IVec S16 32) a x).toNat < S160x142.size a)
theorem k0_idx1996_inb : ∀ (i : grid0.Coords) (k0_t2 : Fin k0_t2_loop.trips) (v2696 : IVec S16 32) (v2711 : IVec S16 32) (k0_hw1194 : k0_chk1194 i k0_t2 v2696 v2711), ∀ (k0_h1 : k0_cond1 i k0_t2 = 1#1), ∀ a x, ((![v2711, v2696] : Fin 2 → IVec S16 32) a x).toNat < S160x142.size a := fun i k0_t2 v2696 v2711 k0_hw1194 k0_h1 => k0_hw1194 k0_h1

def k0_chk1195 (i : grid0.Coords) (k0_t2 : Fin k0_t2_loop.trips) (v2696 : IVec S16 32) (v2714 : IVec S16 32) : Prop :=
  (∀ (k0_h1 : k0_cond1 i k0_t2 = 1#1), ∀ a x, ((![v2714, v2696] : Fin 2 → IVec S16 32) a x).toNat < S160x142.size a)
theorem k0_idx1998_inb : ∀ (i : grid0.Coords) (k0_t2 : Fin k0_t2_loop.trips) (v2696 : IVec S16 32) (v2714 : IVec S16 32) (k0_hw1195 : k0_chk1195 i k0_t2 v2696 v2714), ∀ (k0_h1 : k0_cond1 i k0_t2 = 1#1), ∀ a x, ((![v2714, v2696] : Fin 2 → IVec S16 32) a x).toNat < S160x142.size a := fun i k0_t2 v2696 v2714 k0_hw1195 k0_h1 => k0_hw1195 k0_h1

def k0_chk1196 (i : grid0.Coords) (k0_t2 : Fin k0_t2_loop.trips) (v2696 : IVec S16 32) (v2717 : IVec S16 32) : Prop :=
  (∀ (k0_h1 : k0_cond1 i k0_t2 = 1#1), ∀ a x, ((![v2717, v2696] : Fin 2 → IVec S16 32) a x).toNat < S160x142.size a)
theorem k0_idx2000_inb : ∀ (i : grid0.Coords) (k0_t2 : Fin k0_t2_loop.trips) (v2696 : IVec S16 32) (v2717 : IVec S16 32) (k0_hw1196 : k0_chk1196 i k0_t2 v2696 v2717), ∀ (k0_h1 : k0_cond1 i k0_t2 = 1#1), ∀ a x, ((![v2717, v2696] : Fin 2 → IVec S16 32) a x).toNat < S160x142.size a := fun i k0_t2 v2696 v2717 k0_hw1196 k0_h1 => k0_hw1196 k0_h1

def k0_chk1197 (i : grid0.Coords) (k0_t2 : Fin k0_t2_loop.trips) (v2696 : IVec S16 32) (v2720 : IVec S16 32) : Prop :=
  (∀ (k0_h1 : k0_cond1 i k0_t2 = 1#1), ∀ a x, ((![v2720, v2696] : Fin 2 → IVec S16 32) a x).toNat < S160x142.size a)
theorem k0_idx2002_inb : ∀ (i : grid0.Coords) (k0_t2 : Fin k0_t2_loop.trips) (v2696 : IVec S16 32) (v2720 : IVec S16 32) (k0_hw1197 : k0_chk1197 i k0_t2 v2696 v2720), ∀ (k0_h1 : k0_cond1 i k0_t2 = 1#1), ∀ a x, ((![v2720, v2696] : Fin 2 → IVec S16 32) a x).toNat < S160x142.size a := fun i k0_t2 v2696 v2720 k0_hw1197 k0_h1 => k0_hw1197 k0_h1

def k0_chk1198 (i : grid0.Coords) (k0_t2 : Fin k0_t2_loop.trips) (v2696 : IVec S16 32) (v2723 : IVec S16 32) : Prop :=
  (∀ (k0_h1 : k0_cond1 i k0_t2 = 1#1), ∀ a x, ((![v2723, v2696] : Fin 2 → IVec S16 32) a x).toNat < S160x142.size a)
theorem k0_idx2004_inb : ∀ (i : grid0.Coords) (k0_t2 : Fin k0_t2_loop.trips) (v2696 : IVec S16 32) (v2723 : IVec S16 32) (k0_hw1198 : k0_chk1198 i k0_t2 v2696 v2723), ∀ (k0_h1 : k0_cond1 i k0_t2 = 1#1), ∀ a x, ((![v2723, v2696] : Fin 2 → IVec S16 32) a x).toNat < S160x142.size a := fun i k0_t2 v2696 v2723 k0_hw1198 k0_h1 => k0_hw1198 k0_h1

def k0_chk1189 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) : Prop :=
  (∀ (k0_h1 : k0_cond1 i k0_t2 = 1#1), ∀ a x, ((![v15, v2696] : Fin 2 → IVec S16 32) a x).toNat < S256x142.size a) ∧
  (∀ (k0_h1 : k0_cond1 i k0_t2 = 1#1), ∀ a x, ((![v20, v2696] : Fin 2 → IVec S16 32) a x).toNat < S256x142.size a) ∧
  (∀ (k0_h1 : k0_cond1 i k0_t2 = 1#1), ∀ a x, ((![v25, v2696] : Fin 2 → IVec S16 32) a x).toNat < S256x142.size a) ∧
  (∀ (k0_h1 : k0_cond1 i k0_t2 = 1#1), ∀ a x, ((![v30, v2696] : Fin 2 → IVec S16 32) a x).toNat < S256x142.size a) ∧
  (∀ (k0_h1 : k0_cond1 i k0_t2 = 1#1), ∀ a x, ((![v35, v2696] : Fin 2 → IVec S16 32) a x).toNat < S256x142.size a) ∧
  (∀ (k0_h1 : k0_cond1 i k0_t2 = 1#1), ∀ a x, ((![v40, v2696] : Fin 2 → IVec S16 32) a x).toNat < S256x142.size a) ∧
  (∀ (k0_h1 : k0_cond1 i k0_t2 = 1#1), ∀ a x, ((![v45, v2696] : Fin 2 → IVec S16 32) a x).toNat < S256x142.size a) ∧
  (∀ (k0_h1 : k0_cond1 i k0_t2 = 1#1), ∀ a x, ((![v50, v2696] : Fin 2 → IVec S16 32) a x).toNat < S256x142.size a) ∧
  (∀ (k0_h1 : k0_cond1 i k0_t2 = 1#1), ∀ a x, ((![v55, v2696] : Fin 2 → IVec S16 32) a x).toNat < S256x142.size a) ∧
  (∀ (k0_h1 : k0_cond1 i k0_t2 = 1#1), ∀ a x, ((![v60, v2696] : Fin 2 → IVec S16 32) a x).toNat < S256x142.size a)
theorem k0_idx1987_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v15, v2696] : Fin 2 → IVec S16 32) a x).toNat < S256x142.size a := fun i k0_t2 v15 v20 v25 v30 v35 v40 v45 v50 v55 v60 v2696 k0_hw1189 k0_h1 => k0_hw1189.1 k0_h1
theorem k0_idx1989_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v20, v2696] : Fin 2 → IVec S16 32) a x).toNat < S256x142.size a := fun i k0_t2 v15 v20 v25 v30 v35 v40 v45 v50 v55 v60 v2696 k0_hw1189 k0_h1 => k0_hw1189.2.1 k0_h1
theorem k0_idx1991_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v25, v2696] : Fin 2 → IVec S16 32) a x).toNat < S256x142.size a := fun i k0_t2 v15 v20 v25 v30 v35 v40 v45 v50 v55 v60 v2696 k0_hw1189 k0_h1 => k0_hw1189.2.2.1 k0_h1
theorem k0_idx1993_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v30, v2696] : Fin 2 → IVec S16 32) a x).toNat < S256x142.size a := fun i k0_t2 v15 v20 v25 v30 v35 v40 v45 v50 v55 v60 v2696 k0_hw1189 k0_h1 => k0_hw1189.2.2.2.1 k0_h1
theorem k0_idx1995_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v35, v2696] : Fin 2 → IVec S16 32) a x).toNat < S256x142.size a := fun i k0_t2 v15 v20 v25 v30 v35 v40 v45 v50 v55 v60 v2696 k0_hw1189 k0_h1 => k0_hw1189.2.2.2.2.1 k0_h1
theorem k0_idx1997_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v40, v2696] : Fin 2 → IVec S16 32) a x).toNat < S256x142.size a := fun i k0_t2 v15 v20 v25 v30 v35 v40 v45 v50 v55 v60 v2696 k0_hw1189 k0_h1 => k0_hw1189.2.2.2.2.2.1 k0_h1
theorem k0_idx1999_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v45, v2696] : Fin 2 → IVec S16 32) a x).toNat < S256x142.size a := fun i k0_t2 v15 v20 v25 v30 v35 v40 v45 v50 v55 v60 v2696 k0_hw1189 k0_h1 => k0_hw1189.2.2.2.2.2.2.1 k0_h1
theorem k0_idx2001_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v50, v2696] : Fin 2 → IVec S16 32) a x).toNat < S256x142.size a := fun i k0_t2 v15 v20 v25 v30 v35 v40 v45 v50 v55 v60 v2696 k0_hw1189 k0_h1 => k0_hw1189.2.2.2.2.2.2.2.1 k0_h1
theorem k0_idx2003_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v55, v2696] : Fin 2 → IVec S16 32) a x).toNat < S256x142.size a := fun i k0_t2 v15 v20 v25 v30 v35 v40 v45 v50 v55 v60 v2696 k0_hw1189 k0_h1 => k0_hw1189.2.2.2.2.2.2.2.2.1 k0_h1
theorem k0_idx2005_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2696 : IVec S16 32) (k0_hw1189 : k0_chk1189 i k0_t2 v15 v20 v25 v30 v35 v40 v45 v50 v55 v60 v2696), ∀ (k0_h1 : k0_cond1 i k0_t2 = 1#1), ∀ a x, ((![v60, v2696] : Fin 2 → IVec S16 32) a x).toNat < S256x142.size a := fun i k0_t2 v15 v20 v25 v30 v35 v40 v45 v50 v55 v60 v2696 k0_hw1189 k0_h1 => k0_hw1189.2.2.2.2.2.2.2.2.2 k0_h1

def k0_chk1199 (i : grid0.Coords) (k0_t2 : Fin k0_t2_loop.trips) (v2696 : IVec S16 32) (v2726 : IVec S16 32) : Prop :=
  (∀ (k0_h1 : k0_cond1 i k0_t2 = 1#1), ∀ a x, ((![v2726, v2696] : Fin 2 → IVec S16 32) a x).toNat < S160x142.size a)
theorem k0_idx2006_inb : ∀ (i : grid0.Coords) (k0_t2 : Fin k0_t2_loop.trips) (v2696 : IVec S16 32) (v2726 : IVec S16 32) (k0_hw1199 : k0_chk1199 i k0_t2 v2696 v2726), ∀ (k0_h1 : k0_cond1 i k0_t2 = 1#1), ∀ a x, ((![v2726, v2696] : Fin 2 → IVec S16 32) a x).toNat < S160x142.size a := fun i k0_t2 v2696 v2726 k0_hw1199 k0_h1 => k0_hw1199 k0_h1

def k0_chk1201 (i : grid0.Coords) (k0_t2 : Fin k0_t2_loop.trips) (v2727 : IVec S16 32) (v2730 : IVec S16 32) : Prop :=
  (∀ (k0_h1 : k0_cond1 i k0_t2 = 1#1), ∀ a x, ((![v2730, v2727] : Fin 2 → IVec S16 32) a x).toNat < S160x142.size a)
theorem k0_idx2008_inb : ∀ (i : grid0.Coords) (k0_t2 : Fin k0_t2_loop.trips) (v2727 : IVec S16 32) (v2730 : IVec S16 32) (k0_hw1201 : k0_chk1201 i k0_t2 v2727 v2730), ∀ (k0_h1 : k0_cond1 i k0_t2 = 1#1), ∀ a x, ((![v2730, v2727] : Fin 2 → IVec S16 32) a x).toNat < S160x142.size a := fun i k0_t2 v2727 v2730 k0_hw1201 k0_h1 => k0_hw1201 k0_h1

def k0_chk1202 (i : grid0.Coords) (k0_t2 : Fin k0_t2_loop.trips) (v2727 : IVec S16 32) (v2733 : IVec S16 32) : Prop :=
  (∀ (k0_h1 : k0_cond1 i k0_t2 = 1#1), ∀ a x, ((![v2733, v2727] : Fin 2 → IVec S16 32) a x).toNat < S160x142.size a)
theorem k0_idx2010_inb : ∀ (i : grid0.Coords) (k0_t2 : Fin k0_t2_loop.trips) (v2727 : IVec S16 32) (v2733 : IVec S16 32) (k0_hw1202 : k0_chk1202 i k0_t2 v2727 v2733), ∀ (k0_h1 : k0_cond1 i k0_t2 = 1#1), ∀ a x, ((![v2733, v2727] : Fin 2 → IVec S16 32) a x).toNat < S160x142.size a := fun i k0_t2 v2727 v2733 k0_hw1202 k0_h1 => k0_hw1202 k0_h1

def k0_chk1203 (i : grid0.Coords) (k0_t2 : Fin k0_t2_loop.trips) (v2727 : IVec S16 32) (v2736 : IVec S16 32) : Prop :=
  (∀ (k0_h1 : k0_cond1 i k0_t2 = 1#1), ∀ a x, ((![v2736, v2727] : Fin 2 → IVec S16 32) a x).toNat < S160x142.size a)
theorem k0_idx2012_inb : ∀ (i : grid0.Coords) (k0_t2 : Fin k0_t2_loop.trips) (v2727 : IVec S16 32) (v2736 : IVec S16 32) (k0_hw1203 : k0_chk1203 i k0_t2 v2727 v2736), ∀ (k0_h1 : k0_cond1 i k0_t2 = 1#1), ∀ a x, ((![v2736, v2727] : Fin 2 → IVec S16 32) a x).toNat < S160x142.size a := fun i k0_t2 v2727 v2736 k0_hw1203 k0_h1 => k0_hw1203 k0_h1

def k0_chk1204 (i : grid0.Coords) (k0_t2 : Fin k0_t2_loop.trips) (v2727 : IVec S16 32) (v2739 : IVec S16 32) : Prop :=
  (∀ (k0_h1 : k0_cond1 i k0_t2 = 1#1), ∀ a x, ((![v2739, v2727] : Fin 2 → IVec S16 32) a x).toNat < S160x142.size a)
theorem k0_idx2014_inb : ∀ (i : grid0.Coords) (k0_t2 : Fin k0_t2_loop.trips) (v2727 : IVec S16 32) (v2739 : IVec S16 32) (k0_hw1204 : k0_chk1204 i k0_t2 v2727 v2739), ∀ (k0_h1 : k0_cond1 i k0_t2 = 1#1), ∀ a x, ((![v2739, v2727] : Fin 2 → IVec S16 32) a x).toNat < S160x142.size a := fun i k0_t2 v2727 v2739 k0_hw1204 k0_h1 => k0_hw1204 k0_h1

def k0_chk1205 (i : grid0.Coords) (k0_t2 : Fin k0_t2_loop.trips) (v2727 : IVec S16 32) (v2742 : IVec S16 32) : Prop :=
  (∀ (k0_h1 : k0_cond1 i k0_t2 = 1#1), ∀ a x, ((![v2742, v2727] : Fin 2 → IVec S16 32) a x).toNat < S160x142.size a)
theorem k0_idx2016_inb : ∀ (i : grid0.Coords) (k0_t2 : Fin k0_t2_loop.trips) (v2727 : IVec S16 32) (v2742 : IVec S16 32) (k0_hw1205 : k0_chk1205 i k0_t2 v2727 v2742), ∀ (k0_h1 : k0_cond1 i k0_t2 = 1#1), ∀ a x, ((![v2742, v2727] : Fin 2 → IVec S16 32) a x).toNat < S160x142.size a := fun i k0_t2 v2727 v2742 k0_hw1205 k0_h1 => k0_hw1205 k0_h1

def k0_chk1206 (i : grid0.Coords) (k0_t2 : Fin k0_t2_loop.trips) (v2727 : IVec S16 32) (v2745 : IVec S16 32) : Prop :=
  (∀ (k0_h1 : k0_cond1 i k0_t2 = 1#1), ∀ a x, ((![v2745, v2727] : Fin 2 → IVec S16 32) a x).toNat < S160x142.size a)
theorem k0_idx2018_inb : ∀ (i : grid0.Coords) (k0_t2 : Fin k0_t2_loop.trips) (v2727 : IVec S16 32) (v2745 : IVec S16 32) (k0_hw1206 : k0_chk1206 i k0_t2 v2727 v2745), ∀ (k0_h1 : k0_cond1 i k0_t2 = 1#1), ∀ a x, ((![v2745, v2727] : Fin 2 → IVec S16 32) a x).toNat < S160x142.size a := fun i k0_t2 v2727 v2745 k0_hw1206 k0_h1 => k0_hw1206 k0_h1

def k0_chk1207 (i : grid0.Coords) (k0_t2 : Fin k0_t2_loop.trips) (v2727 : IVec S16 32) (v2748 : IVec S16 32) : Prop :=
  (∀ (k0_h1 : k0_cond1 i k0_t2 = 1#1), ∀ a x, ((![v2748, v2727] : Fin 2 → IVec S16 32) a x).toNat < S160x142.size a)
theorem k0_idx2020_inb : ∀ (i : grid0.Coords) (k0_t2 : Fin k0_t2_loop.trips) (v2727 : IVec S16 32) (v2748 : IVec S16 32) (k0_hw1207 : k0_chk1207 i k0_t2 v2727 v2748), ∀ (k0_h1 : k0_cond1 i k0_t2 = 1#1), ∀ a x, ((![v2748, v2727] : Fin 2 → IVec S16 32) a x).toNat < S160x142.size a := fun i k0_t2 v2727 v2748 k0_hw1207 k0_h1 => k0_hw1207 k0_h1

def k0_chk1208 (i : grid0.Coords) (k0_t2 : Fin k0_t2_loop.trips) (v2727 : IVec S16 32) (v2751 : IVec S16 32) : Prop :=
  (∀ (k0_h1 : k0_cond1 i k0_t2 = 1#1), ∀ a x, ((![v2751, v2727] : Fin 2 → IVec S16 32) a x).toNat < S160x142.size a)
theorem k0_idx2022_inb : ∀ (i : grid0.Coords) (k0_t2 : Fin k0_t2_loop.trips) (v2727 : IVec S16 32) (v2751 : IVec S16 32) (k0_hw1208 : k0_chk1208 i k0_t2 v2727 v2751), ∀ (k0_h1 : k0_cond1 i k0_t2 = 1#1), ∀ a x, ((![v2751, v2727] : Fin 2 → IVec S16 32) a x).toNat < S160x142.size a := fun i k0_t2 v2727 v2751 k0_hw1208 k0_h1 => k0_hw1208 k0_h1

def k0_chk1209 (i : grid0.Coords) (k0_t2 : Fin k0_t2_loop.trips) (v2727 : IVec S16 32) (v2754 : IVec S16 32) : Prop :=
  (∀ (k0_h1 : k0_cond1 i k0_t2 = 1#1), ∀ a x, ((![v2754, v2727] : Fin 2 → IVec S16 32) a x).toNat < S160x142.size a)
theorem k0_idx2024_inb : ∀ (i : grid0.Coords) (k0_t2 : Fin k0_t2_loop.trips) (v2727 : IVec S16 32) (v2754 : IVec S16 32) (k0_hw1209 : k0_chk1209 i k0_t2 v2727 v2754), ∀ (k0_h1 : k0_cond1 i k0_t2 = 1#1), ∀ a x, ((![v2754, v2727] : Fin 2 → IVec S16 32) a x).toNat < S160x142.size a := fun i k0_t2 v2727 v2754 k0_hw1209 k0_h1 => k0_hw1209 k0_h1

def k0_chk1200 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) : Prop :=
  (∀ (k0_h1 : k0_cond1 i k0_t2 = 1#1), ∀ a x, ((![v15, v2727] : Fin 2 → IVec S16 32) a x).toNat < S256x142.size a) ∧
  (∀ (k0_h1 : k0_cond1 i k0_t2 = 1#1), ∀ a x, ((![v20, v2727] : Fin 2 → IVec S16 32) a x).toNat < S256x142.size a) ∧
  (∀ (k0_h1 : k0_cond1 i k0_t2 = 1#1), ∀ a x, ((![v25, v2727] : Fin 2 → IVec S16 32) a x).toNat < S256x142.size a) ∧
  (∀ (k0_h1 : k0_cond1 i k0_t2 = 1#1), ∀ a x, ((![v30, v2727] : Fin 2 → IVec S16 32) a x).toNat < S256x142.size a) ∧
  (∀ (k0_h1 : k0_cond1 i k0_t2 = 1#1), ∀ a x, ((![v35, v2727] : Fin 2 → IVec S16 32) a x).toNat < S256x142.size a) ∧
  (∀ (k0_h1 : k0_cond1 i k0_t2 = 1#1), ∀ a x, ((![v40, v2727] : Fin 2 → IVec S16 32) a x).toNat < S256x142.size a) ∧
  (∀ (k0_h1 : k0_cond1 i k0_t2 = 1#1), ∀ a x, ((![v45, v2727] : Fin 2 → IVec S16 32) a x).toNat < S256x142.size a) ∧
  (∀ (k0_h1 : k0_cond1 i k0_t2 = 1#1), ∀ a x, ((![v50, v2727] : Fin 2 → IVec S16 32) a x).toNat < S256x142.size a) ∧
  (∀ (k0_h1 : k0_cond1 i k0_t2 = 1#1), ∀ a x, ((![v55, v2727] : Fin 2 → IVec S16 32) a x).toNat < S256x142.size a) ∧
  (∀ (k0_h1 : k0_cond1 i k0_t2 = 1#1), ∀ a x, ((![v60, v2727] : Fin 2 → IVec S16 32) a x).toNat < S256x142.size a)
theorem k0_idx2007_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v15, v2727] : Fin 2 → IVec S16 32) a x).toNat < S256x142.size a := fun i k0_t2 v15 v20 v25 v30 v35 v40 v45 v50 v55 v60 v2727 k0_hw1200 k0_h1 => k0_hw1200.1 k0_h1
theorem k0_idx2009_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v20, v2727] : Fin 2 → IVec S16 32) a x).toNat < S256x142.size a := fun i k0_t2 v15 v20 v25 v30 v35 v40 v45 v50 v55 v60 v2727 k0_hw1200 k0_h1 => k0_hw1200.2.1 k0_h1
theorem k0_idx2011_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v25, v2727] : Fin 2 → IVec S16 32) a x).toNat < S256x142.size a := fun i k0_t2 v15 v20 v25 v30 v35 v40 v45 v50 v55 v60 v2727 k0_hw1200 k0_h1 => k0_hw1200.2.2.1 k0_h1
theorem k0_idx2013_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v30, v2727] : Fin 2 → IVec S16 32) a x).toNat < S256x142.size a := fun i k0_t2 v15 v20 v25 v30 v35 v40 v45 v50 v55 v60 v2727 k0_hw1200 k0_h1 => k0_hw1200.2.2.2.1 k0_h1
theorem k0_idx2015_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v35, v2727] : Fin 2 → IVec S16 32) a x).toNat < S256x142.size a := fun i k0_t2 v15 v20 v25 v30 v35 v40 v45 v50 v55 v60 v2727 k0_hw1200 k0_h1 => k0_hw1200.2.2.2.2.1 k0_h1
theorem k0_idx2017_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v40, v2727] : Fin 2 → IVec S16 32) a x).toNat < S256x142.size a := fun i k0_t2 v15 v20 v25 v30 v35 v40 v45 v50 v55 v60 v2727 k0_hw1200 k0_h1 => k0_hw1200.2.2.2.2.2.1 k0_h1
theorem k0_idx2019_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v45, v2727] : Fin 2 → IVec S16 32) a x).toNat < S256x142.size a := fun i k0_t2 v15 v20 v25 v30 v35 v40 v45 v50 v55 v60 v2727 k0_hw1200 k0_h1 => k0_hw1200.2.2.2.2.2.2.1 k0_h1
theorem k0_idx2021_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v50, v2727] : Fin 2 → IVec S16 32) a x).toNat < S256x142.size a := fun i k0_t2 v15 v20 v25 v30 v35 v40 v45 v50 v55 v60 v2727 k0_hw1200 k0_h1 => k0_hw1200.2.2.2.2.2.2.2.1 k0_h1
theorem k0_idx2023_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v55, v2727] : Fin 2 → IVec S16 32) a x).toNat < S256x142.size a := fun i k0_t2 v15 v20 v25 v30 v35 v40 v45 v50 v55 v60 v2727 k0_hw1200 k0_h1 => k0_hw1200.2.2.2.2.2.2.2.2.1 k0_h1
theorem k0_idx2025_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2727 : IVec S16 32) (k0_hw1200 : k0_chk1200 i k0_t2 v15 v20 v25 v30 v35 v40 v45 v50 v55 v60 v2727), ∀ (k0_h1 : k0_cond1 i k0_t2 = 1#1), ∀ a x, ((![v60, v2727] : Fin 2 → IVec S16 32) a x).toNat < S256x142.size a := fun i k0_t2 v15 v20 v25 v30 v35 v40 v45 v50 v55 v60 v2727 k0_hw1200 k0_h1 => k0_hw1200.2.2.2.2.2.2.2.2.2 k0_h1

def k0_chk1210 (i : grid0.Coords) (k0_t2 : Fin k0_t2_loop.trips) (v2727 : IVec S16 32) (v2757 : IVec S16 32) : Prop :=
  (∀ (k0_h1 : k0_cond1 i k0_t2 = 1#1), ∀ a x, ((![v2757, v2727] : Fin 2 → IVec S16 32) a x).toNat < S160x142.size a)
theorem k0_idx2026_inb : ∀ (i : grid0.Coords) (k0_t2 : Fin k0_t2_loop.trips) (v2727 : IVec S16 32) (v2757 : IVec S16 32) (k0_hw1210 : k0_chk1210 i k0_t2 v2727 v2757), ∀ (k0_h1 : k0_cond1 i k0_t2 = 1#1), ∀ a x, ((![v2757, v2727] : Fin 2 → IVec S16 32) a x).toNat < S160x142.size a := fun i k0_t2 v2727 v2757 k0_hw1210 k0_h1 => k0_hw1210 k0_h1

def k0_chk1212 (i : grid0.Coords) (k0_t2 : Fin k0_t2_loop.trips) (v2758 : IVec S16 32) (v2761 : IVec S16 32) : Prop :=
  (∀ (k0_h1 : k0_cond1 i k0_t2 = 1#1), ∀ a x, ((![v2761, v2758] : Fin 2 → IVec S16 32) a x).toNat < S160x142.size a)
theorem k0_idx2028_inb : ∀ (i : grid0.Coords) (k0_t2 : Fin k0_t2_loop.trips) (v2758 : IVec S16 32) (v2761 : IVec S16 32) (k0_hw1212 : k0_chk1212 i k0_t2 v2758 v2761), ∀ (k0_h1 : k0_cond1 i k0_t2 = 1#1), ∀ a x, ((![v2761, v2758] : Fin 2 → IVec S16 32) a x).toNat < S160x142.size a := fun i k0_t2 v2758 v2761 k0_hw1212 k0_h1 => k0_hw1212 k0_h1

def k0_chk1213 (i : grid0.Coords) (k0_t2 : Fin k0_t2_loop.trips) (v2758 : IVec S16 32) (v2764 : IVec S16 32) : Prop :=
  (∀ (k0_h1 : k0_cond1 i k0_t2 = 1#1), ∀ a x, ((![v2764, v2758] : Fin 2 → IVec S16 32) a x).toNat < S160x142.size a)
theorem k0_idx2030_inb : ∀ (i : grid0.Coords) (k0_t2 : Fin k0_t2_loop.trips) (v2758 : IVec S16 32) (v2764 : IVec S16 32) (k0_hw1213 : k0_chk1213 i k0_t2 v2758 v2764), ∀ (k0_h1 : k0_cond1 i k0_t2 = 1#1), ∀ a x, ((![v2764, v2758] : Fin 2 → IVec S16 32) a x).toNat < S160x142.size a := fun i k0_t2 v2758 v2764 k0_hw1213 k0_h1 => k0_hw1213 k0_h1

def k0_chk1214 (i : grid0.Coords) (k0_t2 : Fin k0_t2_loop.trips) (v2758 : IVec S16 32) (v2767 : IVec S16 32) : Prop :=
  (∀ (k0_h1 : k0_cond1 i k0_t2 = 1#1), ∀ a x, ((![v2767, v2758] : Fin 2 → IVec S16 32) a x).toNat < S160x142.size a)
theorem k0_idx2032_inb : ∀ (i : grid0.Coords) (k0_t2 : Fin k0_t2_loop.trips) (v2758 : IVec S16 32) (v2767 : IVec S16 32) (k0_hw1214 : k0_chk1214 i k0_t2 v2758 v2767), ∀ (k0_h1 : k0_cond1 i k0_t2 = 1#1), ∀ a x, ((![v2767, v2758] : Fin 2 → IVec S16 32) a x).toNat < S160x142.size a := fun i k0_t2 v2758 v2767 k0_hw1214 k0_h1 => k0_hw1214 k0_h1

def k0_chk1215 (i : grid0.Coords) (k0_t2 : Fin k0_t2_loop.trips) (v2758 : IVec S16 32) (v2770 : IVec S16 32) : Prop :=
  (∀ (k0_h1 : k0_cond1 i k0_t2 = 1#1), ∀ a x, ((![v2770, v2758] : Fin 2 → IVec S16 32) a x).toNat < S160x142.size a)
theorem k0_idx2034_inb : ∀ (i : grid0.Coords) (k0_t2 : Fin k0_t2_loop.trips) (v2758 : IVec S16 32) (v2770 : IVec S16 32) (k0_hw1215 : k0_chk1215 i k0_t2 v2758 v2770), ∀ (k0_h1 : k0_cond1 i k0_t2 = 1#1), ∀ a x, ((![v2770, v2758] : Fin 2 → IVec S16 32) a x).toNat < S160x142.size a := fun i k0_t2 v2758 v2770 k0_hw1215 k0_h1 => k0_hw1215 k0_h1

def k0_chk1216 (i : grid0.Coords) (k0_t2 : Fin k0_t2_loop.trips) (v2758 : IVec S16 32) (v2773 : IVec S16 32) : Prop :=
  (∀ (k0_h1 : k0_cond1 i k0_t2 = 1#1), ∀ a x, ((![v2773, v2758] : Fin 2 → IVec S16 32) a x).toNat < S160x142.size a)
theorem k0_idx2036_inb : ∀ (i : grid0.Coords) (k0_t2 : Fin k0_t2_loop.trips) (v2758 : IVec S16 32) (v2773 : IVec S16 32) (k0_hw1216 : k0_chk1216 i k0_t2 v2758 v2773), ∀ (k0_h1 : k0_cond1 i k0_t2 = 1#1), ∀ a x, ((![v2773, v2758] : Fin 2 → IVec S16 32) a x).toNat < S160x142.size a := fun i k0_t2 v2758 v2773 k0_hw1216 k0_h1 => k0_hw1216 k0_h1

def k0_chk1217 (i : grid0.Coords) (k0_t2 : Fin k0_t2_loop.trips) (v2758 : IVec S16 32) (v2776 : IVec S16 32) : Prop :=
  (∀ (k0_h1 : k0_cond1 i k0_t2 = 1#1), ∀ a x, ((![v2776, v2758] : Fin 2 → IVec S16 32) a x).toNat < S160x142.size a)
theorem k0_idx2038_inb : ∀ (i : grid0.Coords) (k0_t2 : Fin k0_t2_loop.trips) (v2758 : IVec S16 32) (v2776 : IVec S16 32) (k0_hw1217 : k0_chk1217 i k0_t2 v2758 v2776), ∀ (k0_h1 : k0_cond1 i k0_t2 = 1#1), ∀ a x, ((![v2776, v2758] : Fin 2 → IVec S16 32) a x).toNat < S160x142.size a := fun i k0_t2 v2758 v2776 k0_hw1217 k0_h1 => k0_hw1217 k0_h1

def k0_chk1218 (i : grid0.Coords) (k0_t2 : Fin k0_t2_loop.trips) (v2758 : IVec S16 32) (v2779 : IVec S16 32) : Prop :=
  (∀ (k0_h1 : k0_cond1 i k0_t2 = 1#1), ∀ a x, ((![v2779, v2758] : Fin 2 → IVec S16 32) a x).toNat < S160x142.size a)
theorem k0_idx2040_inb : ∀ (i : grid0.Coords) (k0_t2 : Fin k0_t2_loop.trips) (v2758 : IVec S16 32) (v2779 : IVec S16 32) (k0_hw1218 : k0_chk1218 i k0_t2 v2758 v2779), ∀ (k0_h1 : k0_cond1 i k0_t2 = 1#1), ∀ a x, ((![v2779, v2758] : Fin 2 → IVec S16 32) a x).toNat < S160x142.size a := fun i k0_t2 v2758 v2779 k0_hw1218 k0_h1 => k0_hw1218 k0_h1

def k0_chk1219 (i : grid0.Coords) (k0_t2 : Fin k0_t2_loop.trips) (v2758 : IVec S16 32) (v2782 : IVec S16 32) : Prop :=
  (∀ (k0_h1 : k0_cond1 i k0_t2 = 1#1), ∀ a x, ((![v2782, v2758] : Fin 2 → IVec S16 32) a x).toNat < S160x142.size a)
theorem k0_idx2042_inb : ∀ (i : grid0.Coords) (k0_t2 : Fin k0_t2_loop.trips) (v2758 : IVec S16 32) (v2782 : IVec S16 32) (k0_hw1219 : k0_chk1219 i k0_t2 v2758 v2782), ∀ (k0_h1 : k0_cond1 i k0_t2 = 1#1), ∀ a x, ((![v2782, v2758] : Fin 2 → IVec S16 32) a x).toNat < S160x142.size a := fun i k0_t2 v2758 v2782 k0_hw1219 k0_h1 => k0_hw1219 k0_h1

def k0_chk1220 (i : grid0.Coords) (k0_t2 : Fin k0_t2_loop.trips) (v2758 : IVec S16 32) (v2785 : IVec S16 32) : Prop :=
  (∀ (k0_h1 : k0_cond1 i k0_t2 = 1#1), ∀ a x, ((![v2785, v2758] : Fin 2 → IVec S16 32) a x).toNat < S160x142.size a)
theorem k0_idx2044_inb : ∀ (i : grid0.Coords) (k0_t2 : Fin k0_t2_loop.trips) (v2758 : IVec S16 32) (v2785 : IVec S16 32) (k0_hw1220 : k0_chk1220 i k0_t2 v2758 v2785), ∀ (k0_h1 : k0_cond1 i k0_t2 = 1#1), ∀ a x, ((![v2785, v2758] : Fin 2 → IVec S16 32) a x).toNat < S160x142.size a := fun i k0_t2 v2758 v2785 k0_hw1220 k0_h1 => k0_hw1220 k0_h1

def k0_chk1211 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) : Prop :=
  (∀ (k0_h1 : k0_cond1 i k0_t2 = 1#1), ∀ a x, ((![v15, v2758] : Fin 2 → IVec S16 32) a x).toNat < S256x142.size a) ∧
  (∀ (k0_h1 : k0_cond1 i k0_t2 = 1#1), ∀ a x, ((![v20, v2758] : Fin 2 → IVec S16 32) a x).toNat < S256x142.size a) ∧
  (∀ (k0_h1 : k0_cond1 i k0_t2 = 1#1), ∀ a x, ((![v25, v2758] : Fin 2 → IVec S16 32) a x).toNat < S256x142.size a) ∧
  (∀ (k0_h1 : k0_cond1 i k0_t2 = 1#1), ∀ a x, ((![v30, v2758] : Fin 2 → IVec S16 32) a x).toNat < S256x142.size a) ∧
  (∀ (k0_h1 : k0_cond1 i k0_t2 = 1#1), ∀ a x, ((![v35, v2758] : Fin 2 → IVec S16 32) a x).toNat < S256x142.size a) ∧
  (∀ (k0_h1 : k0_cond1 i k0_t2 = 1#1), ∀ a x, ((![v40, v2758] : Fin 2 → IVec S16 32) a x).toNat < S256x142.size a) ∧
  (∀ (k0_h1 : k0_cond1 i k0_t2 = 1#1), ∀ a x, ((![v45, v2758] : Fin 2 → IVec S16 32) a x).toNat < S256x142.size a) ∧
  (∀ (k0_h1 : k0_cond1 i k0_t2 = 1#1), ∀ a x, ((![v50, v2758] : Fin 2 → IVec S16 32) a x).toNat < S256x142.size a) ∧
  (∀ (k0_h1 : k0_cond1 i k0_t2 = 1#1), ∀ a x, ((![v55, v2758] : Fin 2 → IVec S16 32) a x).toNat < S256x142.size a) ∧
  (∀ (k0_h1 : k0_cond1 i k0_t2 = 1#1), ∀ a x, ((![v60, v2758] : Fin 2 → IVec S16 32) a x).toNat < S256x142.size a)
theorem k0_idx2027_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v15, v2758] : Fin 2 → IVec S16 32) a x).toNat < S256x142.size a := fun i k0_t2 v15 v20 v25 v30 v35 v40 v45 v50 v55 v60 v2758 k0_hw1211 k0_h1 => k0_hw1211.1 k0_h1
theorem k0_idx2029_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v20, v2758] : Fin 2 → IVec S16 32) a x).toNat < S256x142.size a := fun i k0_t2 v15 v20 v25 v30 v35 v40 v45 v50 v55 v60 v2758 k0_hw1211 k0_h1 => k0_hw1211.2.1 k0_h1
theorem k0_idx2031_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v25, v2758] : Fin 2 → IVec S16 32) a x).toNat < S256x142.size a := fun i k0_t2 v15 v20 v25 v30 v35 v40 v45 v50 v55 v60 v2758 k0_hw1211 k0_h1 => k0_hw1211.2.2.1 k0_h1
theorem k0_idx2033_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v30, v2758] : Fin 2 → IVec S16 32) a x).toNat < S256x142.size a := fun i k0_t2 v15 v20 v25 v30 v35 v40 v45 v50 v55 v60 v2758 k0_hw1211 k0_h1 => k0_hw1211.2.2.2.1 k0_h1
theorem k0_idx2035_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v35, v2758] : Fin 2 → IVec S16 32) a x).toNat < S256x142.size a := fun i k0_t2 v15 v20 v25 v30 v35 v40 v45 v50 v55 v60 v2758 k0_hw1211 k0_h1 => k0_hw1211.2.2.2.2.1 k0_h1
theorem k0_idx2037_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v40, v2758] : Fin 2 → IVec S16 32) a x).toNat < S256x142.size a := fun i k0_t2 v15 v20 v25 v30 v35 v40 v45 v50 v55 v60 v2758 k0_hw1211 k0_h1 => k0_hw1211.2.2.2.2.2.1 k0_h1
theorem k0_idx2039_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v45, v2758] : Fin 2 → IVec S16 32) a x).toNat < S256x142.size a := fun i k0_t2 v15 v20 v25 v30 v35 v40 v45 v50 v55 v60 v2758 k0_hw1211 k0_h1 => k0_hw1211.2.2.2.2.2.2.1 k0_h1
theorem k0_idx2041_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v50, v2758] : Fin 2 → IVec S16 32) a x).toNat < S256x142.size a := fun i k0_t2 v15 v20 v25 v30 v35 v40 v45 v50 v55 v60 v2758 k0_hw1211 k0_h1 => k0_hw1211.2.2.2.2.2.2.2.1 k0_h1
theorem k0_idx2043_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v55, v2758] : Fin 2 → IVec S16 32) a x).toNat < S256x142.size a := fun i k0_t2 v15 v20 v25 v30 v35 v40 v45 v50 v55 v60 v2758 k0_hw1211 k0_h1 => k0_hw1211.2.2.2.2.2.2.2.2.1 k0_h1
theorem k0_idx2045_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2758 : IVec S16 32) (k0_hw1211 : k0_chk1211 i k0_t2 v15 v20 v25 v30 v35 v40 v45 v50 v55 v60 v2758), ∀ (k0_h1 : k0_cond1 i k0_t2 = 1#1), ∀ a x, ((![v60, v2758] : Fin 2 → IVec S16 32) a x).toNat < S256x142.size a := fun i k0_t2 v15 v20 v25 v30 v35 v40 v45 v50 v55 v60 v2758 k0_hw1211 k0_h1 => k0_hw1211.2.2.2.2.2.2.2.2.2 k0_h1

def k0_chk1221 (i : grid0.Coords) (k0_t2 : Fin k0_t2_loop.trips) (v2758 : IVec S16 32) (v2788 : IVec S16 32) : Prop :=
  (∀ (k0_h1 : k0_cond1 i k0_t2 = 1#1), ∀ a x, ((![v2788, v2758] : Fin 2 → IVec S16 32) a x).toNat < S160x142.size a)
theorem k0_idx2046_inb : ∀ (i : grid0.Coords) (k0_t2 : Fin k0_t2_loop.trips) (v2758 : IVec S16 32) (v2788 : IVec S16 32) (k0_hw1221 : k0_chk1221 i k0_t2 v2758 v2788), ∀ (k0_h1 : k0_cond1 i k0_t2 = 1#1), ∀ a x, ((![v2788, v2758] : Fin 2 → IVec S16 32) a x).toNat < S160x142.size a := fun i k0_t2 v2758 v2788 k0_hw1221 k0_h1 => k0_hw1221 k0_h1

def k0_chk1223 (i : grid0.Coords) (k0_t2 : Fin k0_t2_loop.trips) (v2789 : IVec S16 32) (v2792 : IVec S16 32) : Prop :=
  (∀ (k0_h1 : k0_cond1 i k0_t2 = 1#1), ∀ a x, ((![v2792, v2789] : Fin 2 → IVec S16 32) a x).toNat < S160x142.size a)
theorem k0_idx2048_inb : ∀ (i : grid0.Coords) (k0_t2 : Fin k0_t2_loop.trips) (v2789 : IVec S16 32) (v2792 : IVec S16 32) (k0_hw1223 : k0_chk1223 i k0_t2 v2789 v2792), ∀ (k0_h1 : k0_cond1 i k0_t2 = 1#1), ∀ a x, ((![v2792, v2789] : Fin 2 → IVec S16 32) a x).toNat < S160x142.size a := fun i k0_t2 v2789 v2792 k0_hw1223 k0_h1 => k0_hw1223 k0_h1

def k0_chk1224 (i : grid0.Coords) (k0_t2 : Fin k0_t2_loop.trips) (v2789 : IVec S16 32) (v2795 : IVec S16 32) : Prop :=
  (∀ (k0_h1 : k0_cond1 i k0_t2 = 1#1), ∀ a x, ((![v2795, v2789] : Fin 2 → IVec S16 32) a x).toNat < S160x142.size a)
theorem k0_idx2050_inb : ∀ (i : grid0.Coords) (k0_t2 : Fin k0_t2_loop.trips) (v2789 : IVec S16 32) (v2795 : IVec S16 32) (k0_hw1224 : k0_chk1224 i k0_t2 v2789 v2795), ∀ (k0_h1 : k0_cond1 i k0_t2 = 1#1), ∀ a x, ((![v2795, v2789] : Fin 2 → IVec S16 32) a x).toNat < S160x142.size a := fun i k0_t2 v2789 v2795 k0_hw1224 k0_h1 => k0_hw1224 k0_h1

def k0_chk1225 (i : grid0.Coords) (k0_t2 : Fin k0_t2_loop.trips) (v2789 : IVec S16 32) (v2798 : IVec S16 32) : Prop :=
  (∀ (k0_h1 : k0_cond1 i k0_t2 = 1#1), ∀ a x, ((![v2798, v2789] : Fin 2 → IVec S16 32) a x).toNat < S160x142.size a)
theorem k0_idx2052_inb : ∀ (i : grid0.Coords) (k0_t2 : Fin k0_t2_loop.trips) (v2789 : IVec S16 32) (v2798 : IVec S16 32) (k0_hw1225 : k0_chk1225 i k0_t2 v2789 v2798), ∀ (k0_h1 : k0_cond1 i k0_t2 = 1#1), ∀ a x, ((![v2798, v2789] : Fin 2 → IVec S16 32) a x).toNat < S160x142.size a := fun i k0_t2 v2789 v2798 k0_hw1225 k0_h1 => k0_hw1225 k0_h1

def k0_chk1226 (i : grid0.Coords) (k0_t2 : Fin k0_t2_loop.trips) (v2789 : IVec S16 32) (v2801 : IVec S16 32) : Prop :=
  (∀ (k0_h1 : k0_cond1 i k0_t2 = 1#1), ∀ a x, ((![v2801, v2789] : Fin 2 → IVec S16 32) a x).toNat < S160x142.size a)
theorem k0_idx2054_inb : ∀ (i : grid0.Coords) (k0_t2 : Fin k0_t2_loop.trips) (v2789 : IVec S16 32) (v2801 : IVec S16 32) (k0_hw1226 : k0_chk1226 i k0_t2 v2789 v2801), ∀ (k0_h1 : k0_cond1 i k0_t2 = 1#1), ∀ a x, ((![v2801, v2789] : Fin 2 → IVec S16 32) a x).toNat < S160x142.size a := fun i k0_t2 v2789 v2801 k0_hw1226 k0_h1 => k0_hw1226 k0_h1

def k0_chk1227 (i : grid0.Coords) (k0_t2 : Fin k0_t2_loop.trips) (v2789 : IVec S16 32) (v2804 : IVec S16 32) : Prop :=
  (∀ (k0_h1 : k0_cond1 i k0_t2 = 1#1), ∀ a x, ((![v2804, v2789] : Fin 2 → IVec S16 32) a x).toNat < S160x142.size a)
theorem k0_idx2056_inb : ∀ (i : grid0.Coords) (k0_t2 : Fin k0_t2_loop.trips) (v2789 : IVec S16 32) (v2804 : IVec S16 32) (k0_hw1227 : k0_chk1227 i k0_t2 v2789 v2804), ∀ (k0_h1 : k0_cond1 i k0_t2 = 1#1), ∀ a x, ((![v2804, v2789] : Fin 2 → IVec S16 32) a x).toNat < S160x142.size a := fun i k0_t2 v2789 v2804 k0_hw1227 k0_h1 => k0_hw1227 k0_h1

def k0_chk1228 (i : grid0.Coords) (k0_t2 : Fin k0_t2_loop.trips) (v2789 : IVec S16 32) (v2807 : IVec S16 32) : Prop :=
  (∀ (k0_h1 : k0_cond1 i k0_t2 = 1#1), ∀ a x, ((![v2807, v2789] : Fin 2 → IVec S16 32) a x).toNat < S160x142.size a)
theorem k0_idx2058_inb : ∀ (i : grid0.Coords) (k0_t2 : Fin k0_t2_loop.trips) (v2789 : IVec S16 32) (v2807 : IVec S16 32) (k0_hw1228 : k0_chk1228 i k0_t2 v2789 v2807), ∀ (k0_h1 : k0_cond1 i k0_t2 = 1#1), ∀ a x, ((![v2807, v2789] : Fin 2 → IVec S16 32) a x).toNat < S160x142.size a := fun i k0_t2 v2789 v2807 k0_hw1228 k0_h1 => k0_hw1228 k0_h1

def k0_chk1229 (i : grid0.Coords) (k0_t2 : Fin k0_t2_loop.trips) (v2789 : IVec S16 32) (v2810 : IVec S16 32) : Prop :=
  (∀ (k0_h1 : k0_cond1 i k0_t2 = 1#1), ∀ a x, ((![v2810, v2789] : Fin 2 → IVec S16 32) a x).toNat < S160x142.size a)
theorem k0_idx2060_inb : ∀ (i : grid0.Coords) (k0_t2 : Fin k0_t2_loop.trips) (v2789 : IVec S16 32) (v2810 : IVec S16 32) (k0_hw1229 : k0_chk1229 i k0_t2 v2789 v2810), ∀ (k0_h1 : k0_cond1 i k0_t2 = 1#1), ∀ a x, ((![v2810, v2789] : Fin 2 → IVec S16 32) a x).toNat < S160x142.size a := fun i k0_t2 v2789 v2810 k0_hw1229 k0_h1 => k0_hw1229 k0_h1

def k0_chk1230 (i : grid0.Coords) (k0_t2 : Fin k0_t2_loop.trips) (v2789 : IVec S16 32) (v2813 : IVec S16 32) : Prop :=
  (∀ (k0_h1 : k0_cond1 i k0_t2 = 1#1), ∀ a x, ((![v2813, v2789] : Fin 2 → IVec S16 32) a x).toNat < S160x142.size a)
theorem k0_idx2062_inb : ∀ (i : grid0.Coords) (k0_t2 : Fin k0_t2_loop.trips) (v2789 : IVec S16 32) (v2813 : IVec S16 32) (k0_hw1230 : k0_chk1230 i k0_t2 v2789 v2813), ∀ (k0_h1 : k0_cond1 i k0_t2 = 1#1), ∀ a x, ((![v2813, v2789] : Fin 2 → IVec S16 32) a x).toNat < S160x142.size a := fun i k0_t2 v2789 v2813 k0_hw1230 k0_h1 => k0_hw1230 k0_h1

def k0_chk1231 (i : grid0.Coords) (k0_t2 : Fin k0_t2_loop.trips) (v2789 : IVec S16 32) (v2816 : IVec S16 32) : Prop :=
  (∀ (k0_h1 : k0_cond1 i k0_t2 = 1#1), ∀ a x, ((![v2816, v2789] : Fin 2 → IVec S16 32) a x).toNat < S160x142.size a)
theorem k0_idx2064_inb : ∀ (i : grid0.Coords) (k0_t2 : Fin k0_t2_loop.trips) (v2789 : IVec S16 32) (v2816 : IVec S16 32) (k0_hw1231 : k0_chk1231 i k0_t2 v2789 v2816), ∀ (k0_h1 : k0_cond1 i k0_t2 = 1#1), ∀ a x, ((![v2816, v2789] : Fin 2 → IVec S16 32) a x).toNat < S160x142.size a := fun i k0_t2 v2789 v2816 k0_hw1231 k0_h1 => k0_hw1231 k0_h1

def k0_chk1222 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) : Prop :=
  (∀ (k0_h1 : k0_cond1 i k0_t2 = 1#1), ∀ a x, ((![v15, v2789] : Fin 2 → IVec S16 32) a x).toNat < S256x142.size a) ∧
  (∀ (k0_h1 : k0_cond1 i k0_t2 = 1#1), ∀ a x, ((![v20, v2789] : Fin 2 → IVec S16 32) a x).toNat < S256x142.size a) ∧
  (∀ (k0_h1 : k0_cond1 i k0_t2 = 1#1), ∀ a x, ((![v25, v2789] : Fin 2 → IVec S16 32) a x).toNat < S256x142.size a) ∧
  (∀ (k0_h1 : k0_cond1 i k0_t2 = 1#1), ∀ a x, ((![v30, v2789] : Fin 2 → IVec S16 32) a x).toNat < S256x142.size a) ∧
  (∀ (k0_h1 : k0_cond1 i k0_t2 = 1#1), ∀ a x, ((![v35, v2789] : Fin 2 → IVec S16 32) a x).toNat < S256x142.size a) ∧
  (∀ (k0_h1 : k0_cond1 i k0_t2 = 1#1), ∀ a x, ((![v40, v2789] : Fin 2 → IVec S16 32) a x).toNat < S256x142.size a) ∧
  (∀ (k0_h1 : k0_cond1 i k0_t2 = 1#1), ∀ a x, ((![v45, v2789] : Fin 2 → IVec S16 32) a x).toNat < S256x142.size a) ∧
  (∀ (k0_h1 : k0_cond1 i k0_t2 = 1#1), ∀ a x, ((![v50, v2789] : Fin 2 → IVec S16 32) a x).toNat < S256x142.size a) ∧
  (∀ (k0_h1 : k0_cond1 i k0_t2 = 1#1), ∀ a x, ((![v55, v2789] : Fin 2 → IVec S16 32) a x).toNat < S256x142.size a) ∧
  (∀ (k0_h1 : k0_cond1 i k0_t2 = 1#1), ∀ a x, ((![v60, v2789] : Fin 2 → IVec S16 32) a x).toNat < S256x142.size a)
theorem k0_idx2047_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v15, v2789] : Fin 2 → IVec S16 32) a x).toNat < S256x142.size a := fun i k0_t2 v15 v20 v25 v30 v35 v40 v45 v50 v55 v60 v2789 k0_hw1222 k0_h1 => k0_hw1222.1 k0_h1
theorem k0_idx2049_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v20, v2789] : Fin 2 → IVec S16 32) a x).toNat < S256x142.size a := fun i k0_t2 v15 v20 v25 v30 v35 v40 v45 v50 v55 v60 v2789 k0_hw1222 k0_h1 => k0_hw1222.2.1 k0_h1
theorem k0_idx2051_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v25, v2789] : Fin 2 → IVec S16 32) a x).toNat < S256x142.size a := fun i k0_t2 v15 v20 v25 v30 v35 v40 v45 v50 v55 v60 v2789 k0_hw1222 k0_h1 => k0_hw1222.2.2.1 k0_h1
theorem k0_idx2053_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v30, v2789] : Fin 2 → IVec S16 32) a x).toNat < S256x142.size a := fun i k0_t2 v15 v20 v25 v30 v35 v40 v45 v50 v55 v60 v2789 k0_hw1222 k0_h1 => k0_hw1222.2.2.2.1 k0_h1
theorem k0_idx2055_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v35, v2789] : Fin 2 → IVec S16 32) a x).toNat < S256x142.size a := fun i k0_t2 v15 v20 v25 v30 v35 v40 v45 v50 v55 v60 v2789 k0_hw1222 k0_h1 => k0_hw1222.2.2.2.2.1 k0_h1
theorem k0_idx2057_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v40, v2789] : Fin 2 → IVec S16 32) a x).toNat < S256x142.size a := fun i k0_t2 v15 v20 v25 v30 v35 v40 v45 v50 v55 v60 v2789 k0_hw1222 k0_h1 => k0_hw1222.2.2.2.2.2.1 k0_h1
theorem k0_idx2059_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v45, v2789] : Fin 2 → IVec S16 32) a x).toNat < S256x142.size a := fun i k0_t2 v15 v20 v25 v30 v35 v40 v45 v50 v55 v60 v2789 k0_hw1222 k0_h1 => k0_hw1222.2.2.2.2.2.2.1 k0_h1
theorem k0_idx2061_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v50, v2789] : Fin 2 → IVec S16 32) a x).toNat < S256x142.size a := fun i k0_t2 v15 v20 v25 v30 v35 v40 v45 v50 v55 v60 v2789 k0_hw1222 k0_h1 => k0_hw1222.2.2.2.2.2.2.2.1 k0_h1
theorem k0_idx2063_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v55, v2789] : Fin 2 → IVec S16 32) a x).toNat < S256x142.size a := fun i k0_t2 v15 v20 v25 v30 v35 v40 v45 v50 v55 v60 v2789 k0_hw1222 k0_h1 => k0_hw1222.2.2.2.2.2.2.2.2.1 k0_h1
theorem k0_idx2065_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2789 : IVec S16 32) (k0_hw1222 : k0_chk1222 i k0_t2 v15 v20 v25 v30 v35 v40 v45 v50 v55 v60 v2789), ∀ (k0_h1 : k0_cond1 i k0_t2 = 1#1), ∀ a x, ((![v60, v2789] : Fin 2 → IVec S16 32) a x).toNat < S256x142.size a := fun i k0_t2 v15 v20 v25 v30 v35 v40 v45 v50 v55 v60 v2789 k0_hw1222 k0_h1 => k0_hw1222.2.2.2.2.2.2.2.2.2 k0_h1

def k0_chk1232 (i : grid0.Coords) (k0_t2 : Fin k0_t2_loop.trips) (v2789 : IVec S16 32) (v2819 : IVec S16 32) : Prop :=
  (∀ (k0_h1 : k0_cond1 i k0_t2 = 1#1), ∀ a x, ((![v2819, v2789] : Fin 2 → IVec S16 32) a x).toNat < S160x142.size a)
theorem k0_idx2066_inb : ∀ (i : grid0.Coords) (k0_t2 : Fin k0_t2_loop.trips) (v2789 : IVec S16 32) (v2819 : IVec S16 32) (k0_hw1232 : k0_chk1232 i k0_t2 v2789 v2819), ∀ (k0_h1 : k0_cond1 i k0_t2 = 1#1), ∀ a x, ((![v2819, v2789] : Fin 2 → IVec S16 32) a x).toNat < S160x142.size a := fun i k0_t2 v2789 v2819 k0_hw1232 k0_h1 => k0_hw1232 k0_h1

def k0_chk1234 (i : grid0.Coords) (k0_t2 : Fin k0_t2_loop.trips) (v2820 : IVec S16 32) (v2823 : IVec S16 32) : Prop :=
  (∀ (k0_h1 : k0_cond1 i k0_t2 = 1#1), ∀ a x, ((![v2823, v2820] : Fin 2 → IVec S16 32) a x).toNat < S160x142.size a)
theorem k0_idx2068_inb : ∀ (i : grid0.Coords) (k0_t2 : Fin k0_t2_loop.trips) (v2820 : IVec S16 32) (v2823 : IVec S16 32) (k0_hw1234 : k0_chk1234 i k0_t2 v2820 v2823), ∀ (k0_h1 : k0_cond1 i k0_t2 = 1#1), ∀ a x, ((![v2823, v2820] : Fin 2 → IVec S16 32) a x).toNat < S160x142.size a := fun i k0_t2 v2820 v2823 k0_hw1234 k0_h1 => k0_hw1234 k0_h1

def k0_chk1235 (i : grid0.Coords) (k0_t2 : Fin k0_t2_loop.trips) (v2820 : IVec S16 32) (v2826 : IVec S16 32) : Prop :=
  (∀ (k0_h1 : k0_cond1 i k0_t2 = 1#1), ∀ a x, ((![v2826, v2820] : Fin 2 → IVec S16 32) a x).toNat < S160x142.size a)
theorem k0_idx2070_inb : ∀ (i : grid0.Coords) (k0_t2 : Fin k0_t2_loop.trips) (v2820 : IVec S16 32) (v2826 : IVec S16 32) (k0_hw1235 : k0_chk1235 i k0_t2 v2820 v2826), ∀ (k0_h1 : k0_cond1 i k0_t2 = 1#1), ∀ a x, ((![v2826, v2820] : Fin 2 → IVec S16 32) a x).toNat < S160x142.size a := fun i k0_t2 v2820 v2826 k0_hw1235 k0_h1 => k0_hw1235 k0_h1

def k0_chk1236 (i : grid0.Coords) (k0_t2 : Fin k0_t2_loop.trips) (v2820 : IVec S16 32) (v2829 : IVec S16 32) : Prop :=
  (∀ (k0_h1 : k0_cond1 i k0_t2 = 1#1), ∀ a x, ((![v2829, v2820] : Fin 2 → IVec S16 32) a x).toNat < S160x142.size a)
theorem k0_idx2072_inb : ∀ (i : grid0.Coords) (k0_t2 : Fin k0_t2_loop.trips) (v2820 : IVec S16 32) (v2829 : IVec S16 32) (k0_hw1236 : k0_chk1236 i k0_t2 v2820 v2829), ∀ (k0_h1 : k0_cond1 i k0_t2 = 1#1), ∀ a x, ((![v2829, v2820] : Fin 2 → IVec S16 32) a x).toNat < S160x142.size a := fun i k0_t2 v2820 v2829 k0_hw1236 k0_h1 => k0_hw1236 k0_h1

def k0_chk1237 (i : grid0.Coords) (k0_t2 : Fin k0_t2_loop.trips) (v2820 : IVec S16 32) (v2832 : IVec S16 32) : Prop :=
  (∀ (k0_h1 : k0_cond1 i k0_t2 = 1#1), ∀ a x, ((![v2832, v2820] : Fin 2 → IVec S16 32) a x).toNat < S160x142.size a)
theorem k0_idx2074_inb : ∀ (i : grid0.Coords) (k0_t2 : Fin k0_t2_loop.trips) (v2820 : IVec S16 32) (v2832 : IVec S16 32) (k0_hw1237 : k0_chk1237 i k0_t2 v2820 v2832), ∀ (k0_h1 : k0_cond1 i k0_t2 = 1#1), ∀ a x, ((![v2832, v2820] : Fin 2 → IVec S16 32) a x).toNat < S160x142.size a := fun i k0_t2 v2820 v2832 k0_hw1237 k0_h1 => k0_hw1237 k0_h1

def k0_chk1238 (i : grid0.Coords) (k0_t2 : Fin k0_t2_loop.trips) (v2820 : IVec S16 32) (v2835 : IVec S16 32) : Prop :=
  (∀ (k0_h1 : k0_cond1 i k0_t2 = 1#1), ∀ a x, ((![v2835, v2820] : Fin 2 → IVec S16 32) a x).toNat < S160x142.size a)
theorem k0_idx2076_inb : ∀ (i : grid0.Coords) (k0_t2 : Fin k0_t2_loop.trips) (v2820 : IVec S16 32) (v2835 : IVec S16 32) (k0_hw1238 : k0_chk1238 i k0_t2 v2820 v2835), ∀ (k0_h1 : k0_cond1 i k0_t2 = 1#1), ∀ a x, ((![v2835, v2820] : Fin 2 → IVec S16 32) a x).toNat < S160x142.size a := fun i k0_t2 v2820 v2835 k0_hw1238 k0_h1 => k0_hw1238 k0_h1

def k0_chk1239 (i : grid0.Coords) (k0_t2 : Fin k0_t2_loop.trips) (v2820 : IVec S16 32) (v2838 : IVec S16 32) : Prop :=
  (∀ (k0_h1 : k0_cond1 i k0_t2 = 1#1), ∀ a x, ((![v2838, v2820] : Fin 2 → IVec S16 32) a x).toNat < S160x142.size a)
theorem k0_idx2078_inb : ∀ (i : grid0.Coords) (k0_t2 : Fin k0_t2_loop.trips) (v2820 : IVec S16 32) (v2838 : IVec S16 32) (k0_hw1239 : k0_chk1239 i k0_t2 v2820 v2838), ∀ (k0_h1 : k0_cond1 i k0_t2 = 1#1), ∀ a x, ((![v2838, v2820] : Fin 2 → IVec S16 32) a x).toNat < S160x142.size a := fun i k0_t2 v2820 v2838 k0_hw1239 k0_h1 => k0_hw1239 k0_h1

def k0_chk1240 (i : grid0.Coords) (k0_t2 : Fin k0_t2_loop.trips) (v2820 : IVec S16 32) (v2841 : IVec S16 32) : Prop :=
  (∀ (k0_h1 : k0_cond1 i k0_t2 = 1#1), ∀ a x, ((![v2841, v2820] : Fin 2 → IVec S16 32) a x).toNat < S160x142.size a)
theorem k0_idx2080_inb : ∀ (i : grid0.Coords) (k0_t2 : Fin k0_t2_loop.trips) (v2820 : IVec S16 32) (v2841 : IVec S16 32) (k0_hw1240 : k0_chk1240 i k0_t2 v2820 v2841), ∀ (k0_h1 : k0_cond1 i k0_t2 = 1#1), ∀ a x, ((![v2841, v2820] : Fin 2 → IVec S16 32) a x).toNat < S160x142.size a := fun i k0_t2 v2820 v2841 k0_hw1240 k0_h1 => k0_hw1240 k0_h1

def k0_chk1241 (i : grid0.Coords) (k0_t2 : Fin k0_t2_loop.trips) (v2820 : IVec S16 32) (v2844 : IVec S16 32) : Prop :=
  (∀ (k0_h1 : k0_cond1 i k0_t2 = 1#1), ∀ a x, ((![v2844, v2820] : Fin 2 → IVec S16 32) a x).toNat < S160x142.size a)
theorem k0_idx2082_inb : ∀ (i : grid0.Coords) (k0_t2 : Fin k0_t2_loop.trips) (v2820 : IVec S16 32) (v2844 : IVec S16 32) (k0_hw1241 : k0_chk1241 i k0_t2 v2820 v2844), ∀ (k0_h1 : k0_cond1 i k0_t2 = 1#1), ∀ a x, ((![v2844, v2820] : Fin 2 → IVec S16 32) a x).toNat < S160x142.size a := fun i k0_t2 v2820 v2844 k0_hw1241 k0_h1 => k0_hw1241 k0_h1

def k0_chk1242 (i : grid0.Coords) (k0_t2 : Fin k0_t2_loop.trips) (v2820 : IVec S16 32) (v2847 : IVec S16 32) : Prop :=
  (∀ (k0_h1 : k0_cond1 i k0_t2 = 1#1), ∀ a x, ((![v2847, v2820] : Fin 2 → IVec S16 32) a x).toNat < S160x142.size a)
theorem k0_idx2084_inb : ∀ (i : grid0.Coords) (k0_t2 : Fin k0_t2_loop.trips) (v2820 : IVec S16 32) (v2847 : IVec S16 32) (k0_hw1242 : k0_chk1242 i k0_t2 v2820 v2847), ∀ (k0_h1 : k0_cond1 i k0_t2 = 1#1), ∀ a x, ((![v2847, v2820] : Fin 2 → IVec S16 32) a x).toNat < S160x142.size a := fun i k0_t2 v2820 v2847 k0_hw1242 k0_h1 => k0_hw1242 k0_h1

def k0_chk1233 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) : Prop :=
  (∀ (k0_h1 : k0_cond1 i k0_t2 = 1#1), ∀ a x, ((![v15, v2820] : Fin 2 → IVec S16 32) a x).toNat < S256x142.size a) ∧
  (∀ (k0_h1 : k0_cond1 i k0_t2 = 1#1), ∀ a x, ((![v20, v2820] : Fin 2 → IVec S16 32) a x).toNat < S256x142.size a) ∧
  (∀ (k0_h1 : k0_cond1 i k0_t2 = 1#1), ∀ a x, ((![v25, v2820] : Fin 2 → IVec S16 32) a x).toNat < S256x142.size a) ∧
  (∀ (k0_h1 : k0_cond1 i k0_t2 = 1#1), ∀ a x, ((![v30, v2820] : Fin 2 → IVec S16 32) a x).toNat < S256x142.size a) ∧
  (∀ (k0_h1 : k0_cond1 i k0_t2 = 1#1), ∀ a x, ((![v35, v2820] : Fin 2 → IVec S16 32) a x).toNat < S256x142.size a) ∧
  (∀ (k0_h1 : k0_cond1 i k0_t2 = 1#1), ∀ a x, ((![v40, v2820] : Fin 2 → IVec S16 32) a x).toNat < S256x142.size a) ∧
  (∀ (k0_h1 : k0_cond1 i k0_t2 = 1#1), ∀ a x, ((![v45, v2820] : Fin 2 → IVec S16 32) a x).toNat < S256x142.size a) ∧
  (∀ (k0_h1 : k0_cond1 i k0_t2 = 1#1), ∀ a x, ((![v50, v2820] : Fin 2 → IVec S16 32) a x).toNat < S256x142.size a) ∧
  (∀ (k0_h1 : k0_cond1 i k0_t2 = 1#1), ∀ a x, ((![v55, v2820] : Fin 2 → IVec S16 32) a x).toNat < S256x142.size a) ∧
  (∀ (k0_h1 : k0_cond1 i k0_t2 = 1#1), ∀ a x, ((![v60, v2820] : Fin 2 → IVec S16 32) a x).toNat < S256x142.size a)
theorem k0_idx2067_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v15, v2820] : Fin 2 → IVec S16 32) a x).toNat < S256x142.size a := fun i k0_t2 v15 v20 v25 v30 v35 v40 v45 v50 v55 v60 v2820 k0_hw1233 k0_h1 => k0_hw1233.1 k0_h1
theorem k0_idx2069_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v20, v2820] : Fin 2 → IVec S16 32) a x).toNat < S256x142.size a := fun i k0_t2 v15 v20 v25 v30 v35 v40 v45 v50 v55 v60 v2820 k0_hw1233 k0_h1 => k0_hw1233.2.1 k0_h1
theorem k0_idx2071_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v25, v2820] : Fin 2 → IVec S16 32) a x).toNat < S256x142.size a := fun i k0_t2 v15 v20 v25 v30 v35 v40 v45 v50 v55 v60 v2820 k0_hw1233 k0_h1 => k0_hw1233.2.2.1 k0_h1
theorem k0_idx2073_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v30, v2820] : Fin 2 → IVec S16 32) a x).toNat < S256x142.size a := fun i k0_t2 v15 v20 v25 v30 v35 v40 v45 v50 v55 v60 v2820 k0_hw1233 k0_h1 => k0_hw1233.2.2.2.1 k0_h1
theorem k0_idx2075_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v35, v2820] : Fin 2 → IVec S16 32) a x).toNat < S256x142.size a := fun i k0_t2 v15 v20 v25 v30 v35 v40 v45 v50 v55 v60 v2820 k0_hw1233 k0_h1 => k0_hw1233.2.2.2.2.1 k0_h1
theorem k0_idx2077_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v40, v2820] : Fin 2 → IVec S16 32) a x).toNat < S256x142.size a := fun i k0_t2 v15 v20 v25 v30 v35 v40 v45 v50 v55 v60 v2820 k0_hw1233 k0_h1 => k0_hw1233.2.2.2.2.2.1 k0_h1
theorem k0_idx2079_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v45, v2820] : Fin 2 → IVec S16 32) a x).toNat < S256x142.size a := fun i k0_t2 v15 v20 v25 v30 v35 v40 v45 v50 v55 v60 v2820 k0_hw1233 k0_h1 => k0_hw1233.2.2.2.2.2.2.1 k0_h1
theorem k0_idx2081_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v50, v2820] : Fin 2 → IVec S16 32) a x).toNat < S256x142.size a := fun i k0_t2 v15 v20 v25 v30 v35 v40 v45 v50 v55 v60 v2820 k0_hw1233 k0_h1 => k0_hw1233.2.2.2.2.2.2.2.1 k0_h1
theorem k0_idx2083_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v55, v2820] : Fin 2 → IVec S16 32) a x).toNat < S256x142.size a := fun i k0_t2 v15 v20 v25 v30 v35 v40 v45 v50 v55 v60 v2820 k0_hw1233 k0_h1 => k0_hw1233.2.2.2.2.2.2.2.2.1 k0_h1
theorem k0_idx2085_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2820 : IVec S16 32) (k0_hw1233 : k0_chk1233 i k0_t2 v15 v20 v25 v30 v35 v40 v45 v50 v55 v60 v2820), ∀ (k0_h1 : k0_cond1 i k0_t2 = 1#1), ∀ a x, ((![v60, v2820] : Fin 2 → IVec S16 32) a x).toNat < S256x142.size a := fun i k0_t2 v15 v20 v25 v30 v35 v40 v45 v50 v55 v60 v2820 k0_hw1233 k0_h1 => k0_hw1233.2.2.2.2.2.2.2.2.2 k0_h1

def k0_chk1243 (i : grid0.Coords) (k0_t2 : Fin k0_t2_loop.trips) (v2820 : IVec S16 32) (v2850 : IVec S16 32) : Prop :=
  (∀ (k0_h1 : k0_cond1 i k0_t2 = 1#1), ∀ a x, ((![v2850, v2820] : Fin 2 → IVec S16 32) a x).toNat < S160x142.size a)
theorem k0_idx2086_inb : ∀ (i : grid0.Coords) (k0_t2 : Fin k0_t2_loop.trips) (v2820 : IVec S16 32) (v2850 : IVec S16 32) (k0_hw1243 : k0_chk1243 i k0_t2 v2820 v2850), ∀ (k0_h1 : k0_cond1 i k0_t2 = 1#1), ∀ a x, ((![v2850, v2820] : Fin 2 → IVec S16 32) a x).toNat < S160x142.size a := fun i k0_t2 v2820 v2850 k0_hw1243 k0_h1 => k0_hw1243 k0_h1

def k0_chk1245 (i : grid0.Coords) (k0_t2 : Fin k0_t2_loop.trips) (v2851 : IVec S16 32) (v2854 : IVec S16 32) : Prop :=
  (∀ (k0_h1 : k0_cond1 i k0_t2 = 1#1), ∀ a x, ((![v2854, v2851] : Fin 2 → IVec S16 32) a x).toNat < S160x142.size a)
theorem k0_idx2088_inb : ∀ (i : grid0.Coords) (k0_t2 : Fin k0_t2_loop.trips) (v2851 : IVec S16 32) (v2854 : IVec S16 32) (k0_hw1245 : k0_chk1245 i k0_t2 v2851 v2854), ∀ (k0_h1 : k0_cond1 i k0_t2 = 1#1), ∀ a x, ((![v2854, v2851] : Fin 2 → IVec S16 32) a x).toNat < S160x142.size a := fun i k0_t2 v2851 v2854 k0_hw1245 k0_h1 => k0_hw1245 k0_h1

def k0_chk1246 (i : grid0.Coords) (k0_t2 : Fin k0_t2_loop.trips) (v2851 : IVec S16 32) (v2857 : IVec S16 32) : Prop :=
  (∀ (k0_h1 : k0_cond1 i k0_t2 = 1#1), ∀ a x, ((![v2857, v2851] : Fin 2 → IVec S16 32) a x).toNat < S160x142.size a)
theorem k0_idx2090_inb : ∀ (i : grid0.Coords) (k0_t2 : Fin k0_t2_loop.trips) (v2851 : IVec S16 32) (v2857 : IVec S16 32) (k0_hw1246 : k0_chk1246 i k0_t2 v2851 v2857), ∀ (k0_h1 : k0_cond1 i k0_t2 = 1#1), ∀ a x, ((![v2857, v2851] : Fin 2 → IVec S16 32) a x).toNat < S160x142.size a := fun i k0_t2 v2851 v2857 k0_hw1246 k0_h1 => k0_hw1246 k0_h1

def k0_chk1247 (i : grid0.Coords) (k0_t2 : Fin k0_t2_loop.trips) (v2851 : IVec S16 32) (v2860 : IVec S16 32) : Prop :=
  (∀ (k0_h1 : k0_cond1 i k0_t2 = 1#1), ∀ a x, ((![v2860, v2851] : Fin 2 → IVec S16 32) a x).toNat < S160x142.size a)
theorem k0_idx2092_inb : ∀ (i : grid0.Coords) (k0_t2 : Fin k0_t2_loop.trips) (v2851 : IVec S16 32) (v2860 : IVec S16 32) (k0_hw1247 : k0_chk1247 i k0_t2 v2851 v2860), ∀ (k0_h1 : k0_cond1 i k0_t2 = 1#1), ∀ a x, ((![v2860, v2851] : Fin 2 → IVec S16 32) a x).toNat < S160x142.size a := fun i k0_t2 v2851 v2860 k0_hw1247 k0_h1 => k0_hw1247 k0_h1

def k0_chk1248 (i : grid0.Coords) (k0_t2 : Fin k0_t2_loop.trips) (v2851 : IVec S16 32) (v2863 : IVec S16 32) : Prop :=
  (∀ (k0_h1 : k0_cond1 i k0_t2 = 1#1), ∀ a x, ((![v2863, v2851] : Fin 2 → IVec S16 32) a x).toNat < S160x142.size a)
theorem k0_idx2094_inb : ∀ (i : grid0.Coords) (k0_t2 : Fin k0_t2_loop.trips) (v2851 : IVec S16 32) (v2863 : IVec S16 32) (k0_hw1248 : k0_chk1248 i k0_t2 v2851 v2863), ∀ (k0_h1 : k0_cond1 i k0_t2 = 1#1), ∀ a x, ((![v2863, v2851] : Fin 2 → IVec S16 32) a x).toNat < S160x142.size a := fun i k0_t2 v2851 v2863 k0_hw1248 k0_h1 => k0_hw1248 k0_h1

def k0_chk1249 (i : grid0.Coords) (k0_t2 : Fin k0_t2_loop.trips) (v2851 : IVec S16 32) (v2866 : IVec S16 32) : Prop :=
  (∀ (k0_h1 : k0_cond1 i k0_t2 = 1#1), ∀ a x, ((![v2866, v2851] : Fin 2 → IVec S16 32) a x).toNat < S160x142.size a)
theorem k0_idx2096_inb : ∀ (i : grid0.Coords) (k0_t2 : Fin k0_t2_loop.trips) (v2851 : IVec S16 32) (v2866 : IVec S16 32) (k0_hw1249 : k0_chk1249 i k0_t2 v2851 v2866), ∀ (k0_h1 : k0_cond1 i k0_t2 = 1#1), ∀ a x, ((![v2866, v2851] : Fin 2 → IVec S16 32) a x).toNat < S160x142.size a := fun i k0_t2 v2851 v2866 k0_hw1249 k0_h1 => k0_hw1249 k0_h1

def k0_chk1250 (i : grid0.Coords) (k0_t2 : Fin k0_t2_loop.trips) (v2851 : IVec S16 32) (v2869 : IVec S16 32) : Prop :=
  (∀ (k0_h1 : k0_cond1 i k0_t2 = 1#1), ∀ a x, ((![v2869, v2851] : Fin 2 → IVec S16 32) a x).toNat < S160x142.size a)
theorem k0_idx2098_inb : ∀ (i : grid0.Coords) (k0_t2 : Fin k0_t2_loop.trips) (v2851 : IVec S16 32) (v2869 : IVec S16 32) (k0_hw1250 : k0_chk1250 i k0_t2 v2851 v2869), ∀ (k0_h1 : k0_cond1 i k0_t2 = 1#1), ∀ a x, ((![v2869, v2851] : Fin 2 → IVec S16 32) a x).toNat < S160x142.size a := fun i k0_t2 v2851 v2869 k0_hw1250 k0_h1 => k0_hw1250 k0_h1

def k0_chk1251 (i : grid0.Coords) (k0_t2 : Fin k0_t2_loop.trips) (v2851 : IVec S16 32) (v2872 : IVec S16 32) : Prop :=
  (∀ (k0_h1 : k0_cond1 i k0_t2 = 1#1), ∀ a x, ((![v2872, v2851] : Fin 2 → IVec S16 32) a x).toNat < S160x142.size a)
theorem k0_idx2100_inb : ∀ (i : grid0.Coords) (k0_t2 : Fin k0_t2_loop.trips) (v2851 : IVec S16 32) (v2872 : IVec S16 32) (k0_hw1251 : k0_chk1251 i k0_t2 v2851 v2872), ∀ (k0_h1 : k0_cond1 i k0_t2 = 1#1), ∀ a x, ((![v2872, v2851] : Fin 2 → IVec S16 32) a x).toNat < S160x142.size a := fun i k0_t2 v2851 v2872 k0_hw1251 k0_h1 => k0_hw1251 k0_h1

def k0_chk1252 (i : grid0.Coords) (k0_t2 : Fin k0_t2_loop.trips) (v2851 : IVec S16 32) (v2875 : IVec S16 32) : Prop :=
  (∀ (k0_h1 : k0_cond1 i k0_t2 = 1#1), ∀ a x, ((![v2875, v2851] : Fin 2 → IVec S16 32) a x).toNat < S160x142.size a)
theorem k0_idx2102_inb : ∀ (i : grid0.Coords) (k0_t2 : Fin k0_t2_loop.trips) (v2851 : IVec S16 32) (v2875 : IVec S16 32) (k0_hw1252 : k0_chk1252 i k0_t2 v2851 v2875), ∀ (k0_h1 : k0_cond1 i k0_t2 = 1#1), ∀ a x, ((![v2875, v2851] : Fin 2 → IVec S16 32) a x).toNat < S160x142.size a := fun i k0_t2 v2851 v2875 k0_hw1252 k0_h1 => k0_hw1252 k0_h1

def k0_chk1253 (i : grid0.Coords) (k0_t2 : Fin k0_t2_loop.trips) (v2851 : IVec S16 32) (v2878 : IVec S16 32) : Prop :=
  (∀ (k0_h1 : k0_cond1 i k0_t2 = 1#1), ∀ a x, ((![v2878, v2851] : Fin 2 → IVec S16 32) a x).toNat < S160x142.size a)
theorem k0_idx2104_inb : ∀ (i : grid0.Coords) (k0_t2 : Fin k0_t2_loop.trips) (v2851 : IVec S16 32) (v2878 : IVec S16 32) (k0_hw1253 : k0_chk1253 i k0_t2 v2851 v2878), ∀ (k0_h1 : k0_cond1 i k0_t2 = 1#1), ∀ a x, ((![v2878, v2851] : Fin 2 → IVec S16 32) a x).toNat < S160x142.size a := fun i k0_t2 v2851 v2878 k0_hw1253 k0_h1 => k0_hw1253 k0_h1

def k0_chk1244 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) : Prop :=
  (∀ (k0_h1 : k0_cond1 i k0_t2 = 1#1), ∀ a x, ((![v15, v2851] : Fin 2 → IVec S16 32) a x).toNat < S256x142.size a) ∧
  (∀ (k0_h1 : k0_cond1 i k0_t2 = 1#1), ∀ a x, ((![v20, v2851] : Fin 2 → IVec S16 32) a x).toNat < S256x142.size a) ∧
  (∀ (k0_h1 : k0_cond1 i k0_t2 = 1#1), ∀ a x, ((![v25, v2851] : Fin 2 → IVec S16 32) a x).toNat < S256x142.size a) ∧
  (∀ (k0_h1 : k0_cond1 i k0_t2 = 1#1), ∀ a x, ((![v30, v2851] : Fin 2 → IVec S16 32) a x).toNat < S256x142.size a) ∧
  (∀ (k0_h1 : k0_cond1 i k0_t2 = 1#1), ∀ a x, ((![v35, v2851] : Fin 2 → IVec S16 32) a x).toNat < S256x142.size a) ∧
  (∀ (k0_h1 : k0_cond1 i k0_t2 = 1#1), ∀ a x, ((![v40, v2851] : Fin 2 → IVec S16 32) a x).toNat < S256x142.size a) ∧
  (∀ (k0_h1 : k0_cond1 i k0_t2 = 1#1), ∀ a x, ((![v45, v2851] : Fin 2 → IVec S16 32) a x).toNat < S256x142.size a) ∧
  (∀ (k0_h1 : k0_cond1 i k0_t2 = 1#1), ∀ a x, ((![v50, v2851] : Fin 2 → IVec S16 32) a x).toNat < S256x142.size a) ∧
  (∀ (k0_h1 : k0_cond1 i k0_t2 = 1#1), ∀ a x, ((![v55, v2851] : Fin 2 → IVec S16 32) a x).toNat < S256x142.size a) ∧
  (∀ (k0_h1 : k0_cond1 i k0_t2 = 1#1), ∀ a x, ((![v60, v2851] : Fin 2 → IVec S16 32) a x).toNat < S256x142.size a)
theorem k0_idx2087_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v15, v2851] : Fin 2 → IVec S16 32) a x).toNat < S256x142.size a := fun i k0_t2 v15 v20 v25 v30 v35 v40 v45 v50 v55 v60 v2851 k0_hw1244 k0_h1 => k0_hw1244.1 k0_h1
theorem k0_idx2089_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v20, v2851] : Fin 2 → IVec S16 32) a x).toNat < S256x142.size a := fun i k0_t2 v15 v20 v25 v30 v35 v40 v45 v50 v55 v60 v2851 k0_hw1244 k0_h1 => k0_hw1244.2.1 k0_h1
theorem k0_idx2091_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v25, v2851] : Fin 2 → IVec S16 32) a x).toNat < S256x142.size a := fun i k0_t2 v15 v20 v25 v30 v35 v40 v45 v50 v55 v60 v2851 k0_hw1244 k0_h1 => k0_hw1244.2.2.1 k0_h1
theorem k0_idx2093_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v30, v2851] : Fin 2 → IVec S16 32) a x).toNat < S256x142.size a := fun i k0_t2 v15 v20 v25 v30 v35 v40 v45 v50 v55 v60 v2851 k0_hw1244 k0_h1 => k0_hw1244.2.2.2.1 k0_h1
theorem k0_idx2095_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v35, v2851] : Fin 2 → IVec S16 32) a x).toNat < S256x142.size a := fun i k0_t2 v15 v20 v25 v30 v35 v40 v45 v50 v55 v60 v2851 k0_hw1244 k0_h1 => k0_hw1244.2.2.2.2.1 k0_h1
theorem k0_idx2097_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v40, v2851] : Fin 2 → IVec S16 32) a x).toNat < S256x142.size a := fun i k0_t2 v15 v20 v25 v30 v35 v40 v45 v50 v55 v60 v2851 k0_hw1244 k0_h1 => k0_hw1244.2.2.2.2.2.1 k0_h1
theorem k0_idx2099_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v45, v2851] : Fin 2 → IVec S16 32) a x).toNat < S256x142.size a := fun i k0_t2 v15 v20 v25 v30 v35 v40 v45 v50 v55 v60 v2851 k0_hw1244 k0_h1 => k0_hw1244.2.2.2.2.2.2.1 k0_h1
theorem k0_idx2101_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v50, v2851] : Fin 2 → IVec S16 32) a x).toNat < S256x142.size a := fun i k0_t2 v15 v20 v25 v30 v35 v40 v45 v50 v55 v60 v2851 k0_hw1244 k0_h1 => k0_hw1244.2.2.2.2.2.2.2.1 k0_h1
theorem k0_idx2103_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v55, v2851] : Fin 2 → IVec S16 32) a x).toNat < S256x142.size a := fun i k0_t2 v15 v20 v25 v30 v35 v40 v45 v50 v55 v60 v2851 k0_hw1244 k0_h1 => k0_hw1244.2.2.2.2.2.2.2.2.1 k0_h1
theorem k0_idx2105_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2851 : IVec S16 32) (k0_hw1244 : k0_chk1244 i k0_t2 v15 v20 v25 v30 v35 v40 v45 v50 v55 v60 v2851), ∀ (k0_h1 : k0_cond1 i k0_t2 = 1#1), ∀ a x, ((![v60, v2851] : Fin 2 → IVec S16 32) a x).toNat < S256x142.size a := fun i k0_t2 v15 v20 v25 v30 v35 v40 v45 v50 v55 v60 v2851 k0_hw1244 k0_h1 => k0_hw1244.2.2.2.2.2.2.2.2.2 k0_h1

def k0_chk1254 (i : grid0.Coords) (k0_t2 : Fin k0_t2_loop.trips) (v2851 : IVec S16 32) (v2881 : IVec S16 32) : Prop :=
  (∀ (k0_h1 : k0_cond1 i k0_t2 = 1#1), ∀ a x, ((![v2881, v2851] : Fin 2 → IVec S16 32) a x).toNat < S160x142.size a)
theorem k0_idx2106_inb : ∀ (i : grid0.Coords) (k0_t2 : Fin k0_t2_loop.trips) (v2851 : IVec S16 32) (v2881 : IVec S16 32) (k0_hw1254 : k0_chk1254 i k0_t2 v2851 v2881), ∀ (k0_h1 : k0_cond1 i k0_t2 = 1#1), ∀ a x, ((![v2881, v2851] : Fin 2 → IVec S16 32) a x).toNat < S160x142.size a := fun i k0_t2 v2851 v2881 k0_hw1254 k0_h1 => k0_hw1254 k0_h1

def k0_chk1256 (i : grid0.Coords) (k0_t2 : Fin k0_t2_loop.trips) (v2882 : IVec S16 32) (v2885 : IVec S16 32) : Prop :=
  (∀ (k0_h1 : k0_cond1 i k0_t2 = 1#1), ∀ a x, ((![v2885, v2882] : Fin 2 → IVec S16 32) a x).toNat < S160x142.size a)
theorem k0_idx2108_inb : ∀ (i : grid0.Coords) (k0_t2 : Fin k0_t2_loop.trips) (v2882 : IVec S16 32) (v2885 : IVec S16 32) (k0_hw1256 : k0_chk1256 i k0_t2 v2882 v2885), ∀ (k0_h1 : k0_cond1 i k0_t2 = 1#1), ∀ a x, ((![v2885, v2882] : Fin 2 → IVec S16 32) a x).toNat < S160x142.size a := fun i k0_t2 v2882 v2885 k0_hw1256 k0_h1 => k0_hw1256 k0_h1

def k0_chk1257 (i : grid0.Coords) (k0_t2 : Fin k0_t2_loop.trips) (v2882 : IVec S16 32) (v2888 : IVec S16 32) : Prop :=
  (∀ (k0_h1 : k0_cond1 i k0_t2 = 1#1), ∀ a x, ((![v2888, v2882] : Fin 2 → IVec S16 32) a x).toNat < S160x142.size a)
theorem k0_idx2110_inb : ∀ (i : grid0.Coords) (k0_t2 : Fin k0_t2_loop.trips) (v2882 : IVec S16 32) (v2888 : IVec S16 32) (k0_hw1257 : k0_chk1257 i k0_t2 v2882 v2888), ∀ (k0_h1 : k0_cond1 i k0_t2 = 1#1), ∀ a x, ((![v2888, v2882] : Fin 2 → IVec S16 32) a x).toNat < S160x142.size a := fun i k0_t2 v2882 v2888 k0_hw1257 k0_h1 => k0_hw1257 k0_h1

def k0_chk1258 (i : grid0.Coords) (k0_t2 : Fin k0_t2_loop.trips) (v2882 : IVec S16 32) (v2891 : IVec S16 32) : Prop :=
  (∀ (k0_h1 : k0_cond1 i k0_t2 = 1#1), ∀ a x, ((![v2891, v2882] : Fin 2 → IVec S16 32) a x).toNat < S160x142.size a)
theorem k0_idx2112_inb : ∀ (i : grid0.Coords) (k0_t2 : Fin k0_t2_loop.trips) (v2882 : IVec S16 32) (v2891 : IVec S16 32) (k0_hw1258 : k0_chk1258 i k0_t2 v2882 v2891), ∀ (k0_h1 : k0_cond1 i k0_t2 = 1#1), ∀ a x, ((![v2891, v2882] : Fin 2 → IVec S16 32) a x).toNat < S160x142.size a := fun i k0_t2 v2882 v2891 k0_hw1258 k0_h1 => k0_hw1258 k0_h1

def k0_chk1259 (i : grid0.Coords) (k0_t2 : Fin k0_t2_loop.trips) (v2882 : IVec S16 32) (v2894 : IVec S16 32) : Prop :=
  (∀ (k0_h1 : k0_cond1 i k0_t2 = 1#1), ∀ a x, ((![v2894, v2882] : Fin 2 → IVec S16 32) a x).toNat < S160x142.size a)
theorem k0_idx2114_inb : ∀ (i : grid0.Coords) (k0_t2 : Fin k0_t2_loop.trips) (v2882 : IVec S16 32) (v2894 : IVec S16 32) (k0_hw1259 : k0_chk1259 i k0_t2 v2882 v2894), ∀ (k0_h1 : k0_cond1 i k0_t2 = 1#1), ∀ a x, ((![v2894, v2882] : Fin 2 → IVec S16 32) a x).toNat < S160x142.size a := fun i k0_t2 v2882 v2894 k0_hw1259 k0_h1 => k0_hw1259 k0_h1

def k0_chk1260 (i : grid0.Coords) (k0_t2 : Fin k0_t2_loop.trips) (v2882 : IVec S16 32) (v2897 : IVec S16 32) : Prop :=
  (∀ (k0_h1 : k0_cond1 i k0_t2 = 1#1), ∀ a x, ((![v2897, v2882] : Fin 2 → IVec S16 32) a x).toNat < S160x142.size a)
theorem k0_idx2116_inb : ∀ (i : grid0.Coords) (k0_t2 : Fin k0_t2_loop.trips) (v2882 : IVec S16 32) (v2897 : IVec S16 32) (k0_hw1260 : k0_chk1260 i k0_t2 v2882 v2897), ∀ (k0_h1 : k0_cond1 i k0_t2 = 1#1), ∀ a x, ((![v2897, v2882] : Fin 2 → IVec S16 32) a x).toNat < S160x142.size a := fun i k0_t2 v2882 v2897 k0_hw1260 k0_h1 => k0_hw1260 k0_h1

def k0_chk1261 (i : grid0.Coords) (k0_t2 : Fin k0_t2_loop.trips) (v2882 : IVec S16 32) (v2900 : IVec S16 32) : Prop :=
  (∀ (k0_h1 : k0_cond1 i k0_t2 = 1#1), ∀ a x, ((![v2900, v2882] : Fin 2 → IVec S16 32) a x).toNat < S160x142.size a)
theorem k0_idx2118_inb : ∀ (i : grid0.Coords) (k0_t2 : Fin k0_t2_loop.trips) (v2882 : IVec S16 32) (v2900 : IVec S16 32) (k0_hw1261 : k0_chk1261 i k0_t2 v2882 v2900), ∀ (k0_h1 : k0_cond1 i k0_t2 = 1#1), ∀ a x, ((![v2900, v2882] : Fin 2 → IVec S16 32) a x).toNat < S160x142.size a := fun i k0_t2 v2882 v2900 k0_hw1261 k0_h1 => k0_hw1261 k0_h1

def k0_chk1262 (i : grid0.Coords) (k0_t2 : Fin k0_t2_loop.trips) (v2882 : IVec S16 32) (v2903 : IVec S16 32) : Prop :=
  (∀ (k0_h1 : k0_cond1 i k0_t2 = 1#1), ∀ a x, ((![v2903, v2882] : Fin 2 → IVec S16 32) a x).toNat < S160x142.size a)
theorem k0_idx2120_inb : ∀ (i : grid0.Coords) (k0_t2 : Fin k0_t2_loop.trips) (v2882 : IVec S16 32) (v2903 : IVec S16 32) (k0_hw1262 : k0_chk1262 i k0_t2 v2882 v2903), ∀ (k0_h1 : k0_cond1 i k0_t2 = 1#1), ∀ a x, ((![v2903, v2882] : Fin 2 → IVec S16 32) a x).toNat < S160x142.size a := fun i k0_t2 v2882 v2903 k0_hw1262 k0_h1 => k0_hw1262 k0_h1

def k0_chk1263 (i : grid0.Coords) (k0_t2 : Fin k0_t2_loop.trips) (v2882 : IVec S16 32) (v2906 : IVec S16 32) : Prop :=
  (∀ (k0_h1 : k0_cond1 i k0_t2 = 1#1), ∀ a x, ((![v2906, v2882] : Fin 2 → IVec S16 32) a x).toNat < S160x142.size a)
theorem k0_idx2122_inb : ∀ (i : grid0.Coords) (k0_t2 : Fin k0_t2_loop.trips) (v2882 : IVec S16 32) (v2906 : IVec S16 32) (k0_hw1263 : k0_chk1263 i k0_t2 v2882 v2906), ∀ (k0_h1 : k0_cond1 i k0_t2 = 1#1), ∀ a x, ((![v2906, v2882] : Fin 2 → IVec S16 32) a x).toNat < S160x142.size a := fun i k0_t2 v2882 v2906 k0_hw1263 k0_h1 => k0_hw1263 k0_h1

def k0_chk1264 (i : grid0.Coords) (k0_t2 : Fin k0_t2_loop.trips) (v2882 : IVec S16 32) (v2909 : IVec S16 32) : Prop :=
  (∀ (k0_h1 : k0_cond1 i k0_t2 = 1#1), ∀ a x, ((![v2909, v2882] : Fin 2 → IVec S16 32) a x).toNat < S160x142.size a)
theorem k0_idx2124_inb : ∀ (i : grid0.Coords) (k0_t2 : Fin k0_t2_loop.trips) (v2882 : IVec S16 32) (v2909 : IVec S16 32) (k0_hw1264 : k0_chk1264 i k0_t2 v2882 v2909), ∀ (k0_h1 : k0_cond1 i k0_t2 = 1#1), ∀ a x, ((![v2909, v2882] : Fin 2 → IVec S16 32) a x).toNat < S160x142.size a := fun i k0_t2 v2882 v2909 k0_hw1264 k0_h1 => k0_hw1264 k0_h1

def k0_chk1255 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) : Prop :=
  (∀ (k0_h1 : k0_cond1 i k0_t2 = 1#1), ∀ a x, ((![v15, v2882] : Fin 2 → IVec S16 32) a x).toNat < S256x142.size a) ∧
  (∀ (k0_h1 : k0_cond1 i k0_t2 = 1#1), ∀ a x, ((![v20, v2882] : Fin 2 → IVec S16 32) a x).toNat < S256x142.size a) ∧
  (∀ (k0_h1 : k0_cond1 i k0_t2 = 1#1), ∀ a x, ((![v25, v2882] : Fin 2 → IVec S16 32) a x).toNat < S256x142.size a) ∧
  (∀ (k0_h1 : k0_cond1 i k0_t2 = 1#1), ∀ a x, ((![v30, v2882] : Fin 2 → IVec S16 32) a x).toNat < S256x142.size a) ∧
  (∀ (k0_h1 : k0_cond1 i k0_t2 = 1#1), ∀ a x, ((![v35, v2882] : Fin 2 → IVec S16 32) a x).toNat < S256x142.size a) ∧
  (∀ (k0_h1 : k0_cond1 i k0_t2 = 1#1), ∀ a x, ((![v40, v2882] : Fin 2 → IVec S16 32) a x).toNat < S256x142.size a) ∧
  (∀ (k0_h1 : k0_cond1 i k0_t2 = 1#1), ∀ a x, ((![v45, v2882] : Fin 2 → IVec S16 32) a x).toNat < S256x142.size a) ∧
  (∀ (k0_h1 : k0_cond1 i k0_t2 = 1#1), ∀ a x, ((![v50, v2882] : Fin 2 → IVec S16 32) a x).toNat < S256x142.size a) ∧
  (∀ (k0_h1 : k0_cond1 i k0_t2 = 1#1), ∀ a x, ((![v55, v2882] : Fin 2 → IVec S16 32) a x).toNat < S256x142.size a) ∧
  (∀ (k0_h1 : k0_cond1 i k0_t2 = 1#1), ∀ a x, ((![v60, v2882] : Fin 2 → IVec S16 32) a x).toNat < S256x142.size a)
theorem k0_idx2107_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v15, v2882] : Fin 2 → IVec S16 32) a x).toNat < S256x142.size a := fun i k0_t2 v15 v20 v25 v30 v35 v40 v45 v50 v55 v60 v2882 k0_hw1255 k0_h1 => k0_hw1255.1 k0_h1
theorem k0_idx2109_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v20, v2882] : Fin 2 → IVec S16 32) a x).toNat < S256x142.size a := fun i k0_t2 v15 v20 v25 v30 v35 v40 v45 v50 v55 v60 v2882 k0_hw1255 k0_h1 => k0_hw1255.2.1 k0_h1
theorem k0_idx2111_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v25, v2882] : Fin 2 → IVec S16 32) a x).toNat < S256x142.size a := fun i k0_t2 v15 v20 v25 v30 v35 v40 v45 v50 v55 v60 v2882 k0_hw1255 k0_h1 => k0_hw1255.2.2.1 k0_h1
theorem k0_idx2113_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v30, v2882] : Fin 2 → IVec S16 32) a x).toNat < S256x142.size a := fun i k0_t2 v15 v20 v25 v30 v35 v40 v45 v50 v55 v60 v2882 k0_hw1255 k0_h1 => k0_hw1255.2.2.2.1 k0_h1
theorem k0_idx2115_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v35, v2882] : Fin 2 → IVec S16 32) a x).toNat < S256x142.size a := fun i k0_t2 v15 v20 v25 v30 v35 v40 v45 v50 v55 v60 v2882 k0_hw1255 k0_h1 => k0_hw1255.2.2.2.2.1 k0_h1
theorem k0_idx2117_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v40, v2882] : Fin 2 → IVec S16 32) a x).toNat < S256x142.size a := fun i k0_t2 v15 v20 v25 v30 v35 v40 v45 v50 v55 v60 v2882 k0_hw1255 k0_h1 => k0_hw1255.2.2.2.2.2.1 k0_h1
theorem k0_idx2119_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v45, v2882] : Fin 2 → IVec S16 32) a x).toNat < S256x142.size a := fun i k0_t2 v15 v20 v25 v30 v35 v40 v45 v50 v55 v60 v2882 k0_hw1255 k0_h1 => k0_hw1255.2.2.2.2.2.2.1 k0_h1
theorem k0_idx2121_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v50, v2882] : Fin 2 → IVec S16 32) a x).toNat < S256x142.size a := fun i k0_t2 v15 v20 v25 v30 v35 v40 v45 v50 v55 v60 v2882 k0_hw1255 k0_h1 => k0_hw1255.2.2.2.2.2.2.2.1 k0_h1
theorem k0_idx2123_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v55, v2882] : Fin 2 → IVec S16 32) a x).toNat < S256x142.size a := fun i k0_t2 v15 v20 v25 v30 v35 v40 v45 v50 v55 v60 v2882 k0_hw1255 k0_h1 => k0_hw1255.2.2.2.2.2.2.2.2.1 k0_h1
theorem k0_idx2125_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2882 : IVec S16 32) (k0_hw1255 : k0_chk1255 i k0_t2 v15 v20 v25 v30 v35 v40 v45 v50 v55 v60 v2882), ∀ (k0_h1 : k0_cond1 i k0_t2 = 1#1), ∀ a x, ((![v60, v2882] : Fin 2 → IVec S16 32) a x).toNat < S256x142.size a := fun i k0_t2 v15 v20 v25 v30 v35 v40 v45 v50 v55 v60 v2882 k0_hw1255 k0_h1 => k0_hw1255.2.2.2.2.2.2.2.2.2 k0_h1

def k0_chk1265 (i : grid0.Coords) (k0_t2 : Fin k0_t2_loop.trips) (v2882 : IVec S16 32) (v2912 : IVec S16 32) : Prop :=
  (∀ (k0_h1 : k0_cond1 i k0_t2 = 1#1), ∀ a x, ((![v2912, v2882] : Fin 2 → IVec S16 32) a x).toNat < S160x142.size a)
theorem k0_idx2126_inb : ∀ (i : grid0.Coords) (k0_t2 : Fin k0_t2_loop.trips) (v2882 : IVec S16 32) (v2912 : IVec S16 32) (k0_hw1265 : k0_chk1265 i k0_t2 v2882 v2912), ∀ (k0_h1 : k0_cond1 i k0_t2 = 1#1), ∀ a x, ((![v2912, v2882] : Fin 2 → IVec S16 32) a x).toNat < S160x142.size a := fun i k0_t2 v2882 v2912 k0_hw1265 k0_h1 => k0_hw1265 k0_h1

def k0_chk1267 (i : grid0.Coords) (k0_t2 : Fin k0_t2_loop.trips) (v2913 : IVec S16 32) (v2916 : IVec S16 32) : Prop :=
  (∀ (k0_h1 : k0_cond1 i k0_t2 = 1#1), ∀ a x, ((![v2916, v2913] : Fin 2 → IVec S16 32) a x).toNat < S160x142.size a)
theorem k0_idx2128_inb : ∀ (i : grid0.Coords) (k0_t2 : Fin k0_t2_loop.trips) (v2913 : IVec S16 32) (v2916 : IVec S16 32) (k0_hw1267 : k0_chk1267 i k0_t2 v2913 v2916), ∀ (k0_h1 : k0_cond1 i k0_t2 = 1#1), ∀ a x, ((![v2916, v2913] : Fin 2 → IVec S16 32) a x).toNat < S160x142.size a := fun i k0_t2 v2913 v2916 k0_hw1267 k0_h1 => k0_hw1267 k0_h1

def k0_chk1268 (i : grid0.Coords) (k0_t2 : Fin k0_t2_loop.trips) (v2913 : IVec S16 32) (v2919 : IVec S16 32) : Prop :=
  (∀ (k0_h1 : k0_cond1 i k0_t2 = 1#1), ∀ a x, ((![v2919, v2913] : Fin 2 → IVec S16 32) a x).toNat < S160x142.size a)
theorem k0_idx2130_inb : ∀ (i : grid0.Coords) (k0_t2 : Fin k0_t2_loop.trips) (v2913 : IVec S16 32) (v2919 : IVec S16 32) (k0_hw1268 : k0_chk1268 i k0_t2 v2913 v2919), ∀ (k0_h1 : k0_cond1 i k0_t2 = 1#1), ∀ a x, ((![v2919, v2913] : Fin 2 → IVec S16 32) a x).toNat < S160x142.size a := fun i k0_t2 v2913 v2919 k0_hw1268 k0_h1 => k0_hw1268 k0_h1

def k0_chk1269 (i : grid0.Coords) (k0_t2 : Fin k0_t2_loop.trips) (v2913 : IVec S16 32) (v2922 : IVec S16 32) : Prop :=
  (∀ (k0_h1 : k0_cond1 i k0_t2 = 1#1), ∀ a x, ((![v2922, v2913] : Fin 2 → IVec S16 32) a x).toNat < S160x142.size a)
theorem k0_idx2132_inb : ∀ (i : grid0.Coords) (k0_t2 : Fin k0_t2_loop.trips) (v2913 : IVec S16 32) (v2922 : IVec S16 32) (k0_hw1269 : k0_chk1269 i k0_t2 v2913 v2922), ∀ (k0_h1 : k0_cond1 i k0_t2 = 1#1), ∀ a x, ((![v2922, v2913] : Fin 2 → IVec S16 32) a x).toNat < S160x142.size a := fun i k0_t2 v2913 v2922 k0_hw1269 k0_h1 => k0_hw1269 k0_h1

def k0_chk1270 (i : grid0.Coords) (k0_t2 : Fin k0_t2_loop.trips) (v2913 : IVec S16 32) (v2925 : IVec S16 32) : Prop :=
  (∀ (k0_h1 : k0_cond1 i k0_t2 = 1#1), ∀ a x, ((![v2925, v2913] : Fin 2 → IVec S16 32) a x).toNat < S160x142.size a)
theorem k0_idx2134_inb : ∀ (i : grid0.Coords) (k0_t2 : Fin k0_t2_loop.trips) (v2913 : IVec S16 32) (v2925 : IVec S16 32) (k0_hw1270 : k0_chk1270 i k0_t2 v2913 v2925), ∀ (k0_h1 : k0_cond1 i k0_t2 = 1#1), ∀ a x, ((![v2925, v2913] : Fin 2 → IVec S16 32) a x).toNat < S160x142.size a := fun i k0_t2 v2913 v2925 k0_hw1270 k0_h1 => k0_hw1270 k0_h1

def k0_chk1271 (i : grid0.Coords) (k0_t2 : Fin k0_t2_loop.trips) (v2913 : IVec S16 32) (v2928 : IVec S16 32) : Prop :=
  (∀ (k0_h1 : k0_cond1 i k0_t2 = 1#1), ∀ a x, ((![v2928, v2913] : Fin 2 → IVec S16 32) a x).toNat < S160x142.size a)
theorem k0_idx2136_inb : ∀ (i : grid0.Coords) (k0_t2 : Fin k0_t2_loop.trips) (v2913 : IVec S16 32) (v2928 : IVec S16 32) (k0_hw1271 : k0_chk1271 i k0_t2 v2913 v2928), ∀ (k0_h1 : k0_cond1 i k0_t2 = 1#1), ∀ a x, ((![v2928, v2913] : Fin 2 → IVec S16 32) a x).toNat < S160x142.size a := fun i k0_t2 v2913 v2928 k0_hw1271 k0_h1 => k0_hw1271 k0_h1

def k0_chk1272 (i : grid0.Coords) (k0_t2 : Fin k0_t2_loop.trips) (v2913 : IVec S16 32) (v2931 : IVec S16 32) : Prop :=
  (∀ (k0_h1 : k0_cond1 i k0_t2 = 1#1), ∀ a x, ((![v2931, v2913] : Fin 2 → IVec S16 32) a x).toNat < S160x142.size a)
theorem k0_idx2138_inb : ∀ (i : grid0.Coords) (k0_t2 : Fin k0_t2_loop.trips) (v2913 : IVec S16 32) (v2931 : IVec S16 32) (k0_hw1272 : k0_chk1272 i k0_t2 v2913 v2931), ∀ (k0_h1 : k0_cond1 i k0_t2 = 1#1), ∀ a x, ((![v2931, v2913] : Fin 2 → IVec S16 32) a x).toNat < S160x142.size a := fun i k0_t2 v2913 v2931 k0_hw1272 k0_h1 => k0_hw1272 k0_h1

def k0_chk1273 (i : grid0.Coords) (k0_t2 : Fin k0_t2_loop.trips) (v2913 : IVec S16 32) (v2934 : IVec S16 32) : Prop :=
  (∀ (k0_h1 : k0_cond1 i k0_t2 = 1#1), ∀ a x, ((![v2934, v2913] : Fin 2 → IVec S16 32) a x).toNat < S160x142.size a)
theorem k0_idx2140_inb : ∀ (i : grid0.Coords) (k0_t2 : Fin k0_t2_loop.trips) (v2913 : IVec S16 32) (v2934 : IVec S16 32) (k0_hw1273 : k0_chk1273 i k0_t2 v2913 v2934), ∀ (k0_h1 : k0_cond1 i k0_t2 = 1#1), ∀ a x, ((![v2934, v2913] : Fin 2 → IVec S16 32) a x).toNat < S160x142.size a := fun i k0_t2 v2913 v2934 k0_hw1273 k0_h1 => k0_hw1273 k0_h1

def k0_chk1274 (i : grid0.Coords) (k0_t2 : Fin k0_t2_loop.trips) (v2913 : IVec S16 32) (v2937 : IVec S16 32) : Prop :=
  (∀ (k0_h1 : k0_cond1 i k0_t2 = 1#1), ∀ a x, ((![v2937, v2913] : Fin 2 → IVec S16 32) a x).toNat < S160x142.size a)
theorem k0_idx2142_inb : ∀ (i : grid0.Coords) (k0_t2 : Fin k0_t2_loop.trips) (v2913 : IVec S16 32) (v2937 : IVec S16 32) (k0_hw1274 : k0_chk1274 i k0_t2 v2913 v2937), ∀ (k0_h1 : k0_cond1 i k0_t2 = 1#1), ∀ a x, ((![v2937, v2913] : Fin 2 → IVec S16 32) a x).toNat < S160x142.size a := fun i k0_t2 v2913 v2937 k0_hw1274 k0_h1 => k0_hw1274 k0_h1

def k0_chk1275 (i : grid0.Coords) (k0_t2 : Fin k0_t2_loop.trips) (v2913 : IVec S16 32) (v2940 : IVec S16 32) : Prop :=
  (∀ (k0_h1 : k0_cond1 i k0_t2 = 1#1), ∀ a x, ((![v2940, v2913] : Fin 2 → IVec S16 32) a x).toNat < S160x142.size a)
theorem k0_idx2144_inb : ∀ (i : grid0.Coords) (k0_t2 : Fin k0_t2_loop.trips) (v2913 : IVec S16 32) (v2940 : IVec S16 32) (k0_hw1275 : k0_chk1275 i k0_t2 v2913 v2940), ∀ (k0_h1 : k0_cond1 i k0_t2 = 1#1), ∀ a x, ((![v2940, v2913] : Fin 2 → IVec S16 32) a x).toNat < S160x142.size a := fun i k0_t2 v2913 v2940 k0_hw1275 k0_h1 => k0_hw1275 k0_h1

def k0_chk1266 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) : Prop :=
  (∀ (k0_h1 : k0_cond1 i k0_t2 = 1#1), ∀ a x, ((![v15, v2913] : Fin 2 → IVec S16 32) a x).toNat < S256x142.size a) ∧
  (∀ (k0_h1 : k0_cond1 i k0_t2 = 1#1), ∀ a x, ((![v20, v2913] : Fin 2 → IVec S16 32) a x).toNat < S256x142.size a) ∧
  (∀ (k0_h1 : k0_cond1 i k0_t2 = 1#1), ∀ a x, ((![v25, v2913] : Fin 2 → IVec S16 32) a x).toNat < S256x142.size a) ∧
  (∀ (k0_h1 : k0_cond1 i k0_t2 = 1#1), ∀ a x, ((![v30, v2913] : Fin 2 → IVec S16 32) a x).toNat < S256x142.size a) ∧
  (∀ (k0_h1 : k0_cond1 i k0_t2 = 1#1), ∀ a x, ((![v35, v2913] : Fin 2 → IVec S16 32) a x).toNat < S256x142.size a) ∧
  (∀ (k0_h1 : k0_cond1 i k0_t2 = 1#1), ∀ a x, ((![v40, v2913] : Fin 2 → IVec S16 32) a x).toNat < S256x142.size a) ∧
  (∀ (k0_h1 : k0_cond1 i k0_t2 = 1#1), ∀ a x, ((![v45, v2913] : Fin 2 → IVec S16 32) a x).toNat < S256x142.size a) ∧
  (∀ (k0_h1 : k0_cond1 i k0_t2 = 1#1), ∀ a x, ((![v50, v2913] : Fin 2 → IVec S16 32) a x).toNat < S256x142.size a) ∧
  (∀ (k0_h1 : k0_cond1 i k0_t2 = 1#1), ∀ a x, ((![v55, v2913] : Fin 2 → IVec S16 32) a x).toNat < S256x142.size a) ∧
  (∀ (k0_h1 : k0_cond1 i k0_t2 = 1#1), ∀ a x, ((![v60, v2913] : Fin 2 → IVec S16 32) a x).toNat < S256x142.size a)
theorem k0_idx2127_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v15, v2913] : Fin 2 → IVec S16 32) a x).toNat < S256x142.size a := fun i k0_t2 v15 v20 v25 v30 v35 v40 v45 v50 v55 v60 v2913 k0_hw1266 k0_h1 => k0_hw1266.1 k0_h1
theorem k0_idx2129_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v20, v2913] : Fin 2 → IVec S16 32) a x).toNat < S256x142.size a := fun i k0_t2 v15 v20 v25 v30 v35 v40 v45 v50 v55 v60 v2913 k0_hw1266 k0_h1 => k0_hw1266.2.1 k0_h1
theorem k0_idx2131_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v25, v2913] : Fin 2 → IVec S16 32) a x).toNat < S256x142.size a := fun i k0_t2 v15 v20 v25 v30 v35 v40 v45 v50 v55 v60 v2913 k0_hw1266 k0_h1 => k0_hw1266.2.2.1 k0_h1
theorem k0_idx2133_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v30, v2913] : Fin 2 → IVec S16 32) a x).toNat < S256x142.size a := fun i k0_t2 v15 v20 v25 v30 v35 v40 v45 v50 v55 v60 v2913 k0_hw1266 k0_h1 => k0_hw1266.2.2.2.1 k0_h1
theorem k0_idx2135_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v35, v2913] : Fin 2 → IVec S16 32) a x).toNat < S256x142.size a := fun i k0_t2 v15 v20 v25 v30 v35 v40 v45 v50 v55 v60 v2913 k0_hw1266 k0_h1 => k0_hw1266.2.2.2.2.1 k0_h1
theorem k0_idx2137_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v40, v2913] : Fin 2 → IVec S16 32) a x).toNat < S256x142.size a := fun i k0_t2 v15 v20 v25 v30 v35 v40 v45 v50 v55 v60 v2913 k0_hw1266 k0_h1 => k0_hw1266.2.2.2.2.2.1 k0_h1
theorem k0_idx2139_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v45, v2913] : Fin 2 → IVec S16 32) a x).toNat < S256x142.size a := fun i k0_t2 v15 v20 v25 v30 v35 v40 v45 v50 v55 v60 v2913 k0_hw1266 k0_h1 => k0_hw1266.2.2.2.2.2.2.1 k0_h1
theorem k0_idx2141_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v50, v2913] : Fin 2 → IVec S16 32) a x).toNat < S256x142.size a := fun i k0_t2 v15 v20 v25 v30 v35 v40 v45 v50 v55 v60 v2913 k0_hw1266 k0_h1 => k0_hw1266.2.2.2.2.2.2.2.1 k0_h1
theorem k0_idx2143_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v55, v2913] : Fin 2 → IVec S16 32) a x).toNat < S256x142.size a := fun i k0_t2 v15 v20 v25 v30 v35 v40 v45 v50 v55 v60 v2913 k0_hw1266 k0_h1 => k0_hw1266.2.2.2.2.2.2.2.2.1 k0_h1
theorem k0_idx2145_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2913 : IVec S16 32) (k0_hw1266 : k0_chk1266 i k0_t2 v15 v20 v25 v30 v35 v40 v45 v50 v55 v60 v2913), ∀ (k0_h1 : k0_cond1 i k0_t2 = 1#1), ∀ a x, ((![v60, v2913] : Fin 2 → IVec S16 32) a x).toNat < S256x142.size a := fun i k0_t2 v15 v20 v25 v30 v35 v40 v45 v50 v55 v60 v2913 k0_hw1266 k0_h1 => k0_hw1266.2.2.2.2.2.2.2.2.2 k0_h1

def k0_chk1276 (i : grid0.Coords) (k0_t2 : Fin k0_t2_loop.trips) (v2913 : IVec S16 32) (v2943 : IVec S16 32) : Prop :=
  (∀ (k0_h1 : k0_cond1 i k0_t2 = 1#1), ∀ a x, ((![v2943, v2913] : Fin 2 → IVec S16 32) a x).toNat < S160x142.size a)
theorem k0_idx2146_inb : ∀ (i : grid0.Coords) (k0_t2 : Fin k0_t2_loop.trips) (v2913 : IVec S16 32) (v2943 : IVec S16 32) (k0_hw1276 : k0_chk1276 i k0_t2 v2913 v2943), ∀ (k0_h1 : k0_cond1 i k0_t2 = 1#1), ∀ a x, ((![v2943, v2913] : Fin 2 → IVec S16 32) a x).toNat < S160x142.size a := fun i k0_t2 v2913 v2943 k0_hw1276 k0_h1 => k0_hw1276 k0_h1

def k0_chk1278 (i : grid0.Coords) (k0_t2 : Fin k0_t2_loop.trips) (v2944 : IVec S16 32) (v2947 : IVec S16 32) : Prop :=
  (∀ (k0_h1 : k0_cond1 i k0_t2 = 1#1), ∀ a x, ((![v2947, v2944] : Fin 2 → IVec S16 32) a x).toNat < S160x142.size a)
theorem k0_idx2148_inb : ∀ (i : grid0.Coords) (k0_t2 : Fin k0_t2_loop.trips) (v2944 : IVec S16 32) (v2947 : IVec S16 32) (k0_hw1278 : k0_chk1278 i k0_t2 v2944 v2947), ∀ (k0_h1 : k0_cond1 i k0_t2 = 1#1), ∀ a x, ((![v2947, v2944] : Fin 2 → IVec S16 32) a x).toNat < S160x142.size a := fun i k0_t2 v2944 v2947 k0_hw1278 k0_h1 => k0_hw1278 k0_h1

def k0_chk1279 (i : grid0.Coords) (k0_t2 : Fin k0_t2_loop.trips) (v2944 : IVec S16 32) (v2950 : IVec S16 32) : Prop :=
  (∀ (k0_h1 : k0_cond1 i k0_t2 = 1#1), ∀ a x, ((![v2950, v2944] : Fin 2 → IVec S16 32) a x).toNat < S160x142.size a)
theorem k0_idx2150_inb : ∀ (i : grid0.Coords) (k0_t2 : Fin k0_t2_loop.trips) (v2944 : IVec S16 32) (v2950 : IVec S16 32) (k0_hw1279 : k0_chk1279 i k0_t2 v2944 v2950), ∀ (k0_h1 : k0_cond1 i k0_t2 = 1#1), ∀ a x, ((![v2950, v2944] : Fin 2 → IVec S16 32) a x).toNat < S160x142.size a := fun i k0_t2 v2944 v2950 k0_hw1279 k0_h1 => k0_hw1279 k0_h1

def k0_chk1280 (i : grid0.Coords) (k0_t2 : Fin k0_t2_loop.trips) (v2944 : IVec S16 32) (v2953 : IVec S16 32) : Prop :=
  (∀ (k0_h1 : k0_cond1 i k0_t2 = 1#1), ∀ a x, ((![v2953, v2944] : Fin 2 → IVec S16 32) a x).toNat < S160x142.size a)
theorem k0_idx2152_inb : ∀ (i : grid0.Coords) (k0_t2 : Fin k0_t2_loop.trips) (v2944 : IVec S16 32) (v2953 : IVec S16 32) (k0_hw1280 : k0_chk1280 i k0_t2 v2944 v2953), ∀ (k0_h1 : k0_cond1 i k0_t2 = 1#1), ∀ a x, ((![v2953, v2944] : Fin 2 → IVec S16 32) a x).toNat < S160x142.size a := fun i k0_t2 v2944 v2953 k0_hw1280 k0_h1 => k0_hw1280 k0_h1

def k0_chk1281 (i : grid0.Coords) (k0_t2 : Fin k0_t2_loop.trips) (v2944 : IVec S16 32) (v2956 : IVec S16 32) : Prop :=
  (∀ (k0_h1 : k0_cond1 i k0_t2 = 1#1), ∀ a x, ((![v2956, v2944] : Fin 2 → IVec S16 32) a x).toNat < S160x142.size a)
theorem k0_idx2154_inb : ∀ (i : grid0.Coords) (k0_t2 : Fin k0_t2_loop.trips) (v2944 : IVec S16 32) (v2956 : IVec S16 32) (k0_hw1281 : k0_chk1281 i k0_t2 v2944 v2956), ∀ (k0_h1 : k0_cond1 i k0_t2 = 1#1), ∀ a x, ((![v2956, v2944] : Fin 2 → IVec S16 32) a x).toNat < S160x142.size a := fun i k0_t2 v2944 v2956 k0_hw1281 k0_h1 => k0_hw1281 k0_h1

def k0_chk1282 (i : grid0.Coords) (k0_t2 : Fin k0_t2_loop.trips) (v2944 : IVec S16 32) (v2959 : IVec S16 32) : Prop :=
  (∀ (k0_h1 : k0_cond1 i k0_t2 = 1#1), ∀ a x, ((![v2959, v2944] : Fin 2 → IVec S16 32) a x).toNat < S160x142.size a)
theorem k0_idx2156_inb : ∀ (i : grid0.Coords) (k0_t2 : Fin k0_t2_loop.trips) (v2944 : IVec S16 32) (v2959 : IVec S16 32) (k0_hw1282 : k0_chk1282 i k0_t2 v2944 v2959), ∀ (k0_h1 : k0_cond1 i k0_t2 = 1#1), ∀ a x, ((![v2959, v2944] : Fin 2 → IVec S16 32) a x).toNat < S160x142.size a := fun i k0_t2 v2944 v2959 k0_hw1282 k0_h1 => k0_hw1282 k0_h1

def k0_chk1283 (i : grid0.Coords) (k0_t2 : Fin k0_t2_loop.trips) (v2944 : IVec S16 32) (v2962 : IVec S16 32) : Prop :=
  (∀ (k0_h1 : k0_cond1 i k0_t2 = 1#1), ∀ a x, ((![v2962, v2944] : Fin 2 → IVec S16 32) a x).toNat < S160x142.size a)
theorem k0_idx2158_inb : ∀ (i : grid0.Coords) (k0_t2 : Fin k0_t2_loop.trips) (v2944 : IVec S16 32) (v2962 : IVec S16 32) (k0_hw1283 : k0_chk1283 i k0_t2 v2944 v2962), ∀ (k0_h1 : k0_cond1 i k0_t2 = 1#1), ∀ a x, ((![v2962, v2944] : Fin 2 → IVec S16 32) a x).toNat < S160x142.size a := fun i k0_t2 v2944 v2962 k0_hw1283 k0_h1 => k0_hw1283 k0_h1

def k0_chk1284 (i : grid0.Coords) (k0_t2 : Fin k0_t2_loop.trips) (v2944 : IVec S16 32) (v2965 : IVec S16 32) : Prop :=
  (∀ (k0_h1 : k0_cond1 i k0_t2 = 1#1), ∀ a x, ((![v2965, v2944] : Fin 2 → IVec S16 32) a x).toNat < S160x142.size a)
theorem k0_idx2160_inb : ∀ (i : grid0.Coords) (k0_t2 : Fin k0_t2_loop.trips) (v2944 : IVec S16 32) (v2965 : IVec S16 32) (k0_hw1284 : k0_chk1284 i k0_t2 v2944 v2965), ∀ (k0_h1 : k0_cond1 i k0_t2 = 1#1), ∀ a x, ((![v2965, v2944] : Fin 2 → IVec S16 32) a x).toNat < S160x142.size a := fun i k0_t2 v2944 v2965 k0_hw1284 k0_h1 => k0_hw1284 k0_h1

def k0_chk1285 (i : grid0.Coords) (k0_t2 : Fin k0_t2_loop.trips) (v2944 : IVec S16 32) (v2968 : IVec S16 32) : Prop :=
  (∀ (k0_h1 : k0_cond1 i k0_t2 = 1#1), ∀ a x, ((![v2968, v2944] : Fin 2 → IVec S16 32) a x).toNat < S160x142.size a)
theorem k0_idx2162_inb : ∀ (i : grid0.Coords) (k0_t2 : Fin k0_t2_loop.trips) (v2944 : IVec S16 32) (v2968 : IVec S16 32) (k0_hw1285 : k0_chk1285 i k0_t2 v2944 v2968), ∀ (k0_h1 : k0_cond1 i k0_t2 = 1#1), ∀ a x, ((![v2968, v2944] : Fin 2 → IVec S16 32) a x).toNat < S160x142.size a := fun i k0_t2 v2944 v2968 k0_hw1285 k0_h1 => k0_hw1285 k0_h1

def k0_chk1286 (i : grid0.Coords) (k0_t2 : Fin k0_t2_loop.trips) (v2944 : IVec S16 32) (v2971 : IVec S16 32) : Prop :=
  (∀ (k0_h1 : k0_cond1 i k0_t2 = 1#1), ∀ a x, ((![v2971, v2944] : Fin 2 → IVec S16 32) a x).toNat < S160x142.size a)
theorem k0_idx2164_inb : ∀ (i : grid0.Coords) (k0_t2 : Fin k0_t2_loop.trips) (v2944 : IVec S16 32) (v2971 : IVec S16 32) (k0_hw1286 : k0_chk1286 i k0_t2 v2944 v2971), ∀ (k0_h1 : k0_cond1 i k0_t2 = 1#1), ∀ a x, ((![v2971, v2944] : Fin 2 → IVec S16 32) a x).toNat < S160x142.size a := fun i k0_t2 v2944 v2971 k0_hw1286 k0_h1 => k0_hw1286 k0_h1

def k0_chk1277 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) : Prop :=
  (∀ (k0_h1 : k0_cond1 i k0_t2 = 1#1), ∀ a x, ((![v15, v2944] : Fin 2 → IVec S16 32) a x).toNat < S256x142.size a) ∧
  (∀ (k0_h1 : k0_cond1 i k0_t2 = 1#1), ∀ a x, ((![v20, v2944] : Fin 2 → IVec S16 32) a x).toNat < S256x142.size a) ∧
  (∀ (k0_h1 : k0_cond1 i k0_t2 = 1#1), ∀ a x, ((![v25, v2944] : Fin 2 → IVec S16 32) a x).toNat < S256x142.size a) ∧
  (∀ (k0_h1 : k0_cond1 i k0_t2 = 1#1), ∀ a x, ((![v30, v2944] : Fin 2 → IVec S16 32) a x).toNat < S256x142.size a) ∧
  (∀ (k0_h1 : k0_cond1 i k0_t2 = 1#1), ∀ a x, ((![v35, v2944] : Fin 2 → IVec S16 32) a x).toNat < S256x142.size a) ∧
  (∀ (k0_h1 : k0_cond1 i k0_t2 = 1#1), ∀ a x, ((![v40, v2944] : Fin 2 → IVec S16 32) a x).toNat < S256x142.size a) ∧
  (∀ (k0_h1 : k0_cond1 i k0_t2 = 1#1), ∀ a x, ((![v45, v2944] : Fin 2 → IVec S16 32) a x).toNat < S256x142.size a) ∧
  (∀ (k0_h1 : k0_cond1 i k0_t2 = 1#1), ∀ a x, ((![v50, v2944] : Fin 2 → IVec S16 32) a x).toNat < S256x142.size a) ∧
  (∀ (k0_h1 : k0_cond1 i k0_t2 = 1#1), ∀ a x, ((![v55, v2944] : Fin 2 → IVec S16 32) a x).toNat < S256x142.size a) ∧
  (∀ (k0_h1 : k0_cond1 i k0_t2 = 1#1), ∀ a x, ((![v60, v2944] : Fin 2 → IVec S16 32) a x).toNat < S256x142.size a)
theorem k0_idx2147_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v15, v2944] : Fin 2 → IVec S16 32) a x).toNat < S256x142.size a := fun i k0_t2 v15 v20 v25 v30 v35 v40 v45 v50 v55 v60 v2944 k0_hw1277 k0_h1 => k0_hw1277.1 k0_h1
theorem k0_idx2149_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v20, v2944] : Fin 2 → IVec S16 32) a x).toNat < S256x142.size a := fun i k0_t2 v15 v20 v25 v30 v35 v40 v45 v50 v55 v60 v2944 k0_hw1277 k0_h1 => k0_hw1277.2.1 k0_h1
theorem k0_idx2151_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v25, v2944] : Fin 2 → IVec S16 32) a x).toNat < S256x142.size a := fun i k0_t2 v15 v20 v25 v30 v35 v40 v45 v50 v55 v60 v2944 k0_hw1277 k0_h1 => k0_hw1277.2.2.1 k0_h1
theorem k0_idx2153_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v30, v2944] : Fin 2 → IVec S16 32) a x).toNat < S256x142.size a := fun i k0_t2 v15 v20 v25 v30 v35 v40 v45 v50 v55 v60 v2944 k0_hw1277 k0_h1 => k0_hw1277.2.2.2.1 k0_h1
theorem k0_idx2155_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v35, v2944] : Fin 2 → IVec S16 32) a x).toNat < S256x142.size a := fun i k0_t2 v15 v20 v25 v30 v35 v40 v45 v50 v55 v60 v2944 k0_hw1277 k0_h1 => k0_hw1277.2.2.2.2.1 k0_h1
theorem k0_idx2157_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v40, v2944] : Fin 2 → IVec S16 32) a x).toNat < S256x142.size a := fun i k0_t2 v15 v20 v25 v30 v35 v40 v45 v50 v55 v60 v2944 k0_hw1277 k0_h1 => k0_hw1277.2.2.2.2.2.1 k0_h1
theorem k0_idx2159_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v45, v2944] : Fin 2 → IVec S16 32) a x).toNat < S256x142.size a := fun i k0_t2 v15 v20 v25 v30 v35 v40 v45 v50 v55 v60 v2944 k0_hw1277 k0_h1 => k0_hw1277.2.2.2.2.2.2.1 k0_h1
theorem k0_idx2161_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v50, v2944] : Fin 2 → IVec S16 32) a x).toNat < S256x142.size a := fun i k0_t2 v15 v20 v25 v30 v35 v40 v45 v50 v55 v60 v2944 k0_hw1277 k0_h1 => k0_hw1277.2.2.2.2.2.2.2.1 k0_h1
theorem k0_idx2163_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v55, v2944] : Fin 2 → IVec S16 32) a x).toNat < S256x142.size a := fun i k0_t2 v15 v20 v25 v30 v35 v40 v45 v50 v55 v60 v2944 k0_hw1277 k0_h1 => k0_hw1277.2.2.2.2.2.2.2.2.1 k0_h1
theorem k0_idx2165_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2944 : IVec S16 32) (k0_hw1277 : k0_chk1277 i k0_t2 v15 v20 v25 v30 v35 v40 v45 v50 v55 v60 v2944), ∀ (k0_h1 : k0_cond1 i k0_t2 = 1#1), ∀ a x, ((![v60, v2944] : Fin 2 → IVec S16 32) a x).toNat < S256x142.size a := fun i k0_t2 v15 v20 v25 v30 v35 v40 v45 v50 v55 v60 v2944 k0_hw1277 k0_h1 => k0_hw1277.2.2.2.2.2.2.2.2.2 k0_h1

def k0_chk1287 (i : grid0.Coords) (k0_t2 : Fin k0_t2_loop.trips) (v2944 : IVec S16 32) (v2974 : IVec S16 32) : Prop :=
  (∀ (k0_h1 : k0_cond1 i k0_t2 = 1#1), ∀ a x, ((![v2974, v2944] : Fin 2 → IVec S16 32) a x).toNat < S160x142.size a)
theorem k0_idx2166_inb : ∀ (i : grid0.Coords) (k0_t2 : Fin k0_t2_loop.trips) (v2944 : IVec S16 32) (v2974 : IVec S16 32) (k0_hw1287 : k0_chk1287 i k0_t2 v2944 v2974), ∀ (k0_h1 : k0_cond1 i k0_t2 = 1#1), ∀ a x, ((![v2974, v2944] : Fin 2 → IVec S16 32) a x).toNat < S160x142.size a := fun i k0_t2 v2944 v2974 k0_hw1287 k0_h1 => k0_hw1287 k0_h1

def k0_chk1289 (i : grid0.Coords) (k0_t2 : Fin k0_t2_loop.trips) (v2975 : IVec S16 32) (v2978 : IVec S16 32) : Prop :=
  (∀ (k0_h1 : k0_cond1 i k0_t2 = 1#1), ∀ a x, ((![v2978, v2975] : Fin 2 → IVec S16 32) a x).toNat < S160x142.size a)
theorem k0_idx2168_inb : ∀ (i : grid0.Coords) (k0_t2 : Fin k0_t2_loop.trips) (v2975 : IVec S16 32) (v2978 : IVec S16 32) (k0_hw1289 : k0_chk1289 i k0_t2 v2975 v2978), ∀ (k0_h1 : k0_cond1 i k0_t2 = 1#1), ∀ a x, ((![v2978, v2975] : Fin 2 → IVec S16 32) a x).toNat < S160x142.size a := fun i k0_t2 v2975 v2978 k0_hw1289 k0_h1 => k0_hw1289 k0_h1

def k0_chk1290 (i : grid0.Coords) (k0_t2 : Fin k0_t2_loop.trips) (v2975 : IVec S16 32) (v2981 : IVec S16 32) : Prop :=
  (∀ (k0_h1 : k0_cond1 i k0_t2 = 1#1), ∀ a x, ((![v2981, v2975] : Fin 2 → IVec S16 32) a x).toNat < S160x142.size a)
theorem k0_idx2170_inb : ∀ (i : grid0.Coords) (k0_t2 : Fin k0_t2_loop.trips) (v2975 : IVec S16 32) (v2981 : IVec S16 32) (k0_hw1290 : k0_chk1290 i k0_t2 v2975 v2981), ∀ (k0_h1 : k0_cond1 i k0_t2 = 1#1), ∀ a x, ((![v2981, v2975] : Fin 2 → IVec S16 32) a x).toNat < S160x142.size a := fun i k0_t2 v2975 v2981 k0_hw1290 k0_h1 => k0_hw1290 k0_h1

def k0_chk1291 (i : grid0.Coords) (k0_t2 : Fin k0_t2_loop.trips) (v2975 : IVec S16 32) (v2984 : IVec S16 32) : Prop :=
  (∀ (k0_h1 : k0_cond1 i k0_t2 = 1#1), ∀ a x, ((![v2984, v2975] : Fin 2 → IVec S16 32) a x).toNat < S160x142.size a)
theorem k0_idx2172_inb : ∀ (i : grid0.Coords) (k0_t2 : Fin k0_t2_loop.trips) (v2975 : IVec S16 32) (v2984 : IVec S16 32) (k0_hw1291 : k0_chk1291 i k0_t2 v2975 v2984), ∀ (k0_h1 : k0_cond1 i k0_t2 = 1#1), ∀ a x, ((![v2984, v2975] : Fin 2 → IVec S16 32) a x).toNat < S160x142.size a := fun i k0_t2 v2975 v2984 k0_hw1291 k0_h1 => k0_hw1291 k0_h1

def k0_chk1292 (i : grid0.Coords) (k0_t2 : Fin k0_t2_loop.trips) (v2975 : IVec S16 32) (v2987 : IVec S16 32) : Prop :=
  (∀ (k0_h1 : k0_cond1 i k0_t2 = 1#1), ∀ a x, ((![v2987, v2975] : Fin 2 → IVec S16 32) a x).toNat < S160x142.size a)
theorem k0_idx2174_inb : ∀ (i : grid0.Coords) (k0_t2 : Fin k0_t2_loop.trips) (v2975 : IVec S16 32) (v2987 : IVec S16 32) (k0_hw1292 : k0_chk1292 i k0_t2 v2975 v2987), ∀ (k0_h1 : k0_cond1 i k0_t2 = 1#1), ∀ a x, ((![v2987, v2975] : Fin 2 → IVec S16 32) a x).toNat < S160x142.size a := fun i k0_t2 v2975 v2987 k0_hw1292 k0_h1 => k0_hw1292 k0_h1

def k0_chk1293 (i : grid0.Coords) (k0_t2 : Fin k0_t2_loop.trips) (v2975 : IVec S16 32) (v2990 : IVec S16 32) : Prop :=
  (∀ (k0_h1 : k0_cond1 i k0_t2 = 1#1), ∀ a x, ((![v2990, v2975] : Fin 2 → IVec S16 32) a x).toNat < S160x142.size a)
theorem k0_idx2176_inb : ∀ (i : grid0.Coords) (k0_t2 : Fin k0_t2_loop.trips) (v2975 : IVec S16 32) (v2990 : IVec S16 32) (k0_hw1293 : k0_chk1293 i k0_t2 v2975 v2990), ∀ (k0_h1 : k0_cond1 i k0_t2 = 1#1), ∀ a x, ((![v2990, v2975] : Fin 2 → IVec S16 32) a x).toNat < S160x142.size a := fun i k0_t2 v2975 v2990 k0_hw1293 k0_h1 => k0_hw1293 k0_h1

def k0_chk1294 (i : grid0.Coords) (k0_t2 : Fin k0_t2_loop.trips) (v2975 : IVec S16 32) (v2993 : IVec S16 32) : Prop :=
  (∀ (k0_h1 : k0_cond1 i k0_t2 = 1#1), ∀ a x, ((![v2993, v2975] : Fin 2 → IVec S16 32) a x).toNat < S160x142.size a)
theorem k0_idx2178_inb : ∀ (i : grid0.Coords) (k0_t2 : Fin k0_t2_loop.trips) (v2975 : IVec S16 32) (v2993 : IVec S16 32) (k0_hw1294 : k0_chk1294 i k0_t2 v2975 v2993), ∀ (k0_h1 : k0_cond1 i k0_t2 = 1#1), ∀ a x, ((![v2993, v2975] : Fin 2 → IVec S16 32) a x).toNat < S160x142.size a := fun i k0_t2 v2975 v2993 k0_hw1294 k0_h1 => k0_hw1294 k0_h1

def k0_chk1295 (i : grid0.Coords) (k0_t2 : Fin k0_t2_loop.trips) (v2975 : IVec S16 32) (v2996 : IVec S16 32) : Prop :=
  (∀ (k0_h1 : k0_cond1 i k0_t2 = 1#1), ∀ a x, ((![v2996, v2975] : Fin 2 → IVec S16 32) a x).toNat < S160x142.size a)
theorem k0_idx2180_inb : ∀ (i : grid0.Coords) (k0_t2 : Fin k0_t2_loop.trips) (v2975 : IVec S16 32) (v2996 : IVec S16 32) (k0_hw1295 : k0_chk1295 i k0_t2 v2975 v2996), ∀ (k0_h1 : k0_cond1 i k0_t2 = 1#1), ∀ a x, ((![v2996, v2975] : Fin 2 → IVec S16 32) a x).toNat < S160x142.size a := fun i k0_t2 v2975 v2996 k0_hw1295 k0_h1 => k0_hw1295 k0_h1

def k0_chk1296 (i : grid0.Coords) (k0_t2 : Fin k0_t2_loop.trips) (v2975 : IVec S16 32) (v2999 : IVec S16 32) : Prop :=
  (∀ (k0_h1 : k0_cond1 i k0_t2 = 1#1), ∀ a x, ((![v2999, v2975] : Fin 2 → IVec S16 32) a x).toNat < S160x142.size a)
theorem k0_idx2182_inb : ∀ (i : grid0.Coords) (k0_t2 : Fin k0_t2_loop.trips) (v2975 : IVec S16 32) (v2999 : IVec S16 32) (k0_hw1296 : k0_chk1296 i k0_t2 v2975 v2999), ∀ (k0_h1 : k0_cond1 i k0_t2 = 1#1), ∀ a x, ((![v2999, v2975] : Fin 2 → IVec S16 32) a x).toNat < S160x142.size a := fun i k0_t2 v2975 v2999 k0_hw1296 k0_h1 => k0_hw1296 k0_h1

def k0_chk1297 (i : grid0.Coords) (k0_t2 : Fin k0_t2_loop.trips) (v2975 : IVec S16 32) (v3002 : IVec S16 32) : Prop :=
  (∀ (k0_h1 : k0_cond1 i k0_t2 = 1#1), ∀ a x, ((![v3002, v2975] : Fin 2 → IVec S16 32) a x).toNat < S160x142.size a)
theorem k0_idx2184_inb : ∀ (i : grid0.Coords) (k0_t2 : Fin k0_t2_loop.trips) (v2975 : IVec S16 32) (v3002 : IVec S16 32) (k0_hw1297 : k0_chk1297 i k0_t2 v2975 v3002), ∀ (k0_h1 : k0_cond1 i k0_t2 = 1#1), ∀ a x, ((![v3002, v2975] : Fin 2 → IVec S16 32) a x).toNat < S160x142.size a := fun i k0_t2 v2975 v3002 k0_hw1297 k0_h1 => k0_hw1297 k0_h1

def k0_chk1288 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) : Prop :=
  (∀ (k0_h1 : k0_cond1 i k0_t2 = 1#1), ∀ a x, ((![v15, v2975] : Fin 2 → IVec S16 32) a x).toNat < S256x142.size a) ∧
  (∀ (k0_h1 : k0_cond1 i k0_t2 = 1#1), ∀ a x, ((![v20, v2975] : Fin 2 → IVec S16 32) a x).toNat < S256x142.size a) ∧
  (∀ (k0_h1 : k0_cond1 i k0_t2 = 1#1), ∀ a x, ((![v25, v2975] : Fin 2 → IVec S16 32) a x).toNat < S256x142.size a) ∧
  (∀ (k0_h1 : k0_cond1 i k0_t2 = 1#1), ∀ a x, ((![v30, v2975] : Fin 2 → IVec S16 32) a x).toNat < S256x142.size a) ∧
  (∀ (k0_h1 : k0_cond1 i k0_t2 = 1#1), ∀ a x, ((![v35, v2975] : Fin 2 → IVec S16 32) a x).toNat < S256x142.size a) ∧
  (∀ (k0_h1 : k0_cond1 i k0_t2 = 1#1), ∀ a x, ((![v40, v2975] : Fin 2 → IVec S16 32) a x).toNat < S256x142.size a) ∧
  (∀ (k0_h1 : k0_cond1 i k0_t2 = 1#1), ∀ a x, ((![v45, v2975] : Fin 2 → IVec S16 32) a x).toNat < S256x142.size a) ∧
  (∀ (k0_h1 : k0_cond1 i k0_t2 = 1#1), ∀ a x, ((![v50, v2975] : Fin 2 → IVec S16 32) a x).toNat < S256x142.size a) ∧
  (∀ (k0_h1 : k0_cond1 i k0_t2 = 1#1), ∀ a x, ((![v55, v2975] : Fin 2 → IVec S16 32) a x).toNat < S256x142.size a) ∧
  (∀ (k0_h1 : k0_cond1 i k0_t2 = 1#1), ∀ a x, ((![v60, v2975] : Fin 2 → IVec S16 32) a x).toNat < S256x142.size a)
theorem k0_idx2167_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v15, v2975] : Fin 2 → IVec S16 32) a x).toNat < S256x142.size a := fun i k0_t2 v15 v20 v25 v30 v35 v40 v45 v50 v55 v60 v2975 k0_hw1288 k0_h1 => k0_hw1288.1 k0_h1
theorem k0_idx2169_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v20, v2975] : Fin 2 → IVec S16 32) a x).toNat < S256x142.size a := fun i k0_t2 v15 v20 v25 v30 v35 v40 v45 v50 v55 v60 v2975 k0_hw1288 k0_h1 => k0_hw1288.2.1 k0_h1
theorem k0_idx2171_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v25, v2975] : Fin 2 → IVec S16 32) a x).toNat < S256x142.size a := fun i k0_t2 v15 v20 v25 v30 v35 v40 v45 v50 v55 v60 v2975 k0_hw1288 k0_h1 => k0_hw1288.2.2.1 k0_h1
theorem k0_idx2173_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v30, v2975] : Fin 2 → IVec S16 32) a x).toNat < S256x142.size a := fun i k0_t2 v15 v20 v25 v30 v35 v40 v45 v50 v55 v60 v2975 k0_hw1288 k0_h1 => k0_hw1288.2.2.2.1 k0_h1
theorem k0_idx2175_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v35, v2975] : Fin 2 → IVec S16 32) a x).toNat < S256x142.size a := fun i k0_t2 v15 v20 v25 v30 v35 v40 v45 v50 v55 v60 v2975 k0_hw1288 k0_h1 => k0_hw1288.2.2.2.2.1 k0_h1
theorem k0_idx2177_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v40, v2975] : Fin 2 → IVec S16 32) a x).toNat < S256x142.size a := fun i k0_t2 v15 v20 v25 v30 v35 v40 v45 v50 v55 v60 v2975 k0_hw1288 k0_h1 => k0_hw1288.2.2.2.2.2.1 k0_h1
theorem k0_idx2179_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v45, v2975] : Fin 2 → IVec S16 32) a x).toNat < S256x142.size a := fun i k0_t2 v15 v20 v25 v30 v35 v40 v45 v50 v55 v60 v2975 k0_hw1288 k0_h1 => k0_hw1288.2.2.2.2.2.2.1 k0_h1
theorem k0_idx2181_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v50, v2975] : Fin 2 → IVec S16 32) a x).toNat < S256x142.size a := fun i k0_t2 v15 v20 v25 v30 v35 v40 v45 v50 v55 v60 v2975 k0_hw1288 k0_h1 => k0_hw1288.2.2.2.2.2.2.2.1 k0_h1
theorem k0_idx2183_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v55, v2975] : Fin 2 → IVec S16 32) a x).toNat < S256x142.size a := fun i k0_t2 v15 v20 v25 v30 v35 v40 v45 v50 v55 v60 v2975 k0_hw1288 k0_h1 => k0_hw1288.2.2.2.2.2.2.2.2.1 k0_h1
theorem k0_idx2185_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v2975 : IVec S16 32) (k0_hw1288 : k0_chk1288 i k0_t2 v15 v20 v25 v30 v35 v40 v45 v50 v55 v60 v2975), ∀ (k0_h1 : k0_cond1 i k0_t2 = 1#1), ∀ a x, ((![v60, v2975] : Fin 2 → IVec S16 32) a x).toNat < S256x142.size a := fun i k0_t2 v15 v20 v25 v30 v35 v40 v45 v50 v55 v60 v2975 k0_hw1288 k0_h1 => k0_hw1288.2.2.2.2.2.2.2.2.2 k0_h1

def k0_chk1298 (i : grid0.Coords) (k0_t2 : Fin k0_t2_loop.trips) (v2975 : IVec S16 32) (v3005 : IVec S16 32) : Prop :=
  (∀ (k0_h1 : k0_cond1 i k0_t2 = 1#1), ∀ a x, ((![v3005, v2975] : Fin 2 → IVec S16 32) a x).toNat < S160x142.size a)
theorem k0_idx2186_inb : ∀ (i : grid0.Coords) (k0_t2 : Fin k0_t2_loop.trips) (v2975 : IVec S16 32) (v3005 : IVec S16 32) (k0_hw1298 : k0_chk1298 i k0_t2 v2975 v3005), ∀ (k0_h1 : k0_cond1 i k0_t2 = 1#1), ∀ a x, ((![v3005, v2975] : Fin 2 → IVec S16 32) a x).toNat < S160x142.size a := fun i k0_t2 v2975 v3005 k0_hw1298 k0_h1 => k0_hw1298 k0_h1

def k0_chk1300 (i : grid0.Coords) (k0_t2 : Fin k0_t2_loop.trips) (v3006 : IVec S16 32) (v3009 : IVec S16 32) : Prop :=
  (∀ (k0_h1 : k0_cond1 i k0_t2 = 1#1), ∀ a x, ((![v3009, v3006] : Fin 2 → IVec S16 32) a x).toNat < S160x142.size a)
theorem k0_idx2188_inb : ∀ (i : grid0.Coords) (k0_t2 : Fin k0_t2_loop.trips) (v3006 : IVec S16 32) (v3009 : IVec S16 32) (k0_hw1300 : k0_chk1300 i k0_t2 v3006 v3009), ∀ (k0_h1 : k0_cond1 i k0_t2 = 1#1), ∀ a x, ((![v3009, v3006] : Fin 2 → IVec S16 32) a x).toNat < S160x142.size a := fun i k0_t2 v3006 v3009 k0_hw1300 k0_h1 => k0_hw1300 k0_h1

def k0_chk1301 (i : grid0.Coords) (k0_t2 : Fin k0_t2_loop.trips) (v3006 : IVec S16 32) (v3012 : IVec S16 32) : Prop :=
  (∀ (k0_h1 : k0_cond1 i k0_t2 = 1#1), ∀ a x, ((![v3012, v3006] : Fin 2 → IVec S16 32) a x).toNat < S160x142.size a)
theorem k0_idx2190_inb : ∀ (i : grid0.Coords) (k0_t2 : Fin k0_t2_loop.trips) (v3006 : IVec S16 32) (v3012 : IVec S16 32) (k0_hw1301 : k0_chk1301 i k0_t2 v3006 v3012), ∀ (k0_h1 : k0_cond1 i k0_t2 = 1#1), ∀ a x, ((![v3012, v3006] : Fin 2 → IVec S16 32) a x).toNat < S160x142.size a := fun i k0_t2 v3006 v3012 k0_hw1301 k0_h1 => k0_hw1301 k0_h1

def k0_chk1302 (i : grid0.Coords) (k0_t2 : Fin k0_t2_loop.trips) (v3006 : IVec S16 32) (v3015 : IVec S16 32) : Prop :=
  (∀ (k0_h1 : k0_cond1 i k0_t2 = 1#1), ∀ a x, ((![v3015, v3006] : Fin 2 → IVec S16 32) a x).toNat < S160x142.size a)
theorem k0_idx2192_inb : ∀ (i : grid0.Coords) (k0_t2 : Fin k0_t2_loop.trips) (v3006 : IVec S16 32) (v3015 : IVec S16 32) (k0_hw1302 : k0_chk1302 i k0_t2 v3006 v3015), ∀ (k0_h1 : k0_cond1 i k0_t2 = 1#1), ∀ a x, ((![v3015, v3006] : Fin 2 → IVec S16 32) a x).toNat < S160x142.size a := fun i k0_t2 v3006 v3015 k0_hw1302 k0_h1 => k0_hw1302 k0_h1

def k0_chk1303 (i : grid0.Coords) (k0_t2 : Fin k0_t2_loop.trips) (v3006 : IVec S16 32) (v3018 : IVec S16 32) : Prop :=
  (∀ (k0_h1 : k0_cond1 i k0_t2 = 1#1), ∀ a x, ((![v3018, v3006] : Fin 2 → IVec S16 32) a x).toNat < S160x142.size a)
theorem k0_idx2194_inb : ∀ (i : grid0.Coords) (k0_t2 : Fin k0_t2_loop.trips) (v3006 : IVec S16 32) (v3018 : IVec S16 32) (k0_hw1303 : k0_chk1303 i k0_t2 v3006 v3018), ∀ (k0_h1 : k0_cond1 i k0_t2 = 1#1), ∀ a x, ((![v3018, v3006] : Fin 2 → IVec S16 32) a x).toNat < S160x142.size a := fun i k0_t2 v3006 v3018 k0_hw1303 k0_h1 => k0_hw1303 k0_h1

def k0_chk1304 (i : grid0.Coords) (k0_t2 : Fin k0_t2_loop.trips) (v3006 : IVec S16 32) (v3021 : IVec S16 32) : Prop :=
  (∀ (k0_h1 : k0_cond1 i k0_t2 = 1#1), ∀ a x, ((![v3021, v3006] : Fin 2 → IVec S16 32) a x).toNat < S160x142.size a)
theorem k0_idx2196_inb : ∀ (i : grid0.Coords) (k0_t2 : Fin k0_t2_loop.trips) (v3006 : IVec S16 32) (v3021 : IVec S16 32) (k0_hw1304 : k0_chk1304 i k0_t2 v3006 v3021), ∀ (k0_h1 : k0_cond1 i k0_t2 = 1#1), ∀ a x, ((![v3021, v3006] : Fin 2 → IVec S16 32) a x).toNat < S160x142.size a := fun i k0_t2 v3006 v3021 k0_hw1304 k0_h1 => k0_hw1304 k0_h1

def k0_chk1305 (i : grid0.Coords) (k0_t2 : Fin k0_t2_loop.trips) (v3006 : IVec S16 32) (v3024 : IVec S16 32) : Prop :=
  (∀ (k0_h1 : k0_cond1 i k0_t2 = 1#1), ∀ a x, ((![v3024, v3006] : Fin 2 → IVec S16 32) a x).toNat < S160x142.size a)
theorem k0_idx2198_inb : ∀ (i : grid0.Coords) (k0_t2 : Fin k0_t2_loop.trips) (v3006 : IVec S16 32) (v3024 : IVec S16 32) (k0_hw1305 : k0_chk1305 i k0_t2 v3006 v3024), ∀ (k0_h1 : k0_cond1 i k0_t2 = 1#1), ∀ a x, ((![v3024, v3006] : Fin 2 → IVec S16 32) a x).toNat < S160x142.size a := fun i k0_t2 v3006 v3024 k0_hw1305 k0_h1 => k0_hw1305 k0_h1

def k0_chk1306 (i : grid0.Coords) (k0_t2 : Fin k0_t2_loop.trips) (v3006 : IVec S16 32) (v3027 : IVec S16 32) : Prop :=
  (∀ (k0_h1 : k0_cond1 i k0_t2 = 1#1), ∀ a x, ((![v3027, v3006] : Fin 2 → IVec S16 32) a x).toNat < S160x142.size a)
theorem k0_idx2200_inb : ∀ (i : grid0.Coords) (k0_t2 : Fin k0_t2_loop.trips) (v3006 : IVec S16 32) (v3027 : IVec S16 32) (k0_hw1306 : k0_chk1306 i k0_t2 v3006 v3027), ∀ (k0_h1 : k0_cond1 i k0_t2 = 1#1), ∀ a x, ((![v3027, v3006] : Fin 2 → IVec S16 32) a x).toNat < S160x142.size a := fun i k0_t2 v3006 v3027 k0_hw1306 k0_h1 => k0_hw1306 k0_h1

def k0_chk1307 (i : grid0.Coords) (k0_t2 : Fin k0_t2_loop.trips) (v3006 : IVec S16 32) (v3030 : IVec S16 32) : Prop :=
  (∀ (k0_h1 : k0_cond1 i k0_t2 = 1#1), ∀ a x, ((![v3030, v3006] : Fin 2 → IVec S16 32) a x).toNat < S160x142.size a)
theorem k0_idx2202_inb : ∀ (i : grid0.Coords) (k0_t2 : Fin k0_t2_loop.trips) (v3006 : IVec S16 32) (v3030 : IVec S16 32) (k0_hw1307 : k0_chk1307 i k0_t2 v3006 v3030), ∀ (k0_h1 : k0_cond1 i k0_t2 = 1#1), ∀ a x, ((![v3030, v3006] : Fin 2 → IVec S16 32) a x).toNat < S160x142.size a := fun i k0_t2 v3006 v3030 k0_hw1307 k0_h1 => k0_hw1307 k0_h1

def k0_chk1308 (i : grid0.Coords) (k0_t2 : Fin k0_t2_loop.trips) (v3006 : IVec S16 32) (v3033 : IVec S16 32) : Prop :=
  (∀ (k0_h1 : k0_cond1 i k0_t2 = 1#1), ∀ a x, ((![v3033, v3006] : Fin 2 → IVec S16 32) a x).toNat < S160x142.size a)
theorem k0_idx2204_inb : ∀ (i : grid0.Coords) (k0_t2 : Fin k0_t2_loop.trips) (v3006 : IVec S16 32) (v3033 : IVec S16 32) (k0_hw1308 : k0_chk1308 i k0_t2 v3006 v3033), ∀ (k0_h1 : k0_cond1 i k0_t2 = 1#1), ∀ a x, ((![v3033, v3006] : Fin 2 → IVec S16 32) a x).toNat < S160x142.size a := fun i k0_t2 v3006 v3033 k0_hw1308 k0_h1 => k0_hw1308 k0_h1

def k0_chk1299 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) : Prop :=
  (∀ (k0_h1 : k0_cond1 i k0_t2 = 1#1), ∀ a x, ((![v15, v3006] : Fin 2 → IVec S16 32) a x).toNat < S256x142.size a) ∧
  (∀ (k0_h1 : k0_cond1 i k0_t2 = 1#1), ∀ a x, ((![v20, v3006] : Fin 2 → IVec S16 32) a x).toNat < S256x142.size a) ∧
  (∀ (k0_h1 : k0_cond1 i k0_t2 = 1#1), ∀ a x, ((![v25, v3006] : Fin 2 → IVec S16 32) a x).toNat < S256x142.size a) ∧
  (∀ (k0_h1 : k0_cond1 i k0_t2 = 1#1), ∀ a x, ((![v30, v3006] : Fin 2 → IVec S16 32) a x).toNat < S256x142.size a) ∧
  (∀ (k0_h1 : k0_cond1 i k0_t2 = 1#1), ∀ a x, ((![v35, v3006] : Fin 2 → IVec S16 32) a x).toNat < S256x142.size a) ∧
  (∀ (k0_h1 : k0_cond1 i k0_t2 = 1#1), ∀ a x, ((![v40, v3006] : Fin 2 → IVec S16 32) a x).toNat < S256x142.size a) ∧
  (∀ (k0_h1 : k0_cond1 i k0_t2 = 1#1), ∀ a x, ((![v45, v3006] : Fin 2 → IVec S16 32) a x).toNat < S256x142.size a) ∧
  (∀ (k0_h1 : k0_cond1 i k0_t2 = 1#1), ∀ a x, ((![v50, v3006] : Fin 2 → IVec S16 32) a x).toNat < S256x142.size a) ∧
  (∀ (k0_h1 : k0_cond1 i k0_t2 = 1#1), ∀ a x, ((![v55, v3006] : Fin 2 → IVec S16 32) a x).toNat < S256x142.size a) ∧
  (∀ (k0_h1 : k0_cond1 i k0_t2 = 1#1), ∀ a x, ((![v60, v3006] : Fin 2 → IVec S16 32) a x).toNat < S256x142.size a)
theorem k0_idx2187_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v15, v3006] : Fin 2 → IVec S16 32) a x).toNat < S256x142.size a := fun i k0_t2 v15 v20 v25 v30 v35 v40 v45 v50 v55 v60 v3006 k0_hw1299 k0_h1 => k0_hw1299.1 k0_h1
theorem k0_idx2189_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v20, v3006] : Fin 2 → IVec S16 32) a x).toNat < S256x142.size a := fun i k0_t2 v15 v20 v25 v30 v35 v40 v45 v50 v55 v60 v3006 k0_hw1299 k0_h1 => k0_hw1299.2.1 k0_h1
theorem k0_idx2191_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v25, v3006] : Fin 2 → IVec S16 32) a x).toNat < S256x142.size a := fun i k0_t2 v15 v20 v25 v30 v35 v40 v45 v50 v55 v60 v3006 k0_hw1299 k0_h1 => k0_hw1299.2.2.1 k0_h1
theorem k0_idx2193_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v30, v3006] : Fin 2 → IVec S16 32) a x).toNat < S256x142.size a := fun i k0_t2 v15 v20 v25 v30 v35 v40 v45 v50 v55 v60 v3006 k0_hw1299 k0_h1 => k0_hw1299.2.2.2.1 k0_h1
theorem k0_idx2195_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v35, v3006] : Fin 2 → IVec S16 32) a x).toNat < S256x142.size a := fun i k0_t2 v15 v20 v25 v30 v35 v40 v45 v50 v55 v60 v3006 k0_hw1299 k0_h1 => k0_hw1299.2.2.2.2.1 k0_h1
theorem k0_idx2197_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v40, v3006] : Fin 2 → IVec S16 32) a x).toNat < S256x142.size a := fun i k0_t2 v15 v20 v25 v30 v35 v40 v45 v50 v55 v60 v3006 k0_hw1299 k0_h1 => k0_hw1299.2.2.2.2.2.1 k0_h1
theorem k0_idx2199_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v45, v3006] : Fin 2 → IVec S16 32) a x).toNat < S256x142.size a := fun i k0_t2 v15 v20 v25 v30 v35 v40 v45 v50 v55 v60 v3006 k0_hw1299 k0_h1 => k0_hw1299.2.2.2.2.2.2.1 k0_h1
theorem k0_idx2201_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v50, v3006] : Fin 2 → IVec S16 32) a x).toNat < S256x142.size a := fun i k0_t2 v15 v20 v25 v30 v35 v40 v45 v50 v55 v60 v3006 k0_hw1299 k0_h1 => k0_hw1299.2.2.2.2.2.2.2.1 k0_h1
theorem k0_idx2203_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v55, v3006] : Fin 2 → IVec S16 32) a x).toNat < S256x142.size a := fun i k0_t2 v15 v20 v25 v30 v35 v40 v45 v50 v55 v60 v3006 k0_hw1299 k0_h1 => k0_hw1299.2.2.2.2.2.2.2.2.1 k0_h1
theorem k0_idx2205_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3006 : IVec S16 32) (k0_hw1299 : k0_chk1299 i k0_t2 v15 v20 v25 v30 v35 v40 v45 v50 v55 v60 v3006), ∀ (k0_h1 : k0_cond1 i k0_t2 = 1#1), ∀ a x, ((![v60, v3006] : Fin 2 → IVec S16 32) a x).toNat < S256x142.size a := fun i k0_t2 v15 v20 v25 v30 v35 v40 v45 v50 v55 v60 v3006 k0_hw1299 k0_h1 => k0_hw1299.2.2.2.2.2.2.2.2.2 k0_h1

def k0_chk1309 (i : grid0.Coords) (k0_t2 : Fin k0_t2_loop.trips) (v3006 : IVec S16 32) (v3036 : IVec S16 32) : Prop :=
  (∀ (k0_h1 : k0_cond1 i k0_t2 = 1#1), ∀ a x, ((![v3036, v3006] : Fin 2 → IVec S16 32) a x).toNat < S160x142.size a)
theorem k0_idx2206_inb : ∀ (i : grid0.Coords) (k0_t2 : Fin k0_t2_loop.trips) (v3006 : IVec S16 32) (v3036 : IVec S16 32) (k0_hw1309 : k0_chk1309 i k0_t2 v3006 v3036), ∀ (k0_h1 : k0_cond1 i k0_t2 = 1#1), ∀ a x, ((![v3036, v3006] : Fin 2 → IVec S16 32) a x).toNat < S160x142.size a := fun i k0_t2 v3006 v3036 k0_hw1309 k0_h1 => k0_hw1309 k0_h1

def k0_chk1311 (i : grid0.Coords) (k0_t2 : Fin k0_t2_loop.trips) (v3037 : IVec S16 32) (v3040 : IVec S16 32) : Prop :=
  (∀ (k0_h1 : k0_cond1 i k0_t2 = 1#1), ∀ a x, ((![v3040, v3037] : Fin 2 → IVec S16 32) a x).toNat < S160x142.size a)
theorem k0_idx2208_inb : ∀ (i : grid0.Coords) (k0_t2 : Fin k0_t2_loop.trips) (v3037 : IVec S16 32) (v3040 : IVec S16 32) (k0_hw1311 : k0_chk1311 i k0_t2 v3037 v3040), ∀ (k0_h1 : k0_cond1 i k0_t2 = 1#1), ∀ a x, ((![v3040, v3037] : Fin 2 → IVec S16 32) a x).toNat < S160x142.size a := fun i k0_t2 v3037 v3040 k0_hw1311 k0_h1 => k0_hw1311 k0_h1

def k0_chk1312 (i : grid0.Coords) (k0_t2 : Fin k0_t2_loop.trips) (v3037 : IVec S16 32) (v3043 : IVec S16 32) : Prop :=
  (∀ (k0_h1 : k0_cond1 i k0_t2 = 1#1), ∀ a x, ((![v3043, v3037] : Fin 2 → IVec S16 32) a x).toNat < S160x142.size a)
theorem k0_idx2210_inb : ∀ (i : grid0.Coords) (k0_t2 : Fin k0_t2_loop.trips) (v3037 : IVec S16 32) (v3043 : IVec S16 32) (k0_hw1312 : k0_chk1312 i k0_t2 v3037 v3043), ∀ (k0_h1 : k0_cond1 i k0_t2 = 1#1), ∀ a x, ((![v3043, v3037] : Fin 2 → IVec S16 32) a x).toNat < S160x142.size a := fun i k0_t2 v3037 v3043 k0_hw1312 k0_h1 => k0_hw1312 k0_h1

def k0_chk1313 (i : grid0.Coords) (k0_t2 : Fin k0_t2_loop.trips) (v3037 : IVec S16 32) (v3046 : IVec S16 32) : Prop :=
  (∀ (k0_h1 : k0_cond1 i k0_t2 = 1#1), ∀ a x, ((![v3046, v3037] : Fin 2 → IVec S16 32) a x).toNat < S160x142.size a)
theorem k0_idx2212_inb : ∀ (i : grid0.Coords) (k0_t2 : Fin k0_t2_loop.trips) (v3037 : IVec S16 32) (v3046 : IVec S16 32) (k0_hw1313 : k0_chk1313 i k0_t2 v3037 v3046), ∀ (k0_h1 : k0_cond1 i k0_t2 = 1#1), ∀ a x, ((![v3046, v3037] : Fin 2 → IVec S16 32) a x).toNat < S160x142.size a := fun i k0_t2 v3037 v3046 k0_hw1313 k0_h1 => k0_hw1313 k0_h1

def k0_chk1314 (i : grid0.Coords) (k0_t2 : Fin k0_t2_loop.trips) (v3037 : IVec S16 32) (v3049 : IVec S16 32) : Prop :=
  (∀ (k0_h1 : k0_cond1 i k0_t2 = 1#1), ∀ a x, ((![v3049, v3037] : Fin 2 → IVec S16 32) a x).toNat < S160x142.size a)
theorem k0_idx2214_inb : ∀ (i : grid0.Coords) (k0_t2 : Fin k0_t2_loop.trips) (v3037 : IVec S16 32) (v3049 : IVec S16 32) (k0_hw1314 : k0_chk1314 i k0_t2 v3037 v3049), ∀ (k0_h1 : k0_cond1 i k0_t2 = 1#1), ∀ a x, ((![v3049, v3037] : Fin 2 → IVec S16 32) a x).toNat < S160x142.size a := fun i k0_t2 v3037 v3049 k0_hw1314 k0_h1 => k0_hw1314 k0_h1

def k0_chk1315 (i : grid0.Coords) (k0_t2 : Fin k0_t2_loop.trips) (v3037 : IVec S16 32) (v3052 : IVec S16 32) : Prop :=
  (∀ (k0_h1 : k0_cond1 i k0_t2 = 1#1), ∀ a x, ((![v3052, v3037] : Fin 2 → IVec S16 32) a x).toNat < S160x142.size a)
theorem k0_idx2216_inb : ∀ (i : grid0.Coords) (k0_t2 : Fin k0_t2_loop.trips) (v3037 : IVec S16 32) (v3052 : IVec S16 32) (k0_hw1315 : k0_chk1315 i k0_t2 v3037 v3052), ∀ (k0_h1 : k0_cond1 i k0_t2 = 1#1), ∀ a x, ((![v3052, v3037] : Fin 2 → IVec S16 32) a x).toNat < S160x142.size a := fun i k0_t2 v3037 v3052 k0_hw1315 k0_h1 => k0_hw1315 k0_h1

def k0_chk1316 (i : grid0.Coords) (k0_t2 : Fin k0_t2_loop.trips) (v3037 : IVec S16 32) (v3055 : IVec S16 32) : Prop :=
  (∀ (k0_h1 : k0_cond1 i k0_t2 = 1#1), ∀ a x, ((![v3055, v3037] : Fin 2 → IVec S16 32) a x).toNat < S160x142.size a)
theorem k0_idx2218_inb : ∀ (i : grid0.Coords) (k0_t2 : Fin k0_t2_loop.trips) (v3037 : IVec S16 32) (v3055 : IVec S16 32) (k0_hw1316 : k0_chk1316 i k0_t2 v3037 v3055), ∀ (k0_h1 : k0_cond1 i k0_t2 = 1#1), ∀ a x, ((![v3055, v3037] : Fin 2 → IVec S16 32) a x).toNat < S160x142.size a := fun i k0_t2 v3037 v3055 k0_hw1316 k0_h1 => k0_hw1316 k0_h1

def k0_chk1317 (i : grid0.Coords) (k0_t2 : Fin k0_t2_loop.trips) (v3037 : IVec S16 32) (v3058 : IVec S16 32) : Prop :=
  (∀ (k0_h1 : k0_cond1 i k0_t2 = 1#1), ∀ a x, ((![v3058, v3037] : Fin 2 → IVec S16 32) a x).toNat < S160x142.size a)
theorem k0_idx2220_inb : ∀ (i : grid0.Coords) (k0_t2 : Fin k0_t2_loop.trips) (v3037 : IVec S16 32) (v3058 : IVec S16 32) (k0_hw1317 : k0_chk1317 i k0_t2 v3037 v3058), ∀ (k0_h1 : k0_cond1 i k0_t2 = 1#1), ∀ a x, ((![v3058, v3037] : Fin 2 → IVec S16 32) a x).toNat < S160x142.size a := fun i k0_t2 v3037 v3058 k0_hw1317 k0_h1 => k0_hw1317 k0_h1

def k0_chk1318 (i : grid0.Coords) (k0_t2 : Fin k0_t2_loop.trips) (v3037 : IVec S16 32) (v3061 : IVec S16 32) : Prop :=
  (∀ (k0_h1 : k0_cond1 i k0_t2 = 1#1), ∀ a x, ((![v3061, v3037] : Fin 2 → IVec S16 32) a x).toNat < S160x142.size a)
theorem k0_idx2222_inb : ∀ (i : grid0.Coords) (k0_t2 : Fin k0_t2_loop.trips) (v3037 : IVec S16 32) (v3061 : IVec S16 32) (k0_hw1318 : k0_chk1318 i k0_t2 v3037 v3061), ∀ (k0_h1 : k0_cond1 i k0_t2 = 1#1), ∀ a x, ((![v3061, v3037] : Fin 2 → IVec S16 32) a x).toNat < S160x142.size a := fun i k0_t2 v3037 v3061 k0_hw1318 k0_h1 => k0_hw1318 k0_h1

def k0_chk1319 (i : grid0.Coords) (k0_t2 : Fin k0_t2_loop.trips) (v3037 : IVec S16 32) (v3064 : IVec S16 32) : Prop :=
  (∀ (k0_h1 : k0_cond1 i k0_t2 = 1#1), ∀ a x, ((![v3064, v3037] : Fin 2 → IVec S16 32) a x).toNat < S160x142.size a)
theorem k0_idx2224_inb : ∀ (i : grid0.Coords) (k0_t2 : Fin k0_t2_loop.trips) (v3037 : IVec S16 32) (v3064 : IVec S16 32) (k0_hw1319 : k0_chk1319 i k0_t2 v3037 v3064), ∀ (k0_h1 : k0_cond1 i k0_t2 = 1#1), ∀ a x, ((![v3064, v3037] : Fin 2 → IVec S16 32) a x).toNat < S160x142.size a := fun i k0_t2 v3037 v3064 k0_hw1319 k0_h1 => k0_hw1319 k0_h1

def k0_chk1310 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) : Prop :=
  (∀ (k0_h1 : k0_cond1 i k0_t2 = 1#1), ∀ a x, ((![v15, v3037] : Fin 2 → IVec S16 32) a x).toNat < S256x142.size a) ∧
  (∀ (k0_h1 : k0_cond1 i k0_t2 = 1#1), ∀ a x, ((![v20, v3037] : Fin 2 → IVec S16 32) a x).toNat < S256x142.size a) ∧
  (∀ (k0_h1 : k0_cond1 i k0_t2 = 1#1), ∀ a x, ((![v25, v3037] : Fin 2 → IVec S16 32) a x).toNat < S256x142.size a) ∧
  (∀ (k0_h1 : k0_cond1 i k0_t2 = 1#1), ∀ a x, ((![v30, v3037] : Fin 2 → IVec S16 32) a x).toNat < S256x142.size a) ∧
  (∀ (k0_h1 : k0_cond1 i k0_t2 = 1#1), ∀ a x, ((![v35, v3037] : Fin 2 → IVec S16 32) a x).toNat < S256x142.size a) ∧
  (∀ (k0_h1 : k0_cond1 i k0_t2 = 1#1), ∀ a x, ((![v40, v3037] : Fin 2 → IVec S16 32) a x).toNat < S256x142.size a) ∧
  (∀ (k0_h1 : k0_cond1 i k0_t2 = 1#1), ∀ a x, ((![v45, v3037] : Fin 2 → IVec S16 32) a x).toNat < S256x142.size a) ∧
  (∀ (k0_h1 : k0_cond1 i k0_t2 = 1#1), ∀ a x, ((![v50, v3037] : Fin 2 → IVec S16 32) a x).toNat < S256x142.size a) ∧
  (∀ (k0_h1 : k0_cond1 i k0_t2 = 1#1), ∀ a x, ((![v55, v3037] : Fin 2 → IVec S16 32) a x).toNat < S256x142.size a) ∧
  (∀ (k0_h1 : k0_cond1 i k0_t2 = 1#1), ∀ a x, ((![v60, v3037] : Fin 2 → IVec S16 32) a x).toNat < S256x142.size a)
theorem k0_idx2207_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v15, v3037] : Fin 2 → IVec S16 32) a x).toNat < S256x142.size a := fun i k0_t2 v15 v20 v25 v30 v35 v40 v45 v50 v55 v60 v3037 k0_hw1310 k0_h1 => k0_hw1310.1 k0_h1
theorem k0_idx2209_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v20, v3037] : Fin 2 → IVec S16 32) a x).toNat < S256x142.size a := fun i k0_t2 v15 v20 v25 v30 v35 v40 v45 v50 v55 v60 v3037 k0_hw1310 k0_h1 => k0_hw1310.2.1 k0_h1
theorem k0_idx2211_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v25, v3037] : Fin 2 → IVec S16 32) a x).toNat < S256x142.size a := fun i k0_t2 v15 v20 v25 v30 v35 v40 v45 v50 v55 v60 v3037 k0_hw1310 k0_h1 => k0_hw1310.2.2.1 k0_h1
theorem k0_idx2213_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v30, v3037] : Fin 2 → IVec S16 32) a x).toNat < S256x142.size a := fun i k0_t2 v15 v20 v25 v30 v35 v40 v45 v50 v55 v60 v3037 k0_hw1310 k0_h1 => k0_hw1310.2.2.2.1 k0_h1
theorem k0_idx2215_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v35, v3037] : Fin 2 → IVec S16 32) a x).toNat < S256x142.size a := fun i k0_t2 v15 v20 v25 v30 v35 v40 v45 v50 v55 v60 v3037 k0_hw1310 k0_h1 => k0_hw1310.2.2.2.2.1 k0_h1
theorem k0_idx2217_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v40, v3037] : Fin 2 → IVec S16 32) a x).toNat < S256x142.size a := fun i k0_t2 v15 v20 v25 v30 v35 v40 v45 v50 v55 v60 v3037 k0_hw1310 k0_h1 => k0_hw1310.2.2.2.2.2.1 k0_h1
theorem k0_idx2219_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v45, v3037] : Fin 2 → IVec S16 32) a x).toNat < S256x142.size a := fun i k0_t2 v15 v20 v25 v30 v35 v40 v45 v50 v55 v60 v3037 k0_hw1310 k0_h1 => k0_hw1310.2.2.2.2.2.2.1 k0_h1
theorem k0_idx2221_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v50, v3037] : Fin 2 → IVec S16 32) a x).toNat < S256x142.size a := fun i k0_t2 v15 v20 v25 v30 v35 v40 v45 v50 v55 v60 v3037 k0_hw1310 k0_h1 => k0_hw1310.2.2.2.2.2.2.2.1 k0_h1
theorem k0_idx2223_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v55, v3037] : Fin 2 → IVec S16 32) a x).toNat < S256x142.size a := fun i k0_t2 v15 v20 v25 v30 v35 v40 v45 v50 v55 v60 v3037 k0_hw1310 k0_h1 => k0_hw1310.2.2.2.2.2.2.2.2.1 k0_h1
theorem k0_idx2225_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3037 : IVec S16 32) (k0_hw1310 : k0_chk1310 i k0_t2 v15 v20 v25 v30 v35 v40 v45 v50 v55 v60 v3037), ∀ (k0_h1 : k0_cond1 i k0_t2 = 1#1), ∀ a x, ((![v60, v3037] : Fin 2 → IVec S16 32) a x).toNat < S256x142.size a := fun i k0_t2 v15 v20 v25 v30 v35 v40 v45 v50 v55 v60 v3037 k0_hw1310 k0_h1 => k0_hw1310.2.2.2.2.2.2.2.2.2 k0_h1

def k0_chk1320 (i : grid0.Coords) (k0_t2 : Fin k0_t2_loop.trips) (v3037 : IVec S16 32) (v3067 : IVec S16 32) : Prop :=
  (∀ (k0_h1 : k0_cond1 i k0_t2 = 1#1), ∀ a x, ((![v3067, v3037] : Fin 2 → IVec S16 32) a x).toNat < S160x142.size a)
theorem k0_idx2226_inb : ∀ (i : grid0.Coords) (k0_t2 : Fin k0_t2_loop.trips) (v3037 : IVec S16 32) (v3067 : IVec S16 32) (k0_hw1320 : k0_chk1320 i k0_t2 v3037 v3067), ∀ (k0_h1 : k0_cond1 i k0_t2 = 1#1), ∀ a x, ((![v3067, v3037] : Fin 2 → IVec S16 32) a x).toNat < S160x142.size a := fun i k0_t2 v3037 v3067 k0_hw1320 k0_h1 => k0_hw1320 k0_h1

def k0_chk1322 (i : grid0.Coords) (k0_t2 : Fin k0_t2_loop.trips) (v3068 : IVec S16 32) (v3071 : IVec S16 32) : Prop :=
  (∀ (k0_h1 : k0_cond1 i k0_t2 = 1#1), ∀ a x, ((![v3071, v3068] : Fin 2 → IVec S16 32) a x).toNat < S160x142.size a)
theorem k0_idx2228_inb : ∀ (i : grid0.Coords) (k0_t2 : Fin k0_t2_loop.trips) (v3068 : IVec S16 32) (v3071 : IVec S16 32) (k0_hw1322 : k0_chk1322 i k0_t2 v3068 v3071), ∀ (k0_h1 : k0_cond1 i k0_t2 = 1#1), ∀ a x, ((![v3071, v3068] : Fin 2 → IVec S16 32) a x).toNat < S160x142.size a := fun i k0_t2 v3068 v3071 k0_hw1322 k0_h1 => k0_hw1322 k0_h1

def k0_chk1323 (i : grid0.Coords) (k0_t2 : Fin k0_t2_loop.trips) (v3068 : IVec S16 32) (v3074 : IVec S16 32) : Prop :=
  (∀ (k0_h1 : k0_cond1 i k0_t2 = 1#1), ∀ a x, ((![v3074, v3068] : Fin 2 → IVec S16 32) a x).toNat < S160x142.size a)
theorem k0_idx2230_inb : ∀ (i : grid0.Coords) (k0_t2 : Fin k0_t2_loop.trips) (v3068 : IVec S16 32) (v3074 : IVec S16 32) (k0_hw1323 : k0_chk1323 i k0_t2 v3068 v3074), ∀ (k0_h1 : k0_cond1 i k0_t2 = 1#1), ∀ a x, ((![v3074, v3068] : Fin 2 → IVec S16 32) a x).toNat < S160x142.size a := fun i k0_t2 v3068 v3074 k0_hw1323 k0_h1 => k0_hw1323 k0_h1

def k0_chk1324 (i : grid0.Coords) (k0_t2 : Fin k0_t2_loop.trips) (v3068 : IVec S16 32) (v3077 : IVec S16 32) : Prop :=
  (∀ (k0_h1 : k0_cond1 i k0_t2 = 1#1), ∀ a x, ((![v3077, v3068] : Fin 2 → IVec S16 32) a x).toNat < S160x142.size a)
theorem k0_idx2232_inb : ∀ (i : grid0.Coords) (k0_t2 : Fin k0_t2_loop.trips) (v3068 : IVec S16 32) (v3077 : IVec S16 32) (k0_hw1324 : k0_chk1324 i k0_t2 v3068 v3077), ∀ (k0_h1 : k0_cond1 i k0_t2 = 1#1), ∀ a x, ((![v3077, v3068] : Fin 2 → IVec S16 32) a x).toNat < S160x142.size a := fun i k0_t2 v3068 v3077 k0_hw1324 k0_h1 => k0_hw1324 k0_h1

def k0_chk1325 (i : grid0.Coords) (k0_t2 : Fin k0_t2_loop.trips) (v3068 : IVec S16 32) (v3080 : IVec S16 32) : Prop :=
  (∀ (k0_h1 : k0_cond1 i k0_t2 = 1#1), ∀ a x, ((![v3080, v3068] : Fin 2 → IVec S16 32) a x).toNat < S160x142.size a)
theorem k0_idx2234_inb : ∀ (i : grid0.Coords) (k0_t2 : Fin k0_t2_loop.trips) (v3068 : IVec S16 32) (v3080 : IVec S16 32) (k0_hw1325 : k0_chk1325 i k0_t2 v3068 v3080), ∀ (k0_h1 : k0_cond1 i k0_t2 = 1#1), ∀ a x, ((![v3080, v3068] : Fin 2 → IVec S16 32) a x).toNat < S160x142.size a := fun i k0_t2 v3068 v3080 k0_hw1325 k0_h1 => k0_hw1325 k0_h1

def k0_chk1326 (i : grid0.Coords) (k0_t2 : Fin k0_t2_loop.trips) (v3068 : IVec S16 32) (v3083 : IVec S16 32) : Prop :=
  (∀ (k0_h1 : k0_cond1 i k0_t2 = 1#1), ∀ a x, ((![v3083, v3068] : Fin 2 → IVec S16 32) a x).toNat < S160x142.size a)
theorem k0_idx2236_inb : ∀ (i : grid0.Coords) (k0_t2 : Fin k0_t2_loop.trips) (v3068 : IVec S16 32) (v3083 : IVec S16 32) (k0_hw1326 : k0_chk1326 i k0_t2 v3068 v3083), ∀ (k0_h1 : k0_cond1 i k0_t2 = 1#1), ∀ a x, ((![v3083, v3068] : Fin 2 → IVec S16 32) a x).toNat < S160x142.size a := fun i k0_t2 v3068 v3083 k0_hw1326 k0_h1 => k0_hw1326 k0_h1

def k0_chk1327 (i : grid0.Coords) (k0_t2 : Fin k0_t2_loop.trips) (v3068 : IVec S16 32) (v3086 : IVec S16 32) : Prop :=
  (∀ (k0_h1 : k0_cond1 i k0_t2 = 1#1), ∀ a x, ((![v3086, v3068] : Fin 2 → IVec S16 32) a x).toNat < S160x142.size a)
theorem k0_idx2238_inb : ∀ (i : grid0.Coords) (k0_t2 : Fin k0_t2_loop.trips) (v3068 : IVec S16 32) (v3086 : IVec S16 32) (k0_hw1327 : k0_chk1327 i k0_t2 v3068 v3086), ∀ (k0_h1 : k0_cond1 i k0_t2 = 1#1), ∀ a x, ((![v3086, v3068] : Fin 2 → IVec S16 32) a x).toNat < S160x142.size a := fun i k0_t2 v3068 v3086 k0_hw1327 k0_h1 => k0_hw1327 k0_h1

def k0_chk1328 (i : grid0.Coords) (k0_t2 : Fin k0_t2_loop.trips) (v3068 : IVec S16 32) (v3089 : IVec S16 32) : Prop :=
  (∀ (k0_h1 : k0_cond1 i k0_t2 = 1#1), ∀ a x, ((![v3089, v3068] : Fin 2 → IVec S16 32) a x).toNat < S160x142.size a)
theorem k0_idx2240_inb : ∀ (i : grid0.Coords) (k0_t2 : Fin k0_t2_loop.trips) (v3068 : IVec S16 32) (v3089 : IVec S16 32) (k0_hw1328 : k0_chk1328 i k0_t2 v3068 v3089), ∀ (k0_h1 : k0_cond1 i k0_t2 = 1#1), ∀ a x, ((![v3089, v3068] : Fin 2 → IVec S16 32) a x).toNat < S160x142.size a := fun i k0_t2 v3068 v3089 k0_hw1328 k0_h1 => k0_hw1328 k0_h1

def k0_chk1329 (i : grid0.Coords) (k0_t2 : Fin k0_t2_loop.trips) (v3068 : IVec S16 32) (v3092 : IVec S16 32) : Prop :=
  (∀ (k0_h1 : k0_cond1 i k0_t2 = 1#1), ∀ a x, ((![v3092, v3068] : Fin 2 → IVec S16 32) a x).toNat < S160x142.size a)
theorem k0_idx2242_inb : ∀ (i : grid0.Coords) (k0_t2 : Fin k0_t2_loop.trips) (v3068 : IVec S16 32) (v3092 : IVec S16 32) (k0_hw1329 : k0_chk1329 i k0_t2 v3068 v3092), ∀ (k0_h1 : k0_cond1 i k0_t2 = 1#1), ∀ a x, ((![v3092, v3068] : Fin 2 → IVec S16 32) a x).toNat < S160x142.size a := fun i k0_t2 v3068 v3092 k0_hw1329 k0_h1 => k0_hw1329 k0_h1

def k0_chk1330 (i : grid0.Coords) (k0_t2 : Fin k0_t2_loop.trips) (v3068 : IVec S16 32) (v3095 : IVec S16 32) : Prop :=
  (∀ (k0_h1 : k0_cond1 i k0_t2 = 1#1), ∀ a x, ((![v3095, v3068] : Fin 2 → IVec S16 32) a x).toNat < S160x142.size a)
theorem k0_idx2244_inb : ∀ (i : grid0.Coords) (k0_t2 : Fin k0_t2_loop.trips) (v3068 : IVec S16 32) (v3095 : IVec S16 32) (k0_hw1330 : k0_chk1330 i k0_t2 v3068 v3095), ∀ (k0_h1 : k0_cond1 i k0_t2 = 1#1), ∀ a x, ((![v3095, v3068] : Fin 2 → IVec S16 32) a x).toNat < S160x142.size a := fun i k0_t2 v3068 v3095 k0_hw1330 k0_h1 => k0_hw1330 k0_h1

def k0_chk1321 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) : Prop :=
  (∀ (k0_h1 : k0_cond1 i k0_t2 = 1#1), ∀ a x, ((![v15, v3068] : Fin 2 → IVec S16 32) a x).toNat < S256x142.size a) ∧
  (∀ (k0_h1 : k0_cond1 i k0_t2 = 1#1), ∀ a x, ((![v20, v3068] : Fin 2 → IVec S16 32) a x).toNat < S256x142.size a) ∧
  (∀ (k0_h1 : k0_cond1 i k0_t2 = 1#1), ∀ a x, ((![v25, v3068] : Fin 2 → IVec S16 32) a x).toNat < S256x142.size a) ∧
  (∀ (k0_h1 : k0_cond1 i k0_t2 = 1#1), ∀ a x, ((![v30, v3068] : Fin 2 → IVec S16 32) a x).toNat < S256x142.size a) ∧
  (∀ (k0_h1 : k0_cond1 i k0_t2 = 1#1), ∀ a x, ((![v35, v3068] : Fin 2 → IVec S16 32) a x).toNat < S256x142.size a) ∧
  (∀ (k0_h1 : k0_cond1 i k0_t2 = 1#1), ∀ a x, ((![v40, v3068] : Fin 2 → IVec S16 32) a x).toNat < S256x142.size a) ∧
  (∀ (k0_h1 : k0_cond1 i k0_t2 = 1#1), ∀ a x, ((![v45, v3068] : Fin 2 → IVec S16 32) a x).toNat < S256x142.size a) ∧
  (∀ (k0_h1 : k0_cond1 i k0_t2 = 1#1), ∀ a x, ((![v50, v3068] : Fin 2 → IVec S16 32) a x).toNat < S256x142.size a) ∧
  (∀ (k0_h1 : k0_cond1 i k0_t2 = 1#1), ∀ a x, ((![v55, v3068] : Fin 2 → IVec S16 32) a x).toNat < S256x142.size a) ∧
  (∀ (k0_h1 : k0_cond1 i k0_t2 = 1#1), ∀ a x, ((![v60, v3068] : Fin 2 → IVec S16 32) a x).toNat < S256x142.size a)
theorem k0_idx2227_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v15, v3068] : Fin 2 → IVec S16 32) a x).toNat < S256x142.size a := fun i k0_t2 v15 v20 v25 v30 v35 v40 v45 v50 v55 v60 v3068 k0_hw1321 k0_h1 => k0_hw1321.1 k0_h1
theorem k0_idx2229_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v20, v3068] : Fin 2 → IVec S16 32) a x).toNat < S256x142.size a := fun i k0_t2 v15 v20 v25 v30 v35 v40 v45 v50 v55 v60 v3068 k0_hw1321 k0_h1 => k0_hw1321.2.1 k0_h1
theorem k0_idx2231_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v25, v3068] : Fin 2 → IVec S16 32) a x).toNat < S256x142.size a := fun i k0_t2 v15 v20 v25 v30 v35 v40 v45 v50 v55 v60 v3068 k0_hw1321 k0_h1 => k0_hw1321.2.2.1 k0_h1
theorem k0_idx2233_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v30, v3068] : Fin 2 → IVec S16 32) a x).toNat < S256x142.size a := fun i k0_t2 v15 v20 v25 v30 v35 v40 v45 v50 v55 v60 v3068 k0_hw1321 k0_h1 => k0_hw1321.2.2.2.1 k0_h1
theorem k0_idx2235_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v35, v3068] : Fin 2 → IVec S16 32) a x).toNat < S256x142.size a := fun i k0_t2 v15 v20 v25 v30 v35 v40 v45 v50 v55 v60 v3068 k0_hw1321 k0_h1 => k0_hw1321.2.2.2.2.1 k0_h1
theorem k0_idx2237_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v40, v3068] : Fin 2 → IVec S16 32) a x).toNat < S256x142.size a := fun i k0_t2 v15 v20 v25 v30 v35 v40 v45 v50 v55 v60 v3068 k0_hw1321 k0_h1 => k0_hw1321.2.2.2.2.2.1 k0_h1
theorem k0_idx2239_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v45, v3068] : Fin 2 → IVec S16 32) a x).toNat < S256x142.size a := fun i k0_t2 v15 v20 v25 v30 v35 v40 v45 v50 v55 v60 v3068 k0_hw1321 k0_h1 => k0_hw1321.2.2.2.2.2.2.1 k0_h1
theorem k0_idx2241_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v50, v3068] : Fin 2 → IVec S16 32) a x).toNat < S256x142.size a := fun i k0_t2 v15 v20 v25 v30 v35 v40 v45 v50 v55 v60 v3068 k0_hw1321 k0_h1 => k0_hw1321.2.2.2.2.2.2.2.1 k0_h1
theorem k0_idx2243_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v55, v3068] : Fin 2 → IVec S16 32) a x).toNat < S256x142.size a := fun i k0_t2 v15 v20 v25 v30 v35 v40 v45 v50 v55 v60 v3068 k0_hw1321 k0_h1 => k0_hw1321.2.2.2.2.2.2.2.2.1 k0_h1
theorem k0_idx2245_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3068 : IVec S16 32) (k0_hw1321 : k0_chk1321 i k0_t2 v15 v20 v25 v30 v35 v40 v45 v50 v55 v60 v3068), ∀ (k0_h1 : k0_cond1 i k0_t2 = 1#1), ∀ a x, ((![v60, v3068] : Fin 2 → IVec S16 32) a x).toNat < S256x142.size a := fun i k0_t2 v15 v20 v25 v30 v35 v40 v45 v50 v55 v60 v3068 k0_hw1321 k0_h1 => k0_hw1321.2.2.2.2.2.2.2.2.2 k0_h1

def k0_chk1331 (i : grid0.Coords) (k0_t2 : Fin k0_t2_loop.trips) (v3068 : IVec S16 32) (v3098 : IVec S16 32) : Prop :=
  (∀ (k0_h1 : k0_cond1 i k0_t2 = 1#1), ∀ a x, ((![v3098, v3068] : Fin 2 → IVec S16 32) a x).toNat < S160x142.size a)
theorem k0_idx2246_inb : ∀ (i : grid0.Coords) (k0_t2 : Fin k0_t2_loop.trips) (v3068 : IVec S16 32) (v3098 : IVec S16 32) (k0_hw1331 : k0_chk1331 i k0_t2 v3068 v3098), ∀ (k0_h1 : k0_cond1 i k0_t2 = 1#1), ∀ a x, ((![v3098, v3068] : Fin 2 → IVec S16 32) a x).toNat < S160x142.size a := fun i k0_t2 v3068 v3098 k0_hw1331 k0_h1 => k0_hw1331 k0_h1

def k0_chk1333 (i : grid0.Coords) (k0_t2 : Fin k0_t2_loop.trips) (v3099 : IVec S16 32) (v3102 : IVec S16 32) : Prop :=
  (∀ (k0_h1 : k0_cond1 i k0_t2 = 1#1), ∀ a x, ((![v3102, v3099] : Fin 2 → IVec S16 32) a x).toNat < S160x142.size a)
theorem k0_idx2248_inb : ∀ (i : grid0.Coords) (k0_t2 : Fin k0_t2_loop.trips) (v3099 : IVec S16 32) (v3102 : IVec S16 32) (k0_hw1333 : k0_chk1333 i k0_t2 v3099 v3102), ∀ (k0_h1 : k0_cond1 i k0_t2 = 1#1), ∀ a x, ((![v3102, v3099] : Fin 2 → IVec S16 32) a x).toNat < S160x142.size a := fun i k0_t2 v3099 v3102 k0_hw1333 k0_h1 => k0_hw1333 k0_h1

def k0_chk1334 (i : grid0.Coords) (k0_t2 : Fin k0_t2_loop.trips) (v3099 : IVec S16 32) (v3105 : IVec S16 32) : Prop :=
  (∀ (k0_h1 : k0_cond1 i k0_t2 = 1#1), ∀ a x, ((![v3105, v3099] : Fin 2 → IVec S16 32) a x).toNat < S160x142.size a)
theorem k0_idx2250_inb : ∀ (i : grid0.Coords) (k0_t2 : Fin k0_t2_loop.trips) (v3099 : IVec S16 32) (v3105 : IVec S16 32) (k0_hw1334 : k0_chk1334 i k0_t2 v3099 v3105), ∀ (k0_h1 : k0_cond1 i k0_t2 = 1#1), ∀ a x, ((![v3105, v3099] : Fin 2 → IVec S16 32) a x).toNat < S160x142.size a := fun i k0_t2 v3099 v3105 k0_hw1334 k0_h1 => k0_hw1334 k0_h1

def k0_chk1335 (i : grid0.Coords) (k0_t2 : Fin k0_t2_loop.trips) (v3099 : IVec S16 32) (v3108 : IVec S16 32) : Prop :=
  (∀ (k0_h1 : k0_cond1 i k0_t2 = 1#1), ∀ a x, ((![v3108, v3099] : Fin 2 → IVec S16 32) a x).toNat < S160x142.size a)
theorem k0_idx2252_inb : ∀ (i : grid0.Coords) (k0_t2 : Fin k0_t2_loop.trips) (v3099 : IVec S16 32) (v3108 : IVec S16 32) (k0_hw1335 : k0_chk1335 i k0_t2 v3099 v3108), ∀ (k0_h1 : k0_cond1 i k0_t2 = 1#1), ∀ a x, ((![v3108, v3099] : Fin 2 → IVec S16 32) a x).toNat < S160x142.size a := fun i k0_t2 v3099 v3108 k0_hw1335 k0_h1 => k0_hw1335 k0_h1

def k0_chk1336 (i : grid0.Coords) (k0_t2 : Fin k0_t2_loop.trips) (v3099 : IVec S16 32) (v3111 : IVec S16 32) : Prop :=
  (∀ (k0_h1 : k0_cond1 i k0_t2 = 1#1), ∀ a x, ((![v3111, v3099] : Fin 2 → IVec S16 32) a x).toNat < S160x142.size a)
theorem k0_idx2254_inb : ∀ (i : grid0.Coords) (k0_t2 : Fin k0_t2_loop.trips) (v3099 : IVec S16 32) (v3111 : IVec S16 32) (k0_hw1336 : k0_chk1336 i k0_t2 v3099 v3111), ∀ (k0_h1 : k0_cond1 i k0_t2 = 1#1), ∀ a x, ((![v3111, v3099] : Fin 2 → IVec S16 32) a x).toNat < S160x142.size a := fun i k0_t2 v3099 v3111 k0_hw1336 k0_h1 => k0_hw1336 k0_h1

def k0_chk1337 (i : grid0.Coords) (k0_t2 : Fin k0_t2_loop.trips) (v3099 : IVec S16 32) (v3114 : IVec S16 32) : Prop :=
  (∀ (k0_h1 : k0_cond1 i k0_t2 = 1#1), ∀ a x, ((![v3114, v3099] : Fin 2 → IVec S16 32) a x).toNat < S160x142.size a)
theorem k0_idx2256_inb : ∀ (i : grid0.Coords) (k0_t2 : Fin k0_t2_loop.trips) (v3099 : IVec S16 32) (v3114 : IVec S16 32) (k0_hw1337 : k0_chk1337 i k0_t2 v3099 v3114), ∀ (k0_h1 : k0_cond1 i k0_t2 = 1#1), ∀ a x, ((![v3114, v3099] : Fin 2 → IVec S16 32) a x).toNat < S160x142.size a := fun i k0_t2 v3099 v3114 k0_hw1337 k0_h1 => k0_hw1337 k0_h1

def k0_chk1338 (i : grid0.Coords) (k0_t2 : Fin k0_t2_loop.trips) (v3099 : IVec S16 32) (v3117 : IVec S16 32) : Prop :=
  (∀ (k0_h1 : k0_cond1 i k0_t2 = 1#1), ∀ a x, ((![v3117, v3099] : Fin 2 → IVec S16 32) a x).toNat < S160x142.size a)
theorem k0_idx2258_inb : ∀ (i : grid0.Coords) (k0_t2 : Fin k0_t2_loop.trips) (v3099 : IVec S16 32) (v3117 : IVec S16 32) (k0_hw1338 : k0_chk1338 i k0_t2 v3099 v3117), ∀ (k0_h1 : k0_cond1 i k0_t2 = 1#1), ∀ a x, ((![v3117, v3099] : Fin 2 → IVec S16 32) a x).toNat < S160x142.size a := fun i k0_t2 v3099 v3117 k0_hw1338 k0_h1 => k0_hw1338 k0_h1

def k0_chk1339 (i : grid0.Coords) (k0_t2 : Fin k0_t2_loop.trips) (v3099 : IVec S16 32) (v3120 : IVec S16 32) : Prop :=
  (∀ (k0_h1 : k0_cond1 i k0_t2 = 1#1), ∀ a x, ((![v3120, v3099] : Fin 2 → IVec S16 32) a x).toNat < S160x142.size a)
theorem k0_idx2260_inb : ∀ (i : grid0.Coords) (k0_t2 : Fin k0_t2_loop.trips) (v3099 : IVec S16 32) (v3120 : IVec S16 32) (k0_hw1339 : k0_chk1339 i k0_t2 v3099 v3120), ∀ (k0_h1 : k0_cond1 i k0_t2 = 1#1), ∀ a x, ((![v3120, v3099] : Fin 2 → IVec S16 32) a x).toNat < S160x142.size a := fun i k0_t2 v3099 v3120 k0_hw1339 k0_h1 => k0_hw1339 k0_h1

def k0_chk1340 (i : grid0.Coords) (k0_t2 : Fin k0_t2_loop.trips) (v3099 : IVec S16 32) (v3123 : IVec S16 32) : Prop :=
  (∀ (k0_h1 : k0_cond1 i k0_t2 = 1#1), ∀ a x, ((![v3123, v3099] : Fin 2 → IVec S16 32) a x).toNat < S160x142.size a)
theorem k0_idx2262_inb : ∀ (i : grid0.Coords) (k0_t2 : Fin k0_t2_loop.trips) (v3099 : IVec S16 32) (v3123 : IVec S16 32) (k0_hw1340 : k0_chk1340 i k0_t2 v3099 v3123), ∀ (k0_h1 : k0_cond1 i k0_t2 = 1#1), ∀ a x, ((![v3123, v3099] : Fin 2 → IVec S16 32) a x).toNat < S160x142.size a := fun i k0_t2 v3099 v3123 k0_hw1340 k0_h1 => k0_hw1340 k0_h1

def k0_chk1341 (i : grid0.Coords) (k0_t2 : Fin k0_t2_loop.trips) (v3099 : IVec S16 32) (v3126 : IVec S16 32) : Prop :=
  (∀ (k0_h1 : k0_cond1 i k0_t2 = 1#1), ∀ a x, ((![v3126, v3099] : Fin 2 → IVec S16 32) a x).toNat < S160x142.size a)
theorem k0_idx2264_inb : ∀ (i : grid0.Coords) (k0_t2 : Fin k0_t2_loop.trips) (v3099 : IVec S16 32) (v3126 : IVec S16 32) (k0_hw1341 : k0_chk1341 i k0_t2 v3099 v3126), ∀ (k0_h1 : k0_cond1 i k0_t2 = 1#1), ∀ a x, ((![v3126, v3099] : Fin 2 → IVec S16 32) a x).toNat < S160x142.size a := fun i k0_t2 v3099 v3126 k0_hw1341 k0_h1 => k0_hw1341 k0_h1

def k0_chk1332 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) : Prop :=
  (∀ (k0_h1 : k0_cond1 i k0_t2 = 1#1), ∀ a x, ((![v15, v3099] : Fin 2 → IVec S16 32) a x).toNat < S256x142.size a) ∧
  (∀ (k0_h1 : k0_cond1 i k0_t2 = 1#1), ∀ a x, ((![v20, v3099] : Fin 2 → IVec S16 32) a x).toNat < S256x142.size a) ∧
  (∀ (k0_h1 : k0_cond1 i k0_t2 = 1#1), ∀ a x, ((![v25, v3099] : Fin 2 → IVec S16 32) a x).toNat < S256x142.size a) ∧
  (∀ (k0_h1 : k0_cond1 i k0_t2 = 1#1), ∀ a x, ((![v30, v3099] : Fin 2 → IVec S16 32) a x).toNat < S256x142.size a) ∧
  (∀ (k0_h1 : k0_cond1 i k0_t2 = 1#1), ∀ a x, ((![v35, v3099] : Fin 2 → IVec S16 32) a x).toNat < S256x142.size a) ∧
  (∀ (k0_h1 : k0_cond1 i k0_t2 = 1#1), ∀ a x, ((![v40, v3099] : Fin 2 → IVec S16 32) a x).toNat < S256x142.size a) ∧
  (∀ (k0_h1 : k0_cond1 i k0_t2 = 1#1), ∀ a x, ((![v45, v3099] : Fin 2 → IVec S16 32) a x).toNat < S256x142.size a) ∧
  (∀ (k0_h1 : k0_cond1 i k0_t2 = 1#1), ∀ a x, ((![v50, v3099] : Fin 2 → IVec S16 32) a x).toNat < S256x142.size a) ∧
  (∀ (k0_h1 : k0_cond1 i k0_t2 = 1#1), ∀ a x, ((![v55, v3099] : Fin 2 → IVec S16 32) a x).toNat < S256x142.size a) ∧
  (∀ (k0_h1 : k0_cond1 i k0_t2 = 1#1), ∀ a x, ((![v60, v3099] : Fin 2 → IVec S16 32) a x).toNat < S256x142.size a)
theorem k0_idx2247_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v15, v3099] : Fin 2 → IVec S16 32) a x).toNat < S256x142.size a := fun i k0_t2 v15 v20 v25 v30 v35 v40 v45 v50 v55 v60 v3099 k0_hw1332 k0_h1 => k0_hw1332.1 k0_h1
theorem k0_idx2249_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v20, v3099] : Fin 2 → IVec S16 32) a x).toNat < S256x142.size a := fun i k0_t2 v15 v20 v25 v30 v35 v40 v45 v50 v55 v60 v3099 k0_hw1332 k0_h1 => k0_hw1332.2.1 k0_h1
theorem k0_idx2251_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v25, v3099] : Fin 2 → IVec S16 32) a x).toNat < S256x142.size a := fun i k0_t2 v15 v20 v25 v30 v35 v40 v45 v50 v55 v60 v3099 k0_hw1332 k0_h1 => k0_hw1332.2.2.1 k0_h1
theorem k0_idx2253_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v30, v3099] : Fin 2 → IVec S16 32) a x).toNat < S256x142.size a := fun i k0_t2 v15 v20 v25 v30 v35 v40 v45 v50 v55 v60 v3099 k0_hw1332 k0_h1 => k0_hw1332.2.2.2.1 k0_h1
theorem k0_idx2255_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v35, v3099] : Fin 2 → IVec S16 32) a x).toNat < S256x142.size a := fun i k0_t2 v15 v20 v25 v30 v35 v40 v45 v50 v55 v60 v3099 k0_hw1332 k0_h1 => k0_hw1332.2.2.2.2.1 k0_h1
theorem k0_idx2257_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v40, v3099] : Fin 2 → IVec S16 32) a x).toNat < S256x142.size a := fun i k0_t2 v15 v20 v25 v30 v35 v40 v45 v50 v55 v60 v3099 k0_hw1332 k0_h1 => k0_hw1332.2.2.2.2.2.1 k0_h1
theorem k0_idx2259_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v45, v3099] : Fin 2 → IVec S16 32) a x).toNat < S256x142.size a := fun i k0_t2 v15 v20 v25 v30 v35 v40 v45 v50 v55 v60 v3099 k0_hw1332 k0_h1 => k0_hw1332.2.2.2.2.2.2.1 k0_h1
theorem k0_idx2261_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v50, v3099] : Fin 2 → IVec S16 32) a x).toNat < S256x142.size a := fun i k0_t2 v15 v20 v25 v30 v35 v40 v45 v50 v55 v60 v3099 k0_hw1332 k0_h1 => k0_hw1332.2.2.2.2.2.2.2.1 k0_h1
theorem k0_idx2263_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v55, v3099] : Fin 2 → IVec S16 32) a x).toNat < S256x142.size a := fun i k0_t2 v15 v20 v25 v30 v35 v40 v45 v50 v55 v60 v3099 k0_hw1332 k0_h1 => k0_hw1332.2.2.2.2.2.2.2.2.1 k0_h1
theorem k0_idx2265_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3099 : IVec S16 32) (k0_hw1332 : k0_chk1332 i k0_t2 v15 v20 v25 v30 v35 v40 v45 v50 v55 v60 v3099), ∀ (k0_h1 : k0_cond1 i k0_t2 = 1#1), ∀ a x, ((![v60, v3099] : Fin 2 → IVec S16 32) a x).toNat < S256x142.size a := fun i k0_t2 v15 v20 v25 v30 v35 v40 v45 v50 v55 v60 v3099 k0_hw1332 k0_h1 => k0_hw1332.2.2.2.2.2.2.2.2.2 k0_h1

def k0_chk1342 (i : grid0.Coords) (k0_t2 : Fin k0_t2_loop.trips) (v3099 : IVec S16 32) (v3129 : IVec S16 32) : Prop :=
  (∀ (k0_h1 : k0_cond1 i k0_t2 = 1#1), ∀ a x, ((![v3129, v3099] : Fin 2 → IVec S16 32) a x).toNat < S160x142.size a)
theorem k0_idx2266_inb : ∀ (i : grid0.Coords) (k0_t2 : Fin k0_t2_loop.trips) (v3099 : IVec S16 32) (v3129 : IVec S16 32) (k0_hw1342 : k0_chk1342 i k0_t2 v3099 v3129), ∀ (k0_h1 : k0_cond1 i k0_t2 = 1#1), ∀ a x, ((![v3129, v3099] : Fin 2 → IVec S16 32) a x).toNat < S160x142.size a := fun i k0_t2 v3099 v3129 k0_hw1342 k0_h1 => k0_hw1342 k0_h1

def k0_chk1344 (i : grid0.Coords) (k0_t2 : Fin k0_t2_loop.trips) (v3130 : IVec S16 32) (v3133 : IVec S16 32) : Prop :=
  (∀ (k0_h1 : k0_cond1 i k0_t2 = 1#1), ∀ a x, ((![v3133, v3130] : Fin 2 → IVec S16 32) a x).toNat < S160x142.size a)
theorem k0_idx2268_inb : ∀ (i : grid0.Coords) (k0_t2 : Fin k0_t2_loop.trips) (v3130 : IVec S16 32) (v3133 : IVec S16 32) (k0_hw1344 : k0_chk1344 i k0_t2 v3130 v3133), ∀ (k0_h1 : k0_cond1 i k0_t2 = 1#1), ∀ a x, ((![v3133, v3130] : Fin 2 → IVec S16 32) a x).toNat < S160x142.size a := fun i k0_t2 v3130 v3133 k0_hw1344 k0_h1 => k0_hw1344 k0_h1

def k0_chk1345 (i : grid0.Coords) (k0_t2 : Fin k0_t2_loop.trips) (v3130 : IVec S16 32) (v3136 : IVec S16 32) : Prop :=
  (∀ (k0_h1 : k0_cond1 i k0_t2 = 1#1), ∀ a x, ((![v3136, v3130] : Fin 2 → IVec S16 32) a x).toNat < S160x142.size a)
theorem k0_idx2270_inb : ∀ (i : grid0.Coords) (k0_t2 : Fin k0_t2_loop.trips) (v3130 : IVec S16 32) (v3136 : IVec S16 32) (k0_hw1345 : k0_chk1345 i k0_t2 v3130 v3136), ∀ (k0_h1 : k0_cond1 i k0_t2 = 1#1), ∀ a x, ((![v3136, v3130] : Fin 2 → IVec S16 32) a x).toNat < S160x142.size a := fun i k0_t2 v3130 v3136 k0_hw1345 k0_h1 => k0_hw1345 k0_h1

def k0_chk1346 (i : grid0.Coords) (k0_t2 : Fin k0_t2_loop.trips) (v3130 : IVec S16 32) (v3139 : IVec S16 32) : Prop :=
  (∀ (k0_h1 : k0_cond1 i k0_t2 = 1#1), ∀ a x, ((![v3139, v3130] : Fin 2 → IVec S16 32) a x).toNat < S160x142.size a)
theorem k0_idx2272_inb : ∀ (i : grid0.Coords) (k0_t2 : Fin k0_t2_loop.trips) (v3130 : IVec S16 32) (v3139 : IVec S16 32) (k0_hw1346 : k0_chk1346 i k0_t2 v3130 v3139), ∀ (k0_h1 : k0_cond1 i k0_t2 = 1#1), ∀ a x, ((![v3139, v3130] : Fin 2 → IVec S16 32) a x).toNat < S160x142.size a := fun i k0_t2 v3130 v3139 k0_hw1346 k0_h1 => k0_hw1346 k0_h1

def k0_chk1347 (i : grid0.Coords) (k0_t2 : Fin k0_t2_loop.trips) (v3130 : IVec S16 32) (v3142 : IVec S16 32) : Prop :=
  (∀ (k0_h1 : k0_cond1 i k0_t2 = 1#1), ∀ a x, ((![v3142, v3130] : Fin 2 → IVec S16 32) a x).toNat < S160x142.size a)
theorem k0_idx2274_inb : ∀ (i : grid0.Coords) (k0_t2 : Fin k0_t2_loop.trips) (v3130 : IVec S16 32) (v3142 : IVec S16 32) (k0_hw1347 : k0_chk1347 i k0_t2 v3130 v3142), ∀ (k0_h1 : k0_cond1 i k0_t2 = 1#1), ∀ a x, ((![v3142, v3130] : Fin 2 → IVec S16 32) a x).toNat < S160x142.size a := fun i k0_t2 v3130 v3142 k0_hw1347 k0_h1 => k0_hw1347 k0_h1

def k0_chk1348 (i : grid0.Coords) (k0_t2 : Fin k0_t2_loop.trips) (v3130 : IVec S16 32) (v3145 : IVec S16 32) : Prop :=
  (∀ (k0_h1 : k0_cond1 i k0_t2 = 1#1), ∀ a x, ((![v3145, v3130] : Fin 2 → IVec S16 32) a x).toNat < S160x142.size a)
theorem k0_idx2276_inb : ∀ (i : grid0.Coords) (k0_t2 : Fin k0_t2_loop.trips) (v3130 : IVec S16 32) (v3145 : IVec S16 32) (k0_hw1348 : k0_chk1348 i k0_t2 v3130 v3145), ∀ (k0_h1 : k0_cond1 i k0_t2 = 1#1), ∀ a x, ((![v3145, v3130] : Fin 2 → IVec S16 32) a x).toNat < S160x142.size a := fun i k0_t2 v3130 v3145 k0_hw1348 k0_h1 => k0_hw1348 k0_h1

def k0_chk1349 (i : grid0.Coords) (k0_t2 : Fin k0_t2_loop.trips) (v3130 : IVec S16 32) (v3148 : IVec S16 32) : Prop :=
  (∀ (k0_h1 : k0_cond1 i k0_t2 = 1#1), ∀ a x, ((![v3148, v3130] : Fin 2 → IVec S16 32) a x).toNat < S160x142.size a)
theorem k0_idx2278_inb : ∀ (i : grid0.Coords) (k0_t2 : Fin k0_t2_loop.trips) (v3130 : IVec S16 32) (v3148 : IVec S16 32) (k0_hw1349 : k0_chk1349 i k0_t2 v3130 v3148), ∀ (k0_h1 : k0_cond1 i k0_t2 = 1#1), ∀ a x, ((![v3148, v3130] : Fin 2 → IVec S16 32) a x).toNat < S160x142.size a := fun i k0_t2 v3130 v3148 k0_hw1349 k0_h1 => k0_hw1349 k0_h1

def k0_chk1350 (i : grid0.Coords) (k0_t2 : Fin k0_t2_loop.trips) (v3130 : IVec S16 32) (v3151 : IVec S16 32) : Prop :=
  (∀ (k0_h1 : k0_cond1 i k0_t2 = 1#1), ∀ a x, ((![v3151, v3130] : Fin 2 → IVec S16 32) a x).toNat < S160x142.size a)
theorem k0_idx2280_inb : ∀ (i : grid0.Coords) (k0_t2 : Fin k0_t2_loop.trips) (v3130 : IVec S16 32) (v3151 : IVec S16 32) (k0_hw1350 : k0_chk1350 i k0_t2 v3130 v3151), ∀ (k0_h1 : k0_cond1 i k0_t2 = 1#1), ∀ a x, ((![v3151, v3130] : Fin 2 → IVec S16 32) a x).toNat < S160x142.size a := fun i k0_t2 v3130 v3151 k0_hw1350 k0_h1 => k0_hw1350 k0_h1

def k0_chk1351 (i : grid0.Coords) (k0_t2 : Fin k0_t2_loop.trips) (v3130 : IVec S16 32) (v3154 : IVec S16 32) : Prop :=
  (∀ (k0_h1 : k0_cond1 i k0_t2 = 1#1), ∀ a x, ((![v3154, v3130] : Fin 2 → IVec S16 32) a x).toNat < S160x142.size a)
theorem k0_idx2282_inb : ∀ (i : grid0.Coords) (k0_t2 : Fin k0_t2_loop.trips) (v3130 : IVec S16 32) (v3154 : IVec S16 32) (k0_hw1351 : k0_chk1351 i k0_t2 v3130 v3154), ∀ (k0_h1 : k0_cond1 i k0_t2 = 1#1), ∀ a x, ((![v3154, v3130] : Fin 2 → IVec S16 32) a x).toNat < S160x142.size a := fun i k0_t2 v3130 v3154 k0_hw1351 k0_h1 => k0_hw1351 k0_h1

def k0_chk1352 (i : grid0.Coords) (k0_t2 : Fin k0_t2_loop.trips) (v3130 : IVec S16 32) (v3157 : IVec S16 32) : Prop :=
  (∀ (k0_h1 : k0_cond1 i k0_t2 = 1#1), ∀ a x, ((![v3157, v3130] : Fin 2 → IVec S16 32) a x).toNat < S160x142.size a)
theorem k0_idx2284_inb : ∀ (i : grid0.Coords) (k0_t2 : Fin k0_t2_loop.trips) (v3130 : IVec S16 32) (v3157 : IVec S16 32) (k0_hw1352 : k0_chk1352 i k0_t2 v3130 v3157), ∀ (k0_h1 : k0_cond1 i k0_t2 = 1#1), ∀ a x, ((![v3157, v3130] : Fin 2 → IVec S16 32) a x).toNat < S160x142.size a := fun i k0_t2 v3130 v3157 k0_hw1352 k0_h1 => k0_hw1352 k0_h1

def k0_chk1343 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) : Prop :=
  (∀ (k0_h1 : k0_cond1 i k0_t2 = 1#1), ∀ a x, ((![v15, v3130] : Fin 2 → IVec S16 32) a x).toNat < S256x142.size a) ∧
  (∀ (k0_h1 : k0_cond1 i k0_t2 = 1#1), ∀ a x, ((![v20, v3130] : Fin 2 → IVec S16 32) a x).toNat < S256x142.size a) ∧
  (∀ (k0_h1 : k0_cond1 i k0_t2 = 1#1), ∀ a x, ((![v25, v3130] : Fin 2 → IVec S16 32) a x).toNat < S256x142.size a) ∧
  (∀ (k0_h1 : k0_cond1 i k0_t2 = 1#1), ∀ a x, ((![v30, v3130] : Fin 2 → IVec S16 32) a x).toNat < S256x142.size a) ∧
  (∀ (k0_h1 : k0_cond1 i k0_t2 = 1#1), ∀ a x, ((![v35, v3130] : Fin 2 → IVec S16 32) a x).toNat < S256x142.size a) ∧
  (∀ (k0_h1 : k0_cond1 i k0_t2 = 1#1), ∀ a x, ((![v40, v3130] : Fin 2 → IVec S16 32) a x).toNat < S256x142.size a) ∧
  (∀ (k0_h1 : k0_cond1 i k0_t2 = 1#1), ∀ a x, ((![v45, v3130] : Fin 2 → IVec S16 32) a x).toNat < S256x142.size a) ∧
  (∀ (k0_h1 : k0_cond1 i k0_t2 = 1#1), ∀ a x, ((![v50, v3130] : Fin 2 → IVec S16 32) a x).toNat < S256x142.size a) ∧
  (∀ (k0_h1 : k0_cond1 i k0_t2 = 1#1), ∀ a x, ((![v55, v3130] : Fin 2 → IVec S16 32) a x).toNat < S256x142.size a) ∧
  (∀ (k0_h1 : k0_cond1 i k0_t2 = 1#1), ∀ a x, ((![v60, v3130] : Fin 2 → IVec S16 32) a x).toNat < S256x142.size a)
theorem k0_idx2267_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v15, v3130] : Fin 2 → IVec S16 32) a x).toNat < S256x142.size a := fun i k0_t2 v15 v20 v25 v30 v35 v40 v45 v50 v55 v60 v3130 k0_hw1343 k0_h1 => k0_hw1343.1 k0_h1
theorem k0_idx2269_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v20, v3130] : Fin 2 → IVec S16 32) a x).toNat < S256x142.size a := fun i k0_t2 v15 v20 v25 v30 v35 v40 v45 v50 v55 v60 v3130 k0_hw1343 k0_h1 => k0_hw1343.2.1 k0_h1
theorem k0_idx2271_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v25, v3130] : Fin 2 → IVec S16 32) a x).toNat < S256x142.size a := fun i k0_t2 v15 v20 v25 v30 v35 v40 v45 v50 v55 v60 v3130 k0_hw1343 k0_h1 => k0_hw1343.2.2.1 k0_h1
theorem k0_idx2273_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v30, v3130] : Fin 2 → IVec S16 32) a x).toNat < S256x142.size a := fun i k0_t2 v15 v20 v25 v30 v35 v40 v45 v50 v55 v60 v3130 k0_hw1343 k0_h1 => k0_hw1343.2.2.2.1 k0_h1
theorem k0_idx2275_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v35, v3130] : Fin 2 → IVec S16 32) a x).toNat < S256x142.size a := fun i k0_t2 v15 v20 v25 v30 v35 v40 v45 v50 v55 v60 v3130 k0_hw1343 k0_h1 => k0_hw1343.2.2.2.2.1 k0_h1
theorem k0_idx2277_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v40, v3130] : Fin 2 → IVec S16 32) a x).toNat < S256x142.size a := fun i k0_t2 v15 v20 v25 v30 v35 v40 v45 v50 v55 v60 v3130 k0_hw1343 k0_h1 => k0_hw1343.2.2.2.2.2.1 k0_h1
theorem k0_idx2279_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v45, v3130] : Fin 2 → IVec S16 32) a x).toNat < S256x142.size a := fun i k0_t2 v15 v20 v25 v30 v35 v40 v45 v50 v55 v60 v3130 k0_hw1343 k0_h1 => k0_hw1343.2.2.2.2.2.2.1 k0_h1
theorem k0_idx2281_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v50, v3130] : Fin 2 → IVec S16 32) a x).toNat < S256x142.size a := fun i k0_t2 v15 v20 v25 v30 v35 v40 v45 v50 v55 v60 v3130 k0_hw1343 k0_h1 => k0_hw1343.2.2.2.2.2.2.2.1 k0_h1
theorem k0_idx2283_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v55, v3130] : Fin 2 → IVec S16 32) a x).toNat < S256x142.size a := fun i k0_t2 v15 v20 v25 v30 v35 v40 v45 v50 v55 v60 v3130 k0_hw1343 k0_h1 => k0_hw1343.2.2.2.2.2.2.2.2.1 k0_h1
theorem k0_idx2285_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3130 : IVec S16 32) (k0_hw1343 : k0_chk1343 i k0_t2 v15 v20 v25 v30 v35 v40 v45 v50 v55 v60 v3130), ∀ (k0_h1 : k0_cond1 i k0_t2 = 1#1), ∀ a x, ((![v60, v3130] : Fin 2 → IVec S16 32) a x).toNat < S256x142.size a := fun i k0_t2 v15 v20 v25 v30 v35 v40 v45 v50 v55 v60 v3130 k0_hw1343 k0_h1 => k0_hw1343.2.2.2.2.2.2.2.2.2 k0_h1

def k0_chk1353 (i : grid0.Coords) (k0_t2 : Fin k0_t2_loop.trips) (v3130 : IVec S16 32) (v3160 : IVec S16 32) : Prop :=
  (∀ (k0_h1 : k0_cond1 i k0_t2 = 1#1), ∀ a x, ((![v3160, v3130] : Fin 2 → IVec S16 32) a x).toNat < S160x142.size a)
theorem k0_idx2286_inb : ∀ (i : grid0.Coords) (k0_t2 : Fin k0_t2_loop.trips) (v3130 : IVec S16 32) (v3160 : IVec S16 32) (k0_hw1353 : k0_chk1353 i k0_t2 v3130 v3160), ∀ (k0_h1 : k0_cond1 i k0_t2 = 1#1), ∀ a x, ((![v3160, v3130] : Fin 2 → IVec S16 32) a x).toNat < S160x142.size a := fun i k0_t2 v3130 v3160 k0_hw1353 k0_h1 => k0_hw1353 k0_h1

def k0_chk1355 (i : grid0.Coords) (k0_t2 : Fin k0_t2_loop.trips) (v3161 : IVec S16 32) (v3164 : IVec S16 32) : Prop :=
  (∀ (k0_h1 : k0_cond1 i k0_t2 = 1#1), ∀ a x, ((![v3164, v3161] : Fin 2 → IVec S16 32) a x).toNat < S160x142.size a)
theorem k0_idx2288_inb : ∀ (i : grid0.Coords) (k0_t2 : Fin k0_t2_loop.trips) (v3161 : IVec S16 32) (v3164 : IVec S16 32) (k0_hw1355 : k0_chk1355 i k0_t2 v3161 v3164), ∀ (k0_h1 : k0_cond1 i k0_t2 = 1#1), ∀ a x, ((![v3164, v3161] : Fin 2 → IVec S16 32) a x).toNat < S160x142.size a := fun i k0_t2 v3161 v3164 k0_hw1355 k0_h1 => k0_hw1355 k0_h1

def k0_chk1356 (i : grid0.Coords) (k0_t2 : Fin k0_t2_loop.trips) (v3161 : IVec S16 32) (v3167 : IVec S16 32) : Prop :=
  (∀ (k0_h1 : k0_cond1 i k0_t2 = 1#1), ∀ a x, ((![v3167, v3161] : Fin 2 → IVec S16 32) a x).toNat < S160x142.size a)
theorem k0_idx2290_inb : ∀ (i : grid0.Coords) (k0_t2 : Fin k0_t2_loop.trips) (v3161 : IVec S16 32) (v3167 : IVec S16 32) (k0_hw1356 : k0_chk1356 i k0_t2 v3161 v3167), ∀ (k0_h1 : k0_cond1 i k0_t2 = 1#1), ∀ a x, ((![v3167, v3161] : Fin 2 → IVec S16 32) a x).toNat < S160x142.size a := fun i k0_t2 v3161 v3167 k0_hw1356 k0_h1 => k0_hw1356 k0_h1

def k0_chk1357 (i : grid0.Coords) (k0_t2 : Fin k0_t2_loop.trips) (v3161 : IVec S16 32) (v3170 : IVec S16 32) : Prop :=
  (∀ (k0_h1 : k0_cond1 i k0_t2 = 1#1), ∀ a x, ((![v3170, v3161] : Fin 2 → IVec S16 32) a x).toNat < S160x142.size a)
theorem k0_idx2292_inb : ∀ (i : grid0.Coords) (k0_t2 : Fin k0_t2_loop.trips) (v3161 : IVec S16 32) (v3170 : IVec S16 32) (k0_hw1357 : k0_chk1357 i k0_t2 v3161 v3170), ∀ (k0_h1 : k0_cond1 i k0_t2 = 1#1), ∀ a x, ((![v3170, v3161] : Fin 2 → IVec S16 32) a x).toNat < S160x142.size a := fun i k0_t2 v3161 v3170 k0_hw1357 k0_h1 => k0_hw1357 k0_h1

def k0_chk1358 (i : grid0.Coords) (k0_t2 : Fin k0_t2_loop.trips) (v3161 : IVec S16 32) (v3173 : IVec S16 32) : Prop :=
  (∀ (k0_h1 : k0_cond1 i k0_t2 = 1#1), ∀ a x, ((![v3173, v3161] : Fin 2 → IVec S16 32) a x).toNat < S160x142.size a)
theorem k0_idx2294_inb : ∀ (i : grid0.Coords) (k0_t2 : Fin k0_t2_loop.trips) (v3161 : IVec S16 32) (v3173 : IVec S16 32) (k0_hw1358 : k0_chk1358 i k0_t2 v3161 v3173), ∀ (k0_h1 : k0_cond1 i k0_t2 = 1#1), ∀ a x, ((![v3173, v3161] : Fin 2 → IVec S16 32) a x).toNat < S160x142.size a := fun i k0_t2 v3161 v3173 k0_hw1358 k0_h1 => k0_hw1358 k0_h1

def k0_chk1359 (i : grid0.Coords) (k0_t2 : Fin k0_t2_loop.trips) (v3161 : IVec S16 32) (v3176 : IVec S16 32) : Prop :=
  (∀ (k0_h1 : k0_cond1 i k0_t2 = 1#1), ∀ a x, ((![v3176, v3161] : Fin 2 → IVec S16 32) a x).toNat < S160x142.size a)
theorem k0_idx2296_inb : ∀ (i : grid0.Coords) (k0_t2 : Fin k0_t2_loop.trips) (v3161 : IVec S16 32) (v3176 : IVec S16 32) (k0_hw1359 : k0_chk1359 i k0_t2 v3161 v3176), ∀ (k0_h1 : k0_cond1 i k0_t2 = 1#1), ∀ a x, ((![v3176, v3161] : Fin 2 → IVec S16 32) a x).toNat < S160x142.size a := fun i k0_t2 v3161 v3176 k0_hw1359 k0_h1 => k0_hw1359 k0_h1

def k0_chk1360 (i : grid0.Coords) (k0_t2 : Fin k0_t2_loop.trips) (v3161 : IVec S16 32) (v3179 : IVec S16 32) : Prop :=
  (∀ (k0_h1 : k0_cond1 i k0_t2 = 1#1), ∀ a x, ((![v3179, v3161] : Fin 2 → IVec S16 32) a x).toNat < S160x142.size a)
theorem k0_idx2298_inb : ∀ (i : grid0.Coords) (k0_t2 : Fin k0_t2_loop.trips) (v3161 : IVec S16 32) (v3179 : IVec S16 32) (k0_hw1360 : k0_chk1360 i k0_t2 v3161 v3179), ∀ (k0_h1 : k0_cond1 i k0_t2 = 1#1), ∀ a x, ((![v3179, v3161] : Fin 2 → IVec S16 32) a x).toNat < S160x142.size a := fun i k0_t2 v3161 v3179 k0_hw1360 k0_h1 => k0_hw1360 k0_h1

def k0_chk1361 (i : grid0.Coords) (k0_t2 : Fin k0_t2_loop.trips) (v3161 : IVec S16 32) (v3182 : IVec S16 32) : Prop :=
  (∀ (k0_h1 : k0_cond1 i k0_t2 = 1#1), ∀ a x, ((![v3182, v3161] : Fin 2 → IVec S16 32) a x).toNat < S160x142.size a)
theorem k0_idx2300_inb : ∀ (i : grid0.Coords) (k0_t2 : Fin k0_t2_loop.trips) (v3161 : IVec S16 32) (v3182 : IVec S16 32) (k0_hw1361 : k0_chk1361 i k0_t2 v3161 v3182), ∀ (k0_h1 : k0_cond1 i k0_t2 = 1#1), ∀ a x, ((![v3182, v3161] : Fin 2 → IVec S16 32) a x).toNat < S160x142.size a := fun i k0_t2 v3161 v3182 k0_hw1361 k0_h1 => k0_hw1361 k0_h1

def k0_chk1362 (i : grid0.Coords) (k0_t2 : Fin k0_t2_loop.trips) (v3161 : IVec S16 32) (v3185 : IVec S16 32) : Prop :=
  (∀ (k0_h1 : k0_cond1 i k0_t2 = 1#1), ∀ a x, ((![v3185, v3161] : Fin 2 → IVec S16 32) a x).toNat < S160x142.size a)
theorem k0_idx2302_inb : ∀ (i : grid0.Coords) (k0_t2 : Fin k0_t2_loop.trips) (v3161 : IVec S16 32) (v3185 : IVec S16 32) (k0_hw1362 : k0_chk1362 i k0_t2 v3161 v3185), ∀ (k0_h1 : k0_cond1 i k0_t2 = 1#1), ∀ a x, ((![v3185, v3161] : Fin 2 → IVec S16 32) a x).toNat < S160x142.size a := fun i k0_t2 v3161 v3185 k0_hw1362 k0_h1 => k0_hw1362 k0_h1

def k0_chk1363 (i : grid0.Coords) (k0_t2 : Fin k0_t2_loop.trips) (v3161 : IVec S16 32) (v3188 : IVec S16 32) : Prop :=
  (∀ (k0_h1 : k0_cond1 i k0_t2 = 1#1), ∀ a x, ((![v3188, v3161] : Fin 2 → IVec S16 32) a x).toNat < S160x142.size a)
theorem k0_idx2304_inb : ∀ (i : grid0.Coords) (k0_t2 : Fin k0_t2_loop.trips) (v3161 : IVec S16 32) (v3188 : IVec S16 32) (k0_hw1363 : k0_chk1363 i k0_t2 v3161 v3188), ∀ (k0_h1 : k0_cond1 i k0_t2 = 1#1), ∀ a x, ((![v3188, v3161] : Fin 2 → IVec S16 32) a x).toNat < S160x142.size a := fun i k0_t2 v3161 v3188 k0_hw1363 k0_h1 => k0_hw1363 k0_h1

def k0_chk1354 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) : Prop :=
  (∀ (k0_h1 : k0_cond1 i k0_t2 = 1#1), ∀ a x, ((![v15, v3161] : Fin 2 → IVec S16 32) a x).toNat < S256x142.size a) ∧
  (∀ (k0_h1 : k0_cond1 i k0_t2 = 1#1), ∀ a x, ((![v20, v3161] : Fin 2 → IVec S16 32) a x).toNat < S256x142.size a) ∧
  (∀ (k0_h1 : k0_cond1 i k0_t2 = 1#1), ∀ a x, ((![v25, v3161] : Fin 2 → IVec S16 32) a x).toNat < S256x142.size a) ∧
  (∀ (k0_h1 : k0_cond1 i k0_t2 = 1#1), ∀ a x, ((![v30, v3161] : Fin 2 → IVec S16 32) a x).toNat < S256x142.size a) ∧
  (∀ (k0_h1 : k0_cond1 i k0_t2 = 1#1), ∀ a x, ((![v35, v3161] : Fin 2 → IVec S16 32) a x).toNat < S256x142.size a) ∧
  (∀ (k0_h1 : k0_cond1 i k0_t2 = 1#1), ∀ a x, ((![v40, v3161] : Fin 2 → IVec S16 32) a x).toNat < S256x142.size a) ∧
  (∀ (k0_h1 : k0_cond1 i k0_t2 = 1#1), ∀ a x, ((![v45, v3161] : Fin 2 → IVec S16 32) a x).toNat < S256x142.size a) ∧
  (∀ (k0_h1 : k0_cond1 i k0_t2 = 1#1), ∀ a x, ((![v50, v3161] : Fin 2 → IVec S16 32) a x).toNat < S256x142.size a) ∧
  (∀ (k0_h1 : k0_cond1 i k0_t2 = 1#1), ∀ a x, ((![v55, v3161] : Fin 2 → IVec S16 32) a x).toNat < S256x142.size a) ∧
  (∀ (k0_h1 : k0_cond1 i k0_t2 = 1#1), ∀ a x, ((![v60, v3161] : Fin 2 → IVec S16 32) a x).toNat < S256x142.size a)
theorem k0_idx2287_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v15, v3161] : Fin 2 → IVec S16 32) a x).toNat < S256x142.size a := fun i k0_t2 v15 v20 v25 v30 v35 v40 v45 v50 v55 v60 v3161 k0_hw1354 k0_h1 => k0_hw1354.1 k0_h1
theorem k0_idx2289_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v20, v3161] : Fin 2 → IVec S16 32) a x).toNat < S256x142.size a := fun i k0_t2 v15 v20 v25 v30 v35 v40 v45 v50 v55 v60 v3161 k0_hw1354 k0_h1 => k0_hw1354.2.1 k0_h1
theorem k0_idx2291_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v25, v3161] : Fin 2 → IVec S16 32) a x).toNat < S256x142.size a := fun i k0_t2 v15 v20 v25 v30 v35 v40 v45 v50 v55 v60 v3161 k0_hw1354 k0_h1 => k0_hw1354.2.2.1 k0_h1
theorem k0_idx2293_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v30, v3161] : Fin 2 → IVec S16 32) a x).toNat < S256x142.size a := fun i k0_t2 v15 v20 v25 v30 v35 v40 v45 v50 v55 v60 v3161 k0_hw1354 k0_h1 => k0_hw1354.2.2.2.1 k0_h1
theorem k0_idx2295_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v35, v3161] : Fin 2 → IVec S16 32) a x).toNat < S256x142.size a := fun i k0_t2 v15 v20 v25 v30 v35 v40 v45 v50 v55 v60 v3161 k0_hw1354 k0_h1 => k0_hw1354.2.2.2.2.1 k0_h1
theorem k0_idx2297_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v40, v3161] : Fin 2 → IVec S16 32) a x).toNat < S256x142.size a := fun i k0_t2 v15 v20 v25 v30 v35 v40 v45 v50 v55 v60 v3161 k0_hw1354 k0_h1 => k0_hw1354.2.2.2.2.2.1 k0_h1
theorem k0_idx2299_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v45, v3161] : Fin 2 → IVec S16 32) a x).toNat < S256x142.size a := fun i k0_t2 v15 v20 v25 v30 v35 v40 v45 v50 v55 v60 v3161 k0_hw1354 k0_h1 => k0_hw1354.2.2.2.2.2.2.1 k0_h1
theorem k0_idx2301_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v50, v3161] : Fin 2 → IVec S16 32) a x).toNat < S256x142.size a := fun i k0_t2 v15 v20 v25 v30 v35 v40 v45 v50 v55 v60 v3161 k0_hw1354 k0_h1 => k0_hw1354.2.2.2.2.2.2.2.1 k0_h1
theorem k0_idx2303_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v55, v3161] : Fin 2 → IVec S16 32) a x).toNat < S256x142.size a := fun i k0_t2 v15 v20 v25 v30 v35 v40 v45 v50 v55 v60 v3161 k0_hw1354 k0_h1 => k0_hw1354.2.2.2.2.2.2.2.2.1 k0_h1
theorem k0_idx2305_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3161 : IVec S16 32) (k0_hw1354 : k0_chk1354 i k0_t2 v15 v20 v25 v30 v35 v40 v45 v50 v55 v60 v3161), ∀ (k0_h1 : k0_cond1 i k0_t2 = 1#1), ∀ a x, ((![v60, v3161] : Fin 2 → IVec S16 32) a x).toNat < S256x142.size a := fun i k0_t2 v15 v20 v25 v30 v35 v40 v45 v50 v55 v60 v3161 k0_hw1354 k0_h1 => k0_hw1354.2.2.2.2.2.2.2.2.2 k0_h1

def k0_chk1364 (i : grid0.Coords) (k0_t2 : Fin k0_t2_loop.trips) (v3161 : IVec S16 32) (v3191 : IVec S16 32) : Prop :=
  (∀ (k0_h1 : k0_cond1 i k0_t2 = 1#1), ∀ a x, ((![v3191, v3161] : Fin 2 → IVec S16 32) a x).toNat < S160x142.size a)
theorem k0_idx2306_inb : ∀ (i : grid0.Coords) (k0_t2 : Fin k0_t2_loop.trips) (v3161 : IVec S16 32) (v3191 : IVec S16 32) (k0_hw1364 : k0_chk1364 i k0_t2 v3161 v3191), ∀ (k0_h1 : k0_cond1 i k0_t2 = 1#1), ∀ a x, ((![v3191, v3161] : Fin 2 → IVec S16 32) a x).toNat < S160x142.size a := fun i k0_t2 v3161 v3191 k0_hw1364 k0_h1 => k0_hw1364 k0_h1

def k0_chk1366 (i : grid0.Coords) (k0_t2 : Fin k0_t2_loop.trips) (v3192 : IVec S16 32) (v3195 : IVec S16 32) : Prop :=
  (∀ (k0_h1 : k0_cond1 i k0_t2 = 1#1), ∀ a x, ((![v3195, v3192] : Fin 2 → IVec S16 32) a x).toNat < S160x142.size a)
theorem k0_idx2308_inb : ∀ (i : grid0.Coords) (k0_t2 : Fin k0_t2_loop.trips) (v3192 : IVec S16 32) (v3195 : IVec S16 32) (k0_hw1366 : k0_chk1366 i k0_t2 v3192 v3195), ∀ (k0_h1 : k0_cond1 i k0_t2 = 1#1), ∀ a x, ((![v3195, v3192] : Fin 2 → IVec S16 32) a x).toNat < S160x142.size a := fun i k0_t2 v3192 v3195 k0_hw1366 k0_h1 => k0_hw1366 k0_h1

def k0_chk1367 (i : grid0.Coords) (k0_t2 : Fin k0_t2_loop.trips) (v3192 : IVec S16 32) (v3198 : IVec S16 32) : Prop :=
  (∀ (k0_h1 : k0_cond1 i k0_t2 = 1#1), ∀ a x, ((![v3198, v3192] : Fin 2 → IVec S16 32) a x).toNat < S160x142.size a)
theorem k0_idx2310_inb : ∀ (i : grid0.Coords) (k0_t2 : Fin k0_t2_loop.trips) (v3192 : IVec S16 32) (v3198 : IVec S16 32) (k0_hw1367 : k0_chk1367 i k0_t2 v3192 v3198), ∀ (k0_h1 : k0_cond1 i k0_t2 = 1#1), ∀ a x, ((![v3198, v3192] : Fin 2 → IVec S16 32) a x).toNat < S160x142.size a := fun i k0_t2 v3192 v3198 k0_hw1367 k0_h1 => k0_hw1367 k0_h1

def k0_chk1368 (i : grid0.Coords) (k0_t2 : Fin k0_t2_loop.trips) (v3192 : IVec S16 32) (v3201 : IVec S16 32) : Prop :=
  (∀ (k0_h1 : k0_cond1 i k0_t2 = 1#1), ∀ a x, ((![v3201, v3192] : Fin 2 → IVec S16 32) a x).toNat < S160x142.size a)
theorem k0_idx2312_inb : ∀ (i : grid0.Coords) (k0_t2 : Fin k0_t2_loop.trips) (v3192 : IVec S16 32) (v3201 : IVec S16 32) (k0_hw1368 : k0_chk1368 i k0_t2 v3192 v3201), ∀ (k0_h1 : k0_cond1 i k0_t2 = 1#1), ∀ a x, ((![v3201, v3192] : Fin 2 → IVec S16 32) a x).toNat < S160x142.size a := fun i k0_t2 v3192 v3201 k0_hw1368 k0_h1 => k0_hw1368 k0_h1

def k0_chk1369 (i : grid0.Coords) (k0_t2 : Fin k0_t2_loop.trips) (v3192 : IVec S16 32) (v3204 : IVec S16 32) : Prop :=
  (∀ (k0_h1 : k0_cond1 i k0_t2 = 1#1), ∀ a x, ((![v3204, v3192] : Fin 2 → IVec S16 32) a x).toNat < S160x142.size a)
theorem k0_idx2314_inb : ∀ (i : grid0.Coords) (k0_t2 : Fin k0_t2_loop.trips) (v3192 : IVec S16 32) (v3204 : IVec S16 32) (k0_hw1369 : k0_chk1369 i k0_t2 v3192 v3204), ∀ (k0_h1 : k0_cond1 i k0_t2 = 1#1), ∀ a x, ((![v3204, v3192] : Fin 2 → IVec S16 32) a x).toNat < S160x142.size a := fun i k0_t2 v3192 v3204 k0_hw1369 k0_h1 => k0_hw1369 k0_h1

def k0_chk1370 (i : grid0.Coords) (k0_t2 : Fin k0_t2_loop.trips) (v3192 : IVec S16 32) (v3207 : IVec S16 32) : Prop :=
  (∀ (k0_h1 : k0_cond1 i k0_t2 = 1#1), ∀ a x, ((![v3207, v3192] : Fin 2 → IVec S16 32) a x).toNat < S160x142.size a)
theorem k0_idx2316_inb : ∀ (i : grid0.Coords) (k0_t2 : Fin k0_t2_loop.trips) (v3192 : IVec S16 32) (v3207 : IVec S16 32) (k0_hw1370 : k0_chk1370 i k0_t2 v3192 v3207), ∀ (k0_h1 : k0_cond1 i k0_t2 = 1#1), ∀ a x, ((![v3207, v3192] : Fin 2 → IVec S16 32) a x).toNat < S160x142.size a := fun i k0_t2 v3192 v3207 k0_hw1370 k0_h1 => k0_hw1370 k0_h1

def k0_chk1371 (i : grid0.Coords) (k0_t2 : Fin k0_t2_loop.trips) (v3192 : IVec S16 32) (v3210 : IVec S16 32) : Prop :=
  (∀ (k0_h1 : k0_cond1 i k0_t2 = 1#1), ∀ a x, ((![v3210, v3192] : Fin 2 → IVec S16 32) a x).toNat < S160x142.size a)
theorem k0_idx2318_inb : ∀ (i : grid0.Coords) (k0_t2 : Fin k0_t2_loop.trips) (v3192 : IVec S16 32) (v3210 : IVec S16 32) (k0_hw1371 : k0_chk1371 i k0_t2 v3192 v3210), ∀ (k0_h1 : k0_cond1 i k0_t2 = 1#1), ∀ a x, ((![v3210, v3192] : Fin 2 → IVec S16 32) a x).toNat < S160x142.size a := fun i k0_t2 v3192 v3210 k0_hw1371 k0_h1 => k0_hw1371 k0_h1

def k0_chk1372 (i : grid0.Coords) (k0_t2 : Fin k0_t2_loop.trips) (v3192 : IVec S16 32) (v3213 : IVec S16 32) : Prop :=
  (∀ (k0_h1 : k0_cond1 i k0_t2 = 1#1), ∀ a x, ((![v3213, v3192] : Fin 2 → IVec S16 32) a x).toNat < S160x142.size a)
theorem k0_idx2320_inb : ∀ (i : grid0.Coords) (k0_t2 : Fin k0_t2_loop.trips) (v3192 : IVec S16 32) (v3213 : IVec S16 32) (k0_hw1372 : k0_chk1372 i k0_t2 v3192 v3213), ∀ (k0_h1 : k0_cond1 i k0_t2 = 1#1), ∀ a x, ((![v3213, v3192] : Fin 2 → IVec S16 32) a x).toNat < S160x142.size a := fun i k0_t2 v3192 v3213 k0_hw1372 k0_h1 => k0_hw1372 k0_h1

def k0_chk1373 (i : grid0.Coords) (k0_t2 : Fin k0_t2_loop.trips) (v3192 : IVec S16 32) (v3216 : IVec S16 32) : Prop :=
  (∀ (k0_h1 : k0_cond1 i k0_t2 = 1#1), ∀ a x, ((![v3216, v3192] : Fin 2 → IVec S16 32) a x).toNat < S160x142.size a)
theorem k0_idx2322_inb : ∀ (i : grid0.Coords) (k0_t2 : Fin k0_t2_loop.trips) (v3192 : IVec S16 32) (v3216 : IVec S16 32) (k0_hw1373 : k0_chk1373 i k0_t2 v3192 v3216), ∀ (k0_h1 : k0_cond1 i k0_t2 = 1#1), ∀ a x, ((![v3216, v3192] : Fin 2 → IVec S16 32) a x).toNat < S160x142.size a := fun i k0_t2 v3192 v3216 k0_hw1373 k0_h1 => k0_hw1373 k0_h1

def k0_chk1374 (i : grid0.Coords) (k0_t2 : Fin k0_t2_loop.trips) (v3192 : IVec S16 32) (v3219 : IVec S16 32) : Prop :=
  (∀ (k0_h1 : k0_cond1 i k0_t2 = 1#1), ∀ a x, ((![v3219, v3192] : Fin 2 → IVec S16 32) a x).toNat < S160x142.size a)
theorem k0_idx2324_inb : ∀ (i : grid0.Coords) (k0_t2 : Fin k0_t2_loop.trips) (v3192 : IVec S16 32) (v3219 : IVec S16 32) (k0_hw1374 : k0_chk1374 i k0_t2 v3192 v3219), ∀ (k0_h1 : k0_cond1 i k0_t2 = 1#1), ∀ a x, ((![v3219, v3192] : Fin 2 → IVec S16 32) a x).toNat < S160x142.size a := fun i k0_t2 v3192 v3219 k0_hw1374 k0_h1 => k0_hw1374 k0_h1

def k0_chk1365 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) : Prop :=
  (∀ (k0_h1 : k0_cond1 i k0_t2 = 1#1), ∀ a x, ((![v15, v3192] : Fin 2 → IVec S16 32) a x).toNat < S256x142.size a) ∧
  (∀ (k0_h1 : k0_cond1 i k0_t2 = 1#1), ∀ a x, ((![v20, v3192] : Fin 2 → IVec S16 32) a x).toNat < S256x142.size a) ∧
  (∀ (k0_h1 : k0_cond1 i k0_t2 = 1#1), ∀ a x, ((![v25, v3192] : Fin 2 → IVec S16 32) a x).toNat < S256x142.size a) ∧
  (∀ (k0_h1 : k0_cond1 i k0_t2 = 1#1), ∀ a x, ((![v30, v3192] : Fin 2 → IVec S16 32) a x).toNat < S256x142.size a) ∧
  (∀ (k0_h1 : k0_cond1 i k0_t2 = 1#1), ∀ a x, ((![v35, v3192] : Fin 2 → IVec S16 32) a x).toNat < S256x142.size a) ∧
  (∀ (k0_h1 : k0_cond1 i k0_t2 = 1#1), ∀ a x, ((![v40, v3192] : Fin 2 → IVec S16 32) a x).toNat < S256x142.size a) ∧
  (∀ (k0_h1 : k0_cond1 i k0_t2 = 1#1), ∀ a x, ((![v45, v3192] : Fin 2 → IVec S16 32) a x).toNat < S256x142.size a) ∧
  (∀ (k0_h1 : k0_cond1 i k0_t2 = 1#1), ∀ a x, ((![v50, v3192] : Fin 2 → IVec S16 32) a x).toNat < S256x142.size a) ∧
  (∀ (k0_h1 : k0_cond1 i k0_t2 = 1#1), ∀ a x, ((![v55, v3192] : Fin 2 → IVec S16 32) a x).toNat < S256x142.size a) ∧
  (∀ (k0_h1 : k0_cond1 i k0_t2 = 1#1), ∀ a x, ((![v60, v3192] : Fin 2 → IVec S16 32) a x).toNat < S256x142.size a)
theorem k0_idx2307_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v15, v3192] : Fin 2 → IVec S16 32) a x).toNat < S256x142.size a := fun i k0_t2 v15 v20 v25 v30 v35 v40 v45 v50 v55 v60 v3192 k0_hw1365 k0_h1 => k0_hw1365.1 k0_h1
theorem k0_idx2309_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v20, v3192] : Fin 2 → IVec S16 32) a x).toNat < S256x142.size a := fun i k0_t2 v15 v20 v25 v30 v35 v40 v45 v50 v55 v60 v3192 k0_hw1365 k0_h1 => k0_hw1365.2.1 k0_h1
theorem k0_idx2311_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v25, v3192] : Fin 2 → IVec S16 32) a x).toNat < S256x142.size a := fun i k0_t2 v15 v20 v25 v30 v35 v40 v45 v50 v55 v60 v3192 k0_hw1365 k0_h1 => k0_hw1365.2.2.1 k0_h1
theorem k0_idx2313_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v30, v3192] : Fin 2 → IVec S16 32) a x).toNat < S256x142.size a := fun i k0_t2 v15 v20 v25 v30 v35 v40 v45 v50 v55 v60 v3192 k0_hw1365 k0_h1 => k0_hw1365.2.2.2.1 k0_h1
theorem k0_idx2315_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v35, v3192] : Fin 2 → IVec S16 32) a x).toNat < S256x142.size a := fun i k0_t2 v15 v20 v25 v30 v35 v40 v45 v50 v55 v60 v3192 k0_hw1365 k0_h1 => k0_hw1365.2.2.2.2.1 k0_h1
theorem k0_idx2317_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v40, v3192] : Fin 2 → IVec S16 32) a x).toNat < S256x142.size a := fun i k0_t2 v15 v20 v25 v30 v35 v40 v45 v50 v55 v60 v3192 k0_hw1365 k0_h1 => k0_hw1365.2.2.2.2.2.1 k0_h1
theorem k0_idx2319_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v45, v3192] : Fin 2 → IVec S16 32) a x).toNat < S256x142.size a := fun i k0_t2 v15 v20 v25 v30 v35 v40 v45 v50 v55 v60 v3192 k0_hw1365 k0_h1 => k0_hw1365.2.2.2.2.2.2.1 k0_h1
theorem k0_idx2321_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v50, v3192] : Fin 2 → IVec S16 32) a x).toNat < S256x142.size a := fun i k0_t2 v15 v20 v25 v30 v35 v40 v45 v50 v55 v60 v3192 k0_hw1365 k0_h1 => k0_hw1365.2.2.2.2.2.2.2.1 k0_h1
theorem k0_idx2323_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v55, v3192] : Fin 2 → IVec S16 32) a x).toNat < S256x142.size a := fun i k0_t2 v15 v20 v25 v30 v35 v40 v45 v50 v55 v60 v3192 k0_hw1365 k0_h1 => k0_hw1365.2.2.2.2.2.2.2.2.1 k0_h1
theorem k0_idx2325_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3192 : IVec S16 32) (k0_hw1365 : k0_chk1365 i k0_t2 v15 v20 v25 v30 v35 v40 v45 v50 v55 v60 v3192), ∀ (k0_h1 : k0_cond1 i k0_t2 = 1#1), ∀ a x, ((![v60, v3192] : Fin 2 → IVec S16 32) a x).toNat < S256x142.size a := fun i k0_t2 v15 v20 v25 v30 v35 v40 v45 v50 v55 v60 v3192 k0_hw1365 k0_h1 => k0_hw1365.2.2.2.2.2.2.2.2.2 k0_h1

def k0_chk1375 (i : grid0.Coords) (k0_t2 : Fin k0_t2_loop.trips) (v3192 : IVec S16 32) (v3222 : IVec S16 32) : Prop :=
  (∀ (k0_h1 : k0_cond1 i k0_t2 = 1#1), ∀ a x, ((![v3222, v3192] : Fin 2 → IVec S16 32) a x).toNat < S160x142.size a)
theorem k0_idx2326_inb : ∀ (i : grid0.Coords) (k0_t2 : Fin k0_t2_loop.trips) (v3192 : IVec S16 32) (v3222 : IVec S16 32) (k0_hw1375 : k0_chk1375 i k0_t2 v3192 v3222), ∀ (k0_h1 : k0_cond1 i k0_t2 = 1#1), ∀ a x, ((![v3222, v3192] : Fin 2 → IVec S16 32) a x).toNat < S160x142.size a := fun i k0_t2 v3192 v3222 k0_hw1375 k0_h1 => k0_hw1375 k0_h1

def k0_chk1377 (i : grid0.Coords) (k0_t2 : Fin k0_t2_loop.trips) (v3223 : IVec S16 32) (v3226 : IVec S16 32) : Prop :=
  (∀ (k0_h1 : k0_cond1 i k0_t2 = 1#1), ∀ a x, ((![v3226, v3223] : Fin 2 → IVec S16 32) a x).toNat < S160x142.size a)
theorem k0_idx2328_inb : ∀ (i : grid0.Coords) (k0_t2 : Fin k0_t2_loop.trips) (v3223 : IVec S16 32) (v3226 : IVec S16 32) (k0_hw1377 : k0_chk1377 i k0_t2 v3223 v3226), ∀ (k0_h1 : k0_cond1 i k0_t2 = 1#1), ∀ a x, ((![v3226, v3223] : Fin 2 → IVec S16 32) a x).toNat < S160x142.size a := fun i k0_t2 v3223 v3226 k0_hw1377 k0_h1 => k0_hw1377 k0_h1

def k0_chk1378 (i : grid0.Coords) (k0_t2 : Fin k0_t2_loop.trips) (v3223 : IVec S16 32) (v3229 : IVec S16 32) : Prop :=
  (∀ (k0_h1 : k0_cond1 i k0_t2 = 1#1), ∀ a x, ((![v3229, v3223] : Fin 2 → IVec S16 32) a x).toNat < S160x142.size a)
theorem k0_idx2330_inb : ∀ (i : grid0.Coords) (k0_t2 : Fin k0_t2_loop.trips) (v3223 : IVec S16 32) (v3229 : IVec S16 32) (k0_hw1378 : k0_chk1378 i k0_t2 v3223 v3229), ∀ (k0_h1 : k0_cond1 i k0_t2 = 1#1), ∀ a x, ((![v3229, v3223] : Fin 2 → IVec S16 32) a x).toNat < S160x142.size a := fun i k0_t2 v3223 v3229 k0_hw1378 k0_h1 => k0_hw1378 k0_h1

def k0_chk1379 (i : grid0.Coords) (k0_t2 : Fin k0_t2_loop.trips) (v3223 : IVec S16 32) (v3232 : IVec S16 32) : Prop :=
  (∀ (k0_h1 : k0_cond1 i k0_t2 = 1#1), ∀ a x, ((![v3232, v3223] : Fin 2 → IVec S16 32) a x).toNat < S160x142.size a)
theorem k0_idx2332_inb : ∀ (i : grid0.Coords) (k0_t2 : Fin k0_t2_loop.trips) (v3223 : IVec S16 32) (v3232 : IVec S16 32) (k0_hw1379 : k0_chk1379 i k0_t2 v3223 v3232), ∀ (k0_h1 : k0_cond1 i k0_t2 = 1#1), ∀ a x, ((![v3232, v3223] : Fin 2 → IVec S16 32) a x).toNat < S160x142.size a := fun i k0_t2 v3223 v3232 k0_hw1379 k0_h1 => k0_hw1379 k0_h1

def k0_chk1380 (i : grid0.Coords) (k0_t2 : Fin k0_t2_loop.trips) (v3223 : IVec S16 32) (v3235 : IVec S16 32) : Prop :=
  (∀ (k0_h1 : k0_cond1 i k0_t2 = 1#1), ∀ a x, ((![v3235, v3223] : Fin 2 → IVec S16 32) a x).toNat < S160x142.size a)
theorem k0_idx2334_inb : ∀ (i : grid0.Coords) (k0_t2 : Fin k0_t2_loop.trips) (v3223 : IVec S16 32) (v3235 : IVec S16 32) (k0_hw1380 : k0_chk1380 i k0_t2 v3223 v3235), ∀ (k0_h1 : k0_cond1 i k0_t2 = 1#1), ∀ a x, ((![v3235, v3223] : Fin 2 → IVec S16 32) a x).toNat < S160x142.size a := fun i k0_t2 v3223 v3235 k0_hw1380 k0_h1 => k0_hw1380 k0_h1

def k0_chk1381 (i : grid0.Coords) (k0_t2 : Fin k0_t2_loop.trips) (v3223 : IVec S16 32) (v3238 : IVec S16 32) : Prop :=
  (∀ (k0_h1 : k0_cond1 i k0_t2 = 1#1), ∀ a x, ((![v3238, v3223] : Fin 2 → IVec S16 32) a x).toNat < S160x142.size a)
theorem k0_idx2336_inb : ∀ (i : grid0.Coords) (k0_t2 : Fin k0_t2_loop.trips) (v3223 : IVec S16 32) (v3238 : IVec S16 32) (k0_hw1381 : k0_chk1381 i k0_t2 v3223 v3238), ∀ (k0_h1 : k0_cond1 i k0_t2 = 1#1), ∀ a x, ((![v3238, v3223] : Fin 2 → IVec S16 32) a x).toNat < S160x142.size a := fun i k0_t2 v3223 v3238 k0_hw1381 k0_h1 => k0_hw1381 k0_h1

def k0_chk1382 (i : grid0.Coords) (k0_t2 : Fin k0_t2_loop.trips) (v3223 : IVec S16 32) (v3241 : IVec S16 32) : Prop :=
  (∀ (k0_h1 : k0_cond1 i k0_t2 = 1#1), ∀ a x, ((![v3241, v3223] : Fin 2 → IVec S16 32) a x).toNat < S160x142.size a)
theorem k0_idx2338_inb : ∀ (i : grid0.Coords) (k0_t2 : Fin k0_t2_loop.trips) (v3223 : IVec S16 32) (v3241 : IVec S16 32) (k0_hw1382 : k0_chk1382 i k0_t2 v3223 v3241), ∀ (k0_h1 : k0_cond1 i k0_t2 = 1#1), ∀ a x, ((![v3241, v3223] : Fin 2 → IVec S16 32) a x).toNat < S160x142.size a := fun i k0_t2 v3223 v3241 k0_hw1382 k0_h1 => k0_hw1382 k0_h1

def k0_chk1383 (i : grid0.Coords) (k0_t2 : Fin k0_t2_loop.trips) (v3223 : IVec S16 32) (v3244 : IVec S16 32) : Prop :=
  (∀ (k0_h1 : k0_cond1 i k0_t2 = 1#1), ∀ a x, ((![v3244, v3223] : Fin 2 → IVec S16 32) a x).toNat < S160x142.size a)
theorem k0_idx2340_inb : ∀ (i : grid0.Coords) (k0_t2 : Fin k0_t2_loop.trips) (v3223 : IVec S16 32) (v3244 : IVec S16 32) (k0_hw1383 : k0_chk1383 i k0_t2 v3223 v3244), ∀ (k0_h1 : k0_cond1 i k0_t2 = 1#1), ∀ a x, ((![v3244, v3223] : Fin 2 → IVec S16 32) a x).toNat < S160x142.size a := fun i k0_t2 v3223 v3244 k0_hw1383 k0_h1 => k0_hw1383 k0_h1

def k0_chk1384 (i : grid0.Coords) (k0_t2 : Fin k0_t2_loop.trips) (v3223 : IVec S16 32) (v3247 : IVec S16 32) : Prop :=
  (∀ (k0_h1 : k0_cond1 i k0_t2 = 1#1), ∀ a x, ((![v3247, v3223] : Fin 2 → IVec S16 32) a x).toNat < S160x142.size a)
theorem k0_idx2342_inb : ∀ (i : grid0.Coords) (k0_t2 : Fin k0_t2_loop.trips) (v3223 : IVec S16 32) (v3247 : IVec S16 32) (k0_hw1384 : k0_chk1384 i k0_t2 v3223 v3247), ∀ (k0_h1 : k0_cond1 i k0_t2 = 1#1), ∀ a x, ((![v3247, v3223] : Fin 2 → IVec S16 32) a x).toNat < S160x142.size a := fun i k0_t2 v3223 v3247 k0_hw1384 k0_h1 => k0_hw1384 k0_h1

def k0_chk1385 (i : grid0.Coords) (k0_t2 : Fin k0_t2_loop.trips) (v3223 : IVec S16 32) (v3250 : IVec S16 32) : Prop :=
  (∀ (k0_h1 : k0_cond1 i k0_t2 = 1#1), ∀ a x, ((![v3250, v3223] : Fin 2 → IVec S16 32) a x).toNat < S160x142.size a)
theorem k0_idx2344_inb : ∀ (i : grid0.Coords) (k0_t2 : Fin k0_t2_loop.trips) (v3223 : IVec S16 32) (v3250 : IVec S16 32) (k0_hw1385 : k0_chk1385 i k0_t2 v3223 v3250), ∀ (k0_h1 : k0_cond1 i k0_t2 = 1#1), ∀ a x, ((![v3250, v3223] : Fin 2 → IVec S16 32) a x).toNat < S160x142.size a := fun i k0_t2 v3223 v3250 k0_hw1385 k0_h1 => k0_hw1385 k0_h1

def k0_chk1376 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) : Prop :=
  (∀ (k0_h1 : k0_cond1 i k0_t2 = 1#1), ∀ a x, ((![v15, v3223] : Fin 2 → IVec S16 32) a x).toNat < S256x142.size a) ∧
  (∀ (k0_h1 : k0_cond1 i k0_t2 = 1#1), ∀ a x, ((![v20, v3223] : Fin 2 → IVec S16 32) a x).toNat < S256x142.size a) ∧
  (∀ (k0_h1 : k0_cond1 i k0_t2 = 1#1), ∀ a x, ((![v25, v3223] : Fin 2 → IVec S16 32) a x).toNat < S256x142.size a) ∧
  (∀ (k0_h1 : k0_cond1 i k0_t2 = 1#1), ∀ a x, ((![v30, v3223] : Fin 2 → IVec S16 32) a x).toNat < S256x142.size a) ∧
  (∀ (k0_h1 : k0_cond1 i k0_t2 = 1#1), ∀ a x, ((![v35, v3223] : Fin 2 → IVec S16 32) a x).toNat < S256x142.size a) ∧
  (∀ (k0_h1 : k0_cond1 i k0_t2 = 1#1), ∀ a x, ((![v40, v3223] : Fin 2 → IVec S16 32) a x).toNat < S256x142.size a) ∧
  (∀ (k0_h1 : k0_cond1 i k0_t2 = 1#1), ∀ a x, ((![v45, v3223] : Fin 2 → IVec S16 32) a x).toNat < S256x142.size a) ∧
  (∀ (k0_h1 : k0_cond1 i k0_t2 = 1#1), ∀ a x, ((![v50, v3223] : Fin 2 → IVec S16 32) a x).toNat < S256x142.size a) ∧
  (∀ (k0_h1 : k0_cond1 i k0_t2 = 1#1), ∀ a x, ((![v55, v3223] : Fin 2 → IVec S16 32) a x).toNat < S256x142.size a) ∧
  (∀ (k0_h1 : k0_cond1 i k0_t2 = 1#1), ∀ a x, ((![v60, v3223] : Fin 2 → IVec S16 32) a x).toNat < S256x142.size a)
theorem k0_idx2327_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v15, v3223] : Fin 2 → IVec S16 32) a x).toNat < S256x142.size a := fun i k0_t2 v15 v20 v25 v30 v35 v40 v45 v50 v55 v60 v3223 k0_hw1376 k0_h1 => k0_hw1376.1 k0_h1
theorem k0_idx2329_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v20, v3223] : Fin 2 → IVec S16 32) a x).toNat < S256x142.size a := fun i k0_t2 v15 v20 v25 v30 v35 v40 v45 v50 v55 v60 v3223 k0_hw1376 k0_h1 => k0_hw1376.2.1 k0_h1
theorem k0_idx2331_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v25, v3223] : Fin 2 → IVec S16 32) a x).toNat < S256x142.size a := fun i k0_t2 v15 v20 v25 v30 v35 v40 v45 v50 v55 v60 v3223 k0_hw1376 k0_h1 => k0_hw1376.2.2.1 k0_h1
theorem k0_idx2333_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v30, v3223] : Fin 2 → IVec S16 32) a x).toNat < S256x142.size a := fun i k0_t2 v15 v20 v25 v30 v35 v40 v45 v50 v55 v60 v3223 k0_hw1376 k0_h1 => k0_hw1376.2.2.2.1 k0_h1
theorem k0_idx2335_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v35, v3223] : Fin 2 → IVec S16 32) a x).toNat < S256x142.size a := fun i k0_t2 v15 v20 v25 v30 v35 v40 v45 v50 v55 v60 v3223 k0_hw1376 k0_h1 => k0_hw1376.2.2.2.2.1 k0_h1
theorem k0_idx2337_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v40, v3223] : Fin 2 → IVec S16 32) a x).toNat < S256x142.size a := fun i k0_t2 v15 v20 v25 v30 v35 v40 v45 v50 v55 v60 v3223 k0_hw1376 k0_h1 => k0_hw1376.2.2.2.2.2.1 k0_h1
theorem k0_idx2339_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v45, v3223] : Fin 2 → IVec S16 32) a x).toNat < S256x142.size a := fun i k0_t2 v15 v20 v25 v30 v35 v40 v45 v50 v55 v60 v3223 k0_hw1376 k0_h1 => k0_hw1376.2.2.2.2.2.2.1 k0_h1
theorem k0_idx2341_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v50, v3223] : Fin 2 → IVec S16 32) a x).toNat < S256x142.size a := fun i k0_t2 v15 v20 v25 v30 v35 v40 v45 v50 v55 v60 v3223 k0_hw1376 k0_h1 => k0_hw1376.2.2.2.2.2.2.2.1 k0_h1
theorem k0_idx2343_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v55, v3223] : Fin 2 → IVec S16 32) a x).toNat < S256x142.size a := fun i k0_t2 v15 v20 v25 v30 v35 v40 v45 v50 v55 v60 v3223 k0_hw1376 k0_h1 => k0_hw1376.2.2.2.2.2.2.2.2.1 k0_h1
theorem k0_idx2345_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3223 : IVec S16 32) (k0_hw1376 : k0_chk1376 i k0_t2 v15 v20 v25 v30 v35 v40 v45 v50 v55 v60 v3223), ∀ (k0_h1 : k0_cond1 i k0_t2 = 1#1), ∀ a x, ((![v60, v3223] : Fin 2 → IVec S16 32) a x).toNat < S256x142.size a := fun i k0_t2 v15 v20 v25 v30 v35 v40 v45 v50 v55 v60 v3223 k0_hw1376 k0_h1 => k0_hw1376.2.2.2.2.2.2.2.2.2 k0_h1

def k0_chk1386 (i : grid0.Coords) (k0_t2 : Fin k0_t2_loop.trips) (v3223 : IVec S16 32) (v3253 : IVec S16 32) : Prop :=
  (∀ (k0_h1 : k0_cond1 i k0_t2 = 1#1), ∀ a x, ((![v3253, v3223] : Fin 2 → IVec S16 32) a x).toNat < S160x142.size a)
theorem k0_idx2346_inb : ∀ (i : grid0.Coords) (k0_t2 : Fin k0_t2_loop.trips) (v3223 : IVec S16 32) (v3253 : IVec S16 32) (k0_hw1386 : k0_chk1386 i k0_t2 v3223 v3253), ∀ (k0_h1 : k0_cond1 i k0_t2 = 1#1), ∀ a x, ((![v3253, v3223] : Fin 2 → IVec S16 32) a x).toNat < S160x142.size a := fun i k0_t2 v3223 v3253 k0_hw1386 k0_h1 => k0_hw1386 k0_h1

def k0_chk1388 (i : grid0.Coords) (k0_t2 : Fin k0_t2_loop.trips) (v3254 : IVec S16 32) (v3257 : IVec S16 32) : Prop :=
  (∀ (k0_h1 : k0_cond1 i k0_t2 = 1#1), ∀ a x, ((![v3257, v3254] : Fin 2 → IVec S16 32) a x).toNat < S160x142.size a)
theorem k0_idx2348_inb : ∀ (i : grid0.Coords) (k0_t2 : Fin k0_t2_loop.trips) (v3254 : IVec S16 32) (v3257 : IVec S16 32) (k0_hw1388 : k0_chk1388 i k0_t2 v3254 v3257), ∀ (k0_h1 : k0_cond1 i k0_t2 = 1#1), ∀ a x, ((![v3257, v3254] : Fin 2 → IVec S16 32) a x).toNat < S160x142.size a := fun i k0_t2 v3254 v3257 k0_hw1388 k0_h1 => k0_hw1388 k0_h1

def k0_chk1389 (i : grid0.Coords) (k0_t2 : Fin k0_t2_loop.trips) (v3254 : IVec S16 32) (v3260 : IVec S16 32) : Prop :=
  (∀ (k0_h1 : k0_cond1 i k0_t2 = 1#1), ∀ a x, ((![v3260, v3254] : Fin 2 → IVec S16 32) a x).toNat < S160x142.size a)
theorem k0_idx2350_inb : ∀ (i : grid0.Coords) (k0_t2 : Fin k0_t2_loop.trips) (v3254 : IVec S16 32) (v3260 : IVec S16 32) (k0_hw1389 : k0_chk1389 i k0_t2 v3254 v3260), ∀ (k0_h1 : k0_cond1 i k0_t2 = 1#1), ∀ a x, ((![v3260, v3254] : Fin 2 → IVec S16 32) a x).toNat < S160x142.size a := fun i k0_t2 v3254 v3260 k0_hw1389 k0_h1 => k0_hw1389 k0_h1

def k0_chk1390 (i : grid0.Coords) (k0_t2 : Fin k0_t2_loop.trips) (v3254 : IVec S16 32) (v3263 : IVec S16 32) : Prop :=
  (∀ (k0_h1 : k0_cond1 i k0_t2 = 1#1), ∀ a x, ((![v3263, v3254] : Fin 2 → IVec S16 32) a x).toNat < S160x142.size a)
theorem k0_idx2352_inb : ∀ (i : grid0.Coords) (k0_t2 : Fin k0_t2_loop.trips) (v3254 : IVec S16 32) (v3263 : IVec S16 32) (k0_hw1390 : k0_chk1390 i k0_t2 v3254 v3263), ∀ (k0_h1 : k0_cond1 i k0_t2 = 1#1), ∀ a x, ((![v3263, v3254] : Fin 2 → IVec S16 32) a x).toNat < S160x142.size a := fun i k0_t2 v3254 v3263 k0_hw1390 k0_h1 => k0_hw1390 k0_h1

def k0_chk1391 (i : grid0.Coords) (k0_t2 : Fin k0_t2_loop.trips) (v3254 : IVec S16 32) (v3266 : IVec S16 32) : Prop :=
  (∀ (k0_h1 : k0_cond1 i k0_t2 = 1#1), ∀ a x, ((![v3266, v3254] : Fin 2 → IVec S16 32) a x).toNat < S160x142.size a)
theorem k0_idx2354_inb : ∀ (i : grid0.Coords) (k0_t2 : Fin k0_t2_loop.trips) (v3254 : IVec S16 32) (v3266 : IVec S16 32) (k0_hw1391 : k0_chk1391 i k0_t2 v3254 v3266), ∀ (k0_h1 : k0_cond1 i k0_t2 = 1#1), ∀ a x, ((![v3266, v3254] : Fin 2 → IVec S16 32) a x).toNat < S160x142.size a := fun i k0_t2 v3254 v3266 k0_hw1391 k0_h1 => k0_hw1391 k0_h1

def k0_chk1392 (i : grid0.Coords) (k0_t2 : Fin k0_t2_loop.trips) (v3254 : IVec S16 32) (v3269 : IVec S16 32) : Prop :=
  (∀ (k0_h1 : k0_cond1 i k0_t2 = 1#1), ∀ a x, ((![v3269, v3254] : Fin 2 → IVec S16 32) a x).toNat < S160x142.size a)
theorem k0_idx2356_inb : ∀ (i : grid0.Coords) (k0_t2 : Fin k0_t2_loop.trips) (v3254 : IVec S16 32) (v3269 : IVec S16 32) (k0_hw1392 : k0_chk1392 i k0_t2 v3254 v3269), ∀ (k0_h1 : k0_cond1 i k0_t2 = 1#1), ∀ a x, ((![v3269, v3254] : Fin 2 → IVec S16 32) a x).toNat < S160x142.size a := fun i k0_t2 v3254 v3269 k0_hw1392 k0_h1 => k0_hw1392 k0_h1

def k0_chk1393 (i : grid0.Coords) (k0_t2 : Fin k0_t2_loop.trips) (v3254 : IVec S16 32) (v3272 : IVec S16 32) : Prop :=
  (∀ (k0_h1 : k0_cond1 i k0_t2 = 1#1), ∀ a x, ((![v3272, v3254] : Fin 2 → IVec S16 32) a x).toNat < S160x142.size a)
theorem k0_idx2358_inb : ∀ (i : grid0.Coords) (k0_t2 : Fin k0_t2_loop.trips) (v3254 : IVec S16 32) (v3272 : IVec S16 32) (k0_hw1393 : k0_chk1393 i k0_t2 v3254 v3272), ∀ (k0_h1 : k0_cond1 i k0_t2 = 1#1), ∀ a x, ((![v3272, v3254] : Fin 2 → IVec S16 32) a x).toNat < S160x142.size a := fun i k0_t2 v3254 v3272 k0_hw1393 k0_h1 => k0_hw1393 k0_h1

def k0_chk1394 (i : grid0.Coords) (k0_t2 : Fin k0_t2_loop.trips) (v3254 : IVec S16 32) (v3275 : IVec S16 32) : Prop :=
  (∀ (k0_h1 : k0_cond1 i k0_t2 = 1#1), ∀ a x, ((![v3275, v3254] : Fin 2 → IVec S16 32) a x).toNat < S160x142.size a)
theorem k0_idx2360_inb : ∀ (i : grid0.Coords) (k0_t2 : Fin k0_t2_loop.trips) (v3254 : IVec S16 32) (v3275 : IVec S16 32) (k0_hw1394 : k0_chk1394 i k0_t2 v3254 v3275), ∀ (k0_h1 : k0_cond1 i k0_t2 = 1#1), ∀ a x, ((![v3275, v3254] : Fin 2 → IVec S16 32) a x).toNat < S160x142.size a := fun i k0_t2 v3254 v3275 k0_hw1394 k0_h1 => k0_hw1394 k0_h1

def k0_chk1395 (i : grid0.Coords) (k0_t2 : Fin k0_t2_loop.trips) (v3254 : IVec S16 32) (v3278 : IVec S16 32) : Prop :=
  (∀ (k0_h1 : k0_cond1 i k0_t2 = 1#1), ∀ a x, ((![v3278, v3254] : Fin 2 → IVec S16 32) a x).toNat < S160x142.size a)
theorem k0_idx2362_inb : ∀ (i : grid0.Coords) (k0_t2 : Fin k0_t2_loop.trips) (v3254 : IVec S16 32) (v3278 : IVec S16 32) (k0_hw1395 : k0_chk1395 i k0_t2 v3254 v3278), ∀ (k0_h1 : k0_cond1 i k0_t2 = 1#1), ∀ a x, ((![v3278, v3254] : Fin 2 → IVec S16 32) a x).toNat < S160x142.size a := fun i k0_t2 v3254 v3278 k0_hw1395 k0_h1 => k0_hw1395 k0_h1

def k0_chk1396 (i : grid0.Coords) (k0_t2 : Fin k0_t2_loop.trips) (v3254 : IVec S16 32) (v3281 : IVec S16 32) : Prop :=
  (∀ (k0_h1 : k0_cond1 i k0_t2 = 1#1), ∀ a x, ((![v3281, v3254] : Fin 2 → IVec S16 32) a x).toNat < S160x142.size a)
theorem k0_idx2364_inb : ∀ (i : grid0.Coords) (k0_t2 : Fin k0_t2_loop.trips) (v3254 : IVec S16 32) (v3281 : IVec S16 32) (k0_hw1396 : k0_chk1396 i k0_t2 v3254 v3281), ∀ (k0_h1 : k0_cond1 i k0_t2 = 1#1), ∀ a x, ((![v3281, v3254] : Fin 2 → IVec S16 32) a x).toNat < S160x142.size a := fun i k0_t2 v3254 v3281 k0_hw1396 k0_h1 => k0_hw1396 k0_h1

def k0_chk1387 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) : Prop :=
  (∀ (k0_h1 : k0_cond1 i k0_t2 = 1#1), ∀ a x, ((![v15, v3254] : Fin 2 → IVec S16 32) a x).toNat < S256x142.size a) ∧
  (∀ (k0_h1 : k0_cond1 i k0_t2 = 1#1), ∀ a x, ((![v20, v3254] : Fin 2 → IVec S16 32) a x).toNat < S256x142.size a) ∧
  (∀ (k0_h1 : k0_cond1 i k0_t2 = 1#1), ∀ a x, ((![v25, v3254] : Fin 2 → IVec S16 32) a x).toNat < S256x142.size a) ∧
  (∀ (k0_h1 : k0_cond1 i k0_t2 = 1#1), ∀ a x, ((![v30, v3254] : Fin 2 → IVec S16 32) a x).toNat < S256x142.size a) ∧
  (∀ (k0_h1 : k0_cond1 i k0_t2 = 1#1), ∀ a x, ((![v35, v3254] : Fin 2 → IVec S16 32) a x).toNat < S256x142.size a) ∧
  (∀ (k0_h1 : k0_cond1 i k0_t2 = 1#1), ∀ a x, ((![v40, v3254] : Fin 2 → IVec S16 32) a x).toNat < S256x142.size a) ∧
  (∀ (k0_h1 : k0_cond1 i k0_t2 = 1#1), ∀ a x, ((![v45, v3254] : Fin 2 → IVec S16 32) a x).toNat < S256x142.size a) ∧
  (∀ (k0_h1 : k0_cond1 i k0_t2 = 1#1), ∀ a x, ((![v50, v3254] : Fin 2 → IVec S16 32) a x).toNat < S256x142.size a) ∧
  (∀ (k0_h1 : k0_cond1 i k0_t2 = 1#1), ∀ a x, ((![v55, v3254] : Fin 2 → IVec S16 32) a x).toNat < S256x142.size a) ∧
  (∀ (k0_h1 : k0_cond1 i k0_t2 = 1#1), ∀ a x, ((![v60, v3254] : Fin 2 → IVec S16 32) a x).toNat < S256x142.size a)
theorem k0_idx2347_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v15, v3254] : Fin 2 → IVec S16 32) a x).toNat < S256x142.size a := fun i k0_t2 v15 v20 v25 v30 v35 v40 v45 v50 v55 v60 v3254 k0_hw1387 k0_h1 => k0_hw1387.1 k0_h1
theorem k0_idx2349_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v20, v3254] : Fin 2 → IVec S16 32) a x).toNat < S256x142.size a := fun i k0_t2 v15 v20 v25 v30 v35 v40 v45 v50 v55 v60 v3254 k0_hw1387 k0_h1 => k0_hw1387.2.1 k0_h1
theorem k0_idx2351_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v25, v3254] : Fin 2 → IVec S16 32) a x).toNat < S256x142.size a := fun i k0_t2 v15 v20 v25 v30 v35 v40 v45 v50 v55 v60 v3254 k0_hw1387 k0_h1 => k0_hw1387.2.2.1 k0_h1
theorem k0_idx2353_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v30, v3254] : Fin 2 → IVec S16 32) a x).toNat < S256x142.size a := fun i k0_t2 v15 v20 v25 v30 v35 v40 v45 v50 v55 v60 v3254 k0_hw1387 k0_h1 => k0_hw1387.2.2.2.1 k0_h1
theorem k0_idx2355_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v35, v3254] : Fin 2 → IVec S16 32) a x).toNat < S256x142.size a := fun i k0_t2 v15 v20 v25 v30 v35 v40 v45 v50 v55 v60 v3254 k0_hw1387 k0_h1 => k0_hw1387.2.2.2.2.1 k0_h1
theorem k0_idx2357_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v40, v3254] : Fin 2 → IVec S16 32) a x).toNat < S256x142.size a := fun i k0_t2 v15 v20 v25 v30 v35 v40 v45 v50 v55 v60 v3254 k0_hw1387 k0_h1 => k0_hw1387.2.2.2.2.2.1 k0_h1
theorem k0_idx2359_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v45, v3254] : Fin 2 → IVec S16 32) a x).toNat < S256x142.size a := fun i k0_t2 v15 v20 v25 v30 v35 v40 v45 v50 v55 v60 v3254 k0_hw1387 k0_h1 => k0_hw1387.2.2.2.2.2.2.1 k0_h1
theorem k0_idx2361_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v50, v3254] : Fin 2 → IVec S16 32) a x).toNat < S256x142.size a := fun i k0_t2 v15 v20 v25 v30 v35 v40 v45 v50 v55 v60 v3254 k0_hw1387 k0_h1 => k0_hw1387.2.2.2.2.2.2.2.1 k0_h1
theorem k0_idx2363_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v55, v3254] : Fin 2 → IVec S16 32) a x).toNat < S256x142.size a := fun i k0_t2 v15 v20 v25 v30 v35 v40 v45 v50 v55 v60 v3254 k0_hw1387 k0_h1 => k0_hw1387.2.2.2.2.2.2.2.2.1 k0_h1
theorem k0_idx2365_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3254 : IVec S16 32) (k0_hw1387 : k0_chk1387 i k0_t2 v15 v20 v25 v30 v35 v40 v45 v50 v55 v60 v3254), ∀ (k0_h1 : k0_cond1 i k0_t2 = 1#1), ∀ a x, ((![v60, v3254] : Fin 2 → IVec S16 32) a x).toNat < S256x142.size a := fun i k0_t2 v15 v20 v25 v30 v35 v40 v45 v50 v55 v60 v3254 k0_hw1387 k0_h1 => k0_hw1387.2.2.2.2.2.2.2.2.2 k0_h1

def k0_chk1397 (i : grid0.Coords) (k0_t2 : Fin k0_t2_loop.trips) (v3254 : IVec S16 32) (v3284 : IVec S16 32) : Prop :=
  (∀ (k0_h1 : k0_cond1 i k0_t2 = 1#1), ∀ a x, ((![v3284, v3254] : Fin 2 → IVec S16 32) a x).toNat < S160x142.size a)
theorem k0_idx2366_inb : ∀ (i : grid0.Coords) (k0_t2 : Fin k0_t2_loop.trips) (v3254 : IVec S16 32) (v3284 : IVec S16 32) (k0_hw1397 : k0_chk1397 i k0_t2 v3254 v3284), ∀ (k0_h1 : k0_cond1 i k0_t2 = 1#1), ∀ a x, ((![v3284, v3254] : Fin 2 → IVec S16 32) a x).toNat < S160x142.size a := fun i k0_t2 v3254 v3284 k0_hw1397 k0_h1 => k0_hw1397 k0_h1

def k0_chk1399 (i : grid0.Coords) (k0_t2 : Fin k0_t2_loop.trips) (v3285 : IVec S16 32) (v3288 : IVec S16 32) : Prop :=
  (∀ (k0_h1 : k0_cond1 i k0_t2 = 1#1), ∀ a x, ((![v3288, v3285] : Fin 2 → IVec S16 32) a x).toNat < S160x142.size a)
theorem k0_idx2368_inb : ∀ (i : grid0.Coords) (k0_t2 : Fin k0_t2_loop.trips) (v3285 : IVec S16 32) (v3288 : IVec S16 32) (k0_hw1399 : k0_chk1399 i k0_t2 v3285 v3288), ∀ (k0_h1 : k0_cond1 i k0_t2 = 1#1), ∀ a x, ((![v3288, v3285] : Fin 2 → IVec S16 32) a x).toNat < S160x142.size a := fun i k0_t2 v3285 v3288 k0_hw1399 k0_h1 => k0_hw1399 k0_h1

def k0_chk1400 (i : grid0.Coords) (k0_t2 : Fin k0_t2_loop.trips) (v3285 : IVec S16 32) (v3291 : IVec S16 32) : Prop :=
  (∀ (k0_h1 : k0_cond1 i k0_t2 = 1#1), ∀ a x, ((![v3291, v3285] : Fin 2 → IVec S16 32) a x).toNat < S160x142.size a)
theorem k0_idx2370_inb : ∀ (i : grid0.Coords) (k0_t2 : Fin k0_t2_loop.trips) (v3285 : IVec S16 32) (v3291 : IVec S16 32) (k0_hw1400 : k0_chk1400 i k0_t2 v3285 v3291), ∀ (k0_h1 : k0_cond1 i k0_t2 = 1#1), ∀ a x, ((![v3291, v3285] : Fin 2 → IVec S16 32) a x).toNat < S160x142.size a := fun i k0_t2 v3285 v3291 k0_hw1400 k0_h1 => k0_hw1400 k0_h1

def k0_chk1401 (i : grid0.Coords) (k0_t2 : Fin k0_t2_loop.trips) (v3285 : IVec S16 32) (v3294 : IVec S16 32) : Prop :=
  (∀ (k0_h1 : k0_cond1 i k0_t2 = 1#1), ∀ a x, ((![v3294, v3285] : Fin 2 → IVec S16 32) a x).toNat < S160x142.size a)
theorem k0_idx2372_inb : ∀ (i : grid0.Coords) (k0_t2 : Fin k0_t2_loop.trips) (v3285 : IVec S16 32) (v3294 : IVec S16 32) (k0_hw1401 : k0_chk1401 i k0_t2 v3285 v3294), ∀ (k0_h1 : k0_cond1 i k0_t2 = 1#1), ∀ a x, ((![v3294, v3285] : Fin 2 → IVec S16 32) a x).toNat < S160x142.size a := fun i k0_t2 v3285 v3294 k0_hw1401 k0_h1 => k0_hw1401 k0_h1

def k0_chk1402 (i : grid0.Coords) (k0_t2 : Fin k0_t2_loop.trips) (v3285 : IVec S16 32) (v3297 : IVec S16 32) : Prop :=
  (∀ (k0_h1 : k0_cond1 i k0_t2 = 1#1), ∀ a x, ((![v3297, v3285] : Fin 2 → IVec S16 32) a x).toNat < S160x142.size a)
theorem k0_idx2374_inb : ∀ (i : grid0.Coords) (k0_t2 : Fin k0_t2_loop.trips) (v3285 : IVec S16 32) (v3297 : IVec S16 32) (k0_hw1402 : k0_chk1402 i k0_t2 v3285 v3297), ∀ (k0_h1 : k0_cond1 i k0_t2 = 1#1), ∀ a x, ((![v3297, v3285] : Fin 2 → IVec S16 32) a x).toNat < S160x142.size a := fun i k0_t2 v3285 v3297 k0_hw1402 k0_h1 => k0_hw1402 k0_h1

def k0_chk1403 (i : grid0.Coords) (k0_t2 : Fin k0_t2_loop.trips) (v3285 : IVec S16 32) (v3300 : IVec S16 32) : Prop :=
  (∀ (k0_h1 : k0_cond1 i k0_t2 = 1#1), ∀ a x, ((![v3300, v3285] : Fin 2 → IVec S16 32) a x).toNat < S160x142.size a)
theorem k0_idx2376_inb : ∀ (i : grid0.Coords) (k0_t2 : Fin k0_t2_loop.trips) (v3285 : IVec S16 32) (v3300 : IVec S16 32) (k0_hw1403 : k0_chk1403 i k0_t2 v3285 v3300), ∀ (k0_h1 : k0_cond1 i k0_t2 = 1#1), ∀ a x, ((![v3300, v3285] : Fin 2 → IVec S16 32) a x).toNat < S160x142.size a := fun i k0_t2 v3285 v3300 k0_hw1403 k0_h1 => k0_hw1403 k0_h1

def k0_chk1404 (i : grid0.Coords) (k0_t2 : Fin k0_t2_loop.trips) (v3285 : IVec S16 32) (v3303 : IVec S16 32) : Prop :=
  (∀ (k0_h1 : k0_cond1 i k0_t2 = 1#1), ∀ a x, ((![v3303, v3285] : Fin 2 → IVec S16 32) a x).toNat < S160x142.size a)
theorem k0_idx2378_inb : ∀ (i : grid0.Coords) (k0_t2 : Fin k0_t2_loop.trips) (v3285 : IVec S16 32) (v3303 : IVec S16 32) (k0_hw1404 : k0_chk1404 i k0_t2 v3285 v3303), ∀ (k0_h1 : k0_cond1 i k0_t2 = 1#1), ∀ a x, ((![v3303, v3285] : Fin 2 → IVec S16 32) a x).toNat < S160x142.size a := fun i k0_t2 v3285 v3303 k0_hw1404 k0_h1 => k0_hw1404 k0_h1

def k0_chk1405 (i : grid0.Coords) (k0_t2 : Fin k0_t2_loop.trips) (v3285 : IVec S16 32) (v3306 : IVec S16 32) : Prop :=
  (∀ (k0_h1 : k0_cond1 i k0_t2 = 1#1), ∀ a x, ((![v3306, v3285] : Fin 2 → IVec S16 32) a x).toNat < S160x142.size a)
theorem k0_idx2380_inb : ∀ (i : grid0.Coords) (k0_t2 : Fin k0_t2_loop.trips) (v3285 : IVec S16 32) (v3306 : IVec S16 32) (k0_hw1405 : k0_chk1405 i k0_t2 v3285 v3306), ∀ (k0_h1 : k0_cond1 i k0_t2 = 1#1), ∀ a x, ((![v3306, v3285] : Fin 2 → IVec S16 32) a x).toNat < S160x142.size a := fun i k0_t2 v3285 v3306 k0_hw1405 k0_h1 => k0_hw1405 k0_h1

def k0_chk1406 (i : grid0.Coords) (k0_t2 : Fin k0_t2_loop.trips) (v3285 : IVec S16 32) (v3309 : IVec S16 32) : Prop :=
  (∀ (k0_h1 : k0_cond1 i k0_t2 = 1#1), ∀ a x, ((![v3309, v3285] : Fin 2 → IVec S16 32) a x).toNat < S160x142.size a)
theorem k0_idx2382_inb : ∀ (i : grid0.Coords) (k0_t2 : Fin k0_t2_loop.trips) (v3285 : IVec S16 32) (v3309 : IVec S16 32) (k0_hw1406 : k0_chk1406 i k0_t2 v3285 v3309), ∀ (k0_h1 : k0_cond1 i k0_t2 = 1#1), ∀ a x, ((![v3309, v3285] : Fin 2 → IVec S16 32) a x).toNat < S160x142.size a := fun i k0_t2 v3285 v3309 k0_hw1406 k0_h1 => k0_hw1406 k0_h1

def k0_chk1407 (i : grid0.Coords) (k0_t2 : Fin k0_t2_loop.trips) (v3285 : IVec S16 32) (v3312 : IVec S16 32) : Prop :=
  (∀ (k0_h1 : k0_cond1 i k0_t2 = 1#1), ∀ a x, ((![v3312, v3285] : Fin 2 → IVec S16 32) a x).toNat < S160x142.size a)
theorem k0_idx2384_inb : ∀ (i : grid0.Coords) (k0_t2 : Fin k0_t2_loop.trips) (v3285 : IVec S16 32) (v3312 : IVec S16 32) (k0_hw1407 : k0_chk1407 i k0_t2 v3285 v3312), ∀ (k0_h1 : k0_cond1 i k0_t2 = 1#1), ∀ a x, ((![v3312, v3285] : Fin 2 → IVec S16 32) a x).toNat < S160x142.size a := fun i k0_t2 v3285 v3312 k0_hw1407 k0_h1 => k0_hw1407 k0_h1

def k0_chk1398 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) : Prop :=
  (∀ (k0_h1 : k0_cond1 i k0_t2 = 1#1), ∀ a x, ((![v15, v3285] : Fin 2 → IVec S16 32) a x).toNat < S256x142.size a) ∧
  (∀ (k0_h1 : k0_cond1 i k0_t2 = 1#1), ∀ a x, ((![v20, v3285] : Fin 2 → IVec S16 32) a x).toNat < S256x142.size a) ∧
  (∀ (k0_h1 : k0_cond1 i k0_t2 = 1#1), ∀ a x, ((![v25, v3285] : Fin 2 → IVec S16 32) a x).toNat < S256x142.size a) ∧
  (∀ (k0_h1 : k0_cond1 i k0_t2 = 1#1), ∀ a x, ((![v30, v3285] : Fin 2 → IVec S16 32) a x).toNat < S256x142.size a) ∧
  (∀ (k0_h1 : k0_cond1 i k0_t2 = 1#1), ∀ a x, ((![v35, v3285] : Fin 2 → IVec S16 32) a x).toNat < S256x142.size a) ∧
  (∀ (k0_h1 : k0_cond1 i k0_t2 = 1#1), ∀ a x, ((![v40, v3285] : Fin 2 → IVec S16 32) a x).toNat < S256x142.size a) ∧
  (∀ (k0_h1 : k0_cond1 i k0_t2 = 1#1), ∀ a x, ((![v45, v3285] : Fin 2 → IVec S16 32) a x).toNat < S256x142.size a) ∧
  (∀ (k0_h1 : k0_cond1 i k0_t2 = 1#1), ∀ a x, ((![v50, v3285] : Fin 2 → IVec S16 32) a x).toNat < S256x142.size a) ∧
  (∀ (k0_h1 : k0_cond1 i k0_t2 = 1#1), ∀ a x, ((![v55, v3285] : Fin 2 → IVec S16 32) a x).toNat < S256x142.size a) ∧
  (∀ (k0_h1 : k0_cond1 i k0_t2 = 1#1), ∀ a x, ((![v60, v3285] : Fin 2 → IVec S16 32) a x).toNat < S256x142.size a)
theorem k0_idx2367_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v15, v3285] : Fin 2 → IVec S16 32) a x).toNat < S256x142.size a := fun i k0_t2 v15 v20 v25 v30 v35 v40 v45 v50 v55 v60 v3285 k0_hw1398 k0_h1 => k0_hw1398.1 k0_h1
theorem k0_idx2369_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v20, v3285] : Fin 2 → IVec S16 32) a x).toNat < S256x142.size a := fun i k0_t2 v15 v20 v25 v30 v35 v40 v45 v50 v55 v60 v3285 k0_hw1398 k0_h1 => k0_hw1398.2.1 k0_h1
theorem k0_idx2371_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v25, v3285] : Fin 2 → IVec S16 32) a x).toNat < S256x142.size a := fun i k0_t2 v15 v20 v25 v30 v35 v40 v45 v50 v55 v60 v3285 k0_hw1398 k0_h1 => k0_hw1398.2.2.1 k0_h1
theorem k0_idx2373_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v30, v3285] : Fin 2 → IVec S16 32) a x).toNat < S256x142.size a := fun i k0_t2 v15 v20 v25 v30 v35 v40 v45 v50 v55 v60 v3285 k0_hw1398 k0_h1 => k0_hw1398.2.2.2.1 k0_h1
theorem k0_idx2375_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v35, v3285] : Fin 2 → IVec S16 32) a x).toNat < S256x142.size a := fun i k0_t2 v15 v20 v25 v30 v35 v40 v45 v50 v55 v60 v3285 k0_hw1398 k0_h1 => k0_hw1398.2.2.2.2.1 k0_h1
theorem k0_idx2377_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v40, v3285] : Fin 2 → IVec S16 32) a x).toNat < S256x142.size a := fun i k0_t2 v15 v20 v25 v30 v35 v40 v45 v50 v55 v60 v3285 k0_hw1398 k0_h1 => k0_hw1398.2.2.2.2.2.1 k0_h1
theorem k0_idx2379_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v45, v3285] : Fin 2 → IVec S16 32) a x).toNat < S256x142.size a := fun i k0_t2 v15 v20 v25 v30 v35 v40 v45 v50 v55 v60 v3285 k0_hw1398 k0_h1 => k0_hw1398.2.2.2.2.2.2.1 k0_h1
theorem k0_idx2381_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v50, v3285] : Fin 2 → IVec S16 32) a x).toNat < S256x142.size a := fun i k0_t2 v15 v20 v25 v30 v35 v40 v45 v50 v55 v60 v3285 k0_hw1398 k0_h1 => k0_hw1398.2.2.2.2.2.2.2.1 k0_h1
theorem k0_idx2383_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v55, v3285] : Fin 2 → IVec S16 32) a x).toNat < S256x142.size a := fun i k0_t2 v15 v20 v25 v30 v35 v40 v45 v50 v55 v60 v3285 k0_hw1398 k0_h1 => k0_hw1398.2.2.2.2.2.2.2.2.1 k0_h1
theorem k0_idx2385_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3285 : IVec S16 32) (k0_hw1398 : k0_chk1398 i k0_t2 v15 v20 v25 v30 v35 v40 v45 v50 v55 v60 v3285), ∀ (k0_h1 : k0_cond1 i k0_t2 = 1#1), ∀ a x, ((![v60, v3285] : Fin 2 → IVec S16 32) a x).toNat < S256x142.size a := fun i k0_t2 v15 v20 v25 v30 v35 v40 v45 v50 v55 v60 v3285 k0_hw1398 k0_h1 => k0_hw1398.2.2.2.2.2.2.2.2.2 k0_h1

def k0_chk1408 (i : grid0.Coords) (k0_t2 : Fin k0_t2_loop.trips) (v3285 : IVec S16 32) (v3315 : IVec S16 32) : Prop :=
  (∀ (k0_h1 : k0_cond1 i k0_t2 = 1#1), ∀ a x, ((![v3315, v3285] : Fin 2 → IVec S16 32) a x).toNat < S160x142.size a)
theorem k0_idx2386_inb : ∀ (i : grid0.Coords) (k0_t2 : Fin k0_t2_loop.trips) (v3285 : IVec S16 32) (v3315 : IVec S16 32) (k0_hw1408 : k0_chk1408 i k0_t2 v3285 v3315), ∀ (k0_h1 : k0_cond1 i k0_t2 = 1#1), ∀ a x, ((![v3315, v3285] : Fin 2 → IVec S16 32) a x).toNat < S160x142.size a := fun i k0_t2 v3285 v3315 k0_hw1408 k0_h1 => k0_hw1408 k0_h1

def k0_chk1410 (i : grid0.Coords) (k0_t2 : Fin k0_t2_loop.trips) (v3316 : IVec S16 32) (v3319 : IVec S16 32) : Prop :=
  (∀ (k0_h1 : k0_cond1 i k0_t2 = 1#1), ∀ a x, ((![v3319, v3316] : Fin 2 → IVec S16 32) a x).toNat < S160x142.size a)
theorem k0_idx2388_inb : ∀ (i : grid0.Coords) (k0_t2 : Fin k0_t2_loop.trips) (v3316 : IVec S16 32) (v3319 : IVec S16 32) (k0_hw1410 : k0_chk1410 i k0_t2 v3316 v3319), ∀ (k0_h1 : k0_cond1 i k0_t2 = 1#1), ∀ a x, ((![v3319, v3316] : Fin 2 → IVec S16 32) a x).toNat < S160x142.size a := fun i k0_t2 v3316 v3319 k0_hw1410 k0_h1 => k0_hw1410 k0_h1

def k0_chk1411 (i : grid0.Coords) (k0_t2 : Fin k0_t2_loop.trips) (v3316 : IVec S16 32) (v3322 : IVec S16 32) : Prop :=
  (∀ (k0_h1 : k0_cond1 i k0_t2 = 1#1), ∀ a x, ((![v3322, v3316] : Fin 2 → IVec S16 32) a x).toNat < S160x142.size a)
theorem k0_idx2390_inb : ∀ (i : grid0.Coords) (k0_t2 : Fin k0_t2_loop.trips) (v3316 : IVec S16 32) (v3322 : IVec S16 32) (k0_hw1411 : k0_chk1411 i k0_t2 v3316 v3322), ∀ (k0_h1 : k0_cond1 i k0_t2 = 1#1), ∀ a x, ((![v3322, v3316] : Fin 2 → IVec S16 32) a x).toNat < S160x142.size a := fun i k0_t2 v3316 v3322 k0_hw1411 k0_h1 => k0_hw1411 k0_h1

def k0_chk1412 (i : grid0.Coords) (k0_t2 : Fin k0_t2_loop.trips) (v3316 : IVec S16 32) (v3325 : IVec S16 32) : Prop :=
  (∀ (k0_h1 : k0_cond1 i k0_t2 = 1#1), ∀ a x, ((![v3325, v3316] : Fin 2 → IVec S16 32) a x).toNat < S160x142.size a)
theorem k0_idx2392_inb : ∀ (i : grid0.Coords) (k0_t2 : Fin k0_t2_loop.trips) (v3316 : IVec S16 32) (v3325 : IVec S16 32) (k0_hw1412 : k0_chk1412 i k0_t2 v3316 v3325), ∀ (k0_h1 : k0_cond1 i k0_t2 = 1#1), ∀ a x, ((![v3325, v3316] : Fin 2 → IVec S16 32) a x).toNat < S160x142.size a := fun i k0_t2 v3316 v3325 k0_hw1412 k0_h1 => k0_hw1412 k0_h1

def k0_chk1413 (i : grid0.Coords) (k0_t2 : Fin k0_t2_loop.trips) (v3316 : IVec S16 32) (v3328 : IVec S16 32) : Prop :=
  (∀ (k0_h1 : k0_cond1 i k0_t2 = 1#1), ∀ a x, ((![v3328, v3316] : Fin 2 → IVec S16 32) a x).toNat < S160x142.size a)
theorem k0_idx2394_inb : ∀ (i : grid0.Coords) (k0_t2 : Fin k0_t2_loop.trips) (v3316 : IVec S16 32) (v3328 : IVec S16 32) (k0_hw1413 : k0_chk1413 i k0_t2 v3316 v3328), ∀ (k0_h1 : k0_cond1 i k0_t2 = 1#1), ∀ a x, ((![v3328, v3316] : Fin 2 → IVec S16 32) a x).toNat < S160x142.size a := fun i k0_t2 v3316 v3328 k0_hw1413 k0_h1 => k0_hw1413 k0_h1

def k0_chk1414 (i : grid0.Coords) (k0_t2 : Fin k0_t2_loop.trips) (v3316 : IVec S16 32) (v3331 : IVec S16 32) : Prop :=
  (∀ (k0_h1 : k0_cond1 i k0_t2 = 1#1), ∀ a x, ((![v3331, v3316] : Fin 2 → IVec S16 32) a x).toNat < S160x142.size a)
theorem k0_idx2396_inb : ∀ (i : grid0.Coords) (k0_t2 : Fin k0_t2_loop.trips) (v3316 : IVec S16 32) (v3331 : IVec S16 32) (k0_hw1414 : k0_chk1414 i k0_t2 v3316 v3331), ∀ (k0_h1 : k0_cond1 i k0_t2 = 1#1), ∀ a x, ((![v3331, v3316] : Fin 2 → IVec S16 32) a x).toNat < S160x142.size a := fun i k0_t2 v3316 v3331 k0_hw1414 k0_h1 => k0_hw1414 k0_h1

def k0_chk1415 (i : grid0.Coords) (k0_t2 : Fin k0_t2_loop.trips) (v3316 : IVec S16 32) (v3334 : IVec S16 32) : Prop :=
  (∀ (k0_h1 : k0_cond1 i k0_t2 = 1#1), ∀ a x, ((![v3334, v3316] : Fin 2 → IVec S16 32) a x).toNat < S160x142.size a)
theorem k0_idx2398_inb : ∀ (i : grid0.Coords) (k0_t2 : Fin k0_t2_loop.trips) (v3316 : IVec S16 32) (v3334 : IVec S16 32) (k0_hw1415 : k0_chk1415 i k0_t2 v3316 v3334), ∀ (k0_h1 : k0_cond1 i k0_t2 = 1#1), ∀ a x, ((![v3334, v3316] : Fin 2 → IVec S16 32) a x).toNat < S160x142.size a := fun i k0_t2 v3316 v3334 k0_hw1415 k0_h1 => k0_hw1415 k0_h1

def k0_chk1416 (i : grid0.Coords) (k0_t2 : Fin k0_t2_loop.trips) (v3316 : IVec S16 32) (v3337 : IVec S16 32) : Prop :=
  (∀ (k0_h1 : k0_cond1 i k0_t2 = 1#1), ∀ a x, ((![v3337, v3316] : Fin 2 → IVec S16 32) a x).toNat < S160x142.size a)
theorem k0_idx2400_inb : ∀ (i : grid0.Coords) (k0_t2 : Fin k0_t2_loop.trips) (v3316 : IVec S16 32) (v3337 : IVec S16 32) (k0_hw1416 : k0_chk1416 i k0_t2 v3316 v3337), ∀ (k0_h1 : k0_cond1 i k0_t2 = 1#1), ∀ a x, ((![v3337, v3316] : Fin 2 → IVec S16 32) a x).toNat < S160x142.size a := fun i k0_t2 v3316 v3337 k0_hw1416 k0_h1 => k0_hw1416 k0_h1

def k0_chk1417 (i : grid0.Coords) (k0_t2 : Fin k0_t2_loop.trips) (v3316 : IVec S16 32) (v3340 : IVec S16 32) : Prop :=
  (∀ (k0_h1 : k0_cond1 i k0_t2 = 1#1), ∀ a x, ((![v3340, v3316] : Fin 2 → IVec S16 32) a x).toNat < S160x142.size a)
theorem k0_idx2402_inb : ∀ (i : grid0.Coords) (k0_t2 : Fin k0_t2_loop.trips) (v3316 : IVec S16 32) (v3340 : IVec S16 32) (k0_hw1417 : k0_chk1417 i k0_t2 v3316 v3340), ∀ (k0_h1 : k0_cond1 i k0_t2 = 1#1), ∀ a x, ((![v3340, v3316] : Fin 2 → IVec S16 32) a x).toNat < S160x142.size a := fun i k0_t2 v3316 v3340 k0_hw1417 k0_h1 => k0_hw1417 k0_h1

def k0_chk1418 (i : grid0.Coords) (k0_t2 : Fin k0_t2_loop.trips) (v3316 : IVec S16 32) (v3343 : IVec S16 32) : Prop :=
  (∀ (k0_h1 : k0_cond1 i k0_t2 = 1#1), ∀ a x, ((![v3343, v3316] : Fin 2 → IVec S16 32) a x).toNat < S160x142.size a)
theorem k0_idx2404_inb : ∀ (i : grid0.Coords) (k0_t2 : Fin k0_t2_loop.trips) (v3316 : IVec S16 32) (v3343 : IVec S16 32) (k0_hw1418 : k0_chk1418 i k0_t2 v3316 v3343), ∀ (k0_h1 : k0_cond1 i k0_t2 = 1#1), ∀ a x, ((![v3343, v3316] : Fin 2 → IVec S16 32) a x).toNat < S160x142.size a := fun i k0_t2 v3316 v3343 k0_hw1418 k0_h1 => k0_hw1418 k0_h1

def k0_chk1409 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) : Prop :=
  (∀ (k0_h1 : k0_cond1 i k0_t2 = 1#1), ∀ a x, ((![v15, v3316] : Fin 2 → IVec S16 32) a x).toNat < S256x142.size a) ∧
  (∀ (k0_h1 : k0_cond1 i k0_t2 = 1#1), ∀ a x, ((![v20, v3316] : Fin 2 → IVec S16 32) a x).toNat < S256x142.size a) ∧
  (∀ (k0_h1 : k0_cond1 i k0_t2 = 1#1), ∀ a x, ((![v25, v3316] : Fin 2 → IVec S16 32) a x).toNat < S256x142.size a) ∧
  (∀ (k0_h1 : k0_cond1 i k0_t2 = 1#1), ∀ a x, ((![v30, v3316] : Fin 2 → IVec S16 32) a x).toNat < S256x142.size a) ∧
  (∀ (k0_h1 : k0_cond1 i k0_t2 = 1#1), ∀ a x, ((![v35, v3316] : Fin 2 → IVec S16 32) a x).toNat < S256x142.size a) ∧
  (∀ (k0_h1 : k0_cond1 i k0_t2 = 1#1), ∀ a x, ((![v40, v3316] : Fin 2 → IVec S16 32) a x).toNat < S256x142.size a) ∧
  (∀ (k0_h1 : k0_cond1 i k0_t2 = 1#1), ∀ a x, ((![v45, v3316] : Fin 2 → IVec S16 32) a x).toNat < S256x142.size a) ∧
  (∀ (k0_h1 : k0_cond1 i k0_t2 = 1#1), ∀ a x, ((![v50, v3316] : Fin 2 → IVec S16 32) a x).toNat < S256x142.size a) ∧
  (∀ (k0_h1 : k0_cond1 i k0_t2 = 1#1), ∀ a x, ((![v55, v3316] : Fin 2 → IVec S16 32) a x).toNat < S256x142.size a) ∧
  (∀ (k0_h1 : k0_cond1 i k0_t2 = 1#1), ∀ a x, ((![v60, v3316] : Fin 2 → IVec S16 32) a x).toNat < S256x142.size a)
theorem k0_idx2387_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v15, v3316] : Fin 2 → IVec S16 32) a x).toNat < S256x142.size a := fun i k0_t2 v15 v20 v25 v30 v35 v40 v45 v50 v55 v60 v3316 k0_hw1409 k0_h1 => k0_hw1409.1 k0_h1
theorem k0_idx2389_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v20, v3316] : Fin 2 → IVec S16 32) a x).toNat < S256x142.size a := fun i k0_t2 v15 v20 v25 v30 v35 v40 v45 v50 v55 v60 v3316 k0_hw1409 k0_h1 => k0_hw1409.2.1 k0_h1
theorem k0_idx2391_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v25, v3316] : Fin 2 → IVec S16 32) a x).toNat < S256x142.size a := fun i k0_t2 v15 v20 v25 v30 v35 v40 v45 v50 v55 v60 v3316 k0_hw1409 k0_h1 => k0_hw1409.2.2.1 k0_h1
theorem k0_idx2393_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v30, v3316] : Fin 2 → IVec S16 32) a x).toNat < S256x142.size a := fun i k0_t2 v15 v20 v25 v30 v35 v40 v45 v50 v55 v60 v3316 k0_hw1409 k0_h1 => k0_hw1409.2.2.2.1 k0_h1
theorem k0_idx2395_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v35, v3316] : Fin 2 → IVec S16 32) a x).toNat < S256x142.size a := fun i k0_t2 v15 v20 v25 v30 v35 v40 v45 v50 v55 v60 v3316 k0_hw1409 k0_h1 => k0_hw1409.2.2.2.2.1 k0_h1
theorem k0_idx2397_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v40, v3316] : Fin 2 → IVec S16 32) a x).toNat < S256x142.size a := fun i k0_t2 v15 v20 v25 v30 v35 v40 v45 v50 v55 v60 v3316 k0_hw1409 k0_h1 => k0_hw1409.2.2.2.2.2.1 k0_h1
theorem k0_idx2399_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v45, v3316] : Fin 2 → IVec S16 32) a x).toNat < S256x142.size a := fun i k0_t2 v15 v20 v25 v30 v35 v40 v45 v50 v55 v60 v3316 k0_hw1409 k0_h1 => k0_hw1409.2.2.2.2.2.2.1 k0_h1
theorem k0_idx2401_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v50, v3316] : Fin 2 → IVec S16 32) a x).toNat < S256x142.size a := fun i k0_t2 v15 v20 v25 v30 v35 v40 v45 v50 v55 v60 v3316 k0_hw1409 k0_h1 => k0_hw1409.2.2.2.2.2.2.2.1 k0_h1
theorem k0_idx2403_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v55, v3316] : Fin 2 → IVec S16 32) a x).toNat < S256x142.size a := fun i k0_t2 v15 v20 v25 v30 v35 v40 v45 v50 v55 v60 v3316 k0_hw1409 k0_h1 => k0_hw1409.2.2.2.2.2.2.2.2.1 k0_h1
theorem k0_idx2405_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3316 : IVec S16 32) (k0_hw1409 : k0_chk1409 i k0_t2 v15 v20 v25 v30 v35 v40 v45 v50 v55 v60 v3316), ∀ (k0_h1 : k0_cond1 i k0_t2 = 1#1), ∀ a x, ((![v60, v3316] : Fin 2 → IVec S16 32) a x).toNat < S256x142.size a := fun i k0_t2 v15 v20 v25 v30 v35 v40 v45 v50 v55 v60 v3316 k0_hw1409 k0_h1 => k0_hw1409.2.2.2.2.2.2.2.2.2 k0_h1

def k0_chk1419 (i : grid0.Coords) (k0_t2 : Fin k0_t2_loop.trips) (v3316 : IVec S16 32) (v3346 : IVec S16 32) : Prop :=
  (∀ (k0_h1 : k0_cond1 i k0_t2 = 1#1), ∀ a x, ((![v3346, v3316] : Fin 2 → IVec S16 32) a x).toNat < S160x142.size a)
theorem k0_idx2406_inb : ∀ (i : grid0.Coords) (k0_t2 : Fin k0_t2_loop.trips) (v3316 : IVec S16 32) (v3346 : IVec S16 32) (k0_hw1419 : k0_chk1419 i k0_t2 v3316 v3346), ∀ (k0_h1 : k0_cond1 i k0_t2 = 1#1), ∀ a x, ((![v3346, v3316] : Fin 2 → IVec S16 32) a x).toNat < S160x142.size a := fun i k0_t2 v3316 v3346 k0_hw1419 k0_h1 => k0_hw1419 k0_h1

def k0_chk1421 (i : grid0.Coords) (k0_t2 : Fin k0_t2_loop.trips) (v3347 : IVec S16 32) (v3350 : IVec S16 32) : Prop :=
  (∀ (k0_h1 : k0_cond1 i k0_t2 = 1#1), ∀ a x, ((![v3350, v3347] : Fin 2 → IVec S16 32) a x).toNat < S160x142.size a)
theorem k0_idx2408_inb : ∀ (i : grid0.Coords) (k0_t2 : Fin k0_t2_loop.trips) (v3347 : IVec S16 32) (v3350 : IVec S16 32) (k0_hw1421 : k0_chk1421 i k0_t2 v3347 v3350), ∀ (k0_h1 : k0_cond1 i k0_t2 = 1#1), ∀ a x, ((![v3350, v3347] : Fin 2 → IVec S16 32) a x).toNat < S160x142.size a := fun i k0_t2 v3347 v3350 k0_hw1421 k0_h1 => k0_hw1421 k0_h1

def k0_chk1422 (i : grid0.Coords) (k0_t2 : Fin k0_t2_loop.trips) (v3347 : IVec S16 32) (v3353 : IVec S16 32) : Prop :=
  (∀ (k0_h1 : k0_cond1 i k0_t2 = 1#1), ∀ a x, ((![v3353, v3347] : Fin 2 → IVec S16 32) a x).toNat < S160x142.size a)
theorem k0_idx2410_inb : ∀ (i : grid0.Coords) (k0_t2 : Fin k0_t2_loop.trips) (v3347 : IVec S16 32) (v3353 : IVec S16 32) (k0_hw1422 : k0_chk1422 i k0_t2 v3347 v3353), ∀ (k0_h1 : k0_cond1 i k0_t2 = 1#1), ∀ a x, ((![v3353, v3347] : Fin 2 → IVec S16 32) a x).toNat < S160x142.size a := fun i k0_t2 v3347 v3353 k0_hw1422 k0_h1 => k0_hw1422 k0_h1

def k0_chk1423 (i : grid0.Coords) (k0_t2 : Fin k0_t2_loop.trips) (v3347 : IVec S16 32) (v3356 : IVec S16 32) : Prop :=
  (∀ (k0_h1 : k0_cond1 i k0_t2 = 1#1), ∀ a x, ((![v3356, v3347] : Fin 2 → IVec S16 32) a x).toNat < S160x142.size a)
theorem k0_idx2412_inb : ∀ (i : grid0.Coords) (k0_t2 : Fin k0_t2_loop.trips) (v3347 : IVec S16 32) (v3356 : IVec S16 32) (k0_hw1423 : k0_chk1423 i k0_t2 v3347 v3356), ∀ (k0_h1 : k0_cond1 i k0_t2 = 1#1), ∀ a x, ((![v3356, v3347] : Fin 2 → IVec S16 32) a x).toNat < S160x142.size a := fun i k0_t2 v3347 v3356 k0_hw1423 k0_h1 => k0_hw1423 k0_h1

def k0_chk1424 (i : grid0.Coords) (k0_t2 : Fin k0_t2_loop.trips) (v3347 : IVec S16 32) (v3359 : IVec S16 32) : Prop :=
  (∀ (k0_h1 : k0_cond1 i k0_t2 = 1#1), ∀ a x, ((![v3359, v3347] : Fin 2 → IVec S16 32) a x).toNat < S160x142.size a)
theorem k0_idx2414_inb : ∀ (i : grid0.Coords) (k0_t2 : Fin k0_t2_loop.trips) (v3347 : IVec S16 32) (v3359 : IVec S16 32) (k0_hw1424 : k0_chk1424 i k0_t2 v3347 v3359), ∀ (k0_h1 : k0_cond1 i k0_t2 = 1#1), ∀ a x, ((![v3359, v3347] : Fin 2 → IVec S16 32) a x).toNat < S160x142.size a := fun i k0_t2 v3347 v3359 k0_hw1424 k0_h1 => k0_hw1424 k0_h1

def k0_chk1425 (i : grid0.Coords) (k0_t2 : Fin k0_t2_loop.trips) (v3347 : IVec S16 32) (v3362 : IVec S16 32) : Prop :=
  (∀ (k0_h1 : k0_cond1 i k0_t2 = 1#1), ∀ a x, ((![v3362, v3347] : Fin 2 → IVec S16 32) a x).toNat < S160x142.size a)
theorem k0_idx2416_inb : ∀ (i : grid0.Coords) (k0_t2 : Fin k0_t2_loop.trips) (v3347 : IVec S16 32) (v3362 : IVec S16 32) (k0_hw1425 : k0_chk1425 i k0_t2 v3347 v3362), ∀ (k0_h1 : k0_cond1 i k0_t2 = 1#1), ∀ a x, ((![v3362, v3347] : Fin 2 → IVec S16 32) a x).toNat < S160x142.size a := fun i k0_t2 v3347 v3362 k0_hw1425 k0_h1 => k0_hw1425 k0_h1

def k0_chk1426 (i : grid0.Coords) (k0_t2 : Fin k0_t2_loop.trips) (v3347 : IVec S16 32) (v3365 : IVec S16 32) : Prop :=
  (∀ (k0_h1 : k0_cond1 i k0_t2 = 1#1), ∀ a x, ((![v3365, v3347] : Fin 2 → IVec S16 32) a x).toNat < S160x142.size a)
theorem k0_idx2418_inb : ∀ (i : grid0.Coords) (k0_t2 : Fin k0_t2_loop.trips) (v3347 : IVec S16 32) (v3365 : IVec S16 32) (k0_hw1426 : k0_chk1426 i k0_t2 v3347 v3365), ∀ (k0_h1 : k0_cond1 i k0_t2 = 1#1), ∀ a x, ((![v3365, v3347] : Fin 2 → IVec S16 32) a x).toNat < S160x142.size a := fun i k0_t2 v3347 v3365 k0_hw1426 k0_h1 => k0_hw1426 k0_h1

def k0_chk1427 (i : grid0.Coords) (k0_t2 : Fin k0_t2_loop.trips) (v3347 : IVec S16 32) (v3368 : IVec S16 32) : Prop :=
  (∀ (k0_h1 : k0_cond1 i k0_t2 = 1#1), ∀ a x, ((![v3368, v3347] : Fin 2 → IVec S16 32) a x).toNat < S160x142.size a)
theorem k0_idx2420_inb : ∀ (i : grid0.Coords) (k0_t2 : Fin k0_t2_loop.trips) (v3347 : IVec S16 32) (v3368 : IVec S16 32) (k0_hw1427 : k0_chk1427 i k0_t2 v3347 v3368), ∀ (k0_h1 : k0_cond1 i k0_t2 = 1#1), ∀ a x, ((![v3368, v3347] : Fin 2 → IVec S16 32) a x).toNat < S160x142.size a := fun i k0_t2 v3347 v3368 k0_hw1427 k0_h1 => k0_hw1427 k0_h1

def k0_chk1428 (i : grid0.Coords) (k0_t2 : Fin k0_t2_loop.trips) (v3347 : IVec S16 32) (v3371 : IVec S16 32) : Prop :=
  (∀ (k0_h1 : k0_cond1 i k0_t2 = 1#1), ∀ a x, ((![v3371, v3347] : Fin 2 → IVec S16 32) a x).toNat < S160x142.size a)
theorem k0_idx2422_inb : ∀ (i : grid0.Coords) (k0_t2 : Fin k0_t2_loop.trips) (v3347 : IVec S16 32) (v3371 : IVec S16 32) (k0_hw1428 : k0_chk1428 i k0_t2 v3347 v3371), ∀ (k0_h1 : k0_cond1 i k0_t2 = 1#1), ∀ a x, ((![v3371, v3347] : Fin 2 → IVec S16 32) a x).toNat < S160x142.size a := fun i k0_t2 v3347 v3371 k0_hw1428 k0_h1 => k0_hw1428 k0_h1

def k0_chk1429 (i : grid0.Coords) (k0_t2 : Fin k0_t2_loop.trips) (v3347 : IVec S16 32) (v3374 : IVec S16 32) : Prop :=
  (∀ (k0_h1 : k0_cond1 i k0_t2 = 1#1), ∀ a x, ((![v3374, v3347] : Fin 2 → IVec S16 32) a x).toNat < S160x142.size a)
theorem k0_idx2424_inb : ∀ (i : grid0.Coords) (k0_t2 : Fin k0_t2_loop.trips) (v3347 : IVec S16 32) (v3374 : IVec S16 32) (k0_hw1429 : k0_chk1429 i k0_t2 v3347 v3374), ∀ (k0_h1 : k0_cond1 i k0_t2 = 1#1), ∀ a x, ((![v3374, v3347] : Fin 2 → IVec S16 32) a x).toNat < S160x142.size a := fun i k0_t2 v3347 v3374 k0_hw1429 k0_h1 => k0_hw1429 k0_h1

def k0_chk1420 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) : Prop :=
  (∀ (k0_h1 : k0_cond1 i k0_t2 = 1#1), ∀ a x, ((![v15, v3347] : Fin 2 → IVec S16 32) a x).toNat < S256x142.size a) ∧
  (∀ (k0_h1 : k0_cond1 i k0_t2 = 1#1), ∀ a x, ((![v20, v3347] : Fin 2 → IVec S16 32) a x).toNat < S256x142.size a) ∧
  (∀ (k0_h1 : k0_cond1 i k0_t2 = 1#1), ∀ a x, ((![v25, v3347] : Fin 2 → IVec S16 32) a x).toNat < S256x142.size a) ∧
  (∀ (k0_h1 : k0_cond1 i k0_t2 = 1#1), ∀ a x, ((![v30, v3347] : Fin 2 → IVec S16 32) a x).toNat < S256x142.size a) ∧
  (∀ (k0_h1 : k0_cond1 i k0_t2 = 1#1), ∀ a x, ((![v35, v3347] : Fin 2 → IVec S16 32) a x).toNat < S256x142.size a) ∧
  (∀ (k0_h1 : k0_cond1 i k0_t2 = 1#1), ∀ a x, ((![v40, v3347] : Fin 2 → IVec S16 32) a x).toNat < S256x142.size a) ∧
  (∀ (k0_h1 : k0_cond1 i k0_t2 = 1#1), ∀ a x, ((![v45, v3347] : Fin 2 → IVec S16 32) a x).toNat < S256x142.size a) ∧
  (∀ (k0_h1 : k0_cond1 i k0_t2 = 1#1), ∀ a x, ((![v50, v3347] : Fin 2 → IVec S16 32) a x).toNat < S256x142.size a) ∧
  (∀ (k0_h1 : k0_cond1 i k0_t2 = 1#1), ∀ a x, ((![v55, v3347] : Fin 2 → IVec S16 32) a x).toNat < S256x142.size a) ∧
  (∀ (k0_h1 : k0_cond1 i k0_t2 = 1#1), ∀ a x, ((![v60, v3347] : Fin 2 → IVec S16 32) a x).toNat < S256x142.size a)
theorem k0_idx2407_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v15, v3347] : Fin 2 → IVec S16 32) a x).toNat < S256x142.size a := fun i k0_t2 v15 v20 v25 v30 v35 v40 v45 v50 v55 v60 v3347 k0_hw1420 k0_h1 => k0_hw1420.1 k0_h1
theorem k0_idx2409_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v20, v3347] : Fin 2 → IVec S16 32) a x).toNat < S256x142.size a := fun i k0_t2 v15 v20 v25 v30 v35 v40 v45 v50 v55 v60 v3347 k0_hw1420 k0_h1 => k0_hw1420.2.1 k0_h1
theorem k0_idx2411_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v25, v3347] : Fin 2 → IVec S16 32) a x).toNat < S256x142.size a := fun i k0_t2 v15 v20 v25 v30 v35 v40 v45 v50 v55 v60 v3347 k0_hw1420 k0_h1 => k0_hw1420.2.2.1 k0_h1
theorem k0_idx2413_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v30, v3347] : Fin 2 → IVec S16 32) a x).toNat < S256x142.size a := fun i k0_t2 v15 v20 v25 v30 v35 v40 v45 v50 v55 v60 v3347 k0_hw1420 k0_h1 => k0_hw1420.2.2.2.1 k0_h1
theorem k0_idx2415_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v35, v3347] : Fin 2 → IVec S16 32) a x).toNat < S256x142.size a := fun i k0_t2 v15 v20 v25 v30 v35 v40 v45 v50 v55 v60 v3347 k0_hw1420 k0_h1 => k0_hw1420.2.2.2.2.1 k0_h1
theorem k0_idx2417_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v40, v3347] : Fin 2 → IVec S16 32) a x).toNat < S256x142.size a := fun i k0_t2 v15 v20 v25 v30 v35 v40 v45 v50 v55 v60 v3347 k0_hw1420 k0_h1 => k0_hw1420.2.2.2.2.2.1 k0_h1
theorem k0_idx2419_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v45, v3347] : Fin 2 → IVec S16 32) a x).toNat < S256x142.size a := fun i k0_t2 v15 v20 v25 v30 v35 v40 v45 v50 v55 v60 v3347 k0_hw1420 k0_h1 => k0_hw1420.2.2.2.2.2.2.1 k0_h1
theorem k0_idx2421_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v50, v3347] : Fin 2 → IVec S16 32) a x).toNat < S256x142.size a := fun i k0_t2 v15 v20 v25 v30 v35 v40 v45 v50 v55 v60 v3347 k0_hw1420 k0_h1 => k0_hw1420.2.2.2.2.2.2.2.1 k0_h1
theorem k0_idx2423_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v55, v3347] : Fin 2 → IVec S16 32) a x).toNat < S256x142.size a := fun i k0_t2 v15 v20 v25 v30 v35 v40 v45 v50 v55 v60 v3347 k0_hw1420 k0_h1 => k0_hw1420.2.2.2.2.2.2.2.2.1 k0_h1
theorem k0_idx2425_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3347 : IVec S16 32) (k0_hw1420 : k0_chk1420 i k0_t2 v15 v20 v25 v30 v35 v40 v45 v50 v55 v60 v3347), ∀ (k0_h1 : k0_cond1 i k0_t2 = 1#1), ∀ a x, ((![v60, v3347] : Fin 2 → IVec S16 32) a x).toNat < S256x142.size a := fun i k0_t2 v15 v20 v25 v30 v35 v40 v45 v50 v55 v60 v3347 k0_hw1420 k0_h1 => k0_hw1420.2.2.2.2.2.2.2.2.2 k0_h1

def k0_chk1430 (i : grid0.Coords) (k0_t2 : Fin k0_t2_loop.trips) (v3347 : IVec S16 32) (v3377 : IVec S16 32) : Prop :=
  (∀ (k0_h1 : k0_cond1 i k0_t2 = 1#1), ∀ a x, ((![v3377, v3347] : Fin 2 → IVec S16 32) a x).toNat < S160x142.size a)
theorem k0_idx2426_inb : ∀ (i : grid0.Coords) (k0_t2 : Fin k0_t2_loop.trips) (v3347 : IVec S16 32) (v3377 : IVec S16 32) (k0_hw1430 : k0_chk1430 i k0_t2 v3347 v3377), ∀ (k0_h1 : k0_cond1 i k0_t2 = 1#1), ∀ a x, ((![v3377, v3347] : Fin 2 → IVec S16 32) a x).toNat < S160x142.size a := fun i k0_t2 v3347 v3377 k0_hw1430 k0_h1 => k0_hw1430 k0_h1

def k0_chk1432 (i : grid0.Coords) (k0_t2 : Fin k0_t2_loop.trips) (v3378 : IVec S16 32) (v3381 : IVec S16 32) : Prop :=
  (∀ (k0_h1 : k0_cond1 i k0_t2 = 1#1), ∀ a x, ((![v3381, v3378] : Fin 2 → IVec S16 32) a x).toNat < S160x142.size a)
theorem k0_idx2428_inb : ∀ (i : grid0.Coords) (k0_t2 : Fin k0_t2_loop.trips) (v3378 : IVec S16 32) (v3381 : IVec S16 32) (k0_hw1432 : k0_chk1432 i k0_t2 v3378 v3381), ∀ (k0_h1 : k0_cond1 i k0_t2 = 1#1), ∀ a x, ((![v3381, v3378] : Fin 2 → IVec S16 32) a x).toNat < S160x142.size a := fun i k0_t2 v3378 v3381 k0_hw1432 k0_h1 => k0_hw1432 k0_h1

def k0_chk1433 (i : grid0.Coords) (k0_t2 : Fin k0_t2_loop.trips) (v3378 : IVec S16 32) (v3384 : IVec S16 32) : Prop :=
  (∀ (k0_h1 : k0_cond1 i k0_t2 = 1#1), ∀ a x, ((![v3384, v3378] : Fin 2 → IVec S16 32) a x).toNat < S160x142.size a)
theorem k0_idx2430_inb : ∀ (i : grid0.Coords) (k0_t2 : Fin k0_t2_loop.trips) (v3378 : IVec S16 32) (v3384 : IVec S16 32) (k0_hw1433 : k0_chk1433 i k0_t2 v3378 v3384), ∀ (k0_h1 : k0_cond1 i k0_t2 = 1#1), ∀ a x, ((![v3384, v3378] : Fin 2 → IVec S16 32) a x).toNat < S160x142.size a := fun i k0_t2 v3378 v3384 k0_hw1433 k0_h1 => k0_hw1433 k0_h1

def k0_chk1434 (i : grid0.Coords) (k0_t2 : Fin k0_t2_loop.trips) (v3378 : IVec S16 32) (v3387 : IVec S16 32) : Prop :=
  (∀ (k0_h1 : k0_cond1 i k0_t2 = 1#1), ∀ a x, ((![v3387, v3378] : Fin 2 → IVec S16 32) a x).toNat < S160x142.size a)
theorem k0_idx2432_inb : ∀ (i : grid0.Coords) (k0_t2 : Fin k0_t2_loop.trips) (v3378 : IVec S16 32) (v3387 : IVec S16 32) (k0_hw1434 : k0_chk1434 i k0_t2 v3378 v3387), ∀ (k0_h1 : k0_cond1 i k0_t2 = 1#1), ∀ a x, ((![v3387, v3378] : Fin 2 → IVec S16 32) a x).toNat < S160x142.size a := fun i k0_t2 v3378 v3387 k0_hw1434 k0_h1 => k0_hw1434 k0_h1

def k0_chk1435 (i : grid0.Coords) (k0_t2 : Fin k0_t2_loop.trips) (v3378 : IVec S16 32) (v3390 : IVec S16 32) : Prop :=
  (∀ (k0_h1 : k0_cond1 i k0_t2 = 1#1), ∀ a x, ((![v3390, v3378] : Fin 2 → IVec S16 32) a x).toNat < S160x142.size a)
theorem k0_idx2434_inb : ∀ (i : grid0.Coords) (k0_t2 : Fin k0_t2_loop.trips) (v3378 : IVec S16 32) (v3390 : IVec S16 32) (k0_hw1435 : k0_chk1435 i k0_t2 v3378 v3390), ∀ (k0_h1 : k0_cond1 i k0_t2 = 1#1), ∀ a x, ((![v3390, v3378] : Fin 2 → IVec S16 32) a x).toNat < S160x142.size a := fun i k0_t2 v3378 v3390 k0_hw1435 k0_h1 => k0_hw1435 k0_h1

def k0_chk1436 (i : grid0.Coords) (k0_t2 : Fin k0_t2_loop.trips) (v3378 : IVec S16 32) (v3393 : IVec S16 32) : Prop :=
  (∀ (k0_h1 : k0_cond1 i k0_t2 = 1#1), ∀ a x, ((![v3393, v3378] : Fin 2 → IVec S16 32) a x).toNat < S160x142.size a)
theorem k0_idx2436_inb : ∀ (i : grid0.Coords) (k0_t2 : Fin k0_t2_loop.trips) (v3378 : IVec S16 32) (v3393 : IVec S16 32) (k0_hw1436 : k0_chk1436 i k0_t2 v3378 v3393), ∀ (k0_h1 : k0_cond1 i k0_t2 = 1#1), ∀ a x, ((![v3393, v3378] : Fin 2 → IVec S16 32) a x).toNat < S160x142.size a := fun i k0_t2 v3378 v3393 k0_hw1436 k0_h1 => k0_hw1436 k0_h1

def k0_chk1437 (i : grid0.Coords) (k0_t2 : Fin k0_t2_loop.trips) (v3378 : IVec S16 32) (v3396 : IVec S16 32) : Prop :=
  (∀ (k0_h1 : k0_cond1 i k0_t2 = 1#1), ∀ a x, ((![v3396, v3378] : Fin 2 → IVec S16 32) a x).toNat < S160x142.size a)
theorem k0_idx2438_inb : ∀ (i : grid0.Coords) (k0_t2 : Fin k0_t2_loop.trips) (v3378 : IVec S16 32) (v3396 : IVec S16 32) (k0_hw1437 : k0_chk1437 i k0_t2 v3378 v3396), ∀ (k0_h1 : k0_cond1 i k0_t2 = 1#1), ∀ a x, ((![v3396, v3378] : Fin 2 → IVec S16 32) a x).toNat < S160x142.size a := fun i k0_t2 v3378 v3396 k0_hw1437 k0_h1 => k0_hw1437 k0_h1

def k0_chk1438 (i : grid0.Coords) (k0_t2 : Fin k0_t2_loop.trips) (v3378 : IVec S16 32) (v3399 : IVec S16 32) : Prop :=
  (∀ (k0_h1 : k0_cond1 i k0_t2 = 1#1), ∀ a x, ((![v3399, v3378] : Fin 2 → IVec S16 32) a x).toNat < S160x142.size a)
theorem k0_idx2440_inb : ∀ (i : grid0.Coords) (k0_t2 : Fin k0_t2_loop.trips) (v3378 : IVec S16 32) (v3399 : IVec S16 32) (k0_hw1438 : k0_chk1438 i k0_t2 v3378 v3399), ∀ (k0_h1 : k0_cond1 i k0_t2 = 1#1), ∀ a x, ((![v3399, v3378] : Fin 2 → IVec S16 32) a x).toNat < S160x142.size a := fun i k0_t2 v3378 v3399 k0_hw1438 k0_h1 => k0_hw1438 k0_h1

def k0_chk1439 (i : grid0.Coords) (k0_t2 : Fin k0_t2_loop.trips) (v3378 : IVec S16 32) (v3402 : IVec S16 32) : Prop :=
  (∀ (k0_h1 : k0_cond1 i k0_t2 = 1#1), ∀ a x, ((![v3402, v3378] : Fin 2 → IVec S16 32) a x).toNat < S160x142.size a)
theorem k0_idx2442_inb : ∀ (i : grid0.Coords) (k0_t2 : Fin k0_t2_loop.trips) (v3378 : IVec S16 32) (v3402 : IVec S16 32) (k0_hw1439 : k0_chk1439 i k0_t2 v3378 v3402), ∀ (k0_h1 : k0_cond1 i k0_t2 = 1#1), ∀ a x, ((![v3402, v3378] : Fin 2 → IVec S16 32) a x).toNat < S160x142.size a := fun i k0_t2 v3378 v3402 k0_hw1439 k0_h1 => k0_hw1439 k0_h1

def k0_chk1440 (i : grid0.Coords) (k0_t2 : Fin k0_t2_loop.trips) (v3378 : IVec S16 32) (v3405 : IVec S16 32) : Prop :=
  (∀ (k0_h1 : k0_cond1 i k0_t2 = 1#1), ∀ a x, ((![v3405, v3378] : Fin 2 → IVec S16 32) a x).toNat < S160x142.size a)
theorem k0_idx2444_inb : ∀ (i : grid0.Coords) (k0_t2 : Fin k0_t2_loop.trips) (v3378 : IVec S16 32) (v3405 : IVec S16 32) (k0_hw1440 : k0_chk1440 i k0_t2 v3378 v3405), ∀ (k0_h1 : k0_cond1 i k0_t2 = 1#1), ∀ a x, ((![v3405, v3378] : Fin 2 → IVec S16 32) a x).toNat < S160x142.size a := fun i k0_t2 v3378 v3405 k0_hw1440 k0_h1 => k0_hw1440 k0_h1

def k0_chk1431 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) : Prop :=
  (∀ (k0_h1 : k0_cond1 i k0_t2 = 1#1), ∀ a x, ((![v15, v3378] : Fin 2 → IVec S16 32) a x).toNat < S256x142.size a) ∧
  (∀ (k0_h1 : k0_cond1 i k0_t2 = 1#1), ∀ a x, ((![v20, v3378] : Fin 2 → IVec S16 32) a x).toNat < S256x142.size a) ∧
  (∀ (k0_h1 : k0_cond1 i k0_t2 = 1#1), ∀ a x, ((![v25, v3378] : Fin 2 → IVec S16 32) a x).toNat < S256x142.size a) ∧
  (∀ (k0_h1 : k0_cond1 i k0_t2 = 1#1), ∀ a x, ((![v30, v3378] : Fin 2 → IVec S16 32) a x).toNat < S256x142.size a) ∧
  (∀ (k0_h1 : k0_cond1 i k0_t2 = 1#1), ∀ a x, ((![v35, v3378] : Fin 2 → IVec S16 32) a x).toNat < S256x142.size a) ∧
  (∀ (k0_h1 : k0_cond1 i k0_t2 = 1#1), ∀ a x, ((![v40, v3378] : Fin 2 → IVec S16 32) a x).toNat < S256x142.size a) ∧
  (∀ (k0_h1 : k0_cond1 i k0_t2 = 1#1), ∀ a x, ((![v45, v3378] : Fin 2 → IVec S16 32) a x).toNat < S256x142.size a) ∧
  (∀ (k0_h1 : k0_cond1 i k0_t2 = 1#1), ∀ a x, ((![v50, v3378] : Fin 2 → IVec S16 32) a x).toNat < S256x142.size a) ∧
  (∀ (k0_h1 : k0_cond1 i k0_t2 = 1#1), ∀ a x, ((![v55, v3378] : Fin 2 → IVec S16 32) a x).toNat < S256x142.size a) ∧
  (∀ (k0_h1 : k0_cond1 i k0_t2 = 1#1), ∀ a x, ((![v60, v3378] : Fin 2 → IVec S16 32) a x).toNat < S256x142.size a)
theorem k0_idx2427_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v15, v3378] : Fin 2 → IVec S16 32) a x).toNat < S256x142.size a := fun i k0_t2 v15 v20 v25 v30 v35 v40 v45 v50 v55 v60 v3378 k0_hw1431 k0_h1 => k0_hw1431.1 k0_h1
theorem k0_idx2429_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v20, v3378] : Fin 2 → IVec S16 32) a x).toNat < S256x142.size a := fun i k0_t2 v15 v20 v25 v30 v35 v40 v45 v50 v55 v60 v3378 k0_hw1431 k0_h1 => k0_hw1431.2.1 k0_h1
theorem k0_idx2431_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v25, v3378] : Fin 2 → IVec S16 32) a x).toNat < S256x142.size a := fun i k0_t2 v15 v20 v25 v30 v35 v40 v45 v50 v55 v60 v3378 k0_hw1431 k0_h1 => k0_hw1431.2.2.1 k0_h1
theorem k0_idx2433_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v30, v3378] : Fin 2 → IVec S16 32) a x).toNat < S256x142.size a := fun i k0_t2 v15 v20 v25 v30 v35 v40 v45 v50 v55 v60 v3378 k0_hw1431 k0_h1 => k0_hw1431.2.2.2.1 k0_h1
theorem k0_idx2435_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v35, v3378] : Fin 2 → IVec S16 32) a x).toNat < S256x142.size a := fun i k0_t2 v15 v20 v25 v30 v35 v40 v45 v50 v55 v60 v3378 k0_hw1431 k0_h1 => k0_hw1431.2.2.2.2.1 k0_h1
theorem k0_idx2437_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v40, v3378] : Fin 2 → IVec S16 32) a x).toNat < S256x142.size a := fun i k0_t2 v15 v20 v25 v30 v35 v40 v45 v50 v55 v60 v3378 k0_hw1431 k0_h1 => k0_hw1431.2.2.2.2.2.1 k0_h1
theorem k0_idx2439_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v45, v3378] : Fin 2 → IVec S16 32) a x).toNat < S256x142.size a := fun i k0_t2 v15 v20 v25 v30 v35 v40 v45 v50 v55 v60 v3378 k0_hw1431 k0_h1 => k0_hw1431.2.2.2.2.2.2.1 k0_h1
theorem k0_idx2441_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v50, v3378] : Fin 2 → IVec S16 32) a x).toNat < S256x142.size a := fun i k0_t2 v15 v20 v25 v30 v35 v40 v45 v50 v55 v60 v3378 k0_hw1431 k0_h1 => k0_hw1431.2.2.2.2.2.2.2.1 k0_h1
theorem k0_idx2443_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v55, v3378] : Fin 2 → IVec S16 32) a x).toNat < S256x142.size a := fun i k0_t2 v15 v20 v25 v30 v35 v40 v45 v50 v55 v60 v3378 k0_hw1431 k0_h1 => k0_hw1431.2.2.2.2.2.2.2.2.1 k0_h1
theorem k0_idx2445_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3378 : IVec S16 32) (k0_hw1431 : k0_chk1431 i k0_t2 v15 v20 v25 v30 v35 v40 v45 v50 v55 v60 v3378), ∀ (k0_h1 : k0_cond1 i k0_t2 = 1#1), ∀ a x, ((![v60, v3378] : Fin 2 → IVec S16 32) a x).toNat < S256x142.size a := fun i k0_t2 v15 v20 v25 v30 v35 v40 v45 v50 v55 v60 v3378 k0_hw1431 k0_h1 => k0_hw1431.2.2.2.2.2.2.2.2.2 k0_h1

def k0_chk1441 (i : grid0.Coords) (k0_t2 : Fin k0_t2_loop.trips) (v3378 : IVec S16 32) (v3408 : IVec S16 32) : Prop :=
  (∀ (k0_h1 : k0_cond1 i k0_t2 = 1#1), ∀ a x, ((![v3408, v3378] : Fin 2 → IVec S16 32) a x).toNat < S160x142.size a)
theorem k0_idx2446_inb : ∀ (i : grid0.Coords) (k0_t2 : Fin k0_t2_loop.trips) (v3378 : IVec S16 32) (v3408 : IVec S16 32) (k0_hw1441 : k0_chk1441 i k0_t2 v3378 v3408), ∀ (k0_h1 : k0_cond1 i k0_t2 = 1#1), ∀ a x, ((![v3408, v3378] : Fin 2 → IVec S16 32) a x).toNat < S160x142.size a := fun i k0_t2 v3378 v3408 k0_hw1441 k0_h1 => k0_hw1441 k0_h1

def k0_chk1443 (i : grid0.Coords) (k0_t2 : Fin k0_t2_loop.trips) (v3409 : IVec S16 32) (v3412 : IVec S16 32) : Prop :=
  (∀ (k0_h1 : k0_cond1 i k0_t2 = 1#1), ∀ a x, ((![v3412, v3409] : Fin 2 → IVec S16 32) a x).toNat < S160x142.size a)
theorem k0_idx2448_inb : ∀ (i : grid0.Coords) (k0_t2 : Fin k0_t2_loop.trips) (v3409 : IVec S16 32) (v3412 : IVec S16 32) (k0_hw1443 : k0_chk1443 i k0_t2 v3409 v3412), ∀ (k0_h1 : k0_cond1 i k0_t2 = 1#1), ∀ a x, ((![v3412, v3409] : Fin 2 → IVec S16 32) a x).toNat < S160x142.size a := fun i k0_t2 v3409 v3412 k0_hw1443 k0_h1 => k0_hw1443 k0_h1

def k0_chk1444 (i : grid0.Coords) (k0_t2 : Fin k0_t2_loop.trips) (v3409 : IVec S16 32) (v3415 : IVec S16 32) : Prop :=
  (∀ (k0_h1 : k0_cond1 i k0_t2 = 1#1), ∀ a x, ((![v3415, v3409] : Fin 2 → IVec S16 32) a x).toNat < S160x142.size a)
theorem k0_idx2450_inb : ∀ (i : grid0.Coords) (k0_t2 : Fin k0_t2_loop.trips) (v3409 : IVec S16 32) (v3415 : IVec S16 32) (k0_hw1444 : k0_chk1444 i k0_t2 v3409 v3415), ∀ (k0_h1 : k0_cond1 i k0_t2 = 1#1), ∀ a x, ((![v3415, v3409] : Fin 2 → IVec S16 32) a x).toNat < S160x142.size a := fun i k0_t2 v3409 v3415 k0_hw1444 k0_h1 => k0_hw1444 k0_h1

def k0_chk1445 (i : grid0.Coords) (k0_t2 : Fin k0_t2_loop.trips) (v3409 : IVec S16 32) (v3418 : IVec S16 32) : Prop :=
  (∀ (k0_h1 : k0_cond1 i k0_t2 = 1#1), ∀ a x, ((![v3418, v3409] : Fin 2 → IVec S16 32) a x).toNat < S160x142.size a)
theorem k0_idx2452_inb : ∀ (i : grid0.Coords) (k0_t2 : Fin k0_t2_loop.trips) (v3409 : IVec S16 32) (v3418 : IVec S16 32) (k0_hw1445 : k0_chk1445 i k0_t2 v3409 v3418), ∀ (k0_h1 : k0_cond1 i k0_t2 = 1#1), ∀ a x, ((![v3418, v3409] : Fin 2 → IVec S16 32) a x).toNat < S160x142.size a := fun i k0_t2 v3409 v3418 k0_hw1445 k0_h1 => k0_hw1445 k0_h1

def k0_chk1446 (i : grid0.Coords) (k0_t2 : Fin k0_t2_loop.trips) (v3409 : IVec S16 32) (v3421 : IVec S16 32) : Prop :=
  (∀ (k0_h1 : k0_cond1 i k0_t2 = 1#1), ∀ a x, ((![v3421, v3409] : Fin 2 → IVec S16 32) a x).toNat < S160x142.size a)
theorem k0_idx2454_inb : ∀ (i : grid0.Coords) (k0_t2 : Fin k0_t2_loop.trips) (v3409 : IVec S16 32) (v3421 : IVec S16 32) (k0_hw1446 : k0_chk1446 i k0_t2 v3409 v3421), ∀ (k0_h1 : k0_cond1 i k0_t2 = 1#1), ∀ a x, ((![v3421, v3409] : Fin 2 → IVec S16 32) a x).toNat < S160x142.size a := fun i k0_t2 v3409 v3421 k0_hw1446 k0_h1 => k0_hw1446 k0_h1

def k0_chk1447 (i : grid0.Coords) (k0_t2 : Fin k0_t2_loop.trips) (v3409 : IVec S16 32) (v3424 : IVec S16 32) : Prop :=
  (∀ (k0_h1 : k0_cond1 i k0_t2 = 1#1), ∀ a x, ((![v3424, v3409] : Fin 2 → IVec S16 32) a x).toNat < S160x142.size a)
theorem k0_idx2456_inb : ∀ (i : grid0.Coords) (k0_t2 : Fin k0_t2_loop.trips) (v3409 : IVec S16 32) (v3424 : IVec S16 32) (k0_hw1447 : k0_chk1447 i k0_t2 v3409 v3424), ∀ (k0_h1 : k0_cond1 i k0_t2 = 1#1), ∀ a x, ((![v3424, v3409] : Fin 2 → IVec S16 32) a x).toNat < S160x142.size a := fun i k0_t2 v3409 v3424 k0_hw1447 k0_h1 => k0_hw1447 k0_h1

def k0_chk1448 (i : grid0.Coords) (k0_t2 : Fin k0_t2_loop.trips) (v3409 : IVec S16 32) (v3427 : IVec S16 32) : Prop :=
  (∀ (k0_h1 : k0_cond1 i k0_t2 = 1#1), ∀ a x, ((![v3427, v3409] : Fin 2 → IVec S16 32) a x).toNat < S160x142.size a)
theorem k0_idx2458_inb : ∀ (i : grid0.Coords) (k0_t2 : Fin k0_t2_loop.trips) (v3409 : IVec S16 32) (v3427 : IVec S16 32) (k0_hw1448 : k0_chk1448 i k0_t2 v3409 v3427), ∀ (k0_h1 : k0_cond1 i k0_t2 = 1#1), ∀ a x, ((![v3427, v3409] : Fin 2 → IVec S16 32) a x).toNat < S160x142.size a := fun i k0_t2 v3409 v3427 k0_hw1448 k0_h1 => k0_hw1448 k0_h1

def k0_chk1449 (i : grid0.Coords) (k0_t2 : Fin k0_t2_loop.trips) (v3409 : IVec S16 32) (v3430 : IVec S16 32) : Prop :=
  (∀ (k0_h1 : k0_cond1 i k0_t2 = 1#1), ∀ a x, ((![v3430, v3409] : Fin 2 → IVec S16 32) a x).toNat < S160x142.size a)
theorem k0_idx2460_inb : ∀ (i : grid0.Coords) (k0_t2 : Fin k0_t2_loop.trips) (v3409 : IVec S16 32) (v3430 : IVec S16 32) (k0_hw1449 : k0_chk1449 i k0_t2 v3409 v3430), ∀ (k0_h1 : k0_cond1 i k0_t2 = 1#1), ∀ a x, ((![v3430, v3409] : Fin 2 → IVec S16 32) a x).toNat < S160x142.size a := fun i k0_t2 v3409 v3430 k0_hw1449 k0_h1 => k0_hw1449 k0_h1

def k0_chk1450 (i : grid0.Coords) (k0_t2 : Fin k0_t2_loop.trips) (v3409 : IVec S16 32) (v3433 : IVec S16 32) : Prop :=
  (∀ (k0_h1 : k0_cond1 i k0_t2 = 1#1), ∀ a x, ((![v3433, v3409] : Fin 2 → IVec S16 32) a x).toNat < S160x142.size a)
theorem k0_idx2462_inb : ∀ (i : grid0.Coords) (k0_t2 : Fin k0_t2_loop.trips) (v3409 : IVec S16 32) (v3433 : IVec S16 32) (k0_hw1450 : k0_chk1450 i k0_t2 v3409 v3433), ∀ (k0_h1 : k0_cond1 i k0_t2 = 1#1), ∀ a x, ((![v3433, v3409] : Fin 2 → IVec S16 32) a x).toNat < S160x142.size a := fun i k0_t2 v3409 v3433 k0_hw1450 k0_h1 => k0_hw1450 k0_h1

def k0_chk1451 (i : grid0.Coords) (k0_t2 : Fin k0_t2_loop.trips) (v3409 : IVec S16 32) (v3436 : IVec S16 32) : Prop :=
  (∀ (k0_h1 : k0_cond1 i k0_t2 = 1#1), ∀ a x, ((![v3436, v3409] : Fin 2 → IVec S16 32) a x).toNat < S160x142.size a)
theorem k0_idx2464_inb : ∀ (i : grid0.Coords) (k0_t2 : Fin k0_t2_loop.trips) (v3409 : IVec S16 32) (v3436 : IVec S16 32) (k0_hw1451 : k0_chk1451 i k0_t2 v3409 v3436), ∀ (k0_h1 : k0_cond1 i k0_t2 = 1#1), ∀ a x, ((![v3436, v3409] : Fin 2 → IVec S16 32) a x).toNat < S160x142.size a := fun i k0_t2 v3409 v3436 k0_hw1451 k0_h1 => k0_hw1451 k0_h1

def k0_chk1442 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) : Prop :=
  (∀ (k0_h1 : k0_cond1 i k0_t2 = 1#1), ∀ a x, ((![v15, v3409] : Fin 2 → IVec S16 32) a x).toNat < S256x142.size a) ∧
  (∀ (k0_h1 : k0_cond1 i k0_t2 = 1#1), ∀ a x, ((![v20, v3409] : Fin 2 → IVec S16 32) a x).toNat < S256x142.size a) ∧
  (∀ (k0_h1 : k0_cond1 i k0_t2 = 1#1), ∀ a x, ((![v25, v3409] : Fin 2 → IVec S16 32) a x).toNat < S256x142.size a) ∧
  (∀ (k0_h1 : k0_cond1 i k0_t2 = 1#1), ∀ a x, ((![v30, v3409] : Fin 2 → IVec S16 32) a x).toNat < S256x142.size a) ∧
  (∀ (k0_h1 : k0_cond1 i k0_t2 = 1#1), ∀ a x, ((![v35, v3409] : Fin 2 → IVec S16 32) a x).toNat < S256x142.size a) ∧
  (∀ (k0_h1 : k0_cond1 i k0_t2 = 1#1), ∀ a x, ((![v40, v3409] : Fin 2 → IVec S16 32) a x).toNat < S256x142.size a) ∧
  (∀ (k0_h1 : k0_cond1 i k0_t2 = 1#1), ∀ a x, ((![v45, v3409] : Fin 2 → IVec S16 32) a x).toNat < S256x142.size a) ∧
  (∀ (k0_h1 : k0_cond1 i k0_t2 = 1#1), ∀ a x, ((![v50, v3409] : Fin 2 → IVec S16 32) a x).toNat < S256x142.size a) ∧
  (∀ (k0_h1 : k0_cond1 i k0_t2 = 1#1), ∀ a x, ((![v55, v3409] : Fin 2 → IVec S16 32) a x).toNat < S256x142.size a) ∧
  (∀ (k0_h1 : k0_cond1 i k0_t2 = 1#1), ∀ a x, ((![v60, v3409] : Fin 2 → IVec S16 32) a x).toNat < S256x142.size a)
theorem k0_idx2447_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v15, v3409] : Fin 2 → IVec S16 32) a x).toNat < S256x142.size a := fun i k0_t2 v15 v20 v25 v30 v35 v40 v45 v50 v55 v60 v3409 k0_hw1442 k0_h1 => k0_hw1442.1 k0_h1
theorem k0_idx2449_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v20, v3409] : Fin 2 → IVec S16 32) a x).toNat < S256x142.size a := fun i k0_t2 v15 v20 v25 v30 v35 v40 v45 v50 v55 v60 v3409 k0_hw1442 k0_h1 => k0_hw1442.2.1 k0_h1
theorem k0_idx2451_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v25, v3409] : Fin 2 → IVec S16 32) a x).toNat < S256x142.size a := fun i k0_t2 v15 v20 v25 v30 v35 v40 v45 v50 v55 v60 v3409 k0_hw1442 k0_h1 => k0_hw1442.2.2.1 k0_h1
theorem k0_idx2453_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v30, v3409] : Fin 2 → IVec S16 32) a x).toNat < S256x142.size a := fun i k0_t2 v15 v20 v25 v30 v35 v40 v45 v50 v55 v60 v3409 k0_hw1442 k0_h1 => k0_hw1442.2.2.2.1 k0_h1
theorem k0_idx2455_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v35, v3409] : Fin 2 → IVec S16 32) a x).toNat < S256x142.size a := fun i k0_t2 v15 v20 v25 v30 v35 v40 v45 v50 v55 v60 v3409 k0_hw1442 k0_h1 => k0_hw1442.2.2.2.2.1 k0_h1
theorem k0_idx2457_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v40, v3409] : Fin 2 → IVec S16 32) a x).toNat < S256x142.size a := fun i k0_t2 v15 v20 v25 v30 v35 v40 v45 v50 v55 v60 v3409 k0_hw1442 k0_h1 => k0_hw1442.2.2.2.2.2.1 k0_h1
theorem k0_idx2459_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v45, v3409] : Fin 2 → IVec S16 32) a x).toNat < S256x142.size a := fun i k0_t2 v15 v20 v25 v30 v35 v40 v45 v50 v55 v60 v3409 k0_hw1442 k0_h1 => k0_hw1442.2.2.2.2.2.2.1 k0_h1
theorem k0_idx2461_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v50, v3409] : Fin 2 → IVec S16 32) a x).toNat < S256x142.size a := fun i k0_t2 v15 v20 v25 v30 v35 v40 v45 v50 v55 v60 v3409 k0_hw1442 k0_h1 => k0_hw1442.2.2.2.2.2.2.2.1 k0_h1
theorem k0_idx2463_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v55, v3409] : Fin 2 → IVec S16 32) a x).toNat < S256x142.size a := fun i k0_t2 v15 v20 v25 v30 v35 v40 v45 v50 v55 v60 v3409 k0_hw1442 k0_h1 => k0_hw1442.2.2.2.2.2.2.2.2.1 k0_h1
theorem k0_idx2465_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3409 : IVec S16 32) (k0_hw1442 : k0_chk1442 i k0_t2 v15 v20 v25 v30 v35 v40 v45 v50 v55 v60 v3409), ∀ (k0_h1 : k0_cond1 i k0_t2 = 1#1), ∀ a x, ((![v60, v3409] : Fin 2 → IVec S16 32) a x).toNat < S256x142.size a := fun i k0_t2 v15 v20 v25 v30 v35 v40 v45 v50 v55 v60 v3409 k0_hw1442 k0_h1 => k0_hw1442.2.2.2.2.2.2.2.2.2 k0_h1

def k0_chk1452 (i : grid0.Coords) (k0_t2 : Fin k0_t2_loop.trips) (v3409 : IVec S16 32) (v3439 : IVec S16 32) : Prop :=
  (∀ (k0_h1 : k0_cond1 i k0_t2 = 1#1), ∀ a x, ((![v3439, v3409] : Fin 2 → IVec S16 32) a x).toNat < S160x142.size a)
theorem k0_idx2466_inb : ∀ (i : grid0.Coords) (k0_t2 : Fin k0_t2_loop.trips) (v3409 : IVec S16 32) (v3439 : IVec S16 32) (k0_hw1452 : k0_chk1452 i k0_t2 v3409 v3439), ∀ (k0_h1 : k0_cond1 i k0_t2 = 1#1), ∀ a x, ((![v3439, v3409] : Fin 2 → IVec S16 32) a x).toNat < S160x142.size a := fun i k0_t2 v3409 v3439 k0_hw1452 k0_h1 => k0_hw1452 k0_h1

def k0_chk1454 (i : grid0.Coords) (k0_t2 : Fin k0_t2_loop.trips) (v3440 : IVec S16 32) (v3443 : IVec S16 32) : Prop :=
  (∀ (k0_h1 : k0_cond1 i k0_t2 = 1#1), ∀ a x, ((![v3443, v3440] : Fin 2 → IVec S16 32) a x).toNat < S160x142.size a)
theorem k0_idx2468_inb : ∀ (i : grid0.Coords) (k0_t2 : Fin k0_t2_loop.trips) (v3440 : IVec S16 32) (v3443 : IVec S16 32) (k0_hw1454 : k0_chk1454 i k0_t2 v3440 v3443), ∀ (k0_h1 : k0_cond1 i k0_t2 = 1#1), ∀ a x, ((![v3443, v3440] : Fin 2 → IVec S16 32) a x).toNat < S160x142.size a := fun i k0_t2 v3440 v3443 k0_hw1454 k0_h1 => k0_hw1454 k0_h1

def k0_chk1455 (i : grid0.Coords) (k0_t2 : Fin k0_t2_loop.trips) (v3440 : IVec S16 32) (v3446 : IVec S16 32) : Prop :=
  (∀ (k0_h1 : k0_cond1 i k0_t2 = 1#1), ∀ a x, ((![v3446, v3440] : Fin 2 → IVec S16 32) a x).toNat < S160x142.size a)
theorem k0_idx2470_inb : ∀ (i : grid0.Coords) (k0_t2 : Fin k0_t2_loop.trips) (v3440 : IVec S16 32) (v3446 : IVec S16 32) (k0_hw1455 : k0_chk1455 i k0_t2 v3440 v3446), ∀ (k0_h1 : k0_cond1 i k0_t2 = 1#1), ∀ a x, ((![v3446, v3440] : Fin 2 → IVec S16 32) a x).toNat < S160x142.size a := fun i k0_t2 v3440 v3446 k0_hw1455 k0_h1 => k0_hw1455 k0_h1

def k0_chk1456 (i : grid0.Coords) (k0_t2 : Fin k0_t2_loop.trips) (v3440 : IVec S16 32) (v3449 : IVec S16 32) : Prop :=
  (∀ (k0_h1 : k0_cond1 i k0_t2 = 1#1), ∀ a x, ((![v3449, v3440] : Fin 2 → IVec S16 32) a x).toNat < S160x142.size a)
theorem k0_idx2472_inb : ∀ (i : grid0.Coords) (k0_t2 : Fin k0_t2_loop.trips) (v3440 : IVec S16 32) (v3449 : IVec S16 32) (k0_hw1456 : k0_chk1456 i k0_t2 v3440 v3449), ∀ (k0_h1 : k0_cond1 i k0_t2 = 1#1), ∀ a x, ((![v3449, v3440] : Fin 2 → IVec S16 32) a x).toNat < S160x142.size a := fun i k0_t2 v3440 v3449 k0_hw1456 k0_h1 => k0_hw1456 k0_h1

def k0_chk1457 (i : grid0.Coords) (k0_t2 : Fin k0_t2_loop.trips) (v3440 : IVec S16 32) (v3452 : IVec S16 32) : Prop :=
  (∀ (k0_h1 : k0_cond1 i k0_t2 = 1#1), ∀ a x, ((![v3452, v3440] : Fin 2 → IVec S16 32) a x).toNat < S160x142.size a)
theorem k0_idx2474_inb : ∀ (i : grid0.Coords) (k0_t2 : Fin k0_t2_loop.trips) (v3440 : IVec S16 32) (v3452 : IVec S16 32) (k0_hw1457 : k0_chk1457 i k0_t2 v3440 v3452), ∀ (k0_h1 : k0_cond1 i k0_t2 = 1#1), ∀ a x, ((![v3452, v3440] : Fin 2 → IVec S16 32) a x).toNat < S160x142.size a := fun i k0_t2 v3440 v3452 k0_hw1457 k0_h1 => k0_hw1457 k0_h1

def k0_chk1458 (i : grid0.Coords) (k0_t2 : Fin k0_t2_loop.trips) (v3440 : IVec S16 32) (v3455 : IVec S16 32) : Prop :=
  (∀ (k0_h1 : k0_cond1 i k0_t2 = 1#1), ∀ a x, ((![v3455, v3440] : Fin 2 → IVec S16 32) a x).toNat < S160x142.size a)
theorem k0_idx2476_inb : ∀ (i : grid0.Coords) (k0_t2 : Fin k0_t2_loop.trips) (v3440 : IVec S16 32) (v3455 : IVec S16 32) (k0_hw1458 : k0_chk1458 i k0_t2 v3440 v3455), ∀ (k0_h1 : k0_cond1 i k0_t2 = 1#1), ∀ a x, ((![v3455, v3440] : Fin 2 → IVec S16 32) a x).toNat < S160x142.size a := fun i k0_t2 v3440 v3455 k0_hw1458 k0_h1 => k0_hw1458 k0_h1

def k0_chk1459 (i : grid0.Coords) (k0_t2 : Fin k0_t2_loop.trips) (v3440 : IVec S16 32) (v3458 : IVec S16 32) : Prop :=
  (∀ (k0_h1 : k0_cond1 i k0_t2 = 1#1), ∀ a x, ((![v3458, v3440] : Fin 2 → IVec S16 32) a x).toNat < S160x142.size a)
theorem k0_idx2478_inb : ∀ (i : grid0.Coords) (k0_t2 : Fin k0_t2_loop.trips) (v3440 : IVec S16 32) (v3458 : IVec S16 32) (k0_hw1459 : k0_chk1459 i k0_t2 v3440 v3458), ∀ (k0_h1 : k0_cond1 i k0_t2 = 1#1), ∀ a x, ((![v3458, v3440] : Fin 2 → IVec S16 32) a x).toNat < S160x142.size a := fun i k0_t2 v3440 v3458 k0_hw1459 k0_h1 => k0_hw1459 k0_h1

def k0_chk1460 (i : grid0.Coords) (k0_t2 : Fin k0_t2_loop.trips) (v3440 : IVec S16 32) (v3461 : IVec S16 32) : Prop :=
  (∀ (k0_h1 : k0_cond1 i k0_t2 = 1#1), ∀ a x, ((![v3461, v3440] : Fin 2 → IVec S16 32) a x).toNat < S160x142.size a)
theorem k0_idx2480_inb : ∀ (i : grid0.Coords) (k0_t2 : Fin k0_t2_loop.trips) (v3440 : IVec S16 32) (v3461 : IVec S16 32) (k0_hw1460 : k0_chk1460 i k0_t2 v3440 v3461), ∀ (k0_h1 : k0_cond1 i k0_t2 = 1#1), ∀ a x, ((![v3461, v3440] : Fin 2 → IVec S16 32) a x).toNat < S160x142.size a := fun i k0_t2 v3440 v3461 k0_hw1460 k0_h1 => k0_hw1460 k0_h1

def k0_chk1461 (i : grid0.Coords) (k0_t2 : Fin k0_t2_loop.trips) (v3440 : IVec S16 32) (v3464 : IVec S16 32) : Prop :=
  (∀ (k0_h1 : k0_cond1 i k0_t2 = 1#1), ∀ a x, ((![v3464, v3440] : Fin 2 → IVec S16 32) a x).toNat < S160x142.size a)
theorem k0_idx2482_inb : ∀ (i : grid0.Coords) (k0_t2 : Fin k0_t2_loop.trips) (v3440 : IVec S16 32) (v3464 : IVec S16 32) (k0_hw1461 : k0_chk1461 i k0_t2 v3440 v3464), ∀ (k0_h1 : k0_cond1 i k0_t2 = 1#1), ∀ a x, ((![v3464, v3440] : Fin 2 → IVec S16 32) a x).toNat < S160x142.size a := fun i k0_t2 v3440 v3464 k0_hw1461 k0_h1 => k0_hw1461 k0_h1

def k0_chk1462 (i : grid0.Coords) (k0_t2 : Fin k0_t2_loop.trips) (v3440 : IVec S16 32) (v3467 : IVec S16 32) : Prop :=
  (∀ (k0_h1 : k0_cond1 i k0_t2 = 1#1), ∀ a x, ((![v3467, v3440] : Fin 2 → IVec S16 32) a x).toNat < S160x142.size a)
theorem k0_idx2484_inb : ∀ (i : grid0.Coords) (k0_t2 : Fin k0_t2_loop.trips) (v3440 : IVec S16 32) (v3467 : IVec S16 32) (k0_hw1462 : k0_chk1462 i k0_t2 v3440 v3467), ∀ (k0_h1 : k0_cond1 i k0_t2 = 1#1), ∀ a x, ((![v3467, v3440] : Fin 2 → IVec S16 32) a x).toNat < S160x142.size a := fun i k0_t2 v3440 v3467 k0_hw1462 k0_h1 => k0_hw1462 k0_h1

def k0_chk1453 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) : Prop :=
  (∀ (k0_h1 : k0_cond1 i k0_t2 = 1#1), ∀ a x, ((![v15, v3440] : Fin 2 → IVec S16 32) a x).toNat < S256x142.size a) ∧
  (∀ (k0_h1 : k0_cond1 i k0_t2 = 1#1), ∀ a x, ((![v20, v3440] : Fin 2 → IVec S16 32) a x).toNat < S256x142.size a) ∧
  (∀ (k0_h1 : k0_cond1 i k0_t2 = 1#1), ∀ a x, ((![v25, v3440] : Fin 2 → IVec S16 32) a x).toNat < S256x142.size a) ∧
  (∀ (k0_h1 : k0_cond1 i k0_t2 = 1#1), ∀ a x, ((![v30, v3440] : Fin 2 → IVec S16 32) a x).toNat < S256x142.size a) ∧
  (∀ (k0_h1 : k0_cond1 i k0_t2 = 1#1), ∀ a x, ((![v35, v3440] : Fin 2 → IVec S16 32) a x).toNat < S256x142.size a) ∧
  (∀ (k0_h1 : k0_cond1 i k0_t2 = 1#1), ∀ a x, ((![v40, v3440] : Fin 2 → IVec S16 32) a x).toNat < S256x142.size a) ∧
  (∀ (k0_h1 : k0_cond1 i k0_t2 = 1#1), ∀ a x, ((![v45, v3440] : Fin 2 → IVec S16 32) a x).toNat < S256x142.size a) ∧
  (∀ (k0_h1 : k0_cond1 i k0_t2 = 1#1), ∀ a x, ((![v50, v3440] : Fin 2 → IVec S16 32) a x).toNat < S256x142.size a) ∧
  (∀ (k0_h1 : k0_cond1 i k0_t2 = 1#1), ∀ a x, ((![v55, v3440] : Fin 2 → IVec S16 32) a x).toNat < S256x142.size a) ∧
  (∀ (k0_h1 : k0_cond1 i k0_t2 = 1#1), ∀ a x, ((![v60, v3440] : Fin 2 → IVec S16 32) a x).toNat < S256x142.size a)
theorem k0_idx2467_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v15, v3440] : Fin 2 → IVec S16 32) a x).toNat < S256x142.size a := fun i k0_t2 v15 v20 v25 v30 v35 v40 v45 v50 v55 v60 v3440 k0_hw1453 k0_h1 => k0_hw1453.1 k0_h1
theorem k0_idx2469_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v20, v3440] : Fin 2 → IVec S16 32) a x).toNat < S256x142.size a := fun i k0_t2 v15 v20 v25 v30 v35 v40 v45 v50 v55 v60 v3440 k0_hw1453 k0_h1 => k0_hw1453.2.1 k0_h1
theorem k0_idx2471_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v25, v3440] : Fin 2 → IVec S16 32) a x).toNat < S256x142.size a := fun i k0_t2 v15 v20 v25 v30 v35 v40 v45 v50 v55 v60 v3440 k0_hw1453 k0_h1 => k0_hw1453.2.2.1 k0_h1
theorem k0_idx2473_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v30, v3440] : Fin 2 → IVec S16 32) a x).toNat < S256x142.size a := fun i k0_t2 v15 v20 v25 v30 v35 v40 v45 v50 v55 v60 v3440 k0_hw1453 k0_h1 => k0_hw1453.2.2.2.1 k0_h1
theorem k0_idx2475_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v35, v3440] : Fin 2 → IVec S16 32) a x).toNat < S256x142.size a := fun i k0_t2 v15 v20 v25 v30 v35 v40 v45 v50 v55 v60 v3440 k0_hw1453 k0_h1 => k0_hw1453.2.2.2.2.1 k0_h1
theorem k0_idx2477_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v40, v3440] : Fin 2 → IVec S16 32) a x).toNat < S256x142.size a := fun i k0_t2 v15 v20 v25 v30 v35 v40 v45 v50 v55 v60 v3440 k0_hw1453 k0_h1 => k0_hw1453.2.2.2.2.2.1 k0_h1
theorem k0_idx2479_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v45, v3440] : Fin 2 → IVec S16 32) a x).toNat < S256x142.size a := fun i k0_t2 v15 v20 v25 v30 v35 v40 v45 v50 v55 v60 v3440 k0_hw1453 k0_h1 => k0_hw1453.2.2.2.2.2.2.1 k0_h1
theorem k0_idx2481_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v50, v3440] : Fin 2 → IVec S16 32) a x).toNat < S256x142.size a := fun i k0_t2 v15 v20 v25 v30 v35 v40 v45 v50 v55 v60 v3440 k0_hw1453 k0_h1 => k0_hw1453.2.2.2.2.2.2.2.1 k0_h1
theorem k0_idx2483_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v55, v3440] : Fin 2 → IVec S16 32) a x).toNat < S256x142.size a := fun i k0_t2 v15 v20 v25 v30 v35 v40 v45 v50 v55 v60 v3440 k0_hw1453 k0_h1 => k0_hw1453.2.2.2.2.2.2.2.2.1 k0_h1
theorem k0_idx2485_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3440 : IVec S16 32) (k0_hw1453 : k0_chk1453 i k0_t2 v15 v20 v25 v30 v35 v40 v45 v50 v55 v60 v3440), ∀ (k0_h1 : k0_cond1 i k0_t2 = 1#1), ∀ a x, ((![v60, v3440] : Fin 2 → IVec S16 32) a x).toNat < S256x142.size a := fun i k0_t2 v15 v20 v25 v30 v35 v40 v45 v50 v55 v60 v3440 k0_hw1453 k0_h1 => k0_hw1453.2.2.2.2.2.2.2.2.2 k0_h1

def k0_chk1463 (i : grid0.Coords) (k0_t2 : Fin k0_t2_loop.trips) (v3440 : IVec S16 32) (v3470 : IVec S16 32) : Prop :=
  (∀ (k0_h1 : k0_cond1 i k0_t2 = 1#1), ∀ a x, ((![v3470, v3440] : Fin 2 → IVec S16 32) a x).toNat < S160x142.size a)
theorem k0_idx2486_inb : ∀ (i : grid0.Coords) (k0_t2 : Fin k0_t2_loop.trips) (v3440 : IVec S16 32) (v3470 : IVec S16 32) (k0_hw1463 : k0_chk1463 i k0_t2 v3440 v3470), ∀ (k0_h1 : k0_cond1 i k0_t2 = 1#1), ∀ a x, ((![v3470, v3440] : Fin 2 → IVec S16 32) a x).toNat < S160x142.size a := fun i k0_t2 v3440 v3470 k0_hw1463 k0_h1 => k0_hw1463 k0_h1

def k0_chk1465 (i : grid0.Coords) (k0_t2 : Fin k0_t2_loop.trips) (v3471 : IVec S16 32) (v3474 : IVec S16 32) : Prop :=
  (∀ (k0_h1 : k0_cond1 i k0_t2 = 1#1), ∀ a x, ((![v3474, v3471] : Fin 2 → IVec S16 32) a x).toNat < S160x142.size a)
theorem k0_idx2488_inb : ∀ (i : grid0.Coords) (k0_t2 : Fin k0_t2_loop.trips) (v3471 : IVec S16 32) (v3474 : IVec S16 32) (k0_hw1465 : k0_chk1465 i k0_t2 v3471 v3474), ∀ (k0_h1 : k0_cond1 i k0_t2 = 1#1), ∀ a x, ((![v3474, v3471] : Fin 2 → IVec S16 32) a x).toNat < S160x142.size a := fun i k0_t2 v3471 v3474 k0_hw1465 k0_h1 => k0_hw1465 k0_h1

def k0_chk1466 (i : grid0.Coords) (k0_t2 : Fin k0_t2_loop.trips) (v3471 : IVec S16 32) (v3477 : IVec S16 32) : Prop :=
  (∀ (k0_h1 : k0_cond1 i k0_t2 = 1#1), ∀ a x, ((![v3477, v3471] : Fin 2 → IVec S16 32) a x).toNat < S160x142.size a)
theorem k0_idx2490_inb : ∀ (i : grid0.Coords) (k0_t2 : Fin k0_t2_loop.trips) (v3471 : IVec S16 32) (v3477 : IVec S16 32) (k0_hw1466 : k0_chk1466 i k0_t2 v3471 v3477), ∀ (k0_h1 : k0_cond1 i k0_t2 = 1#1), ∀ a x, ((![v3477, v3471] : Fin 2 → IVec S16 32) a x).toNat < S160x142.size a := fun i k0_t2 v3471 v3477 k0_hw1466 k0_h1 => k0_hw1466 k0_h1

def k0_chk1467 (i : grid0.Coords) (k0_t2 : Fin k0_t2_loop.trips) (v3471 : IVec S16 32) (v3480 : IVec S16 32) : Prop :=
  (∀ (k0_h1 : k0_cond1 i k0_t2 = 1#1), ∀ a x, ((![v3480, v3471] : Fin 2 → IVec S16 32) a x).toNat < S160x142.size a)
theorem k0_idx2492_inb : ∀ (i : grid0.Coords) (k0_t2 : Fin k0_t2_loop.trips) (v3471 : IVec S16 32) (v3480 : IVec S16 32) (k0_hw1467 : k0_chk1467 i k0_t2 v3471 v3480), ∀ (k0_h1 : k0_cond1 i k0_t2 = 1#1), ∀ a x, ((![v3480, v3471] : Fin 2 → IVec S16 32) a x).toNat < S160x142.size a := fun i k0_t2 v3471 v3480 k0_hw1467 k0_h1 => k0_hw1467 k0_h1

def k0_chk1468 (i : grid0.Coords) (k0_t2 : Fin k0_t2_loop.trips) (v3471 : IVec S16 32) (v3483 : IVec S16 32) : Prop :=
  (∀ (k0_h1 : k0_cond1 i k0_t2 = 1#1), ∀ a x, ((![v3483, v3471] : Fin 2 → IVec S16 32) a x).toNat < S160x142.size a)
theorem k0_idx2494_inb : ∀ (i : grid0.Coords) (k0_t2 : Fin k0_t2_loop.trips) (v3471 : IVec S16 32) (v3483 : IVec S16 32) (k0_hw1468 : k0_chk1468 i k0_t2 v3471 v3483), ∀ (k0_h1 : k0_cond1 i k0_t2 = 1#1), ∀ a x, ((![v3483, v3471] : Fin 2 → IVec S16 32) a x).toNat < S160x142.size a := fun i k0_t2 v3471 v3483 k0_hw1468 k0_h1 => k0_hw1468 k0_h1

def k0_chk1469 (i : grid0.Coords) (k0_t2 : Fin k0_t2_loop.trips) (v3471 : IVec S16 32) (v3486 : IVec S16 32) : Prop :=
  (∀ (k0_h1 : k0_cond1 i k0_t2 = 1#1), ∀ a x, ((![v3486, v3471] : Fin 2 → IVec S16 32) a x).toNat < S160x142.size a)
theorem k0_idx2496_inb : ∀ (i : grid0.Coords) (k0_t2 : Fin k0_t2_loop.trips) (v3471 : IVec S16 32) (v3486 : IVec S16 32) (k0_hw1469 : k0_chk1469 i k0_t2 v3471 v3486), ∀ (k0_h1 : k0_cond1 i k0_t2 = 1#1), ∀ a x, ((![v3486, v3471] : Fin 2 → IVec S16 32) a x).toNat < S160x142.size a := fun i k0_t2 v3471 v3486 k0_hw1469 k0_h1 => k0_hw1469 k0_h1

def k0_chk1470 (i : grid0.Coords) (k0_t2 : Fin k0_t2_loop.trips) (v3471 : IVec S16 32) (v3489 : IVec S16 32) : Prop :=
  (∀ (k0_h1 : k0_cond1 i k0_t2 = 1#1), ∀ a x, ((![v3489, v3471] : Fin 2 → IVec S16 32) a x).toNat < S160x142.size a)
theorem k0_idx2498_inb : ∀ (i : grid0.Coords) (k0_t2 : Fin k0_t2_loop.trips) (v3471 : IVec S16 32) (v3489 : IVec S16 32) (k0_hw1470 : k0_chk1470 i k0_t2 v3471 v3489), ∀ (k0_h1 : k0_cond1 i k0_t2 = 1#1), ∀ a x, ((![v3489, v3471] : Fin 2 → IVec S16 32) a x).toNat < S160x142.size a := fun i k0_t2 v3471 v3489 k0_hw1470 k0_h1 => k0_hw1470 k0_h1

def k0_chk1471 (i : grid0.Coords) (k0_t2 : Fin k0_t2_loop.trips) (v3471 : IVec S16 32) (v3492 : IVec S16 32) : Prop :=
  (∀ (k0_h1 : k0_cond1 i k0_t2 = 1#1), ∀ a x, ((![v3492, v3471] : Fin 2 → IVec S16 32) a x).toNat < S160x142.size a)
theorem k0_idx2500_inb : ∀ (i : grid0.Coords) (k0_t2 : Fin k0_t2_loop.trips) (v3471 : IVec S16 32) (v3492 : IVec S16 32) (k0_hw1471 : k0_chk1471 i k0_t2 v3471 v3492), ∀ (k0_h1 : k0_cond1 i k0_t2 = 1#1), ∀ a x, ((![v3492, v3471] : Fin 2 → IVec S16 32) a x).toNat < S160x142.size a := fun i k0_t2 v3471 v3492 k0_hw1471 k0_h1 => k0_hw1471 k0_h1

def k0_chk1472 (i : grid0.Coords) (k0_t2 : Fin k0_t2_loop.trips) (v3471 : IVec S16 32) (v3495 : IVec S16 32) : Prop :=
  (∀ (k0_h1 : k0_cond1 i k0_t2 = 1#1), ∀ a x, ((![v3495, v3471] : Fin 2 → IVec S16 32) a x).toNat < S160x142.size a)
theorem k0_idx2502_inb : ∀ (i : grid0.Coords) (k0_t2 : Fin k0_t2_loop.trips) (v3471 : IVec S16 32) (v3495 : IVec S16 32) (k0_hw1472 : k0_chk1472 i k0_t2 v3471 v3495), ∀ (k0_h1 : k0_cond1 i k0_t2 = 1#1), ∀ a x, ((![v3495, v3471] : Fin 2 → IVec S16 32) a x).toNat < S160x142.size a := fun i k0_t2 v3471 v3495 k0_hw1472 k0_h1 => k0_hw1472 k0_h1

def k0_chk1473 (i : grid0.Coords) (k0_t2 : Fin k0_t2_loop.trips) (v3471 : IVec S16 32) (v3498 : IVec S16 32) : Prop :=
  (∀ (k0_h1 : k0_cond1 i k0_t2 = 1#1), ∀ a x, ((![v3498, v3471] : Fin 2 → IVec S16 32) a x).toNat < S160x142.size a)
theorem k0_idx2504_inb : ∀ (i : grid0.Coords) (k0_t2 : Fin k0_t2_loop.trips) (v3471 : IVec S16 32) (v3498 : IVec S16 32) (k0_hw1473 : k0_chk1473 i k0_t2 v3471 v3498), ∀ (k0_h1 : k0_cond1 i k0_t2 = 1#1), ∀ a x, ((![v3498, v3471] : Fin 2 → IVec S16 32) a x).toNat < S160x142.size a := fun i k0_t2 v3471 v3498 k0_hw1473 k0_h1 => k0_hw1473 k0_h1

def k0_chk1464 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) : Prop :=
  (∀ (k0_h1 : k0_cond1 i k0_t2 = 1#1), ∀ a x, ((![v15, v3471] : Fin 2 → IVec S16 32) a x).toNat < S256x142.size a) ∧
  (∀ (k0_h1 : k0_cond1 i k0_t2 = 1#1), ∀ a x, ((![v20, v3471] : Fin 2 → IVec S16 32) a x).toNat < S256x142.size a) ∧
  (∀ (k0_h1 : k0_cond1 i k0_t2 = 1#1), ∀ a x, ((![v25, v3471] : Fin 2 → IVec S16 32) a x).toNat < S256x142.size a) ∧
  (∀ (k0_h1 : k0_cond1 i k0_t2 = 1#1), ∀ a x, ((![v30, v3471] : Fin 2 → IVec S16 32) a x).toNat < S256x142.size a) ∧
  (∀ (k0_h1 : k0_cond1 i k0_t2 = 1#1), ∀ a x, ((![v35, v3471] : Fin 2 → IVec S16 32) a x).toNat < S256x142.size a) ∧
  (∀ (k0_h1 : k0_cond1 i k0_t2 = 1#1), ∀ a x, ((![v40, v3471] : Fin 2 → IVec S16 32) a x).toNat < S256x142.size a) ∧
  (∀ (k0_h1 : k0_cond1 i k0_t2 = 1#1), ∀ a x, ((![v45, v3471] : Fin 2 → IVec S16 32) a x).toNat < S256x142.size a) ∧
  (∀ (k0_h1 : k0_cond1 i k0_t2 = 1#1), ∀ a x, ((![v50, v3471] : Fin 2 → IVec S16 32) a x).toNat < S256x142.size a) ∧
  (∀ (k0_h1 : k0_cond1 i k0_t2 = 1#1), ∀ a x, ((![v55, v3471] : Fin 2 → IVec S16 32) a x).toNat < S256x142.size a) ∧
  (∀ (k0_h1 : k0_cond1 i k0_t2 = 1#1), ∀ a x, ((![v60, v3471] : Fin 2 → IVec S16 32) a x).toNat < S256x142.size a)
theorem k0_idx2487_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v15, v3471] : Fin 2 → IVec S16 32) a x).toNat < S256x142.size a := fun i k0_t2 v15 v20 v25 v30 v35 v40 v45 v50 v55 v60 v3471 k0_hw1464 k0_h1 => k0_hw1464.1 k0_h1
theorem k0_idx2489_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v20, v3471] : Fin 2 → IVec S16 32) a x).toNat < S256x142.size a := fun i k0_t2 v15 v20 v25 v30 v35 v40 v45 v50 v55 v60 v3471 k0_hw1464 k0_h1 => k0_hw1464.2.1 k0_h1
theorem k0_idx2491_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v25, v3471] : Fin 2 → IVec S16 32) a x).toNat < S256x142.size a := fun i k0_t2 v15 v20 v25 v30 v35 v40 v45 v50 v55 v60 v3471 k0_hw1464 k0_h1 => k0_hw1464.2.2.1 k0_h1
theorem k0_idx2493_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v30, v3471] : Fin 2 → IVec S16 32) a x).toNat < S256x142.size a := fun i k0_t2 v15 v20 v25 v30 v35 v40 v45 v50 v55 v60 v3471 k0_hw1464 k0_h1 => k0_hw1464.2.2.2.1 k0_h1
theorem k0_idx2495_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v35, v3471] : Fin 2 → IVec S16 32) a x).toNat < S256x142.size a := fun i k0_t2 v15 v20 v25 v30 v35 v40 v45 v50 v55 v60 v3471 k0_hw1464 k0_h1 => k0_hw1464.2.2.2.2.1 k0_h1
theorem k0_idx2497_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v40, v3471] : Fin 2 → IVec S16 32) a x).toNat < S256x142.size a := fun i k0_t2 v15 v20 v25 v30 v35 v40 v45 v50 v55 v60 v3471 k0_hw1464 k0_h1 => k0_hw1464.2.2.2.2.2.1 k0_h1
theorem k0_idx2499_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v45, v3471] : Fin 2 → IVec S16 32) a x).toNat < S256x142.size a := fun i k0_t2 v15 v20 v25 v30 v35 v40 v45 v50 v55 v60 v3471 k0_hw1464 k0_h1 => k0_hw1464.2.2.2.2.2.2.1 k0_h1
theorem k0_idx2501_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v50, v3471] : Fin 2 → IVec S16 32) a x).toNat < S256x142.size a := fun i k0_t2 v15 v20 v25 v30 v35 v40 v45 v50 v55 v60 v3471 k0_hw1464 k0_h1 => k0_hw1464.2.2.2.2.2.2.2.1 k0_h1
theorem k0_idx2503_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v55, v3471] : Fin 2 → IVec S16 32) a x).toNat < S256x142.size a := fun i k0_t2 v15 v20 v25 v30 v35 v40 v45 v50 v55 v60 v3471 k0_hw1464 k0_h1 => k0_hw1464.2.2.2.2.2.2.2.2.1 k0_h1
theorem k0_idx2505_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3471 : IVec S16 32) (k0_hw1464 : k0_chk1464 i k0_t2 v15 v20 v25 v30 v35 v40 v45 v50 v55 v60 v3471), ∀ (k0_h1 : k0_cond1 i k0_t2 = 1#1), ∀ a x, ((![v60, v3471] : Fin 2 → IVec S16 32) a x).toNat < S256x142.size a := fun i k0_t2 v15 v20 v25 v30 v35 v40 v45 v50 v55 v60 v3471 k0_hw1464 k0_h1 => k0_hw1464.2.2.2.2.2.2.2.2.2 k0_h1

def k0_chk1474 (i : grid0.Coords) (k0_t2 : Fin k0_t2_loop.trips) (v3471 : IVec S16 32) (v3501 : IVec S16 32) : Prop :=
  (∀ (k0_h1 : k0_cond1 i k0_t2 = 1#1), ∀ a x, ((![v3501, v3471] : Fin 2 → IVec S16 32) a x).toNat < S160x142.size a)
theorem k0_idx2506_inb : ∀ (i : grid0.Coords) (k0_t2 : Fin k0_t2_loop.trips) (v3471 : IVec S16 32) (v3501 : IVec S16 32) (k0_hw1474 : k0_chk1474 i k0_t2 v3471 v3501), ∀ (k0_h1 : k0_cond1 i k0_t2 = 1#1), ∀ a x, ((![v3501, v3471] : Fin 2 → IVec S16 32) a x).toNat < S160x142.size a := fun i k0_t2 v3471 v3501 k0_hw1474 k0_h1 => k0_hw1474 k0_h1

def k0_chk1476 (i : grid0.Coords) (k0_t2 : Fin k0_t2_loop.trips) (v3502 : IVec S16 32) (v3505 : IVec S16 32) : Prop :=
  (∀ (k0_h1 : k0_cond1 i k0_t2 = 1#1), ∀ a x, ((![v3505, v3502] : Fin 2 → IVec S16 32) a x).toNat < S160x142.size a)
theorem k0_idx2508_inb : ∀ (i : grid0.Coords) (k0_t2 : Fin k0_t2_loop.trips) (v3502 : IVec S16 32) (v3505 : IVec S16 32) (k0_hw1476 : k0_chk1476 i k0_t2 v3502 v3505), ∀ (k0_h1 : k0_cond1 i k0_t2 = 1#1), ∀ a x, ((![v3505, v3502] : Fin 2 → IVec S16 32) a x).toNat < S160x142.size a := fun i k0_t2 v3502 v3505 k0_hw1476 k0_h1 => k0_hw1476 k0_h1

def k0_chk1477 (i : grid0.Coords) (k0_t2 : Fin k0_t2_loop.trips) (v3502 : IVec S16 32) (v3508 : IVec S16 32) : Prop :=
  (∀ (k0_h1 : k0_cond1 i k0_t2 = 1#1), ∀ a x, ((![v3508, v3502] : Fin 2 → IVec S16 32) a x).toNat < S160x142.size a)
theorem k0_idx2510_inb : ∀ (i : grid0.Coords) (k0_t2 : Fin k0_t2_loop.trips) (v3502 : IVec S16 32) (v3508 : IVec S16 32) (k0_hw1477 : k0_chk1477 i k0_t2 v3502 v3508), ∀ (k0_h1 : k0_cond1 i k0_t2 = 1#1), ∀ a x, ((![v3508, v3502] : Fin 2 → IVec S16 32) a x).toNat < S160x142.size a := fun i k0_t2 v3502 v3508 k0_hw1477 k0_h1 => k0_hw1477 k0_h1

def k0_chk1478 (i : grid0.Coords) (k0_t2 : Fin k0_t2_loop.trips) (v3502 : IVec S16 32) (v3511 : IVec S16 32) : Prop :=
  (∀ (k0_h1 : k0_cond1 i k0_t2 = 1#1), ∀ a x, ((![v3511, v3502] : Fin 2 → IVec S16 32) a x).toNat < S160x142.size a)
theorem k0_idx2512_inb : ∀ (i : grid0.Coords) (k0_t2 : Fin k0_t2_loop.trips) (v3502 : IVec S16 32) (v3511 : IVec S16 32) (k0_hw1478 : k0_chk1478 i k0_t2 v3502 v3511), ∀ (k0_h1 : k0_cond1 i k0_t2 = 1#1), ∀ a x, ((![v3511, v3502] : Fin 2 → IVec S16 32) a x).toNat < S160x142.size a := fun i k0_t2 v3502 v3511 k0_hw1478 k0_h1 => k0_hw1478 k0_h1

def k0_chk1479 (i : grid0.Coords) (k0_t2 : Fin k0_t2_loop.trips) (v3502 : IVec S16 32) (v3514 : IVec S16 32) : Prop :=
  (∀ (k0_h1 : k0_cond1 i k0_t2 = 1#1), ∀ a x, ((![v3514, v3502] : Fin 2 → IVec S16 32) a x).toNat < S160x142.size a)
theorem k0_idx2514_inb : ∀ (i : grid0.Coords) (k0_t2 : Fin k0_t2_loop.trips) (v3502 : IVec S16 32) (v3514 : IVec S16 32) (k0_hw1479 : k0_chk1479 i k0_t2 v3502 v3514), ∀ (k0_h1 : k0_cond1 i k0_t2 = 1#1), ∀ a x, ((![v3514, v3502] : Fin 2 → IVec S16 32) a x).toNat < S160x142.size a := fun i k0_t2 v3502 v3514 k0_hw1479 k0_h1 => k0_hw1479 k0_h1

def k0_chk1480 (i : grid0.Coords) (k0_t2 : Fin k0_t2_loop.trips) (v3502 : IVec S16 32) (v3517 : IVec S16 32) : Prop :=
  (∀ (k0_h1 : k0_cond1 i k0_t2 = 1#1), ∀ a x, ((![v3517, v3502] : Fin 2 → IVec S16 32) a x).toNat < S160x142.size a)
theorem k0_idx2516_inb : ∀ (i : grid0.Coords) (k0_t2 : Fin k0_t2_loop.trips) (v3502 : IVec S16 32) (v3517 : IVec S16 32) (k0_hw1480 : k0_chk1480 i k0_t2 v3502 v3517), ∀ (k0_h1 : k0_cond1 i k0_t2 = 1#1), ∀ a x, ((![v3517, v3502] : Fin 2 → IVec S16 32) a x).toNat < S160x142.size a := fun i k0_t2 v3502 v3517 k0_hw1480 k0_h1 => k0_hw1480 k0_h1

def k0_chk1481 (i : grid0.Coords) (k0_t2 : Fin k0_t2_loop.trips) (v3502 : IVec S16 32) (v3520 : IVec S16 32) : Prop :=
  (∀ (k0_h1 : k0_cond1 i k0_t2 = 1#1), ∀ a x, ((![v3520, v3502] : Fin 2 → IVec S16 32) a x).toNat < S160x142.size a)
theorem k0_idx2518_inb : ∀ (i : grid0.Coords) (k0_t2 : Fin k0_t2_loop.trips) (v3502 : IVec S16 32) (v3520 : IVec S16 32) (k0_hw1481 : k0_chk1481 i k0_t2 v3502 v3520), ∀ (k0_h1 : k0_cond1 i k0_t2 = 1#1), ∀ a x, ((![v3520, v3502] : Fin 2 → IVec S16 32) a x).toNat < S160x142.size a := fun i k0_t2 v3502 v3520 k0_hw1481 k0_h1 => k0_hw1481 k0_h1

def k0_chk1482 (i : grid0.Coords) (k0_t2 : Fin k0_t2_loop.trips) (v3502 : IVec S16 32) (v3523 : IVec S16 32) : Prop :=
  (∀ (k0_h1 : k0_cond1 i k0_t2 = 1#1), ∀ a x, ((![v3523, v3502] : Fin 2 → IVec S16 32) a x).toNat < S160x142.size a)
theorem k0_idx2520_inb : ∀ (i : grid0.Coords) (k0_t2 : Fin k0_t2_loop.trips) (v3502 : IVec S16 32) (v3523 : IVec S16 32) (k0_hw1482 : k0_chk1482 i k0_t2 v3502 v3523), ∀ (k0_h1 : k0_cond1 i k0_t2 = 1#1), ∀ a x, ((![v3523, v3502] : Fin 2 → IVec S16 32) a x).toNat < S160x142.size a := fun i k0_t2 v3502 v3523 k0_hw1482 k0_h1 => k0_hw1482 k0_h1

def k0_chk1483 (i : grid0.Coords) (k0_t2 : Fin k0_t2_loop.trips) (v3502 : IVec S16 32) (v3526 : IVec S16 32) : Prop :=
  (∀ (k0_h1 : k0_cond1 i k0_t2 = 1#1), ∀ a x, ((![v3526, v3502] : Fin 2 → IVec S16 32) a x).toNat < S160x142.size a)
theorem k0_idx2522_inb : ∀ (i : grid0.Coords) (k0_t2 : Fin k0_t2_loop.trips) (v3502 : IVec S16 32) (v3526 : IVec S16 32) (k0_hw1483 : k0_chk1483 i k0_t2 v3502 v3526), ∀ (k0_h1 : k0_cond1 i k0_t2 = 1#1), ∀ a x, ((![v3526, v3502] : Fin 2 → IVec S16 32) a x).toNat < S160x142.size a := fun i k0_t2 v3502 v3526 k0_hw1483 k0_h1 => k0_hw1483 k0_h1

def k0_chk1484 (i : grid0.Coords) (k0_t2 : Fin k0_t2_loop.trips) (v3502 : IVec S16 32) (v3529 : IVec S16 32) : Prop :=
  (∀ (k0_h1 : k0_cond1 i k0_t2 = 1#1), ∀ a x, ((![v3529, v3502] : Fin 2 → IVec S16 32) a x).toNat < S160x142.size a)
theorem k0_idx2524_inb : ∀ (i : grid0.Coords) (k0_t2 : Fin k0_t2_loop.trips) (v3502 : IVec S16 32) (v3529 : IVec S16 32) (k0_hw1484 : k0_chk1484 i k0_t2 v3502 v3529), ∀ (k0_h1 : k0_cond1 i k0_t2 = 1#1), ∀ a x, ((![v3529, v3502] : Fin 2 → IVec S16 32) a x).toNat < S160x142.size a := fun i k0_t2 v3502 v3529 k0_hw1484 k0_h1 => k0_hw1484 k0_h1

def k0_chk1475 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) : Prop :=
  (∀ (k0_h1 : k0_cond1 i k0_t2 = 1#1), ∀ a x, ((![v15, v3502] : Fin 2 → IVec S16 32) a x).toNat < S256x142.size a) ∧
  (∀ (k0_h1 : k0_cond1 i k0_t2 = 1#1), ∀ a x, ((![v20, v3502] : Fin 2 → IVec S16 32) a x).toNat < S256x142.size a) ∧
  (∀ (k0_h1 : k0_cond1 i k0_t2 = 1#1), ∀ a x, ((![v25, v3502] : Fin 2 → IVec S16 32) a x).toNat < S256x142.size a) ∧
  (∀ (k0_h1 : k0_cond1 i k0_t2 = 1#1), ∀ a x, ((![v30, v3502] : Fin 2 → IVec S16 32) a x).toNat < S256x142.size a) ∧
  (∀ (k0_h1 : k0_cond1 i k0_t2 = 1#1), ∀ a x, ((![v35, v3502] : Fin 2 → IVec S16 32) a x).toNat < S256x142.size a) ∧
  (∀ (k0_h1 : k0_cond1 i k0_t2 = 1#1), ∀ a x, ((![v40, v3502] : Fin 2 → IVec S16 32) a x).toNat < S256x142.size a) ∧
  (∀ (k0_h1 : k0_cond1 i k0_t2 = 1#1), ∀ a x, ((![v45, v3502] : Fin 2 → IVec S16 32) a x).toNat < S256x142.size a) ∧
  (∀ (k0_h1 : k0_cond1 i k0_t2 = 1#1), ∀ a x, ((![v50, v3502] : Fin 2 → IVec S16 32) a x).toNat < S256x142.size a) ∧
  (∀ (k0_h1 : k0_cond1 i k0_t2 = 1#1), ∀ a x, ((![v55, v3502] : Fin 2 → IVec S16 32) a x).toNat < S256x142.size a) ∧
  (∀ (k0_h1 : k0_cond1 i k0_t2 = 1#1), ∀ a x, ((![v60, v3502] : Fin 2 → IVec S16 32) a x).toNat < S256x142.size a)
theorem k0_idx2507_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v15, v3502] : Fin 2 → IVec S16 32) a x).toNat < S256x142.size a := fun i k0_t2 v15 v20 v25 v30 v35 v40 v45 v50 v55 v60 v3502 k0_hw1475 k0_h1 => k0_hw1475.1 k0_h1
theorem k0_idx2509_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v20, v3502] : Fin 2 → IVec S16 32) a x).toNat < S256x142.size a := fun i k0_t2 v15 v20 v25 v30 v35 v40 v45 v50 v55 v60 v3502 k0_hw1475 k0_h1 => k0_hw1475.2.1 k0_h1
theorem k0_idx2511_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v25, v3502] : Fin 2 → IVec S16 32) a x).toNat < S256x142.size a := fun i k0_t2 v15 v20 v25 v30 v35 v40 v45 v50 v55 v60 v3502 k0_hw1475 k0_h1 => k0_hw1475.2.2.1 k0_h1
theorem k0_idx2513_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v30, v3502] : Fin 2 → IVec S16 32) a x).toNat < S256x142.size a := fun i k0_t2 v15 v20 v25 v30 v35 v40 v45 v50 v55 v60 v3502 k0_hw1475 k0_h1 => k0_hw1475.2.2.2.1 k0_h1
theorem k0_idx2515_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v35, v3502] : Fin 2 → IVec S16 32) a x).toNat < S256x142.size a := fun i k0_t2 v15 v20 v25 v30 v35 v40 v45 v50 v55 v60 v3502 k0_hw1475 k0_h1 => k0_hw1475.2.2.2.2.1 k0_h1
theorem k0_idx2517_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v40, v3502] : Fin 2 → IVec S16 32) a x).toNat < S256x142.size a := fun i k0_t2 v15 v20 v25 v30 v35 v40 v45 v50 v55 v60 v3502 k0_hw1475 k0_h1 => k0_hw1475.2.2.2.2.2.1 k0_h1
theorem k0_idx2519_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v45, v3502] : Fin 2 → IVec S16 32) a x).toNat < S256x142.size a := fun i k0_t2 v15 v20 v25 v30 v35 v40 v45 v50 v55 v60 v3502 k0_hw1475 k0_h1 => k0_hw1475.2.2.2.2.2.2.1 k0_h1
theorem k0_idx2521_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v50, v3502] : Fin 2 → IVec S16 32) a x).toNat < S256x142.size a := fun i k0_t2 v15 v20 v25 v30 v35 v40 v45 v50 v55 v60 v3502 k0_hw1475 k0_h1 => k0_hw1475.2.2.2.2.2.2.2.1 k0_h1
theorem k0_idx2523_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v55, v3502] : Fin 2 → IVec S16 32) a x).toNat < S256x142.size a := fun i k0_t2 v15 v20 v25 v30 v35 v40 v45 v50 v55 v60 v3502 k0_hw1475 k0_h1 => k0_hw1475.2.2.2.2.2.2.2.2.1 k0_h1
theorem k0_idx2525_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3502 : IVec S16 32) (k0_hw1475 : k0_chk1475 i k0_t2 v15 v20 v25 v30 v35 v40 v45 v50 v55 v60 v3502), ∀ (k0_h1 : k0_cond1 i k0_t2 = 1#1), ∀ a x, ((![v60, v3502] : Fin 2 → IVec S16 32) a x).toNat < S256x142.size a := fun i k0_t2 v15 v20 v25 v30 v35 v40 v45 v50 v55 v60 v3502 k0_hw1475 k0_h1 => k0_hw1475.2.2.2.2.2.2.2.2.2 k0_h1

def k0_chk1485 (i : grid0.Coords) (k0_t2 : Fin k0_t2_loop.trips) (v3502 : IVec S16 32) (v3532 : IVec S16 32) : Prop :=
  (∀ (k0_h1 : k0_cond1 i k0_t2 = 1#1), ∀ a x, ((![v3532, v3502] : Fin 2 → IVec S16 32) a x).toNat < S160x142.size a)
theorem k0_idx2526_inb : ∀ (i : grid0.Coords) (k0_t2 : Fin k0_t2_loop.trips) (v3502 : IVec S16 32) (v3532 : IVec S16 32) (k0_hw1485 : k0_chk1485 i k0_t2 v3502 v3532), ∀ (k0_h1 : k0_cond1 i k0_t2 = 1#1), ∀ a x, ((![v3532, v3502] : Fin 2 → IVec S16 32) a x).toNat < S160x142.size a := fun i k0_t2 v3502 v3532 k0_hw1485 k0_h1 => k0_hw1485 k0_h1

def k0_chk1487 (i : grid0.Coords) (k0_t2 : Fin k0_t2_loop.trips) (v3533 : IVec S16 32) (v3536 : IVec S16 32) : Prop :=
  (∀ (k0_h1 : k0_cond1 i k0_t2 = 1#1), ∀ a x, ((![v3536, v3533] : Fin 2 → IVec S16 32) a x).toNat < S160x142.size a)
theorem k0_idx2528_inb : ∀ (i : grid0.Coords) (k0_t2 : Fin k0_t2_loop.trips) (v3533 : IVec S16 32) (v3536 : IVec S16 32) (k0_hw1487 : k0_chk1487 i k0_t2 v3533 v3536), ∀ (k0_h1 : k0_cond1 i k0_t2 = 1#1), ∀ a x, ((![v3536, v3533] : Fin 2 → IVec S16 32) a x).toNat < S160x142.size a := fun i k0_t2 v3533 v3536 k0_hw1487 k0_h1 => k0_hw1487 k0_h1

def k0_chk1488 (i : grid0.Coords) (k0_t2 : Fin k0_t2_loop.trips) (v3533 : IVec S16 32) (v3539 : IVec S16 32) : Prop :=
  (∀ (k0_h1 : k0_cond1 i k0_t2 = 1#1), ∀ a x, ((![v3539, v3533] : Fin 2 → IVec S16 32) a x).toNat < S160x142.size a)
theorem k0_idx2530_inb : ∀ (i : grid0.Coords) (k0_t2 : Fin k0_t2_loop.trips) (v3533 : IVec S16 32) (v3539 : IVec S16 32) (k0_hw1488 : k0_chk1488 i k0_t2 v3533 v3539), ∀ (k0_h1 : k0_cond1 i k0_t2 = 1#1), ∀ a x, ((![v3539, v3533] : Fin 2 → IVec S16 32) a x).toNat < S160x142.size a := fun i k0_t2 v3533 v3539 k0_hw1488 k0_h1 => k0_hw1488 k0_h1

def k0_chk1489 (i : grid0.Coords) (k0_t2 : Fin k0_t2_loop.trips) (v3533 : IVec S16 32) (v3542 : IVec S16 32) : Prop :=
  (∀ (k0_h1 : k0_cond1 i k0_t2 = 1#1), ∀ a x, ((![v3542, v3533] : Fin 2 → IVec S16 32) a x).toNat < S160x142.size a)
theorem k0_idx2532_inb : ∀ (i : grid0.Coords) (k0_t2 : Fin k0_t2_loop.trips) (v3533 : IVec S16 32) (v3542 : IVec S16 32) (k0_hw1489 : k0_chk1489 i k0_t2 v3533 v3542), ∀ (k0_h1 : k0_cond1 i k0_t2 = 1#1), ∀ a x, ((![v3542, v3533] : Fin 2 → IVec S16 32) a x).toNat < S160x142.size a := fun i k0_t2 v3533 v3542 k0_hw1489 k0_h1 => k0_hw1489 k0_h1

def k0_chk1490 (i : grid0.Coords) (k0_t2 : Fin k0_t2_loop.trips) (v3533 : IVec S16 32) (v3545 : IVec S16 32) : Prop :=
  (∀ (k0_h1 : k0_cond1 i k0_t2 = 1#1), ∀ a x, ((![v3545, v3533] : Fin 2 → IVec S16 32) a x).toNat < S160x142.size a)
theorem k0_idx2534_inb : ∀ (i : grid0.Coords) (k0_t2 : Fin k0_t2_loop.trips) (v3533 : IVec S16 32) (v3545 : IVec S16 32) (k0_hw1490 : k0_chk1490 i k0_t2 v3533 v3545), ∀ (k0_h1 : k0_cond1 i k0_t2 = 1#1), ∀ a x, ((![v3545, v3533] : Fin 2 → IVec S16 32) a x).toNat < S160x142.size a := fun i k0_t2 v3533 v3545 k0_hw1490 k0_h1 => k0_hw1490 k0_h1

def k0_chk1491 (i : grid0.Coords) (k0_t2 : Fin k0_t2_loop.trips) (v3533 : IVec S16 32) (v3548 : IVec S16 32) : Prop :=
  (∀ (k0_h1 : k0_cond1 i k0_t2 = 1#1), ∀ a x, ((![v3548, v3533] : Fin 2 → IVec S16 32) a x).toNat < S160x142.size a)
theorem k0_idx2536_inb : ∀ (i : grid0.Coords) (k0_t2 : Fin k0_t2_loop.trips) (v3533 : IVec S16 32) (v3548 : IVec S16 32) (k0_hw1491 : k0_chk1491 i k0_t2 v3533 v3548), ∀ (k0_h1 : k0_cond1 i k0_t2 = 1#1), ∀ a x, ((![v3548, v3533] : Fin 2 → IVec S16 32) a x).toNat < S160x142.size a := fun i k0_t2 v3533 v3548 k0_hw1491 k0_h1 => k0_hw1491 k0_h1

def k0_chk1492 (i : grid0.Coords) (k0_t2 : Fin k0_t2_loop.trips) (v3533 : IVec S16 32) (v3551 : IVec S16 32) : Prop :=
  (∀ (k0_h1 : k0_cond1 i k0_t2 = 1#1), ∀ a x, ((![v3551, v3533] : Fin 2 → IVec S16 32) a x).toNat < S160x142.size a)
theorem k0_idx2538_inb : ∀ (i : grid0.Coords) (k0_t2 : Fin k0_t2_loop.trips) (v3533 : IVec S16 32) (v3551 : IVec S16 32) (k0_hw1492 : k0_chk1492 i k0_t2 v3533 v3551), ∀ (k0_h1 : k0_cond1 i k0_t2 = 1#1), ∀ a x, ((![v3551, v3533] : Fin 2 → IVec S16 32) a x).toNat < S160x142.size a := fun i k0_t2 v3533 v3551 k0_hw1492 k0_h1 => k0_hw1492 k0_h1

def k0_chk1493 (i : grid0.Coords) (k0_t2 : Fin k0_t2_loop.trips) (v3533 : IVec S16 32) (v3554 : IVec S16 32) : Prop :=
  (∀ (k0_h1 : k0_cond1 i k0_t2 = 1#1), ∀ a x, ((![v3554, v3533] : Fin 2 → IVec S16 32) a x).toNat < S160x142.size a)
theorem k0_idx2540_inb : ∀ (i : grid0.Coords) (k0_t2 : Fin k0_t2_loop.trips) (v3533 : IVec S16 32) (v3554 : IVec S16 32) (k0_hw1493 : k0_chk1493 i k0_t2 v3533 v3554), ∀ (k0_h1 : k0_cond1 i k0_t2 = 1#1), ∀ a x, ((![v3554, v3533] : Fin 2 → IVec S16 32) a x).toNat < S160x142.size a := fun i k0_t2 v3533 v3554 k0_hw1493 k0_h1 => k0_hw1493 k0_h1

def k0_chk1494 (i : grid0.Coords) (k0_t2 : Fin k0_t2_loop.trips) (v3533 : IVec S16 32) (v3557 : IVec S16 32) : Prop :=
  (∀ (k0_h1 : k0_cond1 i k0_t2 = 1#1), ∀ a x, ((![v3557, v3533] : Fin 2 → IVec S16 32) a x).toNat < S160x142.size a)
theorem k0_idx2542_inb : ∀ (i : grid0.Coords) (k0_t2 : Fin k0_t2_loop.trips) (v3533 : IVec S16 32) (v3557 : IVec S16 32) (k0_hw1494 : k0_chk1494 i k0_t2 v3533 v3557), ∀ (k0_h1 : k0_cond1 i k0_t2 = 1#1), ∀ a x, ((![v3557, v3533] : Fin 2 → IVec S16 32) a x).toNat < S160x142.size a := fun i k0_t2 v3533 v3557 k0_hw1494 k0_h1 => k0_hw1494 k0_h1

def k0_chk1495 (i : grid0.Coords) (k0_t2 : Fin k0_t2_loop.trips) (v3533 : IVec S16 32) (v3560 : IVec S16 32) : Prop :=
  (∀ (k0_h1 : k0_cond1 i k0_t2 = 1#1), ∀ a x, ((![v3560, v3533] : Fin 2 → IVec S16 32) a x).toNat < S160x142.size a)
theorem k0_idx2544_inb : ∀ (i : grid0.Coords) (k0_t2 : Fin k0_t2_loop.trips) (v3533 : IVec S16 32) (v3560 : IVec S16 32) (k0_hw1495 : k0_chk1495 i k0_t2 v3533 v3560), ∀ (k0_h1 : k0_cond1 i k0_t2 = 1#1), ∀ a x, ((![v3560, v3533] : Fin 2 → IVec S16 32) a x).toNat < S160x142.size a := fun i k0_t2 v3533 v3560 k0_hw1495 k0_h1 => k0_hw1495 k0_h1

def k0_chk1486 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) : Prop :=
  (∀ (k0_h1 : k0_cond1 i k0_t2 = 1#1), ∀ a x, ((![v15, v3533] : Fin 2 → IVec S16 32) a x).toNat < S256x142.size a) ∧
  (∀ (k0_h1 : k0_cond1 i k0_t2 = 1#1), ∀ a x, ((![v20, v3533] : Fin 2 → IVec S16 32) a x).toNat < S256x142.size a) ∧
  (∀ (k0_h1 : k0_cond1 i k0_t2 = 1#1), ∀ a x, ((![v25, v3533] : Fin 2 → IVec S16 32) a x).toNat < S256x142.size a) ∧
  (∀ (k0_h1 : k0_cond1 i k0_t2 = 1#1), ∀ a x, ((![v30, v3533] : Fin 2 → IVec S16 32) a x).toNat < S256x142.size a) ∧
  (∀ (k0_h1 : k0_cond1 i k0_t2 = 1#1), ∀ a x, ((![v35, v3533] : Fin 2 → IVec S16 32) a x).toNat < S256x142.size a) ∧
  (∀ (k0_h1 : k0_cond1 i k0_t2 = 1#1), ∀ a x, ((![v40, v3533] : Fin 2 → IVec S16 32) a x).toNat < S256x142.size a) ∧
  (∀ (k0_h1 : k0_cond1 i k0_t2 = 1#1), ∀ a x, ((![v45, v3533] : Fin 2 → IVec S16 32) a x).toNat < S256x142.size a) ∧
  (∀ (k0_h1 : k0_cond1 i k0_t2 = 1#1), ∀ a x, ((![v50, v3533] : Fin 2 → IVec S16 32) a x).toNat < S256x142.size a) ∧
  (∀ (k0_h1 : k0_cond1 i k0_t2 = 1#1), ∀ a x, ((![v55, v3533] : Fin 2 → IVec S16 32) a x).toNat < S256x142.size a) ∧
  (∀ (k0_h1 : k0_cond1 i k0_t2 = 1#1), ∀ a x, ((![v60, v3533] : Fin 2 → IVec S16 32) a x).toNat < S256x142.size a)
theorem k0_idx2527_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v15, v3533] : Fin 2 → IVec S16 32) a x).toNat < S256x142.size a := fun i k0_t2 v15 v20 v25 v30 v35 v40 v45 v50 v55 v60 v3533 k0_hw1486 k0_h1 => k0_hw1486.1 k0_h1
theorem k0_idx2529_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v20, v3533] : Fin 2 → IVec S16 32) a x).toNat < S256x142.size a := fun i k0_t2 v15 v20 v25 v30 v35 v40 v45 v50 v55 v60 v3533 k0_hw1486 k0_h1 => k0_hw1486.2.1 k0_h1
theorem k0_idx2531_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v25, v3533] : Fin 2 → IVec S16 32) a x).toNat < S256x142.size a := fun i k0_t2 v15 v20 v25 v30 v35 v40 v45 v50 v55 v60 v3533 k0_hw1486 k0_h1 => k0_hw1486.2.2.1 k0_h1
theorem k0_idx2533_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v30, v3533] : Fin 2 → IVec S16 32) a x).toNat < S256x142.size a := fun i k0_t2 v15 v20 v25 v30 v35 v40 v45 v50 v55 v60 v3533 k0_hw1486 k0_h1 => k0_hw1486.2.2.2.1 k0_h1
theorem k0_idx2535_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v35, v3533] : Fin 2 → IVec S16 32) a x).toNat < S256x142.size a := fun i k0_t2 v15 v20 v25 v30 v35 v40 v45 v50 v55 v60 v3533 k0_hw1486 k0_h1 => k0_hw1486.2.2.2.2.1 k0_h1
theorem k0_idx2537_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v40, v3533] : Fin 2 → IVec S16 32) a x).toNat < S256x142.size a := fun i k0_t2 v15 v20 v25 v30 v35 v40 v45 v50 v55 v60 v3533 k0_hw1486 k0_h1 => k0_hw1486.2.2.2.2.2.1 k0_h1
theorem k0_idx2539_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v45, v3533] : Fin 2 → IVec S16 32) a x).toNat < S256x142.size a := fun i k0_t2 v15 v20 v25 v30 v35 v40 v45 v50 v55 v60 v3533 k0_hw1486 k0_h1 => k0_hw1486.2.2.2.2.2.2.1 k0_h1
theorem k0_idx2541_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v50, v3533] : Fin 2 → IVec S16 32) a x).toNat < S256x142.size a := fun i k0_t2 v15 v20 v25 v30 v35 v40 v45 v50 v55 v60 v3533 k0_hw1486 k0_h1 => k0_hw1486.2.2.2.2.2.2.2.1 k0_h1
theorem k0_idx2543_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v55, v3533] : Fin 2 → IVec S16 32) a x).toNat < S256x142.size a := fun i k0_t2 v15 v20 v25 v30 v35 v40 v45 v50 v55 v60 v3533 k0_hw1486 k0_h1 => k0_hw1486.2.2.2.2.2.2.2.2.1 k0_h1
theorem k0_idx2545_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3533 : IVec S16 32) (k0_hw1486 : k0_chk1486 i k0_t2 v15 v20 v25 v30 v35 v40 v45 v50 v55 v60 v3533), ∀ (k0_h1 : k0_cond1 i k0_t2 = 1#1), ∀ a x, ((![v60, v3533] : Fin 2 → IVec S16 32) a x).toNat < S256x142.size a := fun i k0_t2 v15 v20 v25 v30 v35 v40 v45 v50 v55 v60 v3533 k0_hw1486 k0_h1 => k0_hw1486.2.2.2.2.2.2.2.2.2 k0_h1

def k0_chk1496 (i : grid0.Coords) (k0_t2 : Fin k0_t2_loop.trips) (v3533 : IVec S16 32) (v3563 : IVec S16 32) : Prop :=
  (∀ (k0_h1 : k0_cond1 i k0_t2 = 1#1), ∀ a x, ((![v3563, v3533] : Fin 2 → IVec S16 32) a x).toNat < S160x142.size a)
theorem k0_idx2546_inb : ∀ (i : grid0.Coords) (k0_t2 : Fin k0_t2_loop.trips) (v3533 : IVec S16 32) (v3563 : IVec S16 32) (k0_hw1496 : k0_chk1496 i k0_t2 v3533 v3563), ∀ (k0_h1 : k0_cond1 i k0_t2 = 1#1), ∀ a x, ((![v3563, v3533] : Fin 2 → IVec S16 32) a x).toNat < S160x142.size a := fun i k0_t2 v3533 v3563 k0_hw1496 k0_h1 => k0_hw1496 k0_h1

def k0_chk1498 (i : grid0.Coords) (k0_t2 : Fin k0_t2_loop.trips) (v3564 : IVec S16 32) (v3567 : IVec S16 32) : Prop :=
  (∀ (k0_h1 : k0_cond1 i k0_t2 = 1#1), ∀ a x, ((![v3567, v3564] : Fin 2 → IVec S16 32) a x).toNat < S160x142.size a)
theorem k0_idx2548_inb : ∀ (i : grid0.Coords) (k0_t2 : Fin k0_t2_loop.trips) (v3564 : IVec S16 32) (v3567 : IVec S16 32) (k0_hw1498 : k0_chk1498 i k0_t2 v3564 v3567), ∀ (k0_h1 : k0_cond1 i k0_t2 = 1#1), ∀ a x, ((![v3567, v3564] : Fin 2 → IVec S16 32) a x).toNat < S160x142.size a := fun i k0_t2 v3564 v3567 k0_hw1498 k0_h1 => k0_hw1498 k0_h1

def k0_chk1499 (i : grid0.Coords) (k0_t2 : Fin k0_t2_loop.trips) (v3564 : IVec S16 32) (v3570 : IVec S16 32) : Prop :=
  (∀ (k0_h1 : k0_cond1 i k0_t2 = 1#1), ∀ a x, ((![v3570, v3564] : Fin 2 → IVec S16 32) a x).toNat < S160x142.size a)
theorem k0_idx2550_inb : ∀ (i : grid0.Coords) (k0_t2 : Fin k0_t2_loop.trips) (v3564 : IVec S16 32) (v3570 : IVec S16 32) (k0_hw1499 : k0_chk1499 i k0_t2 v3564 v3570), ∀ (k0_h1 : k0_cond1 i k0_t2 = 1#1), ∀ a x, ((![v3570, v3564] : Fin 2 → IVec S16 32) a x).toNat < S160x142.size a := fun i k0_t2 v3564 v3570 k0_hw1499 k0_h1 => k0_hw1499 k0_h1

def k0_chk1500 (i : grid0.Coords) (k0_t2 : Fin k0_t2_loop.trips) (v3564 : IVec S16 32) (v3573 : IVec S16 32) : Prop :=
  (∀ (k0_h1 : k0_cond1 i k0_t2 = 1#1), ∀ a x, ((![v3573, v3564] : Fin 2 → IVec S16 32) a x).toNat < S160x142.size a)
theorem k0_idx2552_inb : ∀ (i : grid0.Coords) (k0_t2 : Fin k0_t2_loop.trips) (v3564 : IVec S16 32) (v3573 : IVec S16 32) (k0_hw1500 : k0_chk1500 i k0_t2 v3564 v3573), ∀ (k0_h1 : k0_cond1 i k0_t2 = 1#1), ∀ a x, ((![v3573, v3564] : Fin 2 → IVec S16 32) a x).toNat < S160x142.size a := fun i k0_t2 v3564 v3573 k0_hw1500 k0_h1 => k0_hw1500 k0_h1

def k0_chk1501 (i : grid0.Coords) (k0_t2 : Fin k0_t2_loop.trips) (v3564 : IVec S16 32) (v3576 : IVec S16 32) : Prop :=
  (∀ (k0_h1 : k0_cond1 i k0_t2 = 1#1), ∀ a x, ((![v3576, v3564] : Fin 2 → IVec S16 32) a x).toNat < S160x142.size a)
theorem k0_idx2554_inb : ∀ (i : grid0.Coords) (k0_t2 : Fin k0_t2_loop.trips) (v3564 : IVec S16 32) (v3576 : IVec S16 32) (k0_hw1501 : k0_chk1501 i k0_t2 v3564 v3576), ∀ (k0_h1 : k0_cond1 i k0_t2 = 1#1), ∀ a x, ((![v3576, v3564] : Fin 2 → IVec S16 32) a x).toNat < S160x142.size a := fun i k0_t2 v3564 v3576 k0_hw1501 k0_h1 => k0_hw1501 k0_h1

def k0_chk1502 (i : grid0.Coords) (k0_t2 : Fin k0_t2_loop.trips) (v3564 : IVec S16 32) (v3579 : IVec S16 32) : Prop :=
  (∀ (k0_h1 : k0_cond1 i k0_t2 = 1#1), ∀ a x, ((![v3579, v3564] : Fin 2 → IVec S16 32) a x).toNat < S160x142.size a)
theorem k0_idx2556_inb : ∀ (i : grid0.Coords) (k0_t2 : Fin k0_t2_loop.trips) (v3564 : IVec S16 32) (v3579 : IVec S16 32) (k0_hw1502 : k0_chk1502 i k0_t2 v3564 v3579), ∀ (k0_h1 : k0_cond1 i k0_t2 = 1#1), ∀ a x, ((![v3579, v3564] : Fin 2 → IVec S16 32) a x).toNat < S160x142.size a := fun i k0_t2 v3564 v3579 k0_hw1502 k0_h1 => k0_hw1502 k0_h1

def k0_chk1503 (i : grid0.Coords) (k0_t2 : Fin k0_t2_loop.trips) (v3564 : IVec S16 32) (v3582 : IVec S16 32) : Prop :=
  (∀ (k0_h1 : k0_cond1 i k0_t2 = 1#1), ∀ a x, ((![v3582, v3564] : Fin 2 → IVec S16 32) a x).toNat < S160x142.size a)
theorem k0_idx2558_inb : ∀ (i : grid0.Coords) (k0_t2 : Fin k0_t2_loop.trips) (v3564 : IVec S16 32) (v3582 : IVec S16 32) (k0_hw1503 : k0_chk1503 i k0_t2 v3564 v3582), ∀ (k0_h1 : k0_cond1 i k0_t2 = 1#1), ∀ a x, ((![v3582, v3564] : Fin 2 → IVec S16 32) a x).toNat < S160x142.size a := fun i k0_t2 v3564 v3582 k0_hw1503 k0_h1 => k0_hw1503 k0_h1

def k0_chk1504 (i : grid0.Coords) (k0_t2 : Fin k0_t2_loop.trips) (v3564 : IVec S16 32) (v3585 : IVec S16 32) : Prop :=
  (∀ (k0_h1 : k0_cond1 i k0_t2 = 1#1), ∀ a x, ((![v3585, v3564] : Fin 2 → IVec S16 32) a x).toNat < S160x142.size a)
theorem k0_idx2560_inb : ∀ (i : grid0.Coords) (k0_t2 : Fin k0_t2_loop.trips) (v3564 : IVec S16 32) (v3585 : IVec S16 32) (k0_hw1504 : k0_chk1504 i k0_t2 v3564 v3585), ∀ (k0_h1 : k0_cond1 i k0_t2 = 1#1), ∀ a x, ((![v3585, v3564] : Fin 2 → IVec S16 32) a x).toNat < S160x142.size a := fun i k0_t2 v3564 v3585 k0_hw1504 k0_h1 => k0_hw1504 k0_h1

def k0_chk1505 (i : grid0.Coords) (k0_t2 : Fin k0_t2_loop.trips) (v3564 : IVec S16 32) (v3588 : IVec S16 32) : Prop :=
  (∀ (k0_h1 : k0_cond1 i k0_t2 = 1#1), ∀ a x, ((![v3588, v3564] : Fin 2 → IVec S16 32) a x).toNat < S160x142.size a)
theorem k0_idx2562_inb : ∀ (i : grid0.Coords) (k0_t2 : Fin k0_t2_loop.trips) (v3564 : IVec S16 32) (v3588 : IVec S16 32) (k0_hw1505 : k0_chk1505 i k0_t2 v3564 v3588), ∀ (k0_h1 : k0_cond1 i k0_t2 = 1#1), ∀ a x, ((![v3588, v3564] : Fin 2 → IVec S16 32) a x).toNat < S160x142.size a := fun i k0_t2 v3564 v3588 k0_hw1505 k0_h1 => k0_hw1505 k0_h1

def k0_chk1506 (i : grid0.Coords) (k0_t2 : Fin k0_t2_loop.trips) (v3564 : IVec S16 32) (v3591 : IVec S16 32) : Prop :=
  (∀ (k0_h1 : k0_cond1 i k0_t2 = 1#1), ∀ a x, ((![v3591, v3564] : Fin 2 → IVec S16 32) a x).toNat < S160x142.size a)
theorem k0_idx2564_inb : ∀ (i : grid0.Coords) (k0_t2 : Fin k0_t2_loop.trips) (v3564 : IVec S16 32) (v3591 : IVec S16 32) (k0_hw1506 : k0_chk1506 i k0_t2 v3564 v3591), ∀ (k0_h1 : k0_cond1 i k0_t2 = 1#1), ∀ a x, ((![v3591, v3564] : Fin 2 → IVec S16 32) a x).toNat < S160x142.size a := fun i k0_t2 v3564 v3591 k0_hw1506 k0_h1 => k0_hw1506 k0_h1

def k0_chk1497 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) : Prop :=
  (∀ (k0_h1 : k0_cond1 i k0_t2 = 1#1), ∀ a x, ((![v15, v3564] : Fin 2 → IVec S16 32) a x).toNat < S256x142.size a) ∧
  (∀ (k0_h1 : k0_cond1 i k0_t2 = 1#1), ∀ a x, ((![v20, v3564] : Fin 2 → IVec S16 32) a x).toNat < S256x142.size a) ∧
  (∀ (k0_h1 : k0_cond1 i k0_t2 = 1#1), ∀ a x, ((![v25, v3564] : Fin 2 → IVec S16 32) a x).toNat < S256x142.size a) ∧
  (∀ (k0_h1 : k0_cond1 i k0_t2 = 1#1), ∀ a x, ((![v30, v3564] : Fin 2 → IVec S16 32) a x).toNat < S256x142.size a) ∧
  (∀ (k0_h1 : k0_cond1 i k0_t2 = 1#1), ∀ a x, ((![v35, v3564] : Fin 2 → IVec S16 32) a x).toNat < S256x142.size a) ∧
  (∀ (k0_h1 : k0_cond1 i k0_t2 = 1#1), ∀ a x, ((![v40, v3564] : Fin 2 → IVec S16 32) a x).toNat < S256x142.size a) ∧
  (∀ (k0_h1 : k0_cond1 i k0_t2 = 1#1), ∀ a x, ((![v45, v3564] : Fin 2 → IVec S16 32) a x).toNat < S256x142.size a) ∧
  (∀ (k0_h1 : k0_cond1 i k0_t2 = 1#1), ∀ a x, ((![v50, v3564] : Fin 2 → IVec S16 32) a x).toNat < S256x142.size a) ∧
  (∀ (k0_h1 : k0_cond1 i k0_t2 = 1#1), ∀ a x, ((![v55, v3564] : Fin 2 → IVec S16 32) a x).toNat < S256x142.size a) ∧
  (∀ (k0_h1 : k0_cond1 i k0_t2 = 1#1), ∀ a x, ((![v60, v3564] : Fin 2 → IVec S16 32) a x).toNat < S256x142.size a)
theorem k0_idx2547_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v15, v3564] : Fin 2 → IVec S16 32) a x).toNat < S256x142.size a := fun i k0_t2 v15 v20 v25 v30 v35 v40 v45 v50 v55 v60 v3564 k0_hw1497 k0_h1 => k0_hw1497.1 k0_h1
theorem k0_idx2549_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v20, v3564] : Fin 2 → IVec S16 32) a x).toNat < S256x142.size a := fun i k0_t2 v15 v20 v25 v30 v35 v40 v45 v50 v55 v60 v3564 k0_hw1497 k0_h1 => k0_hw1497.2.1 k0_h1
theorem k0_idx2551_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v25, v3564] : Fin 2 → IVec S16 32) a x).toNat < S256x142.size a := fun i k0_t2 v15 v20 v25 v30 v35 v40 v45 v50 v55 v60 v3564 k0_hw1497 k0_h1 => k0_hw1497.2.2.1 k0_h1
theorem k0_idx2553_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v30, v3564] : Fin 2 → IVec S16 32) a x).toNat < S256x142.size a := fun i k0_t2 v15 v20 v25 v30 v35 v40 v45 v50 v55 v60 v3564 k0_hw1497 k0_h1 => k0_hw1497.2.2.2.1 k0_h1
theorem k0_idx2555_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v35, v3564] : Fin 2 → IVec S16 32) a x).toNat < S256x142.size a := fun i k0_t2 v15 v20 v25 v30 v35 v40 v45 v50 v55 v60 v3564 k0_hw1497 k0_h1 => k0_hw1497.2.2.2.2.1 k0_h1
theorem k0_idx2557_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v40, v3564] : Fin 2 → IVec S16 32) a x).toNat < S256x142.size a := fun i k0_t2 v15 v20 v25 v30 v35 v40 v45 v50 v55 v60 v3564 k0_hw1497 k0_h1 => k0_hw1497.2.2.2.2.2.1 k0_h1
theorem k0_idx2559_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v45, v3564] : Fin 2 → IVec S16 32) a x).toNat < S256x142.size a := fun i k0_t2 v15 v20 v25 v30 v35 v40 v45 v50 v55 v60 v3564 k0_hw1497 k0_h1 => k0_hw1497.2.2.2.2.2.2.1 k0_h1
theorem k0_idx2561_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v50, v3564] : Fin 2 → IVec S16 32) a x).toNat < S256x142.size a := fun i k0_t2 v15 v20 v25 v30 v35 v40 v45 v50 v55 v60 v3564 k0_hw1497 k0_h1 => k0_hw1497.2.2.2.2.2.2.2.1 k0_h1
theorem k0_idx2563_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v55, v3564] : Fin 2 → IVec S16 32) a x).toNat < S256x142.size a := fun i k0_t2 v15 v20 v25 v30 v35 v40 v45 v50 v55 v60 v3564 k0_hw1497 k0_h1 => k0_hw1497.2.2.2.2.2.2.2.2.1 k0_h1
theorem k0_idx2565_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3564 : IVec S16 32) (k0_hw1497 : k0_chk1497 i k0_t2 v15 v20 v25 v30 v35 v40 v45 v50 v55 v60 v3564), ∀ (k0_h1 : k0_cond1 i k0_t2 = 1#1), ∀ a x, ((![v60, v3564] : Fin 2 → IVec S16 32) a x).toNat < S256x142.size a := fun i k0_t2 v15 v20 v25 v30 v35 v40 v45 v50 v55 v60 v3564 k0_hw1497 k0_h1 => k0_hw1497.2.2.2.2.2.2.2.2.2 k0_h1

def k0_chk1507 (i : grid0.Coords) (k0_t2 : Fin k0_t2_loop.trips) (v3564 : IVec S16 32) (v3594 : IVec S16 32) : Prop :=
  (∀ (k0_h1 : k0_cond1 i k0_t2 = 1#1), ∀ a x, ((![v3594, v3564] : Fin 2 → IVec S16 32) a x).toNat < S160x142.size a)
theorem k0_idx2566_inb : ∀ (i : grid0.Coords) (k0_t2 : Fin k0_t2_loop.trips) (v3564 : IVec S16 32) (v3594 : IVec S16 32) (k0_hw1507 : k0_chk1507 i k0_t2 v3564 v3594), ∀ (k0_h1 : k0_cond1 i k0_t2 = 1#1), ∀ a x, ((![v3594, v3564] : Fin 2 → IVec S16 32) a x).toNat < S160x142.size a := fun i k0_t2 v3564 v3594 k0_hw1507 k0_h1 => k0_hw1507 k0_h1

def k0_chk1509 (i : grid0.Coords) (k0_t2 : Fin k0_t2_loop.trips) (v3595 : IVec S16 32) (v3598 : IVec S16 32) : Prop :=
  (∀ (k0_h1 : k0_cond1 i k0_t2 = 1#1), ∀ a x, ((![v3598, v3595] : Fin 2 → IVec S16 32) a x).toNat < S160x142.size a)
theorem k0_idx2568_inb : ∀ (i : grid0.Coords) (k0_t2 : Fin k0_t2_loop.trips) (v3595 : IVec S16 32) (v3598 : IVec S16 32) (k0_hw1509 : k0_chk1509 i k0_t2 v3595 v3598), ∀ (k0_h1 : k0_cond1 i k0_t2 = 1#1), ∀ a x, ((![v3598, v3595] : Fin 2 → IVec S16 32) a x).toNat < S160x142.size a := fun i k0_t2 v3595 v3598 k0_hw1509 k0_h1 => k0_hw1509 k0_h1

def k0_chk1510 (i : grid0.Coords) (k0_t2 : Fin k0_t2_loop.trips) (v3595 : IVec S16 32) (v3601 : IVec S16 32) : Prop :=
  (∀ (k0_h1 : k0_cond1 i k0_t2 = 1#1), ∀ a x, ((![v3601, v3595] : Fin 2 → IVec S16 32) a x).toNat < S160x142.size a)
theorem k0_idx2570_inb : ∀ (i : grid0.Coords) (k0_t2 : Fin k0_t2_loop.trips) (v3595 : IVec S16 32) (v3601 : IVec S16 32) (k0_hw1510 : k0_chk1510 i k0_t2 v3595 v3601), ∀ (k0_h1 : k0_cond1 i k0_t2 = 1#1), ∀ a x, ((![v3601, v3595] : Fin 2 → IVec S16 32) a x).toNat < S160x142.size a := fun i k0_t2 v3595 v3601 k0_hw1510 k0_h1 => k0_hw1510 k0_h1

def k0_chk1511 (i : grid0.Coords) (k0_t2 : Fin k0_t2_loop.trips) (v3595 : IVec S16 32) (v3604 : IVec S16 32) : Prop :=
  (∀ (k0_h1 : k0_cond1 i k0_t2 = 1#1), ∀ a x, ((![v3604, v3595] : Fin 2 → IVec S16 32) a x).toNat < S160x142.size a)
theorem k0_idx2572_inb : ∀ (i : grid0.Coords) (k0_t2 : Fin k0_t2_loop.trips) (v3595 : IVec S16 32) (v3604 : IVec S16 32) (k0_hw1511 : k0_chk1511 i k0_t2 v3595 v3604), ∀ (k0_h1 : k0_cond1 i k0_t2 = 1#1), ∀ a x, ((![v3604, v3595] : Fin 2 → IVec S16 32) a x).toNat < S160x142.size a := fun i k0_t2 v3595 v3604 k0_hw1511 k0_h1 => k0_hw1511 k0_h1

def k0_chk1512 (i : grid0.Coords) (k0_t2 : Fin k0_t2_loop.trips) (v3595 : IVec S16 32) (v3607 : IVec S16 32) : Prop :=
  (∀ (k0_h1 : k0_cond1 i k0_t2 = 1#1), ∀ a x, ((![v3607, v3595] : Fin 2 → IVec S16 32) a x).toNat < S160x142.size a)
theorem k0_idx2574_inb : ∀ (i : grid0.Coords) (k0_t2 : Fin k0_t2_loop.trips) (v3595 : IVec S16 32) (v3607 : IVec S16 32) (k0_hw1512 : k0_chk1512 i k0_t2 v3595 v3607), ∀ (k0_h1 : k0_cond1 i k0_t2 = 1#1), ∀ a x, ((![v3607, v3595] : Fin 2 → IVec S16 32) a x).toNat < S160x142.size a := fun i k0_t2 v3595 v3607 k0_hw1512 k0_h1 => k0_hw1512 k0_h1

def k0_chk1513 (i : grid0.Coords) (k0_t2 : Fin k0_t2_loop.trips) (v3595 : IVec S16 32) (v3610 : IVec S16 32) : Prop :=
  (∀ (k0_h1 : k0_cond1 i k0_t2 = 1#1), ∀ a x, ((![v3610, v3595] : Fin 2 → IVec S16 32) a x).toNat < S160x142.size a)
theorem k0_idx2576_inb : ∀ (i : grid0.Coords) (k0_t2 : Fin k0_t2_loop.trips) (v3595 : IVec S16 32) (v3610 : IVec S16 32) (k0_hw1513 : k0_chk1513 i k0_t2 v3595 v3610), ∀ (k0_h1 : k0_cond1 i k0_t2 = 1#1), ∀ a x, ((![v3610, v3595] : Fin 2 → IVec S16 32) a x).toNat < S160x142.size a := fun i k0_t2 v3595 v3610 k0_hw1513 k0_h1 => k0_hw1513 k0_h1

def k0_chk1514 (i : grid0.Coords) (k0_t2 : Fin k0_t2_loop.trips) (v3595 : IVec S16 32) (v3613 : IVec S16 32) : Prop :=
  (∀ (k0_h1 : k0_cond1 i k0_t2 = 1#1), ∀ a x, ((![v3613, v3595] : Fin 2 → IVec S16 32) a x).toNat < S160x142.size a)
theorem k0_idx2578_inb : ∀ (i : grid0.Coords) (k0_t2 : Fin k0_t2_loop.trips) (v3595 : IVec S16 32) (v3613 : IVec S16 32) (k0_hw1514 : k0_chk1514 i k0_t2 v3595 v3613), ∀ (k0_h1 : k0_cond1 i k0_t2 = 1#1), ∀ a x, ((![v3613, v3595] : Fin 2 → IVec S16 32) a x).toNat < S160x142.size a := fun i k0_t2 v3595 v3613 k0_hw1514 k0_h1 => k0_hw1514 k0_h1

def k0_chk1515 (i : grid0.Coords) (k0_t2 : Fin k0_t2_loop.trips) (v3595 : IVec S16 32) (v3616 : IVec S16 32) : Prop :=
  (∀ (k0_h1 : k0_cond1 i k0_t2 = 1#1), ∀ a x, ((![v3616, v3595] : Fin 2 → IVec S16 32) a x).toNat < S160x142.size a)
theorem k0_idx2580_inb : ∀ (i : grid0.Coords) (k0_t2 : Fin k0_t2_loop.trips) (v3595 : IVec S16 32) (v3616 : IVec S16 32) (k0_hw1515 : k0_chk1515 i k0_t2 v3595 v3616), ∀ (k0_h1 : k0_cond1 i k0_t2 = 1#1), ∀ a x, ((![v3616, v3595] : Fin 2 → IVec S16 32) a x).toNat < S160x142.size a := fun i k0_t2 v3595 v3616 k0_hw1515 k0_h1 => k0_hw1515 k0_h1

def k0_chk1516 (i : grid0.Coords) (k0_t2 : Fin k0_t2_loop.trips) (v3595 : IVec S16 32) (v3619 : IVec S16 32) : Prop :=
  (∀ (k0_h1 : k0_cond1 i k0_t2 = 1#1), ∀ a x, ((![v3619, v3595] : Fin 2 → IVec S16 32) a x).toNat < S160x142.size a)
theorem k0_idx2582_inb : ∀ (i : grid0.Coords) (k0_t2 : Fin k0_t2_loop.trips) (v3595 : IVec S16 32) (v3619 : IVec S16 32) (k0_hw1516 : k0_chk1516 i k0_t2 v3595 v3619), ∀ (k0_h1 : k0_cond1 i k0_t2 = 1#1), ∀ a x, ((![v3619, v3595] : Fin 2 → IVec S16 32) a x).toNat < S160x142.size a := fun i k0_t2 v3595 v3619 k0_hw1516 k0_h1 => k0_hw1516 k0_h1

def k0_chk1517 (i : grid0.Coords) (k0_t2 : Fin k0_t2_loop.trips) (v3595 : IVec S16 32) (v3622 : IVec S16 32) : Prop :=
  (∀ (k0_h1 : k0_cond1 i k0_t2 = 1#1), ∀ a x, ((![v3622, v3595] : Fin 2 → IVec S16 32) a x).toNat < S160x142.size a)
theorem k0_idx2584_inb : ∀ (i : grid0.Coords) (k0_t2 : Fin k0_t2_loop.trips) (v3595 : IVec S16 32) (v3622 : IVec S16 32) (k0_hw1517 : k0_chk1517 i k0_t2 v3595 v3622), ∀ (k0_h1 : k0_cond1 i k0_t2 = 1#1), ∀ a x, ((![v3622, v3595] : Fin 2 → IVec S16 32) a x).toNat < S160x142.size a := fun i k0_t2 v3595 v3622 k0_hw1517 k0_h1 => k0_hw1517 k0_h1

def k0_chk1508 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) : Prop :=
  (∀ (k0_h1 : k0_cond1 i k0_t2 = 1#1), ∀ a x, ((![v15, v3595] : Fin 2 → IVec S16 32) a x).toNat < S256x142.size a) ∧
  (∀ (k0_h1 : k0_cond1 i k0_t2 = 1#1), ∀ a x, ((![v20, v3595] : Fin 2 → IVec S16 32) a x).toNat < S256x142.size a) ∧
  (∀ (k0_h1 : k0_cond1 i k0_t2 = 1#1), ∀ a x, ((![v25, v3595] : Fin 2 → IVec S16 32) a x).toNat < S256x142.size a) ∧
  (∀ (k0_h1 : k0_cond1 i k0_t2 = 1#1), ∀ a x, ((![v30, v3595] : Fin 2 → IVec S16 32) a x).toNat < S256x142.size a) ∧
  (∀ (k0_h1 : k0_cond1 i k0_t2 = 1#1), ∀ a x, ((![v35, v3595] : Fin 2 → IVec S16 32) a x).toNat < S256x142.size a) ∧
  (∀ (k0_h1 : k0_cond1 i k0_t2 = 1#1), ∀ a x, ((![v40, v3595] : Fin 2 → IVec S16 32) a x).toNat < S256x142.size a) ∧
  (∀ (k0_h1 : k0_cond1 i k0_t2 = 1#1), ∀ a x, ((![v45, v3595] : Fin 2 → IVec S16 32) a x).toNat < S256x142.size a) ∧
  (∀ (k0_h1 : k0_cond1 i k0_t2 = 1#1), ∀ a x, ((![v50, v3595] : Fin 2 → IVec S16 32) a x).toNat < S256x142.size a) ∧
  (∀ (k0_h1 : k0_cond1 i k0_t2 = 1#1), ∀ a x, ((![v55, v3595] : Fin 2 → IVec S16 32) a x).toNat < S256x142.size a) ∧
  (∀ (k0_h1 : k0_cond1 i k0_t2 = 1#1), ∀ a x, ((![v60, v3595] : Fin 2 → IVec S16 32) a x).toNat < S256x142.size a)
theorem k0_idx2567_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v15, v3595] : Fin 2 → IVec S16 32) a x).toNat < S256x142.size a := fun i k0_t2 v15 v20 v25 v30 v35 v40 v45 v50 v55 v60 v3595 k0_hw1508 k0_h1 => k0_hw1508.1 k0_h1
theorem k0_idx2569_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v20, v3595] : Fin 2 → IVec S16 32) a x).toNat < S256x142.size a := fun i k0_t2 v15 v20 v25 v30 v35 v40 v45 v50 v55 v60 v3595 k0_hw1508 k0_h1 => k0_hw1508.2.1 k0_h1
theorem k0_idx2571_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v25, v3595] : Fin 2 → IVec S16 32) a x).toNat < S256x142.size a := fun i k0_t2 v15 v20 v25 v30 v35 v40 v45 v50 v55 v60 v3595 k0_hw1508 k0_h1 => k0_hw1508.2.2.1 k0_h1
theorem k0_idx2573_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v30, v3595] : Fin 2 → IVec S16 32) a x).toNat < S256x142.size a := fun i k0_t2 v15 v20 v25 v30 v35 v40 v45 v50 v55 v60 v3595 k0_hw1508 k0_h1 => k0_hw1508.2.2.2.1 k0_h1
theorem k0_idx2575_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v35, v3595] : Fin 2 → IVec S16 32) a x).toNat < S256x142.size a := fun i k0_t2 v15 v20 v25 v30 v35 v40 v45 v50 v55 v60 v3595 k0_hw1508 k0_h1 => k0_hw1508.2.2.2.2.1 k0_h1
theorem k0_idx2577_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v40, v3595] : Fin 2 → IVec S16 32) a x).toNat < S256x142.size a := fun i k0_t2 v15 v20 v25 v30 v35 v40 v45 v50 v55 v60 v3595 k0_hw1508 k0_h1 => k0_hw1508.2.2.2.2.2.1 k0_h1
theorem k0_idx2579_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v45, v3595] : Fin 2 → IVec S16 32) a x).toNat < S256x142.size a := fun i k0_t2 v15 v20 v25 v30 v35 v40 v45 v50 v55 v60 v3595 k0_hw1508 k0_h1 => k0_hw1508.2.2.2.2.2.2.1 k0_h1
theorem k0_idx2581_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v50, v3595] : Fin 2 → IVec S16 32) a x).toNat < S256x142.size a := fun i k0_t2 v15 v20 v25 v30 v35 v40 v45 v50 v55 v60 v3595 k0_hw1508 k0_h1 => k0_hw1508.2.2.2.2.2.2.2.1 k0_h1
theorem k0_idx2583_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v55, v3595] : Fin 2 → IVec S16 32) a x).toNat < S256x142.size a := fun i k0_t2 v15 v20 v25 v30 v35 v40 v45 v50 v55 v60 v3595 k0_hw1508 k0_h1 => k0_hw1508.2.2.2.2.2.2.2.2.1 k0_h1
theorem k0_idx2585_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3595 : IVec S16 32) (k0_hw1508 : k0_chk1508 i k0_t2 v15 v20 v25 v30 v35 v40 v45 v50 v55 v60 v3595), ∀ (k0_h1 : k0_cond1 i k0_t2 = 1#1), ∀ a x, ((![v60, v3595] : Fin 2 → IVec S16 32) a x).toNat < S256x142.size a := fun i k0_t2 v15 v20 v25 v30 v35 v40 v45 v50 v55 v60 v3595 k0_hw1508 k0_h1 => k0_hw1508.2.2.2.2.2.2.2.2.2 k0_h1

def k0_chk1518 (i : grid0.Coords) (k0_t2 : Fin k0_t2_loop.trips) (v3595 : IVec S16 32) (v3625 : IVec S16 32) : Prop :=
  (∀ (k0_h1 : k0_cond1 i k0_t2 = 1#1), ∀ a x, ((![v3625, v3595] : Fin 2 → IVec S16 32) a x).toNat < S160x142.size a)
theorem k0_idx2586_inb : ∀ (i : grid0.Coords) (k0_t2 : Fin k0_t2_loop.trips) (v3595 : IVec S16 32) (v3625 : IVec S16 32) (k0_hw1518 : k0_chk1518 i k0_t2 v3595 v3625), ∀ (k0_h1 : k0_cond1 i k0_t2 = 1#1), ∀ a x, ((![v3625, v3595] : Fin 2 → IVec S16 32) a x).toNat < S160x142.size a := fun i k0_t2 v3595 v3625 k0_hw1518 k0_h1 => k0_hw1518 k0_h1

def k0_chk1520 (i : grid0.Coords) (k0_t2 : Fin k0_t2_loop.trips) (v3626 : IVec S16 32) (v3629 : IVec S16 32) : Prop :=
  (∀ (k0_h1 : k0_cond1 i k0_t2 = 1#1), ∀ a x, ((![v3629, v3626] : Fin 2 → IVec S16 32) a x).toNat < S160x142.size a)
theorem k0_idx2588_inb : ∀ (i : grid0.Coords) (k0_t2 : Fin k0_t2_loop.trips) (v3626 : IVec S16 32) (v3629 : IVec S16 32) (k0_hw1520 : k0_chk1520 i k0_t2 v3626 v3629), ∀ (k0_h1 : k0_cond1 i k0_t2 = 1#1), ∀ a x, ((![v3629, v3626] : Fin 2 → IVec S16 32) a x).toNat < S160x142.size a := fun i k0_t2 v3626 v3629 k0_hw1520 k0_h1 => k0_hw1520 k0_h1

def k0_chk1521 (i : grid0.Coords) (k0_t2 : Fin k0_t2_loop.trips) (v3626 : IVec S16 32) (v3632 : IVec S16 32) : Prop :=
  (∀ (k0_h1 : k0_cond1 i k0_t2 = 1#1), ∀ a x, ((![v3632, v3626] : Fin 2 → IVec S16 32) a x).toNat < S160x142.size a)
theorem k0_idx2590_inb : ∀ (i : grid0.Coords) (k0_t2 : Fin k0_t2_loop.trips) (v3626 : IVec S16 32) (v3632 : IVec S16 32) (k0_hw1521 : k0_chk1521 i k0_t2 v3626 v3632), ∀ (k0_h1 : k0_cond1 i k0_t2 = 1#1), ∀ a x, ((![v3632, v3626] : Fin 2 → IVec S16 32) a x).toNat < S160x142.size a := fun i k0_t2 v3626 v3632 k0_hw1521 k0_h1 => k0_hw1521 k0_h1

def k0_chk1522 (i : grid0.Coords) (k0_t2 : Fin k0_t2_loop.trips) (v3626 : IVec S16 32) (v3635 : IVec S16 32) : Prop :=
  (∀ (k0_h1 : k0_cond1 i k0_t2 = 1#1), ∀ a x, ((![v3635, v3626] : Fin 2 → IVec S16 32) a x).toNat < S160x142.size a)
theorem k0_idx2592_inb : ∀ (i : grid0.Coords) (k0_t2 : Fin k0_t2_loop.trips) (v3626 : IVec S16 32) (v3635 : IVec S16 32) (k0_hw1522 : k0_chk1522 i k0_t2 v3626 v3635), ∀ (k0_h1 : k0_cond1 i k0_t2 = 1#1), ∀ a x, ((![v3635, v3626] : Fin 2 → IVec S16 32) a x).toNat < S160x142.size a := fun i k0_t2 v3626 v3635 k0_hw1522 k0_h1 => k0_hw1522 k0_h1

def k0_chk1523 (i : grid0.Coords) (k0_t2 : Fin k0_t2_loop.trips) (v3626 : IVec S16 32) (v3638 : IVec S16 32) : Prop :=
  (∀ (k0_h1 : k0_cond1 i k0_t2 = 1#1), ∀ a x, ((![v3638, v3626] : Fin 2 → IVec S16 32) a x).toNat < S160x142.size a)
theorem k0_idx2594_inb : ∀ (i : grid0.Coords) (k0_t2 : Fin k0_t2_loop.trips) (v3626 : IVec S16 32) (v3638 : IVec S16 32) (k0_hw1523 : k0_chk1523 i k0_t2 v3626 v3638), ∀ (k0_h1 : k0_cond1 i k0_t2 = 1#1), ∀ a x, ((![v3638, v3626] : Fin 2 → IVec S16 32) a x).toNat < S160x142.size a := fun i k0_t2 v3626 v3638 k0_hw1523 k0_h1 => k0_hw1523 k0_h1

def k0_chk1524 (i : grid0.Coords) (k0_t2 : Fin k0_t2_loop.trips) (v3626 : IVec S16 32) (v3641 : IVec S16 32) : Prop :=
  (∀ (k0_h1 : k0_cond1 i k0_t2 = 1#1), ∀ a x, ((![v3641, v3626] : Fin 2 → IVec S16 32) a x).toNat < S160x142.size a)
theorem k0_idx2596_inb : ∀ (i : grid0.Coords) (k0_t2 : Fin k0_t2_loop.trips) (v3626 : IVec S16 32) (v3641 : IVec S16 32) (k0_hw1524 : k0_chk1524 i k0_t2 v3626 v3641), ∀ (k0_h1 : k0_cond1 i k0_t2 = 1#1), ∀ a x, ((![v3641, v3626] : Fin 2 → IVec S16 32) a x).toNat < S160x142.size a := fun i k0_t2 v3626 v3641 k0_hw1524 k0_h1 => k0_hw1524 k0_h1

def k0_chk1525 (i : grid0.Coords) (k0_t2 : Fin k0_t2_loop.trips) (v3626 : IVec S16 32) (v3644 : IVec S16 32) : Prop :=
  (∀ (k0_h1 : k0_cond1 i k0_t2 = 1#1), ∀ a x, ((![v3644, v3626] : Fin 2 → IVec S16 32) a x).toNat < S160x142.size a)
theorem k0_idx2598_inb : ∀ (i : grid0.Coords) (k0_t2 : Fin k0_t2_loop.trips) (v3626 : IVec S16 32) (v3644 : IVec S16 32) (k0_hw1525 : k0_chk1525 i k0_t2 v3626 v3644), ∀ (k0_h1 : k0_cond1 i k0_t2 = 1#1), ∀ a x, ((![v3644, v3626] : Fin 2 → IVec S16 32) a x).toNat < S160x142.size a := fun i k0_t2 v3626 v3644 k0_hw1525 k0_h1 => k0_hw1525 k0_h1

def k0_chk1526 (i : grid0.Coords) (k0_t2 : Fin k0_t2_loop.trips) (v3626 : IVec S16 32) (v3647 : IVec S16 32) : Prop :=
  (∀ (k0_h1 : k0_cond1 i k0_t2 = 1#1), ∀ a x, ((![v3647, v3626] : Fin 2 → IVec S16 32) a x).toNat < S160x142.size a)
theorem k0_idx2600_inb : ∀ (i : grid0.Coords) (k0_t2 : Fin k0_t2_loop.trips) (v3626 : IVec S16 32) (v3647 : IVec S16 32) (k0_hw1526 : k0_chk1526 i k0_t2 v3626 v3647), ∀ (k0_h1 : k0_cond1 i k0_t2 = 1#1), ∀ a x, ((![v3647, v3626] : Fin 2 → IVec S16 32) a x).toNat < S160x142.size a := fun i k0_t2 v3626 v3647 k0_hw1526 k0_h1 => k0_hw1526 k0_h1

def k0_chk1527 (i : grid0.Coords) (k0_t2 : Fin k0_t2_loop.trips) (v3626 : IVec S16 32) (v3650 : IVec S16 32) : Prop :=
  (∀ (k0_h1 : k0_cond1 i k0_t2 = 1#1), ∀ a x, ((![v3650, v3626] : Fin 2 → IVec S16 32) a x).toNat < S160x142.size a)
theorem k0_idx2602_inb : ∀ (i : grid0.Coords) (k0_t2 : Fin k0_t2_loop.trips) (v3626 : IVec S16 32) (v3650 : IVec S16 32) (k0_hw1527 : k0_chk1527 i k0_t2 v3626 v3650), ∀ (k0_h1 : k0_cond1 i k0_t2 = 1#1), ∀ a x, ((![v3650, v3626] : Fin 2 → IVec S16 32) a x).toNat < S160x142.size a := fun i k0_t2 v3626 v3650 k0_hw1527 k0_h1 => k0_hw1527 k0_h1

def k0_chk1528 (i : grid0.Coords) (k0_t2 : Fin k0_t2_loop.trips) (v3626 : IVec S16 32) (v3653 : IVec S16 32) : Prop :=
  (∀ (k0_h1 : k0_cond1 i k0_t2 = 1#1), ∀ a x, ((![v3653, v3626] : Fin 2 → IVec S16 32) a x).toNat < S160x142.size a)
theorem k0_idx2604_inb : ∀ (i : grid0.Coords) (k0_t2 : Fin k0_t2_loop.trips) (v3626 : IVec S16 32) (v3653 : IVec S16 32) (k0_hw1528 : k0_chk1528 i k0_t2 v3626 v3653), ∀ (k0_h1 : k0_cond1 i k0_t2 = 1#1), ∀ a x, ((![v3653, v3626] : Fin 2 → IVec S16 32) a x).toNat < S160x142.size a := fun i k0_t2 v3626 v3653 k0_hw1528 k0_h1 => k0_hw1528 k0_h1

def k0_chk1519 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) : Prop :=
  (∀ (k0_h1 : k0_cond1 i k0_t2 = 1#1), ∀ a x, ((![v15, v3626] : Fin 2 → IVec S16 32) a x).toNat < S256x142.size a) ∧
  (∀ (k0_h1 : k0_cond1 i k0_t2 = 1#1), ∀ a x, ((![v20, v3626] : Fin 2 → IVec S16 32) a x).toNat < S256x142.size a) ∧
  (∀ (k0_h1 : k0_cond1 i k0_t2 = 1#1), ∀ a x, ((![v25, v3626] : Fin 2 → IVec S16 32) a x).toNat < S256x142.size a) ∧
  (∀ (k0_h1 : k0_cond1 i k0_t2 = 1#1), ∀ a x, ((![v30, v3626] : Fin 2 → IVec S16 32) a x).toNat < S256x142.size a) ∧
  (∀ (k0_h1 : k0_cond1 i k0_t2 = 1#1), ∀ a x, ((![v35, v3626] : Fin 2 → IVec S16 32) a x).toNat < S256x142.size a) ∧
  (∀ (k0_h1 : k0_cond1 i k0_t2 = 1#1), ∀ a x, ((![v40, v3626] : Fin 2 → IVec S16 32) a x).toNat < S256x142.size a) ∧
  (∀ (k0_h1 : k0_cond1 i k0_t2 = 1#1), ∀ a x, ((![v45, v3626] : Fin 2 → IVec S16 32) a x).toNat < S256x142.size a) ∧
  (∀ (k0_h1 : k0_cond1 i k0_t2 = 1#1), ∀ a x, ((![v50, v3626] : Fin 2 → IVec S16 32) a x).toNat < S256x142.size a) ∧
  (∀ (k0_h1 : k0_cond1 i k0_t2 = 1#1), ∀ a x, ((![v55, v3626] : Fin 2 → IVec S16 32) a x).toNat < S256x142.size a) ∧
  (∀ (k0_h1 : k0_cond1 i k0_t2 = 1#1), ∀ a x, ((![v60, v3626] : Fin 2 → IVec S16 32) a x).toNat < S256x142.size a)
theorem k0_idx2587_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v15, v3626] : Fin 2 → IVec S16 32) a x).toNat < S256x142.size a := fun i k0_t2 v15 v20 v25 v30 v35 v40 v45 v50 v55 v60 v3626 k0_hw1519 k0_h1 => k0_hw1519.1 k0_h1
theorem k0_idx2589_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v20, v3626] : Fin 2 → IVec S16 32) a x).toNat < S256x142.size a := fun i k0_t2 v15 v20 v25 v30 v35 v40 v45 v50 v55 v60 v3626 k0_hw1519 k0_h1 => k0_hw1519.2.1 k0_h1
theorem k0_idx2591_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v25, v3626] : Fin 2 → IVec S16 32) a x).toNat < S256x142.size a := fun i k0_t2 v15 v20 v25 v30 v35 v40 v45 v50 v55 v60 v3626 k0_hw1519 k0_h1 => k0_hw1519.2.2.1 k0_h1
theorem k0_idx2593_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v30, v3626] : Fin 2 → IVec S16 32) a x).toNat < S256x142.size a := fun i k0_t2 v15 v20 v25 v30 v35 v40 v45 v50 v55 v60 v3626 k0_hw1519 k0_h1 => k0_hw1519.2.2.2.1 k0_h1
theorem k0_idx2595_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v35, v3626] : Fin 2 → IVec S16 32) a x).toNat < S256x142.size a := fun i k0_t2 v15 v20 v25 v30 v35 v40 v45 v50 v55 v60 v3626 k0_hw1519 k0_h1 => k0_hw1519.2.2.2.2.1 k0_h1
theorem k0_idx2597_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v40, v3626] : Fin 2 → IVec S16 32) a x).toNat < S256x142.size a := fun i k0_t2 v15 v20 v25 v30 v35 v40 v45 v50 v55 v60 v3626 k0_hw1519 k0_h1 => k0_hw1519.2.2.2.2.2.1 k0_h1
theorem k0_idx2599_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v45, v3626] : Fin 2 → IVec S16 32) a x).toNat < S256x142.size a := fun i k0_t2 v15 v20 v25 v30 v35 v40 v45 v50 v55 v60 v3626 k0_hw1519 k0_h1 => k0_hw1519.2.2.2.2.2.2.1 k0_h1
theorem k0_idx2601_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v50, v3626] : Fin 2 → IVec S16 32) a x).toNat < S256x142.size a := fun i k0_t2 v15 v20 v25 v30 v35 v40 v45 v50 v55 v60 v3626 k0_hw1519 k0_h1 => k0_hw1519.2.2.2.2.2.2.2.1 k0_h1
theorem k0_idx2603_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v55, v3626] : Fin 2 → IVec S16 32) a x).toNat < S256x142.size a := fun i k0_t2 v15 v20 v25 v30 v35 v40 v45 v50 v55 v60 v3626 k0_hw1519 k0_h1 => k0_hw1519.2.2.2.2.2.2.2.2.1 k0_h1
theorem k0_idx2605_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3626 : IVec S16 32) (k0_hw1519 : k0_chk1519 i k0_t2 v15 v20 v25 v30 v35 v40 v45 v50 v55 v60 v3626), ∀ (k0_h1 : k0_cond1 i k0_t2 = 1#1), ∀ a x, ((![v60, v3626] : Fin 2 → IVec S16 32) a x).toNat < S256x142.size a := fun i k0_t2 v15 v20 v25 v30 v35 v40 v45 v50 v55 v60 v3626 k0_hw1519 k0_h1 => k0_hw1519.2.2.2.2.2.2.2.2.2 k0_h1

def k0_chk1529 (i : grid0.Coords) (k0_t2 : Fin k0_t2_loop.trips) (v3626 : IVec S16 32) (v3656 : IVec S16 32) : Prop :=
  (∀ (k0_h1 : k0_cond1 i k0_t2 = 1#1), ∀ a x, ((![v3656, v3626] : Fin 2 → IVec S16 32) a x).toNat < S160x142.size a)
theorem k0_idx2606_inb : ∀ (i : grid0.Coords) (k0_t2 : Fin k0_t2_loop.trips) (v3626 : IVec S16 32) (v3656 : IVec S16 32) (k0_hw1529 : k0_chk1529 i k0_t2 v3626 v3656), ∀ (k0_h1 : k0_cond1 i k0_t2 = 1#1), ∀ a x, ((![v3656, v3626] : Fin 2 → IVec S16 32) a x).toNat < S160x142.size a := fun i k0_t2 v3626 v3656 k0_hw1529 k0_h1 => k0_hw1529 k0_h1

def k0_chk1531 (i : grid0.Coords) (k0_t2 : Fin k0_t2_loop.trips) (v3657 : IVec S16 32) (v3660 : IVec S16 32) : Prop :=
  (∀ (k0_h1 : k0_cond1 i k0_t2 = 1#1), ∀ a x, ((![v3660, v3657] : Fin 2 → IVec S16 32) a x).toNat < S160x142.size a)
theorem k0_idx2608_inb : ∀ (i : grid0.Coords) (k0_t2 : Fin k0_t2_loop.trips) (v3657 : IVec S16 32) (v3660 : IVec S16 32) (k0_hw1531 : k0_chk1531 i k0_t2 v3657 v3660), ∀ (k0_h1 : k0_cond1 i k0_t2 = 1#1), ∀ a x, ((![v3660, v3657] : Fin 2 → IVec S16 32) a x).toNat < S160x142.size a := fun i k0_t2 v3657 v3660 k0_hw1531 k0_h1 => k0_hw1531 k0_h1

def k0_chk1532 (i : grid0.Coords) (k0_t2 : Fin k0_t2_loop.trips) (v3657 : IVec S16 32) (v3663 : IVec S16 32) : Prop :=
  (∀ (k0_h1 : k0_cond1 i k0_t2 = 1#1), ∀ a x, ((![v3663, v3657] : Fin 2 → IVec S16 32) a x).toNat < S160x142.size a)
theorem k0_idx2610_inb : ∀ (i : grid0.Coords) (k0_t2 : Fin k0_t2_loop.trips) (v3657 : IVec S16 32) (v3663 : IVec S16 32) (k0_hw1532 : k0_chk1532 i k0_t2 v3657 v3663), ∀ (k0_h1 : k0_cond1 i k0_t2 = 1#1), ∀ a x, ((![v3663, v3657] : Fin 2 → IVec S16 32) a x).toNat < S160x142.size a := fun i k0_t2 v3657 v3663 k0_hw1532 k0_h1 => k0_hw1532 k0_h1

def k0_chk1533 (i : grid0.Coords) (k0_t2 : Fin k0_t2_loop.trips) (v3657 : IVec S16 32) (v3666 : IVec S16 32) : Prop :=
  (∀ (k0_h1 : k0_cond1 i k0_t2 = 1#1), ∀ a x, ((![v3666, v3657] : Fin 2 → IVec S16 32) a x).toNat < S160x142.size a)
theorem k0_idx2612_inb : ∀ (i : grid0.Coords) (k0_t2 : Fin k0_t2_loop.trips) (v3657 : IVec S16 32) (v3666 : IVec S16 32) (k0_hw1533 : k0_chk1533 i k0_t2 v3657 v3666), ∀ (k0_h1 : k0_cond1 i k0_t2 = 1#1), ∀ a x, ((![v3666, v3657] : Fin 2 → IVec S16 32) a x).toNat < S160x142.size a := fun i k0_t2 v3657 v3666 k0_hw1533 k0_h1 => k0_hw1533 k0_h1

def k0_chk1534 (i : grid0.Coords) (k0_t2 : Fin k0_t2_loop.trips) (v3657 : IVec S16 32) (v3669 : IVec S16 32) : Prop :=
  (∀ (k0_h1 : k0_cond1 i k0_t2 = 1#1), ∀ a x, ((![v3669, v3657] : Fin 2 → IVec S16 32) a x).toNat < S160x142.size a)
theorem k0_idx2614_inb : ∀ (i : grid0.Coords) (k0_t2 : Fin k0_t2_loop.trips) (v3657 : IVec S16 32) (v3669 : IVec S16 32) (k0_hw1534 : k0_chk1534 i k0_t2 v3657 v3669), ∀ (k0_h1 : k0_cond1 i k0_t2 = 1#1), ∀ a x, ((![v3669, v3657] : Fin 2 → IVec S16 32) a x).toNat < S160x142.size a := fun i k0_t2 v3657 v3669 k0_hw1534 k0_h1 => k0_hw1534 k0_h1

def k0_chk1535 (i : grid0.Coords) (k0_t2 : Fin k0_t2_loop.trips) (v3657 : IVec S16 32) (v3672 : IVec S16 32) : Prop :=
  (∀ (k0_h1 : k0_cond1 i k0_t2 = 1#1), ∀ a x, ((![v3672, v3657] : Fin 2 → IVec S16 32) a x).toNat < S160x142.size a)
theorem k0_idx2616_inb : ∀ (i : grid0.Coords) (k0_t2 : Fin k0_t2_loop.trips) (v3657 : IVec S16 32) (v3672 : IVec S16 32) (k0_hw1535 : k0_chk1535 i k0_t2 v3657 v3672), ∀ (k0_h1 : k0_cond1 i k0_t2 = 1#1), ∀ a x, ((![v3672, v3657] : Fin 2 → IVec S16 32) a x).toNat < S160x142.size a := fun i k0_t2 v3657 v3672 k0_hw1535 k0_h1 => k0_hw1535 k0_h1

def k0_chk1536 (i : grid0.Coords) (k0_t2 : Fin k0_t2_loop.trips) (v3657 : IVec S16 32) (v3675 : IVec S16 32) : Prop :=
  (∀ (k0_h1 : k0_cond1 i k0_t2 = 1#1), ∀ a x, ((![v3675, v3657] : Fin 2 → IVec S16 32) a x).toNat < S160x142.size a)
theorem k0_idx2618_inb : ∀ (i : grid0.Coords) (k0_t2 : Fin k0_t2_loop.trips) (v3657 : IVec S16 32) (v3675 : IVec S16 32) (k0_hw1536 : k0_chk1536 i k0_t2 v3657 v3675), ∀ (k0_h1 : k0_cond1 i k0_t2 = 1#1), ∀ a x, ((![v3675, v3657] : Fin 2 → IVec S16 32) a x).toNat < S160x142.size a := fun i k0_t2 v3657 v3675 k0_hw1536 k0_h1 => k0_hw1536 k0_h1

def k0_chk1537 (i : grid0.Coords) (k0_t2 : Fin k0_t2_loop.trips) (v3657 : IVec S16 32) (v3678 : IVec S16 32) : Prop :=
  (∀ (k0_h1 : k0_cond1 i k0_t2 = 1#1), ∀ a x, ((![v3678, v3657] : Fin 2 → IVec S16 32) a x).toNat < S160x142.size a)
theorem k0_idx2620_inb : ∀ (i : grid0.Coords) (k0_t2 : Fin k0_t2_loop.trips) (v3657 : IVec S16 32) (v3678 : IVec S16 32) (k0_hw1537 : k0_chk1537 i k0_t2 v3657 v3678), ∀ (k0_h1 : k0_cond1 i k0_t2 = 1#1), ∀ a x, ((![v3678, v3657] : Fin 2 → IVec S16 32) a x).toNat < S160x142.size a := fun i k0_t2 v3657 v3678 k0_hw1537 k0_h1 => k0_hw1537 k0_h1

def k0_chk1538 (i : grid0.Coords) (k0_t2 : Fin k0_t2_loop.trips) (v3657 : IVec S16 32) (v3681 : IVec S16 32) : Prop :=
  (∀ (k0_h1 : k0_cond1 i k0_t2 = 1#1), ∀ a x, ((![v3681, v3657] : Fin 2 → IVec S16 32) a x).toNat < S160x142.size a)
theorem k0_idx2622_inb : ∀ (i : grid0.Coords) (k0_t2 : Fin k0_t2_loop.trips) (v3657 : IVec S16 32) (v3681 : IVec S16 32) (k0_hw1538 : k0_chk1538 i k0_t2 v3657 v3681), ∀ (k0_h1 : k0_cond1 i k0_t2 = 1#1), ∀ a x, ((![v3681, v3657] : Fin 2 → IVec S16 32) a x).toNat < S160x142.size a := fun i k0_t2 v3657 v3681 k0_hw1538 k0_h1 => k0_hw1538 k0_h1

def k0_chk1539 (i : grid0.Coords) (k0_t2 : Fin k0_t2_loop.trips) (v3657 : IVec S16 32) (v3684 : IVec S16 32) : Prop :=
  (∀ (k0_h1 : k0_cond1 i k0_t2 = 1#1), ∀ a x, ((![v3684, v3657] : Fin 2 → IVec S16 32) a x).toNat < S160x142.size a)
theorem k0_idx2624_inb : ∀ (i : grid0.Coords) (k0_t2 : Fin k0_t2_loop.trips) (v3657 : IVec S16 32) (v3684 : IVec S16 32) (k0_hw1539 : k0_chk1539 i k0_t2 v3657 v3684), ∀ (k0_h1 : k0_cond1 i k0_t2 = 1#1), ∀ a x, ((![v3684, v3657] : Fin 2 → IVec S16 32) a x).toNat < S160x142.size a := fun i k0_t2 v3657 v3684 k0_hw1539 k0_h1 => k0_hw1539 k0_h1

def k0_chk1530 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) : Prop :=
  (∀ (k0_h1 : k0_cond1 i k0_t2 = 1#1), ∀ a x, ((![v15, v3657] : Fin 2 → IVec S16 32) a x).toNat < S256x142.size a) ∧
  (∀ (k0_h1 : k0_cond1 i k0_t2 = 1#1), ∀ a x, ((![v20, v3657] : Fin 2 → IVec S16 32) a x).toNat < S256x142.size a) ∧
  (∀ (k0_h1 : k0_cond1 i k0_t2 = 1#1), ∀ a x, ((![v25, v3657] : Fin 2 → IVec S16 32) a x).toNat < S256x142.size a) ∧
  (∀ (k0_h1 : k0_cond1 i k0_t2 = 1#1), ∀ a x, ((![v30, v3657] : Fin 2 → IVec S16 32) a x).toNat < S256x142.size a) ∧
  (∀ (k0_h1 : k0_cond1 i k0_t2 = 1#1), ∀ a x, ((![v35, v3657] : Fin 2 → IVec S16 32) a x).toNat < S256x142.size a) ∧
  (∀ (k0_h1 : k0_cond1 i k0_t2 = 1#1), ∀ a x, ((![v40, v3657] : Fin 2 → IVec S16 32) a x).toNat < S256x142.size a) ∧
  (∀ (k0_h1 : k0_cond1 i k0_t2 = 1#1), ∀ a x, ((![v45, v3657] : Fin 2 → IVec S16 32) a x).toNat < S256x142.size a) ∧
  (∀ (k0_h1 : k0_cond1 i k0_t2 = 1#1), ∀ a x, ((![v50, v3657] : Fin 2 → IVec S16 32) a x).toNat < S256x142.size a) ∧
  (∀ (k0_h1 : k0_cond1 i k0_t2 = 1#1), ∀ a x, ((![v55, v3657] : Fin 2 → IVec S16 32) a x).toNat < S256x142.size a) ∧
  (∀ (k0_h1 : k0_cond1 i k0_t2 = 1#1), ∀ a x, ((![v60, v3657] : Fin 2 → IVec S16 32) a x).toNat < S256x142.size a)
theorem k0_idx2607_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v15, v3657] : Fin 2 → IVec S16 32) a x).toNat < S256x142.size a := fun i k0_t2 v15 v20 v25 v30 v35 v40 v45 v50 v55 v60 v3657 k0_hw1530 k0_h1 => k0_hw1530.1 k0_h1
theorem k0_idx2609_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v20, v3657] : Fin 2 → IVec S16 32) a x).toNat < S256x142.size a := fun i k0_t2 v15 v20 v25 v30 v35 v40 v45 v50 v55 v60 v3657 k0_hw1530 k0_h1 => k0_hw1530.2.1 k0_h1
theorem k0_idx2611_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v25, v3657] : Fin 2 → IVec S16 32) a x).toNat < S256x142.size a := fun i k0_t2 v15 v20 v25 v30 v35 v40 v45 v50 v55 v60 v3657 k0_hw1530 k0_h1 => k0_hw1530.2.2.1 k0_h1
theorem k0_idx2613_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v30, v3657] : Fin 2 → IVec S16 32) a x).toNat < S256x142.size a := fun i k0_t2 v15 v20 v25 v30 v35 v40 v45 v50 v55 v60 v3657 k0_hw1530 k0_h1 => k0_hw1530.2.2.2.1 k0_h1
theorem k0_idx2615_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v35, v3657] : Fin 2 → IVec S16 32) a x).toNat < S256x142.size a := fun i k0_t2 v15 v20 v25 v30 v35 v40 v45 v50 v55 v60 v3657 k0_hw1530 k0_h1 => k0_hw1530.2.2.2.2.1 k0_h1
theorem k0_idx2617_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v40, v3657] : Fin 2 → IVec S16 32) a x).toNat < S256x142.size a := fun i k0_t2 v15 v20 v25 v30 v35 v40 v45 v50 v55 v60 v3657 k0_hw1530 k0_h1 => k0_hw1530.2.2.2.2.2.1 k0_h1
theorem k0_idx2619_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v45, v3657] : Fin 2 → IVec S16 32) a x).toNat < S256x142.size a := fun i k0_t2 v15 v20 v25 v30 v35 v40 v45 v50 v55 v60 v3657 k0_hw1530 k0_h1 => k0_hw1530.2.2.2.2.2.2.1 k0_h1
theorem k0_idx2621_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v50, v3657] : Fin 2 → IVec S16 32) a x).toNat < S256x142.size a := fun i k0_t2 v15 v20 v25 v30 v35 v40 v45 v50 v55 v60 v3657 k0_hw1530 k0_h1 => k0_hw1530.2.2.2.2.2.2.2.1 k0_h1
theorem k0_idx2623_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v55, v3657] : Fin 2 → IVec S16 32) a x).toNat < S256x142.size a := fun i k0_t2 v15 v20 v25 v30 v35 v40 v45 v50 v55 v60 v3657 k0_hw1530 k0_h1 => k0_hw1530.2.2.2.2.2.2.2.2.1 k0_h1
theorem k0_idx2625_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3657 : IVec S16 32) (k0_hw1530 : k0_chk1530 i k0_t2 v15 v20 v25 v30 v35 v40 v45 v50 v55 v60 v3657), ∀ (k0_h1 : k0_cond1 i k0_t2 = 1#1), ∀ a x, ((![v60, v3657] : Fin 2 → IVec S16 32) a x).toNat < S256x142.size a := fun i k0_t2 v15 v20 v25 v30 v35 v40 v45 v50 v55 v60 v3657 k0_hw1530 k0_h1 => k0_hw1530.2.2.2.2.2.2.2.2.2 k0_h1

def k0_chk1540 (i : grid0.Coords) (k0_t2 : Fin k0_t2_loop.trips) (v3657 : IVec S16 32) (v3687 : IVec S16 32) : Prop :=
  (∀ (k0_h1 : k0_cond1 i k0_t2 = 1#1), ∀ a x, ((![v3687, v3657] : Fin 2 → IVec S16 32) a x).toNat < S160x142.size a)
theorem k0_idx2626_inb : ∀ (i : grid0.Coords) (k0_t2 : Fin k0_t2_loop.trips) (v3657 : IVec S16 32) (v3687 : IVec S16 32) (k0_hw1540 : k0_chk1540 i k0_t2 v3657 v3687), ∀ (k0_h1 : k0_cond1 i k0_t2 = 1#1), ∀ a x, ((![v3687, v3657] : Fin 2 → IVec S16 32) a x).toNat < S160x142.size a := fun i k0_t2 v3657 v3687 k0_hw1540 k0_h1 => k0_hw1540 k0_h1

def k0_chk1542 (i : grid0.Coords) (k0_t2 : Fin k0_t2_loop.trips) (v3688 : IVec S16 32) (v3691 : IVec S16 32) : Prop :=
  (∀ (k0_h1 : k0_cond1 i k0_t2 = 1#1), ∀ a x, ((![v3691, v3688] : Fin 2 → IVec S16 32) a x).toNat < S160x142.size a)
theorem k0_idx2628_inb : ∀ (i : grid0.Coords) (k0_t2 : Fin k0_t2_loop.trips) (v3688 : IVec S16 32) (v3691 : IVec S16 32) (k0_hw1542 : k0_chk1542 i k0_t2 v3688 v3691), ∀ (k0_h1 : k0_cond1 i k0_t2 = 1#1), ∀ a x, ((![v3691, v3688] : Fin 2 → IVec S16 32) a x).toNat < S160x142.size a := fun i k0_t2 v3688 v3691 k0_hw1542 k0_h1 => k0_hw1542 k0_h1

def k0_chk1543 (i : grid0.Coords) (k0_t2 : Fin k0_t2_loop.trips) (v3688 : IVec S16 32) (v3694 : IVec S16 32) : Prop :=
  (∀ (k0_h1 : k0_cond1 i k0_t2 = 1#1), ∀ a x, ((![v3694, v3688] : Fin 2 → IVec S16 32) a x).toNat < S160x142.size a)
theorem k0_idx2630_inb : ∀ (i : grid0.Coords) (k0_t2 : Fin k0_t2_loop.trips) (v3688 : IVec S16 32) (v3694 : IVec S16 32) (k0_hw1543 : k0_chk1543 i k0_t2 v3688 v3694), ∀ (k0_h1 : k0_cond1 i k0_t2 = 1#1), ∀ a x, ((![v3694, v3688] : Fin 2 → IVec S16 32) a x).toNat < S160x142.size a := fun i k0_t2 v3688 v3694 k0_hw1543 k0_h1 => k0_hw1543 k0_h1

def k0_chk1544 (i : grid0.Coords) (k0_t2 : Fin k0_t2_loop.trips) (v3688 : IVec S16 32) (v3697 : IVec S16 32) : Prop :=
  (∀ (k0_h1 : k0_cond1 i k0_t2 = 1#1), ∀ a x, ((![v3697, v3688] : Fin 2 → IVec S16 32) a x).toNat < S160x142.size a)
theorem k0_idx2632_inb : ∀ (i : grid0.Coords) (k0_t2 : Fin k0_t2_loop.trips) (v3688 : IVec S16 32) (v3697 : IVec S16 32) (k0_hw1544 : k0_chk1544 i k0_t2 v3688 v3697), ∀ (k0_h1 : k0_cond1 i k0_t2 = 1#1), ∀ a x, ((![v3697, v3688] : Fin 2 → IVec S16 32) a x).toNat < S160x142.size a := fun i k0_t2 v3688 v3697 k0_hw1544 k0_h1 => k0_hw1544 k0_h1

def k0_chk1545 (i : grid0.Coords) (k0_t2 : Fin k0_t2_loop.trips) (v3688 : IVec S16 32) (v3700 : IVec S16 32) : Prop :=
  (∀ (k0_h1 : k0_cond1 i k0_t2 = 1#1), ∀ a x, ((![v3700, v3688] : Fin 2 → IVec S16 32) a x).toNat < S160x142.size a)
theorem k0_idx2634_inb : ∀ (i : grid0.Coords) (k0_t2 : Fin k0_t2_loop.trips) (v3688 : IVec S16 32) (v3700 : IVec S16 32) (k0_hw1545 : k0_chk1545 i k0_t2 v3688 v3700), ∀ (k0_h1 : k0_cond1 i k0_t2 = 1#1), ∀ a x, ((![v3700, v3688] : Fin 2 → IVec S16 32) a x).toNat < S160x142.size a := fun i k0_t2 v3688 v3700 k0_hw1545 k0_h1 => k0_hw1545 k0_h1

def k0_chk1546 (i : grid0.Coords) (k0_t2 : Fin k0_t2_loop.trips) (v3688 : IVec S16 32) (v3703 : IVec S16 32) : Prop :=
  (∀ (k0_h1 : k0_cond1 i k0_t2 = 1#1), ∀ a x, ((![v3703, v3688] : Fin 2 → IVec S16 32) a x).toNat < S160x142.size a)
theorem k0_idx2636_inb : ∀ (i : grid0.Coords) (k0_t2 : Fin k0_t2_loop.trips) (v3688 : IVec S16 32) (v3703 : IVec S16 32) (k0_hw1546 : k0_chk1546 i k0_t2 v3688 v3703), ∀ (k0_h1 : k0_cond1 i k0_t2 = 1#1), ∀ a x, ((![v3703, v3688] : Fin 2 → IVec S16 32) a x).toNat < S160x142.size a := fun i k0_t2 v3688 v3703 k0_hw1546 k0_h1 => k0_hw1546 k0_h1

def k0_chk1547 (i : grid0.Coords) (k0_t2 : Fin k0_t2_loop.trips) (v3688 : IVec S16 32) (v3706 : IVec S16 32) : Prop :=
  (∀ (k0_h1 : k0_cond1 i k0_t2 = 1#1), ∀ a x, ((![v3706, v3688] : Fin 2 → IVec S16 32) a x).toNat < S160x142.size a)
theorem k0_idx2638_inb : ∀ (i : grid0.Coords) (k0_t2 : Fin k0_t2_loop.trips) (v3688 : IVec S16 32) (v3706 : IVec S16 32) (k0_hw1547 : k0_chk1547 i k0_t2 v3688 v3706), ∀ (k0_h1 : k0_cond1 i k0_t2 = 1#1), ∀ a x, ((![v3706, v3688] : Fin 2 → IVec S16 32) a x).toNat < S160x142.size a := fun i k0_t2 v3688 v3706 k0_hw1547 k0_h1 => k0_hw1547 k0_h1

def k0_chk1548 (i : grid0.Coords) (k0_t2 : Fin k0_t2_loop.trips) (v3688 : IVec S16 32) (v3709 : IVec S16 32) : Prop :=
  (∀ (k0_h1 : k0_cond1 i k0_t2 = 1#1), ∀ a x, ((![v3709, v3688] : Fin 2 → IVec S16 32) a x).toNat < S160x142.size a)
theorem k0_idx2640_inb : ∀ (i : grid0.Coords) (k0_t2 : Fin k0_t2_loop.trips) (v3688 : IVec S16 32) (v3709 : IVec S16 32) (k0_hw1548 : k0_chk1548 i k0_t2 v3688 v3709), ∀ (k0_h1 : k0_cond1 i k0_t2 = 1#1), ∀ a x, ((![v3709, v3688] : Fin 2 → IVec S16 32) a x).toNat < S160x142.size a := fun i k0_t2 v3688 v3709 k0_hw1548 k0_h1 => k0_hw1548 k0_h1

def k0_chk1549 (i : grid0.Coords) (k0_t2 : Fin k0_t2_loop.trips) (v3688 : IVec S16 32) (v3712 : IVec S16 32) : Prop :=
  (∀ (k0_h1 : k0_cond1 i k0_t2 = 1#1), ∀ a x, ((![v3712, v3688] : Fin 2 → IVec S16 32) a x).toNat < S160x142.size a)
theorem k0_idx2642_inb : ∀ (i : grid0.Coords) (k0_t2 : Fin k0_t2_loop.trips) (v3688 : IVec S16 32) (v3712 : IVec S16 32) (k0_hw1549 : k0_chk1549 i k0_t2 v3688 v3712), ∀ (k0_h1 : k0_cond1 i k0_t2 = 1#1), ∀ a x, ((![v3712, v3688] : Fin 2 → IVec S16 32) a x).toNat < S160x142.size a := fun i k0_t2 v3688 v3712 k0_hw1549 k0_h1 => k0_hw1549 k0_h1

def k0_chk1550 (i : grid0.Coords) (k0_t2 : Fin k0_t2_loop.trips) (v3688 : IVec S16 32) (v3715 : IVec S16 32) : Prop :=
  (∀ (k0_h1 : k0_cond1 i k0_t2 = 1#1), ∀ a x, ((![v3715, v3688] : Fin 2 → IVec S16 32) a x).toNat < S160x142.size a)
theorem k0_idx2644_inb : ∀ (i : grid0.Coords) (k0_t2 : Fin k0_t2_loop.trips) (v3688 : IVec S16 32) (v3715 : IVec S16 32) (k0_hw1550 : k0_chk1550 i k0_t2 v3688 v3715), ∀ (k0_h1 : k0_cond1 i k0_t2 = 1#1), ∀ a x, ((![v3715, v3688] : Fin 2 → IVec S16 32) a x).toNat < S160x142.size a := fun i k0_t2 v3688 v3715 k0_hw1550 k0_h1 => k0_hw1550 k0_h1

def k0_chk1541 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) : Prop :=
  (∀ (k0_h1 : k0_cond1 i k0_t2 = 1#1), ∀ a x, ((![v15, v3688] : Fin 2 → IVec S16 32) a x).toNat < S256x142.size a) ∧
  (∀ (k0_h1 : k0_cond1 i k0_t2 = 1#1), ∀ a x, ((![v20, v3688] : Fin 2 → IVec S16 32) a x).toNat < S256x142.size a) ∧
  (∀ (k0_h1 : k0_cond1 i k0_t2 = 1#1), ∀ a x, ((![v25, v3688] : Fin 2 → IVec S16 32) a x).toNat < S256x142.size a) ∧
  (∀ (k0_h1 : k0_cond1 i k0_t2 = 1#1), ∀ a x, ((![v30, v3688] : Fin 2 → IVec S16 32) a x).toNat < S256x142.size a) ∧
  (∀ (k0_h1 : k0_cond1 i k0_t2 = 1#1), ∀ a x, ((![v35, v3688] : Fin 2 → IVec S16 32) a x).toNat < S256x142.size a) ∧
  (∀ (k0_h1 : k0_cond1 i k0_t2 = 1#1), ∀ a x, ((![v40, v3688] : Fin 2 → IVec S16 32) a x).toNat < S256x142.size a) ∧
  (∀ (k0_h1 : k0_cond1 i k0_t2 = 1#1), ∀ a x, ((![v45, v3688] : Fin 2 → IVec S16 32) a x).toNat < S256x142.size a) ∧
  (∀ (k0_h1 : k0_cond1 i k0_t2 = 1#1), ∀ a x, ((![v50, v3688] : Fin 2 → IVec S16 32) a x).toNat < S256x142.size a) ∧
  (∀ (k0_h1 : k0_cond1 i k0_t2 = 1#1), ∀ a x, ((![v55, v3688] : Fin 2 → IVec S16 32) a x).toNat < S256x142.size a) ∧
  (∀ (k0_h1 : k0_cond1 i k0_t2 = 1#1), ∀ a x, ((![v60, v3688] : Fin 2 → IVec S16 32) a x).toNat < S256x142.size a)
theorem k0_idx2627_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v15, v3688] : Fin 2 → IVec S16 32) a x).toNat < S256x142.size a := fun i k0_t2 v15 v20 v25 v30 v35 v40 v45 v50 v55 v60 v3688 k0_hw1541 k0_h1 => k0_hw1541.1 k0_h1
theorem k0_idx2629_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v20, v3688] : Fin 2 → IVec S16 32) a x).toNat < S256x142.size a := fun i k0_t2 v15 v20 v25 v30 v35 v40 v45 v50 v55 v60 v3688 k0_hw1541 k0_h1 => k0_hw1541.2.1 k0_h1
theorem k0_idx2631_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v25, v3688] : Fin 2 → IVec S16 32) a x).toNat < S256x142.size a := fun i k0_t2 v15 v20 v25 v30 v35 v40 v45 v50 v55 v60 v3688 k0_hw1541 k0_h1 => k0_hw1541.2.2.1 k0_h1
theorem k0_idx2633_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v30, v3688] : Fin 2 → IVec S16 32) a x).toNat < S256x142.size a := fun i k0_t2 v15 v20 v25 v30 v35 v40 v45 v50 v55 v60 v3688 k0_hw1541 k0_h1 => k0_hw1541.2.2.2.1 k0_h1
theorem k0_idx2635_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v35, v3688] : Fin 2 → IVec S16 32) a x).toNat < S256x142.size a := fun i k0_t2 v15 v20 v25 v30 v35 v40 v45 v50 v55 v60 v3688 k0_hw1541 k0_h1 => k0_hw1541.2.2.2.2.1 k0_h1
theorem k0_idx2637_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v40, v3688] : Fin 2 → IVec S16 32) a x).toNat < S256x142.size a := fun i k0_t2 v15 v20 v25 v30 v35 v40 v45 v50 v55 v60 v3688 k0_hw1541 k0_h1 => k0_hw1541.2.2.2.2.2.1 k0_h1
theorem k0_idx2639_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v45, v3688] : Fin 2 → IVec S16 32) a x).toNat < S256x142.size a := fun i k0_t2 v15 v20 v25 v30 v35 v40 v45 v50 v55 v60 v3688 k0_hw1541 k0_h1 => k0_hw1541.2.2.2.2.2.2.1 k0_h1
theorem k0_idx2641_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v50, v3688] : Fin 2 → IVec S16 32) a x).toNat < S256x142.size a := fun i k0_t2 v15 v20 v25 v30 v35 v40 v45 v50 v55 v60 v3688 k0_hw1541 k0_h1 => k0_hw1541.2.2.2.2.2.2.2.1 k0_h1
theorem k0_idx2643_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v55, v3688] : Fin 2 → IVec S16 32) a x).toNat < S256x142.size a := fun i k0_t2 v15 v20 v25 v30 v35 v40 v45 v50 v55 v60 v3688 k0_hw1541 k0_h1 => k0_hw1541.2.2.2.2.2.2.2.2.1 k0_h1
theorem k0_idx2645_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3688 : IVec S16 32) (k0_hw1541 : k0_chk1541 i k0_t2 v15 v20 v25 v30 v35 v40 v45 v50 v55 v60 v3688), ∀ (k0_h1 : k0_cond1 i k0_t2 = 1#1), ∀ a x, ((![v60, v3688] : Fin 2 → IVec S16 32) a x).toNat < S256x142.size a := fun i k0_t2 v15 v20 v25 v30 v35 v40 v45 v50 v55 v60 v3688 k0_hw1541 k0_h1 => k0_hw1541.2.2.2.2.2.2.2.2.2 k0_h1

def k0_chk1551 (i : grid0.Coords) (k0_t2 : Fin k0_t2_loop.trips) (v3688 : IVec S16 32) (v3718 : IVec S16 32) : Prop :=
  (∀ (k0_h1 : k0_cond1 i k0_t2 = 1#1), ∀ a x, ((![v3718, v3688] : Fin 2 → IVec S16 32) a x).toNat < S160x142.size a)
theorem k0_idx2646_inb : ∀ (i : grid0.Coords) (k0_t2 : Fin k0_t2_loop.trips) (v3688 : IVec S16 32) (v3718 : IVec S16 32) (k0_hw1551 : k0_chk1551 i k0_t2 v3688 v3718), ∀ (k0_h1 : k0_cond1 i k0_t2 = 1#1), ∀ a x, ((![v3718, v3688] : Fin 2 → IVec S16 32) a x).toNat < S160x142.size a := fun i k0_t2 v3688 v3718 k0_hw1551 k0_h1 => k0_hw1551 k0_h1

def k0_chk1553 (i : grid0.Coords) (k0_t2 : Fin k0_t2_loop.trips) (v3719 : IVec S16 32) (v3722 : IVec S16 32) : Prop :=
  (∀ (k0_h1 : k0_cond1 i k0_t2 = 1#1), ∀ a x, ((![v3722, v3719] : Fin 2 → IVec S16 32) a x).toNat < S160x142.size a)
theorem k0_idx2648_inb : ∀ (i : grid0.Coords) (k0_t2 : Fin k0_t2_loop.trips) (v3719 : IVec S16 32) (v3722 : IVec S16 32) (k0_hw1553 : k0_chk1553 i k0_t2 v3719 v3722), ∀ (k0_h1 : k0_cond1 i k0_t2 = 1#1), ∀ a x, ((![v3722, v3719] : Fin 2 → IVec S16 32) a x).toNat < S160x142.size a := fun i k0_t2 v3719 v3722 k0_hw1553 k0_h1 => k0_hw1553 k0_h1

def k0_chk1554 (i : grid0.Coords) (k0_t2 : Fin k0_t2_loop.trips) (v3719 : IVec S16 32) (v3725 : IVec S16 32) : Prop :=
  (∀ (k0_h1 : k0_cond1 i k0_t2 = 1#1), ∀ a x, ((![v3725, v3719] : Fin 2 → IVec S16 32) a x).toNat < S160x142.size a)
theorem k0_idx2650_inb : ∀ (i : grid0.Coords) (k0_t2 : Fin k0_t2_loop.trips) (v3719 : IVec S16 32) (v3725 : IVec S16 32) (k0_hw1554 : k0_chk1554 i k0_t2 v3719 v3725), ∀ (k0_h1 : k0_cond1 i k0_t2 = 1#1), ∀ a x, ((![v3725, v3719] : Fin 2 → IVec S16 32) a x).toNat < S160x142.size a := fun i k0_t2 v3719 v3725 k0_hw1554 k0_h1 => k0_hw1554 k0_h1

def k0_chk1555 (i : grid0.Coords) (k0_t2 : Fin k0_t2_loop.trips) (v3719 : IVec S16 32) (v3728 : IVec S16 32) : Prop :=
  (∀ (k0_h1 : k0_cond1 i k0_t2 = 1#1), ∀ a x, ((![v3728, v3719] : Fin 2 → IVec S16 32) a x).toNat < S160x142.size a)
theorem k0_idx2652_inb : ∀ (i : grid0.Coords) (k0_t2 : Fin k0_t2_loop.trips) (v3719 : IVec S16 32) (v3728 : IVec S16 32) (k0_hw1555 : k0_chk1555 i k0_t2 v3719 v3728), ∀ (k0_h1 : k0_cond1 i k0_t2 = 1#1), ∀ a x, ((![v3728, v3719] : Fin 2 → IVec S16 32) a x).toNat < S160x142.size a := fun i k0_t2 v3719 v3728 k0_hw1555 k0_h1 => k0_hw1555 k0_h1

def k0_chk1556 (i : grid0.Coords) (k0_t2 : Fin k0_t2_loop.trips) (v3719 : IVec S16 32) (v3731 : IVec S16 32) : Prop :=
  (∀ (k0_h1 : k0_cond1 i k0_t2 = 1#1), ∀ a x, ((![v3731, v3719] : Fin 2 → IVec S16 32) a x).toNat < S160x142.size a)
theorem k0_idx2654_inb : ∀ (i : grid0.Coords) (k0_t2 : Fin k0_t2_loop.trips) (v3719 : IVec S16 32) (v3731 : IVec S16 32) (k0_hw1556 : k0_chk1556 i k0_t2 v3719 v3731), ∀ (k0_h1 : k0_cond1 i k0_t2 = 1#1), ∀ a x, ((![v3731, v3719] : Fin 2 → IVec S16 32) a x).toNat < S160x142.size a := fun i k0_t2 v3719 v3731 k0_hw1556 k0_h1 => k0_hw1556 k0_h1

def k0_chk1557 (i : grid0.Coords) (k0_t2 : Fin k0_t2_loop.trips) (v3719 : IVec S16 32) (v3734 : IVec S16 32) : Prop :=
  (∀ (k0_h1 : k0_cond1 i k0_t2 = 1#1), ∀ a x, ((![v3734, v3719] : Fin 2 → IVec S16 32) a x).toNat < S160x142.size a)
theorem k0_idx2656_inb : ∀ (i : grid0.Coords) (k0_t2 : Fin k0_t2_loop.trips) (v3719 : IVec S16 32) (v3734 : IVec S16 32) (k0_hw1557 : k0_chk1557 i k0_t2 v3719 v3734), ∀ (k0_h1 : k0_cond1 i k0_t2 = 1#1), ∀ a x, ((![v3734, v3719] : Fin 2 → IVec S16 32) a x).toNat < S160x142.size a := fun i k0_t2 v3719 v3734 k0_hw1557 k0_h1 => k0_hw1557 k0_h1

def k0_chk1558 (i : grid0.Coords) (k0_t2 : Fin k0_t2_loop.trips) (v3719 : IVec S16 32) (v3737 : IVec S16 32) : Prop :=
  (∀ (k0_h1 : k0_cond1 i k0_t2 = 1#1), ∀ a x, ((![v3737, v3719] : Fin 2 → IVec S16 32) a x).toNat < S160x142.size a)
theorem k0_idx2658_inb : ∀ (i : grid0.Coords) (k0_t2 : Fin k0_t2_loop.trips) (v3719 : IVec S16 32) (v3737 : IVec S16 32) (k0_hw1558 : k0_chk1558 i k0_t2 v3719 v3737), ∀ (k0_h1 : k0_cond1 i k0_t2 = 1#1), ∀ a x, ((![v3737, v3719] : Fin 2 → IVec S16 32) a x).toNat < S160x142.size a := fun i k0_t2 v3719 v3737 k0_hw1558 k0_h1 => k0_hw1558 k0_h1

def k0_chk1559 (i : grid0.Coords) (k0_t2 : Fin k0_t2_loop.trips) (v3719 : IVec S16 32) (v3740 : IVec S16 32) : Prop :=
  (∀ (k0_h1 : k0_cond1 i k0_t2 = 1#1), ∀ a x, ((![v3740, v3719] : Fin 2 → IVec S16 32) a x).toNat < S160x142.size a)
theorem k0_idx2660_inb : ∀ (i : grid0.Coords) (k0_t2 : Fin k0_t2_loop.trips) (v3719 : IVec S16 32) (v3740 : IVec S16 32) (k0_hw1559 : k0_chk1559 i k0_t2 v3719 v3740), ∀ (k0_h1 : k0_cond1 i k0_t2 = 1#1), ∀ a x, ((![v3740, v3719] : Fin 2 → IVec S16 32) a x).toNat < S160x142.size a := fun i k0_t2 v3719 v3740 k0_hw1559 k0_h1 => k0_hw1559 k0_h1

def k0_chk1560 (i : grid0.Coords) (k0_t2 : Fin k0_t2_loop.trips) (v3719 : IVec S16 32) (v3743 : IVec S16 32) : Prop :=
  (∀ (k0_h1 : k0_cond1 i k0_t2 = 1#1), ∀ a x, ((![v3743, v3719] : Fin 2 → IVec S16 32) a x).toNat < S160x142.size a)
theorem k0_idx2662_inb : ∀ (i : grid0.Coords) (k0_t2 : Fin k0_t2_loop.trips) (v3719 : IVec S16 32) (v3743 : IVec S16 32) (k0_hw1560 : k0_chk1560 i k0_t2 v3719 v3743), ∀ (k0_h1 : k0_cond1 i k0_t2 = 1#1), ∀ a x, ((![v3743, v3719] : Fin 2 → IVec S16 32) a x).toNat < S160x142.size a := fun i k0_t2 v3719 v3743 k0_hw1560 k0_h1 => k0_hw1560 k0_h1

def k0_chk1561 (i : grid0.Coords) (k0_t2 : Fin k0_t2_loop.trips) (v3719 : IVec S16 32) (v3746 : IVec S16 32) : Prop :=
  (∀ (k0_h1 : k0_cond1 i k0_t2 = 1#1), ∀ a x, ((![v3746, v3719] : Fin 2 → IVec S16 32) a x).toNat < S160x142.size a)
theorem k0_idx2664_inb : ∀ (i : grid0.Coords) (k0_t2 : Fin k0_t2_loop.trips) (v3719 : IVec S16 32) (v3746 : IVec S16 32) (k0_hw1561 : k0_chk1561 i k0_t2 v3719 v3746), ∀ (k0_h1 : k0_cond1 i k0_t2 = 1#1), ∀ a x, ((![v3746, v3719] : Fin 2 → IVec S16 32) a x).toNat < S160x142.size a := fun i k0_t2 v3719 v3746 k0_hw1561 k0_h1 => k0_hw1561 k0_h1

def k0_chk1552 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) : Prop :=
  (∀ (k0_h1 : k0_cond1 i k0_t2 = 1#1), ∀ a x, ((![v15, v3719] : Fin 2 → IVec S16 32) a x).toNat < S256x142.size a) ∧
  (∀ (k0_h1 : k0_cond1 i k0_t2 = 1#1), ∀ a x, ((![v20, v3719] : Fin 2 → IVec S16 32) a x).toNat < S256x142.size a) ∧
  (∀ (k0_h1 : k0_cond1 i k0_t2 = 1#1), ∀ a x, ((![v25, v3719] : Fin 2 → IVec S16 32) a x).toNat < S256x142.size a) ∧
  (∀ (k0_h1 : k0_cond1 i k0_t2 = 1#1), ∀ a x, ((![v30, v3719] : Fin 2 → IVec S16 32) a x).toNat < S256x142.size a) ∧
  (∀ (k0_h1 : k0_cond1 i k0_t2 = 1#1), ∀ a x, ((![v35, v3719] : Fin 2 → IVec S16 32) a x).toNat < S256x142.size a) ∧
  (∀ (k0_h1 : k0_cond1 i k0_t2 = 1#1), ∀ a x, ((![v40, v3719] : Fin 2 → IVec S16 32) a x).toNat < S256x142.size a) ∧
  (∀ (k0_h1 : k0_cond1 i k0_t2 = 1#1), ∀ a x, ((![v45, v3719] : Fin 2 → IVec S16 32) a x).toNat < S256x142.size a) ∧
  (∀ (k0_h1 : k0_cond1 i k0_t2 = 1#1), ∀ a x, ((![v50, v3719] : Fin 2 → IVec S16 32) a x).toNat < S256x142.size a) ∧
  (∀ (k0_h1 : k0_cond1 i k0_t2 = 1#1), ∀ a x, ((![v55, v3719] : Fin 2 → IVec S16 32) a x).toNat < S256x142.size a) ∧
  (∀ (k0_h1 : k0_cond1 i k0_t2 = 1#1), ∀ a x, ((![v60, v3719] : Fin 2 → IVec S16 32) a x).toNat < S256x142.size a)
theorem k0_idx2647_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v15, v3719] : Fin 2 → IVec S16 32) a x).toNat < S256x142.size a := fun i k0_t2 v15 v20 v25 v30 v35 v40 v45 v50 v55 v60 v3719 k0_hw1552 k0_h1 => k0_hw1552.1 k0_h1
theorem k0_idx2649_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v20, v3719] : Fin 2 → IVec S16 32) a x).toNat < S256x142.size a := fun i k0_t2 v15 v20 v25 v30 v35 v40 v45 v50 v55 v60 v3719 k0_hw1552 k0_h1 => k0_hw1552.2.1 k0_h1
theorem k0_idx2651_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v25, v3719] : Fin 2 → IVec S16 32) a x).toNat < S256x142.size a := fun i k0_t2 v15 v20 v25 v30 v35 v40 v45 v50 v55 v60 v3719 k0_hw1552 k0_h1 => k0_hw1552.2.2.1 k0_h1
theorem k0_idx2653_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v30, v3719] : Fin 2 → IVec S16 32) a x).toNat < S256x142.size a := fun i k0_t2 v15 v20 v25 v30 v35 v40 v45 v50 v55 v60 v3719 k0_hw1552 k0_h1 => k0_hw1552.2.2.2.1 k0_h1
theorem k0_idx2655_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v35, v3719] : Fin 2 → IVec S16 32) a x).toNat < S256x142.size a := fun i k0_t2 v15 v20 v25 v30 v35 v40 v45 v50 v55 v60 v3719 k0_hw1552 k0_h1 => k0_hw1552.2.2.2.2.1 k0_h1
theorem k0_idx2657_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v40, v3719] : Fin 2 → IVec S16 32) a x).toNat < S256x142.size a := fun i k0_t2 v15 v20 v25 v30 v35 v40 v45 v50 v55 v60 v3719 k0_hw1552 k0_h1 => k0_hw1552.2.2.2.2.2.1 k0_h1
theorem k0_idx2659_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v45, v3719] : Fin 2 → IVec S16 32) a x).toNat < S256x142.size a := fun i k0_t2 v15 v20 v25 v30 v35 v40 v45 v50 v55 v60 v3719 k0_hw1552 k0_h1 => k0_hw1552.2.2.2.2.2.2.1 k0_h1
theorem k0_idx2661_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v50, v3719] : Fin 2 → IVec S16 32) a x).toNat < S256x142.size a := fun i k0_t2 v15 v20 v25 v30 v35 v40 v45 v50 v55 v60 v3719 k0_hw1552 k0_h1 => k0_hw1552.2.2.2.2.2.2.2.1 k0_h1
theorem k0_idx2663_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v55, v3719] : Fin 2 → IVec S16 32) a x).toNat < S256x142.size a := fun i k0_t2 v15 v20 v25 v30 v35 v40 v45 v50 v55 v60 v3719 k0_hw1552 k0_h1 => k0_hw1552.2.2.2.2.2.2.2.2.1 k0_h1
theorem k0_idx2665_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3719 : IVec S16 32) (k0_hw1552 : k0_chk1552 i k0_t2 v15 v20 v25 v30 v35 v40 v45 v50 v55 v60 v3719), ∀ (k0_h1 : k0_cond1 i k0_t2 = 1#1), ∀ a x, ((![v60, v3719] : Fin 2 → IVec S16 32) a x).toNat < S256x142.size a := fun i k0_t2 v15 v20 v25 v30 v35 v40 v45 v50 v55 v60 v3719 k0_hw1552 k0_h1 => k0_hw1552.2.2.2.2.2.2.2.2.2 k0_h1

def k0_chk1562 (i : grid0.Coords) (k0_t2 : Fin k0_t2_loop.trips) (v3719 : IVec S16 32) (v3749 : IVec S16 32) : Prop :=
  (∀ (k0_h1 : k0_cond1 i k0_t2 = 1#1), ∀ a x, ((![v3749, v3719] : Fin 2 → IVec S16 32) a x).toNat < S160x142.size a)
theorem k0_idx2666_inb : ∀ (i : grid0.Coords) (k0_t2 : Fin k0_t2_loop.trips) (v3719 : IVec S16 32) (v3749 : IVec S16 32) (k0_hw1562 : k0_chk1562 i k0_t2 v3719 v3749), ∀ (k0_h1 : k0_cond1 i k0_t2 = 1#1), ∀ a x, ((![v3749, v3719] : Fin 2 → IVec S16 32) a x).toNat < S160x142.size a := fun i k0_t2 v3719 v3749 k0_hw1562 k0_h1 => k0_hw1562 k0_h1

def k0_chk1564 (i : grid0.Coords) (k0_t2 : Fin k0_t2_loop.trips) (v3750 : IVec S16 32) (v3753 : IVec S16 32) : Prop :=
  (∀ (k0_h1 : k0_cond1 i k0_t2 = 1#1), ∀ a x, ((![v3753, v3750] : Fin 2 → IVec S16 32) a x).toNat < S160x142.size a)
theorem k0_idx2668_inb : ∀ (i : grid0.Coords) (k0_t2 : Fin k0_t2_loop.trips) (v3750 : IVec S16 32) (v3753 : IVec S16 32) (k0_hw1564 : k0_chk1564 i k0_t2 v3750 v3753), ∀ (k0_h1 : k0_cond1 i k0_t2 = 1#1), ∀ a x, ((![v3753, v3750] : Fin 2 → IVec S16 32) a x).toNat < S160x142.size a := fun i k0_t2 v3750 v3753 k0_hw1564 k0_h1 => k0_hw1564 k0_h1

def k0_chk1565 (i : grid0.Coords) (k0_t2 : Fin k0_t2_loop.trips) (v3750 : IVec S16 32) (v3756 : IVec S16 32) : Prop :=
  (∀ (k0_h1 : k0_cond1 i k0_t2 = 1#1), ∀ a x, ((![v3756, v3750] : Fin 2 → IVec S16 32) a x).toNat < S160x142.size a)
theorem k0_idx2670_inb : ∀ (i : grid0.Coords) (k0_t2 : Fin k0_t2_loop.trips) (v3750 : IVec S16 32) (v3756 : IVec S16 32) (k0_hw1565 : k0_chk1565 i k0_t2 v3750 v3756), ∀ (k0_h1 : k0_cond1 i k0_t2 = 1#1), ∀ a x, ((![v3756, v3750] : Fin 2 → IVec S16 32) a x).toNat < S160x142.size a := fun i k0_t2 v3750 v3756 k0_hw1565 k0_h1 => k0_hw1565 k0_h1

def k0_chk1566 (i : grid0.Coords) (k0_t2 : Fin k0_t2_loop.trips) (v3750 : IVec S16 32) (v3759 : IVec S16 32) : Prop :=
  (∀ (k0_h1 : k0_cond1 i k0_t2 = 1#1), ∀ a x, ((![v3759, v3750] : Fin 2 → IVec S16 32) a x).toNat < S160x142.size a)
theorem k0_idx2672_inb : ∀ (i : grid0.Coords) (k0_t2 : Fin k0_t2_loop.trips) (v3750 : IVec S16 32) (v3759 : IVec S16 32) (k0_hw1566 : k0_chk1566 i k0_t2 v3750 v3759), ∀ (k0_h1 : k0_cond1 i k0_t2 = 1#1), ∀ a x, ((![v3759, v3750] : Fin 2 → IVec S16 32) a x).toNat < S160x142.size a := fun i k0_t2 v3750 v3759 k0_hw1566 k0_h1 => k0_hw1566 k0_h1

def k0_chk1567 (i : grid0.Coords) (k0_t2 : Fin k0_t2_loop.trips) (v3750 : IVec S16 32) (v3762 : IVec S16 32) : Prop :=
  (∀ (k0_h1 : k0_cond1 i k0_t2 = 1#1), ∀ a x, ((![v3762, v3750] : Fin 2 → IVec S16 32) a x).toNat < S160x142.size a)
theorem k0_idx2674_inb : ∀ (i : grid0.Coords) (k0_t2 : Fin k0_t2_loop.trips) (v3750 : IVec S16 32) (v3762 : IVec S16 32) (k0_hw1567 : k0_chk1567 i k0_t2 v3750 v3762), ∀ (k0_h1 : k0_cond1 i k0_t2 = 1#1), ∀ a x, ((![v3762, v3750] : Fin 2 → IVec S16 32) a x).toNat < S160x142.size a := fun i k0_t2 v3750 v3762 k0_hw1567 k0_h1 => k0_hw1567 k0_h1

def k0_chk1568 (i : grid0.Coords) (k0_t2 : Fin k0_t2_loop.trips) (v3750 : IVec S16 32) (v3765 : IVec S16 32) : Prop :=
  (∀ (k0_h1 : k0_cond1 i k0_t2 = 1#1), ∀ a x, ((![v3765, v3750] : Fin 2 → IVec S16 32) a x).toNat < S160x142.size a)
theorem k0_idx2676_inb : ∀ (i : grid0.Coords) (k0_t2 : Fin k0_t2_loop.trips) (v3750 : IVec S16 32) (v3765 : IVec S16 32) (k0_hw1568 : k0_chk1568 i k0_t2 v3750 v3765), ∀ (k0_h1 : k0_cond1 i k0_t2 = 1#1), ∀ a x, ((![v3765, v3750] : Fin 2 → IVec S16 32) a x).toNat < S160x142.size a := fun i k0_t2 v3750 v3765 k0_hw1568 k0_h1 => k0_hw1568 k0_h1

def k0_chk1569 (i : grid0.Coords) (k0_t2 : Fin k0_t2_loop.trips) (v3750 : IVec S16 32) (v3768 : IVec S16 32) : Prop :=
  (∀ (k0_h1 : k0_cond1 i k0_t2 = 1#1), ∀ a x, ((![v3768, v3750] : Fin 2 → IVec S16 32) a x).toNat < S160x142.size a)
theorem k0_idx2678_inb : ∀ (i : grid0.Coords) (k0_t2 : Fin k0_t2_loop.trips) (v3750 : IVec S16 32) (v3768 : IVec S16 32) (k0_hw1569 : k0_chk1569 i k0_t2 v3750 v3768), ∀ (k0_h1 : k0_cond1 i k0_t2 = 1#1), ∀ a x, ((![v3768, v3750] : Fin 2 → IVec S16 32) a x).toNat < S160x142.size a := fun i k0_t2 v3750 v3768 k0_hw1569 k0_h1 => k0_hw1569 k0_h1

def k0_chk1570 (i : grid0.Coords) (k0_t2 : Fin k0_t2_loop.trips) (v3750 : IVec S16 32) (v3771 : IVec S16 32) : Prop :=
  (∀ (k0_h1 : k0_cond1 i k0_t2 = 1#1), ∀ a x, ((![v3771, v3750] : Fin 2 → IVec S16 32) a x).toNat < S160x142.size a)
theorem k0_idx2680_inb : ∀ (i : grid0.Coords) (k0_t2 : Fin k0_t2_loop.trips) (v3750 : IVec S16 32) (v3771 : IVec S16 32) (k0_hw1570 : k0_chk1570 i k0_t2 v3750 v3771), ∀ (k0_h1 : k0_cond1 i k0_t2 = 1#1), ∀ a x, ((![v3771, v3750] : Fin 2 → IVec S16 32) a x).toNat < S160x142.size a := fun i k0_t2 v3750 v3771 k0_hw1570 k0_h1 => k0_hw1570 k0_h1

def k0_chk1571 (i : grid0.Coords) (k0_t2 : Fin k0_t2_loop.trips) (v3750 : IVec S16 32) (v3774 : IVec S16 32) : Prop :=
  (∀ (k0_h1 : k0_cond1 i k0_t2 = 1#1), ∀ a x, ((![v3774, v3750] : Fin 2 → IVec S16 32) a x).toNat < S160x142.size a)
theorem k0_idx2682_inb : ∀ (i : grid0.Coords) (k0_t2 : Fin k0_t2_loop.trips) (v3750 : IVec S16 32) (v3774 : IVec S16 32) (k0_hw1571 : k0_chk1571 i k0_t2 v3750 v3774), ∀ (k0_h1 : k0_cond1 i k0_t2 = 1#1), ∀ a x, ((![v3774, v3750] : Fin 2 → IVec S16 32) a x).toNat < S160x142.size a := fun i k0_t2 v3750 v3774 k0_hw1571 k0_h1 => k0_hw1571 k0_h1

def k0_chk1572 (i : grid0.Coords) (k0_t2 : Fin k0_t2_loop.trips) (v3750 : IVec S16 32) (v3777 : IVec S16 32) : Prop :=
  (∀ (k0_h1 : k0_cond1 i k0_t2 = 1#1), ∀ a x, ((![v3777, v3750] : Fin 2 → IVec S16 32) a x).toNat < S160x142.size a)
theorem k0_idx2684_inb : ∀ (i : grid0.Coords) (k0_t2 : Fin k0_t2_loop.trips) (v3750 : IVec S16 32) (v3777 : IVec S16 32) (k0_hw1572 : k0_chk1572 i k0_t2 v3750 v3777), ∀ (k0_h1 : k0_cond1 i k0_t2 = 1#1), ∀ a x, ((![v3777, v3750] : Fin 2 → IVec S16 32) a x).toNat < S160x142.size a := fun i k0_t2 v3750 v3777 k0_hw1572 k0_h1 => k0_hw1572 k0_h1

def k0_chk1563 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) : Prop :=
  (∀ (k0_h1 : k0_cond1 i k0_t2 = 1#1), ∀ a x, ((![v15, v3750] : Fin 2 → IVec S16 32) a x).toNat < S256x142.size a) ∧
  (∀ (k0_h1 : k0_cond1 i k0_t2 = 1#1), ∀ a x, ((![v20, v3750] : Fin 2 → IVec S16 32) a x).toNat < S256x142.size a) ∧
  (∀ (k0_h1 : k0_cond1 i k0_t2 = 1#1), ∀ a x, ((![v25, v3750] : Fin 2 → IVec S16 32) a x).toNat < S256x142.size a) ∧
  (∀ (k0_h1 : k0_cond1 i k0_t2 = 1#1), ∀ a x, ((![v30, v3750] : Fin 2 → IVec S16 32) a x).toNat < S256x142.size a) ∧
  (∀ (k0_h1 : k0_cond1 i k0_t2 = 1#1), ∀ a x, ((![v35, v3750] : Fin 2 → IVec S16 32) a x).toNat < S256x142.size a) ∧
  (∀ (k0_h1 : k0_cond1 i k0_t2 = 1#1), ∀ a x, ((![v40, v3750] : Fin 2 → IVec S16 32) a x).toNat < S256x142.size a) ∧
  (∀ (k0_h1 : k0_cond1 i k0_t2 = 1#1), ∀ a x, ((![v45, v3750] : Fin 2 → IVec S16 32) a x).toNat < S256x142.size a) ∧
  (∀ (k0_h1 : k0_cond1 i k0_t2 = 1#1), ∀ a x, ((![v50, v3750] : Fin 2 → IVec S16 32) a x).toNat < S256x142.size a) ∧
  (∀ (k0_h1 : k0_cond1 i k0_t2 = 1#1), ∀ a x, ((![v55, v3750] : Fin 2 → IVec S16 32) a x).toNat < S256x142.size a) ∧
  (∀ (k0_h1 : k0_cond1 i k0_t2 = 1#1), ∀ a x, ((![v60, v3750] : Fin 2 → IVec S16 32) a x).toNat < S256x142.size a)
theorem k0_idx2667_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v15, v3750] : Fin 2 → IVec S16 32) a x).toNat < S256x142.size a := fun i k0_t2 v15 v20 v25 v30 v35 v40 v45 v50 v55 v60 v3750 k0_hw1563 k0_h1 => k0_hw1563.1 k0_h1
theorem k0_idx2669_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v20, v3750] : Fin 2 → IVec S16 32) a x).toNat < S256x142.size a := fun i k0_t2 v15 v20 v25 v30 v35 v40 v45 v50 v55 v60 v3750 k0_hw1563 k0_h1 => k0_hw1563.2.1 k0_h1
theorem k0_idx2671_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v25, v3750] : Fin 2 → IVec S16 32) a x).toNat < S256x142.size a := fun i k0_t2 v15 v20 v25 v30 v35 v40 v45 v50 v55 v60 v3750 k0_hw1563 k0_h1 => k0_hw1563.2.2.1 k0_h1
theorem k0_idx2673_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v30, v3750] : Fin 2 → IVec S16 32) a x).toNat < S256x142.size a := fun i k0_t2 v15 v20 v25 v30 v35 v40 v45 v50 v55 v60 v3750 k0_hw1563 k0_h1 => k0_hw1563.2.2.2.1 k0_h1
theorem k0_idx2675_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v35, v3750] : Fin 2 → IVec S16 32) a x).toNat < S256x142.size a := fun i k0_t2 v15 v20 v25 v30 v35 v40 v45 v50 v55 v60 v3750 k0_hw1563 k0_h1 => k0_hw1563.2.2.2.2.1 k0_h1
theorem k0_idx2677_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v40, v3750] : Fin 2 → IVec S16 32) a x).toNat < S256x142.size a := fun i k0_t2 v15 v20 v25 v30 v35 v40 v45 v50 v55 v60 v3750 k0_hw1563 k0_h1 => k0_hw1563.2.2.2.2.2.1 k0_h1
theorem k0_idx2679_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v45, v3750] : Fin 2 → IVec S16 32) a x).toNat < S256x142.size a := fun i k0_t2 v15 v20 v25 v30 v35 v40 v45 v50 v55 v60 v3750 k0_hw1563 k0_h1 => k0_hw1563.2.2.2.2.2.2.1 k0_h1
theorem k0_idx2681_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v50, v3750] : Fin 2 → IVec S16 32) a x).toNat < S256x142.size a := fun i k0_t2 v15 v20 v25 v30 v35 v40 v45 v50 v55 v60 v3750 k0_hw1563 k0_h1 => k0_hw1563.2.2.2.2.2.2.2.1 k0_h1
theorem k0_idx2683_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v55, v3750] : Fin 2 → IVec S16 32) a x).toNat < S256x142.size a := fun i k0_t2 v15 v20 v25 v30 v35 v40 v45 v50 v55 v60 v3750 k0_hw1563 k0_h1 => k0_hw1563.2.2.2.2.2.2.2.2.1 k0_h1
theorem k0_idx2685_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3750 : IVec S16 32) (k0_hw1563 : k0_chk1563 i k0_t2 v15 v20 v25 v30 v35 v40 v45 v50 v55 v60 v3750), ∀ (k0_h1 : k0_cond1 i k0_t2 = 1#1), ∀ a x, ((![v60, v3750] : Fin 2 → IVec S16 32) a x).toNat < S256x142.size a := fun i k0_t2 v15 v20 v25 v30 v35 v40 v45 v50 v55 v60 v3750 k0_hw1563 k0_h1 => k0_hw1563.2.2.2.2.2.2.2.2.2 k0_h1

def k0_chk1573 (i : grid0.Coords) (k0_t2 : Fin k0_t2_loop.trips) (v3750 : IVec S16 32) (v3780 : IVec S16 32) : Prop :=
  (∀ (k0_h1 : k0_cond1 i k0_t2 = 1#1), ∀ a x, ((![v3780, v3750] : Fin 2 → IVec S16 32) a x).toNat < S160x142.size a)
theorem k0_idx2686_inb : ∀ (i : grid0.Coords) (k0_t2 : Fin k0_t2_loop.trips) (v3750 : IVec S16 32) (v3780 : IVec S16 32) (k0_hw1573 : k0_chk1573 i k0_t2 v3750 v3780), ∀ (k0_h1 : k0_cond1 i k0_t2 = 1#1), ∀ a x, ((![v3780, v3750] : Fin 2 → IVec S16 32) a x).toNat < S160x142.size a := fun i k0_t2 v3750 v3780 k0_hw1573 k0_h1 => k0_hw1573 k0_h1

def k0_chk1575 (i : grid0.Coords) (k0_t2 : Fin k0_t2_loop.trips) (v3781 : IVec S16 32) (v3784 : IVec S16 32) : Prop :=
  (∀ (k0_h1 : k0_cond1 i k0_t2 = 1#1), ∀ a x, ((![v3784, v3781] : Fin 2 → IVec S16 32) a x).toNat < S160x142.size a)
theorem k0_idx2688_inb : ∀ (i : grid0.Coords) (k0_t2 : Fin k0_t2_loop.trips) (v3781 : IVec S16 32) (v3784 : IVec S16 32) (k0_hw1575 : k0_chk1575 i k0_t2 v3781 v3784), ∀ (k0_h1 : k0_cond1 i k0_t2 = 1#1), ∀ a x, ((![v3784, v3781] : Fin 2 → IVec S16 32) a x).toNat < S160x142.size a := fun i k0_t2 v3781 v3784 k0_hw1575 k0_h1 => k0_hw1575 k0_h1

def k0_chk1576 (i : grid0.Coords) (k0_t2 : Fin k0_t2_loop.trips) (v3781 : IVec S16 32) (v3787 : IVec S16 32) : Prop :=
  (∀ (k0_h1 : k0_cond1 i k0_t2 = 1#1), ∀ a x, ((![v3787, v3781] : Fin 2 → IVec S16 32) a x).toNat < S160x142.size a)
theorem k0_idx2690_inb : ∀ (i : grid0.Coords) (k0_t2 : Fin k0_t2_loop.trips) (v3781 : IVec S16 32) (v3787 : IVec S16 32) (k0_hw1576 : k0_chk1576 i k0_t2 v3781 v3787), ∀ (k0_h1 : k0_cond1 i k0_t2 = 1#1), ∀ a x, ((![v3787, v3781] : Fin 2 → IVec S16 32) a x).toNat < S160x142.size a := fun i k0_t2 v3781 v3787 k0_hw1576 k0_h1 => k0_hw1576 k0_h1

def k0_chk1577 (i : grid0.Coords) (k0_t2 : Fin k0_t2_loop.trips) (v3781 : IVec S16 32) (v3790 : IVec S16 32) : Prop :=
  (∀ (k0_h1 : k0_cond1 i k0_t2 = 1#1), ∀ a x, ((![v3790, v3781] : Fin 2 → IVec S16 32) a x).toNat < S160x142.size a)
theorem k0_idx2692_inb : ∀ (i : grid0.Coords) (k0_t2 : Fin k0_t2_loop.trips) (v3781 : IVec S16 32) (v3790 : IVec S16 32) (k0_hw1577 : k0_chk1577 i k0_t2 v3781 v3790), ∀ (k0_h1 : k0_cond1 i k0_t2 = 1#1), ∀ a x, ((![v3790, v3781] : Fin 2 → IVec S16 32) a x).toNat < S160x142.size a := fun i k0_t2 v3781 v3790 k0_hw1577 k0_h1 => k0_hw1577 k0_h1

def k0_chk1578 (i : grid0.Coords) (k0_t2 : Fin k0_t2_loop.trips) (v3781 : IVec S16 32) (v3793 : IVec S16 32) : Prop :=
  (∀ (k0_h1 : k0_cond1 i k0_t2 = 1#1), ∀ a x, ((![v3793, v3781] : Fin 2 → IVec S16 32) a x).toNat < S160x142.size a)
theorem k0_idx2694_inb : ∀ (i : grid0.Coords) (k0_t2 : Fin k0_t2_loop.trips) (v3781 : IVec S16 32) (v3793 : IVec S16 32) (k0_hw1578 : k0_chk1578 i k0_t2 v3781 v3793), ∀ (k0_h1 : k0_cond1 i k0_t2 = 1#1), ∀ a x, ((![v3793, v3781] : Fin 2 → IVec S16 32) a x).toNat < S160x142.size a := fun i k0_t2 v3781 v3793 k0_hw1578 k0_h1 => k0_hw1578 k0_h1

def k0_chk1579 (i : grid0.Coords) (k0_t2 : Fin k0_t2_loop.trips) (v3781 : IVec S16 32) (v3796 : IVec S16 32) : Prop :=
  (∀ (k0_h1 : k0_cond1 i k0_t2 = 1#1), ∀ a x, ((![v3796, v3781] : Fin 2 → IVec S16 32) a x).toNat < S160x142.size a)
theorem k0_idx2696_inb : ∀ (i : grid0.Coords) (k0_t2 : Fin k0_t2_loop.trips) (v3781 : IVec S16 32) (v3796 : IVec S16 32) (k0_hw1579 : k0_chk1579 i k0_t2 v3781 v3796), ∀ (k0_h1 : k0_cond1 i k0_t2 = 1#1), ∀ a x, ((![v3796, v3781] : Fin 2 → IVec S16 32) a x).toNat < S160x142.size a := fun i k0_t2 v3781 v3796 k0_hw1579 k0_h1 => k0_hw1579 k0_h1

def k0_chk1580 (i : grid0.Coords) (k0_t2 : Fin k0_t2_loop.trips) (v3781 : IVec S16 32) (v3799 : IVec S16 32) : Prop :=
  (∀ (k0_h1 : k0_cond1 i k0_t2 = 1#1), ∀ a x, ((![v3799, v3781] : Fin 2 → IVec S16 32) a x).toNat < S160x142.size a)
theorem k0_idx2698_inb : ∀ (i : grid0.Coords) (k0_t2 : Fin k0_t2_loop.trips) (v3781 : IVec S16 32) (v3799 : IVec S16 32) (k0_hw1580 : k0_chk1580 i k0_t2 v3781 v3799), ∀ (k0_h1 : k0_cond1 i k0_t2 = 1#1), ∀ a x, ((![v3799, v3781] : Fin 2 → IVec S16 32) a x).toNat < S160x142.size a := fun i k0_t2 v3781 v3799 k0_hw1580 k0_h1 => k0_hw1580 k0_h1

def k0_chk1581 (i : grid0.Coords) (k0_t2 : Fin k0_t2_loop.trips) (v3781 : IVec S16 32) (v3802 : IVec S16 32) : Prop :=
  (∀ (k0_h1 : k0_cond1 i k0_t2 = 1#1), ∀ a x, ((![v3802, v3781] : Fin 2 → IVec S16 32) a x).toNat < S160x142.size a)
theorem k0_idx2700_inb : ∀ (i : grid0.Coords) (k0_t2 : Fin k0_t2_loop.trips) (v3781 : IVec S16 32) (v3802 : IVec S16 32) (k0_hw1581 : k0_chk1581 i k0_t2 v3781 v3802), ∀ (k0_h1 : k0_cond1 i k0_t2 = 1#1), ∀ a x, ((![v3802, v3781] : Fin 2 → IVec S16 32) a x).toNat < S160x142.size a := fun i k0_t2 v3781 v3802 k0_hw1581 k0_h1 => k0_hw1581 k0_h1

def k0_chk1582 (i : grid0.Coords) (k0_t2 : Fin k0_t2_loop.trips) (v3781 : IVec S16 32) (v3805 : IVec S16 32) : Prop :=
  (∀ (k0_h1 : k0_cond1 i k0_t2 = 1#1), ∀ a x, ((![v3805, v3781] : Fin 2 → IVec S16 32) a x).toNat < S160x142.size a)
theorem k0_idx2702_inb : ∀ (i : grid0.Coords) (k0_t2 : Fin k0_t2_loop.trips) (v3781 : IVec S16 32) (v3805 : IVec S16 32) (k0_hw1582 : k0_chk1582 i k0_t2 v3781 v3805), ∀ (k0_h1 : k0_cond1 i k0_t2 = 1#1), ∀ a x, ((![v3805, v3781] : Fin 2 → IVec S16 32) a x).toNat < S160x142.size a := fun i k0_t2 v3781 v3805 k0_hw1582 k0_h1 => k0_hw1582 k0_h1

def k0_chk1583 (i : grid0.Coords) (k0_t2 : Fin k0_t2_loop.trips) (v3781 : IVec S16 32) (v3808 : IVec S16 32) : Prop :=
  (∀ (k0_h1 : k0_cond1 i k0_t2 = 1#1), ∀ a x, ((![v3808, v3781] : Fin 2 → IVec S16 32) a x).toNat < S160x142.size a)
theorem k0_idx2704_inb : ∀ (i : grid0.Coords) (k0_t2 : Fin k0_t2_loop.trips) (v3781 : IVec S16 32) (v3808 : IVec S16 32) (k0_hw1583 : k0_chk1583 i k0_t2 v3781 v3808), ∀ (k0_h1 : k0_cond1 i k0_t2 = 1#1), ∀ a x, ((![v3808, v3781] : Fin 2 → IVec S16 32) a x).toNat < S160x142.size a := fun i k0_t2 v3781 v3808 k0_hw1583 k0_h1 => k0_hw1583 k0_h1

def k0_chk1574 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) : Prop :=
  (∀ (k0_h1 : k0_cond1 i k0_t2 = 1#1), ∀ a x, ((![v15, v3781] : Fin 2 → IVec S16 32) a x).toNat < S256x142.size a) ∧
  (∀ (k0_h1 : k0_cond1 i k0_t2 = 1#1), ∀ a x, ((![v20, v3781] : Fin 2 → IVec S16 32) a x).toNat < S256x142.size a) ∧
  (∀ (k0_h1 : k0_cond1 i k0_t2 = 1#1), ∀ a x, ((![v25, v3781] : Fin 2 → IVec S16 32) a x).toNat < S256x142.size a) ∧
  (∀ (k0_h1 : k0_cond1 i k0_t2 = 1#1), ∀ a x, ((![v30, v3781] : Fin 2 → IVec S16 32) a x).toNat < S256x142.size a) ∧
  (∀ (k0_h1 : k0_cond1 i k0_t2 = 1#1), ∀ a x, ((![v35, v3781] : Fin 2 → IVec S16 32) a x).toNat < S256x142.size a) ∧
  (∀ (k0_h1 : k0_cond1 i k0_t2 = 1#1), ∀ a x, ((![v40, v3781] : Fin 2 → IVec S16 32) a x).toNat < S256x142.size a) ∧
  (∀ (k0_h1 : k0_cond1 i k0_t2 = 1#1), ∀ a x, ((![v45, v3781] : Fin 2 → IVec S16 32) a x).toNat < S256x142.size a) ∧
  (∀ (k0_h1 : k0_cond1 i k0_t2 = 1#1), ∀ a x, ((![v50, v3781] : Fin 2 → IVec S16 32) a x).toNat < S256x142.size a) ∧
  (∀ (k0_h1 : k0_cond1 i k0_t2 = 1#1), ∀ a x, ((![v55, v3781] : Fin 2 → IVec S16 32) a x).toNat < S256x142.size a) ∧
  (∀ (k0_h1 : k0_cond1 i k0_t2 = 1#1), ∀ a x, ((![v60, v3781] : Fin 2 → IVec S16 32) a x).toNat < S256x142.size a)
theorem k0_idx2687_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v15, v3781] : Fin 2 → IVec S16 32) a x).toNat < S256x142.size a := fun i k0_t2 v15 v20 v25 v30 v35 v40 v45 v50 v55 v60 v3781 k0_hw1574 k0_h1 => k0_hw1574.1 k0_h1
theorem k0_idx2689_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v20, v3781] : Fin 2 → IVec S16 32) a x).toNat < S256x142.size a := fun i k0_t2 v15 v20 v25 v30 v35 v40 v45 v50 v55 v60 v3781 k0_hw1574 k0_h1 => k0_hw1574.2.1 k0_h1
theorem k0_idx2691_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v25, v3781] : Fin 2 → IVec S16 32) a x).toNat < S256x142.size a := fun i k0_t2 v15 v20 v25 v30 v35 v40 v45 v50 v55 v60 v3781 k0_hw1574 k0_h1 => k0_hw1574.2.2.1 k0_h1
theorem k0_idx2693_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v30, v3781] : Fin 2 → IVec S16 32) a x).toNat < S256x142.size a := fun i k0_t2 v15 v20 v25 v30 v35 v40 v45 v50 v55 v60 v3781 k0_hw1574 k0_h1 => k0_hw1574.2.2.2.1 k0_h1
theorem k0_idx2695_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v35, v3781] : Fin 2 → IVec S16 32) a x).toNat < S256x142.size a := fun i k0_t2 v15 v20 v25 v30 v35 v40 v45 v50 v55 v60 v3781 k0_hw1574 k0_h1 => k0_hw1574.2.2.2.2.1 k0_h1
theorem k0_idx2697_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v40, v3781] : Fin 2 → IVec S16 32) a x).toNat < S256x142.size a := fun i k0_t2 v15 v20 v25 v30 v35 v40 v45 v50 v55 v60 v3781 k0_hw1574 k0_h1 => k0_hw1574.2.2.2.2.2.1 k0_h1
theorem k0_idx2699_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v45, v3781] : Fin 2 → IVec S16 32) a x).toNat < S256x142.size a := fun i k0_t2 v15 v20 v25 v30 v35 v40 v45 v50 v55 v60 v3781 k0_hw1574 k0_h1 => k0_hw1574.2.2.2.2.2.2.1 k0_h1
theorem k0_idx2701_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v50, v3781] : Fin 2 → IVec S16 32) a x).toNat < S256x142.size a := fun i k0_t2 v15 v20 v25 v30 v35 v40 v45 v50 v55 v60 v3781 k0_hw1574 k0_h1 => k0_hw1574.2.2.2.2.2.2.2.1 k0_h1
theorem k0_idx2703_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v55, v3781] : Fin 2 → IVec S16 32) a x).toNat < S256x142.size a := fun i k0_t2 v15 v20 v25 v30 v35 v40 v45 v50 v55 v60 v3781 k0_hw1574 k0_h1 => k0_hw1574.2.2.2.2.2.2.2.2.1 k0_h1
theorem k0_idx2705_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3781 : IVec S16 32) (k0_hw1574 : k0_chk1574 i k0_t2 v15 v20 v25 v30 v35 v40 v45 v50 v55 v60 v3781), ∀ (k0_h1 : k0_cond1 i k0_t2 = 1#1), ∀ a x, ((![v60, v3781] : Fin 2 → IVec S16 32) a x).toNat < S256x142.size a := fun i k0_t2 v15 v20 v25 v30 v35 v40 v45 v50 v55 v60 v3781 k0_hw1574 k0_h1 => k0_hw1574.2.2.2.2.2.2.2.2.2 k0_h1

def k0_chk1584 (i : grid0.Coords) (k0_t2 : Fin k0_t2_loop.trips) (v3781 : IVec S16 32) (v3811 : IVec S16 32) : Prop :=
  (∀ (k0_h1 : k0_cond1 i k0_t2 = 1#1), ∀ a x, ((![v3811, v3781] : Fin 2 → IVec S16 32) a x).toNat < S160x142.size a)
theorem k0_idx2706_inb : ∀ (i : grid0.Coords) (k0_t2 : Fin k0_t2_loop.trips) (v3781 : IVec S16 32) (v3811 : IVec S16 32) (k0_hw1584 : k0_chk1584 i k0_t2 v3781 v3811), ∀ (k0_h1 : k0_cond1 i k0_t2 = 1#1), ∀ a x, ((![v3811, v3781] : Fin 2 → IVec S16 32) a x).toNat < S160x142.size a := fun i k0_t2 v3781 v3811 k0_hw1584 k0_h1 => k0_hw1584 k0_h1

def k0_chk1586 (i : grid0.Coords) (k0_t2 : Fin k0_t2_loop.trips) (v3812 : IVec S16 32) (v3815 : IVec S16 32) : Prop :=
  (∀ (k0_h1 : k0_cond1 i k0_t2 = 1#1), ∀ a x, ((![v3815, v3812] : Fin 2 → IVec S16 32) a x).toNat < S160x142.size a)
theorem k0_idx2708_inb : ∀ (i : grid0.Coords) (k0_t2 : Fin k0_t2_loop.trips) (v3812 : IVec S16 32) (v3815 : IVec S16 32) (k0_hw1586 : k0_chk1586 i k0_t2 v3812 v3815), ∀ (k0_h1 : k0_cond1 i k0_t2 = 1#1), ∀ a x, ((![v3815, v3812] : Fin 2 → IVec S16 32) a x).toNat < S160x142.size a := fun i k0_t2 v3812 v3815 k0_hw1586 k0_h1 => k0_hw1586 k0_h1

def k0_chk1587 (i : grid0.Coords) (k0_t2 : Fin k0_t2_loop.trips) (v3812 : IVec S16 32) (v3818 : IVec S16 32) : Prop :=
  (∀ (k0_h1 : k0_cond1 i k0_t2 = 1#1), ∀ a x, ((![v3818, v3812] : Fin 2 → IVec S16 32) a x).toNat < S160x142.size a)
theorem k0_idx2710_inb : ∀ (i : grid0.Coords) (k0_t2 : Fin k0_t2_loop.trips) (v3812 : IVec S16 32) (v3818 : IVec S16 32) (k0_hw1587 : k0_chk1587 i k0_t2 v3812 v3818), ∀ (k0_h1 : k0_cond1 i k0_t2 = 1#1), ∀ a x, ((![v3818, v3812] : Fin 2 → IVec S16 32) a x).toNat < S160x142.size a := fun i k0_t2 v3812 v3818 k0_hw1587 k0_h1 => k0_hw1587 k0_h1

def k0_chk1588 (i : grid0.Coords) (k0_t2 : Fin k0_t2_loop.trips) (v3812 : IVec S16 32) (v3821 : IVec S16 32) : Prop :=
  (∀ (k0_h1 : k0_cond1 i k0_t2 = 1#1), ∀ a x, ((![v3821, v3812] : Fin 2 → IVec S16 32) a x).toNat < S160x142.size a)
theorem k0_idx2712_inb : ∀ (i : grid0.Coords) (k0_t2 : Fin k0_t2_loop.trips) (v3812 : IVec S16 32) (v3821 : IVec S16 32) (k0_hw1588 : k0_chk1588 i k0_t2 v3812 v3821), ∀ (k0_h1 : k0_cond1 i k0_t2 = 1#1), ∀ a x, ((![v3821, v3812] : Fin 2 → IVec S16 32) a x).toNat < S160x142.size a := fun i k0_t2 v3812 v3821 k0_hw1588 k0_h1 => k0_hw1588 k0_h1

def k0_chk1589 (i : grid0.Coords) (k0_t2 : Fin k0_t2_loop.trips) (v3812 : IVec S16 32) (v3824 : IVec S16 32) : Prop :=
  (∀ (k0_h1 : k0_cond1 i k0_t2 = 1#1), ∀ a x, ((![v3824, v3812] : Fin 2 → IVec S16 32) a x).toNat < S160x142.size a)
theorem k0_idx2714_inb : ∀ (i : grid0.Coords) (k0_t2 : Fin k0_t2_loop.trips) (v3812 : IVec S16 32) (v3824 : IVec S16 32) (k0_hw1589 : k0_chk1589 i k0_t2 v3812 v3824), ∀ (k0_h1 : k0_cond1 i k0_t2 = 1#1), ∀ a x, ((![v3824, v3812] : Fin 2 → IVec S16 32) a x).toNat < S160x142.size a := fun i k0_t2 v3812 v3824 k0_hw1589 k0_h1 => k0_hw1589 k0_h1

def k0_chk1590 (i : grid0.Coords) (k0_t2 : Fin k0_t2_loop.trips) (v3812 : IVec S16 32) (v3827 : IVec S16 32) : Prop :=
  (∀ (k0_h1 : k0_cond1 i k0_t2 = 1#1), ∀ a x, ((![v3827, v3812] : Fin 2 → IVec S16 32) a x).toNat < S160x142.size a)
theorem k0_idx2716_inb : ∀ (i : grid0.Coords) (k0_t2 : Fin k0_t2_loop.trips) (v3812 : IVec S16 32) (v3827 : IVec S16 32) (k0_hw1590 : k0_chk1590 i k0_t2 v3812 v3827), ∀ (k0_h1 : k0_cond1 i k0_t2 = 1#1), ∀ a x, ((![v3827, v3812] : Fin 2 → IVec S16 32) a x).toNat < S160x142.size a := fun i k0_t2 v3812 v3827 k0_hw1590 k0_h1 => k0_hw1590 k0_h1

def k0_chk1591 (i : grid0.Coords) (k0_t2 : Fin k0_t2_loop.trips) (v3812 : IVec S16 32) (v3830 : IVec S16 32) : Prop :=
  (∀ (k0_h1 : k0_cond1 i k0_t2 = 1#1), ∀ a x, ((![v3830, v3812] : Fin 2 → IVec S16 32) a x).toNat < S160x142.size a)
theorem k0_idx2718_inb : ∀ (i : grid0.Coords) (k0_t2 : Fin k0_t2_loop.trips) (v3812 : IVec S16 32) (v3830 : IVec S16 32) (k0_hw1591 : k0_chk1591 i k0_t2 v3812 v3830), ∀ (k0_h1 : k0_cond1 i k0_t2 = 1#1), ∀ a x, ((![v3830, v3812] : Fin 2 → IVec S16 32) a x).toNat < S160x142.size a := fun i k0_t2 v3812 v3830 k0_hw1591 k0_h1 => k0_hw1591 k0_h1

def k0_chk1592 (i : grid0.Coords) (k0_t2 : Fin k0_t2_loop.trips) (v3812 : IVec S16 32) (v3833 : IVec S16 32) : Prop :=
  (∀ (k0_h1 : k0_cond1 i k0_t2 = 1#1), ∀ a x, ((![v3833, v3812] : Fin 2 → IVec S16 32) a x).toNat < S160x142.size a)
theorem k0_idx2720_inb : ∀ (i : grid0.Coords) (k0_t2 : Fin k0_t2_loop.trips) (v3812 : IVec S16 32) (v3833 : IVec S16 32) (k0_hw1592 : k0_chk1592 i k0_t2 v3812 v3833), ∀ (k0_h1 : k0_cond1 i k0_t2 = 1#1), ∀ a x, ((![v3833, v3812] : Fin 2 → IVec S16 32) a x).toNat < S160x142.size a := fun i k0_t2 v3812 v3833 k0_hw1592 k0_h1 => k0_hw1592 k0_h1

def k0_chk1593 (i : grid0.Coords) (k0_t2 : Fin k0_t2_loop.trips) (v3812 : IVec S16 32) (v3836 : IVec S16 32) : Prop :=
  (∀ (k0_h1 : k0_cond1 i k0_t2 = 1#1), ∀ a x, ((![v3836, v3812] : Fin 2 → IVec S16 32) a x).toNat < S160x142.size a)
theorem k0_idx2722_inb : ∀ (i : grid0.Coords) (k0_t2 : Fin k0_t2_loop.trips) (v3812 : IVec S16 32) (v3836 : IVec S16 32) (k0_hw1593 : k0_chk1593 i k0_t2 v3812 v3836), ∀ (k0_h1 : k0_cond1 i k0_t2 = 1#1), ∀ a x, ((![v3836, v3812] : Fin 2 → IVec S16 32) a x).toNat < S160x142.size a := fun i k0_t2 v3812 v3836 k0_hw1593 k0_h1 => k0_hw1593 k0_h1

def k0_chk1594 (i : grid0.Coords) (k0_t2 : Fin k0_t2_loop.trips) (v3812 : IVec S16 32) (v3839 : IVec S16 32) : Prop :=
  (∀ (k0_h1 : k0_cond1 i k0_t2 = 1#1), ∀ a x, ((![v3839, v3812] : Fin 2 → IVec S16 32) a x).toNat < S160x142.size a)
theorem k0_idx2724_inb : ∀ (i : grid0.Coords) (k0_t2 : Fin k0_t2_loop.trips) (v3812 : IVec S16 32) (v3839 : IVec S16 32) (k0_hw1594 : k0_chk1594 i k0_t2 v3812 v3839), ∀ (k0_h1 : k0_cond1 i k0_t2 = 1#1), ∀ a x, ((![v3839, v3812] : Fin 2 → IVec S16 32) a x).toNat < S160x142.size a := fun i k0_t2 v3812 v3839 k0_hw1594 k0_h1 => k0_hw1594 k0_h1

def k0_chk1585 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) : Prop :=
  (∀ (k0_h1 : k0_cond1 i k0_t2 = 1#1), ∀ a x, ((![v15, v3812] : Fin 2 → IVec S16 32) a x).toNat < S256x142.size a) ∧
  (∀ (k0_h1 : k0_cond1 i k0_t2 = 1#1), ∀ a x, ((![v20, v3812] : Fin 2 → IVec S16 32) a x).toNat < S256x142.size a) ∧
  (∀ (k0_h1 : k0_cond1 i k0_t2 = 1#1), ∀ a x, ((![v25, v3812] : Fin 2 → IVec S16 32) a x).toNat < S256x142.size a) ∧
  (∀ (k0_h1 : k0_cond1 i k0_t2 = 1#1), ∀ a x, ((![v30, v3812] : Fin 2 → IVec S16 32) a x).toNat < S256x142.size a) ∧
  (∀ (k0_h1 : k0_cond1 i k0_t2 = 1#1), ∀ a x, ((![v35, v3812] : Fin 2 → IVec S16 32) a x).toNat < S256x142.size a) ∧
  (∀ (k0_h1 : k0_cond1 i k0_t2 = 1#1), ∀ a x, ((![v40, v3812] : Fin 2 → IVec S16 32) a x).toNat < S256x142.size a) ∧
  (∀ (k0_h1 : k0_cond1 i k0_t2 = 1#1), ∀ a x, ((![v45, v3812] : Fin 2 → IVec S16 32) a x).toNat < S256x142.size a) ∧
  (∀ (k0_h1 : k0_cond1 i k0_t2 = 1#1), ∀ a x, ((![v50, v3812] : Fin 2 → IVec S16 32) a x).toNat < S256x142.size a) ∧
  (∀ (k0_h1 : k0_cond1 i k0_t2 = 1#1), ∀ a x, ((![v55, v3812] : Fin 2 → IVec S16 32) a x).toNat < S256x142.size a) ∧
  (∀ (k0_h1 : k0_cond1 i k0_t2 = 1#1), ∀ a x, ((![v60, v3812] : Fin 2 → IVec S16 32) a x).toNat < S256x142.size a)
theorem k0_idx2707_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v15, v3812] : Fin 2 → IVec S16 32) a x).toNat < S256x142.size a := fun i k0_t2 v15 v20 v25 v30 v35 v40 v45 v50 v55 v60 v3812 k0_hw1585 k0_h1 => k0_hw1585.1 k0_h1
theorem k0_idx2709_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v20, v3812] : Fin 2 → IVec S16 32) a x).toNat < S256x142.size a := fun i k0_t2 v15 v20 v25 v30 v35 v40 v45 v50 v55 v60 v3812 k0_hw1585 k0_h1 => k0_hw1585.2.1 k0_h1
theorem k0_idx2711_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v25, v3812] : Fin 2 → IVec S16 32) a x).toNat < S256x142.size a := fun i k0_t2 v15 v20 v25 v30 v35 v40 v45 v50 v55 v60 v3812 k0_hw1585 k0_h1 => k0_hw1585.2.2.1 k0_h1
theorem k0_idx2713_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v30, v3812] : Fin 2 → IVec S16 32) a x).toNat < S256x142.size a := fun i k0_t2 v15 v20 v25 v30 v35 v40 v45 v50 v55 v60 v3812 k0_hw1585 k0_h1 => k0_hw1585.2.2.2.1 k0_h1
theorem k0_idx2715_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v35, v3812] : Fin 2 → IVec S16 32) a x).toNat < S256x142.size a := fun i k0_t2 v15 v20 v25 v30 v35 v40 v45 v50 v55 v60 v3812 k0_hw1585 k0_h1 => k0_hw1585.2.2.2.2.1 k0_h1
theorem k0_idx2717_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v40, v3812] : Fin 2 → IVec S16 32) a x).toNat < S256x142.size a := fun i k0_t2 v15 v20 v25 v30 v35 v40 v45 v50 v55 v60 v3812 k0_hw1585 k0_h1 => k0_hw1585.2.2.2.2.2.1 k0_h1
theorem k0_idx2719_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v45, v3812] : Fin 2 → IVec S16 32) a x).toNat < S256x142.size a := fun i k0_t2 v15 v20 v25 v30 v35 v40 v45 v50 v55 v60 v3812 k0_hw1585 k0_h1 => k0_hw1585.2.2.2.2.2.2.1 k0_h1
theorem k0_idx2721_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v50, v3812] : Fin 2 → IVec S16 32) a x).toNat < S256x142.size a := fun i k0_t2 v15 v20 v25 v30 v35 v40 v45 v50 v55 v60 v3812 k0_hw1585 k0_h1 => k0_hw1585.2.2.2.2.2.2.2.1 k0_h1
theorem k0_idx2723_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v55, v3812] : Fin 2 → IVec S16 32) a x).toNat < S256x142.size a := fun i k0_t2 v15 v20 v25 v30 v35 v40 v45 v50 v55 v60 v3812 k0_hw1585 k0_h1 => k0_hw1585.2.2.2.2.2.2.2.2.1 k0_h1
theorem k0_idx2725_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3812 : IVec S16 32) (k0_hw1585 : k0_chk1585 i k0_t2 v15 v20 v25 v30 v35 v40 v45 v50 v55 v60 v3812), ∀ (k0_h1 : k0_cond1 i k0_t2 = 1#1), ∀ a x, ((![v60, v3812] : Fin 2 → IVec S16 32) a x).toNat < S256x142.size a := fun i k0_t2 v15 v20 v25 v30 v35 v40 v45 v50 v55 v60 v3812 k0_hw1585 k0_h1 => k0_hw1585.2.2.2.2.2.2.2.2.2 k0_h1

def k0_chk1595 (i : grid0.Coords) (k0_t2 : Fin k0_t2_loop.trips) (v3812 : IVec S16 32) (v3842 : IVec S16 32) : Prop :=
  (∀ (k0_h1 : k0_cond1 i k0_t2 = 1#1), ∀ a x, ((![v3842, v3812] : Fin 2 → IVec S16 32) a x).toNat < S160x142.size a)
theorem k0_idx2726_inb : ∀ (i : grid0.Coords) (k0_t2 : Fin k0_t2_loop.trips) (v3812 : IVec S16 32) (v3842 : IVec S16 32) (k0_hw1595 : k0_chk1595 i k0_t2 v3812 v3842), ∀ (k0_h1 : k0_cond1 i k0_t2 = 1#1), ∀ a x, ((![v3842, v3812] : Fin 2 → IVec S16 32) a x).toNat < S160x142.size a := fun i k0_t2 v3812 v3842 k0_hw1595 k0_h1 => k0_hw1595 k0_h1

def k0_chk1597 (i : grid0.Coords) (k0_t2 : Fin k0_t2_loop.trips) (v3843 : IVec S16 32) (v3846 : IVec S16 32) : Prop :=
  (∀ (k0_h1 : k0_cond1 i k0_t2 = 1#1), ∀ a x, ((![v3846, v3843] : Fin 2 → IVec S16 32) a x).toNat < S160x142.size a)
theorem k0_idx2728_inb : ∀ (i : grid0.Coords) (k0_t2 : Fin k0_t2_loop.trips) (v3843 : IVec S16 32) (v3846 : IVec S16 32) (k0_hw1597 : k0_chk1597 i k0_t2 v3843 v3846), ∀ (k0_h1 : k0_cond1 i k0_t2 = 1#1), ∀ a x, ((![v3846, v3843] : Fin 2 → IVec S16 32) a x).toNat < S160x142.size a := fun i k0_t2 v3843 v3846 k0_hw1597 k0_h1 => k0_hw1597 k0_h1

def k0_chk1598 (i : grid0.Coords) (k0_t2 : Fin k0_t2_loop.trips) (v3843 : IVec S16 32) (v3849 : IVec S16 32) : Prop :=
  (∀ (k0_h1 : k0_cond1 i k0_t2 = 1#1), ∀ a x, ((![v3849, v3843] : Fin 2 → IVec S16 32) a x).toNat < S160x142.size a)
theorem k0_idx2730_inb : ∀ (i : grid0.Coords) (k0_t2 : Fin k0_t2_loop.trips) (v3843 : IVec S16 32) (v3849 : IVec S16 32) (k0_hw1598 : k0_chk1598 i k0_t2 v3843 v3849), ∀ (k0_h1 : k0_cond1 i k0_t2 = 1#1), ∀ a x, ((![v3849, v3843] : Fin 2 → IVec S16 32) a x).toNat < S160x142.size a := fun i k0_t2 v3843 v3849 k0_hw1598 k0_h1 => k0_hw1598 k0_h1

def k0_chk1599 (i : grid0.Coords) (k0_t2 : Fin k0_t2_loop.trips) (v3843 : IVec S16 32) (v3852 : IVec S16 32) : Prop :=
  (∀ (k0_h1 : k0_cond1 i k0_t2 = 1#1), ∀ a x, ((![v3852, v3843] : Fin 2 → IVec S16 32) a x).toNat < S160x142.size a)
theorem k0_idx2732_inb : ∀ (i : grid0.Coords) (k0_t2 : Fin k0_t2_loop.trips) (v3843 : IVec S16 32) (v3852 : IVec S16 32) (k0_hw1599 : k0_chk1599 i k0_t2 v3843 v3852), ∀ (k0_h1 : k0_cond1 i k0_t2 = 1#1), ∀ a x, ((![v3852, v3843] : Fin 2 → IVec S16 32) a x).toNat < S160x142.size a := fun i k0_t2 v3843 v3852 k0_hw1599 k0_h1 => k0_hw1599 k0_h1

def k0_chk1600 (i : grid0.Coords) (k0_t2 : Fin k0_t2_loop.trips) (v3843 : IVec S16 32) (v3855 : IVec S16 32) : Prop :=
  (∀ (k0_h1 : k0_cond1 i k0_t2 = 1#1), ∀ a x, ((![v3855, v3843] : Fin 2 → IVec S16 32) a x).toNat < S160x142.size a)
theorem k0_idx2734_inb : ∀ (i : grid0.Coords) (k0_t2 : Fin k0_t2_loop.trips) (v3843 : IVec S16 32) (v3855 : IVec S16 32) (k0_hw1600 : k0_chk1600 i k0_t2 v3843 v3855), ∀ (k0_h1 : k0_cond1 i k0_t2 = 1#1), ∀ a x, ((![v3855, v3843] : Fin 2 → IVec S16 32) a x).toNat < S160x142.size a := fun i k0_t2 v3843 v3855 k0_hw1600 k0_h1 => k0_hw1600 k0_h1

def k0_chk1601 (i : grid0.Coords) (k0_t2 : Fin k0_t2_loop.trips) (v3843 : IVec S16 32) (v3858 : IVec S16 32) : Prop :=
  (∀ (k0_h1 : k0_cond1 i k0_t2 = 1#1), ∀ a x, ((![v3858, v3843] : Fin 2 → IVec S16 32) a x).toNat < S160x142.size a)
theorem k0_idx2736_inb : ∀ (i : grid0.Coords) (k0_t2 : Fin k0_t2_loop.trips) (v3843 : IVec S16 32) (v3858 : IVec S16 32) (k0_hw1601 : k0_chk1601 i k0_t2 v3843 v3858), ∀ (k0_h1 : k0_cond1 i k0_t2 = 1#1), ∀ a x, ((![v3858, v3843] : Fin 2 → IVec S16 32) a x).toNat < S160x142.size a := fun i k0_t2 v3843 v3858 k0_hw1601 k0_h1 => k0_hw1601 k0_h1

def k0_chk1602 (i : grid0.Coords) (k0_t2 : Fin k0_t2_loop.trips) (v3843 : IVec S16 32) (v3861 : IVec S16 32) : Prop :=
  (∀ (k0_h1 : k0_cond1 i k0_t2 = 1#1), ∀ a x, ((![v3861, v3843] : Fin 2 → IVec S16 32) a x).toNat < S160x142.size a)
theorem k0_idx2738_inb : ∀ (i : grid0.Coords) (k0_t2 : Fin k0_t2_loop.trips) (v3843 : IVec S16 32) (v3861 : IVec S16 32) (k0_hw1602 : k0_chk1602 i k0_t2 v3843 v3861), ∀ (k0_h1 : k0_cond1 i k0_t2 = 1#1), ∀ a x, ((![v3861, v3843] : Fin 2 → IVec S16 32) a x).toNat < S160x142.size a := fun i k0_t2 v3843 v3861 k0_hw1602 k0_h1 => k0_hw1602 k0_h1

def k0_chk1603 (i : grid0.Coords) (k0_t2 : Fin k0_t2_loop.trips) (v3843 : IVec S16 32) (v3864 : IVec S16 32) : Prop :=
  (∀ (k0_h1 : k0_cond1 i k0_t2 = 1#1), ∀ a x, ((![v3864, v3843] : Fin 2 → IVec S16 32) a x).toNat < S160x142.size a)
theorem k0_idx2740_inb : ∀ (i : grid0.Coords) (k0_t2 : Fin k0_t2_loop.trips) (v3843 : IVec S16 32) (v3864 : IVec S16 32) (k0_hw1603 : k0_chk1603 i k0_t2 v3843 v3864), ∀ (k0_h1 : k0_cond1 i k0_t2 = 1#1), ∀ a x, ((![v3864, v3843] : Fin 2 → IVec S16 32) a x).toNat < S160x142.size a := fun i k0_t2 v3843 v3864 k0_hw1603 k0_h1 => k0_hw1603 k0_h1

def k0_chk1604 (i : grid0.Coords) (k0_t2 : Fin k0_t2_loop.trips) (v3843 : IVec S16 32) (v3867 : IVec S16 32) : Prop :=
  (∀ (k0_h1 : k0_cond1 i k0_t2 = 1#1), ∀ a x, ((![v3867, v3843] : Fin 2 → IVec S16 32) a x).toNat < S160x142.size a)
theorem k0_idx2742_inb : ∀ (i : grid0.Coords) (k0_t2 : Fin k0_t2_loop.trips) (v3843 : IVec S16 32) (v3867 : IVec S16 32) (k0_hw1604 : k0_chk1604 i k0_t2 v3843 v3867), ∀ (k0_h1 : k0_cond1 i k0_t2 = 1#1), ∀ a x, ((![v3867, v3843] : Fin 2 → IVec S16 32) a x).toNat < S160x142.size a := fun i k0_t2 v3843 v3867 k0_hw1604 k0_h1 => k0_hw1604 k0_h1

def k0_chk1605 (i : grid0.Coords) (k0_t2 : Fin k0_t2_loop.trips) (v3843 : IVec S16 32) (v3870 : IVec S16 32) : Prop :=
  (∀ (k0_h1 : k0_cond1 i k0_t2 = 1#1), ∀ a x, ((![v3870, v3843] : Fin 2 → IVec S16 32) a x).toNat < S160x142.size a)
theorem k0_idx2744_inb : ∀ (i : grid0.Coords) (k0_t2 : Fin k0_t2_loop.trips) (v3843 : IVec S16 32) (v3870 : IVec S16 32) (k0_hw1605 : k0_chk1605 i k0_t2 v3843 v3870), ∀ (k0_h1 : k0_cond1 i k0_t2 = 1#1), ∀ a x, ((![v3870, v3843] : Fin 2 → IVec S16 32) a x).toNat < S160x142.size a := fun i k0_t2 v3843 v3870 k0_hw1605 k0_h1 => k0_hw1605 k0_h1

def k0_chk1596 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) : Prop :=
  (∀ (k0_h1 : k0_cond1 i k0_t2 = 1#1), ∀ a x, ((![v15, v3843] : Fin 2 → IVec S16 32) a x).toNat < S256x142.size a) ∧
  (∀ (k0_h1 : k0_cond1 i k0_t2 = 1#1), ∀ a x, ((![v20, v3843] : Fin 2 → IVec S16 32) a x).toNat < S256x142.size a) ∧
  (∀ (k0_h1 : k0_cond1 i k0_t2 = 1#1), ∀ a x, ((![v25, v3843] : Fin 2 → IVec S16 32) a x).toNat < S256x142.size a) ∧
  (∀ (k0_h1 : k0_cond1 i k0_t2 = 1#1), ∀ a x, ((![v30, v3843] : Fin 2 → IVec S16 32) a x).toNat < S256x142.size a) ∧
  (∀ (k0_h1 : k0_cond1 i k0_t2 = 1#1), ∀ a x, ((![v35, v3843] : Fin 2 → IVec S16 32) a x).toNat < S256x142.size a) ∧
  (∀ (k0_h1 : k0_cond1 i k0_t2 = 1#1), ∀ a x, ((![v40, v3843] : Fin 2 → IVec S16 32) a x).toNat < S256x142.size a) ∧
  (∀ (k0_h1 : k0_cond1 i k0_t2 = 1#1), ∀ a x, ((![v45, v3843] : Fin 2 → IVec S16 32) a x).toNat < S256x142.size a) ∧
  (∀ (k0_h1 : k0_cond1 i k0_t2 = 1#1), ∀ a x, ((![v50, v3843] : Fin 2 → IVec S16 32) a x).toNat < S256x142.size a) ∧
  (∀ (k0_h1 : k0_cond1 i k0_t2 = 1#1), ∀ a x, ((![v55, v3843] : Fin 2 → IVec S16 32) a x).toNat < S256x142.size a) ∧
  (∀ (k0_h1 : k0_cond1 i k0_t2 = 1#1), ∀ a x, ((![v60, v3843] : Fin 2 → IVec S16 32) a x).toNat < S256x142.size a)
theorem k0_idx2727_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v15, v3843] : Fin 2 → IVec S16 32) a x).toNat < S256x142.size a := fun i k0_t2 v15 v20 v25 v30 v35 v40 v45 v50 v55 v60 v3843 k0_hw1596 k0_h1 => k0_hw1596.1 k0_h1
theorem k0_idx2729_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v20, v3843] : Fin 2 → IVec S16 32) a x).toNat < S256x142.size a := fun i k0_t2 v15 v20 v25 v30 v35 v40 v45 v50 v55 v60 v3843 k0_hw1596 k0_h1 => k0_hw1596.2.1 k0_h1
theorem k0_idx2731_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v25, v3843] : Fin 2 → IVec S16 32) a x).toNat < S256x142.size a := fun i k0_t2 v15 v20 v25 v30 v35 v40 v45 v50 v55 v60 v3843 k0_hw1596 k0_h1 => k0_hw1596.2.2.1 k0_h1
theorem k0_idx2733_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v30, v3843] : Fin 2 → IVec S16 32) a x).toNat < S256x142.size a := fun i k0_t2 v15 v20 v25 v30 v35 v40 v45 v50 v55 v60 v3843 k0_hw1596 k0_h1 => k0_hw1596.2.2.2.1 k0_h1
theorem k0_idx2735_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v35, v3843] : Fin 2 → IVec S16 32) a x).toNat < S256x142.size a := fun i k0_t2 v15 v20 v25 v30 v35 v40 v45 v50 v55 v60 v3843 k0_hw1596 k0_h1 => k0_hw1596.2.2.2.2.1 k0_h1
theorem k0_idx2737_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v40, v3843] : Fin 2 → IVec S16 32) a x).toNat < S256x142.size a := fun i k0_t2 v15 v20 v25 v30 v35 v40 v45 v50 v55 v60 v3843 k0_hw1596 k0_h1 => k0_hw1596.2.2.2.2.2.1 k0_h1
theorem k0_idx2739_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v45, v3843] : Fin 2 → IVec S16 32) a x).toNat < S256x142.size a := fun i k0_t2 v15 v20 v25 v30 v35 v40 v45 v50 v55 v60 v3843 k0_hw1596 k0_h1 => k0_hw1596.2.2.2.2.2.2.1 k0_h1
theorem k0_idx2741_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v50, v3843] : Fin 2 → IVec S16 32) a x).toNat < S256x142.size a := fun i k0_t2 v15 v20 v25 v30 v35 v40 v45 v50 v55 v60 v3843 k0_hw1596 k0_h1 => k0_hw1596.2.2.2.2.2.2.2.1 k0_h1
theorem k0_idx2743_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v55, v3843] : Fin 2 → IVec S16 32) a x).toNat < S256x142.size a := fun i k0_t2 v15 v20 v25 v30 v35 v40 v45 v50 v55 v60 v3843 k0_hw1596 k0_h1 => k0_hw1596.2.2.2.2.2.2.2.2.1 k0_h1
theorem k0_idx2745_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3843 : IVec S16 32) (k0_hw1596 : k0_chk1596 i k0_t2 v15 v20 v25 v30 v35 v40 v45 v50 v55 v60 v3843), ∀ (k0_h1 : k0_cond1 i k0_t2 = 1#1), ∀ a x, ((![v60, v3843] : Fin 2 → IVec S16 32) a x).toNat < S256x142.size a := fun i k0_t2 v15 v20 v25 v30 v35 v40 v45 v50 v55 v60 v3843 k0_hw1596 k0_h1 => k0_hw1596.2.2.2.2.2.2.2.2.2 k0_h1

def k0_chk1606 (i : grid0.Coords) (k0_t2 : Fin k0_t2_loop.trips) (v3843 : IVec S16 32) (v3873 : IVec S16 32) : Prop :=
  (∀ (k0_h1 : k0_cond1 i k0_t2 = 1#1), ∀ a x, ((![v3873, v3843] : Fin 2 → IVec S16 32) a x).toNat < S160x142.size a)
theorem k0_idx2746_inb : ∀ (i : grid0.Coords) (k0_t2 : Fin k0_t2_loop.trips) (v3843 : IVec S16 32) (v3873 : IVec S16 32) (k0_hw1606 : k0_chk1606 i k0_t2 v3843 v3873), ∀ (k0_h1 : k0_cond1 i k0_t2 = 1#1), ∀ a x, ((![v3873, v3843] : Fin 2 → IVec S16 32) a x).toNat < S160x142.size a := fun i k0_t2 v3843 v3873 k0_hw1606 k0_h1 => k0_hw1606 k0_h1

def k0_chk1608 (i : grid0.Coords) (k0_t2 : Fin k0_t2_loop.trips) (v3874 : IVec S16 32) (v3877 : IVec S16 32) : Prop :=
  (∀ (k0_h1 : k0_cond1 i k0_t2 = 1#1), ∀ a x, ((![v3877, v3874] : Fin 2 → IVec S16 32) a x).toNat < S160x142.size a)
theorem k0_idx2748_inb : ∀ (i : grid0.Coords) (k0_t2 : Fin k0_t2_loop.trips) (v3874 : IVec S16 32) (v3877 : IVec S16 32) (k0_hw1608 : k0_chk1608 i k0_t2 v3874 v3877), ∀ (k0_h1 : k0_cond1 i k0_t2 = 1#1), ∀ a x, ((![v3877, v3874] : Fin 2 → IVec S16 32) a x).toNat < S160x142.size a := fun i k0_t2 v3874 v3877 k0_hw1608 k0_h1 => k0_hw1608 k0_h1

def k0_chk1609 (i : grid0.Coords) (k0_t2 : Fin k0_t2_loop.trips) (v3874 : IVec S16 32) (v3880 : IVec S16 32) : Prop :=
  (∀ (k0_h1 : k0_cond1 i k0_t2 = 1#1), ∀ a x, ((![v3880, v3874] : Fin 2 → IVec S16 32) a x).toNat < S160x142.size a)
theorem k0_idx2750_inb : ∀ (i : grid0.Coords) (k0_t2 : Fin k0_t2_loop.trips) (v3874 : IVec S16 32) (v3880 : IVec S16 32) (k0_hw1609 : k0_chk1609 i k0_t2 v3874 v3880), ∀ (k0_h1 : k0_cond1 i k0_t2 = 1#1), ∀ a x, ((![v3880, v3874] : Fin 2 → IVec S16 32) a x).toNat < S160x142.size a := fun i k0_t2 v3874 v3880 k0_hw1609 k0_h1 => k0_hw1609 k0_h1

def k0_chk1610 (i : grid0.Coords) (k0_t2 : Fin k0_t2_loop.trips) (v3874 : IVec S16 32) (v3883 : IVec S16 32) : Prop :=
  (∀ (k0_h1 : k0_cond1 i k0_t2 = 1#1), ∀ a x, ((![v3883, v3874] : Fin 2 → IVec S16 32) a x).toNat < S160x142.size a)
theorem k0_idx2752_inb : ∀ (i : grid0.Coords) (k0_t2 : Fin k0_t2_loop.trips) (v3874 : IVec S16 32) (v3883 : IVec S16 32) (k0_hw1610 : k0_chk1610 i k0_t2 v3874 v3883), ∀ (k0_h1 : k0_cond1 i k0_t2 = 1#1), ∀ a x, ((![v3883, v3874] : Fin 2 → IVec S16 32) a x).toNat < S160x142.size a := fun i k0_t2 v3874 v3883 k0_hw1610 k0_h1 => k0_hw1610 k0_h1

def k0_chk1611 (i : grid0.Coords) (k0_t2 : Fin k0_t2_loop.trips) (v3874 : IVec S16 32) (v3886 : IVec S16 32) : Prop :=
  (∀ (k0_h1 : k0_cond1 i k0_t2 = 1#1), ∀ a x, ((![v3886, v3874] : Fin 2 → IVec S16 32) a x).toNat < S160x142.size a)
theorem k0_idx2754_inb : ∀ (i : grid0.Coords) (k0_t2 : Fin k0_t2_loop.trips) (v3874 : IVec S16 32) (v3886 : IVec S16 32) (k0_hw1611 : k0_chk1611 i k0_t2 v3874 v3886), ∀ (k0_h1 : k0_cond1 i k0_t2 = 1#1), ∀ a x, ((![v3886, v3874] : Fin 2 → IVec S16 32) a x).toNat < S160x142.size a := fun i k0_t2 v3874 v3886 k0_hw1611 k0_h1 => k0_hw1611 k0_h1

def k0_chk1612 (i : grid0.Coords) (k0_t2 : Fin k0_t2_loop.trips) (v3874 : IVec S16 32) (v3889 : IVec S16 32) : Prop :=
  (∀ (k0_h1 : k0_cond1 i k0_t2 = 1#1), ∀ a x, ((![v3889, v3874] : Fin 2 → IVec S16 32) a x).toNat < S160x142.size a)
theorem k0_idx2756_inb : ∀ (i : grid0.Coords) (k0_t2 : Fin k0_t2_loop.trips) (v3874 : IVec S16 32) (v3889 : IVec S16 32) (k0_hw1612 : k0_chk1612 i k0_t2 v3874 v3889), ∀ (k0_h1 : k0_cond1 i k0_t2 = 1#1), ∀ a x, ((![v3889, v3874] : Fin 2 → IVec S16 32) a x).toNat < S160x142.size a := fun i k0_t2 v3874 v3889 k0_hw1612 k0_h1 => k0_hw1612 k0_h1

def k0_chk1613 (i : grid0.Coords) (k0_t2 : Fin k0_t2_loop.trips) (v3874 : IVec S16 32) (v3892 : IVec S16 32) : Prop :=
  (∀ (k0_h1 : k0_cond1 i k0_t2 = 1#1), ∀ a x, ((![v3892, v3874] : Fin 2 → IVec S16 32) a x).toNat < S160x142.size a)
theorem k0_idx2758_inb : ∀ (i : grid0.Coords) (k0_t2 : Fin k0_t2_loop.trips) (v3874 : IVec S16 32) (v3892 : IVec S16 32) (k0_hw1613 : k0_chk1613 i k0_t2 v3874 v3892), ∀ (k0_h1 : k0_cond1 i k0_t2 = 1#1), ∀ a x, ((![v3892, v3874] : Fin 2 → IVec S16 32) a x).toNat < S160x142.size a := fun i k0_t2 v3874 v3892 k0_hw1613 k0_h1 => k0_hw1613 k0_h1

def k0_chk1614 (i : grid0.Coords) (k0_t2 : Fin k0_t2_loop.trips) (v3874 : IVec S16 32) (v3895 : IVec S16 32) : Prop :=
  (∀ (k0_h1 : k0_cond1 i k0_t2 = 1#1), ∀ a x, ((![v3895, v3874] : Fin 2 → IVec S16 32) a x).toNat < S160x142.size a)
theorem k0_idx2760_inb : ∀ (i : grid0.Coords) (k0_t2 : Fin k0_t2_loop.trips) (v3874 : IVec S16 32) (v3895 : IVec S16 32) (k0_hw1614 : k0_chk1614 i k0_t2 v3874 v3895), ∀ (k0_h1 : k0_cond1 i k0_t2 = 1#1), ∀ a x, ((![v3895, v3874] : Fin 2 → IVec S16 32) a x).toNat < S160x142.size a := fun i k0_t2 v3874 v3895 k0_hw1614 k0_h1 => k0_hw1614 k0_h1

def k0_chk1615 (i : grid0.Coords) (k0_t2 : Fin k0_t2_loop.trips) (v3874 : IVec S16 32) (v3898 : IVec S16 32) : Prop :=
  (∀ (k0_h1 : k0_cond1 i k0_t2 = 1#1), ∀ a x, ((![v3898, v3874] : Fin 2 → IVec S16 32) a x).toNat < S160x142.size a)
theorem k0_idx2762_inb : ∀ (i : grid0.Coords) (k0_t2 : Fin k0_t2_loop.trips) (v3874 : IVec S16 32) (v3898 : IVec S16 32) (k0_hw1615 : k0_chk1615 i k0_t2 v3874 v3898), ∀ (k0_h1 : k0_cond1 i k0_t2 = 1#1), ∀ a x, ((![v3898, v3874] : Fin 2 → IVec S16 32) a x).toNat < S160x142.size a := fun i k0_t2 v3874 v3898 k0_hw1615 k0_h1 => k0_hw1615 k0_h1

def k0_chk1616 (i : grid0.Coords) (k0_t2 : Fin k0_t2_loop.trips) (v3874 : IVec S16 32) (v3901 : IVec S16 32) : Prop :=
  (∀ (k0_h1 : k0_cond1 i k0_t2 = 1#1), ∀ a x, ((![v3901, v3874] : Fin 2 → IVec S16 32) a x).toNat < S160x142.size a)
theorem k0_idx2764_inb : ∀ (i : grid0.Coords) (k0_t2 : Fin k0_t2_loop.trips) (v3874 : IVec S16 32) (v3901 : IVec S16 32) (k0_hw1616 : k0_chk1616 i k0_t2 v3874 v3901), ∀ (k0_h1 : k0_cond1 i k0_t2 = 1#1), ∀ a x, ((![v3901, v3874] : Fin 2 → IVec S16 32) a x).toNat < S160x142.size a := fun i k0_t2 v3874 v3901 k0_hw1616 k0_h1 => k0_hw1616 k0_h1

def k0_chk1607 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) : Prop :=
  (∀ (k0_h1 : k0_cond1 i k0_t2 = 1#1), ∀ a x, ((![v15, v3874] : Fin 2 → IVec S16 32) a x).toNat < S256x142.size a) ∧
  (∀ (k0_h1 : k0_cond1 i k0_t2 = 1#1), ∀ a x, ((![v20, v3874] : Fin 2 → IVec S16 32) a x).toNat < S256x142.size a) ∧
  (∀ (k0_h1 : k0_cond1 i k0_t2 = 1#1), ∀ a x, ((![v25, v3874] : Fin 2 → IVec S16 32) a x).toNat < S256x142.size a) ∧
  (∀ (k0_h1 : k0_cond1 i k0_t2 = 1#1), ∀ a x, ((![v30, v3874] : Fin 2 → IVec S16 32) a x).toNat < S256x142.size a) ∧
  (∀ (k0_h1 : k0_cond1 i k0_t2 = 1#1), ∀ a x, ((![v35, v3874] : Fin 2 → IVec S16 32) a x).toNat < S256x142.size a) ∧
  (∀ (k0_h1 : k0_cond1 i k0_t2 = 1#1), ∀ a x, ((![v40, v3874] : Fin 2 → IVec S16 32) a x).toNat < S256x142.size a) ∧
  (∀ (k0_h1 : k0_cond1 i k0_t2 = 1#1), ∀ a x, ((![v45, v3874] : Fin 2 → IVec S16 32) a x).toNat < S256x142.size a) ∧
  (∀ (k0_h1 : k0_cond1 i k0_t2 = 1#1), ∀ a x, ((![v50, v3874] : Fin 2 → IVec S16 32) a x).toNat < S256x142.size a) ∧
  (∀ (k0_h1 : k0_cond1 i k0_t2 = 1#1), ∀ a x, ((![v55, v3874] : Fin 2 → IVec S16 32) a x).toNat < S256x142.size a) ∧
  (∀ (k0_h1 : k0_cond1 i k0_t2 = 1#1), ∀ a x, ((![v60, v3874] : Fin 2 → IVec S16 32) a x).toNat < S256x142.size a)
theorem k0_idx2747_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v15, v3874] : Fin 2 → IVec S16 32) a x).toNat < S256x142.size a := fun i k0_t2 v15 v20 v25 v30 v35 v40 v45 v50 v55 v60 v3874 k0_hw1607 k0_h1 => k0_hw1607.1 k0_h1
theorem k0_idx2749_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v20, v3874] : Fin 2 → IVec S16 32) a x).toNat < S256x142.size a := fun i k0_t2 v15 v20 v25 v30 v35 v40 v45 v50 v55 v60 v3874 k0_hw1607 k0_h1 => k0_hw1607.2.1 k0_h1
theorem k0_idx2751_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v25, v3874] : Fin 2 → IVec S16 32) a x).toNat < S256x142.size a := fun i k0_t2 v15 v20 v25 v30 v35 v40 v45 v50 v55 v60 v3874 k0_hw1607 k0_h1 => k0_hw1607.2.2.1 k0_h1
theorem k0_idx2753_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v30, v3874] : Fin 2 → IVec S16 32) a x).toNat < S256x142.size a := fun i k0_t2 v15 v20 v25 v30 v35 v40 v45 v50 v55 v60 v3874 k0_hw1607 k0_h1 => k0_hw1607.2.2.2.1 k0_h1
theorem k0_idx2755_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v35, v3874] : Fin 2 → IVec S16 32) a x).toNat < S256x142.size a := fun i k0_t2 v15 v20 v25 v30 v35 v40 v45 v50 v55 v60 v3874 k0_hw1607 k0_h1 => k0_hw1607.2.2.2.2.1 k0_h1
theorem k0_idx2757_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v40, v3874] : Fin 2 → IVec S16 32) a x).toNat < S256x142.size a := fun i k0_t2 v15 v20 v25 v30 v35 v40 v45 v50 v55 v60 v3874 k0_hw1607 k0_h1 => k0_hw1607.2.2.2.2.2.1 k0_h1
theorem k0_idx2759_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v45, v3874] : Fin 2 → IVec S16 32) a x).toNat < S256x142.size a := fun i k0_t2 v15 v20 v25 v30 v35 v40 v45 v50 v55 v60 v3874 k0_hw1607 k0_h1 => k0_hw1607.2.2.2.2.2.2.1 k0_h1
theorem k0_idx2761_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v50, v3874] : Fin 2 → IVec S16 32) a x).toNat < S256x142.size a := fun i k0_t2 v15 v20 v25 v30 v35 v40 v45 v50 v55 v60 v3874 k0_hw1607 k0_h1 => k0_hw1607.2.2.2.2.2.2.2.1 k0_h1
theorem k0_idx2763_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v55, v3874] : Fin 2 → IVec S16 32) a x).toNat < S256x142.size a := fun i k0_t2 v15 v20 v25 v30 v35 v40 v45 v50 v55 v60 v3874 k0_hw1607 k0_h1 => k0_hw1607.2.2.2.2.2.2.2.2.1 k0_h1
theorem k0_idx2765_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3874 : IVec S16 32) (k0_hw1607 : k0_chk1607 i k0_t2 v15 v20 v25 v30 v35 v40 v45 v50 v55 v60 v3874), ∀ (k0_h1 : k0_cond1 i k0_t2 = 1#1), ∀ a x, ((![v60, v3874] : Fin 2 → IVec S16 32) a x).toNat < S256x142.size a := fun i k0_t2 v15 v20 v25 v30 v35 v40 v45 v50 v55 v60 v3874 k0_hw1607 k0_h1 => k0_hw1607.2.2.2.2.2.2.2.2.2 k0_h1

def k0_chk1617 (i : grid0.Coords) (k0_t2 : Fin k0_t2_loop.trips) (v3874 : IVec S16 32) (v3904 : IVec S16 32) : Prop :=
  (∀ (k0_h1 : k0_cond1 i k0_t2 = 1#1), ∀ a x, ((![v3904, v3874] : Fin 2 → IVec S16 32) a x).toNat < S160x142.size a)
theorem k0_idx2766_inb : ∀ (i : grid0.Coords) (k0_t2 : Fin k0_t2_loop.trips) (v3874 : IVec S16 32) (v3904 : IVec S16 32) (k0_hw1617 : k0_chk1617 i k0_t2 v3874 v3904), ∀ (k0_h1 : k0_cond1 i k0_t2 = 1#1), ∀ a x, ((![v3904, v3874] : Fin 2 → IVec S16 32) a x).toNat < S160x142.size a := fun i k0_t2 v3874 v3904 k0_hw1617 k0_h1 => k0_hw1617 k0_h1

def k0_chk1619 (i : grid0.Coords) (k0_t2 : Fin k0_t2_loop.trips) (v3905 : IVec S16 32) (v3908 : IVec S16 32) : Prop :=
  (∀ (k0_h1 : k0_cond1 i k0_t2 = 1#1), ∀ a x, ((![v3908, v3905] : Fin 2 → IVec S16 32) a x).toNat < S160x142.size a)
theorem k0_idx2768_inb : ∀ (i : grid0.Coords) (k0_t2 : Fin k0_t2_loop.trips) (v3905 : IVec S16 32) (v3908 : IVec S16 32) (k0_hw1619 : k0_chk1619 i k0_t2 v3905 v3908), ∀ (k0_h1 : k0_cond1 i k0_t2 = 1#1), ∀ a x, ((![v3908, v3905] : Fin 2 → IVec S16 32) a x).toNat < S160x142.size a := fun i k0_t2 v3905 v3908 k0_hw1619 k0_h1 => k0_hw1619 k0_h1

def k0_chk1620 (i : grid0.Coords) (k0_t2 : Fin k0_t2_loop.trips) (v3905 : IVec S16 32) (v3911 : IVec S16 32) : Prop :=
  (∀ (k0_h1 : k0_cond1 i k0_t2 = 1#1), ∀ a x, ((![v3911, v3905] : Fin 2 → IVec S16 32) a x).toNat < S160x142.size a)
theorem k0_idx2770_inb : ∀ (i : grid0.Coords) (k0_t2 : Fin k0_t2_loop.trips) (v3905 : IVec S16 32) (v3911 : IVec S16 32) (k0_hw1620 : k0_chk1620 i k0_t2 v3905 v3911), ∀ (k0_h1 : k0_cond1 i k0_t2 = 1#1), ∀ a x, ((![v3911, v3905] : Fin 2 → IVec S16 32) a x).toNat < S160x142.size a := fun i k0_t2 v3905 v3911 k0_hw1620 k0_h1 => k0_hw1620 k0_h1

def k0_chk1621 (i : grid0.Coords) (k0_t2 : Fin k0_t2_loop.trips) (v3905 : IVec S16 32) (v3914 : IVec S16 32) : Prop :=
  (∀ (k0_h1 : k0_cond1 i k0_t2 = 1#1), ∀ a x, ((![v3914, v3905] : Fin 2 → IVec S16 32) a x).toNat < S160x142.size a)
theorem k0_idx2772_inb : ∀ (i : grid0.Coords) (k0_t2 : Fin k0_t2_loop.trips) (v3905 : IVec S16 32) (v3914 : IVec S16 32) (k0_hw1621 : k0_chk1621 i k0_t2 v3905 v3914), ∀ (k0_h1 : k0_cond1 i k0_t2 = 1#1), ∀ a x, ((![v3914, v3905] : Fin 2 → IVec S16 32) a x).toNat < S160x142.size a := fun i k0_t2 v3905 v3914 k0_hw1621 k0_h1 => k0_hw1621 k0_h1

def k0_chk1622 (i : grid0.Coords) (k0_t2 : Fin k0_t2_loop.trips) (v3905 : IVec S16 32) (v3917 : IVec S16 32) : Prop :=
  (∀ (k0_h1 : k0_cond1 i k0_t2 = 1#1), ∀ a x, ((![v3917, v3905] : Fin 2 → IVec S16 32) a x).toNat < S160x142.size a)
theorem k0_idx2774_inb : ∀ (i : grid0.Coords) (k0_t2 : Fin k0_t2_loop.trips) (v3905 : IVec S16 32) (v3917 : IVec S16 32) (k0_hw1622 : k0_chk1622 i k0_t2 v3905 v3917), ∀ (k0_h1 : k0_cond1 i k0_t2 = 1#1), ∀ a x, ((![v3917, v3905] : Fin 2 → IVec S16 32) a x).toNat < S160x142.size a := fun i k0_t2 v3905 v3917 k0_hw1622 k0_h1 => k0_hw1622 k0_h1

def k0_chk1623 (i : grid0.Coords) (k0_t2 : Fin k0_t2_loop.trips) (v3905 : IVec S16 32) (v3920 : IVec S16 32) : Prop :=
  (∀ (k0_h1 : k0_cond1 i k0_t2 = 1#1), ∀ a x, ((![v3920, v3905] : Fin 2 → IVec S16 32) a x).toNat < S160x142.size a)
theorem k0_idx2776_inb : ∀ (i : grid0.Coords) (k0_t2 : Fin k0_t2_loop.trips) (v3905 : IVec S16 32) (v3920 : IVec S16 32) (k0_hw1623 : k0_chk1623 i k0_t2 v3905 v3920), ∀ (k0_h1 : k0_cond1 i k0_t2 = 1#1), ∀ a x, ((![v3920, v3905] : Fin 2 → IVec S16 32) a x).toNat < S160x142.size a := fun i k0_t2 v3905 v3920 k0_hw1623 k0_h1 => k0_hw1623 k0_h1

def k0_chk1624 (i : grid0.Coords) (k0_t2 : Fin k0_t2_loop.trips) (v3905 : IVec S16 32) (v3923 : IVec S16 32) : Prop :=
  (∀ (k0_h1 : k0_cond1 i k0_t2 = 1#1), ∀ a x, ((![v3923, v3905] : Fin 2 → IVec S16 32) a x).toNat < S160x142.size a)
theorem k0_idx2778_inb : ∀ (i : grid0.Coords) (k0_t2 : Fin k0_t2_loop.trips) (v3905 : IVec S16 32) (v3923 : IVec S16 32) (k0_hw1624 : k0_chk1624 i k0_t2 v3905 v3923), ∀ (k0_h1 : k0_cond1 i k0_t2 = 1#1), ∀ a x, ((![v3923, v3905] : Fin 2 → IVec S16 32) a x).toNat < S160x142.size a := fun i k0_t2 v3905 v3923 k0_hw1624 k0_h1 => k0_hw1624 k0_h1

def k0_chk1625 (i : grid0.Coords) (k0_t2 : Fin k0_t2_loop.trips) (v3905 : IVec S16 32) (v3926 : IVec S16 32) : Prop :=
  (∀ (k0_h1 : k0_cond1 i k0_t2 = 1#1), ∀ a x, ((![v3926, v3905] : Fin 2 → IVec S16 32) a x).toNat < S160x142.size a)
theorem k0_idx2780_inb : ∀ (i : grid0.Coords) (k0_t2 : Fin k0_t2_loop.trips) (v3905 : IVec S16 32) (v3926 : IVec S16 32) (k0_hw1625 : k0_chk1625 i k0_t2 v3905 v3926), ∀ (k0_h1 : k0_cond1 i k0_t2 = 1#1), ∀ a x, ((![v3926, v3905] : Fin 2 → IVec S16 32) a x).toNat < S160x142.size a := fun i k0_t2 v3905 v3926 k0_hw1625 k0_h1 => k0_hw1625 k0_h1

def k0_chk1626 (i : grid0.Coords) (k0_t2 : Fin k0_t2_loop.trips) (v3905 : IVec S16 32) (v3929 : IVec S16 32) : Prop :=
  (∀ (k0_h1 : k0_cond1 i k0_t2 = 1#1), ∀ a x, ((![v3929, v3905] : Fin 2 → IVec S16 32) a x).toNat < S160x142.size a)
theorem k0_idx2782_inb : ∀ (i : grid0.Coords) (k0_t2 : Fin k0_t2_loop.trips) (v3905 : IVec S16 32) (v3929 : IVec S16 32) (k0_hw1626 : k0_chk1626 i k0_t2 v3905 v3929), ∀ (k0_h1 : k0_cond1 i k0_t2 = 1#1), ∀ a x, ((![v3929, v3905] : Fin 2 → IVec S16 32) a x).toNat < S160x142.size a := fun i k0_t2 v3905 v3929 k0_hw1626 k0_h1 => k0_hw1626 k0_h1

def k0_chk1627 (i : grid0.Coords) (k0_t2 : Fin k0_t2_loop.trips) (v3905 : IVec S16 32) (v3932 : IVec S16 32) : Prop :=
  (∀ (k0_h1 : k0_cond1 i k0_t2 = 1#1), ∀ a x, ((![v3932, v3905] : Fin 2 → IVec S16 32) a x).toNat < S160x142.size a)
theorem k0_idx2784_inb : ∀ (i : grid0.Coords) (k0_t2 : Fin k0_t2_loop.trips) (v3905 : IVec S16 32) (v3932 : IVec S16 32) (k0_hw1627 : k0_chk1627 i k0_t2 v3905 v3932), ∀ (k0_h1 : k0_cond1 i k0_t2 = 1#1), ∀ a x, ((![v3932, v3905] : Fin 2 → IVec S16 32) a x).toNat < S160x142.size a := fun i k0_t2 v3905 v3932 k0_hw1627 k0_h1 => k0_hw1627 k0_h1

def k0_chk1618 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) : Prop :=
  (∀ (k0_h1 : k0_cond1 i k0_t2 = 1#1), ∀ a x, ((![v15, v3905] : Fin 2 → IVec S16 32) a x).toNat < S256x142.size a) ∧
  (∀ (k0_h1 : k0_cond1 i k0_t2 = 1#1), ∀ a x, ((![v20, v3905] : Fin 2 → IVec S16 32) a x).toNat < S256x142.size a) ∧
  (∀ (k0_h1 : k0_cond1 i k0_t2 = 1#1), ∀ a x, ((![v25, v3905] : Fin 2 → IVec S16 32) a x).toNat < S256x142.size a) ∧
  (∀ (k0_h1 : k0_cond1 i k0_t2 = 1#1), ∀ a x, ((![v30, v3905] : Fin 2 → IVec S16 32) a x).toNat < S256x142.size a) ∧
  (∀ (k0_h1 : k0_cond1 i k0_t2 = 1#1), ∀ a x, ((![v35, v3905] : Fin 2 → IVec S16 32) a x).toNat < S256x142.size a) ∧
  (∀ (k0_h1 : k0_cond1 i k0_t2 = 1#1), ∀ a x, ((![v40, v3905] : Fin 2 → IVec S16 32) a x).toNat < S256x142.size a) ∧
  (∀ (k0_h1 : k0_cond1 i k0_t2 = 1#1), ∀ a x, ((![v45, v3905] : Fin 2 → IVec S16 32) a x).toNat < S256x142.size a) ∧
  (∀ (k0_h1 : k0_cond1 i k0_t2 = 1#1), ∀ a x, ((![v50, v3905] : Fin 2 → IVec S16 32) a x).toNat < S256x142.size a) ∧
  (∀ (k0_h1 : k0_cond1 i k0_t2 = 1#1), ∀ a x, ((![v55, v3905] : Fin 2 → IVec S16 32) a x).toNat < S256x142.size a) ∧
  (∀ (k0_h1 : k0_cond1 i k0_t2 = 1#1), ∀ a x, ((![v60, v3905] : Fin 2 → IVec S16 32) a x).toNat < S256x142.size a)
theorem k0_idx2767_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v15, v3905] : Fin 2 → IVec S16 32) a x).toNat < S256x142.size a := fun i k0_t2 v15 v20 v25 v30 v35 v40 v45 v50 v55 v60 v3905 k0_hw1618 k0_h1 => k0_hw1618.1 k0_h1
theorem k0_idx2769_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v20, v3905] : Fin 2 → IVec S16 32) a x).toNat < S256x142.size a := fun i k0_t2 v15 v20 v25 v30 v35 v40 v45 v50 v55 v60 v3905 k0_hw1618 k0_h1 => k0_hw1618.2.1 k0_h1
theorem k0_idx2771_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v25, v3905] : Fin 2 → IVec S16 32) a x).toNat < S256x142.size a := fun i k0_t2 v15 v20 v25 v30 v35 v40 v45 v50 v55 v60 v3905 k0_hw1618 k0_h1 => k0_hw1618.2.2.1 k0_h1
theorem k0_idx2773_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v30, v3905] : Fin 2 → IVec S16 32) a x).toNat < S256x142.size a := fun i k0_t2 v15 v20 v25 v30 v35 v40 v45 v50 v55 v60 v3905 k0_hw1618 k0_h1 => k0_hw1618.2.2.2.1 k0_h1
theorem k0_idx2775_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v35, v3905] : Fin 2 → IVec S16 32) a x).toNat < S256x142.size a := fun i k0_t2 v15 v20 v25 v30 v35 v40 v45 v50 v55 v60 v3905 k0_hw1618 k0_h1 => k0_hw1618.2.2.2.2.1 k0_h1
theorem k0_idx2777_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v40, v3905] : Fin 2 → IVec S16 32) a x).toNat < S256x142.size a := fun i k0_t2 v15 v20 v25 v30 v35 v40 v45 v50 v55 v60 v3905 k0_hw1618 k0_h1 => k0_hw1618.2.2.2.2.2.1 k0_h1
theorem k0_idx2779_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v45, v3905] : Fin 2 → IVec S16 32) a x).toNat < S256x142.size a := fun i k0_t2 v15 v20 v25 v30 v35 v40 v45 v50 v55 v60 v3905 k0_hw1618 k0_h1 => k0_hw1618.2.2.2.2.2.2.1 k0_h1
theorem k0_idx2781_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v50, v3905] : Fin 2 → IVec S16 32) a x).toNat < S256x142.size a := fun i k0_t2 v15 v20 v25 v30 v35 v40 v45 v50 v55 v60 v3905 k0_hw1618 k0_h1 => k0_hw1618.2.2.2.2.2.2.2.1 k0_h1
theorem k0_idx2783_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v55, v3905] : Fin 2 → IVec S16 32) a x).toNat < S256x142.size a := fun i k0_t2 v15 v20 v25 v30 v35 v40 v45 v50 v55 v60 v3905 k0_hw1618 k0_h1 => k0_hw1618.2.2.2.2.2.2.2.2.1 k0_h1
theorem k0_idx2785_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3905 : IVec S16 32) (k0_hw1618 : k0_chk1618 i k0_t2 v15 v20 v25 v30 v35 v40 v45 v50 v55 v60 v3905), ∀ (k0_h1 : k0_cond1 i k0_t2 = 1#1), ∀ a x, ((![v60, v3905] : Fin 2 → IVec S16 32) a x).toNat < S256x142.size a := fun i k0_t2 v15 v20 v25 v30 v35 v40 v45 v50 v55 v60 v3905 k0_hw1618 k0_h1 => k0_hw1618.2.2.2.2.2.2.2.2.2 k0_h1

def k0_chk1628 (i : grid0.Coords) (k0_t2 : Fin k0_t2_loop.trips) (v3905 : IVec S16 32) (v3935 : IVec S16 32) : Prop :=
  (∀ (k0_h1 : k0_cond1 i k0_t2 = 1#1), ∀ a x, ((![v3935, v3905] : Fin 2 → IVec S16 32) a x).toNat < S160x142.size a)
theorem k0_idx2786_inb : ∀ (i : grid0.Coords) (k0_t2 : Fin k0_t2_loop.trips) (v3905 : IVec S16 32) (v3935 : IVec S16 32) (k0_hw1628 : k0_chk1628 i k0_t2 v3905 v3935), ∀ (k0_h1 : k0_cond1 i k0_t2 = 1#1), ∀ a x, ((![v3935, v3905] : Fin 2 → IVec S16 32) a x).toNat < S160x142.size a := fun i k0_t2 v3905 v3935 k0_hw1628 k0_h1 => k0_hw1628 k0_h1

def k0_chk1630 (i : grid0.Coords) (k0_t2 : Fin k0_t2_loop.trips) (v3936 : IVec S16 32) (v3939 : IVec S16 32) : Prop :=
  (∀ (k0_h1 : k0_cond1 i k0_t2 = 1#1), ∀ a x, ((![v3939, v3936] : Fin 2 → IVec S16 32) a x).toNat < S160x142.size a)
theorem k0_idx2788_inb : ∀ (i : grid0.Coords) (k0_t2 : Fin k0_t2_loop.trips) (v3936 : IVec S16 32) (v3939 : IVec S16 32) (k0_hw1630 : k0_chk1630 i k0_t2 v3936 v3939), ∀ (k0_h1 : k0_cond1 i k0_t2 = 1#1), ∀ a x, ((![v3939, v3936] : Fin 2 → IVec S16 32) a x).toNat < S160x142.size a := fun i k0_t2 v3936 v3939 k0_hw1630 k0_h1 => k0_hw1630 k0_h1

def k0_chk1631 (i : grid0.Coords) (k0_t2 : Fin k0_t2_loop.trips) (v3936 : IVec S16 32) (v3942 : IVec S16 32) : Prop :=
  (∀ (k0_h1 : k0_cond1 i k0_t2 = 1#1), ∀ a x, ((![v3942, v3936] : Fin 2 → IVec S16 32) a x).toNat < S160x142.size a)
theorem k0_idx2790_inb : ∀ (i : grid0.Coords) (k0_t2 : Fin k0_t2_loop.trips) (v3936 : IVec S16 32) (v3942 : IVec S16 32) (k0_hw1631 : k0_chk1631 i k0_t2 v3936 v3942), ∀ (k0_h1 : k0_cond1 i k0_t2 = 1#1), ∀ a x, ((![v3942, v3936] : Fin 2 → IVec S16 32) a x).toNat < S160x142.size a := fun i k0_t2 v3936 v3942 k0_hw1631 k0_h1 => k0_hw1631 k0_h1

def k0_chk1632 (i : grid0.Coords) (k0_t2 : Fin k0_t2_loop.trips) (v3936 : IVec S16 32) (v3945 : IVec S16 32) : Prop :=
  (∀ (k0_h1 : k0_cond1 i k0_t2 = 1#1), ∀ a x, ((![v3945, v3936] : Fin 2 → IVec S16 32) a x).toNat < S160x142.size a)
theorem k0_idx2792_inb : ∀ (i : grid0.Coords) (k0_t2 : Fin k0_t2_loop.trips) (v3936 : IVec S16 32) (v3945 : IVec S16 32) (k0_hw1632 : k0_chk1632 i k0_t2 v3936 v3945), ∀ (k0_h1 : k0_cond1 i k0_t2 = 1#1), ∀ a x, ((![v3945, v3936] : Fin 2 → IVec S16 32) a x).toNat < S160x142.size a := fun i k0_t2 v3936 v3945 k0_hw1632 k0_h1 => k0_hw1632 k0_h1

def k0_chk1633 (i : grid0.Coords) (k0_t2 : Fin k0_t2_loop.trips) (v3936 : IVec S16 32) (v3948 : IVec S16 32) : Prop :=
  (∀ (k0_h1 : k0_cond1 i k0_t2 = 1#1), ∀ a x, ((![v3948, v3936] : Fin 2 → IVec S16 32) a x).toNat < S160x142.size a)
theorem k0_idx2794_inb : ∀ (i : grid0.Coords) (k0_t2 : Fin k0_t2_loop.trips) (v3936 : IVec S16 32) (v3948 : IVec S16 32) (k0_hw1633 : k0_chk1633 i k0_t2 v3936 v3948), ∀ (k0_h1 : k0_cond1 i k0_t2 = 1#1), ∀ a x, ((![v3948, v3936] : Fin 2 → IVec S16 32) a x).toNat < S160x142.size a := fun i k0_t2 v3936 v3948 k0_hw1633 k0_h1 => k0_hw1633 k0_h1

def k0_chk1634 (i : grid0.Coords) (k0_t2 : Fin k0_t2_loop.trips) (v3936 : IVec S16 32) (v3951 : IVec S16 32) : Prop :=
  (∀ (k0_h1 : k0_cond1 i k0_t2 = 1#1), ∀ a x, ((![v3951, v3936] : Fin 2 → IVec S16 32) a x).toNat < S160x142.size a)
theorem k0_idx2796_inb : ∀ (i : grid0.Coords) (k0_t2 : Fin k0_t2_loop.trips) (v3936 : IVec S16 32) (v3951 : IVec S16 32) (k0_hw1634 : k0_chk1634 i k0_t2 v3936 v3951), ∀ (k0_h1 : k0_cond1 i k0_t2 = 1#1), ∀ a x, ((![v3951, v3936] : Fin 2 → IVec S16 32) a x).toNat < S160x142.size a := fun i k0_t2 v3936 v3951 k0_hw1634 k0_h1 => k0_hw1634 k0_h1

def k0_chk1635 (i : grid0.Coords) (k0_t2 : Fin k0_t2_loop.trips) (v3936 : IVec S16 32) (v3954 : IVec S16 32) : Prop :=
  (∀ (k0_h1 : k0_cond1 i k0_t2 = 1#1), ∀ a x, ((![v3954, v3936] : Fin 2 → IVec S16 32) a x).toNat < S160x142.size a)
theorem k0_idx2798_inb : ∀ (i : grid0.Coords) (k0_t2 : Fin k0_t2_loop.trips) (v3936 : IVec S16 32) (v3954 : IVec S16 32) (k0_hw1635 : k0_chk1635 i k0_t2 v3936 v3954), ∀ (k0_h1 : k0_cond1 i k0_t2 = 1#1), ∀ a x, ((![v3954, v3936] : Fin 2 → IVec S16 32) a x).toNat < S160x142.size a := fun i k0_t2 v3936 v3954 k0_hw1635 k0_h1 => k0_hw1635 k0_h1

def k0_chk1636 (i : grid0.Coords) (k0_t2 : Fin k0_t2_loop.trips) (v3936 : IVec S16 32) (v3957 : IVec S16 32) : Prop :=
  (∀ (k0_h1 : k0_cond1 i k0_t2 = 1#1), ∀ a x, ((![v3957, v3936] : Fin 2 → IVec S16 32) a x).toNat < S160x142.size a)
theorem k0_idx2800_inb : ∀ (i : grid0.Coords) (k0_t2 : Fin k0_t2_loop.trips) (v3936 : IVec S16 32) (v3957 : IVec S16 32) (k0_hw1636 : k0_chk1636 i k0_t2 v3936 v3957), ∀ (k0_h1 : k0_cond1 i k0_t2 = 1#1), ∀ a x, ((![v3957, v3936] : Fin 2 → IVec S16 32) a x).toNat < S160x142.size a := fun i k0_t2 v3936 v3957 k0_hw1636 k0_h1 => k0_hw1636 k0_h1

def k0_chk1637 (i : grid0.Coords) (k0_t2 : Fin k0_t2_loop.trips) (v3936 : IVec S16 32) (v3960 : IVec S16 32) : Prop :=
  (∀ (k0_h1 : k0_cond1 i k0_t2 = 1#1), ∀ a x, ((![v3960, v3936] : Fin 2 → IVec S16 32) a x).toNat < S160x142.size a)
theorem k0_idx2802_inb : ∀ (i : grid0.Coords) (k0_t2 : Fin k0_t2_loop.trips) (v3936 : IVec S16 32) (v3960 : IVec S16 32) (k0_hw1637 : k0_chk1637 i k0_t2 v3936 v3960), ∀ (k0_h1 : k0_cond1 i k0_t2 = 1#1), ∀ a x, ((![v3960, v3936] : Fin 2 → IVec S16 32) a x).toNat < S160x142.size a := fun i k0_t2 v3936 v3960 k0_hw1637 k0_h1 => k0_hw1637 k0_h1

def k0_chk1638 (i : grid0.Coords) (k0_t2 : Fin k0_t2_loop.trips) (v3936 : IVec S16 32) (v3963 : IVec S16 32) : Prop :=
  (∀ (k0_h1 : k0_cond1 i k0_t2 = 1#1), ∀ a x, ((![v3963, v3936] : Fin 2 → IVec S16 32) a x).toNat < S160x142.size a)
theorem k0_idx2804_inb : ∀ (i : grid0.Coords) (k0_t2 : Fin k0_t2_loop.trips) (v3936 : IVec S16 32) (v3963 : IVec S16 32) (k0_hw1638 : k0_chk1638 i k0_t2 v3936 v3963), ∀ (k0_h1 : k0_cond1 i k0_t2 = 1#1), ∀ a x, ((![v3963, v3936] : Fin 2 → IVec S16 32) a x).toNat < S160x142.size a := fun i k0_t2 v3936 v3963 k0_hw1638 k0_h1 => k0_hw1638 k0_h1

def k0_chk1629 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) : Prop :=
  (∀ (k0_h1 : k0_cond1 i k0_t2 = 1#1), ∀ a x, ((![v15, v3936] : Fin 2 → IVec S16 32) a x).toNat < S256x142.size a) ∧
  (∀ (k0_h1 : k0_cond1 i k0_t2 = 1#1), ∀ a x, ((![v20, v3936] : Fin 2 → IVec S16 32) a x).toNat < S256x142.size a) ∧
  (∀ (k0_h1 : k0_cond1 i k0_t2 = 1#1), ∀ a x, ((![v25, v3936] : Fin 2 → IVec S16 32) a x).toNat < S256x142.size a) ∧
  (∀ (k0_h1 : k0_cond1 i k0_t2 = 1#1), ∀ a x, ((![v30, v3936] : Fin 2 → IVec S16 32) a x).toNat < S256x142.size a) ∧
  (∀ (k0_h1 : k0_cond1 i k0_t2 = 1#1), ∀ a x, ((![v35, v3936] : Fin 2 → IVec S16 32) a x).toNat < S256x142.size a) ∧
  (∀ (k0_h1 : k0_cond1 i k0_t2 = 1#1), ∀ a x, ((![v40, v3936] : Fin 2 → IVec S16 32) a x).toNat < S256x142.size a) ∧
  (∀ (k0_h1 : k0_cond1 i k0_t2 = 1#1), ∀ a x, ((![v45, v3936] : Fin 2 → IVec S16 32) a x).toNat < S256x142.size a) ∧
  (∀ (k0_h1 : k0_cond1 i k0_t2 = 1#1), ∀ a x, ((![v50, v3936] : Fin 2 → IVec S16 32) a x).toNat < S256x142.size a) ∧
  (∀ (k0_h1 : k0_cond1 i k0_t2 = 1#1), ∀ a x, ((![v55, v3936] : Fin 2 → IVec S16 32) a x).toNat < S256x142.size a) ∧
  (∀ (k0_h1 : k0_cond1 i k0_t2 = 1#1), ∀ a x, ((![v60, v3936] : Fin 2 → IVec S16 32) a x).toNat < S256x142.size a)
theorem k0_idx2787_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v15, v3936] : Fin 2 → IVec S16 32) a x).toNat < S256x142.size a := fun i k0_t2 v15 v20 v25 v30 v35 v40 v45 v50 v55 v60 v3936 k0_hw1629 k0_h1 => k0_hw1629.1 k0_h1
theorem k0_idx2789_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v20, v3936] : Fin 2 → IVec S16 32) a x).toNat < S256x142.size a := fun i k0_t2 v15 v20 v25 v30 v35 v40 v45 v50 v55 v60 v3936 k0_hw1629 k0_h1 => k0_hw1629.2.1 k0_h1
theorem k0_idx2791_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v25, v3936] : Fin 2 → IVec S16 32) a x).toNat < S256x142.size a := fun i k0_t2 v15 v20 v25 v30 v35 v40 v45 v50 v55 v60 v3936 k0_hw1629 k0_h1 => k0_hw1629.2.2.1 k0_h1
theorem k0_idx2793_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v30, v3936] : Fin 2 → IVec S16 32) a x).toNat < S256x142.size a := fun i k0_t2 v15 v20 v25 v30 v35 v40 v45 v50 v55 v60 v3936 k0_hw1629 k0_h1 => k0_hw1629.2.2.2.1 k0_h1
theorem k0_idx2795_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v35, v3936] : Fin 2 → IVec S16 32) a x).toNat < S256x142.size a := fun i k0_t2 v15 v20 v25 v30 v35 v40 v45 v50 v55 v60 v3936 k0_hw1629 k0_h1 => k0_hw1629.2.2.2.2.1 k0_h1
theorem k0_idx2797_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v40, v3936] : Fin 2 → IVec S16 32) a x).toNat < S256x142.size a := fun i k0_t2 v15 v20 v25 v30 v35 v40 v45 v50 v55 v60 v3936 k0_hw1629 k0_h1 => k0_hw1629.2.2.2.2.2.1 k0_h1
theorem k0_idx2799_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v45, v3936] : Fin 2 → IVec S16 32) a x).toNat < S256x142.size a := fun i k0_t2 v15 v20 v25 v30 v35 v40 v45 v50 v55 v60 v3936 k0_hw1629 k0_h1 => k0_hw1629.2.2.2.2.2.2.1 k0_h1
theorem k0_idx2801_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v50, v3936] : Fin 2 → IVec S16 32) a x).toNat < S256x142.size a := fun i k0_t2 v15 v20 v25 v30 v35 v40 v45 v50 v55 v60 v3936 k0_hw1629 k0_h1 => k0_hw1629.2.2.2.2.2.2.2.1 k0_h1
theorem k0_idx2803_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v55, v3936] : Fin 2 → IVec S16 32) a x).toNat < S256x142.size a := fun i k0_t2 v15 v20 v25 v30 v35 v40 v45 v50 v55 v60 v3936 k0_hw1629 k0_h1 => k0_hw1629.2.2.2.2.2.2.2.2.1 k0_h1
theorem k0_idx2805_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3936 : IVec S16 32) (k0_hw1629 : k0_chk1629 i k0_t2 v15 v20 v25 v30 v35 v40 v45 v50 v55 v60 v3936), ∀ (k0_h1 : k0_cond1 i k0_t2 = 1#1), ∀ a x, ((![v60, v3936] : Fin 2 → IVec S16 32) a x).toNat < S256x142.size a := fun i k0_t2 v15 v20 v25 v30 v35 v40 v45 v50 v55 v60 v3936 k0_hw1629 k0_h1 => k0_hw1629.2.2.2.2.2.2.2.2.2 k0_h1

def k0_chk1639 (i : grid0.Coords) (k0_t2 : Fin k0_t2_loop.trips) (v3936 : IVec S16 32) (v3966 : IVec S16 32) : Prop :=
  (∀ (k0_h1 : k0_cond1 i k0_t2 = 1#1), ∀ a x, ((![v3966, v3936] : Fin 2 → IVec S16 32) a x).toNat < S160x142.size a)
theorem k0_idx2806_inb : ∀ (i : grid0.Coords) (k0_t2 : Fin k0_t2_loop.trips) (v3936 : IVec S16 32) (v3966 : IVec S16 32) (k0_hw1639 : k0_chk1639 i k0_t2 v3936 v3966), ∀ (k0_h1 : k0_cond1 i k0_t2 = 1#1), ∀ a x, ((![v3966, v3936] : Fin 2 → IVec S16 32) a x).toNat < S160x142.size a := fun i k0_t2 v3936 v3966 k0_hw1639 k0_h1 => k0_hw1639 k0_h1

def k0_chk1641 (i : grid0.Coords) (k0_t2 : Fin k0_t2_loop.trips) (v3967 : IVec S16 32) (v3970 : IVec S16 32) : Prop :=
  (∀ (k0_h1 : k0_cond1 i k0_t2 = 1#1), ∀ a x, ((![v3970, v3967] : Fin 2 → IVec S16 32) a x).toNat < S160x142.size a)
theorem k0_idx2808_inb : ∀ (i : grid0.Coords) (k0_t2 : Fin k0_t2_loop.trips) (v3967 : IVec S16 32) (v3970 : IVec S16 32) (k0_hw1641 : k0_chk1641 i k0_t2 v3967 v3970), ∀ (k0_h1 : k0_cond1 i k0_t2 = 1#1), ∀ a x, ((![v3970, v3967] : Fin 2 → IVec S16 32) a x).toNat < S160x142.size a := fun i k0_t2 v3967 v3970 k0_hw1641 k0_h1 => k0_hw1641 k0_h1

def k0_chk1642 (i : grid0.Coords) (k0_t2 : Fin k0_t2_loop.trips) (v3967 : IVec S16 32) (v3973 : IVec S16 32) : Prop :=
  (∀ (k0_h1 : k0_cond1 i k0_t2 = 1#1), ∀ a x, ((![v3973, v3967] : Fin 2 → IVec S16 32) a x).toNat < S160x142.size a)
theorem k0_idx2810_inb : ∀ (i : grid0.Coords) (k0_t2 : Fin k0_t2_loop.trips) (v3967 : IVec S16 32) (v3973 : IVec S16 32) (k0_hw1642 : k0_chk1642 i k0_t2 v3967 v3973), ∀ (k0_h1 : k0_cond1 i k0_t2 = 1#1), ∀ a x, ((![v3973, v3967] : Fin 2 → IVec S16 32) a x).toNat < S160x142.size a := fun i k0_t2 v3967 v3973 k0_hw1642 k0_h1 => k0_hw1642 k0_h1

def k0_chk1643 (i : grid0.Coords) (k0_t2 : Fin k0_t2_loop.trips) (v3967 : IVec S16 32) (v3976 : IVec S16 32) : Prop :=
  (∀ (k0_h1 : k0_cond1 i k0_t2 = 1#1), ∀ a x, ((![v3976, v3967] : Fin 2 → IVec S16 32) a x).toNat < S160x142.size a)
theorem k0_idx2812_inb : ∀ (i : grid0.Coords) (k0_t2 : Fin k0_t2_loop.trips) (v3967 : IVec S16 32) (v3976 : IVec S16 32) (k0_hw1643 : k0_chk1643 i k0_t2 v3967 v3976), ∀ (k0_h1 : k0_cond1 i k0_t2 = 1#1), ∀ a x, ((![v3976, v3967] : Fin 2 → IVec S16 32) a x).toNat < S160x142.size a := fun i k0_t2 v3967 v3976 k0_hw1643 k0_h1 => k0_hw1643 k0_h1

def k0_chk1644 (i : grid0.Coords) (k0_t2 : Fin k0_t2_loop.trips) (v3967 : IVec S16 32) (v3979 : IVec S16 32) : Prop :=
  (∀ (k0_h1 : k0_cond1 i k0_t2 = 1#1), ∀ a x, ((![v3979, v3967] : Fin 2 → IVec S16 32) a x).toNat < S160x142.size a)
theorem k0_idx2814_inb : ∀ (i : grid0.Coords) (k0_t2 : Fin k0_t2_loop.trips) (v3967 : IVec S16 32) (v3979 : IVec S16 32) (k0_hw1644 : k0_chk1644 i k0_t2 v3967 v3979), ∀ (k0_h1 : k0_cond1 i k0_t2 = 1#1), ∀ a x, ((![v3979, v3967] : Fin 2 → IVec S16 32) a x).toNat < S160x142.size a := fun i k0_t2 v3967 v3979 k0_hw1644 k0_h1 => k0_hw1644 k0_h1

def k0_chk1645 (i : grid0.Coords) (k0_t2 : Fin k0_t2_loop.trips) (v3967 : IVec S16 32) (v3982 : IVec S16 32) : Prop :=
  (∀ (k0_h1 : k0_cond1 i k0_t2 = 1#1), ∀ a x, ((![v3982, v3967] : Fin 2 → IVec S16 32) a x).toNat < S160x142.size a)
theorem k0_idx2816_inb : ∀ (i : grid0.Coords) (k0_t2 : Fin k0_t2_loop.trips) (v3967 : IVec S16 32) (v3982 : IVec S16 32) (k0_hw1645 : k0_chk1645 i k0_t2 v3967 v3982), ∀ (k0_h1 : k0_cond1 i k0_t2 = 1#1), ∀ a x, ((![v3982, v3967] : Fin 2 → IVec S16 32) a x).toNat < S160x142.size a := fun i k0_t2 v3967 v3982 k0_hw1645 k0_h1 => k0_hw1645 k0_h1

def k0_chk1646 (i : grid0.Coords) (k0_t2 : Fin k0_t2_loop.trips) (v3967 : IVec S16 32) (v3985 : IVec S16 32) : Prop :=
  (∀ (k0_h1 : k0_cond1 i k0_t2 = 1#1), ∀ a x, ((![v3985, v3967] : Fin 2 → IVec S16 32) a x).toNat < S160x142.size a)
theorem k0_idx2818_inb : ∀ (i : grid0.Coords) (k0_t2 : Fin k0_t2_loop.trips) (v3967 : IVec S16 32) (v3985 : IVec S16 32) (k0_hw1646 : k0_chk1646 i k0_t2 v3967 v3985), ∀ (k0_h1 : k0_cond1 i k0_t2 = 1#1), ∀ a x, ((![v3985, v3967] : Fin 2 → IVec S16 32) a x).toNat < S160x142.size a := fun i k0_t2 v3967 v3985 k0_hw1646 k0_h1 => k0_hw1646 k0_h1

def k0_chk1647 (i : grid0.Coords) (k0_t2 : Fin k0_t2_loop.trips) (v3967 : IVec S16 32) (v3988 : IVec S16 32) : Prop :=
  (∀ (k0_h1 : k0_cond1 i k0_t2 = 1#1), ∀ a x, ((![v3988, v3967] : Fin 2 → IVec S16 32) a x).toNat < S160x142.size a)
theorem k0_idx2820_inb : ∀ (i : grid0.Coords) (k0_t2 : Fin k0_t2_loop.trips) (v3967 : IVec S16 32) (v3988 : IVec S16 32) (k0_hw1647 : k0_chk1647 i k0_t2 v3967 v3988), ∀ (k0_h1 : k0_cond1 i k0_t2 = 1#1), ∀ a x, ((![v3988, v3967] : Fin 2 → IVec S16 32) a x).toNat < S160x142.size a := fun i k0_t2 v3967 v3988 k0_hw1647 k0_h1 => k0_hw1647 k0_h1

def k0_chk1648 (i : grid0.Coords) (k0_t2 : Fin k0_t2_loop.trips) (v3967 : IVec S16 32) (v3991 : IVec S16 32) : Prop :=
  (∀ (k0_h1 : k0_cond1 i k0_t2 = 1#1), ∀ a x, ((![v3991, v3967] : Fin 2 → IVec S16 32) a x).toNat < S160x142.size a)
theorem k0_idx2822_inb : ∀ (i : grid0.Coords) (k0_t2 : Fin k0_t2_loop.trips) (v3967 : IVec S16 32) (v3991 : IVec S16 32) (k0_hw1648 : k0_chk1648 i k0_t2 v3967 v3991), ∀ (k0_h1 : k0_cond1 i k0_t2 = 1#1), ∀ a x, ((![v3991, v3967] : Fin 2 → IVec S16 32) a x).toNat < S160x142.size a := fun i k0_t2 v3967 v3991 k0_hw1648 k0_h1 => k0_hw1648 k0_h1

def k0_chk1649 (i : grid0.Coords) (k0_t2 : Fin k0_t2_loop.trips) (v3967 : IVec S16 32) (v3994 : IVec S16 32) : Prop :=
  (∀ (k0_h1 : k0_cond1 i k0_t2 = 1#1), ∀ a x, ((![v3994, v3967] : Fin 2 → IVec S16 32) a x).toNat < S160x142.size a)
theorem k0_idx2824_inb : ∀ (i : grid0.Coords) (k0_t2 : Fin k0_t2_loop.trips) (v3967 : IVec S16 32) (v3994 : IVec S16 32) (k0_hw1649 : k0_chk1649 i k0_t2 v3967 v3994), ∀ (k0_h1 : k0_cond1 i k0_t2 = 1#1), ∀ a x, ((![v3994, v3967] : Fin 2 → IVec S16 32) a x).toNat < S160x142.size a := fun i k0_t2 v3967 v3994 k0_hw1649 k0_h1 => k0_hw1649 k0_h1

def k0_chk1640 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) : Prop :=
  (∀ (k0_h1 : k0_cond1 i k0_t2 = 1#1), ∀ a x, ((![v15, v3967] : Fin 2 → IVec S16 32) a x).toNat < S256x142.size a) ∧
  (∀ (k0_h1 : k0_cond1 i k0_t2 = 1#1), ∀ a x, ((![v20, v3967] : Fin 2 → IVec S16 32) a x).toNat < S256x142.size a) ∧
  (∀ (k0_h1 : k0_cond1 i k0_t2 = 1#1), ∀ a x, ((![v25, v3967] : Fin 2 → IVec S16 32) a x).toNat < S256x142.size a) ∧
  (∀ (k0_h1 : k0_cond1 i k0_t2 = 1#1), ∀ a x, ((![v30, v3967] : Fin 2 → IVec S16 32) a x).toNat < S256x142.size a) ∧
  (∀ (k0_h1 : k0_cond1 i k0_t2 = 1#1), ∀ a x, ((![v35, v3967] : Fin 2 → IVec S16 32) a x).toNat < S256x142.size a) ∧
  (∀ (k0_h1 : k0_cond1 i k0_t2 = 1#1), ∀ a x, ((![v40, v3967] : Fin 2 → IVec S16 32) a x).toNat < S256x142.size a) ∧
  (∀ (k0_h1 : k0_cond1 i k0_t2 = 1#1), ∀ a x, ((![v45, v3967] : Fin 2 → IVec S16 32) a x).toNat < S256x142.size a) ∧
  (∀ (k0_h1 : k0_cond1 i k0_t2 = 1#1), ∀ a x, ((![v50, v3967] : Fin 2 → IVec S16 32) a x).toNat < S256x142.size a) ∧
  (∀ (k0_h1 : k0_cond1 i k0_t2 = 1#1), ∀ a x, ((![v55, v3967] : Fin 2 → IVec S16 32) a x).toNat < S256x142.size a) ∧
  (∀ (k0_h1 : k0_cond1 i k0_t2 = 1#1), ∀ a x, ((![v60, v3967] : Fin 2 → IVec S16 32) a x).toNat < S256x142.size a)
theorem k0_idx2807_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v15, v3967] : Fin 2 → IVec S16 32) a x).toNat < S256x142.size a := fun i k0_t2 v15 v20 v25 v30 v35 v40 v45 v50 v55 v60 v3967 k0_hw1640 k0_h1 => k0_hw1640.1 k0_h1
theorem k0_idx2809_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v20, v3967] : Fin 2 → IVec S16 32) a x).toNat < S256x142.size a := fun i k0_t2 v15 v20 v25 v30 v35 v40 v45 v50 v55 v60 v3967 k0_hw1640 k0_h1 => k0_hw1640.2.1 k0_h1
theorem k0_idx2811_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v25, v3967] : Fin 2 → IVec S16 32) a x).toNat < S256x142.size a := fun i k0_t2 v15 v20 v25 v30 v35 v40 v45 v50 v55 v60 v3967 k0_hw1640 k0_h1 => k0_hw1640.2.2.1 k0_h1
theorem k0_idx2813_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v30, v3967] : Fin 2 → IVec S16 32) a x).toNat < S256x142.size a := fun i k0_t2 v15 v20 v25 v30 v35 v40 v45 v50 v55 v60 v3967 k0_hw1640 k0_h1 => k0_hw1640.2.2.2.1 k0_h1
theorem k0_idx2815_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v35, v3967] : Fin 2 → IVec S16 32) a x).toNat < S256x142.size a := fun i k0_t2 v15 v20 v25 v30 v35 v40 v45 v50 v55 v60 v3967 k0_hw1640 k0_h1 => k0_hw1640.2.2.2.2.1 k0_h1
theorem k0_idx2817_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v40, v3967] : Fin 2 → IVec S16 32) a x).toNat < S256x142.size a := fun i k0_t2 v15 v20 v25 v30 v35 v40 v45 v50 v55 v60 v3967 k0_hw1640 k0_h1 => k0_hw1640.2.2.2.2.2.1 k0_h1
theorem k0_idx2819_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v45, v3967] : Fin 2 → IVec S16 32) a x).toNat < S256x142.size a := fun i k0_t2 v15 v20 v25 v30 v35 v40 v45 v50 v55 v60 v3967 k0_hw1640 k0_h1 => k0_hw1640.2.2.2.2.2.2.1 k0_h1
theorem k0_idx2821_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v50, v3967] : Fin 2 → IVec S16 32) a x).toNat < S256x142.size a := fun i k0_t2 v15 v20 v25 v30 v35 v40 v45 v50 v55 v60 v3967 k0_hw1640 k0_h1 => k0_hw1640.2.2.2.2.2.2.2.1 k0_h1
theorem k0_idx2823_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v55, v3967] : Fin 2 → IVec S16 32) a x).toNat < S256x142.size a := fun i k0_t2 v15 v20 v25 v30 v35 v40 v45 v50 v55 v60 v3967 k0_hw1640 k0_h1 => k0_hw1640.2.2.2.2.2.2.2.2.1 k0_h1
theorem k0_idx2825_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3967 : IVec S16 32) (k0_hw1640 : k0_chk1640 i k0_t2 v15 v20 v25 v30 v35 v40 v45 v50 v55 v60 v3967), ∀ (k0_h1 : k0_cond1 i k0_t2 = 1#1), ∀ a x, ((![v60, v3967] : Fin 2 → IVec S16 32) a x).toNat < S256x142.size a := fun i k0_t2 v15 v20 v25 v30 v35 v40 v45 v50 v55 v60 v3967 k0_hw1640 k0_h1 => k0_hw1640.2.2.2.2.2.2.2.2.2 k0_h1

def k0_chk1650 (i : grid0.Coords) (k0_t2 : Fin k0_t2_loop.trips) (v3967 : IVec S16 32) (v3997 : IVec S16 32) : Prop :=
  (∀ (k0_h1 : k0_cond1 i k0_t2 = 1#1), ∀ a x, ((![v3997, v3967] : Fin 2 → IVec S16 32) a x).toNat < S160x142.size a)
theorem k0_idx2826_inb : ∀ (i : grid0.Coords) (k0_t2 : Fin k0_t2_loop.trips) (v3967 : IVec S16 32) (v3997 : IVec S16 32) (k0_hw1650 : k0_chk1650 i k0_t2 v3967 v3997), ∀ (k0_h1 : k0_cond1 i k0_t2 = 1#1), ∀ a x, ((![v3997, v3967] : Fin 2 → IVec S16 32) a x).toNat < S160x142.size a := fun i k0_t2 v3967 v3997 k0_hw1650 k0_h1 => k0_hw1650 k0_h1

def k0_chk1652 (i : grid0.Coords) (k0_t2 : Fin k0_t2_loop.trips) (v3998 : IVec S16 32) (v4001 : IVec S16 32) : Prop :=
  (∀ (k0_h1 : k0_cond1 i k0_t2 = 1#1), ∀ a x, ((![v4001, v3998] : Fin 2 → IVec S16 32) a x).toNat < S160x142.size a)
theorem k0_idx2828_inb : ∀ (i : grid0.Coords) (k0_t2 : Fin k0_t2_loop.trips) (v3998 : IVec S16 32) (v4001 : IVec S16 32) (k0_hw1652 : k0_chk1652 i k0_t2 v3998 v4001), ∀ (k0_h1 : k0_cond1 i k0_t2 = 1#1), ∀ a x, ((![v4001, v3998] : Fin 2 → IVec S16 32) a x).toNat < S160x142.size a := fun i k0_t2 v3998 v4001 k0_hw1652 k0_h1 => k0_hw1652 k0_h1

def k0_chk1653 (i : grid0.Coords) (k0_t2 : Fin k0_t2_loop.trips) (v3998 : IVec S16 32) (v4004 : IVec S16 32) : Prop :=
  (∀ (k0_h1 : k0_cond1 i k0_t2 = 1#1), ∀ a x, ((![v4004, v3998] : Fin 2 → IVec S16 32) a x).toNat < S160x142.size a)
theorem k0_idx2830_inb : ∀ (i : grid0.Coords) (k0_t2 : Fin k0_t2_loop.trips) (v3998 : IVec S16 32) (v4004 : IVec S16 32) (k0_hw1653 : k0_chk1653 i k0_t2 v3998 v4004), ∀ (k0_h1 : k0_cond1 i k0_t2 = 1#1), ∀ a x, ((![v4004, v3998] : Fin 2 → IVec S16 32) a x).toNat < S160x142.size a := fun i k0_t2 v3998 v4004 k0_hw1653 k0_h1 => k0_hw1653 k0_h1

def k0_chk1654 (i : grid0.Coords) (k0_t2 : Fin k0_t2_loop.trips) (v3998 : IVec S16 32) (v4007 : IVec S16 32) : Prop :=
  (∀ (k0_h1 : k0_cond1 i k0_t2 = 1#1), ∀ a x, ((![v4007, v3998] : Fin 2 → IVec S16 32) a x).toNat < S160x142.size a)
theorem k0_idx2832_inb : ∀ (i : grid0.Coords) (k0_t2 : Fin k0_t2_loop.trips) (v3998 : IVec S16 32) (v4007 : IVec S16 32) (k0_hw1654 : k0_chk1654 i k0_t2 v3998 v4007), ∀ (k0_h1 : k0_cond1 i k0_t2 = 1#1), ∀ a x, ((![v4007, v3998] : Fin 2 → IVec S16 32) a x).toNat < S160x142.size a := fun i k0_t2 v3998 v4007 k0_hw1654 k0_h1 => k0_hw1654 k0_h1

def k0_chk1655 (i : grid0.Coords) (k0_t2 : Fin k0_t2_loop.trips) (v3998 : IVec S16 32) (v4010 : IVec S16 32) : Prop :=
  (∀ (k0_h1 : k0_cond1 i k0_t2 = 1#1), ∀ a x, ((![v4010, v3998] : Fin 2 → IVec S16 32) a x).toNat < S160x142.size a)
theorem k0_idx2834_inb : ∀ (i : grid0.Coords) (k0_t2 : Fin k0_t2_loop.trips) (v3998 : IVec S16 32) (v4010 : IVec S16 32) (k0_hw1655 : k0_chk1655 i k0_t2 v3998 v4010), ∀ (k0_h1 : k0_cond1 i k0_t2 = 1#1), ∀ a x, ((![v4010, v3998] : Fin 2 → IVec S16 32) a x).toNat < S160x142.size a := fun i k0_t2 v3998 v4010 k0_hw1655 k0_h1 => k0_hw1655 k0_h1

def k0_chk1656 (i : grid0.Coords) (k0_t2 : Fin k0_t2_loop.trips) (v3998 : IVec S16 32) (v4013 : IVec S16 32) : Prop :=
  (∀ (k0_h1 : k0_cond1 i k0_t2 = 1#1), ∀ a x, ((![v4013, v3998] : Fin 2 → IVec S16 32) a x).toNat < S160x142.size a)
theorem k0_idx2836_inb : ∀ (i : grid0.Coords) (k0_t2 : Fin k0_t2_loop.trips) (v3998 : IVec S16 32) (v4013 : IVec S16 32) (k0_hw1656 : k0_chk1656 i k0_t2 v3998 v4013), ∀ (k0_h1 : k0_cond1 i k0_t2 = 1#1), ∀ a x, ((![v4013, v3998] : Fin 2 → IVec S16 32) a x).toNat < S160x142.size a := fun i k0_t2 v3998 v4013 k0_hw1656 k0_h1 => k0_hw1656 k0_h1

def k0_chk1657 (i : grid0.Coords) (k0_t2 : Fin k0_t2_loop.trips) (v3998 : IVec S16 32) (v4016 : IVec S16 32) : Prop :=
  (∀ (k0_h1 : k0_cond1 i k0_t2 = 1#1), ∀ a x, ((![v4016, v3998] : Fin 2 → IVec S16 32) a x).toNat < S160x142.size a)
theorem k0_idx2838_inb : ∀ (i : grid0.Coords) (k0_t2 : Fin k0_t2_loop.trips) (v3998 : IVec S16 32) (v4016 : IVec S16 32) (k0_hw1657 : k0_chk1657 i k0_t2 v3998 v4016), ∀ (k0_h1 : k0_cond1 i k0_t2 = 1#1), ∀ a x, ((![v4016, v3998] : Fin 2 → IVec S16 32) a x).toNat < S160x142.size a := fun i k0_t2 v3998 v4016 k0_hw1657 k0_h1 => k0_hw1657 k0_h1

def k0_chk1658 (i : grid0.Coords) (k0_t2 : Fin k0_t2_loop.trips) (v3998 : IVec S16 32) (v4019 : IVec S16 32) : Prop :=
  (∀ (k0_h1 : k0_cond1 i k0_t2 = 1#1), ∀ a x, ((![v4019, v3998] : Fin 2 → IVec S16 32) a x).toNat < S160x142.size a)
theorem k0_idx2840_inb : ∀ (i : grid0.Coords) (k0_t2 : Fin k0_t2_loop.trips) (v3998 : IVec S16 32) (v4019 : IVec S16 32) (k0_hw1658 : k0_chk1658 i k0_t2 v3998 v4019), ∀ (k0_h1 : k0_cond1 i k0_t2 = 1#1), ∀ a x, ((![v4019, v3998] : Fin 2 → IVec S16 32) a x).toNat < S160x142.size a := fun i k0_t2 v3998 v4019 k0_hw1658 k0_h1 => k0_hw1658 k0_h1

def k0_chk1659 (i : grid0.Coords) (k0_t2 : Fin k0_t2_loop.trips) (v3998 : IVec S16 32) (v4022 : IVec S16 32) : Prop :=
  (∀ (k0_h1 : k0_cond1 i k0_t2 = 1#1), ∀ a x, ((![v4022, v3998] : Fin 2 → IVec S16 32) a x).toNat < S160x142.size a)
theorem k0_idx2842_inb : ∀ (i : grid0.Coords) (k0_t2 : Fin k0_t2_loop.trips) (v3998 : IVec S16 32) (v4022 : IVec S16 32) (k0_hw1659 : k0_chk1659 i k0_t2 v3998 v4022), ∀ (k0_h1 : k0_cond1 i k0_t2 = 1#1), ∀ a x, ((![v4022, v3998] : Fin 2 → IVec S16 32) a x).toNat < S160x142.size a := fun i k0_t2 v3998 v4022 k0_hw1659 k0_h1 => k0_hw1659 k0_h1

def k0_chk1660 (i : grid0.Coords) (k0_t2 : Fin k0_t2_loop.trips) (v3998 : IVec S16 32) (v4025 : IVec S16 32) : Prop :=
  (∀ (k0_h1 : k0_cond1 i k0_t2 = 1#1), ∀ a x, ((![v4025, v3998] : Fin 2 → IVec S16 32) a x).toNat < S160x142.size a)
theorem k0_idx2844_inb : ∀ (i : grid0.Coords) (k0_t2 : Fin k0_t2_loop.trips) (v3998 : IVec S16 32) (v4025 : IVec S16 32) (k0_hw1660 : k0_chk1660 i k0_t2 v3998 v4025), ∀ (k0_h1 : k0_cond1 i k0_t2 = 1#1), ∀ a x, ((![v4025, v3998] : Fin 2 → IVec S16 32) a x).toNat < S160x142.size a := fun i k0_t2 v3998 v4025 k0_hw1660 k0_h1 => k0_hw1660 k0_h1

def k0_chk1651 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) : Prop :=
  (∀ (k0_h1 : k0_cond1 i k0_t2 = 1#1), ∀ a x, ((![v15, v3998] : Fin 2 → IVec S16 32) a x).toNat < S256x142.size a) ∧
  (∀ (k0_h1 : k0_cond1 i k0_t2 = 1#1), ∀ a x, ((![v20, v3998] : Fin 2 → IVec S16 32) a x).toNat < S256x142.size a) ∧
  (∀ (k0_h1 : k0_cond1 i k0_t2 = 1#1), ∀ a x, ((![v25, v3998] : Fin 2 → IVec S16 32) a x).toNat < S256x142.size a) ∧
  (∀ (k0_h1 : k0_cond1 i k0_t2 = 1#1), ∀ a x, ((![v30, v3998] : Fin 2 → IVec S16 32) a x).toNat < S256x142.size a) ∧
  (∀ (k0_h1 : k0_cond1 i k0_t2 = 1#1), ∀ a x, ((![v35, v3998] : Fin 2 → IVec S16 32) a x).toNat < S256x142.size a) ∧
  (∀ (k0_h1 : k0_cond1 i k0_t2 = 1#1), ∀ a x, ((![v40, v3998] : Fin 2 → IVec S16 32) a x).toNat < S256x142.size a) ∧
  (∀ (k0_h1 : k0_cond1 i k0_t2 = 1#1), ∀ a x, ((![v45, v3998] : Fin 2 → IVec S16 32) a x).toNat < S256x142.size a) ∧
  (∀ (k0_h1 : k0_cond1 i k0_t2 = 1#1), ∀ a x, ((![v50, v3998] : Fin 2 → IVec S16 32) a x).toNat < S256x142.size a) ∧
  (∀ (k0_h1 : k0_cond1 i k0_t2 = 1#1), ∀ a x, ((![v55, v3998] : Fin 2 → IVec S16 32) a x).toNat < S256x142.size a) ∧
  (∀ (k0_h1 : k0_cond1 i k0_t2 = 1#1), ∀ a x, ((![v60, v3998] : Fin 2 → IVec S16 32) a x).toNat < S256x142.size a)
theorem k0_idx2827_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v15, v3998] : Fin 2 → IVec S16 32) a x).toNat < S256x142.size a := fun i k0_t2 v15 v20 v25 v30 v35 v40 v45 v50 v55 v60 v3998 k0_hw1651 k0_h1 => k0_hw1651.1 k0_h1
theorem k0_idx2829_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v20, v3998] : Fin 2 → IVec S16 32) a x).toNat < S256x142.size a := fun i k0_t2 v15 v20 v25 v30 v35 v40 v45 v50 v55 v60 v3998 k0_hw1651 k0_h1 => k0_hw1651.2.1 k0_h1
theorem k0_idx2831_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v25, v3998] : Fin 2 → IVec S16 32) a x).toNat < S256x142.size a := fun i k0_t2 v15 v20 v25 v30 v35 v40 v45 v50 v55 v60 v3998 k0_hw1651 k0_h1 => k0_hw1651.2.2.1 k0_h1
theorem k0_idx2833_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v30, v3998] : Fin 2 → IVec S16 32) a x).toNat < S256x142.size a := fun i k0_t2 v15 v20 v25 v30 v35 v40 v45 v50 v55 v60 v3998 k0_hw1651 k0_h1 => k0_hw1651.2.2.2.1 k0_h1
theorem k0_idx2835_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v35, v3998] : Fin 2 → IVec S16 32) a x).toNat < S256x142.size a := fun i k0_t2 v15 v20 v25 v30 v35 v40 v45 v50 v55 v60 v3998 k0_hw1651 k0_h1 => k0_hw1651.2.2.2.2.1 k0_h1
theorem k0_idx2837_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v40, v3998] : Fin 2 → IVec S16 32) a x).toNat < S256x142.size a := fun i k0_t2 v15 v20 v25 v30 v35 v40 v45 v50 v55 v60 v3998 k0_hw1651 k0_h1 => k0_hw1651.2.2.2.2.2.1 k0_h1
theorem k0_idx2839_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v45, v3998] : Fin 2 → IVec S16 32) a x).toNat < S256x142.size a := fun i k0_t2 v15 v20 v25 v30 v35 v40 v45 v50 v55 v60 v3998 k0_hw1651 k0_h1 => k0_hw1651.2.2.2.2.2.2.1 k0_h1
theorem k0_idx2841_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v50, v3998] : Fin 2 → IVec S16 32) a x).toNat < S256x142.size a := fun i k0_t2 v15 v20 v25 v30 v35 v40 v45 v50 v55 v60 v3998 k0_hw1651 k0_h1 => k0_hw1651.2.2.2.2.2.2.2.1 k0_h1
theorem k0_idx2843_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v55, v3998] : Fin 2 → IVec S16 32) a x).toNat < S256x142.size a := fun i k0_t2 v15 v20 v25 v30 v35 v40 v45 v50 v55 v60 v3998 k0_hw1651 k0_h1 => k0_hw1651.2.2.2.2.2.2.2.2.1 k0_h1
theorem k0_idx2845_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v3998 : IVec S16 32) (k0_hw1651 : k0_chk1651 i k0_t2 v15 v20 v25 v30 v35 v40 v45 v50 v55 v60 v3998), ∀ (k0_h1 : k0_cond1 i k0_t2 = 1#1), ∀ a x, ((![v60, v3998] : Fin 2 → IVec S16 32) a x).toNat < S256x142.size a := fun i k0_t2 v15 v20 v25 v30 v35 v40 v45 v50 v55 v60 v3998 k0_hw1651 k0_h1 => k0_hw1651.2.2.2.2.2.2.2.2.2 k0_h1

def k0_chk1661 (i : grid0.Coords) (k0_t2 : Fin k0_t2_loop.trips) (v3998 : IVec S16 32) (v4028 : IVec S16 32) : Prop :=
  (∀ (k0_h1 : k0_cond1 i k0_t2 = 1#1), ∀ a x, ((![v4028, v3998] : Fin 2 → IVec S16 32) a x).toNat < S160x142.size a)
theorem k0_idx2846_inb : ∀ (i : grid0.Coords) (k0_t2 : Fin k0_t2_loop.trips) (v3998 : IVec S16 32) (v4028 : IVec S16 32) (k0_hw1661 : k0_chk1661 i k0_t2 v3998 v4028), ∀ (k0_h1 : k0_cond1 i k0_t2 = 1#1), ∀ a x, ((![v4028, v3998] : Fin 2 → IVec S16 32) a x).toNat < S160x142.size a := fun i k0_t2 v3998 v4028 k0_hw1661 k0_h1 => k0_hw1661 k0_h1

def k0_chk1663 (i : grid0.Coords) (k0_t2 : Fin k0_t2_loop.trips) (v4029 : IVec S16 32) (v4032 : IVec S16 32) : Prop :=
  (∀ (k0_h1 : k0_cond1 i k0_t2 = 1#1), ∀ a x, ((![v4032, v4029] : Fin 2 → IVec S16 32) a x).toNat < S160x142.size a)
theorem k0_idx2848_inb : ∀ (i : grid0.Coords) (k0_t2 : Fin k0_t2_loop.trips) (v4029 : IVec S16 32) (v4032 : IVec S16 32) (k0_hw1663 : k0_chk1663 i k0_t2 v4029 v4032), ∀ (k0_h1 : k0_cond1 i k0_t2 = 1#1), ∀ a x, ((![v4032, v4029] : Fin 2 → IVec S16 32) a x).toNat < S160x142.size a := fun i k0_t2 v4029 v4032 k0_hw1663 k0_h1 => k0_hw1663 k0_h1

def k0_chk1664 (i : grid0.Coords) (k0_t2 : Fin k0_t2_loop.trips) (v4029 : IVec S16 32) (v4035 : IVec S16 32) : Prop :=
  (∀ (k0_h1 : k0_cond1 i k0_t2 = 1#1), ∀ a x, ((![v4035, v4029] : Fin 2 → IVec S16 32) a x).toNat < S160x142.size a)
theorem k0_idx2850_inb : ∀ (i : grid0.Coords) (k0_t2 : Fin k0_t2_loop.trips) (v4029 : IVec S16 32) (v4035 : IVec S16 32) (k0_hw1664 : k0_chk1664 i k0_t2 v4029 v4035), ∀ (k0_h1 : k0_cond1 i k0_t2 = 1#1), ∀ a x, ((![v4035, v4029] : Fin 2 → IVec S16 32) a x).toNat < S160x142.size a := fun i k0_t2 v4029 v4035 k0_hw1664 k0_h1 => k0_hw1664 k0_h1

def k0_chk1665 (i : grid0.Coords) (k0_t2 : Fin k0_t2_loop.trips) (v4029 : IVec S16 32) (v4038 : IVec S16 32) : Prop :=
  (∀ (k0_h1 : k0_cond1 i k0_t2 = 1#1), ∀ a x, ((![v4038, v4029] : Fin 2 → IVec S16 32) a x).toNat < S160x142.size a)
theorem k0_idx2852_inb : ∀ (i : grid0.Coords) (k0_t2 : Fin k0_t2_loop.trips) (v4029 : IVec S16 32) (v4038 : IVec S16 32) (k0_hw1665 : k0_chk1665 i k0_t2 v4029 v4038), ∀ (k0_h1 : k0_cond1 i k0_t2 = 1#1), ∀ a x, ((![v4038, v4029] : Fin 2 → IVec S16 32) a x).toNat < S160x142.size a := fun i k0_t2 v4029 v4038 k0_hw1665 k0_h1 => k0_hw1665 k0_h1

def k0_chk1666 (i : grid0.Coords) (k0_t2 : Fin k0_t2_loop.trips) (v4029 : IVec S16 32) (v4041 : IVec S16 32) : Prop :=
  (∀ (k0_h1 : k0_cond1 i k0_t2 = 1#1), ∀ a x, ((![v4041, v4029] : Fin 2 → IVec S16 32) a x).toNat < S160x142.size a)
theorem k0_idx2854_inb : ∀ (i : grid0.Coords) (k0_t2 : Fin k0_t2_loop.trips) (v4029 : IVec S16 32) (v4041 : IVec S16 32) (k0_hw1666 : k0_chk1666 i k0_t2 v4029 v4041), ∀ (k0_h1 : k0_cond1 i k0_t2 = 1#1), ∀ a x, ((![v4041, v4029] : Fin 2 → IVec S16 32) a x).toNat < S160x142.size a := fun i k0_t2 v4029 v4041 k0_hw1666 k0_h1 => k0_hw1666 k0_h1

def k0_chk1667 (i : grid0.Coords) (k0_t2 : Fin k0_t2_loop.trips) (v4029 : IVec S16 32) (v4044 : IVec S16 32) : Prop :=
  (∀ (k0_h1 : k0_cond1 i k0_t2 = 1#1), ∀ a x, ((![v4044, v4029] : Fin 2 → IVec S16 32) a x).toNat < S160x142.size a)
theorem k0_idx2856_inb : ∀ (i : grid0.Coords) (k0_t2 : Fin k0_t2_loop.trips) (v4029 : IVec S16 32) (v4044 : IVec S16 32) (k0_hw1667 : k0_chk1667 i k0_t2 v4029 v4044), ∀ (k0_h1 : k0_cond1 i k0_t2 = 1#1), ∀ a x, ((![v4044, v4029] : Fin 2 → IVec S16 32) a x).toNat < S160x142.size a := fun i k0_t2 v4029 v4044 k0_hw1667 k0_h1 => k0_hw1667 k0_h1

def k0_chk1668 (i : grid0.Coords) (k0_t2 : Fin k0_t2_loop.trips) (v4029 : IVec S16 32) (v4047 : IVec S16 32) : Prop :=
  (∀ (k0_h1 : k0_cond1 i k0_t2 = 1#1), ∀ a x, ((![v4047, v4029] : Fin 2 → IVec S16 32) a x).toNat < S160x142.size a)
theorem k0_idx2858_inb : ∀ (i : grid0.Coords) (k0_t2 : Fin k0_t2_loop.trips) (v4029 : IVec S16 32) (v4047 : IVec S16 32) (k0_hw1668 : k0_chk1668 i k0_t2 v4029 v4047), ∀ (k0_h1 : k0_cond1 i k0_t2 = 1#1), ∀ a x, ((![v4047, v4029] : Fin 2 → IVec S16 32) a x).toNat < S160x142.size a := fun i k0_t2 v4029 v4047 k0_hw1668 k0_h1 => k0_hw1668 k0_h1

def k0_chk1669 (i : grid0.Coords) (k0_t2 : Fin k0_t2_loop.trips) (v4029 : IVec S16 32) (v4050 : IVec S16 32) : Prop :=
  (∀ (k0_h1 : k0_cond1 i k0_t2 = 1#1), ∀ a x, ((![v4050, v4029] : Fin 2 → IVec S16 32) a x).toNat < S160x142.size a)
theorem k0_idx2860_inb : ∀ (i : grid0.Coords) (k0_t2 : Fin k0_t2_loop.trips) (v4029 : IVec S16 32) (v4050 : IVec S16 32) (k0_hw1669 : k0_chk1669 i k0_t2 v4029 v4050), ∀ (k0_h1 : k0_cond1 i k0_t2 = 1#1), ∀ a x, ((![v4050, v4029] : Fin 2 → IVec S16 32) a x).toNat < S160x142.size a := fun i k0_t2 v4029 v4050 k0_hw1669 k0_h1 => k0_hw1669 k0_h1

def k0_chk1670 (i : grid0.Coords) (k0_t2 : Fin k0_t2_loop.trips) (v4029 : IVec S16 32) (v4053 : IVec S16 32) : Prop :=
  (∀ (k0_h1 : k0_cond1 i k0_t2 = 1#1), ∀ a x, ((![v4053, v4029] : Fin 2 → IVec S16 32) a x).toNat < S160x142.size a)
theorem k0_idx2862_inb : ∀ (i : grid0.Coords) (k0_t2 : Fin k0_t2_loop.trips) (v4029 : IVec S16 32) (v4053 : IVec S16 32) (k0_hw1670 : k0_chk1670 i k0_t2 v4029 v4053), ∀ (k0_h1 : k0_cond1 i k0_t2 = 1#1), ∀ a x, ((![v4053, v4029] : Fin 2 → IVec S16 32) a x).toNat < S160x142.size a := fun i k0_t2 v4029 v4053 k0_hw1670 k0_h1 => k0_hw1670 k0_h1

def k0_chk1671 (i : grid0.Coords) (k0_t2 : Fin k0_t2_loop.trips) (v4029 : IVec S16 32) (v4056 : IVec S16 32) : Prop :=
  (∀ (k0_h1 : k0_cond1 i k0_t2 = 1#1), ∀ a x, ((![v4056, v4029] : Fin 2 → IVec S16 32) a x).toNat < S160x142.size a)
theorem k0_idx2864_inb : ∀ (i : grid0.Coords) (k0_t2 : Fin k0_t2_loop.trips) (v4029 : IVec S16 32) (v4056 : IVec S16 32) (k0_hw1671 : k0_chk1671 i k0_t2 v4029 v4056), ∀ (k0_h1 : k0_cond1 i k0_t2 = 1#1), ∀ a x, ((![v4056, v4029] : Fin 2 → IVec S16 32) a x).toNat < S160x142.size a := fun i k0_t2 v4029 v4056 k0_hw1671 k0_h1 => k0_hw1671 k0_h1

def k0_chk1662 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) : Prop :=
  (∀ (k0_h1 : k0_cond1 i k0_t2 = 1#1), ∀ a x, ((![v15, v4029] : Fin 2 → IVec S16 32) a x).toNat < S256x142.size a) ∧
  (∀ (k0_h1 : k0_cond1 i k0_t2 = 1#1), ∀ a x, ((![v20, v4029] : Fin 2 → IVec S16 32) a x).toNat < S256x142.size a) ∧
  (∀ (k0_h1 : k0_cond1 i k0_t2 = 1#1), ∀ a x, ((![v25, v4029] : Fin 2 → IVec S16 32) a x).toNat < S256x142.size a) ∧
  (∀ (k0_h1 : k0_cond1 i k0_t2 = 1#1), ∀ a x, ((![v30, v4029] : Fin 2 → IVec S16 32) a x).toNat < S256x142.size a) ∧
  (∀ (k0_h1 : k0_cond1 i k0_t2 = 1#1), ∀ a x, ((![v35, v4029] : Fin 2 → IVec S16 32) a x).toNat < S256x142.size a) ∧
  (∀ (k0_h1 : k0_cond1 i k0_t2 = 1#1), ∀ a x, ((![v40, v4029] : Fin 2 → IVec S16 32) a x).toNat < S256x142.size a) ∧
  (∀ (k0_h1 : k0_cond1 i k0_t2 = 1#1), ∀ a x, ((![v45, v4029] : Fin 2 → IVec S16 32) a x).toNat < S256x142.size a) ∧
  (∀ (k0_h1 : k0_cond1 i k0_t2 = 1#1), ∀ a x, ((![v50, v4029] : Fin 2 → IVec S16 32) a x).toNat < S256x142.size a) ∧
  (∀ (k0_h1 : k0_cond1 i k0_t2 = 1#1), ∀ a x, ((![v55, v4029] : Fin 2 → IVec S16 32) a x).toNat < S256x142.size a) ∧
  (∀ (k0_h1 : k0_cond1 i k0_t2 = 1#1), ∀ a x, ((![v60, v4029] : Fin 2 → IVec S16 32) a x).toNat < S256x142.size a)
theorem k0_idx2847_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v15, v4029] : Fin 2 → IVec S16 32) a x).toNat < S256x142.size a := fun i k0_t2 v15 v20 v25 v30 v35 v40 v45 v50 v55 v60 v4029 k0_hw1662 k0_h1 => k0_hw1662.1 k0_h1
theorem k0_idx2849_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v20, v4029] : Fin 2 → IVec S16 32) a x).toNat < S256x142.size a := fun i k0_t2 v15 v20 v25 v30 v35 v40 v45 v50 v55 v60 v4029 k0_hw1662 k0_h1 => k0_hw1662.2.1 k0_h1
theorem k0_idx2851_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v25, v4029] : Fin 2 → IVec S16 32) a x).toNat < S256x142.size a := fun i k0_t2 v15 v20 v25 v30 v35 v40 v45 v50 v55 v60 v4029 k0_hw1662 k0_h1 => k0_hw1662.2.2.1 k0_h1
theorem k0_idx2853_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v30, v4029] : Fin 2 → IVec S16 32) a x).toNat < S256x142.size a := fun i k0_t2 v15 v20 v25 v30 v35 v40 v45 v50 v55 v60 v4029 k0_hw1662 k0_h1 => k0_hw1662.2.2.2.1 k0_h1
theorem k0_idx2855_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v35, v4029] : Fin 2 → IVec S16 32) a x).toNat < S256x142.size a := fun i k0_t2 v15 v20 v25 v30 v35 v40 v45 v50 v55 v60 v4029 k0_hw1662 k0_h1 => k0_hw1662.2.2.2.2.1 k0_h1
theorem k0_idx2857_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v40, v4029] : Fin 2 → IVec S16 32) a x).toNat < S256x142.size a := fun i k0_t2 v15 v20 v25 v30 v35 v40 v45 v50 v55 v60 v4029 k0_hw1662 k0_h1 => k0_hw1662.2.2.2.2.2.1 k0_h1
theorem k0_idx2859_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v45, v4029] : Fin 2 → IVec S16 32) a x).toNat < S256x142.size a := fun i k0_t2 v15 v20 v25 v30 v35 v40 v45 v50 v55 v60 v4029 k0_hw1662 k0_h1 => k0_hw1662.2.2.2.2.2.2.1 k0_h1
theorem k0_idx2861_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v50, v4029] : Fin 2 → IVec S16 32) a x).toNat < S256x142.size a := fun i k0_t2 v15 v20 v25 v30 v35 v40 v45 v50 v55 v60 v4029 k0_hw1662 k0_h1 => k0_hw1662.2.2.2.2.2.2.2.1 k0_h1
theorem k0_idx2863_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v55, v4029] : Fin 2 → IVec S16 32) a x).toNat < S256x142.size a := fun i k0_t2 v15 v20 v25 v30 v35 v40 v45 v50 v55 v60 v4029 k0_hw1662 k0_h1 => k0_hw1662.2.2.2.2.2.2.2.2.1 k0_h1
theorem k0_idx2865_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4029 : IVec S16 32) (k0_hw1662 : k0_chk1662 i k0_t2 v15 v20 v25 v30 v35 v40 v45 v50 v55 v60 v4029), ∀ (k0_h1 : k0_cond1 i k0_t2 = 1#1), ∀ a x, ((![v60, v4029] : Fin 2 → IVec S16 32) a x).toNat < S256x142.size a := fun i k0_t2 v15 v20 v25 v30 v35 v40 v45 v50 v55 v60 v4029 k0_hw1662 k0_h1 => k0_hw1662.2.2.2.2.2.2.2.2.2 k0_h1

def k0_chk1672 (i : grid0.Coords) (k0_t2 : Fin k0_t2_loop.trips) (v4029 : IVec S16 32) (v4059 : IVec S16 32) : Prop :=
  (∀ (k0_h1 : k0_cond1 i k0_t2 = 1#1), ∀ a x, ((![v4059, v4029] : Fin 2 → IVec S16 32) a x).toNat < S160x142.size a)
theorem k0_idx2866_inb : ∀ (i : grid0.Coords) (k0_t2 : Fin k0_t2_loop.trips) (v4029 : IVec S16 32) (v4059 : IVec S16 32) (k0_hw1672 : k0_chk1672 i k0_t2 v4029 v4059), ∀ (k0_h1 : k0_cond1 i k0_t2 = 1#1), ∀ a x, ((![v4059, v4029] : Fin 2 → IVec S16 32) a x).toNat < S160x142.size a := fun i k0_t2 v4029 v4059 k0_hw1672 k0_h1 => k0_hw1672 k0_h1

def k0_chk1674 (i : grid0.Coords) (k0_t2 : Fin k0_t2_loop.trips) (v4060 : IVec S16 32) (v4063 : IVec S16 32) : Prop :=
  (∀ (k0_h1 : k0_cond1 i k0_t2 = 1#1), ∀ a x, ((![v4063, v4060] : Fin 2 → IVec S16 32) a x).toNat < S160x142.size a)
theorem k0_idx2868_inb : ∀ (i : grid0.Coords) (k0_t2 : Fin k0_t2_loop.trips) (v4060 : IVec S16 32) (v4063 : IVec S16 32) (k0_hw1674 : k0_chk1674 i k0_t2 v4060 v4063), ∀ (k0_h1 : k0_cond1 i k0_t2 = 1#1), ∀ a x, ((![v4063, v4060] : Fin 2 → IVec S16 32) a x).toNat < S160x142.size a := fun i k0_t2 v4060 v4063 k0_hw1674 k0_h1 => k0_hw1674 k0_h1

def k0_chk1675 (i : grid0.Coords) (k0_t2 : Fin k0_t2_loop.trips) (v4060 : IVec S16 32) (v4066 : IVec S16 32) : Prop :=
  (∀ (k0_h1 : k0_cond1 i k0_t2 = 1#1), ∀ a x, ((![v4066, v4060] : Fin 2 → IVec S16 32) a x).toNat < S160x142.size a)
theorem k0_idx2870_inb : ∀ (i : grid0.Coords) (k0_t2 : Fin k0_t2_loop.trips) (v4060 : IVec S16 32) (v4066 : IVec S16 32) (k0_hw1675 : k0_chk1675 i k0_t2 v4060 v4066), ∀ (k0_h1 : k0_cond1 i k0_t2 = 1#1), ∀ a x, ((![v4066, v4060] : Fin 2 → IVec S16 32) a x).toNat < S160x142.size a := fun i k0_t2 v4060 v4066 k0_hw1675 k0_h1 => k0_hw1675 k0_h1

def k0_chk1676 (i : grid0.Coords) (k0_t2 : Fin k0_t2_loop.trips) (v4060 : IVec S16 32) (v4069 : IVec S16 32) : Prop :=
  (∀ (k0_h1 : k0_cond1 i k0_t2 = 1#1), ∀ a x, ((![v4069, v4060] : Fin 2 → IVec S16 32) a x).toNat < S160x142.size a)
theorem k0_idx2872_inb : ∀ (i : grid0.Coords) (k0_t2 : Fin k0_t2_loop.trips) (v4060 : IVec S16 32) (v4069 : IVec S16 32) (k0_hw1676 : k0_chk1676 i k0_t2 v4060 v4069), ∀ (k0_h1 : k0_cond1 i k0_t2 = 1#1), ∀ a x, ((![v4069, v4060] : Fin 2 → IVec S16 32) a x).toNat < S160x142.size a := fun i k0_t2 v4060 v4069 k0_hw1676 k0_h1 => k0_hw1676 k0_h1

def k0_chk1677 (i : grid0.Coords) (k0_t2 : Fin k0_t2_loop.trips) (v4060 : IVec S16 32) (v4072 : IVec S16 32) : Prop :=
  (∀ (k0_h1 : k0_cond1 i k0_t2 = 1#1), ∀ a x, ((![v4072, v4060] : Fin 2 → IVec S16 32) a x).toNat < S160x142.size a)
theorem k0_idx2874_inb : ∀ (i : grid0.Coords) (k0_t2 : Fin k0_t2_loop.trips) (v4060 : IVec S16 32) (v4072 : IVec S16 32) (k0_hw1677 : k0_chk1677 i k0_t2 v4060 v4072), ∀ (k0_h1 : k0_cond1 i k0_t2 = 1#1), ∀ a x, ((![v4072, v4060] : Fin 2 → IVec S16 32) a x).toNat < S160x142.size a := fun i k0_t2 v4060 v4072 k0_hw1677 k0_h1 => k0_hw1677 k0_h1

def k0_chk1678 (i : grid0.Coords) (k0_t2 : Fin k0_t2_loop.trips) (v4060 : IVec S16 32) (v4075 : IVec S16 32) : Prop :=
  (∀ (k0_h1 : k0_cond1 i k0_t2 = 1#1), ∀ a x, ((![v4075, v4060] : Fin 2 → IVec S16 32) a x).toNat < S160x142.size a)
theorem k0_idx2876_inb : ∀ (i : grid0.Coords) (k0_t2 : Fin k0_t2_loop.trips) (v4060 : IVec S16 32) (v4075 : IVec S16 32) (k0_hw1678 : k0_chk1678 i k0_t2 v4060 v4075), ∀ (k0_h1 : k0_cond1 i k0_t2 = 1#1), ∀ a x, ((![v4075, v4060] : Fin 2 → IVec S16 32) a x).toNat < S160x142.size a := fun i k0_t2 v4060 v4075 k0_hw1678 k0_h1 => k0_hw1678 k0_h1

def k0_chk1679 (i : grid0.Coords) (k0_t2 : Fin k0_t2_loop.trips) (v4060 : IVec S16 32) (v4078 : IVec S16 32) : Prop :=
  (∀ (k0_h1 : k0_cond1 i k0_t2 = 1#1), ∀ a x, ((![v4078, v4060] : Fin 2 → IVec S16 32) a x).toNat < S160x142.size a)
theorem k0_idx2878_inb : ∀ (i : grid0.Coords) (k0_t2 : Fin k0_t2_loop.trips) (v4060 : IVec S16 32) (v4078 : IVec S16 32) (k0_hw1679 : k0_chk1679 i k0_t2 v4060 v4078), ∀ (k0_h1 : k0_cond1 i k0_t2 = 1#1), ∀ a x, ((![v4078, v4060] : Fin 2 → IVec S16 32) a x).toNat < S160x142.size a := fun i k0_t2 v4060 v4078 k0_hw1679 k0_h1 => k0_hw1679 k0_h1

def k0_chk1680 (i : grid0.Coords) (k0_t2 : Fin k0_t2_loop.trips) (v4060 : IVec S16 32) (v4081 : IVec S16 32) : Prop :=
  (∀ (k0_h1 : k0_cond1 i k0_t2 = 1#1), ∀ a x, ((![v4081, v4060] : Fin 2 → IVec S16 32) a x).toNat < S160x142.size a)
theorem k0_idx2880_inb : ∀ (i : grid0.Coords) (k0_t2 : Fin k0_t2_loop.trips) (v4060 : IVec S16 32) (v4081 : IVec S16 32) (k0_hw1680 : k0_chk1680 i k0_t2 v4060 v4081), ∀ (k0_h1 : k0_cond1 i k0_t2 = 1#1), ∀ a x, ((![v4081, v4060] : Fin 2 → IVec S16 32) a x).toNat < S160x142.size a := fun i k0_t2 v4060 v4081 k0_hw1680 k0_h1 => k0_hw1680 k0_h1

def k0_chk1681 (i : grid0.Coords) (k0_t2 : Fin k0_t2_loop.trips) (v4060 : IVec S16 32) (v4084 : IVec S16 32) : Prop :=
  (∀ (k0_h1 : k0_cond1 i k0_t2 = 1#1), ∀ a x, ((![v4084, v4060] : Fin 2 → IVec S16 32) a x).toNat < S160x142.size a)
theorem k0_idx2882_inb : ∀ (i : grid0.Coords) (k0_t2 : Fin k0_t2_loop.trips) (v4060 : IVec S16 32) (v4084 : IVec S16 32) (k0_hw1681 : k0_chk1681 i k0_t2 v4060 v4084), ∀ (k0_h1 : k0_cond1 i k0_t2 = 1#1), ∀ a x, ((![v4084, v4060] : Fin 2 → IVec S16 32) a x).toNat < S160x142.size a := fun i k0_t2 v4060 v4084 k0_hw1681 k0_h1 => k0_hw1681 k0_h1

def k0_chk1682 (i : grid0.Coords) (k0_t2 : Fin k0_t2_loop.trips) (v4060 : IVec S16 32) (v4087 : IVec S16 32) : Prop :=
  (∀ (k0_h1 : k0_cond1 i k0_t2 = 1#1), ∀ a x, ((![v4087, v4060] : Fin 2 → IVec S16 32) a x).toNat < S160x142.size a)
theorem k0_idx2884_inb : ∀ (i : grid0.Coords) (k0_t2 : Fin k0_t2_loop.trips) (v4060 : IVec S16 32) (v4087 : IVec S16 32) (k0_hw1682 : k0_chk1682 i k0_t2 v4060 v4087), ∀ (k0_h1 : k0_cond1 i k0_t2 = 1#1), ∀ a x, ((![v4087, v4060] : Fin 2 → IVec S16 32) a x).toNat < S160x142.size a := fun i k0_t2 v4060 v4087 k0_hw1682 k0_h1 => k0_hw1682 k0_h1

def k0_chk1673 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) : Prop :=
  (∀ (k0_h1 : k0_cond1 i k0_t2 = 1#1), ∀ a x, ((![v15, v4060] : Fin 2 → IVec S16 32) a x).toNat < S256x142.size a) ∧
  (∀ (k0_h1 : k0_cond1 i k0_t2 = 1#1), ∀ a x, ((![v20, v4060] : Fin 2 → IVec S16 32) a x).toNat < S256x142.size a) ∧
  (∀ (k0_h1 : k0_cond1 i k0_t2 = 1#1), ∀ a x, ((![v25, v4060] : Fin 2 → IVec S16 32) a x).toNat < S256x142.size a) ∧
  (∀ (k0_h1 : k0_cond1 i k0_t2 = 1#1), ∀ a x, ((![v30, v4060] : Fin 2 → IVec S16 32) a x).toNat < S256x142.size a) ∧
  (∀ (k0_h1 : k0_cond1 i k0_t2 = 1#1), ∀ a x, ((![v35, v4060] : Fin 2 → IVec S16 32) a x).toNat < S256x142.size a) ∧
  (∀ (k0_h1 : k0_cond1 i k0_t2 = 1#1), ∀ a x, ((![v40, v4060] : Fin 2 → IVec S16 32) a x).toNat < S256x142.size a) ∧
  (∀ (k0_h1 : k0_cond1 i k0_t2 = 1#1), ∀ a x, ((![v45, v4060] : Fin 2 → IVec S16 32) a x).toNat < S256x142.size a) ∧
  (∀ (k0_h1 : k0_cond1 i k0_t2 = 1#1), ∀ a x, ((![v50, v4060] : Fin 2 → IVec S16 32) a x).toNat < S256x142.size a) ∧
  (∀ (k0_h1 : k0_cond1 i k0_t2 = 1#1), ∀ a x, ((![v55, v4060] : Fin 2 → IVec S16 32) a x).toNat < S256x142.size a) ∧
  (∀ (k0_h1 : k0_cond1 i k0_t2 = 1#1), ∀ a x, ((![v60, v4060] : Fin 2 → IVec S16 32) a x).toNat < S256x142.size a)
theorem k0_idx2867_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v15, v4060] : Fin 2 → IVec S16 32) a x).toNat < S256x142.size a := fun i k0_t2 v15 v20 v25 v30 v35 v40 v45 v50 v55 v60 v4060 k0_hw1673 k0_h1 => k0_hw1673.1 k0_h1
theorem k0_idx2869_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v20, v4060] : Fin 2 → IVec S16 32) a x).toNat < S256x142.size a := fun i k0_t2 v15 v20 v25 v30 v35 v40 v45 v50 v55 v60 v4060 k0_hw1673 k0_h1 => k0_hw1673.2.1 k0_h1
theorem k0_idx2871_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v25, v4060] : Fin 2 → IVec S16 32) a x).toNat < S256x142.size a := fun i k0_t2 v15 v20 v25 v30 v35 v40 v45 v50 v55 v60 v4060 k0_hw1673 k0_h1 => k0_hw1673.2.2.1 k0_h1
theorem k0_idx2873_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v30, v4060] : Fin 2 → IVec S16 32) a x).toNat < S256x142.size a := fun i k0_t2 v15 v20 v25 v30 v35 v40 v45 v50 v55 v60 v4060 k0_hw1673 k0_h1 => k0_hw1673.2.2.2.1 k0_h1
theorem k0_idx2875_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v35, v4060] : Fin 2 → IVec S16 32) a x).toNat < S256x142.size a := fun i k0_t2 v15 v20 v25 v30 v35 v40 v45 v50 v55 v60 v4060 k0_hw1673 k0_h1 => k0_hw1673.2.2.2.2.1 k0_h1
theorem k0_idx2877_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v40, v4060] : Fin 2 → IVec S16 32) a x).toNat < S256x142.size a := fun i k0_t2 v15 v20 v25 v30 v35 v40 v45 v50 v55 v60 v4060 k0_hw1673 k0_h1 => k0_hw1673.2.2.2.2.2.1 k0_h1
theorem k0_idx2879_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v45, v4060] : Fin 2 → IVec S16 32) a x).toNat < S256x142.size a := fun i k0_t2 v15 v20 v25 v30 v35 v40 v45 v50 v55 v60 v4060 k0_hw1673 k0_h1 => k0_hw1673.2.2.2.2.2.2.1 k0_h1
theorem k0_idx2881_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v50, v4060] : Fin 2 → IVec S16 32) a x).toNat < S256x142.size a := fun i k0_t2 v15 v20 v25 v30 v35 v40 v45 v50 v55 v60 v4060 k0_hw1673 k0_h1 => k0_hw1673.2.2.2.2.2.2.2.1 k0_h1
theorem k0_idx2883_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v55, v4060] : Fin 2 → IVec S16 32) a x).toNat < S256x142.size a := fun i k0_t2 v15 v20 v25 v30 v35 v40 v45 v50 v55 v60 v4060 k0_hw1673 k0_h1 => k0_hw1673.2.2.2.2.2.2.2.2.1 k0_h1
theorem k0_idx2885_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4060 : IVec S16 32) (k0_hw1673 : k0_chk1673 i k0_t2 v15 v20 v25 v30 v35 v40 v45 v50 v55 v60 v4060), ∀ (k0_h1 : k0_cond1 i k0_t2 = 1#1), ∀ a x, ((![v60, v4060] : Fin 2 → IVec S16 32) a x).toNat < S256x142.size a := fun i k0_t2 v15 v20 v25 v30 v35 v40 v45 v50 v55 v60 v4060 k0_hw1673 k0_h1 => k0_hw1673.2.2.2.2.2.2.2.2.2 k0_h1

def k0_chk1683 (i : grid0.Coords) (k0_t2 : Fin k0_t2_loop.trips) (v4060 : IVec S16 32) (v4090 : IVec S16 32) : Prop :=
  (∀ (k0_h1 : k0_cond1 i k0_t2 = 1#1), ∀ a x, ((![v4090, v4060] : Fin 2 → IVec S16 32) a x).toNat < S160x142.size a)
theorem k0_idx2886_inb : ∀ (i : grid0.Coords) (k0_t2 : Fin k0_t2_loop.trips) (v4060 : IVec S16 32) (v4090 : IVec S16 32) (k0_hw1683 : k0_chk1683 i k0_t2 v4060 v4090), ∀ (k0_h1 : k0_cond1 i k0_t2 = 1#1), ∀ a x, ((![v4090, v4060] : Fin 2 → IVec S16 32) a x).toNat < S160x142.size a := fun i k0_t2 v4060 v4090 k0_hw1683 k0_h1 => k0_hw1683 k0_h1

def k0_chk1685 (i : grid0.Coords) (k0_t2 : Fin k0_t2_loop.trips) (v4091 : IVec S16 32) (v4094 : IVec S16 32) : Prop :=
  (∀ (k0_h1 : k0_cond1 i k0_t2 = 1#1), ∀ a x, ((![v4094, v4091] : Fin 2 → IVec S16 32) a x).toNat < S160x142.size a)
theorem k0_idx2888_inb : ∀ (i : grid0.Coords) (k0_t2 : Fin k0_t2_loop.trips) (v4091 : IVec S16 32) (v4094 : IVec S16 32) (k0_hw1685 : k0_chk1685 i k0_t2 v4091 v4094), ∀ (k0_h1 : k0_cond1 i k0_t2 = 1#1), ∀ a x, ((![v4094, v4091] : Fin 2 → IVec S16 32) a x).toNat < S160x142.size a := fun i k0_t2 v4091 v4094 k0_hw1685 k0_h1 => k0_hw1685 k0_h1

def k0_chk1686 (i : grid0.Coords) (k0_t2 : Fin k0_t2_loop.trips) (v4091 : IVec S16 32) (v4097 : IVec S16 32) : Prop :=
  (∀ (k0_h1 : k0_cond1 i k0_t2 = 1#1), ∀ a x, ((![v4097, v4091] : Fin 2 → IVec S16 32) a x).toNat < S160x142.size a)
theorem k0_idx2890_inb : ∀ (i : grid0.Coords) (k0_t2 : Fin k0_t2_loop.trips) (v4091 : IVec S16 32) (v4097 : IVec S16 32) (k0_hw1686 : k0_chk1686 i k0_t2 v4091 v4097), ∀ (k0_h1 : k0_cond1 i k0_t2 = 1#1), ∀ a x, ((![v4097, v4091] : Fin 2 → IVec S16 32) a x).toNat < S160x142.size a := fun i k0_t2 v4091 v4097 k0_hw1686 k0_h1 => k0_hw1686 k0_h1

def k0_chk1687 (i : grid0.Coords) (k0_t2 : Fin k0_t2_loop.trips) (v4091 : IVec S16 32) (v4100 : IVec S16 32) : Prop :=
  (∀ (k0_h1 : k0_cond1 i k0_t2 = 1#1), ∀ a x, ((![v4100, v4091] : Fin 2 → IVec S16 32) a x).toNat < S160x142.size a)
theorem k0_idx2892_inb : ∀ (i : grid0.Coords) (k0_t2 : Fin k0_t2_loop.trips) (v4091 : IVec S16 32) (v4100 : IVec S16 32) (k0_hw1687 : k0_chk1687 i k0_t2 v4091 v4100), ∀ (k0_h1 : k0_cond1 i k0_t2 = 1#1), ∀ a x, ((![v4100, v4091] : Fin 2 → IVec S16 32) a x).toNat < S160x142.size a := fun i k0_t2 v4091 v4100 k0_hw1687 k0_h1 => k0_hw1687 k0_h1

def k0_chk1688 (i : grid0.Coords) (k0_t2 : Fin k0_t2_loop.trips) (v4091 : IVec S16 32) (v4103 : IVec S16 32) : Prop :=
  (∀ (k0_h1 : k0_cond1 i k0_t2 = 1#1), ∀ a x, ((![v4103, v4091] : Fin 2 → IVec S16 32) a x).toNat < S160x142.size a)
theorem k0_idx2894_inb : ∀ (i : grid0.Coords) (k0_t2 : Fin k0_t2_loop.trips) (v4091 : IVec S16 32) (v4103 : IVec S16 32) (k0_hw1688 : k0_chk1688 i k0_t2 v4091 v4103), ∀ (k0_h1 : k0_cond1 i k0_t2 = 1#1), ∀ a x, ((![v4103, v4091] : Fin 2 → IVec S16 32) a x).toNat < S160x142.size a := fun i k0_t2 v4091 v4103 k0_hw1688 k0_h1 => k0_hw1688 k0_h1

def k0_chk1689 (i : grid0.Coords) (k0_t2 : Fin k0_t2_loop.trips) (v4091 : IVec S16 32) (v4106 : IVec S16 32) : Prop :=
  (∀ (k0_h1 : k0_cond1 i k0_t2 = 1#1), ∀ a x, ((![v4106, v4091] : Fin 2 → IVec S16 32) a x).toNat < S160x142.size a)
theorem k0_idx2896_inb : ∀ (i : grid0.Coords) (k0_t2 : Fin k0_t2_loop.trips) (v4091 : IVec S16 32) (v4106 : IVec S16 32) (k0_hw1689 : k0_chk1689 i k0_t2 v4091 v4106), ∀ (k0_h1 : k0_cond1 i k0_t2 = 1#1), ∀ a x, ((![v4106, v4091] : Fin 2 → IVec S16 32) a x).toNat < S160x142.size a := fun i k0_t2 v4091 v4106 k0_hw1689 k0_h1 => k0_hw1689 k0_h1

def k0_chk1690 (i : grid0.Coords) (k0_t2 : Fin k0_t2_loop.trips) (v4091 : IVec S16 32) (v4109 : IVec S16 32) : Prop :=
  (∀ (k0_h1 : k0_cond1 i k0_t2 = 1#1), ∀ a x, ((![v4109, v4091] : Fin 2 → IVec S16 32) a x).toNat < S160x142.size a)
theorem k0_idx2898_inb : ∀ (i : grid0.Coords) (k0_t2 : Fin k0_t2_loop.trips) (v4091 : IVec S16 32) (v4109 : IVec S16 32) (k0_hw1690 : k0_chk1690 i k0_t2 v4091 v4109), ∀ (k0_h1 : k0_cond1 i k0_t2 = 1#1), ∀ a x, ((![v4109, v4091] : Fin 2 → IVec S16 32) a x).toNat < S160x142.size a := fun i k0_t2 v4091 v4109 k0_hw1690 k0_h1 => k0_hw1690 k0_h1

def k0_chk1691 (i : grid0.Coords) (k0_t2 : Fin k0_t2_loop.trips) (v4091 : IVec S16 32) (v4112 : IVec S16 32) : Prop :=
  (∀ (k0_h1 : k0_cond1 i k0_t2 = 1#1), ∀ a x, ((![v4112, v4091] : Fin 2 → IVec S16 32) a x).toNat < S160x142.size a)
theorem k0_idx2900_inb : ∀ (i : grid0.Coords) (k0_t2 : Fin k0_t2_loop.trips) (v4091 : IVec S16 32) (v4112 : IVec S16 32) (k0_hw1691 : k0_chk1691 i k0_t2 v4091 v4112), ∀ (k0_h1 : k0_cond1 i k0_t2 = 1#1), ∀ a x, ((![v4112, v4091] : Fin 2 → IVec S16 32) a x).toNat < S160x142.size a := fun i k0_t2 v4091 v4112 k0_hw1691 k0_h1 => k0_hw1691 k0_h1

def k0_chk1692 (i : grid0.Coords) (k0_t2 : Fin k0_t2_loop.trips) (v4091 : IVec S16 32) (v4115 : IVec S16 32) : Prop :=
  (∀ (k0_h1 : k0_cond1 i k0_t2 = 1#1), ∀ a x, ((![v4115, v4091] : Fin 2 → IVec S16 32) a x).toNat < S160x142.size a)
theorem k0_idx2902_inb : ∀ (i : grid0.Coords) (k0_t2 : Fin k0_t2_loop.trips) (v4091 : IVec S16 32) (v4115 : IVec S16 32) (k0_hw1692 : k0_chk1692 i k0_t2 v4091 v4115), ∀ (k0_h1 : k0_cond1 i k0_t2 = 1#1), ∀ a x, ((![v4115, v4091] : Fin 2 → IVec S16 32) a x).toNat < S160x142.size a := fun i k0_t2 v4091 v4115 k0_hw1692 k0_h1 => k0_hw1692 k0_h1

def k0_chk1693 (i : grid0.Coords) (k0_t2 : Fin k0_t2_loop.trips) (v4091 : IVec S16 32) (v4118 : IVec S16 32) : Prop :=
  (∀ (k0_h1 : k0_cond1 i k0_t2 = 1#1), ∀ a x, ((![v4118, v4091] : Fin 2 → IVec S16 32) a x).toNat < S160x142.size a)
theorem k0_idx2904_inb : ∀ (i : grid0.Coords) (k0_t2 : Fin k0_t2_loop.trips) (v4091 : IVec S16 32) (v4118 : IVec S16 32) (k0_hw1693 : k0_chk1693 i k0_t2 v4091 v4118), ∀ (k0_h1 : k0_cond1 i k0_t2 = 1#1), ∀ a x, ((![v4118, v4091] : Fin 2 → IVec S16 32) a x).toNat < S160x142.size a := fun i k0_t2 v4091 v4118 k0_hw1693 k0_h1 => k0_hw1693 k0_h1

def k0_chk1684 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) : Prop :=
  (∀ (k0_h1 : k0_cond1 i k0_t2 = 1#1), ∀ a x, ((![v15, v4091] : Fin 2 → IVec S16 32) a x).toNat < S256x142.size a) ∧
  (∀ (k0_h1 : k0_cond1 i k0_t2 = 1#1), ∀ a x, ((![v20, v4091] : Fin 2 → IVec S16 32) a x).toNat < S256x142.size a) ∧
  (∀ (k0_h1 : k0_cond1 i k0_t2 = 1#1), ∀ a x, ((![v25, v4091] : Fin 2 → IVec S16 32) a x).toNat < S256x142.size a) ∧
  (∀ (k0_h1 : k0_cond1 i k0_t2 = 1#1), ∀ a x, ((![v30, v4091] : Fin 2 → IVec S16 32) a x).toNat < S256x142.size a) ∧
  (∀ (k0_h1 : k0_cond1 i k0_t2 = 1#1), ∀ a x, ((![v35, v4091] : Fin 2 → IVec S16 32) a x).toNat < S256x142.size a) ∧
  (∀ (k0_h1 : k0_cond1 i k0_t2 = 1#1), ∀ a x, ((![v40, v4091] : Fin 2 → IVec S16 32) a x).toNat < S256x142.size a) ∧
  (∀ (k0_h1 : k0_cond1 i k0_t2 = 1#1), ∀ a x, ((![v45, v4091] : Fin 2 → IVec S16 32) a x).toNat < S256x142.size a) ∧
  (∀ (k0_h1 : k0_cond1 i k0_t2 = 1#1), ∀ a x, ((![v50, v4091] : Fin 2 → IVec S16 32) a x).toNat < S256x142.size a) ∧
  (∀ (k0_h1 : k0_cond1 i k0_t2 = 1#1), ∀ a x, ((![v55, v4091] : Fin 2 → IVec S16 32) a x).toNat < S256x142.size a) ∧
  (∀ (k0_h1 : k0_cond1 i k0_t2 = 1#1), ∀ a x, ((![v60, v4091] : Fin 2 → IVec S16 32) a x).toNat < S256x142.size a)
theorem k0_idx2887_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v15, v4091] : Fin 2 → IVec S16 32) a x).toNat < S256x142.size a := fun i k0_t2 v15 v20 v25 v30 v35 v40 v45 v50 v55 v60 v4091 k0_hw1684 k0_h1 => k0_hw1684.1 k0_h1
theorem k0_idx2889_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v20, v4091] : Fin 2 → IVec S16 32) a x).toNat < S256x142.size a := fun i k0_t2 v15 v20 v25 v30 v35 v40 v45 v50 v55 v60 v4091 k0_hw1684 k0_h1 => k0_hw1684.2.1 k0_h1
theorem k0_idx2891_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v25, v4091] : Fin 2 → IVec S16 32) a x).toNat < S256x142.size a := fun i k0_t2 v15 v20 v25 v30 v35 v40 v45 v50 v55 v60 v4091 k0_hw1684 k0_h1 => k0_hw1684.2.2.1 k0_h1
theorem k0_idx2893_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v30, v4091] : Fin 2 → IVec S16 32) a x).toNat < S256x142.size a := fun i k0_t2 v15 v20 v25 v30 v35 v40 v45 v50 v55 v60 v4091 k0_hw1684 k0_h1 => k0_hw1684.2.2.2.1 k0_h1
theorem k0_idx2895_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v35, v4091] : Fin 2 → IVec S16 32) a x).toNat < S256x142.size a := fun i k0_t2 v15 v20 v25 v30 v35 v40 v45 v50 v55 v60 v4091 k0_hw1684 k0_h1 => k0_hw1684.2.2.2.2.1 k0_h1
theorem k0_idx2897_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v40, v4091] : Fin 2 → IVec S16 32) a x).toNat < S256x142.size a := fun i k0_t2 v15 v20 v25 v30 v35 v40 v45 v50 v55 v60 v4091 k0_hw1684 k0_h1 => k0_hw1684.2.2.2.2.2.1 k0_h1
theorem k0_idx2899_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v45, v4091] : Fin 2 → IVec S16 32) a x).toNat < S256x142.size a := fun i k0_t2 v15 v20 v25 v30 v35 v40 v45 v50 v55 v60 v4091 k0_hw1684 k0_h1 => k0_hw1684.2.2.2.2.2.2.1 k0_h1
theorem k0_idx2901_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v50, v4091] : Fin 2 → IVec S16 32) a x).toNat < S256x142.size a := fun i k0_t2 v15 v20 v25 v30 v35 v40 v45 v50 v55 v60 v4091 k0_hw1684 k0_h1 => k0_hw1684.2.2.2.2.2.2.2.1 k0_h1
theorem k0_idx2903_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v55, v4091] : Fin 2 → IVec S16 32) a x).toNat < S256x142.size a := fun i k0_t2 v15 v20 v25 v30 v35 v40 v45 v50 v55 v60 v4091 k0_hw1684 k0_h1 => k0_hw1684.2.2.2.2.2.2.2.2.1 k0_h1
theorem k0_idx2905_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4091 : IVec S16 32) (k0_hw1684 : k0_chk1684 i k0_t2 v15 v20 v25 v30 v35 v40 v45 v50 v55 v60 v4091), ∀ (k0_h1 : k0_cond1 i k0_t2 = 1#1), ∀ a x, ((![v60, v4091] : Fin 2 → IVec S16 32) a x).toNat < S256x142.size a := fun i k0_t2 v15 v20 v25 v30 v35 v40 v45 v50 v55 v60 v4091 k0_hw1684 k0_h1 => k0_hw1684.2.2.2.2.2.2.2.2.2 k0_h1

def k0_chk1694 (i : grid0.Coords) (k0_t2 : Fin k0_t2_loop.trips) (v4091 : IVec S16 32) (v4121 : IVec S16 32) : Prop :=
  (∀ (k0_h1 : k0_cond1 i k0_t2 = 1#1), ∀ a x, ((![v4121, v4091] : Fin 2 → IVec S16 32) a x).toNat < S160x142.size a)
theorem k0_idx2906_inb : ∀ (i : grid0.Coords) (k0_t2 : Fin k0_t2_loop.trips) (v4091 : IVec S16 32) (v4121 : IVec S16 32) (k0_hw1694 : k0_chk1694 i k0_t2 v4091 v4121), ∀ (k0_h1 : k0_cond1 i k0_t2 = 1#1), ∀ a x, ((![v4121, v4091] : Fin 2 → IVec S16 32) a x).toNat < S160x142.size a := fun i k0_t2 v4091 v4121 k0_hw1694 k0_h1 => k0_hw1694 k0_h1

def k0_chk1696 (i : grid0.Coords) (k0_t2 : Fin k0_t2_loop.trips) (v4122 : IVec S16 32) (v4125 : IVec S16 32) : Prop :=
  (∀ (k0_h1 : k0_cond1 i k0_t2 = 1#1), ∀ a x, ((![v4125, v4122] : Fin 2 → IVec S16 32) a x).toNat < S160x142.size a)
theorem k0_idx2908_inb : ∀ (i : grid0.Coords) (k0_t2 : Fin k0_t2_loop.trips) (v4122 : IVec S16 32) (v4125 : IVec S16 32) (k0_hw1696 : k0_chk1696 i k0_t2 v4122 v4125), ∀ (k0_h1 : k0_cond1 i k0_t2 = 1#1), ∀ a x, ((![v4125, v4122] : Fin 2 → IVec S16 32) a x).toNat < S160x142.size a := fun i k0_t2 v4122 v4125 k0_hw1696 k0_h1 => k0_hw1696 k0_h1

def k0_chk1697 (i : grid0.Coords) (k0_t2 : Fin k0_t2_loop.trips) (v4122 : IVec S16 32) (v4128 : IVec S16 32) : Prop :=
  (∀ (k0_h1 : k0_cond1 i k0_t2 = 1#1), ∀ a x, ((![v4128, v4122] : Fin 2 → IVec S16 32) a x).toNat < S160x142.size a)
theorem k0_idx2910_inb : ∀ (i : grid0.Coords) (k0_t2 : Fin k0_t2_loop.trips) (v4122 : IVec S16 32) (v4128 : IVec S16 32) (k0_hw1697 : k0_chk1697 i k0_t2 v4122 v4128), ∀ (k0_h1 : k0_cond1 i k0_t2 = 1#1), ∀ a x, ((![v4128, v4122] : Fin 2 → IVec S16 32) a x).toNat < S160x142.size a := fun i k0_t2 v4122 v4128 k0_hw1697 k0_h1 => k0_hw1697 k0_h1

def k0_chk1698 (i : grid0.Coords) (k0_t2 : Fin k0_t2_loop.trips) (v4122 : IVec S16 32) (v4131 : IVec S16 32) : Prop :=
  (∀ (k0_h1 : k0_cond1 i k0_t2 = 1#1), ∀ a x, ((![v4131, v4122] : Fin 2 → IVec S16 32) a x).toNat < S160x142.size a)
theorem k0_idx2912_inb : ∀ (i : grid0.Coords) (k0_t2 : Fin k0_t2_loop.trips) (v4122 : IVec S16 32) (v4131 : IVec S16 32) (k0_hw1698 : k0_chk1698 i k0_t2 v4122 v4131), ∀ (k0_h1 : k0_cond1 i k0_t2 = 1#1), ∀ a x, ((![v4131, v4122] : Fin 2 → IVec S16 32) a x).toNat < S160x142.size a := fun i k0_t2 v4122 v4131 k0_hw1698 k0_h1 => k0_hw1698 k0_h1

def k0_chk1699 (i : grid0.Coords) (k0_t2 : Fin k0_t2_loop.trips) (v4122 : IVec S16 32) (v4134 : IVec S16 32) : Prop :=
  (∀ (k0_h1 : k0_cond1 i k0_t2 = 1#1), ∀ a x, ((![v4134, v4122] : Fin 2 → IVec S16 32) a x).toNat < S160x142.size a)
theorem k0_idx2914_inb : ∀ (i : grid0.Coords) (k0_t2 : Fin k0_t2_loop.trips) (v4122 : IVec S16 32) (v4134 : IVec S16 32) (k0_hw1699 : k0_chk1699 i k0_t2 v4122 v4134), ∀ (k0_h1 : k0_cond1 i k0_t2 = 1#1), ∀ a x, ((![v4134, v4122] : Fin 2 → IVec S16 32) a x).toNat < S160x142.size a := fun i k0_t2 v4122 v4134 k0_hw1699 k0_h1 => k0_hw1699 k0_h1

def k0_chk1700 (i : grid0.Coords) (k0_t2 : Fin k0_t2_loop.trips) (v4122 : IVec S16 32) (v4137 : IVec S16 32) : Prop :=
  (∀ (k0_h1 : k0_cond1 i k0_t2 = 1#1), ∀ a x, ((![v4137, v4122] : Fin 2 → IVec S16 32) a x).toNat < S160x142.size a)
theorem k0_idx2916_inb : ∀ (i : grid0.Coords) (k0_t2 : Fin k0_t2_loop.trips) (v4122 : IVec S16 32) (v4137 : IVec S16 32) (k0_hw1700 : k0_chk1700 i k0_t2 v4122 v4137), ∀ (k0_h1 : k0_cond1 i k0_t2 = 1#1), ∀ a x, ((![v4137, v4122] : Fin 2 → IVec S16 32) a x).toNat < S160x142.size a := fun i k0_t2 v4122 v4137 k0_hw1700 k0_h1 => k0_hw1700 k0_h1

def k0_chk1701 (i : grid0.Coords) (k0_t2 : Fin k0_t2_loop.trips) (v4122 : IVec S16 32) (v4140 : IVec S16 32) : Prop :=
  (∀ (k0_h1 : k0_cond1 i k0_t2 = 1#1), ∀ a x, ((![v4140, v4122] : Fin 2 → IVec S16 32) a x).toNat < S160x142.size a)
theorem k0_idx2918_inb : ∀ (i : grid0.Coords) (k0_t2 : Fin k0_t2_loop.trips) (v4122 : IVec S16 32) (v4140 : IVec S16 32) (k0_hw1701 : k0_chk1701 i k0_t2 v4122 v4140), ∀ (k0_h1 : k0_cond1 i k0_t2 = 1#1), ∀ a x, ((![v4140, v4122] : Fin 2 → IVec S16 32) a x).toNat < S160x142.size a := fun i k0_t2 v4122 v4140 k0_hw1701 k0_h1 => k0_hw1701 k0_h1

def k0_chk1702 (i : grid0.Coords) (k0_t2 : Fin k0_t2_loop.trips) (v4122 : IVec S16 32) (v4143 : IVec S16 32) : Prop :=
  (∀ (k0_h1 : k0_cond1 i k0_t2 = 1#1), ∀ a x, ((![v4143, v4122] : Fin 2 → IVec S16 32) a x).toNat < S160x142.size a)
theorem k0_idx2920_inb : ∀ (i : grid0.Coords) (k0_t2 : Fin k0_t2_loop.trips) (v4122 : IVec S16 32) (v4143 : IVec S16 32) (k0_hw1702 : k0_chk1702 i k0_t2 v4122 v4143), ∀ (k0_h1 : k0_cond1 i k0_t2 = 1#1), ∀ a x, ((![v4143, v4122] : Fin 2 → IVec S16 32) a x).toNat < S160x142.size a := fun i k0_t2 v4122 v4143 k0_hw1702 k0_h1 => k0_hw1702 k0_h1

def k0_chk1703 (i : grid0.Coords) (k0_t2 : Fin k0_t2_loop.trips) (v4122 : IVec S16 32) (v4146 : IVec S16 32) : Prop :=
  (∀ (k0_h1 : k0_cond1 i k0_t2 = 1#1), ∀ a x, ((![v4146, v4122] : Fin 2 → IVec S16 32) a x).toNat < S160x142.size a)
theorem k0_idx2922_inb : ∀ (i : grid0.Coords) (k0_t2 : Fin k0_t2_loop.trips) (v4122 : IVec S16 32) (v4146 : IVec S16 32) (k0_hw1703 : k0_chk1703 i k0_t2 v4122 v4146), ∀ (k0_h1 : k0_cond1 i k0_t2 = 1#1), ∀ a x, ((![v4146, v4122] : Fin 2 → IVec S16 32) a x).toNat < S160x142.size a := fun i k0_t2 v4122 v4146 k0_hw1703 k0_h1 => k0_hw1703 k0_h1

def k0_chk1704 (i : grid0.Coords) (k0_t2 : Fin k0_t2_loop.trips) (v4122 : IVec S16 32) (v4149 : IVec S16 32) : Prop :=
  (∀ (k0_h1 : k0_cond1 i k0_t2 = 1#1), ∀ a x, ((![v4149, v4122] : Fin 2 → IVec S16 32) a x).toNat < S160x142.size a)
theorem k0_idx2924_inb : ∀ (i : grid0.Coords) (k0_t2 : Fin k0_t2_loop.trips) (v4122 : IVec S16 32) (v4149 : IVec S16 32) (k0_hw1704 : k0_chk1704 i k0_t2 v4122 v4149), ∀ (k0_h1 : k0_cond1 i k0_t2 = 1#1), ∀ a x, ((![v4149, v4122] : Fin 2 → IVec S16 32) a x).toNat < S160x142.size a := fun i k0_t2 v4122 v4149 k0_hw1704 k0_h1 => k0_hw1704 k0_h1

def k0_chk1695 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) : Prop :=
  (∀ (k0_h1 : k0_cond1 i k0_t2 = 1#1), ∀ a x, ((![v15, v4122] : Fin 2 → IVec S16 32) a x).toNat < S256x142.size a) ∧
  (∀ (k0_h1 : k0_cond1 i k0_t2 = 1#1), ∀ a x, ((![v20, v4122] : Fin 2 → IVec S16 32) a x).toNat < S256x142.size a) ∧
  (∀ (k0_h1 : k0_cond1 i k0_t2 = 1#1), ∀ a x, ((![v25, v4122] : Fin 2 → IVec S16 32) a x).toNat < S256x142.size a) ∧
  (∀ (k0_h1 : k0_cond1 i k0_t2 = 1#1), ∀ a x, ((![v30, v4122] : Fin 2 → IVec S16 32) a x).toNat < S256x142.size a) ∧
  (∀ (k0_h1 : k0_cond1 i k0_t2 = 1#1), ∀ a x, ((![v35, v4122] : Fin 2 → IVec S16 32) a x).toNat < S256x142.size a) ∧
  (∀ (k0_h1 : k0_cond1 i k0_t2 = 1#1), ∀ a x, ((![v40, v4122] : Fin 2 → IVec S16 32) a x).toNat < S256x142.size a) ∧
  (∀ (k0_h1 : k0_cond1 i k0_t2 = 1#1), ∀ a x, ((![v45, v4122] : Fin 2 → IVec S16 32) a x).toNat < S256x142.size a) ∧
  (∀ (k0_h1 : k0_cond1 i k0_t2 = 1#1), ∀ a x, ((![v50, v4122] : Fin 2 → IVec S16 32) a x).toNat < S256x142.size a) ∧
  (∀ (k0_h1 : k0_cond1 i k0_t2 = 1#1), ∀ a x, ((![v55, v4122] : Fin 2 → IVec S16 32) a x).toNat < S256x142.size a) ∧
  (∀ (k0_h1 : k0_cond1 i k0_t2 = 1#1), ∀ a x, ((![v60, v4122] : Fin 2 → IVec S16 32) a x).toNat < S256x142.size a)
theorem k0_idx2907_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v15, v4122] : Fin 2 → IVec S16 32) a x).toNat < S256x142.size a := fun i k0_t2 v15 v20 v25 v30 v35 v40 v45 v50 v55 v60 v4122 k0_hw1695 k0_h1 => k0_hw1695.1 k0_h1
theorem k0_idx2909_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v20, v4122] : Fin 2 → IVec S16 32) a x).toNat < S256x142.size a := fun i k0_t2 v15 v20 v25 v30 v35 v40 v45 v50 v55 v60 v4122 k0_hw1695 k0_h1 => k0_hw1695.2.1 k0_h1
theorem k0_idx2911_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v25, v4122] : Fin 2 → IVec S16 32) a x).toNat < S256x142.size a := fun i k0_t2 v15 v20 v25 v30 v35 v40 v45 v50 v55 v60 v4122 k0_hw1695 k0_h1 => k0_hw1695.2.2.1 k0_h1
theorem k0_idx2913_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v30, v4122] : Fin 2 → IVec S16 32) a x).toNat < S256x142.size a := fun i k0_t2 v15 v20 v25 v30 v35 v40 v45 v50 v55 v60 v4122 k0_hw1695 k0_h1 => k0_hw1695.2.2.2.1 k0_h1
theorem k0_idx2915_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v35, v4122] : Fin 2 → IVec S16 32) a x).toNat < S256x142.size a := fun i k0_t2 v15 v20 v25 v30 v35 v40 v45 v50 v55 v60 v4122 k0_hw1695 k0_h1 => k0_hw1695.2.2.2.2.1 k0_h1
theorem k0_idx2917_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v40, v4122] : Fin 2 → IVec S16 32) a x).toNat < S256x142.size a := fun i k0_t2 v15 v20 v25 v30 v35 v40 v45 v50 v55 v60 v4122 k0_hw1695 k0_h1 => k0_hw1695.2.2.2.2.2.1 k0_h1
theorem k0_idx2919_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v45, v4122] : Fin 2 → IVec S16 32) a x).toNat < S256x142.size a := fun i k0_t2 v15 v20 v25 v30 v35 v40 v45 v50 v55 v60 v4122 k0_hw1695 k0_h1 => k0_hw1695.2.2.2.2.2.2.1 k0_h1
theorem k0_idx2921_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v50, v4122] : Fin 2 → IVec S16 32) a x).toNat < S256x142.size a := fun i k0_t2 v15 v20 v25 v30 v35 v40 v45 v50 v55 v60 v4122 k0_hw1695 k0_h1 => k0_hw1695.2.2.2.2.2.2.2.1 k0_h1
theorem k0_idx2923_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v55, v4122] : Fin 2 → IVec S16 32) a x).toNat < S256x142.size a := fun i k0_t2 v15 v20 v25 v30 v35 v40 v45 v50 v55 v60 v4122 k0_hw1695 k0_h1 => k0_hw1695.2.2.2.2.2.2.2.2.1 k0_h1
theorem k0_idx2925_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4122 : IVec S16 32) (k0_hw1695 : k0_chk1695 i k0_t2 v15 v20 v25 v30 v35 v40 v45 v50 v55 v60 v4122), ∀ (k0_h1 : k0_cond1 i k0_t2 = 1#1), ∀ a x, ((![v60, v4122] : Fin 2 → IVec S16 32) a x).toNat < S256x142.size a := fun i k0_t2 v15 v20 v25 v30 v35 v40 v45 v50 v55 v60 v4122 k0_hw1695 k0_h1 => k0_hw1695.2.2.2.2.2.2.2.2.2 k0_h1

def k0_chk1705 (i : grid0.Coords) (k0_t2 : Fin k0_t2_loop.trips) (v4122 : IVec S16 32) (v4152 : IVec S16 32) : Prop :=
  (∀ (k0_h1 : k0_cond1 i k0_t2 = 1#1), ∀ a x, ((![v4152, v4122] : Fin 2 → IVec S16 32) a x).toNat < S160x142.size a)
theorem k0_idx2926_inb : ∀ (i : grid0.Coords) (k0_t2 : Fin k0_t2_loop.trips) (v4122 : IVec S16 32) (v4152 : IVec S16 32) (k0_hw1705 : k0_chk1705 i k0_t2 v4122 v4152), ∀ (k0_h1 : k0_cond1 i k0_t2 = 1#1), ∀ a x, ((![v4152, v4122] : Fin 2 → IVec S16 32) a x).toNat < S160x142.size a := fun i k0_t2 v4122 v4152 k0_hw1705 k0_h1 => k0_hw1705 k0_h1

def k0_chk1707 (i : grid0.Coords) (k0_t2 : Fin k0_t2_loop.trips) (v4153 : IVec S16 32) (v4156 : IVec S16 32) : Prop :=
  (∀ (k0_h1 : k0_cond1 i k0_t2 = 1#1), ∀ a x, ((![v4156, v4153] : Fin 2 → IVec S16 32) a x).toNat < S160x142.size a)
theorem k0_idx2928_inb : ∀ (i : grid0.Coords) (k0_t2 : Fin k0_t2_loop.trips) (v4153 : IVec S16 32) (v4156 : IVec S16 32) (k0_hw1707 : k0_chk1707 i k0_t2 v4153 v4156), ∀ (k0_h1 : k0_cond1 i k0_t2 = 1#1), ∀ a x, ((![v4156, v4153] : Fin 2 → IVec S16 32) a x).toNat < S160x142.size a := fun i k0_t2 v4153 v4156 k0_hw1707 k0_h1 => k0_hw1707 k0_h1

def k0_chk1708 (i : grid0.Coords) (k0_t2 : Fin k0_t2_loop.trips) (v4153 : IVec S16 32) (v4159 : IVec S16 32) : Prop :=
  (∀ (k0_h1 : k0_cond1 i k0_t2 = 1#1), ∀ a x, ((![v4159, v4153] : Fin 2 → IVec S16 32) a x).toNat < S160x142.size a)
theorem k0_idx2930_inb : ∀ (i : grid0.Coords) (k0_t2 : Fin k0_t2_loop.trips) (v4153 : IVec S16 32) (v4159 : IVec S16 32) (k0_hw1708 : k0_chk1708 i k0_t2 v4153 v4159), ∀ (k0_h1 : k0_cond1 i k0_t2 = 1#1), ∀ a x, ((![v4159, v4153] : Fin 2 → IVec S16 32) a x).toNat < S160x142.size a := fun i k0_t2 v4153 v4159 k0_hw1708 k0_h1 => k0_hw1708 k0_h1

def k0_chk1709 (i : grid0.Coords) (k0_t2 : Fin k0_t2_loop.trips) (v4153 : IVec S16 32) (v4162 : IVec S16 32) : Prop :=
  (∀ (k0_h1 : k0_cond1 i k0_t2 = 1#1), ∀ a x, ((![v4162, v4153] : Fin 2 → IVec S16 32) a x).toNat < S160x142.size a)
theorem k0_idx2932_inb : ∀ (i : grid0.Coords) (k0_t2 : Fin k0_t2_loop.trips) (v4153 : IVec S16 32) (v4162 : IVec S16 32) (k0_hw1709 : k0_chk1709 i k0_t2 v4153 v4162), ∀ (k0_h1 : k0_cond1 i k0_t2 = 1#1), ∀ a x, ((![v4162, v4153] : Fin 2 → IVec S16 32) a x).toNat < S160x142.size a := fun i k0_t2 v4153 v4162 k0_hw1709 k0_h1 => k0_hw1709 k0_h1

def k0_chk1710 (i : grid0.Coords) (k0_t2 : Fin k0_t2_loop.trips) (v4153 : IVec S16 32) (v4165 : IVec S16 32) : Prop :=
  (∀ (k0_h1 : k0_cond1 i k0_t2 = 1#1), ∀ a x, ((![v4165, v4153] : Fin 2 → IVec S16 32) a x).toNat < S160x142.size a)
theorem k0_idx2934_inb : ∀ (i : grid0.Coords) (k0_t2 : Fin k0_t2_loop.trips) (v4153 : IVec S16 32) (v4165 : IVec S16 32) (k0_hw1710 : k0_chk1710 i k0_t2 v4153 v4165), ∀ (k0_h1 : k0_cond1 i k0_t2 = 1#1), ∀ a x, ((![v4165, v4153] : Fin 2 → IVec S16 32) a x).toNat < S160x142.size a := fun i k0_t2 v4153 v4165 k0_hw1710 k0_h1 => k0_hw1710 k0_h1

def k0_chk1711 (i : grid0.Coords) (k0_t2 : Fin k0_t2_loop.trips) (v4153 : IVec S16 32) (v4168 : IVec S16 32) : Prop :=
  (∀ (k0_h1 : k0_cond1 i k0_t2 = 1#1), ∀ a x, ((![v4168, v4153] : Fin 2 → IVec S16 32) a x).toNat < S160x142.size a)
theorem k0_idx2936_inb : ∀ (i : grid0.Coords) (k0_t2 : Fin k0_t2_loop.trips) (v4153 : IVec S16 32) (v4168 : IVec S16 32) (k0_hw1711 : k0_chk1711 i k0_t2 v4153 v4168), ∀ (k0_h1 : k0_cond1 i k0_t2 = 1#1), ∀ a x, ((![v4168, v4153] : Fin 2 → IVec S16 32) a x).toNat < S160x142.size a := fun i k0_t2 v4153 v4168 k0_hw1711 k0_h1 => k0_hw1711 k0_h1

def k0_chk1712 (i : grid0.Coords) (k0_t2 : Fin k0_t2_loop.trips) (v4153 : IVec S16 32) (v4171 : IVec S16 32) : Prop :=
  (∀ (k0_h1 : k0_cond1 i k0_t2 = 1#1), ∀ a x, ((![v4171, v4153] : Fin 2 → IVec S16 32) a x).toNat < S160x142.size a)
theorem k0_idx2938_inb : ∀ (i : grid0.Coords) (k0_t2 : Fin k0_t2_loop.trips) (v4153 : IVec S16 32) (v4171 : IVec S16 32) (k0_hw1712 : k0_chk1712 i k0_t2 v4153 v4171), ∀ (k0_h1 : k0_cond1 i k0_t2 = 1#1), ∀ a x, ((![v4171, v4153] : Fin 2 → IVec S16 32) a x).toNat < S160x142.size a := fun i k0_t2 v4153 v4171 k0_hw1712 k0_h1 => k0_hw1712 k0_h1

def k0_chk1713 (i : grid0.Coords) (k0_t2 : Fin k0_t2_loop.trips) (v4153 : IVec S16 32) (v4174 : IVec S16 32) : Prop :=
  (∀ (k0_h1 : k0_cond1 i k0_t2 = 1#1), ∀ a x, ((![v4174, v4153] : Fin 2 → IVec S16 32) a x).toNat < S160x142.size a)
theorem k0_idx2940_inb : ∀ (i : grid0.Coords) (k0_t2 : Fin k0_t2_loop.trips) (v4153 : IVec S16 32) (v4174 : IVec S16 32) (k0_hw1713 : k0_chk1713 i k0_t2 v4153 v4174), ∀ (k0_h1 : k0_cond1 i k0_t2 = 1#1), ∀ a x, ((![v4174, v4153] : Fin 2 → IVec S16 32) a x).toNat < S160x142.size a := fun i k0_t2 v4153 v4174 k0_hw1713 k0_h1 => k0_hw1713 k0_h1

def k0_chk1714 (i : grid0.Coords) (k0_t2 : Fin k0_t2_loop.trips) (v4153 : IVec S16 32) (v4177 : IVec S16 32) : Prop :=
  (∀ (k0_h1 : k0_cond1 i k0_t2 = 1#1), ∀ a x, ((![v4177, v4153] : Fin 2 → IVec S16 32) a x).toNat < S160x142.size a)
theorem k0_idx2942_inb : ∀ (i : grid0.Coords) (k0_t2 : Fin k0_t2_loop.trips) (v4153 : IVec S16 32) (v4177 : IVec S16 32) (k0_hw1714 : k0_chk1714 i k0_t2 v4153 v4177), ∀ (k0_h1 : k0_cond1 i k0_t2 = 1#1), ∀ a x, ((![v4177, v4153] : Fin 2 → IVec S16 32) a x).toNat < S160x142.size a := fun i k0_t2 v4153 v4177 k0_hw1714 k0_h1 => k0_hw1714 k0_h1

def k0_chk1715 (i : grid0.Coords) (k0_t2 : Fin k0_t2_loop.trips) (v4153 : IVec S16 32) (v4180 : IVec S16 32) : Prop :=
  (∀ (k0_h1 : k0_cond1 i k0_t2 = 1#1), ∀ a x, ((![v4180, v4153] : Fin 2 → IVec S16 32) a x).toNat < S160x142.size a)
theorem k0_idx2944_inb : ∀ (i : grid0.Coords) (k0_t2 : Fin k0_t2_loop.trips) (v4153 : IVec S16 32) (v4180 : IVec S16 32) (k0_hw1715 : k0_chk1715 i k0_t2 v4153 v4180), ∀ (k0_h1 : k0_cond1 i k0_t2 = 1#1), ∀ a x, ((![v4180, v4153] : Fin 2 → IVec S16 32) a x).toNat < S160x142.size a := fun i k0_t2 v4153 v4180 k0_hw1715 k0_h1 => k0_hw1715 k0_h1

def k0_chk1706 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) : Prop :=
  (∀ (k0_h1 : k0_cond1 i k0_t2 = 1#1), ∀ a x, ((![v15, v4153] : Fin 2 → IVec S16 32) a x).toNat < S256x142.size a) ∧
  (∀ (k0_h1 : k0_cond1 i k0_t2 = 1#1), ∀ a x, ((![v20, v4153] : Fin 2 → IVec S16 32) a x).toNat < S256x142.size a) ∧
  (∀ (k0_h1 : k0_cond1 i k0_t2 = 1#1), ∀ a x, ((![v25, v4153] : Fin 2 → IVec S16 32) a x).toNat < S256x142.size a) ∧
  (∀ (k0_h1 : k0_cond1 i k0_t2 = 1#1), ∀ a x, ((![v30, v4153] : Fin 2 → IVec S16 32) a x).toNat < S256x142.size a) ∧
  (∀ (k0_h1 : k0_cond1 i k0_t2 = 1#1), ∀ a x, ((![v35, v4153] : Fin 2 → IVec S16 32) a x).toNat < S256x142.size a) ∧
  (∀ (k0_h1 : k0_cond1 i k0_t2 = 1#1), ∀ a x, ((![v40, v4153] : Fin 2 → IVec S16 32) a x).toNat < S256x142.size a) ∧
  (∀ (k0_h1 : k0_cond1 i k0_t2 = 1#1), ∀ a x, ((![v45, v4153] : Fin 2 → IVec S16 32) a x).toNat < S256x142.size a) ∧
  (∀ (k0_h1 : k0_cond1 i k0_t2 = 1#1), ∀ a x, ((![v50, v4153] : Fin 2 → IVec S16 32) a x).toNat < S256x142.size a) ∧
  (∀ (k0_h1 : k0_cond1 i k0_t2 = 1#1), ∀ a x, ((![v55, v4153] : Fin 2 → IVec S16 32) a x).toNat < S256x142.size a) ∧
  (∀ (k0_h1 : k0_cond1 i k0_t2 = 1#1), ∀ a x, ((![v60, v4153] : Fin 2 → IVec S16 32) a x).toNat < S256x142.size a)
theorem k0_idx2927_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v15, v4153] : Fin 2 → IVec S16 32) a x).toNat < S256x142.size a := fun i k0_t2 v15 v20 v25 v30 v35 v40 v45 v50 v55 v60 v4153 k0_hw1706 k0_h1 => k0_hw1706.1 k0_h1
theorem k0_idx2929_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v20, v4153] : Fin 2 → IVec S16 32) a x).toNat < S256x142.size a := fun i k0_t2 v15 v20 v25 v30 v35 v40 v45 v50 v55 v60 v4153 k0_hw1706 k0_h1 => k0_hw1706.2.1 k0_h1
theorem k0_idx2931_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v25, v4153] : Fin 2 → IVec S16 32) a x).toNat < S256x142.size a := fun i k0_t2 v15 v20 v25 v30 v35 v40 v45 v50 v55 v60 v4153 k0_hw1706 k0_h1 => k0_hw1706.2.2.1 k0_h1
theorem k0_idx2933_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v30, v4153] : Fin 2 → IVec S16 32) a x).toNat < S256x142.size a := fun i k0_t2 v15 v20 v25 v30 v35 v40 v45 v50 v55 v60 v4153 k0_hw1706 k0_h1 => k0_hw1706.2.2.2.1 k0_h1
theorem k0_idx2935_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v35, v4153] : Fin 2 → IVec S16 32) a x).toNat < S256x142.size a := fun i k0_t2 v15 v20 v25 v30 v35 v40 v45 v50 v55 v60 v4153 k0_hw1706 k0_h1 => k0_hw1706.2.2.2.2.1 k0_h1
theorem k0_idx2937_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v40, v4153] : Fin 2 → IVec S16 32) a x).toNat < S256x142.size a := fun i k0_t2 v15 v20 v25 v30 v35 v40 v45 v50 v55 v60 v4153 k0_hw1706 k0_h1 => k0_hw1706.2.2.2.2.2.1 k0_h1
theorem k0_idx2939_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v45, v4153] : Fin 2 → IVec S16 32) a x).toNat < S256x142.size a := fun i k0_t2 v15 v20 v25 v30 v35 v40 v45 v50 v55 v60 v4153 k0_hw1706 k0_h1 => k0_hw1706.2.2.2.2.2.2.1 k0_h1
theorem k0_idx2941_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v50, v4153] : Fin 2 → IVec S16 32) a x).toNat < S256x142.size a := fun i k0_t2 v15 v20 v25 v30 v35 v40 v45 v50 v55 v60 v4153 k0_hw1706 k0_h1 => k0_hw1706.2.2.2.2.2.2.2.1 k0_h1
theorem k0_idx2943_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v55, v4153] : Fin 2 → IVec S16 32) a x).toNat < S256x142.size a := fun i k0_t2 v15 v20 v25 v30 v35 v40 v45 v50 v55 v60 v4153 k0_hw1706 k0_h1 => k0_hw1706.2.2.2.2.2.2.2.2.1 k0_h1
theorem k0_idx2945_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4153 : IVec S16 32) (k0_hw1706 : k0_chk1706 i k0_t2 v15 v20 v25 v30 v35 v40 v45 v50 v55 v60 v4153), ∀ (k0_h1 : k0_cond1 i k0_t2 = 1#1), ∀ a x, ((![v60, v4153] : Fin 2 → IVec S16 32) a x).toNat < S256x142.size a := fun i k0_t2 v15 v20 v25 v30 v35 v40 v45 v50 v55 v60 v4153 k0_hw1706 k0_h1 => k0_hw1706.2.2.2.2.2.2.2.2.2 k0_h1

def k0_chk1716 (i : grid0.Coords) (k0_t2 : Fin k0_t2_loop.trips) (v4153 : IVec S16 32) (v4183 : IVec S16 32) : Prop :=
  (∀ (k0_h1 : k0_cond1 i k0_t2 = 1#1), ∀ a x, ((![v4183, v4153] : Fin 2 → IVec S16 32) a x).toNat < S160x142.size a)
theorem k0_idx2946_inb : ∀ (i : grid0.Coords) (k0_t2 : Fin k0_t2_loop.trips) (v4153 : IVec S16 32) (v4183 : IVec S16 32) (k0_hw1716 : k0_chk1716 i k0_t2 v4153 v4183), ∀ (k0_h1 : k0_cond1 i k0_t2 = 1#1), ∀ a x, ((![v4183, v4153] : Fin 2 → IVec S16 32) a x).toNat < S160x142.size a := fun i k0_t2 v4153 v4183 k0_hw1716 k0_h1 => k0_hw1716 k0_h1

def k0_chk1718 (i : grid0.Coords) (k0_t2 : Fin k0_t2_loop.trips) (v4184 : IVec S16 32) (v4187 : IVec S16 32) : Prop :=
  (∀ (k0_h1 : k0_cond1 i k0_t2 = 1#1), ∀ a x, ((![v4187, v4184] : Fin 2 → IVec S16 32) a x).toNat < S160x142.size a)
theorem k0_idx2948_inb : ∀ (i : grid0.Coords) (k0_t2 : Fin k0_t2_loop.trips) (v4184 : IVec S16 32) (v4187 : IVec S16 32) (k0_hw1718 : k0_chk1718 i k0_t2 v4184 v4187), ∀ (k0_h1 : k0_cond1 i k0_t2 = 1#1), ∀ a x, ((![v4187, v4184] : Fin 2 → IVec S16 32) a x).toNat < S160x142.size a := fun i k0_t2 v4184 v4187 k0_hw1718 k0_h1 => k0_hw1718 k0_h1

def k0_chk1719 (i : grid0.Coords) (k0_t2 : Fin k0_t2_loop.trips) (v4184 : IVec S16 32) (v4190 : IVec S16 32) : Prop :=
  (∀ (k0_h1 : k0_cond1 i k0_t2 = 1#1), ∀ a x, ((![v4190, v4184] : Fin 2 → IVec S16 32) a x).toNat < S160x142.size a)
theorem k0_idx2950_inb : ∀ (i : grid0.Coords) (k0_t2 : Fin k0_t2_loop.trips) (v4184 : IVec S16 32) (v4190 : IVec S16 32) (k0_hw1719 : k0_chk1719 i k0_t2 v4184 v4190), ∀ (k0_h1 : k0_cond1 i k0_t2 = 1#1), ∀ a x, ((![v4190, v4184] : Fin 2 → IVec S16 32) a x).toNat < S160x142.size a := fun i k0_t2 v4184 v4190 k0_hw1719 k0_h1 => k0_hw1719 k0_h1

def k0_chk1720 (i : grid0.Coords) (k0_t2 : Fin k0_t2_loop.trips) (v4184 : IVec S16 32) (v4193 : IVec S16 32) : Prop :=
  (∀ (k0_h1 : k0_cond1 i k0_t2 = 1#1), ∀ a x, ((![v4193, v4184] : Fin 2 → IVec S16 32) a x).toNat < S160x142.size a)
theorem k0_idx2952_inb : ∀ (i : grid0.Coords) (k0_t2 : Fin k0_t2_loop.trips) (v4184 : IVec S16 32) (v4193 : IVec S16 32) (k0_hw1720 : k0_chk1720 i k0_t2 v4184 v4193), ∀ (k0_h1 : k0_cond1 i k0_t2 = 1#1), ∀ a x, ((![v4193, v4184] : Fin 2 → IVec S16 32) a x).toNat < S160x142.size a := fun i k0_t2 v4184 v4193 k0_hw1720 k0_h1 => k0_hw1720 k0_h1

def k0_chk1721 (i : grid0.Coords) (k0_t2 : Fin k0_t2_loop.trips) (v4184 : IVec S16 32) (v4196 : IVec S16 32) : Prop :=
  (∀ (k0_h1 : k0_cond1 i k0_t2 = 1#1), ∀ a x, ((![v4196, v4184] : Fin 2 → IVec S16 32) a x).toNat < S160x142.size a)
theorem k0_idx2954_inb : ∀ (i : grid0.Coords) (k0_t2 : Fin k0_t2_loop.trips) (v4184 : IVec S16 32) (v4196 : IVec S16 32) (k0_hw1721 : k0_chk1721 i k0_t2 v4184 v4196), ∀ (k0_h1 : k0_cond1 i k0_t2 = 1#1), ∀ a x, ((![v4196, v4184] : Fin 2 → IVec S16 32) a x).toNat < S160x142.size a := fun i k0_t2 v4184 v4196 k0_hw1721 k0_h1 => k0_hw1721 k0_h1

def k0_chk1722 (i : grid0.Coords) (k0_t2 : Fin k0_t2_loop.trips) (v4184 : IVec S16 32) (v4199 : IVec S16 32) : Prop :=
  (∀ (k0_h1 : k0_cond1 i k0_t2 = 1#1), ∀ a x, ((![v4199, v4184] : Fin 2 → IVec S16 32) a x).toNat < S160x142.size a)
theorem k0_idx2956_inb : ∀ (i : grid0.Coords) (k0_t2 : Fin k0_t2_loop.trips) (v4184 : IVec S16 32) (v4199 : IVec S16 32) (k0_hw1722 : k0_chk1722 i k0_t2 v4184 v4199), ∀ (k0_h1 : k0_cond1 i k0_t2 = 1#1), ∀ a x, ((![v4199, v4184] : Fin 2 → IVec S16 32) a x).toNat < S160x142.size a := fun i k0_t2 v4184 v4199 k0_hw1722 k0_h1 => k0_hw1722 k0_h1

def k0_chk1723 (i : grid0.Coords) (k0_t2 : Fin k0_t2_loop.trips) (v4184 : IVec S16 32) (v4202 : IVec S16 32) : Prop :=
  (∀ (k0_h1 : k0_cond1 i k0_t2 = 1#1), ∀ a x, ((![v4202, v4184] : Fin 2 → IVec S16 32) a x).toNat < S160x142.size a)
theorem k0_idx2958_inb : ∀ (i : grid0.Coords) (k0_t2 : Fin k0_t2_loop.trips) (v4184 : IVec S16 32) (v4202 : IVec S16 32) (k0_hw1723 : k0_chk1723 i k0_t2 v4184 v4202), ∀ (k0_h1 : k0_cond1 i k0_t2 = 1#1), ∀ a x, ((![v4202, v4184] : Fin 2 → IVec S16 32) a x).toNat < S160x142.size a := fun i k0_t2 v4184 v4202 k0_hw1723 k0_h1 => k0_hw1723 k0_h1

def k0_chk1724 (i : grid0.Coords) (k0_t2 : Fin k0_t2_loop.trips) (v4184 : IVec S16 32) (v4205 : IVec S16 32) : Prop :=
  (∀ (k0_h1 : k0_cond1 i k0_t2 = 1#1), ∀ a x, ((![v4205, v4184] : Fin 2 → IVec S16 32) a x).toNat < S160x142.size a)
theorem k0_idx2960_inb : ∀ (i : grid0.Coords) (k0_t2 : Fin k0_t2_loop.trips) (v4184 : IVec S16 32) (v4205 : IVec S16 32) (k0_hw1724 : k0_chk1724 i k0_t2 v4184 v4205), ∀ (k0_h1 : k0_cond1 i k0_t2 = 1#1), ∀ a x, ((![v4205, v4184] : Fin 2 → IVec S16 32) a x).toNat < S160x142.size a := fun i k0_t2 v4184 v4205 k0_hw1724 k0_h1 => k0_hw1724 k0_h1

def k0_chk1725 (i : grid0.Coords) (k0_t2 : Fin k0_t2_loop.trips) (v4184 : IVec S16 32) (v4208 : IVec S16 32) : Prop :=
  (∀ (k0_h1 : k0_cond1 i k0_t2 = 1#1), ∀ a x, ((![v4208, v4184] : Fin 2 → IVec S16 32) a x).toNat < S160x142.size a)
theorem k0_idx2962_inb : ∀ (i : grid0.Coords) (k0_t2 : Fin k0_t2_loop.trips) (v4184 : IVec S16 32) (v4208 : IVec S16 32) (k0_hw1725 : k0_chk1725 i k0_t2 v4184 v4208), ∀ (k0_h1 : k0_cond1 i k0_t2 = 1#1), ∀ a x, ((![v4208, v4184] : Fin 2 → IVec S16 32) a x).toNat < S160x142.size a := fun i k0_t2 v4184 v4208 k0_hw1725 k0_h1 => k0_hw1725 k0_h1

def k0_chk1726 (i : grid0.Coords) (k0_t2 : Fin k0_t2_loop.trips) (v4184 : IVec S16 32) (v4211 : IVec S16 32) : Prop :=
  (∀ (k0_h1 : k0_cond1 i k0_t2 = 1#1), ∀ a x, ((![v4211, v4184] : Fin 2 → IVec S16 32) a x).toNat < S160x142.size a)
theorem k0_idx2964_inb : ∀ (i : grid0.Coords) (k0_t2 : Fin k0_t2_loop.trips) (v4184 : IVec S16 32) (v4211 : IVec S16 32) (k0_hw1726 : k0_chk1726 i k0_t2 v4184 v4211), ∀ (k0_h1 : k0_cond1 i k0_t2 = 1#1), ∀ a x, ((![v4211, v4184] : Fin 2 → IVec S16 32) a x).toNat < S160x142.size a := fun i k0_t2 v4184 v4211 k0_hw1726 k0_h1 => k0_hw1726 k0_h1

def k0_chk1717 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) : Prop :=
  (∀ (k0_h1 : k0_cond1 i k0_t2 = 1#1), ∀ a x, ((![v15, v4184] : Fin 2 → IVec S16 32) a x).toNat < S256x142.size a) ∧
  (∀ (k0_h1 : k0_cond1 i k0_t2 = 1#1), ∀ a x, ((![v20, v4184] : Fin 2 → IVec S16 32) a x).toNat < S256x142.size a) ∧
  (∀ (k0_h1 : k0_cond1 i k0_t2 = 1#1), ∀ a x, ((![v25, v4184] : Fin 2 → IVec S16 32) a x).toNat < S256x142.size a) ∧
  (∀ (k0_h1 : k0_cond1 i k0_t2 = 1#1), ∀ a x, ((![v30, v4184] : Fin 2 → IVec S16 32) a x).toNat < S256x142.size a) ∧
  (∀ (k0_h1 : k0_cond1 i k0_t2 = 1#1), ∀ a x, ((![v35, v4184] : Fin 2 → IVec S16 32) a x).toNat < S256x142.size a) ∧
  (∀ (k0_h1 : k0_cond1 i k0_t2 = 1#1), ∀ a x, ((![v40, v4184] : Fin 2 → IVec S16 32) a x).toNat < S256x142.size a) ∧
  (∀ (k0_h1 : k0_cond1 i k0_t2 = 1#1), ∀ a x, ((![v45, v4184] : Fin 2 → IVec S16 32) a x).toNat < S256x142.size a) ∧
  (∀ (k0_h1 : k0_cond1 i k0_t2 = 1#1), ∀ a x, ((![v50, v4184] : Fin 2 → IVec S16 32) a x).toNat < S256x142.size a) ∧
  (∀ (k0_h1 : k0_cond1 i k0_t2 = 1#1), ∀ a x, ((![v55, v4184] : Fin 2 → IVec S16 32) a x).toNat < S256x142.size a) ∧
  (∀ (k0_h1 : k0_cond1 i k0_t2 = 1#1), ∀ a x, ((![v60, v4184] : Fin 2 → IVec S16 32) a x).toNat < S256x142.size a)
theorem k0_idx2947_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v15, v4184] : Fin 2 → IVec S16 32) a x).toNat < S256x142.size a := fun i k0_t2 v15 v20 v25 v30 v35 v40 v45 v50 v55 v60 v4184 k0_hw1717 k0_h1 => k0_hw1717.1 k0_h1
theorem k0_idx2949_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v20, v4184] : Fin 2 → IVec S16 32) a x).toNat < S256x142.size a := fun i k0_t2 v15 v20 v25 v30 v35 v40 v45 v50 v55 v60 v4184 k0_hw1717 k0_h1 => k0_hw1717.2.1 k0_h1
theorem k0_idx2951_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v25, v4184] : Fin 2 → IVec S16 32) a x).toNat < S256x142.size a := fun i k0_t2 v15 v20 v25 v30 v35 v40 v45 v50 v55 v60 v4184 k0_hw1717 k0_h1 => k0_hw1717.2.2.1 k0_h1
theorem k0_idx2953_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v30, v4184] : Fin 2 → IVec S16 32) a x).toNat < S256x142.size a := fun i k0_t2 v15 v20 v25 v30 v35 v40 v45 v50 v55 v60 v4184 k0_hw1717 k0_h1 => k0_hw1717.2.2.2.1 k0_h1
theorem k0_idx2955_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v35, v4184] : Fin 2 → IVec S16 32) a x).toNat < S256x142.size a := fun i k0_t2 v15 v20 v25 v30 v35 v40 v45 v50 v55 v60 v4184 k0_hw1717 k0_h1 => k0_hw1717.2.2.2.2.1 k0_h1
theorem k0_idx2957_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v40, v4184] : Fin 2 → IVec S16 32) a x).toNat < S256x142.size a := fun i k0_t2 v15 v20 v25 v30 v35 v40 v45 v50 v55 v60 v4184 k0_hw1717 k0_h1 => k0_hw1717.2.2.2.2.2.1 k0_h1
theorem k0_idx2959_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v45, v4184] : Fin 2 → IVec S16 32) a x).toNat < S256x142.size a := fun i k0_t2 v15 v20 v25 v30 v35 v40 v45 v50 v55 v60 v4184 k0_hw1717 k0_h1 => k0_hw1717.2.2.2.2.2.2.1 k0_h1
theorem k0_idx2961_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v50, v4184] : Fin 2 → IVec S16 32) a x).toNat < S256x142.size a := fun i k0_t2 v15 v20 v25 v30 v35 v40 v45 v50 v55 v60 v4184 k0_hw1717 k0_h1 => k0_hw1717.2.2.2.2.2.2.2.1 k0_h1
theorem k0_idx2963_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v55, v4184] : Fin 2 → IVec S16 32) a x).toNat < S256x142.size a := fun i k0_t2 v15 v20 v25 v30 v35 v40 v45 v50 v55 v60 v4184 k0_hw1717 k0_h1 => k0_hw1717.2.2.2.2.2.2.2.2.1 k0_h1
theorem k0_idx2965_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4184 : IVec S16 32) (k0_hw1717 : k0_chk1717 i k0_t2 v15 v20 v25 v30 v35 v40 v45 v50 v55 v60 v4184), ∀ (k0_h1 : k0_cond1 i k0_t2 = 1#1), ∀ a x, ((![v60, v4184] : Fin 2 → IVec S16 32) a x).toNat < S256x142.size a := fun i k0_t2 v15 v20 v25 v30 v35 v40 v45 v50 v55 v60 v4184 k0_hw1717 k0_h1 => k0_hw1717.2.2.2.2.2.2.2.2.2 k0_h1

def k0_chk1727 (i : grid0.Coords) (k0_t2 : Fin k0_t2_loop.trips) (v4184 : IVec S16 32) (v4214 : IVec S16 32) : Prop :=
  (∀ (k0_h1 : k0_cond1 i k0_t2 = 1#1), ∀ a x, ((![v4214, v4184] : Fin 2 → IVec S16 32) a x).toNat < S160x142.size a)
theorem k0_idx2966_inb : ∀ (i : grid0.Coords) (k0_t2 : Fin k0_t2_loop.trips) (v4184 : IVec S16 32) (v4214 : IVec S16 32) (k0_hw1727 : k0_chk1727 i k0_t2 v4184 v4214), ∀ (k0_h1 : k0_cond1 i k0_t2 = 1#1), ∀ a x, ((![v4214, v4184] : Fin 2 → IVec S16 32) a x).toNat < S160x142.size a := fun i k0_t2 v4184 v4214 k0_hw1727 k0_h1 => k0_hw1727 k0_h1

def k0_chk1729 (i : grid0.Coords) (k0_t2 : Fin k0_t2_loop.trips) (v4215 : IVec S16 32) (v4218 : IVec S16 32) : Prop :=
  (∀ (k0_h1 : k0_cond1 i k0_t2 = 1#1), ∀ a x, ((![v4218, v4215] : Fin 2 → IVec S16 32) a x).toNat < S160x142.size a)
theorem k0_idx2968_inb : ∀ (i : grid0.Coords) (k0_t2 : Fin k0_t2_loop.trips) (v4215 : IVec S16 32) (v4218 : IVec S16 32) (k0_hw1729 : k0_chk1729 i k0_t2 v4215 v4218), ∀ (k0_h1 : k0_cond1 i k0_t2 = 1#1), ∀ a x, ((![v4218, v4215] : Fin 2 → IVec S16 32) a x).toNat < S160x142.size a := fun i k0_t2 v4215 v4218 k0_hw1729 k0_h1 => k0_hw1729 k0_h1

def k0_chk1730 (i : grid0.Coords) (k0_t2 : Fin k0_t2_loop.trips) (v4215 : IVec S16 32) (v4221 : IVec S16 32) : Prop :=
  (∀ (k0_h1 : k0_cond1 i k0_t2 = 1#1), ∀ a x, ((![v4221, v4215] : Fin 2 → IVec S16 32) a x).toNat < S160x142.size a)
theorem k0_idx2970_inb : ∀ (i : grid0.Coords) (k0_t2 : Fin k0_t2_loop.trips) (v4215 : IVec S16 32) (v4221 : IVec S16 32) (k0_hw1730 : k0_chk1730 i k0_t2 v4215 v4221), ∀ (k0_h1 : k0_cond1 i k0_t2 = 1#1), ∀ a x, ((![v4221, v4215] : Fin 2 → IVec S16 32) a x).toNat < S160x142.size a := fun i k0_t2 v4215 v4221 k0_hw1730 k0_h1 => k0_hw1730 k0_h1

def k0_chk1731 (i : grid0.Coords) (k0_t2 : Fin k0_t2_loop.trips) (v4215 : IVec S16 32) (v4224 : IVec S16 32) : Prop :=
  (∀ (k0_h1 : k0_cond1 i k0_t2 = 1#1), ∀ a x, ((![v4224, v4215] : Fin 2 → IVec S16 32) a x).toNat < S160x142.size a)
theorem k0_idx2972_inb : ∀ (i : grid0.Coords) (k0_t2 : Fin k0_t2_loop.trips) (v4215 : IVec S16 32) (v4224 : IVec S16 32) (k0_hw1731 : k0_chk1731 i k0_t2 v4215 v4224), ∀ (k0_h1 : k0_cond1 i k0_t2 = 1#1), ∀ a x, ((![v4224, v4215] : Fin 2 → IVec S16 32) a x).toNat < S160x142.size a := fun i k0_t2 v4215 v4224 k0_hw1731 k0_h1 => k0_hw1731 k0_h1

def k0_chk1732 (i : grid0.Coords) (k0_t2 : Fin k0_t2_loop.trips) (v4215 : IVec S16 32) (v4227 : IVec S16 32) : Prop :=
  (∀ (k0_h1 : k0_cond1 i k0_t2 = 1#1), ∀ a x, ((![v4227, v4215] : Fin 2 → IVec S16 32) a x).toNat < S160x142.size a)
theorem k0_idx2974_inb : ∀ (i : grid0.Coords) (k0_t2 : Fin k0_t2_loop.trips) (v4215 : IVec S16 32) (v4227 : IVec S16 32) (k0_hw1732 : k0_chk1732 i k0_t2 v4215 v4227), ∀ (k0_h1 : k0_cond1 i k0_t2 = 1#1), ∀ a x, ((![v4227, v4215] : Fin 2 → IVec S16 32) a x).toNat < S160x142.size a := fun i k0_t2 v4215 v4227 k0_hw1732 k0_h1 => k0_hw1732 k0_h1

def k0_chk1733 (i : grid0.Coords) (k0_t2 : Fin k0_t2_loop.trips) (v4215 : IVec S16 32) (v4230 : IVec S16 32) : Prop :=
  (∀ (k0_h1 : k0_cond1 i k0_t2 = 1#1), ∀ a x, ((![v4230, v4215] : Fin 2 → IVec S16 32) a x).toNat < S160x142.size a)
theorem k0_idx2976_inb : ∀ (i : grid0.Coords) (k0_t2 : Fin k0_t2_loop.trips) (v4215 : IVec S16 32) (v4230 : IVec S16 32) (k0_hw1733 : k0_chk1733 i k0_t2 v4215 v4230), ∀ (k0_h1 : k0_cond1 i k0_t2 = 1#1), ∀ a x, ((![v4230, v4215] : Fin 2 → IVec S16 32) a x).toNat < S160x142.size a := fun i k0_t2 v4215 v4230 k0_hw1733 k0_h1 => k0_hw1733 k0_h1

def k0_chk1734 (i : grid0.Coords) (k0_t2 : Fin k0_t2_loop.trips) (v4215 : IVec S16 32) (v4233 : IVec S16 32) : Prop :=
  (∀ (k0_h1 : k0_cond1 i k0_t2 = 1#1), ∀ a x, ((![v4233, v4215] : Fin 2 → IVec S16 32) a x).toNat < S160x142.size a)
theorem k0_idx2978_inb : ∀ (i : grid0.Coords) (k0_t2 : Fin k0_t2_loop.trips) (v4215 : IVec S16 32) (v4233 : IVec S16 32) (k0_hw1734 : k0_chk1734 i k0_t2 v4215 v4233), ∀ (k0_h1 : k0_cond1 i k0_t2 = 1#1), ∀ a x, ((![v4233, v4215] : Fin 2 → IVec S16 32) a x).toNat < S160x142.size a := fun i k0_t2 v4215 v4233 k0_hw1734 k0_h1 => k0_hw1734 k0_h1

def k0_chk1735 (i : grid0.Coords) (k0_t2 : Fin k0_t2_loop.trips) (v4215 : IVec S16 32) (v4236 : IVec S16 32) : Prop :=
  (∀ (k0_h1 : k0_cond1 i k0_t2 = 1#1), ∀ a x, ((![v4236, v4215] : Fin 2 → IVec S16 32) a x).toNat < S160x142.size a)
theorem k0_idx2980_inb : ∀ (i : grid0.Coords) (k0_t2 : Fin k0_t2_loop.trips) (v4215 : IVec S16 32) (v4236 : IVec S16 32) (k0_hw1735 : k0_chk1735 i k0_t2 v4215 v4236), ∀ (k0_h1 : k0_cond1 i k0_t2 = 1#1), ∀ a x, ((![v4236, v4215] : Fin 2 → IVec S16 32) a x).toNat < S160x142.size a := fun i k0_t2 v4215 v4236 k0_hw1735 k0_h1 => k0_hw1735 k0_h1

def k0_chk1736 (i : grid0.Coords) (k0_t2 : Fin k0_t2_loop.trips) (v4215 : IVec S16 32) (v4239 : IVec S16 32) : Prop :=
  (∀ (k0_h1 : k0_cond1 i k0_t2 = 1#1), ∀ a x, ((![v4239, v4215] : Fin 2 → IVec S16 32) a x).toNat < S160x142.size a)
theorem k0_idx2982_inb : ∀ (i : grid0.Coords) (k0_t2 : Fin k0_t2_loop.trips) (v4215 : IVec S16 32) (v4239 : IVec S16 32) (k0_hw1736 : k0_chk1736 i k0_t2 v4215 v4239), ∀ (k0_h1 : k0_cond1 i k0_t2 = 1#1), ∀ a x, ((![v4239, v4215] : Fin 2 → IVec S16 32) a x).toNat < S160x142.size a := fun i k0_t2 v4215 v4239 k0_hw1736 k0_h1 => k0_hw1736 k0_h1

def k0_chk1737 (i : grid0.Coords) (k0_t2 : Fin k0_t2_loop.trips) (v4215 : IVec S16 32) (v4242 : IVec S16 32) : Prop :=
  (∀ (k0_h1 : k0_cond1 i k0_t2 = 1#1), ∀ a x, ((![v4242, v4215] : Fin 2 → IVec S16 32) a x).toNat < S160x142.size a)
theorem k0_idx2984_inb : ∀ (i : grid0.Coords) (k0_t2 : Fin k0_t2_loop.trips) (v4215 : IVec S16 32) (v4242 : IVec S16 32) (k0_hw1737 : k0_chk1737 i k0_t2 v4215 v4242), ∀ (k0_h1 : k0_cond1 i k0_t2 = 1#1), ∀ a x, ((![v4242, v4215] : Fin 2 → IVec S16 32) a x).toNat < S160x142.size a := fun i k0_t2 v4215 v4242 k0_hw1737 k0_h1 => k0_hw1737 k0_h1

def k0_chk1728 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) : Prop :=
  (∀ (k0_h1 : k0_cond1 i k0_t2 = 1#1), ∀ a x, ((![v15, v4215] : Fin 2 → IVec S16 32) a x).toNat < S256x142.size a) ∧
  (∀ (k0_h1 : k0_cond1 i k0_t2 = 1#1), ∀ a x, ((![v20, v4215] : Fin 2 → IVec S16 32) a x).toNat < S256x142.size a) ∧
  (∀ (k0_h1 : k0_cond1 i k0_t2 = 1#1), ∀ a x, ((![v25, v4215] : Fin 2 → IVec S16 32) a x).toNat < S256x142.size a) ∧
  (∀ (k0_h1 : k0_cond1 i k0_t2 = 1#1), ∀ a x, ((![v30, v4215] : Fin 2 → IVec S16 32) a x).toNat < S256x142.size a) ∧
  (∀ (k0_h1 : k0_cond1 i k0_t2 = 1#1), ∀ a x, ((![v35, v4215] : Fin 2 → IVec S16 32) a x).toNat < S256x142.size a) ∧
  (∀ (k0_h1 : k0_cond1 i k0_t2 = 1#1), ∀ a x, ((![v40, v4215] : Fin 2 → IVec S16 32) a x).toNat < S256x142.size a) ∧
  (∀ (k0_h1 : k0_cond1 i k0_t2 = 1#1), ∀ a x, ((![v45, v4215] : Fin 2 → IVec S16 32) a x).toNat < S256x142.size a) ∧
  (∀ (k0_h1 : k0_cond1 i k0_t2 = 1#1), ∀ a x, ((![v50, v4215] : Fin 2 → IVec S16 32) a x).toNat < S256x142.size a) ∧
  (∀ (k0_h1 : k0_cond1 i k0_t2 = 1#1), ∀ a x, ((![v55, v4215] : Fin 2 → IVec S16 32) a x).toNat < S256x142.size a) ∧
  (∀ (k0_h1 : k0_cond1 i k0_t2 = 1#1), ∀ a x, ((![v60, v4215] : Fin 2 → IVec S16 32) a x).toNat < S256x142.size a)
theorem k0_idx2967_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v15, v4215] : Fin 2 → IVec S16 32) a x).toNat < S256x142.size a := fun i k0_t2 v15 v20 v25 v30 v35 v40 v45 v50 v55 v60 v4215 k0_hw1728 k0_h1 => k0_hw1728.1 k0_h1
theorem k0_idx2969_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v20, v4215] : Fin 2 → IVec S16 32) a x).toNat < S256x142.size a := fun i k0_t2 v15 v20 v25 v30 v35 v40 v45 v50 v55 v60 v4215 k0_hw1728 k0_h1 => k0_hw1728.2.1 k0_h1
theorem k0_idx2971_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v25, v4215] : Fin 2 → IVec S16 32) a x).toNat < S256x142.size a := fun i k0_t2 v15 v20 v25 v30 v35 v40 v45 v50 v55 v60 v4215 k0_hw1728 k0_h1 => k0_hw1728.2.2.1 k0_h1
theorem k0_idx2973_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v30, v4215] : Fin 2 → IVec S16 32) a x).toNat < S256x142.size a := fun i k0_t2 v15 v20 v25 v30 v35 v40 v45 v50 v55 v60 v4215 k0_hw1728 k0_h1 => k0_hw1728.2.2.2.1 k0_h1
theorem k0_idx2975_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v35, v4215] : Fin 2 → IVec S16 32) a x).toNat < S256x142.size a := fun i k0_t2 v15 v20 v25 v30 v35 v40 v45 v50 v55 v60 v4215 k0_hw1728 k0_h1 => k0_hw1728.2.2.2.2.1 k0_h1
theorem k0_idx2977_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v40, v4215] : Fin 2 → IVec S16 32) a x).toNat < S256x142.size a := fun i k0_t2 v15 v20 v25 v30 v35 v40 v45 v50 v55 v60 v4215 k0_hw1728 k0_h1 => k0_hw1728.2.2.2.2.2.1 k0_h1
theorem k0_idx2979_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v45, v4215] : Fin 2 → IVec S16 32) a x).toNat < S256x142.size a := fun i k0_t2 v15 v20 v25 v30 v35 v40 v45 v50 v55 v60 v4215 k0_hw1728 k0_h1 => k0_hw1728.2.2.2.2.2.2.1 k0_h1
theorem k0_idx2981_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v50, v4215] : Fin 2 → IVec S16 32) a x).toNat < S256x142.size a := fun i k0_t2 v15 v20 v25 v30 v35 v40 v45 v50 v55 v60 v4215 k0_hw1728 k0_h1 => k0_hw1728.2.2.2.2.2.2.2.1 k0_h1
theorem k0_idx2983_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v55, v4215] : Fin 2 → IVec S16 32) a x).toNat < S256x142.size a := fun i k0_t2 v15 v20 v25 v30 v35 v40 v45 v50 v55 v60 v4215 k0_hw1728 k0_h1 => k0_hw1728.2.2.2.2.2.2.2.2.1 k0_h1
theorem k0_idx2985_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4215 : IVec S16 32) (k0_hw1728 : k0_chk1728 i k0_t2 v15 v20 v25 v30 v35 v40 v45 v50 v55 v60 v4215), ∀ (k0_h1 : k0_cond1 i k0_t2 = 1#1), ∀ a x, ((![v60, v4215] : Fin 2 → IVec S16 32) a x).toNat < S256x142.size a := fun i k0_t2 v15 v20 v25 v30 v35 v40 v45 v50 v55 v60 v4215 k0_hw1728 k0_h1 => k0_hw1728.2.2.2.2.2.2.2.2.2 k0_h1

def k0_chk1738 (i : grid0.Coords) (k0_t2 : Fin k0_t2_loop.trips) (v4215 : IVec S16 32) (v4245 : IVec S16 32) : Prop :=
  (∀ (k0_h1 : k0_cond1 i k0_t2 = 1#1), ∀ a x, ((![v4245, v4215] : Fin 2 → IVec S16 32) a x).toNat < S160x142.size a)
theorem k0_idx2986_inb : ∀ (i : grid0.Coords) (k0_t2 : Fin k0_t2_loop.trips) (v4215 : IVec S16 32) (v4245 : IVec S16 32) (k0_hw1738 : k0_chk1738 i k0_t2 v4215 v4245), ∀ (k0_h1 : k0_cond1 i k0_t2 = 1#1), ∀ a x, ((![v4245, v4215] : Fin 2 → IVec S16 32) a x).toNat < S160x142.size a := fun i k0_t2 v4215 v4245 k0_hw1738 k0_h1 => k0_hw1738 k0_h1

def k0_chk1740 (i : grid0.Coords) (k0_t2 : Fin k0_t2_loop.trips) (v4246 : IVec S16 32) (v4249 : IVec S16 32) : Prop :=
  (∀ (k0_h1 : k0_cond1 i k0_t2 = 1#1), ∀ a x, ((![v4249, v4246] : Fin 2 → IVec S16 32) a x).toNat < S160x142.size a)
theorem k0_idx2988_inb : ∀ (i : grid0.Coords) (k0_t2 : Fin k0_t2_loop.trips) (v4246 : IVec S16 32) (v4249 : IVec S16 32) (k0_hw1740 : k0_chk1740 i k0_t2 v4246 v4249), ∀ (k0_h1 : k0_cond1 i k0_t2 = 1#1), ∀ a x, ((![v4249, v4246] : Fin 2 → IVec S16 32) a x).toNat < S160x142.size a := fun i k0_t2 v4246 v4249 k0_hw1740 k0_h1 => k0_hw1740 k0_h1

def k0_chk1741 (i : grid0.Coords) (k0_t2 : Fin k0_t2_loop.trips) (v4246 : IVec S16 32) (v4252 : IVec S16 32) : Prop :=
  (∀ (k0_h1 : k0_cond1 i k0_t2 = 1#1), ∀ a x, ((![v4252, v4246] : Fin 2 → IVec S16 32) a x).toNat < S160x142.size a)
theorem k0_idx2990_inb : ∀ (i : grid0.Coords) (k0_t2 : Fin k0_t2_loop.trips) (v4246 : IVec S16 32) (v4252 : IVec S16 32) (k0_hw1741 : k0_chk1741 i k0_t2 v4246 v4252), ∀ (k0_h1 : k0_cond1 i k0_t2 = 1#1), ∀ a x, ((![v4252, v4246] : Fin 2 → IVec S16 32) a x).toNat < S160x142.size a := fun i k0_t2 v4246 v4252 k0_hw1741 k0_h1 => k0_hw1741 k0_h1

def k0_chk1742 (i : grid0.Coords) (k0_t2 : Fin k0_t2_loop.trips) (v4246 : IVec S16 32) (v4255 : IVec S16 32) : Prop :=
  (∀ (k0_h1 : k0_cond1 i k0_t2 = 1#1), ∀ a x, ((![v4255, v4246] : Fin 2 → IVec S16 32) a x).toNat < S160x142.size a)
theorem k0_idx2992_inb : ∀ (i : grid0.Coords) (k0_t2 : Fin k0_t2_loop.trips) (v4246 : IVec S16 32) (v4255 : IVec S16 32) (k0_hw1742 : k0_chk1742 i k0_t2 v4246 v4255), ∀ (k0_h1 : k0_cond1 i k0_t2 = 1#1), ∀ a x, ((![v4255, v4246] : Fin 2 → IVec S16 32) a x).toNat < S160x142.size a := fun i k0_t2 v4246 v4255 k0_hw1742 k0_h1 => k0_hw1742 k0_h1

def k0_chk1743 (i : grid0.Coords) (k0_t2 : Fin k0_t2_loop.trips) (v4246 : IVec S16 32) (v4258 : IVec S16 32) : Prop :=
  (∀ (k0_h1 : k0_cond1 i k0_t2 = 1#1), ∀ a x, ((![v4258, v4246] : Fin 2 → IVec S16 32) a x).toNat < S160x142.size a)
theorem k0_idx2994_inb : ∀ (i : grid0.Coords) (k0_t2 : Fin k0_t2_loop.trips) (v4246 : IVec S16 32) (v4258 : IVec S16 32) (k0_hw1743 : k0_chk1743 i k0_t2 v4246 v4258), ∀ (k0_h1 : k0_cond1 i k0_t2 = 1#1), ∀ a x, ((![v4258, v4246] : Fin 2 → IVec S16 32) a x).toNat < S160x142.size a := fun i k0_t2 v4246 v4258 k0_hw1743 k0_h1 => k0_hw1743 k0_h1

def k0_chk1744 (i : grid0.Coords) (k0_t2 : Fin k0_t2_loop.trips) (v4246 : IVec S16 32) (v4261 : IVec S16 32) : Prop :=
  (∀ (k0_h1 : k0_cond1 i k0_t2 = 1#1), ∀ a x, ((![v4261, v4246] : Fin 2 → IVec S16 32) a x).toNat < S160x142.size a)
theorem k0_idx2996_inb : ∀ (i : grid0.Coords) (k0_t2 : Fin k0_t2_loop.trips) (v4246 : IVec S16 32) (v4261 : IVec S16 32) (k0_hw1744 : k0_chk1744 i k0_t2 v4246 v4261), ∀ (k0_h1 : k0_cond1 i k0_t2 = 1#1), ∀ a x, ((![v4261, v4246] : Fin 2 → IVec S16 32) a x).toNat < S160x142.size a := fun i k0_t2 v4246 v4261 k0_hw1744 k0_h1 => k0_hw1744 k0_h1

def k0_chk1745 (i : grid0.Coords) (k0_t2 : Fin k0_t2_loop.trips) (v4246 : IVec S16 32) (v4264 : IVec S16 32) : Prop :=
  (∀ (k0_h1 : k0_cond1 i k0_t2 = 1#1), ∀ a x, ((![v4264, v4246] : Fin 2 → IVec S16 32) a x).toNat < S160x142.size a)
theorem k0_idx2998_inb : ∀ (i : grid0.Coords) (k0_t2 : Fin k0_t2_loop.trips) (v4246 : IVec S16 32) (v4264 : IVec S16 32) (k0_hw1745 : k0_chk1745 i k0_t2 v4246 v4264), ∀ (k0_h1 : k0_cond1 i k0_t2 = 1#1), ∀ a x, ((![v4264, v4246] : Fin 2 → IVec S16 32) a x).toNat < S160x142.size a := fun i k0_t2 v4246 v4264 k0_hw1745 k0_h1 => k0_hw1745 k0_h1

def k0_chk1746 (i : grid0.Coords) (k0_t2 : Fin k0_t2_loop.trips) (v4246 : IVec S16 32) (v4267 : IVec S16 32) : Prop :=
  (∀ (k0_h1 : k0_cond1 i k0_t2 = 1#1), ∀ a x, ((![v4267, v4246] : Fin 2 → IVec S16 32) a x).toNat < S160x142.size a)
theorem k0_idx3000_inb : ∀ (i : grid0.Coords) (k0_t2 : Fin k0_t2_loop.trips) (v4246 : IVec S16 32) (v4267 : IVec S16 32) (k0_hw1746 : k0_chk1746 i k0_t2 v4246 v4267), ∀ (k0_h1 : k0_cond1 i k0_t2 = 1#1), ∀ a x, ((![v4267, v4246] : Fin 2 → IVec S16 32) a x).toNat < S160x142.size a := fun i k0_t2 v4246 v4267 k0_hw1746 k0_h1 => k0_hw1746 k0_h1

def k0_chk1747 (i : grid0.Coords) (k0_t2 : Fin k0_t2_loop.trips) (v4246 : IVec S16 32) (v4270 : IVec S16 32) : Prop :=
  (∀ (k0_h1 : k0_cond1 i k0_t2 = 1#1), ∀ a x, ((![v4270, v4246] : Fin 2 → IVec S16 32) a x).toNat < S160x142.size a)
theorem k0_idx3002_inb : ∀ (i : grid0.Coords) (k0_t2 : Fin k0_t2_loop.trips) (v4246 : IVec S16 32) (v4270 : IVec S16 32) (k0_hw1747 : k0_chk1747 i k0_t2 v4246 v4270), ∀ (k0_h1 : k0_cond1 i k0_t2 = 1#1), ∀ a x, ((![v4270, v4246] : Fin 2 → IVec S16 32) a x).toNat < S160x142.size a := fun i k0_t2 v4246 v4270 k0_hw1747 k0_h1 => k0_hw1747 k0_h1

def k0_chk1748 (i : grid0.Coords) (k0_t2 : Fin k0_t2_loop.trips) (v4246 : IVec S16 32) (v4273 : IVec S16 32) : Prop :=
  (∀ (k0_h1 : k0_cond1 i k0_t2 = 1#1), ∀ a x, ((![v4273, v4246] : Fin 2 → IVec S16 32) a x).toNat < S160x142.size a)
theorem k0_idx3004_inb : ∀ (i : grid0.Coords) (k0_t2 : Fin k0_t2_loop.trips) (v4246 : IVec S16 32) (v4273 : IVec S16 32) (k0_hw1748 : k0_chk1748 i k0_t2 v4246 v4273), ∀ (k0_h1 : k0_cond1 i k0_t2 = 1#1), ∀ a x, ((![v4273, v4246] : Fin 2 → IVec S16 32) a x).toNat < S160x142.size a := fun i k0_t2 v4246 v4273 k0_hw1748 k0_h1 => k0_hw1748 k0_h1

def k0_chk1739 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) : Prop :=
  (∀ (k0_h1 : k0_cond1 i k0_t2 = 1#1), ∀ a x, ((![v15, v4246] : Fin 2 → IVec S16 32) a x).toNat < S256x142.size a) ∧
  (∀ (k0_h1 : k0_cond1 i k0_t2 = 1#1), ∀ a x, ((![v20, v4246] : Fin 2 → IVec S16 32) a x).toNat < S256x142.size a) ∧
  (∀ (k0_h1 : k0_cond1 i k0_t2 = 1#1), ∀ a x, ((![v25, v4246] : Fin 2 → IVec S16 32) a x).toNat < S256x142.size a) ∧
  (∀ (k0_h1 : k0_cond1 i k0_t2 = 1#1), ∀ a x, ((![v30, v4246] : Fin 2 → IVec S16 32) a x).toNat < S256x142.size a) ∧
  (∀ (k0_h1 : k0_cond1 i k0_t2 = 1#1), ∀ a x, ((![v35, v4246] : Fin 2 → IVec S16 32) a x).toNat < S256x142.size a) ∧
  (∀ (k0_h1 : k0_cond1 i k0_t2 = 1#1), ∀ a x, ((![v40, v4246] : Fin 2 → IVec S16 32) a x).toNat < S256x142.size a) ∧
  (∀ (k0_h1 : k0_cond1 i k0_t2 = 1#1), ∀ a x, ((![v45, v4246] : Fin 2 → IVec S16 32) a x).toNat < S256x142.size a) ∧
  (∀ (k0_h1 : k0_cond1 i k0_t2 = 1#1), ∀ a x, ((![v50, v4246] : Fin 2 → IVec S16 32) a x).toNat < S256x142.size a) ∧
  (∀ (k0_h1 : k0_cond1 i k0_t2 = 1#1), ∀ a x, ((![v55, v4246] : Fin 2 → IVec S16 32) a x).toNat < S256x142.size a) ∧
  (∀ (k0_h1 : k0_cond1 i k0_t2 = 1#1), ∀ a x, ((![v60, v4246] : Fin 2 → IVec S16 32) a x).toNat < S256x142.size a)
theorem k0_idx2987_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v15, v4246] : Fin 2 → IVec S16 32) a x).toNat < S256x142.size a := fun i k0_t2 v15 v20 v25 v30 v35 v40 v45 v50 v55 v60 v4246 k0_hw1739 k0_h1 => k0_hw1739.1 k0_h1
theorem k0_idx2989_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v20, v4246] : Fin 2 → IVec S16 32) a x).toNat < S256x142.size a := fun i k0_t2 v15 v20 v25 v30 v35 v40 v45 v50 v55 v60 v4246 k0_hw1739 k0_h1 => k0_hw1739.2.1 k0_h1
theorem k0_idx2991_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v25, v4246] : Fin 2 → IVec S16 32) a x).toNat < S256x142.size a := fun i k0_t2 v15 v20 v25 v30 v35 v40 v45 v50 v55 v60 v4246 k0_hw1739 k0_h1 => k0_hw1739.2.2.1 k0_h1
theorem k0_idx2993_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v30, v4246] : Fin 2 → IVec S16 32) a x).toNat < S256x142.size a := fun i k0_t2 v15 v20 v25 v30 v35 v40 v45 v50 v55 v60 v4246 k0_hw1739 k0_h1 => k0_hw1739.2.2.2.1 k0_h1
theorem k0_idx2995_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v35, v4246] : Fin 2 → IVec S16 32) a x).toNat < S256x142.size a := fun i k0_t2 v15 v20 v25 v30 v35 v40 v45 v50 v55 v60 v4246 k0_hw1739 k0_h1 => k0_hw1739.2.2.2.2.1 k0_h1
theorem k0_idx2997_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v40, v4246] : Fin 2 → IVec S16 32) a x).toNat < S256x142.size a := fun i k0_t2 v15 v20 v25 v30 v35 v40 v45 v50 v55 v60 v4246 k0_hw1739 k0_h1 => k0_hw1739.2.2.2.2.2.1 k0_h1
theorem k0_idx2999_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v45, v4246] : Fin 2 → IVec S16 32) a x).toNat < S256x142.size a := fun i k0_t2 v15 v20 v25 v30 v35 v40 v45 v50 v55 v60 v4246 k0_hw1739 k0_h1 => k0_hw1739.2.2.2.2.2.2.1 k0_h1
theorem k0_idx3001_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v50, v4246] : Fin 2 → IVec S16 32) a x).toNat < S256x142.size a := fun i k0_t2 v15 v20 v25 v30 v35 v40 v45 v50 v55 v60 v4246 k0_hw1739 k0_h1 => k0_hw1739.2.2.2.2.2.2.2.1 k0_h1
theorem k0_idx3003_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v55, v4246] : Fin 2 → IVec S16 32) a x).toNat < S256x142.size a := fun i k0_t2 v15 v20 v25 v30 v35 v40 v45 v50 v55 v60 v4246 k0_hw1739 k0_h1 => k0_hw1739.2.2.2.2.2.2.2.2.1 k0_h1
theorem k0_idx3005_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4246 : IVec S16 32) (k0_hw1739 : k0_chk1739 i k0_t2 v15 v20 v25 v30 v35 v40 v45 v50 v55 v60 v4246), ∀ (k0_h1 : k0_cond1 i k0_t2 = 1#1), ∀ a x, ((![v60, v4246] : Fin 2 → IVec S16 32) a x).toNat < S256x142.size a := fun i k0_t2 v15 v20 v25 v30 v35 v40 v45 v50 v55 v60 v4246 k0_hw1739 k0_h1 => k0_hw1739.2.2.2.2.2.2.2.2.2 k0_h1

def k0_chk1749 (i : grid0.Coords) (k0_t2 : Fin k0_t2_loop.trips) (v4246 : IVec S16 32) (v4276 : IVec S16 32) : Prop :=
  (∀ (k0_h1 : k0_cond1 i k0_t2 = 1#1), ∀ a x, ((![v4276, v4246] : Fin 2 → IVec S16 32) a x).toNat < S160x142.size a)
theorem k0_idx3006_inb : ∀ (i : grid0.Coords) (k0_t2 : Fin k0_t2_loop.trips) (v4246 : IVec S16 32) (v4276 : IVec S16 32) (k0_hw1749 : k0_chk1749 i k0_t2 v4246 v4276), ∀ (k0_h1 : k0_cond1 i k0_t2 = 1#1), ∀ a x, ((![v4276, v4246] : Fin 2 → IVec S16 32) a x).toNat < S160x142.size a := fun i k0_t2 v4246 v4276 k0_hw1749 k0_h1 => k0_hw1749 k0_h1

def k0_chk1751 (i : grid0.Coords) (k0_t2 : Fin k0_t2_loop.trips) (v4277 : IVec S16 32) (v4280 : IVec S16 32) : Prop :=
  (∀ (k0_h1 : k0_cond1 i k0_t2 = 1#1), ∀ a x, ((![v4280, v4277] : Fin 2 → IVec S16 32) a x).toNat < S160x142.size a)
theorem k0_idx3008_inb : ∀ (i : grid0.Coords) (k0_t2 : Fin k0_t2_loop.trips) (v4277 : IVec S16 32) (v4280 : IVec S16 32) (k0_hw1751 : k0_chk1751 i k0_t2 v4277 v4280), ∀ (k0_h1 : k0_cond1 i k0_t2 = 1#1), ∀ a x, ((![v4280, v4277] : Fin 2 → IVec S16 32) a x).toNat < S160x142.size a := fun i k0_t2 v4277 v4280 k0_hw1751 k0_h1 => k0_hw1751 k0_h1

def k0_chk1752 (i : grid0.Coords) (k0_t2 : Fin k0_t2_loop.trips) (v4277 : IVec S16 32) (v4283 : IVec S16 32) : Prop :=
  (∀ (k0_h1 : k0_cond1 i k0_t2 = 1#1), ∀ a x, ((![v4283, v4277] : Fin 2 → IVec S16 32) a x).toNat < S160x142.size a)
theorem k0_idx3010_inb : ∀ (i : grid0.Coords) (k0_t2 : Fin k0_t2_loop.trips) (v4277 : IVec S16 32) (v4283 : IVec S16 32) (k0_hw1752 : k0_chk1752 i k0_t2 v4277 v4283), ∀ (k0_h1 : k0_cond1 i k0_t2 = 1#1), ∀ a x, ((![v4283, v4277] : Fin 2 → IVec S16 32) a x).toNat < S160x142.size a := fun i k0_t2 v4277 v4283 k0_hw1752 k0_h1 => k0_hw1752 k0_h1

def k0_chk1753 (i : grid0.Coords) (k0_t2 : Fin k0_t2_loop.trips) (v4277 : IVec S16 32) (v4286 : IVec S16 32) : Prop :=
  (∀ (k0_h1 : k0_cond1 i k0_t2 = 1#1), ∀ a x, ((![v4286, v4277] : Fin 2 → IVec S16 32) a x).toNat < S160x142.size a)
theorem k0_idx3012_inb : ∀ (i : grid0.Coords) (k0_t2 : Fin k0_t2_loop.trips) (v4277 : IVec S16 32) (v4286 : IVec S16 32) (k0_hw1753 : k0_chk1753 i k0_t2 v4277 v4286), ∀ (k0_h1 : k0_cond1 i k0_t2 = 1#1), ∀ a x, ((![v4286, v4277] : Fin 2 → IVec S16 32) a x).toNat < S160x142.size a := fun i k0_t2 v4277 v4286 k0_hw1753 k0_h1 => k0_hw1753 k0_h1

def k0_chk1754 (i : grid0.Coords) (k0_t2 : Fin k0_t2_loop.trips) (v4277 : IVec S16 32) (v4289 : IVec S16 32) : Prop :=
  (∀ (k0_h1 : k0_cond1 i k0_t2 = 1#1), ∀ a x, ((![v4289, v4277] : Fin 2 → IVec S16 32) a x).toNat < S160x142.size a)
theorem k0_idx3014_inb : ∀ (i : grid0.Coords) (k0_t2 : Fin k0_t2_loop.trips) (v4277 : IVec S16 32) (v4289 : IVec S16 32) (k0_hw1754 : k0_chk1754 i k0_t2 v4277 v4289), ∀ (k0_h1 : k0_cond1 i k0_t2 = 1#1), ∀ a x, ((![v4289, v4277] : Fin 2 → IVec S16 32) a x).toNat < S160x142.size a := fun i k0_t2 v4277 v4289 k0_hw1754 k0_h1 => k0_hw1754 k0_h1

def k0_chk1755 (i : grid0.Coords) (k0_t2 : Fin k0_t2_loop.trips) (v4277 : IVec S16 32) (v4292 : IVec S16 32) : Prop :=
  (∀ (k0_h1 : k0_cond1 i k0_t2 = 1#1), ∀ a x, ((![v4292, v4277] : Fin 2 → IVec S16 32) a x).toNat < S160x142.size a)
theorem k0_idx3016_inb : ∀ (i : grid0.Coords) (k0_t2 : Fin k0_t2_loop.trips) (v4277 : IVec S16 32) (v4292 : IVec S16 32) (k0_hw1755 : k0_chk1755 i k0_t2 v4277 v4292), ∀ (k0_h1 : k0_cond1 i k0_t2 = 1#1), ∀ a x, ((![v4292, v4277] : Fin 2 → IVec S16 32) a x).toNat < S160x142.size a := fun i k0_t2 v4277 v4292 k0_hw1755 k0_h1 => k0_hw1755 k0_h1

def k0_chk1756 (i : grid0.Coords) (k0_t2 : Fin k0_t2_loop.trips) (v4277 : IVec S16 32) (v4295 : IVec S16 32) : Prop :=
  (∀ (k0_h1 : k0_cond1 i k0_t2 = 1#1), ∀ a x, ((![v4295, v4277] : Fin 2 → IVec S16 32) a x).toNat < S160x142.size a)
theorem k0_idx3018_inb : ∀ (i : grid0.Coords) (k0_t2 : Fin k0_t2_loop.trips) (v4277 : IVec S16 32) (v4295 : IVec S16 32) (k0_hw1756 : k0_chk1756 i k0_t2 v4277 v4295), ∀ (k0_h1 : k0_cond1 i k0_t2 = 1#1), ∀ a x, ((![v4295, v4277] : Fin 2 → IVec S16 32) a x).toNat < S160x142.size a := fun i k0_t2 v4277 v4295 k0_hw1756 k0_h1 => k0_hw1756 k0_h1

def k0_chk1757 (i : grid0.Coords) (k0_t2 : Fin k0_t2_loop.trips) (v4277 : IVec S16 32) (v4298 : IVec S16 32) : Prop :=
  (∀ (k0_h1 : k0_cond1 i k0_t2 = 1#1), ∀ a x, ((![v4298, v4277] : Fin 2 → IVec S16 32) a x).toNat < S160x142.size a)
theorem k0_idx3020_inb : ∀ (i : grid0.Coords) (k0_t2 : Fin k0_t2_loop.trips) (v4277 : IVec S16 32) (v4298 : IVec S16 32) (k0_hw1757 : k0_chk1757 i k0_t2 v4277 v4298), ∀ (k0_h1 : k0_cond1 i k0_t2 = 1#1), ∀ a x, ((![v4298, v4277] : Fin 2 → IVec S16 32) a x).toNat < S160x142.size a := fun i k0_t2 v4277 v4298 k0_hw1757 k0_h1 => k0_hw1757 k0_h1

def k0_chk1758 (i : grid0.Coords) (k0_t2 : Fin k0_t2_loop.trips) (v4277 : IVec S16 32) (v4301 : IVec S16 32) : Prop :=
  (∀ (k0_h1 : k0_cond1 i k0_t2 = 1#1), ∀ a x, ((![v4301, v4277] : Fin 2 → IVec S16 32) a x).toNat < S160x142.size a)
theorem k0_idx3022_inb : ∀ (i : grid0.Coords) (k0_t2 : Fin k0_t2_loop.trips) (v4277 : IVec S16 32) (v4301 : IVec S16 32) (k0_hw1758 : k0_chk1758 i k0_t2 v4277 v4301), ∀ (k0_h1 : k0_cond1 i k0_t2 = 1#1), ∀ a x, ((![v4301, v4277] : Fin 2 → IVec S16 32) a x).toNat < S160x142.size a := fun i k0_t2 v4277 v4301 k0_hw1758 k0_h1 => k0_hw1758 k0_h1

def k0_chk1759 (i : grid0.Coords) (k0_t2 : Fin k0_t2_loop.trips) (v4277 : IVec S16 32) (v4304 : IVec S16 32) : Prop :=
  (∀ (k0_h1 : k0_cond1 i k0_t2 = 1#1), ∀ a x, ((![v4304, v4277] : Fin 2 → IVec S16 32) a x).toNat < S160x142.size a)
theorem k0_idx3024_inb : ∀ (i : grid0.Coords) (k0_t2 : Fin k0_t2_loop.trips) (v4277 : IVec S16 32) (v4304 : IVec S16 32) (k0_hw1759 : k0_chk1759 i k0_t2 v4277 v4304), ∀ (k0_h1 : k0_cond1 i k0_t2 = 1#1), ∀ a x, ((![v4304, v4277] : Fin 2 → IVec S16 32) a x).toNat < S160x142.size a := fun i k0_t2 v4277 v4304 k0_hw1759 k0_h1 => k0_hw1759 k0_h1

def k0_chk1750 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) : Prop :=
  (∀ (k0_h1 : k0_cond1 i k0_t2 = 1#1), ∀ a x, ((![v15, v4277] : Fin 2 → IVec S16 32) a x).toNat < S256x142.size a) ∧
  (∀ (k0_h1 : k0_cond1 i k0_t2 = 1#1), ∀ a x, ((![v20, v4277] : Fin 2 → IVec S16 32) a x).toNat < S256x142.size a) ∧
  (∀ (k0_h1 : k0_cond1 i k0_t2 = 1#1), ∀ a x, ((![v25, v4277] : Fin 2 → IVec S16 32) a x).toNat < S256x142.size a) ∧
  (∀ (k0_h1 : k0_cond1 i k0_t2 = 1#1), ∀ a x, ((![v30, v4277] : Fin 2 → IVec S16 32) a x).toNat < S256x142.size a) ∧
  (∀ (k0_h1 : k0_cond1 i k0_t2 = 1#1), ∀ a x, ((![v35, v4277] : Fin 2 → IVec S16 32) a x).toNat < S256x142.size a) ∧
  (∀ (k0_h1 : k0_cond1 i k0_t2 = 1#1), ∀ a x, ((![v40, v4277] : Fin 2 → IVec S16 32) a x).toNat < S256x142.size a) ∧
  (∀ (k0_h1 : k0_cond1 i k0_t2 = 1#1), ∀ a x, ((![v45, v4277] : Fin 2 → IVec S16 32) a x).toNat < S256x142.size a) ∧
  (∀ (k0_h1 : k0_cond1 i k0_t2 = 1#1), ∀ a x, ((![v50, v4277] : Fin 2 → IVec S16 32) a x).toNat < S256x142.size a) ∧
  (∀ (k0_h1 : k0_cond1 i k0_t2 = 1#1), ∀ a x, ((![v55, v4277] : Fin 2 → IVec S16 32) a x).toNat < S256x142.size a) ∧
  (∀ (k0_h1 : k0_cond1 i k0_t2 = 1#1), ∀ a x, ((![v60, v4277] : Fin 2 → IVec S16 32) a x).toNat < S256x142.size a)
theorem k0_idx3007_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v15, v4277] : Fin 2 → IVec S16 32) a x).toNat < S256x142.size a := fun i k0_t2 v15 v20 v25 v30 v35 v40 v45 v50 v55 v60 v4277 k0_hw1750 k0_h1 => k0_hw1750.1 k0_h1
theorem k0_idx3009_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v20, v4277] : Fin 2 → IVec S16 32) a x).toNat < S256x142.size a := fun i k0_t2 v15 v20 v25 v30 v35 v40 v45 v50 v55 v60 v4277 k0_hw1750 k0_h1 => k0_hw1750.2.1 k0_h1
theorem k0_idx3011_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v25, v4277] : Fin 2 → IVec S16 32) a x).toNat < S256x142.size a := fun i k0_t2 v15 v20 v25 v30 v35 v40 v45 v50 v55 v60 v4277 k0_hw1750 k0_h1 => k0_hw1750.2.2.1 k0_h1
theorem k0_idx3013_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v30, v4277] : Fin 2 → IVec S16 32) a x).toNat < S256x142.size a := fun i k0_t2 v15 v20 v25 v30 v35 v40 v45 v50 v55 v60 v4277 k0_hw1750 k0_h1 => k0_hw1750.2.2.2.1 k0_h1
theorem k0_idx3015_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v35, v4277] : Fin 2 → IVec S16 32) a x).toNat < S256x142.size a := fun i k0_t2 v15 v20 v25 v30 v35 v40 v45 v50 v55 v60 v4277 k0_hw1750 k0_h1 => k0_hw1750.2.2.2.2.1 k0_h1
theorem k0_idx3017_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v40, v4277] : Fin 2 → IVec S16 32) a x).toNat < S256x142.size a := fun i k0_t2 v15 v20 v25 v30 v35 v40 v45 v50 v55 v60 v4277 k0_hw1750 k0_h1 => k0_hw1750.2.2.2.2.2.1 k0_h1
theorem k0_idx3019_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v45, v4277] : Fin 2 → IVec S16 32) a x).toNat < S256x142.size a := fun i k0_t2 v15 v20 v25 v30 v35 v40 v45 v50 v55 v60 v4277 k0_hw1750 k0_h1 => k0_hw1750.2.2.2.2.2.2.1 k0_h1
theorem k0_idx3021_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v50, v4277] : Fin 2 → IVec S16 32) a x).toNat < S256x142.size a := fun i k0_t2 v15 v20 v25 v30 v35 v40 v45 v50 v55 v60 v4277 k0_hw1750 k0_h1 => k0_hw1750.2.2.2.2.2.2.2.1 k0_h1
theorem k0_idx3023_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v55, v4277] : Fin 2 → IVec S16 32) a x).toNat < S256x142.size a := fun i k0_t2 v15 v20 v25 v30 v35 v40 v45 v50 v55 v60 v4277 k0_hw1750 k0_h1 => k0_hw1750.2.2.2.2.2.2.2.2.1 k0_h1
theorem k0_idx3025_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4277 : IVec S16 32) (k0_hw1750 : k0_chk1750 i k0_t2 v15 v20 v25 v30 v35 v40 v45 v50 v55 v60 v4277), ∀ (k0_h1 : k0_cond1 i k0_t2 = 1#1), ∀ a x, ((![v60, v4277] : Fin 2 → IVec S16 32) a x).toNat < S256x142.size a := fun i k0_t2 v15 v20 v25 v30 v35 v40 v45 v50 v55 v60 v4277 k0_hw1750 k0_h1 => k0_hw1750.2.2.2.2.2.2.2.2.2 k0_h1

def k0_chk1760 (i : grid0.Coords) (k0_t2 : Fin k0_t2_loop.trips) (v4277 : IVec S16 32) (v4307 : IVec S16 32) : Prop :=
  (∀ (k0_h1 : k0_cond1 i k0_t2 = 1#1), ∀ a x, ((![v4307, v4277] : Fin 2 → IVec S16 32) a x).toNat < S160x142.size a)
theorem k0_idx3026_inb : ∀ (i : grid0.Coords) (k0_t2 : Fin k0_t2_loop.trips) (v4277 : IVec S16 32) (v4307 : IVec S16 32) (k0_hw1760 : k0_chk1760 i k0_t2 v4277 v4307), ∀ (k0_h1 : k0_cond1 i k0_t2 = 1#1), ∀ a x, ((![v4307, v4277] : Fin 2 → IVec S16 32) a x).toNat < S160x142.size a := fun i k0_t2 v4277 v4307 k0_hw1760 k0_h1 => k0_hw1760 k0_h1

def k0_chk1762 (i : grid0.Coords) (k0_t2 : Fin k0_t2_loop.trips) (v4308 : IVec S16 32) (v4311 : IVec S16 32) : Prop :=
  (∀ (k0_h1 : k0_cond1 i k0_t2 = 1#1), ∀ a x, ((![v4311, v4308] : Fin 2 → IVec S16 32) a x).toNat < S160x142.size a)
theorem k0_idx3028_inb : ∀ (i : grid0.Coords) (k0_t2 : Fin k0_t2_loop.trips) (v4308 : IVec S16 32) (v4311 : IVec S16 32) (k0_hw1762 : k0_chk1762 i k0_t2 v4308 v4311), ∀ (k0_h1 : k0_cond1 i k0_t2 = 1#1), ∀ a x, ((![v4311, v4308] : Fin 2 → IVec S16 32) a x).toNat < S160x142.size a := fun i k0_t2 v4308 v4311 k0_hw1762 k0_h1 => k0_hw1762 k0_h1

def k0_chk1763 (i : grid0.Coords) (k0_t2 : Fin k0_t2_loop.trips) (v4308 : IVec S16 32) (v4314 : IVec S16 32) : Prop :=
  (∀ (k0_h1 : k0_cond1 i k0_t2 = 1#1), ∀ a x, ((![v4314, v4308] : Fin 2 → IVec S16 32) a x).toNat < S160x142.size a)
theorem k0_idx3030_inb : ∀ (i : grid0.Coords) (k0_t2 : Fin k0_t2_loop.trips) (v4308 : IVec S16 32) (v4314 : IVec S16 32) (k0_hw1763 : k0_chk1763 i k0_t2 v4308 v4314), ∀ (k0_h1 : k0_cond1 i k0_t2 = 1#1), ∀ a x, ((![v4314, v4308] : Fin 2 → IVec S16 32) a x).toNat < S160x142.size a := fun i k0_t2 v4308 v4314 k0_hw1763 k0_h1 => k0_hw1763 k0_h1

def k0_chk1764 (i : grid0.Coords) (k0_t2 : Fin k0_t2_loop.trips) (v4308 : IVec S16 32) (v4317 : IVec S16 32) : Prop :=
  (∀ (k0_h1 : k0_cond1 i k0_t2 = 1#1), ∀ a x, ((![v4317, v4308] : Fin 2 → IVec S16 32) a x).toNat < S160x142.size a)
theorem k0_idx3032_inb : ∀ (i : grid0.Coords) (k0_t2 : Fin k0_t2_loop.trips) (v4308 : IVec S16 32) (v4317 : IVec S16 32) (k0_hw1764 : k0_chk1764 i k0_t2 v4308 v4317), ∀ (k0_h1 : k0_cond1 i k0_t2 = 1#1), ∀ a x, ((![v4317, v4308] : Fin 2 → IVec S16 32) a x).toNat < S160x142.size a := fun i k0_t2 v4308 v4317 k0_hw1764 k0_h1 => k0_hw1764 k0_h1

def k0_chk1765 (i : grid0.Coords) (k0_t2 : Fin k0_t2_loop.trips) (v4308 : IVec S16 32) (v4320 : IVec S16 32) : Prop :=
  (∀ (k0_h1 : k0_cond1 i k0_t2 = 1#1), ∀ a x, ((![v4320, v4308] : Fin 2 → IVec S16 32) a x).toNat < S160x142.size a)
theorem k0_idx3034_inb : ∀ (i : grid0.Coords) (k0_t2 : Fin k0_t2_loop.trips) (v4308 : IVec S16 32) (v4320 : IVec S16 32) (k0_hw1765 : k0_chk1765 i k0_t2 v4308 v4320), ∀ (k0_h1 : k0_cond1 i k0_t2 = 1#1), ∀ a x, ((![v4320, v4308] : Fin 2 → IVec S16 32) a x).toNat < S160x142.size a := fun i k0_t2 v4308 v4320 k0_hw1765 k0_h1 => k0_hw1765 k0_h1

def k0_chk1766 (i : grid0.Coords) (k0_t2 : Fin k0_t2_loop.trips) (v4308 : IVec S16 32) (v4323 : IVec S16 32) : Prop :=
  (∀ (k0_h1 : k0_cond1 i k0_t2 = 1#1), ∀ a x, ((![v4323, v4308] : Fin 2 → IVec S16 32) a x).toNat < S160x142.size a)
theorem k0_idx3036_inb : ∀ (i : grid0.Coords) (k0_t2 : Fin k0_t2_loop.trips) (v4308 : IVec S16 32) (v4323 : IVec S16 32) (k0_hw1766 : k0_chk1766 i k0_t2 v4308 v4323), ∀ (k0_h1 : k0_cond1 i k0_t2 = 1#1), ∀ a x, ((![v4323, v4308] : Fin 2 → IVec S16 32) a x).toNat < S160x142.size a := fun i k0_t2 v4308 v4323 k0_hw1766 k0_h1 => k0_hw1766 k0_h1

def k0_chk1767 (i : grid0.Coords) (k0_t2 : Fin k0_t2_loop.trips) (v4308 : IVec S16 32) (v4326 : IVec S16 32) : Prop :=
  (∀ (k0_h1 : k0_cond1 i k0_t2 = 1#1), ∀ a x, ((![v4326, v4308] : Fin 2 → IVec S16 32) a x).toNat < S160x142.size a)
theorem k0_idx3038_inb : ∀ (i : grid0.Coords) (k0_t2 : Fin k0_t2_loop.trips) (v4308 : IVec S16 32) (v4326 : IVec S16 32) (k0_hw1767 : k0_chk1767 i k0_t2 v4308 v4326), ∀ (k0_h1 : k0_cond1 i k0_t2 = 1#1), ∀ a x, ((![v4326, v4308] : Fin 2 → IVec S16 32) a x).toNat < S160x142.size a := fun i k0_t2 v4308 v4326 k0_hw1767 k0_h1 => k0_hw1767 k0_h1

def k0_chk1768 (i : grid0.Coords) (k0_t2 : Fin k0_t2_loop.trips) (v4308 : IVec S16 32) (v4329 : IVec S16 32) : Prop :=
  (∀ (k0_h1 : k0_cond1 i k0_t2 = 1#1), ∀ a x, ((![v4329, v4308] : Fin 2 → IVec S16 32) a x).toNat < S160x142.size a)
theorem k0_idx3040_inb : ∀ (i : grid0.Coords) (k0_t2 : Fin k0_t2_loop.trips) (v4308 : IVec S16 32) (v4329 : IVec S16 32) (k0_hw1768 : k0_chk1768 i k0_t2 v4308 v4329), ∀ (k0_h1 : k0_cond1 i k0_t2 = 1#1), ∀ a x, ((![v4329, v4308] : Fin 2 → IVec S16 32) a x).toNat < S160x142.size a := fun i k0_t2 v4308 v4329 k0_hw1768 k0_h1 => k0_hw1768 k0_h1

def k0_chk1769 (i : grid0.Coords) (k0_t2 : Fin k0_t2_loop.trips) (v4308 : IVec S16 32) (v4332 : IVec S16 32) : Prop :=
  (∀ (k0_h1 : k0_cond1 i k0_t2 = 1#1), ∀ a x, ((![v4332, v4308] : Fin 2 → IVec S16 32) a x).toNat < S160x142.size a)
theorem k0_idx3042_inb : ∀ (i : grid0.Coords) (k0_t2 : Fin k0_t2_loop.trips) (v4308 : IVec S16 32) (v4332 : IVec S16 32) (k0_hw1769 : k0_chk1769 i k0_t2 v4308 v4332), ∀ (k0_h1 : k0_cond1 i k0_t2 = 1#1), ∀ a x, ((![v4332, v4308] : Fin 2 → IVec S16 32) a x).toNat < S160x142.size a := fun i k0_t2 v4308 v4332 k0_hw1769 k0_h1 => k0_hw1769 k0_h1

def k0_chk1770 (i : grid0.Coords) (k0_t2 : Fin k0_t2_loop.trips) (v4308 : IVec S16 32) (v4335 : IVec S16 32) : Prop :=
  (∀ (k0_h1 : k0_cond1 i k0_t2 = 1#1), ∀ a x, ((![v4335, v4308] : Fin 2 → IVec S16 32) a x).toNat < S160x142.size a)
theorem k0_idx3044_inb : ∀ (i : grid0.Coords) (k0_t2 : Fin k0_t2_loop.trips) (v4308 : IVec S16 32) (v4335 : IVec S16 32) (k0_hw1770 : k0_chk1770 i k0_t2 v4308 v4335), ∀ (k0_h1 : k0_cond1 i k0_t2 = 1#1), ∀ a x, ((![v4335, v4308] : Fin 2 → IVec S16 32) a x).toNat < S160x142.size a := fun i k0_t2 v4308 v4335 k0_hw1770 k0_h1 => k0_hw1770 k0_h1

def k0_chk1761 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) : Prop :=
  (∀ (k0_h1 : k0_cond1 i k0_t2 = 1#1), ∀ a x, ((![v15, v4308] : Fin 2 → IVec S16 32) a x).toNat < S256x142.size a) ∧
  (∀ (k0_h1 : k0_cond1 i k0_t2 = 1#1), ∀ a x, ((![v20, v4308] : Fin 2 → IVec S16 32) a x).toNat < S256x142.size a) ∧
  (∀ (k0_h1 : k0_cond1 i k0_t2 = 1#1), ∀ a x, ((![v25, v4308] : Fin 2 → IVec S16 32) a x).toNat < S256x142.size a) ∧
  (∀ (k0_h1 : k0_cond1 i k0_t2 = 1#1), ∀ a x, ((![v30, v4308] : Fin 2 → IVec S16 32) a x).toNat < S256x142.size a) ∧
  (∀ (k0_h1 : k0_cond1 i k0_t2 = 1#1), ∀ a x, ((![v35, v4308] : Fin 2 → IVec S16 32) a x).toNat < S256x142.size a) ∧
  (∀ (k0_h1 : k0_cond1 i k0_t2 = 1#1), ∀ a x, ((![v40, v4308] : Fin 2 → IVec S16 32) a x).toNat < S256x142.size a) ∧
  (∀ (k0_h1 : k0_cond1 i k0_t2 = 1#1), ∀ a x, ((![v45, v4308] : Fin 2 → IVec S16 32) a x).toNat < S256x142.size a) ∧
  (∀ (k0_h1 : k0_cond1 i k0_t2 = 1#1), ∀ a x, ((![v50, v4308] : Fin 2 → IVec S16 32) a x).toNat < S256x142.size a) ∧
  (∀ (k0_h1 : k0_cond1 i k0_t2 = 1#1), ∀ a x, ((![v55, v4308] : Fin 2 → IVec S16 32) a x).toNat < S256x142.size a) ∧
  (∀ (k0_h1 : k0_cond1 i k0_t2 = 1#1), ∀ a x, ((![v60, v4308] : Fin 2 → IVec S16 32) a x).toNat < S256x142.size a)
theorem k0_idx3027_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v15, v4308] : Fin 2 → IVec S16 32) a x).toNat < S256x142.size a := fun i k0_t2 v15 v20 v25 v30 v35 v40 v45 v50 v55 v60 v4308 k0_hw1761 k0_h1 => k0_hw1761.1 k0_h1
theorem k0_idx3029_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v20, v4308] : Fin 2 → IVec S16 32) a x).toNat < S256x142.size a := fun i k0_t2 v15 v20 v25 v30 v35 v40 v45 v50 v55 v60 v4308 k0_hw1761 k0_h1 => k0_hw1761.2.1 k0_h1
theorem k0_idx3031_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v25, v4308] : Fin 2 → IVec S16 32) a x).toNat < S256x142.size a := fun i k0_t2 v15 v20 v25 v30 v35 v40 v45 v50 v55 v60 v4308 k0_hw1761 k0_h1 => k0_hw1761.2.2.1 k0_h1
theorem k0_idx3033_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v30, v4308] : Fin 2 → IVec S16 32) a x).toNat < S256x142.size a := fun i k0_t2 v15 v20 v25 v30 v35 v40 v45 v50 v55 v60 v4308 k0_hw1761 k0_h1 => k0_hw1761.2.2.2.1 k0_h1
theorem k0_idx3035_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v35, v4308] : Fin 2 → IVec S16 32) a x).toNat < S256x142.size a := fun i k0_t2 v15 v20 v25 v30 v35 v40 v45 v50 v55 v60 v4308 k0_hw1761 k0_h1 => k0_hw1761.2.2.2.2.1 k0_h1
theorem k0_idx3037_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v40, v4308] : Fin 2 → IVec S16 32) a x).toNat < S256x142.size a := fun i k0_t2 v15 v20 v25 v30 v35 v40 v45 v50 v55 v60 v4308 k0_hw1761 k0_h1 => k0_hw1761.2.2.2.2.2.1 k0_h1
theorem k0_idx3039_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v45, v4308] : Fin 2 → IVec S16 32) a x).toNat < S256x142.size a := fun i k0_t2 v15 v20 v25 v30 v35 v40 v45 v50 v55 v60 v4308 k0_hw1761 k0_h1 => k0_hw1761.2.2.2.2.2.2.1 k0_h1
theorem k0_idx3041_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v50, v4308] : Fin 2 → IVec S16 32) a x).toNat < S256x142.size a := fun i k0_t2 v15 v20 v25 v30 v35 v40 v45 v50 v55 v60 v4308 k0_hw1761 k0_h1 => k0_hw1761.2.2.2.2.2.2.2.1 k0_h1
theorem k0_idx3043_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v55, v4308] : Fin 2 → IVec S16 32) a x).toNat < S256x142.size a := fun i k0_t2 v15 v20 v25 v30 v35 v40 v45 v50 v55 v60 v4308 k0_hw1761 k0_h1 => k0_hw1761.2.2.2.2.2.2.2.2.1 k0_h1
theorem k0_idx3045_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4308 : IVec S16 32) (k0_hw1761 : k0_chk1761 i k0_t2 v15 v20 v25 v30 v35 v40 v45 v50 v55 v60 v4308), ∀ (k0_h1 : k0_cond1 i k0_t2 = 1#1), ∀ a x, ((![v60, v4308] : Fin 2 → IVec S16 32) a x).toNat < S256x142.size a := fun i k0_t2 v15 v20 v25 v30 v35 v40 v45 v50 v55 v60 v4308 k0_hw1761 k0_h1 => k0_hw1761.2.2.2.2.2.2.2.2.2 k0_h1

def k0_chk1771 (i : grid0.Coords) (k0_t2 : Fin k0_t2_loop.trips) (v4308 : IVec S16 32) (v4338 : IVec S16 32) : Prop :=
  (∀ (k0_h1 : k0_cond1 i k0_t2 = 1#1), ∀ a x, ((![v4338, v4308] : Fin 2 → IVec S16 32) a x).toNat < S160x142.size a)
theorem k0_idx3046_inb : ∀ (i : grid0.Coords) (k0_t2 : Fin k0_t2_loop.trips) (v4308 : IVec S16 32) (v4338 : IVec S16 32) (k0_hw1771 : k0_chk1771 i k0_t2 v4308 v4338), ∀ (k0_h1 : k0_cond1 i k0_t2 = 1#1), ∀ a x, ((![v4338, v4308] : Fin 2 → IVec S16 32) a x).toNat < S160x142.size a := fun i k0_t2 v4308 v4338 k0_hw1771 k0_h1 => k0_hw1771 k0_h1

def k0_chk1773 (i : grid0.Coords) (k0_t2 : Fin k0_t2_loop.trips) (v4339 : IVec S16 32) (v4342 : IVec S16 32) : Prop :=
  (∀ (k0_h1 : k0_cond1 i k0_t2 = 1#1), ∀ a x, ((![v4342, v4339] : Fin 2 → IVec S16 32) a x).toNat < S160x142.size a)
theorem k0_idx3048_inb : ∀ (i : grid0.Coords) (k0_t2 : Fin k0_t2_loop.trips) (v4339 : IVec S16 32) (v4342 : IVec S16 32) (k0_hw1773 : k0_chk1773 i k0_t2 v4339 v4342), ∀ (k0_h1 : k0_cond1 i k0_t2 = 1#1), ∀ a x, ((![v4342, v4339] : Fin 2 → IVec S16 32) a x).toNat < S160x142.size a := fun i k0_t2 v4339 v4342 k0_hw1773 k0_h1 => k0_hw1773 k0_h1

def k0_chk1774 (i : grid0.Coords) (k0_t2 : Fin k0_t2_loop.trips) (v4339 : IVec S16 32) (v4345 : IVec S16 32) : Prop :=
  (∀ (k0_h1 : k0_cond1 i k0_t2 = 1#1), ∀ a x, ((![v4345, v4339] : Fin 2 → IVec S16 32) a x).toNat < S160x142.size a)
theorem k0_idx3050_inb : ∀ (i : grid0.Coords) (k0_t2 : Fin k0_t2_loop.trips) (v4339 : IVec S16 32) (v4345 : IVec S16 32) (k0_hw1774 : k0_chk1774 i k0_t2 v4339 v4345), ∀ (k0_h1 : k0_cond1 i k0_t2 = 1#1), ∀ a x, ((![v4345, v4339] : Fin 2 → IVec S16 32) a x).toNat < S160x142.size a := fun i k0_t2 v4339 v4345 k0_hw1774 k0_h1 => k0_hw1774 k0_h1

def k0_chk1775 (i : grid0.Coords) (k0_t2 : Fin k0_t2_loop.trips) (v4339 : IVec S16 32) (v4348 : IVec S16 32) : Prop :=
  (∀ (k0_h1 : k0_cond1 i k0_t2 = 1#1), ∀ a x, ((![v4348, v4339] : Fin 2 → IVec S16 32) a x).toNat < S160x142.size a)
theorem k0_idx3052_inb : ∀ (i : grid0.Coords) (k0_t2 : Fin k0_t2_loop.trips) (v4339 : IVec S16 32) (v4348 : IVec S16 32) (k0_hw1775 : k0_chk1775 i k0_t2 v4339 v4348), ∀ (k0_h1 : k0_cond1 i k0_t2 = 1#1), ∀ a x, ((![v4348, v4339] : Fin 2 → IVec S16 32) a x).toNat < S160x142.size a := fun i k0_t2 v4339 v4348 k0_hw1775 k0_h1 => k0_hw1775 k0_h1

def k0_chk1776 (i : grid0.Coords) (k0_t2 : Fin k0_t2_loop.trips) (v4339 : IVec S16 32) (v4351 : IVec S16 32) : Prop :=
  (∀ (k0_h1 : k0_cond1 i k0_t2 = 1#1), ∀ a x, ((![v4351, v4339] : Fin 2 → IVec S16 32) a x).toNat < S160x142.size a)
theorem k0_idx3054_inb : ∀ (i : grid0.Coords) (k0_t2 : Fin k0_t2_loop.trips) (v4339 : IVec S16 32) (v4351 : IVec S16 32) (k0_hw1776 : k0_chk1776 i k0_t2 v4339 v4351), ∀ (k0_h1 : k0_cond1 i k0_t2 = 1#1), ∀ a x, ((![v4351, v4339] : Fin 2 → IVec S16 32) a x).toNat < S160x142.size a := fun i k0_t2 v4339 v4351 k0_hw1776 k0_h1 => k0_hw1776 k0_h1

def k0_chk1777 (i : grid0.Coords) (k0_t2 : Fin k0_t2_loop.trips) (v4339 : IVec S16 32) (v4354 : IVec S16 32) : Prop :=
  (∀ (k0_h1 : k0_cond1 i k0_t2 = 1#1), ∀ a x, ((![v4354, v4339] : Fin 2 → IVec S16 32) a x).toNat < S160x142.size a)
theorem k0_idx3056_inb : ∀ (i : grid0.Coords) (k0_t2 : Fin k0_t2_loop.trips) (v4339 : IVec S16 32) (v4354 : IVec S16 32) (k0_hw1777 : k0_chk1777 i k0_t2 v4339 v4354), ∀ (k0_h1 : k0_cond1 i k0_t2 = 1#1), ∀ a x, ((![v4354, v4339] : Fin 2 → IVec S16 32) a x).toNat < S160x142.size a := fun i k0_t2 v4339 v4354 k0_hw1777 k0_h1 => k0_hw1777 k0_h1

def k0_chk1778 (i : grid0.Coords) (k0_t2 : Fin k0_t2_loop.trips) (v4339 : IVec S16 32) (v4357 : IVec S16 32) : Prop :=
  (∀ (k0_h1 : k0_cond1 i k0_t2 = 1#1), ∀ a x, ((![v4357, v4339] : Fin 2 → IVec S16 32) a x).toNat < S160x142.size a)
theorem k0_idx3058_inb : ∀ (i : grid0.Coords) (k0_t2 : Fin k0_t2_loop.trips) (v4339 : IVec S16 32) (v4357 : IVec S16 32) (k0_hw1778 : k0_chk1778 i k0_t2 v4339 v4357), ∀ (k0_h1 : k0_cond1 i k0_t2 = 1#1), ∀ a x, ((![v4357, v4339] : Fin 2 → IVec S16 32) a x).toNat < S160x142.size a := fun i k0_t2 v4339 v4357 k0_hw1778 k0_h1 => k0_hw1778 k0_h1

def k0_chk1779 (i : grid0.Coords) (k0_t2 : Fin k0_t2_loop.trips) (v4339 : IVec S16 32) (v4360 : IVec S16 32) : Prop :=
  (∀ (k0_h1 : k0_cond1 i k0_t2 = 1#1), ∀ a x, ((![v4360, v4339] : Fin 2 → IVec S16 32) a x).toNat < S160x142.size a)
theorem k0_idx3060_inb : ∀ (i : grid0.Coords) (k0_t2 : Fin k0_t2_loop.trips) (v4339 : IVec S16 32) (v4360 : IVec S16 32) (k0_hw1779 : k0_chk1779 i k0_t2 v4339 v4360), ∀ (k0_h1 : k0_cond1 i k0_t2 = 1#1), ∀ a x, ((![v4360, v4339] : Fin 2 → IVec S16 32) a x).toNat < S160x142.size a := fun i k0_t2 v4339 v4360 k0_hw1779 k0_h1 => k0_hw1779 k0_h1

def k0_chk1780 (i : grid0.Coords) (k0_t2 : Fin k0_t2_loop.trips) (v4339 : IVec S16 32) (v4363 : IVec S16 32) : Prop :=
  (∀ (k0_h1 : k0_cond1 i k0_t2 = 1#1), ∀ a x, ((![v4363, v4339] : Fin 2 → IVec S16 32) a x).toNat < S160x142.size a)
theorem k0_idx3062_inb : ∀ (i : grid0.Coords) (k0_t2 : Fin k0_t2_loop.trips) (v4339 : IVec S16 32) (v4363 : IVec S16 32) (k0_hw1780 : k0_chk1780 i k0_t2 v4339 v4363), ∀ (k0_h1 : k0_cond1 i k0_t2 = 1#1), ∀ a x, ((![v4363, v4339] : Fin 2 → IVec S16 32) a x).toNat < S160x142.size a := fun i k0_t2 v4339 v4363 k0_hw1780 k0_h1 => k0_hw1780 k0_h1

def k0_chk1781 (i : grid0.Coords) (k0_t2 : Fin k0_t2_loop.trips) (v4339 : IVec S16 32) (v4366 : IVec S16 32) : Prop :=
  (∀ (k0_h1 : k0_cond1 i k0_t2 = 1#1), ∀ a x, ((![v4366, v4339] : Fin 2 → IVec S16 32) a x).toNat < S160x142.size a)
theorem k0_idx3064_inb : ∀ (i : grid0.Coords) (k0_t2 : Fin k0_t2_loop.trips) (v4339 : IVec S16 32) (v4366 : IVec S16 32) (k0_hw1781 : k0_chk1781 i k0_t2 v4339 v4366), ∀ (k0_h1 : k0_cond1 i k0_t2 = 1#1), ∀ a x, ((![v4366, v4339] : Fin 2 → IVec S16 32) a x).toNat < S160x142.size a := fun i k0_t2 v4339 v4366 k0_hw1781 k0_h1 => k0_hw1781 k0_h1

def k0_chk1772 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) : Prop :=
  (∀ (k0_h1 : k0_cond1 i k0_t2 = 1#1), ∀ a x, ((![v15, v4339] : Fin 2 → IVec S16 32) a x).toNat < S256x142.size a) ∧
  (∀ (k0_h1 : k0_cond1 i k0_t2 = 1#1), ∀ a x, ((![v20, v4339] : Fin 2 → IVec S16 32) a x).toNat < S256x142.size a) ∧
  (∀ (k0_h1 : k0_cond1 i k0_t2 = 1#1), ∀ a x, ((![v25, v4339] : Fin 2 → IVec S16 32) a x).toNat < S256x142.size a) ∧
  (∀ (k0_h1 : k0_cond1 i k0_t2 = 1#1), ∀ a x, ((![v30, v4339] : Fin 2 → IVec S16 32) a x).toNat < S256x142.size a) ∧
  (∀ (k0_h1 : k0_cond1 i k0_t2 = 1#1), ∀ a x, ((![v35, v4339] : Fin 2 → IVec S16 32) a x).toNat < S256x142.size a) ∧
  (∀ (k0_h1 : k0_cond1 i k0_t2 = 1#1), ∀ a x, ((![v40, v4339] : Fin 2 → IVec S16 32) a x).toNat < S256x142.size a) ∧
  (∀ (k0_h1 : k0_cond1 i k0_t2 = 1#1), ∀ a x, ((![v45, v4339] : Fin 2 → IVec S16 32) a x).toNat < S256x142.size a) ∧
  (∀ (k0_h1 : k0_cond1 i k0_t2 = 1#1), ∀ a x, ((![v50, v4339] : Fin 2 → IVec S16 32) a x).toNat < S256x142.size a) ∧
  (∀ (k0_h1 : k0_cond1 i k0_t2 = 1#1), ∀ a x, ((![v55, v4339] : Fin 2 → IVec S16 32) a x).toNat < S256x142.size a) ∧
  (∀ (k0_h1 : k0_cond1 i k0_t2 = 1#1), ∀ a x, ((![v60, v4339] : Fin 2 → IVec S16 32) a x).toNat < S256x142.size a)
theorem k0_idx3047_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v15, v4339] : Fin 2 → IVec S16 32) a x).toNat < S256x142.size a := fun i k0_t2 v15 v20 v25 v30 v35 v40 v45 v50 v55 v60 v4339 k0_hw1772 k0_h1 => k0_hw1772.1 k0_h1
theorem k0_idx3049_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v20, v4339] : Fin 2 → IVec S16 32) a x).toNat < S256x142.size a := fun i k0_t2 v15 v20 v25 v30 v35 v40 v45 v50 v55 v60 v4339 k0_hw1772 k0_h1 => k0_hw1772.2.1 k0_h1
theorem k0_idx3051_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v25, v4339] : Fin 2 → IVec S16 32) a x).toNat < S256x142.size a := fun i k0_t2 v15 v20 v25 v30 v35 v40 v45 v50 v55 v60 v4339 k0_hw1772 k0_h1 => k0_hw1772.2.2.1 k0_h1
theorem k0_idx3053_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v30, v4339] : Fin 2 → IVec S16 32) a x).toNat < S256x142.size a := fun i k0_t2 v15 v20 v25 v30 v35 v40 v45 v50 v55 v60 v4339 k0_hw1772 k0_h1 => k0_hw1772.2.2.2.1 k0_h1
theorem k0_idx3055_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v35, v4339] : Fin 2 → IVec S16 32) a x).toNat < S256x142.size a := fun i k0_t2 v15 v20 v25 v30 v35 v40 v45 v50 v55 v60 v4339 k0_hw1772 k0_h1 => k0_hw1772.2.2.2.2.1 k0_h1
theorem k0_idx3057_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v40, v4339] : Fin 2 → IVec S16 32) a x).toNat < S256x142.size a := fun i k0_t2 v15 v20 v25 v30 v35 v40 v45 v50 v55 v60 v4339 k0_hw1772 k0_h1 => k0_hw1772.2.2.2.2.2.1 k0_h1
theorem k0_idx3059_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v45, v4339] : Fin 2 → IVec S16 32) a x).toNat < S256x142.size a := fun i k0_t2 v15 v20 v25 v30 v35 v40 v45 v50 v55 v60 v4339 k0_hw1772 k0_h1 => k0_hw1772.2.2.2.2.2.2.1 k0_h1
theorem k0_idx3061_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v50, v4339] : Fin 2 → IVec S16 32) a x).toNat < S256x142.size a := fun i k0_t2 v15 v20 v25 v30 v35 v40 v45 v50 v55 v60 v4339 k0_hw1772 k0_h1 => k0_hw1772.2.2.2.2.2.2.2.1 k0_h1
theorem k0_idx3063_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v55, v4339] : Fin 2 → IVec S16 32) a x).toNat < S256x142.size a := fun i k0_t2 v15 v20 v25 v30 v35 v40 v45 v50 v55 v60 v4339 k0_hw1772 k0_h1 => k0_hw1772.2.2.2.2.2.2.2.2.1 k0_h1
theorem k0_idx3065_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4339 : IVec S16 32) (k0_hw1772 : k0_chk1772 i k0_t2 v15 v20 v25 v30 v35 v40 v45 v50 v55 v60 v4339), ∀ (k0_h1 : k0_cond1 i k0_t2 = 1#1), ∀ a x, ((![v60, v4339] : Fin 2 → IVec S16 32) a x).toNat < S256x142.size a := fun i k0_t2 v15 v20 v25 v30 v35 v40 v45 v50 v55 v60 v4339 k0_hw1772 k0_h1 => k0_hw1772.2.2.2.2.2.2.2.2.2 k0_h1

def k0_chk1782 (i : grid0.Coords) (k0_t2 : Fin k0_t2_loop.trips) (v4339 : IVec S16 32) (v4369 : IVec S16 32) : Prop :=
  (∀ (k0_h1 : k0_cond1 i k0_t2 = 1#1), ∀ a x, ((![v4369, v4339] : Fin 2 → IVec S16 32) a x).toNat < S160x142.size a)
theorem k0_idx3066_inb : ∀ (i : grid0.Coords) (k0_t2 : Fin k0_t2_loop.trips) (v4339 : IVec S16 32) (v4369 : IVec S16 32) (k0_hw1782 : k0_chk1782 i k0_t2 v4339 v4369), ∀ (k0_h1 : k0_cond1 i k0_t2 = 1#1), ∀ a x, ((![v4369, v4339] : Fin 2 → IVec S16 32) a x).toNat < S160x142.size a := fun i k0_t2 v4339 v4369 k0_hw1782 k0_h1 => k0_hw1782 k0_h1

def k0_chk1784 (i : grid0.Coords) (k0_t2 : Fin k0_t2_loop.trips) (v4370 : IVec S16 32) (v4373 : IVec S16 32) : Prop :=
  (∀ (k0_h1 : k0_cond1 i k0_t2 = 1#1), ∀ a x, ((![v4373, v4370] : Fin 2 → IVec S16 32) a x).toNat < S160x142.size a)
theorem k0_idx3068_inb : ∀ (i : grid0.Coords) (k0_t2 : Fin k0_t2_loop.trips) (v4370 : IVec S16 32) (v4373 : IVec S16 32) (k0_hw1784 : k0_chk1784 i k0_t2 v4370 v4373), ∀ (k0_h1 : k0_cond1 i k0_t2 = 1#1), ∀ a x, ((![v4373, v4370] : Fin 2 → IVec S16 32) a x).toNat < S160x142.size a := fun i k0_t2 v4370 v4373 k0_hw1784 k0_h1 => k0_hw1784 k0_h1

def k0_chk1785 (i : grid0.Coords) (k0_t2 : Fin k0_t2_loop.trips) (v4370 : IVec S16 32) (v4376 : IVec S16 32) : Prop :=
  (∀ (k0_h1 : k0_cond1 i k0_t2 = 1#1), ∀ a x, ((![v4376, v4370] : Fin 2 → IVec S16 32) a x).toNat < S160x142.size a)
theorem k0_idx3070_inb : ∀ (i : grid0.Coords) (k0_t2 : Fin k0_t2_loop.trips) (v4370 : IVec S16 32) (v4376 : IVec S16 32) (k0_hw1785 : k0_chk1785 i k0_t2 v4370 v4376), ∀ (k0_h1 : k0_cond1 i k0_t2 = 1#1), ∀ a x, ((![v4376, v4370] : Fin 2 → IVec S16 32) a x).toNat < S160x142.size a := fun i k0_t2 v4370 v4376 k0_hw1785 k0_h1 => k0_hw1785 k0_h1

def k0_chk1786 (i : grid0.Coords) (k0_t2 : Fin k0_t2_loop.trips) (v4370 : IVec S16 32) (v4379 : IVec S16 32) : Prop :=
  (∀ (k0_h1 : k0_cond1 i k0_t2 = 1#1), ∀ a x, ((![v4379, v4370] : Fin 2 → IVec S16 32) a x).toNat < S160x142.size a)
theorem k0_idx3072_inb : ∀ (i : grid0.Coords) (k0_t2 : Fin k0_t2_loop.trips) (v4370 : IVec S16 32) (v4379 : IVec S16 32) (k0_hw1786 : k0_chk1786 i k0_t2 v4370 v4379), ∀ (k0_h1 : k0_cond1 i k0_t2 = 1#1), ∀ a x, ((![v4379, v4370] : Fin 2 → IVec S16 32) a x).toNat < S160x142.size a := fun i k0_t2 v4370 v4379 k0_hw1786 k0_h1 => k0_hw1786 k0_h1

def k0_chk1787 (i : grid0.Coords) (k0_t2 : Fin k0_t2_loop.trips) (v4370 : IVec S16 32) (v4382 : IVec S16 32) : Prop :=
  (∀ (k0_h1 : k0_cond1 i k0_t2 = 1#1), ∀ a x, ((![v4382, v4370] : Fin 2 → IVec S16 32) a x).toNat < S160x142.size a)
theorem k0_idx3074_inb : ∀ (i : grid0.Coords) (k0_t2 : Fin k0_t2_loop.trips) (v4370 : IVec S16 32) (v4382 : IVec S16 32) (k0_hw1787 : k0_chk1787 i k0_t2 v4370 v4382), ∀ (k0_h1 : k0_cond1 i k0_t2 = 1#1), ∀ a x, ((![v4382, v4370] : Fin 2 → IVec S16 32) a x).toNat < S160x142.size a := fun i k0_t2 v4370 v4382 k0_hw1787 k0_h1 => k0_hw1787 k0_h1

def k0_chk1788 (i : grid0.Coords) (k0_t2 : Fin k0_t2_loop.trips) (v4370 : IVec S16 32) (v4385 : IVec S16 32) : Prop :=
  (∀ (k0_h1 : k0_cond1 i k0_t2 = 1#1), ∀ a x, ((![v4385, v4370] : Fin 2 → IVec S16 32) a x).toNat < S160x142.size a)
theorem k0_idx3076_inb : ∀ (i : grid0.Coords) (k0_t2 : Fin k0_t2_loop.trips) (v4370 : IVec S16 32) (v4385 : IVec S16 32) (k0_hw1788 : k0_chk1788 i k0_t2 v4370 v4385), ∀ (k0_h1 : k0_cond1 i k0_t2 = 1#1), ∀ a x, ((![v4385, v4370] : Fin 2 → IVec S16 32) a x).toNat < S160x142.size a := fun i k0_t2 v4370 v4385 k0_hw1788 k0_h1 => k0_hw1788 k0_h1

def k0_chk1789 (i : grid0.Coords) (k0_t2 : Fin k0_t2_loop.trips) (v4370 : IVec S16 32) (v4388 : IVec S16 32) : Prop :=
  (∀ (k0_h1 : k0_cond1 i k0_t2 = 1#1), ∀ a x, ((![v4388, v4370] : Fin 2 → IVec S16 32) a x).toNat < S160x142.size a)
theorem k0_idx3078_inb : ∀ (i : grid0.Coords) (k0_t2 : Fin k0_t2_loop.trips) (v4370 : IVec S16 32) (v4388 : IVec S16 32) (k0_hw1789 : k0_chk1789 i k0_t2 v4370 v4388), ∀ (k0_h1 : k0_cond1 i k0_t2 = 1#1), ∀ a x, ((![v4388, v4370] : Fin 2 → IVec S16 32) a x).toNat < S160x142.size a := fun i k0_t2 v4370 v4388 k0_hw1789 k0_h1 => k0_hw1789 k0_h1

def k0_chk1790 (i : grid0.Coords) (k0_t2 : Fin k0_t2_loop.trips) (v4370 : IVec S16 32) (v4391 : IVec S16 32) : Prop :=
  (∀ (k0_h1 : k0_cond1 i k0_t2 = 1#1), ∀ a x, ((![v4391, v4370] : Fin 2 → IVec S16 32) a x).toNat < S160x142.size a)
theorem k0_idx3080_inb : ∀ (i : grid0.Coords) (k0_t2 : Fin k0_t2_loop.trips) (v4370 : IVec S16 32) (v4391 : IVec S16 32) (k0_hw1790 : k0_chk1790 i k0_t2 v4370 v4391), ∀ (k0_h1 : k0_cond1 i k0_t2 = 1#1), ∀ a x, ((![v4391, v4370] : Fin 2 → IVec S16 32) a x).toNat < S160x142.size a := fun i k0_t2 v4370 v4391 k0_hw1790 k0_h1 => k0_hw1790 k0_h1

def k0_chk1791 (i : grid0.Coords) (k0_t2 : Fin k0_t2_loop.trips) (v4370 : IVec S16 32) (v4394 : IVec S16 32) : Prop :=
  (∀ (k0_h1 : k0_cond1 i k0_t2 = 1#1), ∀ a x, ((![v4394, v4370] : Fin 2 → IVec S16 32) a x).toNat < S160x142.size a)
theorem k0_idx3082_inb : ∀ (i : grid0.Coords) (k0_t2 : Fin k0_t2_loop.trips) (v4370 : IVec S16 32) (v4394 : IVec S16 32) (k0_hw1791 : k0_chk1791 i k0_t2 v4370 v4394), ∀ (k0_h1 : k0_cond1 i k0_t2 = 1#1), ∀ a x, ((![v4394, v4370] : Fin 2 → IVec S16 32) a x).toNat < S160x142.size a := fun i k0_t2 v4370 v4394 k0_hw1791 k0_h1 => k0_hw1791 k0_h1

def k0_chk1792 (i : grid0.Coords) (k0_t2 : Fin k0_t2_loop.trips) (v4370 : IVec S16 32) (v4397 : IVec S16 32) : Prop :=
  (∀ (k0_h1 : k0_cond1 i k0_t2 = 1#1), ∀ a x, ((![v4397, v4370] : Fin 2 → IVec S16 32) a x).toNat < S160x142.size a)
theorem k0_idx3084_inb : ∀ (i : grid0.Coords) (k0_t2 : Fin k0_t2_loop.trips) (v4370 : IVec S16 32) (v4397 : IVec S16 32) (k0_hw1792 : k0_chk1792 i k0_t2 v4370 v4397), ∀ (k0_h1 : k0_cond1 i k0_t2 = 1#1), ∀ a x, ((![v4397, v4370] : Fin 2 → IVec S16 32) a x).toNat < S160x142.size a := fun i k0_t2 v4370 v4397 k0_hw1792 k0_h1 => k0_hw1792 k0_h1

def k0_chk1783 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) : Prop :=
  (∀ (k0_h1 : k0_cond1 i k0_t2 = 1#1), ∀ a x, ((![v15, v4370] : Fin 2 → IVec S16 32) a x).toNat < S256x142.size a) ∧
  (∀ (k0_h1 : k0_cond1 i k0_t2 = 1#1), ∀ a x, ((![v20, v4370] : Fin 2 → IVec S16 32) a x).toNat < S256x142.size a) ∧
  (∀ (k0_h1 : k0_cond1 i k0_t2 = 1#1), ∀ a x, ((![v25, v4370] : Fin 2 → IVec S16 32) a x).toNat < S256x142.size a) ∧
  (∀ (k0_h1 : k0_cond1 i k0_t2 = 1#1), ∀ a x, ((![v30, v4370] : Fin 2 → IVec S16 32) a x).toNat < S256x142.size a) ∧
  (∀ (k0_h1 : k0_cond1 i k0_t2 = 1#1), ∀ a x, ((![v35, v4370] : Fin 2 → IVec S16 32) a x).toNat < S256x142.size a) ∧
  (∀ (k0_h1 : k0_cond1 i k0_t2 = 1#1), ∀ a x, ((![v40, v4370] : Fin 2 → IVec S16 32) a x).toNat < S256x142.size a) ∧
  (∀ (k0_h1 : k0_cond1 i k0_t2 = 1#1), ∀ a x, ((![v45, v4370] : Fin 2 → IVec S16 32) a x).toNat < S256x142.size a) ∧
  (∀ (k0_h1 : k0_cond1 i k0_t2 = 1#1), ∀ a x, ((![v50, v4370] : Fin 2 → IVec S16 32) a x).toNat < S256x142.size a) ∧
  (∀ (k0_h1 : k0_cond1 i k0_t2 = 1#1), ∀ a x, ((![v55, v4370] : Fin 2 → IVec S16 32) a x).toNat < S256x142.size a) ∧
  (∀ (k0_h1 : k0_cond1 i k0_t2 = 1#1), ∀ a x, ((![v60, v4370] : Fin 2 → IVec S16 32) a x).toNat < S256x142.size a)
theorem k0_idx3067_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v15, v4370] : Fin 2 → IVec S16 32) a x).toNat < S256x142.size a := fun i k0_t2 v15 v20 v25 v30 v35 v40 v45 v50 v55 v60 v4370 k0_hw1783 k0_h1 => k0_hw1783.1 k0_h1
theorem k0_idx3069_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v20, v4370] : Fin 2 → IVec S16 32) a x).toNat < S256x142.size a := fun i k0_t2 v15 v20 v25 v30 v35 v40 v45 v50 v55 v60 v4370 k0_hw1783 k0_h1 => k0_hw1783.2.1 k0_h1
theorem k0_idx3071_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v25, v4370] : Fin 2 → IVec S16 32) a x).toNat < S256x142.size a := fun i k0_t2 v15 v20 v25 v30 v35 v40 v45 v50 v55 v60 v4370 k0_hw1783 k0_h1 => k0_hw1783.2.2.1 k0_h1
theorem k0_idx3073_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v30, v4370] : Fin 2 → IVec S16 32) a x).toNat < S256x142.size a := fun i k0_t2 v15 v20 v25 v30 v35 v40 v45 v50 v55 v60 v4370 k0_hw1783 k0_h1 => k0_hw1783.2.2.2.1 k0_h1
theorem k0_idx3075_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v35, v4370] : Fin 2 → IVec S16 32) a x).toNat < S256x142.size a := fun i k0_t2 v15 v20 v25 v30 v35 v40 v45 v50 v55 v60 v4370 k0_hw1783 k0_h1 => k0_hw1783.2.2.2.2.1 k0_h1
theorem k0_idx3077_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v40, v4370] : Fin 2 → IVec S16 32) a x).toNat < S256x142.size a := fun i k0_t2 v15 v20 v25 v30 v35 v40 v45 v50 v55 v60 v4370 k0_hw1783 k0_h1 => k0_hw1783.2.2.2.2.2.1 k0_h1
theorem k0_idx3079_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v45, v4370] : Fin 2 → IVec S16 32) a x).toNat < S256x142.size a := fun i k0_t2 v15 v20 v25 v30 v35 v40 v45 v50 v55 v60 v4370 k0_hw1783 k0_h1 => k0_hw1783.2.2.2.2.2.2.1 k0_h1
theorem k0_idx3081_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v50, v4370] : Fin 2 → IVec S16 32) a x).toNat < S256x142.size a := fun i k0_t2 v15 v20 v25 v30 v35 v40 v45 v50 v55 v60 v4370 k0_hw1783 k0_h1 => k0_hw1783.2.2.2.2.2.2.2.1 k0_h1
theorem k0_idx3083_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v55, v4370] : Fin 2 → IVec S16 32) a x).toNat < S256x142.size a := fun i k0_t2 v15 v20 v25 v30 v35 v40 v45 v50 v55 v60 v4370 k0_hw1783 k0_h1 => k0_hw1783.2.2.2.2.2.2.2.2.1 k0_h1
theorem k0_idx3085_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4370 : IVec S16 32) (k0_hw1783 : k0_chk1783 i k0_t2 v15 v20 v25 v30 v35 v40 v45 v50 v55 v60 v4370), ∀ (k0_h1 : k0_cond1 i k0_t2 = 1#1), ∀ a x, ((![v60, v4370] : Fin 2 → IVec S16 32) a x).toNat < S256x142.size a := fun i k0_t2 v15 v20 v25 v30 v35 v40 v45 v50 v55 v60 v4370 k0_hw1783 k0_h1 => k0_hw1783.2.2.2.2.2.2.2.2.2 k0_h1

def k0_chk1793 (i : grid0.Coords) (k0_t2 : Fin k0_t2_loop.trips) (v4370 : IVec S16 32) (v4400 : IVec S16 32) : Prop :=
  (∀ (k0_h1 : k0_cond1 i k0_t2 = 1#1), ∀ a x, ((![v4400, v4370] : Fin 2 → IVec S16 32) a x).toNat < S160x142.size a)
theorem k0_idx3086_inb : ∀ (i : grid0.Coords) (k0_t2 : Fin k0_t2_loop.trips) (v4370 : IVec S16 32) (v4400 : IVec S16 32) (k0_hw1793 : k0_chk1793 i k0_t2 v4370 v4400), ∀ (k0_h1 : k0_cond1 i k0_t2 = 1#1), ∀ a x, ((![v4400, v4370] : Fin 2 → IVec S16 32) a x).toNat < S160x142.size a := fun i k0_t2 v4370 v4400 k0_hw1793 k0_h1 => k0_hw1793 k0_h1

def k0_chk1795 (i : grid0.Coords) (k0_t2 : Fin k0_t2_loop.trips) (v4401 : IVec S16 32) (v4404 : IVec S16 32) : Prop :=
  (∀ (k0_h1 : k0_cond1 i k0_t2 = 1#1), ∀ a x, ((![v4404, v4401] : Fin 2 → IVec S16 32) a x).toNat < S160x142.size a)
theorem k0_idx3088_inb : ∀ (i : grid0.Coords) (k0_t2 : Fin k0_t2_loop.trips) (v4401 : IVec S16 32) (v4404 : IVec S16 32) (k0_hw1795 : k0_chk1795 i k0_t2 v4401 v4404), ∀ (k0_h1 : k0_cond1 i k0_t2 = 1#1), ∀ a x, ((![v4404, v4401] : Fin 2 → IVec S16 32) a x).toNat < S160x142.size a := fun i k0_t2 v4401 v4404 k0_hw1795 k0_h1 => k0_hw1795 k0_h1

def k0_chk1796 (i : grid0.Coords) (k0_t2 : Fin k0_t2_loop.trips) (v4401 : IVec S16 32) (v4407 : IVec S16 32) : Prop :=
  (∀ (k0_h1 : k0_cond1 i k0_t2 = 1#1), ∀ a x, ((![v4407, v4401] : Fin 2 → IVec S16 32) a x).toNat < S160x142.size a)
theorem k0_idx3090_inb : ∀ (i : grid0.Coords) (k0_t2 : Fin k0_t2_loop.trips) (v4401 : IVec S16 32) (v4407 : IVec S16 32) (k0_hw1796 : k0_chk1796 i k0_t2 v4401 v4407), ∀ (k0_h1 : k0_cond1 i k0_t2 = 1#1), ∀ a x, ((![v4407, v4401] : Fin 2 → IVec S16 32) a x).toNat < S160x142.size a := fun i k0_t2 v4401 v4407 k0_hw1796 k0_h1 => k0_hw1796 k0_h1

def k0_chk1797 (i : grid0.Coords) (k0_t2 : Fin k0_t2_loop.trips) (v4401 : IVec S16 32) (v4410 : IVec S16 32) : Prop :=
  (∀ (k0_h1 : k0_cond1 i k0_t2 = 1#1), ∀ a x, ((![v4410, v4401] : Fin 2 → IVec S16 32) a x).toNat < S160x142.size a)
theorem k0_idx3092_inb : ∀ (i : grid0.Coords) (k0_t2 : Fin k0_t2_loop.trips) (v4401 : IVec S16 32) (v4410 : IVec S16 32) (k0_hw1797 : k0_chk1797 i k0_t2 v4401 v4410), ∀ (k0_h1 : k0_cond1 i k0_t2 = 1#1), ∀ a x, ((![v4410, v4401] : Fin 2 → IVec S16 32) a x).toNat < S160x142.size a := fun i k0_t2 v4401 v4410 k0_hw1797 k0_h1 => k0_hw1797 k0_h1

def k0_chk1798 (i : grid0.Coords) (k0_t2 : Fin k0_t2_loop.trips) (v4401 : IVec S16 32) (v4413 : IVec S16 32) : Prop :=
  (∀ (k0_h1 : k0_cond1 i k0_t2 = 1#1), ∀ a x, ((![v4413, v4401] : Fin 2 → IVec S16 32) a x).toNat < S160x142.size a)
theorem k0_idx3094_inb : ∀ (i : grid0.Coords) (k0_t2 : Fin k0_t2_loop.trips) (v4401 : IVec S16 32) (v4413 : IVec S16 32) (k0_hw1798 : k0_chk1798 i k0_t2 v4401 v4413), ∀ (k0_h1 : k0_cond1 i k0_t2 = 1#1), ∀ a x, ((![v4413, v4401] : Fin 2 → IVec S16 32) a x).toNat < S160x142.size a := fun i k0_t2 v4401 v4413 k0_hw1798 k0_h1 => k0_hw1798 k0_h1

def k0_chk1799 (i : grid0.Coords) (k0_t2 : Fin k0_t2_loop.trips) (v4401 : IVec S16 32) (v4416 : IVec S16 32) : Prop :=
  (∀ (k0_h1 : k0_cond1 i k0_t2 = 1#1), ∀ a x, ((![v4416, v4401] : Fin 2 → IVec S16 32) a x).toNat < S160x142.size a)
theorem k0_idx3096_inb : ∀ (i : grid0.Coords) (k0_t2 : Fin k0_t2_loop.trips) (v4401 : IVec S16 32) (v4416 : IVec S16 32) (k0_hw1799 : k0_chk1799 i k0_t2 v4401 v4416), ∀ (k0_h1 : k0_cond1 i k0_t2 = 1#1), ∀ a x, ((![v4416, v4401] : Fin 2 → IVec S16 32) a x).toNat < S160x142.size a := fun i k0_t2 v4401 v4416 k0_hw1799 k0_h1 => k0_hw1799 k0_h1

def k0_chk1800 (i : grid0.Coords) (k0_t2 : Fin k0_t2_loop.trips) (v4401 : IVec S16 32) (v4419 : IVec S16 32) : Prop :=
  (∀ (k0_h1 : k0_cond1 i k0_t2 = 1#1), ∀ a x, ((![v4419, v4401] : Fin 2 → IVec S16 32) a x).toNat < S160x142.size a)
theorem k0_idx3098_inb : ∀ (i : grid0.Coords) (k0_t2 : Fin k0_t2_loop.trips) (v4401 : IVec S16 32) (v4419 : IVec S16 32) (k0_hw1800 : k0_chk1800 i k0_t2 v4401 v4419), ∀ (k0_h1 : k0_cond1 i k0_t2 = 1#1), ∀ a x, ((![v4419, v4401] : Fin 2 → IVec S16 32) a x).toNat < S160x142.size a := fun i k0_t2 v4401 v4419 k0_hw1800 k0_h1 => k0_hw1800 k0_h1

def k0_chk1801 (i : grid0.Coords) (k0_t2 : Fin k0_t2_loop.trips) (v4401 : IVec S16 32) (v4422 : IVec S16 32) : Prop :=
  (∀ (k0_h1 : k0_cond1 i k0_t2 = 1#1), ∀ a x, ((![v4422, v4401] : Fin 2 → IVec S16 32) a x).toNat < S160x142.size a)
theorem k0_idx3100_inb : ∀ (i : grid0.Coords) (k0_t2 : Fin k0_t2_loop.trips) (v4401 : IVec S16 32) (v4422 : IVec S16 32) (k0_hw1801 : k0_chk1801 i k0_t2 v4401 v4422), ∀ (k0_h1 : k0_cond1 i k0_t2 = 1#1), ∀ a x, ((![v4422, v4401] : Fin 2 → IVec S16 32) a x).toNat < S160x142.size a := fun i k0_t2 v4401 v4422 k0_hw1801 k0_h1 => k0_hw1801 k0_h1

def k0_chk1802 (i : grid0.Coords) (k0_t2 : Fin k0_t2_loop.trips) (v4401 : IVec S16 32) (v4425 : IVec S16 32) : Prop :=
  (∀ (k0_h1 : k0_cond1 i k0_t2 = 1#1), ∀ a x, ((![v4425, v4401] : Fin 2 → IVec S16 32) a x).toNat < S160x142.size a)
theorem k0_idx3102_inb : ∀ (i : grid0.Coords) (k0_t2 : Fin k0_t2_loop.trips) (v4401 : IVec S16 32) (v4425 : IVec S16 32) (k0_hw1802 : k0_chk1802 i k0_t2 v4401 v4425), ∀ (k0_h1 : k0_cond1 i k0_t2 = 1#1), ∀ a x, ((![v4425, v4401] : Fin 2 → IVec S16 32) a x).toNat < S160x142.size a := fun i k0_t2 v4401 v4425 k0_hw1802 k0_h1 => k0_hw1802 k0_h1

def k0_chk1803 (i : grid0.Coords) (k0_t2 : Fin k0_t2_loop.trips) (v4401 : IVec S16 32) (v4428 : IVec S16 32) : Prop :=
  (∀ (k0_h1 : k0_cond1 i k0_t2 = 1#1), ∀ a x, ((![v4428, v4401] : Fin 2 → IVec S16 32) a x).toNat < S160x142.size a)
theorem k0_idx3104_inb : ∀ (i : grid0.Coords) (k0_t2 : Fin k0_t2_loop.trips) (v4401 : IVec S16 32) (v4428 : IVec S16 32) (k0_hw1803 : k0_chk1803 i k0_t2 v4401 v4428), ∀ (k0_h1 : k0_cond1 i k0_t2 = 1#1), ∀ a x, ((![v4428, v4401] : Fin 2 → IVec S16 32) a x).toNat < S160x142.size a := fun i k0_t2 v4401 v4428 k0_hw1803 k0_h1 => k0_hw1803 k0_h1

def k0_chk1794 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) : Prop :=
  (∀ (k0_h1 : k0_cond1 i k0_t2 = 1#1), ∀ a x, ((![v15, v4401] : Fin 2 → IVec S16 32) a x).toNat < S256x142.size a) ∧
  (∀ (k0_h1 : k0_cond1 i k0_t2 = 1#1), ∀ a x, ((![v20, v4401] : Fin 2 → IVec S16 32) a x).toNat < S256x142.size a) ∧
  (∀ (k0_h1 : k0_cond1 i k0_t2 = 1#1), ∀ a x, ((![v25, v4401] : Fin 2 → IVec S16 32) a x).toNat < S256x142.size a) ∧
  (∀ (k0_h1 : k0_cond1 i k0_t2 = 1#1), ∀ a x, ((![v30, v4401] : Fin 2 → IVec S16 32) a x).toNat < S256x142.size a) ∧
  (∀ (k0_h1 : k0_cond1 i k0_t2 = 1#1), ∀ a x, ((![v35, v4401] : Fin 2 → IVec S16 32) a x).toNat < S256x142.size a) ∧
  (∀ (k0_h1 : k0_cond1 i k0_t2 = 1#1), ∀ a x, ((![v40, v4401] : Fin 2 → IVec S16 32) a x).toNat < S256x142.size a) ∧
  (∀ (k0_h1 : k0_cond1 i k0_t2 = 1#1), ∀ a x, ((![v45, v4401] : Fin 2 → IVec S16 32) a x).toNat < S256x142.size a) ∧
  (∀ (k0_h1 : k0_cond1 i k0_t2 = 1#1), ∀ a x, ((![v50, v4401] : Fin 2 → IVec S16 32) a x).toNat < S256x142.size a) ∧
  (∀ (k0_h1 : k0_cond1 i k0_t2 = 1#1), ∀ a x, ((![v55, v4401] : Fin 2 → IVec S16 32) a x).toNat < S256x142.size a) ∧
  (∀ (k0_h1 : k0_cond1 i k0_t2 = 1#1), ∀ a x, ((![v60, v4401] : Fin 2 → IVec S16 32) a x).toNat < S256x142.size a)
theorem k0_idx3087_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v15, v4401] : Fin 2 → IVec S16 32) a x).toNat < S256x142.size a := fun i k0_t2 v15 v20 v25 v30 v35 v40 v45 v50 v55 v60 v4401 k0_hw1794 k0_h1 => k0_hw1794.1 k0_h1
theorem k0_idx3089_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v20, v4401] : Fin 2 → IVec S16 32) a x).toNat < S256x142.size a := fun i k0_t2 v15 v20 v25 v30 v35 v40 v45 v50 v55 v60 v4401 k0_hw1794 k0_h1 => k0_hw1794.2.1 k0_h1
theorem k0_idx3091_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v25, v4401] : Fin 2 → IVec S16 32) a x).toNat < S256x142.size a := fun i k0_t2 v15 v20 v25 v30 v35 v40 v45 v50 v55 v60 v4401 k0_hw1794 k0_h1 => k0_hw1794.2.2.1 k0_h1
theorem k0_idx3093_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v30, v4401] : Fin 2 → IVec S16 32) a x).toNat < S256x142.size a := fun i k0_t2 v15 v20 v25 v30 v35 v40 v45 v50 v55 v60 v4401 k0_hw1794 k0_h1 => k0_hw1794.2.2.2.1 k0_h1
theorem k0_idx3095_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v35, v4401] : Fin 2 → IVec S16 32) a x).toNat < S256x142.size a := fun i k0_t2 v15 v20 v25 v30 v35 v40 v45 v50 v55 v60 v4401 k0_hw1794 k0_h1 => k0_hw1794.2.2.2.2.1 k0_h1
theorem k0_idx3097_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v40, v4401] : Fin 2 → IVec S16 32) a x).toNat < S256x142.size a := fun i k0_t2 v15 v20 v25 v30 v35 v40 v45 v50 v55 v60 v4401 k0_hw1794 k0_h1 => k0_hw1794.2.2.2.2.2.1 k0_h1
theorem k0_idx3099_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v45, v4401] : Fin 2 → IVec S16 32) a x).toNat < S256x142.size a := fun i k0_t2 v15 v20 v25 v30 v35 v40 v45 v50 v55 v60 v4401 k0_hw1794 k0_h1 => k0_hw1794.2.2.2.2.2.2.1 k0_h1
theorem k0_idx3101_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v50, v4401] : Fin 2 → IVec S16 32) a x).toNat < S256x142.size a := fun i k0_t2 v15 v20 v25 v30 v35 v40 v45 v50 v55 v60 v4401 k0_hw1794 k0_h1 => k0_hw1794.2.2.2.2.2.2.2.1 k0_h1
theorem k0_idx3103_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v55, v4401] : Fin 2 → IVec S16 32) a x).toNat < S256x142.size a := fun i k0_t2 v15 v20 v25 v30 v35 v40 v45 v50 v55 v60 v4401 k0_hw1794 k0_h1 => k0_hw1794.2.2.2.2.2.2.2.2.1 k0_h1
theorem k0_idx3105_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4401 : IVec S16 32) (k0_hw1794 : k0_chk1794 i k0_t2 v15 v20 v25 v30 v35 v40 v45 v50 v55 v60 v4401), ∀ (k0_h1 : k0_cond1 i k0_t2 = 1#1), ∀ a x, ((![v60, v4401] : Fin 2 → IVec S16 32) a x).toNat < S256x142.size a := fun i k0_t2 v15 v20 v25 v30 v35 v40 v45 v50 v55 v60 v4401 k0_hw1794 k0_h1 => k0_hw1794.2.2.2.2.2.2.2.2.2 k0_h1

def k0_chk1804 (i : grid0.Coords) (k0_t2 : Fin k0_t2_loop.trips) (v4401 : IVec S16 32) (v4431 : IVec S16 32) : Prop :=
  (∀ (k0_h1 : k0_cond1 i k0_t2 = 1#1), ∀ a x, ((![v4431, v4401] : Fin 2 → IVec S16 32) a x).toNat < S160x142.size a)
theorem k0_idx3106_inb : ∀ (i : grid0.Coords) (k0_t2 : Fin k0_t2_loop.trips) (v4401 : IVec S16 32) (v4431 : IVec S16 32) (k0_hw1804 : k0_chk1804 i k0_t2 v4401 v4431), ∀ (k0_h1 : k0_cond1 i k0_t2 = 1#1), ∀ a x, ((![v4431, v4401] : Fin 2 → IVec S16 32) a x).toNat < S160x142.size a := fun i k0_t2 v4401 v4431 k0_hw1804 k0_h1 => k0_hw1804 k0_h1

def k0_chk1806 (i : grid0.Coords) (k0_t2 : Fin k0_t2_loop.trips) (v4432 : IVec S16 32) (v4435 : IVec S16 32) : Prop :=
  (∀ (k0_h1 : k0_cond1 i k0_t2 = 1#1), ∀ a x, ((![v4435, v4432] : Fin 2 → IVec S16 32) a x).toNat < S160x142.size a)
theorem k0_idx3108_inb : ∀ (i : grid0.Coords) (k0_t2 : Fin k0_t2_loop.trips) (v4432 : IVec S16 32) (v4435 : IVec S16 32) (k0_hw1806 : k0_chk1806 i k0_t2 v4432 v4435), ∀ (k0_h1 : k0_cond1 i k0_t2 = 1#1), ∀ a x, ((![v4435, v4432] : Fin 2 → IVec S16 32) a x).toNat < S160x142.size a := fun i k0_t2 v4432 v4435 k0_hw1806 k0_h1 => k0_hw1806 k0_h1

def k0_chk1807 (i : grid0.Coords) (k0_t2 : Fin k0_t2_loop.trips) (v4432 : IVec S16 32) (v4438 : IVec S16 32) : Prop :=
  (∀ (k0_h1 : k0_cond1 i k0_t2 = 1#1), ∀ a x, ((![v4438, v4432] : Fin 2 → IVec S16 32) a x).toNat < S160x142.size a)
theorem k0_idx3110_inb : ∀ (i : grid0.Coords) (k0_t2 : Fin k0_t2_loop.trips) (v4432 : IVec S16 32) (v4438 : IVec S16 32) (k0_hw1807 : k0_chk1807 i k0_t2 v4432 v4438), ∀ (k0_h1 : k0_cond1 i k0_t2 = 1#1), ∀ a x, ((![v4438, v4432] : Fin 2 → IVec S16 32) a x).toNat < S160x142.size a := fun i k0_t2 v4432 v4438 k0_hw1807 k0_h1 => k0_hw1807 k0_h1

def k0_chk1808 (i : grid0.Coords) (k0_t2 : Fin k0_t2_loop.trips) (v4432 : IVec S16 32) (v4441 : IVec S16 32) : Prop :=
  (∀ (k0_h1 : k0_cond1 i k0_t2 = 1#1), ∀ a x, ((![v4441, v4432] : Fin 2 → IVec S16 32) a x).toNat < S160x142.size a)
theorem k0_idx3112_inb : ∀ (i : grid0.Coords) (k0_t2 : Fin k0_t2_loop.trips) (v4432 : IVec S16 32) (v4441 : IVec S16 32) (k0_hw1808 : k0_chk1808 i k0_t2 v4432 v4441), ∀ (k0_h1 : k0_cond1 i k0_t2 = 1#1), ∀ a x, ((![v4441, v4432] : Fin 2 → IVec S16 32) a x).toNat < S160x142.size a := fun i k0_t2 v4432 v4441 k0_hw1808 k0_h1 => k0_hw1808 k0_h1

def k0_chk1809 (i : grid0.Coords) (k0_t2 : Fin k0_t2_loop.trips) (v4432 : IVec S16 32) (v4444 : IVec S16 32) : Prop :=
  (∀ (k0_h1 : k0_cond1 i k0_t2 = 1#1), ∀ a x, ((![v4444, v4432] : Fin 2 → IVec S16 32) a x).toNat < S160x142.size a)
theorem k0_idx3114_inb : ∀ (i : grid0.Coords) (k0_t2 : Fin k0_t2_loop.trips) (v4432 : IVec S16 32) (v4444 : IVec S16 32) (k0_hw1809 : k0_chk1809 i k0_t2 v4432 v4444), ∀ (k0_h1 : k0_cond1 i k0_t2 = 1#1), ∀ a x, ((![v4444, v4432] : Fin 2 → IVec S16 32) a x).toNat < S160x142.size a := fun i k0_t2 v4432 v4444 k0_hw1809 k0_h1 => k0_hw1809 k0_h1

def k0_chk1810 (i : grid0.Coords) (k0_t2 : Fin k0_t2_loop.trips) (v4432 : IVec S16 32) (v4447 : IVec S16 32) : Prop :=
  (∀ (k0_h1 : k0_cond1 i k0_t2 = 1#1), ∀ a x, ((![v4447, v4432] : Fin 2 → IVec S16 32) a x).toNat < S160x142.size a)
theorem k0_idx3116_inb : ∀ (i : grid0.Coords) (k0_t2 : Fin k0_t2_loop.trips) (v4432 : IVec S16 32) (v4447 : IVec S16 32) (k0_hw1810 : k0_chk1810 i k0_t2 v4432 v4447), ∀ (k0_h1 : k0_cond1 i k0_t2 = 1#1), ∀ a x, ((![v4447, v4432] : Fin 2 → IVec S16 32) a x).toNat < S160x142.size a := fun i k0_t2 v4432 v4447 k0_hw1810 k0_h1 => k0_hw1810 k0_h1

def k0_chk1811 (i : grid0.Coords) (k0_t2 : Fin k0_t2_loop.trips) (v4432 : IVec S16 32) (v4450 : IVec S16 32) : Prop :=
  (∀ (k0_h1 : k0_cond1 i k0_t2 = 1#1), ∀ a x, ((![v4450, v4432] : Fin 2 → IVec S16 32) a x).toNat < S160x142.size a)
theorem k0_idx3118_inb : ∀ (i : grid0.Coords) (k0_t2 : Fin k0_t2_loop.trips) (v4432 : IVec S16 32) (v4450 : IVec S16 32) (k0_hw1811 : k0_chk1811 i k0_t2 v4432 v4450), ∀ (k0_h1 : k0_cond1 i k0_t2 = 1#1), ∀ a x, ((![v4450, v4432] : Fin 2 → IVec S16 32) a x).toNat < S160x142.size a := fun i k0_t2 v4432 v4450 k0_hw1811 k0_h1 => k0_hw1811 k0_h1

def k0_chk1812 (i : grid0.Coords) (k0_t2 : Fin k0_t2_loop.trips) (v4432 : IVec S16 32) (v4453 : IVec S16 32) : Prop :=
  (∀ (k0_h1 : k0_cond1 i k0_t2 = 1#1), ∀ a x, ((![v4453, v4432] : Fin 2 → IVec S16 32) a x).toNat < S160x142.size a)
theorem k0_idx3120_inb : ∀ (i : grid0.Coords) (k0_t2 : Fin k0_t2_loop.trips) (v4432 : IVec S16 32) (v4453 : IVec S16 32) (k0_hw1812 : k0_chk1812 i k0_t2 v4432 v4453), ∀ (k0_h1 : k0_cond1 i k0_t2 = 1#1), ∀ a x, ((![v4453, v4432] : Fin 2 → IVec S16 32) a x).toNat < S160x142.size a := fun i k0_t2 v4432 v4453 k0_hw1812 k0_h1 => k0_hw1812 k0_h1

def k0_chk1813 (i : grid0.Coords) (k0_t2 : Fin k0_t2_loop.trips) (v4432 : IVec S16 32) (v4456 : IVec S16 32) : Prop :=
  (∀ (k0_h1 : k0_cond1 i k0_t2 = 1#1), ∀ a x, ((![v4456, v4432] : Fin 2 → IVec S16 32) a x).toNat < S160x142.size a)
theorem k0_idx3122_inb : ∀ (i : grid0.Coords) (k0_t2 : Fin k0_t2_loop.trips) (v4432 : IVec S16 32) (v4456 : IVec S16 32) (k0_hw1813 : k0_chk1813 i k0_t2 v4432 v4456), ∀ (k0_h1 : k0_cond1 i k0_t2 = 1#1), ∀ a x, ((![v4456, v4432] : Fin 2 → IVec S16 32) a x).toNat < S160x142.size a := fun i k0_t2 v4432 v4456 k0_hw1813 k0_h1 => k0_hw1813 k0_h1

def k0_chk1814 (i : grid0.Coords) (k0_t2 : Fin k0_t2_loop.trips) (v4432 : IVec S16 32) (v4459 : IVec S16 32) : Prop :=
  (∀ (k0_h1 : k0_cond1 i k0_t2 = 1#1), ∀ a x, ((![v4459, v4432] : Fin 2 → IVec S16 32) a x).toNat < S160x142.size a)
theorem k0_idx3124_inb : ∀ (i : grid0.Coords) (k0_t2 : Fin k0_t2_loop.trips) (v4432 : IVec S16 32) (v4459 : IVec S16 32) (k0_hw1814 : k0_chk1814 i k0_t2 v4432 v4459), ∀ (k0_h1 : k0_cond1 i k0_t2 = 1#1), ∀ a x, ((![v4459, v4432] : Fin 2 → IVec S16 32) a x).toNat < S160x142.size a := fun i k0_t2 v4432 v4459 k0_hw1814 k0_h1 => k0_hw1814 k0_h1

def k0_chk1805 (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) : Prop :=
  (∀ (k0_h1 : k0_cond1 i k0_t2 = 1#1), ∀ a x, ((![v15, v4432] : Fin 2 → IVec S16 32) a x).toNat < S256x142.size a) ∧
  (∀ (k0_h1 : k0_cond1 i k0_t2 = 1#1), ∀ a x, ((![v20, v4432] : Fin 2 → IVec S16 32) a x).toNat < S256x142.size a) ∧
  (∀ (k0_h1 : k0_cond1 i k0_t2 = 1#1), ∀ a x, ((![v25, v4432] : Fin 2 → IVec S16 32) a x).toNat < S256x142.size a) ∧
  (∀ (k0_h1 : k0_cond1 i k0_t2 = 1#1), ∀ a x, ((![v30, v4432] : Fin 2 → IVec S16 32) a x).toNat < S256x142.size a) ∧
  (∀ (k0_h1 : k0_cond1 i k0_t2 = 1#1), ∀ a x, ((![v35, v4432] : Fin 2 → IVec S16 32) a x).toNat < S256x142.size a) ∧
  (∀ (k0_h1 : k0_cond1 i k0_t2 = 1#1), ∀ a x, ((![v40, v4432] : Fin 2 → IVec S16 32) a x).toNat < S256x142.size a) ∧
  (∀ (k0_h1 : k0_cond1 i k0_t2 = 1#1), ∀ a x, ((![v45, v4432] : Fin 2 → IVec S16 32) a x).toNat < S256x142.size a) ∧
  (∀ (k0_h1 : k0_cond1 i k0_t2 = 1#1), ∀ a x, ((![v50, v4432] : Fin 2 → IVec S16 32) a x).toNat < S256x142.size a) ∧
  (∀ (k0_h1 : k0_cond1 i k0_t2 = 1#1), ∀ a x, ((![v55, v4432] : Fin 2 → IVec S16 32) a x).toNat < S256x142.size a) ∧
  (∀ (k0_h1 : k0_cond1 i k0_t2 = 1#1), ∀ a x, ((![v60, v4432] : Fin 2 → IVec S16 32) a x).toNat < S256x142.size a)
theorem k0_idx3107_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v15, v4432] : Fin 2 → IVec S16 32) a x).toNat < S256x142.size a := fun i k0_t2 v15 v20 v25 v30 v35 v40 v45 v50 v55 v60 v4432 k0_hw1805 k0_h1 => k0_hw1805.1 k0_h1
theorem k0_idx3109_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v20, v4432] : Fin 2 → IVec S16 32) a x).toNat < S256x142.size a := fun i k0_t2 v15 v20 v25 v30 v35 v40 v45 v50 v55 v60 v4432 k0_hw1805 k0_h1 => k0_hw1805.2.1 k0_h1
theorem k0_idx3111_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v25, v4432] : Fin 2 → IVec S16 32) a x).toNat < S256x142.size a := fun i k0_t2 v15 v20 v25 v30 v35 v40 v45 v50 v55 v60 v4432 k0_hw1805 k0_h1 => k0_hw1805.2.2.1 k0_h1
theorem k0_idx3113_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v30, v4432] : Fin 2 → IVec S16 32) a x).toNat < S256x142.size a := fun i k0_t2 v15 v20 v25 v30 v35 v40 v45 v50 v55 v60 v4432 k0_hw1805 k0_h1 => k0_hw1805.2.2.2.1 k0_h1
theorem k0_idx3115_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v35, v4432] : Fin 2 → IVec S16 32) a x).toNat < S256x142.size a := fun i k0_t2 v15 v20 v25 v30 v35 v40 v45 v50 v55 v60 v4432 k0_hw1805 k0_h1 => k0_hw1805.2.2.2.2.1 k0_h1
theorem k0_idx3117_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v40, v4432] : Fin 2 → IVec S16 32) a x).toNat < S256x142.size a := fun i k0_t2 v15 v20 v25 v30 v35 v40 v45 v50 v55 v60 v4432 k0_hw1805 k0_h1 => k0_hw1805.2.2.2.2.2.1 k0_h1
theorem k0_idx3119_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v45, v4432] : Fin 2 → IVec S16 32) a x).toNat < S256x142.size a := fun i k0_t2 v15 v20 v25 v30 v35 v40 v45 v50 v55 v60 v4432 k0_hw1805 k0_h1 => k0_hw1805.2.2.2.2.2.2.1 k0_h1
theorem k0_idx3121_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v50, v4432] : Fin 2 → IVec S16 32) a x).toNat < S256x142.size a := fun i k0_t2 v15 v20 v25 v30 v35 v40 v45 v50 v55 v60 v4432 k0_hw1805 k0_h1 => k0_hw1805.2.2.2.2.2.2.2.1 k0_h1
theorem k0_idx3123_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v55, v4432] : Fin 2 → IVec S16 32) a x).toNat < S256x142.size a := fun i k0_t2 v15 v20 v25 v30 v35 v40 v45 v50 v55 v60 v4432 k0_hw1805 k0_h1 => k0_hw1805.2.2.2.2.2.2.2.2.1 k0_h1
theorem k0_idx3125_inb : ∀ (i : grid0.Coords) (k0_t2 : Fin k0_t2_loop.trips) (v15 : IVec S16 32) (v20 : IVec S16 32) (v25 : IVec S16 32) (v30 : IVec S16 32) (v35 : IVec S16 32) (v40 : IVec S16 32) (v45 : IVec S16 32) (v50 : IVec S16 32) (v55 : IVec S16 32) (v60 : IVec S16 32) (v4432 : IVec S16 32) (k0_hw1805 : k0_chk1805 i k0_t2 v15 v20 v25 v30 v35 v40 v45 v50 v55 v60 v4432), ∀ (k0_h1 : k0_cond1 i k0_t2 = 1#1), ∀ a x, ((![v60, v4432] : Fin 2 → IVec S16 32) a x).toNat < S256x142.size a := fun i k0_t2 v15 v20 v25 v30 v35 v40 v45 v50 v55 v60 v4432 k0_hw1805 k0_h1 => k0_hw1805.2.2.2.2.2.2.2.2.2 k0_h1

def k0_chk1815 (i : grid0.Coords) (k0_t2 : Fin k0_t2_loop.trips) (v4432 : IVec S16 32) (v4462 : IVec S16 32) : Prop :=
  (∀ (k0_h1 : k0_cond1 i k0_t2 = 1#1), ∀ a x, ((![v4462, v4432] : Fin 2 → IVec S16 32) a x).toNat < S160x142.size a)
theorem k0_idx3126_inb : ∀ (i : grid0.Coords) (k0_t2 : Fin k0_t2_loop.trips) (v4432 : IVec S16 32) (v4462 : IVec S16 32) (k0_hw1815 : k0_chk1815 i k0_t2 v4432 v4462), ∀ (k0_h1 : k0_cond1 i k0_t2 = 1#1), ∀ a x, ((![v4462, v4432] : Fin 2 → IVec S16 32) a x).toNat < S160x142.size a := fun i k0_t2 v4432 v4462 k0_hw1815 k0_h1 => k0_hw1815 k0_h1
def k0_off2 (i : grid0.Coords) (k0_t2 : Fin k0_t2_loop.trips) : Fin 2 → Nat :=
  let c0_i32_3 : BitVec 32 := 0#32
  let c1_i32_4 : BitVec 32 := 1#32
  let arg23 : BitVec 32 := Scf.iv c0_i32_3 c1_i32_4 k0_t2
  let c32_i32 : BitVec 32 := 32#32
  let v5 : BitVec 32 := Scalar.muli arg23 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi v5 v1
  let c160_i32 : BitVec 32 := 160#32
  let v10 : BitVec 32 := Scalar.muli v6 c160_i32
  let c0_i32_1452_r9 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S85x32 : Shape := ⟨2, ![85, 32]⟩
abbrev S3x32 : Shape := ⟨2, ![3, 32]⟩
abbrev S8x32 : Shape := ⟨2, ![8, 32]⟩
abbrev S20x32 : Shape := ⟨2, ![20, 32]⟩
abbrev S86x14 : Shape := ⟨2, ![86, 14]⟩
abbrev S86 : Shape := ⟨1, ![86]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x32 : Shape := ⟨2, ![100000, 32]⟩
abbrev S100000x14 : Shape := ⟨2, ![100000, 14]⟩
abbrev S100000x142 : Shape := ⟨2, ![100000, 142]⟩

abbrev nBuf : Space → Nat
  | .hbm => 169
  | .vmem => 0
  | .smem => 0
  | _ => 0

abbrev hbmTy0_0 (i : Nat) : BufTy := match i % 128 with
  | 0 => ⟨S100000, .i32⟩
  | 1 => ⟨S100000, .i32⟩
  | 2 => ⟨S85x32, .f32⟩
  | 3 => ⟨S3x32, .f32⟩
  | 4 => ⟨S8x32, .f32⟩
  | 5 => ⟨S20x32, .f32⟩
  | 6 => ⟨S86x14, .f32⟩
  | 7 => ⟨S86, .i32⟩
  | 8 => ⟨S86, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000, .i32⟩
  | 28 => ⟨S_, .i32⟩
  | 29 => ⟨S100000, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S1, .i32⟩
  | 40 => ⟨S_, .i32⟩
  | 41 => ⟨S100000x1, .i32⟩
  | 42 => ⟨S100000x1, .i1⟩
  | 43 => ⟨S1x1, .i32⟩
  | 44 => ⟨S100000x1, .i32⟩
  | 45 => ⟨S100000x1, .i1⟩
  | 46 => ⟨S100000x1, .i1⟩
  | 47 => ⟨S_, .i1⟩
  | 48 => ⟨S100000, .i1⟩
  | 49 => ⟨S100000, .i32⟩
  | 50 => ⟨S_, .i32⟩
  | 51 => ⟨S100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S1, .i32⟩
  | 62 => ⟨S_, .i32⟩
  | 63 => ⟨S100000x1, .i32⟩
  | 64 => ⟨S100000x1, .i1⟩
  | 65 => ⟨S1x1, .i32⟩
  | 66 => ⟨S100000x1, .i32⟩
  | 67 => ⟨S100000x1, .i1⟩
  | 68 => ⟨S100000x1, .i1⟩
  | 69 => ⟨S_, .i1⟩
  | 70 => ⟨S100000, .i1⟩
  | 71 => ⟨S100000x32, .f32⟩
  | 72 => ⟨S100000x32, .i1⟩
  | 73 => ⟨S_, .f32⟩
  | 74 => ⟨S100000x32, .f32⟩
  | 75 => ⟨S100000x32, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S1, .i32⟩
  | 85 => ⟨S_, .i32⟩
  | 86 => ⟨S100000x1, .i32⟩
  | 87 => ⟨S100000x1, .i1⟩
  | 88 => ⟨S1x1, .i32⟩
  | 89 => ⟨S100000x1, .i32⟩
  | 90 => ⟨S100000x1, .i1⟩
  | 91 => ⟨S100000x1, .i1⟩
  | 92 => ⟨S_, .i1⟩
  | 93 => ⟨S100000, .i1⟩
  | 94 => ⟨S100000x14, .f32⟩
  | 95 => ⟨S100000x14, .i1⟩
  | 96 => ⟨S_, .f32⟩
  | 97 => ⟨S100000x14, .f32⟩
  | 98 => ⟨S100000x14, .f32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S1, .i32⟩
  | 108 => ⟨S_, .i32⟩
  | 109 => ⟨S100000x1, .i32⟩
  | 110 => ⟨S100000x1, .i1⟩
  | 111 => ⟨S1x1, .i32⟩
  | 112 => ⟨S100000x1, .i32⟩
  | 113 => ⟨S100000x1, .i1⟩
  | 114 => ⟨S100000x1, .i1⟩
  | 115 => ⟨S_, .i1⟩
  | 116 => ⟨S100000, .i1⟩
  | 117 => ⟨S100000x32, .f32⟩
  | 118 => ⟨S100000x32, .i1⟩
  | 119 => ⟨S_, .f32⟩
  | 120 => ⟨S100000x32, .f32⟩
  | 121 => ⟨S100000x32, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S100000, .i32⟩

abbrev hbmTy0_1 (i : Nat) : BufTy := match i % 128 with
  | 0 => ⟨S100000, .i32⟩
  | 1 => ⟨S100000x1, .i32⟩
  | 2 => ⟨S1, .i32⟩
  | 3 => ⟨S_, .i32⟩
  | 4 => ⟨S100000x1, .i32⟩
  | 5 => ⟨S100000x1, .i1⟩
  | 6 => ⟨S1x1, .i32⟩
  | 7 => ⟨S100000x1, .i32⟩
  | 8 => ⟨S100000x1, .i1⟩
  | 9 => ⟨S100000x1, .i1⟩
  | 10 => ⟨S_, .i1⟩
  | 11 => ⟨S100000, .i1⟩
  | 12 => ⟨S100000x32, .f32⟩
  | 13 => ⟨S100000x32, .i1⟩
  | 14 => ⟨S_, .f32⟩
  | 15 => ⟨S100000x32, .f32⟩
  | 16 => ⟨S100000x32, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S1, .i32⟩
  | 26 => ⟨S_, .i32⟩
  | 27 => ⟨S100000x1, .i32⟩
  | 28 => ⟨S100000x1, .i1⟩
  | 29 => ⟨S1x1, .i32⟩
  | 30 => ⟨S100000x1, .i32⟩
  | 31 => ⟨S100000x1, .i1⟩
  | 32 => ⟨S100000x1, .i1⟩
  | 33 => ⟨S_, .i1⟩
  | 34 => ⟨S100000, .i1⟩
  | 35 => ⟨S100000x32, .f32⟩
  | 36 => ⟨S100000x32, .i1⟩
  | 37 => ⟨S_, .f32⟩
  | 38 => ⟨S100000x32, .f32⟩
  | 39 => ⟨S100000x32, .f32⟩
  | 40 => ⟨S100000x142, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_c_4 : Ref sig .tc := ⟨.hbm, 50, rfl⟩
abbrev main_call1_v14 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v3 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v4 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_call5_cst : Ref sig .tc := ⟨.hbm, 142, rfl⟩
abbrev main_call5_v15 : Ref sig .tc := ⟨.hbm, 143, rfl⟩
abbrev main_v5 : Ref sig .tc := ⟨.hbm, 144, rfl⟩
abbrev main_call6_c : Ref sig .tc := ⟨.hbm, 145, rfl⟩
abbrev main_call6_v0 : Ref sig .tc := ⟨.hbm, 146, rfl⟩
abbrev main_call6_v1 : Ref sig .tc := ⟨.hbm, 147, rfl⟩
abbrev main_call6_c_0 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_c_1 : Ref sig .tc := ⟨.hbm, 153, rfl⟩
abbrev main_call6_c_2 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_3 : Ref sig .tc := ⟨.hbm, 161, rfl⟩
abbrev main_call6_v12 : Ref sig .tc := ⟨.hbm, 162, rfl⟩
abbrev main_call6_v13 : Ref sig .tc := ⟨.hbm, 163, rfl⟩
abbrev main_call6_v14 : Ref sig .tc := ⟨.hbm, 164, rfl⟩
abbrev main_call6_cst : Ref sig .tc := ⟨.hbm, 165, rfl⟩
abbrev main_call6_v15 : Ref sig .tc := ⟨.hbm, 166, rfl⟩
abbrev main_v6 : Ref sig .tc := ⟨.hbm, 167, rfl⟩
abbrev main_v7 : Ref sig .tc := ⟨.hbm, 168, rfl⟩

abbrev nD : Nat := 1
abbrev τ : Topo := Topo.v7x

variable {F : FTy → Type} [FloatOps F]
-- ==== Proof.Pre.lean ====
/-
  The precondition, read: the four index arrays' words lie in the ranges that the lookups need.
-/
module

public import Idealize.ShloMosaic.Lib.ReduceAll
public import Idealize.ShloMosaic.Lib.WordCmp
public import proofs.«01_k».proof.Proof.Gen.Pre_in_range

@[expose] public section

noncomputable section

namespace Cert.Proof

open Idealize.ShloMosaic

/-- An array's words all pass the test `lo ≤ w` and `w < hi`, read signed: they are below `hi` as naturals. -/
theorem below_of_all {s t u : Shape} {axes : List (Fin s.rank)} {lo hi : Nat} (hlo : lo < 2 ^ 31) (hhi : hi < 2 ^ 31)
    (x : IVec s 32) (a b : IVec s 32) (ha : ∀ i, a i = BitVec.ofNat 32 lo) (hb : ∀ i, b i = BitVec.ofNat 32 hi)
    (init : u.Idx → BitVec 1) (h : s.ReducesTo axes t) (hu : 0 < u.numel) [Subsingleton t.Idx] (j : t.Idx)
    (e : Host.reduce IntOp.andi (andi (cmpi .sge x a) (cmpi .slt x b)) init h hu j = 1#1) (i : s.Idx) :
    (x i).toNat < hi := by
  have e' := Host.reduce_andi_all _ _ _ _ j e i
  have e2 : IntOp.andi (IntOp.cmpi .sge (x i) (BitVec.ofNat 32 lo)) (IntOp.cmpi .slt (x i) (BitVec.ofNat 32 hi)) = 1#1 := by
    rw [← ha i, ← hb i]; exact e'
  generalize x i = w at e2
  obtain ⟨e3, e4⟩ := IntOp.andi_eq_one.1 e2
  have e5 := IntOp.cmpi_sge.1 e3
  have e6 := IntOp.cmpi_slt.1 e4
  simp only [BitVec.toInt_eq_toNat_cond, BitVec.toNat_ofNat] at e5 e6
  rw [Nat.mod_eq_of_lt (show lo < 2 ^ 32 by omega)] at e5
  rw [Nat.mod_eq_of_lt (show hi < 2 ^ 32 by omega)] at e6
  omega

/-- What the precondition says of the four index arrays. -/
theorem ranges_of_pre {F : FTy → Type} [FloatOps F] (z t : IVec Pre_in_range.S100000 32)
    (zw : FVec F Pre_in_range.S85x32 .f32) (tw : FVec F Pre_in_range.S3x32 .f32) (pw : FVec F Pre_in_range.S8x32 .f32)
    (gw : FVec F Pre_in_range.S20x32 .f32) (pr : FVec F Pre_in_range.S86x14 .f32) (pm gm : IVec Pre_in_range.S86 32)
    (e : Pre_in_range.fn (F := F) z t zw tw pw gw pr pm gm = fun _ => 1#1) :
    (∀ x, (z x).toNat < 85) ∧ (∀ x, (t x).toNat < 3) ∧ (∀ x, (pm x).toNat < 8) ∧ ∀ x, (gm x).toNat < 20 := by
  have e0 := congrFun e (Shape.Idx.first (by decide))
  unfold Pre_in_range.fn Pre_in_range.fn_part1 at e0
  have and_one : ∀ {a b : BitVec 1}, IntOp.andi a b = 1#1 → a = 1#1 ∧ b = 1#1 := by decide
  obtain ⟨e1, eg⟩ := and_one e0
  obtain ⟨e2, ep⟩ := and_one e1
  obtain ⟨ez, et⟩ := and_one e2
  exact ⟨below_of_all (lo := 0) (hi := 85) (by decide) (by decide) z _ _ (fun _ => rfl) (fun _ => rfl) _ _ _ _ ez,
    below_of_all (lo := 0) (hi := 3) (by decide) (by decide) t _ _ (fun _ => rfl) (fun _ => rfl) _ _ _ _ et,
    below_of_all (lo := 1) (hi := 8) (by decide) (by decide) pm _ _ (fun _ => rfl) (fun _ => rfl) _ _ _ _ ep,
    below_of_all (lo := 1) (hi := 20) (by decide) (by decide) gm _ _ (fun _ => rfl) (fun _ => rfl) _ _ _ _ eg⟩

end Cert.Proof

end
-- ==== Proof.Runs.lean ====
/-
  The kernel's setting — its threads, its resources — and a judgement for straight-line runs of one
  tile's program: `Runs d i I p J r` says that from the resources `I` the program `p` of the tile
  at the coordinates `i` ends in the resources `J` with the value `r`, whatever follows it. Its
  rules compose: a bind, a return, an assumed fact, resources carried along unchanged, and the
  machine's operations on the tile's memory.
-/
module

public import proofs.«01_k».proof.KernelIdeal
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The setting -/

abbrev 𝒱₀ : Variants := Variants.none

/-- The launch handshakes' rounds beside the transfers' counters. -/
abbrev UH : Type := URounds (GSem nD τ sig) ℕ
abbrev UU : Type := UH × Counters

local notation "𝕄" => MT nD τ sig (HIx 1) (Elt F) ℕ UU ℕ

/-- The tile at the kernel's coordinates `i`. -/
abbrev tile (d : Dev nD) (i : grid0.Coords) : Thread nD τ := V d ((i 0).castLE hcore0) ((i 1).castLE hsub0)

/-- A tile's programs. -/
abbrev TileProg (F : FTy → Type) (i : grid0.Coords) (α : Type) : Type 1 :=
  Prog (TpuEff nD τ sig (Elt F) Λ₀ (.scVector ((i 0).castLE hcore0) ((i 1).castLE hsub0))) α

variable [FloatOps F] {d : Dev nD} {i : grid0.Coords}

/-- The postcondition of a tile's program. -/
abbrev wpT (d : Dev nD) (i : grid0.Coords) {α : Type} (p : TileProg F i α) (Φ : α → sProp 𝕄) : sProp 𝕄 :=
  wp frame (wpE (defs₀ (F := F)) 𝒱₀ (tile d i) none) Set.univ p Φ

/-- From `I`, the program `p` runs to `J` with the value `r`, ahead of any continuation. -/
def Runs (d : Dev nD) (i : grid0.Coords) {α : Type} (I : sProp 𝕄) (p : TileProg F i α) (J : sProp 𝕄) (r : α) : Prop :=
  ∀ (β : Type) (K : α → TileProg F i β) (Φ : β → sProp 𝕄), I ⊢ iprop((J -∗ wpT d i (K r) Φ) -∗ wpT d i (p >>= K) Φ)

namespace Runs

variable {α β : Type} {I I' J J' R : sProp (MT nD τ sig (HIx 1) (Elt F) ℕ UU ℕ)} {p : TileProg F i α} {r : α}

theorem ret : Runs d i I (Prog.ret r) I r := by
  intro β K Φ
  show _ ⊢ iprop(_ -∗ wpT d i (K r) Φ)
  iintro HI HK
  iapply HK $$ HI

theorem pure : Runs d i I (Pure.pure r : TileProg F i α) I r := ret

theorem bind {k : α → TileProg F i β} {s : β} (hp : Runs d i I p J r) (hk : Runs d i J (k r) J' s) :
    Runs d i I (p >>= k) J' s := by
  intro γ K Φ
  rw [bind_assoc]
  iintro HI HK
  iapply (hp γ (fun a => k a >>= K) Φ) $$ HI
  iintro HJ
  iapply (hk γ K Φ) $$ HJ
  iexact HK

/-- An assumed fact, held. -/
theorem assume {P : Prop} {dec : Decidable P} (h : P) :
    Runs d i I (Prog.lift (TpuEff.assume P dec)) I (PLift.up h) := by
  intro γ K Φ
  show _ ⊢ iprop(_ -∗ wpT d i (.op (.assume P dec) K) Φ)
  rw [show wpT d i (.op (.assume P dec) K) Φ = wpT d i (K ⟨h⟩) Φ from wp_assume_of _ _ _ _ h]
  iintro HI HK
  iapply HK $$ HI

theorem conseq (hI : I ⊢ I') (hJ : J' ⊢ J) (h : Runs d i I' p J' r) : Runs d i I p J r := by
  intro γ K Φ
  iintro HI HK
  ihave HI' := hI $$ HI
  iapply (h γ K Φ) $$ HI'
  iintro HJ
  iapply HK
  iapply hJ $$ HJ

/-- Resources the program does not name, carried along. -/
theorem frame (h : Runs d i I p J r) : Runs d i iprop(I ∗ R) p iprop(J ∗ R) r := by
  intro γ K Φ
  iintro ⟨HI, HR⟩ HK
  iapply (h γ K Φ) $$ HI
  iintro HJ
  iapply HK
  isplitl [HJ] <;> iassumption

theorem frame_left (h : Runs d i I p J r) : Runs d i iprop(R ∗ I) p iprop(R ∗ J) r :=
  conseq (by iintro ⟨HR, HI⟩; isplitl [HI] <;> iassumption) (by iintro ⟨HJ, HR⟩; isplitl [HR] <;> iassumption) (frame (R := R) h)

/-- A run, ended: the postcondition from what it leaves. -/
theorem wp {Φ : α → sProp 𝕄} (h : Runs d i I p J r) (hJ : J ⊢ Φ r) : I ⊢ wpT d i p Φ := by
  have h' := h α Prog.ret Φ
  rw [show (p >>= Prog.ret) = p from bind_pure p] at h'
  iintro HI
  iapply h' $$ HI
  iintro HJ
  unfold wpT
  rw [wp_ret]
  imodintro
  iapply hJ $$ HJ

end Runs

end Cert.Proof

end
-- ==== Proof.Vecs.lean ====
/-
  The words of sixteen lanes the kernel computes with, and what its scatters leave: a store of one
  column's sixteen lanes over consecutive rows, read back elementwise.
-/
module

public import proofs.«01_k».proof.KernelIdeal

@[expose] public section

namespace Cert.Proof

open Cert.KernelIdeal
open Idealize.ShloMosaic

variable {F : FTy → Type} [FloatOps F]

/-- The one-axis vector of sixteen lanes whose lane `x` is `w x`. -/
def lanes {α : Type} (w : ℕ → α) : S16.Idx → α := fun x => w (x 0).val

/-- A scatter of sixteen lanes down one column, over the rows from `R` on: those elements are the
    lanes, every other is as before. -/
theorem storeIdx_col {m n : ℕ} {e : EltTy} (f : Vec F ⟨2, ![m, n]⟩ e) (rv cv : IVec S16 32) (w : ℕ → Elt F e) (R c : ℕ)
    (hr : ∀ x, (rv x).toNat = R + (x 0).val) (hc : ∀ x, (cv x).toNat = c)
    (h : ∀ a x, ((![rv, cv] : Fin 2 → IVec S16 32) a x).toNat < (⟨2, ![m, n]⟩ : Shape).size a) :
    storeIdx f ![rv, cv] (lanes w) (fun _ => 1#1) false h
      = fun j => if (j 1).val = c ∧ R ≤ (j 0).val ∧ (j 0).val < R + 16 then w ((j 0).val - R) else f j := by
  have key : ∀ (l : List (Fin ((![16] : Fin 1 → ℕ) 0))) (g : Vec F ⟨2, ![m, n]⟩ e) (j : (⟨2, ![m, n]⟩ : Shape).Idx),
      (l.foldl (fun g k => fun j => if (∀ a, (j a).val = (idxAt ![rv, cv] h (Shape.ofLane (d := ![16]) k) a).val) then w k.val else g j) g) j
        = if (j 1).val = c ∧ ∃ k ∈ l, (j 0).val = R + k.val then w ((j 0).val - R) else g j := by
    intro l
    induction l with
    | nil => intro g j; rw [if_neg (by rintro ⟨-, k, hk, -⟩; exact absurd hk List.not_mem_nil)]; rfl
    | cons k l ih =>
      intro g j
      rw [List.foldl_cons, ih]
      have hk : (∀ a, (j a).val = (idxAt ![rv, cv] h (Shape.ofLane (d := ![16]) k) a).val) ↔ (j 0).val = R + k.val ∧ (j 1).val = c := by
        constructor
        · intro ha
          exact ⟨(ha 0).trans (hr _), (ha 1).trans (hc _)⟩
        · rintro ⟨h0, h1⟩ a
          match a with
          | 0 => exact h0.trans (hr (Shape.ofLane (d := ![16]) k)).symm
          | 1 => exact h1.trans (hc (Shape.ofLane (d := ![16]) k)).symm
      by_cases h1 : (j 1).val = c
      · by_cases h2 : ∃ k ∈ l, (j 0).val = R + k.val
        · rw [if_pos ⟨h1, h2⟩, if_pos ⟨h1, by obtain ⟨k', hk', he⟩ := h2; exact ⟨k', List.mem_cons_of_mem _ hk', he⟩⟩]
        · rw [if_neg (fun hh => h2 hh.2)]
          by_cases h3 : (j 0).val = R + k.val
          · rw [if_pos (hk.2 ⟨h3, h1⟩), if_pos ⟨h1, k, List.mem_cons_self, h3⟩, h3, Nat.add_sub_cancel_left]
          · rw [if_neg (fun hh => h3 (hk.1 hh).1), if_neg]
            rintro ⟨-, k', hk', he⟩
            rcases List.mem_cons.1 hk' with rfl | hk'
            · exact h3 he
            · exact h2 ⟨k', hk', he⟩
      · rw [if_neg (fun hh => h1 hh.1), if_neg (fun hh => h1 (hk.1 hh).2), if_neg (fun hh => h1 hh.1)]
  funext j
  have hu : storeIdx f ![rv, cv] (lanes w) (fun _ => 1#1) false h j
      = ((List.finRange ((![16] : Fin 1 → ℕ) 0)).foldl
          (fun g k => fun j => if (∀ a, (j a).val = (idxAt ![rv, cv] h (Shape.ofLane (d := ![16]) k) a).val) then w k.val else g j) f) j := by
    unfold storeIdx
    simp only [Bool.false_eq_true, ↓reduceIte, show ((1#1 : BitVec 1) = 1) = True from eq_true rfl]
    rfl
  rw [hu, key]
  refine if_congr (and_congr_right fun _ => ⟨?_, ?_⟩) rfl rfl
  · rintro ⟨k, -, hk⟩; have hk' : k.val < 16 := k.isLt; omega
  · rintro ⟨h0, h1⟩; exact ⟨⟨(j 0).val - R, show (j 0).val - R < 16 by omega⟩, List.mem_finRange _, by show _ = R + ((j 0).val - R); omega⟩

/-- Lane numbers from `o` on. -/
theorem rows_toNat (h : S16.Iotas .scVector 32 [0]) (o : ℕ) (ho : o < 4294967280) (x : S16.Idx) :
    ((addi (broadcast S16 (BitVec.ofNat 32 o)) (iota .scVector S16 32 [0] h)) x).toNat = o + (x 0).val := by
  have hx : (x 0).val < 16 := (x 0).isLt
  show (BitVec.ofNat 32 o + BitVec.ofNat 32 (0 * 16 + (x 0).val)).toNat = _
  rw [BitVec.toNat_add, BitVec.toNat_ofNat, BitVec.toNat_ofNat]
  omega

theorem col_toNat (c : ℕ) (hc : c < 4294967296) (x : S16.Idx) : ((broadcast S16 (BitVec.ofNat 32 c)) x).toNat = c := by
  show (BitVec.ofNat 32 c).toNat = _
  rw [BitVec.toNat_ofNat]; omega

end Cert.Proof
-- ==== Proof.MemOps.lean ====
/-
  The runs of the machine's operations on a tile's own memory: a gather, a scatter, a load.
-/
module

public import proofs.«01_k».proof.Proof.Runs
public import proofs.«01_k».proof.Proof.Vecs

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {i : grid0.Coords}

namespace Runs

variable {s t : Shape} {e : EltTy}

/-- A gather out of a memref the tile holds. -/
theorem gather {base : Memref sig .scVector .vmem s e} {idxs : Fin s.rank → IVec t 32}
    {h : ∀ a x, (idxs a x).toNat < s.size a} {hl : base.view.Loads}
    {f : Buf (Elt F) ((base.access (.whole s)).loc (tile d i))} {f' : Vec F s e}
    (hr : (base.access (.whole s)).read (Elt F) f = f') :
    Runs d i ((base.access (.whole s)).loc (tile d i) ↦{fullShare} f) (SparseCore.vectorLoadIdx base idxs h hl)
      ((base.access (.whole s)).loc (tile d i) ↦{fullShare} f) (loadIdx f' idxs h) := by
  intro γ K Φ
  subst hr
  exact SparseCore.wp_vectorLoadIdx 𝒱₀ (tile d i) none Set.univ (Finset.subset_univ _)

/-- A scatter into a memref the tile holds. -/
theorem scatter {dd : Fin 1 → ℕ} {base : Memref sig .scVector .vmem s e} {idxs : Fin s.rank → IVec ⟨1, dd⟩ 32} {v : Vec F ⟨1, dd⟩ e}
    {mask : IVec ⟨1, dd⟩ 1} {add : Bool} {h : ∀ a x, (idxs a x).toNat < s.size a} {hs : (base.access (.whole s)).Stores Finset.univ}
    {f g : Buf (Elt F) ((base.access (.whole s)).loc (tile d i))} (hset : (base.access (.whole s)).set = Finset.univ)
    (hg : (base.access (.whole s)).write (Elt F) f (storeIdx ((base.access (.whole s)).read (Elt F) f) idxs v mask add h) Finset.univ = g) :
    Runs d i ((base.access (.whole s)).loc (tile d i) ↦{fullShare} f) (SparseCore.vectorStoreIdx base idxs v mask add h hs)
      ((base.access (.whole s)).loc (tile d i) ↦{fullShare} g) ⟨⟩ := by
  intro γ K Φ
  subst hg
  have := SparseCore.wp_vectorStoreIdx (defs := defs₀ (F := F)) (Q := Φ) (k := K) (h := h) (hs := hs) (f := f) (v := v) (mask := mask) (add := add)
    𝒱₀ (tile d i) none Set.univ
  rw [hset] at this
  exact this

/-- A load through a rectangle of a memref the tile holds. -/
theorem load {base : Memref sig .scVector .vmem s e} {r : Rect s} {hl : base.view.LoadsAt r}
    {f : Buf (Elt F) ((base.access r).loc (tile d i))} {v : r.shape.Idx → Elt F e} (hv : (base.access r).read (Elt F) f = v) :
    Runs d i ((base.access r).loc (tile d i) ↦{fullShare} f) (Prog.lift (.load base r.toLoadRect hl))
      ((base.access r).loc (tile d i) ↦{fullShare} f) v := by
  intro γ K Φ
  subst hv
  exact wp_load_rect 𝒱₀ (tile d i) none Set.univ (Finset.subset_univ _)

end Runs
end Cert.Proof

end
-- ==== Proof.Chunk.lean ====
/-
  One chunk of 160 rows, as the tile's memory goes through it: the chunk's two index columns and
  the fused table are held as they are, and of the output chunk the first `n` stores — sixteen rows
  of one column each, ten to a column — have been made.
-/
module

public import proofs.«01_k».proof.Proof.MemOps

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## A tile's buffers, at given contents -/

def fusedAt (d : Dev nD) (i : grid0.Coords) (f : S256x142.Idx → Elt F .f32) : sProp 𝕄 := (tile d i).loc cc0_scratch7 ↦{fullShare} f
def zAt (d : Dev nD) (i : grid0.Coords) (f : S160.Idx → BitVec 32) : sProp 𝕄 := (tile d i).loc cc0_scratch8 ↦{fullShare} f
def tAt (d : Dev nD) (i : grid0.Coords) (f : S160.Idx → BitVec 32) : sProp 𝕄 := (tile d i).loc cc0_scratch9 ↦{fullShare} f
def outAt (d : Dev nD) (i : grid0.Coords) (f : S160x142.Idx → Elt F .f32) : sProp 𝕄 := (tile d i).loc cc0_scratch10 ↦{fullShare} f

abbrev fusedM : Memref sig .scVector .vmem S256x142 .f32 := Memref.whole cc0_scratch7
abbrev zM : Memref sig .scVector .vmem S160 .i32 := Memref.whole cc0_scratch8
abbrev tM : Memref sig .scVector .vmem S160 .i32 := Memref.whole cc0_scratch9
abbrev outM : Memref sig .scVector .vmem S160x142 .f32 := Memref.whole cc0_scratch10

section

variable {d : Dev nD} {i : grid0.Coords}

theorem zAt_load (o : ℕ) (h : ∀ a, (![o] : Fin 1 → ℕ) a + S16.size a ≤ S160.size a) {hl : zM.view.LoadsAt (Rect.unit (s := S160) ![o] S16.size h).toLoadRect} (w : ℕ → BitVec 32) :
    Runs (F := F) d i (zAt d i fun x => w (x 0).val) (Prog.lift (.load zM (Rect.unit (s := S160) ![o] S16.size h).toLoadRect hl))
      (zAt d i fun x => w (x 0).val) (lanes fun l => w (o + l)) :=
  Runs.load (base := zM) (r := Rect.unit (s := S160) ![o] S16.size h) (f := fun x => w (x 0).val)
    (by funext x; show w (o + 1 * (x 0).val) = w _; rw [Nat.one_mul])

theorem tAt_load (o : ℕ) (h : ∀ a, (![o] : Fin 1 → ℕ) a + S16.size a ≤ S160.size a) {hl : tM.view.LoadsAt (Rect.unit (s := S160) ![o] S16.size h).toLoadRect} (w : ℕ → BitVec 32) :
    Runs (F := F) d i (tAt d i fun x => w (x 0).val) (Prog.lift (.load tM (Rect.unit (s := S160) ![o] S16.size h).toLoadRect hl))
      (tAt d i fun x => w (x 0).val) (lanes fun l => w (o + l)) :=
  Runs.load (base := tM) (r := Rect.unit (s := S160) ![o] S16.size h) (f := fun x => w (x 0).val)
    (by funext x; show w (o + 1 * (x 0).val) = w _; rw [Nat.one_mul])

theorem fusedAt_gather {f : S256x142.Idx → Elt F .f32} {idxs : Fin 2 → IVec S16 32} {h : ∀ a x, (idxs a x).toNat < S256x142.size a} {hl : fusedM.view.Loads} :
    Runs d i (fusedAt d i f) (SparseCore.vectorLoadIdx fusedM idxs h hl) (fusedAt d i f) (loadIdx f idxs h) :=
  Runs.gather (base := fusedM) (f := f) (Memref.read_access_whole _ cc0_scratch7 f)

theorem outAt_scatter {f : S160x142.Idx → Elt F .f32} {idxs : Fin 2 → IVec S16 32} {h : ∀ a x, (idxs a x).toNat < S160x142.size a}
    {v : Vec F S16 .f32} {hs : (outM.access (.whole S160x142)).Stores Finset.univ} :
    Runs d i (outAt d i f) (SparseCore.vectorStoreIdx outM idxs v (fun _ => 1#1) false h hs) (outAt d i (storeIdx f idxs v (fun _ => 1#1) false h)) ⟨⟩ :=
  Runs.scatter (base := outM) (f := f) (Memref.set_access_whole cc0_scratch10)
    ((Memref.write_access_whole_univ _ cc0_scratch10 f _).trans
      (congrArg (fun u => storeIdx u idxs v (fun _ => 1#1) false h) (Memref.read_access_whole _ cc0_scratch10 f)))

end

/-- What a chunk is computed from: the fused table's rows, and the chunk's two index columns, row by row. -/
structure ChunkIn (F : FTy → Type) where
  /-- The fused table. -/
  tab : ℕ → ℕ → Elt F .f32
  z : ℕ → BitVec 32
  t : ℕ → BitVec 32
  hz : ∀ r, (z r).toNat < 85
  ht : ∀ r, (t r).toNat < 3
  /-- The output chunk's contents before. -/
  old : S160x142.Idx → Elt F .f32

namespace ChunkIn

variable (C : ChunkIn F)

/-- The fused table's row for the chunk's row `r`. -/
def row (r : ℕ) : ℕ := 3 * (C.z r).toNat + (C.t r).toNat

theorem row_lt (r : ℕ) : C.row r < 256 := by have := C.hz r; have := C.ht r; unfold row; omega

/-- The output chunk after `n` stores. -/
def out (n : ℕ) : S160x142.Idx → Elt F .f32 := fun x =>
  if 10 * (x 1).val + (x 0).val / 16 < n then C.tab (C.row (x 0).val) (x 1).val else C.old x

abbrev zv (o : ℕ) : IVec S16 32 := lanes fun l => C.z (o + l)
abbrev tv (o : ℕ) : IVec S16 32 := lanes fun l => C.t (o + l)
/-- The fused rows of sixteen rows of the chunk, as the kernel computes them. -/
abbrev cidx (o : ℕ) : IVec S16 32 := addi (muli (C.zv o) (broadcast S16 3#32)) (C.tv o)

theorem cidx_toNat (o : ℕ) (x : S16.Idx) : (C.cidx o x).toNat = C.row (o + (x 0).val) := by
  have h1 := C.hz (o + (x 0).val)
  have h2 := C.ht (o + (x 0).val)
  show (C.z (o + (x 0).val) * 3#32 + C.t (o + (x 0).val)).toNat = _
  rw [BitVec.toNat_add, BitVec.toNat_mul]
  show ((C.z (o + (x 0).val)).toNat * 3 % 4294967296 + (C.t (o + (x 0).val)).toNat) % 4294967296 = _
  unfold row
  omega

/-- Every gather of the column is in range. -/
theorem col_ok (o c : ℕ) (hc : c < 142) :
    ∀ a x, ((![C.cidx o, broadcast S16 (BitVec.ofNat 32 c)] : Fin 2 → IVec S16 32) a x).toNat < S256x142.size a := by
  intro a x
  match a with
  | 0 => exact (C.cidx_toNat o x).trans_lt (C.row_lt _)
  | 1 => exact (col_toNat c (by omega) x).trans_lt hc

/-- A column's ten gathers are in range. -/
theorem col_all {H : Prop} (c : ℕ) (hc : c < 142) :
    (H → ∀ a x, ((![C.cidx 0, broadcast S16 (BitVec.ofNat 32 c)] : Fin 2 → IVec S16 32) a x).toNat < S256x142.size a) ∧
    (H → ∀ a x, ((![C.cidx 16, broadcast S16 (BitVec.ofNat 32 c)] : Fin 2 → IVec S16 32) a x).toNat < S256x142.size a) ∧
    (H → ∀ a x, ((![C.cidx 32, broadcast S16 (BitVec.ofNat 32 c)] : Fin 2 → IVec S16 32) a x).toNat < S256x142.size a) ∧
    (H → ∀ a x, ((![C.cidx 48, broadcast S16 (BitVec.ofNat 32 c)] : Fin 2 → IVec S16 32) a x).toNat < S256x142.size a) ∧
    (H → ∀ a x, ((![C.cidx 64, broadcast S16 (BitVec.ofNat 32 c)] : Fin 2 → IVec S16 32) a x).toNat < S256x142.size a) ∧
    (H → ∀ a x, ((![C.cidx 80, broadcast S16 (BitVec.ofNat 32 c)] : Fin 2 → IVec S16 32) a x).toNat < S256x142.size a) ∧
    (H → ∀ a x, ((![C.cidx 96, broadcast S16 (BitVec.ofNat 32 c)] : Fin 2 → IVec S16 32) a x).toNat < S256x142.size a) ∧
    (H → ∀ a x, ((![C.cidx 112, broadcast S16 (BitVec.ofNat 32 c)] : Fin 2 → IVec S16 32) a x).toNat < S256x142.size a) ∧
    (H → ∀ a x, ((![C.cidx 128, broadcast S16 (BitVec.ofNat 32 c)] : Fin 2 → IVec S16 32) a x).toNat < S256x142.size a) ∧
    (H → ∀ a x, ((![C.cidx 144, broadcast S16 (BitVec.ofNat 32 c)] : Fin 2 → IVec S16 32) a x).toNat < S256x142.size a) :=
  ⟨fun _ => C.col_ok _ _ hc, fun _ => C.col_ok _ _ hc, fun _ => C.col_ok _ _ hc, fun _ => C.col_ok _ _ hc, fun _ => C.col_ok _ _ hc, fun _ => C.col_ok _ _ hc, fun _ => C.col_ok _ _ hc, fun _ => C.col_ok _ _ hc, fun _ => C.col_ok _ _ hc, fun _ => C.col_ok _ _ hc⟩

/-- Every scatter of the column is in range. -/
theorem row_ok (h : S16.Iotas .scVector 32 [0]) (o c : ℕ) (ho : o < 145) (hc : c < 142) :
    ∀ a x, ((![addi (broadcast S16 (BitVec.ofNat 32 o)) (iota .scVector S16 32 [0] h), broadcast S16 (BitVec.ofNat 32 c)] : Fin 2 → IVec S16 32) a x).toNat
      < S160x142.size a := by
  intro a x
  match a with
  | 0 => exact (rows_toNat h o (by omega) x).trans_lt (by have : (x 0).val < 16 := (x 0).isLt; show o + (x 0).val < 160; omega)
  | 1 => exact (col_toNat c (by omega) x).trans_lt hc

/-- What a gather of the column reads. -/
theorem loadIdx_eq (o c : ℕ) (hc : c < 142)
    (h : ∀ a x, ((![C.cidx o, broadcast S16 (BitVec.ofNat 32 c)] : Fin 2 → IVec S16 32) a x).toNat < S256x142.size a) :
    loadIdx (F := F) (fun x : S256x142.Idx => C.tab (x 0).val (x 1).val) ![C.cidx o, broadcast S16 (BitVec.ofNat 32 c)] h
      = lanes fun l => C.tab (C.row (o + l)) c := by
  funext x
  show C.tab (C.cidx o x).toNat ((broadcast S16 (BitVec.ofNat 32 c)) x).toNat = _
  rw [C.cidx_toNat, col_toNat c (by omega)]
  rfl

/-- One store more. -/
theorem out_succ (o c : ℕ) (ho : o % 16 = 0) (ho' : o < 145) :
    (fun j : S160x142.Idx => if (j 1).val = c ∧ o ≤ (j 0).val ∧ (j 0).val < o + 16 then C.tab (C.row (o + ((j 0).val - o))) c else C.out (10 * c + o / 16) j)
      = C.out (10 * c + o / 16 + 1) := by
  funext j
  have h0 : (j 0).val < 160 := (j 0).isLt
  unfold out
  by_cases h : (j 1).val = c ∧ o ≤ (j 0).val ∧ (j 0).val < o + 16
  · rw [if_pos h, if_pos (by omega), Nat.add_sub_cancel' h.2.1, h.1]
  · rw [if_neg h]
    by_cases h' : 10 * (j 1).val + (j 0).val / 16 < 10 * c + o / 16
    · rw [if_pos h', if_pos (by omega)]
    · rw [if_neg h', if_neg]
      intro h2
      apply h
      omega

/-- The tile's memory after `n` of the chunk's stores. -/
def At (d : Dev nD) (i : grid0.Coords) (n : ℕ) : sProp 𝕄 :=
  iprop(zAt d i (fun x => C.z (x 0).val) ∗ tAt d i (fun x => C.t (x 0).val)
    ∗ fusedAt d i (fun x => C.tab (x 0).val (x 1).val) ∗ outAt d i (C.out n))

variable {C} {d : Dev nD} {i : grid0.Coords} {n : ℕ}

theorem run_loadZ (o : ℕ) (h : ∀ a, (![o] : Fin 1 → ℕ) a + S16.size a ≤ S160.size a) {hl : zM.view.LoadsAt (Rect.unit (s := S160) ![o] S16.size h).toLoadRect} :
    Runs d i (C.At d i n) (Prog.lift (.load zM (Rect.unit (s := S160) ![o] S16.size h).toLoadRect hl)) (C.At d i n) (C.zv o) :=
  Runs.frame (zAt_load o h C.z)

theorem run_loadT (o : ℕ) (h : ∀ a, (![o] : Fin 1 → ℕ) a + S16.size a ≤ S160.size a) {hl : tM.view.LoadsAt (Rect.unit (s := S160) ![o] S16.size h).toLoadRect} :
    Runs d i (C.At d i n) (Prog.lift (.load tM (Rect.unit (s := S160) ![o] S16.size h).toLoadRect hl)) (C.At d i n) (C.tv o) :=
  Runs.frame_left (Runs.frame (tAt_load o h C.t))

theorem run_gather (o c : ℕ) (hc : c < 142)
    {h : ∀ a x, ((![C.cidx o, broadcast S16 (BitVec.ofNat 32 c)] : Fin 2 → IVec S16 32) a x).toNat < S256x142.size a} {hl : fusedM.view.Loads} :
    Runs d i (C.At d i n) (SparseCore.vectorLoadIdx fusedM ![C.cidx o, broadcast S16 (BitVec.ofNat 32 c)] h hl) (C.At d i n)
      (lanes fun l => C.tab (C.row (o + l)) c) := by
  rw [← C.loadIdx_eq o c hc h]
  exact Runs.frame_left (Runs.frame_left (Runs.frame fusedAt_gather))

theorem run_store (o c : ℕ) (hn : n = 10 * c + o / 16) (ho : o % 16 = 0) (ho' : o < 145) (hc : c < 142) {hi : S16.Iotas .scVector 32 [0]}
    {h : ∀ a x, ((![addi (broadcast S16 (BitVec.ofNat 32 o)) (iota .scVector S16 32 [0] hi), broadcast S16 (BitVec.ofNat 32 c)] : Fin 2 → IVec S16 32) a x).toNat
      < S160x142.size a}
    {hs : (outM.access (.whole S160x142)).Stores Finset.univ} :
    Runs d i (C.At d i n) (SparseCore.vectorStoreIdx outM ![addi (broadcast S16 (BitVec.ofNat 32 o)) (iota .scVector S16 32 [0] hi), broadcast S16 (BitVec.ofNat 32 c)]
        (lanes fun l => C.tab (C.row (o + l)) c) (fun _ => 1#1) false h hs)
      (C.At d i (10 * c + o / 16 + 1)) ⟨⟩ := by
  subst hn
  have e : storeIdx (C.out (10 * c + o / 16)) ![addi (broadcast S16 (BitVec.ofNat 32 o)) (iota .scVector S16 32 [0] hi), broadcast S16 (BitVec.ofNat 32 c)]
      (lanes fun l => C.tab (C.row (o + l)) c) (fun _ => 1#1) false h = C.out (10 * c + o / 16 + 1) :=
    (storeIdx_col (m := 160) (n := 142) _ _ _ (fun l => C.tab (C.row (o + l)) c) o c (rows_toNat hi o (by omega)) (col_toNat c (by omega)) h).trans
      (C.out_succ o c ho ho')
  unfold At
  rw [← e]
  exact Runs.frame_left (Runs.frame_left (Runs.frame_left outAt_scatter))

theorem out_zero : C.out 0 = C.old := by
  funext x
  exact if_neg (Nat.not_lt_zero _)

/-- After the last store every element is the fused table's. -/
theorem out_all : C.out 1420 = fun x => C.tab (C.row (x 0).val) (x 1).val := by
  funext x
  have h0 : (x 0).val < 160 := (x 0).isLt
  have h1 : (x 1).val < 142 := (x 1).isLt
  exact if_pos (by omega)

end ChunkIn

end Cert.Proof

end
-- ==== Proof.Build.lean ====
/-
  The fused table's build, as the tile's memory goes through it: the tables are held as they are,
  and of the fused table's 256 rows the groups of sixteen before the current one have been built,
  and of the current group the columns before the current one.
-/
module

public import proofs.«01_k».proof.Proof.Chunk

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## Gathers out of a table -/

section

variable {d : Dev nD} {i : grid0.Coords}

theorem lanes_congr {α : Type} {w w' : ℕ → α} (h : ∀ l, l < 16 → w l = w' l) : lanes w = lanes w' := by
  funext x
  exact h _ (x 0).isLt

/-- Rows below `m` at a column below `n` lie in an `m` by `n` table. -/
theorem idx_ok {m n : ℕ} (w : ℕ → BitVec 32) (hw : ∀ l, l < 16 → (w l).toNat < m) (c : ℕ) (hc : c < n) (hn : n < 4294967296) :
    ∀ a x, ((![lanes w, broadcast S16 (BitVec.ofNat 32 c)] : Fin 2 → IVec S16 32) a x).toNat < (⟨2, ![m, n]⟩ : Shape).size a := by
  intro a x
  match a with
  | 0 => exact hw _ (x 0).isLt
  | 1 => exact (col_toNat c (by omega) x).trans_lt hc

theorem idx_ok₁ {m : ℕ} (w : ℕ → BitVec 32) (hw : ∀ l, l < 16 → (w l).toNat < m) :
    ∀ a x, ((![lanes w] : Fin 1 → IVec S16 32) a x).toNat < (⟨1, ![m]⟩ : Shape).size a := by
  intro a x
  match a with
  | 0 => exact hw _ (x 0).isLt

theorem table_gather {m n : ℕ} {base : Memref sig .scVector .vmem ⟨2, ![m, n]⟩ .f32} {f : Buf (Elt F) ((base.access (.whole ⟨2, ![m, n]⟩)).loc (tile d i))}
    {tab : ℕ → ℕ → Elt F .f32} (hr : (base.access (.whole ⟨2, ![m, n]⟩)).read (Elt F) f = fun x => tab (x 0).val (x 1).val)
    (w : ℕ → BitVec 32) (c : ℕ) (hc : c < 4294967296)
    {h : ∀ a x, ((![lanes w, broadcast S16 (BitVec.ofNat 32 c)] : Fin 2 → IVec S16 32) a x).toNat < (⟨2, ![m, n]⟩ : Shape).size a} {hl : base.view.Loads} :
    Runs d i ((base.access (.whole ⟨2, ![m, n]⟩)).loc (tile d i) ↦{fullShare} f) (SparseCore.vectorLoadIdx base ![lanes w, broadcast S16 (BitVec.ofNat 32 c)] h hl)
      ((base.access (.whole ⟨2, ![m, n]⟩)).loc (tile d i) ↦{fullShare} f) (lanes fun l => tab (w l).toNat c) := by
  have e : loadIdx (F := F) (fun x : (⟨2, ![m, n]⟩ : Shape).Idx => tab (x 0).val (x 1).val) ![lanes w, broadcast S16 (BitVec.ofNat 32 c)] h
      = lanes fun l => tab (w l).toNat c := by
    funext x
    show tab (lanes w x).toNat ((broadcast S16 (BitVec.ofNat 32 c)) x).toNat = _
    rw [col_toNat c hc]
    rfl
  rw [← e]
  exact Runs.gather hr

theorem words_gather {m : ℕ} {base : Memref sig .scVector .vmem ⟨1, ![m]⟩ .i32} {f : Buf (Elt F) ((base.access (.whole ⟨1, ![m]⟩)).loc (tile d i))}
    {tab : ℕ → BitVec 32} (hr : (base.access (.whole ⟨1, ![m]⟩)).read (Elt F) f = fun x => tab (x 0).val)
    (w : ℕ → BitVec 32)
    {h : ∀ a x, ((![lanes w] : Fin 1 → IVec S16 32) a x).toNat < (⟨1, ![m]⟩ : Shape).size a} {hl : base.view.Loads} :
    Runs d i ((base.access (.whole ⟨1, ![m]⟩)).loc (tile d i) ↦{fullShare} f) (SparseCore.vectorLoadIdx base ![lanes w] h hl)
      ((base.access (.whole ⟨1, ![m]⟩)).loc (tile d i) ↦{fullShare} f) (lanes fun l => tab (w l).toNat) :=
  Runs.gather hr

end

/-! ## The tables in the tile's memory -/

def zwAt (d : Dev nD) (i : grid0.Coords) (f : S85x32.Idx → Elt F .f32) : sProp 𝕄 := (tile d i).loc cc0_scratch0 ↦{fullShare} f
def twAt (d : Dev nD) (i : grid0.Coords) (f : S3x32.Idx → Elt F .f32) : sProp 𝕄 := (tile d i).loc cc0_scratch1 ↦{fullShare} f
def pwAt (d : Dev nD) (i : grid0.Coords) (f : S8x32.Idx → Elt F .f32) : sProp 𝕄 := (tile d i).loc cc0_scratch2 ↦{fullShare} f
def gwAt (d : Dev nD) (i : grid0.Coords) (f : S20x32.Idx → Elt F .f32) : sProp 𝕄 := (tile d i).loc cc0_scratch3 ↦{fullShare} f
def prAt (d : Dev nD) (i : grid0.Coords) (f : S86x14.Idx → Elt F .f32) : sProp 𝕄 := (tile d i).loc cc0_scratch4 ↦{fullShare} f
def pmAt (d : Dev nD) (i : grid0.Coords) (f : S86.Idx → BitVec 32) : sProp 𝕄 := (tile d i).loc cc0_scratch5 ↦{fullShare} f
def gmAt (d : Dev nD) (i : grid0.Coords) (f : S86.Idx → BitVec 32) : sProp 𝕄 := (tile d i).loc cc0_scratch6 ↦{fullShare} f

/-! ## The fused rows -/

/-- The rows of group `k` of the fused table, their elements and their tags, as words. -/
def rW (k l : ℕ) : BitVec 32 := BitVec.ofNat 32 (16 * k + l)
def zW (k l : ℕ) : BitVec 32 := BitVec.ofNat 32 (min ((16 * k + l) / 3) 84)
def tW (k l : ℕ) : BitVec 32 := BitVec.ofNat 32 ((16 * k + l) % 3)

theorem rW_toNat {k : ℕ} (hk : k < 16) {l : ℕ} (hl : l < 16) : (rW k l).toNat = 16 * k + l := by
  unfold rW; rw [BitVec.toNat_ofNat]; omega
theorem zW_toNat (k l : ℕ) : (zW k l).toNat = min ((16 * k + l) / 3) 84 := by
  unfold zW; rw [BitVec.toNat_ofNat]; omega
theorem tW_toNat (k l : ℕ) : (tW k l).toNat = (16 * k + l) % 3 := by
  unfold tW; rw [BitVec.toNat_ofNat]; omega
theorem rW_lt {k : ℕ} (hk : k < 16) : ∀ l, l < 16 → (rW k l).toNat < 256 := by
  intro l hl; rw [rW_toNat hk hl]; omega
theorem zW_lt (k : ℕ) : ∀ l, l < 16 → (zW k l).toNat < 85 := by
  intro l _; rw [zW_toNat]; omega
theorem zW_lt' (k : ℕ) : ∀ l, l < 16 → (zW k l).toNat < 86 := by
  intro l _; rw [zW_toNat]; omega
theorem tW_lt (k : ℕ) : ∀ l, l < 16 → (tW k l).toNat < 3 := by
  intro l _; rw [tW_toNat]; omega

attribute [irreducible] rW zW tW

/-- The tables the fused table is built from. -/
structure BuildIn (F : FTy → Type) where
  zw : ℕ → ℕ → Elt F .f32
  tw : ℕ → ℕ → Elt F .f32
  pw : ℕ → ℕ → Elt F .f32
  gw : ℕ → ℕ → Elt F .f32
  pr : ℕ → ℕ → Elt F .f32
  pm : ℕ → BitVec 32
  gm : ℕ → BitVec 32
  hpm : ∀ n, (pm n).toNat < 8
  hgm : ∀ n, (gm n).toNat < 20

namespace BuildIn

variable (B : BuildIn F)

/-- The embedding's element at the element `z`, the tag `t` and the column `c`. -/
def elem (z t c : ℕ) : Elt F .f32 :=
  if c < 32 then B.zw z c else if c < 46 then B.pr z (c - 32) else if c < 78 then B.pw (B.pm z).toNat (c - 46)
    else if c < 110 then B.gw (B.gm z).toNat (c - 78) else B.tw t (c - 110)

/-- The fused table. -/
def tab (r c : ℕ) : Elt F .f32 := B.elem (min (r / 3) 84) (r % 3) c

theorem tab_zw (r c : ℕ) (hc : c < 32) : B.tab r c = B.zw (min (r / 3) 84) c := if_pos hc
theorem tab_pr (r c : ℕ) (hc : c < 14) : B.tab r (32 + c) = B.pr (min (r / 3) 84) c := by
  unfold tab elem
  rw [if_neg (by omega), if_pos (by omega), Nat.add_sub_cancel_left]
theorem tab_pw (r c : ℕ) (hc : c < 32) : B.tab r (46 + c) = B.pw (B.pm (min (r / 3) 84)).toNat c := by
  unfold tab elem
  rw [if_neg (by omega), if_neg (by omega), if_pos (by omega), Nat.add_sub_cancel_left]
theorem tab_gw (r c : ℕ) (hc : c < 32) : B.tab r (78 + c) = B.gw (B.gm (min (r / 3) 84)).toNat c := by
  unfold tab elem
  rw [if_neg (by omega), if_neg (by omega), if_neg (by omega), if_pos (by omega), Nat.add_sub_cancel_left]
theorem tab_tw (r c : ℕ) : B.tab r (110 + c) = B.tw (r % 3) c := by
  unfold tab elem
  rw [if_neg (by omega), if_neg (by omega), if_neg (by omega), if_neg (by omega), Nat.add_sub_cancel_left]

/-- The fused table's memory once the groups before `k` are built, and of group `k` the columns before `c`. -/
def fill (old : S256x142.Idx → Elt F .f32) (k c : ℕ) : S256x142.Idx → Elt F .f32 := fun x =>
  if (x 0).val < 16 * k ∨ ((x 0).val < 16 * k + 16 ∧ (x 1).val < c) then B.tab (x 0).val (x 1).val else old x

variable {B}

theorem fill_zero (old : S256x142.Idx → Elt F .f32) : B.fill old 0 0 = old := by
  funext x
  exact if_neg (by omega)

theorem fill_next (old : S256x142.Idx → Elt F .f32) (k : ℕ) : B.fill old k 142 = B.fill old (k + 1) 0 := by
  funext x
  have h1 : (x 1).val < 142 := (x 1).isLt
  exact if_congr (by omega) rfl rfl

theorem fill_all (old : S256x142.Idx → Elt F .f32) : B.fill old 16 0 = fun x => B.tab (x 0).val (x 1).val := by
  funext x
  have h0 : (x 0).val < 256 := (x 0).isLt
  exact if_pos (by omega)

theorem fill_succ (old : S256x142.Idx → Elt F .f32) (k c : ℕ) :
    (fun j : S256x142.Idx => if (j 1).val = c ∧ 16 * k ≤ (j 0).val ∧ (j 0).val < 16 * k + 16 then B.tab (16 * k + ((j 0).val - 16 * k)) c else B.fill old k c j)
      = B.fill old k (c + 1) := by
  funext j
  unfold fill
  by_cases h : (j 1).val = c ∧ 16 * k ≤ (j 0).val ∧ (j 0).val < 16 * k + 16
  · rw [if_pos h, if_pos (by omega), Nat.add_sub_cancel' h.2.1, h.1]
  · rw [if_neg h]
    exact if_congr (by omega) rfl rfl

variable (B)

/-- The tile's memory during the build. -/
def At (d : Dev nD) (i : grid0.Coords) (old : S256x142.Idx → Elt F .f32) (k c : ℕ) : sProp 𝕄 :=
  iprop(zwAt d i (fun x => B.zw (x 0).val (x 1).val) ∗ twAt d i (fun x => B.tw (x 0).val (x 1).val) ∗ pwAt d i (fun x => B.pw (x 0).val (x 1).val)
    ∗ gwAt d i (fun x => B.gw (x 0).val (x 1).val) ∗ prAt d i (fun x => B.pr (x 0).val (x 1).val) ∗ pmAt d i (fun x => B.pm (x 0).val)
    ∗ gmAt d i (fun x => B.gm (x 0).val) ∗ fusedAt d i (B.fill old k c))

theorem At_next {d : Dev nD} {i : grid0.Coords} {old : S256x142.Idx → Elt F .f32} {k : ℕ} : B.At d i old (k + 1) 0 = B.At d i old k 142 := by
  unfold At
  rw [fill_next]

/-- A group's period rows and group rows. -/
abbrev pmW (k l : ℕ) : BitVec 32 := B.pm (zW k l).toNat
abbrev gmW (k l : ℕ) : BitVec 32 := B.gm (zW k l).toNat

variable {B} {d : Dev nD} {i : grid0.Coords} {old : S256x142.Idx → Elt F .f32} {k n : ℕ}

theorem gather_zw (c : ℕ) (hc : c < 32)
    {h : ∀ a x, ((![lanes (zW k), broadcast S16 (BitVec.ofNat 32 c)] : Fin 2 → IVec S16 32) a x).toNat < S85x32.size a}
    {hl : (Memref.whole cc0_scratch0 : Memref sig .scVector .vmem S85x32 .f32).view.Loads} :
    Runs d i (B.At d i old k n) (SparseCore.vectorLoadIdx (Memref.whole cc0_scratch0 : Memref sig .scVector .vmem S85x32 .f32)
        ![lanes (zW k), broadcast S16 (BitVec.ofNat 32 c)] h hl)
      (B.At d i old k n) (lanes fun l => B.tab (16 * k + l) (c)) := by
  rw [show (lanes fun l => B.tab (16 * k + l) (c)) = lanes fun l => B.zw (zW k l).toNat c from
    lanes_congr fun l _ => (by show B.zw (zW k l).toNat c = _; rw [B.tab_zw _ c hc, zW_toNat] : B.zw (zW k l).toNat c = B.tab (16 * k + l) (c)).symm]
  have := table_gather (F := F) (d := d) (i := i) (base := (Memref.whole cc0_scratch0 : Memref sig .scVector .vmem S85x32 .f32)) (f := fun x => B.zw (x 0).val (x 1).val)
    (tab := B.zw) (Memref.read_access_whole _ cc0_scratch0 _) (zW k) c (by omega) (h := h) (hl := hl)
  exact Runs.frame (this)

theorem gather_tw (c : ℕ) (hc : c < 32)
    {h : ∀ a x, ((![lanes (tW k), broadcast S16 (BitVec.ofNat 32 c)] : Fin 2 → IVec S16 32) a x).toNat < S3x32.size a}
    {hl : (Memref.whole cc0_scratch1 : Memref sig .scVector .vmem S3x32 .f32).view.Loads} :
    Runs d i (B.At d i old k n) (SparseCore.vectorLoadIdx (Memref.whole cc0_scratch1 : Memref sig .scVector .vmem S3x32 .f32)
        ![lanes (tW k), broadcast S16 (BitVec.ofNat 32 c)] h hl)
      (B.At d i old k n) (lanes fun l => B.tab (16 * k + l) (110 + c)) := by
  rw [show (lanes fun l => B.tab (16 * k + l) (110 + c)) = lanes fun l => B.tw (tW k l).toNat c from
    lanes_congr fun l _ => (by show B.tw (tW k l).toNat c = _; rw [B.tab_tw _ c, tW_toNat] : B.tw (tW k l).toNat c = B.tab (16 * k + l) (110 + c)).symm]
  have := table_gather (F := F) (d := d) (i := i) (base := (Memref.whole cc0_scratch1 : Memref sig .scVector .vmem S3x32 .f32)) (f := fun x => B.tw (x 0).val (x 1).val)
    (tab := B.tw) (Memref.read_access_whole _ cc0_scratch1 _) (tW k) c (by omega) (h := h) (hl := hl)
  exact Runs.frame_left (Runs.frame (this))

theorem gather_pw (c : ℕ) (hc : c < 32)
    {h : ∀ a x, ((![lanes (B.pmW k), broadcast S16 (BitVec.ofNat 32 c)] : Fin 2 → IVec S16 32) a x).toNat < S8x32.size a}
    {hl : (Memref.whole cc0_scratch2 : Memref sig .scVector .vmem S8x32 .f32).view.Loads} :
    Runs d i (B.At d i old k n) (SparseCore.vectorLoadIdx (Memref.whole cc0_scratch2 : Memref sig .scVector .vmem S8x32 .f32)
        ![lanes (B.pmW k), broadcast S16 (BitVec.ofNat 32 c)] h hl)
      (B.At d i old k n) (lanes fun l => B.tab (16 * k + l) (46 + c)) := by
  rw [show (lanes fun l => B.tab (16 * k + l) (46 + c)) = lanes fun l => B.pw (B.pmW k l).toNat c from
    lanes_congr fun l _ => (by show B.pw (B.pm (zW k l).toNat).toNat c = _; rw [B.tab_pw _ c hc, zW_toNat] : B.pw (B.pmW k l).toNat c = B.tab (16 * k + l) (46 + c)).symm]
  have := table_gather (F := F) (d := d) (i := i) (base := (Memref.whole cc0_scratch2 : Memref sig .scVector .vmem S8x32 .f32)) (f := fun x => B.pw (x 0).val (x 1).val)
    (tab := B.pw) (Memref.read_access_whole _ cc0_scratch2 _) (B.pmW k) c (by omega) (h := h) (hl := hl)
  exact Runs.frame_left (Runs.frame_left (Runs.frame (this)))

theorem gather_gw (c : ℕ) (hc : c < 32)
    {h : ∀ a x, ((![lanes (B.gmW k), broadcast S16 (BitVec.ofNat 32 c)] : Fin 2 → IVec S16 32) a x).toNat < S20x32.size a}
    {hl : (Memref.whole cc0_scratch3 : Memref sig .scVector .vmem S20x32 .f32).view.Loads} :
    Runs d i (B.At d i old k n) (SparseCore.vectorLoadIdx (Memref.whole cc0_scratch3 : Memref sig .scVector .vmem S20x32 .f32)
        ![lanes (B.gmW k), broadcast S16 (BitVec.ofNat 32 c)] h hl)
      (B.At d i old k n) (lanes fun l => B.tab (16 * k + l) (78 + c)) := by
  rw [show (lanes fun l => B.tab (16 * k + l) (78 + c)) = lanes fun l => B.gw (B.gmW k l).toNat c from
    lanes_congr fun l _ => (by show B.gw (B.gm (zW k l).toNat).toNat c = _; rw [B.tab_gw _ c hc, zW_toNat] : B.gw (B.gmW k l).toNat c = B.tab (16 * k + l) (78 + c)).symm]
  have := table_gather (F := F) (d := d) (i := i) (base := (Memref.whole cc0_scratch3 : Memref sig .scVector .vmem S20x32 .f32)) (f := fun x => B.gw (x 0).val (x 1).val)
    (tab := B.gw) (Memref.read_access_whole _ cc0_scratch3 _) (B.gmW k) c (by omega) (h := h) (hl := hl)
  exact Runs.frame_left (Runs.frame_left (Runs.frame_left (Runs.frame (this))))

theorem gather_pr (c : ℕ) (hc : c < 14)
    {h : ∀ a x, ((![lanes (zW k), broadcast S16 (BitVec.ofNat 32 c)] : Fin 2 → IVec S16 32) a x).toNat < S86x14.size a}
    {hl : (Memref.whole cc0_scratch4 : Memref sig .scVector .vmem S86x14 .f32).view.Loads} :
    Runs d i (B.At d i old k n) (SparseCore.vectorLoadIdx (Memref.whole cc0_scratch4 : Memref sig .scVector .vmem S86x14 .f32)
        ![lanes (zW k), broadcast S16 (BitVec.ofNat 32 c)] h hl)
      (B.At d i old k n) (lanes fun l => B.tab (16 * k + l) (32 + c)) := by
  rw [show (lanes fun l => B.tab (16 * k + l) (32 + c)) = lanes fun l => B.pr (zW k l).toNat c from
    lanes_congr fun l _ => (by show B.pr (zW k l).toNat c = _; rw [B.tab_pr _ c hc, zW_toNat] : B.pr (zW k l).toNat c = B.tab (16 * k + l) (32 + c)).symm]
  have := table_gather (F := F) (d := d) (i := i) (base := (Memref.whole cc0_scratch4 : Memref sig .scVector .vmem S86x14 .f32)) (f := fun x => B.pr (x 0).val (x 1).val)
    (tab := B.pr) (Memref.read_access_whole _ cc0_scratch4 _) (zW k) c (by omega) (h := h) (hl := hl)
  exact Runs.frame_left (Runs.frame_left (Runs.frame_left (Runs.frame_left (Runs.frame (this)))))

theorem gather_pm {h : ∀ a x, ((![lanes (zW k)] : Fin 1 → IVec S16 32) a x).toNat < S86.size a}
    {hl : (Memref.whole cc0_scratch5 : Memref sig .scVector .vmem S86 .i32).view.Loads} :
    Runs d i (B.At d i old k n) (SparseCore.vectorLoadIdx (Memref.whole cc0_scratch5 : Memref sig .scVector .vmem S86 .i32) ![lanes (zW k)] h hl)
      (B.At d i old k n) (lanes (B.pmW k)) := by
  have := words_gather (F := F) (d := d) (i := i) (base := (Memref.whole cc0_scratch5 : Memref sig .scVector .vmem S86 .i32)) (f := fun x => B.pm (x 0).val)
    (tab := B.pm) (Memref.read_access_whole _ cc0_scratch5 _) (zW k) (h := h) (hl := hl)
  exact Runs.frame_left (Runs.frame_left (Runs.frame_left (Runs.frame_left (Runs.frame_left (Runs.frame (this))))))

theorem gather_gm {h : ∀ a x, ((![lanes (zW k)] : Fin 1 → IVec S16 32) a x).toNat < S86.size a}
    {hl : (Memref.whole cc0_scratch6 : Memref sig .scVector .vmem S86 .i32).view.Loads} :
    Runs d i (B.At d i old k n) (SparseCore.vectorLoadIdx (Memref.whole cc0_scratch6 : Memref sig .scVector .vmem S86 .i32) ![lanes (zW k)] h hl)
      (B.At d i old k n) (lanes (B.gmW k)) := by
  have := words_gather (F := F) (d := d) (i := i) (base := (Memref.whole cc0_scratch6 : Memref sig .scVector .vmem S86 .i32)) (f := fun x => B.gm (x 0).val)
    (tab := B.gm) (Memref.read_access_whole _ cc0_scratch6 _) (zW k) (h := h) (hl := hl)
  exact Runs.frame_left (Runs.frame_left (Runs.frame_left (Runs.frame_left (Runs.frame_left (Runs.frame_left (Runs.frame (this)))))))

theorem fused_scatter {f : S256x142.Idx → Elt F .f32} {idxs : Fin 2 → IVec S16 32} {h : ∀ a x, (idxs a x).toNat < S256x142.size a}
    {v : Vec F S16 .f32} {hs : (fusedM.access (.whole S256x142)).Stores Finset.univ} :
    Runs d i (fusedAt d i f) (SparseCore.vectorStoreIdx fusedM idxs v (fun _ => 1#1) false h hs) (fusedAt d i (storeIdx f idxs v (fun _ => 1#1) false h)) ⟨⟩ :=
  Runs.scatter (base := fusedM) (f := f) (Memref.set_access_whole cc0_scratch7)
    ((Memref.write_access_whole_univ _ cc0_scratch7 f _).trans
      (congrArg (fun u => storeIdx u idxs v (fun _ => 1#1) false h) (Memref.read_access_whole _ cc0_scratch7 f)))

/-- One column of the group stored. -/
theorem store (hk : k < 16) (c : ℕ) (hn : n = c) (hc : c < 142) (c' : ℕ) (hc' : c' = c)
    {h : ∀ a x, ((![lanes (rW k), broadcast S16 (BitVec.ofNat 32 c)] : Fin 2 → IVec S16 32) a x).toNat < S256x142.size a}
    {hs : (fusedM.access (.whole S256x142)).Stores Finset.univ} :
    Runs d i (B.At d i old k n) (SparseCore.vectorStoreIdx fusedM ![lanes (rW k), broadcast S16 (BitVec.ofNat 32 c)]
        (lanes fun l => B.tab (16 * k + l) c') (fun _ => 1#1) false h hs) (B.At d i old k (c + 1)) ⟨⟩ := by
  subst hn
  subst hc'
  have e : storeIdx (B.fill old k c') ![lanes (rW k), broadcast S16 (BitVec.ofNat 32 c')] (lanes fun l => B.tab (16 * k + l) c') (fun _ => 1#1) false h
      = B.fill old k (c' + 1) :=
    (storeIdx_col (m := 256) (n := 142) _ _ _ (fun l => B.tab (16 * k + l) c') (16 * k) c' (fun x => rW_toNat hk (x 0).isLt) (col_toNat c' (by omega)) h).trans
      (fill_succ old k c')
  unfold At
  rw [← e]
  exact Runs.frame_left (Runs.frame_left (Runs.frame_left (Runs.frame_left (Runs.frame_left (Runs.frame_left (Runs.frame_left fused_scatter))))))

end BuildIn

end Cert.Proof

end
-- ==== Proof.BuildParts.lean ====
/-
  The build's group arithmetic: a group's rows, their elements and their tags.
-/
module

public import proofs.«01_k».proof.Proof.Build

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## The group's rows, elements and tags, as the kernel's arithmetic makes them -/

section

theorem trips_lt (k : Fin k0_t1_loop.trips) : k.val < 16 := k.isLt.trans_le (by decide)

/-- A fact about every lane, from one about every lane's number. -/
theorem all_lanes {p : S16.Idx → Prop} (h : ∀ l : Fin 16, p (fun | 0 => l)) (x : S16.Idx) : p x := by
  have e : x = (fun | 0 => x 0) := by
    funext a
    match a with
    | 0 => rfl
  rw [e]
  exact h (x 0)

/-- Two vectors built for every group agree, once they do lane by lane. -/
theorem vec_ext {α : Type} {u v : Fin k0_t1_loop.trips → S16.Idx → α}
    (h : ∀ (k : Fin k0_t1_loop.trips) (l : Fin 16), u k (fun | 0 => l) = v k (fun | 0 => l)) (k : Fin k0_t1_loop.trips) : u k = v k :=
  funext (all_lanes (h k))

/-- A group's quotients by three, and the sign of each row. -/
def qW (k l : ℕ) : BitVec 32 := BitVec.ofNat 32 ((16 * k + l) / 3)
def sW (k l : ℕ) : BitVec 32 := if 16 * k + l = 0 then 0#32 else 1#32

/-- Division by three rounded down, as the kernel writes it: the quotient `q`, one less where the signs `s` and `c` differ and
a remainder is left. -/
abbrev floored (r q s c : IVec S16 32) : IVec S16 32 :=
  select (andi (cmpi .ne s c) (cmpi .ne (remsi r (broadcast S16 3#32)) (broadcast S16 0#32))) (subi q (broadcast S16 1#32)) q

abbrev signs (r : IVec S16 32) : IVec S16 32 :=
  subi (extui 32 (cmpi .sgt r (broadcast S16 0#32)) natLt_1_32) (extui 32 (cmpi .slt r (broadcast S16 0#32)) natLt_1_32)

abbrev sign3 : IVec S16 32 := broadcast S16 (Scalar.subi (Scalar.extui (Scalar.cmpi .sgt 3#32 0#32)) (Scalar.extui (Scalar.cmpi .slt 3#32 0#32)))

theorem rows_eq (k : Fin k0_t1_loop.trips) : addi (broadcast S16 (Scalar.muli (Scf.iv 0#32 1#32 k) 16#32)) (iota .scVector S16 32 [0] iota_S16_d0_w32_scVector) = lanes (rW k.val) :=
  vec_ext (u := fun k => addi (broadcast S16 (Scalar.muli (Scf.iv 0#32 1#32 k) 16#32)) (iota .scVector S16 32 [0] iota_S16_d0_w32_scVector)) (v := fun k => lanes (rW k.val))
    (by decide +kernel) k

theorem quot_eq (k : Fin k0_t1_loop.trips) : divsi (lanes (rW k.val)) (broadcast S16 3#32) = lanes (qW k.val) :=
  vec_ext (u := fun k => divsi (lanes (rW k.val)) (broadcast S16 3#32)) (v := fun k => lanes (qW k.val)) (by decide +kernel) k

theorem signs_eq (k : Fin k0_t1_loop.trips) : signs (lanes (rW k.val)) = lanes (sW k.val) :=
  vec_ext (u := fun k => signs (lanes (rW k.val))) (v := fun k => lanes (sW k.val)) (by decide +kernel) k

theorem sign3_eq : sign3 = broadcast S16 1#32 := funext (all_lanes (by decide +kernel))

theorem elems_eq (k : Fin k0_t1_loop.trips) :
    minsi (floored (lanes (rW k.val)) (lanes (qW k.val)) (lanes (sW k.val)) (broadcast S16 1#32)) (broadcast S16 84#32) = lanes (zW k.val) :=
  vec_ext (u := fun k => minsi (floored (lanes (rW k.val)) (lanes (qW k.val)) (lanes (sW k.val)) (broadcast S16 1#32)) (broadcast S16 84#32))
    (v := fun k => lanes (zW k.val)) (by decide +kernel) k

theorem tags_eq (k : Fin k0_t1_loop.trips) :
    subi (lanes (rW k.val)) (muli (floored (lanes (rW k.val)) (lanes (qW k.val)) (lanes (sW k.val)) (broadcast S16 1#32)) (broadcast S16 3#32)) = lanes (tW k.val) :=
  vec_ext (u := fun k => subi (lanes (rW k.val)) (muli (floored (lanes (rW k.val)) (lanes (qW k.val)) (lanes (sW k.val)) (broadcast S16 1#32)) (broadcast S16 3#32)))
    (v := fun k => lanes (tW k.val)) (by decide +kernel) k

theorem elems_ok (k : ℕ) : k0_chk1 (lanes (zW k)) := ⟨idx_ok₁ _ (zW_lt' k), idx_ok₁ _ (zW_lt' k)⟩

end

/-! ## The group's first two parts -/

variable {d : Dev nD} {i : grid0.Coords} {B : BuildIn F} {old : S256x142.Idx → Elt F .f32}

theorem Runs.assume_of {β : Type} {I J : sProp (MT nD τ sig (HIx 1) (Elt F) ℕ UU ℕ)} {P : Prop} {dec : Decidable P} {c : PLift P → TileProg F i β} {s : β}
    (h : P) (hc : Runs d i I (c ⟨h⟩) J s) : Runs d i I (Prog.lift (TpuEff.assume P dec) >>= c) J s :=
  Runs.bind (Runs.assume h) hc

theorem run_split {I : sProp (MT nD τ sig (HIx 1) (Elt F) ℕ UU ℕ)} {r r' z z' q q' s s' c c' : IVec S16 32} (hr : r = r') (hz : z = z') (hq : q = q') (hs : s = s') (hc : c = c')
    (hw : k0_chk1 z') :
    Runs d i I (Prog.lift (TpuEff.assume (k0_chk1 z) (k0_chk1.dec z)) >>= fun h => Pure.pure ⟨r, z, h.down, 3#32, q, s, c⟩ :
        TileProg F i (Σ' (x : IVec S16 32) (y : IVec S16 32) (hy : k0_chk1 y) (b : BitVec 32) (u : IVec S16 32) (v : IVec S16 32), IVec S16 32)) I
      ⟨r', z', hw, 3#32, q', s', c'⟩ := by
  subst hr hz hq hs hc
  exact Runs.assume_of hw Runs.pure

theorem run_part1 (k : Fin k0_t1_loop.trips) {I : sProp (MT nD τ sig (HIx 1) (Elt F) ℕ UU ℕ)} (hw) :
    Runs d i I (k0_part1 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 (iota .scVector S16 32 [0] iota_S16_d0_w32_scVector) 0#32 1#32 k) I
      ⟨lanes (rW k.val), lanes (zW k.val), hw, 3#32, lanes (qW k.val), lanes (sW k.val), broadcast S16 1#32⟩ := by
  unfold k0_part1
  have hr := rows_eq k
  have hq := quot_eq k
  have hs := signs_eq k
  have hz := elems_eq k
  rw [← hq, ← hs, ← sign3_eq, ← hr] at hz
  rw [← hr] at hq hs
  exact run_split hr hz hq hs sign3_eq hw

theorem run_part2 (k : Fin k0_t1_loop.trips) (hw hw') :
    Runs d i (B.At d i old k.val 0)
      (k0_part2 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 (lanes (rW k.val)) (lanes (zW k.val)) hw 3#32 (lanes (qW k.val)) (lanes (sW k.val)) (broadcast S16 1#32))
      (B.At d i old k.val 8) ⟨lanes (tW k.val), lanes (B.pmW k.val), lanes (B.gmW k.val), broadcast S16 8#32, hw'⟩ := by
  unfold k0_part2
  have hk := trips_lt k
  rw [← tags_eq k]
  apply Runs.bind
  · exact BuildIn.gather_pm
  repeat (first
    | with_reducible apply Runs.bind
    | with_reducible exact BuildIn.gather_gm
    | with_reducible exact BuildIn.gather_zw _ (by decide)
    | with_reducible exact BuildIn.store hk _ (by decide) (by decide) _ (by decide)
    | (with_reducible refine Runs.assume ?_
       first
       | exact ⟨idx_ok _ (zW_lt _) _ (by decide) (by decide), idx_ok _ (rW_lt hk) _ (by decide) (by decide)⟩)
    | with_reducible exact Runs.pure
    | apply Runs.bind)

end Cert.Proof

end
-- ==== Proof.Copies.lean ====
/-
  The tile's local copies. Each is enqueued on a semaphore of its own and waited for at once: the
  two together take the source's and the destination's buffers to the destination overwritten with
  what the source reads, the semaphore at zero again.
-/
module

public import proofs.«01_k».proof.Proof.Runs

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]
local notation "𝕄" => MT nD τ sig (HIx 1) (Elt F) ℕ UU ℕ

/-- What the tile owes, with the evidence that its own waits lie below it. -/
def OW (d : Dev nD) (i : grid0.Coords) (O : CellTallies nD τ sig (HIx 1)) (W : Waits sig (HIx 1)) : sProp 𝕄 :=
  iprop(MayWaits (tile d i) (none : HIx 1) O ∗ ∃ W', ⌜∀ p ∈ W', p ∈ W ∨ p.2 = none⌝ ∗ owes (tile d i) O W')

namespace Runs

variable {d : Dev nD} {i : grid0.Coords} {O : CellTallies nD τ sig (HIx 1)} {W : Waits sig (HIx 1)}
variable {s : Shape} {e : EltTy} {sp sp' : Space}

/-- The wait for a copy in flight: its delivery. -/
theorem waitDma {sem : DmaSem sig} {s' : Shape} {e' : EltTy} {srcw : Memref sig .scVector sp s' e'} {dstw : Memref sig .scVector sp' s e}
    {hsrc : srcw.view.WordExact} {hdst : dstw.view.WordExact} {D : sProp 𝕄} :
    Runs d i iprop(Flight countersEmb (tile d i) (SemLoc.dma sem) (none : HIx 1) dstw.view.dmaCredit D ∗ OW d i O W)
      (Prog.lift (.waitDma2 sem srcw dstw hsrc hdst))
      iprop(D ∗ semVal (tile d i, SemLoc.dma sem) 0 ∗ OW d i O W) ⟨⟩ := by
  intro γ K Φ
  show _ ⊢ iprop(_ -∗ wpT d i (.op (.waitDma2 sem srcw dstw hsrc hdst) K) Φ)
  unfold OW
  iintro ⟨HF, #HM, %W', %hW', HO⟩ HK
  iapply (Transfers.wp_waitLocalO countersEmb 𝒱₀ (tile d i) none (none : HIx 1) rfl (O := O) (W := W')) $$ [HF HO]
  · isplitl [HF]; · iexact HF
    isplitl [HO]; · iexact HO
    iapply (Transfers.MayWaits.elim (SemLoc.dma sem)); iexact HM
  iintro ⟨HD, Hsem, HO⟩
  iapply HK
  isplitl [HD]; · iexact HD
  isplitl [Hsem]; · iexact Hsem
  isplitr; · iexact HM
  iexists (insert (SemLoc.dma sem, (none : HIx 1)) W')
  isplitr
  · ipureintro
    intro p hp
    rcases Finset.mem_insert.mp hp with rfl | hp
    · exact .inr rfl
    · exact hW' p hp
  · iexact HO

/-- A copy enqueued and waited for. -/
theorem copy {src : Memref sig .scVector sp s e} {dst : Memref sig .scVector sp' s e} {sem : DmaSem sig} {s' : Shape} {e' : EltTy} {spw spw' : Space}
    {srcw : Memref sig .scVector spw s' e'} {dstw : Memref sig .scVector spw' s e}
    {hsrc : src.view.WordExact} {hdst : dst.view.WordExact}
    {hsem : DmaTarget.Typed (nD := nD) (p := Proc.scVector ((i 0).castLE hcore0) ((i 1).castLE hsub0)) sp (.dma sem) (.here dst)}
    {hsrcw : srcw.view.WordExact} {hdstw : dstw.view.WordExact}
    {q : PosShare TreeShare} {Ss : Finset (Idx (src.view.loc (tile d i)))} {Sd : Finset (Idx (dst.view.loc (tile d i)))}
    {fs : Buf (Elt F) (src.view.loc (tile d i))} {fd : Buf (Elt F) (dst.view.loc (tile d i))} (g : Buf (Elt F) (dst.view.loc (tile d i)))
    {α : Type} {k : PUnit → TileProg F i α} {R J : sProp 𝕄} {r : α}
    (hs : src.view.set ⊆ Ss) (hd : dst.view.set ⊆ Sd)
    (hg : ∀ x ∈ Sd, dst.view.write (Elt F) fd (src.view.read (Elt F) fs) Finset.univ x = g x)
    (hn : 0 < s.numel) (hw : dstw.view.dmaCredit = dst.view.dmaCredit)
    (hk : Runs d i iprop((src.view.loc (tile d i) ↦[Ss]{q} fs) ∗ (dst.view.loc (tile d i) ↦[Sd]{fullShare} g) ∗ semVal (tile d i, SemLoc.dma sem) 0
      ∗ OW d i O W ∗ R) (k ⟨⟩) J r) :
    Runs d i iprop((src.view.loc (tile d i) ↦[Ss]{q} fs) ∗ (dst.view.loc (tile d i) ↦[Sd]{fullShare} fd) ∗ semVal (tile d i, SemLoc.dma sem) 0
        ∗ OW d i O W ∗ R)
      (Prog.lift (.enqueueDma src (.here dst) (.dma sem) hsrc hdst hsem) >>= fun _ => Prog.lift (.waitDma2 sem srcw dstw hsrcw hdstw) >>= k) J r := by
  intro γ K Φ
  show _ ⊢ iprop(_ -∗ wpT d i (.op (.enqueueDma src (.here dst) (.dma sem) hsrc hdst hsem)
    fun _ => (Prog.lift (.waitDma2 sem srcw dstw hsrcw hdstw) >>= k) >>= K) Φ)
  iintro ⟨Hs, Hd, Hsem, HO, HR⟩ HK
  ihave Hs' := (pointsTo_split_subset (ℓ := src.view.loc (tile d i)) (q := q) (f := fs) hs).1 $$ Hs
  icases Hs' with ⟨Hs1, Hs2⟩
  iapply (Transfers.wp_dmaLocal countersEmb 𝒱₀ (tile d i) none (q := q) (fs := fs) (fd := fd) (none : HIx 1) (dst.view.amount (.dma sem)) rfl
    (View.amount_pos _ _ hn) hd) $$ [Hs1 Hd Hsem]
  · isplitl [Hs1]; · iexact Hs1
    isplitl [Hd]; · iexact Hd
    iexact Hsem
  iintro HF
  have hw' := waitDma (F := F) (d := d) (i := i) (O := O) (W := W) (sem := sem) (srcw := srcw) (dstw := dstw) (hsrc := hsrcw) (hdst := hdstw)
    (D := iprop((dst.view.loc (tile d i) ↦[Sd]{fullShare} (dst.view.write (Elt F) fd (src.view.read (Elt F) fs) Finset.univ))
      ∗ (src.view.loc (tile d i) ↦[src.view.set]{q} fs))) γ (fun a => k a >>= K) Φ
  rw [bind_assoc]
  iapply hw' $$ [HF HO]
  · isplitl [HF]
    · rw [hw]; iexact HF
    · iexact HO
  iintro ⟨⟨Hd, Hs1⟩, Hsem, HO⟩
  ihave Hd' := (Entails.of_eq (pointsTo_congr (ℓ := dst.view.loc (tile d i)) hg)) $$ Hd
  ihave Hs := (pointsTo_split_subset (ℓ := src.view.loc (tile d i)) (q := q) (f := fs) hs).2 $$ [Hs1 Hs2]
  · isplitl [Hs1] <;> iassumption
  iapply (hk γ K Φ) $$ [Hd' Hs Hsem HO HR]
  · isplitl [Hs]; · iexact Hs
    isplitl [Hd']; · iexact Hd'
    isplitl [Hsem]; · iexact Hsem
    isplitl [HO]; · iexact HO
    iexact HR
  iexact HK

end Runs

end Cert.Proof

end
-- ==== Proof.ChunkIn.lean ====
/-
  A chunk's two index columns: the rows they are copied from, and the kernel's first part on the
  chunk, which copies them into the tile's memory and loads from them.
-/
module

public import proofs.«01_k».proof.Proof.Chunk
public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

open ChunkIn

/-! ## The chunk's inputs -/

/-- The word of a column at a row, zero past its end. -/
def wordAt (f : S100000.Idx → BitVec 32) (n : ℕ) : BitVec 32 := if h : n < 100000 then f (fun | 0 => ⟨n, h⟩) else 0#32

theorem wordAt_lt {f : S100000.Idx → BitVec 32} {b : ℕ} (hb : 0 < b) (h : ∀ x, (f x).toNat < b) (n : ℕ) : (wordAt f n).toNat < b := by
  unfold wordAt
  split
  · exact h _
  · exact hb

theorem wordAt_eq (f : S100000.Idx → BitVec 32) (x : S100000.Idx) : wordAt f (x 0).val = f x := by
  have h : (x 0).val < 100000 := (x 0).isLt
  refine (dif_pos h).trans (congrArg f ?_)
  funext a
  match a with
  | 0 => rfl

/-- The chunk whose first row is `b`. -/
def chunkAt (tab : ℕ → ℕ → Elt F .f32) (zf tf : S100000.Idx → BitVec 32) (hz : ∀ x, (zf x).toNat < 85) (ht : ∀ x, (tf x).toNat < 3)
    (old : S160x142.Idx → Elt F .f32) (b : ℕ) : ChunkIn F where
  tab := tab
  z r := wordAt zf (b + r)
  t r := wordAt tf (b + r)
  hz _ := wordAt_lt (by decide) hz _
  ht _ := wordAt_lt (by decide) ht _
  old := old

/-- What a copy of 160 words of a column leaves. -/
theorem column_copied (f : S100000.Idx → BitVec 32) (o : Fin 1 → ℕ) (h : ∀ a, o a + S160.size a ≤ S100000.size a) (x : S160.Idx) :
    f ((Rect.unit (s := S100000) o S160.size h).emb x) = wordAt f (o 0 + (x 0).val) := by
  rw [← wordAt_eq f]
  refine congrArg (wordAt f) ?_
  show o 0 + 1 * (x 0).val = _
  rw [Nat.one_mul]

variable {d : Dev nD} {i : grid0.Coords} {O : CellTallies nD τ sig (HIx 1)} {W : Waits sig (HIx 1)} {q : PosShare TreeShare}

/-- The two index columns, read shares of them. -/
def zsrc (d : Dev nD) (i : grid0.Coords) (q : PosShare TreeShare) (f : S100000.Idx → BitVec 32) : sProp 𝕄 := (tile d i).loc main_arg0_scv ↦{q} f
def tsrc (d : Dev nD) (i : grid0.Coords) (q : PosShare TreeShare) (f : S100000.Idx → BitVec 32) : sProp 𝕄 := (tile d i).loc main_arg1_scv ↦{q} f
/-- A semaphore of the tile's, at zero. -/
abbrev sem0 (d : Dev nD) (i : grid0.Coords) (a : DmaSems sig S_) : sProp 𝕄 := semVal (tile d i, SemLoc.dma a.sem) 0

/-- What the chunk's run carries beside its memory. -/
def Rest (d : Dev nD) (i : grid0.Coords) (q : PosShare TreeShare) (O : CellTallies nD τ sig (HIx 1)) (W : Waits sig (HIx 1))
    (zf tf : S100000.Idx → BitVec 32) : sProp 𝕄 :=
  iprop(zsrc d i q zf ∗ tsrc d i q tf ∗ sem0 d i cc0_scoped7 ∗ sem0 d i cc0_scoped8 ∗ OW d i O W)

set_option maxRecDepth 4096

variable (tab : ℕ → ℕ → Elt F .f32) (zf tf : S100000.Idx → BitVec 32) (hz : ∀ x, (zf x).toNat < 85) (ht : ∀ x, (tf x).toNat < 3)
  (old : S160x142.Idx → Elt F .f32)

/-- The chunk's two copies in, and the loads of its first rows. -/
theorem run_part19 (fz ft : S160.Idx → BitVec 32) (t2 : Fin k0_t2_loop.trips) (h1 : k0_cond1 i t2 = 1#1) (v6 : BitVec 32)
    {C : ChunkIn F} (hC : C = chunkAt tab zf tf hz ht old (k0_off1 i t2 0)) :
    Runs d i iprop((zAt d i fz ∗ tAt d i ft ∗ fusedAt d i (fun x => tab (x 0).val (x 1).val) ∗ outAt d i old) ∗ Rest d i q O W zf tf)
      (k0_part19 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9 t2 v6 h1)
      iprop(C.At d i 0 ∗ Rest d i q O W zf tf)
      ⟨C.cidx 0, C.cidx 16, C.cidx 32, C.cidx 48, C.cidx 64, C.zv 80, C.tv 80, broadcast S16 3#32⟩ := by
  unfold k0_part19
  refine Runs.conseq (J' := iprop(C.At d i 0 ∗ Rest d i q O W zf tf)) (I' := iprop(zsrc d i q zf ∗ zAt d i fz ∗ sem0 d i cc0_scoped7 ∗ OW d i O W
    ∗ (tsrc d i q tf ∗ tAt d i ft ∗ sem0 d i cc0_scoped8 ∗ fusedAt d i (fun x => tab (x 0).val (x 1).val) ∗ outAt d i old))) ?_ (Entails.refl _) ?_
  · unfold Rest
    iintro ⟨⟨Hz, Ht, Hf, Ho⟩, ⟨Hzs, Hts, H7, H8, HO⟩⟩
    isplitl [Hzs]; · iexact Hzs
    isplitl [Hz]; · iexact Hz
    isplitl [H7]; · iexact H7
    isplitl [HO]; · iexact HO
    isplitl [Hts]; · iexact Hts
    isplitl [Ht]; · iexact Ht
    isplitl [H8]; · iexact H8
    isplitl [Hf]; · iexact Hf
    iexact Ho
  refine Runs.copy
    (src := (Memref.whole main_arg0_scv).slice (Rect.unit (s := S100000) (k0_off1 i t2) S160.size (k0_off1_inb i t2 h1)) (fun _ => rfl))
    (dst := zM) (q := q) (Ss := Finset.univ) (Sd := Finset.univ) (fs := zf) (fd := fz) (fun x : S160.Idx => C.z (x 0).val) (Finset.subset_univ _) (Finset.subset_univ _) ?_ (show 0 < S160.numel by decide) rfl ?_
  · intro x _
    refine (congrFun (View.write_whole_univ _ _ _) x).trans ?_
    subst hC
    exact column_copied zf (k0_off1 i t2) (k0_off1_inb i t2 h1) x
  change Runs d i iprop(zsrc d i q zf ∗ zAt d i (fun x => C.z (x 0).val) ∗ sem0 d i cc0_scoped7 ∗ OW d i O W
    ∗ (tsrc d i q tf ∗ tAt d i ft ∗ sem0 d i cc0_scoped8 ∗ fusedAt d i (fun x => tab (x 0).val (x 1).val) ∗ outAt d i old)) _ _ _
  refine Runs.conseq (J' := iprop(C.At d i 0 ∗ Rest d i q O W zf tf)) (I' := iprop(tsrc d i q tf ∗ tAt d i ft ∗ sem0 d i cc0_scoped8 ∗ OW d i O W
    ∗ (zsrc d i q zf ∗ zAt d i (fun x => C.z (x 0).val) ∗ sem0 d i cc0_scoped7 ∗ fusedAt d i (fun x => tab (x 0).val (x 1).val) ∗ outAt d i old)))
    ?_ (Entails.refl _) ?_
  · iintro ⟨Hzs, Hz, H7, HO, Hts, Ht, H8, Hf, Ho⟩
    isplitl [Hts]; · iexact Hts
    isplitl [Ht]; · iexact Ht
    isplitl [H8]; · iexact H8
    isplitl [HO]; · iexact HO
    isplitl [Hzs]; · iexact Hzs
    isplitl [Hz]; · iexact Hz
    isplitl [H7]; · iexact H7
    isplitl [Hf]; · iexact Hf
    iexact Ho
  refine Runs.copy
    (src := (Memref.whole main_arg1_scv).slice (Rect.unit (s := S100000) (k0_off1 i t2) S160.size (k0_off1_inb i t2 h1)) (fun _ => rfl))
    (dst := tM) (q := q) (Ss := Finset.univ) (Sd := Finset.univ) (fs := tf) (fd := ft) (fun x : S160.Idx => C.t (x 0).val) (Finset.subset_univ _) (Finset.subset_univ _) ?_ (show 0 < S160.numel by decide) rfl ?_
  · intro x _
    refine (congrFun (View.write_whole_univ _ _ _) x).trans ?_
    subst hC
    exact column_copied tf (k0_off1 i t2) (k0_off1_inb i t2 h1) x
  change Runs d i iprop(tsrc d i q tf ∗ tAt d i (fun x => C.t (x 0).val) ∗ sem0 d i cc0_scoped8 ∗ OW d i O W
    ∗ (zsrc d i q zf ∗ zAt d i (fun x => C.z (x 0).val) ∗ sem0 d i cc0_scoped7 ∗ fusedAt d i (fun x => tab (x 0).val (x 1).val) ∗ outAt d i old)) _ _ _
  refine Runs.conseq (J' := iprop(C.At d i 0 ∗ Rest d i q O W zf tf)) (I' := iprop(C.At d i 0 ∗ Rest d i q O W zf tf)) ?_ (Entails.refl _) ?_
  · unfold Rest ChunkIn.At
    rw [C.out_zero]
    subst hC
    iintro ⟨Hts, Ht, H8, HO, Hzs, Hz, H7, Hf, Ho⟩
    isplitl [Hz Ht Hf Ho]
    · isplitl [Hz]; · iexact Hz
      isplitl [Ht]; · iexact Ht
      isplitl [Hf]; · iexact Hf
      iexact Ho
    isplitl [Hzs]; · iexact Hzs
    isplitl [Hts]; · iexact Hts
    isplitl [H7]; · iexact H7
    isplitl [H8]; · iexact H8
    iexact HO
  apply Runs.frame
  repeat (first
    | with_reducible apply Runs.bind
    | with_reducible exact C.run_loadZ _ _
    | with_reducible exact C.run_loadT _ _
    | with_reducible exact Runs.pure)

end Cert.Proof

end
-- ==== Proof.OutRows.lean ====
/-
  The result's rows a tile writes, and what the copy of a chunk leaves on them.
-/
module

public import proofs.«01_k».proof.Proof.ChunkIn

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## The rows a tile writes -/

/-- The fused table's row for the result's row `n`. -/
def rowOf (zf tf : S100000.Idx → BitVec 32) (n : ℕ) : ℕ := 3 * (wordAt zf n).toNat + (wordAt tf n).toNat

/-- The whole result, from the fused table and the two index columns. -/
def resOf (tab : ℕ → ℕ → Elt F .f32) (zf tf : S100000.Idx → BitVec 32) : S100000x142.Idx → Elt F .f32 :=
  fun j => tab (rowOf zf tf (j 0).val) (j 1).val

/-- The result's rows belonging to the tile at `i`: its chunks are those congruent to its number. -/
def outRows (i : grid0.Coords) : Finset S100000x142.Idx := Finset.univ.filter fun j => (j 0).val / 160 % 32 = 2 * (i 1).val + (i 0).val

/-- The result after the chunks before `t`: `r` there, `f` elsewhere. -/
def upTo (r f : S100000x142.Idx → Elt F .f32) (t : ℕ) : S100000x142.Idx → Elt F .f32 := fun j => if (j 0).val / 5120 < t then r j else f j

theorem upTo_zero (r f : S100000x142.Idx → Elt F .f32) : upTo r f 0 = f := funext fun _ => if_neg (Nat.not_lt_zero _)

theorem upTo_all (r f : S100000x142.Idx → Elt F .f32) : upTo r f 20 = r := by
  funext j
  have h : (j 0).val < 100000 := (j 0).isLt
  exact if_pos (by omega)

theorem coords_lt (i : grid0.Coords) : (i 0).val < 2 ∧ (i 1).val < 16 := ⟨(i 0).isLt, (i 1).isLt⟩

/-- A chunk is copied exactly where its rows lie in the result. -/
theorem cond_iff : ∀ (i : grid0.Coords) (t : Fin k0_t2_loop.trips), k0_cond1 i t = 1#1 ↔ 5120 * t.val + 320 * (i 1).val + 160 * (i 0).val < 100000 := by
  decide +kernel

/-- Without a chunk in range, a trip writes nothing. -/
theorem upTo_skip (r f : S100000x142.Idx → Elt F .f32) (i : grid0.Coords) (t : Fin k0_t2_loop.trips) (h : ¬ k0_cond1 i t = 1#1) :
    ∀ j ∈ outRows i, upTo r f t.val j = upTo r f (t.val + 1) j := by
  intro j hj
  have h0 : (j 0).val < 100000 := (j 0).isLt
  have hm := (Finset.mem_filter.mp hj).2
  have hi := coords_lt i
  rw [cond_iff] at h
  exact if_congr (by omega) rfl rfl

abbrev outSlice (i : grid0.Coords) (t : Fin k0_t2_loop.trips) (h1 : k0_cond1 i t = 1#1) : Memref sig .scVector .hbm S160x142 .f32 :=
  (Memref.whole main_v0_scv : Memref sig .scVector .hbm S100000x142 .f32).slice (Rect.unit (s := S100000x142) (k0_off2 i t) S160x142.size (k0_off2_inb i t h1)) (fun _ => rfl)

theorem mem_outSlice {i : grid0.Coords} {t : Fin k0_t2_loop.trips} {h1 : k0_cond1 i t = 1#1} {j : S100000x142.Idx} :
    j ∈ (outSlice i t h1).view.set ↔ 5120 * t.val + 320 * (i 1).val + 160 * (i 0).val ≤ (j 0).val ∧ (j 0).val < 5120 * t.val + 320 * (i 1).val + 160 * (i 0).val + 160 := by
  have e : (outSlice i t h1).view.set = (Rect.unit (s := S100000x142) (k0_off2 i t) S160x142.size (k0_off2_inb i t h1)).set :=
    View.set_slice_whole main_v0_scv _
  rw [e, Rect.mem_set_unit, k0_off2_eq]
  have h : (j 1).val < 142 := (j 1).isLt
  constructor
  · intro ha
    exact ha 0
  · intro ha a
    match a with
    | 0 => exact ha
    | 1 => exact ⟨Nat.zero_le _, by show (j 1).val < 0 + 142; omega⟩

theorem outSlice_subset (i : grid0.Coords) (t : Fin k0_t2_loop.trips) (h1 : k0_cond1 i t = 1#1) : (outSlice i t h1).view.set ⊆ outRows i := by
  intro j hj
  have hj' := mem_outSlice.mp hj
  have hi := coords_lt i
  exact Finset.mem_filter.mpr ⟨Finset.mem_univ _, by omega⟩

/-- What the copy of a chunk leaves on the tile's rows. -/
theorem out_copied (tab : ℕ → ℕ → Elt F .f32) (zf tf : S100000.Idx → BitVec 32) (f : S100000x142.Idx → Elt F .f32)
    (i : grid0.Coords) (t : Fin k0_t2_loop.trips) (h1 : k0_cond1 i t = 1#1) (w : S160x142.Idx → Elt F .f32)
    (hw : ∀ x : S160x142.Idx, w x = tab (rowOf zf tf (k0_off1 i t 0 + (x 0).val)) (x 1).val) :
    ∀ j ∈ outRows i, (outSlice i t h1).view.write (Elt F) (upTo (resOf tab zf tf) f t.val) w Finset.univ j = upTo (resOf tab zf tf) f (t.val + 1) j := by
  intro j hj
  have hm := (Finset.mem_filter.mp hj).2
  have hi := coords_lt i
  by_cases h : j ∈ (outSlice i t h1).view.set
  · obtain ⟨x, -, rfl⟩ := Finset.mem_map.mp h
    have h' := mem_outSlice.mp h
    refine (View.write_emb_of_mem (v := (outSlice i t h1).view) _ _ (Finset.mem_univ x)).trans ?_
    refine Eq.trans (b := w x) rfl ?_
    rw [hw]
    refine Eq.trans ?_ (if_pos (by omega)).symm
    have e0 : (((outSlice i t h1).view.emb x) 0).val = k0_off1 i t 0 + (x 0).val := by
      show k0_off2 i t 0 + 1 * (x 0).val = _
      rw [k0_off2_eq, k0_off1_eq, Nat.one_mul]
      rfl
    have e1 : (((outSlice i t h1).view.emb x) 1).val = (x 1).val := by
      show k0_off2 i t 1 + 1 * (x 1).val = _
      rw [k0_off2_eq, Nat.one_mul]
      exact Nat.zero_add _
    show _ = tab (rowOf zf tf (((outSlice i t h1).view.emb x) 0).val) (((outSlice i t h1).view.emb x) 1).val
    rw [e0, e1]
  · refine (View.write_of_not_mem (v := (outSlice i t h1).view) _ _ _ h).trans ?_
    have h' := h
    rw [mem_outSlice] at h'
    exact if_congr (by omega) rfl rfl

end Cert.Proof

end
-- ==== Proof.Loop.lean ====
/-
  The run of a loop by an invariant, and a run from a state known to exist.
-/
module

public import proofs.«01_k».proof.Proof.Runs

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## Loops and resources under a quantifier -/

namespace Runs

variable {d : Dev nD} {i : grid0.Coords} {α : Type} {p : TileProg F i α} {r : α}

/-- A loop, by an invariant its body takes from every trip to the next. -/
theorem loop (lb ub st : BitVec 32) (hok : Scf.OK lb ub st) (body : Fin (Scf.trips lb ub st) → PUnit → TileProg F i PUnit)
    (I : ℕ → sProp (MT nD τ sig (HIx 1) (Elt F) ℕ UU ℕ))
    (h : ∀ k : Fin (Scf.trips lb ub st), Runs d i (I k.val) (body k ⟨⟩) (I (k.val + 1)) ⟨⟩) :
    Runs d i (I 0) (Scf.for lb ub st hok ⟨⟩ body) (I (Scf.trips lb ub st)) ⟨⟩ := by
  intro β K Φ
  iintro HI HK
  iapply (Scf.wp_for_bind _ (wpE (defs₀ (F := F)) 𝒱₀ (tile d i) none) Set.univ lb ub st hok ⟨⟩ body (fun k _ => I k)
    (fun k _ => Runs.wp (h k) (Entails.refl _)) (kk := K) (Q := Φ)) $$ HI
  iintro %acc HI
  iapply HK $$ HI

theorem «exists» {X : Type} {I : X → sProp (MT nD τ sig (HIx 1) (Elt F) ℕ UU ℕ)} {J : sProp (MT nD τ sig (HIx 1) (Elt F) ℕ UU ℕ)}
    (h : ∀ x, Runs d i (I x) p J r) : Runs d i iprop(∃ x, I x) p J r := by
  intro β K Φ
  iintro ⟨%x, HI⟩ HK
  iapply (h x β K Φ) $$ HI
  iexact HK

end Runs

end Cert.Proof

end
-- ==== Proof.Tile.lean ====
/-
  A tile's operands, and the copies of the tables into its memory.
-/
module

public import proofs.«01_k».proof.Proof.BuildParts
public import proofs.«01_k».proof.Proof.OutRows
public import proofs.«01_k».proof.Proof.Loop

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## What a tile is given -/

/-- A table as a function of two numbers, each taken within its range. -/
def at2 {m n : ℕ} (hm : 0 < m) (hn : 0 < n) {α : Type} (f : (⟨2, ![m, n]⟩ : Shape).Idx → α) (a b : ℕ) : α :=
  f (fun | 0 => ⟨a % m, Nat.mod_lt _ hm⟩ | 1 => ⟨b % n, Nat.mod_lt _ hn⟩)

theorem at2_eq {m n : ℕ} (hm : 0 < m) (hn : 0 < n) {α : Type} (f : (⟨2, ![m, n]⟩ : Shape).Idx → α) :
    (fun x : (⟨2, ![m, n]⟩ : Shape).Idx => at2 hm hn f (x 0).val (x 1).val) = f := by
  funext x
  refine congrArg f ?_
  funext a
  match a with
  | 0 => exact Fin.ext (Nat.mod_eq_of_lt (x 0).isLt)
  | 1 => exact Fin.ext (Nat.mod_eq_of_lt (x 1).isLt)

def at1 {m : ℕ} (hm : 0 < m) {α : Type} (f : (⟨1, ![m]⟩ : Shape).Idx → α) (a : ℕ) : α := f (fun | 0 => ⟨a % m, Nat.mod_lt _ hm⟩)

theorem at1_eq {m : ℕ} (hm : 0 < m) {α : Type} (f : (⟨1, ![m]⟩ : Shape).Idx → α) :
    (fun x : (⟨1, ![m]⟩ : Shape).Idx => at1 hm f (x 0).val) = f := by
  funext x
  refine congrArg f ?_
  funext a
  match a with
  | 0 => exact Fin.ext (Nat.mod_eq_of_lt (x 0).isLt)

/-- The kernel's operands, with their words in range. -/
structure TileIn (F : FTy → Type) where
  zf : S100000.Idx → BitVec 32
  tf : S100000.Idx → BitVec 32
  zw : S85x32.Idx → Elt F .f32
  tw : S3x32.Idx → Elt F .f32
  pw : S8x32.Idx → Elt F .f32
  gw : S20x32.Idx → Elt F .f32
  pr : S86x14.Idx → Elt F .f32
  pm : S86.Idx → BitVec 32
  gm : S86.Idx → BitVec 32
  hz : ∀ x, (zf x).toNat < 85
  ht : ∀ x, (tf x).toNat < 3
  hpm : ∀ x, (pm x).toNat < 8
  hgm : ∀ x, (gm x).toNat < 20

namespace TileIn

variable (T : TileIn F)

/-- The tables the fused table is built from. -/
def build : BuildIn F where
  zw := at2 (m := 85) (n := 32) (by decide) (by decide) T.zw
  tw := at2 (m := 3) (n := 32) (by decide) (by decide) T.tw
  pw := at2 (m := 8) (n := 32) (by decide) (by decide) T.pw
  gw := at2 (m := 20) (n := 32) (by decide) (by decide) T.gw
  pr := at2 (m := 86) (n := 14) (by decide) (by decide) T.pr
  pm := at1 (m := 86) (by decide) T.pm
  gm := at1 (m := 86) (by decide) T.gm
  hpm _ := T.hpm _
  hgm _ := T.hgm _

/-- The kernel's result. -/
def res : S100000x142.Idx → Elt F .f32 := resOf T.build.tab T.zf T.tf

end TileIn

/-! ## A table's copy -/

variable {d : Dev nD} {i : grid0.Coords} {q : PosShare TreeShare} {O : CellTallies nD τ sig (HIx 1)} {W : Waits sig (HIx 1)}

/-- The table `zw` in high memory and in the tile's, and its copy's semaphore. -/
def zwPair (d : Dev nD) (i : grid0.Coords) (q : PosShare TreeShare) (f g : S85x32.Idx → Elt F .f32) : sProp 𝕄 :=
  iprop(((tile d i).loc main_arg2_scv ↦{q} f) ∗ zwAt d i g ∗ sem0 d i cc0_scoped0)
/-- The table `tw` in high memory and in the tile's, and its copy's semaphore. -/
def twPair (d : Dev nD) (i : grid0.Coords) (q : PosShare TreeShare) (f g : S3x32.Idx → Elt F .f32) : sProp 𝕄 :=
  iprop(((tile d i).loc main_arg3_scv ↦{q} f) ∗ twAt d i g ∗ sem0 d i cc0_scoped1)
/-- The table `pw` in high memory and in the tile's, and its copy's semaphore. -/
def pwPair (d : Dev nD) (i : grid0.Coords) (q : PosShare TreeShare) (f g : S8x32.Idx → Elt F .f32) : sProp 𝕄 :=
  iprop(((tile d i).loc main_arg4_scv ↦{q} f) ∗ pwAt d i g ∗ sem0 d i cc0_scoped2)
/-- The table `gw` in high memory and in the tile's, and its copy's semaphore. -/
def gwPair (d : Dev nD) (i : grid0.Coords) (q : PosShare TreeShare) (f g : S20x32.Idx → Elt F .f32) : sProp 𝕄 :=
  iprop(((tile d i).loc main_arg5_scv ↦{q} f) ∗ gwAt d i g ∗ sem0 d i cc0_scoped3)
/-- The table `pr` in high memory and in the tile's, and its copy's semaphore. -/
def prPair (d : Dev nD) (i : grid0.Coords) (q : PosShare TreeShare) (f g : S86x14.Idx → Elt F .f32) : sProp 𝕄 :=
  iprop(((tile d i).loc main_arg6_scv ↦{q} f) ∗ prAt d i g ∗ sem0 d i cc0_scoped4)
/-- The table `pm` in high memory and in the tile's, and its copy's semaphore. -/
def pmPair (d : Dev nD) (i : grid0.Coords) (q : PosShare TreeShare) (f g : S86.Idx → BitVec 32) : sProp 𝕄 :=
  iprop(((tile d i).loc main_arg7_scv ↦{q} f) ∗ pmAt d i g ∗ sem0 d i cc0_scoped5)
/-- The table `gm` in high memory and in the tile's, and its copy's semaphore. -/
def gmPair (d : Dev nD) (i : grid0.Coords) (q : PosShare TreeShare) (f g : S86.Idx → BitVec 32) : sProp 𝕄 :=
  iprop(((tile d i).loc main_arg8_scv ↦{q} f) ∗ gmAt d i g ∗ sem0 d i cc0_scoped6)

/-- One table copied whole: its pair passes from those to come to those done. -/
theorem Runs.table {s : Shape} {e : EltTy} {sp sp' : Space} {src : Memref sig .scVector sp s e} {dst : Memref sig .scVector sp' s e} {sem : DmaSem sig}
    {hsrc : src.view.WordExact} {hdst : dst.view.WordExact}
    {hsem : DmaTarget.Typed (nD := nD) (p := Proc.scVector ((i 0).castLE hcore0) ((i 1).castLE hsub0)) sp (.dma sem) (.here dst)}
    {hsrcw : src.view.WordExact} {hdstw : dst.view.WordExact}
    {fs : Buf (Elt F) (src.view.loc (tile d i))} {fd : Buf (Elt F) (dst.view.loc (tile d i))} (g : Buf (Elt F) (dst.view.loc (tile d i)))
    {α : Type} {k : PUnit → TileProg F i α} {R A J : sProp (MT nD τ sig (HIx 1) (Elt F) ℕ UU ℕ)} {r : α}
    (hg : dst.view.write (Elt F) fd (src.view.read (Elt F) fs) Finset.univ = g) (hn : 0 < s.numel)
    (hk : Runs d i iprop(OW d i O W ∗ R ∗ ((src.view.loc (tile d i) ↦{q} fs) ∗ (dst.view.loc (tile d i) ↦{fullShare} g) ∗ semVal (tile d i, SemLoc.dma sem) 0) ∗ A)
      (k ⟨⟩) J r) :
    Runs d i iprop(OW d i O W ∗ (((src.view.loc (tile d i) ↦{q} fs) ∗ (dst.view.loc (tile d i) ↦{fullShare} fd) ∗ semVal (tile d i, SemLoc.dma sem) 0) ∗ R) ∗ A)
      (Prog.lift (.enqueueDma src (.here dst) (.dma sem) hsrc hdst hsem) >>= fun _ => Prog.lift (.waitDma2 sem src dst hsrcw hdstw) >>= k) J r := by
  refine Runs.conseq (J' := J) (I' := iprop((src.view.loc (tile d i) ↦{q} fs) ∗ (dst.view.loc (tile d i) ↦{fullShare} fd) ∗ semVal (tile d i, SemLoc.dma sem) 0
    ∗ OW d i O W ∗ R ∗ A)) ?_ (Entails.refl _) ?_
  · iintro ⟨HO, ⟨⟨Hs, Hd, Hm⟩, HR⟩, HA⟩
    isplitl [Hs]; · iexact Hs
    isplitl [Hd]; · iexact Hd
    isplitl [Hm]; · iexact Hm
    isplitl [HO]; · iexact HO
    isplitl [HR] <;> iassumption
  refine Runs.copy (src := src) (dst := dst) (q := q) (Ss := Finset.univ) (Sd := Finset.univ) (fs := fs) (fd := fd) g (Finset.subset_univ _) (Finset.subset_univ _)
    (fun x _ => congrFun hg x) hn rfl ?_
  refine Runs.conseq (J' := J) ?_ (Entails.refl _) hk
  iintro ⟨Hs, Hd, Hm, HO, HR, HA⟩
  isplitl [HO]; · iexact HO
  isplitl [HR]; · iexact HR
  isplitl [Hs Hd Hm]
  · isplitl [Hs]; · iexact Hs
    isplitl [Hd] <;> iassumption
  iexact HA

end Cert.Proof

end
-- ==== Proof.TileStates.lean ====
/-
  The states a tile's run goes through: the tables copied, the fused table built, the chunks written.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## The states of a tile's run -/

variable {d : Dev nD} {i : grid0.Coords} {q : PosShare TreeShare} {O : CellTallies nD τ sig (HIx 1)} {W : Waits sig (HIx 1)}

/-- The tile's rows of the result. -/
def outReg (d : Dev nD) (i : grid0.Coords) (f : S100000x142.Idx → Elt F .f32) : sProp 𝕄 := (tile d i).loc main_v0_scv ↦[outRows i]{fullShare} f

/-- What the tables' copies leave alone. -/
def Mem (d : Dev nD) (i : grid0.Coords) (q : PosShare TreeShare) (zf tf : S100000.Idx → BitVec 32) (f : S100000x142.Idx → Elt F .f32)
    (g8 g9 : S160.Idx → BitVec 32) (g10 : S160x142.Idx → Elt F .f32) : sProp 𝕄 :=
  iprop(zAt d i g8 ∗ tAt d i g9 ∗ outAt d i g10 ∗ zsrc d i q zf ∗ tsrc d i q tf ∗ sem0 d i cc0_scoped7 ∗ sem0 d i cc0_scoped8 ∗ sem0 d i cc0_scoped9 ∗ outReg d i f)

/-- The tables' sources and their copies' semaphores. -/
def Keep (d : Dev nD) (i : grid0.Coords) (q : PosShare TreeShare) (T : TileIn F) : sProp 𝕄 :=
  iprop(((tile d i).loc main_arg2_scv ↦{q} T.zw) ∗ sem0 d i cc0_scoped0 ∗ ((tile d i).loc main_arg3_scv ↦{q} T.tw) ∗ sem0 d i cc0_scoped1 ∗ ((tile d i).loc main_arg4_scv ↦{q} T.pw) ∗ sem0 d i cc0_scoped2 ∗ ((tile d i).loc main_arg5_scv ↦{q} T.gw) ∗ sem0 d i cc0_scoped3 ∗ ((tile d i).loc main_arg6_scv ↦{q} T.pr) ∗ sem0 d i cc0_scoped4 ∗ ((tile d i).loc main_arg7_scv ↦{q} T.pm) ∗ sem0 d i cc0_scoped5 ∗ ((tile d i).loc main_arg8_scv ↦{q} T.gm) ∗ sem0 d i cc0_scoped6)

/-- The tables, copied. -/
def Copied (d : Dev nD) (i : grid0.Coords) (q : PosShare TreeShare) (T : TileIn F) : sProp 𝕄 :=
  iprop(zwPair d i q T.zw T.zw ∗ twPair d i q T.tw T.tw ∗ pwPair d i q T.pw T.pw ∗ gwPair d i q T.gw T.gw ∗ prPair d i q T.pr T.pr ∗ pmPair d i q T.pm T.pm ∗ gmPair d i q T.gm T.gm)

/-- Before the chunk of trip `t`. -/
def ChunkInv (d : Dev nD) (i : grid0.Coords) (q : PosShare TreeShare) (O : CellTallies nD τ sig (HIx 1)) (W : Waits sig (HIx 1)) (T : TileIn F)
    (f : S100000x142.Idx → Elt F .f32) (t : ℕ) : sProp 𝕄 :=
  iprop(∃ x : (S160.Idx → BitVec 32) × (S160.Idx → BitVec 32) × (S160x142.Idx → Elt F .f32),
    ((zAt d i x.1 ∗ tAt d i x.2.1 ∗ fusedAt d i (fun x => T.build.tab (x 0).val (x 1).val) ∗ outAt d i x.2.2) ∗ Rest d i q O W T.zf T.tf)
      ∗ sem0 d i cc0_scoped9 ∗ outReg d i (upTo T.res f t) ∗ Copied d i q T)

variable {T : TileIn F} {f : S100000x142.Idx → Elt F .f32} {g7 : S256x142.Idx → Elt F .f32} {g8 g9 : S160.Idx → BitVec 32} {g10 : S160x142.Idx → Elt F .f32}

/-- The copied tables are the build's memory. -/
theorem toBuild : iprop(OW d i O W ∗ (fusedAt d i g7 ∗ Mem d i q T.zf T.tf f g8 g9 g10) ∗ gmPair d i q T.gm T.gm ∗ pmPair d i q T.pm T.pm ∗ prPair d i q T.pr T.pr ∗ gwPair d i q T.gw T.gw ∗ pwPair d i q T.pw T.pw ∗ twPair d i q T.tw T.tw ∗ zwPair d i q T.zw T.zw ∗ emp)
    ⊢ iprop(T.build.At d i g7 0 0 ∗ Keep d i q T ∗ OW d i O W ∗ Mem d i q T.zf T.tf f g8 g9 g10) := by
  unfold BuildIn.At Keep zwPair twPair pwPair gwPair prPair pmPair gmPair
  rw [BuildIn.fill_zero, show (fun x => T.build.zw (x 0).val (x 1).val) = T.zw from at2_eq (by decide) (by decide) _, show (fun x => T.build.tw (x 0).val (x 1).val) = T.tw from at2_eq (by decide) (by decide) _, show (fun x => T.build.pw (x 0).val (x 1).val) = T.pw from at2_eq (by decide) (by decide) _, show (fun x => T.build.gw (x 0).val (x 1).val) = T.gw from at2_eq (by decide) (by decide) _, show (fun x => T.build.pr (x 0).val (x 1).val) = T.pr from at2_eq (by decide) (by decide) _, show (fun x => T.build.pm (x 0).val) = T.pm from at1_eq (by decide) _, show (fun x => T.build.gm (x 0).val) = T.gm from at1_eq (by decide) _]
  iintro ⟨HO, ⟨H7, HM⟩, ⟨Sgm, Dgm, Mgm⟩, ⟨Spm, Dpm, Mpm⟩, ⟨Spr, Dpr, Mpr⟩, ⟨Sgw, Dgw, Mgw⟩, ⟨Spw, Dpw, Mpw⟩, ⟨Stw, Dtw, Mtw⟩, ⟨Szw, Dzw, Mzw⟩, -⟩
  isplitl [H7 Dzw Dtw Dpw Dgw Dpr Dpm Dgm]
  · isplitl [Dzw]; · iexact Dzw
    isplitl [Dtw]; · iexact Dtw
    isplitl [Dpw]; · iexact Dpw
    isplitl [Dgw]; · iexact Dgw
    isplitl [Dpr]; · iexact Dpr
    isplitl [Dpm]; · iexact Dpm
    isplitl [Dgm]; · iexact Dgm
    iexact H7
  isplitl [Szw Mzw Stw Mtw Spw Mpw Sgw Mgw Spr Mpr Spm Mpm Sgm Mgm]
  · isplitl [Szw]; · iexact Szw
    isplitl [Mzw]; · iexact Mzw
    isplitl [Stw]; · iexact Stw
    isplitl [Mtw]; · iexact Mtw
    isplitl [Spw]; · iexact Spw
    isplitl [Mpw]; · iexact Mpw
    isplitl [Sgw]; · iexact Sgw
    isplitl [Mgw]; · iexact Mgw
    isplitl [Spr]; · iexact Spr
    isplitl [Mpr]; · iexact Mpr
    isplitl [Spm]; · iexact Spm
    isplitl [Mpm]; · iexact Mpm
    isplitl [Sgm]; · iexact Sgm
    iexact Mgm
  isplitl [HO] <;> iassumption

/-- The build's memory, done, is the first chunk's. -/
theorem toChunk : iprop(T.build.At d i g7 16 0 ∗ Keep d i q T ∗ OW d i O W ∗ Mem d i q T.zf T.tf f g8 g9 g10) ⊢ ChunkInv d i q O W T f 0 := by
  unfold BuildIn.At Keep ChunkInv Copied Mem Rest zwPair twPair pwPair gwPair prPair pmPair gmPair
  rw [BuildIn.fill_all, upTo_zero, show (fun x => T.build.zw (x 0).val (x 1).val) = T.zw from at2_eq (by decide) (by decide) _, show (fun x => T.build.tw (x 0).val (x 1).val) = T.tw from at2_eq (by decide) (by decide) _, show (fun x => T.build.pw (x 0).val (x 1).val) = T.pw from at2_eq (by decide) (by decide) _, show (fun x => T.build.gw (x 0).val (x 1).val) = T.gw from at2_eq (by decide) (by decide) _, show (fun x => T.build.pr (x 0).val (x 1).val) = T.pr from at2_eq (by decide) (by decide) _, show (fun x => T.build.pm (x 0).val) = T.pm from at1_eq (by decide) _, show (fun x => T.build.gm (x 0).val) = T.gm from at1_eq (by decide) _]
  iintro ⟨⟨Dzw, Dtw, Dpw, Dgw, Dpr, Dpm, Dgm, H7⟩, ⟨Szw, Mzw, Stw, Mtw, Spw, Mpw, Sgw, Mgw, Spr, Mpr, Spm, Mpm, Sgm, Mgm⟩, HO, H8, H9, H10, Hz, Ht, M7, M8, M9, Hout⟩
  iexists (g8, g9, g10)
  isplitl [H7 H8 H9 H10 Hz Ht M7 M8 HO]
  · isplitl [H7 H8 H9 H10]
    · isplitl [H8]; · iexact H8
      isplitl [H9]; · iexact H9
      isplitl [H7]; · iexact H7
      iexact H10
    isplitl [Hz]; · iexact Hz
    isplitl [Ht]; · iexact Ht
    isplitl [M7]; · iexact M7
    isplitl [M8]; · iexact M8
    iexact HO
  isplitl [M9]; · iexact M9
  isplitl [Hout]; · iexact Hout
  isplitl [Szw Dzw Mzw]
  · isplitl [Szw]; · iexact Szw
    isplitl [Dzw] <;> iassumption
  isplitl [Stw Dtw Mtw]
  · isplitl [Stw]; · iexact Stw
    isplitl [Dtw] <;> iassumption
  isplitl [Spw Dpw Mpw]
  · isplitl [Spw]; · iexact Spw
    isplitl [Dpw] <;> iassumption
  isplitl [Sgw Dgw Mgw]
  · isplitl [Sgw]; · iexact Sgw
    isplitl [Dgw] <;> iassumption
  isplitl [Spr Dpr Mpr]
  · isplitl [Spr]; · iexact Spr
    isplitl [Dpr] <;> iassumption
  isplitl [Spm Dpm Mpm]
  · isplitl [Spm]; · iexact Spm
    isplitl [Dpm] <;> iassumption
  isplitl [Sgm]; · iexact Sgm
  isplitl [Dgm] <;> iassumption

end Cert.Proof

end
-- ==== Proof.ChunkA.lean ====
/-
  The first third of a chunk's stores.
-/
module

public import proofs.«01_k».proof.Proof.ChunkIn

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

open ChunkIn

set_option maxRecDepth 4096
set_option maxHeartbeats 4000000

variable {C : ChunkIn F} {d : Dev nD} {i : grid0.Coords}

variable {O : CellTallies nD τ sig (HIx 1)} {W : Waits sig (HIx 1)} {q : PosShare TreeShare}

/-- The chunk's copies in and its first 556 stores. -/
theorem run_part169 (tab : ℕ → ℕ → Elt F .f32) (zf tf : S100000.Idx → BitVec 32) (hz : ∀ x, (zf x).toNat < 85) (ht : ∀ x, (tf x).toNat < 3)
    (old : S160x142.Idx → Elt F .f32) (fz ft : S160.Idx → BitVec 32) (t2 : Fin k0_t2_loop.trips) (h1 : k0_cond1 i t2 = 1#1) (v6 : BitVec 32)
    (hC : C = chunkAt tab zf tf hz ht old (k0_off1 i t2 0)) (hw) :
    Runs d i iprop((zAt d i fz ∗ tAt d i ft ∗ fusedAt d i (fun x => tab (x 0).val (x 1).val) ∗ outAt d i old) ∗ Rest d i q O W zf tf)
      (k0_part169 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9
        (iota .scVector S16 32 [0] iota_S16_d0_w32_scVector) t2 v6 h1)
      iprop(C.At d i 556 ∗ Rest d i q O W zf tf)
      ⟨C.cidx 0, C.cidx 16, C.cidx 32, C.cidx 48, C.cidx 64, C.cidx 80, C.cidx 96, C.cidx 112, C.cidx 128, C.cidx 144, broadcast S16 55#32, hw, lanes fun l => C.tab (C.row (96 + l)) 55, 96#32⟩ := by
  unfold k0_part169
  refine Runs.bind (run_part19 tab zf tf hz ht old fz ft t2 h1 v6 hC) ?_
  apply Runs.frame
  repeat (first
    | with_reducible apply Runs.bind
    | with_reducible exact C.run_gather _ _ (by decide)
    | with_reducible exact C.run_store _ _ (by decide) (by decide) (by decide) (by decide)
    | (with_reducible refine Runs.assume ?_
       first
       | exact fun _ => row_ok _ _ _ (by decide) (by decide)
       | exact C.col_all _ (by decide))
    | with_reducible exact C.run_loadZ _ _
    | with_reducible exact C.run_loadT _ _
    | with_reducible exact Runs.pure
    | apply Runs.bind)

end Cert.Proof

end
-- ==== Proof.ChunkB.lean ====
/-
  The second third of a chunk's stores.
-/
module

public import proofs.«01_k».proof.Proof.Chunk

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

open ChunkIn

set_option maxRecDepth 4096
set_option maxHeartbeats 4000000

variable {C : ChunkIn F} {d : Dev nD} {i : grid0.Coords}

/-- From the chunk's store 556 to its store 1127. -/
theorem run_part170 (t2 : Fin k0_t2_loop.trips) (h1 : k0_cond1 i t2 = 1#1) (hw hw' hw'') :
    Runs d i (C.At d i 556)
      (k0_part170 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9
        (iota .scVector S16 32 [0] iota_S16_d0_w32_scVector) t2 h1 (C.cidx 0) (C.cidx 16) (C.cidx 32) (C.cidx 48) (C.cidx 64) (C.cidx 80) (C.cidx 96) (C.cidx 112) (C.cidx 128) (C.cidx 144) (broadcast S16 55#32) hw (lanes fun l => C.tab (C.row (96 + l)) 55) 96#32)
      (C.At d i 1127)
      ⟨broadcast S16 112#32, hw', lanes fun l => C.tab (C.row (112 + l)) 112, addi (broadcast S16 112#32) (iota .scVector S16 32 [0] iota_S16_d0_w32_scVector), hw''⟩ := by
  unfold k0_part170
  repeat (first
    | with_reducible apply Runs.bind
    | with_reducible exact C.run_gather _ _ (by decide)
    | with_reducible exact C.run_store _ _ (by decide) (by decide) (by decide) (by decide)
    | (with_reducible refine Runs.assume ?_
       first
       | exact fun _ => row_ok _ _ _ (by decide) (by decide)
       | exact C.col_all _ (by decide))
    | with_reducible exact Runs.pure
    | apply Runs.bind)

end Cert.Proof

end
-- ==== Proof.ChunkC.lean ====
/-
  The last third of a chunk's stores.
-/
module

public import proofs.«01_k».proof.Proof.Chunk

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

open ChunkIn

set_option maxRecDepth 4096
set_option maxHeartbeats 4000000

variable {C : ChunkIn F} {d : Dev nD} {i : grid0.Coords}

/-- From the chunk's store 1127 to its store 1418. -/
theorem run_part171 (t2 : Fin k0_t2_loop.trips) (h1 : k0_cond1 i t2 = 1#1) (hw hw' hw'') :
    Runs d i (C.At d i 1127)
      (k0_part171 (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9
        (iota .scVector S16 32 [0] iota_S16_d0_w32_scVector) t2 h1 (C.cidx 0) (C.cidx 16) (C.cidx 32) (C.cidx 48) (C.cidx 64) (C.cidx 80) (C.cidx 96) (C.cidx 112) (C.cidx 128) (C.cidx 144) (broadcast S16 112#32) hw (lanes fun l => C.tab (C.row (112 + l)) 112) (addi (broadcast S16 112#32) (iota .scVector S16 32 [0] iota_S16_d0_w32_scVector)) hw')
      (C.At d i 1418)
      ⟨broadcast S16 141#32, hw'', lanes fun l => C.tab (C.row (128 + l)) 141, 128#32⟩ := by
  unfold k0_part171
  repeat (first
    | with_reducible apply Runs.bind
    | with_reducible exact C.run_gather _ _ (by decide)
    | with_reducible exact C.run_store _ _ (by decide) (by decide) (by decide) (by decide)
    | (with_reducible refine Runs.assume ?_
       first
       | exact fun _ => row_ok _ _ _ (by decide) (by decide)
       | exact C.col_all _ (by decide))
    | with_reducible exact Runs.pure
    | apply Runs.bind)

end Cert.Proof

end
-- ==== Proof.TileRun.lean ====
/-
  A tile's whole run: the tables copied in, the fused table built, and the tile's chunks gathered and copied out.
-/
module

public import proofs.«01_k».proof.Proof.TileStates
public import proofs.«01_k».proof.Proof.ChunkA
public import proofs.«01_k».proof.Proof.ChunkB
public import proofs.«01_k».proof.Proof.ChunkC

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

set_option maxRecDepth 8192

variable {d : Dev nD} {i : grid0.Coords} {q : PosShare TreeShare} {O : CellTallies nD τ sig (HIx 1)} {W : Waits sig (HIx 1)}
variable {T : TileIn F} {f : S100000x142.Idx → Elt F .f32} {g7 : S256x142.Idx → Elt F .f32} {g8 g9 : S160.Idx → BitVec 32} {g10 : S160x142.Idx → Elt F .f32}

/-- The chunk filled, laid out for its copy. -/
theorem chunkOut {C : ChunkIn F} {r : S100000x142.Idx → Elt F .f32} :
    iprop((C.At d i 1420 ∗ Rest d i q O W T.zf T.tf) ∗ sem0 d i cc0_scoped9 ∗ outReg d i r ∗ Copied d i q T)
      ⊢ iprop(outAt d i (C.out 1420) ∗ outReg d i r ∗ sem0 d i cc0_scoped9 ∗ OW d i O W
        ∗ ((zAt d i (fun x => C.z (x 0).val) ∗ tAt d i (fun x => C.t (x 0).val) ∗ fusedAt d i (fun x => C.tab (x 0).val (x 1).val))
          ∗ (zsrc d i q T.zf ∗ tsrc d i q T.tf ∗ sem0 d i cc0_scoped7 ∗ sem0 d i cc0_scoped8) ∗ Copied d i q T)) := by
  unfold ChunkIn.At Rest
  iintro ⟨⟨⟨H8, H9, H7, H10⟩, Hz, Ht, M7, M8, HO⟩, M9, Hr, HC⟩
  isplitl [H10]; · iexact H10
  isplitl [Hr]; · iexact Hr
  isplitl [M9]; · iexact M9
  isplitl [HO]; · iexact HO
  isplitl [H8 H9 H7]
  · isplitl [H8]; · iexact H8
    isplitl [H9]; · iexact H9
    iexact H7
  isplitl [Hz Ht M7 M8]
  · isplitl [Hz]; · iexact Hz
    isplitl [Ht]; · iexact Ht
    isplitl [M7]; · iexact M7
    iexact M8
  iexact HC

/-- The chunk copied out. -/
theorem chunkDone (C : ChunkIn F) (t : ℕ) (hC : C.tab = T.build.tab) :
    iprop(outAt d i (C.out 1420) ∗ outReg d i (upTo T.res f t) ∗ sem0 d i cc0_scoped9 ∗ OW d i O W
        ∗ ((zAt d i (fun x => C.z (x 0).val) ∗ tAt d i (fun x => C.t (x 0).val) ∗ fusedAt d i (fun x => C.tab (x 0).val (x 1).val))
          ∗ (zsrc d i q T.zf ∗ tsrc d i q T.tf ∗ sem0 d i cc0_scoped7 ∗ sem0 d i cc0_scoped8) ∗ Copied d i q T))
      ⊢ ChunkInv d i q O W T f t := by
  unfold ChunkInv Rest
  rw [hC]
  iintro ⟨H10, Hr, M9, HO, ⟨H8, H9, H7⟩, ⟨Hz, Ht, M7, M8⟩, HC⟩
  iexists ((fun x => C.z (x 0).val), (fun x => C.t (x 0).val), C.out 1420)
  isplitl [H7 H8 H9 H10 Hz Ht M7 M8 HO]
  · isplitl [H7 H8 H9 H10]
    · isplitl [H8]; · iexact H8
      isplitl [H9]; · iexact H9
      isplitl [H7]; · iexact H7
      iexact H10
    isplitl [Hz]; · iexact Hz
    isplitl [Ht]; · iexact Ht
    isplitl [M7]; · iexact M7
    isplitl [M8]; · iexact M8
    iexact HO
  isplitl [M9]; · iexact M9
  isplitl [Hr]; · iexact Hr
  iexact HC

set_option maxHeartbeats 8000000 in
/-- A tile's whole run. -/
theorem run_tile (g0 : S85x32.Idx → Elt F .f32) (g1 : S3x32.Idx → Elt F .f32) (g2 : S8x32.Idx → Elt F .f32) (g3 : S20x32.Idx → Elt F .f32) (g4 : S86x14.Idx → Elt F .f32) (g5 : S86.Idx → BitVec 32) (g6 : S86.Idx → BitVec 32) :
    Runs d i iprop(OW d i O W ∗ (zwPair d i q T.zw g0 ∗ twPair d i q T.tw g1 ∗ pwPair d i q T.pw g2 ∗ gwPair d i q T.gw g3 ∗ prPair d i q T.pr g4 ∗ pmPair d i q T.pm g5 ∗ gmPair d i q T.gm g6 ∗ fusedAt d i g7 ∗ Mem d i q T.zf T.tf f g8 g9 g10) ∗ emp)
      (cc0__phys_embedding_sc (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9)
      (ChunkInv d i q O W T f 20) ⟨⟩ := by
  unfold cc0__phys_embedding_sc
  refine Runs.table (src := Memref.whole main_arg2_scv) (dst := Memref.whole cc0_scratch0) (q := q) (fs := T.zw) (fd := g0) T.zw
    (View.write_whole_univ cc0_scratch0 _ _) (by decide) ?_
  refine Runs.table (src := Memref.whole main_arg3_scv) (dst := Memref.whole cc0_scratch1) (q := q) (fs := T.tw) (fd := g1) T.tw
    (View.write_whole_univ cc0_scratch1 _ _) (by decide) ?_
  refine Runs.table (src := Memref.whole main_arg4_scv) (dst := Memref.whole cc0_scratch2) (q := q) (fs := T.pw) (fd := g2) T.pw
    (View.write_whole_univ cc0_scratch2 _ _) (by decide) ?_
  refine Runs.table (src := Memref.whole main_arg5_scv) (dst := Memref.whole cc0_scratch3) (q := q) (fs := T.gw) (fd := g3) T.gw
    (View.write_whole_univ cc0_scratch3 _ _) (by decide) ?_
  refine Runs.table (src := Memref.whole main_arg6_scv) (dst := Memref.whole cc0_scratch4) (q := q) (fs := T.pr) (fd := g4) T.pr
    (View.write_whole_univ cc0_scratch4 _ _) (by decide) ?_
  refine Runs.table (src := Memref.whole main_arg7_scv) (dst := Memref.whole cc0_scratch5) (q := q) (fs := T.pm) (fd := g5) T.pm
    (View.write_whole_univ cc0_scratch5 _ _) (by decide) ?_
  refine Runs.table (src := Memref.whole main_arg8_scv) (dst := Memref.whole cc0_scratch6) (q := q) (fs := T.gm) (fd := g6) T.gm
    (View.write_whole_univ cc0_scratch6 _ _) (by decide) ?_
  refine Runs.conseq (J' := ChunkInv d i q O W T f 20) toBuild (Entails.refl _) ?_
  refine Runs.bind (J := iprop(T.build.At d i g7 16 0 ∗ Keep d i q T ∗ OW d i O W ∗ Mem d i q T.zf T.tf f g8 g9 g10)) (r := ⟨⟩) ?_ ?_
  · refine Runs.frame ?_
    refine Runs.loop _ _ _ _ _ (fun k => T.build.At d i g7 k 0) ?_
    intro k
    have hk := trips_lt k
    dsimp only
    refine Runs.bind (run_part1 k (elems_ok _)) ?_
    refine Runs.bind (run_part2 k _ ⟨idx_ok _ (zW_lt _) _ (by decide) (by decide), idx_ok _ (rW_lt hk) _ (by decide) (by decide)⟩) ?_
    dsimp only
    rw [show T.build.At d i g7 (k.val + 1) 0 = T.build.At d i g7 k.val 142 from T.build.At_next]
    repeat (first
      | with_reducible apply Runs.bind
      | with_reducible exact BuildIn.gather_zw _ (by decide)
      | with_reducible exact BuildIn.gather_pr _ (by decide)
      | with_reducible exact BuildIn.gather_pw _ (by decide)
      | with_reducible exact BuildIn.gather_gw _ (by decide)
      | with_reducible exact BuildIn.gather_tw _ (by decide)
      | with_reducible exact BuildIn.store hk _ (by decide) (by decide) _ (by decide)
      | (with_reducible refine Runs.assume ?_
         first
         | exact ⟨idx_ok _ (zW_lt _) _ (by decide) (by decide), idx_ok _ (rW_lt hk) _ (by decide) (by decide)⟩
         | exact idx_ok _ (rW_lt hk) _ (by decide) (by decide)
         | exact idx_ok _ (zW_lt' _) _ (by decide) (by decide)
         | exact idx_ok _ (fun _ _ => T.build.hpm _) _ (by decide) (by decide)
         | exact idx_ok _ (fun _ _ => T.build.hgm _) _ (by decide) (by decide)
         | exact idx_ok _ (tW_lt _) _ (by decide) (by decide))
      | with_reducible exact Runs.pure
      | apply Runs.bind)
  refine Runs.conseq (J' := ChunkInv d i q O W T f 20) toChunk (Entails.refl _) ?_
  refine Runs.bind (J := ChunkInv d i q O W T f 20) (r := ⟨⟩) ?_ Runs.pure
  refine Runs.loop _ _ _ _ _ (ChunkInv d i q O W T f) ?_
  intro t
  dsimp only
  refine Runs.exists fun x => ?_
  obtain ⟨fz, ft, old⟩ := x
  by_cases h1 : k0_cond1 i t = 1#1
  · rw [dif_pos h1]
    generalize hC : chunkAt T.build.tab T.zf T.tf T.hz T.ht old (k0_off1 i t 0) = C
    refine Runs.bind (Runs.frame (run_part169 T.build.tab T.zf T.tf T.hz T.ht old fz ft t h1 _ hC.symm (C.col_all _ (by decide)))) ?_
    refine Runs.bind (Runs.frame (Runs.frame (run_part170 t h1 _ (C.col_all _ (by decide)) (fun _ => ChunkIn.row_ok _ _ _ (by decide) (by decide))))) ?_
    refine Runs.bind (Runs.frame (Runs.frame (run_part171 t h1 _ _ (C.col_all _ (by decide))))) ?_
    dsimp only
    refine Runs.bind (Runs.assume (fun _ => ChunkIn.row_ok _ _ _ (by decide) (by decide))) ?_
    refine Runs.bind (Runs.frame (Runs.frame (C.run_store 128 141 (by decide) (by decide) (by decide) (by decide)))) ?_
    refine Runs.bind (Runs.frame (Runs.frame (C.run_gather 144 141 (by decide)))) ?_
    refine Runs.bind (Runs.assume (fun _ => ChunkIn.row_ok _ _ _ (by decide) (by decide))) ?_
    refine Runs.bind (Runs.frame (Runs.frame (C.run_store 144 141 (by decide) (by decide) (by decide) (by decide)))) ?_
    change Runs d i iprop((C.At d i 1420 ∗ Rest d i q O W T.zf T.tf) ∗ sem0 d i cc0_scoped9 ∗ outReg d i (upTo T.res f t.val) ∗ Copied d i q T) _ _ _
    refine Runs.conseq (J' := ChunkInv d i q O W T f (t.val + 1)) chunkOut (Entails.refl _) ?_
    refine Runs.copy (src := outM) (dst := outSlice i t h1) (q := fullShare) (Ss := Finset.univ) (Sd := outRows i) (fs := C.out 1420) (fd := upTo T.res f t.val)
      (upTo T.res f (t.val + 1)) (Finset.subset_univ _) (outSlice_subset i t h1) ?_ (show 0 < S160x142.numel by decide) rfl ?_
    · refine out_copied T.build.tab T.zf T.tf f i t h1 (C.out 1420) ?_
      intro x
      rw [C.out_all, ← hC]
      rfl
    subst hC
    exact Runs.conseq (chunkDone (chunkAt T.build.tab T.zf T.tf T.hz T.ht old (k0_off1 i t 0)) _ rfl) (Entails.refl _) Runs.pure
  · rw [dif_neg h1]
    refine Runs.conseq (J' := ChunkInv d i q O W T f (t.val + 1)) ?_ (Entails.refl _) Runs.pure
    unfold ChunkInv outReg
    rw [pointsTo_congr (upTo_skip T.res f i t h1)]
    iintro H
    iexists (fz, ft, old)
    iexact H

end Cert.Proof

end
-- ==== Proof.OwnMem.lean ====
/-
  A tile's scratch buffers and its copies' semaphores, among all that are its own.
-/
module

public import proofs.«01_k».proof.Proof.TileStates

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## A tile's buffers and semaphores -/

variable {d : Dev nD} {i : grid0.Coords}

/-- The kernel's scratch buffers. -/
def scratch : Fin 11 → Ref sig .scVector := ![cc0_scratch0, cc0_scratch1, cc0_scratch2, cc0_scratch3, cc0_scratch4, cc0_scratch5, cc0_scratch6, cc0_scratch7, cc0_scratch8, cc0_scratch9, cc0_scratch10]

theorem scratch_injective : Function.Injective scratch := by decide

/-- The scratch buffers of the tile at `i`, among the device's. -/
def scratchOf (i : grid0.Coords) : Fin 11 ↪ DevRef τ sig where
  toFun k := (Proc.scVector ((i 0).castLE hcore0) ((i 1).castLE hsub0)).devRef (scratch k)
  inj' _ _ h := scratch_injective (Proc.devRef_injective _ h)

/-- The copies' semaphores of the tile at `i`. -/
def cellsOf (d : Dev nD) (i : grid0.Coords) : Fin 10 ↪ GSem nD τ sig where
  toFun k := (tile d i, SemLoc.dma k)
  inj' _ _ h := SemLoc.dma.inj (congrArg Prod.snd h)

/-- The buffers of the tile beside its scratch. -/
def bufsRest (d : Dev nD) (i : grid0.Coords) : sProp 𝕄 :=
  bigSep (ownRefs (tile d i).2 \ Finset.univ.map (scratchOf i)) fun b => iprop(∃ f, ((d, b) : Loc nD τ sig) ↦{fullShare} f)

/-- The semaphores of the tile beside its copies'. -/
def semsRest (d : Dev nD) (i : grid0.Coords) : sProp 𝕄 :=
  bigSep (ownCells (tile d i) \ Finset.univ.map (cellsOf d i)) fun g => semVal g 0

theorem scratch_own : Finset.univ.map (scratchOf i) ⊆ ownRefs (tile d i).2 := by
  intro b hb
  obtain ⟨k, -, rfl⟩ := Finset.mem_map.mp hb
  refine SparseCore.Cfg.mem_ownRefs_of_owner ?_
  clear hb
  fin_cases k <;> rfl

theorem cells_own : Finset.univ.map (cellsOf d i) ⊆ ownCells (tile d i) := by
  intro g hg
  obtain ⟨k, -, rfl⟩ := Finset.mem_map.mp hg
  exact mem_ownCells.mpr ⟨rfl, (show ∀ k : Fin 10, (SemLoc.dma k : SemLoc sig).isScoped .scVector = true by decide) k⟩

/-- The tile's semaphores are its copies' and the rest. -/
theorem ownSems0_tile :
    (ownSems0 (tile d i) : sProp 𝕄) = iprop((sem0 d i cc0_scoped0 ∗ sem0 d i cc0_scoped1 ∗ sem0 d i cc0_scoped2 ∗ sem0 d i cc0_scoped3 ∗ sem0 d i cc0_scoped4 ∗ sem0 d i cc0_scoped5 ∗ sem0 d i cc0_scoped6 ∗ sem0 d i cc0_scoped7 ∗ sem0 d i cc0_scoped8 ∗ sem0 d i cc0_scoped9) ∗ semsRest d i) := by
  unfold SparseCore.Cfg.ownSems0
  rw [SparseCore.bigSep_sdiff_split' cells_own, BI.bigSep_map,
    show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The tile's buffers are its scratch, at some contents, and the rest. -/
theorem ownBufs_tile :
    (ownBufs (tile d i) : sProp 𝕄) = iprop(((∃ f : S85x32.Idx → Elt F .f32, zwAt d i f) ∗ (∃ f : S3x32.Idx → Elt F .f32, twAt d i f) ∗ (∃ f : S8x32.Idx → Elt F .f32, pwAt d i f) ∗ (∃ f : S20x32.Idx → Elt F .f32, gwAt d i f) ∗ (∃ f : S86x14.Idx → Elt F .f32, prAt d i f) ∗ (∃ f : S86.Idx → BitVec 32, pmAt d i f) ∗ (∃ f : S86.Idx → BitVec 32, gmAt d i f) ∗ (∃ f : S256x142.Idx → Elt F .f32, fusedAt d i f) ∗ (∃ f : S160.Idx → BitVec 32, zAt d i f) ∗ (∃ f : S160.Idx → BitVec 32, tAt d i f) ∗ (∃ f : S160x142.Idx → Elt F .f32, outAt d i f)) ∗ bufsRest d i) := by
  unfold SparseCore.Cfg.ownBufs
  rw [SparseCore.bigSep_sdiff_split' scratch_own, BI.bigSep_map,
    show (Finset.univ : Finset (Fin 11)) = {0, 1, 2, 3, 4, 5, 6, 7, 8, 9, 10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Cert.Proof

end
-- ==== Proof.Task.lean ====
/-
  A tile's task: from its share of the operands and its rows of the result, its memory at whatever
  it holds, to the rows written, all else given back.
-/
module

public import proofs.«01_k».proof.Proof.TileRun
public import proofs.«01_k».proof.Proof.OwnMem

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## The program as the launch takes it -/

abbrev ΛP : Labels := Pipeline.Sig Λ₀ (Fin 0) fun p => (pcfgs (F := F) p).Adm
abbrev K : SparseCore.Cfg τ sig (ΛP (F := F)) 1 := sc (F := F)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## A tile's task -/

variable {d : Dev nD} {i : grid0.Coords} {q : PosShare TreeShare} {O : CellTallies nD τ sig (HIx 1)} {W : Waits sig (HIx 1)}
variable {T : TileIn F} {f : S100000x142.Idx → Elt F .f32}

/-- What a task is lent: a share of every operand, and its rows of the result. -/
def lent (d : Dev nD) (i : grid0.Coords) (q : PosShare TreeShare) (T : TileIn F) (f : S100000x142.Idx → Elt F .f32) : sProp 𝕄 :=
  iprop(zsrc d i q T.zf ∗ tsrc d i q T.tf ∗ ((tile d i).loc main_arg2_scv ↦{q} T.zw) ∗ ((tile d i).loc main_arg3_scv ↦{q} T.tw) ∗ ((tile d i).loc main_arg4_scv ↦{q} T.pw) ∗ ((tile d i).loc main_arg5_scv ↦{q} T.gw) ∗ ((tile d i).loc main_arg6_scv ↦{q} T.pr) ∗ ((tile d i).loc main_arg7_scv ↦{q} T.pm) ∗ ((tile d i).loc main_arg8_scv ↦{q} T.gm) ∗ outReg d i f)

/-- The state after the last chunk, laid out as the task hands it back. -/
theorem taskDone :
    iprop(ChunkInv d i q O W T f 20 ∗ bufsRest d i ∗ semsRest d i)
      ⊢ iprop(lent d i q T T.res ∗ ownBufs (tile d i) ∗ ownSems0 (tile d i) ∗ ∃ W', ⌜∀ p ∈ W', p ∈ W ∨ p.2 = none⌝ ∗ owes (tile d i) O W') := by
  rw [ownSems0_tile, ownBufs_tile]
  unfold ChunkInv Rest Copied lent OW zwPair twPair pwPair gwPair prPair pmPair gmPair
  rw [upTo_all]
  iintro ⟨⟨%x, ⟨⟨H8, H9, H7, H10⟩, Hz, Ht, M7, M8, -, HO⟩, M9, Hr, ⟨Szw, Dzw, Mzw⟩, ⟨Stw, Dtw, Mtw⟩, ⟨Spw, Dpw, Mpw⟩, ⟨Sgw, Dgw, Mgw⟩, ⟨Spr, Dpr, Mpr⟩, ⟨Spm, Dpm, Mpm⟩, ⟨Sgm, Dgm, Mgm⟩⟩, HB, HS⟩
  isplitl [Hz Ht Hr Szw Stw Spw Sgw Spr Spm Sgm]
  · isplitl [Hz]; · iexact Hz
    isplitl [Ht]; · iexact Ht
    isplitl [Szw]; · iexact Szw
    isplitl [Stw]; · iexact Stw
    isplitl [Spw]; · iexact Spw
    isplitl [Sgw]; · iexact Sgw
    isplitl [Spr]; · iexact Spr
    isplitl [Spm]; · iexact Spm
    isplitl [Sgm]; · iexact Sgm
    iexact Hr
  isplitl [HB H7 H8 H9 H10 Dzw Dtw Dpw Dgw Dpr Dpm Dgm]
  · isplitr [HB]
    · isplitl [Dzw]; · iexists _; iexact Dzw
      isplitl [Dtw]; · iexists _; iexact Dtw
      isplitl [Dpw]; · iexists _; iexact Dpw
      isplitl [Dgw]; · iexists _; iexact Dgw
      isplitl [Dpr]; · iexists _; iexact Dpr
      isplitl [Dpm]; · iexists _; iexact Dpm
      isplitl [Dgm]; · iexists _; iexact Dgm
      isplitl [H7]; · iexists _; iexact H7
      isplitl [H8]; · iexists _; iexact H8
      isplitl [H9]; · iexists _; iexact H9
      iexists _; iexact H10
    · iexact HB
  isplitl [HS M7 M8 M9 Mzw Mtw Mpw Mgw Mpr Mpm Mgm]
  · isplitr [HS]
    · isplitl [Mzw]; · iexact Mzw
      isplitl [Mtw]; · iexact Mtw
      isplitl [Mpw]; · iexact Mpw
      isplitl [Mgw]; · iexact Mgw
      isplitl [Mpr]; · iexact Mpr
      isplitl [Mpm]; · iexact Mpm
      isplitl [Mgm]; · iexact Mgm
      isplitl [M7]; · iexact M7
      isplitl [M8] <;> iassumption
    · iexact HS
  iexact HO

/-- The task: its rows of the result, written. -/
theorem tile_body (hO : ∀ g, O g none = 0) :
    iprop(levAts (K (F := F)).L (K (F := F)).lev ∗ emp ∗ lent d i q T f ∗ scopedBufs (tile d i) ∗ scopedSems0 (tile d i) ∗ owes (tile d i) O W)
      ⊢ wpT d i (cc0__phys_embedding_sc (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9)
        fun _ => iprop(lent d i q T T.res ∗ scopedBufs (tile d i) ∗ scopedSems0 (tile d i)
          ∗ ∃ W', ⌜∀ p ∈ W', p ∈ W ∨ p.2 = none⌝ ∗ owes (tile d i) O W') := by
  rw [(K (F := F)).scopedBufs_V facts d ((i 0).castLE hcore0) ((i 1).castLE hsub0), SparseCore.Cfg.scopedSems0_V (Val := Elt F) d ((i 0).castLE hcore0) ((i 1).castLE hsub0)]
  have hpre : iprop(levAts (K (F := F)).L (K (F := F)).lev ∗ emp ∗ lent d i q T f ∗ ownBufs (tile d i) ∗ ownSems0 (tile d i) ∗ owes (tile d i) O W) ⊢ (iprop(levAts (K (F := F)).L (K (F := F)).lev ∗ lent d i q T f
    ∗ (((∃ f : S85x32.Idx → Elt F .f32, zwAt d i f) ∗ (∃ f : S3x32.Idx → Elt F .f32, twAt d i f) ∗ (∃ f : S8x32.Idx → Elt F .f32, pwAt d i f) ∗ (∃ f : S20x32.Idx → Elt F .f32, gwAt d i f) ∗ (∃ f : S86x14.Idx → Elt F .f32, prAt d i f) ∗ (∃ f : S86.Idx → BitVec 32, pmAt d i f) ∗ (∃ f : S86.Idx → BitVec 32, gmAt d i f) ∗ (∃ f : S256x142.Idx → Elt F .f32, fusedAt d i f) ∗ (∃ f : S160.Idx → BitVec 32, zAt d i f) ∗ (∃ f : S160.Idx → BitVec 32, tAt d i f) ∗ (∃ f : S160x142.Idx → Elt F .f32, outAt d i f)) ∗ bufsRest d i)
    ∗ ((sem0 d i cc0_scoped0 ∗ sem0 d i cc0_scoped1 ∗ sem0 d i cc0_scoped2 ∗ sem0 d i cc0_scoped3 ∗ sem0 d i cc0_scoped4 ∗ sem0 d i cc0_scoped5 ∗ sem0 d i cc0_scoped6 ∗ sem0 d i cc0_scoped7 ∗ sem0 d i cc0_scoped8 ∗ sem0 d i cc0_scoped9) ∗ semsRest d i) ∗ owes (tile d i) O W) : sProp 𝕄) := by
    rw [ownSems0_tile, ownBufs_tile]
    iintro ⟨H1, -, H2⟩
    isplitl [H1] <;> iassumption
  refine hpre.trans ?_
  unfold lent
  iintro ⟨#Hlv, ⟨Hz, Ht, Szw, Stw, Spw, Sgw, Spr, Spm, Sgm, Hr⟩, ⟨⟨⟨%g0, Dzw⟩, ⟨%g1, Dtw⟩, ⟨%g2, Dpw⟩, ⟨%g3, Dgw⟩, ⟨%g4, Dpr⟩, ⟨%g5, Dpm⟩, ⟨%g6, Dgm⟩, ⟨%g7, H7⟩, ⟨%g8, H8⟩, ⟨%g9, H9⟩, ⟨%g10, H10⟩⟩, HB⟩, ⟨⟨Mzw, Mtw, Mpw, Mgw, Mpr, Mpm, Mgm, M7, M8, M9⟩, HS⟩, HO⟩
  ihave Hmw := (show levAts (K (F := F)).L (K (F := F)).lev ⊢ Transfers.MayWaits (tile d i) (none : HIx 1) O from
    (K (F := F)).mayWaits_none (thr := tile d i) hO) $$ Hlv
  iapply (Runs.wp (Runs.frame (R := iprop(bufsRest d i ∗ semsRest d i)) (run_tile (T := T) (f := f) (g7 := g7) (g8 := g8) (g9 := g9) (g10 := g10) (q := q) (O := O) (W := W) g0 g1 g2 g3 g4 g5 g6)) taskDone) $$ [- Hlv]
  isplitr [HB HS]
  · isplitl [Hmw HO]
    · unfold OW
      isplitl [Hmw]; · iexact Hmw
      iexists W
      isplitr
      · ipureintro; exact fun p hp => .inl hp
      · iexact HO
    isplitl
    · unfold Mem zwPair twPair pwPair gwPair prPair pmPair gmPair
      isplitl [Szw Dzw Mzw]
      · isplitl [Szw]; · iexact Szw
        isplitl [Dzw] <;> iassumption
      isplitl [Stw Dtw Mtw]
      · isplitl [Stw]; · iexact Stw
        isplitl [Dtw] <;> iassumption
      isplitl [Spw Dpw Mpw]
      · isplitl [Spw]; · iexact Spw
        isplitl [Dpw] <;> iassumption
      isplitl [Sgw Dgw Mgw]
      · isplitl [Sgw]; · iexact Sgw
        isplitl [Dgw] <;> iassumption
      isplitl [Spr Dpr Mpr]
      · isplitl [Spr]; · iexact Spr
        isplitl [Dpr] <;> iassumption
      isplitl [Spm Dpm Mpm]
      · isplitl [Spm]; · iexact Spm
        isplitl [Dpm] <;> iassumption
      isplitl [Sgm Dgm Mgm]
      · isplitl [Sgm]; · iexact Sgm
        isplitl [Dgm] <;> iassumption
      isplitl [H7]; · iexact H7
      isplitl [H8]; · iexact H8
      isplitl [H9]; · iexact H9
      isplitl [H10]; · iexact H10
      isplitl [Hz]; · iexact Hz
      isplitl [Ht]; · iexact Ht
      isplitl [M7]; · iexact M7
      isplitl [M8]; · iexact M8
      isplitl [M9]; · iexact M9
      iexact Hr
    · iempintro
  isplitl [HB] <;> iassumption

end Cert.Proof

end
-- ==== Proof.Deal.lean ====
/-
  The operands dealt to the thirty-two tiles, a share of each to every tile, and the result's rows.
-/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

/-! ## The operands, dealt to the tiles and gathered again -/

/-- The coordinates of the tile `s` of the core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The share of every operand that the tile `s` of the core `c` reads through. -/
def shareOf (c : Fin 2) (s : Fin 16) : PosShare TreeShare :=
  Transfers.dealOf (Transfers.dealOf fullShare Finset.univ c) Finset.univ s

theorem pointsTo_shares {ℓ : Loc nD τ sig} (g : Buf (Elt F) ℓ) :
    (ℓ ↦{fullShare} g : sProp 𝕄) = bigSep Finset.univ fun c : Fin 2 => bigSep Finset.univ fun s : Fin 16 => ℓ ↦{shareOf c s} g := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

theorem outRows_disjoint : ∀ a ∈ (Finset.univ : Finset (Fin 2 × Fin 16)), ∀ b ∈ (Finset.univ : Finset (Fin 2 × Fin 16)), a ≠ b →
    Disjoint (outRows (coordsV a.1 a.2)) (outRows (coordsV b.1 b.2)) := by
  intro a _ b _ hab
  refine Finset.disjoint_left.mpr fun j ha hb => hab ?_
  have ha' : (j 0).val / 160 % 32 = 2 * a.2.val + a.1.val := (Finset.mem_filter.mp ha).2
  have hb' : (j 0).val / 160 % 32 = 2 * b.2.val + b.1.val := (Finset.mem_filter.mp hb).2
  have h1 := a.1.isLt
  have h2 := b.1.isLt
  exact Prod.ext (Fin.ext (by omega)) (Fin.ext (by omega))

theorem outRows_cover : (Finset.univ : Finset (Fin 2 × Fin 16)).biUnion (fun a => outRows (coordsV a.1 a.2)) = Finset.univ := by
  refine Finset.eq_univ_of_forall fun j => Finset.mem_biUnion.mpr
    ⟨(⟨(j 0).val / 160 % 32 % 2, by omega⟩, ⟨(j 0).val / 160 % 32 / 2, by omega⟩), Finset.mem_univ _, Finset.mem_filter.mpr ⟨Finset.mem_univ _, ?_⟩⟩
  show (j 0).val / 160 % 32 = 2 * ((j 0).val / 160 % 32 / 2) + (j 0).val / 160 % 32 % 2
  omega

/-- The result whole is the tiles' rows of it. -/
theorem pointsTo_rows (d : Dev nD) (f : S100000x142.Idx → Elt F .f32) :
    ((SparseCore.T d).loc main_v0 ↦{fullShare} f : sProp 𝕄)
      = bigSep Finset.univ fun c : Fin 2 => bigSep Finset.univ fun s : Fin 16 => outReg d (coordsV c s) f := by
  rw [← BI.bigSep_univ_prod (fun a : Fin 2 × Fin 16 => (outReg d (coordsV a.1 a.2) f : sProp 𝕄))]
  refine Eq.trans ?_ (pointsTo_biUnion (ℓ := (SparseCore.T d).loc main_v0) (q := fullShare) (f := f) (Finset.univ : Finset (Fin 2 × Fin 16))
    (fun a => outRows (coordsV a.1 a.2)) outRows_disjoint)
  rw [outRows_cover]

/-- The operands whole and the result whole. -/
def whole (d : Dev nD) (O : TileIn F) (f : S100000x142.Idx → Elt F .f32) : sProp 𝕄 :=
  iprop(((SparseCore.T d).loc main_arg0 ↦{fullShare} O.zf) ∗ ((SparseCore.T d).loc main_arg1 ↦{fullShare} O.tf) ∗ ((SparseCore.T d).loc main_arg2 ↦{fullShare} O.zw) ∗ ((SparseCore.T d).loc main_arg3 ↦{fullShare} O.tw) ∗ ((SparseCore.T d).loc main_arg4 ↦{fullShare} O.pw) ∗ ((SparseCore.T d).loc main_arg5 ↦{fullShare} O.gw) ∗ ((SparseCore.T d).loc main_arg6 ↦{fullShare} O.pr) ∗ ((SparseCore.T d).loc main_arg7 ↦{fullShare} O.pm) ∗ ((SparseCore.T d).loc main_arg8 ↦{fullShare} O.gm) ∗ (SparseCore.T d).loc main_v0 ↦{fullShare} f)

theorem whole_eq (d : Dev nD) (O : TileIn F) (f : S100000x142.Idx → Elt F .f32) :
    (whole d O f : sProp 𝕄) = bigSep Finset.univ fun c : Fin 2 => bigSep Finset.univ fun s : Fin 16 => lent d (coordsV c s) (shareOf c s) O f := by
  unfold whole lent zsrc tsrc
  simp only [bigSep_sep']
  rw [pointsTo_rows, pointsTo_shares (ℓ := (SparseCore.T d).loc main_arg0) O.zf, pointsTo_shares (ℓ := (SparseCore.T d).loc main_arg1) O.tf, pointsTo_shares (ℓ := (SparseCore.T d).loc main_arg2) O.zw, pointsTo_shares (ℓ := (SparseCore.T d).loc main_arg3) O.tw, pointsTo_shares (ℓ := (SparseCore.T d).loc main_arg4) O.pw, pointsTo_shares (ℓ := (SparseCore.T d).loc main_arg5) O.gw, pointsTo_shares (ℓ := (SparseCore.T d).loc main_arg6) O.pr, pointsTo_shares (ℓ := (SparseCore.T d).loc main_arg7) O.pm, pointsTo_shares (ℓ := (SparseCore.T d).loc main_arg8) O.gm]

end Cert.Proof

end
-- ==== Proof.Launch.lean ====
/-
  The launch: the operands dealt to the tasks and gathered from them, and the program's whole run.
-/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

variable (m : (ℓ : Loc nD τ sig) → Buf (Elt F) ℓ) (ρ : Dev nD → PrngReg)

/-- The words of the launch's index arrays lie in the tables they index. -/
structure InRange : Prop where
  hz : ∀ (d : Dev nD) (x : S100000.Idx), ((m ((SparseCore.T d).loc main_arg0) : S100000.Idx → BitVec 32) x).toNat < 85
  ht : ∀ (d : Dev nD) (x : S100000.Idx), ((m ((SparseCore.T d).loc main_arg1) : S100000.Idx → BitVec 32) x).toNat < 3
  hpm : ∀ (d : Dev nD) (x : S86.Idx), ((m ((SparseCore.T d).loc main_arg7) : S86.Idx → BitVec 32) x).toNat < 8
  hgm : ∀ (d : Dev nD) (x : S86.Idx), ((m ((SparseCore.T d).loc main_arg8) : S86.Idx → BitVec 32) x).toNat < 20

/-- The operands the launch finds in memory. -/
def operands (h : InRange m) (d : Dev nD) : TileIn F where
  zf := m ((SparseCore.T d).loc main_arg0)
  tf := m ((SparseCore.T d).loc main_arg1)
  zw := m ((SparseCore.T d).loc main_arg2)
  tw := m ((SparseCore.T d).loc main_arg3)
  pw := m ((SparseCore.T d).loc main_arg4)
  gw := m ((SparseCore.T d).loc main_arg5)
  pr := m ((SparseCore.T d).loc main_arg6)
  pm := m ((SparseCore.T d).loc main_arg7)
  gm := m ((SparseCore.T d).loc main_arg8)
  hz := h.hz d
  ht := h.ht d
  hpm := h.hpm d
  hgm := h.hgm d

variable (h : InRange m)

/-! ## What the handshakes carry -/

/-- What the task `s` of the core `c` is handed, and hands back at the result written. -/
abbrev task (d : Dev nD) (c : Fin 2) (s : Fin 16) (f : S100000x142.Idx → Elt F .f32) : sProp 𝕄 :=
  lent d (coordsV c s) (shareOf c s) (operands m h d) f

instance lent_storable {d : Dev nD} {i : grid0.Coords} {q : PosShare TreeShare} {O : TileIn F} {f : S100000x142.Idx → Elt F .f32} :
    BI.Storable (upEmb : UEmb _ 𝕄) (lent d i q O f : sProp 𝕄) := by
  unfold lent zsrc tsrc outReg
  infer_instance

theorem tasks_storable {d : Dev nD} {c : Fin 2} {f : S100000x142.Idx → Elt F .f32} :
    BI.Storable (upEmb : UEmb _ 𝕄) (bigSep Finset.univ fun s : Fin 16 => task m h d c s f) :=
  have : ∀ s, BI.Storable (upEmb : UEmb _ 𝕄) (task m h d c s f) := fun _ => lent_storable
  BI.Storable.bigSep (upEmb : UEmb _ 𝕄) Finset.univ _

def P : (K (F := F)).Pay (nD := nD) (Val := Elt F) (Name := ℕ) (U := UU) where
  st := fun q d c => match q with | 0 => bigSep Finset.univ fun s : Fin 16 => task m h d c s (m ((SparseCore.T d).loc main_v0))
  dn := fun q d c => match q with | 0 => bigSep Finset.univ fun s : Fin 16 => task m h d c s (operands m h d).res
  go := fun q d c s => match q with | 0 => task m h d c s (m ((SparseCore.T d).loc main_v0))
  td := fun q d c s => match q with | 0 => task m h d c s (operands m h d).res
  x := fun _ _ => iprop(emp)

instance P_storable : (P (F := F) m h).IsStorable where
  st := fun q d c => match q with | 0 => tasks_storable m h
  dn := fun q d c => match q with | 0 => tasks_storable m h
  go := fun q _ _ _ => match q with | 0 => by unfold P; infer_instance
  td := fun q _ _ _ => match q with | 0 => by unfold P; infer_instance

/-! ## The tasks' obligation -/

theorem defs₀_vector (c : Fin τ.nSC) (s : Fin τ.nSub) :
    defs₀ (F := F) (.scVector c s) 0 ()
      = SparseCore.onTile hcore0 hsub0 (fun c s => cc0__phys_embedding_sc (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scoped0 cc0_scoped1 cc0_scoped2 cc0_scoped3 cc0_scoped4 cc0_scoped5 cc0_scoped6 cc0_scoped7 cc0_scoped8 cc0_scoped9) ⟨⟩ c s := rfl

theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m h) v₀ 0 := by
  intro d c i O W hO _ _
  simp only [show (P m h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (i := coordsV ⟨_, hci.1⟩ ⟨_, hci.2⟩) (q := shareOf c i) (T := operands m h d) (f := m ((SparseCore.T d).loc main_v0)) hO).trans
    (wp_mono frame _ _ fun _ => obl_post)

theorem vecSplit : (K (F := F)).VecSplit' (P m h) 0 := by
  intro d c
  show (bigSep Finset.univ fun s : Fin 16 => task m h d c s (m ((SparseCore.T d).loc main_v0))) ⊢ |={Set.univ}=> iprop(
    (bigSep Finset.univ fun s : Fin 16 => task m h d c s (m ((SparseCore.T d).loc main_v0)))
      ∗ ((bigSep Finset.univ fun s : Fin 16 => task m h d c s (operands m h d).res) -∗ bigSep Finset.univ fun s : Fin 16 => task m h d c s (operands m h d).res))
  iintro H
  imodintro
  isplitl [H]; · iexact H
  iintro H
  iexact H

/-! ## The launch -/

def u₀ : UU := (initOf (K (F := F)).hsCells (K (F := F)).hsToks, 1)

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m h).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) m h).x q thr) = bigSep Finset.univ fun _ => iprop(emp) from
    bigSep_congr fun _ _ => bigSep_univ_of_subsingleton (0 : Fin 1), bigSep_emps]
  iempintro

theorem unscopedBufs_eq (d : Dev nD) :
    (unscopedBufs d (fun b => m ((SparseCore.T d).loc b)) : sProp 𝕄) = whole d (operands m h d) (m ((SparseCore.T d).loc main_v0)) := by
  unfold unscopedBufs
  rw [show (Finset.univ.filter fun b : Ref sig .tc => ¬ b.isScoped) = {main_arg0, main_arg1, main_arg2, main_arg3, main_arg4, main_arg5, main_arg6, main_arg7, main_arg8, main_v0} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem start_eq (d : Dev nD) :
    (bigSep Finset.univ fun c : Fin ((K (F := F)).nCore 0) => (P m h).st 0 d c) = whole d (operands m h d) (m ((SparseCore.T d).loc main_v0)) :=
  (whole_eq d (operands m h d) _).symm
theorem done_eq (d : Dev nD) :
    (bigSep Finset.univ fun c : Fin ((K (F := F)).nCore 0) => (P m h).dn 0 d c) = whole d (operands m h d) (operands m h d).res :=
  (whole_eq d (operands m h d) _).symm

/-- The program on the TensorCore: the one call, the result written. -/
theorem hmain (κ : GSem nD τ sig → ℕ) (d : Dev nD) :
    iprop((K (F := F)).ctx EH (P m h) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ whole d (operands m h d) (operands m h d).res ∗ (K (F := F)).tcEnd d) := by
  unfold SparseCore.Cfg.tcRes SparseCore.Cfg.tcEnd
  rw [unscopedBufs_eq m h]
  simp only [main, wp_bind, wp_pure]
  iintro ⟨#Hctx, Hst, ⟨Hb, Hw, Hts, -⟩, -⟩
  iapply ((K (F := F)).wp_run (D (F := F)) 𝒱 (EH := EH) (P := P m h) κ d 0) $$ [Hst Hw Hb Hts]
  isplitr; · iexact Hctx
  isplitl [Hst]; · iexact Hst
  isplitl [Hw]
  · rw [start_eq]; iexact Hw
  iintro ⟨Hst, Hdn⟩
  ihave Hdn' := (Entails.of_eq (done_eq m h d)) $$ Hdn
  imodintro
  isplitl [Hst]; · iexact Hst
  isplitl [Hdn']; · iexact Hdn'
  isplitl [Hb] <;> iassumption

/-! ## What the final memory holds -/

/-- An array held whole is read off the final memory. -/
theorem readOff {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

/-- The operands unchanged, the result written. -/
def Ends (s : MemSt nD τ sig (Elt F)) (d : Dev nD) : Prop :=
  (s.mem ((SparseCore.T d).loc main_arg0) = m ((SparseCore.T d).loc main_arg0) ∧ s.mem ((SparseCore.T d).loc main_arg1) = m ((SparseCore.T d).loc main_arg1) ∧ s.mem ((SparseCore.T d).loc main_arg2) = m ((SparseCore.T d).loc main_arg2) ∧ s.mem ((SparseCore.T d).loc main_arg3) = m ((SparseCore.T d).loc main_arg3) ∧ s.mem ((SparseCore.T d).loc main_arg4) = m ((SparseCore.T d).loc main_arg4) ∧ s.mem ((SparseCore.T d).loc main_arg5) = m ((SparseCore.T d).loc main_arg5) ∧ s.mem ((SparseCore.T d).loc main_arg6) = m ((SparseCore.T d).loc main_arg6) ∧ s.mem ((SparseCore.T d).loc main_arg7) = m ((SparseCore.T d).loc main_arg7) ∧ s.mem ((SparseCore.T d).loc main_arg8) = m ((SparseCore.T d).loc main_arg8)) ∧ s.mem ((SparseCore.T d).loc main_v0) = (operands m h d).res

theorem hfin (d : Dev nD) (s' : Phys nD τ sig (Elt F)) :
    iprop(whole d (operands m h d) (operands m h d).res ∗ SI s') ⊢ (⌜Ends m h s'.mem d⌝ : sProp 𝕄) := by
  unfold whole
  iintro ⟨⟨H0, H1, H2, H3, H4, H5, H6, H7, H8, Hr⟩, HSI⟩
  ihave H := readOff $$ [H0 HSI]
  · isplitl [H0] <;> iassumption
  icases H with ⟨%h0, HSI⟩
  ihave H := readOff $$ [H1 HSI]
  · isplitl [H1] <;> iassumption
  icases H with ⟨%h1, HSI⟩
  ihave H := readOff $$ [H2 HSI]
  · isplitl [H2] <;> iassumption
  icases H with ⟨%h2, HSI⟩
  ihave H := readOff $$ [H3 HSI]
  · isplitl [H3] <;> iassumption
  icases H with ⟨%h3, HSI⟩
  ihave H := readOff $$ [H4 HSI]
  · isplitl [H4] <;> iassumption
  icases H with ⟨%h4, HSI⟩
  ihave H := readOff $$ [H5 HSI]
  · isplitl [H5] <;> iassumption
  icases H with ⟨%h5, HSI⟩
  ihave H := readOff $$ [H6 HSI]
  · isplitl [H6] <;> iassumption
  icases H with ⟨%h6, HSI⟩
  ihave H := readOff $$ [H7 HSI]
  · isplitl [H7] <;> iassumption
  icases H with ⟨%h7, HSI⟩
  ihave H := readOff $$ [H8 HSI]
  · isplitl [H8] <;> iassumption
  icases H with ⟨%h8, HSI⟩
  ihave H := readOff $$ [Hr HSI]
  · isplitl [Hr] <;> iassumption
  icases H with ⟨%hr, -⟩
  ipureintro
  exact ⟨⟨h0, h1, h2, h3, h4, h5, h6, h7, h8⟩, hr⟩

/-- Every weakly fair run of the kernel ends with its operands unchanged, the result written and every semaphore at zero. -/
theorem run_main [∀ e, Nonempty (Elt F e)] :
    θ_run (Cert.KernelIdeal.defs (F := F)) (Cert.KernelIdeal.threads (F := F)) ⟨m, fun _ => 0, ρ⟩
      (fun r => (∀ d : Dev nD, Ends m h r.2 d) ∧ r.2.sem = fun _ => 0) :=
  SparseCore.Cfg.θ_run_sc_quiescent (K := K (F := F)) (D := D (F := F)) (𝒱 := 𝒱) (EH := EH) (P := P m h) (A := ∅) facts v₀
    (fun q hq => match q with | 0 => nomatch hq)
    (fun q _ => match q with | 0 => tileObl m h)
    (fun q _ => match q with | 0 => SparseCore.Cfg.VecSplit.of_plain (vecSplit m h))
    m ρ main (fun _ => iprop(emp)) (fun d => whole d (operands m h d) (operands m h d).res) (u₀ (F := F)) (sep_elim_left.trans (hu₀ m h)) (hmain m ρ h)
    (fun d s' => Ends m h s'.mem d) (hfin m h) (fun r => (∀ d : Dev nD, Ends m h r.2 d) ∧ r.2.sem = fun _ => 0) (fun _ h hz => ⟨h, hz⟩)

end Cert.Proof

end
-- ==== Proof.Frames.lean ====
/-
  The frame claims: the kernel, as printed and at its idealization, and the reference end with their arguments unchanged
  and every semaphore at zero.
-/
module

public import Idealize.ShloMosaic.Lib.Quiescent
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Pre
public import proofs.«01_k».proof.Proof.Launch

@[expose] public section

noncomputable section

namespace Cert.Proof

open Idealize.ShloMosaic Idealize.ShloMosaic.TcCoe Idealize.SL.Sem

/-- The precondition, of the idealized kernel's arguments. -/
theorem inRange_kernelIdeal (m : (ℓ : Loc Cert.KernelIdeal.nD Cert.KernelIdeal.τ Cert.KernelIdeal.sig) → Buf (Elt Ideal) ℓ)
    (hp : Cert.Pre_KernelIdeal m) : InRange (F := Ideal) m :=
  have h d := ranges_of_pre _ _ _ _ _ _ _ _ _ (hp d)
  ⟨fun d => (h d).1, fun d => (h d).2.1, fun d => (h d).2.2.1, fun d => (h d).2.2.2⟩

/-- The precondition, of the printed kernel's arguments. -/
theorem inRange_kernel (m : (ℓ : Loc Cert.Kernel.nD Cert.Kernel.τ Cert.Kernel.sig) → Buf (Elt Bits) ℓ)
    (hp : Cert.Pre_Kernel m) : InRange (F := Bits) m :=
  have h d := ranges_of_pre _ _ _ _ _ _ _ _ _ (hp d)
  ⟨fun d => (h d).1, fun d => (h d).2.1, fun d => (h d).2.2.1, fun d => (h d).2.2.2⟩

/-- The idealized kernel's frame. -/
theorem frame_kernelIdeal : Cert.quiescent_KernelIdeal := fun m ρ hp =>
  (θ_run Cert.KernelIdeal.defs _ _).mono (fun _ h => ⟨fun c => (h.1 c).1, h.2⟩) (run_main (F := Ideal) m ρ (inRange_kernelIdeal m hp))

set_option maxHeartbeats 8000000 in
/-- The printed kernel's frame: its text is the idealized kernel's, read at bits. -/
theorem frame_kernel : Cert.quiescent_Kernel := fun m ρ hp =>
  (θ_run Cert.KernelIdeal.defs _ _).mono (fun _ h => ⟨fun c => (h.1 c).1, h.2⟩) (run_main (F := Bits) m ρ (inRange_kernel m hp))

/-- The reference's frame, from any arguments: it has no semaphore to leave raised. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_referenceIdeal_pre : Cert.quiescent_ReferenceIdeal_pre_in_range := fun m ρ _ => frame_referenceIdeal m ρ trivial

end Cert.Proof

end
-- ==== Proof.Take.lean ====
/-
  A lookup along the first axis of a table, as the reference spells it, read at an index. The spelling wraps a negative
  word once, tests that the wrapped word lies in the table, gathers at the word clamped, and puts a filler where the
  test failed. Where every word names a row of the table, the wrap and the filler drop out, and what is left is the
  table at the word.
-/
module

public import Idealize.ShloMosaic.Lib.ReduceAll
public import Idealize.ShloMosaic.Lib.WordCmp
public import Idealize.ShloMosaic.Lib.ValueIdxCore

@[expose] public section

noncomputable section

namespace Cert.Proof.Take

open Idealize.ShloMosaic Idealize.ShloMosaic.ValueIdx

variable {α : Type} {R N C : Nat}

/-- The shape of a vector of `R` entries. -/
abbrev V (R : Nat) : Shape := ⟨1, ![R]⟩
/-- The shape of a matrix of `R` rows and `C` columns. -/
abbrev M (R C : Nat) : Shape := ⟨2, ![R, C]⟩
/-- The shape of one value. -/
abbrev O : Shape := ⟨0, ![]⟩

/-- The relations between shapes that a lookup of `R` words takes. -/
structure Fits (R : Nat) : Prop where
  vec : O.BroadcastsInDim (V R) (![] : Fin 0 → Fin (V R).rank)
  col : (V R).BroadcastsInDim (M R 1) (![0] : Fin 1 → Fin (M R 1).rank)
  one : O.BroadcastsInDim (M R 1) (![] : Fin 0 → Fin (M R 1).rank)
  sq : (V 1).BroadcastsInDim (M 1 1) (![1] : Fin 1 → Fin (M 1 1).rank)
  down : (M 1 1).BroadcastsInDim (M R 1) (![0, 1] : Fin 2 → Fin (M R 1).rank)
  red : (M R 1).ReducesTo [1] (V R)
  pos : 0 < O.numel

/-- The words as a column, each negative word raised by `n`. -/
def column (h : Fits R) (n : BitVec 32) (f : IVec (V R) 32) : IVec (M R 1) 32 :=
  broadcastInDim (M R 1) ![0] h.col (select (cmpi .slt f (broadcastInDim (V R) ![] h.vec (constantI O 32 0#32)))
    (addi f (broadcastInDim (V R) ![] h.vec (constantI O 32 n))) f)

/-- One bit per word: the raised word is between zero and `last`. -/
def inside (h : Fits R) (n last : BitVec 32) (f : IVec (V R) 32) : IVec (V R) 1 :=
  Host.reduce IntOp.andi (andi (cmpi .sge (column h n f) (broadcastInDim (M R 1) ![] h.one (constantI O 32 0#32)))
    (cmpi .sle (column h n f) (broadcastInDim (M R 1) ![0, 1] h.down (broadcastInDim (M 1 1) ![1] h.sq (constantI (V 1) 32 last)))))
    (constantI O 1 1#1) h.red h.pos

/-- A column made of a vector reads the vector at the row. -/
theorem column_of_vec (hc : (V R).BroadcastsInDim (M R 1) (![0] : Fin 1 → Fin (M R 1).rank)) (x : (V R).Idx → α) (y : (M R 1).Idx) :
    broadcastInDim (M R 1) ![0] hc x y = x (ix1 (y 0)) := by
  unfold broadcastInDim
  congr 1
  funext a
  obtain rfl : a = 0 := Subsingleton.elim _ _
  have hy := idx2_lt0 y
  split
  · next h1 =>
    have h2 : R = 1 := h1
    refine Fin.ext ?_
    show 0 = (y 0).val
    omega
  · rfl

/-- A word below the sign bit is not raised. -/
theorem column_apply (h : Fits R) (n : BitVec 32) (f : IVec (V R) 32) (y : (M R 1).Idx) (hf : (f (ix1 (y 0))).toNat < 2 ^ 31) :
    column h n f y = f (ix1 (y 0)) := by
  unfold column
  rw [column_of_vec]
  have hn : ¬ IntOp.cmpi .slt (f (ix1 (y 0))) 0#32 = 1#1 := by
    rw [IntOp.cmpi_slt, BitVec.toInt_eq_toNat_cond, BitVec.toInt_zero]
    omega
  exact if_neg hn

/-- Where every word names a row, every word passes the test. -/
theorem inside_apply (h : Fits R) (n last : BitVec 32) (f : IVec (V R) 32) (hl : last.toNat + 1 = N) (hN : N ≤ 2 ^ 31)
    (hf : ∀ x, (f x).toNat < N) (x : (V R).Idx) : inside h n last f x = 1#1 := by
  refine Host.reduce_andi_one _ _ _ _ x rfl fun i => ?_
  have hi := hf (ix1 (i 0))
  have e := column_apply h n f i (by omega)
  refine IntOp.andi_eq_one.2 ⟨?_, ?_⟩
  · show IntOp.cmpi .sge (column h n f i) 0#32 = 1#1
    rw [e, IntOp.cmpi_sge, BitVec.toInt_zero, BitVec.toInt_eq_toNat_cond]
    omega
  · show IntOp.cmpi .sle (column h n f i) last = 1#1
    rw [e, IntOp.cmpi_sle, BitVec.toInt_eq_toNat_cond, BitVec.toInt_eq_toNat_cond]
    omega

/-- A word below the sign bit, read signed, then clamped to the last row. -/
theorem clamped (w : BitVec 32) (hw : w.toNat < N) (hN : N ≤ 2 ^ 31) : min w.toInt.toNat (N - 1) = w.toNat := by
  rw [BitVec.toInt_eq_toNat_cond]
  omega

/-- The dimension numbers of a gather of whole rows. -/
abbrev rowDims (wf : GatherDims.WF (M N C) (M R 1) (M R C) [1] [0] [] [0] [] 1 ![1, C]) : GatherDims (M N C) (M R 1) (M R C) where
  offsetDims := [1]
  collapsedSliceDims := [0]
  operandBatchingDims := []
  startIndicesBatchingDims := []
  startIndexMap := [0]
  indexVectorDim := 1
  sliceSizes := ![1, C]
  wf := wf

/-- The dimension numbers of a gather of single entries of a vector. -/
abbrev entryDims (wf : GatherDims.WF (V N) (M R 1) (V R) [] [0] [] [0] [] 1 ![1]) : GatherDims (V N) (M R 1) (V R) where
  offsetDims := []
  collapsedSliceDims := [0]
  operandBatchingDims := []
  startIndicesBatchingDims := []
  startIndexMap := [0]
  indexVectorDim := 1
  sliceSizes := ![1]
  wf := wf

/-- A gather of whole rows reads the row that the column's word names. -/
theorem gather_row (wf : GatherDims.WF (M N C) (M R 1) (M R C) [1] [0] [] [0] [] 1 ![1, C]) (x : (M N C).Idx → α) (i : IVec (M R 1) 32)
    (y : (M R C).Idx) (r : Fin N) (hr : min (i (ix2 (y 0) 0)).toInt.toNat (N - 1) = r.val) :
    Host.gather (rowDims wf) x i y = x (ix2 r (y 1)) := by
  have hk : (1 : Fin 2) ∈ (rowDims wf).sKept := (GatherDims.mem_sKept _ _).2 ⟨by simp, by simp⟩
  unfold Host.gather
  congr 1
  funext a
  refine Fin.ext ?_
  show (rowDims wf).start y i a + (rowDims wf).batchCoord y a + (rowDims wf).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hs : (rowDims wf).siIdx y ⟨List.idxOf (0 : Fin 2) (rowDims wf).startIndexMap,
        List.idxOf_lt_length_iff.2 (List.mem_singleton.mpr rfl)⟩ = ix2 (y 0) 0 := by
      funext b
      match b with
      | ⟨0, _⟩ => rfl
      | ⟨1, _⟩ => rfl
    rw [hs]
    exact hr
  · rw [GatherDims.batchCoord_eq_zero _ _ _ List.not_mem_nil]
    unfold GatherDims.start GatherDims.offCoord
    rw [dif_neg (by simp), dif_pos hk]
    simp only [Nat.zero_add]
    rfl

/-- A gather of single entries reads the entry that the column's word names. -/
theorem gather_entry (wf : GatherDims.WF (V N) (M R 1) (V R) [] [0] [] [0] [] 1 ![1]) (x : (V N).Idx → α) (i : IVec (M R 1) 32)
    (y : (V R).Idx) (r : Fin N) (hr : min (i (ix2 (y 0) 0)).toInt.toNat (N - 1) = r.val) :
    Host.gather (entryDims wf) x i y = x (ix1 r) := by
  unfold Host.gather
  congr 1
  funext a
  obtain rfl : a = 0 := Subsingleton.elim _ _
  refine Fin.ext ?_
  show (entryDims wf).start y i 0 + (entryDims wf).batchCoord y 0 + (entryDims wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims wf).startIndexMap from List.mem_singleton.mpr rfl)]
  have hs : (entryDims wf).siIdx y ⟨List.idxOf (0 : Fin 1) (entryDims wf).startIndexMap,
      List.idxOf_lt_length_iff.2 (List.mem_singleton.mpr rfl)⟩ = ix2 (y 0) 0 := by
    funext b
    match b with
    | ⟨0, _⟩ => rfl
    | ⟨1, _⟩ => rfl
  rw [hs]
  exact hr

/-- A lookup of whole rows. -/
def rows (h : Fits R) (hm : (V R).BroadcastsInDim (M R C) (![0] : Fin 1 → Fin (M R C).rank))
    (wf : GatherDims.WF (M N C) (M R 1) (M R C) [1] [0] [] [0] [] 1 ![1, C]) (n last : BitVec 32)
    (x : (M N C).Idx → α) (fill : (M R C).Idx → α) (f : IVec (V R) 32) : (M R C).Idx → α :=
  select (broadcastInDim (M R C) ![0] hm (inside h n last f)) (Host.gather (rowDims wf) x (column h n f)) fill

/-- A lookup of single entries. -/
def entries (h : Fits R) (wf : GatherDims.WF (V N) (M R 1) (V R) [] [0] [] [0] [] 1 ![1]) (n last : BitVec 32)
    (x : (V N).Idx → α) (fill : (V R).Idx → α) (f : IVec (V R) 32) : (V R).Idx → α :=
  select (inside h n last f) (Host.gather (entryDims wf) x (column h n f)) fill

/-- Where every word names a row, a lookup of rows reads the table at the word. -/
theorem rows_apply (h : Fits R) (hm : (V R).BroadcastsInDim (M R C) (![0] : Fin 1 → Fin (M R C).rank))
    (wf : GatherDims.WF (M N C) (M R 1) (M R C) [1] [0] [] [0] [] 1 ![1, C]) (n last : BitVec 32)
    (x : (M N C).Idx → α) (fill : (M R C).Idx → α) (f : IVec (V R) 32) (hl : last.toNat + 1 = N) (hN : N ≤ 2 ^ 31)
    (hf : ∀ x, (f x).toNat < N) (y : (M R C).Idx) :
    rows h hm wf n last x fill f y = x (ix2 ⟨(f (ix1 (y 0))).toNat, hf _⟩ (y 1)) := by
  have hy := hf (ix1 (y 0))
  refine (if_pos ?_).trans (gather_row wf x _ y _ ?_)
  · exact inside_apply h n last f hl hN hf _
  · have e : column h n f (ix2 (y 0) 0) = f (ix1 (y 0)) := column_apply h n f (ix2 (y 0) 0) (Nat.lt_of_lt_of_le hy hN)
    rw [e]
    exact clamped _ hy hN

/-- Where every word names an entry, a lookup of entries reads the table at the word. -/
theorem entries_apply (h : Fits R) (wf : GatherDims.WF (V N) (M R 1) (V R) [] [0] [] [0] [] 1 ![1]) (n last : BitVec 32)
    (x : (V N).Idx → α) (fill : (V R).Idx → α) (f : IVec (V R) 32) (hl : last.toNat + 1 = N) (hN : N ≤ 2 ^ 31)
    (hf : ∀ x, (f x).toNat < N) (y : (V R).Idx) :
    entries h wf n last x fill f y = x (ix1 ⟨(f y).toNat, hf _⟩) := by
  have hy := hf y
  have ey : y = ix1 (y 0) := by
    funext a
    obtain rfl : a = 0 := Subsingleton.elim _ _
    rfl
  refine (if_pos ?_).trans (gather_entry wf x _ y _ ?_)
  · exact inside_apply h n last f hl hN hf _
  · have e : column h n f (ix2 (y 0) 0) = f y :=
      (column_apply h n f (ix2 (y 0) 0) (Nat.lt_of_lt_of_le (hf (ix1 (y 0))) hN)).trans (congrArg f ey.symm)
    rw [e]
    exact clamped _ hy hN

end Cert.Proof.Take

end
-- ==== Proof.RefValue.lean ====
/-
  The reference's result: five lookups side by side, two of them at the words of a lookup. Where the four index arrays
  are in range it is the kernel's result.
-/
module

public import Idealize.ShloMosaic.Lib.Pipeline.Value
public import proofs.«01_k».proof.Proof.Gen.ReferenceIdeal
public import proofs.«01_k».proof.Proof.Gen.ReferenceIdeal.Run
public import proofs.«01_k».proof.Proof.Take
public import proofs.«01_k».proof.Proof.Tile

@[expose] public section

noncomputable section

namespace Cert.Proof

open Cert.ReferenceIdeal Cert.ReferenceIdeal.Gen
open Idealize.ShloMosaic Idealize.ShloMosaic.TcCoe Idealize.ShloMosaic.ValueIdx Idealize.SL.Sem

variable {F : FTy → Type} [FloatOps F]

/-- The relations between shapes that a lookup of one word per row takes. -/
theorem fits : Take.Fits 100000 :=
  ⟨bcast_S_S100000, bcast_S100000_S100000x1_0, bcast_S_S100000x1, bcast_S1_S1x1_1, bcast_S1x1_S100000x1_0_1,
    reducesTo_S100000x1_S100000_d1, h_S_⟩

/-- A map's word for each row's element. -/
def mapped (p : IVec S86 32) (z : IVec S100000 32) : IVec S100000 32 :=
  Take.entries fits gather_S86_S100000x1_S100000_n_0_n_n_0_1_1_wf 86#32 85#32 p
    (broadcastInDim S100000 ![] bcast_S_S100000 (constantI S_ 32 2147483648#32)) z

/-- The filler of a block of 32 columns. -/
def filler : FVec F S100000x32 .f32 := broadcastInDim S100000x32 ![] bcast_S_S100000x32 (constant S_ .f32 0x7FC00000#32)

/-- The five blocks of columns. -/
def blocks (T : TileIn F) : List ((s : Shape) × (s.Idx → Elt F .f32)) :=
  [⟨S100000x32, Take.rows fits bcast_S100000_S100000x32_0 gather_S85x32_S100000x1_S100000x32_1_0_n_n_0_1_132_wf 85#32 84#32 T.zw filler T.zf⟩,
   ⟨S100000x14, Take.rows fits bcast_S100000_S100000x14_0 gather_S86x14_S100000x1_S100000x14_1_0_n_n_0_1_114_wf 86#32 85#32 T.pr
      (broadcastInDim S100000x14 ![] bcast_S_S100000x14 (constant S_ .f32 0x7FC00000#32)) T.zf⟩,
   ⟨S100000x32, Take.rows fits bcast_S100000_S100000x32_0 gather_S8x32_S100000x1_S100000x32_1_0_n_n_0_1_132_wf 8#32 7#32 T.pw filler (mapped T.pm T.zf)⟩,
   ⟨S100000x32, Take.rows fits bcast_S100000_S100000x32_0 gather_S20x32_S100000x1_S100000x32_1_0_n_n_0_1_132_wf 20#32 19#32 T.gw filler (mapped T.gm T.zf)⟩,
   ⟨S100000x32, Take.rows fits bcast_S100000_S100000x32_0 gather_S3x32_S100000x1_S100000x32_1_0_n_n_0_1_132_wf 3#32 2#32 T.tw filler T.tf⟩]

/-- The blocks side by side. -/
def joined (T : TileIn F) : S100000x142.Idx → Elt F .f32 :=
  concatenate S100000x142 1 (blocks T) concatenates_S100000x32_S100000x14_S100000x32_S100000x32_S100000x32_S100000x142_d1

/-! ## The reference's term is the blocks side by side -/

set_option maxRecDepth 16384 in
theorem reference_eq (m : (ℓ : Loc Cert.ReferenceIdeal.nD Cert.ReferenceIdeal.τ Cert.ReferenceIdeal.sig) → Buf (Elt F) ℓ) (c : Dev Cert.ReferenceIdeal.nD) (T : TileIn F)
    (h0 : m ((c.tc : Thread nD τ).loc main_arg0) = T.zf) (h1 : m ((c.tc : Thread nD τ).loc main_arg1) = T.tf)
    (h2 : m ((c.tc : Thread nD τ).loc main_arg2) = T.zw) (h3 : m ((c.tc : Thread nD τ).loc main_arg3) = T.tw)
    (h4 : m ((c.tc : Thread nD τ).loc main_arg4) = T.pw) (h5 : m ((c.tc : Thread nD τ).loc main_arg5) = T.gw)
    (h6 : m ((c.tc : Thread nD τ).loc main_arg6) = T.pr) (h7 : m ((c.tc : Thread nD τ).loc main_arg7) = T.pm)
    (h8 : m ((c.tc : Thread nD τ).loc main_arg8) = T.gm) : Value.res_main_v7 m c = joined T := by
  unfold Value.res_main_v7
  rw [h0, h1, h2, h3, h4, h5, h6, h7, h8]
  rfl

/-! ## The blocks side by side, at an index -/

/-- A map's word is the map at the element's word. -/
theorem mapped_apply (p : IVec S86 32) (z : IVec S100000 32) (hz : ∀ x, (z x).toNat < 85) (x : S100000.Idx) :
    mapped p z x = at1 (m := 86) (by decide) p (z x).toNat := by
  have h86 : ∀ x, (z x).toNat < 86 := fun x => Nat.lt_trans (hz x) (by decide)
  refine (Take.entries_apply fits _ 86#32 85#32 p _ z (by decide) (by decide) h86 x).trans (congrArg p ?_)
  funext a
  match a with
  | 0 => exact Fin.ext (Nat.mod_eq_of_lt (h86 x)).symm

/-- A lookup of rows, read by numbers. -/
theorem rows_at {N C : ℕ} (hN : 0 < N) (hC : 0 < C) (hm : (Take.V 100000).BroadcastsInDim (Take.M 100000 C) (![0] : Fin 1 → Fin (Take.M 100000 C).rank))
    (wf : GatherDims.WF (Take.M N C) (Take.M 100000 1) (Take.M 100000 C) [1] [0] [] [0] [] 1 ![1, C]) (n last : BitVec 32)
    (x : (Take.M N C).Idx → Elt F .f32) (fill : (Take.M 100000 C).Idx → Elt F .f32) (f : IVec S100000 32) (hl : last.toNat + 1 = N) (hN' : N ≤ 2 ^ 31)
    (hf : ∀ x, (f x).toNat < N) (r : Fin 100000) (k : Fin C) :
    Take.rows fits hm wf n last x fill f (ix2 r k) = at2 hN hC x (f (ix1 r)).toNat k.val := by
  refine (Take.rows_apply fits hm wf n last x fill f hl hN' hf (ix2 r k)).trans (congrArg x ?_)
  funext a
  match a with
  | 0 => exact Fin.ext (Nat.mod_eq_of_lt (hf (ix1 r))).symm
  | 1 => exact Fin.ext (Nat.mod_eq_of_lt k.isLt).symm

/-- A column inside a block reads the block. -/
theorem joined_block (T : TileIn F) (p C : ℕ) (g : (Take.M 100000 C).Idx → Elt F .f32) (pre : ℕ) (hp : p < 5)
    (hg : (blocks T)[p]'hp = ⟨Take.M 100000 C, g⟩)
    (hpre : ((((blocks T).take p).map (·.1)).map fun s => if h : s.rank = S100000x142.rank then s.size ((1 : Fin 2).cast h.symm) else 0).sum = pre)
    (j : S100000x142.Idx) (k : Fin C) (hk : pre + k.val = (j 1).val) : joined T j = g (ix2 (j 0) k) := by
  refine concatenate_apply_piece 1 (blocks T) _ j p hp (Take.M 100000 C) g hg rfl pre hpre (ix2 (j 0) k) (fun b hb => ?_) hk
  match b with
  | 0 => rfl
  | 1 => exact absurd rfl hb

/-- In range, the reference's result is the kernel's. -/
theorem joined_eq (T : TileIn F) : joined T = T.res := by
  funext j
  have hj : (j 1).val < 142 := idx2_lt1 j
  have ez : wordAt T.zf (j 0).val = T.zf (ix1 (j 0)) := wordAt_eq T.zf (ix1 (j 0))
  have et : wordAt T.tf (j 0).val = T.tf (ix1 (j 0)) := wordAt_eq T.tf (ix1 (j 0))
  have hz := T.hz (ix1 (j 0))
  have ht := T.ht (ix1 (j 0))
  have hr : T.res j = T.build.elem (T.zf (ix1 (j 0))).toNat (T.tf (ix1 (j 0))).toNat (j 1).val := by
    show T.build.elem (min (rowOf T.zf T.tf (j 0).val / 3) 84) (rowOf T.zf T.tf (j 0).val % 3) (j 1).val = _
    unfold rowOf
    rw [ez, et]
    congr 1 <;> omega
  have hp : ∀ x, (mapped T.pm T.zf x).toNat < 8 := fun x => by rw [mapped_apply T.pm T.zf T.hz]; exact T.hpm _
  have hg : ∀ x, (mapped T.gm T.zf x).toNat < 20 := fun x => by rw [mapped_apply T.gm T.zf T.hz]; exact T.hgm _
  have h86 : ∀ x, (T.zf x).toNat < 86 := fun x => Nat.lt_trans (T.hz x) (by decide)
  rw [hr]
  unfold BuildIn.elem
  split
  · next h =>
    exact (joined_block T 0 32 _ 0 (by decide) rfl rfl j ⟨(j 1).val, h⟩ (Nat.zero_add _)).trans
      (rows_at (by decide) (by decide) _ _ _ _ _ _ _ (by decide) (by decide) T.hz _ _)
  split
  · next h1 h =>
    exact (joined_block T 1 14 _ 32 (by decide) rfl rfl j ⟨(j 1).val - 32, by omega⟩ (by show 32 + ((j 1).val - 32) = _; omega)).trans
      (rows_at (by decide) (by decide) _ _ _ _ _ _ _ (by decide) (by decide) h86 _ _)
  split
  · next h1 h2 h =>
    exact ((joined_block T 2 32 _ 46 (by decide) rfl rfl j ⟨(j 1).val - 46, by omega⟩ (by show 46 + ((j 1).val - 46) = _; omega)).trans
      (rows_at (by decide) (by decide) _ _ _ _ _ _ _ (by decide) (by decide) hp _ _)).trans (by rw [mapped_apply T.pm T.zf T.hz]; rfl)
  split
  · next h1 h2 h3 h =>
    exact ((joined_block T 3 32 _ 78 (by decide) rfl rfl j ⟨(j 1).val - 78, by omega⟩ (by show 78 + ((j 1).val - 78) = _; omega)).trans
      (rows_at (by decide) (by decide) _ _ _ _ _ _ _ (by decide) (by decide) hg _ _)).trans (by rw [mapped_apply T.gm T.zf T.hz]; rfl)
  · next h1 h2 h3 h =>
    exact (joined_block T 4 32 _ 110 (by decide) rfl rfl j ⟨(j 1).val - 110, by omega⟩ (by show 110 + ((j 1).val - 110) = _; omega)).trans
      (rows_at (by decide) (by decide) _ _ _ _ _ _ _ (by decide) (by decide) T.ht _ _)

end Cert.Proof

end
-- ==== Proof.Value.lean ====
/-
  The value claim: where the index arrays are in range, the idealized kernel's result is the reference's.
-/
module

public import proofs.«01_k».proof.Proof.Frames
public import proofs.«01_k».proof.Proof.RefValue

@[expose] public section

noncomputable section

namespace Cert.Proof

open Idealize.ShloMosaic Idealize.ShloMosaic.TcCoe Idealize.SL.Sem

/-- The kernel's result is the table's row at the two indices, column by column what the reference looks up. -/
theorem value : Cert.algebraic_KernelIdeal_ReferenceIdeal := fun m ρ m' ρ' hp ha =>
  ⟨fun c => (operands m (inRange_kernelIdeal m hp) c).res,
    (θ_run Cert.KernelIdeal.defs _ _).mono (fun _ h c => ⟨(h.1 c).2, (h.1 c).1⟩) (run_main (F := Ideal) m ρ (inRange_kernelIdeal m hp)),
    (θ_run Cert.ReferenceIdeal.defs _ _).mono
      (fun _ h c => ⟨(h c).1.trans ((reference_eq m' c (operands m (inRange_kernelIdeal m hp) c) (ha c).1 (ha c).2.1 (ha c).2.2.1 (ha c).2.2.2.1
        (ha c).2.2.2.2.1 (ha c).2.2.2.2.2.1 (ha c).2.2.2.2.2.2.1 (ha c).2.2.2.2.2.2.2.1 (ha c).2.2.2.2.2.2.2.2).trans (joined_eq _)), (h c).2⟩)
      (Cert.ReferenceIdeal.Value.run (F := Ideal) m' ρ')⟩

end Cert.Proof

end
-- ==== Proof.lean ====
/-
  The certificate: the four programs' stated facts, then the claims, each proved in its own module. The frames and the
  value of the kernel rest on one run (Proof/Launch.lean), stated over any float values; the reference's on its composed
  term (Proof/RefValue.lean). The idealization rewrites nothing, so it preserves the program trivially.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_kernel, frame_kernelIdeal, frame_referenceIdeal, frame_referenceIdeal_pre, trivial, value⟩

end Cert.Proof

end
